-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x2048 : Shape := ⟨2, ![16, 2048]⟩
abbrev S8192 : Shape := ⟨1, ![8192]⟩
abbrev S8192x8192 : Shape := ⟨2, ![8192, 8192]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel

variable [Facts]

def fn {F : FTy → Type} [FloatOps F] (main_arg0 : IVec S16x2048 32) (main_arg1 : FVec F S8192 .f32) (main_arg2 : FVec F S8192x8192 .f32) : IVec S_ 1 :=
  let main_c : IVec S_ 32 := constantI S_ 32 0#32
  let main_v0 : IVec S16x2048 32 := broadcastInDim S16x2048 ![] bcast_S_S16x2048 main_c
  let main_v1 : IVec S16x2048 1 := cmpi .sge main_arg0 main_v0
  let main_c_0 : IVec S_ 32 := constantI S_ 32 8192#32
  let main_v2 : IVec S16x2048 32 := broadcastInDim S16x2048 ![] bcast_S_S16x2048 main_c_0
  let main_v3 : IVec S16x2048 1 := cmpi .slt main_arg0 main_v2
  let main_v4 : IVec S16x2048 1 := andi main_v1 main_v3
  let main_c_1 : IVec S_ 1 := constantI S_ 1 1#1
  let main_v5 : IVec S_ 1 := (fun x v => Host.reduce IntOp.andi x v reducesTo_S16x2048_S_d0_1 h_S_) main_v4 main_c_1
  main_v5
-- ==== Kernel.lean ====
abbrev S16x2048 : Shape := ⟨2, ![16, 2048]⟩
abbrev S8192 : Shape := ⟨1, ![8192]⟩
abbrev S8192x8192 : Shape := ⟨2, ![8192, 8192]⟩
abbrev S2064 : Shape := ⟨1, ![2064]⟩
abbrev S1040 : Shape := ⟨1, ![1040]⟩
abbrev S584x2 : Shape := ⟨2, ![584, 2]⟩
abbrev S1168 : Shape := ⟨1, ![1168]⟩
abbrev S64 : Shape := ⟨1, ![64]⟩
abbrev S384x128 : Shape := ⟨2, ![384, 128]⟩
abbrev S256 : Shape := ⟨1, ![256]⟩
abbrev S2048 : Shape := ⟨1, ![2048]⟩
abbrev S1024 : Shape := ⟨1, ![1024]⟩
abbrev S16 : Shape := ⟨1, ![16]⟩
abbrev S_ : Shape := ⟨0, ![]⟩
abbrev S1 : Shape := ⟨1, ![1]⟩
abbrev S1x2048 : Shape := ⟨2, ![1, 2048]⟩
abbrev S2x128 : Shape := ⟨2, ![2, 128]⟩
abbrev S1x2 : Shape := ⟨2, ![1, 2]⟩
abbrev S2 : Shape := ⟨1, ![2]⟩
abbrev S8192x128 : Shape := ⟨2, ![8192, 128]⟩
abbrev S1x1024 : Shape := ⟨2, ![1, 1024]⟩
abbrev S1x1 : Shape := ⟨2, ![1, 1]⟩
abbrev S16x1 : Shape := ⟨2, ![16, 1]⟩
abbrev S1x16x1 : Shape := ⟨3, ![1, 16, 1]⟩
abbrev S1x1x1 : Shape := ⟨3, ![1, 1, 1]⟩

abbrev nBuf : Table → Nat
  | .hbm => 6
  | .local .tc .vmem => 2
  | .local .scVector .vmem => 13
  | _ => 0

abbrev bufTy : (tb : Table) → Fin (nBuf tb) → BufTy
  | .hbm, ⟨0, _⟩ => ⟨S16x2048, .i32⟩
  | .hbm, ⟨1, _⟩ => ⟨S8192, .f32⟩
  | .hbm, ⟨2, _⟩ => ⟨S8192x8192, .f32⟩
  | .hbm, ⟨3, _⟩ => ⟨S16x2048, .f32⟩
  | .hbm, ⟨4, _⟩ => ⟨S1x1, .f32⟩
  | .hbm, ⟨5, _⟩ => ⟨S_, .f32⟩
  | .local .tc .vmem, ⟨0, _⟩ => ⟨S16x2048, .f32⟩
  | .local .tc .vmem, ⟨1, _⟩ => ⟨S1x1, .f32⟩
  | .local .scVector .vmem, ⟨0, _⟩ => ⟨S2064, .i32⟩
  | .local .scVector .vmem, ⟨1, _⟩ => ⟨S1040, .i32⟩
  | .local .scVector .vmem, ⟨2, _⟩ => ⟨S584x2, .i32⟩
  | .local .scVector .vmem, ⟨3, _⟩ => ⟨S1168, .i32⟩
  | .local .scVector .vmem, ⟨4, _⟩ => ⟨S64, .i32⟩
  | .local .scVector .vmem, ⟨5, _⟩ => ⟨S64, .i32⟩
  | .local .scVector .vmem, ⟨6, _⟩ => ⟨S64, .i32⟩
  | .local .scVector .vmem, ⟨7, _⟩ => ⟨S384x128, .f32⟩
  | .local .scVector .vmem, ⟨8, _⟩ => ⟨S256, .f32⟩
  | .local .scVector .vmem, ⟨9, _⟩ => ⟨S2048, .f32⟩
  | .local .scVector .vmem, ⟨10, _⟩ => ⟨S1024, .f32⟩
  | .local .scVector .vmem, ⟨11, _⟩ => ⟨S16, .i32⟩
  | .local .scVector .vmem, ⟨12, _⟩ => ⟨S16, .f32⟩
  | _, _ => ⟨S16x2048, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_arg2_scv : Ref sig .scVector := ⟨.hbm, 2, rfl⟩
abbrev main_arg1_scv : Ref sig .scVector := ⟨.hbm, 1, rfl⟩
abbrev main_v0_scv : Ref sig .scVector := ⟨.hbm, 3, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc1_sem0_0 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_112_r0 : BitVec 32 := 0#32
  ![v18.toNat, 0]
@[reducible] def k0_t1_loop : Scf.Loop 32 :=
  let c0_i32_13 : BitVec 32 := 0#32
  let c73_i32 : BitVec 32 := 73#32
  let v35 : BitVec 32 := Scalar.addi c0_i32_13 c73_i32
  let c1_i32_14 : BitVec 32 := 1#32
  ⟨c0_i32_13, v35, c1_i32_14⟩

def k0_chk1 (v150 : IVec S16 32) (v152 : IVec S16 32) : Prop :=
  (∀ a x, ((![v150, v152] : Fin 2 → IVec S16 32) a x).toNat < S584x2.size a)
theorem k0_idx1_inb : ∀ (v150 : IVec S16 32) (v152 : IVec S16 32) (k0_hw1 : k0_chk1 v150 v152), ∀ a x, ((![v150, v152] : Fin 2 → IVec S16 32) a x).toNat < S584x2.size a := fun v150 v152 k0_hw1 => k0_hw1
def k0_off2 (k0_t1 : Fin k0_t1_loop.trips) : Fin 1 → Nat :=
  let c0_i32_13 : BitVec 32 := 0#32
  let c1_i32_14 : BitVec 32 := 1#32
  let arg21 : BitVec 32 := Scf.iv c0_i32_13 c1_i32_14 k0_t1
  let c16_i32_114 : BitVec 32 := 16#32
  let v155 : BitVec 32 := Scalar.muli arg21 c16_i32_114
  let v156 : Index := Scalar.indexCast v155
  ![v156.toNat]
@[reducible] def k0_t2_loop : Scf.Loop 32 :=
  let c0_i32_17 : BitVec 32 := 0#32
  let c64_i32 : BitVec 32 := 64#32
  let v40 : BitVec 32 := Scalar.addi c0_i32_17 c64_i32
  let c1_i32_18 : BitVec 32 := 1#32
  ⟨c0_i32_17, v40, c1_i32_18⟩
def k0_off3 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c0_i32_17 : BitVec 32 := 0#32
  let c1_i32_18 : BitVec 32 := 1#32
  let arg21 : BitVec 32 := Scf.iv c0_i32_17 c1_i32_18 k0_t2
  let c16_i32 : BitVec 32 := 16#32
  let v146 : BitVec 32 := Scalar.muli arg21 c16_i32
  let v147 : BitVec 32 := Scalar.addi v29 v146
  let v148 : Index := Scalar.indexCast v147
  ![v148.toNat]
def k0_off4 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c0_i32_17 : BitVec 32 := 0#32
  let c1_i32_18 : BitVec 32 := 1#32
  let arg21 : BitVec 32 := Scf.iv c0_i32_17 c1_i32_18 k0_t2
  let c16_i32 : BitVec 32 := 16#32
  let v146 : BitVec 32 := Scalar.muli arg21 c16_i32
  let v147 : BitVec 32 := Scalar.addi v29 v146
  let c1_i32_112 : BitVec 32 := 1#32
  let v154 : BitVec 32 := Scalar.addi v147 c1_i32_112
  let v155 : Index := Scalar.indexCast v154
  ![v155.toNat]
def k0_off5 (k0_t2 : Fin k0_t2_loop.trips) : Fin 1 → Nat :=
  let c0_i32_17 : BitVec 32 := 0#32
  let c1_i32_18 : BitVec 32 := 1#32
  let arg21 : BitVec 32 := Scf.iv c0_i32_17 c1_i32_18 k0_t2
  let c16_i32_115 : BitVec 32 := 16#32
  let v164 : BitVec 32 := Scalar.muli arg21 c16_i32_115
  let v165 : Index := Scalar.indexCast v164
  ![v165.toNat]

def k0_chk2 (v170 : IVec S16 32) : Prop :=
  (∀ a x, ((![v170] : Fin 1 → IVec S16 32) a x).toNat < S64.size a) ∧
  (∀ a x, ((![v170] : Fin 1 → IVec S16 32) a x).toNat < S64.size a)
theorem k0_idx2_inb : ∀ (v170 : IVec S16 32) (k0_hw2 : k0_chk2 v170), ∀ a x, ((![v170] : Fin 1 → IVec S16 32) a x).toNat < S64.size a := fun v170 k0_hw2 => k0_hw2.1
theorem k0_idx3_inb : ∀ (v170 : IVec S16 32) (k0_hw2 : k0_chk2 v170), ∀ a x, ((![v170] : Fin 1 → IVec S16 32) a x).toNat < S64.size a := fun v170 k0_hw2 => k0_hw2.2
@[reducible] def k0_t3_loop : Scf.Loop 32 :=
  let c0_i32_43 : BitVec 32 := 0#32
  let c64_i32_44 : BitVec 32 := 64#32
  let v97 : BitVec 32 := Scalar.addi c0_i32_43 c64_i32_44
  let c1_i32_45 : BitVec 32 := 1#32
  ⟨c0_i32_43, v97, c1_i32_45⟩
def k0_off6 (k0_t3 : Fin k0_t3_loop.trips) : Fin 1 → Nat :=
  let c0_i32_43 : BitVec 32 := 0#32
  let c1_i32_45 : BitVec 32 := 1#32
  let arg21 : BitVec 32 := Scf.iv c0_i32_43 c1_i32_45 k0_t3
  let c16_i32 : BitVec 32 := 16#32
  let v146 : BitVec 32 := Scalar.muli arg21 c16_i32
  let v147 : Index := Scalar.indexCast v146
  ![v147.toNat]

def k0_chk4 (v163 : IVec S16 32) (v165 : IVec S16 32) : Prop :=
  (∀ a x, ((![v163, v165] : Fin 2 → IVec S16 32) a x).toNat < S584x2.size a)
theorem k0_idx5_inb : ∀ (v163 : IVec S16 32) (v165 : IVec S16 32) (k0_hw4 : k0_chk4 v163 v165), ∀ a x, ((![v163, v165] : Fin 2 → IVec S16 32) a x).toNat < S584x2.size a := fun v163 v165 k0_hw4 => k0_hw4

def k0_chk5 (v161 : IVec S16 32) : Prop :=
  (∀ a x, ((![v161] : Fin 1 → IVec S16 32) a x).toNat < S1168.size a)
theorem k0_idx6_inb : ∀ (v161 : IVec S16 32) (k0_hw5 : k0_chk5 v161), ∀ a x, ((![v161] : Fin 1 → IVec S16 32) a x).toNat < S1168.size a := fun v161 k0_hw5 => k0_hw5

def k0_chk3 (v152 : IVec S16 32) : Prop :=
  (∀ a x, ((![v152] : Fin 1 → IVec S16 32) a x).toNat < S64.size a) ∧
  (∀ a x, ((![v152] : Fin 1 → IVec S16 32) a x).toNat < S64.size a)
theorem k0_idx4_inb : ∀ (v152 : IVec S16 32) (k0_hw3 : k0_chk3 v152), ∀ a x, ((![v152] : Fin 1 → IVec S16 32) a x).toNat < S64.size a := fun v152 k0_hw3 => k0_hw3.1
theorem k0_idx7_inb : ∀ (v152 : IVec S16 32) (k0_hw3 : k0_chk3 v152), ∀ a x, ((![v152] : Fin 1 → IVec S16 32) a x).toNat < S64.size a := fun v152 k0_hw3 => k0_hw3.2
@[reducible] def k0_t4_loop : Scf.Loop 32 :=
  let c0_i32_48 : BitVec 32 := 0#32
  let c4_i32 : BitVec 32 := 4#32
  let v98 : BitVec 32 := Scalar.addi c0_i32_48 c4_i32
  let c1_i32_49 : BitVec 32 := 1#32
  ⟨c0_i32_48, v98, c1_i32_49⟩
def k0_off7 (k0_t4 : Fin k0_t4_loop.trips) : Fin 1 → Nat :=
  let c0_i32_48 : BitVec 32 := 0#32
  let c1_i32_49 : BitVec 32 := 1#32
  let arg21 : BitVec 32 := Scf.iv c0_i32_48 c1_i32_49 k0_t4
  let c16_i32 : BitVec 32 := 16#32
  let v146 : BitVec 32 := Scalar.muli arg21 c16_i32
  let v147 : Index := Scalar.indexCast v146
  ![v147.toNat]
@[reducible] def k0_t5_loop (v153 : BitVec 32) (v155 : BitVec 32) : Scf.Loop 32 :=
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_130 : BitVec 32 := 0#32
  let c0_i32_122 : BitVec 32 := 0#32
  let v177 : BitVec 32 := Scalar.subi c0_i32_122 v155
  let c0_i32_124 : BitVec 32 := 0#32
  let v179 : BitVec 1 := Scalar.cmpi .sgt v177 c0_i32_124
  let v180 : BitVec 32 := Scalar.extui v179
  let c0_i32_125 : BitVec 32 := 0#32
  let v181 : BitVec 1 := Scalar.cmpi .slt v177 c0_i32_125
  let v182 : BitVec 32 := Scalar.extui v181
  let v183 : BitVec 32 := Scalar.subi v180 v182
  let c2_i32_123 : BitVec 32 := 2#32
  let c0_i32_126 : BitVec 32 := 0#32
  let v184 : BitVec 1 := Scalar.cmpi .sgt c2_i32_123 c0_i32_126
  let v185 : BitVec 32 := Scalar.extui v184
  let c0_i32_127 : BitVec 32 := 0#32
  let v186 : BitVec 1 := Scalar.cmpi .slt c2_i32_123 c0_i32_127
  let v187 : BitVec 32 := Scalar.extui v186
  let v188 : BitVec 32 := Scalar.subi v185 v187
  let v189 : BitVec 1 := Scalar.cmpi .ne v183 v188
  let v190 : BitVec 32 := Scalar.remsi v177 c2_i32_123
  let c0_i32_128 : BitVec 32 := 0#32
  let v191 : BitVec 1 := Scalar.cmpi .ne v190 c0_i32_128
  let v192 : BitVec 1 := Scalar.andi v189 v191
  let v178 : BitVec 32 := Scalar.divsi v177 c2_i32_123
  let c1_i32_129 : BitVec 32 := 1#32
  let v193 : BitVec 32 := Scalar.subi v178 c1_i32_129
  let v194 : BitVec 32 := Scalar.select v192 v193 v178
  let v195 : BitVec 32 := Scalar.maxsi c0_i32_130 v194
  let v196 : BitVec 32 := Scalar.minsi v173 v195
  let c0_i32_138 : BitVec 32 := 0#32
  let c384_i32 : BitVec 32 := 384#32
  let v197 : BitVec 32 := Scalar.subi c384_i32 v155
  let c0_i32_132 : BitVec 32 := 0#32
  let v199 : BitVec 1 := Scalar.cmpi .sgt v197 c0_i32_132
  let v200 : BitVec 32 := Scalar.extui v199
  let c0_i32_133 : BitVec 32 := 0#32
  let v201 : BitVec 1 := Scalar.cmpi .slt v197 c0_i32_133
  let v202 : BitVec 32 := Scalar.extui v201
  let v203 : BitVec 32 := Scalar.subi v200 v202
  let c2_i32_131 : BitVec 32 := 2#32
  let c0_i32_134 : BitVec 32 := 0#32
  let v204 : BitVec 1 := Scalar.cmpi .sgt c2_i32_131 c0_i32_134
  let v205 : BitVec 32 := Scalar.extui v204
  let c0_i32_135 : BitVec 32 := 0#32
  let v206 : BitVec 1 := Scalar.cmpi .slt c2_i32_131 c0_i32_135
  let v207 : BitVec 32 := Scalar.extui v206
  let v208 : BitVec 32 := Scalar.subi v205 v207
  let v209 : BitVec 1 := Scalar.cmpi .ne v203 v208
  let v210 : BitVec 32 := Scalar.remsi v197 c2_i32_131
  let c0_i32_136 : BitVec 32 := 0#32
  let v211 : BitVec 1 := Scalar.cmpi .ne v210 c0_i32_136
  let v212 : BitVec 1 := Scalar.andi v209 v211
  let v198 : BitVec 32 := Scalar.divsi v197 c2_i32_131
  let c1_i32_137 : BitVec 32 := 1#32
  let v213 : BitVec 32 := Scalar.subi v198 c1_i32_137
  let v214 : BitVec 32 := Scalar.select v212 v213 v198
  let v215 : BitVec 32 := Scalar.maxsi c0_i32_138 v214
  let v216 : BitVec 32 := Scalar.minsi v173 v215
  let v217 : BitVec 32 := Scalar.subi v216 v196
  let c1_i32_139 : BitVec 32 := 1#32
  let v219 : BitVec 32 := Scalar.divsi v217 c1_i32_139
  let v220 : BitVec 32 := Scalar.muli v219 c1_i32_139
  let v221 : BitVec 32 := Scalar.addi v196 v220
  let c1_i32_140 : BitVec 32 := 1#32
  ⟨v196, v221, c1_i32_140⟩

def k0_off8 (v153 : BitVec 32) (v155 : BitVec 32) (k0_t5 : Fin (k0_t5_loop v153 v155).trips) : Fin 2 → Nat :=
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_130 : BitVec 32 := 0#32
  let c0_i32_122 : BitVec 32 := 0#32
  let v177 : BitVec 32 := Scalar.subi c0_i32_122 v155
  let c0_i32_124 : BitVec 32 := 0#32
  let v179 : BitVec 1 := Scalar.cmpi .sgt v177 c0_i32_124
  let v180 : BitVec 32 := Scalar.extui v179
  let c0_i32_125 : BitVec 32 := 0#32
  let v181 : BitVec 1 := Scalar.cmpi .slt v177 c0_i32_125
  let v182 : BitVec 32 := Scalar.extui v181
  let v183 : BitVec 32 := Scalar.subi v180 v182
  let c2_i32_123 : BitVec 32 := 2#32
  let c0_i32_126 : BitVec 32 := 0#32
  let v184 : BitVec 1 := Scalar.cmpi .sgt c2_i32_123 c0_i32_126
  let v185 : BitVec 32 := Scalar.extui v184
  let c0_i32_127 : BitVec 32 := 0#32
  let v186 : BitVec 1 := Scalar.cmpi .slt c2_i32_123 c0_i32_127
  let v187 : BitVec 32 := Scalar.extui v186
  let v188 : BitVec 32 := Scalar.subi v185 v187
  let v189 : BitVec 1 := Scalar.cmpi .ne v183 v188
  let v190 : BitVec 32 := Scalar.remsi v177 c2_i32_123
  let c0_i32_128 : BitVec 32 := 0#32
  let v191 : BitVec 1 := Scalar.cmpi .ne v190 c0_i32_128
  let v192 : BitVec 1 := Scalar.andi v189 v191
  let v178 : BitVec 32 := Scalar.divsi v177 c2_i32_123
  let c1_i32_129 : BitVec 32 := 1#32
  let v193 : BitVec 32 := Scalar.subi v178 c1_i32_129
  let v194 : BitVec 32 := Scalar.select v192 v193 v178
  let v195 : BitVec 32 := Scalar.maxsi c0_i32_130 v194
  let v196 : BitVec 32 := Scalar.minsi v173 v195
  let c1_i32_140 : BitVec 32 := 1#32
  let arg23 : BitVec 32 := Scf.iv v196 c1_i32_140 k0_t5
  let c2_i32_613 : BitVec 32 := 2#32
  let v1306 : BitVec 32 := Scalar.muli arg23 c2_i32_613
  let v1307 : BitVec 32 := Scalar.addi v155 v1306
  let c0_i32_614 : BitVec 32 := 0#32
  let v1308 : BitVec 32 := Scalar.subi v1307 c0_i32_614
  let c0_i32_615 : BitVec 32 := 0#32
  ![v1308.toNat, 0]
def k0_off9 (v153 : BitVec 32) (v155 : BitVec 32) (k0_t5 : Fin (k0_t5_loop v153 v155).trips) : Fin 2 → Nat :=
  let c1_i32_612 : BitVec 32 := 1#32
  let v1304 : BitVec 32 := Scalar.shrsi v155 c1_i32_612
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_130 : BitVec 32 := 0#32
  let c0_i32_122 : BitVec 32 := 0#32
  let v177 : BitVec 32 := Scalar.subi c0_i32_122 v155
  let c0_i32_124 : BitVec 32 := 0#32
  let v179 : BitVec 1 := Scalar.cmpi .sgt v177 c0_i32_124
  let v180 : BitVec 32 := Scalar.extui v179
  let c0_i32_125 : BitVec 32 := 0#32
  let v181 : BitVec 1 := Scalar.cmpi .slt v177 c0_i32_125
  let v182 : BitVec 32 := Scalar.extui v181
  let v183 : BitVec 32 := Scalar.subi v180 v182
  let c2_i32_123 : BitVec 32 := 2#32
  let c0_i32_126 : BitVec 32 := 0#32
  let v184 : BitVec 1 := Scalar.cmpi .sgt c2_i32_123 c0_i32_126
  let v185 : BitVec 32 := Scalar.extui v184
  let c0_i32_127 : BitVec 32 := 0#32
  let v186 : BitVec 1 := Scalar.cmpi .slt c2_i32_123 c0_i32_127
  let v187 : BitVec 32 := Scalar.extui v186
  let v188 : BitVec 32 := Scalar.subi v185 v187
  let v189 : BitVec 1 := Scalar.cmpi .ne v183 v188
  let v190 : BitVec 32 := Scalar.remsi v177 c2_i32_123
  let c0_i32_128 : BitVec 32 := 0#32
  let v191 : BitVec 1 := Scalar.cmpi .ne v190 c0_i32_128
  let v192 : BitVec 1 := Scalar.andi v189 v191
  let v178 : BitVec 32 := Scalar.divsi v177 c2_i32_123
  let c1_i32_129 : BitVec 32 := 1#32
  let v193 : BitVec 32 := Scalar.subi v178 c1_i32_129
  let v194 : BitVec 32 := Scalar.select v192 v193 v178
  let v195 : BitVec 32 := Scalar.maxsi c0_i32_130 v194
  let v196 : BitVec 32 := Scalar.minsi v173 v195
  let c1_i32_140 : BitVec 32 := 1#32
  let arg23 : BitVec 32 := Scf.iv v196 c1_i32_140 k0_t5
  let v1305 : BitVec 32 := Scalar.addi v1304 arg23
  let c0_i32_616 : BitVec 32 := 0#32
  ![v1305.toNat, 0]
def k0_off10 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_120 : BitVec 32 := 16#32
  let v174 : BitVec 32 := Scalar.muli arg21 c16_i32_120
  let c0_i32_121 : BitVec 32 := 0#32
  let v175 : BitVec 32 := Scalar.addi v174 c0_i32_121
  let c128_i32 : BitVec 32 := 128#32
  let v176 : BitVec 32 := Scalar.muli v175 c128_i32
  ![0, v176.toNat]
@[reducible] def k0_t6_loop (v153 : BitVec 32) (v155 : BitVec 32) : Scf.Loop 32 :=
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_130 : BitVec 32 := 0#32
  let c0_i32_122 : BitVec 32 := 0#32
  let v177 : BitVec 32 := Scalar.subi c0_i32_122 v155
  let c0_i32_124 : BitVec 32 := 0#32
  let v179 : BitVec 1 := Scalar.cmpi .sgt v177 c0_i32_124
  let v180 : BitVec 32 := Scalar.extui v179
  let c0_i32_125 : BitVec 32 := 0#32
  let v181 : BitVec 1 := Scalar.cmpi .slt v177 c0_i32_125
  let v182 : BitVec 32 := Scalar.extui v181
  let v183 : BitVec 32 := Scalar.subi v180 v182
  let c2_i32_123 : BitVec 32 := 2#32
  let c0_i32_126 : BitVec 32 := 0#32
  let v184 : BitVec 1 := Scalar.cmpi .sgt c2_i32_123 c0_i32_126
  let v185 : BitVec 32 := Scalar.extui v184
  let c0_i32_127 : BitVec 32 := 0#32
  let v186 : BitVec 1 := Scalar.cmpi .slt c2_i32_123 c0_i32_127
  let v187 : BitVec 32 := Scalar.extui v186
  let v188 : BitVec 32 := Scalar.subi v185 v187
  let v189 : BitVec 1 := Scalar.cmpi .ne v183 v188
  let v190 : BitVec 32 := Scalar.remsi v177 c2_i32_123
  let c0_i32_128 : BitVec 32 := 0#32
  let v191 : BitVec 1 := Scalar.cmpi .ne v190 c0_i32_128
  let v192 : BitVec 1 := Scalar.andi v189 v191
  let v178 : BitVec 32 := Scalar.divsi v177 c2_i32_123
  let c1_i32_129 : BitVec 32 := 1#32
  let v193 : BitVec 32 := Scalar.subi v178 c1_i32_129
  let v194 : BitVec 32 := Scalar.select v192 v193 v178
  let v195 : BitVec 32 := Scalar.maxsi c0_i32_130 v194
  let v196 : BitVec 32 := Scalar.minsi v173 v195
  let c0_i32_138 : BitVec 32 := 0#32
  let c384_i32 : BitVec 32 := 384#32
  let v197 : BitVec 32 := Scalar.subi c384_i32 v155
  let c0_i32_132 : BitVec 32 := 0#32
  let v199 : BitVec 1 := Scalar.cmpi .sgt v197 c0_i32_132
  let v200 : BitVec 32 := Scalar.extui v199
  let c0_i32_133 : BitVec 32 := 0#32
  let v201 : BitVec 1 := Scalar.cmpi .slt v197 c0_i32_133
  let v202 : BitVec 32 := Scalar.extui v201
  let v203 : BitVec 32 := Scalar.subi v200 v202
  let c2_i32_131 : BitVec 32 := 2#32
  let c0_i32_134 : BitVec 32 := 0#32
  let v204 : BitVec 1 := Scalar.cmpi .sgt c2_i32_131 c0_i32_134
  let v205 : BitVec 32 := Scalar.extui v204
  let c0_i32_135 : BitVec 32 := 0#32
  let v206 : BitVec 1 := Scalar.cmpi .slt c2_i32_131 c0_i32_135
  let v207 : BitVec 32 := Scalar.extui v206
  let v208 : BitVec 32 := Scalar.subi v205 v207
  let v209 : BitVec 1 := Scalar.cmpi .ne v203 v208
  let v210 : BitVec 32 := Scalar.remsi v197 c2_i32_131
  let c0_i32_136 : BitVec 32 := 0#32
  let v211 : BitVec 1 := Scalar.cmpi .ne v210 c0_i32_136
  let v212 : BitVec 1 := Scalar.andi v209 v211
  let v198 : BitVec 32 := Scalar.divsi v197 c2_i32_131
  let c1_i32_137 : BitVec 32 := 1#32
  let v213 : BitVec 32 := Scalar.subi v198 c1_i32_137
  let v214 : BitVec 32 := Scalar.select v212 v213 v198
  let v215 : BitVec 32 := Scalar.maxsi c0_i32_138 v214
  let v216 : BitVec 32 := Scalar.minsi v173 v215
  let v217 : BitVec 32 := Scalar.subi v216 v196
  let c1_i32_139 : BitVec 32 := 1#32
  let v219 : BitVec 32 := Scalar.divsi v217 c1_i32_139
  let v220 : BitVec 32 := Scalar.muli v219 c1_i32_139
  let v221 : BitVec 32 := Scalar.addi v196 v220
  let v218 : BitVec 32 := Scalar.addi v196 v217
  let c1_i32_141 : BitVec 32 := 1#32
  ⟨v221, v218, c1_i32_141⟩
def k0_off11 (v153 : BitVec 32) (v155 : BitVec 32) (k0_t6 : Fin (k0_t6_loop v153 v155).trips) : Fin 2 → Nat :=
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_130 : BitVec 32 := 0#32
  let c0_i32_122 : BitVec 32 := 0#32
  let v177 : BitVec 32 := Scalar.subi c0_i32_122 v155
  let c0_i32_124 : BitVec 32 := 0#32
  let v179 : BitVec 1 := Scalar.cmpi .sgt v177 c0_i32_124
  let v180 : BitVec 32 := Scalar.extui v179
  let c0_i32_125 : BitVec 32 := 0#32
  let v181 : BitVec 1 := Scalar.cmpi .slt v177 c0_i32_125
  let v182 : BitVec 32 := Scalar.extui v181
  let v183 : BitVec 32 := Scalar.subi v180 v182
  let c2_i32_123 : BitVec 32 := 2#32
  let c0_i32_126 : BitVec 32 := 0#32
  let v184 : BitVec 1 := Scalar.cmpi .sgt c2_i32_123 c0_i32_126
  let v185 : BitVec 32 := Scalar.extui v184
  let c0_i32_127 : BitVec 32 := 0#32
  let v186 : BitVec 1 := Scalar.cmpi .slt c2_i32_123 c0_i32_127
  let v187 : BitVec 32 := Scalar.extui v186
  let v188 : BitVec 32 := Scalar.subi v185 v187
  let v189 : BitVec 1 := Scalar.cmpi .ne v183 v188
  let v190 : BitVec 32 := Scalar.remsi v177 c2_i32_123
  let c0_i32_128 : BitVec 32 := 0#32
  let v191 : BitVec 1 := Scalar.cmpi .ne v190 c0_i32_128
  let v192 : BitVec 1 := Scalar.andi v189 v191
  let v178 : BitVec 32 := Scalar.divsi v177 c2_i32_123
  let c1_i32_129 : BitVec 32 := 1#32
  let v193 : BitVec 32 := Scalar.subi v178 c1_i32_129
  let v194 : BitVec 32 := Scalar.select v192 v193 v178
  let v195 : BitVec 32 := Scalar.maxsi c0_i32_130 v194
  let v196 : BitVec 32 := Scalar.minsi v173 v195
  let c0_i32_138 : BitVec 32 := 0#32
  let c384_i32 : BitVec 32 := 384#32
  let v197 : BitVec 32 := Scalar.subi c384_i32 v155
  let c0_i32_132 : BitVec 32 := 0#32
  let v199 : BitVec 1 := Scalar.cmpi .sgt v197 c0_i32_132
  let v200 : BitVec 32 := Scalar.extui v199
  let c0_i32_133 : BitVec 32 := 0#32
  let v201 : BitVec 1 := Scalar.cmpi .slt v197 c0_i32_133
  let v202 : BitVec 32 := Scalar.extui v201
  let v203 : BitVec 32 := Scalar.subi v200 v202
  let c2_i32_131 : BitVec 32 := 2#32
  let c0_i32_134 : BitVec 32 := 0#32
  let v204 : BitVec 1 := Scalar.cmpi .sgt c2_i32_131 c0_i32_134
  let v205 : BitVec 32 := Scalar.extui v204
  let c0_i32_135 : BitVec 32 := 0#32
  let v206 : BitVec 1 := Scalar.cmpi .slt c2_i32_131 c0_i32_135
  let v207 : BitVec 32 := Scalar.extui v206
  let v208 : BitVec 32 := Scalar.subi v205 v207
  let v209 : BitVec 1 := Scalar.cmpi .ne v203 v208
  let v210 : BitVec 32 := Scalar.remsi v197 c2_i32_131
  let c0_i32_136 : BitVec 32 := 0#32
  let v211 : BitVec 1 := Scalar.cmpi .ne v210 c0_i32_136
  let v212 : BitVec 1 := Scalar.andi v209 v211
  let v198 : BitVec 32 := Scalar.divsi v197 c2_i32_131
  let c1_i32_137 : BitVec 32 := 1#32
  let v213 : BitVec 32 := Scalar.subi v198 c1_i32_137
  let v214 : BitVec 32 := Scalar.select v212 v213 v198
  let v215 : BitVec 32 := Scalar.maxsi c0_i32_138 v214
  let v216 : BitVec 32 := Scalar.minsi v173 v215
  let v217 : BitVec 32 := Scalar.subi v216 v196
  let c1_i32_139 : BitVec 32 := 1#32
  let v219 : BitVec 32 := Scalar.divsi v217 c1_i32_139
  let v220 : BitVec 32 := Scalar.muli v219 c1_i32_139
  let v221 : BitVec 32 := Scalar.addi v196 v220
  let c1_i32_141 : BitVec 32 := 1#32
  let arg23 : BitVec 32 := Scf.iv v221 c1_i32_141 k0_t6
  let c2_i32_613 : BitVec 32 := 2#32
  let v1306 : BitVec 32 := Scalar.muli arg23 c2_i32_613
  let v1307 : BitVec 32 := Scalar.addi v155 v1306
  let c0_i32_614 : BitVec 32 := 0#32
  let v1308 : BitVec 32 := Scalar.subi v1307 c0_i32_614
  let c0_i32_615 : BitVec 32 := 0#32
  ![v1308.toNat, 0]
def k0_off12 (v153 : BitVec 32) (v155 : BitVec 32) (k0_t6 : Fin (k0_t6_loop v153 v155).trips) : Fin 2 → Nat :=
  let c1_i32_612 : BitVec 32 := 1#32
  let v1304 : BitVec 32 := Scalar.shrsi v155 c1_i32_612
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_130 : BitVec 32 := 0#32
  let c0_i32_122 : BitVec 32 := 0#32
  let v177 : BitVec 32 := Scalar.subi c0_i32_122 v155
  let c0_i32_124 : BitVec 32 := 0#32
  let v179 : BitVec 1 := Scalar.cmpi .sgt v177 c0_i32_124
  let v180 : BitVec 32 := Scalar.extui v179
  let c0_i32_125 : BitVec 32 := 0#32
  let v181 : BitVec 1 := Scalar.cmpi .slt v177 c0_i32_125
  let v182 : BitVec 32 := Scalar.extui v181
  let v183 : BitVec 32 := Scalar.subi v180 v182
  let c2_i32_123 : BitVec 32 := 2#32
  let c0_i32_126 : BitVec 32 := 0#32
  let v184 : BitVec 1 := Scalar.cmpi .sgt c2_i32_123 c0_i32_126
  let v185 : BitVec 32 := Scalar.extui v184
  let c0_i32_127 : BitVec 32 := 0#32
  let v186 : BitVec 1 := Scalar.cmpi .slt c2_i32_123 c0_i32_127
  let v187 : BitVec 32 := Scalar.extui v186
  let v188 : BitVec 32 := Scalar.subi v185 v187
  let v189 : BitVec 1 := Scalar.cmpi .ne v183 v188
  let v190 : BitVec 32 := Scalar.remsi v177 c2_i32_123
  let c0_i32_128 : BitVec 32 := 0#32
  let v191 : BitVec 1 := Scalar.cmpi .ne v190 c0_i32_128
  let v192 : BitVec 1 := Scalar.andi v189 v191
  let v178 : BitVec 32 := Scalar.divsi v177 c2_i32_123
  let c1_i32_129 : BitVec 32 := 1#32
  let v193 : BitVec 32 := Scalar.subi v178 c1_i32_129
  let v194 : BitVec 32 := Scalar.select v192 v193 v178
  let v195 : BitVec 32 := Scalar.maxsi c0_i32_130 v194
  let v196 : BitVec 32 := Scalar.minsi v173 v195
  let c0_i32_138 : BitVec 32 := 0#32
  let c384_i32 : BitVec 32 := 384#32
  let v197 : BitVec 32 := Scalar.subi c384_i32 v155
  let c0_i32_132 : BitVec 32 := 0#32
  let v199 : BitVec 1 := Scalar.cmpi .sgt v197 c0_i32_132
  let v200 : BitVec 32 := Scalar.extui v199
  let c0_i32_133 : BitVec 32 := 0#32
  let v201 : BitVec 1 := Scalar.cmpi .slt v197 c0_i32_133
  let v202 : BitVec 32 := Scalar.extui v201
  let v203 : BitVec 32 := Scalar.subi v200 v202
  let c2_i32_131 : BitVec 32 := 2#32
  let c0_i32_134 : BitVec 32 := 0#32
  let v204 : BitVec 1 := Scalar.cmpi .sgt c2_i32_131 c0_i32_134
  let v205 : BitVec 32 := Scalar.extui v204
  let c0_i32_135 : BitVec 32 := 0#32
  let v206 : BitVec 1 := Scalar.cmpi .slt c2_i32_131 c0_i32_135
  let v207 : BitVec 32 := Scalar.extui v206
  let v208 : BitVec 32 := Scalar.subi v205 v207
  let v209 : BitVec 1 := Scalar.cmpi .ne v203 v208
  let v210 : BitVec 32 := Scalar.remsi v197 c2_i32_131
  let c0_i32_136 : BitVec 32 := 0#32
  let v211 : BitVec 1 := Scalar.cmpi .ne v210 c0_i32_136
  let v212 : BitVec 1 := Scalar.andi v209 v211
  let v198 : BitVec 32 := Scalar.divsi v197 c2_i32_131
  let c1_i32_137 : BitVec 32 := 1#32
  let v213 : BitVec 32 := Scalar.subi v198 c1_i32_137
  let v214 : BitVec 32 := Scalar.select v212 v213 v198
  let v215 : BitVec 32 := Scalar.maxsi c0_i32_138 v214
  let v216 : BitVec 32 := Scalar.minsi v173 v215
  let v217 : BitVec 32 := Scalar.subi v216 v196
  let c1_i32_139 : BitVec 32 := 1#32
  let v219 : BitVec 32 := Scalar.divsi v217 c1_i32_139
  let v220 : BitVec 32 := Scalar.muli v219 c1_i32_139
  let v221 : BitVec 32 := Scalar.addi v196 v220
  let c1_i32_141 : BitVec 32 := 1#32
  let arg23 : BitVec 32 := Scf.iv v221 c1_i32_141 k0_t6
  let v1305 : BitVec 32 := Scalar.addi v1304 arg23
  let c0_i32_616 : BitVec 32 := 0#32
  ![v1305.toNat, 0]

def k0_chk6 (v153 : BitVec 32) (v155 : BitVec 32) : Prop :=
  ((k0_t5_loop v153 v155).OK) ∧
  (∀ k0_t5 : Fin (k0_t5_loop v153 v155).trips, ∀ a, (k0_off8 v153 v155 k0_t5) a + S2x128.size a ≤ S384x128.size a) ∧
  (∀ k0_t5 : Fin (k0_t5_loop v153 v155).trips, ∀ a, (k0_off9 v153 v155 k0_t5) a + S1x2.size a ≤ S584x2.size a) ∧
  ((k0_t6_loop v153 v155).OK) ∧
  (∀ k0_t6 : Fin (k0_t6_loop v153 v155).trips, ∀ a, (k0_off11 v153 v155 k0_t6) a + S2x128.size a ≤ S384x128.size a) ∧
  (∀ k0_t6 : Fin (k0_t6_loop v153 v155).trips, ∀ a, (k0_off12 v153 v155 k0_t6) a + S1x2.size a ≤ S584x2.size a)
theorem k0_t5_ok : ∀ (v153 : BitVec 32) (v155 : BitVec 32) (k0_hw6 : k0_chk6 v153 v155), (k0_t5_loop v153 v155).OK := fun v153 v155 k0_hw6 => k0_hw6.1
theorem k0_off8_inb : ∀ (v153 : BitVec 32) (v155 : BitVec 32) (k0_hw6 : k0_chk6 v153 v155) (k0_t5 : Fin (k0_t5_loop v153 v155).trips), ∀ a, (k0_off8 v153 v155 k0_t5) a + S2x128.size a ≤ S384x128.size a := fun v153 v155 k0_hw6 k0_t5 => k0_hw6.2.1 k0_t5
theorem k0_off9_inb : ∀ (v153 : BitVec 32) (v155 : BitVec 32) (k0_hw6 : k0_chk6 v153 v155) (k0_t5 : Fin (k0_t5_loop v153 v155).trips), ∀ a, (k0_off9 v153 v155 k0_t5) a + S1x2.size a ≤ S584x2.size a := fun v153 v155 k0_hw6 k0_t5 => k0_hw6.2.2.1 k0_t5
theorem k0_t6_ok : ∀ (v153 : BitVec 32) (v155 : BitVec 32) (k0_hw6 : k0_chk6 v153 v155), (k0_t6_loop v153 v155).OK := fun v153 v155 k0_hw6 => k0_hw6.2.2.2.1
theorem k0_off11_inb : ∀ (v153 : BitVec 32) (v155 : BitVec 32) (k0_hw6 : k0_chk6 v153 v155) (k0_t6 : Fin (k0_t6_loop v153 v155).trips), ∀ a, (k0_off11 v153 v155 k0_t6) a + S2x128.size a ≤ S384x128.size a := fun v153 v155 k0_hw6 k0_t6 => k0_hw6.2.2.2.2.1 k0_t6
theorem k0_off12_inb : ∀ (v153 : BitVec 32) (v155 : BitVec 32) (k0_hw6 : k0_chk6 v153 v155) (k0_t6 : Fin (k0_t6_loop v153 v155).trips), ∀ a, (k0_off12 v153 v155 k0_t6) a + S1x2.size a ≤ S584x2.size a := fun v153 v155 k0_hw6 k0_t6 => k0_hw6.2.2.2.2.2 k0_t6

def k0_off13 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_120 : BitVec 32 := 16#32
  let v174 : BitVec 32 := Scalar.muli arg21 c16_i32_120
  let c0_i32_121 : BitVec 32 := 0#32
  let v175 : BitVec 32 := Scalar.addi v174 c0_i32_121
  let c128_i32 : BitVec 32 := 128#32
  let v176 : BitVec 32 := Scalar.muli v175 c128_i32
  ![0, v176.toNat]
@[reducible] def k0_t7_loop (v225 : BitVec 32) (v227 : BitVec 32) : Scf.Loop 32 :=
  let c1_i32_142 : BitVec 32 := 1#32
  let v228 : BitVec 32 := Scalar.addi v225 c1_i32_142
  let c0_i32_144 : BitVec 32 := 0#32
  let v230 : BitVec 1 := Scalar.cmpi .sgt v228 c0_i32_144
  let v231 : BitVec 32 := Scalar.extui v230
  let c0_i32_145 : BitVec 32 := 0#32
  let v232 : BitVec 1 := Scalar.cmpi .slt v228 c0_i32_145
  let v233 : BitVec 32 := Scalar.extui v232
  let v234 : BitVec 32 := Scalar.subi v231 v233
  let c2_i32_143 : BitVec 32 := 2#32
  let c0_i32_146 : BitVec 32 := 0#32
  let v235 : BitVec 1 := Scalar.cmpi .sgt c2_i32_143 c0_i32_146
  let v236 : BitVec 32 := Scalar.extui v235
  let c0_i32_147 : BitVec 32 := 0#32
  let v237 : BitVec 1 := Scalar.cmpi .slt c2_i32_143 c0_i32_147
  let v238 : BitVec 32 := Scalar.extui v237
  let v239 : BitVec 32 := Scalar.subi v236 v238
  let v240 : BitVec 1 := Scalar.cmpi .ne v234 v239
  let v241 : BitVec 32 := Scalar.remsi v228 c2_i32_143
  let c0_i32_148 : BitVec 32 := 0#32
  let v242 : BitVec 1 := Scalar.cmpi .ne v241 c0_i32_148
  let v243 : BitVec 1 := Scalar.andi v240 v242
  let v229 : BitVec 32 := Scalar.divsi v228 c2_i32_143
  let c1_i32_149 : BitVec 32 := 1#32
  let v244 : BitVec 32 := Scalar.subi v229 c1_i32_149
  let v245 : BitVec 32 := Scalar.select v243 v244 v229
  let c0_i32_161 : BitVec 32 := 0#32
  let c0_i32_153 : BitVec 32 := 0#32
  let v249 : BitVec 32 := Scalar.subi c0_i32_153 v227
  let c0_i32_155 : BitVec 32 := 0#32
  let v251 : BitVec 1 := Scalar.cmpi .sgt v249 c0_i32_155
  let v252 : BitVec 32 := Scalar.extui v251
  let c0_i32_156 : BitVec 32 := 0#32
  let v253 : BitVec 1 := Scalar.cmpi .slt v249 c0_i32_156
  let v254 : BitVec 32 := Scalar.extui v253
  let v255 : BitVec 32 := Scalar.subi v252 v254
  let c2_i32_154 : BitVec 32 := 2#32
  let c0_i32_157 : BitVec 32 := 0#32
  let v256 : BitVec 1 := Scalar.cmpi .sgt c2_i32_154 c0_i32_157
  let v257 : BitVec 32 := Scalar.extui v256
  let c0_i32_158 : BitVec 32 := 0#32
  let v258 : BitVec 1 := Scalar.cmpi .slt c2_i32_154 c0_i32_158
  let v259 : BitVec 32 := Scalar.extui v258
  let v260 : BitVec 32 := Scalar.subi v257 v259
  let v261 : BitVec 1 := Scalar.cmpi .ne v255 v260
  let v262 : BitVec 32 := Scalar.remsi v249 c2_i32_154
  let c0_i32_159 : BitVec 32 := 0#32
  let v263 : BitVec 1 := Scalar.cmpi .ne v262 c0_i32_159
  let v264 : BitVec 1 := Scalar.andi v261 v263
  let v250 : BitVec 32 := Scalar.divsi v249 c2_i32_154
  let c1_i32_160 : BitVec 32 := 1#32
  let v265 : BitVec 32 := Scalar.subi v250 c1_i32_160
  let v266 : BitVec 32 := Scalar.select v264 v265 v250
  let v267 : BitVec 32 := Scalar.maxsi c0_i32_161 v266
  let v268 : BitVec 32 := Scalar.minsi v245 v267
  let c0_i32_170 : BitVec 32 := 0#32
  let c384_i32_162 : BitVec 32 := 384#32
  let v269 : BitVec 32 := Scalar.subi c384_i32_162 v227
  let c0_i32_164 : BitVec 32 := 0#32
  let v271 : BitVec 1 := Scalar.cmpi .sgt v269 c0_i32_164
  let v272 : BitVec 32 := Scalar.extui v271
  let c0_i32_165 : BitVec 32 := 0#32
  let v273 : BitVec 1 := Scalar.cmpi .slt v269 c0_i32_165
  let v274 : BitVec 32 := Scalar.extui v273
  let v275 : BitVec 32 := Scalar.subi v272 v274
  let c2_i32_163 : BitVec 32 := 2#32
  let c0_i32_166 : BitVec 32 := 0#32
  let v276 : BitVec 1 := Scalar.cmpi .sgt c2_i32_163 c0_i32_166
  let v277 : BitVec 32 := Scalar.extui v276
  let c0_i32_167 : BitVec 32 := 0#32
  let v278 : BitVec 1 := Scalar.cmpi .slt c2_i32_163 c0_i32_167
  let v279 : BitVec 32 := Scalar.extui v278
  let v280 : BitVec 32 := Scalar.subi v277 v279
  let v281 : BitVec 1 := Scalar.cmpi .ne v275 v280
  let v282 : BitVec 32 := Scalar.remsi v269 c2_i32_163
  let c0_i32_168 : BitVec 32 := 0#32
  let v283 : BitVec 1 := Scalar.cmpi .ne v282 c0_i32_168
  let v284 : BitVec 1 := Scalar.andi v281 v283
  let v270 : BitVec 32 := Scalar.divsi v269 c2_i32_163
  let c1_i32_169 : BitVec 32 := 1#32
  let v285 : BitVec 32 := Scalar.subi v270 c1_i32_169
  let v286 : BitVec 32 := Scalar.select v284 v285 v270
  let v287 : BitVec 32 := Scalar.maxsi c0_i32_170 v286
  let v288 : BitVec 32 := Scalar.minsi v245 v287
  let v289 : BitVec 32 := Scalar.subi v288 v268
  let c1_i32_171 : BitVec 32 := 1#32
  let v291 : BitVec 32 := Scalar.divsi v289 c1_i32_171
  let v292 : BitVec 32 := Scalar.muli v291 c1_i32_171
  let v293 : BitVec 32 := Scalar.addi v268 v292
  let c1_i32_172 : BitVec 32 := 1#32
  ⟨v268, v293, c1_i32_172⟩

def k0_off14 (v225 : BitVec 32) (v227 : BitVec 32) (k0_t7 : Fin (k0_t7_loop v225 v227).trips) : Fin 2 → Nat :=
  let c1_i32_142 : BitVec 32 := 1#32
  let v228 : BitVec 32 := Scalar.addi v225 c1_i32_142
  let c0_i32_144 : BitVec 32 := 0#32
  let v230 : BitVec 1 := Scalar.cmpi .sgt v228 c0_i32_144
  let v231 : BitVec 32 := Scalar.extui v230
  let c0_i32_145 : BitVec 32 := 0#32
  let v232 : BitVec 1 := Scalar.cmpi .slt v228 c0_i32_145
  let v233 : BitVec 32 := Scalar.extui v232
  let v234 : BitVec 32 := Scalar.subi v231 v233
  let c2_i32_143 : BitVec 32 := 2#32
  let c0_i32_146 : BitVec 32 := 0#32
  let v235 : BitVec 1 := Scalar.cmpi .sgt c2_i32_143 c0_i32_146
  let v236 : BitVec 32 := Scalar.extui v235
  let c0_i32_147 : BitVec 32 := 0#32
  let v237 : BitVec 1 := Scalar.cmpi .slt c2_i32_143 c0_i32_147
  let v238 : BitVec 32 := Scalar.extui v237
  let v239 : BitVec 32 := Scalar.subi v236 v238
  let v240 : BitVec 1 := Scalar.cmpi .ne v234 v239
  let v241 : BitVec 32 := Scalar.remsi v228 c2_i32_143
  let c0_i32_148 : BitVec 32 := 0#32
  let v242 : BitVec 1 := Scalar.cmpi .ne v241 c0_i32_148
  let v243 : BitVec 1 := Scalar.andi v240 v242
  let v229 : BitVec 32 := Scalar.divsi v228 c2_i32_143
  let c1_i32_149 : BitVec 32 := 1#32
  let v244 : BitVec 32 := Scalar.subi v229 c1_i32_149
  let v245 : BitVec 32 := Scalar.select v243 v244 v229
  let c0_i32_161 : BitVec 32 := 0#32
  let c0_i32_153 : BitVec 32 := 0#32
  let v249 : BitVec 32 := Scalar.subi c0_i32_153 v227
  let c0_i32_155 : BitVec 32 := 0#32
  let v251 : BitVec 1 := Scalar.cmpi .sgt v249 c0_i32_155
  let v252 : BitVec 32 := Scalar.extui v251
  let c0_i32_156 : BitVec 32 := 0#32
  let v253 : BitVec 1 := Scalar.cmpi .slt v249 c0_i32_156
  let v254 : BitVec 32 := Scalar.extui v253
  let v255 : BitVec 32 := Scalar.subi v252 v254
  let c2_i32_154 : BitVec 32 := 2#32
  let c0_i32_157 : BitVec 32 := 0#32
  let v256 : BitVec 1 := Scalar.cmpi .sgt c2_i32_154 c0_i32_157
  let v257 : BitVec 32 := Scalar.extui v256
  let c0_i32_158 : BitVec 32 := 0#32
  let v258 : BitVec 1 := Scalar.cmpi .slt c2_i32_154 c0_i32_158
  let v259 : BitVec 32 := Scalar.extui v258
  let v260 : BitVec 32 := Scalar.subi v257 v259
  let v261 : BitVec 1 := Scalar.cmpi .ne v255 v260
  let v262 : BitVec 32 := Scalar.remsi v249 c2_i32_154
  let c0_i32_159 : BitVec 32 := 0#32
  let v263 : BitVec 1 := Scalar.cmpi .ne v262 c0_i32_159
  let v264 : BitVec 1 := Scalar.andi v261 v263
  let v250 : BitVec 32 := Scalar.divsi v249 c2_i32_154
  let c1_i32_160 : BitVec 32 := 1#32
  let v265 : BitVec 32 := Scalar.subi v250 c1_i32_160
  let v266 : BitVec 32 := Scalar.select v264 v265 v250
  let v267 : BitVec 32 := Scalar.maxsi c0_i32_161 v266
  let v268 : BitVec 32 := Scalar.minsi v245 v267
  let c1_i32_172 : BitVec 32 := 1#32
  let arg23 : BitVec 32 := Scf.iv v268 c1_i32_172 k0_t7
  let c2_i32_613 : BitVec 32 := 2#32
  let v1306 : BitVec 32 := Scalar.muli arg23 c2_i32_613
  let v1307 : BitVec 32 := Scalar.addi v227 v1306
  let c0_i32_614 : BitVec 32 := 0#32
  let v1308 : BitVec 32 := Scalar.subi v1307 c0_i32_614
  let c0_i32_615 : BitVec 32 := 0#32
  ![v1308.toNat, 0]
def k0_off15 (v225 : BitVec 32) (v227 : BitVec 32) (k0_t7 : Fin (k0_t7_loop v225 v227).trips) : Fin 2 → Nat :=
  let c1_i32_612 : BitVec 32 := 1#32
  let v1304 : BitVec 32 := Scalar.shrsi v227 c1_i32_612
  let c1_i32_142 : BitVec 32 := 1#32
  let v228 : BitVec 32 := Scalar.addi v225 c1_i32_142
  let c0_i32_144 : BitVec 32 := 0#32
  let v230 : BitVec 1 := Scalar.cmpi .sgt v228 c0_i32_144
  let v231 : BitVec 32 := Scalar.extui v230
  let c0_i32_145 : BitVec 32 := 0#32
  let v232 : BitVec 1 := Scalar.cmpi .slt v228 c0_i32_145
  let v233 : BitVec 32 := Scalar.extui v232
  let v234 : BitVec 32 := Scalar.subi v231 v233
  let c2_i32_143 : BitVec 32 := 2#32
  let c0_i32_146 : BitVec 32 := 0#32
  let v235 : BitVec 1 := Scalar.cmpi .sgt c2_i32_143 c0_i32_146
  let v236 : BitVec 32 := Scalar.extui v235
  let c0_i32_147 : BitVec 32 := 0#32
  let v237 : BitVec 1 := Scalar.cmpi .slt c2_i32_143 c0_i32_147
  let v238 : BitVec 32 := Scalar.extui v237
  let v239 : BitVec 32 := Scalar.subi v236 v238
  let v240 : BitVec 1 := Scalar.cmpi .ne v234 v239
  let v241 : BitVec 32 := Scalar.remsi v228 c2_i32_143
  let c0_i32_148 : BitVec 32 := 0#32
  let v242 : BitVec 1 := Scalar.cmpi .ne v241 c0_i32_148
  let v243 : BitVec 1 := Scalar.andi v240 v242
  let v229 : BitVec 32 := Scalar.divsi v228 c2_i32_143
  let c1_i32_149 : BitVec 32 := 1#32
  let v244 : BitVec 32 := Scalar.subi v229 c1_i32_149
  let v245 : BitVec 32 := Scalar.select v243 v244 v229
  let c0_i32_161 : BitVec 32 := 0#32
  let c0_i32_153 : BitVec 32 := 0#32
  let v249 : BitVec 32 := Scalar.subi c0_i32_153 v227
  let c0_i32_155 : BitVec 32 := 0#32
  let v251 : BitVec 1 := Scalar.cmpi .sgt v249 c0_i32_155
  let v252 : BitVec 32 := Scalar.extui v251
  let c0_i32_156 : BitVec 32 := 0#32
  let v253 : BitVec 1 := Scalar.cmpi .slt v249 c0_i32_156
  let v254 : BitVec 32 := Scalar.extui v253
  let v255 : BitVec 32 := Scalar.subi v252 v254
  let c2_i32_154 : BitVec 32 := 2#32
  let c0_i32_157 : BitVec 32 := 0#32
  let v256 : BitVec 1 := Scalar.cmpi .sgt c2_i32_154 c0_i32_157
  let v257 : BitVec 32 := Scalar.extui v256
  let c0_i32_158 : BitVec 32 := 0#32
  let v258 : BitVec 1 := Scalar.cmpi .slt c2_i32_154 c0_i32_158
  let v259 : BitVec 32 := Scalar.extui v258
  let v260 : BitVec 32 := Scalar.subi v257 v259
  let v261 : BitVec 1 := Scalar.cmpi .ne v255 v260
  let v262 : BitVec 32 := Scalar.remsi v249 c2_i32_154
  let c0_i32_159 : BitVec 32 := 0#32
  let v263 : BitVec 1 := Scalar.cmpi .ne v262 c0_i32_159
  let v264 : BitVec 1 := Scalar.andi v261 v263
  let v250 : BitVec 32 := Scalar.divsi v249 c2_i32_154
  let c1_i32_160 : BitVec 32 := 1#32
  let v265 : BitVec 32 := Scalar.subi v250 c1_i32_160
  let v266 : BitVec 32 := Scalar.select v264 v265 v250
  let v267 : BitVec 32 := Scalar.maxsi c0_i32_161 v266
  let v268 : BitVec 32 := Scalar.minsi v245 v267
  let c1_i32_172 : BitVec 32 := 1#32
  let arg23 : BitVec 32 := Scf.iv v268 c1_i32_172 k0_t7
  let v1305 : BitVec 32 := Scalar.addi v1304 arg23
  let c0_i32_616 : BitVec 32 := 0#32
  ![v1305.toNat, 0]
def k0_off16 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_150 : BitVec 32 := 16#32
  let v246 : BitVec 32 := Scalar.muli arg21 c16_i32_150
  let c1_i32_151 : BitVec 32 := 1#32
  let v247 : BitVec 32 := Scalar.addi v246 c1_i32_151
  let c128_i32_152 : BitVec 32 := 128#32
  let v248 : BitVec 32 := Scalar.muli v247 c128_i32_152
  ![0, v248.toNat]
@[reducible] def k0_t8_loop (v225 : BitVec 32) (v227 : BitVec 32) : Scf.Loop 32 :=
  let c1_i32_142 : BitVec 32 := 1#32
  let v228 : BitVec 32 := Scalar.addi v225 c1_i32_142
  let c0_i32_144 : BitVec 32 := 0#32
  let v230 : BitVec 1 := Scalar.cmpi .sgt v228 c0_i32_144
  let v231 : BitVec 32 := Scalar.extui v230
  let c0_i32_145 : BitVec 32 := 0#32
  let v232 : BitVec 1 := Scalar.cmpi .slt v228 c0_i32_145
  let v233 : BitVec 32 := Scalar.extui v232
  let v234 : BitVec 32 := Scalar.subi v231 v233
  let c2_i32_143 : BitVec 32 := 2#32
  let c0_i32_146 : BitVec 32 := 0#32
  let v235 : BitVec 1 := Scalar.cmpi .sgt c2_i32_143 c0_i32_146
  let v236 : BitVec 32 := Scalar.extui v235
  let c0_i32_147 : BitVec 32 := 0#32
  let v237 : BitVec 1 := Scalar.cmpi .slt c2_i32_143 c0_i32_147
  let v238 : BitVec 32 := Scalar.extui v237
  let v239 : BitVec 32 := Scalar.subi v236 v238
  let v240 : BitVec 1 := Scalar.cmpi .ne v234 v239
  let v241 : BitVec 32 := Scalar.remsi v228 c2_i32_143
  let c0_i32_148 : BitVec 32 := 0#32
  let v242 : BitVec 1 := Scalar.cmpi .ne v241 c0_i32_148
  let v243 : BitVec 1 := Scalar.andi v240 v242
  let v229 : BitVec 32 := Scalar.divsi v228 c2_i32_143
  let c1_i32_149 : BitVec 32 := 1#32
  let v244 : BitVec 32 := Scalar.subi v229 c1_i32_149
  let v245 : BitVec 32 := Scalar.select v243 v244 v229
  let c0_i32_161 : BitVec 32 := 0#32
  let c0_i32_153 : BitVec 32 := 0#32
  let v249 : BitVec 32 := Scalar.subi c0_i32_153 v227
  let c0_i32_155 : BitVec 32 := 0#32
  let v251 : BitVec 1 := Scalar.cmpi .sgt v249 c0_i32_155
  let v252 : BitVec 32 := Scalar.extui v251
  let c0_i32_156 : BitVec 32 := 0#32
  let v253 : BitVec 1 := Scalar.cmpi .slt v249 c0_i32_156
  let v254 : BitVec 32 := Scalar.extui v253
  let v255 : BitVec 32 := Scalar.subi v252 v254
  let c2_i32_154 : BitVec 32 := 2#32
  let c0_i32_157 : BitVec 32 := 0#32
  let v256 : BitVec 1 := Scalar.cmpi .sgt c2_i32_154 c0_i32_157
  let v257 : BitVec 32 := Scalar.extui v256
  let c0_i32_158 : BitVec 32 := 0#32
  let v258 : BitVec 1 := Scalar.cmpi .slt c2_i32_154 c0_i32_158
  let v259 : BitVec 32 := Scalar.extui v258
  let v260 : BitVec 32 := Scalar.subi v257 v259
  let v261 : BitVec 1 := Scalar.cmpi .ne v255 v260
  let v262 : BitVec 32 := Scalar.remsi v249 c2_i32_154
  let c0_i32_159 : BitVec 32 := 0#32
  let v263 : BitVec 1 := Scalar.cmpi .ne v262 c0_i32_159
  let v264 : BitVec 1 := Scalar.andi v261 v263
  let v250 : BitVec 32 := Scalar.divsi v249 c2_i32_154
  let c1_i32_160 : BitVec 32 := 1#32
  let v265 : BitVec 32 := Scalar.subi v250 c1_i32_160
  let v266 : BitVec 32 := Scalar.select v264 v265 v250
  let v267 : BitVec 32 := Scalar.maxsi c0_i32_161 v266
  let v268 : BitVec 32 := Scalar.minsi v245 v267
  let c0_i32_170 : BitVec 32 := 0#32
  let c384_i32_162 : BitVec 32 := 384#32
  let v269 : BitVec 32 := Scalar.subi c384_i32_162 v227
  let c0_i32_164 : BitVec 32 := 0#32
  let v271 : BitVec 1 := Scalar.cmpi .sgt v269 c0_i32_164
  let v272 : BitVec 32 := Scalar.extui v271
  let c0_i32_165 : BitVec 32 := 0#32
  let v273 : BitVec 1 := Scalar.cmpi .slt v269 c0_i32_165
  let v274 : BitVec 32 := Scalar.extui v273
  let v275 : BitVec 32 := Scalar.subi v272 v274
  let c2_i32_163 : BitVec 32 := 2#32
  let c0_i32_166 : BitVec 32 := 0#32
  let v276 : BitVec 1 := Scalar.cmpi .sgt c2_i32_163 c0_i32_166
  let v277 : BitVec 32 := Scalar.extui v276
  let c0_i32_167 : BitVec 32 := 0#32
  let v278 : BitVec 1 := Scalar.cmpi .slt c2_i32_163 c0_i32_167
  let v279 : BitVec 32 := Scalar.extui v278
  let v280 : BitVec 32 := Scalar.subi v277 v279
  let v281 : BitVec 1 := Scalar.cmpi .ne v275 v280
  let v282 : BitVec 32 := Scalar.remsi v269 c2_i32_163
  let c0_i32_168 : BitVec 32 := 0#32
  let v283 : BitVec 1 := Scalar.cmpi .ne v282 c0_i32_168
  let v284 : BitVec 1 := Scalar.andi v281 v283
  let v270 : BitVec 32 := Scalar.divsi v269 c2_i32_163
  let c1_i32_169 : BitVec 32 := 1#32
  let v285 : BitVec 32 := Scalar.subi v270 c1_i32_169
  let v286 : BitVec 32 := Scalar.select v284 v285 v270
  let v287 : BitVec 32 := Scalar.maxsi c0_i32_170 v286
  let v288 : BitVec 32 := Scalar.minsi v245 v287
  let v289 : BitVec 32 := Scalar.subi v288 v268
  let c1_i32_171 : BitVec 32 := 1#32
  let v291 : BitVec 32 := Scalar.divsi v289 c1_i32_171
  let v292 : BitVec 32 := Scalar.muli v291 c1_i32_171
  let v293 : BitVec 32 := Scalar.addi v268 v292
  let v290 : BitVec 32 := Scalar.addi v268 v289
  let c1_i32_173 : BitVec 32 := 1#32
  ⟨v293, v290, c1_i32_173⟩
def k0_off17 (v225 : BitVec 32) (v227 : BitVec 32) (k0_t8 : Fin (k0_t8_loop v225 v227).trips) : Fin 2 → Nat :=
  let c1_i32_142 : BitVec 32 := 1#32
  let v228 : BitVec 32 := Scalar.addi v225 c1_i32_142
  let c0_i32_144 : BitVec 32 := 0#32
  let v230 : BitVec 1 := Scalar.cmpi .sgt v228 c0_i32_144
  let v231 : BitVec 32 := Scalar.extui v230
  let c0_i32_145 : BitVec 32 := 0#32
  let v232 : BitVec 1 := Scalar.cmpi .slt v228 c0_i32_145
  let v233 : BitVec 32 := Scalar.extui v232
  let v234 : BitVec 32 := Scalar.subi v231 v233
  let c2_i32_143 : BitVec 32 := 2#32
  let c0_i32_146 : BitVec 32 := 0#32
  let v235 : BitVec 1 := Scalar.cmpi .sgt c2_i32_143 c0_i32_146
  let v236 : BitVec 32 := Scalar.extui v235
  let c0_i32_147 : BitVec 32 := 0#32
  let v237 : BitVec 1 := Scalar.cmpi .slt c2_i32_143 c0_i32_147
  let v238 : BitVec 32 := Scalar.extui v237
  let v239 : BitVec 32 := Scalar.subi v236 v238
  let v240 : BitVec 1 := Scalar.cmpi .ne v234 v239
  let v241 : BitVec 32 := Scalar.remsi v228 c2_i32_143
  let c0_i32_148 : BitVec 32 := 0#32
  let v242 : BitVec 1 := Scalar.cmpi .ne v241 c0_i32_148
  let v243 : BitVec 1 := Scalar.andi v240 v242
  let v229 : BitVec 32 := Scalar.divsi v228 c2_i32_143
  let c1_i32_149 : BitVec 32 := 1#32
  let v244 : BitVec 32 := Scalar.subi v229 c1_i32_149
  let v245 : BitVec 32 := Scalar.select v243 v244 v229
  let c0_i32_161 : BitVec 32 := 0#32
  let c0_i32_153 : BitVec 32 := 0#32
  let v249 : BitVec 32 := Scalar.subi c0_i32_153 v227
  let c0_i32_155 : BitVec 32 := 0#32
  let v251 : BitVec 1 := Scalar.cmpi .sgt v249 c0_i32_155
  let v252 : BitVec 32 := Scalar.extui v251
  let c0_i32_156 : BitVec 32 := 0#32
  let v253 : BitVec 1 := Scalar.cmpi .slt v249 c0_i32_156
  let v254 : BitVec 32 := Scalar.extui v253
  let v255 : BitVec 32 := Scalar.subi v252 v254
  let c2_i32_154 : BitVec 32 := 2#32
  let c0_i32_157 : BitVec 32 := 0#32
  let v256 : BitVec 1 := Scalar.cmpi .sgt c2_i32_154 c0_i32_157
  let v257 : BitVec 32 := Scalar.extui v256
  let c0_i32_158 : BitVec 32 := 0#32
  let v258 : BitVec 1 := Scalar.cmpi .slt c2_i32_154 c0_i32_158
  let v259 : BitVec 32 := Scalar.extui v258
  let v260 : BitVec 32 := Scalar.subi v257 v259
  let v261 : BitVec 1 := Scalar.cmpi .ne v255 v260
  let v262 : BitVec 32 := Scalar.remsi v249 c2_i32_154
  let c0_i32_159 : BitVec 32 := 0#32
  let v263 : BitVec 1 := Scalar.cmpi .ne v262 c0_i32_159
  let v264 : BitVec 1 := Scalar.andi v261 v263
  let v250 : BitVec 32 := Scalar.divsi v249 c2_i32_154
  let c1_i32_160 : BitVec 32 := 1#32
  let v265 : BitVec 32 := Scalar.subi v250 c1_i32_160
  let v266 : BitVec 32 := Scalar.select v264 v265 v250
  let v267 : BitVec 32 := Scalar.maxsi c0_i32_161 v266
  let v268 : BitVec 32 := Scalar.minsi v245 v267
  let c0_i32_170 : BitVec 32 := 0#32
  let c384_i32_162 : BitVec 32 := 384#32
  let v269 : BitVec 32 := Scalar.subi c384_i32_162 v227
  let c0_i32_164 : BitVec 32 := 0#32
  let v271 : BitVec 1 := Scalar.cmpi .sgt v269 c0_i32_164
  let v272 : BitVec 32 := Scalar.extui v271
  let c0_i32_165 : BitVec 32 := 0#32
  let v273 : BitVec 1 := Scalar.cmpi .slt v269 c0_i32_165
  let v274 : BitVec 32 := Scalar.extui v273
  let v275 : BitVec 32 := Scalar.subi v272 v274
  let c2_i32_163 : BitVec 32 := 2#32
  let c0_i32_166 : BitVec 32 := 0#32
  let v276 : BitVec 1 := Scalar.cmpi .sgt c2_i32_163 c0_i32_166
  let v277 : BitVec 32 := Scalar.extui v276
  let c0_i32_167 : BitVec 32 := 0#32
  let v278 : BitVec 1 := Scalar.cmpi .slt c2_i32_163 c0_i32_167
  let v279 : BitVec 32 := Scalar.extui v278
  let v280 : BitVec 32 := Scalar.subi v277 v279
  let v281 : BitVec 1 := Scalar.cmpi .ne v275 v280
  let v282 : BitVec 32 := Scalar.remsi v269 c2_i32_163
  let c0_i32_168 : BitVec 32 := 0#32
  let v283 : BitVec 1 := Scalar.cmpi .ne v282 c0_i32_168
  let v284 : BitVec 1 := Scalar.andi v281 v283
  let v270 : BitVec 32 := Scalar.divsi v269 c2_i32_163
  let c1_i32_169 : BitVec 32 := 1#32
  let v285 : BitVec 32 := Scalar.subi v270 c1_i32_169
  let v286 : BitVec 32 := Scalar.select v284 v285 v270
  let v287 : BitVec 32 := Scalar.maxsi c0_i32_170 v286
  let v288 : BitVec 32 := Scalar.minsi v245 v287
  let v289 : BitVec 32 := Scalar.subi v288 v268
  let c1_i32_171 : BitVec 32 := 1#32
  let v291 : BitVec 32 := Scalar.divsi v289 c1_i32_171
  let v292 : BitVec 32 := Scalar.muli v291 c1_i32_171
  let v293 : BitVec 32 := Scalar.addi v268 v292
  let c1_i32_173 : BitVec 32 := 1#32
  let arg23 : BitVec 32 := Scf.iv v293 c1_i32_173 k0_t8
  let c2_i32_613 : BitVec 32 := 2#32
  let v1306 : BitVec 32 := Scalar.muli arg23 c2_i32_613
  let v1307 : BitVec 32 := Scalar.addi v227 v1306
  let c0_i32_614 : BitVec 32 := 0#32
  let v1308 : BitVec 32 := Scalar.subi v1307 c0_i32_614
  let c0_i32_615 : BitVec 32 := 0#32
  ![v1308.toNat, 0]
def k0_off18 (v225 : BitVec 32) (v227 : BitVec 32) (k0_t8 : Fin (k0_t8_loop v225 v227).trips) : Fin 2 → Nat :=
  let c1_i32_612 : BitVec 32 := 1#32
  let v1304 : BitVec 32 := Scalar.shrsi v227 c1_i32_612
  let c1_i32_142 : BitVec 32 := 1#32
  let v228 : BitVec 32 := Scalar.addi v225 c1_i32_142
  let c0_i32_144 : BitVec 32 := 0#32
  let v230 : BitVec 1 := Scalar.cmpi .sgt v228 c0_i32_144
  let v231 : BitVec 32 := Scalar.extui v230
  let c0_i32_145 : BitVec 32 := 0#32
  let v232 : BitVec 1 := Scalar.cmpi .slt v228 c0_i32_145
  let v233 : BitVec 32 := Scalar.extui v232
  let v234 : BitVec 32 := Scalar.subi v231 v233
  let c2_i32_143 : BitVec 32 := 2#32
  let c0_i32_146 : BitVec 32 := 0#32
  let v235 : BitVec 1 := Scalar.cmpi .sgt c2_i32_143 c0_i32_146
  let v236 : BitVec 32 := Scalar.extui v235
  let c0_i32_147 : BitVec 32 := 0#32
  let v237 : BitVec 1 := Scalar.cmpi .slt c2_i32_143 c0_i32_147
  let v238 : BitVec 32 := Scalar.extui v237
  let v239 : BitVec 32 := Scalar.subi v236 v238
  let v240 : BitVec 1 := Scalar.cmpi .ne v234 v239
  let v241 : BitVec 32 := Scalar.remsi v228 c2_i32_143
  let c0_i32_148 : BitVec 32 := 0#32
  let v242 : BitVec 1 := Scalar.cmpi .ne v241 c0_i32_148
  let v243 : BitVec 1 := Scalar.andi v240 v242
  let v229 : BitVec 32 := Scalar.divsi v228 c2_i32_143
  let c1_i32_149 : BitVec 32 := 1#32
  let v244 : BitVec 32 := Scalar.subi v229 c1_i32_149
  let v245 : BitVec 32 := Scalar.select v243 v244 v229
  let c0_i32_161 : BitVec 32 := 0#32
  let c0_i32_153 : BitVec 32 := 0#32
  let v249 : BitVec 32 := Scalar.subi c0_i32_153 v227
  let c0_i32_155 : BitVec 32 := 0#32
  let v251 : BitVec 1 := Scalar.cmpi .sgt v249 c0_i32_155
  let v252 : BitVec 32 := Scalar.extui v251
  let c0_i32_156 : BitVec 32 := 0#32
  let v253 : BitVec 1 := Scalar.cmpi .slt v249 c0_i32_156
  let v254 : BitVec 32 := Scalar.extui v253
  let v255 : BitVec 32 := Scalar.subi v252 v254
  let c2_i32_154 : BitVec 32 := 2#32
  let c0_i32_157 : BitVec 32 := 0#32
  let v256 : BitVec 1 := Scalar.cmpi .sgt c2_i32_154 c0_i32_157
  let v257 : BitVec 32 := Scalar.extui v256
  let c0_i32_158 : BitVec 32 := 0#32
  let v258 : BitVec 1 := Scalar.cmpi .slt c2_i32_154 c0_i32_158
  let v259 : BitVec 32 := Scalar.extui v258
  let v260 : BitVec 32 := Scalar.subi v257 v259
  let v261 : BitVec 1 := Scalar.cmpi .ne v255 v260
  let v262 : BitVec 32 := Scalar.remsi v249 c2_i32_154
  let c0_i32_159 : BitVec 32 := 0#32
  let v263 : BitVec 1 := Scalar.cmpi .ne v262 c0_i32_159
  let v264 : BitVec 1 := Scalar.andi v261 v263
  let v250 : BitVec 32 := Scalar.divsi v249 c2_i32_154
  let c1_i32_160 : BitVec 32 := 1#32
  let v265 : BitVec 32 := Scalar.subi v250 c1_i32_160
  let v266 : BitVec 32 := Scalar.select v264 v265 v250
  let v267 : BitVec 32 := Scalar.maxsi c0_i32_161 v266
  let v268 : BitVec 32 := Scalar.minsi v245 v267
  let c0_i32_170 : BitVec 32 := 0#32
  let c384_i32_162 : BitVec 32 := 384#32
  let v269 : BitVec 32 := Scalar.subi c384_i32_162 v227
  let c0_i32_164 : BitVec 32 := 0#32
  let v271 : BitVec 1 := Scalar.cmpi .sgt v269 c0_i32_164
  let v272 : BitVec 32 := Scalar.extui v271
  let c0_i32_165 : BitVec 32 := 0#32
  let v273 : BitVec 1 := Scalar.cmpi .slt v269 c0_i32_165
  let v274 : BitVec 32 := Scalar.extui v273
  let v275 : BitVec 32 := Scalar.subi v272 v274
  let c2_i32_163 : BitVec 32 := 2#32
  let c0_i32_166 : BitVec 32 := 0#32
  let v276 : BitVec 1 := Scalar.cmpi .sgt c2_i32_163 c0_i32_166
  let v277 : BitVec 32 := Scalar.extui v276
  let c0_i32_167 : BitVec 32 := 0#32
  let v278 : BitVec 1 := Scalar.cmpi .slt c2_i32_163 c0_i32_167
  let v279 : BitVec 32 := Scalar.extui v278
  let v280 : BitVec 32 := Scalar.subi v277 v279
  let v281 : BitVec 1 := Scalar.cmpi .ne v275 v280
  let v282 : BitVec 32 := Scalar.remsi v269 c2_i32_163
  let c0_i32_168 : BitVec 32 := 0#32
  let v283 : BitVec 1 := Scalar.cmpi .ne v282 c0_i32_168
  let v284 : BitVec 1 := Scalar.andi v281 v283
  let v270 : BitVec 32 := Scalar.divsi v269 c2_i32_163
  let c1_i32_169 : BitVec 32 := 1#32
  let v285 : BitVec 32 := Scalar.subi v270 c1_i32_169
  let v286 : BitVec 32 := Scalar.select v284 v285 v270
  let v287 : BitVec 32 := Scalar.maxsi c0_i32_170 v286
  let v288 : BitVec 32 := Scalar.minsi v245 v287
  let v289 : BitVec 32 := Scalar.subi v288 v268
  let c1_i32_171 : BitVec 32 := 1#32
  let v291 : BitVec 32 := Scalar.divsi v289 c1_i32_171
  let v292 : BitVec 32 := Scalar.muli v291 c1_i32_171
  let v293 : BitVec 32 := Scalar.addi v268 v292
  let c1_i32_173 : BitVec 32 := 1#32
  let arg23 : BitVec 32 := Scf.iv v293 c1_i32_173 k0_t8
  let v1305 : BitVec 32 := Scalar.addi v1304 arg23
  let c0_i32_616 : BitVec 32 := 0#32
  ![v1305.toNat, 0]

def k0_chk7 (v225 : BitVec 32) (v227 : BitVec 32) : Prop :=
  ((k0_t7_loop v225 v227).OK) ∧
  (∀ k0_t7 : Fin (k0_t7_loop v225 v227).trips, ∀ a, (k0_off14 v225 v227 k0_t7) a + S2x128.size a ≤ S384x128.size a) ∧
  (∀ k0_t7 : Fin (k0_t7_loop v225 v227).trips, ∀ a, (k0_off15 v225 v227 k0_t7) a + S1x2.size a ≤ S584x2.size a) ∧
  ((k0_t8_loop v225 v227).OK) ∧
  (∀ k0_t8 : Fin (k0_t8_loop v225 v227).trips, ∀ a, (k0_off17 v225 v227 k0_t8) a + S2x128.size a ≤ S384x128.size a) ∧
  (∀ k0_t8 : Fin (k0_t8_loop v225 v227).trips, ∀ a, (k0_off18 v225 v227 k0_t8) a + S1x2.size a ≤ S584x2.size a)
theorem k0_t7_ok : ∀ (v225 : BitVec 32) (v227 : BitVec 32) (k0_hw7 : k0_chk7 v225 v227), (k0_t7_loop v225 v227).OK := fun v225 v227 k0_hw7 => k0_hw7.1
theorem k0_off14_inb : ∀ (v225 : BitVec 32) (v227 : BitVec 32) (k0_hw7 : k0_chk7 v225 v227) (k0_t7 : Fin (k0_t7_loop v225 v227).trips), ∀ a, (k0_off14 v225 v227 k0_t7) a + S2x128.size a ≤ S384x128.size a := fun v225 v227 k0_hw7 k0_t7 => k0_hw7.2.1 k0_t7
theorem k0_off15_inb : ∀ (v225 : BitVec 32) (v227 : BitVec 32) (k0_hw7 : k0_chk7 v225 v227) (k0_t7 : Fin (k0_t7_loop v225 v227).trips), ∀ a, (k0_off15 v225 v227 k0_t7) a + S1x2.size a ≤ S584x2.size a := fun v225 v227 k0_hw7 k0_t7 => k0_hw7.2.2.1 k0_t7
theorem k0_t8_ok : ∀ (v225 : BitVec 32) (v227 : BitVec 32) (k0_hw7 : k0_chk7 v225 v227), (k0_t8_loop v225 v227).OK := fun v225 v227 k0_hw7 => k0_hw7.2.2.2.1
theorem k0_off17_inb : ∀ (v225 : BitVec 32) (v227 : BitVec 32) (k0_hw7 : k0_chk7 v225 v227) (k0_t8 : Fin (k0_t8_loop v225 v227).trips), ∀ a, (k0_off17 v225 v227 k0_t8) a + S2x128.size a ≤ S384x128.size a := fun v225 v227 k0_hw7 k0_t8 => k0_hw7.2.2.2.2.1 k0_t8
theorem k0_off18_inb : ∀ (v225 : BitVec 32) (v227 : BitVec 32) (k0_hw7 : k0_chk7 v225 v227) (k0_t8 : Fin (k0_t8_loop v225 v227).trips), ∀ a, (k0_off18 v225 v227 k0_t8) a + S1x2.size a ≤ S584x2.size a := fun v225 v227 k0_hw7 k0_t8 => k0_hw7.2.2.2.2.2 k0_t8

def k0_off19 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_150 : BitVec 32 := 16#32
  let v246 : BitVec 32 := Scalar.muli arg21 c16_i32_150
  let c1_i32_151 : BitVec 32 := 1#32
  let v247 : BitVec 32 := Scalar.addi v246 c1_i32_151
  let c128_i32_152 : BitVec 32 := 128#32
  let v248 : BitVec 32 := Scalar.muli v247 c128_i32_152
  ![0, v248.toNat]
@[reducible] def k0_t9_loop (v297 : BitVec 32) (v299 : BitVec 32) : Scf.Loop 32 :=
  let c1_i32_174 : BitVec 32 := 1#32
  let v300 : BitVec 32 := Scalar.addi v297 c1_i32_174
  let c0_i32_176 : BitVec 32 := 0#32
  let v302 : BitVec 1 := Scalar.cmpi .sgt v300 c0_i32_176
  let v303 : BitVec 32 := Scalar.extui v302
  let c0_i32_177 : BitVec 32 := 0#32
  let v304 : BitVec 1 := Scalar.cmpi .slt v300 c0_i32_177
  let v305 : BitVec 32 := Scalar.extui v304
  let v306 : BitVec 32 := Scalar.subi v303 v305
  let c2_i32_175 : BitVec 32 := 2#32
  let c0_i32_178 : BitVec 32 := 0#32
  let v307 : BitVec 1 := Scalar.cmpi .sgt c2_i32_175 c0_i32_178
  let v308 : BitVec 32 := Scalar.extui v307
  let c0_i32_179 : BitVec 32 := 0#32
  let v309 : BitVec 1 := Scalar.cmpi .slt c2_i32_175 c0_i32_179
  let v310 : BitVec 32 := Scalar.extui v309
  let v311 : BitVec 32 := Scalar.subi v308 v310
  let v312 : BitVec 1 := Scalar.cmpi .ne v306 v311
  let v313 : BitVec 32 := Scalar.remsi v300 c2_i32_175
  let c0_i32_180 : BitVec 32 := 0#32
  let v314 : BitVec 1 := Scalar.cmpi .ne v313 c0_i32_180
  let v315 : BitVec 1 := Scalar.andi v312 v314
  let v301 : BitVec 32 := Scalar.divsi v300 c2_i32_175
  let c1_i32_181 : BitVec 32 := 1#32
  let v316 : BitVec 32 := Scalar.subi v301 c1_i32_181
  let v317 : BitVec 32 := Scalar.select v315 v316 v301
  let c0_i32_193 : BitVec 32 := 0#32
  let c0_i32_185 : BitVec 32 := 0#32
  let v321 : BitVec 32 := Scalar.subi c0_i32_185 v299
  let c0_i32_187 : BitVec 32 := 0#32
  let v323 : BitVec 1 := Scalar.cmpi .sgt v321 c0_i32_187
  let v324 : BitVec 32 := Scalar.extui v323
  let c0_i32_188 : BitVec 32 := 0#32
  let v325 : BitVec 1 := Scalar.cmpi .slt v321 c0_i32_188
  let v326 : BitVec 32 := Scalar.extui v325
  let v327 : BitVec 32 := Scalar.subi v324 v326
  let c2_i32_186 : BitVec 32 := 2#32
  let c0_i32_189 : BitVec 32 := 0#32
  let v328 : BitVec 1 := Scalar.cmpi .sgt c2_i32_186 c0_i32_189
  let v329 : BitVec 32 := Scalar.extui v328
  let c0_i32_190 : BitVec 32 := 0#32
  let v330 : BitVec 1 := Scalar.cmpi .slt c2_i32_186 c0_i32_190
  let v331 : BitVec 32 := Scalar.extui v330
  let v332 : BitVec 32 := Scalar.subi v329 v331
  let v333 : BitVec 1 := Scalar.cmpi .ne v327 v332
  let v334 : BitVec 32 := Scalar.remsi v321 c2_i32_186
  let c0_i32_191 : BitVec 32 := 0#32
  let v335 : BitVec 1 := Scalar.cmpi .ne v334 c0_i32_191
  let v336 : BitVec 1 := Scalar.andi v333 v335
  let v322 : BitVec 32 := Scalar.divsi v321 c2_i32_186
  let c1_i32_192 : BitVec 32 := 1#32
  let v337 : BitVec 32 := Scalar.subi v322 c1_i32_192
  let v338 : BitVec 32 := Scalar.select v336 v337 v322
  let v339 : BitVec 32 := Scalar.maxsi c0_i32_193 v338
  let v340 : BitVec 32 := Scalar.minsi v317 v339
  let c0_i32_202 : BitVec 32 := 0#32
  let c384_i32_194 : BitVec 32 := 384#32
  let v341 : BitVec 32 := Scalar.subi c384_i32_194 v299
  let c0_i32_196 : BitVec 32 := 0#32
  let v343 : BitVec 1 := Scalar.cmpi .sgt v341 c0_i32_196
  let v344 : BitVec 32 := Scalar.extui v343
  let c0_i32_197 : BitVec 32 := 0#32
  let v345 : BitVec 1 := Scalar.cmpi .slt v341 c0_i32_197
  let v346 : BitVec 32 := Scalar.extui v345
  let v347 : BitVec 32 := Scalar.subi v344 v346
  let c2_i32_195 : BitVec 32 := 2#32
  let c0_i32_198 : BitVec 32 := 0#32
  let v348 : BitVec 1 := Scalar.cmpi .sgt c2_i32_195 c0_i32_198
  let v349 : BitVec 32 := Scalar.extui v348
  let c0_i32_199 : BitVec 32 := 0#32
  let v350 : BitVec 1 := Scalar.cmpi .slt c2_i32_195 c0_i32_199
  let v351 : BitVec 32 := Scalar.extui v350
  let v352 : BitVec 32 := Scalar.subi v349 v351
  let v353 : BitVec 1 := Scalar.cmpi .ne v347 v352
  let v354 : BitVec 32 := Scalar.remsi v341 c2_i32_195
  let c0_i32_200 : BitVec 32 := 0#32
  let v355 : BitVec 1 := Scalar.cmpi .ne v354 c0_i32_200
  let v356 : BitVec 1 := Scalar.andi v353 v355
  let v342 : BitVec 32 := Scalar.divsi v341 c2_i32_195
  let c1_i32_201 : BitVec 32 := 1#32
  let v357 : BitVec 32 := Scalar.subi v342 c1_i32_201
  let v358 : BitVec 32 := Scalar.select v356 v357 v342
  let v359 : BitVec 32 := Scalar.maxsi c0_i32_202 v358
  let v360 : BitVec 32 := Scalar.minsi v317 v359
  let v361 : BitVec 32 := Scalar.subi v360 v340
  let c1_i32_203 : BitVec 32 := 1#32
  let v363 : BitVec 32 := Scalar.divsi v361 c1_i32_203
  let v364 : BitVec 32 := Scalar.muli v363 c1_i32_203
  let v365 : BitVec 32 := Scalar.addi v340 v364
  let c1_i32_204 : BitVec 32 := 1#32
  ⟨v340, v365, c1_i32_204⟩

def k0_off20 (v297 : BitVec 32) (v299 : BitVec 32) (k0_t9 : Fin (k0_t9_loop v297 v299).trips) : Fin 2 → Nat :=
  let c1_i32_174 : BitVec 32 := 1#32
  let v300 : BitVec 32 := Scalar.addi v297 c1_i32_174
  let c0_i32_176 : BitVec 32 := 0#32
  let v302 : BitVec 1 := Scalar.cmpi .sgt v300 c0_i32_176
  let v303 : BitVec 32 := Scalar.extui v302
  let c0_i32_177 : BitVec 32 := 0#32
  let v304 : BitVec 1 := Scalar.cmpi .slt v300 c0_i32_177
  let v305 : BitVec 32 := Scalar.extui v304
  let v306 : BitVec 32 := Scalar.subi v303 v305
  let c2_i32_175 : BitVec 32 := 2#32
  let c0_i32_178 : BitVec 32 := 0#32
  let v307 : BitVec 1 := Scalar.cmpi .sgt c2_i32_175 c0_i32_178
  let v308 : BitVec 32 := Scalar.extui v307
  let c0_i32_179 : BitVec 32 := 0#32
  let v309 : BitVec 1 := Scalar.cmpi .slt c2_i32_175 c0_i32_179
  let v310 : BitVec 32 := Scalar.extui v309
  let v311 : BitVec 32 := Scalar.subi v308 v310
  let v312 : BitVec 1 := Scalar.cmpi .ne v306 v311
  let v313 : BitVec 32 := Scalar.remsi v300 c2_i32_175
  let c0_i32_180 : BitVec 32 := 0#32
  let v314 : BitVec 1 := Scalar.cmpi .ne v313 c0_i32_180
  let v315 : BitVec 1 := Scalar.andi v312 v314
  let v301 : BitVec 32 := Scalar.divsi v300 c2_i32_175
  let c1_i32_181 : BitVec 32 := 1#32
  let v316 : BitVec 32 := Scalar.subi v301 c1_i32_181
  let v317 : BitVec 32 := Scalar.select v315 v316 v301
  let c0_i32_193 : BitVec 32 := 0#32
  let c0_i32_185 : BitVec 32 := 0#32
  let v321 : BitVec 32 := Scalar.subi c0_i32_185 v299
  let c0_i32_187 : BitVec 32 := 0#32
  let v323 : BitVec 1 := Scalar.cmpi .sgt v321 c0_i32_187
  let v324 : BitVec 32 := Scalar.extui v323
  let c0_i32_188 : BitVec 32 := 0#32
  let v325 : BitVec 1 := Scalar.cmpi .slt v321 c0_i32_188
  let v326 : BitVec 32 := Scalar.extui v325
  let v327 : BitVec 32 := Scalar.subi v324 v326
  let c2_i32_186 : BitVec 32 := 2#32
  let c0_i32_189 : BitVec 32 := 0#32
  let v328 : BitVec 1 := Scalar.cmpi .sgt c2_i32_186 c0_i32_189
  let v329 : BitVec 32 := Scalar.extui v328
  let c0_i32_190 : BitVec 32 := 0#32
  let v330 : BitVec 1 := Scalar.cmpi .slt c2_i32_186 c0_i32_190
  let v331 : BitVec 32 := Scalar.extui v330
  let v332 : BitVec 32 := Scalar.subi v329 v331
  let v333 : BitVec 1 := Scalar.cmpi .ne v327 v332
  let v334 : BitVec 32 := Scalar.remsi v321 c2_i32_186
  let c0_i32_191 : BitVec 32 := 0#32
  let v335 : BitVec 1 := Scalar.cmpi .ne v334 c0_i32_191
  let v336 : BitVec 1 := Scalar.andi v333 v335
  let v322 : BitVec 32 := Scalar.divsi v321 c2_i32_186
  let c1_i32_192 : BitVec 32 := 1#32
  let v337 : BitVec 32 := Scalar.subi v322 c1_i32_192
  let v338 : BitVec 32 := Scalar.select v336 v337 v322
  let v339 : BitVec 32 := Scalar.maxsi c0_i32_193 v338
  let v340 : BitVec 32 := Scalar.minsi v317 v339
  let c1_i32_204 : BitVec 32 := 1#32
  let arg23 : BitVec 32 := Scf.iv v340 c1_i32_204 k0_t9
  let c2_i32_613 : BitVec 32 := 2#32
  let v1306 : BitVec 32 := Scalar.muli arg23 c2_i32_613
  let v1307 : BitVec 32 := Scalar.addi v299 v1306
  let c0_i32_614 : BitVec 32 := 0#32
  let v1308 : BitVec 32 := Scalar.subi v1307 c0_i32_614
  let c0_i32_615 : BitVec 32 := 0#32
  ![v1308.toNat, 0]
def k0_off21 (v297 : BitVec 32) (v299 : BitVec 32) (k0_t9 : Fin (k0_t9_loop v297 v299).trips) : Fin 2 → Nat :=
  let c1_i32_612 : BitVec 32 := 1#32
  let v1304 : BitVec 32 := Scalar.shrsi v299 c1_i32_612
  let c1_i32_174 : BitVec 32 := 1#32
  let v300 : BitVec 32 := Scalar.addi v297 c1_i32_174
  let c0_i32_176 : BitVec 32 := 0#32
  let v302 : BitVec 1 := Scalar.cmpi .sgt v300 c0_i32_176
  let v303 : BitVec 32 := Scalar.extui v302
  let c0_i32_177 : BitVec 32 := 0#32
  let v304 : BitVec 1 := Scalar.cmpi .slt v300 c0_i32_177
  let v305 : BitVec 32 := Scalar.extui v304
  let v306 : BitVec 32 := Scalar.subi v303 v305
  let c2_i32_175 : BitVec 32 := 2#32
  let c0_i32_178 : BitVec 32 := 0#32
  let v307 : BitVec 1 := Scalar.cmpi .sgt c2_i32_175 c0_i32_178
  let v308 : BitVec 32 := Scalar.extui v307
  let c0_i32_179 : BitVec 32 := 0#32
  let v309 : BitVec 1 := Scalar.cmpi .slt c2_i32_175 c0_i32_179
  let v310 : BitVec 32 := Scalar.extui v309
  let v311 : BitVec 32 := Scalar.subi v308 v310
  let v312 : BitVec 1 := Scalar.cmpi .ne v306 v311
  let v313 : BitVec 32 := Scalar.remsi v300 c2_i32_175
  let c0_i32_180 : BitVec 32 := 0#32
  let v314 : BitVec 1 := Scalar.cmpi .ne v313 c0_i32_180
  let v315 : BitVec 1 := Scalar.andi v312 v314
  let v301 : BitVec 32 := Scalar.divsi v300 c2_i32_175
  let c1_i32_181 : BitVec 32 := 1#32
  let v316 : BitVec 32 := Scalar.subi v301 c1_i32_181
  let v317 : BitVec 32 := Scalar.select v315 v316 v301
  let c0_i32_193 : BitVec 32 := 0#32
  let c0_i32_185 : BitVec 32 := 0#32
  let v321 : BitVec 32 := Scalar.subi c0_i32_185 v299
  let c0_i32_187 : BitVec 32 := 0#32
  let v323 : BitVec 1 := Scalar.cmpi .sgt v321 c0_i32_187
  let v324 : BitVec 32 := Scalar.extui v323
  let c0_i32_188 : BitVec 32 := 0#32
  let v325 : BitVec 1 := Scalar.cmpi .slt v321 c0_i32_188
  let v326 : BitVec 32 := Scalar.extui v325
  let v327 : BitVec 32 := Scalar.subi v324 v326
  let c2_i32_186 : BitVec 32 := 2#32
  let c0_i32_189 : BitVec 32 := 0#32
  let v328 : BitVec 1 := Scalar.cmpi .sgt c2_i32_186 c0_i32_189
  let v329 : BitVec 32 := Scalar.extui v328
  let c0_i32_190 : BitVec 32 := 0#32
  let v330 : BitVec 1 := Scalar.cmpi .slt c2_i32_186 c0_i32_190
  let v331 : BitVec 32 := Scalar.extui v330
  let v332 : BitVec 32 := Scalar.subi v329 v331
  let v333 : BitVec 1 := Scalar.cmpi .ne v327 v332
  let v334 : BitVec 32 := Scalar.remsi v321 c2_i32_186
  let c0_i32_191 : BitVec 32 := 0#32
  let v335 : BitVec 1 := Scalar.cmpi .ne v334 c0_i32_191
  let v336 : BitVec 1 := Scalar.andi v333 v335
  let v322 : BitVec 32 := Scalar.divsi v321 c2_i32_186
  let c1_i32_192 : BitVec 32 := 1#32
  let v337 : BitVec 32 := Scalar.subi v322 c1_i32_192
  let v338 : BitVec 32 := Scalar.select v336 v337 v322
  let v339 : BitVec 32 := Scalar.maxsi c0_i32_193 v338
  let v340 : BitVec 32 := Scalar.minsi v317 v339
  let c1_i32_204 : BitVec 32 := 1#32
  let arg23 : BitVec 32 := Scf.iv v340 c1_i32_204 k0_t9
  let v1305 : BitVec 32 := Scalar.addi v1304 arg23
  let c0_i32_616 : BitVec 32 := 0#32
  ![v1305.toNat, 0]
def k0_off22 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_182 : BitVec 32 := 16#32
  let v318 : BitVec 32 := Scalar.muli arg21 c16_i32_182
  let c2_i32_183 : BitVec 32 := 2#32
  let v319 : BitVec 32 := Scalar.addi v318 c2_i32_183
  let c128_i32_184 : BitVec 32 := 128#32
  let v320 : BitVec 32 := Scalar.muli v319 c128_i32_184
  ![0, v320.toNat]
@[reducible] def k0_t10_loop (v297 : BitVec 32) (v299 : BitVec 32) : Scf.Loop 32 :=
  let c1_i32_174 : BitVec 32 := 1#32
  let v300 : BitVec 32 := Scalar.addi v297 c1_i32_174
  let c0_i32_176 : BitVec 32 := 0#32
  let v302 : BitVec 1 := Scalar.cmpi .sgt v300 c0_i32_176
  let v303 : BitVec 32 := Scalar.extui v302
  let c0_i32_177 : BitVec 32 := 0#32
  let v304 : BitVec 1 := Scalar.cmpi .slt v300 c0_i32_177
  let v305 : BitVec 32 := Scalar.extui v304
  let v306 : BitVec 32 := Scalar.subi v303 v305
  let c2_i32_175 : BitVec 32 := 2#32
  let c0_i32_178 : BitVec 32 := 0#32
  let v307 : BitVec 1 := Scalar.cmpi .sgt c2_i32_175 c0_i32_178
  let v308 : BitVec 32 := Scalar.extui v307
  let c0_i32_179 : BitVec 32 := 0#32
  let v309 : BitVec 1 := Scalar.cmpi .slt c2_i32_175 c0_i32_179
  let v310 : BitVec 32 := Scalar.extui v309
  let v311 : BitVec 32 := Scalar.subi v308 v310
  let v312 : BitVec 1 := Scalar.cmpi .ne v306 v311
  let v313 : BitVec 32 := Scalar.remsi v300 c2_i32_175
  let c0_i32_180 : BitVec 32 := 0#32
  let v314 : BitVec 1 := Scalar.cmpi .ne v313 c0_i32_180
  let v315 : BitVec 1 := Scalar.andi v312 v314
  let v301 : BitVec 32 := Scalar.divsi v300 c2_i32_175
  let c1_i32_181 : BitVec 32 := 1#32
  let v316 : BitVec 32 := Scalar.subi v301 c1_i32_181
  let v317 : BitVec 32 := Scalar.select v315 v316 v301
  let c0_i32_193 : BitVec 32 := 0#32
  let c0_i32_185 : BitVec 32 := 0#32
  let v321 : BitVec 32 := Scalar.subi c0_i32_185 v299
  let c0_i32_187 : BitVec 32 := 0#32
  let v323 : BitVec 1 := Scalar.cmpi .sgt v321 c0_i32_187
  let v324 : BitVec 32 := Scalar.extui v323
  let c0_i32_188 : BitVec 32 := 0#32
  let v325 : BitVec 1 := Scalar.cmpi .slt v321 c0_i32_188
  let v326 : BitVec 32 := Scalar.extui v325
  let v327 : BitVec 32 := Scalar.subi v324 v326
  let c2_i32_186 : BitVec 32 := 2#32
  let c0_i32_189 : BitVec 32 := 0#32
  let v328 : BitVec 1 := Scalar.cmpi .sgt c2_i32_186 c0_i32_189
  let v329 : BitVec 32 := Scalar.extui v328
  let c0_i32_190 : BitVec 32 := 0#32
  let v330 : BitVec 1 := Scalar.cmpi .slt c2_i32_186 c0_i32_190
  let v331 : BitVec 32 := Scalar.extui v330
  let v332 : BitVec 32 := Scalar.subi v329 v331
  let v333 : BitVec 1 := Scalar.cmpi .ne v327 v332
  let v334 : BitVec 32 := Scalar.remsi v321 c2_i32_186
  let c0_i32_191 : BitVec 32 := 0#32
  let v335 : BitVec 1 := Scalar.cmpi .ne v334 c0_i32_191
  let v336 : BitVec 1 := Scalar.andi v333 v335
  let v322 : BitVec 32 := Scalar.divsi v321 c2_i32_186
  let c1_i32_192 : BitVec 32 := 1#32
  let v337 : BitVec 32 := Scalar.subi v322 c1_i32_192
  let v338 : BitVec 32 := Scalar.select v336 v337 v322
  let v339 : BitVec 32 := Scalar.maxsi c0_i32_193 v338
  let v340 : BitVec 32 := Scalar.minsi v317 v339
  let c0_i32_202 : BitVec 32 := 0#32
  let c384_i32_194 : BitVec 32 := 384#32
  let v341 : BitVec 32 := Scalar.subi c384_i32_194 v299
  let c0_i32_196 : BitVec 32 := 0#32
  let v343 : BitVec 1 := Scalar.cmpi .sgt v341 c0_i32_196
  let v344 : BitVec 32 := Scalar.extui v343
  let c0_i32_197 : BitVec 32 := 0#32
  let v345 : BitVec 1 := Scalar.cmpi .slt v341 c0_i32_197
  let v346 : BitVec 32 := Scalar.extui v345
  let v347 : BitVec 32 := Scalar.subi v344 v346
  let c2_i32_195 : BitVec 32 := 2#32
  let c0_i32_198 : BitVec 32 := 0#32
  let v348 : BitVec 1 := Scalar.cmpi .sgt c2_i32_195 c0_i32_198
  let v349 : BitVec 32 := Scalar.extui v348
  let c0_i32_199 : BitVec 32 := 0#32
  let v350 : BitVec 1 := Scalar.cmpi .slt c2_i32_195 c0_i32_199
  let v351 : BitVec 32 := Scalar.extui v350
  let v352 : BitVec 32 := Scalar.subi v349 v351
  let v353 : BitVec 1 := Scalar.cmpi .ne v347 v352
  let v354 : BitVec 32 := Scalar.remsi v341 c2_i32_195
  let c0_i32_200 : BitVec 32 := 0#32
  let v355 : BitVec 1 := Scalar.cmpi .ne v354 c0_i32_200
  let v356 : BitVec 1 := Scalar.andi v353 v355
  let v342 : BitVec 32 := Scalar.divsi v341 c2_i32_195
  let c1_i32_201 : BitVec 32 := 1#32
  let v357 : BitVec 32 := Scalar.subi v342 c1_i32_201
  let v358 : BitVec 32 := Scalar.select v356 v357 v342
  let v359 : BitVec 32 := Scalar.maxsi c0_i32_202 v358
  let v360 : BitVec 32 := Scalar.minsi v317 v359
  let v361 : BitVec 32 := Scalar.subi v360 v340
  let c1_i32_203 : BitVec 32 := 1#32
  let v363 : BitVec 32 := Scalar.divsi v361 c1_i32_203
  let v364 : BitVec 32 := Scalar.muli v363 c1_i32_203
  let v365 : BitVec 32 := Scalar.addi v340 v364
  let v362 : BitVec 32 := Scalar.addi v340 v361
  let c1_i32_205 : BitVec 32 := 1#32
  ⟨v365, v362, c1_i32_205⟩
def k0_off23 (v297 : BitVec 32) (v299 : BitVec 32) (k0_t10 : Fin (k0_t10_loop v297 v299).trips) : Fin 2 → Nat :=
  let c1_i32_174 : BitVec 32 := 1#32
  let v300 : BitVec 32 := Scalar.addi v297 c1_i32_174
  let c0_i32_176 : BitVec 32 := 0#32
  let v302 : BitVec 1 := Scalar.cmpi .sgt v300 c0_i32_176
  let v303 : BitVec 32 := Scalar.extui v302
  let c0_i32_177 : BitVec 32 := 0#32
  let v304 : BitVec 1 := Scalar.cmpi .slt v300 c0_i32_177
  let v305 : BitVec 32 := Scalar.extui v304
  let v306 : BitVec 32 := Scalar.subi v303 v305
  let c2_i32_175 : BitVec 32 := 2#32
  let c0_i32_178 : BitVec 32 := 0#32
  let v307 : BitVec 1 := Scalar.cmpi .sgt c2_i32_175 c0_i32_178
  let v308 : BitVec 32 := Scalar.extui v307
  let c0_i32_179 : BitVec 32 := 0#32
  let v309 : BitVec 1 := Scalar.cmpi .slt c2_i32_175 c0_i32_179
  let v310 : BitVec 32 := Scalar.extui v309
  let v311 : BitVec 32 := Scalar.subi v308 v310
  let v312 : BitVec 1 := Scalar.cmpi .ne v306 v311
  let v313 : BitVec 32 := Scalar.remsi v300 c2_i32_175
  let c0_i32_180 : BitVec 32 := 0#32
  let v314 : BitVec 1 := Scalar.cmpi .ne v313 c0_i32_180
  let v315 : BitVec 1 := Scalar.andi v312 v314
  let v301 : BitVec 32 := Scalar.divsi v300 c2_i32_175
  let c1_i32_181 : BitVec 32 := 1#32
  let v316 : BitVec 32 := Scalar.subi v301 c1_i32_181
  let v317 : BitVec 32 := Scalar.select v315 v316 v301
  let c0_i32_193 : BitVec 32 := 0#32
  let c0_i32_185 : BitVec 32 := 0#32
  let v321 : BitVec 32 := Scalar.subi c0_i32_185 v299
  let c0_i32_187 : BitVec 32 := 0#32
  let v323 : BitVec 1 := Scalar.cmpi .sgt v321 c0_i32_187
  let v324 : BitVec 32 := Scalar.extui v323
  let c0_i32_188 : BitVec 32 := 0#32
  let v325 : BitVec 1 := Scalar.cmpi .slt v321 c0_i32_188
  let v326 : BitVec 32 := Scalar.extui v325
  let v327 : BitVec 32 := Scalar.subi v324 v326
  let c2_i32_186 : BitVec 32 := 2#32
  let c0_i32_189 : BitVec 32 := 0#32
  let v328 : BitVec 1 := Scalar.cmpi .sgt c2_i32_186 c0_i32_189
  let v329 : BitVec 32 := Scalar.extui v328
  let c0_i32_190 : BitVec 32 := 0#32
  let v330 : BitVec 1 := Scalar.cmpi .slt c2_i32_186 c0_i32_190
  let v331 : BitVec 32 := Scalar.extui v330
  let v332 : BitVec 32 := Scalar.subi v329 v331
  let v333 : BitVec 1 := Scalar.cmpi .ne v327 v332
  let v334 : BitVec 32 := Scalar.remsi v321 c2_i32_186
  let c0_i32_191 : BitVec 32 := 0#32
  let v335 : BitVec 1 := Scalar.cmpi .ne v334 c0_i32_191
  let v336 : BitVec 1 := Scalar.andi v333 v335
  let v322 : BitVec 32 := Scalar.divsi v321 c2_i32_186
  let c1_i32_192 : BitVec 32 := 1#32
  let v337 : BitVec 32 := Scalar.subi v322 c1_i32_192
  let v338 : BitVec 32 := Scalar.select v336 v337 v322
  let v339 : BitVec 32 := Scalar.maxsi c0_i32_193 v338
  let v340 : BitVec 32 := Scalar.minsi v317 v339
  let c0_i32_202 : BitVec 32 := 0#32
  let c384_i32_194 : BitVec 32 := 384#32
  let v341 : BitVec 32 := Scalar.subi c384_i32_194 v299
  let c0_i32_196 : BitVec 32 := 0#32
  let v343 : BitVec 1 := Scalar.cmpi .sgt v341 c0_i32_196
  let v344 : BitVec 32 := Scalar.extui v343
  let c0_i32_197 : BitVec 32 := 0#32
  let v345 : BitVec 1 := Scalar.cmpi .slt v341 c0_i32_197
  let v346 : BitVec 32 := Scalar.extui v345
  let v347 : BitVec 32 := Scalar.subi v344 v346
  let c2_i32_195 : BitVec 32 := 2#32
  let c0_i32_198 : BitVec 32 := 0#32
  let v348 : BitVec 1 := Scalar.cmpi .sgt c2_i32_195 c0_i32_198
  let v349 : BitVec 32 := Scalar.extui v348
  let c0_i32_199 : BitVec 32 := 0#32
  let v350 : BitVec 1 := Scalar.cmpi .slt c2_i32_195 c0_i32_199
  let v351 : BitVec 32 := Scalar.extui v350
  let v352 : BitVec 32 := Scalar.subi v349 v351
  let v353 : BitVec 1 := Scalar.cmpi .ne v347 v352
  let v354 : BitVec 32 := Scalar.remsi v341 c2_i32_195
  let c0_i32_200 : BitVec 32 := 0#32
  let v355 : BitVec 1 := Scalar.cmpi .ne v354 c0_i32_200
  let v356 : BitVec 1 := Scalar.andi v353 v355
  let v342 : BitVec 32 := Scalar.divsi v341 c2_i32_195
  let c1_i32_201 : BitVec 32 := 1#32
  let v357 : BitVec 32 := Scalar.subi v342 c1_i32_201
  let v358 : BitVec 32 := Scalar.select v356 v357 v342
  let v359 : BitVec 32 := Scalar.maxsi c0_i32_202 v358
  let v360 : BitVec 32 := Scalar.minsi v317 v359
  let v361 : BitVec 32 := Scalar.subi v360 v340
  let c1_i32_203 : BitVec 32 := 1#32
  let v363 : BitVec 32 := Scalar.divsi v361 c1_i32_203
  let v364 : BitVec 32 := Scalar.muli v363 c1_i32_203
  let v365 : BitVec 32 := Scalar.addi v340 v364
  let c1_i32_205 : BitVec 32 := 1#32
  let arg23 : BitVec 32 := Scf.iv v365 c1_i32_205 k0_t10
  let c2_i32_613 : BitVec 32 := 2#32
  let v1306 : BitVec 32 := Scalar.muli arg23 c2_i32_613
  let v1307 : BitVec 32 := Scalar.addi v299 v1306
  let c0_i32_614 : BitVec 32 := 0#32
  let v1308 : BitVec 32 := Scalar.subi v1307 c0_i32_614
  let c0_i32_615 : BitVec 32 := 0#32
  ![v1308.toNat, 0]
def k0_off24 (v297 : BitVec 32) (v299 : BitVec 32) (k0_t10 : Fin (k0_t10_loop v297 v299).trips) : Fin 2 → Nat :=
  let c1_i32_612 : BitVec 32 := 1#32
  let v1304 : BitVec 32 := Scalar.shrsi v299 c1_i32_612
  let c1_i32_174 : BitVec 32 := 1#32
  let v300 : BitVec 32 := Scalar.addi v297 c1_i32_174
  let c0_i32_176 : BitVec 32 := 0#32
  let v302 : BitVec 1 := Scalar.cmpi .sgt v300 c0_i32_176
  let v303 : BitVec 32 := Scalar.extui v302
  let c0_i32_177 : BitVec 32 := 0#32
  let v304 : BitVec 1 := Scalar.cmpi .slt v300 c0_i32_177
  let v305 : BitVec 32 := Scalar.extui v304
  let v306 : BitVec 32 := Scalar.subi v303 v305
  let c2_i32_175 : BitVec 32 := 2#32
  let c0_i32_178 : BitVec 32 := 0#32
  let v307 : BitVec 1 := Scalar.cmpi .sgt c2_i32_175 c0_i32_178
  let v308 : BitVec 32 := Scalar.extui v307
  let c0_i32_179 : BitVec 32 := 0#32
  let v309 : BitVec 1 := Scalar.cmpi .slt c2_i32_175 c0_i32_179
  let v310 : BitVec 32 := Scalar.extui v309
  let v311 : BitVec 32 := Scalar.subi v308 v310
  let v312 : BitVec 1 := Scalar.cmpi .ne v306 v311
  let v313 : BitVec 32 := Scalar.remsi v300 c2_i32_175
  let c0_i32_180 : BitVec 32 := 0#32
  let v314 : BitVec 1 := Scalar.cmpi .ne v313 c0_i32_180
  let v315 : BitVec 1 := Scalar.andi v312 v314
  let v301 : BitVec 32 := Scalar.divsi v300 c2_i32_175
  let c1_i32_181 : BitVec 32 := 1#32
  let v316 : BitVec 32 := Scalar.subi v301 c1_i32_181
  let v317 : BitVec 32 := Scalar.select v315 v316 v301
  let c0_i32_193 : BitVec 32 := 0#32
  let c0_i32_185 : BitVec 32 := 0#32
  let v321 : BitVec 32 := Scalar.subi c0_i32_185 v299
  let c0_i32_187 : BitVec 32 := 0#32
  let v323 : BitVec 1 := Scalar.cmpi .sgt v321 c0_i32_187
  let v324 : BitVec 32 := Scalar.extui v323
  let c0_i32_188 : BitVec 32 := 0#32
  let v325 : BitVec 1 := Scalar.cmpi .slt v321 c0_i32_188
  let v326 : BitVec 32 := Scalar.extui v325
  let v327 : BitVec 32 := Scalar.subi v324 v326
  let c2_i32_186 : BitVec 32 := 2#32
  let c0_i32_189 : BitVec 32 := 0#32
  let v328 : BitVec 1 := Scalar.cmpi .sgt c2_i32_186 c0_i32_189
  let v329 : BitVec 32 := Scalar.extui v328
  let c0_i32_190 : BitVec 32 := 0#32
  let v330 : BitVec 1 := Scalar.cmpi .slt c2_i32_186 c0_i32_190
  let v331 : BitVec 32 := Scalar.extui v330
  let v332 : BitVec 32 := Scalar.subi v329 v331
  let v333 : BitVec 1 := Scalar.cmpi .ne v327 v332
  let v334 : BitVec 32 := Scalar.remsi v321 c2_i32_186
  let c0_i32_191 : BitVec 32 := 0#32
  let v335 : BitVec 1 := Scalar.cmpi .ne v334 c0_i32_191
  let v336 : BitVec 1 := Scalar.andi v333 v335
  let v322 : BitVec 32 := Scalar.divsi v321 c2_i32_186
  let c1_i32_192 : BitVec 32 := 1#32
  let v337 : BitVec 32 := Scalar.subi v322 c1_i32_192
  let v338 : BitVec 32 := Scalar.select v336 v337 v322
  let v339 : BitVec 32 := Scalar.maxsi c0_i32_193 v338
  let v340 : BitVec 32 := Scalar.minsi v317 v339
  let c0_i32_202 : BitVec 32 := 0#32
  let c384_i32_194 : BitVec 32 := 384#32
  let v341 : BitVec 32 := Scalar.subi c384_i32_194 v299
  let c0_i32_196 : BitVec 32 := 0#32
  let v343 : BitVec 1 := Scalar.cmpi .sgt v341 c0_i32_196
  let v344 : BitVec 32 := Scalar.extui v343
  let c0_i32_197 : BitVec 32 := 0#32
  let v345 : BitVec 1 := Scalar.cmpi .slt v341 c0_i32_197
  let v346 : BitVec 32 := Scalar.extui v345
  let v347 : BitVec 32 := Scalar.subi v344 v346
  let c2_i32_195 : BitVec 32 := 2#32
  let c0_i32_198 : BitVec 32 := 0#32
  let v348 : BitVec 1 := Scalar.cmpi .sgt c2_i32_195 c0_i32_198
  let v349 : BitVec 32 := Scalar.extui v348
  let c0_i32_199 : BitVec 32 := 0#32
  let v350 : BitVec 1 := Scalar.cmpi .slt c2_i32_195 c0_i32_199
  let v351 : BitVec 32 := Scalar.extui v350
  let v352 : BitVec 32 := Scalar.subi v349 v351
  let v353 : BitVec 1 := Scalar.cmpi .ne v347 v352
  let v354 : BitVec 32 := Scalar.remsi v341 c2_i32_195
  let c0_i32_200 : BitVec 32 := 0#32
  let v355 : BitVec 1 := Scalar.cmpi .ne v354 c0_i32_200
  let v356 : BitVec 1 := Scalar.andi v353 v355
  let v342 : BitVec 32 := Scalar.divsi v341 c2_i32_195
  let c1_i32_201 : BitVec 32 := 1#32
  let v357 : BitVec 32 := Scalar.subi v342 c1_i32_201
  let v358 : BitVec 32 := Scalar.select v356 v357 v342
  let v359 : BitVec 32 := Scalar.maxsi c0_i32_202 v358
  let v360 : BitVec 32 := Scalar.minsi v317 v359
  let v361 : BitVec 32 := Scalar.subi v360 v340
  let c1_i32_203 : BitVec 32 := 1#32
  let v363 : BitVec 32 := Scalar.divsi v361 c1_i32_203
  let v364 : BitVec 32 := Scalar.muli v363 c1_i32_203
  let v365 : BitVec 32 := Scalar.addi v340 v364
  let c1_i32_205 : BitVec 32 := 1#32
  let arg23 : BitVec 32 := Scf.iv v365 c1_i32_205 k0_t10
  let v1305 : BitVec 32 := Scalar.addi v1304 arg23
  let c0_i32_616 : BitVec 32 := 0#32
  ![v1305.toNat, 0]

def k0_chk8 (v297 : BitVec 32) (v299 : BitVec 32) : Prop :=
  ((k0_t9_loop v297 v299).OK) ∧
  (∀ k0_t9 : Fin (k0_t9_loop v297 v299).trips, ∀ a, (k0_off20 v297 v299 k0_t9) a + S2x128.size a ≤ S384x128.size a) ∧
  (∀ k0_t9 : Fin (k0_t9_loop v297 v299).trips, ∀ a, (k0_off21 v297 v299 k0_t9) a + S1x2.size a ≤ S584x2.size a) ∧
  ((k0_t10_loop v297 v299).OK) ∧
  (∀ k0_t10 : Fin (k0_t10_loop v297 v299).trips, ∀ a, (k0_off23 v297 v299 k0_t10) a + S2x128.size a ≤ S384x128.size a) ∧
  (∀ k0_t10 : Fin (k0_t10_loop v297 v299).trips, ∀ a, (k0_off24 v297 v299 k0_t10) a + S1x2.size a ≤ S584x2.size a)
theorem k0_t9_ok : ∀ (v297 : BitVec 32) (v299 : BitVec 32) (k0_hw8 : k0_chk8 v297 v299), (k0_t9_loop v297 v299).OK := fun v297 v299 k0_hw8 => k0_hw8.1
theorem k0_off20_inb : ∀ (v297 : BitVec 32) (v299 : BitVec 32) (k0_hw8 : k0_chk8 v297 v299) (k0_t9 : Fin (k0_t9_loop v297 v299).trips), ∀ a, (k0_off20 v297 v299 k0_t9) a + S2x128.size a ≤ S384x128.size a := fun v297 v299 k0_hw8 k0_t9 => k0_hw8.2.1 k0_t9
theorem k0_off21_inb : ∀ (v297 : BitVec 32) (v299 : BitVec 32) (k0_hw8 : k0_chk8 v297 v299) (k0_t9 : Fin (k0_t9_loop v297 v299).trips), ∀ a, (k0_off21 v297 v299 k0_t9) a + S1x2.size a ≤ S584x2.size a := fun v297 v299 k0_hw8 k0_t9 => k0_hw8.2.2.1 k0_t9
theorem k0_t10_ok : ∀ (v297 : BitVec 32) (v299 : BitVec 32) (k0_hw8 : k0_chk8 v297 v299), (k0_t10_loop v297 v299).OK := fun v297 v299 k0_hw8 => k0_hw8.2.2.2.1
theorem k0_off23_inb : ∀ (v297 : BitVec 32) (v299 : BitVec 32) (k0_hw8 : k0_chk8 v297 v299) (k0_t10 : Fin (k0_t10_loop v297 v299).trips), ∀ a, (k0_off23 v297 v299 k0_t10) a + S2x128.size a ≤ S384x128.size a := fun v297 v299 k0_hw8 k0_t10 => k0_hw8.2.2.2.2.1 k0_t10
theorem k0_off24_inb : ∀ (v297 : BitVec 32) (v299 : BitVec 32) (k0_hw8 : k0_chk8 v297 v299) (k0_t10 : Fin (k0_t10_loop v297 v299).trips), ∀ a, (k0_off24 v297 v299 k0_t10) a + S1x2.size a ≤ S584x2.size a := fun v297 v299 k0_hw8 k0_t10 => k0_hw8.2.2.2.2.2 k0_t10

def k0_off25 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_182 : BitVec 32 := 16#32
  let v318 : BitVec 32 := Scalar.muli arg21 c16_i32_182
  let c2_i32_183 : BitVec 32 := 2#32
  let v319 : BitVec 32 := Scalar.addi v318 c2_i32_183
  let c128_i32_184 : BitVec 32 := 128#32
  let v320 : BitVec 32 := Scalar.muli v319 c128_i32_184
  ![0, v320.toNat]
@[reducible] def k0_t11_loop (v369 : BitVec 32) (v371 : BitVec 32) : Scf.Loop 32 :=
  let c1_i32_206 : BitVec 32 := 1#32
  let v372 : BitVec 32 := Scalar.addi v369 c1_i32_206
  let c0_i32_208 : BitVec 32 := 0#32
  let v374 : BitVec 1 := Scalar.cmpi .sgt v372 c0_i32_208
  let v375 : BitVec 32 := Scalar.extui v374
  let c0_i32_209 : BitVec 32 := 0#32
  let v376 : BitVec 1 := Scalar.cmpi .slt v372 c0_i32_209
  let v377 : BitVec 32 := Scalar.extui v376
  let v378 : BitVec 32 := Scalar.subi v375 v377
  let c2_i32_207 : BitVec 32 := 2#32
  let c0_i32_210 : BitVec 32 := 0#32
  let v379 : BitVec 1 := Scalar.cmpi .sgt c2_i32_207 c0_i32_210
  let v380 : BitVec 32 := Scalar.extui v379
  let c0_i32_211 : BitVec 32 := 0#32
  let v381 : BitVec 1 := Scalar.cmpi .slt c2_i32_207 c0_i32_211
  let v382 : BitVec 32 := Scalar.extui v381
  let v383 : BitVec 32 := Scalar.subi v380 v382
  let v384 : BitVec 1 := Scalar.cmpi .ne v378 v383
  let v385 : BitVec 32 := Scalar.remsi v372 c2_i32_207
  let c0_i32_212 : BitVec 32 := 0#32
  let v386 : BitVec 1 := Scalar.cmpi .ne v385 c0_i32_212
  let v387 : BitVec 1 := Scalar.andi v384 v386
  let v373 : BitVec 32 := Scalar.divsi v372 c2_i32_207
  let c1_i32_213 : BitVec 32 := 1#32
  let v388 : BitVec 32 := Scalar.subi v373 c1_i32_213
  let v389 : BitVec 32 := Scalar.select v387 v388 v373
  let c0_i32_225 : BitVec 32 := 0#32
  let c0_i32_217 : BitVec 32 := 0#32
  let v393 : BitVec 32 := Scalar.subi c0_i32_217 v371
  let c0_i32_219 : BitVec 32 := 0#32
  let v395 : BitVec 1 := Scalar.cmpi .sgt v393 c0_i32_219
  let v396 : BitVec 32 := Scalar.extui v395
  let c0_i32_220 : BitVec 32 := 0#32
  let v397 : BitVec 1 := Scalar.cmpi .slt v393 c0_i32_220
  let v398 : BitVec 32 := Scalar.extui v397
  let v399 : BitVec 32 := Scalar.subi v396 v398
  let c2_i32_218 : BitVec 32 := 2#32
  let c0_i32_221 : BitVec 32 := 0#32
  let v400 : BitVec 1 := Scalar.cmpi .sgt c2_i32_218 c0_i32_221
  let v401 : BitVec 32 := Scalar.extui v400
  let c0_i32_222 : BitVec 32 := 0#32
  let v402 : BitVec 1 := Scalar.cmpi .slt c2_i32_218 c0_i32_222
  let v403 : BitVec 32 := Scalar.extui v402
  let v404 : BitVec 32 := Scalar.subi v401 v403
  let v405 : BitVec 1 := Scalar.cmpi .ne v399 v404
  let v406 : BitVec 32 := Scalar.remsi v393 c2_i32_218
  let c0_i32_223 : BitVec 32 := 0#32
  let v407 : BitVec 1 := Scalar.cmpi .ne v406 c0_i32_223
  let v408 : BitVec 1 := Scalar.andi v405 v407
  let v394 : BitVec 32 := Scalar.divsi v393 c2_i32_218
  let c1_i32_224 : BitVec 32 := 1#32
  let v409 : BitVec 32 := Scalar.subi v394 c1_i32_224
  let v410 : BitVec 32 := Scalar.select v408 v409 v394
  let v411 : BitVec 32 := Scalar.maxsi c0_i32_225 v410
  let v412 : BitVec 32 := Scalar.minsi v389 v411
  let c0_i32_234 : BitVec 32 := 0#32
  let c384_i32_226 : BitVec 32 := 384#32
  let v413 : BitVec 32 := Scalar.subi c384_i32_226 v371
  let c0_i32_228 : BitVec 32 := 0#32
  let v415 : BitVec 1 := Scalar.cmpi .sgt v413 c0_i32_228
  let v416 : BitVec 32 := Scalar.extui v415
  let c0_i32_229 : BitVec 32 := 0#32
  let v417 : BitVec 1 := Scalar.cmpi .slt v413 c0_i32_229
  let v418 : BitVec 32 := Scalar.extui v417
  let v419 : BitVec 32 := Scalar.subi v416 v418
  let c2_i32_227 : BitVec 32 := 2#32
  let c0_i32_230 : BitVec 32 := 0#32
  let v420 : BitVec 1 := Scalar.cmpi .sgt c2_i32_227 c0_i32_230
  let v421 : BitVec 32 := Scalar.extui v420
  let c0_i32_231 : BitVec 32 := 0#32
  let v422 : BitVec 1 := Scalar.cmpi .slt c2_i32_227 c0_i32_231
  let v423 : BitVec 32 := Scalar.extui v422
  let v424 : BitVec 32 := Scalar.subi v421 v423
  let v425 : BitVec 1 := Scalar.cmpi .ne v419 v424
  let v426 : BitVec 32 := Scalar.remsi v413 c2_i32_227
  let c0_i32_232 : BitVec 32 := 0#32
  let v427 : BitVec 1 := Scalar.cmpi .ne v426 c0_i32_232
  let v428 : BitVec 1 := Scalar.andi v425 v427
  let v414 : BitVec 32 := Scalar.divsi v413 c2_i32_227
  let c1_i32_233 : BitVec 32 := 1#32
  let v429 : BitVec 32 := Scalar.subi v414 c1_i32_233
  let v430 : BitVec 32 := Scalar.select v428 v429 v414
  let v431 : BitVec 32 := Scalar.maxsi c0_i32_234 v430
  let v432 : BitVec 32 := Scalar.minsi v389 v431
  let v433 : BitVec 32 := Scalar.subi v432 v412
  let c1_i32_235 : BitVec 32 := 1#32
  let v435 : BitVec 32 := Scalar.divsi v433 c1_i32_235
  let v436 : BitVec 32 := Scalar.muli v435 c1_i32_235
  let v437 : BitVec 32 := Scalar.addi v412 v436
  let c1_i32_236 : BitVec 32 := 1#32
  ⟨v412, v437, c1_i32_236⟩

def k0_off26 (v369 : BitVec 32) (v371 : BitVec 32) (k0_t11 : Fin (k0_t11_loop v369 v371).trips) : Fin 2 → Nat :=
  let c1_i32_206 : BitVec 32 := 1#32
  let v372 : BitVec 32 := Scalar.addi v369 c1_i32_206
  let c0_i32_208 : BitVec 32 := 0#32
  let v374 : BitVec 1 := Scalar.cmpi .sgt v372 c0_i32_208
  let v375 : BitVec 32 := Scalar.extui v374
  let c0_i32_209 : BitVec 32 := 0#32
  let v376 : BitVec 1 := Scalar.cmpi .slt v372 c0_i32_209
  let v377 : BitVec 32 := Scalar.extui v376
  let v378 : BitVec 32 := Scalar.subi v375 v377
  let c2_i32_207 : BitVec 32 := 2#32
  let c0_i32_210 : BitVec 32 := 0#32
  let v379 : BitVec 1 := Scalar.cmpi .sgt c2_i32_207 c0_i32_210
  let v380 : BitVec 32 := Scalar.extui v379
  let c0_i32_211 : BitVec 32 := 0#32
  let v381 : BitVec 1 := Scalar.cmpi .slt c2_i32_207 c0_i32_211
  let v382 : BitVec 32 := Scalar.extui v381
  let v383 : BitVec 32 := Scalar.subi v380 v382
  let v384 : BitVec 1 := Scalar.cmpi .ne v378 v383
  let v385 : BitVec 32 := Scalar.remsi v372 c2_i32_207
  let c0_i32_212 : BitVec 32 := 0#32
  let v386 : BitVec 1 := Scalar.cmpi .ne v385 c0_i32_212
  let v387 : BitVec 1 := Scalar.andi v384 v386
  let v373 : BitVec 32 := Scalar.divsi v372 c2_i32_207
  let c1_i32_213 : BitVec 32 := 1#32
  let v388 : BitVec 32 := Scalar.subi v373 c1_i32_213
  let v389 : BitVec 32 := Scalar.select v387 v388 v373
  let c0_i32_225 : BitVec 32 := 0#32
  let c0_i32_217 : BitVec 32 := 0#32
  let v393 : BitVec 32 := Scalar.subi c0_i32_217 v371
  let c0_i32_219 : BitVec 32 := 0#32
  let v395 : BitVec 1 := Scalar.cmpi .sgt v393 c0_i32_219
  let v396 : BitVec 32 := Scalar.extui v395
  let c0_i32_220 : BitVec 32 := 0#32
  let v397 : BitVec 1 := Scalar.cmpi .slt v393 c0_i32_220
  let v398 : BitVec 32 := Scalar.extui v397
  let v399 : BitVec 32 := Scalar.subi v396 v398
  let c2_i32_218 : BitVec 32 := 2#32
  let c0_i32_221 : BitVec 32 := 0#32
  let v400 : BitVec 1 := Scalar.cmpi .sgt c2_i32_218 c0_i32_221
  let v401 : BitVec 32 := Scalar.extui v400
  let c0_i32_222 : BitVec 32 := 0#32
  let v402 : BitVec 1 := Scalar.cmpi .slt c2_i32_218 c0_i32_222
  let v403 : BitVec 32 := Scalar.extui v402
  let v404 : BitVec 32 := Scalar.subi v401 v403
  let v405 : BitVec 1 := Scalar.cmpi .ne v399 v404
  let v406 : BitVec 32 := Scalar.remsi v393 c2_i32_218
  let c0_i32_223 : BitVec 32 := 0#32
  let v407 : BitVec 1 := Scalar.cmpi .ne v406 c0_i32_223
  let v408 : BitVec 1 := Scalar.andi v405 v407
  let v394 : BitVec 32 := Scalar.divsi v393 c2_i32_218
  let c1_i32_224 : BitVec 32 := 1#32
  let v409 : BitVec 32 := Scalar.subi v394 c1_i32_224
  let v410 : BitVec 32 := Scalar.select v408 v409 v394
  let v411 : BitVec 32 := Scalar.maxsi c0_i32_225 v410
  let v412 : BitVec 32 := Scalar.minsi v389 v411
  let c1_i32_236 : BitVec 32 := 1#32
  let arg23 : BitVec 32 := Scf.iv v412 c1_i32_236 k0_t11
  let c2_i32_613 : BitVec 32 := 2#32
  let v1306 : BitVec 32 := Scalar.muli arg23 c2_i32_613
  let v1307 : BitVec 32 := Scalar.addi v371 v1306
  let c0_i32_614 : BitVec 32 := 0#32
  let v1308 : BitVec 32 := Scalar.subi v1307 c0_i32_614
  let c0_i32_615 : BitVec 32 := 0#32
  ![v1308.toNat, 0]
def k0_off27 (v369 : BitVec 32) (v371 : BitVec 32) (k0_t11 : Fin (k0_t11_loop v369 v371).trips) : Fin 2 → Nat :=
  let c1_i32_612 : BitVec 32 := 1#32
  let v1304 : BitVec 32 := Scalar.shrsi v371 c1_i32_612
  let c1_i32_206 : BitVec 32 := 1#32
  let v372 : BitVec 32 := Scalar.addi v369 c1_i32_206
  let c0_i32_208 : BitVec 32 := 0#32
  let v374 : BitVec 1 := Scalar.cmpi .sgt v372 c0_i32_208
  let v375 : BitVec 32 := Scalar.extui v374
  let c0_i32_209 : BitVec 32 := 0#32
  let v376 : BitVec 1 := Scalar.cmpi .slt v372 c0_i32_209
  let v377 : BitVec 32 := Scalar.extui v376
  let v378 : BitVec 32 := Scalar.subi v375 v377
  let c2_i32_207 : BitVec 32 := 2#32
  let c0_i32_210 : BitVec 32 := 0#32
  let v379 : BitVec 1 := Scalar.cmpi .sgt c2_i32_207 c0_i32_210
  let v380 : BitVec 32 := Scalar.extui v379
  let c0_i32_211 : BitVec 32 := 0#32
  let v381 : BitVec 1 := Scalar.cmpi .slt c2_i32_207 c0_i32_211
  let v382 : BitVec 32 := Scalar.extui v381
  let v383 : BitVec 32 := Scalar.subi v380 v382
  let v384 : BitVec 1 := Scalar.cmpi .ne v378 v383
  let v385 : BitVec 32 := Scalar.remsi v372 c2_i32_207
  let c0_i32_212 : BitVec 32 := 0#32
  let v386 : BitVec 1 := Scalar.cmpi .ne v385 c0_i32_212
  let v387 : BitVec 1 := Scalar.andi v384 v386
  let v373 : BitVec 32 := Scalar.divsi v372 c2_i32_207
  let c1_i32_213 : BitVec 32 := 1#32
  let v388 : BitVec 32 := Scalar.subi v373 c1_i32_213
  let v389 : BitVec 32 := Scalar.select v387 v388 v373
  let c0_i32_225 : BitVec 32 := 0#32
  let c0_i32_217 : BitVec 32 := 0#32
  let v393 : BitVec 32 := Scalar.subi c0_i32_217 v371
  let c0_i32_219 : BitVec 32 := 0#32
  let v395 : BitVec 1 := Scalar.cmpi .sgt v393 c0_i32_219
  let v396 : BitVec 32 := Scalar.extui v395
  let c0_i32_220 : BitVec 32 := 0#32
  let v397 : BitVec 1 := Scalar.cmpi .slt v393 c0_i32_220
  let v398 : BitVec 32 := Scalar.extui v397
  let v399 : BitVec 32 := Scalar.subi v396 v398
  let c2_i32_218 : BitVec 32 := 2#32
  let c0_i32_221 : BitVec 32 := 0#32
  let v400 : BitVec 1 := Scalar.cmpi .sgt c2_i32_218 c0_i32_221
  let v401 : BitVec 32 := Scalar.extui v400
  let c0_i32_222 : BitVec 32 := 0#32
  let v402 : BitVec 1 := Scalar.cmpi .slt c2_i32_218 c0_i32_222
  let v403 : BitVec 32 := Scalar.extui v402
  let v404 : BitVec 32 := Scalar.subi v401 v403
  let v405 : BitVec 1 := Scalar.cmpi .ne v399 v404
  let v406 : BitVec 32 := Scalar.remsi v393 c2_i32_218
  let c0_i32_223 : BitVec 32 := 0#32
  let v407 : BitVec 1 := Scalar.cmpi .ne v406 c0_i32_223
  let v408 : BitVec 1 := Scalar.andi v405 v407
  let v394 : BitVec 32 := Scalar.divsi v393 c2_i32_218
  let c1_i32_224 : BitVec 32 := 1#32
  let v409 : BitVec 32 := Scalar.subi v394 c1_i32_224
  let v410 : BitVec 32 := Scalar.select v408 v409 v394
  let v411 : BitVec 32 := Scalar.maxsi c0_i32_225 v410
  let v412 : BitVec 32 := Scalar.minsi v389 v411
  let c1_i32_236 : BitVec 32 := 1#32
  let arg23 : BitVec 32 := Scf.iv v412 c1_i32_236 k0_t11
  let v1305 : BitVec 32 := Scalar.addi v1304 arg23
  let c0_i32_616 : BitVec 32 := 0#32
  ![v1305.toNat, 0]
def k0_off28 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_214 : BitVec 32 := 16#32
  let v390 : BitVec 32 := Scalar.muli arg21 c16_i32_214
  let c3_i32_215 : BitVec 32 := 3#32
  let v391 : BitVec 32 := Scalar.addi v390 c3_i32_215
  let c128_i32_216 : BitVec 32 := 128#32
  let v392 : BitVec 32 := Scalar.muli v391 c128_i32_216
  ![0, v392.toNat]
@[reducible] def k0_t12_loop (v369 : BitVec 32) (v371 : BitVec 32) : Scf.Loop 32 :=
  let c1_i32_206 : BitVec 32 := 1#32
  let v372 : BitVec 32 := Scalar.addi v369 c1_i32_206
  let c0_i32_208 : BitVec 32 := 0#32
  let v374 : BitVec 1 := Scalar.cmpi .sgt v372 c0_i32_208
  let v375 : BitVec 32 := Scalar.extui v374
  let c0_i32_209 : BitVec 32 := 0#32
  let v376 : BitVec 1 := Scalar.cmpi .slt v372 c0_i32_209
  let v377 : BitVec 32 := Scalar.extui v376
  let v378 : BitVec 32 := Scalar.subi v375 v377
  let c2_i32_207 : BitVec 32 := 2#32
  let c0_i32_210 : BitVec 32 := 0#32
  let v379 : BitVec 1 := Scalar.cmpi .sgt c2_i32_207 c0_i32_210
  let v380 : BitVec 32 := Scalar.extui v379
  let c0_i32_211 : BitVec 32 := 0#32
  let v381 : BitVec 1 := Scalar.cmpi .slt c2_i32_207 c0_i32_211
  let v382 : BitVec 32 := Scalar.extui v381
  let v383 : BitVec 32 := Scalar.subi v380 v382
  let v384 : BitVec 1 := Scalar.cmpi .ne v378 v383
  let v385 : BitVec 32 := Scalar.remsi v372 c2_i32_207
  let c0_i32_212 : BitVec 32 := 0#32
  let v386 : BitVec 1 := Scalar.cmpi .ne v385 c0_i32_212
  let v387 : BitVec 1 := Scalar.andi v384 v386
  let v373 : BitVec 32 := Scalar.divsi v372 c2_i32_207
  let c1_i32_213 : BitVec 32 := 1#32
  let v388 : BitVec 32 := Scalar.subi v373 c1_i32_213
  let v389 : BitVec 32 := Scalar.select v387 v388 v373
  let c0_i32_225 : BitVec 32 := 0#32
  let c0_i32_217 : BitVec 32 := 0#32
  let v393 : BitVec 32 := Scalar.subi c0_i32_217 v371
  let c0_i32_219 : BitVec 32 := 0#32
  let v395 : BitVec 1 := Scalar.cmpi .sgt v393 c0_i32_219
  let v396 : BitVec 32 := Scalar.extui v395
  let c0_i32_220 : BitVec 32 := 0#32
  let v397 : BitVec 1 := Scalar.cmpi .slt v393 c0_i32_220
  let v398 : BitVec 32 := Scalar.extui v397
  let v399 : BitVec 32 := Scalar.subi v396 v398
  let c2_i32_218 : BitVec 32 := 2#32
  let c0_i32_221 : BitVec 32 := 0#32
  let v400 : BitVec 1 := Scalar.cmpi .sgt c2_i32_218 c0_i32_221
  let v401 : BitVec 32 := Scalar.extui v400
  let c0_i32_222 : BitVec 32 := 0#32
  let v402 : BitVec 1 := Scalar.cmpi .slt c2_i32_218 c0_i32_222
  let v403 : BitVec 32 := Scalar.extui v402
  let v404 : BitVec 32 := Scalar.subi v401 v403
  let v405 : BitVec 1 := Scalar.cmpi .ne v399 v404
  let v406 : BitVec 32 := Scalar.remsi v393 c2_i32_218
  let c0_i32_223 : BitVec 32 := 0#32
  let v407 : BitVec 1 := Scalar.cmpi .ne v406 c0_i32_223
  let v408 : BitVec 1 := Scalar.andi v405 v407
  let v394 : BitVec 32 := Scalar.divsi v393 c2_i32_218
  let c1_i32_224 : BitVec 32 := 1#32
  let v409 : BitVec 32 := Scalar.subi v394 c1_i32_224
  let v410 : BitVec 32 := Scalar.select v408 v409 v394
  let v411 : BitVec 32 := Scalar.maxsi c0_i32_225 v410
  let v412 : BitVec 32 := Scalar.minsi v389 v411
  let c0_i32_234 : BitVec 32 := 0#32
  let c384_i32_226 : BitVec 32 := 384#32
  let v413 : BitVec 32 := Scalar.subi c384_i32_226 v371
  let c0_i32_228 : BitVec 32 := 0#32
  let v415 : BitVec 1 := Scalar.cmpi .sgt v413 c0_i32_228
  let v416 : BitVec 32 := Scalar.extui v415
  let c0_i32_229 : BitVec 32 := 0#32
  let v417 : BitVec 1 := Scalar.cmpi .slt v413 c0_i32_229
  let v418 : BitVec 32 := Scalar.extui v417
  let v419 : BitVec 32 := Scalar.subi v416 v418
  let c2_i32_227 : BitVec 32 := 2#32
  let c0_i32_230 : BitVec 32 := 0#32
  let v420 : BitVec 1 := Scalar.cmpi .sgt c2_i32_227 c0_i32_230
  let v421 : BitVec 32 := Scalar.extui v420
  let c0_i32_231 : BitVec 32 := 0#32
  let v422 : BitVec 1 := Scalar.cmpi .slt c2_i32_227 c0_i32_231
  let v423 : BitVec 32 := Scalar.extui v422
  let v424 : BitVec 32 := Scalar.subi v421 v423
  let v425 : BitVec 1 := Scalar.cmpi .ne v419 v424
  let v426 : BitVec 32 := Scalar.remsi v413 c2_i32_227
  let c0_i32_232 : BitVec 32 := 0#32
  let v427 : BitVec 1 := Scalar.cmpi .ne v426 c0_i32_232
  let v428 : BitVec 1 := Scalar.andi v425 v427
  let v414 : BitVec 32 := Scalar.divsi v413 c2_i32_227
  let c1_i32_233 : BitVec 32 := 1#32
  let v429 : BitVec 32 := Scalar.subi v414 c1_i32_233
  let v430 : BitVec 32 := Scalar.select v428 v429 v414
  let v431 : BitVec 32 := Scalar.maxsi c0_i32_234 v430
  let v432 : BitVec 32 := Scalar.minsi v389 v431
  let v433 : BitVec 32 := Scalar.subi v432 v412
  let c1_i32_235 : BitVec 32 := 1#32
  let v435 : BitVec 32 := Scalar.divsi v433 c1_i32_235
  let v436 : BitVec 32 := Scalar.muli v435 c1_i32_235
  let v437 : BitVec 32 := Scalar.addi v412 v436
  let v434 : BitVec 32 := Scalar.addi v412 v433
  let c1_i32_237 : BitVec 32 := 1#32
  ⟨v437, v434, c1_i32_237⟩
def k0_off29 (v369 : BitVec 32) (v371 : BitVec 32) (k0_t12 : Fin (k0_t12_loop v369 v371).trips) : Fin 2 → Nat :=
  let c1_i32_206 : BitVec 32 := 1#32
  let v372 : BitVec 32 := Scalar.addi v369 c1_i32_206
  let c0_i32_208 : BitVec 32 := 0#32
  let v374 : BitVec 1 := Scalar.cmpi .sgt v372 c0_i32_208
  let v375 : BitVec 32 := Scalar.extui v374
  let c0_i32_209 : BitVec 32 := 0#32
  let v376 : BitVec 1 := Scalar.cmpi .slt v372 c0_i32_209
  let v377 : BitVec 32 := Scalar.extui v376
  let v378 : BitVec 32 := Scalar.subi v375 v377
  let c2_i32_207 : BitVec 32 := 2#32
  let c0_i32_210 : BitVec 32 := 0#32
  let v379 : BitVec 1 := Scalar.cmpi .sgt c2_i32_207 c0_i32_210
  let v380 : BitVec 32 := Scalar.extui v379
  let c0_i32_211 : BitVec 32 := 0#32
  let v381 : BitVec 1 := Scalar.cmpi .slt c2_i32_207 c0_i32_211
  let v382 : BitVec 32 := Scalar.extui v381
  let v383 : BitVec 32 := Scalar.subi v380 v382
  let v384 : BitVec 1 := Scalar.cmpi .ne v378 v383
  let v385 : BitVec 32 := Scalar.remsi v372 c2_i32_207
  let c0_i32_212 : BitVec 32 := 0#32
  let v386 : BitVec 1 := Scalar.cmpi .ne v385 c0_i32_212
  let v387 : BitVec 1 := Scalar.andi v384 v386
  let v373 : BitVec 32 := Scalar.divsi v372 c2_i32_207
  let c1_i32_213 : BitVec 32 := 1#32
  let v388 : BitVec 32 := Scalar.subi v373 c1_i32_213
  let v389 : BitVec 32 := Scalar.select v387 v388 v373
  let c0_i32_225 : BitVec 32 := 0#32
  let c0_i32_217 : BitVec 32 := 0#32
  let v393 : BitVec 32 := Scalar.subi c0_i32_217 v371
  let c0_i32_219 : BitVec 32 := 0#32
  let v395 : BitVec 1 := Scalar.cmpi .sgt v393 c0_i32_219
  let v396 : BitVec 32 := Scalar.extui v395
  let c0_i32_220 : BitVec 32 := 0#32
  let v397 : BitVec 1 := Scalar.cmpi .slt v393 c0_i32_220
  let v398 : BitVec 32 := Scalar.extui v397
  let v399 : BitVec 32 := Scalar.subi v396 v398
  let c2_i32_218 : BitVec 32 := 2#32
  let c0_i32_221 : BitVec 32 := 0#32
  let v400 : BitVec 1 := Scalar.cmpi .sgt c2_i32_218 c0_i32_221
  let v401 : BitVec 32 := Scalar.extui v400
  let c0_i32_222 : BitVec 32 := 0#32
  let v402 : BitVec 1 := Scalar.cmpi .slt c2_i32_218 c0_i32_222
  let v403 : BitVec 32 := Scalar.extui v402
  let v404 : BitVec 32 := Scalar.subi v401 v403
  let v405 : BitVec 1 := Scalar.cmpi .ne v399 v404
  let v406 : BitVec 32 := Scalar.remsi v393 c2_i32_218
  let c0_i32_223 : BitVec 32 := 0#32
  let v407 : BitVec 1 := Scalar.cmpi .ne v406 c0_i32_223
  let v408 : BitVec 1 := Scalar.andi v405 v407
  let v394 : BitVec 32 := Scalar.divsi v393 c2_i32_218
  let c1_i32_224 : BitVec 32 := 1#32
  let v409 : BitVec 32 := Scalar.subi v394 c1_i32_224
  let v410 : BitVec 32 := Scalar.select v408 v409 v394
  let v411 : BitVec 32 := Scalar.maxsi c0_i32_225 v410
  let v412 : BitVec 32 := Scalar.minsi v389 v411
  let c0_i32_234 : BitVec 32 := 0#32
  let c384_i32_226 : BitVec 32 := 384#32
  let v413 : BitVec 32 := Scalar.subi c384_i32_226 v371
  let c0_i32_228 : BitVec 32 := 0#32
  let v415 : BitVec 1 := Scalar.cmpi .sgt v413 c0_i32_228
  let v416 : BitVec 32 := Scalar.extui v415
  let c0_i32_229 : BitVec 32 := 0#32
  let v417 : BitVec 1 := Scalar.cmpi .slt v413 c0_i32_229
  let v418 : BitVec 32 := Scalar.extui v417
  let v419 : BitVec 32 := Scalar.subi v416 v418
  let c2_i32_227 : BitVec 32 := 2#32
  let c0_i32_230 : BitVec 32 := 0#32
  let v420 : BitVec 1 := Scalar.cmpi .sgt c2_i32_227 c0_i32_230
  let v421 : BitVec 32 := Scalar.extui v420
  let c0_i32_231 : BitVec 32 := 0#32
  let v422 : BitVec 1 := Scalar.cmpi .slt c2_i32_227 c0_i32_231
  let v423 : BitVec 32 := Scalar.extui v422
  let v424 : BitVec 32 := Scalar.subi v421 v423
  let v425 : BitVec 1 := Scalar.cmpi .ne v419 v424
  let v426 : BitVec 32 := Scalar.remsi v413 c2_i32_227
  let c0_i32_232 : BitVec 32 := 0#32
  let v427 : BitVec 1 := Scalar.cmpi .ne v426 c0_i32_232
  let v428 : BitVec 1 := Scalar.andi v425 v427
  let v414 : BitVec 32 := Scalar.divsi v413 c2_i32_227
  let c1_i32_233 : BitVec 32 := 1#32
  let v429 : BitVec 32 := Scalar.subi v414 c1_i32_233
  let v430 : BitVec 32 := Scalar.select v428 v429 v414
  let v431 : BitVec 32 := Scalar.maxsi c0_i32_234 v430
  let v432 : BitVec 32 := Scalar.minsi v389 v431
  let v433 : BitVec 32 := Scalar.subi v432 v412
  let c1_i32_235 : BitVec 32 := 1#32
  let v435 : BitVec 32 := Scalar.divsi v433 c1_i32_235
  let v436 : BitVec 32 := Scalar.muli v435 c1_i32_235
  let v437 : BitVec 32 := Scalar.addi v412 v436
  let c1_i32_237 : BitVec 32 := 1#32
  let arg23 : BitVec 32 := Scf.iv v437 c1_i32_237 k0_t12
  let c2_i32_613 : BitVec 32 := 2#32
  let v1306 : BitVec 32 := Scalar.muli arg23 c2_i32_613
  let v1307 : BitVec 32 := Scalar.addi v371 v1306
  let c0_i32_614 : BitVec 32 := 0#32
  let v1308 : BitVec 32 := Scalar.subi v1307 c0_i32_614
  let c0_i32_615 : BitVec 32 := 0#32
  ![v1308.toNat, 0]
def k0_off30 (v369 : BitVec 32) (v371 : BitVec 32) (k0_t12 : Fin (k0_t12_loop v369 v371).trips) : Fin 2 → Nat :=
  let c1_i32_612 : BitVec 32 := 1#32
  let v1304 : BitVec 32 := Scalar.shrsi v371 c1_i32_612
  let c1_i32_206 : BitVec 32 := 1#32
  let v372 : BitVec 32 := Scalar.addi v369 c1_i32_206
  let c0_i32_208 : BitVec 32 := 0#32
  let v374 : BitVec 1 := Scalar.cmpi .sgt v372 c0_i32_208
  let v375 : BitVec 32 := Scalar.extui v374
  let c0_i32_209 : BitVec 32 := 0#32
  let v376 : BitVec 1 := Scalar.cmpi .slt v372 c0_i32_209
  let v377 : BitVec 32 := Scalar.extui v376
  let v378 : BitVec 32 := Scalar.subi v375 v377
  let c2_i32_207 : BitVec 32 := 2#32
  let c0_i32_210 : BitVec 32 := 0#32
  let v379 : BitVec 1 := Scalar.cmpi .sgt c2_i32_207 c0_i32_210
  let v380 : BitVec 32 := Scalar.extui v379
  let c0_i32_211 : BitVec 32 := 0#32
  let v381 : BitVec 1 := Scalar.cmpi .slt c2_i32_207 c0_i32_211
  let v382 : BitVec 32 := Scalar.extui v381
  let v383 : BitVec 32 := Scalar.subi v380 v382
  let v384 : BitVec 1 := Scalar.cmpi .ne v378 v383
  let v385 : BitVec 32 := Scalar.remsi v372 c2_i32_207
  let c0_i32_212 : BitVec 32 := 0#32
  let v386 : BitVec 1 := Scalar.cmpi .ne v385 c0_i32_212
  let v387 : BitVec 1 := Scalar.andi v384 v386
  let v373 : BitVec 32 := Scalar.divsi v372 c2_i32_207
  let c1_i32_213 : BitVec 32 := 1#32
  let v388 : BitVec 32 := Scalar.subi v373 c1_i32_213
  let v389 : BitVec 32 := Scalar.select v387 v388 v373
  let c0_i32_225 : BitVec 32 := 0#32
  let c0_i32_217 : BitVec 32 := 0#32
  let v393 : BitVec 32 := Scalar.subi c0_i32_217 v371
  let c0_i32_219 : BitVec 32 := 0#32
  let v395 : BitVec 1 := Scalar.cmpi .sgt v393 c0_i32_219
  let v396 : BitVec 32 := Scalar.extui v395
  let c0_i32_220 : BitVec 32 := 0#32
  let v397 : BitVec 1 := Scalar.cmpi .slt v393 c0_i32_220
  let v398 : BitVec 32 := Scalar.extui v397
  let v399 : BitVec 32 := Scalar.subi v396 v398
  let c2_i32_218 : BitVec 32 := 2#32
  let c0_i32_221 : BitVec 32 := 0#32
  let v400 : BitVec 1 := Scalar.cmpi .sgt c2_i32_218 c0_i32_221
  let v401 : BitVec 32 := Scalar.extui v400
  let c0_i32_222 : BitVec 32 := 0#32
  let v402 : BitVec 1 := Scalar.cmpi .slt c2_i32_218 c0_i32_222
  let v403 : BitVec 32 := Scalar.extui v402
  let v404 : BitVec 32 := Scalar.subi v401 v403
  let v405 : BitVec 1 := Scalar.cmpi .ne v399 v404
  let v406 : BitVec 32 := Scalar.remsi v393 c2_i32_218
  let c0_i32_223 : BitVec 32 := 0#32
  let v407 : BitVec 1 := Scalar.cmpi .ne v406 c0_i32_223
  let v408 : BitVec 1 := Scalar.andi v405 v407
  let v394 : BitVec 32 := Scalar.divsi v393 c2_i32_218
  let c1_i32_224 : BitVec 32 := 1#32
  let v409 : BitVec 32 := Scalar.subi v394 c1_i32_224
  let v410 : BitVec 32 := Scalar.select v408 v409 v394
  let v411 : BitVec 32 := Scalar.maxsi c0_i32_225 v410
  let v412 : BitVec 32 := Scalar.minsi v389 v411
  let c0_i32_234 : BitVec 32 := 0#32
  let c384_i32_226 : BitVec 32 := 384#32
  let v413 : BitVec 32 := Scalar.subi c384_i32_226 v371
  let c0_i32_228 : BitVec 32 := 0#32
  let v415 : BitVec 1 := Scalar.cmpi .sgt v413 c0_i32_228
  let v416 : BitVec 32 := Scalar.extui v415
  let c0_i32_229 : BitVec 32 := 0#32
  let v417 : BitVec 1 := Scalar.cmpi .slt v413 c0_i32_229
  let v418 : BitVec 32 := Scalar.extui v417
  let v419 : BitVec 32 := Scalar.subi v416 v418
  let c2_i32_227 : BitVec 32 := 2#32
  let c0_i32_230 : BitVec 32 := 0#32
  let v420 : BitVec 1 := Scalar.cmpi .sgt c2_i32_227 c0_i32_230
  let v421 : BitVec 32 := Scalar.extui v420
  let c0_i32_231 : BitVec 32 := 0#32
  let v422 : BitVec 1 := Scalar.cmpi .slt c2_i32_227 c0_i32_231
  let v423 : BitVec 32 := Scalar.extui v422
  let v424 : BitVec 32 := Scalar.subi v421 v423
  let v425 : BitVec 1 := Scalar.cmpi .ne v419 v424
  let v426 : BitVec 32 := Scalar.remsi v413 c2_i32_227
  let c0_i32_232 : BitVec 32 := 0#32
  let v427 : BitVec 1 := Scalar.cmpi .ne v426 c0_i32_232
  let v428 : BitVec 1 := Scalar.andi v425 v427
  let v414 : BitVec 32 := Scalar.divsi v413 c2_i32_227
  let c1_i32_233 : BitVec 32 := 1#32
  let v429 : BitVec 32 := Scalar.subi v414 c1_i32_233
  let v430 : BitVec 32 := Scalar.select v428 v429 v414
  let v431 : BitVec 32 := Scalar.maxsi c0_i32_234 v430
  let v432 : BitVec 32 := Scalar.minsi v389 v431
  let v433 : BitVec 32 := Scalar.subi v432 v412
  let c1_i32_235 : BitVec 32 := 1#32
  let v435 : BitVec 32 := Scalar.divsi v433 c1_i32_235
  let v436 : BitVec 32 := Scalar.muli v435 c1_i32_235
  let v437 : BitVec 32 := Scalar.addi v412 v436
  let c1_i32_237 : BitVec 32 := 1#32
  let arg23 : BitVec 32 := Scf.iv v437 c1_i32_237 k0_t12
  let v1305 : BitVec 32 := Scalar.addi v1304 arg23
  let c0_i32_616 : BitVec 32 := 0#32
  ![v1305.toNat, 0]

def k0_chk9 (v369 : BitVec 32) (v371 : BitVec 32) : Prop :=
  ((k0_t11_loop v369 v371).OK) ∧
  (∀ k0_t11 : Fin (k0_t11_loop v369 v371).trips, ∀ a, (k0_off26 v369 v371 k0_t11) a + S2x128.size a ≤ S384x128.size a) ∧
  (∀ k0_t11 : Fin (k0_t11_loop v369 v371).trips, ∀ a, (k0_off27 v369 v371 k0_t11) a + S1x2.size a ≤ S584x2.size a) ∧
  ((k0_t12_loop v369 v371).OK) ∧
  (∀ k0_t12 : Fin (k0_t12_loop v369 v371).trips, ∀ a, (k0_off29 v369 v371 k0_t12) a + S2x128.size a ≤ S384x128.size a) ∧
  (∀ k0_t12 : Fin (k0_t12_loop v369 v371).trips, ∀ a, (k0_off30 v369 v371 k0_t12) a + S1x2.size a ≤ S584x2.size a)
theorem k0_t11_ok : ∀ (v369 : BitVec 32) (v371 : BitVec 32) (k0_hw9 : k0_chk9 v369 v371), (k0_t11_loop v369 v371).OK := fun v369 v371 k0_hw9 => k0_hw9.1
theorem k0_off26_inb : ∀ (v369 : BitVec 32) (v371 : BitVec 32) (k0_hw9 : k0_chk9 v369 v371) (k0_t11 : Fin (k0_t11_loop v369 v371).trips), ∀ a, (k0_off26 v369 v371 k0_t11) a + S2x128.size a ≤ S384x128.size a := fun v369 v371 k0_hw9 k0_t11 => k0_hw9.2.1 k0_t11
theorem k0_off27_inb : ∀ (v369 : BitVec 32) (v371 : BitVec 32) (k0_hw9 : k0_chk9 v369 v371) (k0_t11 : Fin (k0_t11_loop v369 v371).trips), ∀ a, (k0_off27 v369 v371 k0_t11) a + S1x2.size a ≤ S584x2.size a := fun v369 v371 k0_hw9 k0_t11 => k0_hw9.2.2.1 k0_t11
theorem k0_t12_ok : ∀ (v369 : BitVec 32) (v371 : BitVec 32) (k0_hw9 : k0_chk9 v369 v371), (k0_t12_loop v369 v371).OK := fun v369 v371 k0_hw9 => k0_hw9.2.2.2.1
theorem k0_off29_inb : ∀ (v369 : BitVec 32) (v371 : BitVec 32) (k0_hw9 : k0_chk9 v369 v371) (k0_t12 : Fin (k0_t12_loop v369 v371).trips), ∀ a, (k0_off29 v369 v371 k0_t12) a + S2x128.size a ≤ S384x128.size a := fun v369 v371 k0_hw9 k0_t12 => k0_hw9.2.2.2.2.1 k0_t12
theorem k0_off30_inb : ∀ (v369 : BitVec 32) (v371 : BitVec 32) (k0_hw9 : k0_chk9 v369 v371) (k0_t12 : Fin (k0_t12_loop v369 v371).trips), ∀ a, (k0_off30 v369 v371 k0_t12) a + S1x2.size a ≤ S584x2.size a := fun v369 v371 k0_hw9 k0_t12 => k0_hw9.2.2.2.2.2 k0_t12

def k0_off31 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_214 : BitVec 32 := 16#32
  let v390 : BitVec 32 := Scalar.muli arg21 c16_i32_214
  let c3_i32_215 : BitVec 32 := 3#32
  let v391 : BitVec 32 := Scalar.addi v390 c3_i32_215
  let c128_i32_216 : BitVec 32 := 128#32
  let v392 : BitVec 32 := Scalar.muli v391 c128_i32_216
  ![0, v392.toNat]
@[reducible] def k0_t13_loop (v441 : BitVec 32) (v443 : BitVec 32) : Scf.Loop 32 :=
  let c1_i32_238 : BitVec 32 := 1#32
  let v444 : BitVec 32 := Scalar.addi v441 c1_i32_238
  let c0_i32_240 : BitVec 32 := 0#32
  let v446 : BitVec 1 := Scalar.cmpi .sgt v444 c0_i32_240
  let v447 : BitVec 32 := Scalar.extui v446
  let c0_i32_241 : BitVec 32 := 0#32
  let v448 : BitVec 1 := Scalar.cmpi .slt v444 c0_i32_241
  let v449 : BitVec 32 := Scalar.extui v448
  let v450 : BitVec 32 := Scalar.subi v447 v449
  let c2_i32_239 : BitVec 32 := 2#32
  let c0_i32_242 : BitVec 32 := 0#32
  let v451 : BitVec 1 := Scalar.cmpi .sgt c2_i32_239 c0_i32_242
  let v452 : BitVec 32 := Scalar.extui v451
  let c0_i32_243 : BitVec 32 := 0#32
  let v453 : BitVec 1 := Scalar.cmpi .slt c2_i32_239 c0_i32_243
  let v454 : BitVec 32 := Scalar.extui v453
  let v455 : BitVec 32 := Scalar.subi v452 v454
  let v456 : BitVec 1 := Scalar.cmpi .ne v450 v455
  let v457 : BitVec 32 := Scalar.remsi v444 c2_i32_239
  let c0_i32_244 : BitVec 32 := 0#32
  let v458 : BitVec 1 := Scalar.cmpi .ne v457 c0_i32_244
  let v459 : BitVec 1 := Scalar.andi v456 v458
  let v445 : BitVec 32 := Scalar.divsi v444 c2_i32_239
  let c1_i32_245 : BitVec 32 := 1#32
  let v460 : BitVec 32 := Scalar.subi v445 c1_i32_245
  let v461 : BitVec 32 := Scalar.select v459 v460 v445
  let c0_i32_257 : BitVec 32 := 0#32
  let c0_i32_249 : BitVec 32 := 0#32
  let v465 : BitVec 32 := Scalar.subi c0_i32_249 v443
  let c0_i32_251 : BitVec 32 := 0#32
  let v467 : BitVec 1 := Scalar.cmpi .sgt v465 c0_i32_251
  let v468 : BitVec 32 := Scalar.extui v467
  let c0_i32_252 : BitVec 32 := 0#32
  let v469 : BitVec 1 := Scalar.cmpi .slt v465 c0_i32_252
  let v470 : BitVec 32 := Scalar.extui v469
  let v471 : BitVec 32 := Scalar.subi v468 v470
  let c2_i32_250 : BitVec 32 := 2#32
  let c0_i32_253 : BitVec 32 := 0#32
  let v472 : BitVec 1 := Scalar.cmpi .sgt c2_i32_250 c0_i32_253
  let v473 : BitVec 32 := Scalar.extui v472
  let c0_i32_254 : BitVec 32 := 0#32
  let v474 : BitVec 1 := Scalar.cmpi .slt c2_i32_250 c0_i32_254
  let v475 : BitVec 32 := Scalar.extui v474
  let v476 : BitVec 32 := Scalar.subi v473 v475
  let v477 : BitVec 1 := Scalar.cmpi .ne v471 v476
  let v478 : BitVec 32 := Scalar.remsi v465 c2_i32_250
  let c0_i32_255 : BitVec 32 := 0#32
  let v479 : BitVec 1 := Scalar.cmpi .ne v478 c0_i32_255
  let v480 : BitVec 1 := Scalar.andi v477 v479
  let v466 : BitVec 32 := Scalar.divsi v465 c2_i32_250
  let c1_i32_256 : BitVec 32 := 1#32
  let v481 : BitVec 32 := Scalar.subi v466 c1_i32_256
  let v482 : BitVec 32 := Scalar.select v480 v481 v466
  let v483 : BitVec 32 := Scalar.maxsi c0_i32_257 v482
  let v484 : BitVec 32 := Scalar.minsi v461 v483
  let c0_i32_266 : BitVec 32 := 0#32
  let c384_i32_258 : BitVec 32 := 384#32
  let v485 : BitVec 32 := Scalar.subi c384_i32_258 v443
  let c0_i32_260 : BitVec 32 := 0#32
  let v487 : BitVec 1 := Scalar.cmpi .sgt v485 c0_i32_260
  let v488 : BitVec 32 := Scalar.extui v487
  let c0_i32_261 : BitVec 32 := 0#32
  let v489 : BitVec 1 := Scalar.cmpi .slt v485 c0_i32_261
  let v490 : BitVec 32 := Scalar.extui v489
  let v491 : BitVec 32 := Scalar.subi v488 v490
  let c2_i32_259 : BitVec 32 := 2#32
  let c0_i32_262 : BitVec 32 := 0#32
  let v492 : BitVec 1 := Scalar.cmpi .sgt c2_i32_259 c0_i32_262
  let v493 : BitVec 32 := Scalar.extui v492
  let c0_i32_263 : BitVec 32 := 0#32
  let v494 : BitVec 1 := Scalar.cmpi .slt c2_i32_259 c0_i32_263
  let v495 : BitVec 32 := Scalar.extui v494
  let v496 : BitVec 32 := Scalar.subi v493 v495
  let v497 : BitVec 1 := Scalar.cmpi .ne v491 v496
  let v498 : BitVec 32 := Scalar.remsi v485 c2_i32_259
  let c0_i32_264 : BitVec 32 := 0#32
  let v499 : BitVec 1 := Scalar.cmpi .ne v498 c0_i32_264
  let v500 : BitVec 1 := Scalar.andi v497 v499
  let v486 : BitVec 32 := Scalar.divsi v485 c2_i32_259
  let c1_i32_265 : BitVec 32 := 1#32
  let v501 : BitVec 32 := Scalar.subi v486 c1_i32_265
  let v502 : BitVec 32 := Scalar.select v500 v501 v486
  let v503 : BitVec 32 := Scalar.maxsi c0_i32_266 v502
  let v504 : BitVec 32 := Scalar.minsi v461 v503
  let v505 : BitVec 32 := Scalar.subi v504 v484
  let c1_i32_267 : BitVec 32 := 1#32
  let v507 : BitVec 32 := Scalar.divsi v505 c1_i32_267
  let v508 : BitVec 32 := Scalar.muli v507 c1_i32_267
  let v509 : BitVec 32 := Scalar.addi v484 v508
  let c1_i32_268 : BitVec 32 := 1#32
  ⟨v484, v509, c1_i32_268⟩

def k0_off32 (v441 : BitVec 32) (v443 : BitVec 32) (k0_t13 : Fin (k0_t13_loop v441 v443).trips) : Fin 2 → Nat :=
  let c1_i32_238 : BitVec 32 := 1#32
  let v444 : BitVec 32 := Scalar.addi v441 c1_i32_238
  let c0_i32_240 : BitVec 32 := 0#32
  let v446 : BitVec 1 := Scalar.cmpi .sgt v444 c0_i32_240
  let v447 : BitVec 32 := Scalar.extui v446
  let c0_i32_241 : BitVec 32 := 0#32
  let v448 : BitVec 1 := Scalar.cmpi .slt v444 c0_i32_241
  let v449 : BitVec 32 := Scalar.extui v448
  let v450 : BitVec 32 := Scalar.subi v447 v449
  let c2_i32_239 : BitVec 32 := 2#32
  let c0_i32_242 : BitVec 32 := 0#32
  let v451 : BitVec 1 := Scalar.cmpi .sgt c2_i32_239 c0_i32_242
  let v452 : BitVec 32 := Scalar.extui v451
  let c0_i32_243 : BitVec 32 := 0#32
  let v453 : BitVec 1 := Scalar.cmpi .slt c2_i32_239 c0_i32_243
  let v454 : BitVec 32 := Scalar.extui v453
  let v455 : BitVec 32 := Scalar.subi v452 v454
  let v456 : BitVec 1 := Scalar.cmpi .ne v450 v455
  let v457 : BitVec 32 := Scalar.remsi v444 c2_i32_239
  let c0_i32_244 : BitVec 32 := 0#32
  let v458 : BitVec 1 := Scalar.cmpi .ne v457 c0_i32_244
  let v459 : BitVec 1 := Scalar.andi v456 v458
  let v445 : BitVec 32 := Scalar.divsi v444 c2_i32_239
  let c1_i32_245 : BitVec 32 := 1#32
  let v460 : BitVec 32 := Scalar.subi v445 c1_i32_245
  let v461 : BitVec 32 := Scalar.select v459 v460 v445
  let c0_i32_257 : BitVec 32 := 0#32
  let c0_i32_249 : BitVec 32 := 0#32
  let v465 : BitVec 32 := Scalar.subi c0_i32_249 v443
  let c0_i32_251 : BitVec 32 := 0#32
  let v467 : BitVec 1 := Scalar.cmpi .sgt v465 c0_i32_251
  let v468 : BitVec 32 := Scalar.extui v467
  let c0_i32_252 : BitVec 32 := 0#32
  let v469 : BitVec 1 := Scalar.cmpi .slt v465 c0_i32_252
  let v470 : BitVec 32 := Scalar.extui v469
  let v471 : BitVec 32 := Scalar.subi v468 v470
  let c2_i32_250 : BitVec 32 := 2#32
  let c0_i32_253 : BitVec 32 := 0#32
  let v472 : BitVec 1 := Scalar.cmpi .sgt c2_i32_250 c0_i32_253
  let v473 : BitVec 32 := Scalar.extui v472
  let c0_i32_254 : BitVec 32 := 0#32
  let v474 : BitVec 1 := Scalar.cmpi .slt c2_i32_250 c0_i32_254
  let v475 : BitVec 32 := Scalar.extui v474
  let v476 : BitVec 32 := Scalar.subi v473 v475
  let v477 : BitVec 1 := Scalar.cmpi .ne v471 v476
  let v478 : BitVec 32 := Scalar.remsi v465 c2_i32_250
  let c0_i32_255 : BitVec 32 := 0#32
  let v479 : BitVec 1 := Scalar.cmpi .ne v478 c0_i32_255
  let v480 : BitVec 1 := Scalar.andi v477 v479
  let v466 : BitVec 32 := Scalar.divsi v465 c2_i32_250
  let c1_i32_256 : BitVec 32 := 1#32
  let v481 : BitVec 32 := Scalar.subi v466 c1_i32_256
  let v482 : BitVec 32 := Scalar.select v480 v481 v466
  let v483 : BitVec 32 := Scalar.maxsi c0_i32_257 v482
  let v484 : BitVec 32 := Scalar.minsi v461 v483
  let c1_i32_268 : BitVec 32 := 1#32
  let arg23 : BitVec 32 := Scf.iv v484 c1_i32_268 k0_t13
  let c2_i32_613 : BitVec 32 := 2#32
  let v1306 : BitVec 32 := Scalar.muli arg23 c2_i32_613
  let v1307 : BitVec 32 := Scalar.addi v443 v1306
  let c0_i32_614 : BitVec 32 := 0#32
  let v1308 : BitVec 32 := Scalar.subi v1307 c0_i32_614
  let c0_i32_615 : BitVec 32 := 0#32
  ![v1308.toNat, 0]
def k0_off33 (v441 : BitVec 32) (v443 : BitVec 32) (k0_t13 : Fin (k0_t13_loop v441 v443).trips) : Fin 2 → Nat :=
  let c1_i32_612 : BitVec 32 := 1#32
  let v1304 : BitVec 32 := Scalar.shrsi v443 c1_i32_612
  let c1_i32_238 : BitVec 32 := 1#32
  let v444 : BitVec 32 := Scalar.addi v441 c1_i32_238
  let c0_i32_240 : BitVec 32 := 0#32
  let v446 : BitVec 1 := Scalar.cmpi .sgt v444 c0_i32_240
  let v447 : BitVec 32 := Scalar.extui v446
  let c0_i32_241 : BitVec 32 := 0#32
  let v448 : BitVec 1 := Scalar.cmpi .slt v444 c0_i32_241
  let v449 : BitVec 32 := Scalar.extui v448
  let v450 : BitVec 32 := Scalar.subi v447 v449
  let c2_i32_239 : BitVec 32 := 2#32
  let c0_i32_242 : BitVec 32 := 0#32
  let v451 : BitVec 1 := Scalar.cmpi .sgt c2_i32_239 c0_i32_242
  let v452 : BitVec 32 := Scalar.extui v451
  let c0_i32_243 : BitVec 32 := 0#32
  let v453 : BitVec 1 := Scalar.cmpi .slt c2_i32_239 c0_i32_243
  let v454 : BitVec 32 := Scalar.extui v453
  let v455 : BitVec 32 := Scalar.subi v452 v454
  let v456 : BitVec 1 := Scalar.cmpi .ne v450 v455
  let v457 : BitVec 32 := Scalar.remsi v444 c2_i32_239
  let c0_i32_244 : BitVec 32 := 0#32
  let v458 : BitVec 1 := Scalar.cmpi .ne v457 c0_i32_244
  let v459 : BitVec 1 := Scalar.andi v456 v458
  let v445 : BitVec 32 := Scalar.divsi v444 c2_i32_239
  let c1_i32_245 : BitVec 32 := 1#32
  let v460 : BitVec 32 := Scalar.subi v445 c1_i32_245
  let v461 : BitVec 32 := Scalar.select v459 v460 v445
  let c0_i32_257 : BitVec 32 := 0#32
  let c0_i32_249 : BitVec 32 := 0#32
  let v465 : BitVec 32 := Scalar.subi c0_i32_249 v443
  let c0_i32_251 : BitVec 32 := 0#32
  let v467 : BitVec 1 := Scalar.cmpi .sgt v465 c0_i32_251
  let v468 : BitVec 32 := Scalar.extui v467
  let c0_i32_252 : BitVec 32 := 0#32
  let v469 : BitVec 1 := Scalar.cmpi .slt v465 c0_i32_252
  let v470 : BitVec 32 := Scalar.extui v469
  let v471 : BitVec 32 := Scalar.subi v468 v470
  let c2_i32_250 : BitVec 32 := 2#32
  let c0_i32_253 : BitVec 32 := 0#32
  let v472 : BitVec 1 := Scalar.cmpi .sgt c2_i32_250 c0_i32_253
  let v473 : BitVec 32 := Scalar.extui v472
  let c0_i32_254 : BitVec 32 := 0#32
  let v474 : BitVec 1 := Scalar.cmpi .slt c2_i32_250 c0_i32_254
  let v475 : BitVec 32 := Scalar.extui v474
  let v476 : BitVec 32 := Scalar.subi v473 v475
  let v477 : BitVec 1 := Scalar.cmpi .ne v471 v476
  let v478 : BitVec 32 := Scalar.remsi v465 c2_i32_250
  let c0_i32_255 : BitVec 32 := 0#32
  let v479 : BitVec 1 := Scalar.cmpi .ne v478 c0_i32_255
  let v480 : BitVec 1 := Scalar.andi v477 v479
  let v466 : BitVec 32 := Scalar.divsi v465 c2_i32_250
  let c1_i32_256 : BitVec 32 := 1#32
  let v481 : BitVec 32 := Scalar.subi v466 c1_i32_256
  let v482 : BitVec 32 := Scalar.select v480 v481 v466
  let v483 : BitVec 32 := Scalar.maxsi c0_i32_257 v482
  let v484 : BitVec 32 := Scalar.minsi v461 v483
  let c1_i32_268 : BitVec 32 := 1#32
  let arg23 : BitVec 32 := Scf.iv v484 c1_i32_268 k0_t13
  let v1305 : BitVec 32 := Scalar.addi v1304 arg23
  let c0_i32_616 : BitVec 32 := 0#32
  ![v1305.toNat, 0]
def k0_off34 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_246 : BitVec 32 := 16#32
  let v462 : BitVec 32 := Scalar.muli arg21 c16_i32_246
  let c4_i32_247 : BitVec 32 := 4#32
  let v463 : BitVec 32 := Scalar.addi v462 c4_i32_247
  let c128_i32_248 : BitVec 32 := 128#32
  let v464 : BitVec 32 := Scalar.muli v463 c128_i32_248
  ![0, v464.toNat]
@[reducible] def k0_t14_loop (v441 : BitVec 32) (v443 : BitVec 32) : Scf.Loop 32 :=
  let c1_i32_238 : BitVec 32 := 1#32
  let v444 : BitVec 32 := Scalar.addi v441 c1_i32_238
  let c0_i32_240 : BitVec 32 := 0#32
  let v446 : BitVec 1 := Scalar.cmpi .sgt v444 c0_i32_240
  let v447 : BitVec 32 := Scalar.extui v446
  let c0_i32_241 : BitVec 32 := 0#32
  let v448 : BitVec 1 := Scalar.cmpi .slt v444 c0_i32_241
  let v449 : BitVec 32 := Scalar.extui v448
  let v450 : BitVec 32 := Scalar.subi v447 v449
  let c2_i32_239 : BitVec 32 := 2#32
  let c0_i32_242 : BitVec 32 := 0#32
  let v451 : BitVec 1 := Scalar.cmpi .sgt c2_i32_239 c0_i32_242
  let v452 : BitVec 32 := Scalar.extui v451
  let c0_i32_243 : BitVec 32 := 0#32
  let v453 : BitVec 1 := Scalar.cmpi .slt c2_i32_239 c0_i32_243
  let v454 : BitVec 32 := Scalar.extui v453
  let v455 : BitVec 32 := Scalar.subi v452 v454
  let v456 : BitVec 1 := Scalar.cmpi .ne v450 v455
  let v457 : BitVec 32 := Scalar.remsi v444 c2_i32_239
  let c0_i32_244 : BitVec 32 := 0#32
  let v458 : BitVec 1 := Scalar.cmpi .ne v457 c0_i32_244
  let v459 : BitVec 1 := Scalar.andi v456 v458
  let v445 : BitVec 32 := Scalar.divsi v444 c2_i32_239
  let c1_i32_245 : BitVec 32 := 1#32
  let v460 : BitVec 32 := Scalar.subi v445 c1_i32_245
  let v461 : BitVec 32 := Scalar.select v459 v460 v445
  let c0_i32_257 : BitVec 32 := 0#32
  let c0_i32_249 : BitVec 32 := 0#32
  let v465 : BitVec 32 := Scalar.subi c0_i32_249 v443
  let c0_i32_251 : BitVec 32 := 0#32
  let v467 : BitVec 1 := Scalar.cmpi .sgt v465 c0_i32_251
  let v468 : BitVec 32 := Scalar.extui v467
  let c0_i32_252 : BitVec 32 := 0#32
  let v469 : BitVec 1 := Scalar.cmpi .slt v465 c0_i32_252
  let v470 : BitVec 32 := Scalar.extui v469
  let v471 : BitVec 32 := Scalar.subi v468 v470
  let c2_i32_250 : BitVec 32 := 2#32
  let c0_i32_253 : BitVec 32 := 0#32
  let v472 : BitVec 1 := Scalar.cmpi .sgt c2_i32_250 c0_i32_253
  let v473 : BitVec 32 := Scalar.extui v472
  let c0_i32_254 : BitVec 32 := 0#32
  let v474 : BitVec 1 := Scalar.cmpi .slt c2_i32_250 c0_i32_254
  let v475 : BitVec 32 := Scalar.extui v474
  let v476 : BitVec 32 := Scalar.subi v473 v475
  let v477 : BitVec 1 := Scalar.cmpi .ne v471 v476
  let v478 : BitVec 32 := Scalar.remsi v465 c2_i32_250
  let c0_i32_255 : BitVec 32 := 0#32
  let v479 : BitVec 1 := Scalar.cmpi .ne v478 c0_i32_255
  let v480 : BitVec 1 := Scalar.andi v477 v479
  let v466 : BitVec 32 := Scalar.divsi v465 c2_i32_250
  let c1_i32_256 : BitVec 32 := 1#32
  let v481 : BitVec 32 := Scalar.subi v466 c1_i32_256
  let v482 : BitVec 32 := Scalar.select v480 v481 v466
  let v483 : BitVec 32 := Scalar.maxsi c0_i32_257 v482
  let v484 : BitVec 32 := Scalar.minsi v461 v483
  let c0_i32_266 : BitVec 32 := 0#32
  let c384_i32_258 : BitVec 32 := 384#32
  let v485 : BitVec 32 := Scalar.subi c384_i32_258 v443
  let c0_i32_260 : BitVec 32 := 0#32
  let v487 : BitVec 1 := Scalar.cmpi .sgt v485 c0_i32_260
  let v488 : BitVec 32 := Scalar.extui v487
  let c0_i32_261 : BitVec 32 := 0#32
  let v489 : BitVec 1 := Scalar.cmpi .slt v485 c0_i32_261
  let v490 : BitVec 32 := Scalar.extui v489
  let v491 : BitVec 32 := Scalar.subi v488 v490
  let c2_i32_259 : BitVec 32 := 2#32
  let c0_i32_262 : BitVec 32 := 0#32
  let v492 : BitVec 1 := Scalar.cmpi .sgt c2_i32_259 c0_i32_262
  let v493 : BitVec 32 := Scalar.extui v492
  let c0_i32_263 : BitVec 32 := 0#32
  let v494 : BitVec 1 := Scalar.cmpi .slt c2_i32_259 c0_i32_263
  let v495 : BitVec 32 := Scalar.extui v494
  let v496 : BitVec 32 := Scalar.subi v493 v495
  let v497 : BitVec 1 := Scalar.cmpi .ne v491 v496
  let v498 : BitVec 32 := Scalar.remsi v485 c2_i32_259
  let c0_i32_264 : BitVec 32 := 0#32
  let v499 : BitVec 1 := Scalar.cmpi .ne v498 c0_i32_264
  let v500 : BitVec 1 := Scalar.andi v497 v499
  let v486 : BitVec 32 := Scalar.divsi v485 c2_i32_259
  let c1_i32_265 : BitVec 32 := 1#32
  let v501 : BitVec 32 := Scalar.subi v486 c1_i32_265
  let v502 : BitVec 32 := Scalar.select v500 v501 v486
  let v503 : BitVec 32 := Scalar.maxsi c0_i32_266 v502
  let v504 : BitVec 32 := Scalar.minsi v461 v503
  let v505 : BitVec 32 := Scalar.subi v504 v484
  let c1_i32_267 : BitVec 32 := 1#32
  let v507 : BitVec 32 := Scalar.divsi v505 c1_i32_267
  let v508 : BitVec 32 := Scalar.muli v507 c1_i32_267
  let v509 : BitVec 32 := Scalar.addi v484 v508
  let v506 : BitVec 32 := Scalar.addi v484 v505
  let c1_i32_269 : BitVec 32 := 1#32
  ⟨v509, v506, c1_i32_269⟩
def k0_off35 (v441 : BitVec 32) (v443 : BitVec 32) (k0_t14 : Fin (k0_t14_loop v441 v443).trips) : Fin 2 → Nat :=
  let c1_i32_238 : BitVec 32 := 1#32
  let v444 : BitVec 32 := Scalar.addi v441 c1_i32_238
  let c0_i32_240 : BitVec 32 := 0#32
  let v446 : BitVec 1 := Scalar.cmpi .sgt v444 c0_i32_240
  let v447 : BitVec 32 := Scalar.extui v446
  let c0_i32_241 : BitVec 32 := 0#32
  let v448 : BitVec 1 := Scalar.cmpi .slt v444 c0_i32_241
  let v449 : BitVec 32 := Scalar.extui v448
  let v450 : BitVec 32 := Scalar.subi v447 v449
  let c2_i32_239 : BitVec 32 := 2#32
  let c0_i32_242 : BitVec 32 := 0#32
  let v451 : BitVec 1 := Scalar.cmpi .sgt c2_i32_239 c0_i32_242
  let v452 : BitVec 32 := Scalar.extui v451
  let c0_i32_243 : BitVec 32 := 0#32
  let v453 : BitVec 1 := Scalar.cmpi .slt c2_i32_239 c0_i32_243
  let v454 : BitVec 32 := Scalar.extui v453
  let v455 : BitVec 32 := Scalar.subi v452 v454
  let v456 : BitVec 1 := Scalar.cmpi .ne v450 v455
  let v457 : BitVec 32 := Scalar.remsi v444 c2_i32_239
  let c0_i32_244 : BitVec 32 := 0#32
  let v458 : BitVec 1 := Scalar.cmpi .ne v457 c0_i32_244
  let v459 : BitVec 1 := Scalar.andi v456 v458
  let v445 : BitVec 32 := Scalar.divsi v444 c2_i32_239
  let c1_i32_245 : BitVec 32 := 1#32
  let v460 : BitVec 32 := Scalar.subi v445 c1_i32_245
  let v461 : BitVec 32 := Scalar.select v459 v460 v445
  let c0_i32_257 : BitVec 32 := 0#32
  let c0_i32_249 : BitVec 32 := 0#32
  let v465 : BitVec 32 := Scalar.subi c0_i32_249 v443
  let c0_i32_251 : BitVec 32 := 0#32
  let v467 : BitVec 1 := Scalar.cmpi .sgt v465 c0_i32_251
  let v468 : BitVec 32 := Scalar.extui v467
  let c0_i32_252 : BitVec 32 := 0#32
  let v469 : BitVec 1 := Scalar.cmpi .slt v465 c0_i32_252
  let v470 : BitVec 32 := Scalar.extui v469
  let v471 : BitVec 32 := Scalar.subi v468 v470
  let c2_i32_250 : BitVec 32 := 2#32
  let c0_i32_253 : BitVec 32 := 0#32
  let v472 : BitVec 1 := Scalar.cmpi .sgt c2_i32_250 c0_i32_253
  let v473 : BitVec 32 := Scalar.extui v472
  let c0_i32_254 : BitVec 32 := 0#32
  let v474 : BitVec 1 := Scalar.cmpi .slt c2_i32_250 c0_i32_254
  let v475 : BitVec 32 := Scalar.extui v474
  let v476 : BitVec 32 := Scalar.subi v473 v475
  let v477 : BitVec 1 := Scalar.cmpi .ne v471 v476
  let v478 : BitVec 32 := Scalar.remsi v465 c2_i32_250
  let c0_i32_255 : BitVec 32 := 0#32
  let v479 : BitVec 1 := Scalar.cmpi .ne v478 c0_i32_255
  let v480 : BitVec 1 := Scalar.andi v477 v479
  let v466 : BitVec 32 := Scalar.divsi v465 c2_i32_250
  let c1_i32_256 : BitVec 32 := 1#32
  let v481 : BitVec 32 := Scalar.subi v466 c1_i32_256
  let v482 : BitVec 32 := Scalar.select v480 v481 v466
  let v483 : BitVec 32 := Scalar.maxsi c0_i32_257 v482
  let v484 : BitVec 32 := Scalar.minsi v461 v483
  let c0_i32_266 : BitVec 32 := 0#32
  let c384_i32_258 : BitVec 32 := 384#32
  let v485 : BitVec 32 := Scalar.subi c384_i32_258 v443
  let c0_i32_260 : BitVec 32 := 0#32
  let v487 : BitVec 1 := Scalar.cmpi .sgt v485 c0_i32_260
  let v488 : BitVec 32 := Scalar.extui v487
  let c0_i32_261 : BitVec 32 := 0#32
  let v489 : BitVec 1 := Scalar.cmpi .slt v485 c0_i32_261
  let v490 : BitVec 32 := Scalar.extui v489
  let v491 : BitVec 32 := Scalar.subi v488 v490
  let c2_i32_259 : BitVec 32 := 2#32
  let c0_i32_262 : BitVec 32 := 0#32
  let v492 : BitVec 1 := Scalar.cmpi .sgt c2_i32_259 c0_i32_262
  let v493 : BitVec 32 := Scalar.extui v492
  let c0_i32_263 : BitVec 32 := 0#32
  let v494 : BitVec 1 := Scalar.cmpi .slt c2_i32_259 c0_i32_263
  let v495 : BitVec 32 := Scalar.extui v494
  let v496 : BitVec 32 := Scalar.subi v493 v495
  let v497 : BitVec 1 := Scalar.cmpi .ne v491 v496
  let v498 : BitVec 32 := Scalar.remsi v485 c2_i32_259
  let c0_i32_264 : BitVec 32 := 0#32
  let v499 : BitVec 1 := Scalar.cmpi .ne v498 c0_i32_264
  let v500 : BitVec 1 := Scalar.andi v497 v499
  let v486 : BitVec 32 := Scalar.divsi v485 c2_i32_259
  let c1_i32_265 : BitVec 32 := 1#32
  let v501 : BitVec 32 := Scalar.subi v486 c1_i32_265
  let v502 : BitVec 32 := Scalar.select v500 v501 v486
  let v503 : BitVec 32 := Scalar.maxsi c0_i32_266 v502
  let v504 : BitVec 32 := Scalar.minsi v461 v503
  let v505 : BitVec 32 := Scalar.subi v504 v484
  let c1_i32_267 : BitVec 32 := 1#32
  let v507 : BitVec 32 := Scalar.divsi v505 c1_i32_267
  let v508 : BitVec 32 := Scalar.muli v507 c1_i32_267
  let v509 : BitVec 32 := Scalar.addi v484 v508
  let c1_i32_269 : BitVec 32 := 1#32
  let arg23 : BitVec 32 := Scf.iv v509 c1_i32_269 k0_t14
  let c2_i32_613 : BitVec 32 := 2#32
  let v1306 : BitVec 32 := Scalar.muli arg23 c2_i32_613
  let v1307 : BitVec 32 := Scalar.addi v443 v1306
  let c0_i32_614 : BitVec 32 := 0#32
  let v1308 : BitVec 32 := Scalar.subi v1307 c0_i32_614
  let c0_i32_615 : BitVec 32 := 0#32
  ![v1308.toNat, 0]
def k0_off36 (v441 : BitVec 32) (v443 : BitVec 32) (k0_t14 : Fin (k0_t14_loop v441 v443).trips) : Fin 2 → Nat :=
  let c1_i32_612 : BitVec 32 := 1#32
  let v1304 : BitVec 32 := Scalar.shrsi v443 c1_i32_612
  let c1_i32_238 : BitVec 32 := 1#32
  let v444 : BitVec 32 := Scalar.addi v441 c1_i32_238
  let c0_i32_240 : BitVec 32 := 0#32
  let v446 : BitVec 1 := Scalar.cmpi .sgt v444 c0_i32_240
  let v447 : BitVec 32 := Scalar.extui v446
  let c0_i32_241 : BitVec 32 := 0#32
  let v448 : BitVec 1 := Scalar.cmpi .slt v444 c0_i32_241
  let v449 : BitVec 32 := Scalar.extui v448
  let v450 : BitVec 32 := Scalar.subi v447 v449
  let c2_i32_239 : BitVec 32 := 2#32
  let c0_i32_242 : BitVec 32 := 0#32
  let v451 : BitVec 1 := Scalar.cmpi .sgt c2_i32_239 c0_i32_242
  let v452 : BitVec 32 := Scalar.extui v451
  let c0_i32_243 : BitVec 32 := 0#32
  let v453 : BitVec 1 := Scalar.cmpi .slt c2_i32_239 c0_i32_243
  let v454 : BitVec 32 := Scalar.extui v453
  let v455 : BitVec 32 := Scalar.subi v452 v454
  let v456 : BitVec 1 := Scalar.cmpi .ne v450 v455
  let v457 : BitVec 32 := Scalar.remsi v444 c2_i32_239
  let c0_i32_244 : BitVec 32 := 0#32
  let v458 : BitVec 1 := Scalar.cmpi .ne v457 c0_i32_244
  let v459 : BitVec 1 := Scalar.andi v456 v458
  let v445 : BitVec 32 := Scalar.divsi v444 c2_i32_239
  let c1_i32_245 : BitVec 32 := 1#32
  let v460 : BitVec 32 := Scalar.subi v445 c1_i32_245
  let v461 : BitVec 32 := Scalar.select v459 v460 v445
  let c0_i32_257 : BitVec 32 := 0#32
  let c0_i32_249 : BitVec 32 := 0#32
  let v465 : BitVec 32 := Scalar.subi c0_i32_249 v443
  let c0_i32_251 : BitVec 32 := 0#32
  let v467 : BitVec 1 := Scalar.cmpi .sgt v465 c0_i32_251
  let v468 : BitVec 32 := Scalar.extui v467
  let c0_i32_252 : BitVec 32 := 0#32
  let v469 : BitVec 1 := Scalar.cmpi .slt v465 c0_i32_252
  let v470 : BitVec 32 := Scalar.extui v469
  let v471 : BitVec 32 := Scalar.subi v468 v470
  let c2_i32_250 : BitVec 32 := 2#32
  let c0_i32_253 : BitVec 32 := 0#32
  let v472 : BitVec 1 := Scalar.cmpi .sgt c2_i32_250 c0_i32_253
  let v473 : BitVec 32 := Scalar.extui v472
  let c0_i32_254 : BitVec 32 := 0#32
  let v474 : BitVec 1 := Scalar.cmpi .slt c2_i32_250 c0_i32_254
  let v475 : BitVec 32 := Scalar.extui v474
  let v476 : BitVec 32 := Scalar.subi v473 v475
  let v477 : BitVec 1 := Scalar.cmpi .ne v471 v476
  let v478 : BitVec 32 := Scalar.remsi v465 c2_i32_250
  let c0_i32_255 : BitVec 32 := 0#32
  let v479 : BitVec 1 := Scalar.cmpi .ne v478 c0_i32_255
  let v480 : BitVec 1 := Scalar.andi v477 v479
  let v466 : BitVec 32 := Scalar.divsi v465 c2_i32_250
  let c1_i32_256 : BitVec 32 := 1#32
  let v481 : BitVec 32 := Scalar.subi v466 c1_i32_256
  let v482 : BitVec 32 := Scalar.select v480 v481 v466
  let v483 : BitVec 32 := Scalar.maxsi c0_i32_257 v482
  let v484 : BitVec 32 := Scalar.minsi v461 v483
  let c0_i32_266 : BitVec 32 := 0#32
  let c384_i32_258 : BitVec 32 := 384#32
  let v485 : BitVec 32 := Scalar.subi c384_i32_258 v443
  let c0_i32_260 : BitVec 32 := 0#32
  let v487 : BitVec 1 := Scalar.cmpi .sgt v485 c0_i32_260
  let v488 : BitVec 32 := Scalar.extui v487
  let c0_i32_261 : BitVec 32 := 0#32
  let v489 : BitVec 1 := Scalar.cmpi .slt v485 c0_i32_261
  let v490 : BitVec 32 := Scalar.extui v489
  let v491 : BitVec 32 := Scalar.subi v488 v490
  let c2_i32_259 : BitVec 32 := 2#32
  let c0_i32_262 : BitVec 32 := 0#32
  let v492 : BitVec 1 := Scalar.cmpi .sgt c2_i32_259 c0_i32_262
  let v493 : BitVec 32 := Scalar.extui v492
  let c0_i32_263 : BitVec 32 := 0#32
  let v494 : BitVec 1 := Scalar.cmpi .slt c2_i32_259 c0_i32_263
  let v495 : BitVec 32 := Scalar.extui v494
  let v496 : BitVec 32 := Scalar.subi v493 v495
  let v497 : BitVec 1 := Scalar.cmpi .ne v491 v496
  let v498 : BitVec 32 := Scalar.remsi v485 c2_i32_259
  let c0_i32_264 : BitVec 32 := 0#32
  let v499 : BitVec 1 := Scalar.cmpi .ne v498 c0_i32_264
  let v500 : BitVec 1 := Scalar.andi v497 v499
  let v486 : BitVec 32 := Scalar.divsi v485 c2_i32_259
  let c1_i32_265 : BitVec 32 := 1#32
  let v501 : BitVec 32 := Scalar.subi v486 c1_i32_265
  let v502 : BitVec 32 := Scalar.select v500 v501 v486
  let v503 : BitVec 32 := Scalar.maxsi c0_i32_266 v502
  let v504 : BitVec 32 := Scalar.minsi v461 v503
  let v505 : BitVec 32 := Scalar.subi v504 v484
  let c1_i32_267 : BitVec 32 := 1#32
  let v507 : BitVec 32 := Scalar.divsi v505 c1_i32_267
  let v508 : BitVec 32 := Scalar.muli v507 c1_i32_267
  let v509 : BitVec 32 := Scalar.addi v484 v508
  let c1_i32_269 : BitVec 32 := 1#32
  let arg23 : BitVec 32 := Scf.iv v509 c1_i32_269 k0_t14
  let v1305 : BitVec 32 := Scalar.addi v1304 arg23
  let c0_i32_616 : BitVec 32 := 0#32
  ![v1305.toNat, 0]

def k0_chk10 (v441 : BitVec 32) (v443 : BitVec 32) : Prop :=
  ((k0_t13_loop v441 v443).OK) ∧
  (∀ k0_t13 : Fin (k0_t13_loop v441 v443).trips, ∀ a, (k0_off32 v441 v443 k0_t13) a + S2x128.size a ≤ S384x128.size a) ∧
  (∀ k0_t13 : Fin (k0_t13_loop v441 v443).trips, ∀ a, (k0_off33 v441 v443 k0_t13) a + S1x2.size a ≤ S584x2.size a) ∧
  ((k0_t14_loop v441 v443).OK) ∧
  (∀ k0_t14 : Fin (k0_t14_loop v441 v443).trips, ∀ a, (k0_off35 v441 v443 k0_t14) a + S2x128.size a ≤ S384x128.size a) ∧
  (∀ k0_t14 : Fin (k0_t14_loop v441 v443).trips, ∀ a, (k0_off36 v441 v443 k0_t14) a + S1x2.size a ≤ S584x2.size a)
theorem k0_t13_ok : ∀ (v441 : BitVec 32) (v443 : BitVec 32) (k0_hw10 : k0_chk10 v441 v443), (k0_t13_loop v441 v443).OK := fun v441 v443 k0_hw10 => k0_hw10.1
theorem k0_off32_inb : ∀ (v441 : BitVec 32) (v443 : BitVec 32) (k0_hw10 : k0_chk10 v441 v443) (k0_t13 : Fin (k0_t13_loop v441 v443).trips), ∀ a, (k0_off32 v441 v443 k0_t13) a + S2x128.size a ≤ S384x128.size a := fun v441 v443 k0_hw10 k0_t13 => k0_hw10.2.1 k0_t13
theorem k0_off33_inb : ∀ (v441 : BitVec 32) (v443 : BitVec 32) (k0_hw10 : k0_chk10 v441 v443) (k0_t13 : Fin (k0_t13_loop v441 v443).trips), ∀ a, (k0_off33 v441 v443 k0_t13) a + S1x2.size a ≤ S584x2.size a := fun v441 v443 k0_hw10 k0_t13 => k0_hw10.2.2.1 k0_t13
theorem k0_t14_ok : ∀ (v441 : BitVec 32) (v443 : BitVec 32) (k0_hw10 : k0_chk10 v441 v443), (k0_t14_loop v441 v443).OK := fun v441 v443 k0_hw10 => k0_hw10.2.2.2.1
theorem k0_off35_inb : ∀ (v441 : BitVec 32) (v443 : BitVec 32) (k0_hw10 : k0_chk10 v441 v443) (k0_t14 : Fin (k0_t14_loop v441 v443).trips), ∀ a, (k0_off35 v441 v443 k0_t14) a + S2x128.size a ≤ S384x128.size a := fun v441 v443 k0_hw10 k0_t14 => k0_hw10.2.2.2.2.1 k0_t14
theorem k0_off36_inb : ∀ (v441 : BitVec 32) (v443 : BitVec 32) (k0_hw10 : k0_chk10 v441 v443) (k0_t14 : Fin (k0_t14_loop v441 v443).trips), ∀ a, (k0_off36 v441 v443 k0_t14) a + S1x2.size a ≤ S584x2.size a := fun v441 v443 k0_hw10 k0_t14 => k0_hw10.2.2.2.2.2 k0_t14

def k0_off37 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_246 : BitVec 32 := 16#32
  let v462 : BitVec 32 := Scalar.muli arg21 c16_i32_246
  let c4_i32_247 : BitVec 32 := 4#32
  let v463 : BitVec 32 := Scalar.addi v462 c4_i32_247
  let c128_i32_248 : BitVec 32 := 128#32
  let v464 : BitVec 32 := Scalar.muli v463 c128_i32_248
  ![0, v464.toNat]
@[reducible] def k0_t15_loop (v513 : BitVec 32) (v515 : BitVec 32) : Scf.Loop 32 :=
  let c1_i32_270 : BitVec 32 := 1#32
  let v516 : BitVec 32 := Scalar.addi v513 c1_i32_270
  let c0_i32_272 : BitVec 32 := 0#32
  let v518 : BitVec 1 := Scalar.cmpi .sgt v516 c0_i32_272
  let v519 : BitVec 32 := Scalar.extui v518
  let c0_i32_273 : BitVec 32 := 0#32
  let v520 : BitVec 1 := Scalar.cmpi .slt v516 c0_i32_273
  let v521 : BitVec 32 := Scalar.extui v520
  let v522 : BitVec 32 := Scalar.subi v519 v521
  let c2_i32_271 : BitVec 32 := 2#32
  let c0_i32_274 : BitVec 32 := 0#32
  let v523 : BitVec 1 := Scalar.cmpi .sgt c2_i32_271 c0_i32_274
  let v524 : BitVec 32 := Scalar.extui v523
  let c0_i32_275 : BitVec 32 := 0#32
  let v525 : BitVec 1 := Scalar.cmpi .slt c2_i32_271 c0_i32_275
  let v526 : BitVec 32 := Scalar.extui v525
  let v527 : BitVec 32 := Scalar.subi v524 v526
  let v528 : BitVec 1 := Scalar.cmpi .ne v522 v527
  let v529 : BitVec 32 := Scalar.remsi v516 c2_i32_271
  let c0_i32_276 : BitVec 32 := 0#32
  let v530 : BitVec 1 := Scalar.cmpi .ne v529 c0_i32_276
  let v531 : BitVec 1 := Scalar.andi v528 v530
  let v517 : BitVec 32 := Scalar.divsi v516 c2_i32_271
  let c1_i32_277 : BitVec 32 := 1#32
  let v532 : BitVec 32 := Scalar.subi v517 c1_i32_277
  let v533 : BitVec 32 := Scalar.select v531 v532 v517
  let c0_i32_288 : BitVec 32 := 0#32
  let c0_i32_280 : BitVec 32 := 0#32
  let v537 : BitVec 32 := Scalar.subi c0_i32_280 v515
  let c0_i32_282 : BitVec 32 := 0#32
  let v539 : BitVec 1 := Scalar.cmpi .sgt v537 c0_i32_282
  let v540 : BitVec 32 := Scalar.extui v539
  let c0_i32_283 : BitVec 32 := 0#32
  let v541 : BitVec 1 := Scalar.cmpi .slt v537 c0_i32_283
  let v542 : BitVec 32 := Scalar.extui v541
  let v543 : BitVec 32 := Scalar.subi v540 v542
  let c2_i32_281 : BitVec 32 := 2#32
  let c0_i32_284 : BitVec 32 := 0#32
  let v544 : BitVec 1 := Scalar.cmpi .sgt c2_i32_281 c0_i32_284
  let v545 : BitVec 32 := Scalar.extui v544
  let c0_i32_285 : BitVec 32 := 0#32
  let v546 : BitVec 1 := Scalar.cmpi .slt c2_i32_281 c0_i32_285
  let v547 : BitVec 32 := Scalar.extui v546
  let v548 : BitVec 32 := Scalar.subi v545 v547
  let v549 : BitVec 1 := Scalar.cmpi .ne v543 v548
  let v550 : BitVec 32 := Scalar.remsi v537 c2_i32_281
  let c0_i32_286 : BitVec 32 := 0#32
  let v551 : BitVec 1 := Scalar.cmpi .ne v550 c0_i32_286
  let v552 : BitVec 1 := Scalar.andi v549 v551
  let v538 : BitVec 32 := Scalar.divsi v537 c2_i32_281
  let c1_i32_287 : BitVec 32 := 1#32
  let v553 : BitVec 32 := Scalar.subi v538 c1_i32_287
  let v554 : BitVec 32 := Scalar.select v552 v553 v538
  let v555 : BitVec 32 := Scalar.maxsi c0_i32_288 v554
  let v556 : BitVec 32 := Scalar.minsi v533 v555
  let c0_i32_297 : BitVec 32 := 0#32
  let c384_i32_289 : BitVec 32 := 384#32
  let v557 : BitVec 32 := Scalar.subi c384_i32_289 v515
  let c0_i32_291 : BitVec 32 := 0#32
  let v559 : BitVec 1 := Scalar.cmpi .sgt v557 c0_i32_291
  let v560 : BitVec 32 := Scalar.extui v559
  let c0_i32_292 : BitVec 32 := 0#32
  let v561 : BitVec 1 := Scalar.cmpi .slt v557 c0_i32_292
  let v562 : BitVec 32 := Scalar.extui v561
  let v563 : BitVec 32 := Scalar.subi v560 v562
  let c2_i32_290 : BitVec 32 := 2#32
  let c0_i32_293 : BitVec 32 := 0#32
  let v564 : BitVec 1 := Scalar.cmpi .sgt c2_i32_290 c0_i32_293
  let v565 : BitVec 32 := Scalar.extui v564
  let c0_i32_294 : BitVec 32 := 0#32
  let v566 : BitVec 1 := Scalar.cmpi .slt c2_i32_290 c0_i32_294
  let v567 : BitVec 32 := Scalar.extui v566
  let v568 : BitVec 32 := Scalar.subi v565 v567
  let v569 : BitVec 1 := Scalar.cmpi .ne v563 v568
  let v570 : BitVec 32 := Scalar.remsi v557 c2_i32_290
  let c0_i32_295 : BitVec 32 := 0#32
  let v571 : BitVec 1 := Scalar.cmpi .ne v570 c0_i32_295
  let v572 : BitVec 1 := Scalar.andi v569 v571
  let v558 : BitVec 32 := Scalar.divsi v557 c2_i32_290
  let c1_i32_296 : BitVec 32 := 1#32
  let v573 : BitVec 32 := Scalar.subi v558 c1_i32_296
  let v574 : BitVec 32 := Scalar.select v572 v573 v558
  let v575 : BitVec 32 := Scalar.maxsi c0_i32_297 v574
  let v576 : BitVec 32 := Scalar.minsi v533 v575
  let v577 : BitVec 32 := Scalar.subi v576 v556
  let c1_i32_298 : BitVec 32 := 1#32
  let v579 : BitVec 32 := Scalar.divsi v577 c1_i32_298
  let v580 : BitVec 32 := Scalar.muli v579 c1_i32_298
  let v581 : BitVec 32 := Scalar.addi v556 v580
  let c1_i32_299 : BitVec 32 := 1#32
  ⟨v556, v581, c1_i32_299⟩

def k0_off38 (v513 : BitVec 32) (v515 : BitVec 32) (k0_t15 : Fin (k0_t15_loop v513 v515).trips) : Fin 2 → Nat :=
  let c1_i32_270 : BitVec 32 := 1#32
  let v516 : BitVec 32 := Scalar.addi v513 c1_i32_270
  let c0_i32_272 : BitVec 32 := 0#32
  let v518 : BitVec 1 := Scalar.cmpi .sgt v516 c0_i32_272
  let v519 : BitVec 32 := Scalar.extui v518
  let c0_i32_273 : BitVec 32 := 0#32
  let v520 : BitVec 1 := Scalar.cmpi .slt v516 c0_i32_273
  let v521 : BitVec 32 := Scalar.extui v520
  let v522 : BitVec 32 := Scalar.subi v519 v521
  let c2_i32_271 : BitVec 32 := 2#32
  let c0_i32_274 : BitVec 32 := 0#32
  let v523 : BitVec 1 := Scalar.cmpi .sgt c2_i32_271 c0_i32_274
  let v524 : BitVec 32 := Scalar.extui v523
  let c0_i32_275 : BitVec 32 := 0#32
  let v525 : BitVec 1 := Scalar.cmpi .slt c2_i32_271 c0_i32_275
  let v526 : BitVec 32 := Scalar.extui v525
  let v527 : BitVec 32 := Scalar.subi v524 v526
  let v528 : BitVec 1 := Scalar.cmpi .ne v522 v527
  let v529 : BitVec 32 := Scalar.remsi v516 c2_i32_271
  let c0_i32_276 : BitVec 32 := 0#32
  let v530 : BitVec 1 := Scalar.cmpi .ne v529 c0_i32_276
  let v531 : BitVec 1 := Scalar.andi v528 v530
  let v517 : BitVec 32 := Scalar.divsi v516 c2_i32_271
  let c1_i32_277 : BitVec 32 := 1#32
  let v532 : BitVec 32 := Scalar.subi v517 c1_i32_277
  let v533 : BitVec 32 := Scalar.select v531 v532 v517
  let c0_i32_288 : BitVec 32 := 0#32
  let c0_i32_280 : BitVec 32 := 0#32
  let v537 : BitVec 32 := Scalar.subi c0_i32_280 v515
  let c0_i32_282 : BitVec 32 := 0#32
  let v539 : BitVec 1 := Scalar.cmpi .sgt v537 c0_i32_282
  let v540 : BitVec 32 := Scalar.extui v539
  let c0_i32_283 : BitVec 32 := 0#32
  let v541 : BitVec 1 := Scalar.cmpi .slt v537 c0_i32_283
  let v542 : BitVec 32 := Scalar.extui v541
  let v543 : BitVec 32 := Scalar.subi v540 v542
  let c2_i32_281 : BitVec 32 := 2#32
  let c0_i32_284 : BitVec 32 := 0#32
  let v544 : BitVec 1 := Scalar.cmpi .sgt c2_i32_281 c0_i32_284
  let v545 : BitVec 32 := Scalar.extui v544
  let c0_i32_285 : BitVec 32 := 0#32
  let v546 : BitVec 1 := Scalar.cmpi .slt c2_i32_281 c0_i32_285
  let v547 : BitVec 32 := Scalar.extui v546
  let v548 : BitVec 32 := Scalar.subi v545 v547
  let v549 : BitVec 1 := Scalar.cmpi .ne v543 v548
  let v550 : BitVec 32 := Scalar.remsi v537 c2_i32_281
  let c0_i32_286 : BitVec 32 := 0#32
  let v551 : BitVec 1 := Scalar.cmpi .ne v550 c0_i32_286
  let v552 : BitVec 1 := Scalar.andi v549 v551
  let v538 : BitVec 32 := Scalar.divsi v537 c2_i32_281
  let c1_i32_287 : BitVec 32 := 1#32
  let v553 : BitVec 32 := Scalar.subi v538 c1_i32_287
  let v554 : BitVec 32 := Scalar.select v552 v553 v538
  let v555 : BitVec 32 := Scalar.maxsi c0_i32_288 v554
  let v556 : BitVec 32 := Scalar.minsi v533 v555
  let c1_i32_299 : BitVec 32 := 1#32
  let arg23 : BitVec 32 := Scf.iv v556 c1_i32_299 k0_t15
  let c2_i32_613 : BitVec 32 := 2#32
  let v1306 : BitVec 32 := Scalar.muli arg23 c2_i32_613
  let v1307 : BitVec 32 := Scalar.addi v515 v1306
  let c0_i32_614 : BitVec 32 := 0#32
  let v1308 : BitVec 32 := Scalar.subi v1307 c0_i32_614
  let c0_i32_615 : BitVec 32 := 0#32
  ![v1308.toNat, 0]
def k0_off39 (v513 : BitVec 32) (v515 : BitVec 32) (k0_t15 : Fin (k0_t15_loop v513 v515).trips) : Fin 2 → Nat :=
  let c1_i32_612 : BitVec 32 := 1#32
  let v1304 : BitVec 32 := Scalar.shrsi v515 c1_i32_612
  let c1_i32_270 : BitVec 32 := 1#32
  let v516 : BitVec 32 := Scalar.addi v513 c1_i32_270
  let c0_i32_272 : BitVec 32 := 0#32
  let v518 : BitVec 1 := Scalar.cmpi .sgt v516 c0_i32_272
  let v519 : BitVec 32 := Scalar.extui v518
  let c0_i32_273 : BitVec 32 := 0#32
  let v520 : BitVec 1 := Scalar.cmpi .slt v516 c0_i32_273
  let v521 : BitVec 32 := Scalar.extui v520
  let v522 : BitVec 32 := Scalar.subi v519 v521
  let c2_i32_271 : BitVec 32 := 2#32
  let c0_i32_274 : BitVec 32 := 0#32
  let v523 : BitVec 1 := Scalar.cmpi .sgt c2_i32_271 c0_i32_274
  let v524 : BitVec 32 := Scalar.extui v523
  let c0_i32_275 : BitVec 32 := 0#32
  let v525 : BitVec 1 := Scalar.cmpi .slt c2_i32_271 c0_i32_275
  let v526 : BitVec 32 := Scalar.extui v525
  let v527 : BitVec 32 := Scalar.subi v524 v526
  let v528 : BitVec 1 := Scalar.cmpi .ne v522 v527
  let v529 : BitVec 32 := Scalar.remsi v516 c2_i32_271
  let c0_i32_276 : BitVec 32 := 0#32
  let v530 : BitVec 1 := Scalar.cmpi .ne v529 c0_i32_276
  let v531 : BitVec 1 := Scalar.andi v528 v530
  let v517 : BitVec 32 := Scalar.divsi v516 c2_i32_271
  let c1_i32_277 : BitVec 32 := 1#32
  let v532 : BitVec 32 := Scalar.subi v517 c1_i32_277
  let v533 : BitVec 32 := Scalar.select v531 v532 v517
  let c0_i32_288 : BitVec 32 := 0#32
  let c0_i32_280 : BitVec 32 := 0#32
  let v537 : BitVec 32 := Scalar.subi c0_i32_280 v515
  let c0_i32_282 : BitVec 32 := 0#32
  let v539 : BitVec 1 := Scalar.cmpi .sgt v537 c0_i32_282
  let v540 : BitVec 32 := Scalar.extui v539
  let c0_i32_283 : BitVec 32 := 0#32
  let v541 : BitVec 1 := Scalar.cmpi .slt v537 c0_i32_283
  let v542 : BitVec 32 := Scalar.extui v541
  let v543 : BitVec 32 := Scalar.subi v540 v542
  let c2_i32_281 : BitVec 32 := 2#32
  let c0_i32_284 : BitVec 32 := 0#32
  let v544 : BitVec 1 := Scalar.cmpi .sgt c2_i32_281 c0_i32_284
  let v545 : BitVec 32 := Scalar.extui v544
  let c0_i32_285 : BitVec 32 := 0#32
  let v546 : BitVec 1 := Scalar.cmpi .slt c2_i32_281 c0_i32_285
  let v547 : BitVec 32 := Scalar.extui v546
  let v548 : BitVec 32 := Scalar.subi v545 v547
  let v549 : BitVec 1 := Scalar.cmpi .ne v543 v548
  let v550 : BitVec 32 := Scalar.remsi v537 c2_i32_281
  let c0_i32_286 : BitVec 32 := 0#32
  let v551 : BitVec 1 := Scalar.cmpi .ne v550 c0_i32_286
  let v552 : BitVec 1 := Scalar.andi v549 v551
  let v538 : BitVec 32 := Scalar.divsi v537 c2_i32_281
  let c1_i32_287 : BitVec 32 := 1#32
  let v553 : BitVec 32 := Scalar.subi v538 c1_i32_287
  let v554 : BitVec 32 := Scalar.select v552 v553 v538
  let v555 : BitVec 32 := Scalar.maxsi c0_i32_288 v554
  let v556 : BitVec 32 := Scalar.minsi v533 v555
  let c1_i32_299 : BitVec 32 := 1#32
  let arg23 : BitVec 32 := Scf.iv v556 c1_i32_299 k0_t15
  let v1305 : BitVec 32 := Scalar.addi v1304 arg23
  let c0_i32_616 : BitVec 32 := 0#32
  ![v1305.toNat, 0]
def k0_off40 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_278 : BitVec 32 := 16#32
  let v534 : BitVec 32 := Scalar.muli arg21 c16_i32_278
  let c5_i32 : BitVec 32 := 5#32
  let v535 : BitVec 32 := Scalar.addi v534 c5_i32
  let c128_i32_279 : BitVec 32 := 128#32
  let v536 : BitVec 32 := Scalar.muli v535 c128_i32_279
  ![0, v536.toNat]
@[reducible] def k0_t16_loop (v513 : BitVec 32) (v515 : BitVec 32) : Scf.Loop 32 :=
  let c1_i32_270 : BitVec 32 := 1#32
  let v516 : BitVec 32 := Scalar.addi v513 c1_i32_270
  let c0_i32_272 : BitVec 32 := 0#32
  let v518 : BitVec 1 := Scalar.cmpi .sgt v516 c0_i32_272
  let v519 : BitVec 32 := Scalar.extui v518
  let c0_i32_273 : BitVec 32 := 0#32
  let v520 : BitVec 1 := Scalar.cmpi .slt v516 c0_i32_273
  let v521 : BitVec 32 := Scalar.extui v520
  let v522 : BitVec 32 := Scalar.subi v519 v521
  let c2_i32_271 : BitVec 32 := 2#32
  let c0_i32_274 : BitVec 32 := 0#32
  let v523 : BitVec 1 := Scalar.cmpi .sgt c2_i32_271 c0_i32_274
  let v524 : BitVec 32 := Scalar.extui v523
  let c0_i32_275 : BitVec 32 := 0#32
  let v525 : BitVec 1 := Scalar.cmpi .slt c2_i32_271 c0_i32_275
  let v526 : BitVec 32 := Scalar.extui v525
  let v527 : BitVec 32 := Scalar.subi v524 v526
  let v528 : BitVec 1 := Scalar.cmpi .ne v522 v527
  let v529 : BitVec 32 := Scalar.remsi v516 c2_i32_271
  let c0_i32_276 : BitVec 32 := 0#32
  let v530 : BitVec 1 := Scalar.cmpi .ne v529 c0_i32_276
  let v531 : BitVec 1 := Scalar.andi v528 v530
  let v517 : BitVec 32 := Scalar.divsi v516 c2_i32_271
  let c1_i32_277 : BitVec 32 := 1#32
  let v532 : BitVec 32 := Scalar.subi v517 c1_i32_277
  let v533 : BitVec 32 := Scalar.select v531 v532 v517
  let c0_i32_288 : BitVec 32 := 0#32
  let c0_i32_280 : BitVec 32 := 0#32
  let v537 : BitVec 32 := Scalar.subi c0_i32_280 v515
  let c0_i32_282 : BitVec 32 := 0#32
  let v539 : BitVec 1 := Scalar.cmpi .sgt v537 c0_i32_282
  let v540 : BitVec 32 := Scalar.extui v539
  let c0_i32_283 : BitVec 32 := 0#32
  let v541 : BitVec 1 := Scalar.cmpi .slt v537 c0_i32_283
  let v542 : BitVec 32 := Scalar.extui v541
  let v543 : BitVec 32 := Scalar.subi v540 v542
  let c2_i32_281 : BitVec 32 := 2#32
  let c0_i32_284 : BitVec 32 := 0#32
  let v544 : BitVec 1 := Scalar.cmpi .sgt c2_i32_281 c0_i32_284
  let v545 : BitVec 32 := Scalar.extui v544
  let c0_i32_285 : BitVec 32 := 0#32
  let v546 : BitVec 1 := Scalar.cmpi .slt c2_i32_281 c0_i32_285
  let v547 : BitVec 32 := Scalar.extui v546
  let v548 : BitVec 32 := Scalar.subi v545 v547
  let v549 : BitVec 1 := Scalar.cmpi .ne v543 v548
  let v550 : BitVec 32 := Scalar.remsi v537 c2_i32_281
  let c0_i32_286 : BitVec 32 := 0#32
  let v551 : BitVec 1 := Scalar.cmpi .ne v550 c0_i32_286
  let v552 : BitVec 1 := Scalar.andi v549 v551
  let v538 : BitVec 32 := Scalar.divsi v537 c2_i32_281
  let c1_i32_287 : BitVec 32 := 1#32
  let v553 : BitVec 32 := Scalar.subi v538 c1_i32_287
  let v554 : BitVec 32 := Scalar.select v552 v553 v538
  let v555 : BitVec 32 := Scalar.maxsi c0_i32_288 v554
  let v556 : BitVec 32 := Scalar.minsi v533 v555
  let c0_i32_297 : BitVec 32 := 0#32
  let c384_i32_289 : BitVec 32 := 384#32
  let v557 : BitVec 32 := Scalar.subi c384_i32_289 v515
  let c0_i32_291 : BitVec 32 := 0#32
  let v559 : BitVec 1 := Scalar.cmpi .sgt v557 c0_i32_291
  let v560 : BitVec 32 := Scalar.extui v559
  let c0_i32_292 : BitVec 32 := 0#32
  let v561 : BitVec 1 := Scalar.cmpi .slt v557 c0_i32_292
  let v562 : BitVec 32 := Scalar.extui v561
  let v563 : BitVec 32 := Scalar.subi v560 v562
  let c2_i32_290 : BitVec 32 := 2#32
  let c0_i32_293 : BitVec 32 := 0#32
  let v564 : BitVec 1 := Scalar.cmpi .sgt c2_i32_290 c0_i32_293
  let v565 : BitVec 32 := Scalar.extui v564
  let c0_i32_294 : BitVec 32 := 0#32
  let v566 : BitVec 1 := Scalar.cmpi .slt c2_i32_290 c0_i32_294
  let v567 : BitVec 32 := Scalar.extui v566
  let v568 : BitVec 32 := Scalar.subi v565 v567
  let v569 : BitVec 1 := Scalar.cmpi .ne v563 v568
  let v570 : BitVec 32 := Scalar.remsi v557 c2_i32_290
  let c0_i32_295 : BitVec 32 := 0#32
  let v571 : BitVec 1 := Scalar.cmpi .ne v570 c0_i32_295
  let v572 : BitVec 1 := Scalar.andi v569 v571
  let v558 : BitVec 32 := Scalar.divsi v557 c2_i32_290
  let c1_i32_296 : BitVec 32 := 1#32
  let v573 : BitVec 32 := Scalar.subi v558 c1_i32_296
  let v574 : BitVec 32 := Scalar.select v572 v573 v558
  let v575 : BitVec 32 := Scalar.maxsi c0_i32_297 v574
  let v576 : BitVec 32 := Scalar.minsi v533 v575
  let v577 : BitVec 32 := Scalar.subi v576 v556
  let c1_i32_298 : BitVec 32 := 1#32
  let v579 : BitVec 32 := Scalar.divsi v577 c1_i32_298
  let v580 : BitVec 32 := Scalar.muli v579 c1_i32_298
  let v581 : BitVec 32 := Scalar.addi v556 v580
  let v578 : BitVec 32 := Scalar.addi v556 v577
  let c1_i32_300 : BitVec 32 := 1#32
  ⟨v581, v578, c1_i32_300⟩
def k0_off41 (v513 : BitVec 32) (v515 : BitVec 32) (k0_t16 : Fin (k0_t16_loop v513 v515).trips) : Fin 2 → Nat :=
  let c1_i32_270 : BitVec 32 := 1#32
  let v516 : BitVec 32 := Scalar.addi v513 c1_i32_270
  let c0_i32_272 : BitVec 32 := 0#32
  let v518 : BitVec 1 := Scalar.cmpi .sgt v516 c0_i32_272
  let v519 : BitVec 32 := Scalar.extui v518
  let c0_i32_273 : BitVec 32 := 0#32
  let v520 : BitVec 1 := Scalar.cmpi .slt v516 c0_i32_273
  let v521 : BitVec 32 := Scalar.extui v520
  let v522 : BitVec 32 := Scalar.subi v519 v521
  let c2_i32_271 : BitVec 32 := 2#32
  let c0_i32_274 : BitVec 32 := 0#32
  let v523 : BitVec 1 := Scalar.cmpi .sgt c2_i32_271 c0_i32_274
  let v524 : BitVec 32 := Scalar.extui v523
  let c0_i32_275 : BitVec 32 := 0#32
  let v525 : BitVec 1 := Scalar.cmpi .slt c2_i32_271 c0_i32_275
  let v526 : BitVec 32 := Scalar.extui v525
  let v527 : BitVec 32 := Scalar.subi v524 v526
  let v528 : BitVec 1 := Scalar.cmpi .ne v522 v527
  let v529 : BitVec 32 := Scalar.remsi v516 c2_i32_271
  let c0_i32_276 : BitVec 32 := 0#32
  let v530 : BitVec 1 := Scalar.cmpi .ne v529 c0_i32_276
  let v531 : BitVec 1 := Scalar.andi v528 v530
  let v517 : BitVec 32 := Scalar.divsi v516 c2_i32_271
  let c1_i32_277 : BitVec 32 := 1#32
  let v532 : BitVec 32 := Scalar.subi v517 c1_i32_277
  let v533 : BitVec 32 := Scalar.select v531 v532 v517
  let c0_i32_288 : BitVec 32 := 0#32
  let c0_i32_280 : BitVec 32 := 0#32
  let v537 : BitVec 32 := Scalar.subi c0_i32_280 v515
  let c0_i32_282 : BitVec 32 := 0#32
  let v539 : BitVec 1 := Scalar.cmpi .sgt v537 c0_i32_282
  let v540 : BitVec 32 := Scalar.extui v539
  let c0_i32_283 : BitVec 32 := 0#32
  let v541 : BitVec 1 := Scalar.cmpi .slt v537 c0_i32_283
  let v542 : BitVec 32 := Scalar.extui v541
  let v543 : BitVec 32 := Scalar.subi v540 v542
  let c2_i32_281 : BitVec 32 := 2#32
  let c0_i32_284 : BitVec 32 := 0#32
  let v544 : BitVec 1 := Scalar.cmpi .sgt c2_i32_281 c0_i32_284
  let v545 : BitVec 32 := Scalar.extui v544
  let c0_i32_285 : BitVec 32 := 0#32
  let v546 : BitVec 1 := Scalar.cmpi .slt c2_i32_281 c0_i32_285
  let v547 : BitVec 32 := Scalar.extui v546
  let v548 : BitVec 32 := Scalar.subi v545 v547
  let v549 : BitVec 1 := Scalar.cmpi .ne v543 v548
  let v550 : BitVec 32 := Scalar.remsi v537 c2_i32_281
  let c0_i32_286 : BitVec 32 := 0#32
  let v551 : BitVec 1 := Scalar.cmpi .ne v550 c0_i32_286
  let v552 : BitVec 1 := Scalar.andi v549 v551
  let v538 : BitVec 32 := Scalar.divsi v537 c2_i32_281
  let c1_i32_287 : BitVec 32 := 1#32
  let v553 : BitVec 32 := Scalar.subi v538 c1_i32_287
  let v554 : BitVec 32 := Scalar.select v552 v553 v538
  let v555 : BitVec 32 := Scalar.maxsi c0_i32_288 v554
  let v556 : BitVec 32 := Scalar.minsi v533 v555
  let c0_i32_297 : BitVec 32 := 0#32
  let c384_i32_289 : BitVec 32 := 384#32
  let v557 : BitVec 32 := Scalar.subi c384_i32_289 v515
  let c0_i32_291 : BitVec 32 := 0#32
  let v559 : BitVec 1 := Scalar.cmpi .sgt v557 c0_i32_291
  let v560 : BitVec 32 := Scalar.extui v559
  let c0_i32_292 : BitVec 32 := 0#32
  let v561 : BitVec 1 := Scalar.cmpi .slt v557 c0_i32_292
  let v562 : BitVec 32 := Scalar.extui v561
  let v563 : BitVec 32 := Scalar.subi v560 v562
  let c2_i32_290 : BitVec 32 := 2#32
  let c0_i32_293 : BitVec 32 := 0#32
  let v564 : BitVec 1 := Scalar.cmpi .sgt c2_i32_290 c0_i32_293
  let v565 : BitVec 32 := Scalar.extui v564
  let c0_i32_294 : BitVec 32 := 0#32
  let v566 : BitVec 1 := Scalar.cmpi .slt c2_i32_290 c0_i32_294
  let v567 : BitVec 32 := Scalar.extui v566
  let v568 : BitVec 32 := Scalar.subi v565 v567
  let v569 : BitVec 1 := Scalar.cmpi .ne v563 v568
  let v570 : BitVec 32 := Scalar.remsi v557 c2_i32_290
  let c0_i32_295 : BitVec 32 := 0#32
  let v571 : BitVec 1 := Scalar.cmpi .ne v570 c0_i32_295
  let v572 : BitVec 1 := Scalar.andi v569 v571
  let v558 : BitVec 32 := Scalar.divsi v557 c2_i32_290
  let c1_i32_296 : BitVec 32 := 1#32
  let v573 : BitVec 32 := Scalar.subi v558 c1_i32_296
  let v574 : BitVec 32 := Scalar.select v572 v573 v558
  let v575 : BitVec 32 := Scalar.maxsi c0_i32_297 v574
  let v576 : BitVec 32 := Scalar.minsi v533 v575
  let v577 : BitVec 32 := Scalar.subi v576 v556
  let c1_i32_298 : BitVec 32 := 1#32
  let v579 : BitVec 32 := Scalar.divsi v577 c1_i32_298
  let v580 : BitVec 32 := Scalar.muli v579 c1_i32_298
  let v581 : BitVec 32 := Scalar.addi v556 v580
  let c1_i32_300 : BitVec 32 := 1#32
  let arg23 : BitVec 32 := Scf.iv v581 c1_i32_300 k0_t16
  let c2_i32_613 : BitVec 32 := 2#32
  let v1306 : BitVec 32 := Scalar.muli arg23 c2_i32_613
  let v1307 : BitVec 32 := Scalar.addi v515 v1306
  let c0_i32_614 : BitVec 32 := 0#32
  let v1308 : BitVec 32 := Scalar.subi v1307 c0_i32_614
  let c0_i32_615 : BitVec 32 := 0#32
  ![v1308.toNat, 0]
def k0_off42 (v513 : BitVec 32) (v515 : BitVec 32) (k0_t16 : Fin (k0_t16_loop v513 v515).trips) : Fin 2 → Nat :=
  let c1_i32_612 : BitVec 32 := 1#32
  let v1304 : BitVec 32 := Scalar.shrsi v515 c1_i32_612
  let c1_i32_270 : BitVec 32 := 1#32
  let v516 : BitVec 32 := Scalar.addi v513 c1_i32_270
  let c0_i32_272 : BitVec 32 := 0#32
  let v518 : BitVec 1 := Scalar.cmpi .sgt v516 c0_i32_272
  let v519 : BitVec 32 := Scalar.extui v518
  let c0_i32_273 : BitVec 32 := 0#32
  let v520 : BitVec 1 := Scalar.cmpi .slt v516 c0_i32_273
  let v521 : BitVec 32 := Scalar.extui v520
  let v522 : BitVec 32 := Scalar.subi v519 v521
  let c2_i32_271 : BitVec 32 := 2#32
  let c0_i32_274 : BitVec 32 := 0#32
  let v523 : BitVec 1 := Scalar.cmpi .sgt c2_i32_271 c0_i32_274
  let v524 : BitVec 32 := Scalar.extui v523
  let c0_i32_275 : BitVec 32 := 0#32
  let v525 : BitVec 1 := Scalar.cmpi .slt c2_i32_271 c0_i32_275
  let v526 : BitVec 32 := Scalar.extui v525
  let v527 : BitVec 32 := Scalar.subi v524 v526
  let v528 : BitVec 1 := Scalar.cmpi .ne v522 v527
  let v529 : BitVec 32 := Scalar.remsi v516 c2_i32_271
  let c0_i32_276 : BitVec 32 := 0#32
  let v530 : BitVec 1 := Scalar.cmpi .ne v529 c0_i32_276
  let v531 : BitVec 1 := Scalar.andi v528 v530
  let v517 : BitVec 32 := Scalar.divsi v516 c2_i32_271
  let c1_i32_277 : BitVec 32 := 1#32
  let v532 : BitVec 32 := Scalar.subi v517 c1_i32_277
  let v533 : BitVec 32 := Scalar.select v531 v532 v517
  let c0_i32_288 : BitVec 32 := 0#32
  let c0_i32_280 : BitVec 32 := 0#32
  let v537 : BitVec 32 := Scalar.subi c0_i32_280 v515
  let c0_i32_282 : BitVec 32 := 0#32
  let v539 : BitVec 1 := Scalar.cmpi .sgt v537 c0_i32_282
  let v540 : BitVec 32 := Scalar.extui v539
  let c0_i32_283 : BitVec 32 := 0#32
  let v541 : BitVec 1 := Scalar.cmpi .slt v537 c0_i32_283
  let v542 : BitVec 32 := Scalar.extui v541
  let v543 : BitVec 32 := Scalar.subi v540 v542
  let c2_i32_281 : BitVec 32 := 2#32
  let c0_i32_284 : BitVec 32 := 0#32
  let v544 : BitVec 1 := Scalar.cmpi .sgt c2_i32_281 c0_i32_284
  let v545 : BitVec 32 := Scalar.extui v544
  let c0_i32_285 : BitVec 32 := 0#32
  let v546 : BitVec 1 := Scalar.cmpi .slt c2_i32_281 c0_i32_285
  let v547 : BitVec 32 := Scalar.extui v546
  let v548 : BitVec 32 := Scalar.subi v545 v547
  let v549 : BitVec 1 := Scalar.cmpi .ne v543 v548
  let v550 : BitVec 32 := Scalar.remsi v537 c2_i32_281
  let c0_i32_286 : BitVec 32 := 0#32
  let v551 : BitVec 1 := Scalar.cmpi .ne v550 c0_i32_286
  let v552 : BitVec 1 := Scalar.andi v549 v551
  let v538 : BitVec 32 := Scalar.divsi v537 c2_i32_281
  let c1_i32_287 : BitVec 32 := 1#32
  let v553 : BitVec 32 := Scalar.subi v538 c1_i32_287
  let v554 : BitVec 32 := Scalar.select v552 v553 v538
  let v555 : BitVec 32 := Scalar.maxsi c0_i32_288 v554
  let v556 : BitVec 32 := Scalar.minsi v533 v555
  let c0_i32_297 : BitVec 32 := 0#32
  let c384_i32_289 : BitVec 32 := 384#32
  let v557 : BitVec 32 := Scalar.subi c384_i32_289 v515
  let c0_i32_291 : BitVec 32 := 0#32
  let v559 : BitVec 1 := Scalar.cmpi .sgt v557 c0_i32_291
  let v560 : BitVec 32 := Scalar.extui v559
  let c0_i32_292 : BitVec 32 := 0#32
  let v561 : BitVec 1 := Scalar.cmpi .slt v557 c0_i32_292
  let v562 : BitVec 32 := Scalar.extui v561
  let v563 : BitVec 32 := Scalar.subi v560 v562
  let c2_i32_290 : BitVec 32 := 2#32
  let c0_i32_293 : BitVec 32 := 0#32
  let v564 : BitVec 1 := Scalar.cmpi .sgt c2_i32_290 c0_i32_293
  let v565 : BitVec 32 := Scalar.extui v564
  let c0_i32_294 : BitVec 32 := 0#32
  let v566 : BitVec 1 := Scalar.cmpi .slt c2_i32_290 c0_i32_294
  let v567 : BitVec 32 := Scalar.extui v566
  let v568 : BitVec 32 := Scalar.subi v565 v567
  let v569 : BitVec 1 := Scalar.cmpi .ne v563 v568
  let v570 : BitVec 32 := Scalar.remsi v557 c2_i32_290
  let c0_i32_295 : BitVec 32 := 0#32
  let v571 : BitVec 1 := Scalar.cmpi .ne v570 c0_i32_295
  let v572 : BitVec 1 := Scalar.andi v569 v571
  let v558 : BitVec 32 := Scalar.divsi v557 c2_i32_290
  let c1_i32_296 : BitVec 32 := 1#32
  let v573 : BitVec 32 := Scalar.subi v558 c1_i32_296
  let v574 : BitVec 32 := Scalar.select v572 v573 v558
  let v575 : BitVec 32 := Scalar.maxsi c0_i32_297 v574
  let v576 : BitVec 32 := Scalar.minsi v533 v575
  let v577 : BitVec 32 := Scalar.subi v576 v556
  let c1_i32_298 : BitVec 32 := 1#32
  let v579 : BitVec 32 := Scalar.divsi v577 c1_i32_298
  let v580 : BitVec 32 := Scalar.muli v579 c1_i32_298
  let v581 : BitVec 32 := Scalar.addi v556 v580
  let c1_i32_300 : BitVec 32 := 1#32
  let arg23 : BitVec 32 := Scf.iv v581 c1_i32_300 k0_t16
  let v1305 : BitVec 32 := Scalar.addi v1304 arg23
  let c0_i32_616 : BitVec 32 := 0#32
  ![v1305.toNat, 0]

def k0_chk11 (v513 : BitVec 32) (v515 : BitVec 32) : Prop :=
  ((k0_t15_loop v513 v515).OK) ∧
  (∀ k0_t15 : Fin (k0_t15_loop v513 v515).trips, ∀ a, (k0_off38 v513 v515 k0_t15) a + S2x128.size a ≤ S384x128.size a) ∧
  (∀ k0_t15 : Fin (k0_t15_loop v513 v515).trips, ∀ a, (k0_off39 v513 v515 k0_t15) a + S1x2.size a ≤ S584x2.size a) ∧
  ((k0_t16_loop v513 v515).OK) ∧
  (∀ k0_t16 : Fin (k0_t16_loop v513 v515).trips, ∀ a, (k0_off41 v513 v515 k0_t16) a + S2x128.size a ≤ S384x128.size a) ∧
  (∀ k0_t16 : Fin (k0_t16_loop v513 v515).trips, ∀ a, (k0_off42 v513 v515 k0_t16) a + S1x2.size a ≤ S584x2.size a)
theorem k0_t15_ok : ∀ (v513 : BitVec 32) (v515 : BitVec 32) (k0_hw11 : k0_chk11 v513 v515), (k0_t15_loop v513 v515).OK := fun v513 v515 k0_hw11 => k0_hw11.1
theorem k0_off38_inb : ∀ (v513 : BitVec 32) (v515 : BitVec 32) (k0_hw11 : k0_chk11 v513 v515) (k0_t15 : Fin (k0_t15_loop v513 v515).trips), ∀ a, (k0_off38 v513 v515 k0_t15) a + S2x128.size a ≤ S384x128.size a := fun v513 v515 k0_hw11 k0_t15 => k0_hw11.2.1 k0_t15
theorem k0_off39_inb : ∀ (v513 : BitVec 32) (v515 : BitVec 32) (k0_hw11 : k0_chk11 v513 v515) (k0_t15 : Fin (k0_t15_loop v513 v515).trips), ∀ a, (k0_off39 v513 v515 k0_t15) a + S1x2.size a ≤ S584x2.size a := fun v513 v515 k0_hw11 k0_t15 => k0_hw11.2.2.1 k0_t15
theorem k0_t16_ok : ∀ (v513 : BitVec 32) (v515 : BitVec 32) (k0_hw11 : k0_chk11 v513 v515), (k0_t16_loop v513 v515).OK := fun v513 v515 k0_hw11 => k0_hw11.2.2.2.1
theorem k0_off41_inb : ∀ (v513 : BitVec 32) (v515 : BitVec 32) (k0_hw11 : k0_chk11 v513 v515) (k0_t16 : Fin (k0_t16_loop v513 v515).trips), ∀ a, (k0_off41 v513 v515 k0_t16) a + S2x128.size a ≤ S384x128.size a := fun v513 v515 k0_hw11 k0_t16 => k0_hw11.2.2.2.2.1 k0_t16
theorem k0_off42_inb : ∀ (v513 : BitVec 32) (v515 : BitVec 32) (k0_hw11 : k0_chk11 v513 v515) (k0_t16 : Fin (k0_t16_loop v513 v515).trips), ∀ a, (k0_off42 v513 v515 k0_t16) a + S1x2.size a ≤ S584x2.size a := fun v513 v515 k0_hw11 k0_t16 => k0_hw11.2.2.2.2.2 k0_t16

def k0_off43 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_278 : BitVec 32 := 16#32
  let v534 : BitVec 32 := Scalar.muli arg21 c16_i32_278
  let c5_i32 : BitVec 32 := 5#32
  let v535 : BitVec 32 := Scalar.addi v534 c5_i32
  let c128_i32_279 : BitVec 32 := 128#32
  let v536 : BitVec 32 := Scalar.muli v535 c128_i32_279
  ![0, v536.toNat]
@[reducible] def k0_t17_loop (v585 : BitVec 32) (v587 : BitVec 32) : Scf.Loop 32 :=
  let c1_i32_301 : BitVec 32 := 1#32
  let v588 : BitVec 32 := Scalar.addi v585 c1_i32_301
  let c0_i32_303 : BitVec 32 := 0#32
  let v590 : BitVec 1 := Scalar.cmpi .sgt v588 c0_i32_303
  let v591 : BitVec 32 := Scalar.extui v590
  let c0_i32_304 : BitVec 32 := 0#32
  let v592 : BitVec 1 := Scalar.cmpi .slt v588 c0_i32_304
  let v593 : BitVec 32 := Scalar.extui v592
  let v594 : BitVec 32 := Scalar.subi v591 v593
  let c2_i32_302 : BitVec 32 := 2#32
  let c0_i32_305 : BitVec 32 := 0#32
  let v595 : BitVec 1 := Scalar.cmpi .sgt c2_i32_302 c0_i32_305
  let v596 : BitVec 32 := Scalar.extui v595
  let c0_i32_306 : BitVec 32 := 0#32
  let v597 : BitVec 1 := Scalar.cmpi .slt c2_i32_302 c0_i32_306
  let v598 : BitVec 32 := Scalar.extui v597
  let v599 : BitVec 32 := Scalar.subi v596 v598
  let v600 : BitVec 1 := Scalar.cmpi .ne v594 v599
  let v601 : BitVec 32 := Scalar.remsi v588 c2_i32_302
  let c0_i32_307 : BitVec 32 := 0#32
  let v602 : BitVec 1 := Scalar.cmpi .ne v601 c0_i32_307
  let v603 : BitVec 1 := Scalar.andi v600 v602
  let v589 : BitVec 32 := Scalar.divsi v588 c2_i32_302
  let c1_i32_308 : BitVec 32 := 1#32
  let v604 : BitVec 32 := Scalar.subi v589 c1_i32_308
  let v605 : BitVec 32 := Scalar.select v603 v604 v589
  let c0_i32_319 : BitVec 32 := 0#32
  let c0_i32_311 : BitVec 32 := 0#32
  let v609 : BitVec 32 := Scalar.subi c0_i32_311 v587
  let c0_i32_313 : BitVec 32 := 0#32
  let v611 : BitVec 1 := Scalar.cmpi .sgt v609 c0_i32_313
  let v612 : BitVec 32 := Scalar.extui v611
  let c0_i32_314 : BitVec 32 := 0#32
  let v613 : BitVec 1 := Scalar.cmpi .slt v609 c0_i32_314
  let v614 : BitVec 32 := Scalar.extui v613
  let v615 : BitVec 32 := Scalar.subi v612 v614
  let c2_i32_312 : BitVec 32 := 2#32
  let c0_i32_315 : BitVec 32 := 0#32
  let v616 : BitVec 1 := Scalar.cmpi .sgt c2_i32_312 c0_i32_315
  let v617 : BitVec 32 := Scalar.extui v616
  let c0_i32_316 : BitVec 32 := 0#32
  let v618 : BitVec 1 := Scalar.cmpi .slt c2_i32_312 c0_i32_316
  let v619 : BitVec 32 := Scalar.extui v618
  let v620 : BitVec 32 := Scalar.subi v617 v619
  let v621 : BitVec 1 := Scalar.cmpi .ne v615 v620
  let v622 : BitVec 32 := Scalar.remsi v609 c2_i32_312
  let c0_i32_317 : BitVec 32 := 0#32
  let v623 : BitVec 1 := Scalar.cmpi .ne v622 c0_i32_317
  let v624 : BitVec 1 := Scalar.andi v621 v623
  let v610 : BitVec 32 := Scalar.divsi v609 c2_i32_312
  let c1_i32_318 : BitVec 32 := 1#32
  let v625 : BitVec 32 := Scalar.subi v610 c1_i32_318
  let v626 : BitVec 32 := Scalar.select v624 v625 v610
  let v627 : BitVec 32 := Scalar.maxsi c0_i32_319 v626
  let v628 : BitVec 32 := Scalar.minsi v605 v627
  let c0_i32_328 : BitVec 32 := 0#32
  let c384_i32_320 : BitVec 32 := 384#32
  let v629 : BitVec 32 := Scalar.subi c384_i32_320 v587
  let c0_i32_322 : BitVec 32 := 0#32
  let v631 : BitVec 1 := Scalar.cmpi .sgt v629 c0_i32_322
  let v632 : BitVec 32 := Scalar.extui v631
  let c0_i32_323 : BitVec 32 := 0#32
  let v633 : BitVec 1 := Scalar.cmpi .slt v629 c0_i32_323
  let v634 : BitVec 32 := Scalar.extui v633
  let v635 : BitVec 32 := Scalar.subi v632 v634
  let c2_i32_321 : BitVec 32 := 2#32
  let c0_i32_324 : BitVec 32 := 0#32
  let v636 : BitVec 1 := Scalar.cmpi .sgt c2_i32_321 c0_i32_324
  let v637 : BitVec 32 := Scalar.extui v636
  let c0_i32_325 : BitVec 32 := 0#32
  let v638 : BitVec 1 := Scalar.cmpi .slt c2_i32_321 c0_i32_325
  let v639 : BitVec 32 := Scalar.extui v638
  let v640 : BitVec 32 := Scalar.subi v637 v639
  let v641 : BitVec 1 := Scalar.cmpi .ne v635 v640
  let v642 : BitVec 32 := Scalar.remsi v629 c2_i32_321
  let c0_i32_326 : BitVec 32 := 0#32
  let v643 : BitVec 1 := Scalar.cmpi .ne v642 c0_i32_326
  let v644 : BitVec 1 := Scalar.andi v641 v643
  let v630 : BitVec 32 := Scalar.divsi v629 c2_i32_321
  let c1_i32_327 : BitVec 32 := 1#32
  let v645 : BitVec 32 := Scalar.subi v630 c1_i32_327
  let v646 : BitVec 32 := Scalar.select v644 v645 v630
  let v647 : BitVec 32 := Scalar.maxsi c0_i32_328 v646
  let v648 : BitVec 32 := Scalar.minsi v605 v647
  let v649 : BitVec 32 := Scalar.subi v648 v628
  let c1_i32_329 : BitVec 32 := 1#32
  let v651 : BitVec 32 := Scalar.divsi v649 c1_i32_329
  let v652 : BitVec 32 := Scalar.muli v651 c1_i32_329
  let v653 : BitVec 32 := Scalar.addi v628 v652
  let c1_i32_330 : BitVec 32 := 1#32
  ⟨v628, v653, c1_i32_330⟩

def k0_off44 (v585 : BitVec 32) (v587 : BitVec 32) (k0_t17 : Fin (k0_t17_loop v585 v587).trips) : Fin 2 → Nat :=
  let c1_i32_301 : BitVec 32 := 1#32
  let v588 : BitVec 32 := Scalar.addi v585 c1_i32_301
  let c0_i32_303 : BitVec 32 := 0#32
  let v590 : BitVec 1 := Scalar.cmpi .sgt v588 c0_i32_303
  let v591 : BitVec 32 := Scalar.extui v590
  let c0_i32_304 : BitVec 32 := 0#32
  let v592 : BitVec 1 := Scalar.cmpi .slt v588 c0_i32_304
  let v593 : BitVec 32 := Scalar.extui v592
  let v594 : BitVec 32 := Scalar.subi v591 v593
  let c2_i32_302 : BitVec 32 := 2#32
  let c0_i32_305 : BitVec 32 := 0#32
  let v595 : BitVec 1 := Scalar.cmpi .sgt c2_i32_302 c0_i32_305
  let v596 : BitVec 32 := Scalar.extui v595
  let c0_i32_306 : BitVec 32 := 0#32
  let v597 : BitVec 1 := Scalar.cmpi .slt c2_i32_302 c0_i32_306
  let v598 : BitVec 32 := Scalar.extui v597
  let v599 : BitVec 32 := Scalar.subi v596 v598
  let v600 : BitVec 1 := Scalar.cmpi .ne v594 v599
  let v601 : BitVec 32 := Scalar.remsi v588 c2_i32_302
  let c0_i32_307 : BitVec 32 := 0#32
  let v602 : BitVec 1 := Scalar.cmpi .ne v601 c0_i32_307
  let v603 : BitVec 1 := Scalar.andi v600 v602
  let v589 : BitVec 32 := Scalar.divsi v588 c2_i32_302
  let c1_i32_308 : BitVec 32 := 1#32
  let v604 : BitVec 32 := Scalar.subi v589 c1_i32_308
  let v605 : BitVec 32 := Scalar.select v603 v604 v589
  let c0_i32_319 : BitVec 32 := 0#32
  let c0_i32_311 : BitVec 32 := 0#32
  let v609 : BitVec 32 := Scalar.subi c0_i32_311 v587
  let c0_i32_313 : BitVec 32 := 0#32
  let v611 : BitVec 1 := Scalar.cmpi .sgt v609 c0_i32_313
  let v612 : BitVec 32 := Scalar.extui v611
  let c0_i32_314 : BitVec 32 := 0#32
  let v613 : BitVec 1 := Scalar.cmpi .slt v609 c0_i32_314
  let v614 : BitVec 32 := Scalar.extui v613
  let v615 : BitVec 32 := Scalar.subi v612 v614
  let c2_i32_312 : BitVec 32 := 2#32
  let c0_i32_315 : BitVec 32 := 0#32
  let v616 : BitVec 1 := Scalar.cmpi .sgt c2_i32_312 c0_i32_315
  let v617 : BitVec 32 := Scalar.extui v616
  let c0_i32_316 : BitVec 32 := 0#32
  let v618 : BitVec 1 := Scalar.cmpi .slt c2_i32_312 c0_i32_316
  let v619 : BitVec 32 := Scalar.extui v618
  let v620 : BitVec 32 := Scalar.subi v617 v619
  let v621 : BitVec 1 := Scalar.cmpi .ne v615 v620
  let v622 : BitVec 32 := Scalar.remsi v609 c2_i32_312
  let c0_i32_317 : BitVec 32 := 0#32
  let v623 : BitVec 1 := Scalar.cmpi .ne v622 c0_i32_317
  let v624 : BitVec 1 := Scalar.andi v621 v623
  let v610 : BitVec 32 := Scalar.divsi v609 c2_i32_312
  let c1_i32_318 : BitVec 32 := 1#32
  let v625 : BitVec 32 := Scalar.subi v610 c1_i32_318
  let v626 : BitVec 32 := Scalar.select v624 v625 v610
  let v627 : BitVec 32 := Scalar.maxsi c0_i32_319 v626
  let v628 : BitVec 32 := Scalar.minsi v605 v627
  let c1_i32_330 : BitVec 32 := 1#32
  let arg23 : BitVec 32 := Scf.iv v628 c1_i32_330 k0_t17
  let c2_i32_613 : BitVec 32 := 2#32
  let v1306 : BitVec 32 := Scalar.muli arg23 c2_i32_613
  let v1307 : BitVec 32 := Scalar.addi v587 v1306
  let c0_i32_614 : BitVec 32 := 0#32
  let v1308 : BitVec 32 := Scalar.subi v1307 c0_i32_614
  let c0_i32_615 : BitVec 32 := 0#32
  ![v1308.toNat, 0]
def k0_off45 (v585 : BitVec 32) (v587 : BitVec 32) (k0_t17 : Fin (k0_t17_loop v585 v587).trips) : Fin 2 → Nat :=
  let c1_i32_612 : BitVec 32 := 1#32
  let v1304 : BitVec 32 := Scalar.shrsi v587 c1_i32_612
  let c1_i32_301 : BitVec 32 := 1#32
  let v588 : BitVec 32 := Scalar.addi v585 c1_i32_301
  let c0_i32_303 : BitVec 32 := 0#32
  let v590 : BitVec 1 := Scalar.cmpi .sgt v588 c0_i32_303
  let v591 : BitVec 32 := Scalar.extui v590
  let c0_i32_304 : BitVec 32 := 0#32
  let v592 : BitVec 1 := Scalar.cmpi .slt v588 c0_i32_304
  let v593 : BitVec 32 := Scalar.extui v592
  let v594 : BitVec 32 := Scalar.subi v591 v593
  let c2_i32_302 : BitVec 32 := 2#32
  let c0_i32_305 : BitVec 32 := 0#32
  let v595 : BitVec 1 := Scalar.cmpi .sgt c2_i32_302 c0_i32_305
  let v596 : BitVec 32 := Scalar.extui v595
  let c0_i32_306 : BitVec 32 := 0#32
  let v597 : BitVec 1 := Scalar.cmpi .slt c2_i32_302 c0_i32_306
  let v598 : BitVec 32 := Scalar.extui v597
  let v599 : BitVec 32 := Scalar.subi v596 v598
  let v600 : BitVec 1 := Scalar.cmpi .ne v594 v599
  let v601 : BitVec 32 := Scalar.remsi v588 c2_i32_302
  let c0_i32_307 : BitVec 32 := 0#32
  let v602 : BitVec 1 := Scalar.cmpi .ne v601 c0_i32_307
  let v603 : BitVec 1 := Scalar.andi v600 v602
  let v589 : BitVec 32 := Scalar.divsi v588 c2_i32_302
  let c1_i32_308 : BitVec 32 := 1#32
  let v604 : BitVec 32 := Scalar.subi v589 c1_i32_308
  let v605 : BitVec 32 := Scalar.select v603 v604 v589
  let c0_i32_319 : BitVec 32 := 0#32
  let c0_i32_311 : BitVec 32 := 0#32
  let v609 : BitVec 32 := Scalar.subi c0_i32_311 v587
  let c0_i32_313 : BitVec 32 := 0#32
  let v611 : BitVec 1 := Scalar.cmpi .sgt v609 c0_i32_313
  let v612 : BitVec 32 := Scalar.extui v611
  let c0_i32_314 : BitVec 32 := 0#32
  let v613 : BitVec 1 := Scalar.cmpi .slt v609 c0_i32_314
  let v614 : BitVec 32 := Scalar.extui v613
  let v615 : BitVec 32 := Scalar.subi v612 v614
  let c2_i32_312 : BitVec 32 := 2#32
  let c0_i32_315 : BitVec 32 := 0#32
  let v616 : BitVec 1 := Scalar.cmpi .sgt c2_i32_312 c0_i32_315
  let v617 : BitVec 32 := Scalar.extui v616
  let c0_i32_316 : BitVec 32 := 0#32
  let v618 : BitVec 1 := Scalar.cmpi .slt c2_i32_312 c0_i32_316
  let v619 : BitVec 32 := Scalar.extui v618
  let v620 : BitVec 32 := Scalar.subi v617 v619
  let v621 : BitVec 1 := Scalar.cmpi .ne v615 v620
  let v622 : BitVec 32 := Scalar.remsi v609 c2_i32_312
  let c0_i32_317 : BitVec 32 := 0#32
  let v623 : BitVec 1 := Scalar.cmpi .ne v622 c0_i32_317
  let v624 : BitVec 1 := Scalar.andi v621 v623
  let v610 : BitVec 32 := Scalar.divsi v609 c2_i32_312
  let c1_i32_318 : BitVec 32 := 1#32
  let v625 : BitVec 32 := Scalar.subi v610 c1_i32_318
  let v626 : BitVec 32 := Scalar.select v624 v625 v610
  let v627 : BitVec 32 := Scalar.maxsi c0_i32_319 v626
  let v628 : BitVec 32 := Scalar.minsi v605 v627
  let c1_i32_330 : BitVec 32 := 1#32
  let arg23 : BitVec 32 := Scf.iv v628 c1_i32_330 k0_t17
  let v1305 : BitVec 32 := Scalar.addi v1304 arg23
  let c0_i32_616 : BitVec 32 := 0#32
  ![v1305.toNat, 0]
def k0_off46 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_309 : BitVec 32 := 16#32
  let v606 : BitVec 32 := Scalar.muli arg21 c16_i32_309
  let c6_i32 : BitVec 32 := 6#32
  let v607 : BitVec 32 := Scalar.addi v606 c6_i32
  let c128_i32_310 : BitVec 32 := 128#32
  let v608 : BitVec 32 := Scalar.muli v607 c128_i32_310
  ![0, v608.toNat]
@[reducible] def k0_t18_loop (v585 : BitVec 32) (v587 : BitVec 32) : Scf.Loop 32 :=
  let c1_i32_301 : BitVec 32 := 1#32
  let v588 : BitVec 32 := Scalar.addi v585 c1_i32_301
  let c0_i32_303 : BitVec 32 := 0#32
  let v590 : BitVec 1 := Scalar.cmpi .sgt v588 c0_i32_303
  let v591 : BitVec 32 := Scalar.extui v590
  let c0_i32_304 : BitVec 32 := 0#32
  let v592 : BitVec 1 := Scalar.cmpi .slt v588 c0_i32_304
  let v593 : BitVec 32 := Scalar.extui v592
  let v594 : BitVec 32 := Scalar.subi v591 v593
  let c2_i32_302 : BitVec 32 := 2#32
  let c0_i32_305 : BitVec 32 := 0#32
  let v595 : BitVec 1 := Scalar.cmpi .sgt c2_i32_302 c0_i32_305
  let v596 : BitVec 32 := Scalar.extui v595
  let c0_i32_306 : BitVec 32 := 0#32
  let v597 : BitVec 1 := Scalar.cmpi .slt c2_i32_302 c0_i32_306
  let v598 : BitVec 32 := Scalar.extui v597
  let v599 : BitVec 32 := Scalar.subi v596 v598
  let v600 : BitVec 1 := Scalar.cmpi .ne v594 v599
  let v601 : BitVec 32 := Scalar.remsi v588 c2_i32_302
  let c0_i32_307 : BitVec 32 := 0#32
  let v602 : BitVec 1 := Scalar.cmpi .ne v601 c0_i32_307
  let v603 : BitVec 1 := Scalar.andi v600 v602
  let v589 : BitVec 32 := Scalar.divsi v588 c2_i32_302
  let c1_i32_308 : BitVec 32 := 1#32
  let v604 : BitVec 32 := Scalar.subi v589 c1_i32_308
  let v605 : BitVec 32 := Scalar.select v603 v604 v589
  let c0_i32_319 : BitVec 32 := 0#32
  let c0_i32_311 : BitVec 32 := 0#32
  let v609 : BitVec 32 := Scalar.subi c0_i32_311 v587
  let c0_i32_313 : BitVec 32 := 0#32
  let v611 : BitVec 1 := Scalar.cmpi .sgt v609 c0_i32_313
  let v612 : BitVec 32 := Scalar.extui v611
  let c0_i32_314 : BitVec 32 := 0#32
  let v613 : BitVec 1 := Scalar.cmpi .slt v609 c0_i32_314
  let v614 : BitVec 32 := Scalar.extui v613
  let v615 : BitVec 32 := Scalar.subi v612 v614
  let c2_i32_312 : BitVec 32 := 2#32
  let c0_i32_315 : BitVec 32 := 0#32
  let v616 : BitVec 1 := Scalar.cmpi .sgt c2_i32_312 c0_i32_315
  let v617 : BitVec 32 := Scalar.extui v616
  let c0_i32_316 : BitVec 32 := 0#32
  let v618 : BitVec 1 := Scalar.cmpi .slt c2_i32_312 c0_i32_316
  let v619 : BitVec 32 := Scalar.extui v618
  let v620 : BitVec 32 := Scalar.subi v617 v619
  let v621 : BitVec 1 := Scalar.cmpi .ne v615 v620
  let v622 : BitVec 32 := Scalar.remsi v609 c2_i32_312
  let c0_i32_317 : BitVec 32 := 0#32
  let v623 : BitVec 1 := Scalar.cmpi .ne v622 c0_i32_317
  let v624 : BitVec 1 := Scalar.andi v621 v623
  let v610 : BitVec 32 := Scalar.divsi v609 c2_i32_312
  let c1_i32_318 : BitVec 32 := 1#32
  let v625 : BitVec 32 := Scalar.subi v610 c1_i32_318
  let v626 : BitVec 32 := Scalar.select v624 v625 v610
  let v627 : BitVec 32 := Scalar.maxsi c0_i32_319 v626
  let v628 : BitVec 32 := Scalar.minsi v605 v627
  let c0_i32_328 : BitVec 32 := 0#32
  let c384_i32_320 : BitVec 32 := 384#32
  let v629 : BitVec 32 := Scalar.subi c384_i32_320 v587
  let c0_i32_322 : BitVec 32 := 0#32
  let v631 : BitVec 1 := Scalar.cmpi .sgt v629 c0_i32_322
  let v632 : BitVec 32 := Scalar.extui v631
  let c0_i32_323 : BitVec 32 := 0#32
  let v633 : BitVec 1 := Scalar.cmpi .slt v629 c0_i32_323
  let v634 : BitVec 32 := Scalar.extui v633
  let v635 : BitVec 32 := Scalar.subi v632 v634
  let c2_i32_321 : BitVec 32 := 2#32
  let c0_i32_324 : BitVec 32 := 0#32
  let v636 : BitVec 1 := Scalar.cmpi .sgt c2_i32_321 c0_i32_324
  let v637 : BitVec 32 := Scalar.extui v636
  let c0_i32_325 : BitVec 32 := 0#32
  let v638 : BitVec 1 := Scalar.cmpi .slt c2_i32_321 c0_i32_325
  let v639 : BitVec 32 := Scalar.extui v638
  let v640 : BitVec 32 := Scalar.subi v637 v639
  let v641 : BitVec 1 := Scalar.cmpi .ne v635 v640
  let v642 : BitVec 32 := Scalar.remsi v629 c2_i32_321
  let c0_i32_326 : BitVec 32 := 0#32
  let v643 : BitVec 1 := Scalar.cmpi .ne v642 c0_i32_326
  let v644 : BitVec 1 := Scalar.andi v641 v643
  let v630 : BitVec 32 := Scalar.divsi v629 c2_i32_321
  let c1_i32_327 : BitVec 32 := 1#32
  let v645 : BitVec 32 := Scalar.subi v630 c1_i32_327
  let v646 : BitVec 32 := Scalar.select v644 v645 v630
  let v647 : BitVec 32 := Scalar.maxsi c0_i32_328 v646
  let v648 : BitVec 32 := Scalar.minsi v605 v647
  let v649 : BitVec 32 := Scalar.subi v648 v628
  let c1_i32_329 : BitVec 32 := 1#32
  let v651 : BitVec 32 := Scalar.divsi v649 c1_i32_329
  let v652 : BitVec 32 := Scalar.muli v651 c1_i32_329
  let v653 : BitVec 32 := Scalar.addi v628 v652
  let v650 : BitVec 32 := Scalar.addi v628 v649
  let c1_i32_331 : BitVec 32 := 1#32
  ⟨v653, v650, c1_i32_331⟩
def k0_off47 (v585 : BitVec 32) (v587 : BitVec 32) (k0_t18 : Fin (k0_t18_loop v585 v587).trips) : Fin 2 → Nat :=
  let c1_i32_301 : BitVec 32 := 1#32
  let v588 : BitVec 32 := Scalar.addi v585 c1_i32_301
  let c0_i32_303 : BitVec 32 := 0#32
  let v590 : BitVec 1 := Scalar.cmpi .sgt v588 c0_i32_303
  let v591 : BitVec 32 := Scalar.extui v590
  let c0_i32_304 : BitVec 32 := 0#32
  let v592 : BitVec 1 := Scalar.cmpi .slt v588 c0_i32_304
  let v593 : BitVec 32 := Scalar.extui v592
  let v594 : BitVec 32 := Scalar.subi v591 v593
  let c2_i32_302 : BitVec 32 := 2#32
  let c0_i32_305 : BitVec 32 := 0#32
  let v595 : BitVec 1 := Scalar.cmpi .sgt c2_i32_302 c0_i32_305
  let v596 : BitVec 32 := Scalar.extui v595
  let c0_i32_306 : BitVec 32 := 0#32
  let v597 : BitVec 1 := Scalar.cmpi .slt c2_i32_302 c0_i32_306
  let v598 : BitVec 32 := Scalar.extui v597
  let v599 : BitVec 32 := Scalar.subi v596 v598
  let v600 : BitVec 1 := Scalar.cmpi .ne v594 v599
  let v601 : BitVec 32 := Scalar.remsi v588 c2_i32_302
  let c0_i32_307 : BitVec 32 := 0#32
  let v602 : BitVec 1 := Scalar.cmpi .ne v601 c0_i32_307
  let v603 : BitVec 1 := Scalar.andi v600 v602
  let v589 : BitVec 32 := Scalar.divsi v588 c2_i32_302
  let c1_i32_308 : BitVec 32 := 1#32
  let v604 : BitVec 32 := Scalar.subi v589 c1_i32_308
  let v605 : BitVec 32 := Scalar.select v603 v604 v589
  let c0_i32_319 : BitVec 32 := 0#32
  let c0_i32_311 : BitVec 32 := 0#32
  let v609 : BitVec 32 := Scalar.subi c0_i32_311 v587
  let c0_i32_313 : BitVec 32 := 0#32
  let v611 : BitVec 1 := Scalar.cmpi .sgt v609 c0_i32_313
  let v612 : BitVec 32 := Scalar.extui v611
  let c0_i32_314 : BitVec 32 := 0#32
  let v613 : BitVec 1 := Scalar.cmpi .slt v609 c0_i32_314
  let v614 : BitVec 32 := Scalar.extui v613
  let v615 : BitVec 32 := Scalar.subi v612 v614
  let c2_i32_312 : BitVec 32 := 2#32
  let c0_i32_315 : BitVec 32 := 0#32
  let v616 : BitVec 1 := Scalar.cmpi .sgt c2_i32_312 c0_i32_315
  let v617 : BitVec 32 := Scalar.extui v616
  let c0_i32_316 : BitVec 32 := 0#32
  let v618 : BitVec 1 := Scalar.cmpi .slt c2_i32_312 c0_i32_316
  let v619 : BitVec 32 := Scalar.extui v618
  let v620 : BitVec 32 := Scalar.subi v617 v619
  let v621 : BitVec 1 := Scalar.cmpi .ne v615 v620
  let v622 : BitVec 32 := Scalar.remsi v609 c2_i32_312
  let c0_i32_317 : BitVec 32 := 0#32
  let v623 : BitVec 1 := Scalar.cmpi .ne v622 c0_i32_317
  let v624 : BitVec 1 := Scalar.andi v621 v623
  let v610 : BitVec 32 := Scalar.divsi v609 c2_i32_312
  let c1_i32_318 : BitVec 32 := 1#32
  let v625 : BitVec 32 := Scalar.subi v610 c1_i32_318
  let v626 : BitVec 32 := Scalar.select v624 v625 v610
  let v627 : BitVec 32 := Scalar.maxsi c0_i32_319 v626
  let v628 : BitVec 32 := Scalar.minsi v605 v627
  let c0_i32_328 : BitVec 32 := 0#32
  let c384_i32_320 : BitVec 32 := 384#32
  let v629 : BitVec 32 := Scalar.subi c384_i32_320 v587
  let c0_i32_322 : BitVec 32 := 0#32
  let v631 : BitVec 1 := Scalar.cmpi .sgt v629 c0_i32_322
  let v632 : BitVec 32 := Scalar.extui v631
  let c0_i32_323 : BitVec 32 := 0#32
  let v633 : BitVec 1 := Scalar.cmpi .slt v629 c0_i32_323
  let v634 : BitVec 32 := Scalar.extui v633
  let v635 : BitVec 32 := Scalar.subi v632 v634
  let c2_i32_321 : BitVec 32 := 2#32
  let c0_i32_324 : BitVec 32 := 0#32
  let v636 : BitVec 1 := Scalar.cmpi .sgt c2_i32_321 c0_i32_324
  let v637 : BitVec 32 := Scalar.extui v636
  let c0_i32_325 : BitVec 32 := 0#32
  let v638 : BitVec 1 := Scalar.cmpi .slt c2_i32_321 c0_i32_325
  let v639 : BitVec 32 := Scalar.extui v638
  let v640 : BitVec 32 := Scalar.subi v637 v639
  let v641 : BitVec 1 := Scalar.cmpi .ne v635 v640
  let v642 : BitVec 32 := Scalar.remsi v629 c2_i32_321
  let c0_i32_326 : BitVec 32 := 0#32
  let v643 : BitVec 1 := Scalar.cmpi .ne v642 c0_i32_326
  let v644 : BitVec 1 := Scalar.andi v641 v643
  let v630 : BitVec 32 := Scalar.divsi v629 c2_i32_321
  let c1_i32_327 : BitVec 32 := 1#32
  let v645 : BitVec 32 := Scalar.subi v630 c1_i32_327
  let v646 : BitVec 32 := Scalar.select v644 v645 v630
  let v647 : BitVec 32 := Scalar.maxsi c0_i32_328 v646
  let v648 : BitVec 32 := Scalar.minsi v605 v647
  let v649 : BitVec 32 := Scalar.subi v648 v628
  let c1_i32_329 : BitVec 32 := 1#32
  let v651 : BitVec 32 := Scalar.divsi v649 c1_i32_329
  let v652 : BitVec 32 := Scalar.muli v651 c1_i32_329
  let v653 : BitVec 32 := Scalar.addi v628 v652
  let c1_i32_331 : BitVec 32 := 1#32
  let arg23 : BitVec 32 := Scf.iv v653 c1_i32_331 k0_t18
  let c2_i32_613 : BitVec 32 := 2#32
  let v1306 : BitVec 32 := Scalar.muli arg23 c2_i32_613
  let v1307 : BitVec 32 := Scalar.addi v587 v1306
  let c0_i32_614 : BitVec 32 := 0#32
  let v1308 : BitVec 32 := Scalar.subi v1307 c0_i32_614
  let c0_i32_615 : BitVec 32 := 0#32
  ![v1308.toNat, 0]
def k0_off48 (v585 : BitVec 32) (v587 : BitVec 32) (k0_t18 : Fin (k0_t18_loop v585 v587).trips) : Fin 2 → Nat :=
  let c1_i32_612 : BitVec 32 := 1#32
  let v1304 : BitVec 32 := Scalar.shrsi v587 c1_i32_612
  let c1_i32_301 : BitVec 32 := 1#32
  let v588 : BitVec 32 := Scalar.addi v585 c1_i32_301
  let c0_i32_303 : BitVec 32 := 0#32
  let v590 : BitVec 1 := Scalar.cmpi .sgt v588 c0_i32_303
  let v591 : BitVec 32 := Scalar.extui v590
  let c0_i32_304 : BitVec 32 := 0#32
  let v592 : BitVec 1 := Scalar.cmpi .slt v588 c0_i32_304
  let v593 : BitVec 32 := Scalar.extui v592
  let v594 : BitVec 32 := Scalar.subi v591 v593
  let c2_i32_302 : BitVec 32 := 2#32
  let c0_i32_305 : BitVec 32 := 0#32
  let v595 : BitVec 1 := Scalar.cmpi .sgt c2_i32_302 c0_i32_305
  let v596 : BitVec 32 := Scalar.extui v595
  let c0_i32_306 : BitVec 32 := 0#32
  let v597 : BitVec 1 := Scalar.cmpi .slt c2_i32_302 c0_i32_306
  let v598 : BitVec 32 := Scalar.extui v597
  let v599 : BitVec 32 := Scalar.subi v596 v598
  let v600 : BitVec 1 := Scalar.cmpi .ne v594 v599
  let v601 : BitVec 32 := Scalar.remsi v588 c2_i32_302
  let c0_i32_307 : BitVec 32 := 0#32
  let v602 : BitVec 1 := Scalar.cmpi .ne v601 c0_i32_307
  let v603 : BitVec 1 := Scalar.andi v600 v602
  let v589 : BitVec 32 := Scalar.divsi v588 c2_i32_302
  let c1_i32_308 : BitVec 32 := 1#32
  let v604 : BitVec 32 := Scalar.subi v589 c1_i32_308
  let v605 : BitVec 32 := Scalar.select v603 v604 v589
  let c0_i32_319 : BitVec 32 := 0#32
  let c0_i32_311 : BitVec 32 := 0#32
  let v609 : BitVec 32 := Scalar.subi c0_i32_311 v587
  let c0_i32_313 : BitVec 32 := 0#32
  let v611 : BitVec 1 := Scalar.cmpi .sgt v609 c0_i32_313
  let v612 : BitVec 32 := Scalar.extui v611
  let c0_i32_314 : BitVec 32 := 0#32
  let v613 : BitVec 1 := Scalar.cmpi .slt v609 c0_i32_314
  let v614 : BitVec 32 := Scalar.extui v613
  let v615 : BitVec 32 := Scalar.subi v612 v614
  let c2_i32_312 : BitVec 32 := 2#32
  let c0_i32_315 : BitVec 32 := 0#32
  let v616 : BitVec 1 := Scalar.cmpi .sgt c2_i32_312 c0_i32_315
  let v617 : BitVec 32 := Scalar.extui v616
  let c0_i32_316 : BitVec 32 := 0#32
  let v618 : BitVec 1 := Scalar.cmpi .slt c2_i32_312 c0_i32_316
  let v619 : BitVec 32 := Scalar.extui v618
  let v620 : BitVec 32 := Scalar.subi v617 v619
  let v621 : BitVec 1 := Scalar.cmpi .ne v615 v620
  let v622 : BitVec 32 := Scalar.remsi v609 c2_i32_312
  let c0_i32_317 : BitVec 32 := 0#32
  let v623 : BitVec 1 := Scalar.cmpi .ne v622 c0_i32_317
  let v624 : BitVec 1 := Scalar.andi v621 v623
  let v610 : BitVec 32 := Scalar.divsi v609 c2_i32_312
  let c1_i32_318 : BitVec 32 := 1#32
  let v625 : BitVec 32 := Scalar.subi v610 c1_i32_318
  let v626 : BitVec 32 := Scalar.select v624 v625 v610
  let v627 : BitVec 32 := Scalar.maxsi c0_i32_319 v626
  let v628 : BitVec 32 := Scalar.minsi v605 v627
  let c0_i32_328 : BitVec 32 := 0#32
  let c384_i32_320 : BitVec 32 := 384#32
  let v629 : BitVec 32 := Scalar.subi c384_i32_320 v587
  let c0_i32_322 : BitVec 32 := 0#32
  let v631 : BitVec 1 := Scalar.cmpi .sgt v629 c0_i32_322
  let v632 : BitVec 32 := Scalar.extui v631
  let c0_i32_323 : BitVec 32 := 0#32
  let v633 : BitVec 1 := Scalar.cmpi .slt v629 c0_i32_323
  let v634 : BitVec 32 := Scalar.extui v633
  let v635 : BitVec 32 := Scalar.subi v632 v634
  let c2_i32_321 : BitVec 32 := 2#32
  let c0_i32_324 : BitVec 32 := 0#32
  let v636 : BitVec 1 := Scalar.cmpi .sgt c2_i32_321 c0_i32_324
  let v637 : BitVec 32 := Scalar.extui v636
  let c0_i32_325 : BitVec 32 := 0#32
  let v638 : BitVec 1 := Scalar.cmpi .slt c2_i32_321 c0_i32_325
  let v639 : BitVec 32 := Scalar.extui v638
  let v640 : BitVec 32 := Scalar.subi v637 v639
  let v641 : BitVec 1 := Scalar.cmpi .ne v635 v640
  let v642 : BitVec 32 := Scalar.remsi v629 c2_i32_321
  let c0_i32_326 : BitVec 32 := 0#32
  let v643 : BitVec 1 := Scalar.cmpi .ne v642 c0_i32_326
  let v644 : BitVec 1 := Scalar.andi v641 v643
  let v630 : BitVec 32 := Scalar.divsi v629 c2_i32_321
  let c1_i32_327 : BitVec 32 := 1#32
  let v645 : BitVec 32 := Scalar.subi v630 c1_i32_327
  let v646 : BitVec 32 := Scalar.select v644 v645 v630
  let v647 : BitVec 32 := Scalar.maxsi c0_i32_328 v646
  let v648 : BitVec 32 := Scalar.minsi v605 v647
  let v649 : BitVec 32 := Scalar.subi v648 v628
  let c1_i32_329 : BitVec 32 := 1#32
  let v651 : BitVec 32 := Scalar.divsi v649 c1_i32_329
  let v652 : BitVec 32 := Scalar.muli v651 c1_i32_329
  let v653 : BitVec 32 := Scalar.addi v628 v652
  let c1_i32_331 : BitVec 32 := 1#32
  let arg23 : BitVec 32 := Scf.iv v653 c1_i32_331 k0_t18
  let v1305 : BitVec 32 := Scalar.addi v1304 arg23
  let c0_i32_616 : BitVec 32 := 0#32
  ![v1305.toNat, 0]

def k0_chk12 (v585 : BitVec 32) (v587 : BitVec 32) : Prop :=
  ((k0_t17_loop v585 v587).OK) ∧
  (∀ k0_t17 : Fin (k0_t17_loop v585 v587).trips, ∀ a, (k0_off44 v585 v587 k0_t17) a + S2x128.size a ≤ S384x128.size a) ∧
  (∀ k0_t17 : Fin (k0_t17_loop v585 v587).trips, ∀ a, (k0_off45 v585 v587 k0_t17) a + S1x2.size a ≤ S584x2.size a) ∧
  ((k0_t18_loop v585 v587).OK) ∧
  (∀ k0_t18 : Fin (k0_t18_loop v585 v587).trips, ∀ a, (k0_off47 v585 v587 k0_t18) a + S2x128.size a ≤ S384x128.size a) ∧
  (∀ k0_t18 : Fin (k0_t18_loop v585 v587).trips, ∀ a, (k0_off48 v585 v587 k0_t18) a + S1x2.size a ≤ S584x2.size a)
theorem k0_t17_ok : ∀ (v585 : BitVec 32) (v587 : BitVec 32) (k0_hw12 : k0_chk12 v585 v587), (k0_t17_loop v585 v587).OK := fun v585 v587 k0_hw12 => k0_hw12.1
theorem k0_off44_inb : ∀ (v585 : BitVec 32) (v587 : BitVec 32) (k0_hw12 : k0_chk12 v585 v587) (k0_t17 : Fin (k0_t17_loop v585 v587).trips), ∀ a, (k0_off44 v585 v587 k0_t17) a + S2x128.size a ≤ S384x128.size a := fun v585 v587 k0_hw12 k0_t17 => k0_hw12.2.1 k0_t17
theorem k0_off45_inb : ∀ (v585 : BitVec 32) (v587 : BitVec 32) (k0_hw12 : k0_chk12 v585 v587) (k0_t17 : Fin (k0_t17_loop v585 v587).trips), ∀ a, (k0_off45 v585 v587 k0_t17) a + S1x2.size a ≤ S584x2.size a := fun v585 v587 k0_hw12 k0_t17 => k0_hw12.2.2.1 k0_t17
theorem k0_t18_ok : ∀ (v585 : BitVec 32) (v587 : BitVec 32) (k0_hw12 : k0_chk12 v585 v587), (k0_t18_loop v585 v587).OK := fun v585 v587 k0_hw12 => k0_hw12.2.2.2.1
theorem k0_off47_inb : ∀ (v585 : BitVec 32) (v587 : BitVec 32) (k0_hw12 : k0_chk12 v585 v587) (k0_t18 : Fin (k0_t18_loop v585 v587).trips), ∀ a, (k0_off47 v585 v587 k0_t18) a + S2x128.size a ≤ S384x128.size a := fun v585 v587 k0_hw12 k0_t18 => k0_hw12.2.2.2.2.1 k0_t18
theorem k0_off48_inb : ∀ (v585 : BitVec 32) (v587 : BitVec 32) (k0_hw12 : k0_chk12 v585 v587) (k0_t18 : Fin (k0_t18_loop v585 v587).trips), ∀ a, (k0_off48 v585 v587 k0_t18) a + S1x2.size a ≤ S584x2.size a := fun v585 v587 k0_hw12 k0_t18 => k0_hw12.2.2.2.2.2 k0_t18

def k0_off49 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_309 : BitVec 32 := 16#32
  let v606 : BitVec 32 := Scalar.muli arg21 c16_i32_309
  let c6_i32 : BitVec 32 := 6#32
  let v607 : BitVec 32 := Scalar.addi v606 c6_i32
  let c128_i32_310 : BitVec 32 := 128#32
  let v608 : BitVec 32 := Scalar.muli v607 c128_i32_310
  ![0, v608.toNat]
@[reducible] def k0_t19_loop (v657 : BitVec 32) (v659 : BitVec 32) : Scf.Loop 32 :=
  let c1_i32_332 : BitVec 32 := 1#32
  let v660 : BitVec 32 := Scalar.addi v657 c1_i32_332
  let c0_i32_334 : BitVec 32 := 0#32
  let v662 : BitVec 1 := Scalar.cmpi .sgt v660 c0_i32_334
  let v663 : BitVec 32 := Scalar.extui v662
  let c0_i32_335 : BitVec 32 := 0#32
  let v664 : BitVec 1 := Scalar.cmpi .slt v660 c0_i32_335
  let v665 : BitVec 32 := Scalar.extui v664
  let v666 : BitVec 32 := Scalar.subi v663 v665
  let c2_i32_333 : BitVec 32 := 2#32
  let c0_i32_336 : BitVec 32 := 0#32
  let v667 : BitVec 1 := Scalar.cmpi .sgt c2_i32_333 c0_i32_336
  let v668 : BitVec 32 := Scalar.extui v667
  let c0_i32_337 : BitVec 32 := 0#32
  let v669 : BitVec 1 := Scalar.cmpi .slt c2_i32_333 c0_i32_337
  let v670 : BitVec 32 := Scalar.extui v669
  let v671 : BitVec 32 := Scalar.subi v668 v670
  let v672 : BitVec 1 := Scalar.cmpi .ne v666 v671
  let v673 : BitVec 32 := Scalar.remsi v660 c2_i32_333
  let c0_i32_338 : BitVec 32 := 0#32
  let v674 : BitVec 1 := Scalar.cmpi .ne v673 c0_i32_338
  let v675 : BitVec 1 := Scalar.andi v672 v674
  let v661 : BitVec 32 := Scalar.divsi v660 c2_i32_333
  let c1_i32_339 : BitVec 32 := 1#32
  let v676 : BitVec 32 := Scalar.subi v661 c1_i32_339
  let v677 : BitVec 32 := Scalar.select v675 v676 v661
  let c0_i32_351 : BitVec 32 := 0#32
  let c0_i32_343 : BitVec 32 := 0#32
  let v681 : BitVec 32 := Scalar.subi c0_i32_343 v659
  let c0_i32_345 : BitVec 32 := 0#32
  let v683 : BitVec 1 := Scalar.cmpi .sgt v681 c0_i32_345
  let v684 : BitVec 32 := Scalar.extui v683
  let c0_i32_346 : BitVec 32 := 0#32
  let v685 : BitVec 1 := Scalar.cmpi .slt v681 c0_i32_346
  let v686 : BitVec 32 := Scalar.extui v685
  let v687 : BitVec 32 := Scalar.subi v684 v686
  let c2_i32_344 : BitVec 32 := 2#32
  let c0_i32_347 : BitVec 32 := 0#32
  let v688 : BitVec 1 := Scalar.cmpi .sgt c2_i32_344 c0_i32_347
  let v689 : BitVec 32 := Scalar.extui v688
  let c0_i32_348 : BitVec 32 := 0#32
  let v690 : BitVec 1 := Scalar.cmpi .slt c2_i32_344 c0_i32_348
  let v691 : BitVec 32 := Scalar.extui v690
  let v692 : BitVec 32 := Scalar.subi v689 v691
  let v693 : BitVec 1 := Scalar.cmpi .ne v687 v692
  let v694 : BitVec 32 := Scalar.remsi v681 c2_i32_344
  let c0_i32_349 : BitVec 32 := 0#32
  let v695 : BitVec 1 := Scalar.cmpi .ne v694 c0_i32_349
  let v696 : BitVec 1 := Scalar.andi v693 v695
  let v682 : BitVec 32 := Scalar.divsi v681 c2_i32_344
  let c1_i32_350 : BitVec 32 := 1#32
  let v697 : BitVec 32 := Scalar.subi v682 c1_i32_350
  let v698 : BitVec 32 := Scalar.select v696 v697 v682
  let v699 : BitVec 32 := Scalar.maxsi c0_i32_351 v698
  let v700 : BitVec 32 := Scalar.minsi v677 v699
  let c0_i32_360 : BitVec 32 := 0#32
  let c384_i32_352 : BitVec 32 := 384#32
  let v701 : BitVec 32 := Scalar.subi c384_i32_352 v659
  let c0_i32_354 : BitVec 32 := 0#32
  let v703 : BitVec 1 := Scalar.cmpi .sgt v701 c0_i32_354
  let v704 : BitVec 32 := Scalar.extui v703
  let c0_i32_355 : BitVec 32 := 0#32
  let v705 : BitVec 1 := Scalar.cmpi .slt v701 c0_i32_355
  let v706 : BitVec 32 := Scalar.extui v705
  let v707 : BitVec 32 := Scalar.subi v704 v706
  let c2_i32_353 : BitVec 32 := 2#32
  let c0_i32_356 : BitVec 32 := 0#32
  let v708 : BitVec 1 := Scalar.cmpi .sgt c2_i32_353 c0_i32_356
  let v709 : BitVec 32 := Scalar.extui v708
  let c0_i32_357 : BitVec 32 := 0#32
  let v710 : BitVec 1 := Scalar.cmpi .slt c2_i32_353 c0_i32_357
  let v711 : BitVec 32 := Scalar.extui v710
  let v712 : BitVec 32 := Scalar.subi v709 v711
  let v713 : BitVec 1 := Scalar.cmpi .ne v707 v712
  let v714 : BitVec 32 := Scalar.remsi v701 c2_i32_353
  let c0_i32_358 : BitVec 32 := 0#32
  let v715 : BitVec 1 := Scalar.cmpi .ne v714 c0_i32_358
  let v716 : BitVec 1 := Scalar.andi v713 v715
  let v702 : BitVec 32 := Scalar.divsi v701 c2_i32_353
  let c1_i32_359 : BitVec 32 := 1#32
  let v717 : BitVec 32 := Scalar.subi v702 c1_i32_359
  let v718 : BitVec 32 := Scalar.select v716 v717 v702
  let v719 : BitVec 32 := Scalar.maxsi c0_i32_360 v718
  let v720 : BitVec 32 := Scalar.minsi v677 v719
  let v721 : BitVec 32 := Scalar.subi v720 v700
  let c1_i32_361 : BitVec 32 := 1#32
  let v723 : BitVec 32 := Scalar.divsi v721 c1_i32_361
  let v724 : BitVec 32 := Scalar.muli v723 c1_i32_361
  let v725 : BitVec 32 := Scalar.addi v700 v724
  let c1_i32_362 : BitVec 32 := 1#32
  ⟨v700, v725, c1_i32_362⟩

def k0_off50 (v657 : BitVec 32) (v659 : BitVec 32) (k0_t19 : Fin (k0_t19_loop v657 v659).trips) : Fin 2 → Nat :=
  let c1_i32_332 : BitVec 32 := 1#32
  let v660 : BitVec 32 := Scalar.addi v657 c1_i32_332
  let c0_i32_334 : BitVec 32 := 0#32
  let v662 : BitVec 1 := Scalar.cmpi .sgt v660 c0_i32_334
  let v663 : BitVec 32 := Scalar.extui v662
  let c0_i32_335 : BitVec 32 := 0#32
  let v664 : BitVec 1 := Scalar.cmpi .slt v660 c0_i32_335
  let v665 : BitVec 32 := Scalar.extui v664
  let v666 : BitVec 32 := Scalar.subi v663 v665
  let c2_i32_333 : BitVec 32 := 2#32
  let c0_i32_336 : BitVec 32 := 0#32
  let v667 : BitVec 1 := Scalar.cmpi .sgt c2_i32_333 c0_i32_336
  let v668 : BitVec 32 := Scalar.extui v667
  let c0_i32_337 : BitVec 32 := 0#32
  let v669 : BitVec 1 := Scalar.cmpi .slt c2_i32_333 c0_i32_337
  let v670 : BitVec 32 := Scalar.extui v669
  let v671 : BitVec 32 := Scalar.subi v668 v670
  let v672 : BitVec 1 := Scalar.cmpi .ne v666 v671
  let v673 : BitVec 32 := Scalar.remsi v660 c2_i32_333
  let c0_i32_338 : BitVec 32 := 0#32
  let v674 : BitVec 1 := Scalar.cmpi .ne v673 c0_i32_338
  let v675 : BitVec 1 := Scalar.andi v672 v674
  let v661 : BitVec 32 := Scalar.divsi v660 c2_i32_333
  let c1_i32_339 : BitVec 32 := 1#32
  let v676 : BitVec 32 := Scalar.subi v661 c1_i32_339
  let v677 : BitVec 32 := Scalar.select v675 v676 v661
  let c0_i32_351 : BitVec 32 := 0#32
  let c0_i32_343 : BitVec 32 := 0#32
  let v681 : BitVec 32 := Scalar.subi c0_i32_343 v659
  let c0_i32_345 : BitVec 32 := 0#32
  let v683 : BitVec 1 := Scalar.cmpi .sgt v681 c0_i32_345
  let v684 : BitVec 32 := Scalar.extui v683
  let c0_i32_346 : BitVec 32 := 0#32
  let v685 : BitVec 1 := Scalar.cmpi .slt v681 c0_i32_346
  let v686 : BitVec 32 := Scalar.extui v685
  let v687 : BitVec 32 := Scalar.subi v684 v686
  let c2_i32_344 : BitVec 32 := 2#32
  let c0_i32_347 : BitVec 32 := 0#32
  let v688 : BitVec 1 := Scalar.cmpi .sgt c2_i32_344 c0_i32_347
  let v689 : BitVec 32 := Scalar.extui v688
  let c0_i32_348 : BitVec 32 := 0#32
  let v690 : BitVec 1 := Scalar.cmpi .slt c2_i32_344 c0_i32_348
  let v691 : BitVec 32 := Scalar.extui v690
  let v692 : BitVec 32 := Scalar.subi v689 v691
  let v693 : BitVec 1 := Scalar.cmpi .ne v687 v692
  let v694 : BitVec 32 := Scalar.remsi v681 c2_i32_344
  let c0_i32_349 : BitVec 32 := 0#32
  let v695 : BitVec 1 := Scalar.cmpi .ne v694 c0_i32_349
  let v696 : BitVec 1 := Scalar.andi v693 v695
  let v682 : BitVec 32 := Scalar.divsi v681 c2_i32_344
  let c1_i32_350 : BitVec 32 := 1#32
  let v697 : BitVec 32 := Scalar.subi v682 c1_i32_350
  let v698 : BitVec 32 := Scalar.select v696 v697 v682
  let v699 : BitVec 32 := Scalar.maxsi c0_i32_351 v698
  let v700 : BitVec 32 := Scalar.minsi v677 v699
  let c1_i32_362 : BitVec 32 := 1#32
  let arg23 : BitVec 32 := Scf.iv v700 c1_i32_362 k0_t19
  let c2_i32_613 : BitVec 32 := 2#32
  let v1306 : BitVec 32 := Scalar.muli arg23 c2_i32_613
  let v1307 : BitVec 32 := Scalar.addi v659 v1306
  let c0_i32_614 : BitVec 32 := 0#32
  let v1308 : BitVec 32 := Scalar.subi v1307 c0_i32_614
  let c0_i32_615 : BitVec 32 := 0#32
  ![v1308.toNat, 0]
def k0_off51 (v657 : BitVec 32) (v659 : BitVec 32) (k0_t19 : Fin (k0_t19_loop v657 v659).trips) : Fin 2 → Nat :=
  let c1_i32_612 : BitVec 32 := 1#32
  let v1304 : BitVec 32 := Scalar.shrsi v659 c1_i32_612
  let c1_i32_332 : BitVec 32 := 1#32
  let v660 : BitVec 32 := Scalar.addi v657 c1_i32_332
  let c0_i32_334 : BitVec 32 := 0#32
  let v662 : BitVec 1 := Scalar.cmpi .sgt v660 c0_i32_334
  let v663 : BitVec 32 := Scalar.extui v662
  let c0_i32_335 : BitVec 32 := 0#32
  let v664 : BitVec 1 := Scalar.cmpi .slt v660 c0_i32_335
  let v665 : BitVec 32 := Scalar.extui v664
  let v666 : BitVec 32 := Scalar.subi v663 v665
  let c2_i32_333 : BitVec 32 := 2#32
  let c0_i32_336 : BitVec 32 := 0#32
  let v667 : BitVec 1 := Scalar.cmpi .sgt c2_i32_333 c0_i32_336
  let v668 : BitVec 32 := Scalar.extui v667
  let c0_i32_337 : BitVec 32 := 0#32
  let v669 : BitVec 1 := Scalar.cmpi .slt c2_i32_333 c0_i32_337
  let v670 : BitVec 32 := Scalar.extui v669
  let v671 : BitVec 32 := Scalar.subi v668 v670
  let v672 : BitVec 1 := Scalar.cmpi .ne v666 v671
  let v673 : BitVec 32 := Scalar.remsi v660 c2_i32_333
  let c0_i32_338 : BitVec 32 := 0#32
  let v674 : BitVec 1 := Scalar.cmpi .ne v673 c0_i32_338
  let v675 : BitVec 1 := Scalar.andi v672 v674
  let v661 : BitVec 32 := Scalar.divsi v660 c2_i32_333
  let c1_i32_339 : BitVec 32 := 1#32
  let v676 : BitVec 32 := Scalar.subi v661 c1_i32_339
  let v677 : BitVec 32 := Scalar.select v675 v676 v661
  let c0_i32_351 : BitVec 32 := 0#32
  let c0_i32_343 : BitVec 32 := 0#32
  let v681 : BitVec 32 := Scalar.subi c0_i32_343 v659
  let c0_i32_345 : BitVec 32 := 0#32
  let v683 : BitVec 1 := Scalar.cmpi .sgt v681 c0_i32_345
  let v684 : BitVec 32 := Scalar.extui v683
  let c0_i32_346 : BitVec 32 := 0#32
  let v685 : BitVec 1 := Scalar.cmpi .slt v681 c0_i32_346
  let v686 : BitVec 32 := Scalar.extui v685
  let v687 : BitVec 32 := Scalar.subi v684 v686
  let c2_i32_344 : BitVec 32 := 2#32
  let c0_i32_347 : BitVec 32 := 0#32
  let v688 : BitVec 1 := Scalar.cmpi .sgt c2_i32_344 c0_i32_347
  let v689 : BitVec 32 := Scalar.extui v688
  let c0_i32_348 : BitVec 32 := 0#32
  let v690 : BitVec 1 := Scalar.cmpi .slt c2_i32_344 c0_i32_348
  let v691 : BitVec 32 := Scalar.extui v690
  let v692 : BitVec 32 := Scalar.subi v689 v691
  let v693 : BitVec 1 := Scalar.cmpi .ne v687 v692
  let v694 : BitVec 32 := Scalar.remsi v681 c2_i32_344
  let c0_i32_349 : BitVec 32 := 0#32
  let v695 : BitVec 1 := Scalar.cmpi .ne v694 c0_i32_349
  let v696 : BitVec 1 := Scalar.andi v693 v695
  let v682 : BitVec 32 := Scalar.divsi v681 c2_i32_344
  let c1_i32_350 : BitVec 32 := 1#32
  let v697 : BitVec 32 := Scalar.subi v682 c1_i32_350
  let v698 : BitVec 32 := Scalar.select v696 v697 v682
  let v699 : BitVec 32 := Scalar.maxsi c0_i32_351 v698
  let v700 : BitVec 32 := Scalar.minsi v677 v699
  let c1_i32_362 : BitVec 32 := 1#32
  let arg23 : BitVec 32 := Scf.iv v700 c1_i32_362 k0_t19
  let v1305 : BitVec 32 := Scalar.addi v1304 arg23
  let c0_i32_616 : BitVec 32 := 0#32
  ![v1305.toNat, 0]
def k0_off52 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_340 : BitVec 32 := 16#32
  let v678 : BitVec 32 := Scalar.muli arg21 c16_i32_340
  let c7_i32_341 : BitVec 32 := 7#32
  let v679 : BitVec 32 := Scalar.addi v678 c7_i32_341
  let c128_i32_342 : BitVec 32 := 128#32
  let v680 : BitVec 32 := Scalar.muli v679 c128_i32_342
  ![0, v680.toNat]
@[reducible] def k0_t20_loop (v657 : BitVec 32) (v659 : BitVec 32) : Scf.Loop 32 :=
  let c1_i32_332 : BitVec 32 := 1#32
  let v660 : BitVec 32 := Scalar.addi v657 c1_i32_332
  let c0_i32_334 : BitVec 32 := 0#32
  let v662 : BitVec 1 := Scalar.cmpi .sgt v660 c0_i32_334
  let v663 : BitVec 32 := Scalar.extui v662
  let c0_i32_335 : BitVec 32 := 0#32
  let v664 : BitVec 1 := Scalar.cmpi .slt v660 c0_i32_335
  let v665 : BitVec 32 := Scalar.extui v664
  let v666 : BitVec 32 := Scalar.subi v663 v665
  let c2_i32_333 : BitVec 32 := 2#32
  let c0_i32_336 : BitVec 32 := 0#32
  let v667 : BitVec 1 := Scalar.cmpi .sgt c2_i32_333 c0_i32_336
  let v668 : BitVec 32 := Scalar.extui v667
  let c0_i32_337 : BitVec 32 := 0#32
  let v669 : BitVec 1 := Scalar.cmpi .slt c2_i32_333 c0_i32_337
  let v670 : BitVec 32 := Scalar.extui v669
  let v671 : BitVec 32 := Scalar.subi v668 v670
  let v672 : BitVec 1 := Scalar.cmpi .ne v666 v671
  let v673 : BitVec 32 := Scalar.remsi v660 c2_i32_333
  let c0_i32_338 : BitVec 32 := 0#32
  let v674 : BitVec 1 := Scalar.cmpi .ne v673 c0_i32_338
  let v675 : BitVec 1 := Scalar.andi v672 v674
  let v661 : BitVec 32 := Scalar.divsi v660 c2_i32_333
  let c1_i32_339 : BitVec 32 := 1#32
  let v676 : BitVec 32 := Scalar.subi v661 c1_i32_339
  let v677 : BitVec 32 := Scalar.select v675 v676 v661
  let c0_i32_351 : BitVec 32 := 0#32
  let c0_i32_343 : BitVec 32 := 0#32
  let v681 : BitVec 32 := Scalar.subi c0_i32_343 v659
  let c0_i32_345 : BitVec 32 := 0#32
  let v683 : BitVec 1 := Scalar.cmpi .sgt v681 c0_i32_345
  let v684 : BitVec 32 := Scalar.extui v683
  let c0_i32_346 : BitVec 32 := 0#32
  let v685 : BitVec 1 := Scalar.cmpi .slt v681 c0_i32_346
  let v686 : BitVec 32 := Scalar.extui v685
  let v687 : BitVec 32 := Scalar.subi v684 v686
  let c2_i32_344 : BitVec 32 := 2#32
  let c0_i32_347 : BitVec 32 := 0#32
  let v688 : BitVec 1 := Scalar.cmpi .sgt c2_i32_344 c0_i32_347
  let v689 : BitVec 32 := Scalar.extui v688
  let c0_i32_348 : BitVec 32 := 0#32
  let v690 : BitVec 1 := Scalar.cmpi .slt c2_i32_344 c0_i32_348
  let v691 : BitVec 32 := Scalar.extui v690
  let v692 : BitVec 32 := Scalar.subi v689 v691
  let v693 : BitVec 1 := Scalar.cmpi .ne v687 v692
  let v694 : BitVec 32 := Scalar.remsi v681 c2_i32_344
  let c0_i32_349 : BitVec 32 := 0#32
  let v695 : BitVec 1 := Scalar.cmpi .ne v694 c0_i32_349
  let v696 : BitVec 1 := Scalar.andi v693 v695
  let v682 : BitVec 32 := Scalar.divsi v681 c2_i32_344
  let c1_i32_350 : BitVec 32 := 1#32
  let v697 : BitVec 32 := Scalar.subi v682 c1_i32_350
  let v698 : BitVec 32 := Scalar.select v696 v697 v682
  let v699 : BitVec 32 := Scalar.maxsi c0_i32_351 v698
  let v700 : BitVec 32 := Scalar.minsi v677 v699
  let c0_i32_360 : BitVec 32 := 0#32
  let c384_i32_352 : BitVec 32 := 384#32
  let v701 : BitVec 32 := Scalar.subi c384_i32_352 v659
  let c0_i32_354 : BitVec 32 := 0#32
  let v703 : BitVec 1 := Scalar.cmpi .sgt v701 c0_i32_354
  let v704 : BitVec 32 := Scalar.extui v703
  let c0_i32_355 : BitVec 32 := 0#32
  let v705 : BitVec 1 := Scalar.cmpi .slt v701 c0_i32_355
  let v706 : BitVec 32 := Scalar.extui v705
  let v707 : BitVec 32 := Scalar.subi v704 v706
  let c2_i32_353 : BitVec 32 := 2#32
  let c0_i32_356 : BitVec 32 := 0#32
  let v708 : BitVec 1 := Scalar.cmpi .sgt c2_i32_353 c0_i32_356
  let v709 : BitVec 32 := Scalar.extui v708
  let c0_i32_357 : BitVec 32 := 0#32
  let v710 : BitVec 1 := Scalar.cmpi .slt c2_i32_353 c0_i32_357
  let v711 : BitVec 32 := Scalar.extui v710
  let v712 : BitVec 32 := Scalar.subi v709 v711
  let v713 : BitVec 1 := Scalar.cmpi .ne v707 v712
  let v714 : BitVec 32 := Scalar.remsi v701 c2_i32_353
  let c0_i32_358 : BitVec 32 := 0#32
  let v715 : BitVec 1 := Scalar.cmpi .ne v714 c0_i32_358
  let v716 : BitVec 1 := Scalar.andi v713 v715
  let v702 : BitVec 32 := Scalar.divsi v701 c2_i32_353
  let c1_i32_359 : BitVec 32 := 1#32
  let v717 : BitVec 32 := Scalar.subi v702 c1_i32_359
  let v718 : BitVec 32 := Scalar.select v716 v717 v702
  let v719 : BitVec 32 := Scalar.maxsi c0_i32_360 v718
  let v720 : BitVec 32 := Scalar.minsi v677 v719
  let v721 : BitVec 32 := Scalar.subi v720 v700
  let c1_i32_361 : BitVec 32 := 1#32
  let v723 : BitVec 32 := Scalar.divsi v721 c1_i32_361
  let v724 : BitVec 32 := Scalar.muli v723 c1_i32_361
  let v725 : BitVec 32 := Scalar.addi v700 v724
  let v722 : BitVec 32 := Scalar.addi v700 v721
  let c1_i32_363 : BitVec 32 := 1#32
  ⟨v725, v722, c1_i32_363⟩
def k0_off53 (v657 : BitVec 32) (v659 : BitVec 32) (k0_t20 : Fin (k0_t20_loop v657 v659).trips) : Fin 2 → Nat :=
  let c1_i32_332 : BitVec 32 := 1#32
  let v660 : BitVec 32 := Scalar.addi v657 c1_i32_332
  let c0_i32_334 : BitVec 32 := 0#32
  let v662 : BitVec 1 := Scalar.cmpi .sgt v660 c0_i32_334
  let v663 : BitVec 32 := Scalar.extui v662
  let c0_i32_335 : BitVec 32 := 0#32
  let v664 : BitVec 1 := Scalar.cmpi .slt v660 c0_i32_335
  let v665 : BitVec 32 := Scalar.extui v664
  let v666 : BitVec 32 := Scalar.subi v663 v665
  let c2_i32_333 : BitVec 32 := 2#32
  let c0_i32_336 : BitVec 32 := 0#32
  let v667 : BitVec 1 := Scalar.cmpi .sgt c2_i32_333 c0_i32_336
  let v668 : BitVec 32 := Scalar.extui v667
  let c0_i32_337 : BitVec 32 := 0#32
  let v669 : BitVec 1 := Scalar.cmpi .slt c2_i32_333 c0_i32_337
  let v670 : BitVec 32 := Scalar.extui v669
  let v671 : BitVec 32 := Scalar.subi v668 v670
  let v672 : BitVec 1 := Scalar.cmpi .ne v666 v671
  let v673 : BitVec 32 := Scalar.remsi v660 c2_i32_333
  let c0_i32_338 : BitVec 32 := 0#32
  let v674 : BitVec 1 := Scalar.cmpi .ne v673 c0_i32_338
  let v675 : BitVec 1 := Scalar.andi v672 v674
  let v661 : BitVec 32 := Scalar.divsi v660 c2_i32_333
  let c1_i32_339 : BitVec 32 := 1#32
  let v676 : BitVec 32 := Scalar.subi v661 c1_i32_339
  let v677 : BitVec 32 := Scalar.select v675 v676 v661
  let c0_i32_351 : BitVec 32 := 0#32
  let c0_i32_343 : BitVec 32 := 0#32
  let v681 : BitVec 32 := Scalar.subi c0_i32_343 v659
  let c0_i32_345 : BitVec 32 := 0#32
  let v683 : BitVec 1 := Scalar.cmpi .sgt v681 c0_i32_345
  let v684 : BitVec 32 := Scalar.extui v683
  let c0_i32_346 : BitVec 32 := 0#32
  let v685 : BitVec 1 := Scalar.cmpi .slt v681 c0_i32_346
  let v686 : BitVec 32 := Scalar.extui v685
  let v687 : BitVec 32 := Scalar.subi v684 v686
  let c2_i32_344 : BitVec 32 := 2#32
  let c0_i32_347 : BitVec 32 := 0#32
  let v688 : BitVec 1 := Scalar.cmpi .sgt c2_i32_344 c0_i32_347
  let v689 : BitVec 32 := Scalar.extui v688
  let c0_i32_348 : BitVec 32 := 0#32
  let v690 : BitVec 1 := Scalar.cmpi .slt c2_i32_344 c0_i32_348
  let v691 : BitVec 32 := Scalar.extui v690
  let v692 : BitVec 32 := Scalar.subi v689 v691
  let v693 : BitVec 1 := Scalar.cmpi .ne v687 v692
  let v694 : BitVec 32 := Scalar.remsi v681 c2_i32_344
  let c0_i32_349 : BitVec 32 := 0#32
  let v695 : BitVec 1 := Scalar.cmpi .ne v694 c0_i32_349
  let v696 : BitVec 1 := Scalar.andi v693 v695
  let v682 : BitVec 32 := Scalar.divsi v681 c2_i32_344
  let c1_i32_350 : BitVec 32 := 1#32
  let v697 : BitVec 32 := Scalar.subi v682 c1_i32_350
  let v698 : BitVec 32 := Scalar.select v696 v697 v682
  let v699 : BitVec 32 := Scalar.maxsi c0_i32_351 v698
  let v700 : BitVec 32 := Scalar.minsi v677 v699
  let c0_i32_360 : BitVec 32 := 0#32
  let c384_i32_352 : BitVec 32 := 384#32
  let v701 : BitVec 32 := Scalar.subi c384_i32_352 v659
  let c0_i32_354 : BitVec 32 := 0#32
  let v703 : BitVec 1 := Scalar.cmpi .sgt v701 c0_i32_354
  let v704 : BitVec 32 := Scalar.extui v703
  let c0_i32_355 : BitVec 32 := 0#32
  let v705 : BitVec 1 := Scalar.cmpi .slt v701 c0_i32_355
  let v706 : BitVec 32 := Scalar.extui v705
  let v707 : BitVec 32 := Scalar.subi v704 v706
  let c2_i32_353 : BitVec 32 := 2#32
  let c0_i32_356 : BitVec 32 := 0#32
  let v708 : BitVec 1 := Scalar.cmpi .sgt c2_i32_353 c0_i32_356
  let v709 : BitVec 32 := Scalar.extui v708
  let c0_i32_357 : BitVec 32 := 0#32
  let v710 : BitVec 1 := Scalar.cmpi .slt c2_i32_353 c0_i32_357
  let v711 : BitVec 32 := Scalar.extui v710
  let v712 : BitVec 32 := Scalar.subi v709 v711
  let v713 : BitVec 1 := Scalar.cmpi .ne v707 v712
  let v714 : BitVec 32 := Scalar.remsi v701 c2_i32_353
  let c0_i32_358 : BitVec 32 := 0#32
  let v715 : BitVec 1 := Scalar.cmpi .ne v714 c0_i32_358
  let v716 : BitVec 1 := Scalar.andi v713 v715
  let v702 : BitVec 32 := Scalar.divsi v701 c2_i32_353
  let c1_i32_359 : BitVec 32 := 1#32
  let v717 : BitVec 32 := Scalar.subi v702 c1_i32_359
  let v718 : BitVec 32 := Scalar.select v716 v717 v702
  let v719 : BitVec 32 := Scalar.maxsi c0_i32_360 v718
  let v720 : BitVec 32 := Scalar.minsi v677 v719
  let v721 : BitVec 32 := Scalar.subi v720 v700
  let c1_i32_361 : BitVec 32 := 1#32
  let v723 : BitVec 32 := Scalar.divsi v721 c1_i32_361
  let v724 : BitVec 32 := Scalar.muli v723 c1_i32_361
  let v725 : BitVec 32 := Scalar.addi v700 v724
  let c1_i32_363 : BitVec 32 := 1#32
  let arg23 : BitVec 32 := Scf.iv v725 c1_i32_363 k0_t20
  let c2_i32_613 : BitVec 32 := 2#32
  let v1306 : BitVec 32 := Scalar.muli arg23 c2_i32_613
  let v1307 : BitVec 32 := Scalar.addi v659 v1306
  let c0_i32_614 : BitVec 32 := 0#32
  let v1308 : BitVec 32 := Scalar.subi v1307 c0_i32_614
  let c0_i32_615 : BitVec 32 := 0#32
  ![v1308.toNat, 0]
def k0_off54 (v657 : BitVec 32) (v659 : BitVec 32) (k0_t20 : Fin (k0_t20_loop v657 v659).trips) : Fin 2 → Nat :=
  let c1_i32_612 : BitVec 32 := 1#32
  let v1304 : BitVec 32 := Scalar.shrsi v659 c1_i32_612
  let c1_i32_332 : BitVec 32 := 1#32
  let v660 : BitVec 32 := Scalar.addi v657 c1_i32_332
  let c0_i32_334 : BitVec 32 := 0#32
  let v662 : BitVec 1 := Scalar.cmpi .sgt v660 c0_i32_334
  let v663 : BitVec 32 := Scalar.extui v662
  let c0_i32_335 : BitVec 32 := 0#32
  let v664 : BitVec 1 := Scalar.cmpi .slt v660 c0_i32_335
  let v665 : BitVec 32 := Scalar.extui v664
  let v666 : BitVec 32 := Scalar.subi v663 v665
  let c2_i32_333 : BitVec 32 := 2#32
  let c0_i32_336 : BitVec 32 := 0#32
  let v667 : BitVec 1 := Scalar.cmpi .sgt c2_i32_333 c0_i32_336
  let v668 : BitVec 32 := Scalar.extui v667
  let c0_i32_337 : BitVec 32 := 0#32
  let v669 : BitVec 1 := Scalar.cmpi .slt c2_i32_333 c0_i32_337
  let v670 : BitVec 32 := Scalar.extui v669
  let v671 : BitVec 32 := Scalar.subi v668 v670
  let v672 : BitVec 1 := Scalar.cmpi .ne v666 v671
  let v673 : BitVec 32 := Scalar.remsi v660 c2_i32_333
  let c0_i32_338 : BitVec 32 := 0#32
  let v674 : BitVec 1 := Scalar.cmpi .ne v673 c0_i32_338
  let v675 : BitVec 1 := Scalar.andi v672 v674
  let v661 : BitVec 32 := Scalar.divsi v660 c2_i32_333
  let c1_i32_339 : BitVec 32 := 1#32
  let v676 : BitVec 32 := Scalar.subi v661 c1_i32_339
  let v677 : BitVec 32 := Scalar.select v675 v676 v661
  let c0_i32_351 : BitVec 32 := 0#32
  let c0_i32_343 : BitVec 32 := 0#32
  let v681 : BitVec 32 := Scalar.subi c0_i32_343 v659
  let c0_i32_345 : BitVec 32 := 0#32
  let v683 : BitVec 1 := Scalar.cmpi .sgt v681 c0_i32_345
  let v684 : BitVec 32 := Scalar.extui v683
  let c0_i32_346 : BitVec 32 := 0#32
  let v685 : BitVec 1 := Scalar.cmpi .slt v681 c0_i32_346
  let v686 : BitVec 32 := Scalar.extui v685
  let v687 : BitVec 32 := Scalar.subi v684 v686
  let c2_i32_344 : BitVec 32 := 2#32
  let c0_i32_347 : BitVec 32 := 0#32
  let v688 : BitVec 1 := Scalar.cmpi .sgt c2_i32_344 c0_i32_347
  let v689 : BitVec 32 := Scalar.extui v688
  let c0_i32_348 : BitVec 32 := 0#32
  let v690 : BitVec 1 := Scalar.cmpi .slt c2_i32_344 c0_i32_348
  let v691 : BitVec 32 := Scalar.extui v690
  let v692 : BitVec 32 := Scalar.subi v689 v691
  let v693 : BitVec 1 := Scalar.cmpi .ne v687 v692
  let v694 : BitVec 32 := Scalar.remsi v681 c2_i32_344
  let c0_i32_349 : BitVec 32 := 0#32
  let v695 : BitVec 1 := Scalar.cmpi .ne v694 c0_i32_349
  let v696 : BitVec 1 := Scalar.andi v693 v695
  let v682 : BitVec 32 := Scalar.divsi v681 c2_i32_344
  let c1_i32_350 : BitVec 32 := 1#32
  let v697 : BitVec 32 := Scalar.subi v682 c1_i32_350
  let v698 : BitVec 32 := Scalar.select v696 v697 v682
  let v699 : BitVec 32 := Scalar.maxsi c0_i32_351 v698
  let v700 : BitVec 32 := Scalar.minsi v677 v699
  let c0_i32_360 : BitVec 32 := 0#32
  let c384_i32_352 : BitVec 32 := 384#32
  let v701 : BitVec 32 := Scalar.subi c384_i32_352 v659
  let c0_i32_354 : BitVec 32 := 0#32
  let v703 : BitVec 1 := Scalar.cmpi .sgt v701 c0_i32_354
  let v704 : BitVec 32 := Scalar.extui v703
  let c0_i32_355 : BitVec 32 := 0#32
  let v705 : BitVec 1 := Scalar.cmpi .slt v701 c0_i32_355
  let v706 : BitVec 32 := Scalar.extui v705
  let v707 : BitVec 32 := Scalar.subi v704 v706
  let c2_i32_353 : BitVec 32 := 2#32
  let c0_i32_356 : BitVec 32 := 0#32
  let v708 : BitVec 1 := Scalar.cmpi .sgt c2_i32_353 c0_i32_356
  let v709 : BitVec 32 := Scalar.extui v708
  let c0_i32_357 : BitVec 32 := 0#32
  let v710 : BitVec 1 := Scalar.cmpi .slt c2_i32_353 c0_i32_357
  let v711 : BitVec 32 := Scalar.extui v710
  let v712 : BitVec 32 := Scalar.subi v709 v711
  let v713 : BitVec 1 := Scalar.cmpi .ne v707 v712
  let v714 : BitVec 32 := Scalar.remsi v701 c2_i32_353
  let c0_i32_358 : BitVec 32 := 0#32
  let v715 : BitVec 1 := Scalar.cmpi .ne v714 c0_i32_358
  let v716 : BitVec 1 := Scalar.andi v713 v715
  let v702 : BitVec 32 := Scalar.divsi v701 c2_i32_353
  let c1_i32_359 : BitVec 32 := 1#32
  let v717 : BitVec 32 := Scalar.subi v702 c1_i32_359
  let v718 : BitVec 32 := Scalar.select v716 v717 v702
  let v719 : BitVec 32 := Scalar.maxsi c0_i32_360 v718
  let v720 : BitVec 32 := Scalar.minsi v677 v719
  let v721 : BitVec 32 := Scalar.subi v720 v700
  let c1_i32_361 : BitVec 32 := 1#32
  let v723 : BitVec 32 := Scalar.divsi v721 c1_i32_361
  let v724 : BitVec 32 := Scalar.muli v723 c1_i32_361
  let v725 : BitVec 32 := Scalar.addi v700 v724
  let c1_i32_363 : BitVec 32 := 1#32
  let arg23 : BitVec 32 := Scf.iv v725 c1_i32_363 k0_t20
  let v1305 : BitVec 32 := Scalar.addi v1304 arg23
  let c0_i32_616 : BitVec 32 := 0#32
  ![v1305.toNat, 0]

def k0_chk13 (v657 : BitVec 32) (v659 : BitVec 32) : Prop :=
  ((k0_t19_loop v657 v659).OK) ∧
  (∀ k0_t19 : Fin (k0_t19_loop v657 v659).trips, ∀ a, (k0_off50 v657 v659 k0_t19) a + S2x128.size a ≤ S384x128.size a) ∧
  (∀ k0_t19 : Fin (k0_t19_loop v657 v659).trips, ∀ a, (k0_off51 v657 v659 k0_t19) a + S1x2.size a ≤ S584x2.size a) ∧
  ((k0_t20_loop v657 v659).OK) ∧
  (∀ k0_t20 : Fin (k0_t20_loop v657 v659).trips, ∀ a, (k0_off53 v657 v659 k0_t20) a + S2x128.size a ≤ S384x128.size a) ∧
  (∀ k0_t20 : Fin (k0_t20_loop v657 v659).trips, ∀ a, (k0_off54 v657 v659 k0_t20) a + S1x2.size a ≤ S584x2.size a)
theorem k0_t19_ok : ∀ (v657 : BitVec 32) (v659 : BitVec 32) (k0_hw13 : k0_chk13 v657 v659), (k0_t19_loop v657 v659).OK := fun v657 v659 k0_hw13 => k0_hw13.1
theorem k0_off50_inb : ∀ (v657 : BitVec 32) (v659 : BitVec 32) (k0_hw13 : k0_chk13 v657 v659) (k0_t19 : Fin (k0_t19_loop v657 v659).trips), ∀ a, (k0_off50 v657 v659 k0_t19) a + S2x128.size a ≤ S384x128.size a := fun v657 v659 k0_hw13 k0_t19 => k0_hw13.2.1 k0_t19
theorem k0_off51_inb : ∀ (v657 : BitVec 32) (v659 : BitVec 32) (k0_hw13 : k0_chk13 v657 v659) (k0_t19 : Fin (k0_t19_loop v657 v659).trips), ∀ a, (k0_off51 v657 v659 k0_t19) a + S1x2.size a ≤ S584x2.size a := fun v657 v659 k0_hw13 k0_t19 => k0_hw13.2.2.1 k0_t19
theorem k0_t20_ok : ∀ (v657 : BitVec 32) (v659 : BitVec 32) (k0_hw13 : k0_chk13 v657 v659), (k0_t20_loop v657 v659).OK := fun v657 v659 k0_hw13 => k0_hw13.2.2.2.1
theorem k0_off53_inb : ∀ (v657 : BitVec 32) (v659 : BitVec 32) (k0_hw13 : k0_chk13 v657 v659) (k0_t20 : Fin (k0_t20_loop v657 v659).trips), ∀ a, (k0_off53 v657 v659 k0_t20) a + S2x128.size a ≤ S384x128.size a := fun v657 v659 k0_hw13 k0_t20 => k0_hw13.2.2.2.2.1 k0_t20
theorem k0_off54_inb : ∀ (v657 : BitVec 32) (v659 : BitVec 32) (k0_hw13 : k0_chk13 v657 v659) (k0_t20 : Fin (k0_t20_loop v657 v659).trips), ∀ a, (k0_off54 v657 v659 k0_t20) a + S1x2.size a ≤ S584x2.size a := fun v657 v659 k0_hw13 k0_t20 => k0_hw13.2.2.2.2.2 k0_t20

def k0_off55 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_340 : BitVec 32 := 16#32
  let v678 : BitVec 32 := Scalar.muli arg21 c16_i32_340
  let c7_i32_341 : BitVec 32 := 7#32
  let v679 : BitVec 32 := Scalar.addi v678 c7_i32_341
  let c128_i32_342 : BitVec 32 := 128#32
  let v680 : BitVec 32 := Scalar.muli v679 c128_i32_342
  ![0, v680.toNat]
@[reducible] def k0_t21_loop (v729 : BitVec 32) (v731 : BitVec 32) : Scf.Loop 32 :=
  let c1_i32_364 : BitVec 32 := 1#32
  let v732 : BitVec 32 := Scalar.addi v729 c1_i32_364
  let c0_i32_366 : BitVec 32 := 0#32
  let v734 : BitVec 1 := Scalar.cmpi .sgt v732 c0_i32_366
  let v735 : BitVec 32 := Scalar.extui v734
  let c0_i32_367 : BitVec 32 := 0#32
  let v736 : BitVec 1 := Scalar.cmpi .slt v732 c0_i32_367
  let v737 : BitVec 32 := Scalar.extui v736
  let v738 : BitVec 32 := Scalar.subi v735 v737
  let c2_i32_365 : BitVec 32 := 2#32
  let c0_i32_368 : BitVec 32 := 0#32
  let v739 : BitVec 1 := Scalar.cmpi .sgt c2_i32_365 c0_i32_368
  let v740 : BitVec 32 := Scalar.extui v739
  let c0_i32_369 : BitVec 32 := 0#32
  let v741 : BitVec 1 := Scalar.cmpi .slt c2_i32_365 c0_i32_369
  let v742 : BitVec 32 := Scalar.extui v741
  let v743 : BitVec 32 := Scalar.subi v740 v742
  let v744 : BitVec 1 := Scalar.cmpi .ne v738 v743
  let v745 : BitVec 32 := Scalar.remsi v732 c2_i32_365
  let c0_i32_370 : BitVec 32 := 0#32
  let v746 : BitVec 1 := Scalar.cmpi .ne v745 c0_i32_370
  let v747 : BitVec 1 := Scalar.andi v744 v746
  let v733 : BitVec 32 := Scalar.divsi v732 c2_i32_365
  let c1_i32_371 : BitVec 32 := 1#32
  let v748 : BitVec 32 := Scalar.subi v733 c1_i32_371
  let v749 : BitVec 32 := Scalar.select v747 v748 v733
  let c0_i32_382 : BitVec 32 := 0#32
  let c0_i32_374 : BitVec 32 := 0#32
  let v753 : BitVec 32 := Scalar.subi c0_i32_374 v731
  let c0_i32_376 : BitVec 32 := 0#32
  let v755 : BitVec 1 := Scalar.cmpi .sgt v753 c0_i32_376
  let v756 : BitVec 32 := Scalar.extui v755
  let c0_i32_377 : BitVec 32 := 0#32
  let v757 : BitVec 1 := Scalar.cmpi .slt v753 c0_i32_377
  let v758 : BitVec 32 := Scalar.extui v757
  let v759 : BitVec 32 := Scalar.subi v756 v758
  let c2_i32_375 : BitVec 32 := 2#32
  let c0_i32_378 : BitVec 32 := 0#32
  let v760 : BitVec 1 := Scalar.cmpi .sgt c2_i32_375 c0_i32_378
  let v761 : BitVec 32 := Scalar.extui v760
  let c0_i32_379 : BitVec 32 := 0#32
  let v762 : BitVec 1 := Scalar.cmpi .slt c2_i32_375 c0_i32_379
  let v763 : BitVec 32 := Scalar.extui v762
  let v764 : BitVec 32 := Scalar.subi v761 v763
  let v765 : BitVec 1 := Scalar.cmpi .ne v759 v764
  let v766 : BitVec 32 := Scalar.remsi v753 c2_i32_375
  let c0_i32_380 : BitVec 32 := 0#32
  let v767 : BitVec 1 := Scalar.cmpi .ne v766 c0_i32_380
  let v768 : BitVec 1 := Scalar.andi v765 v767
  let v754 : BitVec 32 := Scalar.divsi v753 c2_i32_375
  let c1_i32_381 : BitVec 32 := 1#32
  let v769 : BitVec 32 := Scalar.subi v754 c1_i32_381
  let v770 : BitVec 32 := Scalar.select v768 v769 v754
  let v771 : BitVec 32 := Scalar.maxsi c0_i32_382 v770
  let v772 : BitVec 32 := Scalar.minsi v749 v771
  let c0_i32_391 : BitVec 32 := 0#32
  let c384_i32_383 : BitVec 32 := 384#32
  let v773 : BitVec 32 := Scalar.subi c384_i32_383 v731
  let c0_i32_385 : BitVec 32 := 0#32
  let v775 : BitVec 1 := Scalar.cmpi .sgt v773 c0_i32_385
  let v776 : BitVec 32 := Scalar.extui v775
  let c0_i32_386 : BitVec 32 := 0#32
  let v777 : BitVec 1 := Scalar.cmpi .slt v773 c0_i32_386
  let v778 : BitVec 32 := Scalar.extui v777
  let v779 : BitVec 32 := Scalar.subi v776 v778
  let c2_i32_384 : BitVec 32 := 2#32
  let c0_i32_387 : BitVec 32 := 0#32
  let v780 : BitVec 1 := Scalar.cmpi .sgt c2_i32_384 c0_i32_387
  let v781 : BitVec 32 := Scalar.extui v780
  let c0_i32_388 : BitVec 32 := 0#32
  let v782 : BitVec 1 := Scalar.cmpi .slt c2_i32_384 c0_i32_388
  let v783 : BitVec 32 := Scalar.extui v782
  let v784 : BitVec 32 := Scalar.subi v781 v783
  let v785 : BitVec 1 := Scalar.cmpi .ne v779 v784
  let v786 : BitVec 32 := Scalar.remsi v773 c2_i32_384
  let c0_i32_389 : BitVec 32 := 0#32
  let v787 : BitVec 1 := Scalar.cmpi .ne v786 c0_i32_389
  let v788 : BitVec 1 := Scalar.andi v785 v787
  let v774 : BitVec 32 := Scalar.divsi v773 c2_i32_384
  let c1_i32_390 : BitVec 32 := 1#32
  let v789 : BitVec 32 := Scalar.subi v774 c1_i32_390
  let v790 : BitVec 32 := Scalar.select v788 v789 v774
  let v791 : BitVec 32 := Scalar.maxsi c0_i32_391 v790
  let v792 : BitVec 32 := Scalar.minsi v749 v791
  let v793 : BitVec 32 := Scalar.subi v792 v772
  let c1_i32_392 : BitVec 32 := 1#32
  let v795 : BitVec 32 := Scalar.divsi v793 c1_i32_392
  let v796 : BitVec 32 := Scalar.muli v795 c1_i32_392
  let v797 : BitVec 32 := Scalar.addi v772 v796
  let c1_i32_393 : BitVec 32 := 1#32
  ⟨v772, v797, c1_i32_393⟩

def k0_off56 (v729 : BitVec 32) (v731 : BitVec 32) (k0_t21 : Fin (k0_t21_loop v729 v731).trips) : Fin 2 → Nat :=
  let c1_i32_364 : BitVec 32 := 1#32
  let v732 : BitVec 32 := Scalar.addi v729 c1_i32_364
  let c0_i32_366 : BitVec 32 := 0#32
  let v734 : BitVec 1 := Scalar.cmpi .sgt v732 c0_i32_366
  let v735 : BitVec 32 := Scalar.extui v734
  let c0_i32_367 : BitVec 32 := 0#32
  let v736 : BitVec 1 := Scalar.cmpi .slt v732 c0_i32_367
  let v737 : BitVec 32 := Scalar.extui v736
  let v738 : BitVec 32 := Scalar.subi v735 v737
  let c2_i32_365 : BitVec 32 := 2#32
  let c0_i32_368 : BitVec 32 := 0#32
  let v739 : BitVec 1 := Scalar.cmpi .sgt c2_i32_365 c0_i32_368
  let v740 : BitVec 32 := Scalar.extui v739
  let c0_i32_369 : BitVec 32 := 0#32
  let v741 : BitVec 1 := Scalar.cmpi .slt c2_i32_365 c0_i32_369
  let v742 : BitVec 32 := Scalar.extui v741
  let v743 : BitVec 32 := Scalar.subi v740 v742
  let v744 : BitVec 1 := Scalar.cmpi .ne v738 v743
  let v745 : BitVec 32 := Scalar.remsi v732 c2_i32_365
  let c0_i32_370 : BitVec 32 := 0#32
  let v746 : BitVec 1 := Scalar.cmpi .ne v745 c0_i32_370
  let v747 : BitVec 1 := Scalar.andi v744 v746
  let v733 : BitVec 32 := Scalar.divsi v732 c2_i32_365
  let c1_i32_371 : BitVec 32 := 1#32
  let v748 : BitVec 32 := Scalar.subi v733 c1_i32_371
  let v749 : BitVec 32 := Scalar.select v747 v748 v733
  let c0_i32_382 : BitVec 32 := 0#32
  let c0_i32_374 : BitVec 32 := 0#32
  let v753 : BitVec 32 := Scalar.subi c0_i32_374 v731
  let c0_i32_376 : BitVec 32 := 0#32
  let v755 : BitVec 1 := Scalar.cmpi .sgt v753 c0_i32_376
  let v756 : BitVec 32 := Scalar.extui v755
  let c0_i32_377 : BitVec 32 := 0#32
  let v757 : BitVec 1 := Scalar.cmpi .slt v753 c0_i32_377
  let v758 : BitVec 32 := Scalar.extui v757
  let v759 : BitVec 32 := Scalar.subi v756 v758
  let c2_i32_375 : BitVec 32 := 2#32
  let c0_i32_378 : BitVec 32 := 0#32
  let v760 : BitVec 1 := Scalar.cmpi .sgt c2_i32_375 c0_i32_378
  let v761 : BitVec 32 := Scalar.extui v760
  let c0_i32_379 : BitVec 32 := 0#32
  let v762 : BitVec 1 := Scalar.cmpi .slt c2_i32_375 c0_i32_379
  let v763 : BitVec 32 := Scalar.extui v762
  let v764 : BitVec 32 := Scalar.subi v761 v763
  let v765 : BitVec 1 := Scalar.cmpi .ne v759 v764
  let v766 : BitVec 32 := Scalar.remsi v753 c2_i32_375
  let c0_i32_380 : BitVec 32 := 0#32
  let v767 : BitVec 1 := Scalar.cmpi .ne v766 c0_i32_380
  let v768 : BitVec 1 := Scalar.andi v765 v767
  let v754 : BitVec 32 := Scalar.divsi v753 c2_i32_375
  let c1_i32_381 : BitVec 32 := 1#32
  let v769 : BitVec 32 := Scalar.subi v754 c1_i32_381
  let v770 : BitVec 32 := Scalar.select v768 v769 v754
  let v771 : BitVec 32 := Scalar.maxsi c0_i32_382 v770
  let v772 : BitVec 32 := Scalar.minsi v749 v771
  let c1_i32_393 : BitVec 32 := 1#32
  let arg23 : BitVec 32 := Scf.iv v772 c1_i32_393 k0_t21
  let c2_i32_613 : BitVec 32 := 2#32
  let v1306 : BitVec 32 := Scalar.muli arg23 c2_i32_613
  let v1307 : BitVec 32 := Scalar.addi v731 v1306
  let c0_i32_614 : BitVec 32 := 0#32
  let v1308 : BitVec 32 := Scalar.subi v1307 c0_i32_614
  let c0_i32_615 : BitVec 32 := 0#32
  ![v1308.toNat, 0]
def k0_off57 (v729 : BitVec 32) (v731 : BitVec 32) (k0_t21 : Fin (k0_t21_loop v729 v731).trips) : Fin 2 → Nat :=
  let c1_i32_612 : BitVec 32 := 1#32
  let v1304 : BitVec 32 := Scalar.shrsi v731 c1_i32_612
  let c1_i32_364 : BitVec 32 := 1#32
  let v732 : BitVec 32 := Scalar.addi v729 c1_i32_364
  let c0_i32_366 : BitVec 32 := 0#32
  let v734 : BitVec 1 := Scalar.cmpi .sgt v732 c0_i32_366
  let v735 : BitVec 32 := Scalar.extui v734
  let c0_i32_367 : BitVec 32 := 0#32
  let v736 : BitVec 1 := Scalar.cmpi .slt v732 c0_i32_367
  let v737 : BitVec 32 := Scalar.extui v736
  let v738 : BitVec 32 := Scalar.subi v735 v737
  let c2_i32_365 : BitVec 32 := 2#32
  let c0_i32_368 : BitVec 32 := 0#32
  let v739 : BitVec 1 := Scalar.cmpi .sgt c2_i32_365 c0_i32_368
  let v740 : BitVec 32 := Scalar.extui v739
  let c0_i32_369 : BitVec 32 := 0#32
  let v741 : BitVec 1 := Scalar.cmpi .slt c2_i32_365 c0_i32_369
  let v742 : BitVec 32 := Scalar.extui v741
  let v743 : BitVec 32 := Scalar.subi v740 v742
  let v744 : BitVec 1 := Scalar.cmpi .ne v738 v743
  let v745 : BitVec 32 := Scalar.remsi v732 c2_i32_365
  let c0_i32_370 : BitVec 32 := 0#32
  let v746 : BitVec 1 := Scalar.cmpi .ne v745 c0_i32_370
  let v747 : BitVec 1 := Scalar.andi v744 v746
  let v733 : BitVec 32 := Scalar.divsi v732 c2_i32_365
  let c1_i32_371 : BitVec 32 := 1#32
  let v748 : BitVec 32 := Scalar.subi v733 c1_i32_371
  let v749 : BitVec 32 := Scalar.select v747 v748 v733
  let c0_i32_382 : BitVec 32 := 0#32
  let c0_i32_374 : BitVec 32 := 0#32
  let v753 : BitVec 32 := Scalar.subi c0_i32_374 v731
  let c0_i32_376 : BitVec 32 := 0#32
  let v755 : BitVec 1 := Scalar.cmpi .sgt v753 c0_i32_376
  let v756 : BitVec 32 := Scalar.extui v755
  let c0_i32_377 : BitVec 32 := 0#32
  let v757 : BitVec 1 := Scalar.cmpi .slt v753 c0_i32_377
  let v758 : BitVec 32 := Scalar.extui v757
  let v759 : BitVec 32 := Scalar.subi v756 v758
  let c2_i32_375 : BitVec 32 := 2#32
  let c0_i32_378 : BitVec 32 := 0#32
  let v760 : BitVec 1 := Scalar.cmpi .sgt c2_i32_375 c0_i32_378
  let v761 : BitVec 32 := Scalar.extui v760
  let c0_i32_379 : BitVec 32 := 0#32
  let v762 : BitVec 1 := Scalar.cmpi .slt c2_i32_375 c0_i32_379
  let v763 : BitVec 32 := Scalar.extui v762
  let v764 : BitVec 32 := Scalar.subi v761 v763
  let v765 : BitVec 1 := Scalar.cmpi .ne v759 v764
  let v766 : BitVec 32 := Scalar.remsi v753 c2_i32_375
  let c0_i32_380 : BitVec 32 := 0#32
  let v767 : BitVec 1 := Scalar.cmpi .ne v766 c0_i32_380
  let v768 : BitVec 1 := Scalar.andi v765 v767
  let v754 : BitVec 32 := Scalar.divsi v753 c2_i32_375
  let c1_i32_381 : BitVec 32 := 1#32
  let v769 : BitVec 32 := Scalar.subi v754 c1_i32_381
  let v770 : BitVec 32 := Scalar.select v768 v769 v754
  let v771 : BitVec 32 := Scalar.maxsi c0_i32_382 v770
  let v772 : BitVec 32 := Scalar.minsi v749 v771
  let c1_i32_393 : BitVec 32 := 1#32
  let arg23 : BitVec 32 := Scf.iv v772 c1_i32_393 k0_t21
  let v1305 : BitVec 32 := Scalar.addi v1304 arg23
  let c0_i32_616 : BitVec 32 := 0#32
  ![v1305.toNat, 0]
def k0_off58 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_372 : BitVec 32 := 16#32
  let v750 : BitVec 32 := Scalar.muli arg21 c16_i32_372
  let c8_i32 : BitVec 32 := 8#32
  let v751 : BitVec 32 := Scalar.addi v750 c8_i32
  let c128_i32_373 : BitVec 32 := 128#32
  let v752 : BitVec 32 := Scalar.muli v751 c128_i32_373
  ![0, v752.toNat]
@[reducible] def k0_t22_loop (v729 : BitVec 32) (v731 : BitVec 32) : Scf.Loop 32 :=
  let c1_i32_364 : BitVec 32 := 1#32
  let v732 : BitVec 32 := Scalar.addi v729 c1_i32_364
  let c0_i32_366 : BitVec 32 := 0#32
  let v734 : BitVec 1 := Scalar.cmpi .sgt v732 c0_i32_366
  let v735 : BitVec 32 := Scalar.extui v734
  let c0_i32_367 : BitVec 32 := 0#32
  let v736 : BitVec 1 := Scalar.cmpi .slt v732 c0_i32_367
  let v737 : BitVec 32 := Scalar.extui v736
  let v738 : BitVec 32 := Scalar.subi v735 v737
  let c2_i32_365 : BitVec 32 := 2#32
  let c0_i32_368 : BitVec 32 := 0#32
  let v739 : BitVec 1 := Scalar.cmpi .sgt c2_i32_365 c0_i32_368
  let v740 : BitVec 32 := Scalar.extui v739
  let c0_i32_369 : BitVec 32 := 0#32
  let v741 : BitVec 1 := Scalar.cmpi .slt c2_i32_365 c0_i32_369
  let v742 : BitVec 32 := Scalar.extui v741
  let v743 : BitVec 32 := Scalar.subi v740 v742
  let v744 : BitVec 1 := Scalar.cmpi .ne v738 v743
  let v745 : BitVec 32 := Scalar.remsi v732 c2_i32_365
  let c0_i32_370 : BitVec 32 := 0#32
  let v746 : BitVec 1 := Scalar.cmpi .ne v745 c0_i32_370
  let v747 : BitVec 1 := Scalar.andi v744 v746
  let v733 : BitVec 32 := Scalar.divsi v732 c2_i32_365
  let c1_i32_371 : BitVec 32 := 1#32
  let v748 : BitVec 32 := Scalar.subi v733 c1_i32_371
  let v749 : BitVec 32 := Scalar.select v747 v748 v733
  let c0_i32_382 : BitVec 32 := 0#32
  let c0_i32_374 : BitVec 32 := 0#32
  let v753 : BitVec 32 := Scalar.subi c0_i32_374 v731
  let c0_i32_376 : BitVec 32 := 0#32
  let v755 : BitVec 1 := Scalar.cmpi .sgt v753 c0_i32_376
  let v756 : BitVec 32 := Scalar.extui v755
  let c0_i32_377 : BitVec 32 := 0#32
  let v757 : BitVec 1 := Scalar.cmpi .slt v753 c0_i32_377
  let v758 : BitVec 32 := Scalar.extui v757
  let v759 : BitVec 32 := Scalar.subi v756 v758
  let c2_i32_375 : BitVec 32 := 2#32
  let c0_i32_378 : BitVec 32 := 0#32
  let v760 : BitVec 1 := Scalar.cmpi .sgt c2_i32_375 c0_i32_378
  let v761 : BitVec 32 := Scalar.extui v760
  let c0_i32_379 : BitVec 32 := 0#32
  let v762 : BitVec 1 := Scalar.cmpi .slt c2_i32_375 c0_i32_379
  let v763 : BitVec 32 := Scalar.extui v762
  let v764 : BitVec 32 := Scalar.subi v761 v763
  let v765 : BitVec 1 := Scalar.cmpi .ne v759 v764
  let v766 : BitVec 32 := Scalar.remsi v753 c2_i32_375
  let c0_i32_380 : BitVec 32 := 0#32
  let v767 : BitVec 1 := Scalar.cmpi .ne v766 c0_i32_380
  let v768 : BitVec 1 := Scalar.andi v765 v767
  let v754 : BitVec 32 := Scalar.divsi v753 c2_i32_375
  let c1_i32_381 : BitVec 32 := 1#32
  let v769 : BitVec 32 := Scalar.subi v754 c1_i32_381
  let v770 : BitVec 32 := Scalar.select v768 v769 v754
  let v771 : BitVec 32 := Scalar.maxsi c0_i32_382 v770
  let v772 : BitVec 32 := Scalar.minsi v749 v771
  let c0_i32_391 : BitVec 32 := 0#32
  let c384_i32_383 : BitVec 32 := 384#32
  let v773 : BitVec 32 := Scalar.subi c384_i32_383 v731
  let c0_i32_385 : BitVec 32 := 0#32
  let v775 : BitVec 1 := Scalar.cmpi .sgt v773 c0_i32_385
  let v776 : BitVec 32 := Scalar.extui v775
  let c0_i32_386 : BitVec 32 := 0#32
  let v777 : BitVec 1 := Scalar.cmpi .slt v773 c0_i32_386
  let v778 : BitVec 32 := Scalar.extui v777
  let v779 : BitVec 32 := Scalar.subi v776 v778
  let c2_i32_384 : BitVec 32 := 2#32
  let c0_i32_387 : BitVec 32 := 0#32
  let v780 : BitVec 1 := Scalar.cmpi .sgt c2_i32_384 c0_i32_387
  let v781 : BitVec 32 := Scalar.extui v780
  let c0_i32_388 : BitVec 32 := 0#32
  let v782 : BitVec 1 := Scalar.cmpi .slt c2_i32_384 c0_i32_388
  let v783 : BitVec 32 := Scalar.extui v782
  let v784 : BitVec 32 := Scalar.subi v781 v783
  let v785 : BitVec 1 := Scalar.cmpi .ne v779 v784
  let v786 : BitVec 32 := Scalar.remsi v773 c2_i32_384
  let c0_i32_389 : BitVec 32 := 0#32
  let v787 : BitVec 1 := Scalar.cmpi .ne v786 c0_i32_389
  let v788 : BitVec 1 := Scalar.andi v785 v787
  let v774 : BitVec 32 := Scalar.divsi v773 c2_i32_384
  let c1_i32_390 : BitVec 32 := 1#32
  let v789 : BitVec 32 := Scalar.subi v774 c1_i32_390
  let v790 : BitVec 32 := Scalar.select v788 v789 v774
  let v791 : BitVec 32 := Scalar.maxsi c0_i32_391 v790
  let v792 : BitVec 32 := Scalar.minsi v749 v791
  let v793 : BitVec 32 := Scalar.subi v792 v772
  let c1_i32_392 : BitVec 32 := 1#32
  let v795 : BitVec 32 := Scalar.divsi v793 c1_i32_392
  let v796 : BitVec 32 := Scalar.muli v795 c1_i32_392
  let v797 : BitVec 32 := Scalar.addi v772 v796
  let v794 : BitVec 32 := Scalar.addi v772 v793
  let c1_i32_394 : BitVec 32 := 1#32
  ⟨v797, v794, c1_i32_394⟩
def k0_off59 (v729 : BitVec 32) (v731 : BitVec 32) (k0_t22 : Fin (k0_t22_loop v729 v731).trips) : Fin 2 → Nat :=
  let c1_i32_364 : BitVec 32 := 1#32
  let v732 : BitVec 32 := Scalar.addi v729 c1_i32_364
  let c0_i32_366 : BitVec 32 := 0#32
  let v734 : BitVec 1 := Scalar.cmpi .sgt v732 c0_i32_366
  let v735 : BitVec 32 := Scalar.extui v734
  let c0_i32_367 : BitVec 32 := 0#32
  let v736 : BitVec 1 := Scalar.cmpi .slt v732 c0_i32_367
  let v737 : BitVec 32 := Scalar.extui v736
  let v738 : BitVec 32 := Scalar.subi v735 v737
  let c2_i32_365 : BitVec 32 := 2#32
  let c0_i32_368 : BitVec 32 := 0#32
  let v739 : BitVec 1 := Scalar.cmpi .sgt c2_i32_365 c0_i32_368
  let v740 : BitVec 32 := Scalar.extui v739
  let c0_i32_369 : BitVec 32 := 0#32
  let v741 : BitVec 1 := Scalar.cmpi .slt c2_i32_365 c0_i32_369
  let v742 : BitVec 32 := Scalar.extui v741
  let v743 : BitVec 32 := Scalar.subi v740 v742
  let v744 : BitVec 1 := Scalar.cmpi .ne v738 v743
  let v745 : BitVec 32 := Scalar.remsi v732 c2_i32_365
  let c0_i32_370 : BitVec 32 := 0#32
  let v746 : BitVec 1 := Scalar.cmpi .ne v745 c0_i32_370
  let v747 : BitVec 1 := Scalar.andi v744 v746
  let v733 : BitVec 32 := Scalar.divsi v732 c2_i32_365
  let c1_i32_371 : BitVec 32 := 1#32
  let v748 : BitVec 32 := Scalar.subi v733 c1_i32_371
  let v749 : BitVec 32 := Scalar.select v747 v748 v733
  let c0_i32_382 : BitVec 32 := 0#32
  let c0_i32_374 : BitVec 32 := 0#32
  let v753 : BitVec 32 := Scalar.subi c0_i32_374 v731
  let c0_i32_376 : BitVec 32 := 0#32
  let v755 : BitVec 1 := Scalar.cmpi .sgt v753 c0_i32_376
  let v756 : BitVec 32 := Scalar.extui v755
  let c0_i32_377 : BitVec 32 := 0#32
  let v757 : BitVec 1 := Scalar.cmpi .slt v753 c0_i32_377
  let v758 : BitVec 32 := Scalar.extui v757
  let v759 : BitVec 32 := Scalar.subi v756 v758
  let c2_i32_375 : BitVec 32 := 2#32
  let c0_i32_378 : BitVec 32 := 0#32
  let v760 : BitVec 1 := Scalar.cmpi .sgt c2_i32_375 c0_i32_378
  let v761 : BitVec 32 := Scalar.extui v760
  let c0_i32_379 : BitVec 32 := 0#32
  let v762 : BitVec 1 := Scalar.cmpi .slt c2_i32_375 c0_i32_379
  let v763 : BitVec 32 := Scalar.extui v762
  let v764 : BitVec 32 := Scalar.subi v761 v763
  let v765 : BitVec 1 := Scalar.cmpi .ne v759 v764
  let v766 : BitVec 32 := Scalar.remsi v753 c2_i32_375
  let c0_i32_380 : BitVec 32 := 0#32
  let v767 : BitVec 1 := Scalar.cmpi .ne v766 c0_i32_380
  let v768 : BitVec 1 := Scalar.andi v765 v767
  let v754 : BitVec 32 := Scalar.divsi v753 c2_i32_375
  let c1_i32_381 : BitVec 32 := 1#32
  let v769 : BitVec 32 := Scalar.subi v754 c1_i32_381
  let v770 : BitVec 32 := Scalar.select v768 v769 v754
  let v771 : BitVec 32 := Scalar.maxsi c0_i32_382 v770
  let v772 : BitVec 32 := Scalar.minsi v749 v771
  let c0_i32_391 : BitVec 32 := 0#32
  let c384_i32_383 : BitVec 32 := 384#32
  let v773 : BitVec 32 := Scalar.subi c384_i32_383 v731
  let c0_i32_385 : BitVec 32 := 0#32
  let v775 : BitVec 1 := Scalar.cmpi .sgt v773 c0_i32_385
  let v776 : BitVec 32 := Scalar.extui v775
  let c0_i32_386 : BitVec 32 := 0#32
  let v777 : BitVec 1 := Scalar.cmpi .slt v773 c0_i32_386
  let v778 : BitVec 32 := Scalar.extui v777
  let v779 : BitVec 32 := Scalar.subi v776 v778
  let c2_i32_384 : BitVec 32 := 2#32
  let c0_i32_387 : BitVec 32 := 0#32
  let v780 : BitVec 1 := Scalar.cmpi .sgt c2_i32_384 c0_i32_387
  let v781 : BitVec 32 := Scalar.extui v780
  let c0_i32_388 : BitVec 32 := 0#32
  let v782 : BitVec 1 := Scalar.cmpi .slt c2_i32_384 c0_i32_388
  let v783 : BitVec 32 := Scalar.extui v782
  let v784 : BitVec 32 := Scalar.subi v781 v783
  let v785 : BitVec 1 := Scalar.cmpi .ne v779 v784
  let v786 : BitVec 32 := Scalar.remsi v773 c2_i32_384
  let c0_i32_389 : BitVec 32 := 0#32
  let v787 : BitVec 1 := Scalar.cmpi .ne v786 c0_i32_389
  let v788 : BitVec 1 := Scalar.andi v785 v787
  let v774 : BitVec 32 := Scalar.divsi v773 c2_i32_384
  let c1_i32_390 : BitVec 32 := 1#32
  let v789 : BitVec 32 := Scalar.subi v774 c1_i32_390
  let v790 : BitVec 32 := Scalar.select v788 v789 v774
  let v791 : BitVec 32 := Scalar.maxsi c0_i32_391 v790
  let v792 : BitVec 32 := Scalar.minsi v749 v791
  let v793 : BitVec 32 := Scalar.subi v792 v772
  let c1_i32_392 : BitVec 32 := 1#32
  let v795 : BitVec 32 := Scalar.divsi v793 c1_i32_392
  let v796 : BitVec 32 := Scalar.muli v795 c1_i32_392
  let v797 : BitVec 32 := Scalar.addi v772 v796
  let c1_i32_394 : BitVec 32 := 1#32
  let arg23 : BitVec 32 := Scf.iv v797 c1_i32_394 k0_t22
  let c2_i32_613 : BitVec 32 := 2#32
  let v1306 : BitVec 32 := Scalar.muli arg23 c2_i32_613
  let v1307 : BitVec 32 := Scalar.addi v731 v1306
  let c0_i32_614 : BitVec 32 := 0#32
  let v1308 : BitVec 32 := Scalar.subi v1307 c0_i32_614
  let c0_i32_615 : BitVec 32 := 0#32
  ![v1308.toNat, 0]
def k0_off60 (v729 : BitVec 32) (v731 : BitVec 32) (k0_t22 : Fin (k0_t22_loop v729 v731).trips) : Fin 2 → Nat :=
  let c1_i32_612 : BitVec 32 := 1#32
  let v1304 : BitVec 32 := Scalar.shrsi v731 c1_i32_612
  let c1_i32_364 : BitVec 32 := 1#32
  let v732 : BitVec 32 := Scalar.addi v729 c1_i32_364
  let c0_i32_366 : BitVec 32 := 0#32
  let v734 : BitVec 1 := Scalar.cmpi .sgt v732 c0_i32_366
  let v735 : BitVec 32 := Scalar.extui v734
  let c0_i32_367 : BitVec 32 := 0#32
  let v736 : BitVec 1 := Scalar.cmpi .slt v732 c0_i32_367
  let v737 : BitVec 32 := Scalar.extui v736
  let v738 : BitVec 32 := Scalar.subi v735 v737
  let c2_i32_365 : BitVec 32 := 2#32
  let c0_i32_368 : BitVec 32 := 0#32
  let v739 : BitVec 1 := Scalar.cmpi .sgt c2_i32_365 c0_i32_368
  let v740 : BitVec 32 := Scalar.extui v739
  let c0_i32_369 : BitVec 32 := 0#32
  let v741 : BitVec 1 := Scalar.cmpi .slt c2_i32_365 c0_i32_369
  let v742 : BitVec 32 := Scalar.extui v741
  let v743 : BitVec 32 := Scalar.subi v740 v742
  let v744 : BitVec 1 := Scalar.cmpi .ne v738 v743
  let v745 : BitVec 32 := Scalar.remsi v732 c2_i32_365
  let c0_i32_370 : BitVec 32 := 0#32
  let v746 : BitVec 1 := Scalar.cmpi .ne v745 c0_i32_370
  let v747 : BitVec 1 := Scalar.andi v744 v746
  let v733 : BitVec 32 := Scalar.divsi v732 c2_i32_365
  let c1_i32_371 : BitVec 32 := 1#32
  let v748 : BitVec 32 := Scalar.subi v733 c1_i32_371
  let v749 : BitVec 32 := Scalar.select v747 v748 v733
  let c0_i32_382 : BitVec 32 := 0#32
  let c0_i32_374 : BitVec 32 := 0#32
  let v753 : BitVec 32 := Scalar.subi c0_i32_374 v731
  let c0_i32_376 : BitVec 32 := 0#32
  let v755 : BitVec 1 := Scalar.cmpi .sgt v753 c0_i32_376
  let v756 : BitVec 32 := Scalar.extui v755
  let c0_i32_377 : BitVec 32 := 0#32
  let v757 : BitVec 1 := Scalar.cmpi .slt v753 c0_i32_377
  let v758 : BitVec 32 := Scalar.extui v757
  let v759 : BitVec 32 := Scalar.subi v756 v758
  let c2_i32_375 : BitVec 32 := 2#32
  let c0_i32_378 : BitVec 32 := 0#32
  let v760 : BitVec 1 := Scalar.cmpi .sgt c2_i32_375 c0_i32_378
  let v761 : BitVec 32 := Scalar.extui v760
  let c0_i32_379 : BitVec 32 := 0#32
  let v762 : BitVec 1 := Scalar.cmpi .slt c2_i32_375 c0_i32_379
  let v763 : BitVec 32 := Scalar.extui v762
  let v764 : BitVec 32 := Scalar.subi v761 v763
  let v765 : BitVec 1 := Scalar.cmpi .ne v759 v764
  let v766 : BitVec 32 := Scalar.remsi v753 c2_i32_375
  let c0_i32_380 : BitVec 32 := 0#32
  let v767 : BitVec 1 := Scalar.cmpi .ne v766 c0_i32_380
  let v768 : BitVec 1 := Scalar.andi v765 v767
  let v754 : BitVec 32 := Scalar.divsi v753 c2_i32_375
  let c1_i32_381 : BitVec 32 := 1#32
  let v769 : BitVec 32 := Scalar.subi v754 c1_i32_381
  let v770 : BitVec 32 := Scalar.select v768 v769 v754
  let v771 : BitVec 32 := Scalar.maxsi c0_i32_382 v770
  let v772 : BitVec 32 := Scalar.minsi v749 v771
  let c0_i32_391 : BitVec 32 := 0#32
  let c384_i32_383 : BitVec 32 := 384#32
  let v773 : BitVec 32 := Scalar.subi c384_i32_383 v731
  let c0_i32_385 : BitVec 32 := 0#32
  let v775 : BitVec 1 := Scalar.cmpi .sgt v773 c0_i32_385
  let v776 : BitVec 32 := Scalar.extui v775
  let c0_i32_386 : BitVec 32 := 0#32
  let v777 : BitVec 1 := Scalar.cmpi .slt v773 c0_i32_386
  let v778 : BitVec 32 := Scalar.extui v777
  let v779 : BitVec 32 := Scalar.subi v776 v778
  let c2_i32_384 : BitVec 32 := 2#32
  let c0_i32_387 : BitVec 32 := 0#32
  let v780 : BitVec 1 := Scalar.cmpi .sgt c2_i32_384 c0_i32_387
  let v781 : BitVec 32 := Scalar.extui v780
  let c0_i32_388 : BitVec 32 := 0#32
  let v782 : BitVec 1 := Scalar.cmpi .slt c2_i32_384 c0_i32_388
  let v783 : BitVec 32 := Scalar.extui v782
  let v784 : BitVec 32 := Scalar.subi v781 v783
  let v785 : BitVec 1 := Scalar.cmpi .ne v779 v784
  let v786 : BitVec 32 := Scalar.remsi v773 c2_i32_384
  let c0_i32_389 : BitVec 32 := 0#32
  let v787 : BitVec 1 := Scalar.cmpi .ne v786 c0_i32_389
  let v788 : BitVec 1 := Scalar.andi v785 v787
  let v774 : BitVec 32 := Scalar.divsi v773 c2_i32_384
  let c1_i32_390 : BitVec 32 := 1#32
  let v789 : BitVec 32 := Scalar.subi v774 c1_i32_390
  let v790 : BitVec 32 := Scalar.select v788 v789 v774
  let v791 : BitVec 32 := Scalar.maxsi c0_i32_391 v790
  let v792 : BitVec 32 := Scalar.minsi v749 v791
  let v793 : BitVec 32 := Scalar.subi v792 v772
  let c1_i32_392 : BitVec 32 := 1#32
  let v795 : BitVec 32 := Scalar.divsi v793 c1_i32_392
  let v796 : BitVec 32 := Scalar.muli v795 c1_i32_392
  let v797 : BitVec 32 := Scalar.addi v772 v796
  let c1_i32_394 : BitVec 32 := 1#32
  let arg23 : BitVec 32 := Scf.iv v797 c1_i32_394 k0_t22
  let v1305 : BitVec 32 := Scalar.addi v1304 arg23
  let c0_i32_616 : BitVec 32 := 0#32
  ![v1305.toNat, 0]

def k0_chk14 (v729 : BitVec 32) (v731 : BitVec 32) : Prop :=
  ((k0_t21_loop v729 v731).OK) ∧
  (∀ k0_t21 : Fin (k0_t21_loop v729 v731).trips, ∀ a, (k0_off56 v729 v731 k0_t21) a + S2x128.size a ≤ S384x128.size a) ∧
  (∀ k0_t21 : Fin (k0_t21_loop v729 v731).trips, ∀ a, (k0_off57 v729 v731 k0_t21) a + S1x2.size a ≤ S584x2.size a) ∧
  ((k0_t22_loop v729 v731).OK) ∧
  (∀ k0_t22 : Fin (k0_t22_loop v729 v731).trips, ∀ a, (k0_off59 v729 v731 k0_t22) a + S2x128.size a ≤ S384x128.size a) ∧
  (∀ k0_t22 : Fin (k0_t22_loop v729 v731).trips, ∀ a, (k0_off60 v729 v731 k0_t22) a + S1x2.size a ≤ S584x2.size a)
theorem k0_t21_ok : ∀ (v729 : BitVec 32) (v731 : BitVec 32) (k0_hw14 : k0_chk14 v729 v731), (k0_t21_loop v729 v731).OK := fun v729 v731 k0_hw14 => k0_hw14.1
theorem k0_off56_inb : ∀ (v729 : BitVec 32) (v731 : BitVec 32) (k0_hw14 : k0_chk14 v729 v731) (k0_t21 : Fin (k0_t21_loop v729 v731).trips), ∀ a, (k0_off56 v729 v731 k0_t21) a + S2x128.size a ≤ S384x128.size a := fun v729 v731 k0_hw14 k0_t21 => k0_hw14.2.1 k0_t21
theorem k0_off57_inb : ∀ (v729 : BitVec 32) (v731 : BitVec 32) (k0_hw14 : k0_chk14 v729 v731) (k0_t21 : Fin (k0_t21_loop v729 v731).trips), ∀ a, (k0_off57 v729 v731 k0_t21) a + S1x2.size a ≤ S584x2.size a := fun v729 v731 k0_hw14 k0_t21 => k0_hw14.2.2.1 k0_t21
theorem k0_t22_ok : ∀ (v729 : BitVec 32) (v731 : BitVec 32) (k0_hw14 : k0_chk14 v729 v731), (k0_t22_loop v729 v731).OK := fun v729 v731 k0_hw14 => k0_hw14.2.2.2.1
theorem k0_off59_inb : ∀ (v729 : BitVec 32) (v731 : BitVec 32) (k0_hw14 : k0_chk14 v729 v731) (k0_t22 : Fin (k0_t22_loop v729 v731).trips), ∀ a, (k0_off59 v729 v731 k0_t22) a + S2x128.size a ≤ S384x128.size a := fun v729 v731 k0_hw14 k0_t22 => k0_hw14.2.2.2.2.1 k0_t22
theorem k0_off60_inb : ∀ (v729 : BitVec 32) (v731 : BitVec 32) (k0_hw14 : k0_chk14 v729 v731) (k0_t22 : Fin (k0_t22_loop v729 v731).trips), ∀ a, (k0_off60 v729 v731 k0_t22) a + S1x2.size a ≤ S584x2.size a := fun v729 v731 k0_hw14 k0_t22 => k0_hw14.2.2.2.2.2 k0_t22

def k0_off61 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_372 : BitVec 32 := 16#32
  let v750 : BitVec 32 := Scalar.muli arg21 c16_i32_372
  let c8_i32 : BitVec 32 := 8#32
  let v751 : BitVec 32 := Scalar.addi v750 c8_i32
  let c128_i32_373 : BitVec 32 := 128#32
  let v752 : BitVec 32 := Scalar.muli v751 c128_i32_373
  ![0, v752.toNat]
@[reducible] def k0_t23_loop (v801 : BitVec 32) (v803 : BitVec 32) : Scf.Loop 32 :=
  let c1_i32_395 : BitVec 32 := 1#32
  let v804 : BitVec 32 := Scalar.addi v801 c1_i32_395
  let c0_i32_397 : BitVec 32 := 0#32
  let v806 : BitVec 1 := Scalar.cmpi .sgt v804 c0_i32_397
  let v807 : BitVec 32 := Scalar.extui v806
  let c0_i32_398 : BitVec 32 := 0#32
  let v808 : BitVec 1 := Scalar.cmpi .slt v804 c0_i32_398
  let v809 : BitVec 32 := Scalar.extui v808
  let v810 : BitVec 32 := Scalar.subi v807 v809
  let c2_i32_396 : BitVec 32 := 2#32
  let c0_i32_399 : BitVec 32 := 0#32
  let v811 : BitVec 1 := Scalar.cmpi .sgt c2_i32_396 c0_i32_399
  let v812 : BitVec 32 := Scalar.extui v811
  let c0_i32_400 : BitVec 32 := 0#32
  let v813 : BitVec 1 := Scalar.cmpi .slt c2_i32_396 c0_i32_400
  let v814 : BitVec 32 := Scalar.extui v813
  let v815 : BitVec 32 := Scalar.subi v812 v814
  let v816 : BitVec 1 := Scalar.cmpi .ne v810 v815
  let v817 : BitVec 32 := Scalar.remsi v804 c2_i32_396
  let c0_i32_401 : BitVec 32 := 0#32
  let v818 : BitVec 1 := Scalar.cmpi .ne v817 c0_i32_401
  let v819 : BitVec 1 := Scalar.andi v816 v818
  let v805 : BitVec 32 := Scalar.divsi v804 c2_i32_396
  let c1_i32_402 : BitVec 32 := 1#32
  let v820 : BitVec 32 := Scalar.subi v805 c1_i32_402
  let v821 : BitVec 32 := Scalar.select v819 v820 v805
  let c0_i32_413 : BitVec 32 := 0#32
  let c0_i32_405 : BitVec 32 := 0#32
  let v825 : BitVec 32 := Scalar.subi c0_i32_405 v803
  let c0_i32_407 : BitVec 32 := 0#32
  let v827 : BitVec 1 := Scalar.cmpi .sgt v825 c0_i32_407
  let v828 : BitVec 32 := Scalar.extui v827
  let c0_i32_408 : BitVec 32 := 0#32
  let v829 : BitVec 1 := Scalar.cmpi .slt v825 c0_i32_408
  let v830 : BitVec 32 := Scalar.extui v829
  let v831 : BitVec 32 := Scalar.subi v828 v830
  let c2_i32_406 : BitVec 32 := 2#32
  let c0_i32_409 : BitVec 32 := 0#32
  let v832 : BitVec 1 := Scalar.cmpi .sgt c2_i32_406 c0_i32_409
  let v833 : BitVec 32 := Scalar.extui v832
  let c0_i32_410 : BitVec 32 := 0#32
  let v834 : BitVec 1 := Scalar.cmpi .slt c2_i32_406 c0_i32_410
  let v835 : BitVec 32 := Scalar.extui v834
  let v836 : BitVec 32 := Scalar.subi v833 v835
  let v837 : BitVec 1 := Scalar.cmpi .ne v831 v836
  let v838 : BitVec 32 := Scalar.remsi v825 c2_i32_406
  let c0_i32_411 : BitVec 32 := 0#32
  let v839 : BitVec 1 := Scalar.cmpi .ne v838 c0_i32_411
  let v840 : BitVec 1 := Scalar.andi v837 v839
  let v826 : BitVec 32 := Scalar.divsi v825 c2_i32_406
  let c1_i32_412 : BitVec 32 := 1#32
  let v841 : BitVec 32 := Scalar.subi v826 c1_i32_412
  let v842 : BitVec 32 := Scalar.select v840 v841 v826
  let v843 : BitVec 32 := Scalar.maxsi c0_i32_413 v842
  let v844 : BitVec 32 := Scalar.minsi v821 v843
  let c0_i32_422 : BitVec 32 := 0#32
  let c384_i32_414 : BitVec 32 := 384#32
  let v845 : BitVec 32 := Scalar.subi c384_i32_414 v803
  let c0_i32_416 : BitVec 32 := 0#32
  let v847 : BitVec 1 := Scalar.cmpi .sgt v845 c0_i32_416
  let v848 : BitVec 32 := Scalar.extui v847
  let c0_i32_417 : BitVec 32 := 0#32
  let v849 : BitVec 1 := Scalar.cmpi .slt v845 c0_i32_417
  let v850 : BitVec 32 := Scalar.extui v849
  let v851 : BitVec 32 := Scalar.subi v848 v850
  let c2_i32_415 : BitVec 32 := 2#32
  let c0_i32_418 : BitVec 32 := 0#32
  let v852 : BitVec 1 := Scalar.cmpi .sgt c2_i32_415 c0_i32_418
  let v853 : BitVec 32 := Scalar.extui v852
  let c0_i32_419 : BitVec 32 := 0#32
  let v854 : BitVec 1 := Scalar.cmpi .slt c2_i32_415 c0_i32_419
  let v855 : BitVec 32 := Scalar.extui v854
  let v856 : BitVec 32 := Scalar.subi v853 v855
  let v857 : BitVec 1 := Scalar.cmpi .ne v851 v856
  let v858 : BitVec 32 := Scalar.remsi v845 c2_i32_415
  let c0_i32_420 : BitVec 32 := 0#32
  let v859 : BitVec 1 := Scalar.cmpi .ne v858 c0_i32_420
  let v860 : BitVec 1 := Scalar.andi v857 v859
  let v846 : BitVec 32 := Scalar.divsi v845 c2_i32_415
  let c1_i32_421 : BitVec 32 := 1#32
  let v861 : BitVec 32 := Scalar.subi v846 c1_i32_421
  let v862 : BitVec 32 := Scalar.select v860 v861 v846
  let v863 : BitVec 32 := Scalar.maxsi c0_i32_422 v862
  let v864 : BitVec 32 := Scalar.minsi v821 v863
  let v865 : BitVec 32 := Scalar.subi v864 v844
  let c1_i32_423 : BitVec 32 := 1#32
  let v867 : BitVec 32 := Scalar.divsi v865 c1_i32_423
  let v868 : BitVec 32 := Scalar.muli v867 c1_i32_423
  let v869 : BitVec 32 := Scalar.addi v844 v868
  let c1_i32_424 : BitVec 32 := 1#32
  ⟨v844, v869, c1_i32_424⟩

def k0_off62 (v801 : BitVec 32) (v803 : BitVec 32) (k0_t23 : Fin (k0_t23_loop v801 v803).trips) : Fin 2 → Nat :=
  let c1_i32_395 : BitVec 32 := 1#32
  let v804 : BitVec 32 := Scalar.addi v801 c1_i32_395
  let c0_i32_397 : BitVec 32 := 0#32
  let v806 : BitVec 1 := Scalar.cmpi .sgt v804 c0_i32_397
  let v807 : BitVec 32 := Scalar.extui v806
  let c0_i32_398 : BitVec 32 := 0#32
  let v808 : BitVec 1 := Scalar.cmpi .slt v804 c0_i32_398
  let v809 : BitVec 32 := Scalar.extui v808
  let v810 : BitVec 32 := Scalar.subi v807 v809
  let c2_i32_396 : BitVec 32 := 2#32
  let c0_i32_399 : BitVec 32 := 0#32
  let v811 : BitVec 1 := Scalar.cmpi .sgt c2_i32_396 c0_i32_399
  let v812 : BitVec 32 := Scalar.extui v811
  let c0_i32_400 : BitVec 32 := 0#32
  let v813 : BitVec 1 := Scalar.cmpi .slt c2_i32_396 c0_i32_400
  let v814 : BitVec 32 := Scalar.extui v813
  let v815 : BitVec 32 := Scalar.subi v812 v814
  let v816 : BitVec 1 := Scalar.cmpi .ne v810 v815
  let v817 : BitVec 32 := Scalar.remsi v804 c2_i32_396
  let c0_i32_401 : BitVec 32 := 0#32
  let v818 : BitVec 1 := Scalar.cmpi .ne v817 c0_i32_401
  let v819 : BitVec 1 := Scalar.andi v816 v818
  let v805 : BitVec 32 := Scalar.divsi v804 c2_i32_396
  let c1_i32_402 : BitVec 32 := 1#32
  let v820 : BitVec 32 := Scalar.subi v805 c1_i32_402
  let v821 : BitVec 32 := Scalar.select v819 v820 v805
  let c0_i32_413 : BitVec 32 := 0#32
  let c0_i32_405 : BitVec 32 := 0#32
  let v825 : BitVec 32 := Scalar.subi c0_i32_405 v803
  let c0_i32_407 : BitVec 32 := 0#32
  let v827 : BitVec 1 := Scalar.cmpi .sgt v825 c0_i32_407
  let v828 : BitVec 32 := Scalar.extui v827
  let c0_i32_408 : BitVec 32 := 0#32
  let v829 : BitVec 1 := Scalar.cmpi .slt v825 c0_i32_408
  let v830 : BitVec 32 := Scalar.extui v829
  let v831 : BitVec 32 := Scalar.subi v828 v830
  let c2_i32_406 : BitVec 32 := 2#32
  let c0_i32_409 : BitVec 32 := 0#32
  let v832 : BitVec 1 := Scalar.cmpi .sgt c2_i32_406 c0_i32_409
  let v833 : BitVec 32 := Scalar.extui v832
  let c0_i32_410 : BitVec 32 := 0#32
  let v834 : BitVec 1 := Scalar.cmpi .slt c2_i32_406 c0_i32_410
  let v835 : BitVec 32 := Scalar.extui v834
  let v836 : BitVec 32 := Scalar.subi v833 v835
  let v837 : BitVec 1 := Scalar.cmpi .ne v831 v836
  let v838 : BitVec 32 := Scalar.remsi v825 c2_i32_406
  let c0_i32_411 : BitVec 32 := 0#32
  let v839 : BitVec 1 := Scalar.cmpi .ne v838 c0_i32_411
  let v840 : BitVec 1 := Scalar.andi v837 v839
  let v826 : BitVec 32 := Scalar.divsi v825 c2_i32_406
  let c1_i32_412 : BitVec 32 := 1#32
  let v841 : BitVec 32 := Scalar.subi v826 c1_i32_412
  let v842 : BitVec 32 := Scalar.select v840 v841 v826
  let v843 : BitVec 32 := Scalar.maxsi c0_i32_413 v842
  let v844 : BitVec 32 := Scalar.minsi v821 v843
  let c1_i32_424 : BitVec 32 := 1#32
  let arg23 : BitVec 32 := Scf.iv v844 c1_i32_424 k0_t23
  let c2_i32_613 : BitVec 32 := 2#32
  let v1306 : BitVec 32 := Scalar.muli arg23 c2_i32_613
  let v1307 : BitVec 32 := Scalar.addi v803 v1306
  let c0_i32_614 : BitVec 32 := 0#32
  let v1308 : BitVec 32 := Scalar.subi v1307 c0_i32_614
  let c0_i32_615 : BitVec 32 := 0#32
  ![v1308.toNat, 0]
def k0_off63 (v801 : BitVec 32) (v803 : BitVec 32) (k0_t23 : Fin (k0_t23_loop v801 v803).trips) : Fin 2 → Nat :=
  let c1_i32_612 : BitVec 32 := 1#32
  let v1304 : BitVec 32 := Scalar.shrsi v803 c1_i32_612
  let c1_i32_395 : BitVec 32 := 1#32
  let v804 : BitVec 32 := Scalar.addi v801 c1_i32_395
  let c0_i32_397 : BitVec 32 := 0#32
  let v806 : BitVec 1 := Scalar.cmpi .sgt v804 c0_i32_397
  let v807 : BitVec 32 := Scalar.extui v806
  let c0_i32_398 : BitVec 32 := 0#32
  let v808 : BitVec 1 := Scalar.cmpi .slt v804 c0_i32_398
  let v809 : BitVec 32 := Scalar.extui v808
  let v810 : BitVec 32 := Scalar.subi v807 v809
  let c2_i32_396 : BitVec 32 := 2#32
  let c0_i32_399 : BitVec 32 := 0#32
  let v811 : BitVec 1 := Scalar.cmpi .sgt c2_i32_396 c0_i32_399
  let v812 : BitVec 32 := Scalar.extui v811
  let c0_i32_400 : BitVec 32 := 0#32
  let v813 : BitVec 1 := Scalar.cmpi .slt c2_i32_396 c0_i32_400
  let v814 : BitVec 32 := Scalar.extui v813
  let v815 : BitVec 32 := Scalar.subi v812 v814
  let v816 : BitVec 1 := Scalar.cmpi .ne v810 v815
  let v817 : BitVec 32 := Scalar.remsi v804 c2_i32_396
  let c0_i32_401 : BitVec 32 := 0#32
  let v818 : BitVec 1 := Scalar.cmpi .ne v817 c0_i32_401
  let v819 : BitVec 1 := Scalar.andi v816 v818
  let v805 : BitVec 32 := Scalar.divsi v804 c2_i32_396
  let c1_i32_402 : BitVec 32 := 1#32
  let v820 : BitVec 32 := Scalar.subi v805 c1_i32_402
  let v821 : BitVec 32 := Scalar.select v819 v820 v805
  let c0_i32_413 : BitVec 32 := 0#32
  let c0_i32_405 : BitVec 32 := 0#32
  let v825 : BitVec 32 := Scalar.subi c0_i32_405 v803
  let c0_i32_407 : BitVec 32 := 0#32
  let v827 : BitVec 1 := Scalar.cmpi .sgt v825 c0_i32_407
  let v828 : BitVec 32 := Scalar.extui v827
  let c0_i32_408 : BitVec 32 := 0#32
  let v829 : BitVec 1 := Scalar.cmpi .slt v825 c0_i32_408
  let v830 : BitVec 32 := Scalar.extui v829
  let v831 : BitVec 32 := Scalar.subi v828 v830
  let c2_i32_406 : BitVec 32 := 2#32
  let c0_i32_409 : BitVec 32 := 0#32
  let v832 : BitVec 1 := Scalar.cmpi .sgt c2_i32_406 c0_i32_409
  let v833 : BitVec 32 := Scalar.extui v832
  let c0_i32_410 : BitVec 32 := 0#32
  let v834 : BitVec 1 := Scalar.cmpi .slt c2_i32_406 c0_i32_410
  let v835 : BitVec 32 := Scalar.extui v834
  let v836 : BitVec 32 := Scalar.subi v833 v835
  let v837 : BitVec 1 := Scalar.cmpi .ne v831 v836
  let v838 : BitVec 32 := Scalar.remsi v825 c2_i32_406
  let c0_i32_411 : BitVec 32 := 0#32
  let v839 : BitVec 1 := Scalar.cmpi .ne v838 c0_i32_411
  let v840 : BitVec 1 := Scalar.andi v837 v839
  let v826 : BitVec 32 := Scalar.divsi v825 c2_i32_406
  let c1_i32_412 : BitVec 32 := 1#32
  let v841 : BitVec 32 := Scalar.subi v826 c1_i32_412
  let v842 : BitVec 32 := Scalar.select v840 v841 v826
  let v843 : BitVec 32 := Scalar.maxsi c0_i32_413 v842
  let v844 : BitVec 32 := Scalar.minsi v821 v843
  let c1_i32_424 : BitVec 32 := 1#32
  let arg23 : BitVec 32 := Scf.iv v844 c1_i32_424 k0_t23
  let v1305 : BitVec 32 := Scalar.addi v1304 arg23
  let c0_i32_616 : BitVec 32 := 0#32
  ![v1305.toNat, 0]
def k0_off64 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_403 : BitVec 32 := 16#32
  let v822 : BitVec 32 := Scalar.muli arg21 c16_i32_403
  let c9_i32 : BitVec 32 := 9#32
  let v823 : BitVec 32 := Scalar.addi v822 c9_i32
  let c128_i32_404 : BitVec 32 := 128#32
  let v824 : BitVec 32 := Scalar.muli v823 c128_i32_404
  ![0, v824.toNat]
@[reducible] def k0_t24_loop (v801 : BitVec 32) (v803 : BitVec 32) : Scf.Loop 32 :=
  let c1_i32_395 : BitVec 32 := 1#32
  let v804 : BitVec 32 := Scalar.addi v801 c1_i32_395
  let c0_i32_397 : BitVec 32 := 0#32
  let v806 : BitVec 1 := Scalar.cmpi .sgt v804 c0_i32_397
  let v807 : BitVec 32 := Scalar.extui v806
  let c0_i32_398 : BitVec 32 := 0#32
  let v808 : BitVec 1 := Scalar.cmpi .slt v804 c0_i32_398
  let v809 : BitVec 32 := Scalar.extui v808
  let v810 : BitVec 32 := Scalar.subi v807 v809
  let c2_i32_396 : BitVec 32 := 2#32
  let c0_i32_399 : BitVec 32 := 0#32
  let v811 : BitVec 1 := Scalar.cmpi .sgt c2_i32_396 c0_i32_399
  let v812 : BitVec 32 := Scalar.extui v811
  let c0_i32_400 : BitVec 32 := 0#32
  let v813 : BitVec 1 := Scalar.cmpi .slt c2_i32_396 c0_i32_400
  let v814 : BitVec 32 := Scalar.extui v813
  let v815 : BitVec 32 := Scalar.subi v812 v814
  let v816 : BitVec 1 := Scalar.cmpi .ne v810 v815
  let v817 : BitVec 32 := Scalar.remsi v804 c2_i32_396
  let c0_i32_401 : BitVec 32 := 0#32
  let v818 : BitVec 1 := Scalar.cmpi .ne v817 c0_i32_401
  let v819 : BitVec 1 := Scalar.andi v816 v818
  let v805 : BitVec 32 := Scalar.divsi v804 c2_i32_396
  let c1_i32_402 : BitVec 32 := 1#32
  let v820 : BitVec 32 := Scalar.subi v805 c1_i32_402
  let v821 : BitVec 32 := Scalar.select v819 v820 v805
  let c0_i32_413 : BitVec 32 := 0#32
  let c0_i32_405 : BitVec 32 := 0#32
  let v825 : BitVec 32 := Scalar.subi c0_i32_405 v803
  let c0_i32_407 : BitVec 32 := 0#32
  let v827 : BitVec 1 := Scalar.cmpi .sgt v825 c0_i32_407
  let v828 : BitVec 32 := Scalar.extui v827
  let c0_i32_408 : BitVec 32 := 0#32
  let v829 : BitVec 1 := Scalar.cmpi .slt v825 c0_i32_408
  let v830 : BitVec 32 := Scalar.extui v829
  let v831 : BitVec 32 := Scalar.subi v828 v830
  let c2_i32_406 : BitVec 32 := 2#32
  let c0_i32_409 : BitVec 32 := 0#32
  let v832 : BitVec 1 := Scalar.cmpi .sgt c2_i32_406 c0_i32_409
  let v833 : BitVec 32 := Scalar.extui v832
  let c0_i32_410 : BitVec 32 := 0#32
  let v834 : BitVec 1 := Scalar.cmpi .slt c2_i32_406 c0_i32_410
  let v835 : BitVec 32 := Scalar.extui v834
  let v836 : BitVec 32 := Scalar.subi v833 v835
  let v837 : BitVec 1 := Scalar.cmpi .ne v831 v836
  let v838 : BitVec 32 := Scalar.remsi v825 c2_i32_406
  let c0_i32_411 : BitVec 32 := 0#32
  let v839 : BitVec 1 := Scalar.cmpi .ne v838 c0_i32_411
  let v840 : BitVec 1 := Scalar.andi v837 v839
  let v826 : BitVec 32 := Scalar.divsi v825 c2_i32_406
  let c1_i32_412 : BitVec 32 := 1#32
  let v841 : BitVec 32 := Scalar.subi v826 c1_i32_412
  let v842 : BitVec 32 := Scalar.select v840 v841 v826
  let v843 : BitVec 32 := Scalar.maxsi c0_i32_413 v842
  let v844 : BitVec 32 := Scalar.minsi v821 v843
  let c0_i32_422 : BitVec 32 := 0#32
  let c384_i32_414 : BitVec 32 := 384#32
  let v845 : BitVec 32 := Scalar.subi c384_i32_414 v803
  let c0_i32_416 : BitVec 32 := 0#32
  let v847 : BitVec 1 := Scalar.cmpi .sgt v845 c0_i32_416
  let v848 : BitVec 32 := Scalar.extui v847
  let c0_i32_417 : BitVec 32 := 0#32
  let v849 : BitVec 1 := Scalar.cmpi .slt v845 c0_i32_417
  let v850 : BitVec 32 := Scalar.extui v849
  let v851 : BitVec 32 := Scalar.subi v848 v850
  let c2_i32_415 : BitVec 32 := 2#32
  let c0_i32_418 : BitVec 32 := 0#32
  let v852 : BitVec 1 := Scalar.cmpi .sgt c2_i32_415 c0_i32_418
  let v853 : BitVec 32 := Scalar.extui v852
  let c0_i32_419 : BitVec 32 := 0#32
  let v854 : BitVec 1 := Scalar.cmpi .slt c2_i32_415 c0_i32_419
  let v855 : BitVec 32 := Scalar.extui v854
  let v856 : BitVec 32 := Scalar.subi v853 v855
  let v857 : BitVec 1 := Scalar.cmpi .ne v851 v856
  let v858 : BitVec 32 := Scalar.remsi v845 c2_i32_415
  let c0_i32_420 : BitVec 32 := 0#32
  let v859 : BitVec 1 := Scalar.cmpi .ne v858 c0_i32_420
  let v860 : BitVec 1 := Scalar.andi v857 v859
  let v846 : BitVec 32 := Scalar.divsi v845 c2_i32_415
  let c1_i32_421 : BitVec 32 := 1#32
  let v861 : BitVec 32 := Scalar.subi v846 c1_i32_421
  let v862 : BitVec 32 := Scalar.select v860 v861 v846
  let v863 : BitVec 32 := Scalar.maxsi c0_i32_422 v862
  let v864 : BitVec 32 := Scalar.minsi v821 v863
  let v865 : BitVec 32 := Scalar.subi v864 v844
  let c1_i32_423 : BitVec 32 := 1#32
  let v867 : BitVec 32 := Scalar.divsi v865 c1_i32_423
  let v868 : BitVec 32 := Scalar.muli v867 c1_i32_423
  let v869 : BitVec 32 := Scalar.addi v844 v868
  let v866 : BitVec 32 := Scalar.addi v844 v865
  let c1_i32_425 : BitVec 32 := 1#32
  ⟨v869, v866, c1_i32_425⟩
def k0_off65 (v801 : BitVec 32) (v803 : BitVec 32) (k0_t24 : Fin (k0_t24_loop v801 v803).trips) : Fin 2 → Nat :=
  let c1_i32_395 : BitVec 32 := 1#32
  let v804 : BitVec 32 := Scalar.addi v801 c1_i32_395
  let c0_i32_397 : BitVec 32 := 0#32
  let v806 : BitVec 1 := Scalar.cmpi .sgt v804 c0_i32_397
  let v807 : BitVec 32 := Scalar.extui v806
  let c0_i32_398 : BitVec 32 := 0#32
  let v808 : BitVec 1 := Scalar.cmpi .slt v804 c0_i32_398
  let v809 : BitVec 32 := Scalar.extui v808
  let v810 : BitVec 32 := Scalar.subi v807 v809
  let c2_i32_396 : BitVec 32 := 2#32
  let c0_i32_399 : BitVec 32 := 0#32
  let v811 : BitVec 1 := Scalar.cmpi .sgt c2_i32_396 c0_i32_399
  let v812 : BitVec 32 := Scalar.extui v811
  let c0_i32_400 : BitVec 32 := 0#32
  let v813 : BitVec 1 := Scalar.cmpi .slt c2_i32_396 c0_i32_400
  let v814 : BitVec 32 := Scalar.extui v813
  let v815 : BitVec 32 := Scalar.subi v812 v814
  let v816 : BitVec 1 := Scalar.cmpi .ne v810 v815
  let v817 : BitVec 32 := Scalar.remsi v804 c2_i32_396
  let c0_i32_401 : BitVec 32 := 0#32
  let v818 : BitVec 1 := Scalar.cmpi .ne v817 c0_i32_401
  let v819 : BitVec 1 := Scalar.andi v816 v818
  let v805 : BitVec 32 := Scalar.divsi v804 c2_i32_396
  let c1_i32_402 : BitVec 32 := 1#32
  let v820 : BitVec 32 := Scalar.subi v805 c1_i32_402
  let v821 : BitVec 32 := Scalar.select v819 v820 v805
  let c0_i32_413 : BitVec 32 := 0#32
  let c0_i32_405 : BitVec 32 := 0#32
  let v825 : BitVec 32 := Scalar.subi c0_i32_405 v803
  let c0_i32_407 : BitVec 32 := 0#32
  let v827 : BitVec 1 := Scalar.cmpi .sgt v825 c0_i32_407
  let v828 : BitVec 32 := Scalar.extui v827
  let c0_i32_408 : BitVec 32 := 0#32
  let v829 : BitVec 1 := Scalar.cmpi .slt v825 c0_i32_408
  let v830 : BitVec 32 := Scalar.extui v829
  let v831 : BitVec 32 := Scalar.subi v828 v830
  let c2_i32_406 : BitVec 32 := 2#32
  let c0_i32_409 : BitVec 32 := 0#32
  let v832 : BitVec 1 := Scalar.cmpi .sgt c2_i32_406 c0_i32_409
  let v833 : BitVec 32 := Scalar.extui v832
  let c0_i32_410 : BitVec 32 := 0#32
  let v834 : BitVec 1 := Scalar.cmpi .slt c2_i32_406 c0_i32_410
  let v835 : BitVec 32 := Scalar.extui v834
  let v836 : BitVec 32 := Scalar.subi v833 v835
  let v837 : BitVec 1 := Scalar.cmpi .ne v831 v836
  let v838 : BitVec 32 := Scalar.remsi v825 c2_i32_406
  let c0_i32_411 : BitVec 32 := 0#32
  let v839 : BitVec 1 := Scalar.cmpi .ne v838 c0_i32_411
  let v840 : BitVec 1 := Scalar.andi v837 v839
  let v826 : BitVec 32 := Scalar.divsi v825 c2_i32_406
  let c1_i32_412 : BitVec 32 := 1#32
  let v841 : BitVec 32 := Scalar.subi v826 c1_i32_412
  let v842 : BitVec 32 := Scalar.select v840 v841 v826
  let v843 : BitVec 32 := Scalar.maxsi c0_i32_413 v842
  let v844 : BitVec 32 := Scalar.minsi v821 v843
  let c0_i32_422 : BitVec 32 := 0#32
  let c384_i32_414 : BitVec 32 := 384#32
  let v845 : BitVec 32 := Scalar.subi c384_i32_414 v803
  let c0_i32_416 : BitVec 32 := 0#32
  let v847 : BitVec 1 := Scalar.cmpi .sgt v845 c0_i32_416
  let v848 : BitVec 32 := Scalar.extui v847
  let c0_i32_417 : BitVec 32 := 0#32
  let v849 : BitVec 1 := Scalar.cmpi .slt v845 c0_i32_417
  let v850 : BitVec 32 := Scalar.extui v849
  let v851 : BitVec 32 := Scalar.subi v848 v850
  let c2_i32_415 : BitVec 32 := 2#32
  let c0_i32_418 : BitVec 32 := 0#32
  let v852 : BitVec 1 := Scalar.cmpi .sgt c2_i32_415 c0_i32_418
  let v853 : BitVec 32 := Scalar.extui v852
  let c0_i32_419 : BitVec 32 := 0#32
  let v854 : BitVec 1 := Scalar.cmpi .slt c2_i32_415 c0_i32_419
  let v855 : BitVec 32 := Scalar.extui v854
  let v856 : BitVec 32 := Scalar.subi v853 v855
  let v857 : BitVec 1 := Scalar.cmpi .ne v851 v856
  let v858 : BitVec 32 := Scalar.remsi v845 c2_i32_415
  let c0_i32_420 : BitVec 32 := 0#32
  let v859 : BitVec 1 := Scalar.cmpi .ne v858 c0_i32_420
  let v860 : BitVec 1 := Scalar.andi v857 v859
  let v846 : BitVec 32 := Scalar.divsi v845 c2_i32_415
  let c1_i32_421 : BitVec 32 := 1#32
  let v861 : BitVec 32 := Scalar.subi v846 c1_i32_421
  let v862 : BitVec 32 := Scalar.select v860 v861 v846
  let v863 : BitVec 32 := Scalar.maxsi c0_i32_422 v862
  let v864 : BitVec 32 := Scalar.minsi v821 v863
  let v865 : BitVec 32 := Scalar.subi v864 v844
  let c1_i32_423 : BitVec 32 := 1#32
  let v867 : BitVec 32 := Scalar.divsi v865 c1_i32_423
  let v868 : BitVec 32 := Scalar.muli v867 c1_i32_423
  let v869 : BitVec 32 := Scalar.addi v844 v868
  let c1_i32_425 : BitVec 32 := 1#32
  let arg23 : BitVec 32 := Scf.iv v869 c1_i32_425 k0_t24
  let c2_i32_613 : BitVec 32 := 2#32
  let v1306 : BitVec 32 := Scalar.muli arg23 c2_i32_613
  let v1307 : BitVec 32 := Scalar.addi v803 v1306
  let c0_i32_614 : BitVec 32 := 0#32
  let v1308 : BitVec 32 := Scalar.subi v1307 c0_i32_614
  let c0_i32_615 : BitVec 32 := 0#32
  ![v1308.toNat, 0]
def k0_off66 (v801 : BitVec 32) (v803 : BitVec 32) (k0_t24 : Fin (k0_t24_loop v801 v803).trips) : Fin 2 → Nat :=
  let c1_i32_612 : BitVec 32 := 1#32
  let v1304 : BitVec 32 := Scalar.shrsi v803 c1_i32_612
  let c1_i32_395 : BitVec 32 := 1#32
  let v804 : BitVec 32 := Scalar.addi v801 c1_i32_395
  let c0_i32_397 : BitVec 32 := 0#32
  let v806 : BitVec 1 := Scalar.cmpi .sgt v804 c0_i32_397
  let v807 : BitVec 32 := Scalar.extui v806
  let c0_i32_398 : BitVec 32 := 0#32
  let v808 : BitVec 1 := Scalar.cmpi .slt v804 c0_i32_398
  let v809 : BitVec 32 := Scalar.extui v808
  let v810 : BitVec 32 := Scalar.subi v807 v809
  let c2_i32_396 : BitVec 32 := 2#32
  let c0_i32_399 : BitVec 32 := 0#32
  let v811 : BitVec 1 := Scalar.cmpi .sgt c2_i32_396 c0_i32_399
  let v812 : BitVec 32 := Scalar.extui v811
  let c0_i32_400 : BitVec 32 := 0#32
  let v813 : BitVec 1 := Scalar.cmpi .slt c2_i32_396 c0_i32_400
  let v814 : BitVec 32 := Scalar.extui v813
  let v815 : BitVec 32 := Scalar.subi v812 v814
  let v816 : BitVec 1 := Scalar.cmpi .ne v810 v815
  let v817 : BitVec 32 := Scalar.remsi v804 c2_i32_396
  let c0_i32_401 : BitVec 32 := 0#32
  let v818 : BitVec 1 := Scalar.cmpi .ne v817 c0_i32_401
  let v819 : BitVec 1 := Scalar.andi v816 v818
  let v805 : BitVec 32 := Scalar.divsi v804 c2_i32_396
  let c1_i32_402 : BitVec 32 := 1#32
  let v820 : BitVec 32 := Scalar.subi v805 c1_i32_402
  let v821 : BitVec 32 := Scalar.select v819 v820 v805
  let c0_i32_413 : BitVec 32 := 0#32
  let c0_i32_405 : BitVec 32 := 0#32
  let v825 : BitVec 32 := Scalar.subi c0_i32_405 v803
  let c0_i32_407 : BitVec 32 := 0#32
  let v827 : BitVec 1 := Scalar.cmpi .sgt v825 c0_i32_407
  let v828 : BitVec 32 := Scalar.extui v827
  let c0_i32_408 : BitVec 32 := 0#32
  let v829 : BitVec 1 := Scalar.cmpi .slt v825 c0_i32_408
  let v830 : BitVec 32 := Scalar.extui v829
  let v831 : BitVec 32 := Scalar.subi v828 v830
  let c2_i32_406 : BitVec 32 := 2#32
  let c0_i32_409 : BitVec 32 := 0#32
  let v832 : BitVec 1 := Scalar.cmpi .sgt c2_i32_406 c0_i32_409
  let v833 : BitVec 32 := Scalar.extui v832
  let c0_i32_410 : BitVec 32 := 0#32
  let v834 : BitVec 1 := Scalar.cmpi .slt c2_i32_406 c0_i32_410
  let v835 : BitVec 32 := Scalar.extui v834
  let v836 : BitVec 32 := Scalar.subi v833 v835
  let v837 : BitVec 1 := Scalar.cmpi .ne v831 v836
  let v838 : BitVec 32 := Scalar.remsi v825 c2_i32_406
  let c0_i32_411 : BitVec 32 := 0#32
  let v839 : BitVec 1 := Scalar.cmpi .ne v838 c0_i32_411
  let v840 : BitVec 1 := Scalar.andi v837 v839
  let v826 : BitVec 32 := Scalar.divsi v825 c2_i32_406
  let c1_i32_412 : BitVec 32 := 1#32
  let v841 : BitVec 32 := Scalar.subi v826 c1_i32_412
  let v842 : BitVec 32 := Scalar.select v840 v841 v826
  let v843 : BitVec 32 := Scalar.maxsi c0_i32_413 v842
  let v844 : BitVec 32 := Scalar.minsi v821 v843
  let c0_i32_422 : BitVec 32 := 0#32
  let c384_i32_414 : BitVec 32 := 384#32
  let v845 : BitVec 32 := Scalar.subi c384_i32_414 v803
  let c0_i32_416 : BitVec 32 := 0#32
  let v847 : BitVec 1 := Scalar.cmpi .sgt v845 c0_i32_416
  let v848 : BitVec 32 := Scalar.extui v847
  let c0_i32_417 : BitVec 32 := 0#32
  let v849 : BitVec 1 := Scalar.cmpi .slt v845 c0_i32_417
  let v850 : BitVec 32 := Scalar.extui v849
  let v851 : BitVec 32 := Scalar.subi v848 v850
  let c2_i32_415 : BitVec 32 := 2#32
  let c0_i32_418 : BitVec 32 := 0#32
  let v852 : BitVec 1 := Scalar.cmpi .sgt c2_i32_415 c0_i32_418
  let v853 : BitVec 32 := Scalar.extui v852
  let c0_i32_419 : BitVec 32 := 0#32
  let v854 : BitVec 1 := Scalar.cmpi .slt c2_i32_415 c0_i32_419
  let v855 : BitVec 32 := Scalar.extui v854
  let v856 : BitVec 32 := Scalar.subi v853 v855
  let v857 : BitVec 1 := Scalar.cmpi .ne v851 v856
  let v858 : BitVec 32 := Scalar.remsi v845 c2_i32_415
  let c0_i32_420 : BitVec 32 := 0#32
  let v859 : BitVec 1 := Scalar.cmpi .ne v858 c0_i32_420
  let v860 : BitVec 1 := Scalar.andi v857 v859
  let v846 : BitVec 32 := Scalar.divsi v845 c2_i32_415
  let c1_i32_421 : BitVec 32 := 1#32
  let v861 : BitVec 32 := Scalar.subi v846 c1_i32_421
  let v862 : BitVec 32 := Scalar.select v860 v861 v846
  let v863 : BitVec 32 := Scalar.maxsi c0_i32_422 v862
  let v864 : BitVec 32 := Scalar.minsi v821 v863
  let v865 : BitVec 32 := Scalar.subi v864 v844
  let c1_i32_423 : BitVec 32 := 1#32
  let v867 : BitVec 32 := Scalar.divsi v865 c1_i32_423
  let v868 : BitVec 32 := Scalar.muli v867 c1_i32_423
  let v869 : BitVec 32 := Scalar.addi v844 v868
  let c1_i32_425 : BitVec 32 := 1#32
  let arg23 : BitVec 32 := Scf.iv v869 c1_i32_425 k0_t24
  let v1305 : BitVec 32 := Scalar.addi v1304 arg23
  let c0_i32_616 : BitVec 32 := 0#32
  ![v1305.toNat, 0]

def k0_chk15 (v801 : BitVec 32) (v803 : BitVec 32) : Prop :=
  ((k0_t23_loop v801 v803).OK) ∧
  (∀ k0_t23 : Fin (k0_t23_loop v801 v803).trips, ∀ a, (k0_off62 v801 v803 k0_t23) a + S2x128.size a ≤ S384x128.size a) ∧
  (∀ k0_t23 : Fin (k0_t23_loop v801 v803).trips, ∀ a, (k0_off63 v801 v803 k0_t23) a + S1x2.size a ≤ S584x2.size a) ∧
  ((k0_t24_loop v801 v803).OK) ∧
  (∀ k0_t24 : Fin (k0_t24_loop v801 v803).trips, ∀ a, (k0_off65 v801 v803 k0_t24) a + S2x128.size a ≤ S384x128.size a) ∧
  (∀ k0_t24 : Fin (k0_t24_loop v801 v803).trips, ∀ a, (k0_off66 v801 v803 k0_t24) a + S1x2.size a ≤ S584x2.size a)
theorem k0_t23_ok : ∀ (v801 : BitVec 32) (v803 : BitVec 32) (k0_hw15 : k0_chk15 v801 v803), (k0_t23_loop v801 v803).OK := fun v801 v803 k0_hw15 => k0_hw15.1
theorem k0_off62_inb : ∀ (v801 : BitVec 32) (v803 : BitVec 32) (k0_hw15 : k0_chk15 v801 v803) (k0_t23 : Fin (k0_t23_loop v801 v803).trips), ∀ a, (k0_off62 v801 v803 k0_t23) a + S2x128.size a ≤ S384x128.size a := fun v801 v803 k0_hw15 k0_t23 => k0_hw15.2.1 k0_t23
theorem k0_off63_inb : ∀ (v801 : BitVec 32) (v803 : BitVec 32) (k0_hw15 : k0_chk15 v801 v803) (k0_t23 : Fin (k0_t23_loop v801 v803).trips), ∀ a, (k0_off63 v801 v803 k0_t23) a + S1x2.size a ≤ S584x2.size a := fun v801 v803 k0_hw15 k0_t23 => k0_hw15.2.2.1 k0_t23
theorem k0_t24_ok : ∀ (v801 : BitVec 32) (v803 : BitVec 32) (k0_hw15 : k0_chk15 v801 v803), (k0_t24_loop v801 v803).OK := fun v801 v803 k0_hw15 => k0_hw15.2.2.2.1
theorem k0_off65_inb : ∀ (v801 : BitVec 32) (v803 : BitVec 32) (k0_hw15 : k0_chk15 v801 v803) (k0_t24 : Fin (k0_t24_loop v801 v803).trips), ∀ a, (k0_off65 v801 v803 k0_t24) a + S2x128.size a ≤ S384x128.size a := fun v801 v803 k0_hw15 k0_t24 => k0_hw15.2.2.2.2.1 k0_t24
theorem k0_off66_inb : ∀ (v801 : BitVec 32) (v803 : BitVec 32) (k0_hw15 : k0_chk15 v801 v803) (k0_t24 : Fin (k0_t24_loop v801 v803).trips), ∀ a, (k0_off66 v801 v803 k0_t24) a + S1x2.size a ≤ S584x2.size a := fun v801 v803 k0_hw15 k0_t24 => k0_hw15.2.2.2.2.2 k0_t24

def k0_off67 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_403 : BitVec 32 := 16#32
  let v822 : BitVec 32 := Scalar.muli arg21 c16_i32_403
  let c9_i32 : BitVec 32 := 9#32
  let v823 : BitVec 32 := Scalar.addi v822 c9_i32
  let c128_i32_404 : BitVec 32 := 128#32
  let v824 : BitVec 32 := Scalar.muli v823 c128_i32_404
  ![0, v824.toNat]
@[reducible] def k0_t25_loop (v873 : BitVec 32) (v875 : BitVec 32) : Scf.Loop 32 :=
  let c1_i32_426 : BitVec 32 := 1#32
  let v876 : BitVec 32 := Scalar.addi v873 c1_i32_426
  let c0_i32_428 : BitVec 32 := 0#32
  let v878 : BitVec 1 := Scalar.cmpi .sgt v876 c0_i32_428
  let v879 : BitVec 32 := Scalar.extui v878
  let c0_i32_429 : BitVec 32 := 0#32
  let v880 : BitVec 1 := Scalar.cmpi .slt v876 c0_i32_429
  let v881 : BitVec 32 := Scalar.extui v880
  let v882 : BitVec 32 := Scalar.subi v879 v881
  let c2_i32_427 : BitVec 32 := 2#32
  let c0_i32_430 : BitVec 32 := 0#32
  let v883 : BitVec 1 := Scalar.cmpi .sgt c2_i32_427 c0_i32_430
  let v884 : BitVec 32 := Scalar.extui v883
  let c0_i32_431 : BitVec 32 := 0#32
  let v885 : BitVec 1 := Scalar.cmpi .slt c2_i32_427 c0_i32_431
  let v886 : BitVec 32 := Scalar.extui v885
  let v887 : BitVec 32 := Scalar.subi v884 v886
  let v888 : BitVec 1 := Scalar.cmpi .ne v882 v887
  let v889 : BitVec 32 := Scalar.remsi v876 c2_i32_427
  let c0_i32_432 : BitVec 32 := 0#32
  let v890 : BitVec 1 := Scalar.cmpi .ne v889 c0_i32_432
  let v891 : BitVec 1 := Scalar.andi v888 v890
  let v877 : BitVec 32 := Scalar.divsi v876 c2_i32_427
  let c1_i32_433 : BitVec 32 := 1#32
  let v892 : BitVec 32 := Scalar.subi v877 c1_i32_433
  let v893 : BitVec 32 := Scalar.select v891 v892 v877
  let c0_i32_444 : BitVec 32 := 0#32
  let c0_i32_436 : BitVec 32 := 0#32
  let v897 : BitVec 32 := Scalar.subi c0_i32_436 v875
  let c0_i32_438 : BitVec 32 := 0#32
  let v899 : BitVec 1 := Scalar.cmpi .sgt v897 c0_i32_438
  let v900 : BitVec 32 := Scalar.extui v899
  let c0_i32_439 : BitVec 32 := 0#32
  let v901 : BitVec 1 := Scalar.cmpi .slt v897 c0_i32_439
  let v902 : BitVec 32 := Scalar.extui v901
  let v903 : BitVec 32 := Scalar.subi v900 v902
  let c2_i32_437 : BitVec 32 := 2#32
  let c0_i32_440 : BitVec 32 := 0#32
  let v904 : BitVec 1 := Scalar.cmpi .sgt c2_i32_437 c0_i32_440
  let v905 : BitVec 32 := Scalar.extui v904
  let c0_i32_441 : BitVec 32 := 0#32
  let v906 : BitVec 1 := Scalar.cmpi .slt c2_i32_437 c0_i32_441
  let v907 : BitVec 32 := Scalar.extui v906
  let v908 : BitVec 32 := Scalar.subi v905 v907
  let v909 : BitVec 1 := Scalar.cmpi .ne v903 v908
  let v910 : BitVec 32 := Scalar.remsi v897 c2_i32_437
  let c0_i32_442 : BitVec 32 := 0#32
  let v911 : BitVec 1 := Scalar.cmpi .ne v910 c0_i32_442
  let v912 : BitVec 1 := Scalar.andi v909 v911
  let v898 : BitVec 32 := Scalar.divsi v897 c2_i32_437
  let c1_i32_443 : BitVec 32 := 1#32
  let v913 : BitVec 32 := Scalar.subi v898 c1_i32_443
  let v914 : BitVec 32 := Scalar.select v912 v913 v898
  let v915 : BitVec 32 := Scalar.maxsi c0_i32_444 v914
  let v916 : BitVec 32 := Scalar.minsi v893 v915
  let c0_i32_453 : BitVec 32 := 0#32
  let c384_i32_445 : BitVec 32 := 384#32
  let v917 : BitVec 32 := Scalar.subi c384_i32_445 v875
  let c0_i32_447 : BitVec 32 := 0#32
  let v919 : BitVec 1 := Scalar.cmpi .sgt v917 c0_i32_447
  let v920 : BitVec 32 := Scalar.extui v919
  let c0_i32_448 : BitVec 32 := 0#32
  let v921 : BitVec 1 := Scalar.cmpi .slt v917 c0_i32_448
  let v922 : BitVec 32 := Scalar.extui v921
  let v923 : BitVec 32 := Scalar.subi v920 v922
  let c2_i32_446 : BitVec 32 := 2#32
  let c0_i32_449 : BitVec 32 := 0#32
  let v924 : BitVec 1 := Scalar.cmpi .sgt c2_i32_446 c0_i32_449
  let v925 : BitVec 32 := Scalar.extui v924
  let c0_i32_450 : BitVec 32 := 0#32
  let v926 : BitVec 1 := Scalar.cmpi .slt c2_i32_446 c0_i32_450
  let v927 : BitVec 32 := Scalar.extui v926
  let v928 : BitVec 32 := Scalar.subi v925 v927
  let v929 : BitVec 1 := Scalar.cmpi .ne v923 v928
  let v930 : BitVec 32 := Scalar.remsi v917 c2_i32_446
  let c0_i32_451 : BitVec 32 := 0#32
  let v931 : BitVec 1 := Scalar.cmpi .ne v930 c0_i32_451
  let v932 : BitVec 1 := Scalar.andi v929 v931
  let v918 : BitVec 32 := Scalar.divsi v917 c2_i32_446
  let c1_i32_452 : BitVec 32 := 1#32
  let v933 : BitVec 32 := Scalar.subi v918 c1_i32_452
  let v934 : BitVec 32 := Scalar.select v932 v933 v918
  let v935 : BitVec 32 := Scalar.maxsi c0_i32_453 v934
  let v936 : BitVec 32 := Scalar.minsi v893 v935
  let v937 : BitVec 32 := Scalar.subi v936 v916
  let c1_i32_454 : BitVec 32 := 1#32
  let v939 : BitVec 32 := Scalar.divsi v937 c1_i32_454
  let v940 : BitVec 32 := Scalar.muli v939 c1_i32_454
  let v941 : BitVec 32 := Scalar.addi v916 v940
  let c1_i32_455 : BitVec 32 := 1#32
  ⟨v916, v941, c1_i32_455⟩

def k0_off68 (v873 : BitVec 32) (v875 : BitVec 32) (k0_t25 : Fin (k0_t25_loop v873 v875).trips) : Fin 2 → Nat :=
  let c1_i32_426 : BitVec 32 := 1#32
  let v876 : BitVec 32 := Scalar.addi v873 c1_i32_426
  let c0_i32_428 : BitVec 32 := 0#32
  let v878 : BitVec 1 := Scalar.cmpi .sgt v876 c0_i32_428
  let v879 : BitVec 32 := Scalar.extui v878
  let c0_i32_429 : BitVec 32 := 0#32
  let v880 : BitVec 1 := Scalar.cmpi .slt v876 c0_i32_429
  let v881 : BitVec 32 := Scalar.extui v880
  let v882 : BitVec 32 := Scalar.subi v879 v881
  let c2_i32_427 : BitVec 32 := 2#32
  let c0_i32_430 : BitVec 32 := 0#32
  let v883 : BitVec 1 := Scalar.cmpi .sgt c2_i32_427 c0_i32_430
  let v884 : BitVec 32 := Scalar.extui v883
  let c0_i32_431 : BitVec 32 := 0#32
  let v885 : BitVec 1 := Scalar.cmpi .slt c2_i32_427 c0_i32_431
  let v886 : BitVec 32 := Scalar.extui v885
  let v887 : BitVec 32 := Scalar.subi v884 v886
  let v888 : BitVec 1 := Scalar.cmpi .ne v882 v887
  let v889 : BitVec 32 := Scalar.remsi v876 c2_i32_427
  let c0_i32_432 : BitVec 32 := 0#32
  let v890 : BitVec 1 := Scalar.cmpi .ne v889 c0_i32_432
  let v891 : BitVec 1 := Scalar.andi v888 v890
  let v877 : BitVec 32 := Scalar.divsi v876 c2_i32_427
  let c1_i32_433 : BitVec 32 := 1#32
  let v892 : BitVec 32 := Scalar.subi v877 c1_i32_433
  let v893 : BitVec 32 := Scalar.select v891 v892 v877
  let c0_i32_444 : BitVec 32 := 0#32
  let c0_i32_436 : BitVec 32 := 0#32
  let v897 : BitVec 32 := Scalar.subi c0_i32_436 v875
  let c0_i32_438 : BitVec 32 := 0#32
  let v899 : BitVec 1 := Scalar.cmpi .sgt v897 c0_i32_438
  let v900 : BitVec 32 := Scalar.extui v899
  let c0_i32_439 : BitVec 32 := 0#32
  let v901 : BitVec 1 := Scalar.cmpi .slt v897 c0_i32_439
  let v902 : BitVec 32 := Scalar.extui v901
  let v903 : BitVec 32 := Scalar.subi v900 v902
  let c2_i32_437 : BitVec 32 := 2#32
  let c0_i32_440 : BitVec 32 := 0#32
  let v904 : BitVec 1 := Scalar.cmpi .sgt c2_i32_437 c0_i32_440
  let v905 : BitVec 32 := Scalar.extui v904
  let c0_i32_441 : BitVec 32 := 0#32
  let v906 : BitVec 1 := Scalar.cmpi .slt c2_i32_437 c0_i32_441
  let v907 : BitVec 32 := Scalar.extui v906
  let v908 : BitVec 32 := Scalar.subi v905 v907
  let v909 : BitVec 1 := Scalar.cmpi .ne v903 v908
  let v910 : BitVec 32 := Scalar.remsi v897 c2_i32_437
  let c0_i32_442 : BitVec 32 := 0#32
  let v911 : BitVec 1 := Scalar.cmpi .ne v910 c0_i32_442
  let v912 : BitVec 1 := Scalar.andi v909 v911
  let v898 : BitVec 32 := Scalar.divsi v897 c2_i32_437
  let c1_i32_443 : BitVec 32 := 1#32
  let v913 : BitVec 32 := Scalar.subi v898 c1_i32_443
  let v914 : BitVec 32 := Scalar.select v912 v913 v898
  let v915 : BitVec 32 := Scalar.maxsi c0_i32_444 v914
  let v916 : BitVec 32 := Scalar.minsi v893 v915
  let c1_i32_455 : BitVec 32 := 1#32
  let arg23 : BitVec 32 := Scf.iv v916 c1_i32_455 k0_t25
  let c2_i32_613 : BitVec 32 := 2#32
  let v1306 : BitVec 32 := Scalar.muli arg23 c2_i32_613
  let v1307 : BitVec 32 := Scalar.addi v875 v1306
  let c0_i32_614 : BitVec 32 := 0#32
  let v1308 : BitVec 32 := Scalar.subi v1307 c0_i32_614
  let c0_i32_615 : BitVec 32 := 0#32
  ![v1308.toNat, 0]
def k0_off69 (v873 : BitVec 32) (v875 : BitVec 32) (k0_t25 : Fin (k0_t25_loop v873 v875).trips) : Fin 2 → Nat :=
  let c1_i32_612 : BitVec 32 := 1#32
  let v1304 : BitVec 32 := Scalar.shrsi v875 c1_i32_612
  let c1_i32_426 : BitVec 32 := 1#32
  let v876 : BitVec 32 := Scalar.addi v873 c1_i32_426
  let c0_i32_428 : BitVec 32 := 0#32
  let v878 : BitVec 1 := Scalar.cmpi .sgt v876 c0_i32_428
  let v879 : BitVec 32 := Scalar.extui v878
  let c0_i32_429 : BitVec 32 := 0#32
  let v880 : BitVec 1 := Scalar.cmpi .slt v876 c0_i32_429
  let v881 : BitVec 32 := Scalar.extui v880
  let v882 : BitVec 32 := Scalar.subi v879 v881
  let c2_i32_427 : BitVec 32 := 2#32
  let c0_i32_430 : BitVec 32 := 0#32
  let v883 : BitVec 1 := Scalar.cmpi .sgt c2_i32_427 c0_i32_430
  let v884 : BitVec 32 := Scalar.extui v883
  let c0_i32_431 : BitVec 32 := 0#32
  let v885 : BitVec 1 := Scalar.cmpi .slt c2_i32_427 c0_i32_431
  let v886 : BitVec 32 := Scalar.extui v885
  let v887 : BitVec 32 := Scalar.subi v884 v886
  let v888 : BitVec 1 := Scalar.cmpi .ne v882 v887
  let v889 : BitVec 32 := Scalar.remsi v876 c2_i32_427
  let c0_i32_432 : BitVec 32 := 0#32
  let v890 : BitVec 1 := Scalar.cmpi .ne v889 c0_i32_432
  let v891 : BitVec 1 := Scalar.andi v888 v890
  let v877 : BitVec 32 := Scalar.divsi v876 c2_i32_427
  let c1_i32_433 : BitVec 32 := 1#32
  let v892 : BitVec 32 := Scalar.subi v877 c1_i32_433
  let v893 : BitVec 32 := Scalar.select v891 v892 v877
  let c0_i32_444 : BitVec 32 := 0#32
  let c0_i32_436 : BitVec 32 := 0#32
  let v897 : BitVec 32 := Scalar.subi c0_i32_436 v875
  let c0_i32_438 : BitVec 32 := 0#32
  let v899 : BitVec 1 := Scalar.cmpi .sgt v897 c0_i32_438
  let v900 : BitVec 32 := Scalar.extui v899
  let c0_i32_439 : BitVec 32 := 0#32
  let v901 : BitVec 1 := Scalar.cmpi .slt v897 c0_i32_439
  let v902 : BitVec 32 := Scalar.extui v901
  let v903 : BitVec 32 := Scalar.subi v900 v902
  let c2_i32_437 : BitVec 32 := 2#32
  let c0_i32_440 : BitVec 32 := 0#32
  let v904 : BitVec 1 := Scalar.cmpi .sgt c2_i32_437 c0_i32_440
  let v905 : BitVec 32 := Scalar.extui v904
  let c0_i32_441 : BitVec 32 := 0#32
  let v906 : BitVec 1 := Scalar.cmpi .slt c2_i32_437 c0_i32_441
  let v907 : BitVec 32 := Scalar.extui v906
  let v908 : BitVec 32 := Scalar.subi v905 v907
  let v909 : BitVec 1 := Scalar.cmpi .ne v903 v908
  let v910 : BitVec 32 := Scalar.remsi v897 c2_i32_437
  let c0_i32_442 : BitVec 32 := 0#32
  let v911 : BitVec 1 := Scalar.cmpi .ne v910 c0_i32_442
  let v912 : BitVec 1 := Scalar.andi v909 v911
  let v898 : BitVec 32 := Scalar.divsi v897 c2_i32_437
  let c1_i32_443 : BitVec 32 := 1#32
  let v913 : BitVec 32 := Scalar.subi v898 c1_i32_443
  let v914 : BitVec 32 := Scalar.select v912 v913 v898
  let v915 : BitVec 32 := Scalar.maxsi c0_i32_444 v914
  let v916 : BitVec 32 := Scalar.minsi v893 v915
  let c1_i32_455 : BitVec 32 := 1#32
  let arg23 : BitVec 32 := Scf.iv v916 c1_i32_455 k0_t25
  let v1305 : BitVec 32 := Scalar.addi v1304 arg23
  let c0_i32_616 : BitVec 32 := 0#32
  ![v1305.toNat, 0]
def k0_off70 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_434 : BitVec 32 := 16#32
  let v894 : BitVec 32 := Scalar.muli arg21 c16_i32_434
  let c10_i32 : BitVec 32 := 10#32
  let v895 : BitVec 32 := Scalar.addi v894 c10_i32
  let c128_i32_435 : BitVec 32 := 128#32
  let v896 : BitVec 32 := Scalar.muli v895 c128_i32_435
  ![0, v896.toNat]
@[reducible] def k0_t26_loop (v873 : BitVec 32) (v875 : BitVec 32) : Scf.Loop 32 :=
  let c1_i32_426 : BitVec 32 := 1#32
  let v876 : BitVec 32 := Scalar.addi v873 c1_i32_426
  let c0_i32_428 : BitVec 32 := 0#32
  let v878 : BitVec 1 := Scalar.cmpi .sgt v876 c0_i32_428
  let v879 : BitVec 32 := Scalar.extui v878
  let c0_i32_429 : BitVec 32 := 0#32
  let v880 : BitVec 1 := Scalar.cmpi .slt v876 c0_i32_429
  let v881 : BitVec 32 := Scalar.extui v880
  let v882 : BitVec 32 := Scalar.subi v879 v881
  let c2_i32_427 : BitVec 32 := 2#32
  let c0_i32_430 : BitVec 32 := 0#32
  let v883 : BitVec 1 := Scalar.cmpi .sgt c2_i32_427 c0_i32_430
  let v884 : BitVec 32 := Scalar.extui v883
  let c0_i32_431 : BitVec 32 := 0#32
  let v885 : BitVec 1 := Scalar.cmpi .slt c2_i32_427 c0_i32_431
  let v886 : BitVec 32 := Scalar.extui v885
  let v887 : BitVec 32 := Scalar.subi v884 v886
  let v888 : BitVec 1 := Scalar.cmpi .ne v882 v887
  let v889 : BitVec 32 := Scalar.remsi v876 c2_i32_427
  let c0_i32_432 : BitVec 32 := 0#32
  let v890 : BitVec 1 := Scalar.cmpi .ne v889 c0_i32_432
  let v891 : BitVec 1 := Scalar.andi v888 v890
  let v877 : BitVec 32 := Scalar.divsi v876 c2_i32_427
  let c1_i32_433 : BitVec 32 := 1#32
  let v892 : BitVec 32 := Scalar.subi v877 c1_i32_433
  let v893 : BitVec 32 := Scalar.select v891 v892 v877
  let c0_i32_444 : BitVec 32 := 0#32
  let c0_i32_436 : BitVec 32 := 0#32
  let v897 : BitVec 32 := Scalar.subi c0_i32_436 v875
  let c0_i32_438 : BitVec 32 := 0#32
  let v899 : BitVec 1 := Scalar.cmpi .sgt v897 c0_i32_438
  let v900 : BitVec 32 := Scalar.extui v899
  let c0_i32_439 : BitVec 32 := 0#32
  let v901 : BitVec 1 := Scalar.cmpi .slt v897 c0_i32_439
  let v902 : BitVec 32 := Scalar.extui v901
  let v903 : BitVec 32 := Scalar.subi v900 v902
  let c2_i32_437 : BitVec 32 := 2#32
  let c0_i32_440 : BitVec 32 := 0#32
  let v904 : BitVec 1 := Scalar.cmpi .sgt c2_i32_437 c0_i32_440
  let v905 : BitVec 32 := Scalar.extui v904
  let c0_i32_441 : BitVec 32 := 0#32
  let v906 : BitVec 1 := Scalar.cmpi .slt c2_i32_437 c0_i32_441
  let v907 : BitVec 32 := Scalar.extui v906
  let v908 : BitVec 32 := Scalar.subi v905 v907
  let v909 : BitVec 1 := Scalar.cmpi .ne v903 v908
  let v910 : BitVec 32 := Scalar.remsi v897 c2_i32_437
  let c0_i32_442 : BitVec 32 := 0#32
  let v911 : BitVec 1 := Scalar.cmpi .ne v910 c0_i32_442
  let v912 : BitVec 1 := Scalar.andi v909 v911
  let v898 : BitVec 32 := Scalar.divsi v897 c2_i32_437
  let c1_i32_443 : BitVec 32 := 1#32
  let v913 : BitVec 32 := Scalar.subi v898 c1_i32_443
  let v914 : BitVec 32 := Scalar.select v912 v913 v898
  let v915 : BitVec 32 := Scalar.maxsi c0_i32_444 v914
  let v916 : BitVec 32 := Scalar.minsi v893 v915
  let c0_i32_453 : BitVec 32 := 0#32
  let c384_i32_445 : BitVec 32 := 384#32
  let v917 : BitVec 32 := Scalar.subi c384_i32_445 v875
  let c0_i32_447 : BitVec 32 := 0#32
  let v919 : BitVec 1 := Scalar.cmpi .sgt v917 c0_i32_447
  let v920 : BitVec 32 := Scalar.extui v919
  let c0_i32_448 : BitVec 32 := 0#32
  let v921 : BitVec 1 := Scalar.cmpi .slt v917 c0_i32_448
  let v922 : BitVec 32 := Scalar.extui v921
  let v923 : BitVec 32 := Scalar.subi v920 v922
  let c2_i32_446 : BitVec 32 := 2#32
  let c0_i32_449 : BitVec 32 := 0#32
  let v924 : BitVec 1 := Scalar.cmpi .sgt c2_i32_446 c0_i32_449
  let v925 : BitVec 32 := Scalar.extui v924
  let c0_i32_450 : BitVec 32 := 0#32
  let v926 : BitVec 1 := Scalar.cmpi .slt c2_i32_446 c0_i32_450
  let v927 : BitVec 32 := Scalar.extui v926
  let v928 : BitVec 32 := Scalar.subi v925 v927
  let v929 : BitVec 1 := Scalar.cmpi .ne v923 v928
  let v930 : BitVec 32 := Scalar.remsi v917 c2_i32_446
  let c0_i32_451 : BitVec 32 := 0#32
  let v931 : BitVec 1 := Scalar.cmpi .ne v930 c0_i32_451
  let v932 : BitVec 1 := Scalar.andi v929 v931
  let v918 : BitVec 32 := Scalar.divsi v917 c2_i32_446
  let c1_i32_452 : BitVec 32 := 1#32
  let v933 : BitVec 32 := Scalar.subi v918 c1_i32_452
  let v934 : BitVec 32 := Scalar.select v932 v933 v918
  let v935 : BitVec 32 := Scalar.maxsi c0_i32_453 v934
  let v936 : BitVec 32 := Scalar.minsi v893 v935
  let v937 : BitVec 32 := Scalar.subi v936 v916
  let c1_i32_454 : BitVec 32 := 1#32
  let v939 : BitVec 32 := Scalar.divsi v937 c1_i32_454
  let v940 : BitVec 32 := Scalar.muli v939 c1_i32_454
  let v941 : BitVec 32 := Scalar.addi v916 v940
  let v938 : BitVec 32 := Scalar.addi v916 v937
  let c1_i32_456 : BitVec 32 := 1#32
  ⟨v941, v938, c1_i32_456⟩
def k0_off71 (v873 : BitVec 32) (v875 : BitVec 32) (k0_t26 : Fin (k0_t26_loop v873 v875).trips) : Fin 2 → Nat :=
  let c1_i32_426 : BitVec 32 := 1#32
  let v876 : BitVec 32 := Scalar.addi v873 c1_i32_426
  let c0_i32_428 : BitVec 32 := 0#32
  let v878 : BitVec 1 := Scalar.cmpi .sgt v876 c0_i32_428
  let v879 : BitVec 32 := Scalar.extui v878
  let c0_i32_429 : BitVec 32 := 0#32
  let v880 : BitVec 1 := Scalar.cmpi .slt v876 c0_i32_429
  let v881 : BitVec 32 := Scalar.extui v880
  let v882 : BitVec 32 := Scalar.subi v879 v881
  let c2_i32_427 : BitVec 32 := 2#32
  let c0_i32_430 : BitVec 32 := 0#32
  let v883 : BitVec 1 := Scalar.cmpi .sgt c2_i32_427 c0_i32_430
  let v884 : BitVec 32 := Scalar.extui v883
  let c0_i32_431 : BitVec 32 := 0#32
  let v885 : BitVec 1 := Scalar.cmpi .slt c2_i32_427 c0_i32_431
  let v886 : BitVec 32 := Scalar.extui v885
  let v887 : BitVec 32 := Scalar.subi v884 v886
  let v888 : BitVec 1 := Scalar.cmpi .ne v882 v887
  let v889 : BitVec 32 := Scalar.remsi v876 c2_i32_427
  let c0_i32_432 : BitVec 32 := 0#32
  let v890 : BitVec 1 := Scalar.cmpi .ne v889 c0_i32_432
  let v891 : BitVec 1 := Scalar.andi v888 v890
  let v877 : BitVec 32 := Scalar.divsi v876 c2_i32_427
  let c1_i32_433 : BitVec 32 := 1#32
  let v892 : BitVec 32 := Scalar.subi v877 c1_i32_433
  let v893 : BitVec 32 := Scalar.select v891 v892 v877
  let c0_i32_444 : BitVec 32 := 0#32
  let c0_i32_436 : BitVec 32 := 0#32
  let v897 : BitVec 32 := Scalar.subi c0_i32_436 v875
  let c0_i32_438 : BitVec 32 := 0#32
  let v899 : BitVec 1 := Scalar.cmpi .sgt v897 c0_i32_438
  let v900 : BitVec 32 := Scalar.extui v899
  let c0_i32_439 : BitVec 32 := 0#32
  let v901 : BitVec 1 := Scalar.cmpi .slt v897 c0_i32_439
  let v902 : BitVec 32 := Scalar.extui v901
  let v903 : BitVec 32 := Scalar.subi v900 v902
  let c2_i32_437 : BitVec 32 := 2#32
  let c0_i32_440 : BitVec 32 := 0#32
  let v904 : BitVec 1 := Scalar.cmpi .sgt c2_i32_437 c0_i32_440
  let v905 : BitVec 32 := Scalar.extui v904
  let c0_i32_441 : BitVec 32 := 0#32
  let v906 : BitVec 1 := Scalar.cmpi .slt c2_i32_437 c0_i32_441
  let v907 : BitVec 32 := Scalar.extui v906
  let v908 : BitVec 32 := Scalar.subi v905 v907
  let v909 : BitVec 1 := Scalar.cmpi .ne v903 v908
  let v910 : BitVec 32 := Scalar.remsi v897 c2_i32_437
  let c0_i32_442 : BitVec 32 := 0#32
  let v911 : BitVec 1 := Scalar.cmpi .ne v910 c0_i32_442
  let v912 : BitVec 1 := Scalar.andi v909 v911
  let v898 : BitVec 32 := Scalar.divsi v897 c2_i32_437
  let c1_i32_443 : BitVec 32 := 1#32
  let v913 : BitVec 32 := Scalar.subi v898 c1_i32_443
  let v914 : BitVec 32 := Scalar.select v912 v913 v898
  let v915 : BitVec 32 := Scalar.maxsi c0_i32_444 v914
  let v916 : BitVec 32 := Scalar.minsi v893 v915
  let c0_i32_453 : BitVec 32 := 0#32
  let c384_i32_445 : BitVec 32 := 384#32
  let v917 : BitVec 32 := Scalar.subi c384_i32_445 v875
  let c0_i32_447 : BitVec 32 := 0#32
  let v919 : BitVec 1 := Scalar.cmpi .sgt v917 c0_i32_447
  let v920 : BitVec 32 := Scalar.extui v919
  let c0_i32_448 : BitVec 32 := 0#32
  let v921 : BitVec 1 := Scalar.cmpi .slt v917 c0_i32_448
  let v922 : BitVec 32 := Scalar.extui v921
  let v923 : BitVec 32 := Scalar.subi v920 v922
  let c2_i32_446 : BitVec 32 := 2#32
  let c0_i32_449 : BitVec 32 := 0#32
  let v924 : BitVec 1 := Scalar.cmpi .sgt c2_i32_446 c0_i32_449
  let v925 : BitVec 32 := Scalar.extui v924
  let c0_i32_450 : BitVec 32 := 0#32
  let v926 : BitVec 1 := Scalar.cmpi .slt c2_i32_446 c0_i32_450
  let v927 : BitVec 32 := Scalar.extui v926
  let v928 : BitVec 32 := Scalar.subi v925 v927
  let v929 : BitVec 1 := Scalar.cmpi .ne v923 v928
  let v930 : BitVec 32 := Scalar.remsi v917 c2_i32_446
  let c0_i32_451 : BitVec 32 := 0#32
  let v931 : BitVec 1 := Scalar.cmpi .ne v930 c0_i32_451
  let v932 : BitVec 1 := Scalar.andi v929 v931
  let v918 : BitVec 32 := Scalar.divsi v917 c2_i32_446
  let c1_i32_452 : BitVec 32 := 1#32
  let v933 : BitVec 32 := Scalar.subi v918 c1_i32_452
  let v934 : BitVec 32 := Scalar.select v932 v933 v918
  let v935 : BitVec 32 := Scalar.maxsi c0_i32_453 v934
  let v936 : BitVec 32 := Scalar.minsi v893 v935
  let v937 : BitVec 32 := Scalar.subi v936 v916
  let c1_i32_454 : BitVec 32 := 1#32
  let v939 : BitVec 32 := Scalar.divsi v937 c1_i32_454
  let v940 : BitVec 32 := Scalar.muli v939 c1_i32_454
  let v941 : BitVec 32 := Scalar.addi v916 v940
  let c1_i32_456 : BitVec 32 := 1#32
  let arg23 : BitVec 32 := Scf.iv v941 c1_i32_456 k0_t26
  let c2_i32_613 : BitVec 32 := 2#32
  let v1306 : BitVec 32 := Scalar.muli arg23 c2_i32_613
  let v1307 : BitVec 32 := Scalar.addi v875 v1306
  let c0_i32_614 : BitVec 32 := 0#32
  let v1308 : BitVec 32 := Scalar.subi v1307 c0_i32_614
  let c0_i32_615 : BitVec 32 := 0#32
  ![v1308.toNat, 0]
def k0_off72 (v873 : BitVec 32) (v875 : BitVec 32) (k0_t26 : Fin (k0_t26_loop v873 v875).trips) : Fin 2 → Nat :=
  let c1_i32_612 : BitVec 32 := 1#32
  let v1304 : BitVec 32 := Scalar.shrsi v875 c1_i32_612
  let c1_i32_426 : BitVec 32 := 1#32
  let v876 : BitVec 32 := Scalar.addi v873 c1_i32_426
  let c0_i32_428 : BitVec 32 := 0#32
  let v878 : BitVec 1 := Scalar.cmpi .sgt v876 c0_i32_428
  let v879 : BitVec 32 := Scalar.extui v878
  let c0_i32_429 : BitVec 32 := 0#32
  let v880 : BitVec 1 := Scalar.cmpi .slt v876 c0_i32_429
  let v881 : BitVec 32 := Scalar.extui v880
  let v882 : BitVec 32 := Scalar.subi v879 v881
  let c2_i32_427 : BitVec 32 := 2#32
  let c0_i32_430 : BitVec 32 := 0#32
  let v883 : BitVec 1 := Scalar.cmpi .sgt c2_i32_427 c0_i32_430
  let v884 : BitVec 32 := Scalar.extui v883
  let c0_i32_431 : BitVec 32 := 0#32
  let v885 : BitVec 1 := Scalar.cmpi .slt c2_i32_427 c0_i32_431
  let v886 : BitVec 32 := Scalar.extui v885
  let v887 : BitVec 32 := Scalar.subi v884 v886
  let v888 : BitVec 1 := Scalar.cmpi .ne v882 v887
  let v889 : BitVec 32 := Scalar.remsi v876 c2_i32_427
  let c0_i32_432 : BitVec 32 := 0#32
  let v890 : BitVec 1 := Scalar.cmpi .ne v889 c0_i32_432
  let v891 : BitVec 1 := Scalar.andi v888 v890
  let v877 : BitVec 32 := Scalar.divsi v876 c2_i32_427
  let c1_i32_433 : BitVec 32 := 1#32
  let v892 : BitVec 32 := Scalar.subi v877 c1_i32_433
  let v893 : BitVec 32 := Scalar.select v891 v892 v877
  let c0_i32_444 : BitVec 32 := 0#32
  let c0_i32_436 : BitVec 32 := 0#32
  let v897 : BitVec 32 := Scalar.subi c0_i32_436 v875
  let c0_i32_438 : BitVec 32 := 0#32
  let v899 : BitVec 1 := Scalar.cmpi .sgt v897 c0_i32_438
  let v900 : BitVec 32 := Scalar.extui v899
  let c0_i32_439 : BitVec 32 := 0#32
  let v901 : BitVec 1 := Scalar.cmpi .slt v897 c0_i32_439
  let v902 : BitVec 32 := Scalar.extui v901
  let v903 : BitVec 32 := Scalar.subi v900 v902
  let c2_i32_437 : BitVec 32 := 2#32
  let c0_i32_440 : BitVec 32 := 0#32
  let v904 : BitVec 1 := Scalar.cmpi .sgt c2_i32_437 c0_i32_440
  let v905 : BitVec 32 := Scalar.extui v904
  let c0_i32_441 : BitVec 32 := 0#32
  let v906 : BitVec 1 := Scalar.cmpi .slt c2_i32_437 c0_i32_441
  let v907 : BitVec 32 := Scalar.extui v906
  let v908 : BitVec 32 := Scalar.subi v905 v907
  let v909 : BitVec 1 := Scalar.cmpi .ne v903 v908
  let v910 : BitVec 32 := Scalar.remsi v897 c2_i32_437
  let c0_i32_442 : BitVec 32 := 0#32
  let v911 : BitVec 1 := Scalar.cmpi .ne v910 c0_i32_442
  let v912 : BitVec 1 := Scalar.andi v909 v911
  let v898 : BitVec 32 := Scalar.divsi v897 c2_i32_437
  let c1_i32_443 : BitVec 32 := 1#32
  let v913 : BitVec 32 := Scalar.subi v898 c1_i32_443
  let v914 : BitVec 32 := Scalar.select v912 v913 v898
  let v915 : BitVec 32 := Scalar.maxsi c0_i32_444 v914
  let v916 : BitVec 32 := Scalar.minsi v893 v915
  let c0_i32_453 : BitVec 32 := 0#32
  let c384_i32_445 : BitVec 32 := 384#32
  let v917 : BitVec 32 := Scalar.subi c384_i32_445 v875
  let c0_i32_447 : BitVec 32 := 0#32
  let v919 : BitVec 1 := Scalar.cmpi .sgt v917 c0_i32_447
  let v920 : BitVec 32 := Scalar.extui v919
  let c0_i32_448 : BitVec 32 := 0#32
  let v921 : BitVec 1 := Scalar.cmpi .slt v917 c0_i32_448
  let v922 : BitVec 32 := Scalar.extui v921
  let v923 : BitVec 32 := Scalar.subi v920 v922
  let c2_i32_446 : BitVec 32 := 2#32
  let c0_i32_449 : BitVec 32 := 0#32
  let v924 : BitVec 1 := Scalar.cmpi .sgt c2_i32_446 c0_i32_449
  let v925 : BitVec 32 := Scalar.extui v924
  let c0_i32_450 : BitVec 32 := 0#32
  let v926 : BitVec 1 := Scalar.cmpi .slt c2_i32_446 c0_i32_450
  let v927 : BitVec 32 := Scalar.extui v926
  let v928 : BitVec 32 := Scalar.subi v925 v927
  let v929 : BitVec 1 := Scalar.cmpi .ne v923 v928
  let v930 : BitVec 32 := Scalar.remsi v917 c2_i32_446
  let c0_i32_451 : BitVec 32 := 0#32
  let v931 : BitVec 1 := Scalar.cmpi .ne v930 c0_i32_451
  let v932 : BitVec 1 := Scalar.andi v929 v931
  let v918 : BitVec 32 := Scalar.divsi v917 c2_i32_446
  let c1_i32_452 : BitVec 32 := 1#32
  let v933 : BitVec 32 := Scalar.subi v918 c1_i32_452
  let v934 : BitVec 32 := Scalar.select v932 v933 v918
  let v935 : BitVec 32 := Scalar.maxsi c0_i32_453 v934
  let v936 : BitVec 32 := Scalar.minsi v893 v935
  let v937 : BitVec 32 := Scalar.subi v936 v916
  let c1_i32_454 : BitVec 32 := 1#32
  let v939 : BitVec 32 := Scalar.divsi v937 c1_i32_454
  let v940 : BitVec 32 := Scalar.muli v939 c1_i32_454
  let v941 : BitVec 32 := Scalar.addi v916 v940
  let c1_i32_456 : BitVec 32 := 1#32
  let arg23 : BitVec 32 := Scf.iv v941 c1_i32_456 k0_t26
  let v1305 : BitVec 32 := Scalar.addi v1304 arg23
  let c0_i32_616 : BitVec 32 := 0#32
  ![v1305.toNat, 0]

def k0_chk16 (v873 : BitVec 32) (v875 : BitVec 32) : Prop :=
  ((k0_t25_loop v873 v875).OK) ∧
  (∀ k0_t25 : Fin (k0_t25_loop v873 v875).trips, ∀ a, (k0_off68 v873 v875 k0_t25) a + S2x128.size a ≤ S384x128.size a) ∧
  (∀ k0_t25 : Fin (k0_t25_loop v873 v875).trips, ∀ a, (k0_off69 v873 v875 k0_t25) a + S1x2.size a ≤ S584x2.size a) ∧
  ((k0_t26_loop v873 v875).OK) ∧
  (∀ k0_t26 : Fin (k0_t26_loop v873 v875).trips, ∀ a, (k0_off71 v873 v875 k0_t26) a + S2x128.size a ≤ S384x128.size a) ∧
  (∀ k0_t26 : Fin (k0_t26_loop v873 v875).trips, ∀ a, (k0_off72 v873 v875 k0_t26) a + S1x2.size a ≤ S584x2.size a)
theorem k0_t25_ok : ∀ (v873 : BitVec 32) (v875 : BitVec 32) (k0_hw16 : k0_chk16 v873 v875), (k0_t25_loop v873 v875).OK := fun v873 v875 k0_hw16 => k0_hw16.1
theorem k0_off68_inb : ∀ (v873 : BitVec 32) (v875 : BitVec 32) (k0_hw16 : k0_chk16 v873 v875) (k0_t25 : Fin (k0_t25_loop v873 v875).trips), ∀ a, (k0_off68 v873 v875 k0_t25) a + S2x128.size a ≤ S384x128.size a := fun v873 v875 k0_hw16 k0_t25 => k0_hw16.2.1 k0_t25
theorem k0_off69_inb : ∀ (v873 : BitVec 32) (v875 : BitVec 32) (k0_hw16 : k0_chk16 v873 v875) (k0_t25 : Fin (k0_t25_loop v873 v875).trips), ∀ a, (k0_off69 v873 v875 k0_t25) a + S1x2.size a ≤ S584x2.size a := fun v873 v875 k0_hw16 k0_t25 => k0_hw16.2.2.1 k0_t25
theorem k0_t26_ok : ∀ (v873 : BitVec 32) (v875 : BitVec 32) (k0_hw16 : k0_chk16 v873 v875), (k0_t26_loop v873 v875).OK := fun v873 v875 k0_hw16 => k0_hw16.2.2.2.1
theorem k0_off71_inb : ∀ (v873 : BitVec 32) (v875 : BitVec 32) (k0_hw16 : k0_chk16 v873 v875) (k0_t26 : Fin (k0_t26_loop v873 v875).trips), ∀ a, (k0_off71 v873 v875 k0_t26) a + S2x128.size a ≤ S384x128.size a := fun v873 v875 k0_hw16 k0_t26 => k0_hw16.2.2.2.2.1 k0_t26
theorem k0_off72_inb : ∀ (v873 : BitVec 32) (v875 : BitVec 32) (k0_hw16 : k0_chk16 v873 v875) (k0_t26 : Fin (k0_t26_loop v873 v875).trips), ∀ a, (k0_off72 v873 v875 k0_t26) a + S1x2.size a ≤ S584x2.size a := fun v873 v875 k0_hw16 k0_t26 => k0_hw16.2.2.2.2.2 k0_t26

def k0_off73 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_434 : BitVec 32 := 16#32
  let v894 : BitVec 32 := Scalar.muli arg21 c16_i32_434
  let c10_i32 : BitVec 32 := 10#32
  let v895 : BitVec 32 := Scalar.addi v894 c10_i32
  let c128_i32_435 : BitVec 32 := 128#32
  let v896 : BitVec 32 := Scalar.muli v895 c128_i32_435
  ![0, v896.toNat]
@[reducible] def k0_t27_loop (v945 : BitVec 32) (v947 : BitVec 32) : Scf.Loop 32 :=
  let c1_i32_457 : BitVec 32 := 1#32
  let v948 : BitVec 32 := Scalar.addi v945 c1_i32_457
  let c0_i32_459 : BitVec 32 := 0#32
  let v950 : BitVec 1 := Scalar.cmpi .sgt v948 c0_i32_459
  let v951 : BitVec 32 := Scalar.extui v950
  let c0_i32_460 : BitVec 32 := 0#32
  let v952 : BitVec 1 := Scalar.cmpi .slt v948 c0_i32_460
  let v953 : BitVec 32 := Scalar.extui v952
  let v954 : BitVec 32 := Scalar.subi v951 v953
  let c2_i32_458 : BitVec 32 := 2#32
  let c0_i32_461 : BitVec 32 := 0#32
  let v955 : BitVec 1 := Scalar.cmpi .sgt c2_i32_458 c0_i32_461
  let v956 : BitVec 32 := Scalar.extui v955
  let c0_i32_462 : BitVec 32 := 0#32
  let v957 : BitVec 1 := Scalar.cmpi .slt c2_i32_458 c0_i32_462
  let v958 : BitVec 32 := Scalar.extui v957
  let v959 : BitVec 32 := Scalar.subi v956 v958
  let v960 : BitVec 1 := Scalar.cmpi .ne v954 v959
  let v961 : BitVec 32 := Scalar.remsi v948 c2_i32_458
  let c0_i32_463 : BitVec 32 := 0#32
  let v962 : BitVec 1 := Scalar.cmpi .ne v961 c0_i32_463
  let v963 : BitVec 1 := Scalar.andi v960 v962
  let v949 : BitVec 32 := Scalar.divsi v948 c2_i32_458
  let c1_i32_464 : BitVec 32 := 1#32
  let v964 : BitVec 32 := Scalar.subi v949 c1_i32_464
  let v965 : BitVec 32 := Scalar.select v963 v964 v949
  let c0_i32_475 : BitVec 32 := 0#32
  let c0_i32_467 : BitVec 32 := 0#32
  let v969 : BitVec 32 := Scalar.subi c0_i32_467 v947
  let c0_i32_469 : BitVec 32 := 0#32
  let v971 : BitVec 1 := Scalar.cmpi .sgt v969 c0_i32_469
  let v972 : BitVec 32 := Scalar.extui v971
  let c0_i32_470 : BitVec 32 := 0#32
  let v973 : BitVec 1 := Scalar.cmpi .slt v969 c0_i32_470
  let v974 : BitVec 32 := Scalar.extui v973
  let v975 : BitVec 32 := Scalar.subi v972 v974
  let c2_i32_468 : BitVec 32 := 2#32
  let c0_i32_471 : BitVec 32 := 0#32
  let v976 : BitVec 1 := Scalar.cmpi .sgt c2_i32_468 c0_i32_471
  let v977 : BitVec 32 := Scalar.extui v976
  let c0_i32_472 : BitVec 32 := 0#32
  let v978 : BitVec 1 := Scalar.cmpi .slt c2_i32_468 c0_i32_472
  let v979 : BitVec 32 := Scalar.extui v978
  let v980 : BitVec 32 := Scalar.subi v977 v979
  let v981 : BitVec 1 := Scalar.cmpi .ne v975 v980
  let v982 : BitVec 32 := Scalar.remsi v969 c2_i32_468
  let c0_i32_473 : BitVec 32 := 0#32
  let v983 : BitVec 1 := Scalar.cmpi .ne v982 c0_i32_473
  let v984 : BitVec 1 := Scalar.andi v981 v983
  let v970 : BitVec 32 := Scalar.divsi v969 c2_i32_468
  let c1_i32_474 : BitVec 32 := 1#32
  let v985 : BitVec 32 := Scalar.subi v970 c1_i32_474
  let v986 : BitVec 32 := Scalar.select v984 v985 v970
  let v987 : BitVec 32 := Scalar.maxsi c0_i32_475 v986
  let v988 : BitVec 32 := Scalar.minsi v965 v987
  let c0_i32_484 : BitVec 32 := 0#32
  let c384_i32_476 : BitVec 32 := 384#32
  let v989 : BitVec 32 := Scalar.subi c384_i32_476 v947
  let c0_i32_478 : BitVec 32 := 0#32
  let v991 : BitVec 1 := Scalar.cmpi .sgt v989 c0_i32_478
  let v992 : BitVec 32 := Scalar.extui v991
  let c0_i32_479 : BitVec 32 := 0#32
  let v993 : BitVec 1 := Scalar.cmpi .slt v989 c0_i32_479
  let v994 : BitVec 32 := Scalar.extui v993
  let v995 : BitVec 32 := Scalar.subi v992 v994
  let c2_i32_477 : BitVec 32 := 2#32
  let c0_i32_480 : BitVec 32 := 0#32
  let v996 : BitVec 1 := Scalar.cmpi .sgt c2_i32_477 c0_i32_480
  let v997 : BitVec 32 := Scalar.extui v996
  let c0_i32_481 : BitVec 32 := 0#32
  let v998 : BitVec 1 := Scalar.cmpi .slt c2_i32_477 c0_i32_481
  let v999 : BitVec 32 := Scalar.extui v998
  let v1000 : BitVec 32 := Scalar.subi v997 v999
  let v1001 : BitVec 1 := Scalar.cmpi .ne v995 v1000
  let v1002 : BitVec 32 := Scalar.remsi v989 c2_i32_477
  let c0_i32_482 : BitVec 32 := 0#32
  let v1003 : BitVec 1 := Scalar.cmpi .ne v1002 c0_i32_482
  let v1004 : BitVec 1 := Scalar.andi v1001 v1003
  let v990 : BitVec 32 := Scalar.divsi v989 c2_i32_477
  let c1_i32_483 : BitVec 32 := 1#32
  let v1005 : BitVec 32 := Scalar.subi v990 c1_i32_483
  let v1006 : BitVec 32 := Scalar.select v1004 v1005 v990
  let v1007 : BitVec 32 := Scalar.maxsi c0_i32_484 v1006
  let v1008 : BitVec 32 := Scalar.minsi v965 v1007
  let v1009 : BitVec 32 := Scalar.subi v1008 v988
  let c1_i32_485 : BitVec 32 := 1#32
  let v1011 : BitVec 32 := Scalar.divsi v1009 c1_i32_485
  let v1012 : BitVec 32 := Scalar.muli v1011 c1_i32_485
  let v1013 : BitVec 32 := Scalar.addi v988 v1012
  let c1_i32_486 : BitVec 32 := 1#32
  ⟨v988, v1013, c1_i32_486⟩

def k0_off74 (v945 : BitVec 32) (v947 : BitVec 32) (k0_t27 : Fin (k0_t27_loop v945 v947).trips) : Fin 2 → Nat :=
  let c1_i32_457 : BitVec 32 := 1#32
  let v948 : BitVec 32 := Scalar.addi v945 c1_i32_457
  let c0_i32_459 : BitVec 32 := 0#32
  let v950 : BitVec 1 := Scalar.cmpi .sgt v948 c0_i32_459
  let v951 : BitVec 32 := Scalar.extui v950
  let c0_i32_460 : BitVec 32 := 0#32
  let v952 : BitVec 1 := Scalar.cmpi .slt v948 c0_i32_460
  let v953 : BitVec 32 := Scalar.extui v952
  let v954 : BitVec 32 := Scalar.subi v951 v953
  let c2_i32_458 : BitVec 32 := 2#32
  let c0_i32_461 : BitVec 32 := 0#32
  let v955 : BitVec 1 := Scalar.cmpi .sgt c2_i32_458 c0_i32_461
  let v956 : BitVec 32 := Scalar.extui v955
  let c0_i32_462 : BitVec 32 := 0#32
  let v957 : BitVec 1 := Scalar.cmpi .slt c2_i32_458 c0_i32_462
  let v958 : BitVec 32 := Scalar.extui v957
  let v959 : BitVec 32 := Scalar.subi v956 v958
  let v960 : BitVec 1 := Scalar.cmpi .ne v954 v959
  let v961 : BitVec 32 := Scalar.remsi v948 c2_i32_458
  let c0_i32_463 : BitVec 32 := 0#32
  let v962 : BitVec 1 := Scalar.cmpi .ne v961 c0_i32_463
  let v963 : BitVec 1 := Scalar.andi v960 v962
  let v949 : BitVec 32 := Scalar.divsi v948 c2_i32_458
  let c1_i32_464 : BitVec 32 := 1#32
  let v964 : BitVec 32 := Scalar.subi v949 c1_i32_464
  let v965 : BitVec 32 := Scalar.select v963 v964 v949
  let c0_i32_475 : BitVec 32 := 0#32
  let c0_i32_467 : BitVec 32 := 0#32
  let v969 : BitVec 32 := Scalar.subi c0_i32_467 v947
  let c0_i32_469 : BitVec 32 := 0#32
  let v971 : BitVec 1 := Scalar.cmpi .sgt v969 c0_i32_469
  let v972 : BitVec 32 := Scalar.extui v971
  let c0_i32_470 : BitVec 32 := 0#32
  let v973 : BitVec 1 := Scalar.cmpi .slt v969 c0_i32_470
  let v974 : BitVec 32 := Scalar.extui v973
  let v975 : BitVec 32 := Scalar.subi v972 v974
  let c2_i32_468 : BitVec 32 := 2#32
  let c0_i32_471 : BitVec 32 := 0#32
  let v976 : BitVec 1 := Scalar.cmpi .sgt c2_i32_468 c0_i32_471
  let v977 : BitVec 32 := Scalar.extui v976
  let c0_i32_472 : BitVec 32 := 0#32
  let v978 : BitVec 1 := Scalar.cmpi .slt c2_i32_468 c0_i32_472
  let v979 : BitVec 32 := Scalar.extui v978
  let v980 : BitVec 32 := Scalar.subi v977 v979
  let v981 : BitVec 1 := Scalar.cmpi .ne v975 v980
  let v982 : BitVec 32 := Scalar.remsi v969 c2_i32_468
  let c0_i32_473 : BitVec 32 := 0#32
  let v983 : BitVec 1 := Scalar.cmpi .ne v982 c0_i32_473
  let v984 : BitVec 1 := Scalar.andi v981 v983
  let v970 : BitVec 32 := Scalar.divsi v969 c2_i32_468
  let c1_i32_474 : BitVec 32 := 1#32
  let v985 : BitVec 32 := Scalar.subi v970 c1_i32_474
  let v986 : BitVec 32 := Scalar.select v984 v985 v970
  let v987 : BitVec 32 := Scalar.maxsi c0_i32_475 v986
  let v988 : BitVec 32 := Scalar.minsi v965 v987
  let c1_i32_486 : BitVec 32 := 1#32
  let arg23 : BitVec 32 := Scf.iv v988 c1_i32_486 k0_t27
  let c2_i32_613 : BitVec 32 := 2#32
  let v1306 : BitVec 32 := Scalar.muli arg23 c2_i32_613
  let v1307 : BitVec 32 := Scalar.addi v947 v1306
  let c0_i32_614 : BitVec 32 := 0#32
  let v1308 : BitVec 32 := Scalar.subi v1307 c0_i32_614
  let c0_i32_615 : BitVec 32 := 0#32
  ![v1308.toNat, 0]
def k0_off75 (v945 : BitVec 32) (v947 : BitVec 32) (k0_t27 : Fin (k0_t27_loop v945 v947).trips) : Fin 2 → Nat :=
  let c1_i32_612 : BitVec 32 := 1#32
  let v1304 : BitVec 32 := Scalar.shrsi v947 c1_i32_612
  let c1_i32_457 : BitVec 32 := 1#32
  let v948 : BitVec 32 := Scalar.addi v945 c1_i32_457
  let c0_i32_459 : BitVec 32 := 0#32
  let v950 : BitVec 1 := Scalar.cmpi .sgt v948 c0_i32_459
  let v951 : BitVec 32 := Scalar.extui v950
  let c0_i32_460 : BitVec 32 := 0#32
  let v952 : BitVec 1 := Scalar.cmpi .slt v948 c0_i32_460
  let v953 : BitVec 32 := Scalar.extui v952
  let v954 : BitVec 32 := Scalar.subi v951 v953
  let c2_i32_458 : BitVec 32 := 2#32
  let c0_i32_461 : BitVec 32 := 0#32
  let v955 : BitVec 1 := Scalar.cmpi .sgt c2_i32_458 c0_i32_461
  let v956 : BitVec 32 := Scalar.extui v955
  let c0_i32_462 : BitVec 32 := 0#32
  let v957 : BitVec 1 := Scalar.cmpi .slt c2_i32_458 c0_i32_462
  let v958 : BitVec 32 := Scalar.extui v957
  let v959 : BitVec 32 := Scalar.subi v956 v958
  let v960 : BitVec 1 := Scalar.cmpi .ne v954 v959
  let v961 : BitVec 32 := Scalar.remsi v948 c2_i32_458
  let c0_i32_463 : BitVec 32 := 0#32
  let v962 : BitVec 1 := Scalar.cmpi .ne v961 c0_i32_463
  let v963 : BitVec 1 := Scalar.andi v960 v962
  let v949 : BitVec 32 := Scalar.divsi v948 c2_i32_458
  let c1_i32_464 : BitVec 32 := 1#32
  let v964 : BitVec 32 := Scalar.subi v949 c1_i32_464
  let v965 : BitVec 32 := Scalar.select v963 v964 v949
  let c0_i32_475 : BitVec 32 := 0#32
  let c0_i32_467 : BitVec 32 := 0#32
  let v969 : BitVec 32 := Scalar.subi c0_i32_467 v947
  let c0_i32_469 : BitVec 32 := 0#32
  let v971 : BitVec 1 := Scalar.cmpi .sgt v969 c0_i32_469
  let v972 : BitVec 32 := Scalar.extui v971
  let c0_i32_470 : BitVec 32 := 0#32
  let v973 : BitVec 1 := Scalar.cmpi .slt v969 c0_i32_470
  let v974 : BitVec 32 := Scalar.extui v973
  let v975 : BitVec 32 := Scalar.subi v972 v974
  let c2_i32_468 : BitVec 32 := 2#32
  let c0_i32_471 : BitVec 32 := 0#32
  let v976 : BitVec 1 := Scalar.cmpi .sgt c2_i32_468 c0_i32_471
  let v977 : BitVec 32 := Scalar.extui v976
  let c0_i32_472 : BitVec 32 := 0#32
  let v978 : BitVec 1 := Scalar.cmpi .slt c2_i32_468 c0_i32_472
  let v979 : BitVec 32 := Scalar.extui v978
  let v980 : BitVec 32 := Scalar.subi v977 v979
  let v981 : BitVec 1 := Scalar.cmpi .ne v975 v980
  let v982 : BitVec 32 := Scalar.remsi v969 c2_i32_468
  let c0_i32_473 : BitVec 32 := 0#32
  let v983 : BitVec 1 := Scalar.cmpi .ne v982 c0_i32_473
  let v984 : BitVec 1 := Scalar.andi v981 v983
  let v970 : BitVec 32 := Scalar.divsi v969 c2_i32_468
  let c1_i32_474 : BitVec 32 := 1#32
  let v985 : BitVec 32 := Scalar.subi v970 c1_i32_474
  let v986 : BitVec 32 := Scalar.select v984 v985 v970
  let v987 : BitVec 32 := Scalar.maxsi c0_i32_475 v986
  let v988 : BitVec 32 := Scalar.minsi v965 v987
  let c1_i32_486 : BitVec 32 := 1#32
  let arg23 : BitVec 32 := Scf.iv v988 c1_i32_486 k0_t27
  let v1305 : BitVec 32 := Scalar.addi v1304 arg23
  let c0_i32_616 : BitVec 32 := 0#32
  ![v1305.toNat, 0]
def k0_off76 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_465 : BitVec 32 := 16#32
  let v966 : BitVec 32 := Scalar.muli arg21 c16_i32_465
  let c11_i32 : BitVec 32 := 11#32
  let v967 : BitVec 32 := Scalar.addi v966 c11_i32
  let c128_i32_466 : BitVec 32 := 128#32
  let v968 : BitVec 32 := Scalar.muli v967 c128_i32_466
  ![0, v968.toNat]
@[reducible] def k0_t28_loop (v945 : BitVec 32) (v947 : BitVec 32) : Scf.Loop 32 :=
  let c1_i32_457 : BitVec 32 := 1#32
  let v948 : BitVec 32 := Scalar.addi v945 c1_i32_457
  let c0_i32_459 : BitVec 32 := 0#32
  let v950 : BitVec 1 := Scalar.cmpi .sgt v948 c0_i32_459
  let v951 : BitVec 32 := Scalar.extui v950
  let c0_i32_460 : BitVec 32 := 0#32
  let v952 : BitVec 1 := Scalar.cmpi .slt v948 c0_i32_460
  let v953 : BitVec 32 := Scalar.extui v952
  let v954 : BitVec 32 := Scalar.subi v951 v953
  let c2_i32_458 : BitVec 32 := 2#32
  let c0_i32_461 : BitVec 32 := 0#32
  let v955 : BitVec 1 := Scalar.cmpi .sgt c2_i32_458 c0_i32_461
  let v956 : BitVec 32 := Scalar.extui v955
  let c0_i32_462 : BitVec 32 := 0#32
  let v957 : BitVec 1 := Scalar.cmpi .slt c2_i32_458 c0_i32_462
  let v958 : BitVec 32 := Scalar.extui v957
  let v959 : BitVec 32 := Scalar.subi v956 v958
  let v960 : BitVec 1 := Scalar.cmpi .ne v954 v959
  let v961 : BitVec 32 := Scalar.remsi v948 c2_i32_458
  let c0_i32_463 : BitVec 32 := 0#32
  let v962 : BitVec 1 := Scalar.cmpi .ne v961 c0_i32_463
  let v963 : BitVec 1 := Scalar.andi v960 v962
  let v949 : BitVec 32 := Scalar.divsi v948 c2_i32_458
  let c1_i32_464 : BitVec 32 := 1#32
  let v964 : BitVec 32 := Scalar.subi v949 c1_i32_464
  let v965 : BitVec 32 := Scalar.select v963 v964 v949
  let c0_i32_475 : BitVec 32 := 0#32
  let c0_i32_467 : BitVec 32 := 0#32
  let v969 : BitVec 32 := Scalar.subi c0_i32_467 v947
  let c0_i32_469 : BitVec 32 := 0#32
  let v971 : BitVec 1 := Scalar.cmpi .sgt v969 c0_i32_469
  let v972 : BitVec 32 := Scalar.extui v971
  let c0_i32_470 : BitVec 32 := 0#32
  let v973 : BitVec 1 := Scalar.cmpi .slt v969 c0_i32_470
  let v974 : BitVec 32 := Scalar.extui v973
  let v975 : BitVec 32 := Scalar.subi v972 v974
  let c2_i32_468 : BitVec 32 := 2#32
  let c0_i32_471 : BitVec 32 := 0#32
  let v976 : BitVec 1 := Scalar.cmpi .sgt c2_i32_468 c0_i32_471
  let v977 : BitVec 32 := Scalar.extui v976
  let c0_i32_472 : BitVec 32 := 0#32
  let v978 : BitVec 1 := Scalar.cmpi .slt c2_i32_468 c0_i32_472
  let v979 : BitVec 32 := Scalar.extui v978
  let v980 : BitVec 32 := Scalar.subi v977 v979
  let v981 : BitVec 1 := Scalar.cmpi .ne v975 v980
  let v982 : BitVec 32 := Scalar.remsi v969 c2_i32_468
  let c0_i32_473 : BitVec 32 := 0#32
  let v983 : BitVec 1 := Scalar.cmpi .ne v982 c0_i32_473
  let v984 : BitVec 1 := Scalar.andi v981 v983
  let v970 : BitVec 32 := Scalar.divsi v969 c2_i32_468
  let c1_i32_474 : BitVec 32 := 1#32
  let v985 : BitVec 32 := Scalar.subi v970 c1_i32_474
  let v986 : BitVec 32 := Scalar.select v984 v985 v970
  let v987 : BitVec 32 := Scalar.maxsi c0_i32_475 v986
  let v988 : BitVec 32 := Scalar.minsi v965 v987
  let c0_i32_484 : BitVec 32 := 0#32
  let c384_i32_476 : BitVec 32 := 384#32
  let v989 : BitVec 32 := Scalar.subi c384_i32_476 v947
  let c0_i32_478 : BitVec 32 := 0#32
  let v991 : BitVec 1 := Scalar.cmpi .sgt v989 c0_i32_478
  let v992 : BitVec 32 := Scalar.extui v991
  let c0_i32_479 : BitVec 32 := 0#32
  let v993 : BitVec 1 := Scalar.cmpi .slt v989 c0_i32_479
  let v994 : BitVec 32 := Scalar.extui v993
  let v995 : BitVec 32 := Scalar.subi v992 v994
  let c2_i32_477 : BitVec 32 := 2#32
  let c0_i32_480 : BitVec 32 := 0#32
  let v996 : BitVec 1 := Scalar.cmpi .sgt c2_i32_477 c0_i32_480
  let v997 : BitVec 32 := Scalar.extui v996
  let c0_i32_481 : BitVec 32 := 0#32
  let v998 : BitVec 1 := Scalar.cmpi .slt c2_i32_477 c0_i32_481
  let v999 : BitVec 32 := Scalar.extui v998
  let v1000 : BitVec 32 := Scalar.subi v997 v999
  let v1001 : BitVec 1 := Scalar.cmpi .ne v995 v1000
  let v1002 : BitVec 32 := Scalar.remsi v989 c2_i32_477
  let c0_i32_482 : BitVec 32 := 0#32
  let v1003 : BitVec 1 := Scalar.cmpi .ne v1002 c0_i32_482
  let v1004 : BitVec 1 := Scalar.andi v1001 v1003
  let v990 : BitVec 32 := Scalar.divsi v989 c2_i32_477
  let c1_i32_483 : BitVec 32 := 1#32
  let v1005 : BitVec 32 := Scalar.subi v990 c1_i32_483
  let v1006 : BitVec 32 := Scalar.select v1004 v1005 v990
  let v1007 : BitVec 32 := Scalar.maxsi c0_i32_484 v1006
  let v1008 : BitVec 32 := Scalar.minsi v965 v1007
  let v1009 : BitVec 32 := Scalar.subi v1008 v988
  let c1_i32_485 : BitVec 32 := 1#32
  let v1011 : BitVec 32 := Scalar.divsi v1009 c1_i32_485
  let v1012 : BitVec 32 := Scalar.muli v1011 c1_i32_485
  let v1013 : BitVec 32 := Scalar.addi v988 v1012
  let v1010 : BitVec 32 := Scalar.addi v988 v1009
  let c1_i32_487 : BitVec 32 := 1#32
  ⟨v1013, v1010, c1_i32_487⟩
def k0_off77 (v945 : BitVec 32) (v947 : BitVec 32) (k0_t28 : Fin (k0_t28_loop v945 v947).trips) : Fin 2 → Nat :=
  let c1_i32_457 : BitVec 32 := 1#32
  let v948 : BitVec 32 := Scalar.addi v945 c1_i32_457
  let c0_i32_459 : BitVec 32 := 0#32
  let v950 : BitVec 1 := Scalar.cmpi .sgt v948 c0_i32_459
  let v951 : BitVec 32 := Scalar.extui v950
  let c0_i32_460 : BitVec 32 := 0#32
  let v952 : BitVec 1 := Scalar.cmpi .slt v948 c0_i32_460
  let v953 : BitVec 32 := Scalar.extui v952
  let v954 : BitVec 32 := Scalar.subi v951 v953
  let c2_i32_458 : BitVec 32 := 2#32
  let c0_i32_461 : BitVec 32 := 0#32
  let v955 : BitVec 1 := Scalar.cmpi .sgt c2_i32_458 c0_i32_461
  let v956 : BitVec 32 := Scalar.extui v955
  let c0_i32_462 : BitVec 32 := 0#32
  let v957 : BitVec 1 := Scalar.cmpi .slt c2_i32_458 c0_i32_462
  let v958 : BitVec 32 := Scalar.extui v957
  let v959 : BitVec 32 := Scalar.subi v956 v958
  let v960 : BitVec 1 := Scalar.cmpi .ne v954 v959
  let v961 : BitVec 32 := Scalar.remsi v948 c2_i32_458
  let c0_i32_463 : BitVec 32 := 0#32
  let v962 : BitVec 1 := Scalar.cmpi .ne v961 c0_i32_463
  let v963 : BitVec 1 := Scalar.andi v960 v962
  let v949 : BitVec 32 := Scalar.divsi v948 c2_i32_458
  let c1_i32_464 : BitVec 32 := 1#32
  let v964 : BitVec 32 := Scalar.subi v949 c1_i32_464
  let v965 : BitVec 32 := Scalar.select v963 v964 v949
  let c0_i32_475 : BitVec 32 := 0#32
  let c0_i32_467 : BitVec 32 := 0#32
  let v969 : BitVec 32 := Scalar.subi c0_i32_467 v947
  let c0_i32_469 : BitVec 32 := 0#32
  let v971 : BitVec 1 := Scalar.cmpi .sgt v969 c0_i32_469
  let v972 : BitVec 32 := Scalar.extui v971
  let c0_i32_470 : BitVec 32 := 0#32
  let v973 : BitVec 1 := Scalar.cmpi .slt v969 c0_i32_470
  let v974 : BitVec 32 := Scalar.extui v973
  let v975 : BitVec 32 := Scalar.subi v972 v974
  let c2_i32_468 : BitVec 32 := 2#32
  let c0_i32_471 : BitVec 32 := 0#32
  let v976 : BitVec 1 := Scalar.cmpi .sgt c2_i32_468 c0_i32_471
  let v977 : BitVec 32 := Scalar.extui v976
  let c0_i32_472 : BitVec 32 := 0#32
  let v978 : BitVec 1 := Scalar.cmpi .slt c2_i32_468 c0_i32_472
  let v979 : BitVec 32 := Scalar.extui v978
  let v980 : BitVec 32 := Scalar.subi v977 v979
  let v981 : BitVec 1 := Scalar.cmpi .ne v975 v980
  let v982 : BitVec 32 := Scalar.remsi v969 c2_i32_468
  let c0_i32_473 : BitVec 32 := 0#32
  let v983 : BitVec 1 := Scalar.cmpi .ne v982 c0_i32_473
  let v984 : BitVec 1 := Scalar.andi v981 v983
  let v970 : BitVec 32 := Scalar.divsi v969 c2_i32_468
  let c1_i32_474 : BitVec 32 := 1#32
  let v985 : BitVec 32 := Scalar.subi v970 c1_i32_474
  let v986 : BitVec 32 := Scalar.select v984 v985 v970
  let v987 : BitVec 32 := Scalar.maxsi c0_i32_475 v986
  let v988 : BitVec 32 := Scalar.minsi v965 v987
  let c0_i32_484 : BitVec 32 := 0#32
  let c384_i32_476 : BitVec 32 := 384#32
  let v989 : BitVec 32 := Scalar.subi c384_i32_476 v947
  let c0_i32_478 : BitVec 32 := 0#32
  let v991 : BitVec 1 := Scalar.cmpi .sgt v989 c0_i32_478
  let v992 : BitVec 32 := Scalar.extui v991
  let c0_i32_479 : BitVec 32 := 0#32
  let v993 : BitVec 1 := Scalar.cmpi .slt v989 c0_i32_479
  let v994 : BitVec 32 := Scalar.extui v993
  let v995 : BitVec 32 := Scalar.subi v992 v994
  let c2_i32_477 : BitVec 32 := 2#32
  let c0_i32_480 : BitVec 32 := 0#32
  let v996 : BitVec 1 := Scalar.cmpi .sgt c2_i32_477 c0_i32_480
  let v997 : BitVec 32 := Scalar.extui v996
  let c0_i32_481 : BitVec 32 := 0#32
  let v998 : BitVec 1 := Scalar.cmpi .slt c2_i32_477 c0_i32_481
  let v999 : BitVec 32 := Scalar.extui v998
  let v1000 : BitVec 32 := Scalar.subi v997 v999
  let v1001 : BitVec 1 := Scalar.cmpi .ne v995 v1000
  let v1002 : BitVec 32 := Scalar.remsi v989 c2_i32_477
  let c0_i32_482 : BitVec 32 := 0#32
  let v1003 : BitVec 1 := Scalar.cmpi .ne v1002 c0_i32_482
  let v1004 : BitVec 1 := Scalar.andi v1001 v1003
  let v990 : BitVec 32 := Scalar.divsi v989 c2_i32_477
  let c1_i32_483 : BitVec 32 := 1#32
  let v1005 : BitVec 32 := Scalar.subi v990 c1_i32_483
  let v1006 : BitVec 32 := Scalar.select v1004 v1005 v990
  let v1007 : BitVec 32 := Scalar.maxsi c0_i32_484 v1006
  let v1008 : BitVec 32 := Scalar.minsi v965 v1007
  let v1009 : BitVec 32 := Scalar.subi v1008 v988
  let c1_i32_485 : BitVec 32 := 1#32
  let v1011 : BitVec 32 := Scalar.divsi v1009 c1_i32_485
  let v1012 : BitVec 32 := Scalar.muli v1011 c1_i32_485
  let v1013 : BitVec 32 := Scalar.addi v988 v1012
  let c1_i32_487 : BitVec 32 := 1#32
  let arg23 : BitVec 32 := Scf.iv v1013 c1_i32_487 k0_t28
  let c2_i32_613 : BitVec 32 := 2#32
  let v1306 : BitVec 32 := Scalar.muli arg23 c2_i32_613
  let v1307 : BitVec 32 := Scalar.addi v947 v1306
  let c0_i32_614 : BitVec 32 := 0#32
  let v1308 : BitVec 32 := Scalar.subi v1307 c0_i32_614
  let c0_i32_615 : BitVec 32 := 0#32
  ![v1308.toNat, 0]
def k0_off78 (v945 : BitVec 32) (v947 : BitVec 32) (k0_t28 : Fin (k0_t28_loop v945 v947).trips) : Fin 2 → Nat :=
  let c1_i32_612 : BitVec 32 := 1#32
  let v1304 : BitVec 32 := Scalar.shrsi v947 c1_i32_612
  let c1_i32_457 : BitVec 32 := 1#32
  let v948 : BitVec 32 := Scalar.addi v945 c1_i32_457
  let c0_i32_459 : BitVec 32 := 0#32
  let v950 : BitVec 1 := Scalar.cmpi .sgt v948 c0_i32_459
  let v951 : BitVec 32 := Scalar.extui v950
  let c0_i32_460 : BitVec 32 := 0#32
  let v952 : BitVec 1 := Scalar.cmpi .slt v948 c0_i32_460
  let v953 : BitVec 32 := Scalar.extui v952
  let v954 : BitVec 32 := Scalar.subi v951 v953
  let c2_i32_458 : BitVec 32 := 2#32
  let c0_i32_461 : BitVec 32 := 0#32
  let v955 : BitVec 1 := Scalar.cmpi .sgt c2_i32_458 c0_i32_461
  let v956 : BitVec 32 := Scalar.extui v955
  let c0_i32_462 : BitVec 32 := 0#32
  let v957 : BitVec 1 := Scalar.cmpi .slt c2_i32_458 c0_i32_462
  let v958 : BitVec 32 := Scalar.extui v957
  let v959 : BitVec 32 := Scalar.subi v956 v958
  let v960 : BitVec 1 := Scalar.cmpi .ne v954 v959
  let v961 : BitVec 32 := Scalar.remsi v948 c2_i32_458
  let c0_i32_463 : BitVec 32 := 0#32
  let v962 : BitVec 1 := Scalar.cmpi .ne v961 c0_i32_463
  let v963 : BitVec 1 := Scalar.andi v960 v962
  let v949 : BitVec 32 := Scalar.divsi v948 c2_i32_458
  let c1_i32_464 : BitVec 32 := 1#32
  let v964 : BitVec 32 := Scalar.subi v949 c1_i32_464
  let v965 : BitVec 32 := Scalar.select v963 v964 v949
  let c0_i32_475 : BitVec 32 := 0#32
  let c0_i32_467 : BitVec 32 := 0#32
  let v969 : BitVec 32 := Scalar.subi c0_i32_467 v947
  let c0_i32_469 : BitVec 32 := 0#32
  let v971 : BitVec 1 := Scalar.cmpi .sgt v969 c0_i32_469
  let v972 : BitVec 32 := Scalar.extui v971
  let c0_i32_470 : BitVec 32 := 0#32
  let v973 : BitVec 1 := Scalar.cmpi .slt v969 c0_i32_470
  let v974 : BitVec 32 := Scalar.extui v973
  let v975 : BitVec 32 := Scalar.subi v972 v974
  let c2_i32_468 : BitVec 32 := 2#32
  let c0_i32_471 : BitVec 32 := 0#32
  let v976 : BitVec 1 := Scalar.cmpi .sgt c2_i32_468 c0_i32_471
  let v977 : BitVec 32 := Scalar.extui v976
  let c0_i32_472 : BitVec 32 := 0#32
  let v978 : BitVec 1 := Scalar.cmpi .slt c2_i32_468 c0_i32_472
  let v979 : BitVec 32 := Scalar.extui v978
  let v980 : BitVec 32 := Scalar.subi v977 v979
  let v981 : BitVec 1 := Scalar.cmpi .ne v975 v980
  let v982 : BitVec 32 := Scalar.remsi v969 c2_i32_468
  let c0_i32_473 : BitVec 32 := 0#32
  let v983 : BitVec 1 := Scalar.cmpi .ne v982 c0_i32_473
  let v984 : BitVec 1 := Scalar.andi v981 v983
  let v970 : BitVec 32 := Scalar.divsi v969 c2_i32_468
  let c1_i32_474 : BitVec 32 := 1#32
  let v985 : BitVec 32 := Scalar.subi v970 c1_i32_474
  let v986 : BitVec 32 := Scalar.select v984 v985 v970
  let v987 : BitVec 32 := Scalar.maxsi c0_i32_475 v986
  let v988 : BitVec 32 := Scalar.minsi v965 v987
  let c0_i32_484 : BitVec 32 := 0#32
  let c384_i32_476 : BitVec 32 := 384#32
  let v989 : BitVec 32 := Scalar.subi c384_i32_476 v947
  let c0_i32_478 : BitVec 32 := 0#32
  let v991 : BitVec 1 := Scalar.cmpi .sgt v989 c0_i32_478
  let v992 : BitVec 32 := Scalar.extui v991
  let c0_i32_479 : BitVec 32 := 0#32
  let v993 : BitVec 1 := Scalar.cmpi .slt v989 c0_i32_479
  let v994 : BitVec 32 := Scalar.extui v993
  let v995 : BitVec 32 := Scalar.subi v992 v994
  let c2_i32_477 : BitVec 32 := 2#32
  let c0_i32_480 : BitVec 32 := 0#32
  let v996 : BitVec 1 := Scalar.cmpi .sgt c2_i32_477 c0_i32_480
  let v997 : BitVec 32 := Scalar.extui v996
  let c0_i32_481 : BitVec 32 := 0#32
  let v998 : BitVec 1 := Scalar.cmpi .slt c2_i32_477 c0_i32_481
  let v999 : BitVec 32 := Scalar.extui v998
  let v1000 : BitVec 32 := Scalar.subi v997 v999
  let v1001 : BitVec 1 := Scalar.cmpi .ne v995 v1000
  let v1002 : BitVec 32 := Scalar.remsi v989 c2_i32_477
  let c0_i32_482 : BitVec 32 := 0#32
  let v1003 : BitVec 1 := Scalar.cmpi .ne v1002 c0_i32_482
  let v1004 : BitVec 1 := Scalar.andi v1001 v1003
  let v990 : BitVec 32 := Scalar.divsi v989 c2_i32_477
  let c1_i32_483 : BitVec 32 := 1#32
  let v1005 : BitVec 32 := Scalar.subi v990 c1_i32_483
  let v1006 : BitVec 32 := Scalar.select v1004 v1005 v990
  let v1007 : BitVec 32 := Scalar.maxsi c0_i32_484 v1006
  let v1008 : BitVec 32 := Scalar.minsi v965 v1007
  let v1009 : BitVec 32 := Scalar.subi v1008 v988
  let c1_i32_485 : BitVec 32 := 1#32
  let v1011 : BitVec 32 := Scalar.divsi v1009 c1_i32_485
  let v1012 : BitVec 32 := Scalar.muli v1011 c1_i32_485
  let v1013 : BitVec 32 := Scalar.addi v988 v1012
  let c1_i32_487 : BitVec 32 := 1#32
  let arg23 : BitVec 32 := Scf.iv v1013 c1_i32_487 k0_t28
  let v1305 : BitVec 32 := Scalar.addi v1304 arg23
  let c0_i32_616 : BitVec 32 := 0#32
  ![v1305.toNat, 0]

def k0_chk17 (v945 : BitVec 32) (v947 : BitVec 32) : Prop :=
  ((k0_t27_loop v945 v947).OK) ∧
  (∀ k0_t27 : Fin (k0_t27_loop v945 v947).trips, ∀ a, (k0_off74 v945 v947 k0_t27) a + S2x128.size a ≤ S384x128.size a) ∧
  (∀ k0_t27 : Fin (k0_t27_loop v945 v947).trips, ∀ a, (k0_off75 v945 v947 k0_t27) a + S1x2.size a ≤ S584x2.size a) ∧
  ((k0_t28_loop v945 v947).OK) ∧
  (∀ k0_t28 : Fin (k0_t28_loop v945 v947).trips, ∀ a, (k0_off77 v945 v947 k0_t28) a + S2x128.size a ≤ S384x128.size a) ∧
  (∀ k0_t28 : Fin (k0_t28_loop v945 v947).trips, ∀ a, (k0_off78 v945 v947 k0_t28) a + S1x2.size a ≤ S584x2.size a)
theorem k0_t27_ok : ∀ (v945 : BitVec 32) (v947 : BitVec 32) (k0_hw17 : k0_chk17 v945 v947), (k0_t27_loop v945 v947).OK := fun v945 v947 k0_hw17 => k0_hw17.1
theorem k0_off74_inb : ∀ (v945 : BitVec 32) (v947 : BitVec 32) (k0_hw17 : k0_chk17 v945 v947) (k0_t27 : Fin (k0_t27_loop v945 v947).trips), ∀ a, (k0_off74 v945 v947 k0_t27) a + S2x128.size a ≤ S384x128.size a := fun v945 v947 k0_hw17 k0_t27 => k0_hw17.2.1 k0_t27
theorem k0_off75_inb : ∀ (v945 : BitVec 32) (v947 : BitVec 32) (k0_hw17 : k0_chk17 v945 v947) (k0_t27 : Fin (k0_t27_loop v945 v947).trips), ∀ a, (k0_off75 v945 v947 k0_t27) a + S1x2.size a ≤ S584x2.size a := fun v945 v947 k0_hw17 k0_t27 => k0_hw17.2.2.1 k0_t27
theorem k0_t28_ok : ∀ (v945 : BitVec 32) (v947 : BitVec 32) (k0_hw17 : k0_chk17 v945 v947), (k0_t28_loop v945 v947).OK := fun v945 v947 k0_hw17 => k0_hw17.2.2.2.1
theorem k0_off77_inb : ∀ (v945 : BitVec 32) (v947 : BitVec 32) (k0_hw17 : k0_chk17 v945 v947) (k0_t28 : Fin (k0_t28_loop v945 v947).trips), ∀ a, (k0_off77 v945 v947 k0_t28) a + S2x128.size a ≤ S384x128.size a := fun v945 v947 k0_hw17 k0_t28 => k0_hw17.2.2.2.2.1 k0_t28
theorem k0_off78_inb : ∀ (v945 : BitVec 32) (v947 : BitVec 32) (k0_hw17 : k0_chk17 v945 v947) (k0_t28 : Fin (k0_t28_loop v945 v947).trips), ∀ a, (k0_off78 v945 v947 k0_t28) a + S1x2.size a ≤ S584x2.size a := fun v945 v947 k0_hw17 k0_t28 => k0_hw17.2.2.2.2.2 k0_t28

def k0_off79 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_465 : BitVec 32 := 16#32
  let v966 : BitVec 32 := Scalar.muli arg21 c16_i32_465
  let c11_i32 : BitVec 32 := 11#32
  let v967 : BitVec 32 := Scalar.addi v966 c11_i32
  let c128_i32_466 : BitVec 32 := 128#32
  let v968 : BitVec 32 := Scalar.muli v967 c128_i32_466
  ![0, v968.toNat]
@[reducible] def k0_t29_loop (v1017 : BitVec 32) (v1019 : BitVec 32) : Scf.Loop 32 :=
  let c1_i32_488 : BitVec 32 := 1#32
  let v1020 : BitVec 32 := Scalar.addi v1017 c1_i32_488
  let c0_i32_490 : BitVec 32 := 0#32
  let v1022 : BitVec 1 := Scalar.cmpi .sgt v1020 c0_i32_490
  let v1023 : BitVec 32 := Scalar.extui v1022
  let c0_i32_491 : BitVec 32 := 0#32
  let v1024 : BitVec 1 := Scalar.cmpi .slt v1020 c0_i32_491
  let v1025 : BitVec 32 := Scalar.extui v1024
  let v1026 : BitVec 32 := Scalar.subi v1023 v1025
  let c2_i32_489 : BitVec 32 := 2#32
  let c0_i32_492 : BitVec 32 := 0#32
  let v1027 : BitVec 1 := Scalar.cmpi .sgt c2_i32_489 c0_i32_492
  let v1028 : BitVec 32 := Scalar.extui v1027
  let c0_i32_493 : BitVec 32 := 0#32
  let v1029 : BitVec 1 := Scalar.cmpi .slt c2_i32_489 c0_i32_493
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_489
  let c0_i32_494 : BitVec 32 := 0#32
  let v1034 : BitVec 1 := Scalar.cmpi .ne v1033 c0_i32_494
  let v1035 : BitVec 1 := Scalar.andi v1032 v1034
  let v1021 : BitVec 32 := Scalar.divsi v1020 c2_i32_489
  let c1_i32_495 : BitVec 32 := 1#32
  let v1036 : BitVec 32 := Scalar.subi v1021 c1_i32_495
  let v1037 : BitVec 32 := Scalar.select v1035 v1036 v1021
  let c0_i32_506 : BitVec 32 := 0#32
  let c0_i32_498 : BitVec 32 := 0#32
  let v1041 : BitVec 32 := Scalar.subi c0_i32_498 v1019
  let c0_i32_500 : BitVec 32 := 0#32
  let v1043 : BitVec 1 := Scalar.cmpi .sgt v1041 c0_i32_500
  let v1044 : BitVec 32 := Scalar.extui v1043
  let c0_i32_501 : BitVec 32 := 0#32
  let v1045 : BitVec 1 := Scalar.cmpi .slt v1041 c0_i32_501
  let v1046 : BitVec 32 := Scalar.extui v1045
  let v1047 : BitVec 32 := Scalar.subi v1044 v1046
  let c2_i32_499 : BitVec 32 := 2#32
  let c0_i32_502 : BitVec 32 := 0#32
  let v1048 : BitVec 1 := Scalar.cmpi .sgt c2_i32_499 c0_i32_502
  let v1049 : BitVec 32 := Scalar.extui v1048
  let c0_i32_503 : BitVec 32 := 0#32
  let v1050 : BitVec 1 := Scalar.cmpi .slt c2_i32_499 c0_i32_503
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_499
  let c0_i32_504 : BitVec 32 := 0#32
  let v1055 : BitVec 1 := Scalar.cmpi .ne v1054 c0_i32_504
  let v1056 : BitVec 1 := Scalar.andi v1053 v1055
  let v1042 : BitVec 32 := Scalar.divsi v1041 c2_i32_499
  let c1_i32_505 : BitVec 32 := 1#32
  let v1057 : BitVec 32 := Scalar.subi v1042 c1_i32_505
  let v1058 : BitVec 32 := Scalar.select v1056 v1057 v1042
  let v1059 : BitVec 32 := Scalar.maxsi c0_i32_506 v1058
  let v1060 : BitVec 32 := Scalar.minsi v1037 v1059
  let c0_i32_515 : BitVec 32 := 0#32
  let c384_i32_507 : BitVec 32 := 384#32
  let v1061 : BitVec 32 := Scalar.subi c384_i32_507 v1019
  let c0_i32_509 : BitVec 32 := 0#32
  let v1063 : BitVec 1 := Scalar.cmpi .sgt v1061 c0_i32_509
  let v1064 : BitVec 32 := Scalar.extui v1063
  let c0_i32_510 : BitVec 32 := 0#32
  let v1065 : BitVec 1 := Scalar.cmpi .slt v1061 c0_i32_510
  let v1066 : BitVec 32 := Scalar.extui v1065
  let v1067 : BitVec 32 := Scalar.subi v1064 v1066
  let c2_i32_508 : BitVec 32 := 2#32
  let c0_i32_511 : BitVec 32 := 0#32
  let v1068 : BitVec 1 := Scalar.cmpi .sgt c2_i32_508 c0_i32_511
  let v1069 : BitVec 32 := Scalar.extui v1068
  let c0_i32_512 : BitVec 32 := 0#32
  let v1070 : BitVec 1 := Scalar.cmpi .slt c2_i32_508 c0_i32_512
  let v1071 : BitVec 32 := Scalar.extui v1070
  let v1072 : BitVec 32 := Scalar.subi v1069 v1071
  let v1073 : BitVec 1 := Scalar.cmpi .ne v1067 v1072
  let v1074 : BitVec 32 := Scalar.remsi v1061 c2_i32_508
  let c0_i32_513 : BitVec 32 := 0#32
  let v1075 : BitVec 1 := Scalar.cmpi .ne v1074 c0_i32_513
  let v1076 : BitVec 1 := Scalar.andi v1073 v1075
  let v1062 : BitVec 32 := Scalar.divsi v1061 c2_i32_508
  let c1_i32_514 : BitVec 32 := 1#32
  let v1077 : BitVec 32 := Scalar.subi v1062 c1_i32_514
  let v1078 : BitVec 32 := Scalar.select v1076 v1077 v1062
  let v1079 : BitVec 32 := Scalar.maxsi c0_i32_515 v1078
  let v1080 : BitVec 32 := Scalar.minsi v1037 v1079
  let v1081 : BitVec 32 := Scalar.subi v1080 v1060
  let c1_i32_516 : BitVec 32 := 1#32
  let v1083 : BitVec 32 := Scalar.divsi v1081 c1_i32_516
  let v1084 : BitVec 32 := Scalar.muli v1083 c1_i32_516
  let v1085 : BitVec 32 := Scalar.addi v1060 v1084
  let c1_i32_517 : BitVec 32 := 1#32
  ⟨v1060, v1085, c1_i32_517⟩

def k0_off80 (v1017 : BitVec 32) (v1019 : BitVec 32) (k0_t29 : Fin (k0_t29_loop v1017 v1019).trips) : Fin 2 → Nat :=
  let c1_i32_488 : BitVec 32 := 1#32
  let v1020 : BitVec 32 := Scalar.addi v1017 c1_i32_488
  let c0_i32_490 : BitVec 32 := 0#32
  let v1022 : BitVec 1 := Scalar.cmpi .sgt v1020 c0_i32_490
  let v1023 : BitVec 32 := Scalar.extui v1022
  let c0_i32_491 : BitVec 32 := 0#32
  let v1024 : BitVec 1 := Scalar.cmpi .slt v1020 c0_i32_491
  let v1025 : BitVec 32 := Scalar.extui v1024
  let v1026 : BitVec 32 := Scalar.subi v1023 v1025
  let c2_i32_489 : BitVec 32 := 2#32
  let c0_i32_492 : BitVec 32 := 0#32
  let v1027 : BitVec 1 := Scalar.cmpi .sgt c2_i32_489 c0_i32_492
  let v1028 : BitVec 32 := Scalar.extui v1027
  let c0_i32_493 : BitVec 32 := 0#32
  let v1029 : BitVec 1 := Scalar.cmpi .slt c2_i32_489 c0_i32_493
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_489
  let c0_i32_494 : BitVec 32 := 0#32
  let v1034 : BitVec 1 := Scalar.cmpi .ne v1033 c0_i32_494
  let v1035 : BitVec 1 := Scalar.andi v1032 v1034
  let v1021 : BitVec 32 := Scalar.divsi v1020 c2_i32_489
  let c1_i32_495 : BitVec 32 := 1#32
  let v1036 : BitVec 32 := Scalar.subi v1021 c1_i32_495
  let v1037 : BitVec 32 := Scalar.select v1035 v1036 v1021
  let c0_i32_506 : BitVec 32 := 0#32
  let c0_i32_498 : BitVec 32 := 0#32
  let v1041 : BitVec 32 := Scalar.subi c0_i32_498 v1019
  let c0_i32_500 : BitVec 32 := 0#32
  let v1043 : BitVec 1 := Scalar.cmpi .sgt v1041 c0_i32_500
  let v1044 : BitVec 32 := Scalar.extui v1043
  let c0_i32_501 : BitVec 32 := 0#32
  let v1045 : BitVec 1 := Scalar.cmpi .slt v1041 c0_i32_501
  let v1046 : BitVec 32 := Scalar.extui v1045
  let v1047 : BitVec 32 := Scalar.subi v1044 v1046
  let c2_i32_499 : BitVec 32 := 2#32
  let c0_i32_502 : BitVec 32 := 0#32
  let v1048 : BitVec 1 := Scalar.cmpi .sgt c2_i32_499 c0_i32_502
  let v1049 : BitVec 32 := Scalar.extui v1048
  let c0_i32_503 : BitVec 32 := 0#32
  let v1050 : BitVec 1 := Scalar.cmpi .slt c2_i32_499 c0_i32_503
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_499
  let c0_i32_504 : BitVec 32 := 0#32
  let v1055 : BitVec 1 := Scalar.cmpi .ne v1054 c0_i32_504
  let v1056 : BitVec 1 := Scalar.andi v1053 v1055
  let v1042 : BitVec 32 := Scalar.divsi v1041 c2_i32_499
  let c1_i32_505 : BitVec 32 := 1#32
  let v1057 : BitVec 32 := Scalar.subi v1042 c1_i32_505
  let v1058 : BitVec 32 := Scalar.select v1056 v1057 v1042
  let v1059 : BitVec 32 := Scalar.maxsi c0_i32_506 v1058
  let v1060 : BitVec 32 := Scalar.minsi v1037 v1059
  let c1_i32_517 : BitVec 32 := 1#32
  let arg23 : BitVec 32 := Scf.iv v1060 c1_i32_517 k0_t29
  let c2_i32_613 : BitVec 32 := 2#32
  let v1306 : BitVec 32 := Scalar.muli arg23 c2_i32_613
  let v1307 : BitVec 32 := Scalar.addi v1019 v1306
  let c0_i32_614 : BitVec 32 := 0#32
  let v1308 : BitVec 32 := Scalar.subi v1307 c0_i32_614
  let c0_i32_615 : BitVec 32 := 0#32
  ![v1308.toNat, 0]
def k0_off81 (v1017 : BitVec 32) (v1019 : BitVec 32) (k0_t29 : Fin (k0_t29_loop v1017 v1019).trips) : Fin 2 → Nat :=
  let c1_i32_612 : BitVec 32 := 1#32
  let v1304 : BitVec 32 := Scalar.shrsi v1019 c1_i32_612
  let c1_i32_488 : BitVec 32 := 1#32
  let v1020 : BitVec 32 := Scalar.addi v1017 c1_i32_488
  let c0_i32_490 : BitVec 32 := 0#32
  let v1022 : BitVec 1 := Scalar.cmpi .sgt v1020 c0_i32_490
  let v1023 : BitVec 32 := Scalar.extui v1022
  let c0_i32_491 : BitVec 32 := 0#32
  let v1024 : BitVec 1 := Scalar.cmpi .slt v1020 c0_i32_491
  let v1025 : BitVec 32 := Scalar.extui v1024
  let v1026 : BitVec 32 := Scalar.subi v1023 v1025
  let c2_i32_489 : BitVec 32 := 2#32
  let c0_i32_492 : BitVec 32 := 0#32
  let v1027 : BitVec 1 := Scalar.cmpi .sgt c2_i32_489 c0_i32_492
  let v1028 : BitVec 32 := Scalar.extui v1027
  let c0_i32_493 : BitVec 32 := 0#32
  let v1029 : BitVec 1 := Scalar.cmpi .slt c2_i32_489 c0_i32_493
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_489
  let c0_i32_494 : BitVec 32 := 0#32
  let v1034 : BitVec 1 := Scalar.cmpi .ne v1033 c0_i32_494
  let v1035 : BitVec 1 := Scalar.andi v1032 v1034
  let v1021 : BitVec 32 := Scalar.divsi v1020 c2_i32_489
  let c1_i32_495 : BitVec 32 := 1#32
  let v1036 : BitVec 32 := Scalar.subi v1021 c1_i32_495
  let v1037 : BitVec 32 := Scalar.select v1035 v1036 v1021
  let c0_i32_506 : BitVec 32 := 0#32
  let c0_i32_498 : BitVec 32 := 0#32
  let v1041 : BitVec 32 := Scalar.subi c0_i32_498 v1019
  let c0_i32_500 : BitVec 32 := 0#32
  let v1043 : BitVec 1 := Scalar.cmpi .sgt v1041 c0_i32_500
  let v1044 : BitVec 32 := Scalar.extui v1043
  let c0_i32_501 : BitVec 32 := 0#32
  let v1045 : BitVec 1 := Scalar.cmpi .slt v1041 c0_i32_501
  let v1046 : BitVec 32 := Scalar.extui v1045
  let v1047 : BitVec 32 := Scalar.subi v1044 v1046
  let c2_i32_499 : BitVec 32 := 2#32
  let c0_i32_502 : BitVec 32 := 0#32
  let v1048 : BitVec 1 := Scalar.cmpi .sgt c2_i32_499 c0_i32_502
  let v1049 : BitVec 32 := Scalar.extui v1048
  let c0_i32_503 : BitVec 32 := 0#32
  let v1050 : BitVec 1 := Scalar.cmpi .slt c2_i32_499 c0_i32_503
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_499
  let c0_i32_504 : BitVec 32 := 0#32
  let v1055 : BitVec 1 := Scalar.cmpi .ne v1054 c0_i32_504
  let v1056 : BitVec 1 := Scalar.andi v1053 v1055
  let v1042 : BitVec 32 := Scalar.divsi v1041 c2_i32_499
  let c1_i32_505 : BitVec 32 := 1#32
  let v1057 : BitVec 32 := Scalar.subi v1042 c1_i32_505
  let v1058 : BitVec 32 := Scalar.select v1056 v1057 v1042
  let v1059 : BitVec 32 := Scalar.maxsi c0_i32_506 v1058
  let v1060 : BitVec 32 := Scalar.minsi v1037 v1059
  let c1_i32_517 : BitVec 32 := 1#32
  let arg23 : BitVec 32 := Scf.iv v1060 c1_i32_517 k0_t29
  let v1305 : BitVec 32 := Scalar.addi v1304 arg23
  let c0_i32_616 : BitVec 32 := 0#32
  ![v1305.toNat, 0]
def k0_off82 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_496 : BitVec 32 := 16#32
  let v1038 : BitVec 32 := Scalar.muli arg21 c16_i32_496
  let c12_i32 : BitVec 32 := 12#32
  let v1039 : BitVec 32 := Scalar.addi v1038 c12_i32
  let c128_i32_497 : BitVec 32 := 128#32
  let v1040 : BitVec 32 := Scalar.muli v1039 c128_i32_497
  ![0, v1040.toNat]
@[reducible] def k0_t30_loop (v1017 : BitVec 32) (v1019 : BitVec 32) : Scf.Loop 32 :=
  let c1_i32_488 : BitVec 32 := 1#32
  let v1020 : BitVec 32 := Scalar.addi v1017 c1_i32_488
  let c0_i32_490 : BitVec 32 := 0#32
  let v1022 : BitVec 1 := Scalar.cmpi .sgt v1020 c0_i32_490
  let v1023 : BitVec 32 := Scalar.extui v1022
  let c0_i32_491 : BitVec 32 := 0#32
  let v1024 : BitVec 1 := Scalar.cmpi .slt v1020 c0_i32_491
  let v1025 : BitVec 32 := Scalar.extui v1024
  let v1026 : BitVec 32 := Scalar.subi v1023 v1025
  let c2_i32_489 : BitVec 32 := 2#32
  let c0_i32_492 : BitVec 32 := 0#32
  let v1027 : BitVec 1 := Scalar.cmpi .sgt c2_i32_489 c0_i32_492
  let v1028 : BitVec 32 := Scalar.extui v1027
  let c0_i32_493 : BitVec 32 := 0#32
  let v1029 : BitVec 1 := Scalar.cmpi .slt c2_i32_489 c0_i32_493
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_489
  let c0_i32_494 : BitVec 32 := 0#32
  let v1034 : BitVec 1 := Scalar.cmpi .ne v1033 c0_i32_494
  let v1035 : BitVec 1 := Scalar.andi v1032 v1034
  let v1021 : BitVec 32 := Scalar.divsi v1020 c2_i32_489
  let c1_i32_495 : BitVec 32 := 1#32
  let v1036 : BitVec 32 := Scalar.subi v1021 c1_i32_495
  let v1037 : BitVec 32 := Scalar.select v1035 v1036 v1021
  let c0_i32_506 : BitVec 32 := 0#32
  let c0_i32_498 : BitVec 32 := 0#32
  let v1041 : BitVec 32 := Scalar.subi c0_i32_498 v1019
  let c0_i32_500 : BitVec 32 := 0#32
  let v1043 : BitVec 1 := Scalar.cmpi .sgt v1041 c0_i32_500
  let v1044 : BitVec 32 := Scalar.extui v1043
  let c0_i32_501 : BitVec 32 := 0#32
  let v1045 : BitVec 1 := Scalar.cmpi .slt v1041 c0_i32_501
  let v1046 : BitVec 32 := Scalar.extui v1045
  let v1047 : BitVec 32 := Scalar.subi v1044 v1046
  let c2_i32_499 : BitVec 32 := 2#32
  let c0_i32_502 : BitVec 32 := 0#32
  let v1048 : BitVec 1 := Scalar.cmpi .sgt c2_i32_499 c0_i32_502
  let v1049 : BitVec 32 := Scalar.extui v1048
  let c0_i32_503 : BitVec 32 := 0#32
  let v1050 : BitVec 1 := Scalar.cmpi .slt c2_i32_499 c0_i32_503
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_499
  let c0_i32_504 : BitVec 32 := 0#32
  let v1055 : BitVec 1 := Scalar.cmpi .ne v1054 c0_i32_504
  let v1056 : BitVec 1 := Scalar.andi v1053 v1055
  let v1042 : BitVec 32 := Scalar.divsi v1041 c2_i32_499
  let c1_i32_505 : BitVec 32 := 1#32
  let v1057 : BitVec 32 := Scalar.subi v1042 c1_i32_505
  let v1058 : BitVec 32 := Scalar.select v1056 v1057 v1042
  let v1059 : BitVec 32 := Scalar.maxsi c0_i32_506 v1058
  let v1060 : BitVec 32 := Scalar.minsi v1037 v1059
  let c0_i32_515 : BitVec 32 := 0#32
  let c384_i32_507 : BitVec 32 := 384#32
  let v1061 : BitVec 32 := Scalar.subi c384_i32_507 v1019
  let c0_i32_509 : BitVec 32 := 0#32
  let v1063 : BitVec 1 := Scalar.cmpi .sgt v1061 c0_i32_509
  let v1064 : BitVec 32 := Scalar.extui v1063
  let c0_i32_510 : BitVec 32 := 0#32
  let v1065 : BitVec 1 := Scalar.cmpi .slt v1061 c0_i32_510
  let v1066 : BitVec 32 := Scalar.extui v1065
  let v1067 : BitVec 32 := Scalar.subi v1064 v1066
  let c2_i32_508 : BitVec 32 := 2#32
  let c0_i32_511 : BitVec 32 := 0#32
  let v1068 : BitVec 1 := Scalar.cmpi .sgt c2_i32_508 c0_i32_511
  let v1069 : BitVec 32 := Scalar.extui v1068
  let c0_i32_512 : BitVec 32 := 0#32
  let v1070 : BitVec 1 := Scalar.cmpi .slt c2_i32_508 c0_i32_512
  let v1071 : BitVec 32 := Scalar.extui v1070
  let v1072 : BitVec 32 := Scalar.subi v1069 v1071
  let v1073 : BitVec 1 := Scalar.cmpi .ne v1067 v1072
  let v1074 : BitVec 32 := Scalar.remsi v1061 c2_i32_508
  let c0_i32_513 : BitVec 32 := 0#32
  let v1075 : BitVec 1 := Scalar.cmpi .ne v1074 c0_i32_513
  let v1076 : BitVec 1 := Scalar.andi v1073 v1075
  let v1062 : BitVec 32 := Scalar.divsi v1061 c2_i32_508
  let c1_i32_514 : BitVec 32 := 1#32
  let v1077 : BitVec 32 := Scalar.subi v1062 c1_i32_514
  let v1078 : BitVec 32 := Scalar.select v1076 v1077 v1062
  let v1079 : BitVec 32 := Scalar.maxsi c0_i32_515 v1078
  let v1080 : BitVec 32 := Scalar.minsi v1037 v1079
  let v1081 : BitVec 32 := Scalar.subi v1080 v1060
  let c1_i32_516 : BitVec 32 := 1#32
  let v1083 : BitVec 32 := Scalar.divsi v1081 c1_i32_516
  let v1084 : BitVec 32 := Scalar.muli v1083 c1_i32_516
  let v1085 : BitVec 32 := Scalar.addi v1060 v1084
  let v1082 : BitVec 32 := Scalar.addi v1060 v1081
  let c1_i32_518 : BitVec 32 := 1#32
  ⟨v1085, v1082, c1_i32_518⟩
def k0_off83 (v1017 : BitVec 32) (v1019 : BitVec 32) (k0_t30 : Fin (k0_t30_loop v1017 v1019).trips) : Fin 2 → Nat :=
  let c1_i32_488 : BitVec 32 := 1#32
  let v1020 : BitVec 32 := Scalar.addi v1017 c1_i32_488
  let c0_i32_490 : BitVec 32 := 0#32
  let v1022 : BitVec 1 := Scalar.cmpi .sgt v1020 c0_i32_490
  let v1023 : BitVec 32 := Scalar.extui v1022
  let c0_i32_491 : BitVec 32 := 0#32
  let v1024 : BitVec 1 := Scalar.cmpi .slt v1020 c0_i32_491
  let v1025 : BitVec 32 := Scalar.extui v1024
  let v1026 : BitVec 32 := Scalar.subi v1023 v1025
  let c2_i32_489 : BitVec 32 := 2#32
  let c0_i32_492 : BitVec 32 := 0#32
  let v1027 : BitVec 1 := Scalar.cmpi .sgt c2_i32_489 c0_i32_492
  let v1028 : BitVec 32 := Scalar.extui v1027
  let c0_i32_493 : BitVec 32 := 0#32
  let v1029 : BitVec 1 := Scalar.cmpi .slt c2_i32_489 c0_i32_493
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_489
  let c0_i32_494 : BitVec 32 := 0#32
  let v1034 : BitVec 1 := Scalar.cmpi .ne v1033 c0_i32_494
  let v1035 : BitVec 1 := Scalar.andi v1032 v1034
  let v1021 : BitVec 32 := Scalar.divsi v1020 c2_i32_489
  let c1_i32_495 : BitVec 32 := 1#32
  let v1036 : BitVec 32 := Scalar.subi v1021 c1_i32_495
  let v1037 : BitVec 32 := Scalar.select v1035 v1036 v1021
  let c0_i32_506 : BitVec 32 := 0#32
  let c0_i32_498 : BitVec 32 := 0#32
  let v1041 : BitVec 32 := Scalar.subi c0_i32_498 v1019
  let c0_i32_500 : BitVec 32 := 0#32
  let v1043 : BitVec 1 := Scalar.cmpi .sgt v1041 c0_i32_500
  let v1044 : BitVec 32 := Scalar.extui v1043
  let c0_i32_501 : BitVec 32 := 0#32
  let v1045 : BitVec 1 := Scalar.cmpi .slt v1041 c0_i32_501
  let v1046 : BitVec 32 := Scalar.extui v1045
  let v1047 : BitVec 32 := Scalar.subi v1044 v1046
  let c2_i32_499 : BitVec 32 := 2#32
  let c0_i32_502 : BitVec 32 := 0#32
  let v1048 : BitVec 1 := Scalar.cmpi .sgt c2_i32_499 c0_i32_502
  let v1049 : BitVec 32 := Scalar.extui v1048
  let c0_i32_503 : BitVec 32 := 0#32
  let v1050 : BitVec 1 := Scalar.cmpi .slt c2_i32_499 c0_i32_503
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_499
  let c0_i32_504 : BitVec 32 := 0#32
  let v1055 : BitVec 1 := Scalar.cmpi .ne v1054 c0_i32_504
  let v1056 : BitVec 1 := Scalar.andi v1053 v1055
  let v1042 : BitVec 32 := Scalar.divsi v1041 c2_i32_499
  let c1_i32_505 : BitVec 32 := 1#32
  let v1057 : BitVec 32 := Scalar.subi v1042 c1_i32_505
  let v1058 : BitVec 32 := Scalar.select v1056 v1057 v1042
  let v1059 : BitVec 32 := Scalar.maxsi c0_i32_506 v1058
  let v1060 : BitVec 32 := Scalar.minsi v1037 v1059
  let c0_i32_515 : BitVec 32 := 0#32
  let c384_i32_507 : BitVec 32 := 384#32
  let v1061 : BitVec 32 := Scalar.subi c384_i32_507 v1019
  let c0_i32_509 : BitVec 32 := 0#32
  let v1063 : BitVec 1 := Scalar.cmpi .sgt v1061 c0_i32_509
  let v1064 : BitVec 32 := Scalar.extui v1063
  let c0_i32_510 : BitVec 32 := 0#32
  let v1065 : BitVec 1 := Scalar.cmpi .slt v1061 c0_i32_510
  let v1066 : BitVec 32 := Scalar.extui v1065
  let v1067 : BitVec 32 := Scalar.subi v1064 v1066
  let c2_i32_508 : BitVec 32 := 2#32
  let c0_i32_511 : BitVec 32 := 0#32
  let v1068 : BitVec 1 := Scalar.cmpi .sgt c2_i32_508 c0_i32_511
  let v1069 : BitVec 32 := Scalar.extui v1068
  let c0_i32_512 : BitVec 32 := 0#32
  let v1070 : BitVec 1 := Scalar.cmpi .slt c2_i32_508 c0_i32_512
  let v1071 : BitVec 32 := Scalar.extui v1070
  let v1072 : BitVec 32 := Scalar.subi v1069 v1071
  let v1073 : BitVec 1 := Scalar.cmpi .ne v1067 v1072
  let v1074 : BitVec 32 := Scalar.remsi v1061 c2_i32_508
  let c0_i32_513 : BitVec 32 := 0#32
  let v1075 : BitVec 1 := Scalar.cmpi .ne v1074 c0_i32_513
  let v1076 : BitVec 1 := Scalar.andi v1073 v1075
  let v1062 : BitVec 32 := Scalar.divsi v1061 c2_i32_508
  let c1_i32_514 : BitVec 32 := 1#32
  let v1077 : BitVec 32 := Scalar.subi v1062 c1_i32_514
  let v1078 : BitVec 32 := Scalar.select v1076 v1077 v1062
  let v1079 : BitVec 32 := Scalar.maxsi c0_i32_515 v1078
  let v1080 : BitVec 32 := Scalar.minsi v1037 v1079
  let v1081 : BitVec 32 := Scalar.subi v1080 v1060
  let c1_i32_516 : BitVec 32 := 1#32
  let v1083 : BitVec 32 := Scalar.divsi v1081 c1_i32_516
  let v1084 : BitVec 32 := Scalar.muli v1083 c1_i32_516
  let v1085 : BitVec 32 := Scalar.addi v1060 v1084
  let c1_i32_518 : BitVec 32 := 1#32
  let arg23 : BitVec 32 := Scf.iv v1085 c1_i32_518 k0_t30
  let c2_i32_613 : BitVec 32 := 2#32
  let v1306 : BitVec 32 := Scalar.muli arg23 c2_i32_613
  let v1307 : BitVec 32 := Scalar.addi v1019 v1306
  let c0_i32_614 : BitVec 32 := 0#32
  let v1308 : BitVec 32 := Scalar.subi v1307 c0_i32_614
  let c0_i32_615 : BitVec 32 := 0#32
  ![v1308.toNat, 0]
def k0_off84 (v1017 : BitVec 32) (v1019 : BitVec 32) (k0_t30 : Fin (k0_t30_loop v1017 v1019).trips) : Fin 2 → Nat :=
  let c1_i32_612 : BitVec 32 := 1#32
  let v1304 : BitVec 32 := Scalar.shrsi v1019 c1_i32_612
  let c1_i32_488 : BitVec 32 := 1#32
  let v1020 : BitVec 32 := Scalar.addi v1017 c1_i32_488
  let c0_i32_490 : BitVec 32 := 0#32
  let v1022 : BitVec 1 := Scalar.cmpi .sgt v1020 c0_i32_490
  let v1023 : BitVec 32 := Scalar.extui v1022
  let c0_i32_491 : BitVec 32 := 0#32
  let v1024 : BitVec 1 := Scalar.cmpi .slt v1020 c0_i32_491
  let v1025 : BitVec 32 := Scalar.extui v1024
  let v1026 : BitVec 32 := Scalar.subi v1023 v1025
  let c2_i32_489 : BitVec 32 := 2#32
  let c0_i32_492 : BitVec 32 := 0#32
  let v1027 : BitVec 1 := Scalar.cmpi .sgt c2_i32_489 c0_i32_492
  let v1028 : BitVec 32 := Scalar.extui v1027
  let c0_i32_493 : BitVec 32 := 0#32
  let v1029 : BitVec 1 := Scalar.cmpi .slt c2_i32_489 c0_i32_493
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_489
  let c0_i32_494 : BitVec 32 := 0#32
  let v1034 : BitVec 1 := Scalar.cmpi .ne v1033 c0_i32_494
  let v1035 : BitVec 1 := Scalar.andi v1032 v1034
  let v1021 : BitVec 32 := Scalar.divsi v1020 c2_i32_489
  let c1_i32_495 : BitVec 32 := 1#32
  let v1036 : BitVec 32 := Scalar.subi v1021 c1_i32_495
  let v1037 : BitVec 32 := Scalar.select v1035 v1036 v1021
  let c0_i32_506 : BitVec 32 := 0#32
  let c0_i32_498 : BitVec 32 := 0#32
  let v1041 : BitVec 32 := Scalar.subi c0_i32_498 v1019
  let c0_i32_500 : BitVec 32 := 0#32
  let v1043 : BitVec 1 := Scalar.cmpi .sgt v1041 c0_i32_500
  let v1044 : BitVec 32 := Scalar.extui v1043
  let c0_i32_501 : BitVec 32 := 0#32
  let v1045 : BitVec 1 := Scalar.cmpi .slt v1041 c0_i32_501
  let v1046 : BitVec 32 := Scalar.extui v1045
  let v1047 : BitVec 32 := Scalar.subi v1044 v1046
  let c2_i32_499 : BitVec 32 := 2#32
  let c0_i32_502 : BitVec 32 := 0#32
  let v1048 : BitVec 1 := Scalar.cmpi .sgt c2_i32_499 c0_i32_502
  let v1049 : BitVec 32 := Scalar.extui v1048
  let c0_i32_503 : BitVec 32 := 0#32
  let v1050 : BitVec 1 := Scalar.cmpi .slt c2_i32_499 c0_i32_503
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_499
  let c0_i32_504 : BitVec 32 := 0#32
  let v1055 : BitVec 1 := Scalar.cmpi .ne v1054 c0_i32_504
  let v1056 : BitVec 1 := Scalar.andi v1053 v1055
  let v1042 : BitVec 32 := Scalar.divsi v1041 c2_i32_499
  let c1_i32_505 : BitVec 32 := 1#32
  let v1057 : BitVec 32 := Scalar.subi v1042 c1_i32_505
  let v1058 : BitVec 32 := Scalar.select v1056 v1057 v1042
  let v1059 : BitVec 32 := Scalar.maxsi c0_i32_506 v1058
  let v1060 : BitVec 32 := Scalar.minsi v1037 v1059
  let c0_i32_515 : BitVec 32 := 0#32
  let c384_i32_507 : BitVec 32 := 384#32
  let v1061 : BitVec 32 := Scalar.subi c384_i32_507 v1019
  let c0_i32_509 : BitVec 32 := 0#32
  let v1063 : BitVec 1 := Scalar.cmpi .sgt v1061 c0_i32_509
  let v1064 : BitVec 32 := Scalar.extui v1063
  let c0_i32_510 : BitVec 32 := 0#32
  let v1065 : BitVec 1 := Scalar.cmpi .slt v1061 c0_i32_510
  let v1066 : BitVec 32 := Scalar.extui v1065
  let v1067 : BitVec 32 := Scalar.subi v1064 v1066
  let c2_i32_508 : BitVec 32 := 2#32
  let c0_i32_511 : BitVec 32 := 0#32
  let v1068 : BitVec 1 := Scalar.cmpi .sgt c2_i32_508 c0_i32_511
  let v1069 : BitVec 32 := Scalar.extui v1068
  let c0_i32_512 : BitVec 32 := 0#32
  let v1070 : BitVec 1 := Scalar.cmpi .slt c2_i32_508 c0_i32_512
  let v1071 : BitVec 32 := Scalar.extui v1070
  let v1072 : BitVec 32 := Scalar.subi v1069 v1071
  let v1073 : BitVec 1 := Scalar.cmpi .ne v1067 v1072
  let v1074 : BitVec 32 := Scalar.remsi v1061 c2_i32_508
  let c0_i32_513 : BitVec 32 := 0#32
  let v1075 : BitVec 1 := Scalar.cmpi .ne v1074 c0_i32_513
  let v1076 : BitVec 1 := Scalar.andi v1073 v1075
  let v1062 : BitVec 32 := Scalar.divsi v1061 c2_i32_508
  let c1_i32_514 : BitVec 32 := 1#32
  let v1077 : BitVec 32 := Scalar.subi v1062 c1_i32_514
  let v1078 : BitVec 32 := Scalar.select v1076 v1077 v1062
  let v1079 : BitVec 32 := Scalar.maxsi c0_i32_515 v1078
  let v1080 : BitVec 32 := Scalar.minsi v1037 v1079
  let v1081 : BitVec 32 := Scalar.subi v1080 v1060
  let c1_i32_516 : BitVec 32 := 1#32
  let v1083 : BitVec 32 := Scalar.divsi v1081 c1_i32_516
  let v1084 : BitVec 32 := Scalar.muli v1083 c1_i32_516
  let v1085 : BitVec 32 := Scalar.addi v1060 v1084
  let c1_i32_518 : BitVec 32 := 1#32
  let arg23 : BitVec 32 := Scf.iv v1085 c1_i32_518 k0_t30
  let v1305 : BitVec 32 := Scalar.addi v1304 arg23
  let c0_i32_616 : BitVec 32 := 0#32
  ![v1305.toNat, 0]

def k0_chk18 (v1017 : BitVec 32) (v1019 : BitVec 32) : Prop :=
  ((k0_t29_loop v1017 v1019).OK) ∧
  (∀ k0_t29 : Fin (k0_t29_loop v1017 v1019).trips, ∀ a, (k0_off80 v1017 v1019 k0_t29) a + S2x128.size a ≤ S384x128.size a) ∧
  (∀ k0_t29 : Fin (k0_t29_loop v1017 v1019).trips, ∀ a, (k0_off81 v1017 v1019 k0_t29) a + S1x2.size a ≤ S584x2.size a) ∧
  ((k0_t30_loop v1017 v1019).OK) ∧
  (∀ k0_t30 : Fin (k0_t30_loop v1017 v1019).trips, ∀ a, (k0_off83 v1017 v1019 k0_t30) a + S2x128.size a ≤ S384x128.size a) ∧
  (∀ k0_t30 : Fin (k0_t30_loop v1017 v1019).trips, ∀ a, (k0_off84 v1017 v1019 k0_t30) a + S1x2.size a ≤ S584x2.size a)
theorem k0_t29_ok : ∀ (v1017 : BitVec 32) (v1019 : BitVec 32) (k0_hw18 : k0_chk18 v1017 v1019), (k0_t29_loop v1017 v1019).OK := fun v1017 v1019 k0_hw18 => k0_hw18.1
theorem k0_off80_inb : ∀ (v1017 : BitVec 32) (v1019 : BitVec 32) (k0_hw18 : k0_chk18 v1017 v1019) (k0_t29 : Fin (k0_t29_loop v1017 v1019).trips), ∀ a, (k0_off80 v1017 v1019 k0_t29) a + S2x128.size a ≤ S384x128.size a := fun v1017 v1019 k0_hw18 k0_t29 => k0_hw18.2.1 k0_t29
theorem k0_off81_inb : ∀ (v1017 : BitVec 32) (v1019 : BitVec 32) (k0_hw18 : k0_chk18 v1017 v1019) (k0_t29 : Fin (k0_t29_loop v1017 v1019).trips), ∀ a, (k0_off81 v1017 v1019 k0_t29) a + S1x2.size a ≤ S584x2.size a := fun v1017 v1019 k0_hw18 k0_t29 => k0_hw18.2.2.1 k0_t29
theorem k0_t30_ok : ∀ (v1017 : BitVec 32) (v1019 : BitVec 32) (k0_hw18 : k0_chk18 v1017 v1019), (k0_t30_loop v1017 v1019).OK := fun v1017 v1019 k0_hw18 => k0_hw18.2.2.2.1
theorem k0_off83_inb : ∀ (v1017 : BitVec 32) (v1019 : BitVec 32) (k0_hw18 : k0_chk18 v1017 v1019) (k0_t30 : Fin (k0_t30_loop v1017 v1019).trips), ∀ a, (k0_off83 v1017 v1019 k0_t30) a + S2x128.size a ≤ S384x128.size a := fun v1017 v1019 k0_hw18 k0_t30 => k0_hw18.2.2.2.2.1 k0_t30
theorem k0_off84_inb : ∀ (v1017 : BitVec 32) (v1019 : BitVec 32) (k0_hw18 : k0_chk18 v1017 v1019) (k0_t30 : Fin (k0_t30_loop v1017 v1019).trips), ∀ a, (k0_off84 v1017 v1019 k0_t30) a + S1x2.size a ≤ S584x2.size a := fun v1017 v1019 k0_hw18 k0_t30 => k0_hw18.2.2.2.2.2 k0_t30

def k0_off85 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_496 : BitVec 32 := 16#32
  let v1038 : BitVec 32 := Scalar.muli arg21 c16_i32_496
  let c12_i32 : BitVec 32 := 12#32
  let v1039 : BitVec 32 := Scalar.addi v1038 c12_i32
  let c128_i32_497 : BitVec 32 := 128#32
  let v1040 : BitVec 32 := Scalar.muli v1039 c128_i32_497
  ![0, v1040.toNat]
@[reducible] def k0_t31_loop (v1089 : BitVec 32) (v1091 : BitVec 32) : Scf.Loop 32 :=
  let c1_i32_519 : BitVec 32 := 1#32
  let v1092 : BitVec 32 := Scalar.addi v1089 c1_i32_519
  let c0_i32_521 : BitVec 32 := 0#32
  let v1094 : BitVec 1 := Scalar.cmpi .sgt v1092 c0_i32_521
  let v1095 : BitVec 32 := Scalar.extui v1094
  let c0_i32_522 : BitVec 32 := 0#32
  let v1096 : BitVec 1 := Scalar.cmpi .slt v1092 c0_i32_522
  let v1097 : BitVec 32 := Scalar.extui v1096
  let v1098 : BitVec 32 := Scalar.subi v1095 v1097
  let c2_i32_520 : BitVec 32 := 2#32
  let c0_i32_523 : BitVec 32 := 0#32
  let v1099 : BitVec 1 := Scalar.cmpi .sgt c2_i32_520 c0_i32_523
  let v1100 : BitVec 32 := Scalar.extui v1099
  let c0_i32_524 : BitVec 32 := 0#32
  let v1101 : BitVec 1 := Scalar.cmpi .slt c2_i32_520 c0_i32_524
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_520
  let c0_i32_525 : BitVec 32 := 0#32
  let v1106 : BitVec 1 := Scalar.cmpi .ne v1105 c0_i32_525
  let v1107 : BitVec 1 := Scalar.andi v1104 v1106
  let v1093 : BitVec 32 := Scalar.divsi v1092 c2_i32_520
  let c1_i32_526 : BitVec 32 := 1#32
  let v1108 : BitVec 32 := Scalar.subi v1093 c1_i32_526
  let v1109 : BitVec 32 := Scalar.select v1107 v1108 v1093
  let c0_i32_537 : BitVec 32 := 0#32
  let c0_i32_529 : BitVec 32 := 0#32
  let v1113 : BitVec 32 := Scalar.subi c0_i32_529 v1091
  let c0_i32_531 : BitVec 32 := 0#32
  let v1115 : BitVec 1 := Scalar.cmpi .sgt v1113 c0_i32_531
  let v1116 : BitVec 32 := Scalar.extui v1115
  let c0_i32_532 : BitVec 32 := 0#32
  let v1117 : BitVec 1 := Scalar.cmpi .slt v1113 c0_i32_532
  let v1118 : BitVec 32 := Scalar.extui v1117
  let v1119 : BitVec 32 := Scalar.subi v1116 v1118
  let c2_i32_530 : BitVec 32 := 2#32
  let c0_i32_533 : BitVec 32 := 0#32
  let v1120 : BitVec 1 := Scalar.cmpi .sgt c2_i32_530 c0_i32_533
  let v1121 : BitVec 32 := Scalar.extui v1120
  let c0_i32_534 : BitVec 32 := 0#32
  let v1122 : BitVec 1 := Scalar.cmpi .slt c2_i32_530 c0_i32_534
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_530
  let c0_i32_535 : BitVec 32 := 0#32
  let v1127 : BitVec 1 := Scalar.cmpi .ne v1126 c0_i32_535
  let v1128 : BitVec 1 := Scalar.andi v1125 v1127
  let v1114 : BitVec 32 := Scalar.divsi v1113 c2_i32_530
  let c1_i32_536 : BitVec 32 := 1#32
  let v1129 : BitVec 32 := Scalar.subi v1114 c1_i32_536
  let v1130 : BitVec 32 := Scalar.select v1128 v1129 v1114
  let v1131 : BitVec 32 := Scalar.maxsi c0_i32_537 v1130
  let v1132 : BitVec 32 := Scalar.minsi v1109 v1131
  let c0_i32_546 : BitVec 32 := 0#32
  let c384_i32_538 : BitVec 32 := 384#32
  let v1133 : BitVec 32 := Scalar.subi c384_i32_538 v1091
  let c0_i32_540 : BitVec 32 := 0#32
  let v1135 : BitVec 1 := Scalar.cmpi .sgt v1133 c0_i32_540
  let v1136 : BitVec 32 := Scalar.extui v1135
  let c0_i32_541 : BitVec 32 := 0#32
  let v1137 : BitVec 1 := Scalar.cmpi .slt v1133 c0_i32_541
  let v1138 : BitVec 32 := Scalar.extui v1137
  let v1139 : BitVec 32 := Scalar.subi v1136 v1138
  let c2_i32_539 : BitVec 32 := 2#32
  let c0_i32_542 : BitVec 32 := 0#32
  let v1140 : BitVec 1 := Scalar.cmpi .sgt c2_i32_539 c0_i32_542
  let v1141 : BitVec 32 := Scalar.extui v1140
  let c0_i32_543 : BitVec 32 := 0#32
  let v1142 : BitVec 1 := Scalar.cmpi .slt c2_i32_539 c0_i32_543
  let v1143 : BitVec 32 := Scalar.extui v1142
  let v1144 : BitVec 32 := Scalar.subi v1141 v1143
  let v1145 : BitVec 1 := Scalar.cmpi .ne v1139 v1144
  let v1146 : BitVec 32 := Scalar.remsi v1133 c2_i32_539
  let c0_i32_544 : BitVec 32 := 0#32
  let v1147 : BitVec 1 := Scalar.cmpi .ne v1146 c0_i32_544
  let v1148 : BitVec 1 := Scalar.andi v1145 v1147
  let v1134 : BitVec 32 := Scalar.divsi v1133 c2_i32_539
  let c1_i32_545 : BitVec 32 := 1#32
  let v1149 : BitVec 32 := Scalar.subi v1134 c1_i32_545
  let v1150 : BitVec 32 := Scalar.select v1148 v1149 v1134
  let v1151 : BitVec 32 := Scalar.maxsi c0_i32_546 v1150
  let v1152 : BitVec 32 := Scalar.minsi v1109 v1151
  let v1153 : BitVec 32 := Scalar.subi v1152 v1132
  let c1_i32_547 : BitVec 32 := 1#32
  let v1155 : BitVec 32 := Scalar.divsi v1153 c1_i32_547
  let v1156 : BitVec 32 := Scalar.muli v1155 c1_i32_547
  let v1157 : BitVec 32 := Scalar.addi v1132 v1156
  let c1_i32_548 : BitVec 32 := 1#32
  ⟨v1132, v1157, c1_i32_548⟩

def k0_off86 (v1089 : BitVec 32) (v1091 : BitVec 32) (k0_t31 : Fin (k0_t31_loop v1089 v1091).trips) : Fin 2 → Nat :=
  let c1_i32_519 : BitVec 32 := 1#32
  let v1092 : BitVec 32 := Scalar.addi v1089 c1_i32_519
  let c0_i32_521 : BitVec 32 := 0#32
  let v1094 : BitVec 1 := Scalar.cmpi .sgt v1092 c0_i32_521
  let v1095 : BitVec 32 := Scalar.extui v1094
  let c0_i32_522 : BitVec 32 := 0#32
  let v1096 : BitVec 1 := Scalar.cmpi .slt v1092 c0_i32_522
  let v1097 : BitVec 32 := Scalar.extui v1096
  let v1098 : BitVec 32 := Scalar.subi v1095 v1097
  let c2_i32_520 : BitVec 32 := 2#32
  let c0_i32_523 : BitVec 32 := 0#32
  let v1099 : BitVec 1 := Scalar.cmpi .sgt c2_i32_520 c0_i32_523
  let v1100 : BitVec 32 := Scalar.extui v1099
  let c0_i32_524 : BitVec 32 := 0#32
  let v1101 : BitVec 1 := Scalar.cmpi .slt c2_i32_520 c0_i32_524
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_520
  let c0_i32_525 : BitVec 32 := 0#32
  let v1106 : BitVec 1 := Scalar.cmpi .ne v1105 c0_i32_525
  let v1107 : BitVec 1 := Scalar.andi v1104 v1106
  let v1093 : BitVec 32 := Scalar.divsi v1092 c2_i32_520
  let c1_i32_526 : BitVec 32 := 1#32
  let v1108 : BitVec 32 := Scalar.subi v1093 c1_i32_526
  let v1109 : BitVec 32 := Scalar.select v1107 v1108 v1093
  let c0_i32_537 : BitVec 32 := 0#32
  let c0_i32_529 : BitVec 32 := 0#32
  let v1113 : BitVec 32 := Scalar.subi c0_i32_529 v1091
  let c0_i32_531 : BitVec 32 := 0#32
  let v1115 : BitVec 1 := Scalar.cmpi .sgt v1113 c0_i32_531
  let v1116 : BitVec 32 := Scalar.extui v1115
  let c0_i32_532 : BitVec 32 := 0#32
  let v1117 : BitVec 1 := Scalar.cmpi .slt v1113 c0_i32_532
  let v1118 : BitVec 32 := Scalar.extui v1117
  let v1119 : BitVec 32 := Scalar.subi v1116 v1118
  let c2_i32_530 : BitVec 32 := 2#32
  let c0_i32_533 : BitVec 32 := 0#32
  let v1120 : BitVec 1 := Scalar.cmpi .sgt c2_i32_530 c0_i32_533
  let v1121 : BitVec 32 := Scalar.extui v1120
  let c0_i32_534 : BitVec 32 := 0#32
  let v1122 : BitVec 1 := Scalar.cmpi .slt c2_i32_530 c0_i32_534
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_530
  let c0_i32_535 : BitVec 32 := 0#32
  let v1127 : BitVec 1 := Scalar.cmpi .ne v1126 c0_i32_535
  let v1128 : BitVec 1 := Scalar.andi v1125 v1127
  let v1114 : BitVec 32 := Scalar.divsi v1113 c2_i32_530
  let c1_i32_536 : BitVec 32 := 1#32
  let v1129 : BitVec 32 := Scalar.subi v1114 c1_i32_536
  let v1130 : BitVec 32 := Scalar.select v1128 v1129 v1114
  let v1131 : BitVec 32 := Scalar.maxsi c0_i32_537 v1130
  let v1132 : BitVec 32 := Scalar.minsi v1109 v1131
  let c1_i32_548 : BitVec 32 := 1#32
  let arg23 : BitVec 32 := Scf.iv v1132 c1_i32_548 k0_t31
  let c2_i32_613 : BitVec 32 := 2#32
  let v1306 : BitVec 32 := Scalar.muli arg23 c2_i32_613
  let v1307 : BitVec 32 := Scalar.addi v1091 v1306
  let c0_i32_614 : BitVec 32 := 0#32
  let v1308 : BitVec 32 := Scalar.subi v1307 c0_i32_614
  let c0_i32_615 : BitVec 32 := 0#32
  ![v1308.toNat, 0]
def k0_off87 (v1089 : BitVec 32) (v1091 : BitVec 32) (k0_t31 : Fin (k0_t31_loop v1089 v1091).trips) : Fin 2 → Nat :=
  let c1_i32_612 : BitVec 32 := 1#32
  let v1304 : BitVec 32 := Scalar.shrsi v1091 c1_i32_612
  let c1_i32_519 : BitVec 32 := 1#32
  let v1092 : BitVec 32 := Scalar.addi v1089 c1_i32_519
  let c0_i32_521 : BitVec 32 := 0#32
  let v1094 : BitVec 1 := Scalar.cmpi .sgt v1092 c0_i32_521
  let v1095 : BitVec 32 := Scalar.extui v1094
  let c0_i32_522 : BitVec 32 := 0#32
  let v1096 : BitVec 1 := Scalar.cmpi .slt v1092 c0_i32_522
  let v1097 : BitVec 32 := Scalar.extui v1096
  let v1098 : BitVec 32 := Scalar.subi v1095 v1097
  let c2_i32_520 : BitVec 32 := 2#32
  let c0_i32_523 : BitVec 32 := 0#32
  let v1099 : BitVec 1 := Scalar.cmpi .sgt c2_i32_520 c0_i32_523
  let v1100 : BitVec 32 := Scalar.extui v1099
  let c0_i32_524 : BitVec 32 := 0#32
  let v1101 : BitVec 1 := Scalar.cmpi .slt c2_i32_520 c0_i32_524
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_520
  let c0_i32_525 : BitVec 32 := 0#32
  let v1106 : BitVec 1 := Scalar.cmpi .ne v1105 c0_i32_525
  let v1107 : BitVec 1 := Scalar.andi v1104 v1106
  let v1093 : BitVec 32 := Scalar.divsi v1092 c2_i32_520
  let c1_i32_526 : BitVec 32 := 1#32
  let v1108 : BitVec 32 := Scalar.subi v1093 c1_i32_526
  let v1109 : BitVec 32 := Scalar.select v1107 v1108 v1093
  let c0_i32_537 : BitVec 32 := 0#32
  let c0_i32_529 : BitVec 32 := 0#32
  let v1113 : BitVec 32 := Scalar.subi c0_i32_529 v1091
  let c0_i32_531 : BitVec 32 := 0#32
  let v1115 : BitVec 1 := Scalar.cmpi .sgt v1113 c0_i32_531
  let v1116 : BitVec 32 := Scalar.extui v1115
  let c0_i32_532 : BitVec 32 := 0#32
  let v1117 : BitVec 1 := Scalar.cmpi .slt v1113 c0_i32_532
  let v1118 : BitVec 32 := Scalar.extui v1117
  let v1119 : BitVec 32 := Scalar.subi v1116 v1118
  let c2_i32_530 : BitVec 32 := 2#32
  let c0_i32_533 : BitVec 32 := 0#32
  let v1120 : BitVec 1 := Scalar.cmpi .sgt c2_i32_530 c0_i32_533
  let v1121 : BitVec 32 := Scalar.extui v1120
  let c0_i32_534 : BitVec 32 := 0#32
  let v1122 : BitVec 1 := Scalar.cmpi .slt c2_i32_530 c0_i32_534
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_530
  let c0_i32_535 : BitVec 32 := 0#32
  let v1127 : BitVec 1 := Scalar.cmpi .ne v1126 c0_i32_535
  let v1128 : BitVec 1 := Scalar.andi v1125 v1127
  let v1114 : BitVec 32 := Scalar.divsi v1113 c2_i32_530
  let c1_i32_536 : BitVec 32 := 1#32
  let v1129 : BitVec 32 := Scalar.subi v1114 c1_i32_536
  let v1130 : BitVec 32 := Scalar.select v1128 v1129 v1114
  let v1131 : BitVec 32 := Scalar.maxsi c0_i32_537 v1130
  let v1132 : BitVec 32 := Scalar.minsi v1109 v1131
  let c1_i32_548 : BitVec 32 := 1#32
  let arg23 : BitVec 32 := Scf.iv v1132 c1_i32_548 k0_t31
  let v1305 : BitVec 32 := Scalar.addi v1304 arg23
  let c0_i32_616 : BitVec 32 := 0#32
  ![v1305.toNat, 0]
def k0_off88 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_527 : BitVec 32 := 16#32
  let v1110 : BitVec 32 := Scalar.muli arg21 c16_i32_527
  let c13_i32 : BitVec 32 := 13#32
  let v1111 : BitVec 32 := Scalar.addi v1110 c13_i32
  let c128_i32_528 : BitVec 32 := 128#32
  let v1112 : BitVec 32 := Scalar.muli v1111 c128_i32_528
  ![0, v1112.toNat]
@[reducible] def k0_t32_loop (v1089 : BitVec 32) (v1091 : BitVec 32) : Scf.Loop 32 :=
  let c1_i32_519 : BitVec 32 := 1#32
  let v1092 : BitVec 32 := Scalar.addi v1089 c1_i32_519
  let c0_i32_521 : BitVec 32 := 0#32
  let v1094 : BitVec 1 := Scalar.cmpi .sgt v1092 c0_i32_521
  let v1095 : BitVec 32 := Scalar.extui v1094
  let c0_i32_522 : BitVec 32 := 0#32
  let v1096 : BitVec 1 := Scalar.cmpi .slt v1092 c0_i32_522
  let v1097 : BitVec 32 := Scalar.extui v1096
  let v1098 : BitVec 32 := Scalar.subi v1095 v1097
  let c2_i32_520 : BitVec 32 := 2#32
  let c0_i32_523 : BitVec 32 := 0#32
  let v1099 : BitVec 1 := Scalar.cmpi .sgt c2_i32_520 c0_i32_523
  let v1100 : BitVec 32 := Scalar.extui v1099
  let c0_i32_524 : BitVec 32 := 0#32
  let v1101 : BitVec 1 := Scalar.cmpi .slt c2_i32_520 c0_i32_524
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_520
  let c0_i32_525 : BitVec 32 := 0#32
  let v1106 : BitVec 1 := Scalar.cmpi .ne v1105 c0_i32_525
  let v1107 : BitVec 1 := Scalar.andi v1104 v1106
  let v1093 : BitVec 32 := Scalar.divsi v1092 c2_i32_520
  let c1_i32_526 : BitVec 32 := 1#32
  let v1108 : BitVec 32 := Scalar.subi v1093 c1_i32_526
  let v1109 : BitVec 32 := Scalar.select v1107 v1108 v1093
  let c0_i32_537 : BitVec 32 := 0#32
  let c0_i32_529 : BitVec 32 := 0#32
  let v1113 : BitVec 32 := Scalar.subi c0_i32_529 v1091
  let c0_i32_531 : BitVec 32 := 0#32
  let v1115 : BitVec 1 := Scalar.cmpi .sgt v1113 c0_i32_531
  let v1116 : BitVec 32 := Scalar.extui v1115
  let c0_i32_532 : BitVec 32 := 0#32
  let v1117 : BitVec 1 := Scalar.cmpi .slt v1113 c0_i32_532
  let v1118 : BitVec 32 := Scalar.extui v1117
  let v1119 : BitVec 32 := Scalar.subi v1116 v1118
  let c2_i32_530 : BitVec 32 := 2#32
  let c0_i32_533 : BitVec 32 := 0#32
  let v1120 : BitVec 1 := Scalar.cmpi .sgt c2_i32_530 c0_i32_533
  let v1121 : BitVec 32 := Scalar.extui v1120
  let c0_i32_534 : BitVec 32 := 0#32
  let v1122 : BitVec 1 := Scalar.cmpi .slt c2_i32_530 c0_i32_534
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_530
  let c0_i32_535 : BitVec 32 := 0#32
  let v1127 : BitVec 1 := Scalar.cmpi .ne v1126 c0_i32_535
  let v1128 : BitVec 1 := Scalar.andi v1125 v1127
  let v1114 : BitVec 32 := Scalar.divsi v1113 c2_i32_530
  let c1_i32_536 : BitVec 32 := 1#32
  let v1129 : BitVec 32 := Scalar.subi v1114 c1_i32_536
  let v1130 : BitVec 32 := Scalar.select v1128 v1129 v1114
  let v1131 : BitVec 32 := Scalar.maxsi c0_i32_537 v1130
  let v1132 : BitVec 32 := Scalar.minsi v1109 v1131
  let c0_i32_546 : BitVec 32 := 0#32
  let c384_i32_538 : BitVec 32 := 384#32
  let v1133 : BitVec 32 := Scalar.subi c384_i32_538 v1091
  let c0_i32_540 : BitVec 32 := 0#32
  let v1135 : BitVec 1 := Scalar.cmpi .sgt v1133 c0_i32_540
  let v1136 : BitVec 32 := Scalar.extui v1135
  let c0_i32_541 : BitVec 32 := 0#32
  let v1137 : BitVec 1 := Scalar.cmpi .slt v1133 c0_i32_541
  let v1138 : BitVec 32 := Scalar.extui v1137
  let v1139 : BitVec 32 := Scalar.subi v1136 v1138
  let c2_i32_539 : BitVec 32 := 2#32
  let c0_i32_542 : BitVec 32 := 0#32
  let v1140 : BitVec 1 := Scalar.cmpi .sgt c2_i32_539 c0_i32_542
  let v1141 : BitVec 32 := Scalar.extui v1140
  let c0_i32_543 : BitVec 32 := 0#32
  let v1142 : BitVec 1 := Scalar.cmpi .slt c2_i32_539 c0_i32_543
  let v1143 : BitVec 32 := Scalar.extui v1142
  let v1144 : BitVec 32 := Scalar.subi v1141 v1143
  let v1145 : BitVec 1 := Scalar.cmpi .ne v1139 v1144
  let v1146 : BitVec 32 := Scalar.remsi v1133 c2_i32_539
  let c0_i32_544 : BitVec 32 := 0#32
  let v1147 : BitVec 1 := Scalar.cmpi .ne v1146 c0_i32_544
  let v1148 : BitVec 1 := Scalar.andi v1145 v1147
  let v1134 : BitVec 32 := Scalar.divsi v1133 c2_i32_539
  let c1_i32_545 : BitVec 32 := 1#32
  let v1149 : BitVec 32 := Scalar.subi v1134 c1_i32_545
  let v1150 : BitVec 32 := Scalar.select v1148 v1149 v1134
  let v1151 : BitVec 32 := Scalar.maxsi c0_i32_546 v1150
  let v1152 : BitVec 32 := Scalar.minsi v1109 v1151
  let v1153 : BitVec 32 := Scalar.subi v1152 v1132
  let c1_i32_547 : BitVec 32 := 1#32
  let v1155 : BitVec 32 := Scalar.divsi v1153 c1_i32_547
  let v1156 : BitVec 32 := Scalar.muli v1155 c1_i32_547
  let v1157 : BitVec 32 := Scalar.addi v1132 v1156
  let v1154 : BitVec 32 := Scalar.addi v1132 v1153
  let c1_i32_549 : BitVec 32 := 1#32
  ⟨v1157, v1154, c1_i32_549⟩
def k0_off89 (v1089 : BitVec 32) (v1091 : BitVec 32) (k0_t32 : Fin (k0_t32_loop v1089 v1091).trips) : Fin 2 → Nat :=
  let c1_i32_519 : BitVec 32 := 1#32
  let v1092 : BitVec 32 := Scalar.addi v1089 c1_i32_519
  let c0_i32_521 : BitVec 32 := 0#32
  let v1094 : BitVec 1 := Scalar.cmpi .sgt v1092 c0_i32_521
  let v1095 : BitVec 32 := Scalar.extui v1094
  let c0_i32_522 : BitVec 32 := 0#32
  let v1096 : BitVec 1 := Scalar.cmpi .slt v1092 c0_i32_522
  let v1097 : BitVec 32 := Scalar.extui v1096
  let v1098 : BitVec 32 := Scalar.subi v1095 v1097
  let c2_i32_520 : BitVec 32 := 2#32
  let c0_i32_523 : BitVec 32 := 0#32
  let v1099 : BitVec 1 := Scalar.cmpi .sgt c2_i32_520 c0_i32_523
  let v1100 : BitVec 32 := Scalar.extui v1099
  let c0_i32_524 : BitVec 32 := 0#32
  let v1101 : BitVec 1 := Scalar.cmpi .slt c2_i32_520 c0_i32_524
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_520
  let c0_i32_525 : BitVec 32 := 0#32
  let v1106 : BitVec 1 := Scalar.cmpi .ne v1105 c0_i32_525
  let v1107 : BitVec 1 := Scalar.andi v1104 v1106
  let v1093 : BitVec 32 := Scalar.divsi v1092 c2_i32_520
  let c1_i32_526 : BitVec 32 := 1#32
  let v1108 : BitVec 32 := Scalar.subi v1093 c1_i32_526
  let v1109 : BitVec 32 := Scalar.select v1107 v1108 v1093
  let c0_i32_537 : BitVec 32 := 0#32
  let c0_i32_529 : BitVec 32 := 0#32
  let v1113 : BitVec 32 := Scalar.subi c0_i32_529 v1091
  let c0_i32_531 : BitVec 32 := 0#32
  let v1115 : BitVec 1 := Scalar.cmpi .sgt v1113 c0_i32_531
  let v1116 : BitVec 32 := Scalar.extui v1115
  let c0_i32_532 : BitVec 32 := 0#32
  let v1117 : BitVec 1 := Scalar.cmpi .slt v1113 c0_i32_532
  let v1118 : BitVec 32 := Scalar.extui v1117
  let v1119 : BitVec 32 := Scalar.subi v1116 v1118
  let c2_i32_530 : BitVec 32 := 2#32
  let c0_i32_533 : BitVec 32 := 0#32
  let v1120 : BitVec 1 := Scalar.cmpi .sgt c2_i32_530 c0_i32_533
  let v1121 : BitVec 32 := Scalar.extui v1120
  let c0_i32_534 : BitVec 32 := 0#32
  let v1122 : BitVec 1 := Scalar.cmpi .slt c2_i32_530 c0_i32_534
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_530
  let c0_i32_535 : BitVec 32 := 0#32
  let v1127 : BitVec 1 := Scalar.cmpi .ne v1126 c0_i32_535
  let v1128 : BitVec 1 := Scalar.andi v1125 v1127
  let v1114 : BitVec 32 := Scalar.divsi v1113 c2_i32_530
  let c1_i32_536 : BitVec 32 := 1#32
  let v1129 : BitVec 32 := Scalar.subi v1114 c1_i32_536
  let v1130 : BitVec 32 := Scalar.select v1128 v1129 v1114
  let v1131 : BitVec 32 := Scalar.maxsi c0_i32_537 v1130
  let v1132 : BitVec 32 := Scalar.minsi v1109 v1131
  let c0_i32_546 : BitVec 32 := 0#32
  let c384_i32_538 : BitVec 32 := 384#32
  let v1133 : BitVec 32 := Scalar.subi c384_i32_538 v1091
  let c0_i32_540 : BitVec 32 := 0#32
  let v1135 : BitVec 1 := Scalar.cmpi .sgt v1133 c0_i32_540
  let v1136 : BitVec 32 := Scalar.extui v1135
  let c0_i32_541 : BitVec 32 := 0#32
  let v1137 : BitVec 1 := Scalar.cmpi .slt v1133 c0_i32_541
  let v1138 : BitVec 32 := Scalar.extui v1137
  let v1139 : BitVec 32 := Scalar.subi v1136 v1138
  let c2_i32_539 : BitVec 32 := 2#32
  let c0_i32_542 : BitVec 32 := 0#32
  let v1140 : BitVec 1 := Scalar.cmpi .sgt c2_i32_539 c0_i32_542
  let v1141 : BitVec 32 := Scalar.extui v1140
  let c0_i32_543 : BitVec 32 := 0#32
  let v1142 : BitVec 1 := Scalar.cmpi .slt c2_i32_539 c0_i32_543
  let v1143 : BitVec 32 := Scalar.extui v1142
  let v1144 : BitVec 32 := Scalar.subi v1141 v1143
  let v1145 : BitVec 1 := Scalar.cmpi .ne v1139 v1144
  let v1146 : BitVec 32 := Scalar.remsi v1133 c2_i32_539
  let c0_i32_544 : BitVec 32 := 0#32
  let v1147 : BitVec 1 := Scalar.cmpi .ne v1146 c0_i32_544
  let v1148 : BitVec 1 := Scalar.andi v1145 v1147
  let v1134 : BitVec 32 := Scalar.divsi v1133 c2_i32_539
  let c1_i32_545 : BitVec 32 := 1#32
  let v1149 : BitVec 32 := Scalar.subi v1134 c1_i32_545
  let v1150 : BitVec 32 := Scalar.select v1148 v1149 v1134
  let v1151 : BitVec 32 := Scalar.maxsi c0_i32_546 v1150
  let v1152 : BitVec 32 := Scalar.minsi v1109 v1151
  let v1153 : BitVec 32 := Scalar.subi v1152 v1132
  let c1_i32_547 : BitVec 32 := 1#32
  let v1155 : BitVec 32 := Scalar.divsi v1153 c1_i32_547
  let v1156 : BitVec 32 := Scalar.muli v1155 c1_i32_547
  let v1157 : BitVec 32 := Scalar.addi v1132 v1156
  let c1_i32_549 : BitVec 32 := 1#32
  let arg23 : BitVec 32 := Scf.iv v1157 c1_i32_549 k0_t32
  let c2_i32_613 : BitVec 32 := 2#32
  let v1306 : BitVec 32 := Scalar.muli arg23 c2_i32_613
  let v1307 : BitVec 32 := Scalar.addi v1091 v1306
  let c0_i32_614 : BitVec 32 := 0#32
  let v1308 : BitVec 32 := Scalar.subi v1307 c0_i32_614
  let c0_i32_615 : BitVec 32 := 0#32
  ![v1308.toNat, 0]
def k0_off90 (v1089 : BitVec 32) (v1091 : BitVec 32) (k0_t32 : Fin (k0_t32_loop v1089 v1091).trips) : Fin 2 → Nat :=
  let c1_i32_612 : BitVec 32 := 1#32
  let v1304 : BitVec 32 := Scalar.shrsi v1091 c1_i32_612
  let c1_i32_519 : BitVec 32 := 1#32
  let v1092 : BitVec 32 := Scalar.addi v1089 c1_i32_519
  let c0_i32_521 : BitVec 32 := 0#32
  let v1094 : BitVec 1 := Scalar.cmpi .sgt v1092 c0_i32_521
  let v1095 : BitVec 32 := Scalar.extui v1094
  let c0_i32_522 : BitVec 32 := 0#32
  let v1096 : BitVec 1 := Scalar.cmpi .slt v1092 c0_i32_522
  let v1097 : BitVec 32 := Scalar.extui v1096
  let v1098 : BitVec 32 := Scalar.subi v1095 v1097
  let c2_i32_520 : BitVec 32 := 2#32
  let c0_i32_523 : BitVec 32 := 0#32
  let v1099 : BitVec 1 := Scalar.cmpi .sgt c2_i32_520 c0_i32_523
  let v1100 : BitVec 32 := Scalar.extui v1099
  let c0_i32_524 : BitVec 32 := 0#32
  let v1101 : BitVec 1 := Scalar.cmpi .slt c2_i32_520 c0_i32_524
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_520
  let c0_i32_525 : BitVec 32 := 0#32
  let v1106 : BitVec 1 := Scalar.cmpi .ne v1105 c0_i32_525
  let v1107 : BitVec 1 := Scalar.andi v1104 v1106
  let v1093 : BitVec 32 := Scalar.divsi v1092 c2_i32_520
  let c1_i32_526 : BitVec 32 := 1#32
  let v1108 : BitVec 32 := Scalar.subi v1093 c1_i32_526
  let v1109 : BitVec 32 := Scalar.select v1107 v1108 v1093
  let c0_i32_537 : BitVec 32 := 0#32
  let c0_i32_529 : BitVec 32 := 0#32
  let v1113 : BitVec 32 := Scalar.subi c0_i32_529 v1091
  let c0_i32_531 : BitVec 32 := 0#32
  let v1115 : BitVec 1 := Scalar.cmpi .sgt v1113 c0_i32_531
  let v1116 : BitVec 32 := Scalar.extui v1115
  let c0_i32_532 : BitVec 32 := 0#32
  let v1117 : BitVec 1 := Scalar.cmpi .slt v1113 c0_i32_532
  let v1118 : BitVec 32 := Scalar.extui v1117
  let v1119 : BitVec 32 := Scalar.subi v1116 v1118
  let c2_i32_530 : BitVec 32 := 2#32
  let c0_i32_533 : BitVec 32 := 0#32
  let v1120 : BitVec 1 := Scalar.cmpi .sgt c2_i32_530 c0_i32_533
  let v1121 : BitVec 32 := Scalar.extui v1120
  let c0_i32_534 : BitVec 32 := 0#32
  let v1122 : BitVec 1 := Scalar.cmpi .slt c2_i32_530 c0_i32_534
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_530
  let c0_i32_535 : BitVec 32 := 0#32
  let v1127 : BitVec 1 := Scalar.cmpi .ne v1126 c0_i32_535
  let v1128 : BitVec 1 := Scalar.andi v1125 v1127
  let v1114 : BitVec 32 := Scalar.divsi v1113 c2_i32_530
  let c1_i32_536 : BitVec 32 := 1#32
  let v1129 : BitVec 32 := Scalar.subi v1114 c1_i32_536
  let v1130 : BitVec 32 := Scalar.select v1128 v1129 v1114
  let v1131 : BitVec 32 := Scalar.maxsi c0_i32_537 v1130
  let v1132 : BitVec 32 := Scalar.minsi v1109 v1131
  let c0_i32_546 : BitVec 32 := 0#32
  let c384_i32_538 : BitVec 32 := 384#32
  let v1133 : BitVec 32 := Scalar.subi c384_i32_538 v1091
  let c0_i32_540 : BitVec 32 := 0#32
  let v1135 : BitVec 1 := Scalar.cmpi .sgt v1133 c0_i32_540
  let v1136 : BitVec 32 := Scalar.extui v1135
  let c0_i32_541 : BitVec 32 := 0#32
  let v1137 : BitVec 1 := Scalar.cmpi .slt v1133 c0_i32_541
  let v1138 : BitVec 32 := Scalar.extui v1137
  let v1139 : BitVec 32 := Scalar.subi v1136 v1138
  let c2_i32_539 : BitVec 32 := 2#32
  let c0_i32_542 : BitVec 32 := 0#32
  let v1140 : BitVec 1 := Scalar.cmpi .sgt c2_i32_539 c0_i32_542
  let v1141 : BitVec 32 := Scalar.extui v1140
  let c0_i32_543 : BitVec 32 := 0#32
  let v1142 : BitVec 1 := Scalar.cmpi .slt c2_i32_539 c0_i32_543
  let v1143 : BitVec 32 := Scalar.extui v1142
  let v1144 : BitVec 32 := Scalar.subi v1141 v1143
  let v1145 : BitVec 1 := Scalar.cmpi .ne v1139 v1144
  let v1146 : BitVec 32 := Scalar.remsi v1133 c2_i32_539
  let c0_i32_544 : BitVec 32 := 0#32
  let v1147 : BitVec 1 := Scalar.cmpi .ne v1146 c0_i32_544
  let v1148 : BitVec 1 := Scalar.andi v1145 v1147
  let v1134 : BitVec 32 := Scalar.divsi v1133 c2_i32_539
  let c1_i32_545 : BitVec 32 := 1#32
  let v1149 : BitVec 32 := Scalar.subi v1134 c1_i32_545
  let v1150 : BitVec 32 := Scalar.select v1148 v1149 v1134
  let v1151 : BitVec 32 := Scalar.maxsi c0_i32_546 v1150
  let v1152 : BitVec 32 := Scalar.minsi v1109 v1151
  let v1153 : BitVec 32 := Scalar.subi v1152 v1132
  let c1_i32_547 : BitVec 32 := 1#32
  let v1155 : BitVec 32 := Scalar.divsi v1153 c1_i32_547
  let v1156 : BitVec 32 := Scalar.muli v1155 c1_i32_547
  let v1157 : BitVec 32 := Scalar.addi v1132 v1156
  let c1_i32_549 : BitVec 32 := 1#32
  let arg23 : BitVec 32 := Scf.iv v1157 c1_i32_549 k0_t32
  let v1305 : BitVec 32 := Scalar.addi v1304 arg23
  let c0_i32_616 : BitVec 32 := 0#32
  ![v1305.toNat, 0]

def k0_chk19 (v1089 : BitVec 32) (v1091 : BitVec 32) : Prop :=
  ((k0_t31_loop v1089 v1091).OK) ∧
  (∀ k0_t31 : Fin (k0_t31_loop v1089 v1091).trips, ∀ a, (k0_off86 v1089 v1091 k0_t31) a + S2x128.size a ≤ S384x128.size a) ∧
  (∀ k0_t31 : Fin (k0_t31_loop v1089 v1091).trips, ∀ a, (k0_off87 v1089 v1091 k0_t31) a + S1x2.size a ≤ S584x2.size a) ∧
  ((k0_t32_loop v1089 v1091).OK) ∧
  (∀ k0_t32 : Fin (k0_t32_loop v1089 v1091).trips, ∀ a, (k0_off89 v1089 v1091 k0_t32) a + S2x128.size a ≤ S384x128.size a) ∧
  (∀ k0_t32 : Fin (k0_t32_loop v1089 v1091).trips, ∀ a, (k0_off90 v1089 v1091 k0_t32) a + S1x2.size a ≤ S584x2.size a)
theorem k0_t31_ok : ∀ (v1089 : BitVec 32) (v1091 : BitVec 32) (k0_hw19 : k0_chk19 v1089 v1091), (k0_t31_loop v1089 v1091).OK := fun v1089 v1091 k0_hw19 => k0_hw19.1
theorem k0_off86_inb : ∀ (v1089 : BitVec 32) (v1091 : BitVec 32) (k0_hw19 : k0_chk19 v1089 v1091) (k0_t31 : Fin (k0_t31_loop v1089 v1091).trips), ∀ a, (k0_off86 v1089 v1091 k0_t31) a + S2x128.size a ≤ S384x128.size a := fun v1089 v1091 k0_hw19 k0_t31 => k0_hw19.2.1 k0_t31
theorem k0_off87_inb : ∀ (v1089 : BitVec 32) (v1091 : BitVec 32) (k0_hw19 : k0_chk19 v1089 v1091) (k0_t31 : Fin (k0_t31_loop v1089 v1091).trips), ∀ a, (k0_off87 v1089 v1091 k0_t31) a + S1x2.size a ≤ S584x2.size a := fun v1089 v1091 k0_hw19 k0_t31 => k0_hw19.2.2.1 k0_t31
theorem k0_t32_ok : ∀ (v1089 : BitVec 32) (v1091 : BitVec 32) (k0_hw19 : k0_chk19 v1089 v1091), (k0_t32_loop v1089 v1091).OK := fun v1089 v1091 k0_hw19 => k0_hw19.2.2.2.1
theorem k0_off89_inb : ∀ (v1089 : BitVec 32) (v1091 : BitVec 32) (k0_hw19 : k0_chk19 v1089 v1091) (k0_t32 : Fin (k0_t32_loop v1089 v1091).trips), ∀ a, (k0_off89 v1089 v1091 k0_t32) a + S2x128.size a ≤ S384x128.size a := fun v1089 v1091 k0_hw19 k0_t32 => k0_hw19.2.2.2.2.1 k0_t32
theorem k0_off90_inb : ∀ (v1089 : BitVec 32) (v1091 : BitVec 32) (k0_hw19 : k0_chk19 v1089 v1091) (k0_t32 : Fin (k0_t32_loop v1089 v1091).trips), ∀ a, (k0_off90 v1089 v1091 k0_t32) a + S1x2.size a ≤ S584x2.size a := fun v1089 v1091 k0_hw19 k0_t32 => k0_hw19.2.2.2.2.2 k0_t32

def k0_off91 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_527 : BitVec 32 := 16#32
  let v1110 : BitVec 32 := Scalar.muli arg21 c16_i32_527
  let c13_i32 : BitVec 32 := 13#32
  let v1111 : BitVec 32 := Scalar.addi v1110 c13_i32
  let c128_i32_528 : BitVec 32 := 128#32
  let v1112 : BitVec 32 := Scalar.muli v1111 c128_i32_528
  ![0, v1112.toNat]
@[reducible] def k0_t33_loop (v1161 : BitVec 32) (v1163 : BitVec 32) : Scf.Loop 32 :=
  let c1_i32_550 : BitVec 32 := 1#32
  let v1164 : BitVec 32 := Scalar.addi v1161 c1_i32_550
  let c0_i32_552 : BitVec 32 := 0#32
  let v1166 : BitVec 1 := Scalar.cmpi .sgt v1164 c0_i32_552
  let v1167 : BitVec 32 := Scalar.extui v1166
  let c0_i32_553 : BitVec 32 := 0#32
  let v1168 : BitVec 1 := Scalar.cmpi .slt v1164 c0_i32_553
  let v1169 : BitVec 32 := Scalar.extui v1168
  let v1170 : BitVec 32 := Scalar.subi v1167 v1169
  let c2_i32_551 : BitVec 32 := 2#32
  let c0_i32_554 : BitVec 32 := 0#32
  let v1171 : BitVec 1 := Scalar.cmpi .sgt c2_i32_551 c0_i32_554
  let v1172 : BitVec 32 := Scalar.extui v1171
  let c0_i32_555 : BitVec 32 := 0#32
  let v1173 : BitVec 1 := Scalar.cmpi .slt c2_i32_551 c0_i32_555
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_551
  let c0_i32_556 : BitVec 32 := 0#32
  let v1178 : BitVec 1 := Scalar.cmpi .ne v1177 c0_i32_556
  let v1179 : BitVec 1 := Scalar.andi v1176 v1178
  let v1165 : BitVec 32 := Scalar.divsi v1164 c2_i32_551
  let c1_i32_557 : BitVec 32 := 1#32
  let v1180 : BitVec 32 := Scalar.subi v1165 c1_i32_557
  let v1181 : BitVec 32 := Scalar.select v1179 v1180 v1165
  let c0_i32_568 : BitVec 32 := 0#32
  let c0_i32_560 : BitVec 32 := 0#32
  let v1185 : BitVec 32 := Scalar.subi c0_i32_560 v1163
  let c0_i32_562 : BitVec 32 := 0#32
  let v1187 : BitVec 1 := Scalar.cmpi .sgt v1185 c0_i32_562
  let v1188 : BitVec 32 := Scalar.extui v1187
  let c0_i32_563 : BitVec 32 := 0#32
  let v1189 : BitVec 1 := Scalar.cmpi .slt v1185 c0_i32_563
  let v1190 : BitVec 32 := Scalar.extui v1189
  let v1191 : BitVec 32 := Scalar.subi v1188 v1190
  let c2_i32_561 : BitVec 32 := 2#32
  let c0_i32_564 : BitVec 32 := 0#32
  let v1192 : BitVec 1 := Scalar.cmpi .sgt c2_i32_561 c0_i32_564
  let v1193 : BitVec 32 := Scalar.extui v1192
  let c0_i32_565 : BitVec 32 := 0#32
  let v1194 : BitVec 1 := Scalar.cmpi .slt c2_i32_561 c0_i32_565
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_561
  let c0_i32_566 : BitVec 32 := 0#32
  let v1199 : BitVec 1 := Scalar.cmpi .ne v1198 c0_i32_566
  let v1200 : BitVec 1 := Scalar.andi v1197 v1199
  let v1186 : BitVec 32 := Scalar.divsi v1185 c2_i32_561
  let c1_i32_567 : BitVec 32 := 1#32
  let v1201 : BitVec 32 := Scalar.subi v1186 c1_i32_567
  let v1202 : BitVec 32 := Scalar.select v1200 v1201 v1186
  let v1203 : BitVec 32 := Scalar.maxsi c0_i32_568 v1202
  let v1204 : BitVec 32 := Scalar.minsi v1181 v1203
  let c0_i32_577 : BitVec 32 := 0#32
  let c384_i32_569 : BitVec 32 := 384#32
  let v1205 : BitVec 32 := Scalar.subi c384_i32_569 v1163
  let c0_i32_571 : BitVec 32 := 0#32
  let v1207 : BitVec 1 := Scalar.cmpi .sgt v1205 c0_i32_571
  let v1208 : BitVec 32 := Scalar.extui v1207
  let c0_i32_572 : BitVec 32 := 0#32
  let v1209 : BitVec 1 := Scalar.cmpi .slt v1205 c0_i32_572
  let v1210 : BitVec 32 := Scalar.extui v1209
  let v1211 : BitVec 32 := Scalar.subi v1208 v1210
  let c2_i32_570 : BitVec 32 := 2#32
  let c0_i32_573 : BitVec 32 := 0#32
  let v1212 : BitVec 1 := Scalar.cmpi .sgt c2_i32_570 c0_i32_573
  let v1213 : BitVec 32 := Scalar.extui v1212
  let c0_i32_574 : BitVec 32 := 0#32
  let v1214 : BitVec 1 := Scalar.cmpi .slt c2_i32_570 c0_i32_574
  let v1215 : BitVec 32 := Scalar.extui v1214
  let v1216 : BitVec 32 := Scalar.subi v1213 v1215
  let v1217 : BitVec 1 := Scalar.cmpi .ne v1211 v1216
  let v1218 : BitVec 32 := Scalar.remsi v1205 c2_i32_570
  let c0_i32_575 : BitVec 32 := 0#32
  let v1219 : BitVec 1 := Scalar.cmpi .ne v1218 c0_i32_575
  let v1220 : BitVec 1 := Scalar.andi v1217 v1219
  let v1206 : BitVec 32 := Scalar.divsi v1205 c2_i32_570
  let c1_i32_576 : BitVec 32 := 1#32
  let v1221 : BitVec 32 := Scalar.subi v1206 c1_i32_576
  let v1222 : BitVec 32 := Scalar.select v1220 v1221 v1206
  let v1223 : BitVec 32 := Scalar.maxsi c0_i32_577 v1222
  let v1224 : BitVec 32 := Scalar.minsi v1181 v1223
  let v1225 : BitVec 32 := Scalar.subi v1224 v1204
  let c1_i32_578 : BitVec 32 := 1#32
  let v1227 : BitVec 32 := Scalar.divsi v1225 c1_i32_578
  let v1228 : BitVec 32 := Scalar.muli v1227 c1_i32_578
  let v1229 : BitVec 32 := Scalar.addi v1204 v1228
  let c1_i32_579 : BitVec 32 := 1#32
  ⟨v1204, v1229, c1_i32_579⟩

def k0_off92 (v1161 : BitVec 32) (v1163 : BitVec 32) (k0_t33 : Fin (k0_t33_loop v1161 v1163).trips) : Fin 2 → Nat :=
  let c1_i32_550 : BitVec 32 := 1#32
  let v1164 : BitVec 32 := Scalar.addi v1161 c1_i32_550
  let c0_i32_552 : BitVec 32 := 0#32
  let v1166 : BitVec 1 := Scalar.cmpi .sgt v1164 c0_i32_552
  let v1167 : BitVec 32 := Scalar.extui v1166
  let c0_i32_553 : BitVec 32 := 0#32
  let v1168 : BitVec 1 := Scalar.cmpi .slt v1164 c0_i32_553
  let v1169 : BitVec 32 := Scalar.extui v1168
  let v1170 : BitVec 32 := Scalar.subi v1167 v1169
  let c2_i32_551 : BitVec 32 := 2#32
  let c0_i32_554 : BitVec 32 := 0#32
  let v1171 : BitVec 1 := Scalar.cmpi .sgt c2_i32_551 c0_i32_554
  let v1172 : BitVec 32 := Scalar.extui v1171
  let c0_i32_555 : BitVec 32 := 0#32
  let v1173 : BitVec 1 := Scalar.cmpi .slt c2_i32_551 c0_i32_555
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_551
  let c0_i32_556 : BitVec 32 := 0#32
  let v1178 : BitVec 1 := Scalar.cmpi .ne v1177 c0_i32_556
  let v1179 : BitVec 1 := Scalar.andi v1176 v1178
  let v1165 : BitVec 32 := Scalar.divsi v1164 c2_i32_551
  let c1_i32_557 : BitVec 32 := 1#32
  let v1180 : BitVec 32 := Scalar.subi v1165 c1_i32_557
  let v1181 : BitVec 32 := Scalar.select v1179 v1180 v1165
  let c0_i32_568 : BitVec 32 := 0#32
  let c0_i32_560 : BitVec 32 := 0#32
  let v1185 : BitVec 32 := Scalar.subi c0_i32_560 v1163
  let c0_i32_562 : BitVec 32 := 0#32
  let v1187 : BitVec 1 := Scalar.cmpi .sgt v1185 c0_i32_562
  let v1188 : BitVec 32 := Scalar.extui v1187
  let c0_i32_563 : BitVec 32 := 0#32
  let v1189 : BitVec 1 := Scalar.cmpi .slt v1185 c0_i32_563
  let v1190 : BitVec 32 := Scalar.extui v1189
  let v1191 : BitVec 32 := Scalar.subi v1188 v1190
  let c2_i32_561 : BitVec 32 := 2#32
  let c0_i32_564 : BitVec 32 := 0#32
  let v1192 : BitVec 1 := Scalar.cmpi .sgt c2_i32_561 c0_i32_564
  let v1193 : BitVec 32 := Scalar.extui v1192
  let c0_i32_565 : BitVec 32 := 0#32
  let v1194 : BitVec 1 := Scalar.cmpi .slt c2_i32_561 c0_i32_565
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_561
  let c0_i32_566 : BitVec 32 := 0#32
  let v1199 : BitVec 1 := Scalar.cmpi .ne v1198 c0_i32_566
  let v1200 : BitVec 1 := Scalar.andi v1197 v1199
  let v1186 : BitVec 32 := Scalar.divsi v1185 c2_i32_561
  let c1_i32_567 : BitVec 32 := 1#32
  let v1201 : BitVec 32 := Scalar.subi v1186 c1_i32_567
  let v1202 : BitVec 32 := Scalar.select v1200 v1201 v1186
  let v1203 : BitVec 32 := Scalar.maxsi c0_i32_568 v1202
  let v1204 : BitVec 32 := Scalar.minsi v1181 v1203
  let c1_i32_579 : BitVec 32 := 1#32
  let arg23 : BitVec 32 := Scf.iv v1204 c1_i32_579 k0_t33
  let c2_i32_613 : BitVec 32 := 2#32
  let v1306 : BitVec 32 := Scalar.muli arg23 c2_i32_613
  let v1307 : BitVec 32 := Scalar.addi v1163 v1306
  let c0_i32_614 : BitVec 32 := 0#32
  let v1308 : BitVec 32 := Scalar.subi v1307 c0_i32_614
  let c0_i32_615 : BitVec 32 := 0#32
  ![v1308.toNat, 0]
def k0_off93 (v1161 : BitVec 32) (v1163 : BitVec 32) (k0_t33 : Fin (k0_t33_loop v1161 v1163).trips) : Fin 2 → Nat :=
  let c1_i32_612 : BitVec 32 := 1#32
  let v1304 : BitVec 32 := Scalar.shrsi v1163 c1_i32_612
  let c1_i32_550 : BitVec 32 := 1#32
  let v1164 : BitVec 32 := Scalar.addi v1161 c1_i32_550
  let c0_i32_552 : BitVec 32 := 0#32
  let v1166 : BitVec 1 := Scalar.cmpi .sgt v1164 c0_i32_552
  let v1167 : BitVec 32 := Scalar.extui v1166
  let c0_i32_553 : BitVec 32 := 0#32
  let v1168 : BitVec 1 := Scalar.cmpi .slt v1164 c0_i32_553
  let v1169 : BitVec 32 := Scalar.extui v1168
  let v1170 : BitVec 32 := Scalar.subi v1167 v1169
  let c2_i32_551 : BitVec 32 := 2#32
  let c0_i32_554 : BitVec 32 := 0#32
  let v1171 : BitVec 1 := Scalar.cmpi .sgt c2_i32_551 c0_i32_554
  let v1172 : BitVec 32 := Scalar.extui v1171
  let c0_i32_555 : BitVec 32 := 0#32
  let v1173 : BitVec 1 := Scalar.cmpi .slt c2_i32_551 c0_i32_555
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_551
  let c0_i32_556 : BitVec 32 := 0#32
  let v1178 : BitVec 1 := Scalar.cmpi .ne v1177 c0_i32_556
  let v1179 : BitVec 1 := Scalar.andi v1176 v1178
  let v1165 : BitVec 32 := Scalar.divsi v1164 c2_i32_551
  let c1_i32_557 : BitVec 32 := 1#32
  let v1180 : BitVec 32 := Scalar.subi v1165 c1_i32_557
  let v1181 : BitVec 32 := Scalar.select v1179 v1180 v1165
  let c0_i32_568 : BitVec 32 := 0#32
  let c0_i32_560 : BitVec 32 := 0#32
  let v1185 : BitVec 32 := Scalar.subi c0_i32_560 v1163
  let c0_i32_562 : BitVec 32 := 0#32
  let v1187 : BitVec 1 := Scalar.cmpi .sgt v1185 c0_i32_562
  let v1188 : BitVec 32 := Scalar.extui v1187
  let c0_i32_563 : BitVec 32 := 0#32
  let v1189 : BitVec 1 := Scalar.cmpi .slt v1185 c0_i32_563
  let v1190 : BitVec 32 := Scalar.extui v1189
  let v1191 : BitVec 32 := Scalar.subi v1188 v1190
  let c2_i32_561 : BitVec 32 := 2#32
  let c0_i32_564 : BitVec 32 := 0#32
  let v1192 : BitVec 1 := Scalar.cmpi .sgt c2_i32_561 c0_i32_564
  let v1193 : BitVec 32 := Scalar.extui v1192
  let c0_i32_565 : BitVec 32 := 0#32
  let v1194 : BitVec 1 := Scalar.cmpi .slt c2_i32_561 c0_i32_565
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_561
  let c0_i32_566 : BitVec 32 := 0#32
  let v1199 : BitVec 1 := Scalar.cmpi .ne v1198 c0_i32_566
  let v1200 : BitVec 1 := Scalar.andi v1197 v1199
  let v1186 : BitVec 32 := Scalar.divsi v1185 c2_i32_561
  let c1_i32_567 : BitVec 32 := 1#32
  let v1201 : BitVec 32 := Scalar.subi v1186 c1_i32_567
  let v1202 : BitVec 32 := Scalar.select v1200 v1201 v1186
  let v1203 : BitVec 32 := Scalar.maxsi c0_i32_568 v1202
  let v1204 : BitVec 32 := Scalar.minsi v1181 v1203
  let c1_i32_579 : BitVec 32 := 1#32
  let arg23 : BitVec 32 := Scf.iv v1204 c1_i32_579 k0_t33
  let v1305 : BitVec 32 := Scalar.addi v1304 arg23
  let c0_i32_616 : BitVec 32 := 0#32
  ![v1305.toNat, 0]
def k0_off94 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_558 : BitVec 32 := 16#32
  let v1182 : BitVec 32 := Scalar.muli arg21 c16_i32_558
  let c14_i32 : BitVec 32 := 14#32
  let v1183 : BitVec 32 := Scalar.addi v1182 c14_i32
  let c128_i32_559 : BitVec 32 := 128#32
  let v1184 : BitVec 32 := Scalar.muli v1183 c128_i32_559
  ![0, v1184.toNat]
@[reducible] def k0_t34_loop (v1161 : BitVec 32) (v1163 : BitVec 32) : Scf.Loop 32 :=
  let c1_i32_550 : BitVec 32 := 1#32
  let v1164 : BitVec 32 := Scalar.addi v1161 c1_i32_550
  let c0_i32_552 : BitVec 32 := 0#32
  let v1166 : BitVec 1 := Scalar.cmpi .sgt v1164 c0_i32_552
  let v1167 : BitVec 32 := Scalar.extui v1166
  let c0_i32_553 : BitVec 32 := 0#32
  let v1168 : BitVec 1 := Scalar.cmpi .slt v1164 c0_i32_553
  let v1169 : BitVec 32 := Scalar.extui v1168
  let v1170 : BitVec 32 := Scalar.subi v1167 v1169
  let c2_i32_551 : BitVec 32 := 2#32
  let c0_i32_554 : BitVec 32 := 0#32
  let v1171 : BitVec 1 := Scalar.cmpi .sgt c2_i32_551 c0_i32_554
  let v1172 : BitVec 32 := Scalar.extui v1171
  let c0_i32_555 : BitVec 32 := 0#32
  let v1173 : BitVec 1 := Scalar.cmpi .slt c2_i32_551 c0_i32_555
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_551
  let c0_i32_556 : BitVec 32 := 0#32
  let v1178 : BitVec 1 := Scalar.cmpi .ne v1177 c0_i32_556
  let v1179 : BitVec 1 := Scalar.andi v1176 v1178
  let v1165 : BitVec 32 := Scalar.divsi v1164 c2_i32_551
  let c1_i32_557 : BitVec 32 := 1#32
  let v1180 : BitVec 32 := Scalar.subi v1165 c1_i32_557
  let v1181 : BitVec 32 := Scalar.select v1179 v1180 v1165
  let c0_i32_568 : BitVec 32 := 0#32
  let c0_i32_560 : BitVec 32 := 0#32
  let v1185 : BitVec 32 := Scalar.subi c0_i32_560 v1163
  let c0_i32_562 : BitVec 32 := 0#32
  let v1187 : BitVec 1 := Scalar.cmpi .sgt v1185 c0_i32_562
  let v1188 : BitVec 32 := Scalar.extui v1187
  let c0_i32_563 : BitVec 32 := 0#32
  let v1189 : BitVec 1 := Scalar.cmpi .slt v1185 c0_i32_563
  let v1190 : BitVec 32 := Scalar.extui v1189
  let v1191 : BitVec 32 := Scalar.subi v1188 v1190
  let c2_i32_561 : BitVec 32 := 2#32
  let c0_i32_564 : BitVec 32 := 0#32
  let v1192 : BitVec 1 := Scalar.cmpi .sgt c2_i32_561 c0_i32_564
  let v1193 : BitVec 32 := Scalar.extui v1192
  let c0_i32_565 : BitVec 32 := 0#32
  let v1194 : BitVec 1 := Scalar.cmpi .slt c2_i32_561 c0_i32_565
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_561
  let c0_i32_566 : BitVec 32 := 0#32
  let v1199 : BitVec 1 := Scalar.cmpi .ne v1198 c0_i32_566
  let v1200 : BitVec 1 := Scalar.andi v1197 v1199
  let v1186 : BitVec 32 := Scalar.divsi v1185 c2_i32_561
  let c1_i32_567 : BitVec 32 := 1#32
  let v1201 : BitVec 32 := Scalar.subi v1186 c1_i32_567
  let v1202 : BitVec 32 := Scalar.select v1200 v1201 v1186
  let v1203 : BitVec 32 := Scalar.maxsi c0_i32_568 v1202
  let v1204 : BitVec 32 := Scalar.minsi v1181 v1203
  let c0_i32_577 : BitVec 32 := 0#32
  let c384_i32_569 : BitVec 32 := 384#32
  let v1205 : BitVec 32 := Scalar.subi c384_i32_569 v1163
  let c0_i32_571 : BitVec 32 := 0#32
  let v1207 : BitVec 1 := Scalar.cmpi .sgt v1205 c0_i32_571
  let v1208 : BitVec 32 := Scalar.extui v1207
  let c0_i32_572 : BitVec 32 := 0#32
  let v1209 : BitVec 1 := Scalar.cmpi .slt v1205 c0_i32_572
  let v1210 : BitVec 32 := Scalar.extui v1209
  let v1211 : BitVec 32 := Scalar.subi v1208 v1210
  let c2_i32_570 : BitVec 32 := 2#32
  let c0_i32_573 : BitVec 32 := 0#32
  let v1212 : BitVec 1 := Scalar.cmpi .sgt c2_i32_570 c0_i32_573
  let v1213 : BitVec 32 := Scalar.extui v1212
  let c0_i32_574 : BitVec 32 := 0#32
  let v1214 : BitVec 1 := Scalar.cmpi .slt c2_i32_570 c0_i32_574
  let v1215 : BitVec 32 := Scalar.extui v1214
  let v1216 : BitVec 32 := Scalar.subi v1213 v1215
  let v1217 : BitVec 1 := Scalar.cmpi .ne v1211 v1216
  let v1218 : BitVec 32 := Scalar.remsi v1205 c2_i32_570
  let c0_i32_575 : BitVec 32 := 0#32
  let v1219 : BitVec 1 := Scalar.cmpi .ne v1218 c0_i32_575
  let v1220 : BitVec 1 := Scalar.andi v1217 v1219
  let v1206 : BitVec 32 := Scalar.divsi v1205 c2_i32_570
  let c1_i32_576 : BitVec 32 := 1#32
  let v1221 : BitVec 32 := Scalar.subi v1206 c1_i32_576
  let v1222 : BitVec 32 := Scalar.select v1220 v1221 v1206
  let v1223 : BitVec 32 := Scalar.maxsi c0_i32_577 v1222
  let v1224 : BitVec 32 := Scalar.minsi v1181 v1223
  let v1225 : BitVec 32 := Scalar.subi v1224 v1204
  let c1_i32_578 : BitVec 32 := 1#32
  let v1227 : BitVec 32 := Scalar.divsi v1225 c1_i32_578
  let v1228 : BitVec 32 := Scalar.muli v1227 c1_i32_578
  let v1229 : BitVec 32 := Scalar.addi v1204 v1228
  let v1226 : BitVec 32 := Scalar.addi v1204 v1225
  let c1_i32_580 : BitVec 32 := 1#32
  ⟨v1229, v1226, c1_i32_580⟩
def k0_off95 (v1161 : BitVec 32) (v1163 : BitVec 32) (k0_t34 : Fin (k0_t34_loop v1161 v1163).trips) : Fin 2 → Nat :=
  let c1_i32_550 : BitVec 32 := 1#32
  let v1164 : BitVec 32 := Scalar.addi v1161 c1_i32_550
  let c0_i32_552 : BitVec 32 := 0#32
  let v1166 : BitVec 1 := Scalar.cmpi .sgt v1164 c0_i32_552
  let v1167 : BitVec 32 := Scalar.extui v1166
  let c0_i32_553 : BitVec 32 := 0#32
  let v1168 : BitVec 1 := Scalar.cmpi .slt v1164 c0_i32_553
  let v1169 : BitVec 32 := Scalar.extui v1168
  let v1170 : BitVec 32 := Scalar.subi v1167 v1169
  let c2_i32_551 : BitVec 32 := 2#32
  let c0_i32_554 : BitVec 32 := 0#32
  let v1171 : BitVec 1 := Scalar.cmpi .sgt c2_i32_551 c0_i32_554
  let v1172 : BitVec 32 := Scalar.extui v1171
  let c0_i32_555 : BitVec 32 := 0#32
  let v1173 : BitVec 1 := Scalar.cmpi .slt c2_i32_551 c0_i32_555
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_551
  let c0_i32_556 : BitVec 32 := 0#32
  let v1178 : BitVec 1 := Scalar.cmpi .ne v1177 c0_i32_556
  let v1179 : BitVec 1 := Scalar.andi v1176 v1178
  let v1165 : BitVec 32 := Scalar.divsi v1164 c2_i32_551
  let c1_i32_557 : BitVec 32 := 1#32
  let v1180 : BitVec 32 := Scalar.subi v1165 c1_i32_557
  let v1181 : BitVec 32 := Scalar.select v1179 v1180 v1165
  let c0_i32_568 : BitVec 32 := 0#32
  let c0_i32_560 : BitVec 32 := 0#32
  let v1185 : BitVec 32 := Scalar.subi c0_i32_560 v1163
  let c0_i32_562 : BitVec 32 := 0#32
  let v1187 : BitVec 1 := Scalar.cmpi .sgt v1185 c0_i32_562
  let v1188 : BitVec 32 := Scalar.extui v1187
  let c0_i32_563 : BitVec 32 := 0#32
  let v1189 : BitVec 1 := Scalar.cmpi .slt v1185 c0_i32_563
  let v1190 : BitVec 32 := Scalar.extui v1189
  let v1191 : BitVec 32 := Scalar.subi v1188 v1190
  let c2_i32_561 : BitVec 32 := 2#32
  let c0_i32_564 : BitVec 32 := 0#32
  let v1192 : BitVec 1 := Scalar.cmpi .sgt c2_i32_561 c0_i32_564
  let v1193 : BitVec 32 := Scalar.extui v1192
  let c0_i32_565 : BitVec 32 := 0#32
  let v1194 : BitVec 1 := Scalar.cmpi .slt c2_i32_561 c0_i32_565
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_561
  let c0_i32_566 : BitVec 32 := 0#32
  let v1199 : BitVec 1 := Scalar.cmpi .ne v1198 c0_i32_566
  let v1200 : BitVec 1 := Scalar.andi v1197 v1199
  let v1186 : BitVec 32 := Scalar.divsi v1185 c2_i32_561
  let c1_i32_567 : BitVec 32 := 1#32
  let v1201 : BitVec 32 := Scalar.subi v1186 c1_i32_567
  let v1202 : BitVec 32 := Scalar.select v1200 v1201 v1186
  let v1203 : BitVec 32 := Scalar.maxsi c0_i32_568 v1202
  let v1204 : BitVec 32 := Scalar.minsi v1181 v1203
  let c0_i32_577 : BitVec 32 := 0#32
  let c384_i32_569 : BitVec 32 := 384#32
  let v1205 : BitVec 32 := Scalar.subi c384_i32_569 v1163
  let c0_i32_571 : BitVec 32 := 0#32
  let v1207 : BitVec 1 := Scalar.cmpi .sgt v1205 c0_i32_571
  let v1208 : BitVec 32 := Scalar.extui v1207
  let c0_i32_572 : BitVec 32 := 0#32
  let v1209 : BitVec 1 := Scalar.cmpi .slt v1205 c0_i32_572
  let v1210 : BitVec 32 := Scalar.extui v1209
  let v1211 : BitVec 32 := Scalar.subi v1208 v1210
  let c2_i32_570 : BitVec 32 := 2#32
  let c0_i32_573 : BitVec 32 := 0#32
  let v1212 : BitVec 1 := Scalar.cmpi .sgt c2_i32_570 c0_i32_573
  let v1213 : BitVec 32 := Scalar.extui v1212
  let c0_i32_574 : BitVec 32 := 0#32
  let v1214 : BitVec 1 := Scalar.cmpi .slt c2_i32_570 c0_i32_574
  let v1215 : BitVec 32 := Scalar.extui v1214
  let v1216 : BitVec 32 := Scalar.subi v1213 v1215
  let v1217 : BitVec 1 := Scalar.cmpi .ne v1211 v1216
  let v1218 : BitVec 32 := Scalar.remsi v1205 c2_i32_570
  let c0_i32_575 : BitVec 32 := 0#32
  let v1219 : BitVec 1 := Scalar.cmpi .ne v1218 c0_i32_575
  let v1220 : BitVec 1 := Scalar.andi v1217 v1219
  let v1206 : BitVec 32 := Scalar.divsi v1205 c2_i32_570
  let c1_i32_576 : BitVec 32 := 1#32
  let v1221 : BitVec 32 := Scalar.subi v1206 c1_i32_576
  let v1222 : BitVec 32 := Scalar.select v1220 v1221 v1206
  let v1223 : BitVec 32 := Scalar.maxsi c0_i32_577 v1222
  let v1224 : BitVec 32 := Scalar.minsi v1181 v1223
  let v1225 : BitVec 32 := Scalar.subi v1224 v1204
  let c1_i32_578 : BitVec 32 := 1#32
  let v1227 : BitVec 32 := Scalar.divsi v1225 c1_i32_578
  let v1228 : BitVec 32 := Scalar.muli v1227 c1_i32_578
  let v1229 : BitVec 32 := Scalar.addi v1204 v1228
  let c1_i32_580 : BitVec 32 := 1#32
  let arg23 : BitVec 32 := Scf.iv v1229 c1_i32_580 k0_t34
  let c2_i32_613 : BitVec 32 := 2#32
  let v1306 : BitVec 32 := Scalar.muli arg23 c2_i32_613
  let v1307 : BitVec 32 := Scalar.addi v1163 v1306
  let c0_i32_614 : BitVec 32 := 0#32
  let v1308 : BitVec 32 := Scalar.subi v1307 c0_i32_614
  let c0_i32_615 : BitVec 32 := 0#32
  ![v1308.toNat, 0]
def k0_off96 (v1161 : BitVec 32) (v1163 : BitVec 32) (k0_t34 : Fin (k0_t34_loop v1161 v1163).trips) : Fin 2 → Nat :=
  let c1_i32_612 : BitVec 32 := 1#32
  let v1304 : BitVec 32 := Scalar.shrsi v1163 c1_i32_612
  let c1_i32_550 : BitVec 32 := 1#32
  let v1164 : BitVec 32 := Scalar.addi v1161 c1_i32_550
  let c0_i32_552 : BitVec 32 := 0#32
  let v1166 : BitVec 1 := Scalar.cmpi .sgt v1164 c0_i32_552
  let v1167 : BitVec 32 := Scalar.extui v1166
  let c0_i32_553 : BitVec 32 := 0#32
  let v1168 : BitVec 1 := Scalar.cmpi .slt v1164 c0_i32_553
  let v1169 : BitVec 32 := Scalar.extui v1168
  let v1170 : BitVec 32 := Scalar.subi v1167 v1169
  let c2_i32_551 : BitVec 32 := 2#32
  let c0_i32_554 : BitVec 32 := 0#32
  let v1171 : BitVec 1 := Scalar.cmpi .sgt c2_i32_551 c0_i32_554
  let v1172 : BitVec 32 := Scalar.extui v1171
  let c0_i32_555 : BitVec 32 := 0#32
  let v1173 : BitVec 1 := Scalar.cmpi .slt c2_i32_551 c0_i32_555
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_551
  let c0_i32_556 : BitVec 32 := 0#32
  let v1178 : BitVec 1 := Scalar.cmpi .ne v1177 c0_i32_556
  let v1179 : BitVec 1 := Scalar.andi v1176 v1178
  let v1165 : BitVec 32 := Scalar.divsi v1164 c2_i32_551
  let c1_i32_557 : BitVec 32 := 1#32
  let v1180 : BitVec 32 := Scalar.subi v1165 c1_i32_557
  let v1181 : BitVec 32 := Scalar.select v1179 v1180 v1165
  let c0_i32_568 : BitVec 32 := 0#32
  let c0_i32_560 : BitVec 32 := 0#32
  let v1185 : BitVec 32 := Scalar.subi c0_i32_560 v1163
  let c0_i32_562 : BitVec 32 := 0#32
  let v1187 : BitVec 1 := Scalar.cmpi .sgt v1185 c0_i32_562
  let v1188 : BitVec 32 := Scalar.extui v1187
  let c0_i32_563 : BitVec 32 := 0#32
  let v1189 : BitVec 1 := Scalar.cmpi .slt v1185 c0_i32_563
  let v1190 : BitVec 32 := Scalar.extui v1189
  let v1191 : BitVec 32 := Scalar.subi v1188 v1190
  let c2_i32_561 : BitVec 32 := 2#32
  let c0_i32_564 : BitVec 32 := 0#32
  let v1192 : BitVec 1 := Scalar.cmpi .sgt c2_i32_561 c0_i32_564
  let v1193 : BitVec 32 := Scalar.extui v1192
  let c0_i32_565 : BitVec 32 := 0#32
  let v1194 : BitVec 1 := Scalar.cmpi .slt c2_i32_561 c0_i32_565
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_561
  let c0_i32_566 : BitVec 32 := 0#32
  let v1199 : BitVec 1 := Scalar.cmpi .ne v1198 c0_i32_566
  let v1200 : BitVec 1 := Scalar.andi v1197 v1199
  let v1186 : BitVec 32 := Scalar.divsi v1185 c2_i32_561
  let c1_i32_567 : BitVec 32 := 1#32
  let v1201 : BitVec 32 := Scalar.subi v1186 c1_i32_567
  let v1202 : BitVec 32 := Scalar.select v1200 v1201 v1186
  let v1203 : BitVec 32 := Scalar.maxsi c0_i32_568 v1202
  let v1204 : BitVec 32 := Scalar.minsi v1181 v1203
  let c0_i32_577 : BitVec 32 := 0#32
  let c384_i32_569 : BitVec 32 := 384#32
  let v1205 : BitVec 32 := Scalar.subi c384_i32_569 v1163
  let c0_i32_571 : BitVec 32 := 0#32
  let v1207 : BitVec 1 := Scalar.cmpi .sgt v1205 c0_i32_571
  let v1208 : BitVec 32 := Scalar.extui v1207
  let c0_i32_572 : BitVec 32 := 0#32
  let v1209 : BitVec 1 := Scalar.cmpi .slt v1205 c0_i32_572
  let v1210 : BitVec 32 := Scalar.extui v1209
  let v1211 : BitVec 32 := Scalar.subi v1208 v1210
  let c2_i32_570 : BitVec 32 := 2#32
  let c0_i32_573 : BitVec 32 := 0#32
  let v1212 : BitVec 1 := Scalar.cmpi .sgt c2_i32_570 c0_i32_573
  let v1213 : BitVec 32 := Scalar.extui v1212
  let c0_i32_574 : BitVec 32 := 0#32
  let v1214 : BitVec 1 := Scalar.cmpi .slt c2_i32_570 c0_i32_574
  let v1215 : BitVec 32 := Scalar.extui v1214
  let v1216 : BitVec 32 := Scalar.subi v1213 v1215
  let v1217 : BitVec 1 := Scalar.cmpi .ne v1211 v1216
  let v1218 : BitVec 32 := Scalar.remsi v1205 c2_i32_570
  let c0_i32_575 : BitVec 32 := 0#32
  let v1219 : BitVec 1 := Scalar.cmpi .ne v1218 c0_i32_575
  let v1220 : BitVec 1 := Scalar.andi v1217 v1219
  let v1206 : BitVec 32 := Scalar.divsi v1205 c2_i32_570
  let c1_i32_576 : BitVec 32 := 1#32
  let v1221 : BitVec 32 := Scalar.subi v1206 c1_i32_576
  let v1222 : BitVec 32 := Scalar.select v1220 v1221 v1206
  let v1223 : BitVec 32 := Scalar.maxsi c0_i32_577 v1222
  let v1224 : BitVec 32 := Scalar.minsi v1181 v1223
  let v1225 : BitVec 32 := Scalar.subi v1224 v1204
  let c1_i32_578 : BitVec 32 := 1#32
  let v1227 : BitVec 32 := Scalar.divsi v1225 c1_i32_578
  let v1228 : BitVec 32 := Scalar.muli v1227 c1_i32_578
  let v1229 : BitVec 32 := Scalar.addi v1204 v1228
  let c1_i32_580 : BitVec 32 := 1#32
  let arg23 : BitVec 32 := Scf.iv v1229 c1_i32_580 k0_t34
  let v1305 : BitVec 32 := Scalar.addi v1304 arg23
  let c0_i32_616 : BitVec 32 := 0#32
  ![v1305.toNat, 0]

def k0_chk20 (v1161 : BitVec 32) (v1163 : BitVec 32) : Prop :=
  ((k0_t33_loop v1161 v1163).OK) ∧
  (∀ k0_t33 : Fin (k0_t33_loop v1161 v1163).trips, ∀ a, (k0_off92 v1161 v1163 k0_t33) a + S2x128.size a ≤ S384x128.size a) ∧
  (∀ k0_t33 : Fin (k0_t33_loop v1161 v1163).trips, ∀ a, (k0_off93 v1161 v1163 k0_t33) a + S1x2.size a ≤ S584x2.size a) ∧
  ((k0_t34_loop v1161 v1163).OK) ∧
  (∀ k0_t34 : Fin (k0_t34_loop v1161 v1163).trips, ∀ a, (k0_off95 v1161 v1163 k0_t34) a + S2x128.size a ≤ S384x128.size a) ∧
  (∀ k0_t34 : Fin (k0_t34_loop v1161 v1163).trips, ∀ a, (k0_off96 v1161 v1163 k0_t34) a + S1x2.size a ≤ S584x2.size a)
theorem k0_t33_ok : ∀ (v1161 : BitVec 32) (v1163 : BitVec 32) (k0_hw20 : k0_chk20 v1161 v1163), (k0_t33_loop v1161 v1163).OK := fun v1161 v1163 k0_hw20 => k0_hw20.1
theorem k0_off92_inb : ∀ (v1161 : BitVec 32) (v1163 : BitVec 32) (k0_hw20 : k0_chk20 v1161 v1163) (k0_t33 : Fin (k0_t33_loop v1161 v1163).trips), ∀ a, (k0_off92 v1161 v1163 k0_t33) a + S2x128.size a ≤ S384x128.size a := fun v1161 v1163 k0_hw20 k0_t33 => k0_hw20.2.1 k0_t33
theorem k0_off93_inb : ∀ (v1161 : BitVec 32) (v1163 : BitVec 32) (k0_hw20 : k0_chk20 v1161 v1163) (k0_t33 : Fin (k0_t33_loop v1161 v1163).trips), ∀ a, (k0_off93 v1161 v1163 k0_t33) a + S1x2.size a ≤ S584x2.size a := fun v1161 v1163 k0_hw20 k0_t33 => k0_hw20.2.2.1 k0_t33
theorem k0_t34_ok : ∀ (v1161 : BitVec 32) (v1163 : BitVec 32) (k0_hw20 : k0_chk20 v1161 v1163), (k0_t34_loop v1161 v1163).OK := fun v1161 v1163 k0_hw20 => k0_hw20.2.2.2.1
theorem k0_off95_inb : ∀ (v1161 : BitVec 32) (v1163 : BitVec 32) (k0_hw20 : k0_chk20 v1161 v1163) (k0_t34 : Fin (k0_t34_loop v1161 v1163).trips), ∀ a, (k0_off95 v1161 v1163 k0_t34) a + S2x128.size a ≤ S384x128.size a := fun v1161 v1163 k0_hw20 k0_t34 => k0_hw20.2.2.2.2.1 k0_t34
theorem k0_off96_inb : ∀ (v1161 : BitVec 32) (v1163 : BitVec 32) (k0_hw20 : k0_chk20 v1161 v1163) (k0_t34 : Fin (k0_t34_loop v1161 v1163).trips), ∀ a, (k0_off96 v1161 v1163 k0_t34) a + S1x2.size a ≤ S584x2.size a := fun v1161 v1163 k0_hw20 k0_t34 => k0_hw20.2.2.2.2.2 k0_t34

def k0_off97 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_558 : BitVec 32 := 16#32
  let v1182 : BitVec 32 := Scalar.muli arg21 c16_i32_558
  let c14_i32 : BitVec 32 := 14#32
  let v1183 : BitVec 32 := Scalar.addi v1182 c14_i32
  let c128_i32_559 : BitVec 32 := 128#32
  let v1184 : BitVec 32 := Scalar.muli v1183 c128_i32_559
  ![0, v1184.toNat]
@[reducible] def k0_t35_loop (v1233 : BitVec 32) (v1235 : BitVec 32) : Scf.Loop 32 :=
  let c1_i32_581 : BitVec 32 := 1#32
  let v1236 : BitVec 32 := Scalar.addi v1233 c1_i32_581
  let c0_i32_583 : BitVec 32 := 0#32
  let v1238 : BitVec 1 := Scalar.cmpi .sgt v1236 c0_i32_583
  let v1239 : BitVec 32 := Scalar.extui v1238
  let c0_i32_584 : BitVec 32 := 0#32
  let v1240 : BitVec 1 := Scalar.cmpi .slt v1236 c0_i32_584
  let v1241 : BitVec 32 := Scalar.extui v1240
  let v1242 : BitVec 32 := Scalar.subi v1239 v1241
  let c2_i32_582 : BitVec 32 := 2#32
  let c0_i32_585 : BitVec 32 := 0#32
  let v1243 : BitVec 1 := Scalar.cmpi .sgt c2_i32_582 c0_i32_585
  let v1244 : BitVec 32 := Scalar.extui v1243
  let c0_i32_586 : BitVec 32 := 0#32
  let v1245 : BitVec 1 := Scalar.cmpi .slt c2_i32_582 c0_i32_586
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_582
  let c0_i32_587 : BitVec 32 := 0#32
  let v1250 : BitVec 1 := Scalar.cmpi .ne v1249 c0_i32_587
  let v1251 : BitVec 1 := Scalar.andi v1248 v1250
  let v1237 : BitVec 32 := Scalar.divsi v1236 c2_i32_582
  let c1_i32_588 : BitVec 32 := 1#32
  let v1252 : BitVec 32 := Scalar.subi v1237 c1_i32_588
  let v1253 : BitVec 32 := Scalar.select v1251 v1252 v1237
  let c0_i32_599 : BitVec 32 := 0#32
  let c0_i32_591 : BitVec 32 := 0#32
  let v1257 : BitVec 32 := Scalar.subi c0_i32_591 v1235
  let c0_i32_593 : BitVec 32 := 0#32
  let v1259 : BitVec 1 := Scalar.cmpi .sgt v1257 c0_i32_593
  let v1260 : BitVec 32 := Scalar.extui v1259
  let c0_i32_594 : BitVec 32 := 0#32
  let v1261 : BitVec 1 := Scalar.cmpi .slt v1257 c0_i32_594
  let v1262 : BitVec 32 := Scalar.extui v1261
  let v1263 : BitVec 32 := Scalar.subi v1260 v1262
  let c2_i32_592 : BitVec 32 := 2#32
  let c0_i32_595 : BitVec 32 := 0#32
  let v1264 : BitVec 1 := Scalar.cmpi .sgt c2_i32_592 c0_i32_595
  let v1265 : BitVec 32 := Scalar.extui v1264
  let c0_i32_596 : BitVec 32 := 0#32
  let v1266 : BitVec 1 := Scalar.cmpi .slt c2_i32_592 c0_i32_596
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_592
  let c0_i32_597 : BitVec 32 := 0#32
  let v1271 : BitVec 1 := Scalar.cmpi .ne v1270 c0_i32_597
  let v1272 : BitVec 1 := Scalar.andi v1269 v1271
  let v1258 : BitVec 32 := Scalar.divsi v1257 c2_i32_592
  let c1_i32_598 : BitVec 32 := 1#32
  let v1273 : BitVec 32 := Scalar.subi v1258 c1_i32_598
  let v1274 : BitVec 32 := Scalar.select v1272 v1273 v1258
  let v1275 : BitVec 32 := Scalar.maxsi c0_i32_599 v1274
  let v1276 : BitVec 32 := Scalar.minsi v1253 v1275
  let c0_i32_608 : BitVec 32 := 0#32
  let c384_i32_600 : BitVec 32 := 384#32
  let v1277 : BitVec 32 := Scalar.subi c384_i32_600 v1235
  let c0_i32_602 : BitVec 32 := 0#32
  let v1279 : BitVec 1 := Scalar.cmpi .sgt v1277 c0_i32_602
  let v1280 : BitVec 32 := Scalar.extui v1279
  let c0_i32_603 : BitVec 32 := 0#32
  let v1281 : BitVec 1 := Scalar.cmpi .slt v1277 c0_i32_603
  let v1282 : BitVec 32 := Scalar.extui v1281
  let v1283 : BitVec 32 := Scalar.subi v1280 v1282
  let c2_i32_601 : BitVec 32 := 2#32
  let c0_i32_604 : BitVec 32 := 0#32
  let v1284 : BitVec 1 := Scalar.cmpi .sgt c2_i32_601 c0_i32_604
  let v1285 : BitVec 32 := Scalar.extui v1284
  let c0_i32_605 : BitVec 32 := 0#32
  let v1286 : BitVec 1 := Scalar.cmpi .slt c2_i32_601 c0_i32_605
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_601
  let c0_i32_606 : BitVec 32 := 0#32
  let v1291 : BitVec 1 := Scalar.cmpi .ne v1290 c0_i32_606
  let v1292 : BitVec 1 := Scalar.andi v1289 v1291
  let v1278 : BitVec 32 := Scalar.divsi v1277 c2_i32_601
  let c1_i32_607 : BitVec 32 := 1#32
  let v1293 : BitVec 32 := Scalar.subi v1278 c1_i32_607
  let v1294 : BitVec 32 := Scalar.select v1292 v1293 v1278
  let v1295 : BitVec 32 := Scalar.maxsi c0_i32_608 v1294
  let v1296 : BitVec 32 := Scalar.minsi v1253 v1295
  let v1297 : BitVec 32 := Scalar.subi v1296 v1276
  let c1_i32_609 : BitVec 32 := 1#32
  let v1299 : BitVec 32 := Scalar.divsi v1297 c1_i32_609
  let v1300 : BitVec 32 := Scalar.muli v1299 c1_i32_609
  let v1301 : BitVec 32 := Scalar.addi v1276 v1300
  let c1_i32_610 : BitVec 32 := 1#32
  ⟨v1276, v1301, c1_i32_610⟩

def k0_off98 (v1233 : BitVec 32) (v1235 : BitVec 32) (k0_t35 : Fin (k0_t35_loop v1233 v1235).trips) : Fin 2 → Nat :=
  let c1_i32_581 : BitVec 32 := 1#32
  let v1236 : BitVec 32 := Scalar.addi v1233 c1_i32_581
  let c0_i32_583 : BitVec 32 := 0#32
  let v1238 : BitVec 1 := Scalar.cmpi .sgt v1236 c0_i32_583
  let v1239 : BitVec 32 := Scalar.extui v1238
  let c0_i32_584 : BitVec 32 := 0#32
  let v1240 : BitVec 1 := Scalar.cmpi .slt v1236 c0_i32_584
  let v1241 : BitVec 32 := Scalar.extui v1240
  let v1242 : BitVec 32 := Scalar.subi v1239 v1241
  let c2_i32_582 : BitVec 32 := 2#32
  let c0_i32_585 : BitVec 32 := 0#32
  let v1243 : BitVec 1 := Scalar.cmpi .sgt c2_i32_582 c0_i32_585
  let v1244 : BitVec 32 := Scalar.extui v1243
  let c0_i32_586 : BitVec 32 := 0#32
  let v1245 : BitVec 1 := Scalar.cmpi .slt c2_i32_582 c0_i32_586
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_582
  let c0_i32_587 : BitVec 32 := 0#32
  let v1250 : BitVec 1 := Scalar.cmpi .ne v1249 c0_i32_587
  let v1251 : BitVec 1 := Scalar.andi v1248 v1250
  let v1237 : BitVec 32 := Scalar.divsi v1236 c2_i32_582
  let c1_i32_588 : BitVec 32 := 1#32
  let v1252 : BitVec 32 := Scalar.subi v1237 c1_i32_588
  let v1253 : BitVec 32 := Scalar.select v1251 v1252 v1237
  let c0_i32_599 : BitVec 32 := 0#32
  let c0_i32_591 : BitVec 32 := 0#32
  let v1257 : BitVec 32 := Scalar.subi c0_i32_591 v1235
  let c0_i32_593 : BitVec 32 := 0#32
  let v1259 : BitVec 1 := Scalar.cmpi .sgt v1257 c0_i32_593
  let v1260 : BitVec 32 := Scalar.extui v1259
  let c0_i32_594 : BitVec 32 := 0#32
  let v1261 : BitVec 1 := Scalar.cmpi .slt v1257 c0_i32_594
  let v1262 : BitVec 32 := Scalar.extui v1261
  let v1263 : BitVec 32 := Scalar.subi v1260 v1262
  let c2_i32_592 : BitVec 32 := 2#32
  let c0_i32_595 : BitVec 32 := 0#32
  let v1264 : BitVec 1 := Scalar.cmpi .sgt c2_i32_592 c0_i32_595
  let v1265 : BitVec 32 := Scalar.extui v1264
  let c0_i32_596 : BitVec 32 := 0#32
  let v1266 : BitVec 1 := Scalar.cmpi .slt c2_i32_592 c0_i32_596
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_592
  let c0_i32_597 : BitVec 32 := 0#32
  let v1271 : BitVec 1 := Scalar.cmpi .ne v1270 c0_i32_597
  let v1272 : BitVec 1 := Scalar.andi v1269 v1271
  let v1258 : BitVec 32 := Scalar.divsi v1257 c2_i32_592
  let c1_i32_598 : BitVec 32 := 1#32
  let v1273 : BitVec 32 := Scalar.subi v1258 c1_i32_598
  let v1274 : BitVec 32 := Scalar.select v1272 v1273 v1258
  let v1275 : BitVec 32 := Scalar.maxsi c0_i32_599 v1274
  let v1276 : BitVec 32 := Scalar.minsi v1253 v1275
  let c1_i32_610 : BitVec 32 := 1#32
  let arg23 : BitVec 32 := Scf.iv v1276 c1_i32_610 k0_t35
  let c2_i32_613 : BitVec 32 := 2#32
  let v1306 : BitVec 32 := Scalar.muli arg23 c2_i32_613
  let v1307 : BitVec 32 := Scalar.addi v1235 v1306
  let c0_i32_614 : BitVec 32 := 0#32
  let v1308 : BitVec 32 := Scalar.subi v1307 c0_i32_614
  let c0_i32_615 : BitVec 32 := 0#32
  ![v1308.toNat, 0]
def k0_off99 (v1233 : BitVec 32) (v1235 : BitVec 32) (k0_t35 : Fin (k0_t35_loop v1233 v1235).trips) : Fin 2 → Nat :=
  let c1_i32_612 : BitVec 32 := 1#32
  let v1304 : BitVec 32 := Scalar.shrsi v1235 c1_i32_612
  let c1_i32_581 : BitVec 32 := 1#32
  let v1236 : BitVec 32 := Scalar.addi v1233 c1_i32_581
  let c0_i32_583 : BitVec 32 := 0#32
  let v1238 : BitVec 1 := Scalar.cmpi .sgt v1236 c0_i32_583
  let v1239 : BitVec 32 := Scalar.extui v1238
  let c0_i32_584 : BitVec 32 := 0#32
  let v1240 : BitVec 1 := Scalar.cmpi .slt v1236 c0_i32_584
  let v1241 : BitVec 32 := Scalar.extui v1240
  let v1242 : BitVec 32 := Scalar.subi v1239 v1241
  let c2_i32_582 : BitVec 32 := 2#32
  let c0_i32_585 : BitVec 32 := 0#32
  let v1243 : BitVec 1 := Scalar.cmpi .sgt c2_i32_582 c0_i32_585
  let v1244 : BitVec 32 := Scalar.extui v1243
  let c0_i32_586 : BitVec 32 := 0#32
  let v1245 : BitVec 1 := Scalar.cmpi .slt c2_i32_582 c0_i32_586
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_582
  let c0_i32_587 : BitVec 32 := 0#32
  let v1250 : BitVec 1 := Scalar.cmpi .ne v1249 c0_i32_587
  let v1251 : BitVec 1 := Scalar.andi v1248 v1250
  let v1237 : BitVec 32 := Scalar.divsi v1236 c2_i32_582
  let c1_i32_588 : BitVec 32 := 1#32
  let v1252 : BitVec 32 := Scalar.subi v1237 c1_i32_588
  let v1253 : BitVec 32 := Scalar.select v1251 v1252 v1237
  let c0_i32_599 : BitVec 32 := 0#32
  let c0_i32_591 : BitVec 32 := 0#32
  let v1257 : BitVec 32 := Scalar.subi c0_i32_591 v1235
  let c0_i32_593 : BitVec 32 := 0#32
  let v1259 : BitVec 1 := Scalar.cmpi .sgt v1257 c0_i32_593
  let v1260 : BitVec 32 := Scalar.extui v1259
  let c0_i32_594 : BitVec 32 := 0#32
  let v1261 : BitVec 1 := Scalar.cmpi .slt v1257 c0_i32_594
  let v1262 : BitVec 32 := Scalar.extui v1261
  let v1263 : BitVec 32 := Scalar.subi v1260 v1262
  let c2_i32_592 : BitVec 32 := 2#32
  let c0_i32_595 : BitVec 32 := 0#32
  let v1264 : BitVec 1 := Scalar.cmpi .sgt c2_i32_592 c0_i32_595
  let v1265 : BitVec 32 := Scalar.extui v1264
  let c0_i32_596 : BitVec 32 := 0#32
  let v1266 : BitVec 1 := Scalar.cmpi .slt c2_i32_592 c0_i32_596
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_592
  let c0_i32_597 : BitVec 32 := 0#32
  let v1271 : BitVec 1 := Scalar.cmpi .ne v1270 c0_i32_597
  let v1272 : BitVec 1 := Scalar.andi v1269 v1271
  let v1258 : BitVec 32 := Scalar.divsi v1257 c2_i32_592
  let c1_i32_598 : BitVec 32 := 1#32
  let v1273 : BitVec 32 := Scalar.subi v1258 c1_i32_598
  let v1274 : BitVec 32 := Scalar.select v1272 v1273 v1258
  let v1275 : BitVec 32 := Scalar.maxsi c0_i32_599 v1274
  let v1276 : BitVec 32 := Scalar.minsi v1253 v1275
  let c1_i32_610 : BitVec 32 := 1#32
  let arg23 : BitVec 32 := Scf.iv v1276 c1_i32_610 k0_t35
  let v1305 : BitVec 32 := Scalar.addi v1304 arg23
  let c0_i32_616 : BitVec 32 := 0#32
  ![v1305.toNat, 0]
def k0_off100 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_589 : BitVec 32 := 16#32
  let v1254 : BitVec 32 := Scalar.muli arg21 c16_i32_589
  let c15_i32 : BitVec 32 := 15#32
  let v1255 : BitVec 32 := Scalar.addi v1254 c15_i32
  let c128_i32_590 : BitVec 32 := 128#32
  let v1256 : BitVec 32 := Scalar.muli v1255 c128_i32_590
  ![0, v1256.toNat]
@[reducible] def k0_t36_loop (v1233 : BitVec 32) (v1235 : BitVec 32) : Scf.Loop 32 :=
  let c1_i32_581 : BitVec 32 := 1#32
  let v1236 : BitVec 32 := Scalar.addi v1233 c1_i32_581
  let c0_i32_583 : BitVec 32 := 0#32
  let v1238 : BitVec 1 := Scalar.cmpi .sgt v1236 c0_i32_583
  let v1239 : BitVec 32 := Scalar.extui v1238
  let c0_i32_584 : BitVec 32 := 0#32
  let v1240 : BitVec 1 := Scalar.cmpi .slt v1236 c0_i32_584
  let v1241 : BitVec 32 := Scalar.extui v1240
  let v1242 : BitVec 32 := Scalar.subi v1239 v1241
  let c2_i32_582 : BitVec 32 := 2#32
  let c0_i32_585 : BitVec 32 := 0#32
  let v1243 : BitVec 1 := Scalar.cmpi .sgt c2_i32_582 c0_i32_585
  let v1244 : BitVec 32 := Scalar.extui v1243
  let c0_i32_586 : BitVec 32 := 0#32
  let v1245 : BitVec 1 := Scalar.cmpi .slt c2_i32_582 c0_i32_586
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_582
  let c0_i32_587 : BitVec 32 := 0#32
  let v1250 : BitVec 1 := Scalar.cmpi .ne v1249 c0_i32_587
  let v1251 : BitVec 1 := Scalar.andi v1248 v1250
  let v1237 : BitVec 32 := Scalar.divsi v1236 c2_i32_582
  let c1_i32_588 : BitVec 32 := 1#32
  let v1252 : BitVec 32 := Scalar.subi v1237 c1_i32_588
  let v1253 : BitVec 32 := Scalar.select v1251 v1252 v1237
  let c0_i32_599 : BitVec 32 := 0#32
  let c0_i32_591 : BitVec 32 := 0#32
  let v1257 : BitVec 32 := Scalar.subi c0_i32_591 v1235
  let c0_i32_593 : BitVec 32 := 0#32
  let v1259 : BitVec 1 := Scalar.cmpi .sgt v1257 c0_i32_593
  let v1260 : BitVec 32 := Scalar.extui v1259
  let c0_i32_594 : BitVec 32 := 0#32
  let v1261 : BitVec 1 := Scalar.cmpi .slt v1257 c0_i32_594
  let v1262 : BitVec 32 := Scalar.extui v1261
  let v1263 : BitVec 32 := Scalar.subi v1260 v1262
  let c2_i32_592 : BitVec 32 := 2#32
  let c0_i32_595 : BitVec 32 := 0#32
  let v1264 : BitVec 1 := Scalar.cmpi .sgt c2_i32_592 c0_i32_595
  let v1265 : BitVec 32 := Scalar.extui v1264
  let c0_i32_596 : BitVec 32 := 0#32
  let v1266 : BitVec 1 := Scalar.cmpi .slt c2_i32_592 c0_i32_596
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_592
  let c0_i32_597 : BitVec 32 := 0#32
  let v1271 : BitVec 1 := Scalar.cmpi .ne v1270 c0_i32_597
  let v1272 : BitVec 1 := Scalar.andi v1269 v1271
  let v1258 : BitVec 32 := Scalar.divsi v1257 c2_i32_592
  let c1_i32_598 : BitVec 32 := 1#32
  let v1273 : BitVec 32 := Scalar.subi v1258 c1_i32_598
  let v1274 : BitVec 32 := Scalar.select v1272 v1273 v1258
  let v1275 : BitVec 32 := Scalar.maxsi c0_i32_599 v1274
  let v1276 : BitVec 32 := Scalar.minsi v1253 v1275
  let c0_i32_608 : BitVec 32 := 0#32
  let c384_i32_600 : BitVec 32 := 384#32
  let v1277 : BitVec 32 := Scalar.subi c384_i32_600 v1235
  let c0_i32_602 : BitVec 32 := 0#32
  let v1279 : BitVec 1 := Scalar.cmpi .sgt v1277 c0_i32_602
  let v1280 : BitVec 32 := Scalar.extui v1279
  let c0_i32_603 : BitVec 32 := 0#32
  let v1281 : BitVec 1 := Scalar.cmpi .slt v1277 c0_i32_603
  let v1282 : BitVec 32 := Scalar.extui v1281
  let v1283 : BitVec 32 := Scalar.subi v1280 v1282
  let c2_i32_601 : BitVec 32 := 2#32
  let c0_i32_604 : BitVec 32 := 0#32
  let v1284 : BitVec 1 := Scalar.cmpi .sgt c2_i32_601 c0_i32_604
  let v1285 : BitVec 32 := Scalar.extui v1284
  let c0_i32_605 : BitVec 32 := 0#32
  let v1286 : BitVec 1 := Scalar.cmpi .slt c2_i32_601 c0_i32_605
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_601
  let c0_i32_606 : BitVec 32 := 0#32
  let v1291 : BitVec 1 := Scalar.cmpi .ne v1290 c0_i32_606
  let v1292 : BitVec 1 := Scalar.andi v1289 v1291
  let v1278 : BitVec 32 := Scalar.divsi v1277 c2_i32_601
  let c1_i32_607 : BitVec 32 := 1#32
  let v1293 : BitVec 32 := Scalar.subi v1278 c1_i32_607
  let v1294 : BitVec 32 := Scalar.select v1292 v1293 v1278
  let v1295 : BitVec 32 := Scalar.maxsi c0_i32_608 v1294
  let v1296 : BitVec 32 := Scalar.minsi v1253 v1295
  let v1297 : BitVec 32 := Scalar.subi v1296 v1276
  let c1_i32_609 : BitVec 32 := 1#32
  let v1299 : BitVec 32 := Scalar.divsi v1297 c1_i32_609
  let v1300 : BitVec 32 := Scalar.muli v1299 c1_i32_609
  let v1301 : BitVec 32 := Scalar.addi v1276 v1300
  let v1298 : BitVec 32 := Scalar.addi v1276 v1297
  let c1_i32_611 : BitVec 32 := 1#32
  ⟨v1301, v1298, c1_i32_611⟩
def k0_off101 (v1233 : BitVec 32) (v1235 : BitVec 32) (k0_t36 : Fin (k0_t36_loop v1233 v1235).trips) : Fin 2 → Nat :=
  let c1_i32_581 : BitVec 32 := 1#32
  let v1236 : BitVec 32 := Scalar.addi v1233 c1_i32_581
  let c0_i32_583 : BitVec 32 := 0#32
  let v1238 : BitVec 1 := Scalar.cmpi .sgt v1236 c0_i32_583
  let v1239 : BitVec 32 := Scalar.extui v1238
  let c0_i32_584 : BitVec 32 := 0#32
  let v1240 : BitVec 1 := Scalar.cmpi .slt v1236 c0_i32_584
  let v1241 : BitVec 32 := Scalar.extui v1240
  let v1242 : BitVec 32 := Scalar.subi v1239 v1241
  let c2_i32_582 : BitVec 32 := 2#32
  let c0_i32_585 : BitVec 32 := 0#32
  let v1243 : BitVec 1 := Scalar.cmpi .sgt c2_i32_582 c0_i32_585
  let v1244 : BitVec 32 := Scalar.extui v1243
  let c0_i32_586 : BitVec 32 := 0#32
  let v1245 : BitVec 1 := Scalar.cmpi .slt c2_i32_582 c0_i32_586
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_582
  let c0_i32_587 : BitVec 32 := 0#32
  let v1250 : BitVec 1 := Scalar.cmpi .ne v1249 c0_i32_587
  let v1251 : BitVec 1 := Scalar.andi v1248 v1250
  let v1237 : BitVec 32 := Scalar.divsi v1236 c2_i32_582
  let c1_i32_588 : BitVec 32 := 1#32
  let v1252 : BitVec 32 := Scalar.subi v1237 c1_i32_588
  let v1253 : BitVec 32 := Scalar.select v1251 v1252 v1237
  let c0_i32_599 : BitVec 32 := 0#32
  let c0_i32_591 : BitVec 32 := 0#32
  let v1257 : BitVec 32 := Scalar.subi c0_i32_591 v1235
  let c0_i32_593 : BitVec 32 := 0#32
  let v1259 : BitVec 1 := Scalar.cmpi .sgt v1257 c0_i32_593
  let v1260 : BitVec 32 := Scalar.extui v1259
  let c0_i32_594 : BitVec 32 := 0#32
  let v1261 : BitVec 1 := Scalar.cmpi .slt v1257 c0_i32_594
  let v1262 : BitVec 32 := Scalar.extui v1261
  let v1263 : BitVec 32 := Scalar.subi v1260 v1262
  let c2_i32_592 : BitVec 32 := 2#32
  let c0_i32_595 : BitVec 32 := 0#32
  let v1264 : BitVec 1 := Scalar.cmpi .sgt c2_i32_592 c0_i32_595
  let v1265 : BitVec 32 := Scalar.extui v1264
  let c0_i32_596 : BitVec 32 := 0#32
  let v1266 : BitVec 1 := Scalar.cmpi .slt c2_i32_592 c0_i32_596
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_592
  let c0_i32_597 : BitVec 32 := 0#32
  let v1271 : BitVec 1 := Scalar.cmpi .ne v1270 c0_i32_597
  let v1272 : BitVec 1 := Scalar.andi v1269 v1271
  let v1258 : BitVec 32 := Scalar.divsi v1257 c2_i32_592
  let c1_i32_598 : BitVec 32 := 1#32
  let v1273 : BitVec 32 := Scalar.subi v1258 c1_i32_598
  let v1274 : BitVec 32 := Scalar.select v1272 v1273 v1258
  let v1275 : BitVec 32 := Scalar.maxsi c0_i32_599 v1274
  let v1276 : BitVec 32 := Scalar.minsi v1253 v1275
  let c0_i32_608 : BitVec 32 := 0#32
  let c384_i32_600 : BitVec 32 := 384#32
  let v1277 : BitVec 32 := Scalar.subi c384_i32_600 v1235
  let c0_i32_602 : BitVec 32 := 0#32
  let v1279 : BitVec 1 := Scalar.cmpi .sgt v1277 c0_i32_602
  let v1280 : BitVec 32 := Scalar.extui v1279
  let c0_i32_603 : BitVec 32 := 0#32
  let v1281 : BitVec 1 := Scalar.cmpi .slt v1277 c0_i32_603
  let v1282 : BitVec 32 := Scalar.extui v1281
  let v1283 : BitVec 32 := Scalar.subi v1280 v1282
  let c2_i32_601 : BitVec 32 := 2#32
  let c0_i32_604 : BitVec 32 := 0#32
  let v1284 : BitVec 1 := Scalar.cmpi .sgt c2_i32_601 c0_i32_604
  let v1285 : BitVec 32 := Scalar.extui v1284
  let c0_i32_605 : BitVec 32 := 0#32
  let v1286 : BitVec 1 := Scalar.cmpi .slt c2_i32_601 c0_i32_605
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_601
  let c0_i32_606 : BitVec 32 := 0#32
  let v1291 : BitVec 1 := Scalar.cmpi .ne v1290 c0_i32_606
  let v1292 : BitVec 1 := Scalar.andi v1289 v1291
  let v1278 : BitVec 32 := Scalar.divsi v1277 c2_i32_601
  let c1_i32_607 : BitVec 32 := 1#32
  let v1293 : BitVec 32 := Scalar.subi v1278 c1_i32_607
  let v1294 : BitVec 32 := Scalar.select v1292 v1293 v1278
  let v1295 : BitVec 32 := Scalar.maxsi c0_i32_608 v1294
  let v1296 : BitVec 32 := Scalar.minsi v1253 v1295
  let v1297 : BitVec 32 := Scalar.subi v1296 v1276
  let c1_i32_609 : BitVec 32 := 1#32
  let v1299 : BitVec 32 := Scalar.divsi v1297 c1_i32_609
  let v1300 : BitVec 32 := Scalar.muli v1299 c1_i32_609
  let v1301 : BitVec 32 := Scalar.addi v1276 v1300
  let c1_i32_611 : BitVec 32 := 1#32
  let arg23 : BitVec 32 := Scf.iv v1301 c1_i32_611 k0_t36
  let c2_i32_613 : BitVec 32 := 2#32
  let v1306 : BitVec 32 := Scalar.muli arg23 c2_i32_613
  let v1307 : BitVec 32 := Scalar.addi v1235 v1306
  let c0_i32_614 : BitVec 32 := 0#32
  let v1308 : BitVec 32 := Scalar.subi v1307 c0_i32_614
  let c0_i32_615 : BitVec 32 := 0#32
  ![v1308.toNat, 0]
def k0_off102 (v1233 : BitVec 32) (v1235 : BitVec 32) (k0_t36 : Fin (k0_t36_loop v1233 v1235).trips) : Fin 2 → Nat :=
  let c1_i32_612 : BitVec 32 := 1#32
  let v1304 : BitVec 32 := Scalar.shrsi v1235 c1_i32_612
  let c1_i32_581 : BitVec 32 := 1#32
  let v1236 : BitVec 32 := Scalar.addi v1233 c1_i32_581
  let c0_i32_583 : BitVec 32 := 0#32
  let v1238 : BitVec 1 := Scalar.cmpi .sgt v1236 c0_i32_583
  let v1239 : BitVec 32 := Scalar.extui v1238
  let c0_i32_584 : BitVec 32 := 0#32
  let v1240 : BitVec 1 := Scalar.cmpi .slt v1236 c0_i32_584
  let v1241 : BitVec 32 := Scalar.extui v1240
  let v1242 : BitVec 32 := Scalar.subi v1239 v1241
  let c2_i32_582 : BitVec 32 := 2#32
  let c0_i32_585 : BitVec 32 := 0#32
  let v1243 : BitVec 1 := Scalar.cmpi .sgt c2_i32_582 c0_i32_585
  let v1244 : BitVec 32 := Scalar.extui v1243
  let c0_i32_586 : BitVec 32 := 0#32
  let v1245 : BitVec 1 := Scalar.cmpi .slt c2_i32_582 c0_i32_586
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_582
  let c0_i32_587 : BitVec 32 := 0#32
  let v1250 : BitVec 1 := Scalar.cmpi .ne v1249 c0_i32_587
  let v1251 : BitVec 1 := Scalar.andi v1248 v1250
  let v1237 : BitVec 32 := Scalar.divsi v1236 c2_i32_582
  let c1_i32_588 : BitVec 32 := 1#32
  let v1252 : BitVec 32 := Scalar.subi v1237 c1_i32_588
  let v1253 : BitVec 32 := Scalar.select v1251 v1252 v1237
  let c0_i32_599 : BitVec 32 := 0#32
  let c0_i32_591 : BitVec 32 := 0#32
  let v1257 : BitVec 32 := Scalar.subi c0_i32_591 v1235
  let c0_i32_593 : BitVec 32 := 0#32
  let v1259 : BitVec 1 := Scalar.cmpi .sgt v1257 c0_i32_593
  let v1260 : BitVec 32 := Scalar.extui v1259
  let c0_i32_594 : BitVec 32 := 0#32
  let v1261 : BitVec 1 := Scalar.cmpi .slt v1257 c0_i32_594
  let v1262 : BitVec 32 := Scalar.extui v1261
  let v1263 : BitVec 32 := Scalar.subi v1260 v1262
  let c2_i32_592 : BitVec 32 := 2#32
  let c0_i32_595 : BitVec 32 := 0#32
  let v1264 : BitVec 1 := Scalar.cmpi .sgt c2_i32_592 c0_i32_595
  let v1265 : BitVec 32 := Scalar.extui v1264
  let c0_i32_596 : BitVec 32 := 0#32
  let v1266 : BitVec 1 := Scalar.cmpi .slt c2_i32_592 c0_i32_596
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_592
  let c0_i32_597 : BitVec 32 := 0#32
  let v1271 : BitVec 1 := Scalar.cmpi .ne v1270 c0_i32_597
  let v1272 : BitVec 1 := Scalar.andi v1269 v1271
  let v1258 : BitVec 32 := Scalar.divsi v1257 c2_i32_592
  let c1_i32_598 : BitVec 32 := 1#32
  let v1273 : BitVec 32 := Scalar.subi v1258 c1_i32_598
  let v1274 : BitVec 32 := Scalar.select v1272 v1273 v1258
  let v1275 : BitVec 32 := Scalar.maxsi c0_i32_599 v1274
  let v1276 : BitVec 32 := Scalar.minsi v1253 v1275
  let c0_i32_608 : BitVec 32 := 0#32
  let c384_i32_600 : BitVec 32 := 384#32
  let v1277 : BitVec 32 := Scalar.subi c384_i32_600 v1235
  let c0_i32_602 : BitVec 32 := 0#32
  let v1279 : BitVec 1 := Scalar.cmpi .sgt v1277 c0_i32_602
  let v1280 : BitVec 32 := Scalar.extui v1279
  let c0_i32_603 : BitVec 32 := 0#32
  let v1281 : BitVec 1 := Scalar.cmpi .slt v1277 c0_i32_603
  let v1282 : BitVec 32 := Scalar.extui v1281
  let v1283 : BitVec 32 := Scalar.subi v1280 v1282
  let c2_i32_601 : BitVec 32 := 2#32
  let c0_i32_604 : BitVec 32 := 0#32
  let v1284 : BitVec 1 := Scalar.cmpi .sgt c2_i32_601 c0_i32_604
  let v1285 : BitVec 32 := Scalar.extui v1284
  let c0_i32_605 : BitVec 32 := 0#32
  let v1286 : BitVec 1 := Scalar.cmpi .slt c2_i32_601 c0_i32_605
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_601
  let c0_i32_606 : BitVec 32 := 0#32
  let v1291 : BitVec 1 := Scalar.cmpi .ne v1290 c0_i32_606
  let v1292 : BitVec 1 := Scalar.andi v1289 v1291
  let v1278 : BitVec 32 := Scalar.divsi v1277 c2_i32_601
  let c1_i32_607 : BitVec 32 := 1#32
  let v1293 : BitVec 32 := Scalar.subi v1278 c1_i32_607
  let v1294 : BitVec 32 := Scalar.select v1292 v1293 v1278
  let v1295 : BitVec 32 := Scalar.maxsi c0_i32_608 v1294
  let v1296 : BitVec 32 := Scalar.minsi v1253 v1295
  let v1297 : BitVec 32 := Scalar.subi v1296 v1276
  let c1_i32_609 : BitVec 32 := 1#32
  let v1299 : BitVec 32 := Scalar.divsi v1297 c1_i32_609
  let v1300 : BitVec 32 := Scalar.muli v1299 c1_i32_609
  let v1301 : BitVec 32 := Scalar.addi v1276 v1300
  let c1_i32_611 : BitVec 32 := 1#32
  let arg23 : BitVec 32 := Scf.iv v1301 c1_i32_611 k0_t36
  let v1305 : BitVec 32 := Scalar.addi v1304 arg23
  let c0_i32_616 : BitVec 32 := 0#32
  ![v1305.toNat, 0]

def k0_chk21 (v1233 : BitVec 32) (v1235 : BitVec 32) : Prop :=
  ((k0_t35_loop v1233 v1235).OK) ∧
  (∀ k0_t35 : Fin (k0_t35_loop v1233 v1235).trips, ∀ a, (k0_off98 v1233 v1235 k0_t35) a + S2x128.size a ≤ S384x128.size a) ∧
  (∀ k0_t35 : Fin (k0_t35_loop v1233 v1235).trips, ∀ a, (k0_off99 v1233 v1235 k0_t35) a + S1x2.size a ≤ S584x2.size a) ∧
  ((k0_t36_loop v1233 v1235).OK) ∧
  (∀ k0_t36 : Fin (k0_t36_loop v1233 v1235).trips, ∀ a, (k0_off101 v1233 v1235 k0_t36) a + S2x128.size a ≤ S384x128.size a) ∧
  (∀ k0_t36 : Fin (k0_t36_loop v1233 v1235).trips, ∀ a, (k0_off102 v1233 v1235 k0_t36) a + S1x2.size a ≤ S584x2.size a)
theorem k0_t35_ok : ∀ (v1233 : BitVec 32) (v1235 : BitVec 32) (k0_hw21 : k0_chk21 v1233 v1235), (k0_t35_loop v1233 v1235).OK := fun v1233 v1235 k0_hw21 => k0_hw21.1
theorem k0_off98_inb : ∀ (v1233 : BitVec 32) (v1235 : BitVec 32) (k0_hw21 : k0_chk21 v1233 v1235) (k0_t35 : Fin (k0_t35_loop v1233 v1235).trips), ∀ a, (k0_off98 v1233 v1235 k0_t35) a + S2x128.size a ≤ S384x128.size a := fun v1233 v1235 k0_hw21 k0_t35 => k0_hw21.2.1 k0_t35
theorem k0_off99_inb : ∀ (v1233 : BitVec 32) (v1235 : BitVec 32) (k0_hw21 : k0_chk21 v1233 v1235) (k0_t35 : Fin (k0_t35_loop v1233 v1235).trips), ∀ a, (k0_off99 v1233 v1235 k0_t35) a + S1x2.size a ≤ S584x2.size a := fun v1233 v1235 k0_hw21 k0_t35 => k0_hw21.2.2.1 k0_t35
theorem k0_t36_ok : ∀ (v1233 : BitVec 32) (v1235 : BitVec 32) (k0_hw21 : k0_chk21 v1233 v1235), (k0_t36_loop v1233 v1235).OK := fun v1233 v1235 k0_hw21 => k0_hw21.2.2.2.1
theorem k0_off101_inb : ∀ (v1233 : BitVec 32) (v1235 : BitVec 32) (k0_hw21 : k0_chk21 v1233 v1235) (k0_t36 : Fin (k0_t36_loop v1233 v1235).trips), ∀ a, (k0_off101 v1233 v1235 k0_t36) a + S2x128.size a ≤ S384x128.size a := fun v1233 v1235 k0_hw21 k0_t36 => k0_hw21.2.2.2.2.1 k0_t36
theorem k0_off102_inb : ∀ (v1233 : BitVec 32) (v1235 : BitVec 32) (k0_hw21 : k0_chk21 v1233 v1235) (k0_t36 : Fin (k0_t36_loop v1233 v1235).trips), ∀ a, (k0_off102 v1233 v1235 k0_t36) a + S1x2.size a ≤ S584x2.size a := fun v1233 v1235 k0_hw21 k0_t36 => k0_hw21.2.2.2.2.2 k0_t36

def k0_off103 (k0_t4 : Fin k0_t4_loop.trips) : Fin 2 → Nat :=
  let c0_i32_617 : BitVec 32 := 0#32
  let c0_i32_48 : BitVec 32 := 0#32
  let c1_i32_49 : BitVec 32 := 1#32
  let arg21 : BitVec 32 := Scf.iv c0_i32_48 c1_i32_49 k0_t4
  let c16_i32_589 : BitVec 32 := 16#32
  let v1254 : BitVec 32 := Scalar.muli arg21 c16_i32_589
  let c15_i32 : BitVec 32 := 15#32
  let v1255 : BitVec 32 := Scalar.addi v1254 c15_i32
  let c128_i32_590 : BitVec 32 := 128#32
  let v1256 : BitVec 32 := Scalar.muli v1255 c128_i32_590
  ![0, v1256.toNat]
@[reducible] def k0_t37_loop (v99 : BitVec 32) : Scf.Loop 32 :=
  let c0_i32_52 : BitVec 32 := 0#32
  let c3_i32 : BitVec 32 := 3#32
  let v100 : BitVec 32 := Scalar.shrsi v99 c3_i32
  let v101 : BitVec 32 := Scalar.subi v100 c0_i32_52
  let c1_i32_53 : BitVec 32 := 1#32
  let v103 : BitVec 32 := Scalar.divsi v101 c1_i32_53
  let v104 : BitVec 32 := Scalar.muli v103 c1_i32_53
  let v105 : BitVec 32 := Scalar.addi c0_i32_52 v104
  let c1_i32_54 : BitVec 32 := 1#32
  ⟨c0_i32_52, v105, c1_i32_54⟩

@[reducible] def k0_t38_loop (v99 : BitVec 32) : Scf.Loop 32 :=
  let c0_i32_52 : BitVec 32 := 0#32
  let c3_i32 : BitVec 32 := 3#32
  let v100 : BitVec 32 := Scalar.shrsi v99 c3_i32
  let v101 : BitVec 32 := Scalar.subi v100 c0_i32_52
  let c1_i32_53 : BitVec 32 := 1#32
  let v103 : BitVec 32 := Scalar.divsi v101 c1_i32_53
  let v104 : BitVec 32 := Scalar.muli v103 c1_i32_53
  let v105 : BitVec 32 := Scalar.addi c0_i32_52 v104
  let v102 : BitVec 32 := Scalar.addi c0_i32_52 v101
  let c1_i32_55 : BitVec 32 := 1#32
  ⟨v105, v102, c1_i32_55⟩
@[reducible] def k0_t39_loop (v99 : BitVec 32) : Scf.Loop 32 :=
  let c0_i32_57 : BitVec 32 := 0#32
  let c7_i32 : BitVec 32 := 7#32
  let v106 : BitVec 32 := Scalar.andi v99 c7_i32
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let c1_i32_59 : BitVec 32 := 1#32
  ⟨c0_i32_57, v111, c1_i32_59⟩
@[reducible] def k0_t40_loop (v99 : BitVec 32) : Scf.Loop 32 :=
  let c0_i32_57 : BitVec 32 := 0#32
  let c7_i32 : BitVec 32 := 7#32
  let v106 : BitVec 32 := Scalar.andi v99 c7_i32
  let v107 : BitVec 32 := Scalar.subi v106 c0_i32_57
  let c1_i32_58 : BitVec 32 := 1#32
  let v109 : BitVec 32 := Scalar.divsi v107 c1_i32_58
  let v110 : BitVec 32 := Scalar.muli v109 c1_i32_58
  let v111 : BitVec 32 := Scalar.addi c0_i32_57 v110
  let v108 : BitVec 32 := Scalar.addi c0_i32_57 v107
  let c1_i32_60 : BitVec 32 := 1#32
  ⟨v111, v108, c1_i32_60⟩

def k0_chk22 (v99 : BitVec 32) : Prop :=
  ((k0_t37_loop v99).OK) ∧
  ((k0_t38_loop v99).OK) ∧
  ((k0_t39_loop v99).OK) ∧
  ((k0_t40_loop v99).OK)
theorem k0_t37_ok : ∀ (v99 : BitVec 32) (k0_hw22 : k0_chk22 v99), (k0_t37_loop v99).OK := fun v99 k0_hw22 => k0_hw22.1
theorem k0_t38_ok : ∀ (v99 : BitVec 32) (k0_hw22 : k0_chk22 v99), (k0_t38_loop v99).OK := fun v99 k0_hw22 => k0_hw22.2.1
theorem k0_t39_ok : ∀ (v99 : BitVec 32) (k0_hw22 : k0_chk22 v99), (k0_t39_loop v99).OK := fun v99 k0_hw22 => k0_hw22.2.2.1
theorem k0_t40_ok : ∀ (v99 : BitVec 32) (k0_hw22 : k0_chk22 v99), (k0_t40_loop v99).OK := fun v99 k0_hw22 => k0_hw22.2.2.2

@[reducible] def k0_t41_loop : Scf.Loop 32 :=
  let c0_i32_62 : BitVec 32 := 0#32
  let c24_i32 : BitVec 32 := 24#32
  let v112 : BitVec 32 := Scalar.addi c0_i32_62 c24_i32
  let c1_i32_63 : BitVec 32 := 1#32
  ⟨c0_i32_62, v112, c1_i32_63⟩
def k0_off104 (k0_t41 : Fin k0_t41_loop.trips) : Fin 1 → Nat :=
  let c0_i32_111 : BitVec 32 := 0#32
  let c0_i32_62 : BitVec 32 := 0#32
  let c1_i32_63 : BitVec 32 := 1#32
  let arg21 : BitVec 32 := Scf.iv c0_i32_62 c1_i32_63 k0_t41
  let c16_i32 : BitVec 32 := 16#32
  let v146 : BitVec 32 := Scalar.muli arg21 c16_i32
  let v147 : BitVec 32 := Scalar.addi c0_i32_111 v146
  let v148 : Index := Scalar.indexCast v147
  ![v148.toNat]

def k0_chk23 (v159 : IVec S16 32) (v162 : IVec S16 32) : Prop :=
  (∀ a x, ((![v162, v159] : Fin 2 → IVec S16 32) a x).toNat < S384x128.size a)
theorem k0_idx8_inb : ∀ (v159 : IVec S16 32) (v162 : IVec S16 32) (k0_hw23 : k0_chk23 v159 v162), ∀ a x, ((![v162, v159] : Fin 2 → IVec S16 32) a x).toNat < S384x128.size a := fun v159 v162 k0_hw23 => k0_hw23

def k0_chk24 (v157 : IVec S16 32) : Prop :=
  (∀ a x, ((![v157] : Fin 1 → IVec S16 32) a x).toNat < S1024.size a)
theorem k0_idx9_inb : ∀ (v157 : IVec S16 32) (k0_hw24 : k0_chk24 v157), ∀ a x, ((![v157] : Fin 1 → IVec S16 32) a x).toNat < S1024.size a := fun v157 k0_hw24 => k0_hw24
@[reducible] def k0_t42_loop : Scf.Loop 32 :=
  let c0_i32_66 : BitVec 32 := 0#32
  let c4_i32_67 : BitVec 32 := 4#32
  let v113 : BitVec 32 := Scalar.addi c0_i32_66 c4_i32_67
  let c1_i32_68 : BitVec 32 := 1#32
  ⟨c0_i32_66, v113, c1_i32_68⟩
def k0_off105 (k0_t42 : Fin k0_t42_loop.trips) : Fin 1 → Nat :=
  let c0_i32_66 : BitVec 32 := 0#32
  let c1_i32_68 : BitVec 32 := 1#32
  let arg21 : BitVec 32 := Scf.iv c0_i32_66 c1_i32_68 k0_t42
  let c16_i32 : BitVec 32 := 16#32
  let v146 : BitVec 32 := Scalar.muli arg21 c16_i32
  let v147 : Index := Scalar.indexCast v146
  ![v147.toNat]
@[reducible] def k0_t43_loop (v153 : BitVec 32) (v155 : BitVec 32) : Scf.Loop 32 :=
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_129 : BitVec 32 := 0#32
  let c384_i32 : BitVec 32 := 384#32
  let v177 : BitVec 32 := Scalar.subi c384_i32 v155
  let c0_i32_123 : BitVec 32 := 0#32
  let v179 : BitVec 1 := Scalar.cmpi .sgt v177 c0_i32_123
  let v180 : BitVec 32 := Scalar.extui v179
  let c0_i32_124 : BitVec 32 := 0#32
  let v181 : BitVec 1 := Scalar.cmpi .slt v177 c0_i32_124
  let v182 : BitVec 32 := Scalar.extui v181
  let v183 : BitVec 32 := Scalar.subi v180 v182
  let c2_i32_122 : BitVec 32 := 2#32
  let c0_i32_125 : BitVec 32 := 0#32
  let v184 : BitVec 1 := Scalar.cmpi .sgt c2_i32_122 c0_i32_125
  let v185 : BitVec 32 := Scalar.extui v184
  let c0_i32_126 : BitVec 32 := 0#32
  let v186 : BitVec 1 := Scalar.cmpi .slt c2_i32_122 c0_i32_126
  let v187 : BitVec 32 := Scalar.extui v186
  let v188 : BitVec 32 := Scalar.subi v185 v187
  let v189 : BitVec 1 := Scalar.cmpi .ne v183 v188
  let v190 : BitVec 32 := Scalar.remsi v177 c2_i32_122
  let c0_i32_127 : BitVec 32 := 0#32
  let v191 : BitVec 1 := Scalar.cmpi .ne v190 c0_i32_127
  let v192 : BitVec 1 := Scalar.andi v189 v191
  let v178 : BitVec 32 := Scalar.divsi v177 c2_i32_122
  let c1_i32_128 : BitVec 32 := 1#32
  let v193 : BitVec 32 := Scalar.subi v178 c1_i32_128
  let v194 : BitVec 32 := Scalar.select v192 v193 v178
  let v195 : BitVec 32 := Scalar.maxsi c0_i32_129 v194
  let v196 : BitVec 32 := Scalar.minsi v173 v195
  let c0_i32_137 : BitVec 32 := 0#32
  let c768_i32 : BitVec 32 := 768#32
  let v197 : BitVec 32 := Scalar.subi c768_i32 v155
  let c0_i32_131 : BitVec 32 := 0#32
  let v199 : BitVec 1 := Scalar.cmpi .sgt v197 c0_i32_131
  let v200 : BitVec 32 := Scalar.extui v199
  let c0_i32_132 : BitVec 32 := 0#32
  let v201 : BitVec 1 := Scalar.cmpi .slt v197 c0_i32_132
  let v202 : BitVec 32 := Scalar.extui v201
  let v203 : BitVec 32 := Scalar.subi v200 v202
  let c2_i32_130 : BitVec 32 := 2#32
  let c0_i32_133 : BitVec 32 := 0#32
  let v204 : BitVec 1 := Scalar.cmpi .sgt c2_i32_130 c0_i32_133
  let v205 : BitVec 32 := Scalar.extui v204
  let c0_i32_134 : BitVec 32 := 0#32
  let v206 : BitVec 1 := Scalar.cmpi .slt c2_i32_130 c0_i32_134
  let v207 : BitVec 32 := Scalar.extui v206
  let v208 : BitVec 32 := Scalar.subi v205 v207
  let v209 : BitVec 1 := Scalar.cmpi .ne v203 v208
  let v210 : BitVec 32 := Scalar.remsi v197 c2_i32_130
  let c0_i32_135 : BitVec 32 := 0#32
  let v211 : BitVec 1 := Scalar.cmpi .ne v210 c0_i32_135
  let v212 : BitVec 1 := Scalar.andi v209 v211
  let v198 : BitVec 32 := Scalar.divsi v197 c2_i32_130
  let c1_i32_136 : BitVec 32 := 1#32
  let v213 : BitVec 32 := Scalar.subi v198 c1_i32_136
  let v214 : BitVec 32 := Scalar.select v212 v213 v198
  let v215 : BitVec 32 := Scalar.maxsi c0_i32_137 v214
  let v216 : BitVec 32 := Scalar.minsi v173 v215
  let v217 : BitVec 32 := Scalar.subi v216 v196
  let c1_i32_138 : BitVec 32 := 1#32
  let v219 : BitVec 32 := Scalar.divsi v217 c1_i32_138
  let v220 : BitVec 32 := Scalar.muli v219 c1_i32_138
  let v221 : BitVec 32 := Scalar.addi v196 v220
  let c1_i32_139 : BitVec 32 := 1#32
  ⟨v196, v221, c1_i32_139⟩

def k0_off106 (v153 : BitVec 32) (v155 : BitVec 32) (k0_t43 : Fin (k0_t43_loop v153 v155).trips) : Fin 2 → Nat :=
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_129 : BitVec 32 := 0#32
  let c384_i32 : BitVec 32 := 384#32
  let v177 : BitVec 32 := Scalar.subi c384_i32 v155
  let c0_i32_123 : BitVec 32 := 0#32
  let v179 : BitVec 1 := Scalar.cmpi .sgt v177 c0_i32_123
  let v180 : BitVec 32 := Scalar.extui v179
  let c0_i32_124 : BitVec 32 := 0#32
  let v181 : BitVec 1 := Scalar.cmpi .slt v177 c0_i32_124
  let v182 : BitVec 32 := Scalar.extui v181
  let v183 : BitVec 32 := Scalar.subi v180 v182
  let c2_i32_122 : BitVec 32 := 2#32
  let c0_i32_125 : BitVec 32 := 0#32
  let v184 : BitVec 1 := Scalar.cmpi .sgt c2_i32_122 c0_i32_125
  let v185 : BitVec 32 := Scalar.extui v184
  let c0_i32_126 : BitVec 32 := 0#32
  let v186 : BitVec 1 := Scalar.cmpi .slt c2_i32_122 c0_i32_126
  let v187 : BitVec 32 := Scalar.extui v186
  let v188 : BitVec 32 := Scalar.subi v185 v187
  let v189 : BitVec 1 := Scalar.cmpi .ne v183 v188
  let v190 : BitVec 32 := Scalar.remsi v177 c2_i32_122
  let c0_i32_127 : BitVec 32 := 0#32
  let v191 : BitVec 1 := Scalar.cmpi .ne v190 c0_i32_127
  let v192 : BitVec 1 := Scalar.andi v189 v191
  let v178 : BitVec 32 := Scalar.divsi v177 c2_i32_122
  let c1_i32_128 : BitVec 32 := 1#32
  let v193 : BitVec 32 := Scalar.subi v178 c1_i32_128
  let v194 : BitVec 32 := Scalar.select v192 v193 v178
  let v195 : BitVec 32 := Scalar.maxsi c0_i32_129 v194
  let v196 : BitVec 32 := Scalar.minsi v173 v195
  let c1_i32_139 : BitVec 32 := 1#32
  let arg23 : BitVec 32 := Scf.iv v196 c1_i32_139 k0_t43
  let c2_i32_612 : BitVec 32 := 2#32
  let v1306 : BitVec 32 := Scalar.muli arg23 c2_i32_612
  let v1307 : BitVec 32 := Scalar.addi v155 v1306
  let c384_i32_613 : BitVec 32 := 384#32
  let v1308 : BitVec 32 := Scalar.subi v1307 c384_i32_613
  let c0_i32_614 : BitVec 32 := 0#32
  ![v1308.toNat, 0]
def k0_off107 (v153 : BitVec 32) (v155 : BitVec 32) (k0_t43 : Fin (k0_t43_loop v153 v155).trips) : Fin 2 → Nat :=
  let c1_i32_611 : BitVec 32 := 1#32
  let v1304 : BitVec 32 := Scalar.shrsi v155 c1_i32_611
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_129 : BitVec 32 := 0#32
  let c384_i32 : BitVec 32 := 384#32
  let v177 : BitVec 32 := Scalar.subi c384_i32 v155
  let c0_i32_123 : BitVec 32 := 0#32
  let v179 : BitVec 1 := Scalar.cmpi .sgt v177 c0_i32_123
  let v180 : BitVec 32 := Scalar.extui v179
  let c0_i32_124 : BitVec 32 := 0#32
  let v181 : BitVec 1 := Scalar.cmpi .slt v177 c0_i32_124
  let v182 : BitVec 32 := Scalar.extui v181
  let v183 : BitVec 32 := Scalar.subi v180 v182
  let c2_i32_122 : BitVec 32 := 2#32
  let c0_i32_125 : BitVec 32 := 0#32
  let v184 : BitVec 1 := Scalar.cmpi .sgt c2_i32_122 c0_i32_125
  let v185 : BitVec 32 := Scalar.extui v184
  let c0_i32_126 : BitVec 32 := 0#32
  let v186 : BitVec 1 := Scalar.cmpi .slt c2_i32_122 c0_i32_126
  let v187 : BitVec 32 := Scalar.extui v186
  let v188 : BitVec 32 := Scalar.subi v185 v187
  let v189 : BitVec 1 := Scalar.cmpi .ne v183 v188
  let v190 : BitVec 32 := Scalar.remsi v177 c2_i32_122
  let c0_i32_127 : BitVec 32 := 0#32
  let v191 : BitVec 1 := Scalar.cmpi .ne v190 c0_i32_127
  let v192 : BitVec 1 := Scalar.andi v189 v191
  let v178 : BitVec 32 := Scalar.divsi v177 c2_i32_122
  let c1_i32_128 : BitVec 32 := 1#32
  let v193 : BitVec 32 := Scalar.subi v178 c1_i32_128
  let v194 : BitVec 32 := Scalar.select v192 v193 v178
  let v195 : BitVec 32 := Scalar.maxsi c0_i32_129 v194
  let v196 : BitVec 32 := Scalar.minsi v173 v195
  let c1_i32_139 : BitVec 32 := 1#32
  let arg23 : BitVec 32 := Scf.iv v196 c1_i32_139 k0_t43
  let v1305 : BitVec 32 := Scalar.addi v1304 arg23
  let c0_i32_615 : BitVec 32 := 0#32
  ![v1305.toNat, 0]
def k0_off108 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_120 : BitVec 32 := 16#32
  let v174 : BitVec 32 := Scalar.muli arg21 c16_i32_120
  let c0_i32_121 : BitVec 32 := 0#32
  let v175 : BitVec 32 := Scalar.addi v174 c0_i32_121
  let c128_i32 : BitVec 32 := 128#32
  let v176 : BitVec 32 := Scalar.muli v175 c128_i32
  ![0, v176.toNat]
@[reducible] def k0_t44_loop (v153 : BitVec 32) (v155 : BitVec 32) : Scf.Loop 32 :=
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_129 : BitVec 32 := 0#32
  let c384_i32 : BitVec 32 := 384#32
  let v177 : BitVec 32 := Scalar.subi c384_i32 v155
  let c0_i32_123 : BitVec 32 := 0#32
  let v179 : BitVec 1 := Scalar.cmpi .sgt v177 c0_i32_123
  let v180 : BitVec 32 := Scalar.extui v179
  let c0_i32_124 : BitVec 32 := 0#32
  let v181 : BitVec 1 := Scalar.cmpi .slt v177 c0_i32_124
  let v182 : BitVec 32 := Scalar.extui v181
  let v183 : BitVec 32 := Scalar.subi v180 v182
  let c2_i32_122 : BitVec 32 := 2#32
  let c0_i32_125 : BitVec 32 := 0#32
  let v184 : BitVec 1 := Scalar.cmpi .sgt c2_i32_122 c0_i32_125
  let v185 : BitVec 32 := Scalar.extui v184
  let c0_i32_126 : BitVec 32 := 0#32
  let v186 : BitVec 1 := Scalar.cmpi .slt c2_i32_122 c0_i32_126
  let v187 : BitVec 32 := Scalar.extui v186
  let v188 : BitVec 32 := Scalar.subi v185 v187
  let v189 : BitVec 1 := Scalar.cmpi .ne v183 v188
  let v190 : BitVec 32 := Scalar.remsi v177 c2_i32_122
  let c0_i32_127 : BitVec 32 := 0#32
  let v191 : BitVec 1 := Scalar.cmpi .ne v190 c0_i32_127
  let v192 : BitVec 1 := Scalar.andi v189 v191
  let v178 : BitVec 32 := Scalar.divsi v177 c2_i32_122
  let c1_i32_128 : BitVec 32 := 1#32
  let v193 : BitVec 32 := Scalar.subi v178 c1_i32_128
  let v194 : BitVec 32 := Scalar.select v192 v193 v178
  let v195 : BitVec 32 := Scalar.maxsi c0_i32_129 v194
  let v196 : BitVec 32 := Scalar.minsi v173 v195
  let c0_i32_137 : BitVec 32 := 0#32
  let c768_i32 : BitVec 32 := 768#32
  let v197 : BitVec 32 := Scalar.subi c768_i32 v155
  let c0_i32_131 : BitVec 32 := 0#32
  let v199 : BitVec 1 := Scalar.cmpi .sgt v197 c0_i32_131
  let v200 : BitVec 32 := Scalar.extui v199
  let c0_i32_132 : BitVec 32 := 0#32
  let v201 : BitVec 1 := Scalar.cmpi .slt v197 c0_i32_132
  let v202 : BitVec 32 := Scalar.extui v201
  let v203 : BitVec 32 := Scalar.subi v200 v202
  let c2_i32_130 : BitVec 32 := 2#32
  let c0_i32_133 : BitVec 32 := 0#32
  let v204 : BitVec 1 := Scalar.cmpi .sgt c2_i32_130 c0_i32_133
  let v205 : BitVec 32 := Scalar.extui v204
  let c0_i32_134 : BitVec 32 := 0#32
  let v206 : BitVec 1 := Scalar.cmpi .slt c2_i32_130 c0_i32_134
  let v207 : BitVec 32 := Scalar.extui v206
  let v208 : BitVec 32 := Scalar.subi v205 v207
  let v209 : BitVec 1 := Scalar.cmpi .ne v203 v208
  let v210 : BitVec 32 := Scalar.remsi v197 c2_i32_130
  let c0_i32_135 : BitVec 32 := 0#32
  let v211 : BitVec 1 := Scalar.cmpi .ne v210 c0_i32_135
  let v212 : BitVec 1 := Scalar.andi v209 v211
  let v198 : BitVec 32 := Scalar.divsi v197 c2_i32_130
  let c1_i32_136 : BitVec 32 := 1#32
  let v213 : BitVec 32 := Scalar.subi v198 c1_i32_136
  let v214 : BitVec 32 := Scalar.select v212 v213 v198
  let v215 : BitVec 32 := Scalar.maxsi c0_i32_137 v214
  let v216 : BitVec 32 := Scalar.minsi v173 v215
  let v217 : BitVec 32 := Scalar.subi v216 v196
  let c1_i32_138 : BitVec 32 := 1#32
  let v219 : BitVec 32 := Scalar.divsi v217 c1_i32_138
  let v220 : BitVec 32 := Scalar.muli v219 c1_i32_138
  let v221 : BitVec 32 := Scalar.addi v196 v220
  let v218 : BitVec 32 := Scalar.addi v196 v217
  let c1_i32_140 : BitVec 32 := 1#32
  ⟨v221, v218, c1_i32_140⟩
def k0_off109 (v153 : BitVec 32) (v155 : BitVec 32) (k0_t44 : Fin (k0_t44_loop v153 v155).trips) : Fin 2 → Nat :=
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_129 : BitVec 32 := 0#32
  let c384_i32 : BitVec 32 := 384#32
  let v177 : BitVec 32 := Scalar.subi c384_i32 v155
  let c0_i32_123 : BitVec 32 := 0#32
  let v179 : BitVec 1 := Scalar.cmpi .sgt v177 c0_i32_123
  let v180 : BitVec 32 := Scalar.extui v179
  let c0_i32_124 : BitVec 32 := 0#32
  let v181 : BitVec 1 := Scalar.cmpi .slt v177 c0_i32_124
  let v182 : BitVec 32 := Scalar.extui v181
  let v183 : BitVec 32 := Scalar.subi v180 v182
  let c2_i32_122 : BitVec 32 := 2#32
  let c0_i32_125 : BitVec 32 := 0#32
  let v184 : BitVec 1 := Scalar.cmpi .sgt c2_i32_122 c0_i32_125
  let v185 : BitVec 32 := Scalar.extui v184
  let c0_i32_126 : BitVec 32 := 0#32
  let v186 : BitVec 1 := Scalar.cmpi .slt c2_i32_122 c0_i32_126
  let v187 : BitVec 32 := Scalar.extui v186
  let v188 : BitVec 32 := Scalar.subi v185 v187
  let v189 : BitVec 1 := Scalar.cmpi .ne v183 v188
  let v190 : BitVec 32 := Scalar.remsi v177 c2_i32_122
  let c0_i32_127 : BitVec 32 := 0#32
  let v191 : BitVec 1 := Scalar.cmpi .ne v190 c0_i32_127
  let v192 : BitVec 1 := Scalar.andi v189 v191
  let v178 : BitVec 32 := Scalar.divsi v177 c2_i32_122
  let c1_i32_128 : BitVec 32 := 1#32
  let v193 : BitVec 32 := Scalar.subi v178 c1_i32_128
  let v194 : BitVec 32 := Scalar.select v192 v193 v178
  let v195 : BitVec 32 := Scalar.maxsi c0_i32_129 v194
  let v196 : BitVec 32 := Scalar.minsi v173 v195
  let c0_i32_137 : BitVec 32 := 0#32
  let c768_i32 : BitVec 32 := 768#32
  let v197 : BitVec 32 := Scalar.subi c768_i32 v155
  let c0_i32_131 : BitVec 32 := 0#32
  let v199 : BitVec 1 := Scalar.cmpi .sgt v197 c0_i32_131
  let v200 : BitVec 32 := Scalar.extui v199
  let c0_i32_132 : BitVec 32 := 0#32
  let v201 : BitVec 1 := Scalar.cmpi .slt v197 c0_i32_132
  let v202 : BitVec 32 := Scalar.extui v201
  let v203 : BitVec 32 := Scalar.subi v200 v202
  let c2_i32_130 : BitVec 32 := 2#32
  let c0_i32_133 : BitVec 32 := 0#32
  let v204 : BitVec 1 := Scalar.cmpi .sgt c2_i32_130 c0_i32_133
  let v205 : BitVec 32 := Scalar.extui v204
  let c0_i32_134 : BitVec 32 := 0#32
  let v206 : BitVec 1 := Scalar.cmpi .slt c2_i32_130 c0_i32_134
  let v207 : BitVec 32 := Scalar.extui v206
  let v208 : BitVec 32 := Scalar.subi v205 v207
  let v209 : BitVec 1 := Scalar.cmpi .ne v203 v208
  let v210 : BitVec 32 := Scalar.remsi v197 c2_i32_130
  let c0_i32_135 : BitVec 32 := 0#32
  let v211 : BitVec 1 := Scalar.cmpi .ne v210 c0_i32_135
  let v212 : BitVec 1 := Scalar.andi v209 v211
  let v198 : BitVec 32 := Scalar.divsi v197 c2_i32_130
  let c1_i32_136 : BitVec 32 := 1#32
  let v213 : BitVec 32 := Scalar.subi v198 c1_i32_136
  let v214 : BitVec 32 := Scalar.select v212 v213 v198
  let v215 : BitVec 32 := Scalar.maxsi c0_i32_137 v214
  let v216 : BitVec 32 := Scalar.minsi v173 v215
  let v217 : BitVec 32 := Scalar.subi v216 v196
  let c1_i32_138 : BitVec 32 := 1#32
  let v219 : BitVec 32 := Scalar.divsi v217 c1_i32_138
  let v220 : BitVec 32 := Scalar.muli v219 c1_i32_138
  let v221 : BitVec 32 := Scalar.addi v196 v220
  let c1_i32_140 : BitVec 32 := 1#32
  let arg23 : BitVec 32 := Scf.iv v221 c1_i32_140 k0_t44
  let c2_i32_612 : BitVec 32 := 2#32
  let v1306 : BitVec 32 := Scalar.muli arg23 c2_i32_612
  let v1307 : BitVec 32 := Scalar.addi v155 v1306
  let c384_i32_613 : BitVec 32 := 384#32
  let v1308 : BitVec 32 := Scalar.subi v1307 c384_i32_613
  let c0_i32_614 : BitVec 32 := 0#32
  ![v1308.toNat, 0]
def k0_off110 (v153 : BitVec 32) (v155 : BitVec 32) (k0_t44 : Fin (k0_t44_loop v153 v155).trips) : Fin 2 → Nat :=
  let c1_i32_611 : BitVec 32 := 1#32
  let v1304 : BitVec 32 := Scalar.shrsi v155 c1_i32_611
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_129 : BitVec 32 := 0#32
  let c384_i32 : BitVec 32 := 384#32
  let v177 : BitVec 32 := Scalar.subi c384_i32 v155
  let c0_i32_123 : BitVec 32 := 0#32
  let v179 : BitVec 1 := Scalar.cmpi .sgt v177 c0_i32_123
  let v180 : BitVec 32 := Scalar.extui v179
  let c0_i32_124 : BitVec 32 := 0#32
  let v181 : BitVec 1 := Scalar.cmpi .slt v177 c0_i32_124
  let v182 : BitVec 32 := Scalar.extui v181
  let v183 : BitVec 32 := Scalar.subi v180 v182
  let c2_i32_122 : BitVec 32 := 2#32
  let c0_i32_125 : BitVec 32 := 0#32
  let v184 : BitVec 1 := Scalar.cmpi .sgt c2_i32_122 c0_i32_125
  let v185 : BitVec 32 := Scalar.extui v184
  let c0_i32_126 : BitVec 32 := 0#32
  let v186 : BitVec 1 := Scalar.cmpi .slt c2_i32_122 c0_i32_126
  let v187 : BitVec 32 := Scalar.extui v186
  let v188 : BitVec 32 := Scalar.subi v185 v187
  let v189 : BitVec 1 := Scalar.cmpi .ne v183 v188
  let v190 : BitVec 32 := Scalar.remsi v177 c2_i32_122
  let c0_i32_127 : BitVec 32 := 0#32
  let v191 : BitVec 1 := Scalar.cmpi .ne v190 c0_i32_127
  let v192 : BitVec 1 := Scalar.andi v189 v191
  let v178 : BitVec 32 := Scalar.divsi v177 c2_i32_122
  let c1_i32_128 : BitVec 32 := 1#32
  let v193 : BitVec 32 := Scalar.subi v178 c1_i32_128
  let v194 : BitVec 32 := Scalar.select v192 v193 v178
  let v195 : BitVec 32 := Scalar.maxsi c0_i32_129 v194
  let v196 : BitVec 32 := Scalar.minsi v173 v195
  let c0_i32_137 : BitVec 32 := 0#32
  let c768_i32 : BitVec 32 := 768#32
  let v197 : BitVec 32 := Scalar.subi c768_i32 v155
  let c0_i32_131 : BitVec 32 := 0#32
  let v199 : BitVec 1 := Scalar.cmpi .sgt v197 c0_i32_131
  let v200 : BitVec 32 := Scalar.extui v199
  let c0_i32_132 : BitVec 32 := 0#32
  let v201 : BitVec 1 := Scalar.cmpi .slt v197 c0_i32_132
  let v202 : BitVec 32 := Scalar.extui v201
  let v203 : BitVec 32 := Scalar.subi v200 v202
  let c2_i32_130 : BitVec 32 := 2#32
  let c0_i32_133 : BitVec 32 := 0#32
  let v204 : BitVec 1 := Scalar.cmpi .sgt c2_i32_130 c0_i32_133
  let v205 : BitVec 32 := Scalar.extui v204
  let c0_i32_134 : BitVec 32 := 0#32
  let v206 : BitVec 1 := Scalar.cmpi .slt c2_i32_130 c0_i32_134
  let v207 : BitVec 32 := Scalar.extui v206
  let v208 : BitVec 32 := Scalar.subi v205 v207
  let v209 : BitVec 1 := Scalar.cmpi .ne v203 v208
  let v210 : BitVec 32 := Scalar.remsi v197 c2_i32_130
  let c0_i32_135 : BitVec 32 := 0#32
  let v211 : BitVec 1 := Scalar.cmpi .ne v210 c0_i32_135
  let v212 : BitVec 1 := Scalar.andi v209 v211
  let v198 : BitVec 32 := Scalar.divsi v197 c2_i32_130
  let c1_i32_136 : BitVec 32 := 1#32
  let v213 : BitVec 32 := Scalar.subi v198 c1_i32_136
  let v214 : BitVec 32 := Scalar.select v212 v213 v198
  let v215 : BitVec 32 := Scalar.maxsi c0_i32_137 v214
  let v216 : BitVec 32 := Scalar.minsi v173 v215
  let v217 : BitVec 32 := Scalar.subi v216 v196
  let c1_i32_138 : BitVec 32 := 1#32
  let v219 : BitVec 32 := Scalar.divsi v217 c1_i32_138
  let v220 : BitVec 32 := Scalar.muli v219 c1_i32_138
  let v221 : BitVec 32 := Scalar.addi v196 v220
  let c1_i32_140 : BitVec 32 := 1#32
  let arg23 : BitVec 32 := Scf.iv v221 c1_i32_140 k0_t44
  let v1305 : BitVec 32 := Scalar.addi v1304 arg23
  let c0_i32_615 : BitVec 32 := 0#32
  ![v1305.toNat, 0]

def k0_chk25 (v153 : BitVec 32) (v155 : BitVec 32) : Prop :=
  ((k0_t43_loop v153 v155).OK) ∧
  (∀ k0_t43 : Fin (k0_t43_loop v153 v155).trips, ∀ a, (k0_off106 v153 v155 k0_t43) a + S2x128.size a ≤ S384x128.size a) ∧
  (∀ k0_t43 : Fin (k0_t43_loop v153 v155).trips, ∀ a, (k0_off107 v153 v155 k0_t43) a + S1x2.size a ≤ S584x2.size a) ∧
  ((k0_t44_loop v153 v155).OK) ∧
  (∀ k0_t44 : Fin (k0_t44_loop v153 v155).trips, ∀ a, (k0_off109 v153 v155 k0_t44) a + S2x128.size a ≤ S384x128.size a) ∧
  (∀ k0_t44 : Fin (k0_t44_loop v153 v155).trips, ∀ a, (k0_off110 v153 v155 k0_t44) a + S1x2.size a ≤ S584x2.size a)
theorem k0_t43_ok : ∀ (v153 : BitVec 32) (v155 : BitVec 32) (k0_hw25 : k0_chk25 v153 v155), (k0_t43_loop v153 v155).OK := fun v153 v155 k0_hw25 => k0_hw25.1
theorem k0_off106_inb : ∀ (v153 : BitVec 32) (v155 : BitVec 32) (k0_hw25 : k0_chk25 v153 v155) (k0_t43 : Fin (k0_t43_loop v153 v155).trips), ∀ a, (k0_off106 v153 v155 k0_t43) a + S2x128.size a ≤ S384x128.size a := fun v153 v155 k0_hw25 k0_t43 => k0_hw25.2.1 k0_t43
theorem k0_off107_inb : ∀ (v153 : BitVec 32) (v155 : BitVec 32) (k0_hw25 : k0_chk25 v153 v155) (k0_t43 : Fin (k0_t43_loop v153 v155).trips), ∀ a, (k0_off107 v153 v155 k0_t43) a + S1x2.size a ≤ S584x2.size a := fun v153 v155 k0_hw25 k0_t43 => k0_hw25.2.2.1 k0_t43
theorem k0_t44_ok : ∀ (v153 : BitVec 32) (v155 : BitVec 32) (k0_hw25 : k0_chk25 v153 v155), (k0_t44_loop v153 v155).OK := fun v153 v155 k0_hw25 => k0_hw25.2.2.2.1
theorem k0_off109_inb : ∀ (v153 : BitVec 32) (v155 : BitVec 32) (k0_hw25 : k0_chk25 v153 v155) (k0_t44 : Fin (k0_t44_loop v153 v155).trips), ∀ a, (k0_off109 v153 v155 k0_t44) a + S2x128.size a ≤ S384x128.size a := fun v153 v155 k0_hw25 k0_t44 => k0_hw25.2.2.2.2.1 k0_t44
theorem k0_off110_inb : ∀ (v153 : BitVec 32) (v155 : BitVec 32) (k0_hw25 : k0_chk25 v153 v155) (k0_t44 : Fin (k0_t44_loop v153 v155).trips), ∀ a, (k0_off110 v153 v155 k0_t44) a + S1x2.size a ≤ S584x2.size a := fun v153 v155 k0_hw25 k0_t44 => k0_hw25.2.2.2.2.2 k0_t44

def k0_off111 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_120 : BitVec 32 := 16#32
  let v174 : BitVec 32 := Scalar.muli arg21 c16_i32_120
  let c0_i32_121 : BitVec 32 := 0#32
  let v175 : BitVec 32 := Scalar.addi v174 c0_i32_121
  let c128_i32 : BitVec 32 := 128#32
  let v176 : BitVec 32 := Scalar.muli v175 c128_i32
  ![0, v176.toNat]
@[reducible] def k0_t45_loop (v225 : BitVec 32) (v227 : BitVec 32) : Scf.Loop 32 :=
  let c1_i32_141 : BitVec 32 := 1#32
  let v228 : BitVec 32 := Scalar.addi v225 c1_i32_141
  let c0_i32_143 : BitVec 32 := 0#32
  let v230 : BitVec 1 := Scalar.cmpi .sgt v228 c0_i32_143
  let v231 : BitVec 32 := Scalar.extui v230
  let c0_i32_144 : BitVec 32 := 0#32
  let v232 : BitVec 1 := Scalar.cmpi .slt v228 c0_i32_144
  let v233 : BitVec 32 := Scalar.extui v232
  let v234 : BitVec 32 := Scalar.subi v231 v233
  let c2_i32_142 : BitVec 32 := 2#32
  let c0_i32_145 : BitVec 32 := 0#32
  let v235 : BitVec 1 := Scalar.cmpi .sgt c2_i32_142 c0_i32_145
  let v236 : BitVec 32 := Scalar.extui v235
  let c0_i32_146 : BitVec 32 := 0#32
  let v237 : BitVec 1 := Scalar.cmpi .slt c2_i32_142 c0_i32_146
  let v238 : BitVec 32 := Scalar.extui v237
  let v239 : BitVec 32 := Scalar.subi v236 v238
  let v240 : BitVec 1 := Scalar.cmpi .ne v234 v239
  let v241 : BitVec 32 := Scalar.remsi v228 c2_i32_142
  let c0_i32_147 : BitVec 32 := 0#32
  let v242 : BitVec 1 := Scalar.cmpi .ne v241 c0_i32_147
  let v243 : BitVec 1 := Scalar.andi v240 v242
  let v229 : BitVec 32 := Scalar.divsi v228 c2_i32_142
  let c1_i32_148 : BitVec 32 := 1#32
  let v244 : BitVec 32 := Scalar.subi v229 c1_i32_148
  let v245 : BitVec 32 := Scalar.select v243 v244 v229
  let c0_i32_160 : BitVec 32 := 0#32
  let c384_i32_152 : BitVec 32 := 384#32
  let v249 : BitVec 32 := Scalar.subi c384_i32_152 v227
  let c0_i32_154 : BitVec 32 := 0#32
  let v251 : BitVec 1 := Scalar.cmpi .sgt v249 c0_i32_154
  let v252 : BitVec 32 := Scalar.extui v251
  let c0_i32_155 : BitVec 32 := 0#32
  let v253 : BitVec 1 := Scalar.cmpi .slt v249 c0_i32_155
  let v254 : BitVec 32 := Scalar.extui v253
  let v255 : BitVec 32 := Scalar.subi v252 v254
  let c2_i32_153 : BitVec 32 := 2#32
  let c0_i32_156 : BitVec 32 := 0#32
  let v256 : BitVec 1 := Scalar.cmpi .sgt c2_i32_153 c0_i32_156
  let v257 : BitVec 32 := Scalar.extui v256
  let c0_i32_157 : BitVec 32 := 0#32
  let v258 : BitVec 1 := Scalar.cmpi .slt c2_i32_153 c0_i32_157
  let v259 : BitVec 32 := Scalar.extui v258
  let v260 : BitVec 32 := Scalar.subi v257 v259
  let v261 : BitVec 1 := Scalar.cmpi .ne v255 v260
  let v262 : BitVec 32 := Scalar.remsi v249 c2_i32_153
  let c0_i32_158 : BitVec 32 := 0#32
  let v263 : BitVec 1 := Scalar.cmpi .ne v262 c0_i32_158
  let v264 : BitVec 1 := Scalar.andi v261 v263
  let v250 : BitVec 32 := Scalar.divsi v249 c2_i32_153
  let c1_i32_159 : BitVec 32 := 1#32
  let v265 : BitVec 32 := Scalar.subi v250 c1_i32_159
  let v266 : BitVec 32 := Scalar.select v264 v265 v250
  let v267 : BitVec 32 := Scalar.maxsi c0_i32_160 v266
  let v268 : BitVec 32 := Scalar.minsi v245 v267
  let c0_i32_169 : BitVec 32 := 0#32
  let c768_i32_161 : BitVec 32 := 768#32
  let v269 : BitVec 32 := Scalar.subi c768_i32_161 v227
  let c0_i32_163 : BitVec 32 := 0#32
  let v271 : BitVec 1 := Scalar.cmpi .sgt v269 c0_i32_163
  let v272 : BitVec 32 := Scalar.extui v271
  let c0_i32_164 : BitVec 32 := 0#32
  let v273 : BitVec 1 := Scalar.cmpi .slt v269 c0_i32_164
  let v274 : BitVec 32 := Scalar.extui v273
  let v275 : BitVec 32 := Scalar.subi v272 v274
  let c2_i32_162 : BitVec 32 := 2#32
  let c0_i32_165 : BitVec 32 := 0#32
  let v276 : BitVec 1 := Scalar.cmpi .sgt c2_i32_162 c0_i32_165
  let v277 : BitVec 32 := Scalar.extui v276
  let c0_i32_166 : BitVec 32 := 0#32
  let v278 : BitVec 1 := Scalar.cmpi .slt c2_i32_162 c0_i32_166
  let v279 : BitVec 32 := Scalar.extui v278
  let v280 : BitVec 32 := Scalar.subi v277 v279
  let v281 : BitVec 1 := Scalar.cmpi .ne v275 v280
  let v282 : BitVec 32 := Scalar.remsi v269 c2_i32_162
  let c0_i32_167 : BitVec 32 := 0#32
  let v283 : BitVec 1 := Scalar.cmpi .ne v282 c0_i32_167
  let v284 : BitVec 1 := Scalar.andi v281 v283
  let v270 : BitVec 32 := Scalar.divsi v269 c2_i32_162
  let c1_i32_168 : BitVec 32 := 1#32
  let v285 : BitVec 32 := Scalar.subi v270 c1_i32_168
  let v286 : BitVec 32 := Scalar.select v284 v285 v270
  let v287 : BitVec 32 := Scalar.maxsi c0_i32_169 v286
  let v288 : BitVec 32 := Scalar.minsi v245 v287
  let v289 : BitVec 32 := Scalar.subi v288 v268
  let c1_i32_170 : BitVec 32 := 1#32
  let v291 : BitVec 32 := Scalar.divsi v289 c1_i32_170
  let v292 : BitVec 32 := Scalar.muli v291 c1_i32_170
  let v293 : BitVec 32 := Scalar.addi v268 v292
  let c1_i32_171 : BitVec 32 := 1#32
  ⟨v268, v293, c1_i32_171⟩

def k0_off112 (v225 : BitVec 32) (v227 : BitVec 32) (k0_t45 : Fin (k0_t45_loop v225 v227).trips) : Fin 2 → Nat :=
  let c1_i32_141 : BitVec 32 := 1#32
  let v228 : BitVec 32 := Scalar.addi v225 c1_i32_141
  let c0_i32_143 : BitVec 32 := 0#32
  let v230 : BitVec 1 := Scalar.cmpi .sgt v228 c0_i32_143
  let v231 : BitVec 32 := Scalar.extui v230
  let c0_i32_144 : BitVec 32 := 0#32
  let v232 : BitVec 1 := Scalar.cmpi .slt v228 c0_i32_144
  let v233 : BitVec 32 := Scalar.extui v232
  let v234 : BitVec 32 := Scalar.subi v231 v233
  let c2_i32_142 : BitVec 32 := 2#32
  let c0_i32_145 : BitVec 32 := 0#32
  let v235 : BitVec 1 := Scalar.cmpi .sgt c2_i32_142 c0_i32_145
  let v236 : BitVec 32 := Scalar.extui v235
  let c0_i32_146 : BitVec 32 := 0#32
  let v237 : BitVec 1 := Scalar.cmpi .slt c2_i32_142 c0_i32_146
  let v238 : BitVec 32 := Scalar.extui v237
  let v239 : BitVec 32 := Scalar.subi v236 v238
  let v240 : BitVec 1 := Scalar.cmpi .ne v234 v239
  let v241 : BitVec 32 := Scalar.remsi v228 c2_i32_142
  let c0_i32_147 : BitVec 32 := 0#32
  let v242 : BitVec 1 := Scalar.cmpi .ne v241 c0_i32_147
  let v243 : BitVec 1 := Scalar.andi v240 v242
  let v229 : BitVec 32 := Scalar.divsi v228 c2_i32_142
  let c1_i32_148 : BitVec 32 := 1#32
  let v244 : BitVec 32 := Scalar.subi v229 c1_i32_148
  let v245 : BitVec 32 := Scalar.select v243 v244 v229
  let c0_i32_160 : BitVec 32 := 0#32
  let c384_i32_152 : BitVec 32 := 384#32
  let v249 : BitVec 32 := Scalar.subi c384_i32_152 v227
  let c0_i32_154 : BitVec 32 := 0#32
  let v251 : BitVec 1 := Scalar.cmpi .sgt v249 c0_i32_154
  let v252 : BitVec 32 := Scalar.extui v251
  let c0_i32_155 : BitVec 32 := 0#32
  let v253 : BitVec 1 := Scalar.cmpi .slt v249 c0_i32_155
  let v254 : BitVec 32 := Scalar.extui v253
  let v255 : BitVec 32 := Scalar.subi v252 v254
  let c2_i32_153 : BitVec 32 := 2#32
  let c0_i32_156 : BitVec 32 := 0#32
  let v256 : BitVec 1 := Scalar.cmpi .sgt c2_i32_153 c0_i32_156
  let v257 : BitVec 32 := Scalar.extui v256
  let c0_i32_157 : BitVec 32 := 0#32
  let v258 : BitVec 1 := Scalar.cmpi .slt c2_i32_153 c0_i32_157
  let v259 : BitVec 32 := Scalar.extui v258
  let v260 : BitVec 32 := Scalar.subi v257 v259
  let v261 : BitVec 1 := Scalar.cmpi .ne v255 v260
  let v262 : BitVec 32 := Scalar.remsi v249 c2_i32_153
  let c0_i32_158 : BitVec 32 := 0#32
  let v263 : BitVec 1 := Scalar.cmpi .ne v262 c0_i32_158
  let v264 : BitVec 1 := Scalar.andi v261 v263
  let v250 : BitVec 32 := Scalar.divsi v249 c2_i32_153
  let c1_i32_159 : BitVec 32 := 1#32
  let v265 : BitVec 32 := Scalar.subi v250 c1_i32_159
  let v266 : BitVec 32 := Scalar.select v264 v265 v250
  let v267 : BitVec 32 := Scalar.maxsi c0_i32_160 v266
  let v268 : BitVec 32 := Scalar.minsi v245 v267
  let c1_i32_171 : BitVec 32 := 1#32
  let arg23 : BitVec 32 := Scf.iv v268 c1_i32_171 k0_t45
  let c2_i32_612 : BitVec 32 := 2#32
  let v1306 : BitVec 32 := Scalar.muli arg23 c2_i32_612
  let v1307 : BitVec 32 := Scalar.addi v227 v1306
  let c384_i32_613 : BitVec 32 := 384#32
  let v1308 : BitVec 32 := Scalar.subi v1307 c384_i32_613
  let c0_i32_614 : BitVec 32 := 0#32
  ![v1308.toNat, 0]
def k0_off113 (v225 : BitVec 32) (v227 : BitVec 32) (k0_t45 : Fin (k0_t45_loop v225 v227).trips) : Fin 2 → Nat :=
  let c1_i32_611 : BitVec 32 := 1#32
  let v1304 : BitVec 32 := Scalar.shrsi v227 c1_i32_611
  let c1_i32_141 : BitVec 32 := 1#32
  let v228 : BitVec 32 := Scalar.addi v225 c1_i32_141
  let c0_i32_143 : BitVec 32 := 0#32
  let v230 : BitVec 1 := Scalar.cmpi .sgt v228 c0_i32_143
  let v231 : BitVec 32 := Scalar.extui v230
  let c0_i32_144 : BitVec 32 := 0#32
  let v232 : BitVec 1 := Scalar.cmpi .slt v228 c0_i32_144
  let v233 : BitVec 32 := Scalar.extui v232
  let v234 : BitVec 32 := Scalar.subi v231 v233
  let c2_i32_142 : BitVec 32 := 2#32
  let c0_i32_145 : BitVec 32 := 0#32
  let v235 : BitVec 1 := Scalar.cmpi .sgt c2_i32_142 c0_i32_145
  let v236 : BitVec 32 := Scalar.extui v235
  let c0_i32_146 : BitVec 32 := 0#32
  let v237 : BitVec 1 := Scalar.cmpi .slt c2_i32_142 c0_i32_146
  let v238 : BitVec 32 := Scalar.extui v237
  let v239 : BitVec 32 := Scalar.subi v236 v238
  let v240 : BitVec 1 := Scalar.cmpi .ne v234 v239
  let v241 : BitVec 32 := Scalar.remsi v228 c2_i32_142
  let c0_i32_147 : BitVec 32 := 0#32
  let v242 : BitVec 1 := Scalar.cmpi .ne v241 c0_i32_147
  let v243 : BitVec 1 := Scalar.andi v240 v242
  let v229 : BitVec 32 := Scalar.divsi v228 c2_i32_142
  let c1_i32_148 : BitVec 32 := 1#32
  let v244 : BitVec 32 := Scalar.subi v229 c1_i32_148
  let v245 : BitVec 32 := Scalar.select v243 v244 v229
  let c0_i32_160 : BitVec 32 := 0#32
  let c384_i32_152 : BitVec 32 := 384#32
  let v249 : BitVec 32 := Scalar.subi c384_i32_152 v227
  let c0_i32_154 : BitVec 32 := 0#32
  let v251 : BitVec 1 := Scalar.cmpi .sgt v249 c0_i32_154
  let v252 : BitVec 32 := Scalar.extui v251
  let c0_i32_155 : BitVec 32 := 0#32
  let v253 : BitVec 1 := Scalar.cmpi .slt v249 c0_i32_155
  let v254 : BitVec 32 := Scalar.extui v253
  let v255 : BitVec 32 := Scalar.subi v252 v254
  let c2_i32_153 : BitVec 32 := 2#32
  let c0_i32_156 : BitVec 32 := 0#32
  let v256 : BitVec 1 := Scalar.cmpi .sgt c2_i32_153 c0_i32_156
  let v257 : BitVec 32 := Scalar.extui v256
  let c0_i32_157 : BitVec 32 := 0#32
  let v258 : BitVec 1 := Scalar.cmpi .slt c2_i32_153 c0_i32_157
  let v259 : BitVec 32 := Scalar.extui v258
  let v260 : BitVec 32 := Scalar.subi v257 v259
  let v261 : BitVec 1 := Scalar.cmpi .ne v255 v260
  let v262 : BitVec 32 := Scalar.remsi v249 c2_i32_153
  let c0_i32_158 : BitVec 32 := 0#32
  let v263 : BitVec 1 := Scalar.cmpi .ne v262 c0_i32_158
  let v264 : BitVec 1 := Scalar.andi v261 v263
  let v250 : BitVec 32 := Scalar.divsi v249 c2_i32_153
  let c1_i32_159 : BitVec 32 := 1#32
  let v265 : BitVec 32 := Scalar.subi v250 c1_i32_159
  let v266 : BitVec 32 := Scalar.select v264 v265 v250
  let v267 : BitVec 32 := Scalar.maxsi c0_i32_160 v266
  let v268 : BitVec 32 := Scalar.minsi v245 v267
  let c1_i32_171 : BitVec 32 := 1#32
  let arg23 : BitVec 32 := Scf.iv v268 c1_i32_171 k0_t45
  let v1305 : BitVec 32 := Scalar.addi v1304 arg23
  let c0_i32_615 : BitVec 32 := 0#32
  ![v1305.toNat, 0]
def k0_off114 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_149 : BitVec 32 := 16#32
  let v246 : BitVec 32 := Scalar.muli arg21 c16_i32_149
  let c1_i32_150 : BitVec 32 := 1#32
  let v247 : BitVec 32 := Scalar.addi v246 c1_i32_150
  let c128_i32_151 : BitVec 32 := 128#32
  let v248 : BitVec 32 := Scalar.muli v247 c128_i32_151
  ![0, v248.toNat]
@[reducible] def k0_t46_loop (v225 : BitVec 32) (v227 : BitVec 32) : Scf.Loop 32 :=
  let c1_i32_141 : BitVec 32 := 1#32
  let v228 : BitVec 32 := Scalar.addi v225 c1_i32_141
  let c0_i32_143 : BitVec 32 := 0#32
  let v230 : BitVec 1 := Scalar.cmpi .sgt v228 c0_i32_143
  let v231 : BitVec 32 := Scalar.extui v230
  let c0_i32_144 : BitVec 32 := 0#32
  let v232 : BitVec 1 := Scalar.cmpi .slt v228 c0_i32_144
  let v233 : BitVec 32 := Scalar.extui v232
  let v234 : BitVec 32 := Scalar.subi v231 v233
  let c2_i32_142 : BitVec 32 := 2#32
  let c0_i32_145 : BitVec 32 := 0#32
  let v235 : BitVec 1 := Scalar.cmpi .sgt c2_i32_142 c0_i32_145
  let v236 : BitVec 32 := Scalar.extui v235
  let c0_i32_146 : BitVec 32 := 0#32
  let v237 : BitVec 1 := Scalar.cmpi .slt c2_i32_142 c0_i32_146
  let v238 : BitVec 32 := Scalar.extui v237
  let v239 : BitVec 32 := Scalar.subi v236 v238
  let v240 : BitVec 1 := Scalar.cmpi .ne v234 v239
  let v241 : BitVec 32 := Scalar.remsi v228 c2_i32_142
  let c0_i32_147 : BitVec 32 := 0#32
  let v242 : BitVec 1 := Scalar.cmpi .ne v241 c0_i32_147
  let v243 : BitVec 1 := Scalar.andi v240 v242
  let v229 : BitVec 32 := Scalar.divsi v228 c2_i32_142
  let c1_i32_148 : BitVec 32 := 1#32
  let v244 : BitVec 32 := Scalar.subi v229 c1_i32_148
  let v245 : BitVec 32 := Scalar.select v243 v244 v229
  let c0_i32_160 : BitVec 32 := 0#32
  let c384_i32_152 : BitVec 32 := 384#32
  let v249 : BitVec 32 := Scalar.subi c384_i32_152 v227
  let c0_i32_154 : BitVec 32 := 0#32
  let v251 : BitVec 1 := Scalar.cmpi .sgt v249 c0_i32_154
  let v252 : BitVec 32 := Scalar.extui v251
  let c0_i32_155 : BitVec 32 := 0#32
  let v253 : BitVec 1 := Scalar.cmpi .slt v249 c0_i32_155
  let v254 : BitVec 32 := Scalar.extui v253
  let v255 : BitVec 32 := Scalar.subi v252 v254
  let c2_i32_153 : BitVec 32 := 2#32
  let c0_i32_156 : BitVec 32 := 0#32
  let v256 : BitVec 1 := Scalar.cmpi .sgt c2_i32_153 c0_i32_156
  let v257 : BitVec 32 := Scalar.extui v256
  let c0_i32_157 : BitVec 32 := 0#32
  let v258 : BitVec 1 := Scalar.cmpi .slt c2_i32_153 c0_i32_157
  let v259 : BitVec 32 := Scalar.extui v258
  let v260 : BitVec 32 := Scalar.subi v257 v259
  let v261 : BitVec 1 := Scalar.cmpi .ne v255 v260
  let v262 : BitVec 32 := Scalar.remsi v249 c2_i32_153
  let c0_i32_158 : BitVec 32 := 0#32
  let v263 : BitVec 1 := Scalar.cmpi .ne v262 c0_i32_158
  let v264 : BitVec 1 := Scalar.andi v261 v263
  let v250 : BitVec 32 := Scalar.divsi v249 c2_i32_153
  let c1_i32_159 : BitVec 32 := 1#32
  let v265 : BitVec 32 := Scalar.subi v250 c1_i32_159
  let v266 : BitVec 32 := Scalar.select v264 v265 v250
  let v267 : BitVec 32 := Scalar.maxsi c0_i32_160 v266
  let v268 : BitVec 32 := Scalar.minsi v245 v267
  let c0_i32_169 : BitVec 32 := 0#32
  let c768_i32_161 : BitVec 32 := 768#32
  let v269 : BitVec 32 := Scalar.subi c768_i32_161 v227
  let c0_i32_163 : BitVec 32 := 0#32
  let v271 : BitVec 1 := Scalar.cmpi .sgt v269 c0_i32_163
  let v272 : BitVec 32 := Scalar.extui v271
  let c0_i32_164 : BitVec 32 := 0#32
  let v273 : BitVec 1 := Scalar.cmpi .slt v269 c0_i32_164
  let v274 : BitVec 32 := Scalar.extui v273
  let v275 : BitVec 32 := Scalar.subi v272 v274
  let c2_i32_162 : BitVec 32 := 2#32
  let c0_i32_165 : BitVec 32 := 0#32
  let v276 : BitVec 1 := Scalar.cmpi .sgt c2_i32_162 c0_i32_165
  let v277 : BitVec 32 := Scalar.extui v276
  let c0_i32_166 : BitVec 32 := 0#32
  let v278 : BitVec 1 := Scalar.cmpi .slt c2_i32_162 c0_i32_166
  let v279 : BitVec 32 := Scalar.extui v278
  let v280 : BitVec 32 := Scalar.subi v277 v279
  let v281 : BitVec 1 := Scalar.cmpi .ne v275 v280
  let v282 : BitVec 32 := Scalar.remsi v269 c2_i32_162
  let c0_i32_167 : BitVec 32 := 0#32
  let v283 : BitVec 1 := Scalar.cmpi .ne v282 c0_i32_167
  let v284 : BitVec 1 := Scalar.andi v281 v283
  let v270 : BitVec 32 := Scalar.divsi v269 c2_i32_162
  let c1_i32_168 : BitVec 32 := 1#32
  let v285 : BitVec 32 := Scalar.subi v270 c1_i32_168
  let v286 : BitVec 32 := Scalar.select v284 v285 v270
  let v287 : BitVec 32 := Scalar.maxsi c0_i32_169 v286
  let v288 : BitVec 32 := Scalar.minsi v245 v287
  let v289 : BitVec 32 := Scalar.subi v288 v268
  let c1_i32_170 : BitVec 32 := 1#32
  let v291 : BitVec 32 := Scalar.divsi v289 c1_i32_170
  let v292 : BitVec 32 := Scalar.muli v291 c1_i32_170
  let v293 : BitVec 32 := Scalar.addi v268 v292
  let v290 : BitVec 32 := Scalar.addi v268 v289
  let c1_i32_172 : BitVec 32 := 1#32
  ⟨v293, v290, c1_i32_172⟩
def k0_off115 (v225 : BitVec 32) (v227 : BitVec 32) (k0_t46 : Fin (k0_t46_loop v225 v227).trips) : Fin 2 → Nat :=
  let c1_i32_141 : BitVec 32 := 1#32
  let v228 : BitVec 32 := Scalar.addi v225 c1_i32_141
  let c0_i32_143 : BitVec 32 := 0#32
  let v230 : BitVec 1 := Scalar.cmpi .sgt v228 c0_i32_143
  let v231 : BitVec 32 := Scalar.extui v230
  let c0_i32_144 : BitVec 32 := 0#32
  let v232 : BitVec 1 := Scalar.cmpi .slt v228 c0_i32_144
  let v233 : BitVec 32 := Scalar.extui v232
  let v234 : BitVec 32 := Scalar.subi v231 v233
  let c2_i32_142 : BitVec 32 := 2#32
  let c0_i32_145 : BitVec 32 := 0#32
  let v235 : BitVec 1 := Scalar.cmpi .sgt c2_i32_142 c0_i32_145
  let v236 : BitVec 32 := Scalar.extui v235
  let c0_i32_146 : BitVec 32 := 0#32
  let v237 : BitVec 1 := Scalar.cmpi .slt c2_i32_142 c0_i32_146
  let v238 : BitVec 32 := Scalar.extui v237
  let v239 : BitVec 32 := Scalar.subi v236 v238
  let v240 : BitVec 1 := Scalar.cmpi .ne v234 v239
  let v241 : BitVec 32 := Scalar.remsi v228 c2_i32_142
  let c0_i32_147 : BitVec 32 := 0#32
  let v242 : BitVec 1 := Scalar.cmpi .ne v241 c0_i32_147
  let v243 : BitVec 1 := Scalar.andi v240 v242
  let v229 : BitVec 32 := Scalar.divsi v228 c2_i32_142
  let c1_i32_148 : BitVec 32 := 1#32
  let v244 : BitVec 32 := Scalar.subi v229 c1_i32_148
  let v245 : BitVec 32 := Scalar.select v243 v244 v229
  let c0_i32_160 : BitVec 32 := 0#32
  let c384_i32_152 : BitVec 32 := 384#32
  let v249 : BitVec 32 := Scalar.subi c384_i32_152 v227
  let c0_i32_154 : BitVec 32 := 0#32
  let v251 : BitVec 1 := Scalar.cmpi .sgt v249 c0_i32_154
  let v252 : BitVec 32 := Scalar.extui v251
  let c0_i32_155 : BitVec 32 := 0#32
  let v253 : BitVec 1 := Scalar.cmpi .slt v249 c0_i32_155
  let v254 : BitVec 32 := Scalar.extui v253
  let v255 : BitVec 32 := Scalar.subi v252 v254
  let c2_i32_153 : BitVec 32 := 2#32
  let c0_i32_156 : BitVec 32 := 0#32
  let v256 : BitVec 1 := Scalar.cmpi .sgt c2_i32_153 c0_i32_156
  let v257 : BitVec 32 := Scalar.extui v256
  let c0_i32_157 : BitVec 32 := 0#32
  let v258 : BitVec 1 := Scalar.cmpi .slt c2_i32_153 c0_i32_157
  let v259 : BitVec 32 := Scalar.extui v258
  let v260 : BitVec 32 := Scalar.subi v257 v259
  let v261 : BitVec 1 := Scalar.cmpi .ne v255 v260
  let v262 : BitVec 32 := Scalar.remsi v249 c2_i32_153
  let c0_i32_158 : BitVec 32 := 0#32
  let v263 : BitVec 1 := Scalar.cmpi .ne v262 c0_i32_158
  let v264 : BitVec 1 := Scalar.andi v261 v263
  let v250 : BitVec 32 := Scalar.divsi v249 c2_i32_153
  let c1_i32_159 : BitVec 32 := 1#32
  let v265 : BitVec 32 := Scalar.subi v250 c1_i32_159
  let v266 : BitVec 32 := Scalar.select v264 v265 v250
  let v267 : BitVec 32 := Scalar.maxsi c0_i32_160 v266
  let v268 : BitVec 32 := Scalar.minsi v245 v267
  let c0_i32_169 : BitVec 32 := 0#32
  let c768_i32_161 : BitVec 32 := 768#32
  let v269 : BitVec 32 := Scalar.subi c768_i32_161 v227
  let c0_i32_163 : BitVec 32 := 0#32
  let v271 : BitVec 1 := Scalar.cmpi .sgt v269 c0_i32_163
  let v272 : BitVec 32 := Scalar.extui v271
  let c0_i32_164 : BitVec 32 := 0#32
  let v273 : BitVec 1 := Scalar.cmpi .slt v269 c0_i32_164
  let v274 : BitVec 32 := Scalar.extui v273
  let v275 : BitVec 32 := Scalar.subi v272 v274
  let c2_i32_162 : BitVec 32 := 2#32
  let c0_i32_165 : BitVec 32 := 0#32
  let v276 : BitVec 1 := Scalar.cmpi .sgt c2_i32_162 c0_i32_165
  let v277 : BitVec 32 := Scalar.extui v276
  let c0_i32_166 : BitVec 32 := 0#32
  let v278 : BitVec 1 := Scalar.cmpi .slt c2_i32_162 c0_i32_166
  let v279 : BitVec 32 := Scalar.extui v278
  let v280 : BitVec 32 := Scalar.subi v277 v279
  let v281 : BitVec 1 := Scalar.cmpi .ne v275 v280
  let v282 : BitVec 32 := Scalar.remsi v269 c2_i32_162
  let c0_i32_167 : BitVec 32 := 0#32
  let v283 : BitVec 1 := Scalar.cmpi .ne v282 c0_i32_167
  let v284 : BitVec 1 := Scalar.andi v281 v283
  let v270 : BitVec 32 := Scalar.divsi v269 c2_i32_162
  let c1_i32_168 : BitVec 32 := 1#32
  let v285 : BitVec 32 := Scalar.subi v270 c1_i32_168
  let v286 : BitVec 32 := Scalar.select v284 v285 v270
  let v287 : BitVec 32 := Scalar.maxsi c0_i32_169 v286
  let v288 : BitVec 32 := Scalar.minsi v245 v287
  let v289 : BitVec 32 := Scalar.subi v288 v268
  let c1_i32_170 : BitVec 32 := 1#32
  let v291 : BitVec 32 := Scalar.divsi v289 c1_i32_170
  let v292 : BitVec 32 := Scalar.muli v291 c1_i32_170
  let v293 : BitVec 32 := Scalar.addi v268 v292
  let c1_i32_172 : BitVec 32 := 1#32
  let arg23 : BitVec 32 := Scf.iv v293 c1_i32_172 k0_t46
  let c2_i32_612 : BitVec 32 := 2#32
  let v1306 : BitVec 32 := Scalar.muli arg23 c2_i32_612
  let v1307 : BitVec 32 := Scalar.addi v227 v1306
  let c384_i32_613 : BitVec 32 := 384#32
  let v1308 : BitVec 32 := Scalar.subi v1307 c384_i32_613
  let c0_i32_614 : BitVec 32 := 0#32
  ![v1308.toNat, 0]
def k0_off116 (v225 : BitVec 32) (v227 : BitVec 32) (k0_t46 : Fin (k0_t46_loop v225 v227).trips) : Fin 2 → Nat :=
  let c1_i32_611 : BitVec 32 := 1#32
  let v1304 : BitVec 32 := Scalar.shrsi v227 c1_i32_611
  let c1_i32_141 : BitVec 32 := 1#32
  let v228 : BitVec 32 := Scalar.addi v225 c1_i32_141
  let c0_i32_143 : BitVec 32 := 0#32
  let v230 : BitVec 1 := Scalar.cmpi .sgt v228 c0_i32_143
  let v231 : BitVec 32 := Scalar.extui v230
  let c0_i32_144 : BitVec 32 := 0#32
  let v232 : BitVec 1 := Scalar.cmpi .slt v228 c0_i32_144
  let v233 : BitVec 32 := Scalar.extui v232
  let v234 : BitVec 32 := Scalar.subi v231 v233
  let c2_i32_142 : BitVec 32 := 2#32
  let c0_i32_145 : BitVec 32 := 0#32
  let v235 : BitVec 1 := Scalar.cmpi .sgt c2_i32_142 c0_i32_145
  let v236 : BitVec 32 := Scalar.extui v235
  let c0_i32_146 : BitVec 32 := 0#32
  let v237 : BitVec 1 := Scalar.cmpi .slt c2_i32_142 c0_i32_146
  let v238 : BitVec 32 := Scalar.extui v237
  let v239 : BitVec 32 := Scalar.subi v236 v238
  let v240 : BitVec 1 := Scalar.cmpi .ne v234 v239
  let v241 : BitVec 32 := Scalar.remsi v228 c2_i32_142
  let c0_i32_147 : BitVec 32 := 0#32
  let v242 : BitVec 1 := Scalar.cmpi .ne v241 c0_i32_147
  let v243 : BitVec 1 := Scalar.andi v240 v242
  let v229 : BitVec 32 := Scalar.divsi v228 c2_i32_142
  let c1_i32_148 : BitVec 32 := 1#32
  let v244 : BitVec 32 := Scalar.subi v229 c1_i32_148
  let v245 : BitVec 32 := Scalar.select v243 v244 v229
  let c0_i32_160 : BitVec 32 := 0#32
  let c384_i32_152 : BitVec 32 := 384#32
  let v249 : BitVec 32 := Scalar.subi c384_i32_152 v227
  let c0_i32_154 : BitVec 32 := 0#32
  let v251 : BitVec 1 := Scalar.cmpi .sgt v249 c0_i32_154
  let v252 : BitVec 32 := Scalar.extui v251
  let c0_i32_155 : BitVec 32 := 0#32
  let v253 : BitVec 1 := Scalar.cmpi .slt v249 c0_i32_155
  let v254 : BitVec 32 := Scalar.extui v253
  let v255 : BitVec 32 := Scalar.subi v252 v254
  let c2_i32_153 : BitVec 32 := 2#32
  let c0_i32_156 : BitVec 32 := 0#32
  let v256 : BitVec 1 := Scalar.cmpi .sgt c2_i32_153 c0_i32_156
  let v257 : BitVec 32 := Scalar.extui v256
  let c0_i32_157 : BitVec 32 := 0#32
  let v258 : BitVec 1 := Scalar.cmpi .slt c2_i32_153 c0_i32_157
  let v259 : BitVec 32 := Scalar.extui v258
  let v260 : BitVec 32 := Scalar.subi v257 v259
  let v261 : BitVec 1 := Scalar.cmpi .ne v255 v260
  let v262 : BitVec 32 := Scalar.remsi v249 c2_i32_153
  let c0_i32_158 : BitVec 32 := 0#32
  let v263 : BitVec 1 := Scalar.cmpi .ne v262 c0_i32_158
  let v264 : BitVec 1 := Scalar.andi v261 v263
  let v250 : BitVec 32 := Scalar.divsi v249 c2_i32_153
  let c1_i32_159 : BitVec 32 := 1#32
  let v265 : BitVec 32 := Scalar.subi v250 c1_i32_159
  let v266 : BitVec 32 := Scalar.select v264 v265 v250
  let v267 : BitVec 32 := Scalar.maxsi c0_i32_160 v266
  let v268 : BitVec 32 := Scalar.minsi v245 v267
  let c0_i32_169 : BitVec 32 := 0#32
  let c768_i32_161 : BitVec 32 := 768#32
  let v269 : BitVec 32 := Scalar.subi c768_i32_161 v227
  let c0_i32_163 : BitVec 32 := 0#32
  let v271 : BitVec 1 := Scalar.cmpi .sgt v269 c0_i32_163
  let v272 : BitVec 32 := Scalar.extui v271
  let c0_i32_164 : BitVec 32 := 0#32
  let v273 : BitVec 1 := Scalar.cmpi .slt v269 c0_i32_164
  let v274 : BitVec 32 := Scalar.extui v273
  let v275 : BitVec 32 := Scalar.subi v272 v274
  let c2_i32_162 : BitVec 32 := 2#32
  let c0_i32_165 : BitVec 32 := 0#32
  let v276 : BitVec 1 := Scalar.cmpi .sgt c2_i32_162 c0_i32_165
  let v277 : BitVec 32 := Scalar.extui v276
  let c0_i32_166 : BitVec 32 := 0#32
  let v278 : BitVec 1 := Scalar.cmpi .slt c2_i32_162 c0_i32_166
  let v279 : BitVec 32 := Scalar.extui v278
  let v280 : BitVec 32 := Scalar.subi v277 v279
  let v281 : BitVec 1 := Scalar.cmpi .ne v275 v280
  let v282 : BitVec 32 := Scalar.remsi v269 c2_i32_162
  let c0_i32_167 : BitVec 32 := 0#32
  let v283 : BitVec 1 := Scalar.cmpi .ne v282 c0_i32_167
  let v284 : BitVec 1 := Scalar.andi v281 v283
  let v270 : BitVec 32 := Scalar.divsi v269 c2_i32_162
  let c1_i32_168 : BitVec 32 := 1#32
  let v285 : BitVec 32 := Scalar.subi v270 c1_i32_168
  let v286 : BitVec 32 := Scalar.select v284 v285 v270
  let v287 : BitVec 32 := Scalar.maxsi c0_i32_169 v286
  let v288 : BitVec 32 := Scalar.minsi v245 v287
  let v289 : BitVec 32 := Scalar.subi v288 v268
  let c1_i32_170 : BitVec 32 := 1#32
  let v291 : BitVec 32 := Scalar.divsi v289 c1_i32_170
  let v292 : BitVec 32 := Scalar.muli v291 c1_i32_170
  let v293 : BitVec 32 := Scalar.addi v268 v292
  let c1_i32_172 : BitVec 32 := 1#32
  let arg23 : BitVec 32 := Scf.iv v293 c1_i32_172 k0_t46
  let v1305 : BitVec 32 := Scalar.addi v1304 arg23
  let c0_i32_615 : BitVec 32 := 0#32
  ![v1305.toNat, 0]

def k0_chk26 (v225 : BitVec 32) (v227 : BitVec 32) : Prop :=
  ((k0_t45_loop v225 v227).OK) ∧
  (∀ k0_t45 : Fin (k0_t45_loop v225 v227).trips, ∀ a, (k0_off112 v225 v227 k0_t45) a + S2x128.size a ≤ S384x128.size a) ∧
  (∀ k0_t45 : Fin (k0_t45_loop v225 v227).trips, ∀ a, (k0_off113 v225 v227 k0_t45) a + S1x2.size a ≤ S584x2.size a) ∧
  ((k0_t46_loop v225 v227).OK) ∧
  (∀ k0_t46 : Fin (k0_t46_loop v225 v227).trips, ∀ a, (k0_off115 v225 v227 k0_t46) a + S2x128.size a ≤ S384x128.size a) ∧
  (∀ k0_t46 : Fin (k0_t46_loop v225 v227).trips, ∀ a, (k0_off116 v225 v227 k0_t46) a + S1x2.size a ≤ S584x2.size a)
theorem k0_t45_ok : ∀ (v225 : BitVec 32) (v227 : BitVec 32) (k0_hw26 : k0_chk26 v225 v227), (k0_t45_loop v225 v227).OK := fun v225 v227 k0_hw26 => k0_hw26.1
theorem k0_off112_inb : ∀ (v225 : BitVec 32) (v227 : BitVec 32) (k0_hw26 : k0_chk26 v225 v227) (k0_t45 : Fin (k0_t45_loop v225 v227).trips), ∀ a, (k0_off112 v225 v227 k0_t45) a + S2x128.size a ≤ S384x128.size a := fun v225 v227 k0_hw26 k0_t45 => k0_hw26.2.1 k0_t45
theorem k0_off113_inb : ∀ (v225 : BitVec 32) (v227 : BitVec 32) (k0_hw26 : k0_chk26 v225 v227) (k0_t45 : Fin (k0_t45_loop v225 v227).trips), ∀ a, (k0_off113 v225 v227 k0_t45) a + S1x2.size a ≤ S584x2.size a := fun v225 v227 k0_hw26 k0_t45 => k0_hw26.2.2.1 k0_t45
theorem k0_t46_ok : ∀ (v225 : BitVec 32) (v227 : BitVec 32) (k0_hw26 : k0_chk26 v225 v227), (k0_t46_loop v225 v227).OK := fun v225 v227 k0_hw26 => k0_hw26.2.2.2.1
theorem k0_off115_inb : ∀ (v225 : BitVec 32) (v227 : BitVec 32) (k0_hw26 : k0_chk26 v225 v227) (k0_t46 : Fin (k0_t46_loop v225 v227).trips), ∀ a, (k0_off115 v225 v227 k0_t46) a + S2x128.size a ≤ S384x128.size a := fun v225 v227 k0_hw26 k0_t46 => k0_hw26.2.2.2.2.1 k0_t46
theorem k0_off116_inb : ∀ (v225 : BitVec 32) (v227 : BitVec 32) (k0_hw26 : k0_chk26 v225 v227) (k0_t46 : Fin (k0_t46_loop v225 v227).trips), ∀ a, (k0_off116 v225 v227 k0_t46) a + S1x2.size a ≤ S584x2.size a := fun v225 v227 k0_hw26 k0_t46 => k0_hw26.2.2.2.2.2 k0_t46

def k0_off117 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_149 : BitVec 32 := 16#32
  let v246 : BitVec 32 := Scalar.muli arg21 c16_i32_149
  let c1_i32_150 : BitVec 32 := 1#32
  let v247 : BitVec 32 := Scalar.addi v246 c1_i32_150
  let c128_i32_151 : BitVec 32 := 128#32
  let v248 : BitVec 32 := Scalar.muli v247 c128_i32_151
  ![0, v248.toNat]
@[reducible] def k0_t47_loop (v297 : BitVec 32) (v299 : BitVec 32) : Scf.Loop 32 :=
  let c1_i32_173 : BitVec 32 := 1#32
  let v300 : BitVec 32 := Scalar.addi v297 c1_i32_173
  let c0_i32_175 : BitVec 32 := 0#32
  let v302 : BitVec 1 := Scalar.cmpi .sgt v300 c0_i32_175
  let v303 : BitVec 32 := Scalar.extui v302
  let c0_i32_176 : BitVec 32 := 0#32
  let v304 : BitVec 1 := Scalar.cmpi .slt v300 c0_i32_176
  let v305 : BitVec 32 := Scalar.extui v304
  let v306 : BitVec 32 := Scalar.subi v303 v305
  let c2_i32_174 : BitVec 32 := 2#32
  let c0_i32_177 : BitVec 32 := 0#32
  let v307 : BitVec 1 := Scalar.cmpi .sgt c2_i32_174 c0_i32_177
  let v308 : BitVec 32 := Scalar.extui v307
  let c0_i32_178 : BitVec 32 := 0#32
  let v309 : BitVec 1 := Scalar.cmpi .slt c2_i32_174 c0_i32_178
  let v310 : BitVec 32 := Scalar.extui v309
  let v311 : BitVec 32 := Scalar.subi v308 v310
  let v312 : BitVec 1 := Scalar.cmpi .ne v306 v311
  let v313 : BitVec 32 := Scalar.remsi v300 c2_i32_174
  let c0_i32_179 : BitVec 32 := 0#32
  let v314 : BitVec 1 := Scalar.cmpi .ne v313 c0_i32_179
  let v315 : BitVec 1 := Scalar.andi v312 v314
  let v301 : BitVec 32 := Scalar.divsi v300 c2_i32_174
  let c1_i32_180 : BitVec 32 := 1#32
  let v316 : BitVec 32 := Scalar.subi v301 c1_i32_180
  let v317 : BitVec 32 := Scalar.select v315 v316 v301
  let c0_i32_192 : BitVec 32 := 0#32
  let c384_i32_184 : BitVec 32 := 384#32
  let v321 : BitVec 32 := Scalar.subi c384_i32_184 v299
  let c0_i32_186 : BitVec 32 := 0#32
  let v323 : BitVec 1 := Scalar.cmpi .sgt v321 c0_i32_186
  let v324 : BitVec 32 := Scalar.extui v323
  let c0_i32_187 : BitVec 32 := 0#32
  let v325 : BitVec 1 := Scalar.cmpi .slt v321 c0_i32_187
  let v326 : BitVec 32 := Scalar.extui v325
  let v327 : BitVec 32 := Scalar.subi v324 v326
  let c2_i32_185 : BitVec 32 := 2#32
  let c0_i32_188 : BitVec 32 := 0#32
  let v328 : BitVec 1 := Scalar.cmpi .sgt c2_i32_185 c0_i32_188
  let v329 : BitVec 32 := Scalar.extui v328
  let c0_i32_189 : BitVec 32 := 0#32
  let v330 : BitVec 1 := Scalar.cmpi .slt c2_i32_185 c0_i32_189
  let v331 : BitVec 32 := Scalar.extui v330
  let v332 : BitVec 32 := Scalar.subi v329 v331
  let v333 : BitVec 1 := Scalar.cmpi .ne v327 v332
  let v334 : BitVec 32 := Scalar.remsi v321 c2_i32_185
  let c0_i32_190 : BitVec 32 := 0#32
  let v335 : BitVec 1 := Scalar.cmpi .ne v334 c0_i32_190
  let v336 : BitVec 1 := Scalar.andi v333 v335
  let v322 : BitVec 32 := Scalar.divsi v321 c2_i32_185
  let c1_i32_191 : BitVec 32 := 1#32
  let v337 : BitVec 32 := Scalar.subi v322 c1_i32_191
  let v338 : BitVec 32 := Scalar.select v336 v337 v322
  let v339 : BitVec 32 := Scalar.maxsi c0_i32_192 v338
  let v340 : BitVec 32 := Scalar.minsi v317 v339
  let c0_i32_201 : BitVec 32 := 0#32
  let c768_i32_193 : BitVec 32 := 768#32
  let v341 : BitVec 32 := Scalar.subi c768_i32_193 v299
  let c0_i32_195 : BitVec 32 := 0#32
  let v343 : BitVec 1 := Scalar.cmpi .sgt v341 c0_i32_195
  let v344 : BitVec 32 := Scalar.extui v343
  let c0_i32_196 : BitVec 32 := 0#32
  let v345 : BitVec 1 := Scalar.cmpi .slt v341 c0_i32_196
  let v346 : BitVec 32 := Scalar.extui v345
  let v347 : BitVec 32 := Scalar.subi v344 v346
  let c2_i32_194 : BitVec 32 := 2#32
  let c0_i32_197 : BitVec 32 := 0#32
  let v348 : BitVec 1 := Scalar.cmpi .sgt c2_i32_194 c0_i32_197
  let v349 : BitVec 32 := Scalar.extui v348
  let c0_i32_198 : BitVec 32 := 0#32
  let v350 : BitVec 1 := Scalar.cmpi .slt c2_i32_194 c0_i32_198
  let v351 : BitVec 32 := Scalar.extui v350
  let v352 : BitVec 32 := Scalar.subi v349 v351
  let v353 : BitVec 1 := Scalar.cmpi .ne v347 v352
  let v354 : BitVec 32 := Scalar.remsi v341 c2_i32_194
  let c0_i32_199 : BitVec 32 := 0#32
  let v355 : BitVec 1 := Scalar.cmpi .ne v354 c0_i32_199
  let v356 : BitVec 1 := Scalar.andi v353 v355
  let v342 : BitVec 32 := Scalar.divsi v341 c2_i32_194
  let c1_i32_200 : BitVec 32 := 1#32
  let v357 : BitVec 32 := Scalar.subi v342 c1_i32_200
  let v358 : BitVec 32 := Scalar.select v356 v357 v342
  let v359 : BitVec 32 := Scalar.maxsi c0_i32_201 v358
  let v360 : BitVec 32 := Scalar.minsi v317 v359
  let v361 : BitVec 32 := Scalar.subi v360 v340
  let c1_i32_202 : BitVec 32 := 1#32
  let v363 : BitVec 32 := Scalar.divsi v361 c1_i32_202
  let v364 : BitVec 32 := Scalar.muli v363 c1_i32_202
  let v365 : BitVec 32 := Scalar.addi v340 v364
  let c1_i32_203 : BitVec 32 := 1#32
  ⟨v340, v365, c1_i32_203⟩

def k0_off118 (v297 : BitVec 32) (v299 : BitVec 32) (k0_t47 : Fin (k0_t47_loop v297 v299).trips) : Fin 2 → Nat :=
  let c1_i32_173 : BitVec 32 := 1#32
  let v300 : BitVec 32 := Scalar.addi v297 c1_i32_173
  let c0_i32_175 : BitVec 32 := 0#32
  let v302 : BitVec 1 := Scalar.cmpi .sgt v300 c0_i32_175
  let v303 : BitVec 32 := Scalar.extui v302
  let c0_i32_176 : BitVec 32 := 0#32
  let v304 : BitVec 1 := Scalar.cmpi .slt v300 c0_i32_176
  let v305 : BitVec 32 := Scalar.extui v304
  let v306 : BitVec 32 := Scalar.subi v303 v305
  let c2_i32_174 : BitVec 32 := 2#32
  let c0_i32_177 : BitVec 32 := 0#32
  let v307 : BitVec 1 := Scalar.cmpi .sgt c2_i32_174 c0_i32_177
  let v308 : BitVec 32 := Scalar.extui v307
  let c0_i32_178 : BitVec 32 := 0#32
  let v309 : BitVec 1 := Scalar.cmpi .slt c2_i32_174 c0_i32_178
  let v310 : BitVec 32 := Scalar.extui v309
  let v311 : BitVec 32 := Scalar.subi v308 v310
  let v312 : BitVec 1 := Scalar.cmpi .ne v306 v311
  let v313 : BitVec 32 := Scalar.remsi v300 c2_i32_174
  let c0_i32_179 : BitVec 32 := 0#32
  let v314 : BitVec 1 := Scalar.cmpi .ne v313 c0_i32_179
  let v315 : BitVec 1 := Scalar.andi v312 v314
  let v301 : BitVec 32 := Scalar.divsi v300 c2_i32_174
  let c1_i32_180 : BitVec 32 := 1#32
  let v316 : BitVec 32 := Scalar.subi v301 c1_i32_180
  let v317 : BitVec 32 := Scalar.select v315 v316 v301
  let c0_i32_192 : BitVec 32 := 0#32
  let c384_i32_184 : BitVec 32 := 384#32
  let v321 : BitVec 32 := Scalar.subi c384_i32_184 v299
  let c0_i32_186 : BitVec 32 := 0#32
  let v323 : BitVec 1 := Scalar.cmpi .sgt v321 c0_i32_186
  let v324 : BitVec 32 := Scalar.extui v323
  let c0_i32_187 : BitVec 32 := 0#32
  let v325 : BitVec 1 := Scalar.cmpi .slt v321 c0_i32_187
  let v326 : BitVec 32 := Scalar.extui v325
  let v327 : BitVec 32 := Scalar.subi v324 v326
  let c2_i32_185 : BitVec 32 := 2#32
  let c0_i32_188 : BitVec 32 := 0#32
  let v328 : BitVec 1 := Scalar.cmpi .sgt c2_i32_185 c0_i32_188
  let v329 : BitVec 32 := Scalar.extui v328
  let c0_i32_189 : BitVec 32 := 0#32
  let v330 : BitVec 1 := Scalar.cmpi .slt c2_i32_185 c0_i32_189
  let v331 : BitVec 32 := Scalar.extui v330
  let v332 : BitVec 32 := Scalar.subi v329 v331
  let v333 : BitVec 1 := Scalar.cmpi .ne v327 v332
  let v334 : BitVec 32 := Scalar.remsi v321 c2_i32_185
  let c0_i32_190 : BitVec 32 := 0#32
  let v335 : BitVec 1 := Scalar.cmpi .ne v334 c0_i32_190
  let v336 : BitVec 1 := Scalar.andi v333 v335
  let v322 : BitVec 32 := Scalar.divsi v321 c2_i32_185
  let c1_i32_191 : BitVec 32 := 1#32
  let v337 : BitVec 32 := Scalar.subi v322 c1_i32_191
  let v338 : BitVec 32 := Scalar.select v336 v337 v322
  let v339 : BitVec 32 := Scalar.maxsi c0_i32_192 v338
  let v340 : BitVec 32 := Scalar.minsi v317 v339
  let c1_i32_203 : BitVec 32 := 1#32
  let arg23 : BitVec 32 := Scf.iv v340 c1_i32_203 k0_t47
  let c2_i32_612 : BitVec 32 := 2#32
  let v1306 : BitVec 32 := Scalar.muli arg23 c2_i32_612
  let v1307 : BitVec 32 := Scalar.addi v299 v1306
  let c384_i32_613 : BitVec 32 := 384#32
  let v1308 : BitVec 32 := Scalar.subi v1307 c384_i32_613
  let c0_i32_614 : BitVec 32 := 0#32
  ![v1308.toNat, 0]
def k0_off119 (v297 : BitVec 32) (v299 : BitVec 32) (k0_t47 : Fin (k0_t47_loop v297 v299).trips) : Fin 2 → Nat :=
  let c1_i32_611 : BitVec 32 := 1#32
  let v1304 : BitVec 32 := Scalar.shrsi v299 c1_i32_611
  let c1_i32_173 : BitVec 32 := 1#32
  let v300 : BitVec 32 := Scalar.addi v297 c1_i32_173
  let c0_i32_175 : BitVec 32 := 0#32
  let v302 : BitVec 1 := Scalar.cmpi .sgt v300 c0_i32_175
  let v303 : BitVec 32 := Scalar.extui v302
  let c0_i32_176 : BitVec 32 := 0#32
  let v304 : BitVec 1 := Scalar.cmpi .slt v300 c0_i32_176
  let v305 : BitVec 32 := Scalar.extui v304
  let v306 : BitVec 32 := Scalar.subi v303 v305
  let c2_i32_174 : BitVec 32 := 2#32
  let c0_i32_177 : BitVec 32 := 0#32
  let v307 : BitVec 1 := Scalar.cmpi .sgt c2_i32_174 c0_i32_177
  let v308 : BitVec 32 := Scalar.extui v307
  let c0_i32_178 : BitVec 32 := 0#32
  let v309 : BitVec 1 := Scalar.cmpi .slt c2_i32_174 c0_i32_178
  let v310 : BitVec 32 := Scalar.extui v309
  let v311 : BitVec 32 := Scalar.subi v308 v310
  let v312 : BitVec 1 := Scalar.cmpi .ne v306 v311
  let v313 : BitVec 32 := Scalar.remsi v300 c2_i32_174
  let c0_i32_179 : BitVec 32 := 0#32
  let v314 : BitVec 1 := Scalar.cmpi .ne v313 c0_i32_179
  let v315 : BitVec 1 := Scalar.andi v312 v314
  let v301 : BitVec 32 := Scalar.divsi v300 c2_i32_174
  let c1_i32_180 : BitVec 32 := 1#32
  let v316 : BitVec 32 := Scalar.subi v301 c1_i32_180
  let v317 : BitVec 32 := Scalar.select v315 v316 v301
  let c0_i32_192 : BitVec 32 := 0#32
  let c384_i32_184 : BitVec 32 := 384#32
  let v321 : BitVec 32 := Scalar.subi c384_i32_184 v299
  let c0_i32_186 : BitVec 32 := 0#32
  let v323 : BitVec 1 := Scalar.cmpi .sgt v321 c0_i32_186
  let v324 : BitVec 32 := Scalar.extui v323
  let c0_i32_187 : BitVec 32 := 0#32
  let v325 : BitVec 1 := Scalar.cmpi .slt v321 c0_i32_187
  let v326 : BitVec 32 := Scalar.extui v325
  let v327 : BitVec 32 := Scalar.subi v324 v326
  let c2_i32_185 : BitVec 32 := 2#32
  let c0_i32_188 : BitVec 32 := 0#32
  let v328 : BitVec 1 := Scalar.cmpi .sgt c2_i32_185 c0_i32_188
  let v329 : BitVec 32 := Scalar.extui v328
  let c0_i32_189 : BitVec 32 := 0#32
  let v330 : BitVec 1 := Scalar.cmpi .slt c2_i32_185 c0_i32_189
  let v331 : BitVec 32 := Scalar.extui v330
  let v332 : BitVec 32 := Scalar.subi v329 v331
  let v333 : BitVec 1 := Scalar.cmpi .ne v327 v332
  let v334 : BitVec 32 := Scalar.remsi v321 c2_i32_185
  let c0_i32_190 : BitVec 32 := 0#32
  let v335 : BitVec 1 := Scalar.cmpi .ne v334 c0_i32_190
  let v336 : BitVec 1 := Scalar.andi v333 v335
  let v322 : BitVec 32 := Scalar.divsi v321 c2_i32_185
  let c1_i32_191 : BitVec 32 := 1#32
  let v337 : BitVec 32 := Scalar.subi v322 c1_i32_191
  let v338 : BitVec 32 := Scalar.select v336 v337 v322
  let v339 : BitVec 32 := Scalar.maxsi c0_i32_192 v338
  let v340 : BitVec 32 := Scalar.minsi v317 v339
  let c1_i32_203 : BitVec 32 := 1#32
  let arg23 : BitVec 32 := Scf.iv v340 c1_i32_203 k0_t47
  let v1305 : BitVec 32 := Scalar.addi v1304 arg23
  let c0_i32_615 : BitVec 32 := 0#32
  ![v1305.toNat, 0]
def k0_off120 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_181 : BitVec 32 := 16#32
  let v318 : BitVec 32 := Scalar.muli arg21 c16_i32_181
  let c2_i32_182 : BitVec 32 := 2#32
  let v319 : BitVec 32 := Scalar.addi v318 c2_i32_182
  let c128_i32_183 : BitVec 32 := 128#32
  let v320 : BitVec 32 := Scalar.muli v319 c128_i32_183
  ![0, v320.toNat]
@[reducible] def k0_t48_loop (v297 : BitVec 32) (v299 : BitVec 32) : Scf.Loop 32 :=
  let c1_i32_173 : BitVec 32 := 1#32
  let v300 : BitVec 32 := Scalar.addi v297 c1_i32_173
  let c0_i32_175 : BitVec 32 := 0#32
  let v302 : BitVec 1 := Scalar.cmpi .sgt v300 c0_i32_175
  let v303 : BitVec 32 := Scalar.extui v302
  let c0_i32_176 : BitVec 32 := 0#32
  let v304 : BitVec 1 := Scalar.cmpi .slt v300 c0_i32_176
  let v305 : BitVec 32 := Scalar.extui v304
  let v306 : BitVec 32 := Scalar.subi v303 v305
  let c2_i32_174 : BitVec 32 := 2#32
  let c0_i32_177 : BitVec 32 := 0#32
  let v307 : BitVec 1 := Scalar.cmpi .sgt c2_i32_174 c0_i32_177
  let v308 : BitVec 32 := Scalar.extui v307
  let c0_i32_178 : BitVec 32 := 0#32
  let v309 : BitVec 1 := Scalar.cmpi .slt c2_i32_174 c0_i32_178
  let v310 : BitVec 32 := Scalar.extui v309
  let v311 : BitVec 32 := Scalar.subi v308 v310
  let v312 : BitVec 1 := Scalar.cmpi .ne v306 v311
  let v313 : BitVec 32 := Scalar.remsi v300 c2_i32_174
  let c0_i32_179 : BitVec 32 := 0#32
  let v314 : BitVec 1 := Scalar.cmpi .ne v313 c0_i32_179
  let v315 : BitVec 1 := Scalar.andi v312 v314
  let v301 : BitVec 32 := Scalar.divsi v300 c2_i32_174
  let c1_i32_180 : BitVec 32 := 1#32
  let v316 : BitVec 32 := Scalar.subi v301 c1_i32_180
  let v317 : BitVec 32 := Scalar.select v315 v316 v301
  let c0_i32_192 : BitVec 32 := 0#32
  let c384_i32_184 : BitVec 32 := 384#32
  let v321 : BitVec 32 := Scalar.subi c384_i32_184 v299
  let c0_i32_186 : BitVec 32 := 0#32
  let v323 : BitVec 1 := Scalar.cmpi .sgt v321 c0_i32_186
  let v324 : BitVec 32 := Scalar.extui v323
  let c0_i32_187 : BitVec 32 := 0#32
  let v325 : BitVec 1 := Scalar.cmpi .slt v321 c0_i32_187
  let v326 : BitVec 32 := Scalar.extui v325
  let v327 : BitVec 32 := Scalar.subi v324 v326
  let c2_i32_185 : BitVec 32 := 2#32
  let c0_i32_188 : BitVec 32 := 0#32
  let v328 : BitVec 1 := Scalar.cmpi .sgt c2_i32_185 c0_i32_188
  let v329 : BitVec 32 := Scalar.extui v328
  let c0_i32_189 : BitVec 32 := 0#32
  let v330 : BitVec 1 := Scalar.cmpi .slt c2_i32_185 c0_i32_189
  let v331 : BitVec 32 := Scalar.extui v330
  let v332 : BitVec 32 := Scalar.subi v329 v331
  let v333 : BitVec 1 := Scalar.cmpi .ne v327 v332
  let v334 : BitVec 32 := Scalar.remsi v321 c2_i32_185
  let c0_i32_190 : BitVec 32 := 0#32
  let v335 : BitVec 1 := Scalar.cmpi .ne v334 c0_i32_190
  let v336 : BitVec 1 := Scalar.andi v333 v335
  let v322 : BitVec 32 := Scalar.divsi v321 c2_i32_185
  let c1_i32_191 : BitVec 32 := 1#32
  let v337 : BitVec 32 := Scalar.subi v322 c1_i32_191
  let v338 : BitVec 32 := Scalar.select v336 v337 v322
  let v339 : BitVec 32 := Scalar.maxsi c0_i32_192 v338
  let v340 : BitVec 32 := Scalar.minsi v317 v339
  let c0_i32_201 : BitVec 32 := 0#32
  let c768_i32_193 : BitVec 32 := 768#32
  let v341 : BitVec 32 := Scalar.subi c768_i32_193 v299
  let c0_i32_195 : BitVec 32 := 0#32
  let v343 : BitVec 1 := Scalar.cmpi .sgt v341 c0_i32_195
  let v344 : BitVec 32 := Scalar.extui v343
  let c0_i32_196 : BitVec 32 := 0#32
  let v345 : BitVec 1 := Scalar.cmpi .slt v341 c0_i32_196
  let v346 : BitVec 32 := Scalar.extui v345
  let v347 : BitVec 32 := Scalar.subi v344 v346
  let c2_i32_194 : BitVec 32 := 2#32
  let c0_i32_197 : BitVec 32 := 0#32
  let v348 : BitVec 1 := Scalar.cmpi .sgt c2_i32_194 c0_i32_197
  let v349 : BitVec 32 := Scalar.extui v348
  let c0_i32_198 : BitVec 32 := 0#32
  let v350 : BitVec 1 := Scalar.cmpi .slt c2_i32_194 c0_i32_198
  let v351 : BitVec 32 := Scalar.extui v350
  let v352 : BitVec 32 := Scalar.subi v349 v351
  let v353 : BitVec 1 := Scalar.cmpi .ne v347 v352
  let v354 : BitVec 32 := Scalar.remsi v341 c2_i32_194
  let c0_i32_199 : BitVec 32 := 0#32
  let v355 : BitVec 1 := Scalar.cmpi .ne v354 c0_i32_199
  let v356 : BitVec 1 := Scalar.andi v353 v355
  let v342 : BitVec 32 := Scalar.divsi v341 c2_i32_194
  let c1_i32_200 : BitVec 32 := 1#32
  let v357 : BitVec 32 := Scalar.subi v342 c1_i32_200
  let v358 : BitVec 32 := Scalar.select v356 v357 v342
  let v359 : BitVec 32 := Scalar.maxsi c0_i32_201 v358
  let v360 : BitVec 32 := Scalar.minsi v317 v359
  let v361 : BitVec 32 := Scalar.subi v360 v340
  let c1_i32_202 : BitVec 32 := 1#32
  let v363 : BitVec 32 := Scalar.divsi v361 c1_i32_202
  let v364 : BitVec 32 := Scalar.muli v363 c1_i32_202
  let v365 : BitVec 32 := Scalar.addi v340 v364
  let v362 : BitVec 32 := Scalar.addi v340 v361
  let c1_i32_204 : BitVec 32 := 1#32
  ⟨v365, v362, c1_i32_204⟩
def k0_off121 (v297 : BitVec 32) (v299 : BitVec 32) (k0_t48 : Fin (k0_t48_loop v297 v299).trips) : Fin 2 → Nat :=
  let c1_i32_173 : BitVec 32 := 1#32
  let v300 : BitVec 32 := Scalar.addi v297 c1_i32_173
  let c0_i32_175 : BitVec 32 := 0#32
  let v302 : BitVec 1 := Scalar.cmpi .sgt v300 c0_i32_175
  let v303 : BitVec 32 := Scalar.extui v302
  let c0_i32_176 : BitVec 32 := 0#32
  let v304 : BitVec 1 := Scalar.cmpi .slt v300 c0_i32_176
  let v305 : BitVec 32 := Scalar.extui v304
  let v306 : BitVec 32 := Scalar.subi v303 v305
  let c2_i32_174 : BitVec 32 := 2#32
  let c0_i32_177 : BitVec 32 := 0#32
  let v307 : BitVec 1 := Scalar.cmpi .sgt c2_i32_174 c0_i32_177
  let v308 : BitVec 32 := Scalar.extui v307
  let c0_i32_178 : BitVec 32 := 0#32
  let v309 : BitVec 1 := Scalar.cmpi .slt c2_i32_174 c0_i32_178
  let v310 : BitVec 32 := Scalar.extui v309
  let v311 : BitVec 32 := Scalar.subi v308 v310
  let v312 : BitVec 1 := Scalar.cmpi .ne v306 v311
  let v313 : BitVec 32 := Scalar.remsi v300 c2_i32_174
  let c0_i32_179 : BitVec 32 := 0#32
  let v314 : BitVec 1 := Scalar.cmpi .ne v313 c0_i32_179
  let v315 : BitVec 1 := Scalar.andi v312 v314
  let v301 : BitVec 32 := Scalar.divsi v300 c2_i32_174
  let c1_i32_180 : BitVec 32 := 1#32
  let v316 : BitVec 32 := Scalar.subi v301 c1_i32_180
  let v317 : BitVec 32 := Scalar.select v315 v316 v301
  let c0_i32_192 : BitVec 32 := 0#32
  let c384_i32_184 : BitVec 32 := 384#32
  let v321 : BitVec 32 := Scalar.subi c384_i32_184 v299
  let c0_i32_186 : BitVec 32 := 0#32
  let v323 : BitVec 1 := Scalar.cmpi .sgt v321 c0_i32_186
  let v324 : BitVec 32 := Scalar.extui v323
  let c0_i32_187 : BitVec 32 := 0#32
  let v325 : BitVec 1 := Scalar.cmpi .slt v321 c0_i32_187
  let v326 : BitVec 32 := Scalar.extui v325
  let v327 : BitVec 32 := Scalar.subi v324 v326
  let c2_i32_185 : BitVec 32 := 2#32
  let c0_i32_188 : BitVec 32 := 0#32
  let v328 : BitVec 1 := Scalar.cmpi .sgt c2_i32_185 c0_i32_188
  let v329 : BitVec 32 := Scalar.extui v328
  let c0_i32_189 : BitVec 32 := 0#32
  let v330 : BitVec 1 := Scalar.cmpi .slt c2_i32_185 c0_i32_189
  let v331 : BitVec 32 := Scalar.extui v330
  let v332 : BitVec 32 := Scalar.subi v329 v331
  let v333 : BitVec 1 := Scalar.cmpi .ne v327 v332
  let v334 : BitVec 32 := Scalar.remsi v321 c2_i32_185
  let c0_i32_190 : BitVec 32 := 0#32
  let v335 : BitVec 1 := Scalar.cmpi .ne v334 c0_i32_190
  let v336 : BitVec 1 := Scalar.andi v333 v335
  let v322 : BitVec 32 := Scalar.divsi v321 c2_i32_185
  let c1_i32_191 : BitVec 32 := 1#32
  let v337 : BitVec 32 := Scalar.subi v322 c1_i32_191
  let v338 : BitVec 32 := Scalar.select v336 v337 v322
  let v339 : BitVec 32 := Scalar.maxsi c0_i32_192 v338
  let v340 : BitVec 32 := Scalar.minsi v317 v339
  let c0_i32_201 : BitVec 32 := 0#32
  let c768_i32_193 : BitVec 32 := 768#32
  let v341 : BitVec 32 := Scalar.subi c768_i32_193 v299
  let c0_i32_195 : BitVec 32 := 0#32
  let v343 : BitVec 1 := Scalar.cmpi .sgt v341 c0_i32_195
  let v344 : BitVec 32 := Scalar.extui v343
  let c0_i32_196 : BitVec 32 := 0#32
  let v345 : BitVec 1 := Scalar.cmpi .slt v341 c0_i32_196
  let v346 : BitVec 32 := Scalar.extui v345
  let v347 : BitVec 32 := Scalar.subi v344 v346
  let c2_i32_194 : BitVec 32 := 2#32
  let c0_i32_197 : BitVec 32 := 0#32
  let v348 : BitVec 1 := Scalar.cmpi .sgt c2_i32_194 c0_i32_197
  let v349 : BitVec 32 := Scalar.extui v348
  let c0_i32_198 : BitVec 32 := 0#32
  let v350 : BitVec 1 := Scalar.cmpi .slt c2_i32_194 c0_i32_198
  let v351 : BitVec 32 := Scalar.extui v350
  let v352 : BitVec 32 := Scalar.subi v349 v351
  let v353 : BitVec 1 := Scalar.cmpi .ne v347 v352
  let v354 : BitVec 32 := Scalar.remsi v341 c2_i32_194
  let c0_i32_199 : BitVec 32 := 0#32
  let v355 : BitVec 1 := Scalar.cmpi .ne v354 c0_i32_199
  let v356 : BitVec 1 := Scalar.andi v353 v355
  let v342 : BitVec 32 := Scalar.divsi v341 c2_i32_194
  let c1_i32_200 : BitVec 32 := 1#32
  let v357 : BitVec 32 := Scalar.subi v342 c1_i32_200
  let v358 : BitVec 32 := Scalar.select v356 v357 v342
  let v359 : BitVec 32 := Scalar.maxsi c0_i32_201 v358
  let v360 : BitVec 32 := Scalar.minsi v317 v359
  let v361 : BitVec 32 := Scalar.subi v360 v340
  let c1_i32_202 : BitVec 32 := 1#32
  let v363 : BitVec 32 := Scalar.divsi v361 c1_i32_202
  let v364 : BitVec 32 := Scalar.muli v363 c1_i32_202
  let v365 : BitVec 32 := Scalar.addi v340 v364
  let c1_i32_204 : BitVec 32 := 1#32
  let arg23 : BitVec 32 := Scf.iv v365 c1_i32_204 k0_t48
  let c2_i32_612 : BitVec 32 := 2#32
  let v1306 : BitVec 32 := Scalar.muli arg23 c2_i32_612
  let v1307 : BitVec 32 := Scalar.addi v299 v1306
  let c384_i32_613 : BitVec 32 := 384#32
  let v1308 : BitVec 32 := Scalar.subi v1307 c384_i32_613
  let c0_i32_614 : BitVec 32 := 0#32
  ![v1308.toNat, 0]
def k0_off122 (v297 : BitVec 32) (v299 : BitVec 32) (k0_t48 : Fin (k0_t48_loop v297 v299).trips) : Fin 2 → Nat :=
  let c1_i32_611 : BitVec 32 := 1#32
  let v1304 : BitVec 32 := Scalar.shrsi v299 c1_i32_611
  let c1_i32_173 : BitVec 32 := 1#32
  let v300 : BitVec 32 := Scalar.addi v297 c1_i32_173
  let c0_i32_175 : BitVec 32 := 0#32
  let v302 : BitVec 1 := Scalar.cmpi .sgt v300 c0_i32_175
  let v303 : BitVec 32 := Scalar.extui v302
  let c0_i32_176 : BitVec 32 := 0#32
  let v304 : BitVec 1 := Scalar.cmpi .slt v300 c0_i32_176
  let v305 : BitVec 32 := Scalar.extui v304
  let v306 : BitVec 32 := Scalar.subi v303 v305
  let c2_i32_174 : BitVec 32 := 2#32
  let c0_i32_177 : BitVec 32 := 0#32
  let v307 : BitVec 1 := Scalar.cmpi .sgt c2_i32_174 c0_i32_177
  let v308 : BitVec 32 := Scalar.extui v307
  let c0_i32_178 : BitVec 32 := 0#32
  let v309 : BitVec 1 := Scalar.cmpi .slt c2_i32_174 c0_i32_178
  let v310 : BitVec 32 := Scalar.extui v309
  let v311 : BitVec 32 := Scalar.subi v308 v310
  let v312 : BitVec 1 := Scalar.cmpi .ne v306 v311
  let v313 : BitVec 32 := Scalar.remsi v300 c2_i32_174
  let c0_i32_179 : BitVec 32 := 0#32
  let v314 : BitVec 1 := Scalar.cmpi .ne v313 c0_i32_179
  let v315 : BitVec 1 := Scalar.andi v312 v314
  let v301 : BitVec 32 := Scalar.divsi v300 c2_i32_174
  let c1_i32_180 : BitVec 32 := 1#32
  let v316 : BitVec 32 := Scalar.subi v301 c1_i32_180
  let v317 : BitVec 32 := Scalar.select v315 v316 v301
  let c0_i32_192 : BitVec 32 := 0#32
  let c384_i32_184 : BitVec 32 := 384#32
  let v321 : BitVec 32 := Scalar.subi c384_i32_184 v299
  let c0_i32_186 : BitVec 32 := 0#32
  let v323 : BitVec 1 := Scalar.cmpi .sgt v321 c0_i32_186
  let v324 : BitVec 32 := Scalar.extui v323
  let c0_i32_187 : BitVec 32 := 0#32
  let v325 : BitVec 1 := Scalar.cmpi .slt v321 c0_i32_187
  let v326 : BitVec 32 := Scalar.extui v325
  let v327 : BitVec 32 := Scalar.subi v324 v326
  let c2_i32_185 : BitVec 32 := 2#32
  let c0_i32_188 : BitVec 32 := 0#32
  let v328 : BitVec 1 := Scalar.cmpi .sgt c2_i32_185 c0_i32_188
  let v329 : BitVec 32 := Scalar.extui v328
  let c0_i32_189 : BitVec 32 := 0#32
  let v330 : BitVec 1 := Scalar.cmpi .slt c2_i32_185 c0_i32_189
  let v331 : BitVec 32 := Scalar.extui v330
  let v332 : BitVec 32 := Scalar.subi v329 v331
  let v333 : BitVec 1 := Scalar.cmpi .ne v327 v332
  let v334 : BitVec 32 := Scalar.remsi v321 c2_i32_185
  let c0_i32_190 : BitVec 32 := 0#32
  let v335 : BitVec 1 := Scalar.cmpi .ne v334 c0_i32_190
  let v336 : BitVec 1 := Scalar.andi v333 v335
  let v322 : BitVec 32 := Scalar.divsi v321 c2_i32_185
  let c1_i32_191 : BitVec 32 := 1#32
  let v337 : BitVec 32 := Scalar.subi v322 c1_i32_191
  let v338 : BitVec 32 := Scalar.select v336 v337 v322
  let v339 : BitVec 32 := Scalar.maxsi c0_i32_192 v338
  let v340 : BitVec 32 := Scalar.minsi v317 v339
  let c0_i32_201 : BitVec 32 := 0#32
  let c768_i32_193 : BitVec 32 := 768#32
  let v341 : BitVec 32 := Scalar.subi c768_i32_193 v299
  let c0_i32_195 : BitVec 32 := 0#32
  let v343 : BitVec 1 := Scalar.cmpi .sgt v341 c0_i32_195
  let v344 : BitVec 32 := Scalar.extui v343
  let c0_i32_196 : BitVec 32 := 0#32
  let v345 : BitVec 1 := Scalar.cmpi .slt v341 c0_i32_196
  let v346 : BitVec 32 := Scalar.extui v345
  let v347 : BitVec 32 := Scalar.subi v344 v346
  let c2_i32_194 : BitVec 32 := 2#32
  let c0_i32_197 : BitVec 32 := 0#32
  let v348 : BitVec 1 := Scalar.cmpi .sgt c2_i32_194 c0_i32_197
  let v349 : BitVec 32 := Scalar.extui v348
  let c0_i32_198 : BitVec 32 := 0#32
  let v350 : BitVec 1 := Scalar.cmpi .slt c2_i32_194 c0_i32_198
  let v351 : BitVec 32 := Scalar.extui v350
  let v352 : BitVec 32 := Scalar.subi v349 v351
  let v353 : BitVec 1 := Scalar.cmpi .ne v347 v352
  let v354 : BitVec 32 := Scalar.remsi v341 c2_i32_194
  let c0_i32_199 : BitVec 32 := 0#32
  let v355 : BitVec 1 := Scalar.cmpi .ne v354 c0_i32_199
  let v356 : BitVec 1 := Scalar.andi v353 v355
  let v342 : BitVec 32 := Scalar.divsi v341 c2_i32_194
  let c1_i32_200 : BitVec 32 := 1#32
  let v357 : BitVec 32 := Scalar.subi v342 c1_i32_200
  let v358 : BitVec 32 := Scalar.select v356 v357 v342
  let v359 : BitVec 32 := Scalar.maxsi c0_i32_201 v358
  let v360 : BitVec 32 := Scalar.minsi v317 v359
  let v361 : BitVec 32 := Scalar.subi v360 v340
  let c1_i32_202 : BitVec 32 := 1#32
  let v363 : BitVec 32 := Scalar.divsi v361 c1_i32_202
  let v364 : BitVec 32 := Scalar.muli v363 c1_i32_202
  let v365 : BitVec 32 := Scalar.addi v340 v364
  let c1_i32_204 : BitVec 32 := 1#32
  let arg23 : BitVec 32 := Scf.iv v365 c1_i32_204 k0_t48
  let v1305 : BitVec 32 := Scalar.addi v1304 arg23
  let c0_i32_615 : BitVec 32 := 0#32
  ![v1305.toNat, 0]

def k0_chk27 (v297 : BitVec 32) (v299 : BitVec 32) : Prop :=
  ((k0_t47_loop v297 v299).OK) ∧
  (∀ k0_t47 : Fin (k0_t47_loop v297 v299).trips, ∀ a, (k0_off118 v297 v299 k0_t47) a + S2x128.size a ≤ S384x128.size a) ∧
  (∀ k0_t47 : Fin (k0_t47_loop v297 v299).trips, ∀ a, (k0_off119 v297 v299 k0_t47) a + S1x2.size a ≤ S584x2.size a) ∧
  ((k0_t48_loop v297 v299).OK) ∧
  (∀ k0_t48 : Fin (k0_t48_loop v297 v299).trips, ∀ a, (k0_off121 v297 v299 k0_t48) a + S2x128.size a ≤ S384x128.size a) ∧
  (∀ k0_t48 : Fin (k0_t48_loop v297 v299).trips, ∀ a, (k0_off122 v297 v299 k0_t48) a + S1x2.size a ≤ S584x2.size a)
theorem k0_t47_ok : ∀ (v297 : BitVec 32) (v299 : BitVec 32) (k0_hw27 : k0_chk27 v297 v299), (k0_t47_loop v297 v299).OK := fun v297 v299 k0_hw27 => k0_hw27.1
theorem k0_off118_inb : ∀ (v297 : BitVec 32) (v299 : BitVec 32) (k0_hw27 : k0_chk27 v297 v299) (k0_t47 : Fin (k0_t47_loop v297 v299).trips), ∀ a, (k0_off118 v297 v299 k0_t47) a + S2x128.size a ≤ S384x128.size a := fun v297 v299 k0_hw27 k0_t47 => k0_hw27.2.1 k0_t47
theorem k0_off119_inb : ∀ (v297 : BitVec 32) (v299 : BitVec 32) (k0_hw27 : k0_chk27 v297 v299) (k0_t47 : Fin (k0_t47_loop v297 v299).trips), ∀ a, (k0_off119 v297 v299 k0_t47) a + S1x2.size a ≤ S584x2.size a := fun v297 v299 k0_hw27 k0_t47 => k0_hw27.2.2.1 k0_t47
theorem k0_t48_ok : ∀ (v297 : BitVec 32) (v299 : BitVec 32) (k0_hw27 : k0_chk27 v297 v299), (k0_t48_loop v297 v299).OK := fun v297 v299 k0_hw27 => k0_hw27.2.2.2.1
theorem k0_off121_inb : ∀ (v297 : BitVec 32) (v299 : BitVec 32) (k0_hw27 : k0_chk27 v297 v299) (k0_t48 : Fin (k0_t48_loop v297 v299).trips), ∀ a, (k0_off121 v297 v299 k0_t48) a + S2x128.size a ≤ S384x128.size a := fun v297 v299 k0_hw27 k0_t48 => k0_hw27.2.2.2.2.1 k0_t48
theorem k0_off122_inb : ∀ (v297 : BitVec 32) (v299 : BitVec 32) (k0_hw27 : k0_chk27 v297 v299) (k0_t48 : Fin (k0_t48_loop v297 v299).trips), ∀ a, (k0_off122 v297 v299 k0_t48) a + S1x2.size a ≤ S584x2.size a := fun v297 v299 k0_hw27 k0_t48 => k0_hw27.2.2.2.2.2 k0_t48

def k0_off123 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_181 : BitVec 32 := 16#32
  let v318 : BitVec 32 := Scalar.muli arg21 c16_i32_181
  let c2_i32_182 : BitVec 32 := 2#32
  let v319 : BitVec 32 := Scalar.addi v318 c2_i32_182
  let c128_i32_183 : BitVec 32 := 128#32
  let v320 : BitVec 32 := Scalar.muli v319 c128_i32_183
  ![0, v320.toNat]
@[reducible] def k0_t49_loop (v369 : BitVec 32) (v371 : BitVec 32) : Scf.Loop 32 :=
  let c1_i32_205 : BitVec 32 := 1#32
  let v372 : BitVec 32 := Scalar.addi v369 c1_i32_205
  let c0_i32_207 : BitVec 32 := 0#32
  let v374 : BitVec 1 := Scalar.cmpi .sgt v372 c0_i32_207
  let v375 : BitVec 32 := Scalar.extui v374
  let c0_i32_208 : BitVec 32 := 0#32
  let v376 : BitVec 1 := Scalar.cmpi .slt v372 c0_i32_208
  let v377 : BitVec 32 := Scalar.extui v376
  let v378 : BitVec 32 := Scalar.subi v375 v377
  let c2_i32_206 : BitVec 32 := 2#32
  let c0_i32_209 : BitVec 32 := 0#32
  let v379 : BitVec 1 := Scalar.cmpi .sgt c2_i32_206 c0_i32_209
  let v380 : BitVec 32 := Scalar.extui v379
  let c0_i32_210 : BitVec 32 := 0#32
  let v381 : BitVec 1 := Scalar.cmpi .slt c2_i32_206 c0_i32_210
  let v382 : BitVec 32 := Scalar.extui v381
  let v383 : BitVec 32 := Scalar.subi v380 v382
  let v384 : BitVec 1 := Scalar.cmpi .ne v378 v383
  let v385 : BitVec 32 := Scalar.remsi v372 c2_i32_206
  let c0_i32_211 : BitVec 32 := 0#32
  let v386 : BitVec 1 := Scalar.cmpi .ne v385 c0_i32_211
  let v387 : BitVec 1 := Scalar.andi v384 v386
  let v373 : BitVec 32 := Scalar.divsi v372 c2_i32_206
  let c1_i32_212 : BitVec 32 := 1#32
  let v388 : BitVec 32 := Scalar.subi v373 c1_i32_212
  let v389 : BitVec 32 := Scalar.select v387 v388 v373
  let c0_i32_224 : BitVec 32 := 0#32
  let c384_i32_216 : BitVec 32 := 384#32
  let v393 : BitVec 32 := Scalar.subi c384_i32_216 v371
  let c0_i32_218 : BitVec 32 := 0#32
  let v395 : BitVec 1 := Scalar.cmpi .sgt v393 c0_i32_218
  let v396 : BitVec 32 := Scalar.extui v395
  let c0_i32_219 : BitVec 32 := 0#32
  let v397 : BitVec 1 := Scalar.cmpi .slt v393 c0_i32_219
  let v398 : BitVec 32 := Scalar.extui v397
  let v399 : BitVec 32 := Scalar.subi v396 v398
  let c2_i32_217 : BitVec 32 := 2#32
  let c0_i32_220 : BitVec 32 := 0#32
  let v400 : BitVec 1 := Scalar.cmpi .sgt c2_i32_217 c0_i32_220
  let v401 : BitVec 32 := Scalar.extui v400
  let c0_i32_221 : BitVec 32 := 0#32
  let v402 : BitVec 1 := Scalar.cmpi .slt c2_i32_217 c0_i32_221
  let v403 : BitVec 32 := Scalar.extui v402
  let v404 : BitVec 32 := Scalar.subi v401 v403
  let v405 : BitVec 1 := Scalar.cmpi .ne v399 v404
  let v406 : BitVec 32 := Scalar.remsi v393 c2_i32_217
  let c0_i32_222 : BitVec 32 := 0#32
  let v407 : BitVec 1 := Scalar.cmpi .ne v406 c0_i32_222
  let v408 : BitVec 1 := Scalar.andi v405 v407
  let v394 : BitVec 32 := Scalar.divsi v393 c2_i32_217
  let c1_i32_223 : BitVec 32 := 1#32
  let v409 : BitVec 32 := Scalar.subi v394 c1_i32_223
  let v410 : BitVec 32 := Scalar.select v408 v409 v394
  let v411 : BitVec 32 := Scalar.maxsi c0_i32_224 v410
  let v412 : BitVec 32 := Scalar.minsi v389 v411
  let c0_i32_233 : BitVec 32 := 0#32
  let c768_i32_225 : BitVec 32 := 768#32
  let v413 : BitVec 32 := Scalar.subi c768_i32_225 v371
  let c0_i32_227 : BitVec 32 := 0#32
  let v415 : BitVec 1 := Scalar.cmpi .sgt v413 c0_i32_227
  let v416 : BitVec 32 := Scalar.extui v415
  let c0_i32_228 : BitVec 32 := 0#32
  let v417 : BitVec 1 := Scalar.cmpi .slt v413 c0_i32_228
  let v418 : BitVec 32 := Scalar.extui v417
  let v419 : BitVec 32 := Scalar.subi v416 v418
  let c2_i32_226 : BitVec 32 := 2#32
  let c0_i32_229 : BitVec 32 := 0#32
  let v420 : BitVec 1 := Scalar.cmpi .sgt c2_i32_226 c0_i32_229
  let v421 : BitVec 32 := Scalar.extui v420
  let c0_i32_230 : BitVec 32 := 0#32
  let v422 : BitVec 1 := Scalar.cmpi .slt c2_i32_226 c0_i32_230
  let v423 : BitVec 32 := Scalar.extui v422
  let v424 : BitVec 32 := Scalar.subi v421 v423
  let v425 : BitVec 1 := Scalar.cmpi .ne v419 v424
  let v426 : BitVec 32 := Scalar.remsi v413 c2_i32_226
  let c0_i32_231 : BitVec 32 := 0#32
  let v427 : BitVec 1 := Scalar.cmpi .ne v426 c0_i32_231
  let v428 : BitVec 1 := Scalar.andi v425 v427
  let v414 : BitVec 32 := Scalar.divsi v413 c2_i32_226
  let c1_i32_232 : BitVec 32 := 1#32
  let v429 : BitVec 32 := Scalar.subi v414 c1_i32_232
  let v430 : BitVec 32 := Scalar.select v428 v429 v414
  let v431 : BitVec 32 := Scalar.maxsi c0_i32_233 v430
  let v432 : BitVec 32 := Scalar.minsi v389 v431
  let v433 : BitVec 32 := Scalar.subi v432 v412
  let c1_i32_234 : BitVec 32 := 1#32
  let v435 : BitVec 32 := Scalar.divsi v433 c1_i32_234
  let v436 : BitVec 32 := Scalar.muli v435 c1_i32_234
  let v437 : BitVec 32 := Scalar.addi v412 v436
  let c1_i32_235 : BitVec 32 := 1#32
  ⟨v412, v437, c1_i32_235⟩

def k0_off124 (v369 : BitVec 32) (v371 : BitVec 32) (k0_t49 : Fin (k0_t49_loop v369 v371).trips) : Fin 2 → Nat :=
  let c1_i32_205 : BitVec 32 := 1#32
  let v372 : BitVec 32 := Scalar.addi v369 c1_i32_205
  let c0_i32_207 : BitVec 32 := 0#32
  let v374 : BitVec 1 := Scalar.cmpi .sgt v372 c0_i32_207
  let v375 : BitVec 32 := Scalar.extui v374
  let c0_i32_208 : BitVec 32 := 0#32
  let v376 : BitVec 1 := Scalar.cmpi .slt v372 c0_i32_208
  let v377 : BitVec 32 := Scalar.extui v376
  let v378 : BitVec 32 := Scalar.subi v375 v377
  let c2_i32_206 : BitVec 32 := 2#32
  let c0_i32_209 : BitVec 32 := 0#32
  let v379 : BitVec 1 := Scalar.cmpi .sgt c2_i32_206 c0_i32_209
  let v380 : BitVec 32 := Scalar.extui v379
  let c0_i32_210 : BitVec 32 := 0#32
  let v381 : BitVec 1 := Scalar.cmpi .slt c2_i32_206 c0_i32_210
  let v382 : BitVec 32 := Scalar.extui v381
  let v383 : BitVec 32 := Scalar.subi v380 v382
  let v384 : BitVec 1 := Scalar.cmpi .ne v378 v383
  let v385 : BitVec 32 := Scalar.remsi v372 c2_i32_206
  let c0_i32_211 : BitVec 32 := 0#32
  let v386 : BitVec 1 := Scalar.cmpi .ne v385 c0_i32_211
  let v387 : BitVec 1 := Scalar.andi v384 v386
  let v373 : BitVec 32 := Scalar.divsi v372 c2_i32_206
  let c1_i32_212 : BitVec 32 := 1#32
  let v388 : BitVec 32 := Scalar.subi v373 c1_i32_212
  let v389 : BitVec 32 := Scalar.select v387 v388 v373
  let c0_i32_224 : BitVec 32 := 0#32
  let c384_i32_216 : BitVec 32 := 384#32
  let v393 : BitVec 32 := Scalar.subi c384_i32_216 v371
  let c0_i32_218 : BitVec 32 := 0#32
  let v395 : BitVec 1 := Scalar.cmpi .sgt v393 c0_i32_218
  let v396 : BitVec 32 := Scalar.extui v395
  let c0_i32_219 : BitVec 32 := 0#32
  let v397 : BitVec 1 := Scalar.cmpi .slt v393 c0_i32_219
  let v398 : BitVec 32 := Scalar.extui v397
  let v399 : BitVec 32 := Scalar.subi v396 v398
  let c2_i32_217 : BitVec 32 := 2#32
  let c0_i32_220 : BitVec 32 := 0#32
  let v400 : BitVec 1 := Scalar.cmpi .sgt c2_i32_217 c0_i32_220
  let v401 : BitVec 32 := Scalar.extui v400
  let c0_i32_221 : BitVec 32 := 0#32
  let v402 : BitVec 1 := Scalar.cmpi .slt c2_i32_217 c0_i32_221
  let v403 : BitVec 32 := Scalar.extui v402
  let v404 : BitVec 32 := Scalar.subi v401 v403
  let v405 : BitVec 1 := Scalar.cmpi .ne v399 v404
  let v406 : BitVec 32 := Scalar.remsi v393 c2_i32_217
  let c0_i32_222 : BitVec 32 := 0#32
  let v407 : BitVec 1 := Scalar.cmpi .ne v406 c0_i32_222
  let v408 : BitVec 1 := Scalar.andi v405 v407
  let v394 : BitVec 32 := Scalar.divsi v393 c2_i32_217
  let c1_i32_223 : BitVec 32 := 1#32
  let v409 : BitVec 32 := Scalar.subi v394 c1_i32_223
  let v410 : BitVec 32 := Scalar.select v408 v409 v394
  let v411 : BitVec 32 := Scalar.maxsi c0_i32_224 v410
  let v412 : BitVec 32 := Scalar.minsi v389 v411
  let c1_i32_235 : BitVec 32 := 1#32
  let arg23 : BitVec 32 := Scf.iv v412 c1_i32_235 k0_t49
  let c2_i32_612 : BitVec 32 := 2#32
  let v1306 : BitVec 32 := Scalar.muli arg23 c2_i32_612
  let v1307 : BitVec 32 := Scalar.addi v371 v1306
  let c384_i32_613 : BitVec 32 := 384#32
  let v1308 : BitVec 32 := Scalar.subi v1307 c384_i32_613
  let c0_i32_614 : BitVec 32 := 0#32
  ![v1308.toNat, 0]
def k0_off125 (v369 : BitVec 32) (v371 : BitVec 32) (k0_t49 : Fin (k0_t49_loop v369 v371).trips) : Fin 2 → Nat :=
  let c1_i32_611 : BitVec 32 := 1#32
  let v1304 : BitVec 32 := Scalar.shrsi v371 c1_i32_611
  let c1_i32_205 : BitVec 32 := 1#32
  let v372 : BitVec 32 := Scalar.addi v369 c1_i32_205
  let c0_i32_207 : BitVec 32 := 0#32
  let v374 : BitVec 1 := Scalar.cmpi .sgt v372 c0_i32_207
  let v375 : BitVec 32 := Scalar.extui v374
  let c0_i32_208 : BitVec 32 := 0#32
  let v376 : BitVec 1 := Scalar.cmpi .slt v372 c0_i32_208
  let v377 : BitVec 32 := Scalar.extui v376
  let v378 : BitVec 32 := Scalar.subi v375 v377
  let c2_i32_206 : BitVec 32 := 2#32
  let c0_i32_209 : BitVec 32 := 0#32
  let v379 : BitVec 1 := Scalar.cmpi .sgt c2_i32_206 c0_i32_209
  let v380 : BitVec 32 := Scalar.extui v379
  let c0_i32_210 : BitVec 32 := 0#32
  let v381 : BitVec 1 := Scalar.cmpi .slt c2_i32_206 c0_i32_210
  let v382 : BitVec 32 := Scalar.extui v381
  let v383 : BitVec 32 := Scalar.subi v380 v382
  let v384 : BitVec 1 := Scalar.cmpi .ne v378 v383
  let v385 : BitVec 32 := Scalar.remsi v372 c2_i32_206
  let c0_i32_211 : BitVec 32 := 0#32
  let v386 : BitVec 1 := Scalar.cmpi .ne v385 c0_i32_211
  let v387 : BitVec 1 := Scalar.andi v384 v386
  let v373 : BitVec 32 := Scalar.divsi v372 c2_i32_206
  let c1_i32_212 : BitVec 32 := 1#32
  let v388 : BitVec 32 := Scalar.subi v373 c1_i32_212
  let v389 : BitVec 32 := Scalar.select v387 v388 v373
  let c0_i32_224 : BitVec 32 := 0#32
  let c384_i32_216 : BitVec 32 := 384#32
  let v393 : BitVec 32 := Scalar.subi c384_i32_216 v371
  let c0_i32_218 : BitVec 32 := 0#32
  let v395 : BitVec 1 := Scalar.cmpi .sgt v393 c0_i32_218
  let v396 : BitVec 32 := Scalar.extui v395
  let c0_i32_219 : BitVec 32 := 0#32
  let v397 : BitVec 1 := Scalar.cmpi .slt v393 c0_i32_219
  let v398 : BitVec 32 := Scalar.extui v397
  let v399 : BitVec 32 := Scalar.subi v396 v398
  let c2_i32_217 : BitVec 32 := 2#32
  let c0_i32_220 : BitVec 32 := 0#32
  let v400 : BitVec 1 := Scalar.cmpi .sgt c2_i32_217 c0_i32_220
  let v401 : BitVec 32 := Scalar.extui v400
  let c0_i32_221 : BitVec 32 := 0#32
  let v402 : BitVec 1 := Scalar.cmpi .slt c2_i32_217 c0_i32_221
  let v403 : BitVec 32 := Scalar.extui v402
  let v404 : BitVec 32 := Scalar.subi v401 v403
  let v405 : BitVec 1 := Scalar.cmpi .ne v399 v404
  let v406 : BitVec 32 := Scalar.remsi v393 c2_i32_217
  let c0_i32_222 : BitVec 32 := 0#32
  let v407 : BitVec 1 := Scalar.cmpi .ne v406 c0_i32_222
  let v408 : BitVec 1 := Scalar.andi v405 v407
  let v394 : BitVec 32 := Scalar.divsi v393 c2_i32_217
  let c1_i32_223 : BitVec 32 := 1#32
  let v409 : BitVec 32 := Scalar.subi v394 c1_i32_223
  let v410 : BitVec 32 := Scalar.select v408 v409 v394
  let v411 : BitVec 32 := Scalar.maxsi c0_i32_224 v410
  let v412 : BitVec 32 := Scalar.minsi v389 v411
  let c1_i32_235 : BitVec 32 := 1#32
  let arg23 : BitVec 32 := Scf.iv v412 c1_i32_235 k0_t49
  let v1305 : BitVec 32 := Scalar.addi v1304 arg23
  let c0_i32_615 : BitVec 32 := 0#32
  ![v1305.toNat, 0]
def k0_off126 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_213 : BitVec 32 := 16#32
  let v390 : BitVec 32 := Scalar.muli arg21 c16_i32_213
  let c3_i32_214 : BitVec 32 := 3#32
  let v391 : BitVec 32 := Scalar.addi v390 c3_i32_214
  let c128_i32_215 : BitVec 32 := 128#32
  let v392 : BitVec 32 := Scalar.muli v391 c128_i32_215
  ![0, v392.toNat]
@[reducible] def k0_t50_loop (v369 : BitVec 32) (v371 : BitVec 32) : Scf.Loop 32 :=
  let c1_i32_205 : BitVec 32 := 1#32
  let v372 : BitVec 32 := Scalar.addi v369 c1_i32_205
  let c0_i32_207 : BitVec 32 := 0#32
  let v374 : BitVec 1 := Scalar.cmpi .sgt v372 c0_i32_207
  let v375 : BitVec 32 := Scalar.extui v374
  let c0_i32_208 : BitVec 32 := 0#32
  let v376 : BitVec 1 := Scalar.cmpi .slt v372 c0_i32_208
  let v377 : BitVec 32 := Scalar.extui v376
  let v378 : BitVec 32 := Scalar.subi v375 v377
  let c2_i32_206 : BitVec 32 := 2#32
  let c0_i32_209 : BitVec 32 := 0#32
  let v379 : BitVec 1 := Scalar.cmpi .sgt c2_i32_206 c0_i32_209
  let v380 : BitVec 32 := Scalar.extui v379
  let c0_i32_210 : BitVec 32 := 0#32
  let v381 : BitVec 1 := Scalar.cmpi .slt c2_i32_206 c0_i32_210
  let v382 : BitVec 32 := Scalar.extui v381
  let v383 : BitVec 32 := Scalar.subi v380 v382
  let v384 : BitVec 1 := Scalar.cmpi .ne v378 v383
  let v385 : BitVec 32 := Scalar.remsi v372 c2_i32_206
  let c0_i32_211 : BitVec 32 := 0#32
  let v386 : BitVec 1 := Scalar.cmpi .ne v385 c0_i32_211
  let v387 : BitVec 1 := Scalar.andi v384 v386
  let v373 : BitVec 32 := Scalar.divsi v372 c2_i32_206
  let c1_i32_212 : BitVec 32 := 1#32
  let v388 : BitVec 32 := Scalar.subi v373 c1_i32_212
  let v389 : BitVec 32 := Scalar.select v387 v388 v373
  let c0_i32_224 : BitVec 32 := 0#32
  let c384_i32_216 : BitVec 32 := 384#32
  let v393 : BitVec 32 := Scalar.subi c384_i32_216 v371
  let c0_i32_218 : BitVec 32 := 0#32
  let v395 : BitVec 1 := Scalar.cmpi .sgt v393 c0_i32_218
  let v396 : BitVec 32 := Scalar.extui v395
  let c0_i32_219 : BitVec 32 := 0#32
  let v397 : BitVec 1 := Scalar.cmpi .slt v393 c0_i32_219
  let v398 : BitVec 32 := Scalar.extui v397
  let v399 : BitVec 32 := Scalar.subi v396 v398
  let c2_i32_217 : BitVec 32 := 2#32
  let c0_i32_220 : BitVec 32 := 0#32
  let v400 : BitVec 1 := Scalar.cmpi .sgt c2_i32_217 c0_i32_220
  let v401 : BitVec 32 := Scalar.extui v400
  let c0_i32_221 : BitVec 32 := 0#32
  let v402 : BitVec 1 := Scalar.cmpi .slt c2_i32_217 c0_i32_221
  let v403 : BitVec 32 := Scalar.extui v402
  let v404 : BitVec 32 := Scalar.subi v401 v403
  let v405 : BitVec 1 := Scalar.cmpi .ne v399 v404
  let v406 : BitVec 32 := Scalar.remsi v393 c2_i32_217
  let c0_i32_222 : BitVec 32 := 0#32
  let v407 : BitVec 1 := Scalar.cmpi .ne v406 c0_i32_222
  let v408 : BitVec 1 := Scalar.andi v405 v407
  let v394 : BitVec 32 := Scalar.divsi v393 c2_i32_217
  let c1_i32_223 : BitVec 32 := 1#32
  let v409 : BitVec 32 := Scalar.subi v394 c1_i32_223
  let v410 : BitVec 32 := Scalar.select v408 v409 v394
  let v411 : BitVec 32 := Scalar.maxsi c0_i32_224 v410
  let v412 : BitVec 32 := Scalar.minsi v389 v411
  let c0_i32_233 : BitVec 32 := 0#32
  let c768_i32_225 : BitVec 32 := 768#32
  let v413 : BitVec 32 := Scalar.subi c768_i32_225 v371
  let c0_i32_227 : BitVec 32 := 0#32
  let v415 : BitVec 1 := Scalar.cmpi .sgt v413 c0_i32_227
  let v416 : BitVec 32 := Scalar.extui v415
  let c0_i32_228 : BitVec 32 := 0#32
  let v417 : BitVec 1 := Scalar.cmpi .slt v413 c0_i32_228
  let v418 : BitVec 32 := Scalar.extui v417
  let v419 : BitVec 32 := Scalar.subi v416 v418
  let c2_i32_226 : BitVec 32 := 2#32
  let c0_i32_229 : BitVec 32 := 0#32
  let v420 : BitVec 1 := Scalar.cmpi .sgt c2_i32_226 c0_i32_229
  let v421 : BitVec 32 := Scalar.extui v420
  let c0_i32_230 : BitVec 32 := 0#32
  let v422 : BitVec 1 := Scalar.cmpi .slt c2_i32_226 c0_i32_230
  let v423 : BitVec 32 := Scalar.extui v422
  let v424 : BitVec 32 := Scalar.subi v421 v423
  let v425 : BitVec 1 := Scalar.cmpi .ne v419 v424
  let v426 : BitVec 32 := Scalar.remsi v413 c2_i32_226
  let c0_i32_231 : BitVec 32 := 0#32
  let v427 : BitVec 1 := Scalar.cmpi .ne v426 c0_i32_231
  let v428 : BitVec 1 := Scalar.andi v425 v427
  let v414 : BitVec 32 := Scalar.divsi v413 c2_i32_226
  let c1_i32_232 : BitVec 32 := 1#32
  let v429 : BitVec 32 := Scalar.subi v414 c1_i32_232
  let v430 : BitVec 32 := Scalar.select v428 v429 v414
  let v431 : BitVec 32 := Scalar.maxsi c0_i32_233 v430
  let v432 : BitVec 32 := Scalar.minsi v389 v431
  let v433 : BitVec 32 := Scalar.subi v432 v412
  let c1_i32_234 : BitVec 32 := 1#32
  let v435 : BitVec 32 := Scalar.divsi v433 c1_i32_234
  let v436 : BitVec 32 := Scalar.muli v435 c1_i32_234
  let v437 : BitVec 32 := Scalar.addi v412 v436
  let v434 : BitVec 32 := Scalar.addi v412 v433
  let c1_i32_236 : BitVec 32 := 1#32
  ⟨v437, v434, c1_i32_236⟩
def k0_off127 (v369 : BitVec 32) (v371 : BitVec 32) (k0_t50 : Fin (k0_t50_loop v369 v371).trips) : Fin 2 → Nat :=
  let c1_i32_205 : BitVec 32 := 1#32
  let v372 : BitVec 32 := Scalar.addi v369 c1_i32_205
  let c0_i32_207 : BitVec 32 := 0#32
  let v374 : BitVec 1 := Scalar.cmpi .sgt v372 c0_i32_207
  let v375 : BitVec 32 := Scalar.extui v374
  let c0_i32_208 : BitVec 32 := 0#32
  let v376 : BitVec 1 := Scalar.cmpi .slt v372 c0_i32_208
  let v377 : BitVec 32 := Scalar.extui v376
  let v378 : BitVec 32 := Scalar.subi v375 v377
  let c2_i32_206 : BitVec 32 := 2#32
  let c0_i32_209 : BitVec 32 := 0#32
  let v379 : BitVec 1 := Scalar.cmpi .sgt c2_i32_206 c0_i32_209
  let v380 : BitVec 32 := Scalar.extui v379
  let c0_i32_210 : BitVec 32 := 0#32
  let v381 : BitVec 1 := Scalar.cmpi .slt c2_i32_206 c0_i32_210
  let v382 : BitVec 32 := Scalar.extui v381
  let v383 : BitVec 32 := Scalar.subi v380 v382
  let v384 : BitVec 1 := Scalar.cmpi .ne v378 v383
  let v385 : BitVec 32 := Scalar.remsi v372 c2_i32_206
  let c0_i32_211 : BitVec 32 := 0#32
  let v386 : BitVec 1 := Scalar.cmpi .ne v385 c0_i32_211
  let v387 : BitVec 1 := Scalar.andi v384 v386
  let v373 : BitVec 32 := Scalar.divsi v372 c2_i32_206
  let c1_i32_212 : BitVec 32 := 1#32
  let v388 : BitVec 32 := Scalar.subi v373 c1_i32_212
  let v389 : BitVec 32 := Scalar.select v387 v388 v373
  let c0_i32_224 : BitVec 32 := 0#32
  let c384_i32_216 : BitVec 32 := 384#32
  let v393 : BitVec 32 := Scalar.subi c384_i32_216 v371
  let c0_i32_218 : BitVec 32 := 0#32
  let v395 : BitVec 1 := Scalar.cmpi .sgt v393 c0_i32_218
  let v396 : BitVec 32 := Scalar.extui v395
  let c0_i32_219 : BitVec 32 := 0#32
  let v397 : BitVec 1 := Scalar.cmpi .slt v393 c0_i32_219
  let v398 : BitVec 32 := Scalar.extui v397
  let v399 : BitVec 32 := Scalar.subi v396 v398
  let c2_i32_217 : BitVec 32 := 2#32
  let c0_i32_220 : BitVec 32 := 0#32
  let v400 : BitVec 1 := Scalar.cmpi .sgt c2_i32_217 c0_i32_220
  let v401 : BitVec 32 := Scalar.extui v400
  let c0_i32_221 : BitVec 32 := 0#32
  let v402 : BitVec 1 := Scalar.cmpi .slt c2_i32_217 c0_i32_221
  let v403 : BitVec 32 := Scalar.extui v402
  let v404 : BitVec 32 := Scalar.subi v401 v403
  let v405 : BitVec 1 := Scalar.cmpi .ne v399 v404
  let v406 : BitVec 32 := Scalar.remsi v393 c2_i32_217
  let c0_i32_222 : BitVec 32 := 0#32
  let v407 : BitVec 1 := Scalar.cmpi .ne v406 c0_i32_222
  let v408 : BitVec 1 := Scalar.andi v405 v407
  let v394 : BitVec 32 := Scalar.divsi v393 c2_i32_217
  let c1_i32_223 : BitVec 32 := 1#32
  let v409 : BitVec 32 := Scalar.subi v394 c1_i32_223
  let v410 : BitVec 32 := Scalar.select v408 v409 v394
  let v411 : BitVec 32 := Scalar.maxsi c0_i32_224 v410
  let v412 : BitVec 32 := Scalar.minsi v389 v411
  let c0_i32_233 : BitVec 32 := 0#32
  let c768_i32_225 : BitVec 32 := 768#32
  let v413 : BitVec 32 := Scalar.subi c768_i32_225 v371
  let c0_i32_227 : BitVec 32 := 0#32
  let v415 : BitVec 1 := Scalar.cmpi .sgt v413 c0_i32_227
  let v416 : BitVec 32 := Scalar.extui v415
  let c0_i32_228 : BitVec 32 := 0#32
  let v417 : BitVec 1 := Scalar.cmpi .slt v413 c0_i32_228
  let v418 : BitVec 32 := Scalar.extui v417
  let v419 : BitVec 32 := Scalar.subi v416 v418
  let c2_i32_226 : BitVec 32 := 2#32
  let c0_i32_229 : BitVec 32 := 0#32
  let v420 : BitVec 1 := Scalar.cmpi .sgt c2_i32_226 c0_i32_229
  let v421 : BitVec 32 := Scalar.extui v420
  let c0_i32_230 : BitVec 32 := 0#32
  let v422 : BitVec 1 := Scalar.cmpi .slt c2_i32_226 c0_i32_230
  let v423 : BitVec 32 := Scalar.extui v422
  let v424 : BitVec 32 := Scalar.subi v421 v423
  let v425 : BitVec 1 := Scalar.cmpi .ne v419 v424
  let v426 : BitVec 32 := Scalar.remsi v413 c2_i32_226
  let c0_i32_231 : BitVec 32 := 0#32
  let v427 : BitVec 1 := Scalar.cmpi .ne v426 c0_i32_231
  let v428 : BitVec 1 := Scalar.andi v425 v427
  let v414 : BitVec 32 := Scalar.divsi v413 c2_i32_226
  let c1_i32_232 : BitVec 32 := 1#32
  let v429 : BitVec 32 := Scalar.subi v414 c1_i32_232
  let v430 : BitVec 32 := Scalar.select v428 v429 v414
  let v431 : BitVec 32 := Scalar.maxsi c0_i32_233 v430
  let v432 : BitVec 32 := Scalar.minsi v389 v431
  let v433 : BitVec 32 := Scalar.subi v432 v412
  let c1_i32_234 : BitVec 32 := 1#32
  let v435 : BitVec 32 := Scalar.divsi v433 c1_i32_234
  let v436 : BitVec 32 := Scalar.muli v435 c1_i32_234
  let v437 : BitVec 32 := Scalar.addi v412 v436
  let c1_i32_236 : BitVec 32 := 1#32
  let arg23 : BitVec 32 := Scf.iv v437 c1_i32_236 k0_t50
  let c2_i32_612 : BitVec 32 := 2#32
  let v1306 : BitVec 32 := Scalar.muli arg23 c2_i32_612
  let v1307 : BitVec 32 := Scalar.addi v371 v1306
  let c384_i32_613 : BitVec 32 := 384#32
  let v1308 : BitVec 32 := Scalar.subi v1307 c384_i32_613
  let c0_i32_614 : BitVec 32 := 0#32
  ![v1308.toNat, 0]
def k0_off128 (v369 : BitVec 32) (v371 : BitVec 32) (k0_t50 : Fin (k0_t50_loop v369 v371).trips) : Fin 2 → Nat :=
  let c1_i32_611 : BitVec 32 := 1#32
  let v1304 : BitVec 32 := Scalar.shrsi v371 c1_i32_611
  let c1_i32_205 : BitVec 32 := 1#32
  let v372 : BitVec 32 := Scalar.addi v369 c1_i32_205
  let c0_i32_207 : BitVec 32 := 0#32
  let v374 : BitVec 1 := Scalar.cmpi .sgt v372 c0_i32_207
  let v375 : BitVec 32 := Scalar.extui v374
  let c0_i32_208 : BitVec 32 := 0#32
  let v376 : BitVec 1 := Scalar.cmpi .slt v372 c0_i32_208
  let v377 : BitVec 32 := Scalar.extui v376
  let v378 : BitVec 32 := Scalar.subi v375 v377
  let c2_i32_206 : BitVec 32 := 2#32
  let c0_i32_209 : BitVec 32 := 0#32
  let v379 : BitVec 1 := Scalar.cmpi .sgt c2_i32_206 c0_i32_209
  let v380 : BitVec 32 := Scalar.extui v379
  let c0_i32_210 : BitVec 32 := 0#32
  let v381 : BitVec 1 := Scalar.cmpi .slt c2_i32_206 c0_i32_210
  let v382 : BitVec 32 := Scalar.extui v381
  let v383 : BitVec 32 := Scalar.subi v380 v382
  let v384 : BitVec 1 := Scalar.cmpi .ne v378 v383
  let v385 : BitVec 32 := Scalar.remsi v372 c2_i32_206
  let c0_i32_211 : BitVec 32 := 0#32
  let v386 : BitVec 1 := Scalar.cmpi .ne v385 c0_i32_211
  let v387 : BitVec 1 := Scalar.andi v384 v386
  let v373 : BitVec 32 := Scalar.divsi v372 c2_i32_206
  let c1_i32_212 : BitVec 32 := 1#32
  let v388 : BitVec 32 := Scalar.subi v373 c1_i32_212
  let v389 : BitVec 32 := Scalar.select v387 v388 v373
  let c0_i32_224 : BitVec 32 := 0#32
  let c384_i32_216 : BitVec 32 := 384#32
  let v393 : BitVec 32 := Scalar.subi c384_i32_216 v371
  let c0_i32_218 : BitVec 32 := 0#32
  let v395 : BitVec 1 := Scalar.cmpi .sgt v393 c0_i32_218
  let v396 : BitVec 32 := Scalar.extui v395
  let c0_i32_219 : BitVec 32 := 0#32
  let v397 : BitVec 1 := Scalar.cmpi .slt v393 c0_i32_219
  let v398 : BitVec 32 := Scalar.extui v397
  let v399 : BitVec 32 := Scalar.subi v396 v398
  let c2_i32_217 : BitVec 32 := 2#32
  let c0_i32_220 : BitVec 32 := 0#32
  let v400 : BitVec 1 := Scalar.cmpi .sgt c2_i32_217 c0_i32_220
  let v401 : BitVec 32 := Scalar.extui v400
  let c0_i32_221 : BitVec 32 := 0#32
  let v402 : BitVec 1 := Scalar.cmpi .slt c2_i32_217 c0_i32_221
  let v403 : BitVec 32 := Scalar.extui v402
  let v404 : BitVec 32 := Scalar.subi v401 v403
  let v405 : BitVec 1 := Scalar.cmpi .ne v399 v404
  let v406 : BitVec 32 := Scalar.remsi v393 c2_i32_217
  let c0_i32_222 : BitVec 32 := 0#32
  let v407 : BitVec 1 := Scalar.cmpi .ne v406 c0_i32_222
  let v408 : BitVec 1 := Scalar.andi v405 v407
  let v394 : BitVec 32 := Scalar.divsi v393 c2_i32_217
  let c1_i32_223 : BitVec 32 := 1#32
  let v409 : BitVec 32 := Scalar.subi v394 c1_i32_223
  let v410 : BitVec 32 := Scalar.select v408 v409 v394
  let v411 : BitVec 32 := Scalar.maxsi c0_i32_224 v410
  let v412 : BitVec 32 := Scalar.minsi v389 v411
  let c0_i32_233 : BitVec 32 := 0#32
  let c768_i32_225 : BitVec 32 := 768#32
  let v413 : BitVec 32 := Scalar.subi c768_i32_225 v371
  let c0_i32_227 : BitVec 32 := 0#32
  let v415 : BitVec 1 := Scalar.cmpi .sgt v413 c0_i32_227
  let v416 : BitVec 32 := Scalar.extui v415
  let c0_i32_228 : BitVec 32 := 0#32
  let v417 : BitVec 1 := Scalar.cmpi .slt v413 c0_i32_228
  let v418 : BitVec 32 := Scalar.extui v417
  let v419 : BitVec 32 := Scalar.subi v416 v418
  let c2_i32_226 : BitVec 32 := 2#32
  let c0_i32_229 : BitVec 32 := 0#32
  let v420 : BitVec 1 := Scalar.cmpi .sgt c2_i32_226 c0_i32_229
  let v421 : BitVec 32 := Scalar.extui v420
  let c0_i32_230 : BitVec 32 := 0#32
  let v422 : BitVec 1 := Scalar.cmpi .slt c2_i32_226 c0_i32_230
  let v423 : BitVec 32 := Scalar.extui v422
  let v424 : BitVec 32 := Scalar.subi v421 v423
  let v425 : BitVec 1 := Scalar.cmpi .ne v419 v424
  let v426 : BitVec 32 := Scalar.remsi v413 c2_i32_226
  let c0_i32_231 : BitVec 32 := 0#32
  let v427 : BitVec 1 := Scalar.cmpi .ne v426 c0_i32_231
  let v428 : BitVec 1 := Scalar.andi v425 v427
  let v414 : BitVec 32 := Scalar.divsi v413 c2_i32_226
  let c1_i32_232 : BitVec 32 := 1#32
  let v429 : BitVec 32 := Scalar.subi v414 c1_i32_232
  let v430 : BitVec 32 := Scalar.select v428 v429 v414
  let v431 : BitVec 32 := Scalar.maxsi c0_i32_233 v430
  let v432 : BitVec 32 := Scalar.minsi v389 v431
  let v433 : BitVec 32 := Scalar.subi v432 v412
  let c1_i32_234 : BitVec 32 := 1#32
  let v435 : BitVec 32 := Scalar.divsi v433 c1_i32_234
  let v436 : BitVec 32 := Scalar.muli v435 c1_i32_234
  let v437 : BitVec 32 := Scalar.addi v412 v436
  let c1_i32_236 : BitVec 32 := 1#32
  let arg23 : BitVec 32 := Scf.iv v437 c1_i32_236 k0_t50
  let v1305 : BitVec 32 := Scalar.addi v1304 arg23
  let c0_i32_615 : BitVec 32 := 0#32
  ![v1305.toNat, 0]

def k0_chk28 (v369 : BitVec 32) (v371 : BitVec 32) : Prop :=
  ((k0_t49_loop v369 v371).OK) ∧
  (∀ k0_t49 : Fin (k0_t49_loop v369 v371).trips, ∀ a, (k0_off124 v369 v371 k0_t49) a + S2x128.size a ≤ S384x128.size a) ∧
  (∀ k0_t49 : Fin (k0_t49_loop v369 v371).trips, ∀ a, (k0_off125 v369 v371 k0_t49) a + S1x2.size a ≤ S584x2.size a) ∧
  ((k0_t50_loop v369 v371).OK) ∧
  (∀ k0_t50 : Fin (k0_t50_loop v369 v371).trips, ∀ a, (k0_off127 v369 v371 k0_t50) a + S2x128.size a ≤ S384x128.size a) ∧
  (∀ k0_t50 : Fin (k0_t50_loop v369 v371).trips, ∀ a, (k0_off128 v369 v371 k0_t50) a + S1x2.size a ≤ S584x2.size a)
theorem k0_t49_ok : ∀ (v369 : BitVec 32) (v371 : BitVec 32) (k0_hw28 : k0_chk28 v369 v371), (k0_t49_loop v369 v371).OK := fun v369 v371 k0_hw28 => k0_hw28.1
theorem k0_off124_inb : ∀ (v369 : BitVec 32) (v371 : BitVec 32) (k0_hw28 : k0_chk28 v369 v371) (k0_t49 : Fin (k0_t49_loop v369 v371).trips), ∀ a, (k0_off124 v369 v371 k0_t49) a + S2x128.size a ≤ S384x128.size a := fun v369 v371 k0_hw28 k0_t49 => k0_hw28.2.1 k0_t49
theorem k0_off125_inb : ∀ (v369 : BitVec 32) (v371 : BitVec 32) (k0_hw28 : k0_chk28 v369 v371) (k0_t49 : Fin (k0_t49_loop v369 v371).trips), ∀ a, (k0_off125 v369 v371 k0_t49) a + S1x2.size a ≤ S584x2.size a := fun v369 v371 k0_hw28 k0_t49 => k0_hw28.2.2.1 k0_t49
theorem k0_t50_ok : ∀ (v369 : BitVec 32) (v371 : BitVec 32) (k0_hw28 : k0_chk28 v369 v371), (k0_t50_loop v369 v371).OK := fun v369 v371 k0_hw28 => k0_hw28.2.2.2.1
theorem k0_off127_inb : ∀ (v369 : BitVec 32) (v371 : BitVec 32) (k0_hw28 : k0_chk28 v369 v371) (k0_t50 : Fin (k0_t50_loop v369 v371).trips), ∀ a, (k0_off127 v369 v371 k0_t50) a + S2x128.size a ≤ S384x128.size a := fun v369 v371 k0_hw28 k0_t50 => k0_hw28.2.2.2.2.1 k0_t50
theorem k0_off128_inb : ∀ (v369 : BitVec 32) (v371 : BitVec 32) (k0_hw28 : k0_chk28 v369 v371) (k0_t50 : Fin (k0_t50_loop v369 v371).trips), ∀ a, (k0_off128 v369 v371 k0_t50) a + S1x2.size a ≤ S584x2.size a := fun v369 v371 k0_hw28 k0_t50 => k0_hw28.2.2.2.2.2 k0_t50

def k0_off129 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_213 : BitVec 32 := 16#32
  let v390 : BitVec 32 := Scalar.muli arg21 c16_i32_213
  let c3_i32_214 : BitVec 32 := 3#32
  let v391 : BitVec 32 := Scalar.addi v390 c3_i32_214
  let c128_i32_215 : BitVec 32 := 128#32
  let v392 : BitVec 32 := Scalar.muli v391 c128_i32_215
  ![0, v392.toNat]
@[reducible] def k0_t51_loop (v441 : BitVec 32) (v443 : BitVec 32) : Scf.Loop 32 :=
  let c1_i32_237 : BitVec 32 := 1#32
  let v444 : BitVec 32 := Scalar.addi v441 c1_i32_237
  let c0_i32_239 : BitVec 32 := 0#32
  let v446 : BitVec 1 := Scalar.cmpi .sgt v444 c0_i32_239
  let v447 : BitVec 32 := Scalar.extui v446
  let c0_i32_240 : BitVec 32 := 0#32
  let v448 : BitVec 1 := Scalar.cmpi .slt v444 c0_i32_240
  let v449 : BitVec 32 := Scalar.extui v448
  let v450 : BitVec 32 := Scalar.subi v447 v449
  let c2_i32_238 : BitVec 32 := 2#32
  let c0_i32_241 : BitVec 32 := 0#32
  let v451 : BitVec 1 := Scalar.cmpi .sgt c2_i32_238 c0_i32_241
  let v452 : BitVec 32 := Scalar.extui v451
  let c0_i32_242 : BitVec 32 := 0#32
  let v453 : BitVec 1 := Scalar.cmpi .slt c2_i32_238 c0_i32_242
  let v454 : BitVec 32 := Scalar.extui v453
  let v455 : BitVec 32 := Scalar.subi v452 v454
  let v456 : BitVec 1 := Scalar.cmpi .ne v450 v455
  let v457 : BitVec 32 := Scalar.remsi v444 c2_i32_238
  let c0_i32_243 : BitVec 32 := 0#32
  let v458 : BitVec 1 := Scalar.cmpi .ne v457 c0_i32_243
  let v459 : BitVec 1 := Scalar.andi v456 v458
  let v445 : BitVec 32 := Scalar.divsi v444 c2_i32_238
  let c1_i32_244 : BitVec 32 := 1#32
  let v460 : BitVec 32 := Scalar.subi v445 c1_i32_244
  let v461 : BitVec 32 := Scalar.select v459 v460 v445
  let c0_i32_256 : BitVec 32 := 0#32
  let c384_i32_248 : BitVec 32 := 384#32
  let v465 : BitVec 32 := Scalar.subi c384_i32_248 v443
  let c0_i32_250 : BitVec 32 := 0#32
  let v467 : BitVec 1 := Scalar.cmpi .sgt v465 c0_i32_250
  let v468 : BitVec 32 := Scalar.extui v467
  let c0_i32_251 : BitVec 32 := 0#32
  let v469 : BitVec 1 := Scalar.cmpi .slt v465 c0_i32_251
  let v470 : BitVec 32 := Scalar.extui v469
  let v471 : BitVec 32 := Scalar.subi v468 v470
  let c2_i32_249 : BitVec 32 := 2#32
  let c0_i32_252 : BitVec 32 := 0#32
  let v472 : BitVec 1 := Scalar.cmpi .sgt c2_i32_249 c0_i32_252
  let v473 : BitVec 32 := Scalar.extui v472
  let c0_i32_253 : BitVec 32 := 0#32
  let v474 : BitVec 1 := Scalar.cmpi .slt c2_i32_249 c0_i32_253
  let v475 : BitVec 32 := Scalar.extui v474
  let v476 : BitVec 32 := Scalar.subi v473 v475
  let v477 : BitVec 1 := Scalar.cmpi .ne v471 v476
  let v478 : BitVec 32 := Scalar.remsi v465 c2_i32_249
  let c0_i32_254 : BitVec 32 := 0#32
  let v479 : BitVec 1 := Scalar.cmpi .ne v478 c0_i32_254
  let v480 : BitVec 1 := Scalar.andi v477 v479
  let v466 : BitVec 32 := Scalar.divsi v465 c2_i32_249
  let c1_i32_255 : BitVec 32 := 1#32
  let v481 : BitVec 32 := Scalar.subi v466 c1_i32_255
  let v482 : BitVec 32 := Scalar.select v480 v481 v466
  let v483 : BitVec 32 := Scalar.maxsi c0_i32_256 v482
  let v484 : BitVec 32 := Scalar.minsi v461 v483
  let c0_i32_265 : BitVec 32 := 0#32
  let c768_i32_257 : BitVec 32 := 768#32
  let v485 : BitVec 32 := Scalar.subi c768_i32_257 v443
  let c0_i32_259 : BitVec 32 := 0#32
  let v487 : BitVec 1 := Scalar.cmpi .sgt v485 c0_i32_259
  let v488 : BitVec 32 := Scalar.extui v487
  let c0_i32_260 : BitVec 32 := 0#32
  let v489 : BitVec 1 := Scalar.cmpi .slt v485 c0_i32_260
  let v490 : BitVec 32 := Scalar.extui v489
  let v491 : BitVec 32 := Scalar.subi v488 v490
  let c2_i32_258 : BitVec 32 := 2#32
  let c0_i32_261 : BitVec 32 := 0#32
  let v492 : BitVec 1 := Scalar.cmpi .sgt c2_i32_258 c0_i32_261
  let v493 : BitVec 32 := Scalar.extui v492
  let c0_i32_262 : BitVec 32 := 0#32
  let v494 : BitVec 1 := Scalar.cmpi .slt c2_i32_258 c0_i32_262
  let v495 : BitVec 32 := Scalar.extui v494
  let v496 : BitVec 32 := Scalar.subi v493 v495
  let v497 : BitVec 1 := Scalar.cmpi .ne v491 v496
  let v498 : BitVec 32 := Scalar.remsi v485 c2_i32_258
  let c0_i32_263 : BitVec 32 := 0#32
  let v499 : BitVec 1 := Scalar.cmpi .ne v498 c0_i32_263
  let v500 : BitVec 1 := Scalar.andi v497 v499
  let v486 : BitVec 32 := Scalar.divsi v485 c2_i32_258
  let c1_i32_264 : BitVec 32 := 1#32
  let v501 : BitVec 32 := Scalar.subi v486 c1_i32_264
  let v502 : BitVec 32 := Scalar.select v500 v501 v486
  let v503 : BitVec 32 := Scalar.maxsi c0_i32_265 v502
  let v504 : BitVec 32 := Scalar.minsi v461 v503
  let v505 : BitVec 32 := Scalar.subi v504 v484
  let c1_i32_266 : BitVec 32 := 1#32
  let v507 : BitVec 32 := Scalar.divsi v505 c1_i32_266
  let v508 : BitVec 32 := Scalar.muli v507 c1_i32_266
  let v509 : BitVec 32 := Scalar.addi v484 v508
  let c1_i32_267 : BitVec 32 := 1#32
  ⟨v484, v509, c1_i32_267⟩

def k0_off130 (v441 : BitVec 32) (v443 : BitVec 32) (k0_t51 : Fin (k0_t51_loop v441 v443).trips) : Fin 2 → Nat :=
  let c1_i32_237 : BitVec 32 := 1#32
  let v444 : BitVec 32 := Scalar.addi v441 c1_i32_237
  let c0_i32_239 : BitVec 32 := 0#32
  let v446 : BitVec 1 := Scalar.cmpi .sgt v444 c0_i32_239
  let v447 : BitVec 32 := Scalar.extui v446
  let c0_i32_240 : BitVec 32 := 0#32
  let v448 : BitVec 1 := Scalar.cmpi .slt v444 c0_i32_240
  let v449 : BitVec 32 := Scalar.extui v448
  let v450 : BitVec 32 := Scalar.subi v447 v449
  let c2_i32_238 : BitVec 32 := 2#32
  let c0_i32_241 : BitVec 32 := 0#32
  let v451 : BitVec 1 := Scalar.cmpi .sgt c2_i32_238 c0_i32_241
  let v452 : BitVec 32 := Scalar.extui v451
  let c0_i32_242 : BitVec 32 := 0#32
  let v453 : BitVec 1 := Scalar.cmpi .slt c2_i32_238 c0_i32_242
  let v454 : BitVec 32 := Scalar.extui v453
  let v455 : BitVec 32 := Scalar.subi v452 v454
  let v456 : BitVec 1 := Scalar.cmpi .ne v450 v455
  let v457 : BitVec 32 := Scalar.remsi v444 c2_i32_238
  let c0_i32_243 : BitVec 32 := 0#32
  let v458 : BitVec 1 := Scalar.cmpi .ne v457 c0_i32_243
  let v459 : BitVec 1 := Scalar.andi v456 v458
  let v445 : BitVec 32 := Scalar.divsi v444 c2_i32_238
  let c1_i32_244 : BitVec 32 := 1#32
  let v460 : BitVec 32 := Scalar.subi v445 c1_i32_244
  let v461 : BitVec 32 := Scalar.select v459 v460 v445
  let c0_i32_256 : BitVec 32 := 0#32
  let c384_i32_248 : BitVec 32 := 384#32
  let v465 : BitVec 32 := Scalar.subi c384_i32_248 v443
  let c0_i32_250 : BitVec 32 := 0#32
  let v467 : BitVec 1 := Scalar.cmpi .sgt v465 c0_i32_250
  let v468 : BitVec 32 := Scalar.extui v467
  let c0_i32_251 : BitVec 32 := 0#32
  let v469 : BitVec 1 := Scalar.cmpi .slt v465 c0_i32_251
  let v470 : BitVec 32 := Scalar.extui v469
  let v471 : BitVec 32 := Scalar.subi v468 v470
  let c2_i32_249 : BitVec 32 := 2#32
  let c0_i32_252 : BitVec 32 := 0#32
  let v472 : BitVec 1 := Scalar.cmpi .sgt c2_i32_249 c0_i32_252
  let v473 : BitVec 32 := Scalar.extui v472
  let c0_i32_253 : BitVec 32 := 0#32
  let v474 : BitVec 1 := Scalar.cmpi .slt c2_i32_249 c0_i32_253
  let v475 : BitVec 32 := Scalar.extui v474
  let v476 : BitVec 32 := Scalar.subi v473 v475
  let v477 : BitVec 1 := Scalar.cmpi .ne v471 v476
  let v478 : BitVec 32 := Scalar.remsi v465 c2_i32_249
  let c0_i32_254 : BitVec 32 := 0#32
  let v479 : BitVec 1 := Scalar.cmpi .ne v478 c0_i32_254
  let v480 : BitVec 1 := Scalar.andi v477 v479
  let v466 : BitVec 32 := Scalar.divsi v465 c2_i32_249
  let c1_i32_255 : BitVec 32 := 1#32
  let v481 : BitVec 32 := Scalar.subi v466 c1_i32_255
  let v482 : BitVec 32 := Scalar.select v480 v481 v466
  let v483 : BitVec 32 := Scalar.maxsi c0_i32_256 v482
  let v484 : BitVec 32 := Scalar.minsi v461 v483
  let c1_i32_267 : BitVec 32 := 1#32
  let arg23 : BitVec 32 := Scf.iv v484 c1_i32_267 k0_t51
  let c2_i32_612 : BitVec 32 := 2#32
  let v1306 : BitVec 32 := Scalar.muli arg23 c2_i32_612
  let v1307 : BitVec 32 := Scalar.addi v443 v1306
  let c384_i32_613 : BitVec 32 := 384#32
  let v1308 : BitVec 32 := Scalar.subi v1307 c384_i32_613
  let c0_i32_614 : BitVec 32 := 0#32
  ![v1308.toNat, 0]
def k0_off131 (v441 : BitVec 32) (v443 : BitVec 32) (k0_t51 : Fin (k0_t51_loop v441 v443).trips) : Fin 2 → Nat :=
  let c1_i32_611 : BitVec 32 := 1#32
  let v1304 : BitVec 32 := Scalar.shrsi v443 c1_i32_611
  let c1_i32_237 : BitVec 32 := 1#32
  let v444 : BitVec 32 := Scalar.addi v441 c1_i32_237
  let c0_i32_239 : BitVec 32 := 0#32
  let v446 : BitVec 1 := Scalar.cmpi .sgt v444 c0_i32_239
  let v447 : BitVec 32 := Scalar.extui v446
  let c0_i32_240 : BitVec 32 := 0#32
  let v448 : BitVec 1 := Scalar.cmpi .slt v444 c0_i32_240
  let v449 : BitVec 32 := Scalar.extui v448
  let v450 : BitVec 32 := Scalar.subi v447 v449
  let c2_i32_238 : BitVec 32 := 2#32
  let c0_i32_241 : BitVec 32 := 0#32
  let v451 : BitVec 1 := Scalar.cmpi .sgt c2_i32_238 c0_i32_241
  let v452 : BitVec 32 := Scalar.extui v451
  let c0_i32_242 : BitVec 32 := 0#32
  let v453 : BitVec 1 := Scalar.cmpi .slt c2_i32_238 c0_i32_242
  let v454 : BitVec 32 := Scalar.extui v453
  let v455 : BitVec 32 := Scalar.subi v452 v454
  let v456 : BitVec 1 := Scalar.cmpi .ne v450 v455
  let v457 : BitVec 32 := Scalar.remsi v444 c2_i32_238
  let c0_i32_243 : BitVec 32 := 0#32
  let v458 : BitVec 1 := Scalar.cmpi .ne v457 c0_i32_243
  let v459 : BitVec 1 := Scalar.andi v456 v458
  let v445 : BitVec 32 := Scalar.divsi v444 c2_i32_238
  let c1_i32_244 : BitVec 32 := 1#32
  let v460 : BitVec 32 := Scalar.subi v445 c1_i32_244
  let v461 : BitVec 32 := Scalar.select v459 v460 v445
  let c0_i32_256 : BitVec 32 := 0#32
  let c384_i32_248 : BitVec 32 := 384#32
  let v465 : BitVec 32 := Scalar.subi c384_i32_248 v443
  let c0_i32_250 : BitVec 32 := 0#32
  let v467 : BitVec 1 := Scalar.cmpi .sgt v465 c0_i32_250
  let v468 : BitVec 32 := Scalar.extui v467
  let c0_i32_251 : BitVec 32 := 0#32
  let v469 : BitVec 1 := Scalar.cmpi .slt v465 c0_i32_251
  let v470 : BitVec 32 := Scalar.extui v469
  let v471 : BitVec 32 := Scalar.subi v468 v470
  let c2_i32_249 : BitVec 32 := 2#32
  let c0_i32_252 : BitVec 32 := 0#32
  let v472 : BitVec 1 := Scalar.cmpi .sgt c2_i32_249 c0_i32_252
  let v473 : BitVec 32 := Scalar.extui v472
  let c0_i32_253 : BitVec 32 := 0#32
  let v474 : BitVec 1 := Scalar.cmpi .slt c2_i32_249 c0_i32_253
  let v475 : BitVec 32 := Scalar.extui v474
  let v476 : BitVec 32 := Scalar.subi v473 v475
  let v477 : BitVec 1 := Scalar.cmpi .ne v471 v476
  let v478 : BitVec 32 := Scalar.remsi v465 c2_i32_249
  let c0_i32_254 : BitVec 32 := 0#32
  let v479 : BitVec 1 := Scalar.cmpi .ne v478 c0_i32_254
  let v480 : BitVec 1 := Scalar.andi v477 v479
  let v466 : BitVec 32 := Scalar.divsi v465 c2_i32_249
  let c1_i32_255 : BitVec 32 := 1#32
  let v481 : BitVec 32 := Scalar.subi v466 c1_i32_255
  let v482 : BitVec 32 := Scalar.select v480 v481 v466
  let v483 : BitVec 32 := Scalar.maxsi c0_i32_256 v482
  let v484 : BitVec 32 := Scalar.minsi v461 v483
  let c1_i32_267 : BitVec 32 := 1#32
  let arg23 : BitVec 32 := Scf.iv v484 c1_i32_267 k0_t51
  let v1305 : BitVec 32 := Scalar.addi v1304 arg23
  let c0_i32_615 : BitVec 32 := 0#32
  ![v1305.toNat, 0]
def k0_off132 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_245 : BitVec 32 := 16#32
  let v462 : BitVec 32 := Scalar.muli arg21 c16_i32_245
  let c4_i32_246 : BitVec 32 := 4#32
  let v463 : BitVec 32 := Scalar.addi v462 c4_i32_246
  let c128_i32_247 : BitVec 32 := 128#32
  let v464 : BitVec 32 := Scalar.muli v463 c128_i32_247
  ![0, v464.toNat]
@[reducible] def k0_t52_loop (v441 : BitVec 32) (v443 : BitVec 32) : Scf.Loop 32 :=
  let c1_i32_237 : BitVec 32 := 1#32
  let v444 : BitVec 32 := Scalar.addi v441 c1_i32_237
  let c0_i32_239 : BitVec 32 := 0#32
  let v446 : BitVec 1 := Scalar.cmpi .sgt v444 c0_i32_239
  let v447 : BitVec 32 := Scalar.extui v446
  let c0_i32_240 : BitVec 32 := 0#32
  let v448 : BitVec 1 := Scalar.cmpi .slt v444 c0_i32_240
  let v449 : BitVec 32 := Scalar.extui v448
  let v450 : BitVec 32 := Scalar.subi v447 v449
  let c2_i32_238 : BitVec 32 := 2#32
  let c0_i32_241 : BitVec 32 := 0#32
  let v451 : BitVec 1 := Scalar.cmpi .sgt c2_i32_238 c0_i32_241
  let v452 : BitVec 32 := Scalar.extui v451
  let c0_i32_242 : BitVec 32 := 0#32
  let v453 : BitVec 1 := Scalar.cmpi .slt c2_i32_238 c0_i32_242
  let v454 : BitVec 32 := Scalar.extui v453
  let v455 : BitVec 32 := Scalar.subi v452 v454
  let v456 : BitVec 1 := Scalar.cmpi .ne v450 v455
  let v457 : BitVec 32 := Scalar.remsi v444 c2_i32_238
  let c0_i32_243 : BitVec 32 := 0#32
  let v458 : BitVec 1 := Scalar.cmpi .ne v457 c0_i32_243
  let v459 : BitVec 1 := Scalar.andi v456 v458
  let v445 : BitVec 32 := Scalar.divsi v444 c2_i32_238
  let c1_i32_244 : BitVec 32 := 1#32
  let v460 : BitVec 32 := Scalar.subi v445 c1_i32_244
  let v461 : BitVec 32 := Scalar.select v459 v460 v445
  let c0_i32_256 : BitVec 32 := 0#32
  let c384_i32_248 : BitVec 32 := 384#32
  let v465 : BitVec 32 := Scalar.subi c384_i32_248 v443
  let c0_i32_250 : BitVec 32 := 0#32
  let v467 : BitVec 1 := Scalar.cmpi .sgt v465 c0_i32_250
  let v468 : BitVec 32 := Scalar.extui v467
  let c0_i32_251 : BitVec 32 := 0#32
  let v469 : BitVec 1 := Scalar.cmpi .slt v465 c0_i32_251
  let v470 : BitVec 32 := Scalar.extui v469
  let v471 : BitVec 32 := Scalar.subi v468 v470
  let c2_i32_249 : BitVec 32 := 2#32
  let c0_i32_252 : BitVec 32 := 0#32
  let v472 : BitVec 1 := Scalar.cmpi .sgt c2_i32_249 c0_i32_252
  let v473 : BitVec 32 := Scalar.extui v472
  let c0_i32_253 : BitVec 32 := 0#32
  let v474 : BitVec 1 := Scalar.cmpi .slt c2_i32_249 c0_i32_253
  let v475 : BitVec 32 := Scalar.extui v474
  let v476 : BitVec 32 := Scalar.subi v473 v475
  let v477 : BitVec 1 := Scalar.cmpi .ne v471 v476
  let v478 : BitVec 32 := Scalar.remsi v465 c2_i32_249
  let c0_i32_254 : BitVec 32 := 0#32
  let v479 : BitVec 1 := Scalar.cmpi .ne v478 c0_i32_254
  let v480 : BitVec 1 := Scalar.andi v477 v479
  let v466 : BitVec 32 := Scalar.divsi v465 c2_i32_249
  let c1_i32_255 : BitVec 32 := 1#32
  let v481 : BitVec 32 := Scalar.subi v466 c1_i32_255
  let v482 : BitVec 32 := Scalar.select v480 v481 v466
  let v483 : BitVec 32 := Scalar.maxsi c0_i32_256 v482
  let v484 : BitVec 32 := Scalar.minsi v461 v483
  let c0_i32_265 : BitVec 32 := 0#32
  let c768_i32_257 : BitVec 32 := 768#32
  let v485 : BitVec 32 := Scalar.subi c768_i32_257 v443
  let c0_i32_259 : BitVec 32 := 0#32
  let v487 : BitVec 1 := Scalar.cmpi .sgt v485 c0_i32_259
  let v488 : BitVec 32 := Scalar.extui v487
  let c0_i32_260 : BitVec 32 := 0#32
  let v489 : BitVec 1 := Scalar.cmpi .slt v485 c0_i32_260
  let v490 : BitVec 32 := Scalar.extui v489
  let v491 : BitVec 32 := Scalar.subi v488 v490
  let c2_i32_258 : BitVec 32 := 2#32
  let c0_i32_261 : BitVec 32 := 0#32
  let v492 : BitVec 1 := Scalar.cmpi .sgt c2_i32_258 c0_i32_261
  let v493 : BitVec 32 := Scalar.extui v492
  let c0_i32_262 : BitVec 32 := 0#32
  let v494 : BitVec 1 := Scalar.cmpi .slt c2_i32_258 c0_i32_262
  let v495 : BitVec 32 := Scalar.extui v494
  let v496 : BitVec 32 := Scalar.subi v493 v495
  let v497 : BitVec 1 := Scalar.cmpi .ne v491 v496
  let v498 : BitVec 32 := Scalar.remsi v485 c2_i32_258
  let c0_i32_263 : BitVec 32 := 0#32
  let v499 : BitVec 1 := Scalar.cmpi .ne v498 c0_i32_263
  let v500 : BitVec 1 := Scalar.andi v497 v499
  let v486 : BitVec 32 := Scalar.divsi v485 c2_i32_258
  let c1_i32_264 : BitVec 32 := 1#32
  let v501 : BitVec 32 := Scalar.subi v486 c1_i32_264
  let v502 : BitVec 32 := Scalar.select v500 v501 v486
  let v503 : BitVec 32 := Scalar.maxsi c0_i32_265 v502
  let v504 : BitVec 32 := Scalar.minsi v461 v503
  let v505 : BitVec 32 := Scalar.subi v504 v484
  let c1_i32_266 : BitVec 32 := 1#32
  let v507 : BitVec 32 := Scalar.divsi v505 c1_i32_266
  let v508 : BitVec 32 := Scalar.muli v507 c1_i32_266
  let v509 : BitVec 32 := Scalar.addi v484 v508
  let v506 : BitVec 32 := Scalar.addi v484 v505
  let c1_i32_268 : BitVec 32 := 1#32
  ⟨v509, v506, c1_i32_268⟩
def k0_off133 (v441 : BitVec 32) (v443 : BitVec 32) (k0_t52 : Fin (k0_t52_loop v441 v443).trips) : Fin 2 → Nat :=
  let c1_i32_237 : BitVec 32 := 1#32
  let v444 : BitVec 32 := Scalar.addi v441 c1_i32_237
  let c0_i32_239 : BitVec 32 := 0#32
  let v446 : BitVec 1 := Scalar.cmpi .sgt v444 c0_i32_239
  let v447 : BitVec 32 := Scalar.extui v446
  let c0_i32_240 : BitVec 32 := 0#32
  let v448 : BitVec 1 := Scalar.cmpi .slt v444 c0_i32_240
  let v449 : BitVec 32 := Scalar.extui v448
  let v450 : BitVec 32 := Scalar.subi v447 v449
  let c2_i32_238 : BitVec 32 := 2#32
  let c0_i32_241 : BitVec 32 := 0#32
  let v451 : BitVec 1 := Scalar.cmpi .sgt c2_i32_238 c0_i32_241
  let v452 : BitVec 32 := Scalar.extui v451
  let c0_i32_242 : BitVec 32 := 0#32
  let v453 : BitVec 1 := Scalar.cmpi .slt c2_i32_238 c0_i32_242
  let v454 : BitVec 32 := Scalar.extui v453
  let v455 : BitVec 32 := Scalar.subi v452 v454
  let v456 : BitVec 1 := Scalar.cmpi .ne v450 v455
  let v457 : BitVec 32 := Scalar.remsi v444 c2_i32_238
  let c0_i32_243 : BitVec 32 := 0#32
  let v458 : BitVec 1 := Scalar.cmpi .ne v457 c0_i32_243
  let v459 : BitVec 1 := Scalar.andi v456 v458
  let v445 : BitVec 32 := Scalar.divsi v444 c2_i32_238
  let c1_i32_244 : BitVec 32 := 1#32
  let v460 : BitVec 32 := Scalar.subi v445 c1_i32_244
  let v461 : BitVec 32 := Scalar.select v459 v460 v445
  let c0_i32_256 : BitVec 32 := 0#32
  let c384_i32_248 : BitVec 32 := 384#32
  let v465 : BitVec 32 := Scalar.subi c384_i32_248 v443
  let c0_i32_250 : BitVec 32 := 0#32
  let v467 : BitVec 1 := Scalar.cmpi .sgt v465 c0_i32_250
  let v468 : BitVec 32 := Scalar.extui v467
  let c0_i32_251 : BitVec 32 := 0#32
  let v469 : BitVec 1 := Scalar.cmpi .slt v465 c0_i32_251
  let v470 : BitVec 32 := Scalar.extui v469
  let v471 : BitVec 32 := Scalar.subi v468 v470
  let c2_i32_249 : BitVec 32 := 2#32
  let c0_i32_252 : BitVec 32 := 0#32
  let v472 : BitVec 1 := Scalar.cmpi .sgt c2_i32_249 c0_i32_252
  let v473 : BitVec 32 := Scalar.extui v472
  let c0_i32_253 : BitVec 32 := 0#32
  let v474 : BitVec 1 := Scalar.cmpi .slt c2_i32_249 c0_i32_253
  let v475 : BitVec 32 := Scalar.extui v474
  let v476 : BitVec 32 := Scalar.subi v473 v475
  let v477 : BitVec 1 := Scalar.cmpi .ne v471 v476
  let v478 : BitVec 32 := Scalar.remsi v465 c2_i32_249
  let c0_i32_254 : BitVec 32 := 0#32
  let v479 : BitVec 1 := Scalar.cmpi .ne v478 c0_i32_254
  let v480 : BitVec 1 := Scalar.andi v477 v479
  let v466 : BitVec 32 := Scalar.divsi v465 c2_i32_249
  let c1_i32_255 : BitVec 32 := 1#32
  let v481 : BitVec 32 := Scalar.subi v466 c1_i32_255
  let v482 : BitVec 32 := Scalar.select v480 v481 v466
  let v483 : BitVec 32 := Scalar.maxsi c0_i32_256 v482
  let v484 : BitVec 32 := Scalar.minsi v461 v483
  let c0_i32_265 : BitVec 32 := 0#32
  let c768_i32_257 : BitVec 32 := 768#32
  let v485 : BitVec 32 := Scalar.subi c768_i32_257 v443
  let c0_i32_259 : BitVec 32 := 0#32
  let v487 : BitVec 1 := Scalar.cmpi .sgt v485 c0_i32_259
  let v488 : BitVec 32 := Scalar.extui v487
  let c0_i32_260 : BitVec 32 := 0#32
  let v489 : BitVec 1 := Scalar.cmpi .slt v485 c0_i32_260
  let v490 : BitVec 32 := Scalar.extui v489
  let v491 : BitVec 32 := Scalar.subi v488 v490
  let c2_i32_258 : BitVec 32 := 2#32
  let c0_i32_261 : BitVec 32 := 0#32
  let v492 : BitVec 1 := Scalar.cmpi .sgt c2_i32_258 c0_i32_261
  let v493 : BitVec 32 := Scalar.extui v492
  let c0_i32_262 : BitVec 32 := 0#32
  let v494 : BitVec 1 := Scalar.cmpi .slt c2_i32_258 c0_i32_262
  let v495 : BitVec 32 := Scalar.extui v494
  let v496 : BitVec 32 := Scalar.subi v493 v495
  let v497 : BitVec 1 := Scalar.cmpi .ne v491 v496
  let v498 : BitVec 32 := Scalar.remsi v485 c2_i32_258
  let c0_i32_263 : BitVec 32 := 0#32
  let v499 : BitVec 1 := Scalar.cmpi .ne v498 c0_i32_263
  let v500 : BitVec 1 := Scalar.andi v497 v499
  let v486 : BitVec 32 := Scalar.divsi v485 c2_i32_258
  let c1_i32_264 : BitVec 32 := 1#32
  let v501 : BitVec 32 := Scalar.subi v486 c1_i32_264
  let v502 : BitVec 32 := Scalar.select v500 v501 v486
  let v503 : BitVec 32 := Scalar.maxsi c0_i32_265 v502
  let v504 : BitVec 32 := Scalar.minsi v461 v503
  let v505 : BitVec 32 := Scalar.subi v504 v484
  let c1_i32_266 : BitVec 32 := 1#32
  let v507 : BitVec 32 := Scalar.divsi v505 c1_i32_266
  let v508 : BitVec 32 := Scalar.muli v507 c1_i32_266
  let v509 : BitVec 32 := Scalar.addi v484 v508
  let c1_i32_268 : BitVec 32 := 1#32
  let arg23 : BitVec 32 := Scf.iv v509 c1_i32_268 k0_t52
  let c2_i32_612 : BitVec 32 := 2#32
  let v1306 : BitVec 32 := Scalar.muli arg23 c2_i32_612
  let v1307 : BitVec 32 := Scalar.addi v443 v1306
  let c384_i32_613 : BitVec 32 := 384#32
  let v1308 : BitVec 32 := Scalar.subi v1307 c384_i32_613
  let c0_i32_614 : BitVec 32 := 0#32
  ![v1308.toNat, 0]
def k0_off134 (v441 : BitVec 32) (v443 : BitVec 32) (k0_t52 : Fin (k0_t52_loop v441 v443).trips) : Fin 2 → Nat :=
  let c1_i32_611 : BitVec 32 := 1#32
  let v1304 : BitVec 32 := Scalar.shrsi v443 c1_i32_611
  let c1_i32_237 : BitVec 32 := 1#32
  let v444 : BitVec 32 := Scalar.addi v441 c1_i32_237
  let c0_i32_239 : BitVec 32 := 0#32
  let v446 : BitVec 1 := Scalar.cmpi .sgt v444 c0_i32_239
  let v447 : BitVec 32 := Scalar.extui v446
  let c0_i32_240 : BitVec 32 := 0#32
  let v448 : BitVec 1 := Scalar.cmpi .slt v444 c0_i32_240
  let v449 : BitVec 32 := Scalar.extui v448
  let v450 : BitVec 32 := Scalar.subi v447 v449
  let c2_i32_238 : BitVec 32 := 2#32
  let c0_i32_241 : BitVec 32 := 0#32
  let v451 : BitVec 1 := Scalar.cmpi .sgt c2_i32_238 c0_i32_241
  let v452 : BitVec 32 := Scalar.extui v451
  let c0_i32_242 : BitVec 32 := 0#32
  let v453 : BitVec 1 := Scalar.cmpi .slt c2_i32_238 c0_i32_242
  let v454 : BitVec 32 := Scalar.extui v453
  let v455 : BitVec 32 := Scalar.subi v452 v454
  let v456 : BitVec 1 := Scalar.cmpi .ne v450 v455
  let v457 : BitVec 32 := Scalar.remsi v444 c2_i32_238
  let c0_i32_243 : BitVec 32 := 0#32
  let v458 : BitVec 1 := Scalar.cmpi .ne v457 c0_i32_243
  let v459 : BitVec 1 := Scalar.andi v456 v458
  let v445 : BitVec 32 := Scalar.divsi v444 c2_i32_238
  let c1_i32_244 : BitVec 32 := 1#32
  let v460 : BitVec 32 := Scalar.subi v445 c1_i32_244
  let v461 : BitVec 32 := Scalar.select v459 v460 v445
  let c0_i32_256 : BitVec 32 := 0#32
  let c384_i32_248 : BitVec 32 := 384#32
  let v465 : BitVec 32 := Scalar.subi c384_i32_248 v443
  let c0_i32_250 : BitVec 32 := 0#32
  let v467 : BitVec 1 := Scalar.cmpi .sgt v465 c0_i32_250
  let v468 : BitVec 32 := Scalar.extui v467
  let c0_i32_251 : BitVec 32 := 0#32
  let v469 : BitVec 1 := Scalar.cmpi .slt v465 c0_i32_251
  let v470 : BitVec 32 := Scalar.extui v469
  let v471 : BitVec 32 := Scalar.subi v468 v470
  let c2_i32_249 : BitVec 32 := 2#32
  let c0_i32_252 : BitVec 32 := 0#32
  let v472 : BitVec 1 := Scalar.cmpi .sgt c2_i32_249 c0_i32_252
  let v473 : BitVec 32 := Scalar.extui v472
  let c0_i32_253 : BitVec 32 := 0#32
  let v474 : BitVec 1 := Scalar.cmpi .slt c2_i32_249 c0_i32_253
  let v475 : BitVec 32 := Scalar.extui v474
  let v476 : BitVec 32 := Scalar.subi v473 v475
  let v477 : BitVec 1 := Scalar.cmpi .ne v471 v476
  let v478 : BitVec 32 := Scalar.remsi v465 c2_i32_249
  let c0_i32_254 : BitVec 32 := 0#32
  let v479 : BitVec 1 := Scalar.cmpi .ne v478 c0_i32_254
  let v480 : BitVec 1 := Scalar.andi v477 v479
  let v466 : BitVec 32 := Scalar.divsi v465 c2_i32_249
  let c1_i32_255 : BitVec 32 := 1#32
  let v481 : BitVec 32 := Scalar.subi v466 c1_i32_255
  let v482 : BitVec 32 := Scalar.select v480 v481 v466
  let v483 : BitVec 32 := Scalar.maxsi c0_i32_256 v482
  let v484 : BitVec 32 := Scalar.minsi v461 v483
  let c0_i32_265 : BitVec 32 := 0#32
  let c768_i32_257 : BitVec 32 := 768#32
  let v485 : BitVec 32 := Scalar.subi c768_i32_257 v443
  let c0_i32_259 : BitVec 32 := 0#32
  let v487 : BitVec 1 := Scalar.cmpi .sgt v485 c0_i32_259
  let v488 : BitVec 32 := Scalar.extui v487
  let c0_i32_260 : BitVec 32 := 0#32
  let v489 : BitVec 1 := Scalar.cmpi .slt v485 c0_i32_260
  let v490 : BitVec 32 := Scalar.extui v489
  let v491 : BitVec 32 := Scalar.subi v488 v490
  let c2_i32_258 : BitVec 32 := 2#32
  let c0_i32_261 : BitVec 32 := 0#32
  let v492 : BitVec 1 := Scalar.cmpi .sgt c2_i32_258 c0_i32_261
  let v493 : BitVec 32 := Scalar.extui v492
  let c0_i32_262 : BitVec 32 := 0#32
  let v494 : BitVec 1 := Scalar.cmpi .slt c2_i32_258 c0_i32_262
  let v495 : BitVec 32 := Scalar.extui v494
  let v496 : BitVec 32 := Scalar.subi v493 v495
  let v497 : BitVec 1 := Scalar.cmpi .ne v491 v496
  let v498 : BitVec 32 := Scalar.remsi v485 c2_i32_258
  let c0_i32_263 : BitVec 32 := 0#32
  let v499 : BitVec 1 := Scalar.cmpi .ne v498 c0_i32_263
  let v500 : BitVec 1 := Scalar.andi v497 v499
  let v486 : BitVec 32 := Scalar.divsi v485 c2_i32_258
  let c1_i32_264 : BitVec 32 := 1#32
  let v501 : BitVec 32 := Scalar.subi v486 c1_i32_264
  let v502 : BitVec 32 := Scalar.select v500 v501 v486
  let v503 : BitVec 32 := Scalar.maxsi c0_i32_265 v502
  let v504 : BitVec 32 := Scalar.minsi v461 v503
  let v505 : BitVec 32 := Scalar.subi v504 v484
  let c1_i32_266 : BitVec 32 := 1#32
  let v507 : BitVec 32 := Scalar.divsi v505 c1_i32_266
  let v508 : BitVec 32 := Scalar.muli v507 c1_i32_266
  let v509 : BitVec 32 := Scalar.addi v484 v508
  let c1_i32_268 : BitVec 32 := 1#32
  let arg23 : BitVec 32 := Scf.iv v509 c1_i32_268 k0_t52
  let v1305 : BitVec 32 := Scalar.addi v1304 arg23
  let c0_i32_615 : BitVec 32 := 0#32
  ![v1305.toNat, 0]

def k0_chk29 (v441 : BitVec 32) (v443 : BitVec 32) : Prop :=
  ((k0_t51_loop v441 v443).OK) ∧
  (∀ k0_t51 : Fin (k0_t51_loop v441 v443).trips, ∀ a, (k0_off130 v441 v443 k0_t51) a + S2x128.size a ≤ S384x128.size a) ∧
  (∀ k0_t51 : Fin (k0_t51_loop v441 v443).trips, ∀ a, (k0_off131 v441 v443 k0_t51) a + S1x2.size a ≤ S584x2.size a) ∧
  ((k0_t52_loop v441 v443).OK) ∧
  (∀ k0_t52 : Fin (k0_t52_loop v441 v443).trips, ∀ a, (k0_off133 v441 v443 k0_t52) a + S2x128.size a ≤ S384x128.size a) ∧
  (∀ k0_t52 : Fin (k0_t52_loop v441 v443).trips, ∀ a, (k0_off134 v441 v443 k0_t52) a + S1x2.size a ≤ S584x2.size a)
theorem k0_t51_ok : ∀ (v441 : BitVec 32) (v443 : BitVec 32) (k0_hw29 : k0_chk29 v441 v443), (k0_t51_loop v441 v443).OK := fun v441 v443 k0_hw29 => k0_hw29.1
theorem k0_off130_inb : ∀ (v441 : BitVec 32) (v443 : BitVec 32) (k0_hw29 : k0_chk29 v441 v443) (k0_t51 : Fin (k0_t51_loop v441 v443).trips), ∀ a, (k0_off130 v441 v443 k0_t51) a + S2x128.size a ≤ S384x128.size a := fun v441 v443 k0_hw29 k0_t51 => k0_hw29.2.1 k0_t51
theorem k0_off131_inb : ∀ (v441 : BitVec 32) (v443 : BitVec 32) (k0_hw29 : k0_chk29 v441 v443) (k0_t51 : Fin (k0_t51_loop v441 v443).trips), ∀ a, (k0_off131 v441 v443 k0_t51) a + S1x2.size a ≤ S584x2.size a := fun v441 v443 k0_hw29 k0_t51 => k0_hw29.2.2.1 k0_t51
theorem k0_t52_ok : ∀ (v441 : BitVec 32) (v443 : BitVec 32) (k0_hw29 : k0_chk29 v441 v443), (k0_t52_loop v441 v443).OK := fun v441 v443 k0_hw29 => k0_hw29.2.2.2.1
theorem k0_off133_inb : ∀ (v441 : BitVec 32) (v443 : BitVec 32) (k0_hw29 : k0_chk29 v441 v443) (k0_t52 : Fin (k0_t52_loop v441 v443).trips), ∀ a, (k0_off133 v441 v443 k0_t52) a + S2x128.size a ≤ S384x128.size a := fun v441 v443 k0_hw29 k0_t52 => k0_hw29.2.2.2.2.1 k0_t52
theorem k0_off134_inb : ∀ (v441 : BitVec 32) (v443 : BitVec 32) (k0_hw29 : k0_chk29 v441 v443) (k0_t52 : Fin (k0_t52_loop v441 v443).trips), ∀ a, (k0_off134 v441 v443 k0_t52) a + S1x2.size a ≤ S584x2.size a := fun v441 v443 k0_hw29 k0_t52 => k0_hw29.2.2.2.2.2 k0_t52

def k0_off135 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_245 : BitVec 32 := 16#32
  let v462 : BitVec 32 := Scalar.muli arg21 c16_i32_245
  let c4_i32_246 : BitVec 32 := 4#32
  let v463 : BitVec 32 := Scalar.addi v462 c4_i32_246
  let c128_i32_247 : BitVec 32 := 128#32
  let v464 : BitVec 32 := Scalar.muli v463 c128_i32_247
  ![0, v464.toNat]
@[reducible] def k0_t53_loop (v513 : BitVec 32) (v515 : BitVec 32) : Scf.Loop 32 :=
  let c1_i32_269 : BitVec 32 := 1#32
  let v516 : BitVec 32 := Scalar.addi v513 c1_i32_269
  let c0_i32_271 : BitVec 32 := 0#32
  let v518 : BitVec 1 := Scalar.cmpi .sgt v516 c0_i32_271
  let v519 : BitVec 32 := Scalar.extui v518
  let c0_i32_272 : BitVec 32 := 0#32
  let v520 : BitVec 1 := Scalar.cmpi .slt v516 c0_i32_272
  let v521 : BitVec 32 := Scalar.extui v520
  let v522 : BitVec 32 := Scalar.subi v519 v521
  let c2_i32_270 : BitVec 32 := 2#32
  let c0_i32_273 : BitVec 32 := 0#32
  let v523 : BitVec 1 := Scalar.cmpi .sgt c2_i32_270 c0_i32_273
  let v524 : BitVec 32 := Scalar.extui v523
  let c0_i32_274 : BitVec 32 := 0#32
  let v525 : BitVec 1 := Scalar.cmpi .slt c2_i32_270 c0_i32_274
  let v526 : BitVec 32 := Scalar.extui v525
  let v527 : BitVec 32 := Scalar.subi v524 v526
  let v528 : BitVec 1 := Scalar.cmpi .ne v522 v527
  let v529 : BitVec 32 := Scalar.remsi v516 c2_i32_270
  let c0_i32_275 : BitVec 32 := 0#32
  let v530 : BitVec 1 := Scalar.cmpi .ne v529 c0_i32_275
  let v531 : BitVec 1 := Scalar.andi v528 v530
  let v517 : BitVec 32 := Scalar.divsi v516 c2_i32_270
  let c1_i32_276 : BitVec 32 := 1#32
  let v532 : BitVec 32 := Scalar.subi v517 c1_i32_276
  let v533 : BitVec 32 := Scalar.select v531 v532 v517
  let c0_i32_287 : BitVec 32 := 0#32
  let c384_i32_279 : BitVec 32 := 384#32
  let v537 : BitVec 32 := Scalar.subi c384_i32_279 v515
  let c0_i32_281 : BitVec 32 := 0#32
  let v539 : BitVec 1 := Scalar.cmpi .sgt v537 c0_i32_281
  let v540 : BitVec 32 := Scalar.extui v539
  let c0_i32_282 : BitVec 32 := 0#32
  let v541 : BitVec 1 := Scalar.cmpi .slt v537 c0_i32_282
  let v542 : BitVec 32 := Scalar.extui v541
  let v543 : BitVec 32 := Scalar.subi v540 v542
  let c2_i32_280 : BitVec 32 := 2#32
  let c0_i32_283 : BitVec 32 := 0#32
  let v544 : BitVec 1 := Scalar.cmpi .sgt c2_i32_280 c0_i32_283
  let v545 : BitVec 32 := Scalar.extui v544
  let c0_i32_284 : BitVec 32 := 0#32
  let v546 : BitVec 1 := Scalar.cmpi .slt c2_i32_280 c0_i32_284
  let v547 : BitVec 32 := Scalar.extui v546
  let v548 : BitVec 32 := Scalar.subi v545 v547
  let v549 : BitVec 1 := Scalar.cmpi .ne v543 v548
  let v550 : BitVec 32 := Scalar.remsi v537 c2_i32_280
  let c0_i32_285 : BitVec 32 := 0#32
  let v551 : BitVec 1 := Scalar.cmpi .ne v550 c0_i32_285
  let v552 : BitVec 1 := Scalar.andi v549 v551
  let v538 : BitVec 32 := Scalar.divsi v537 c2_i32_280
  let c1_i32_286 : BitVec 32 := 1#32
  let v553 : BitVec 32 := Scalar.subi v538 c1_i32_286
  let v554 : BitVec 32 := Scalar.select v552 v553 v538
  let v555 : BitVec 32 := Scalar.maxsi c0_i32_287 v554
  let v556 : BitVec 32 := Scalar.minsi v533 v555
  let c0_i32_296 : BitVec 32 := 0#32
  let c768_i32_288 : BitVec 32 := 768#32
  let v557 : BitVec 32 := Scalar.subi c768_i32_288 v515
  let c0_i32_290 : BitVec 32 := 0#32
  let v559 : BitVec 1 := Scalar.cmpi .sgt v557 c0_i32_290
  let v560 : BitVec 32 := Scalar.extui v559
  let c0_i32_291 : BitVec 32 := 0#32
  let v561 : BitVec 1 := Scalar.cmpi .slt v557 c0_i32_291
  let v562 : BitVec 32 := Scalar.extui v561
  let v563 : BitVec 32 := Scalar.subi v560 v562
  let c2_i32_289 : BitVec 32 := 2#32
  let c0_i32_292 : BitVec 32 := 0#32
  let v564 : BitVec 1 := Scalar.cmpi .sgt c2_i32_289 c0_i32_292
  let v565 : BitVec 32 := Scalar.extui v564
  let c0_i32_293 : BitVec 32 := 0#32
  let v566 : BitVec 1 := Scalar.cmpi .slt c2_i32_289 c0_i32_293
  let v567 : BitVec 32 := Scalar.extui v566
  let v568 : BitVec 32 := Scalar.subi v565 v567
  let v569 : BitVec 1 := Scalar.cmpi .ne v563 v568
  let v570 : BitVec 32 := Scalar.remsi v557 c2_i32_289
  let c0_i32_294 : BitVec 32 := 0#32
  let v571 : BitVec 1 := Scalar.cmpi .ne v570 c0_i32_294
  let v572 : BitVec 1 := Scalar.andi v569 v571
  let v558 : BitVec 32 := Scalar.divsi v557 c2_i32_289
  let c1_i32_295 : BitVec 32 := 1#32
  let v573 : BitVec 32 := Scalar.subi v558 c1_i32_295
  let v574 : BitVec 32 := Scalar.select v572 v573 v558
  let v575 : BitVec 32 := Scalar.maxsi c0_i32_296 v574
  let v576 : BitVec 32 := Scalar.minsi v533 v575
  let v577 : BitVec 32 := Scalar.subi v576 v556
  let c1_i32_297 : BitVec 32 := 1#32
  let v579 : BitVec 32 := Scalar.divsi v577 c1_i32_297
  let v580 : BitVec 32 := Scalar.muli v579 c1_i32_297
  let v581 : BitVec 32 := Scalar.addi v556 v580
  let c1_i32_298 : BitVec 32 := 1#32
  ⟨v556, v581, c1_i32_298⟩

def k0_off136 (v513 : BitVec 32) (v515 : BitVec 32) (k0_t53 : Fin (k0_t53_loop v513 v515).trips) : Fin 2 → Nat :=
  let c1_i32_269 : BitVec 32 := 1#32
  let v516 : BitVec 32 := Scalar.addi v513 c1_i32_269
  let c0_i32_271 : BitVec 32 := 0#32
  let v518 : BitVec 1 := Scalar.cmpi .sgt v516 c0_i32_271
  let v519 : BitVec 32 := Scalar.extui v518
  let c0_i32_272 : BitVec 32 := 0#32
  let v520 : BitVec 1 := Scalar.cmpi .slt v516 c0_i32_272
  let v521 : BitVec 32 := Scalar.extui v520
  let v522 : BitVec 32 := Scalar.subi v519 v521
  let c2_i32_270 : BitVec 32 := 2#32
  let c0_i32_273 : BitVec 32 := 0#32
  let v523 : BitVec 1 := Scalar.cmpi .sgt c2_i32_270 c0_i32_273
  let v524 : BitVec 32 := Scalar.extui v523
  let c0_i32_274 : BitVec 32 := 0#32
  let v525 : BitVec 1 := Scalar.cmpi .slt c2_i32_270 c0_i32_274
  let v526 : BitVec 32 := Scalar.extui v525
  let v527 : BitVec 32 := Scalar.subi v524 v526
  let v528 : BitVec 1 := Scalar.cmpi .ne v522 v527
  let v529 : BitVec 32 := Scalar.remsi v516 c2_i32_270
  let c0_i32_275 : BitVec 32 := 0#32
  let v530 : BitVec 1 := Scalar.cmpi .ne v529 c0_i32_275
  let v531 : BitVec 1 := Scalar.andi v528 v530
  let v517 : BitVec 32 := Scalar.divsi v516 c2_i32_270
  let c1_i32_276 : BitVec 32 := 1#32
  let v532 : BitVec 32 := Scalar.subi v517 c1_i32_276
  let v533 : BitVec 32 := Scalar.select v531 v532 v517
  let c0_i32_287 : BitVec 32 := 0#32
  let c384_i32_279 : BitVec 32 := 384#32
  let v537 : BitVec 32 := Scalar.subi c384_i32_279 v515
  let c0_i32_281 : BitVec 32 := 0#32
  let v539 : BitVec 1 := Scalar.cmpi .sgt v537 c0_i32_281
  let v540 : BitVec 32 := Scalar.extui v539
  let c0_i32_282 : BitVec 32 := 0#32
  let v541 : BitVec 1 := Scalar.cmpi .slt v537 c0_i32_282
  let v542 : BitVec 32 := Scalar.extui v541
  let v543 : BitVec 32 := Scalar.subi v540 v542
  let c2_i32_280 : BitVec 32 := 2#32
  let c0_i32_283 : BitVec 32 := 0#32
  let v544 : BitVec 1 := Scalar.cmpi .sgt c2_i32_280 c0_i32_283
  let v545 : BitVec 32 := Scalar.extui v544
  let c0_i32_284 : BitVec 32 := 0#32
  let v546 : BitVec 1 := Scalar.cmpi .slt c2_i32_280 c0_i32_284
  let v547 : BitVec 32 := Scalar.extui v546
  let v548 : BitVec 32 := Scalar.subi v545 v547
  let v549 : BitVec 1 := Scalar.cmpi .ne v543 v548
  let v550 : BitVec 32 := Scalar.remsi v537 c2_i32_280
  let c0_i32_285 : BitVec 32 := 0#32
  let v551 : BitVec 1 := Scalar.cmpi .ne v550 c0_i32_285
  let v552 : BitVec 1 := Scalar.andi v549 v551
  let v538 : BitVec 32 := Scalar.divsi v537 c2_i32_280
  let c1_i32_286 : BitVec 32 := 1#32
  let v553 : BitVec 32 := Scalar.subi v538 c1_i32_286
  let v554 : BitVec 32 := Scalar.select v552 v553 v538
  let v555 : BitVec 32 := Scalar.maxsi c0_i32_287 v554
  let v556 : BitVec 32 := Scalar.minsi v533 v555
  let c1_i32_298 : BitVec 32 := 1#32
  let arg23 : BitVec 32 := Scf.iv v556 c1_i32_298 k0_t53
  let c2_i32_612 : BitVec 32 := 2#32
  let v1306 : BitVec 32 := Scalar.muli arg23 c2_i32_612
  let v1307 : BitVec 32 := Scalar.addi v515 v1306
  let c384_i32_613 : BitVec 32 := 384#32
  let v1308 : BitVec 32 := Scalar.subi v1307 c384_i32_613
  let c0_i32_614 : BitVec 32 := 0#32
  ![v1308.toNat, 0]
def k0_off137 (v513 : BitVec 32) (v515 : BitVec 32) (k0_t53 : Fin (k0_t53_loop v513 v515).trips) : Fin 2 → Nat :=
  let c1_i32_611 : BitVec 32 := 1#32
  let v1304 : BitVec 32 := Scalar.shrsi v515 c1_i32_611
  let c1_i32_269 : BitVec 32 := 1#32
  let v516 : BitVec 32 := Scalar.addi v513 c1_i32_269
  let c0_i32_271 : BitVec 32 := 0#32
  let v518 : BitVec 1 := Scalar.cmpi .sgt v516 c0_i32_271
  let v519 : BitVec 32 := Scalar.extui v518
  let c0_i32_272 : BitVec 32 := 0#32
  let v520 : BitVec 1 := Scalar.cmpi .slt v516 c0_i32_272
  let v521 : BitVec 32 := Scalar.extui v520
  let v522 : BitVec 32 := Scalar.subi v519 v521
  let c2_i32_270 : BitVec 32 := 2#32
  let c0_i32_273 : BitVec 32 := 0#32
  let v523 : BitVec 1 := Scalar.cmpi .sgt c2_i32_270 c0_i32_273
  let v524 : BitVec 32 := Scalar.extui v523
  let c0_i32_274 : BitVec 32 := 0#32
  let v525 : BitVec 1 := Scalar.cmpi .slt c2_i32_270 c0_i32_274
  let v526 : BitVec 32 := Scalar.extui v525
  let v527 : BitVec 32 := Scalar.subi v524 v526
  let v528 : BitVec 1 := Scalar.cmpi .ne v522 v527
  let v529 : BitVec 32 := Scalar.remsi v516 c2_i32_270
  let c0_i32_275 : BitVec 32 := 0#32
  let v530 : BitVec 1 := Scalar.cmpi .ne v529 c0_i32_275
  let v531 : BitVec 1 := Scalar.andi v528 v530
  let v517 : BitVec 32 := Scalar.divsi v516 c2_i32_270
  let c1_i32_276 : BitVec 32 := 1#32
  let v532 : BitVec 32 := Scalar.subi v517 c1_i32_276
  let v533 : BitVec 32 := Scalar.select v531 v532 v517
  let c0_i32_287 : BitVec 32 := 0#32
  let c384_i32_279 : BitVec 32 := 384#32
  let v537 : BitVec 32 := Scalar.subi c384_i32_279 v515
  let c0_i32_281 : BitVec 32 := 0#32
  let v539 : BitVec 1 := Scalar.cmpi .sgt v537 c0_i32_281
  let v540 : BitVec 32 := Scalar.extui v539
  let c0_i32_282 : BitVec 32 := 0#32
  let v541 : BitVec 1 := Scalar.cmpi .slt v537 c0_i32_282
  let v542 : BitVec 32 := Scalar.extui v541
  let v543 : BitVec 32 := Scalar.subi v540 v542
  let c2_i32_280 : BitVec 32 := 2#32
  let c0_i32_283 : BitVec 32 := 0#32
  let v544 : BitVec 1 := Scalar.cmpi .sgt c2_i32_280 c0_i32_283
  let v545 : BitVec 32 := Scalar.extui v544
  let c0_i32_284 : BitVec 32 := 0#32
  let v546 : BitVec 1 := Scalar.cmpi .slt c2_i32_280 c0_i32_284
  let v547 : BitVec 32 := Scalar.extui v546
  let v548 : BitVec 32 := Scalar.subi v545 v547
  let v549 : BitVec 1 := Scalar.cmpi .ne v543 v548
  let v550 : BitVec 32 := Scalar.remsi v537 c2_i32_280
  let c0_i32_285 : BitVec 32 := 0#32
  let v551 : BitVec 1 := Scalar.cmpi .ne v550 c0_i32_285
  let v552 : BitVec 1 := Scalar.andi v549 v551
  let v538 : BitVec 32 := Scalar.divsi v537 c2_i32_280
  let c1_i32_286 : BitVec 32 := 1#32
  let v553 : BitVec 32 := Scalar.subi v538 c1_i32_286
  let v554 : BitVec 32 := Scalar.select v552 v553 v538
  let v555 : BitVec 32 := Scalar.maxsi c0_i32_287 v554
  let v556 : BitVec 32 := Scalar.minsi v533 v555
  let c1_i32_298 : BitVec 32 := 1#32
  let arg23 : BitVec 32 := Scf.iv v556 c1_i32_298 k0_t53
  let v1305 : BitVec 32 := Scalar.addi v1304 arg23
  let c0_i32_615 : BitVec 32 := 0#32
  ![v1305.toNat, 0]
def k0_off138 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_277 : BitVec 32 := 16#32
  let v534 : BitVec 32 := Scalar.muli arg21 c16_i32_277
  let c5_i32 : BitVec 32 := 5#32
  let v535 : BitVec 32 := Scalar.addi v534 c5_i32
  let c128_i32_278 : BitVec 32 := 128#32
  let v536 : BitVec 32 := Scalar.muli v535 c128_i32_278
  ![0, v536.toNat]
@[reducible] def k0_t54_loop (v513 : BitVec 32) (v515 : BitVec 32) : Scf.Loop 32 :=
  let c1_i32_269 : BitVec 32 := 1#32
  let v516 : BitVec 32 := Scalar.addi v513 c1_i32_269
  let c0_i32_271 : BitVec 32 := 0#32
  let v518 : BitVec 1 := Scalar.cmpi .sgt v516 c0_i32_271
  let v519 : BitVec 32 := Scalar.extui v518
  let c0_i32_272 : BitVec 32 := 0#32
  let v520 : BitVec 1 := Scalar.cmpi .slt v516 c0_i32_272
  let v521 : BitVec 32 := Scalar.extui v520
  let v522 : BitVec 32 := Scalar.subi v519 v521
  let c2_i32_270 : BitVec 32 := 2#32
  let c0_i32_273 : BitVec 32 := 0#32
  let v523 : BitVec 1 := Scalar.cmpi .sgt c2_i32_270 c0_i32_273
  let v524 : BitVec 32 := Scalar.extui v523
  let c0_i32_274 : BitVec 32 := 0#32
  let v525 : BitVec 1 := Scalar.cmpi .slt c2_i32_270 c0_i32_274
  let v526 : BitVec 32 := Scalar.extui v525
  let v527 : BitVec 32 := Scalar.subi v524 v526
  let v528 : BitVec 1 := Scalar.cmpi .ne v522 v527
  let v529 : BitVec 32 := Scalar.remsi v516 c2_i32_270
  let c0_i32_275 : BitVec 32 := 0#32
  let v530 : BitVec 1 := Scalar.cmpi .ne v529 c0_i32_275
  let v531 : BitVec 1 := Scalar.andi v528 v530
  let v517 : BitVec 32 := Scalar.divsi v516 c2_i32_270
  let c1_i32_276 : BitVec 32 := 1#32
  let v532 : BitVec 32 := Scalar.subi v517 c1_i32_276
  let v533 : BitVec 32 := Scalar.select v531 v532 v517
  let c0_i32_287 : BitVec 32 := 0#32
  let c384_i32_279 : BitVec 32 := 384#32
  let v537 : BitVec 32 := Scalar.subi c384_i32_279 v515
  let c0_i32_281 : BitVec 32 := 0#32
  let v539 : BitVec 1 := Scalar.cmpi .sgt v537 c0_i32_281
  let v540 : BitVec 32 := Scalar.extui v539
  let c0_i32_282 : BitVec 32 := 0#32
  let v541 : BitVec 1 := Scalar.cmpi .slt v537 c0_i32_282
  let v542 : BitVec 32 := Scalar.extui v541
  let v543 : BitVec 32 := Scalar.subi v540 v542
  let c2_i32_280 : BitVec 32 := 2#32
  let c0_i32_283 : BitVec 32 := 0#32
  let v544 : BitVec 1 := Scalar.cmpi .sgt c2_i32_280 c0_i32_283
  let v545 : BitVec 32 := Scalar.extui v544
  let c0_i32_284 : BitVec 32 := 0#32
  let v546 : BitVec 1 := Scalar.cmpi .slt c2_i32_280 c0_i32_284
  let v547 : BitVec 32 := Scalar.extui v546
  let v548 : BitVec 32 := Scalar.subi v545 v547
  let v549 : BitVec 1 := Scalar.cmpi .ne v543 v548
  let v550 : BitVec 32 := Scalar.remsi v537 c2_i32_280
  let c0_i32_285 : BitVec 32 := 0#32
  let v551 : BitVec 1 := Scalar.cmpi .ne v550 c0_i32_285
  let v552 : BitVec 1 := Scalar.andi v549 v551
  let v538 : BitVec 32 := Scalar.divsi v537 c2_i32_280
  let c1_i32_286 : BitVec 32 := 1#32
  let v553 : BitVec 32 := Scalar.subi v538 c1_i32_286
  let v554 : BitVec 32 := Scalar.select v552 v553 v538
  let v555 : BitVec 32 := Scalar.maxsi c0_i32_287 v554
  let v556 : BitVec 32 := Scalar.minsi v533 v555
  let c0_i32_296 : BitVec 32 := 0#32
  let c768_i32_288 : BitVec 32 := 768#32
  let v557 : BitVec 32 := Scalar.subi c768_i32_288 v515
  let c0_i32_290 : BitVec 32 := 0#32
  let v559 : BitVec 1 := Scalar.cmpi .sgt v557 c0_i32_290
  let v560 : BitVec 32 := Scalar.extui v559
  let c0_i32_291 : BitVec 32 := 0#32
  let v561 : BitVec 1 := Scalar.cmpi .slt v557 c0_i32_291
  let v562 : BitVec 32 := Scalar.extui v561
  let v563 : BitVec 32 := Scalar.subi v560 v562
  let c2_i32_289 : BitVec 32 := 2#32
  let c0_i32_292 : BitVec 32 := 0#32
  let v564 : BitVec 1 := Scalar.cmpi .sgt c2_i32_289 c0_i32_292
  let v565 : BitVec 32 := Scalar.extui v564
  let c0_i32_293 : BitVec 32 := 0#32
  let v566 : BitVec 1 := Scalar.cmpi .slt c2_i32_289 c0_i32_293
  let v567 : BitVec 32 := Scalar.extui v566
  let v568 : BitVec 32 := Scalar.subi v565 v567
  let v569 : BitVec 1 := Scalar.cmpi .ne v563 v568
  let v570 : BitVec 32 := Scalar.remsi v557 c2_i32_289
  let c0_i32_294 : BitVec 32 := 0#32
  let v571 : BitVec 1 := Scalar.cmpi .ne v570 c0_i32_294
  let v572 : BitVec 1 := Scalar.andi v569 v571
  let v558 : BitVec 32 := Scalar.divsi v557 c2_i32_289
  let c1_i32_295 : BitVec 32 := 1#32
  let v573 : BitVec 32 := Scalar.subi v558 c1_i32_295
  let v574 : BitVec 32 := Scalar.select v572 v573 v558
  let v575 : BitVec 32 := Scalar.maxsi c0_i32_296 v574
  let v576 : BitVec 32 := Scalar.minsi v533 v575
  let v577 : BitVec 32 := Scalar.subi v576 v556
  let c1_i32_297 : BitVec 32 := 1#32
  let v579 : BitVec 32 := Scalar.divsi v577 c1_i32_297
  let v580 : BitVec 32 := Scalar.muli v579 c1_i32_297
  let v581 : BitVec 32 := Scalar.addi v556 v580
  let v578 : BitVec 32 := Scalar.addi v556 v577
  let c1_i32_299 : BitVec 32 := 1#32
  ⟨v581, v578, c1_i32_299⟩
def k0_off139 (v513 : BitVec 32) (v515 : BitVec 32) (k0_t54 : Fin (k0_t54_loop v513 v515).trips) : Fin 2 → Nat :=
  let c1_i32_269 : BitVec 32 := 1#32
  let v516 : BitVec 32 := Scalar.addi v513 c1_i32_269
  let c0_i32_271 : BitVec 32 := 0#32
  let v518 : BitVec 1 := Scalar.cmpi .sgt v516 c0_i32_271
  let v519 : BitVec 32 := Scalar.extui v518
  let c0_i32_272 : BitVec 32 := 0#32
  let v520 : BitVec 1 := Scalar.cmpi .slt v516 c0_i32_272
  let v521 : BitVec 32 := Scalar.extui v520
  let v522 : BitVec 32 := Scalar.subi v519 v521
  let c2_i32_270 : BitVec 32 := 2#32
  let c0_i32_273 : BitVec 32 := 0#32
  let v523 : BitVec 1 := Scalar.cmpi .sgt c2_i32_270 c0_i32_273
  let v524 : BitVec 32 := Scalar.extui v523
  let c0_i32_274 : BitVec 32 := 0#32
  let v525 : BitVec 1 := Scalar.cmpi .slt c2_i32_270 c0_i32_274
  let v526 : BitVec 32 := Scalar.extui v525
  let v527 : BitVec 32 := Scalar.subi v524 v526
  let v528 : BitVec 1 := Scalar.cmpi .ne v522 v527
  let v529 : BitVec 32 := Scalar.remsi v516 c2_i32_270
  let c0_i32_275 : BitVec 32 := 0#32
  let v530 : BitVec 1 := Scalar.cmpi .ne v529 c0_i32_275
  let v531 : BitVec 1 := Scalar.andi v528 v530
  let v517 : BitVec 32 := Scalar.divsi v516 c2_i32_270
  let c1_i32_276 : BitVec 32 := 1#32
  let v532 : BitVec 32 := Scalar.subi v517 c1_i32_276
  let v533 : BitVec 32 := Scalar.select v531 v532 v517
  let c0_i32_287 : BitVec 32 := 0#32
  let c384_i32_279 : BitVec 32 := 384#32
  let v537 : BitVec 32 := Scalar.subi c384_i32_279 v515
  let c0_i32_281 : BitVec 32 := 0#32
  let v539 : BitVec 1 := Scalar.cmpi .sgt v537 c0_i32_281
  let v540 : BitVec 32 := Scalar.extui v539
  let c0_i32_282 : BitVec 32 := 0#32
  let v541 : BitVec 1 := Scalar.cmpi .slt v537 c0_i32_282
  let v542 : BitVec 32 := Scalar.extui v541
  let v543 : BitVec 32 := Scalar.subi v540 v542
  let c2_i32_280 : BitVec 32 := 2#32
  let c0_i32_283 : BitVec 32 := 0#32
  let v544 : BitVec 1 := Scalar.cmpi .sgt c2_i32_280 c0_i32_283
  let v545 : BitVec 32 := Scalar.extui v544
  let c0_i32_284 : BitVec 32 := 0#32
  let v546 : BitVec 1 := Scalar.cmpi .slt c2_i32_280 c0_i32_284
  let v547 : BitVec 32 := Scalar.extui v546
  let v548 : BitVec 32 := Scalar.subi v545 v547
  let v549 : BitVec 1 := Scalar.cmpi .ne v543 v548
  let v550 : BitVec 32 := Scalar.remsi v537 c2_i32_280
  let c0_i32_285 : BitVec 32 := 0#32
  let v551 : BitVec 1 := Scalar.cmpi .ne v550 c0_i32_285
  let v552 : BitVec 1 := Scalar.andi v549 v551
  let v538 : BitVec 32 := Scalar.divsi v537 c2_i32_280
  let c1_i32_286 : BitVec 32 := 1#32
  let v553 : BitVec 32 := Scalar.subi v538 c1_i32_286
  let v554 : BitVec 32 := Scalar.select v552 v553 v538
  let v555 : BitVec 32 := Scalar.maxsi c0_i32_287 v554
  let v556 : BitVec 32 := Scalar.minsi v533 v555
  let c0_i32_296 : BitVec 32 := 0#32
  let c768_i32_288 : BitVec 32 := 768#32
  let v557 : BitVec 32 := Scalar.subi c768_i32_288 v515
  let c0_i32_290 : BitVec 32 := 0#32
  let v559 : BitVec 1 := Scalar.cmpi .sgt v557 c0_i32_290
  let v560 : BitVec 32 := Scalar.extui v559
  let c0_i32_291 : BitVec 32 := 0#32
  let v561 : BitVec 1 := Scalar.cmpi .slt v557 c0_i32_291
  let v562 : BitVec 32 := Scalar.extui v561
  let v563 : BitVec 32 := Scalar.subi v560 v562
  let c2_i32_289 : BitVec 32 := 2#32
  let c0_i32_292 : BitVec 32 := 0#32
  let v564 : BitVec 1 := Scalar.cmpi .sgt c2_i32_289 c0_i32_292
  let v565 : BitVec 32 := Scalar.extui v564
  let c0_i32_293 : BitVec 32 := 0#32
  let v566 : BitVec 1 := Scalar.cmpi .slt c2_i32_289 c0_i32_293
  let v567 : BitVec 32 := Scalar.extui v566
  let v568 : BitVec 32 := Scalar.subi v565 v567
  let v569 : BitVec 1 := Scalar.cmpi .ne v563 v568
  let v570 : BitVec 32 := Scalar.remsi v557 c2_i32_289
  let c0_i32_294 : BitVec 32 := 0#32
  let v571 : BitVec 1 := Scalar.cmpi .ne v570 c0_i32_294
  let v572 : BitVec 1 := Scalar.andi v569 v571
  let v558 : BitVec 32 := Scalar.divsi v557 c2_i32_289
  let c1_i32_295 : BitVec 32 := 1#32
  let v573 : BitVec 32 := Scalar.subi v558 c1_i32_295
  let v574 : BitVec 32 := Scalar.select v572 v573 v558
  let v575 : BitVec 32 := Scalar.maxsi c0_i32_296 v574
  let v576 : BitVec 32 := Scalar.minsi v533 v575
  let v577 : BitVec 32 := Scalar.subi v576 v556
  let c1_i32_297 : BitVec 32 := 1#32
  let v579 : BitVec 32 := Scalar.divsi v577 c1_i32_297
  let v580 : BitVec 32 := Scalar.muli v579 c1_i32_297
  let v581 : BitVec 32 := Scalar.addi v556 v580
  let c1_i32_299 : BitVec 32 := 1#32
  let arg23 : BitVec 32 := Scf.iv v581 c1_i32_299 k0_t54
  let c2_i32_612 : BitVec 32 := 2#32
  let v1306 : BitVec 32 := Scalar.muli arg23 c2_i32_612
  let v1307 : BitVec 32 := Scalar.addi v515 v1306
  let c384_i32_613 : BitVec 32 := 384#32
  let v1308 : BitVec 32 := Scalar.subi v1307 c384_i32_613
  let c0_i32_614 : BitVec 32 := 0#32
  ![v1308.toNat, 0]
def k0_off140 (v513 : BitVec 32) (v515 : BitVec 32) (k0_t54 : Fin (k0_t54_loop v513 v515).trips) : Fin 2 → Nat :=
  let c1_i32_611 : BitVec 32 := 1#32
  let v1304 : BitVec 32 := Scalar.shrsi v515 c1_i32_611
  let c1_i32_269 : BitVec 32 := 1#32
  let v516 : BitVec 32 := Scalar.addi v513 c1_i32_269
  let c0_i32_271 : BitVec 32 := 0#32
  let v518 : BitVec 1 := Scalar.cmpi .sgt v516 c0_i32_271
  let v519 : BitVec 32 := Scalar.extui v518
  let c0_i32_272 : BitVec 32 := 0#32
  let v520 : BitVec 1 := Scalar.cmpi .slt v516 c0_i32_272
  let v521 : BitVec 32 := Scalar.extui v520
  let v522 : BitVec 32 := Scalar.subi v519 v521
  let c2_i32_270 : BitVec 32 := 2#32
  let c0_i32_273 : BitVec 32 := 0#32
  let v523 : BitVec 1 := Scalar.cmpi .sgt c2_i32_270 c0_i32_273
  let v524 : BitVec 32 := Scalar.extui v523
  let c0_i32_274 : BitVec 32 := 0#32
  let v525 : BitVec 1 := Scalar.cmpi .slt c2_i32_270 c0_i32_274
  let v526 : BitVec 32 := Scalar.extui v525
  let v527 : BitVec 32 := Scalar.subi v524 v526
  let v528 : BitVec 1 := Scalar.cmpi .ne v522 v527
  let v529 : BitVec 32 := Scalar.remsi v516 c2_i32_270
  let c0_i32_275 : BitVec 32 := 0#32
  let v530 : BitVec 1 := Scalar.cmpi .ne v529 c0_i32_275
  let v531 : BitVec 1 := Scalar.andi v528 v530
  let v517 : BitVec 32 := Scalar.divsi v516 c2_i32_270
  let c1_i32_276 : BitVec 32 := 1#32
  let v532 : BitVec 32 := Scalar.subi v517 c1_i32_276
  let v533 : BitVec 32 := Scalar.select v531 v532 v517
  let c0_i32_287 : BitVec 32 := 0#32
  let c384_i32_279 : BitVec 32 := 384#32
  let v537 : BitVec 32 := Scalar.subi c384_i32_279 v515
  let c0_i32_281 : BitVec 32 := 0#32
  let v539 : BitVec 1 := Scalar.cmpi .sgt v537 c0_i32_281
  let v540 : BitVec 32 := Scalar.extui v539
  let c0_i32_282 : BitVec 32 := 0#32
  let v541 : BitVec 1 := Scalar.cmpi .slt v537 c0_i32_282
  let v542 : BitVec 32 := Scalar.extui v541
  let v543 : BitVec 32 := Scalar.subi v540 v542
  let c2_i32_280 : BitVec 32 := 2#32
  let c0_i32_283 : BitVec 32 := 0#32
  let v544 : BitVec 1 := Scalar.cmpi .sgt c2_i32_280 c0_i32_283
  let v545 : BitVec 32 := Scalar.extui v544
  let c0_i32_284 : BitVec 32 := 0#32
  let v546 : BitVec 1 := Scalar.cmpi .slt c2_i32_280 c0_i32_284
  let v547 : BitVec 32 := Scalar.extui v546
  let v548 : BitVec 32 := Scalar.subi v545 v547
  let v549 : BitVec 1 := Scalar.cmpi .ne v543 v548
  let v550 : BitVec 32 := Scalar.remsi v537 c2_i32_280
  let c0_i32_285 : BitVec 32 := 0#32
  let v551 : BitVec 1 := Scalar.cmpi .ne v550 c0_i32_285
  let v552 : BitVec 1 := Scalar.andi v549 v551
  let v538 : BitVec 32 := Scalar.divsi v537 c2_i32_280
  let c1_i32_286 : BitVec 32 := 1#32
  let v553 : BitVec 32 := Scalar.subi v538 c1_i32_286
  let v554 : BitVec 32 := Scalar.select v552 v553 v538
  let v555 : BitVec 32 := Scalar.maxsi c0_i32_287 v554
  let v556 : BitVec 32 := Scalar.minsi v533 v555
  let c0_i32_296 : BitVec 32 := 0#32
  let c768_i32_288 : BitVec 32 := 768#32
  let v557 : BitVec 32 := Scalar.subi c768_i32_288 v515
  let c0_i32_290 : BitVec 32 := 0#32
  let v559 : BitVec 1 := Scalar.cmpi .sgt v557 c0_i32_290
  let v560 : BitVec 32 := Scalar.extui v559
  let c0_i32_291 : BitVec 32 := 0#32
  let v561 : BitVec 1 := Scalar.cmpi .slt v557 c0_i32_291
  let v562 : BitVec 32 := Scalar.extui v561
  let v563 : BitVec 32 := Scalar.subi v560 v562
  let c2_i32_289 : BitVec 32 := 2#32
  let c0_i32_292 : BitVec 32 := 0#32
  let v564 : BitVec 1 := Scalar.cmpi .sgt c2_i32_289 c0_i32_292
  let v565 : BitVec 32 := Scalar.extui v564
  let c0_i32_293 : BitVec 32 := 0#32
  let v566 : BitVec 1 := Scalar.cmpi .slt c2_i32_289 c0_i32_293
  let v567 : BitVec 32 := Scalar.extui v566
  let v568 : BitVec 32 := Scalar.subi v565 v567
  let v569 : BitVec 1 := Scalar.cmpi .ne v563 v568
  let v570 : BitVec 32 := Scalar.remsi v557 c2_i32_289
  let c0_i32_294 : BitVec 32 := 0#32
  let v571 : BitVec 1 := Scalar.cmpi .ne v570 c0_i32_294
  let v572 : BitVec 1 := Scalar.andi v569 v571
  let v558 : BitVec 32 := Scalar.divsi v557 c2_i32_289
  let c1_i32_295 : BitVec 32 := 1#32
  let v573 : BitVec 32 := Scalar.subi v558 c1_i32_295
  let v574 : BitVec 32 := Scalar.select v572 v573 v558
  let v575 : BitVec 32 := Scalar.maxsi c0_i32_296 v574
  let v576 : BitVec 32 := Scalar.minsi v533 v575
  let v577 : BitVec 32 := Scalar.subi v576 v556
  let c1_i32_297 : BitVec 32 := 1#32
  let v579 : BitVec 32 := Scalar.divsi v577 c1_i32_297
  let v580 : BitVec 32 := Scalar.muli v579 c1_i32_297
  let v581 : BitVec 32 := Scalar.addi v556 v580
  let c1_i32_299 : BitVec 32 := 1#32
  let arg23 : BitVec 32 := Scf.iv v581 c1_i32_299 k0_t54
  let v1305 : BitVec 32 := Scalar.addi v1304 arg23
  let c0_i32_615 : BitVec 32 := 0#32
  ![v1305.toNat, 0]

def k0_chk30 (v513 : BitVec 32) (v515 : BitVec 32) : Prop :=
  ((k0_t53_loop v513 v515).OK) ∧
  (∀ k0_t53 : Fin (k0_t53_loop v513 v515).trips, ∀ a, (k0_off136 v513 v515 k0_t53) a + S2x128.size a ≤ S384x128.size a) ∧
  (∀ k0_t53 : Fin (k0_t53_loop v513 v515).trips, ∀ a, (k0_off137 v513 v515 k0_t53) a + S1x2.size a ≤ S584x2.size a) ∧
  ((k0_t54_loop v513 v515).OK) ∧
  (∀ k0_t54 : Fin (k0_t54_loop v513 v515).trips, ∀ a, (k0_off139 v513 v515 k0_t54) a + S2x128.size a ≤ S384x128.size a) ∧
  (∀ k0_t54 : Fin (k0_t54_loop v513 v515).trips, ∀ a, (k0_off140 v513 v515 k0_t54) a + S1x2.size a ≤ S584x2.size a)
theorem k0_t53_ok : ∀ (v513 : BitVec 32) (v515 : BitVec 32) (k0_hw30 : k0_chk30 v513 v515), (k0_t53_loop v513 v515).OK := fun v513 v515 k0_hw30 => k0_hw30.1
theorem k0_off136_inb : ∀ (v513 : BitVec 32) (v515 : BitVec 32) (k0_hw30 : k0_chk30 v513 v515) (k0_t53 : Fin (k0_t53_loop v513 v515).trips), ∀ a, (k0_off136 v513 v515 k0_t53) a + S2x128.size a ≤ S384x128.size a := fun v513 v515 k0_hw30 k0_t53 => k0_hw30.2.1 k0_t53
theorem k0_off137_inb : ∀ (v513 : BitVec 32) (v515 : BitVec 32) (k0_hw30 : k0_chk30 v513 v515) (k0_t53 : Fin (k0_t53_loop v513 v515).trips), ∀ a, (k0_off137 v513 v515 k0_t53) a + S1x2.size a ≤ S584x2.size a := fun v513 v515 k0_hw30 k0_t53 => k0_hw30.2.2.1 k0_t53
theorem k0_t54_ok : ∀ (v513 : BitVec 32) (v515 : BitVec 32) (k0_hw30 : k0_chk30 v513 v515), (k0_t54_loop v513 v515).OK := fun v513 v515 k0_hw30 => k0_hw30.2.2.2.1
theorem k0_off139_inb : ∀ (v513 : BitVec 32) (v515 : BitVec 32) (k0_hw30 : k0_chk30 v513 v515) (k0_t54 : Fin (k0_t54_loop v513 v515).trips), ∀ a, (k0_off139 v513 v515 k0_t54) a + S2x128.size a ≤ S384x128.size a := fun v513 v515 k0_hw30 k0_t54 => k0_hw30.2.2.2.2.1 k0_t54
theorem k0_off140_inb : ∀ (v513 : BitVec 32) (v515 : BitVec 32) (k0_hw30 : k0_chk30 v513 v515) (k0_t54 : Fin (k0_t54_loop v513 v515).trips), ∀ a, (k0_off140 v513 v515 k0_t54) a + S1x2.size a ≤ S584x2.size a := fun v513 v515 k0_hw30 k0_t54 => k0_hw30.2.2.2.2.2 k0_t54

def k0_off141 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_277 : BitVec 32 := 16#32
  let v534 : BitVec 32 := Scalar.muli arg21 c16_i32_277
  let c5_i32 : BitVec 32 := 5#32
  let v535 : BitVec 32 := Scalar.addi v534 c5_i32
  let c128_i32_278 : BitVec 32 := 128#32
  let v536 : BitVec 32 := Scalar.muli v535 c128_i32_278
  ![0, v536.toNat]
@[reducible] def k0_t55_loop (v585 : BitVec 32) (v587 : BitVec 32) : Scf.Loop 32 :=
  let c1_i32_300 : BitVec 32 := 1#32
  let v588 : BitVec 32 := Scalar.addi v585 c1_i32_300
  let c0_i32_302 : BitVec 32 := 0#32
  let v590 : BitVec 1 := Scalar.cmpi .sgt v588 c0_i32_302
  let v591 : BitVec 32 := Scalar.extui v590
  let c0_i32_303 : BitVec 32 := 0#32
  let v592 : BitVec 1 := Scalar.cmpi .slt v588 c0_i32_303
  let v593 : BitVec 32 := Scalar.extui v592
  let v594 : BitVec 32 := Scalar.subi v591 v593
  let c2_i32_301 : BitVec 32 := 2#32
  let c0_i32_304 : BitVec 32 := 0#32
  let v595 : BitVec 1 := Scalar.cmpi .sgt c2_i32_301 c0_i32_304
  let v596 : BitVec 32 := Scalar.extui v595
  let c0_i32_305 : BitVec 32 := 0#32
  let v597 : BitVec 1 := Scalar.cmpi .slt c2_i32_301 c0_i32_305
  let v598 : BitVec 32 := Scalar.extui v597
  let v599 : BitVec 32 := Scalar.subi v596 v598
  let v600 : BitVec 1 := Scalar.cmpi .ne v594 v599
  let v601 : BitVec 32 := Scalar.remsi v588 c2_i32_301
  let c0_i32_306 : BitVec 32 := 0#32
  let v602 : BitVec 1 := Scalar.cmpi .ne v601 c0_i32_306
  let v603 : BitVec 1 := Scalar.andi v600 v602
  let v589 : BitVec 32 := Scalar.divsi v588 c2_i32_301
  let c1_i32_307 : BitVec 32 := 1#32
  let v604 : BitVec 32 := Scalar.subi v589 c1_i32_307
  let v605 : BitVec 32 := Scalar.select v603 v604 v589
  let c0_i32_318 : BitVec 32 := 0#32
  let c384_i32_310 : BitVec 32 := 384#32
  let v609 : BitVec 32 := Scalar.subi c384_i32_310 v587
  let c0_i32_312 : BitVec 32 := 0#32
  let v611 : BitVec 1 := Scalar.cmpi .sgt v609 c0_i32_312
  let v612 : BitVec 32 := Scalar.extui v611
  let c0_i32_313 : BitVec 32 := 0#32
  let v613 : BitVec 1 := Scalar.cmpi .slt v609 c0_i32_313
  let v614 : BitVec 32 := Scalar.extui v613
  let v615 : BitVec 32 := Scalar.subi v612 v614
  let c2_i32_311 : BitVec 32 := 2#32
  let c0_i32_314 : BitVec 32 := 0#32
  let v616 : BitVec 1 := Scalar.cmpi .sgt c2_i32_311 c0_i32_314
  let v617 : BitVec 32 := Scalar.extui v616
  let c0_i32_315 : BitVec 32 := 0#32
  let v618 : BitVec 1 := Scalar.cmpi .slt c2_i32_311 c0_i32_315
  let v619 : BitVec 32 := Scalar.extui v618
  let v620 : BitVec 32 := Scalar.subi v617 v619
  let v621 : BitVec 1 := Scalar.cmpi .ne v615 v620
  let v622 : BitVec 32 := Scalar.remsi v609 c2_i32_311
  let c0_i32_316 : BitVec 32 := 0#32
  let v623 : BitVec 1 := Scalar.cmpi .ne v622 c0_i32_316
  let v624 : BitVec 1 := Scalar.andi v621 v623
  let v610 : BitVec 32 := Scalar.divsi v609 c2_i32_311
  let c1_i32_317 : BitVec 32 := 1#32
  let v625 : BitVec 32 := Scalar.subi v610 c1_i32_317
  let v626 : BitVec 32 := Scalar.select v624 v625 v610
  let v627 : BitVec 32 := Scalar.maxsi c0_i32_318 v626
  let v628 : BitVec 32 := Scalar.minsi v605 v627
  let c0_i32_327 : BitVec 32 := 0#32
  let c768_i32_319 : BitVec 32 := 768#32
  let v629 : BitVec 32 := Scalar.subi c768_i32_319 v587
  let c0_i32_321 : BitVec 32 := 0#32
  let v631 : BitVec 1 := Scalar.cmpi .sgt v629 c0_i32_321
  let v632 : BitVec 32 := Scalar.extui v631
  let c0_i32_322 : BitVec 32 := 0#32
  let v633 : BitVec 1 := Scalar.cmpi .slt v629 c0_i32_322
  let v634 : BitVec 32 := Scalar.extui v633
  let v635 : BitVec 32 := Scalar.subi v632 v634
  let c2_i32_320 : BitVec 32 := 2#32
  let c0_i32_323 : BitVec 32 := 0#32
  let v636 : BitVec 1 := Scalar.cmpi .sgt c2_i32_320 c0_i32_323
  let v637 : BitVec 32 := Scalar.extui v636
  let c0_i32_324 : BitVec 32 := 0#32
  let v638 : BitVec 1 := Scalar.cmpi .slt c2_i32_320 c0_i32_324
  let v639 : BitVec 32 := Scalar.extui v638
  let v640 : BitVec 32 := Scalar.subi v637 v639
  let v641 : BitVec 1 := Scalar.cmpi .ne v635 v640
  let v642 : BitVec 32 := Scalar.remsi v629 c2_i32_320
  let c0_i32_325 : BitVec 32 := 0#32
  let v643 : BitVec 1 := Scalar.cmpi .ne v642 c0_i32_325
  let v644 : BitVec 1 := Scalar.andi v641 v643
  let v630 : BitVec 32 := Scalar.divsi v629 c2_i32_320
  let c1_i32_326 : BitVec 32 := 1#32
  let v645 : BitVec 32 := Scalar.subi v630 c1_i32_326
  let v646 : BitVec 32 := Scalar.select v644 v645 v630
  let v647 : BitVec 32 := Scalar.maxsi c0_i32_327 v646
  let v648 : BitVec 32 := Scalar.minsi v605 v647
  let v649 : BitVec 32 := Scalar.subi v648 v628
  let c1_i32_328 : BitVec 32 := 1#32
  let v651 : BitVec 32 := Scalar.divsi v649 c1_i32_328
  let v652 : BitVec 32 := Scalar.muli v651 c1_i32_328
  let v653 : BitVec 32 := Scalar.addi v628 v652
  let c1_i32_329 : BitVec 32 := 1#32
  ⟨v628, v653, c1_i32_329⟩

def k0_off142 (v585 : BitVec 32) (v587 : BitVec 32) (k0_t55 : Fin (k0_t55_loop v585 v587).trips) : Fin 2 → Nat :=
  let c1_i32_300 : BitVec 32 := 1#32
  let v588 : BitVec 32 := Scalar.addi v585 c1_i32_300
  let c0_i32_302 : BitVec 32 := 0#32
  let v590 : BitVec 1 := Scalar.cmpi .sgt v588 c0_i32_302
  let v591 : BitVec 32 := Scalar.extui v590
  let c0_i32_303 : BitVec 32 := 0#32
  let v592 : BitVec 1 := Scalar.cmpi .slt v588 c0_i32_303
  let v593 : BitVec 32 := Scalar.extui v592
  let v594 : BitVec 32 := Scalar.subi v591 v593
  let c2_i32_301 : BitVec 32 := 2#32
  let c0_i32_304 : BitVec 32 := 0#32
  let v595 : BitVec 1 := Scalar.cmpi .sgt c2_i32_301 c0_i32_304
  let v596 : BitVec 32 := Scalar.extui v595
  let c0_i32_305 : BitVec 32 := 0#32
  let v597 : BitVec 1 := Scalar.cmpi .slt c2_i32_301 c0_i32_305
  let v598 : BitVec 32 := Scalar.extui v597
  let v599 : BitVec 32 := Scalar.subi v596 v598
  let v600 : BitVec 1 := Scalar.cmpi .ne v594 v599
  let v601 : BitVec 32 := Scalar.remsi v588 c2_i32_301
  let c0_i32_306 : BitVec 32 := 0#32
  let v602 : BitVec 1 := Scalar.cmpi .ne v601 c0_i32_306
  let v603 : BitVec 1 := Scalar.andi v600 v602
  let v589 : BitVec 32 := Scalar.divsi v588 c2_i32_301
  let c1_i32_307 : BitVec 32 := 1#32
  let v604 : BitVec 32 := Scalar.subi v589 c1_i32_307
  let v605 : BitVec 32 := Scalar.select v603 v604 v589
  let c0_i32_318 : BitVec 32 := 0#32
  let c384_i32_310 : BitVec 32 := 384#32
  let v609 : BitVec 32 := Scalar.subi c384_i32_310 v587
  let c0_i32_312 : BitVec 32 := 0#32
  let v611 : BitVec 1 := Scalar.cmpi .sgt v609 c0_i32_312
  let v612 : BitVec 32 := Scalar.extui v611
  let c0_i32_313 : BitVec 32 := 0#32
  let v613 : BitVec 1 := Scalar.cmpi .slt v609 c0_i32_313
  let v614 : BitVec 32 := Scalar.extui v613
  let v615 : BitVec 32 := Scalar.subi v612 v614
  let c2_i32_311 : BitVec 32 := 2#32
  let c0_i32_314 : BitVec 32 := 0#32
  let v616 : BitVec 1 := Scalar.cmpi .sgt c2_i32_311 c0_i32_314
  let v617 : BitVec 32 := Scalar.extui v616
  let c0_i32_315 : BitVec 32 := 0#32
  let v618 : BitVec 1 := Scalar.cmpi .slt c2_i32_311 c0_i32_315
  let v619 : BitVec 32 := Scalar.extui v618
  let v620 : BitVec 32 := Scalar.subi v617 v619
  let v621 : BitVec 1 := Scalar.cmpi .ne v615 v620
  let v622 : BitVec 32 := Scalar.remsi v609 c2_i32_311
  let c0_i32_316 : BitVec 32 := 0#32
  let v623 : BitVec 1 := Scalar.cmpi .ne v622 c0_i32_316
  let v624 : BitVec 1 := Scalar.andi v621 v623
  let v610 : BitVec 32 := Scalar.divsi v609 c2_i32_311
  let c1_i32_317 : BitVec 32 := 1#32
  let v625 : BitVec 32 := Scalar.subi v610 c1_i32_317
  let v626 : BitVec 32 := Scalar.select v624 v625 v610
  let v627 : BitVec 32 := Scalar.maxsi c0_i32_318 v626
  let v628 : BitVec 32 := Scalar.minsi v605 v627
  let c1_i32_329 : BitVec 32 := 1#32
  let arg23 : BitVec 32 := Scf.iv v628 c1_i32_329 k0_t55
  let c2_i32_612 : BitVec 32 := 2#32
  let v1306 : BitVec 32 := Scalar.muli arg23 c2_i32_612
  let v1307 : BitVec 32 := Scalar.addi v587 v1306
  let c384_i32_613 : BitVec 32 := 384#32
  let v1308 : BitVec 32 := Scalar.subi v1307 c384_i32_613
  let c0_i32_614 : BitVec 32 := 0#32
  ![v1308.toNat, 0]
def k0_off143 (v585 : BitVec 32) (v587 : BitVec 32) (k0_t55 : Fin (k0_t55_loop v585 v587).trips) : Fin 2 → Nat :=
  let c1_i32_611 : BitVec 32 := 1#32
  let v1304 : BitVec 32 := Scalar.shrsi v587 c1_i32_611
  let c1_i32_300 : BitVec 32 := 1#32
  let v588 : BitVec 32 := Scalar.addi v585 c1_i32_300
  let c0_i32_302 : BitVec 32 := 0#32
  let v590 : BitVec 1 := Scalar.cmpi .sgt v588 c0_i32_302
  let v591 : BitVec 32 := Scalar.extui v590
  let c0_i32_303 : BitVec 32 := 0#32
  let v592 : BitVec 1 := Scalar.cmpi .slt v588 c0_i32_303
  let v593 : BitVec 32 := Scalar.extui v592
  let v594 : BitVec 32 := Scalar.subi v591 v593
  let c2_i32_301 : BitVec 32 := 2#32
  let c0_i32_304 : BitVec 32 := 0#32
  let v595 : BitVec 1 := Scalar.cmpi .sgt c2_i32_301 c0_i32_304
  let v596 : BitVec 32 := Scalar.extui v595
  let c0_i32_305 : BitVec 32 := 0#32
  let v597 : BitVec 1 := Scalar.cmpi .slt c2_i32_301 c0_i32_305
  let v598 : BitVec 32 := Scalar.extui v597
  let v599 : BitVec 32 := Scalar.subi v596 v598
  let v600 : BitVec 1 := Scalar.cmpi .ne v594 v599
  let v601 : BitVec 32 := Scalar.remsi v588 c2_i32_301
  let c0_i32_306 : BitVec 32 := 0#32
  let v602 : BitVec 1 := Scalar.cmpi .ne v601 c0_i32_306
  let v603 : BitVec 1 := Scalar.andi v600 v602
  let v589 : BitVec 32 := Scalar.divsi v588 c2_i32_301
  let c1_i32_307 : BitVec 32 := 1#32
  let v604 : BitVec 32 := Scalar.subi v589 c1_i32_307
  let v605 : BitVec 32 := Scalar.select v603 v604 v589
  let c0_i32_318 : BitVec 32 := 0#32
  let c384_i32_310 : BitVec 32 := 384#32
  let v609 : BitVec 32 := Scalar.subi c384_i32_310 v587
  let c0_i32_312 : BitVec 32 := 0#32
  let v611 : BitVec 1 := Scalar.cmpi .sgt v609 c0_i32_312
  let v612 : BitVec 32 := Scalar.extui v611
  let c0_i32_313 : BitVec 32 := 0#32
  let v613 : BitVec 1 := Scalar.cmpi .slt v609 c0_i32_313
  let v614 : BitVec 32 := Scalar.extui v613
  let v615 : BitVec 32 := Scalar.subi v612 v614
  let c2_i32_311 : BitVec 32 := 2#32
  let c0_i32_314 : BitVec 32 := 0#32
  let v616 : BitVec 1 := Scalar.cmpi .sgt c2_i32_311 c0_i32_314
  let v617 : BitVec 32 := Scalar.extui v616
  let c0_i32_315 : BitVec 32 := 0#32
  let v618 : BitVec 1 := Scalar.cmpi .slt c2_i32_311 c0_i32_315
  let v619 : BitVec 32 := Scalar.extui v618
  let v620 : BitVec 32 := Scalar.subi v617 v619
  let v621 : BitVec 1 := Scalar.cmpi .ne v615 v620
  let v622 : BitVec 32 := Scalar.remsi v609 c2_i32_311
  let c0_i32_316 : BitVec 32 := 0#32
  let v623 : BitVec 1 := Scalar.cmpi .ne v622 c0_i32_316
  let v624 : BitVec 1 := Scalar.andi v621 v623
  let v610 : BitVec 32 := Scalar.divsi v609 c2_i32_311
  let c1_i32_317 : BitVec 32 := 1#32
  let v625 : BitVec 32 := Scalar.subi v610 c1_i32_317
  let v626 : BitVec 32 := Scalar.select v624 v625 v610
  let v627 : BitVec 32 := Scalar.maxsi c0_i32_318 v626
  let v628 : BitVec 32 := Scalar.minsi v605 v627
  let c1_i32_329 : BitVec 32 := 1#32
  let arg23 : BitVec 32 := Scf.iv v628 c1_i32_329 k0_t55
  let v1305 : BitVec 32 := Scalar.addi v1304 arg23
  let c0_i32_615 : BitVec 32 := 0#32
  ![v1305.toNat, 0]
def k0_off144 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_308 : BitVec 32 := 16#32
  let v606 : BitVec 32 := Scalar.muli arg21 c16_i32_308
  let c6_i32 : BitVec 32 := 6#32
  let v607 : BitVec 32 := Scalar.addi v606 c6_i32
  let c128_i32_309 : BitVec 32 := 128#32
  let v608 : BitVec 32 := Scalar.muli v607 c128_i32_309
  ![0, v608.toNat]
@[reducible] def k0_t56_loop (v585 : BitVec 32) (v587 : BitVec 32) : Scf.Loop 32 :=
  let c1_i32_300 : BitVec 32 := 1#32
  let v588 : BitVec 32 := Scalar.addi v585 c1_i32_300
  let c0_i32_302 : BitVec 32 := 0#32
  let v590 : BitVec 1 := Scalar.cmpi .sgt v588 c0_i32_302
  let v591 : BitVec 32 := Scalar.extui v590
  let c0_i32_303 : BitVec 32 := 0#32
  let v592 : BitVec 1 := Scalar.cmpi .slt v588 c0_i32_303
  let v593 : BitVec 32 := Scalar.extui v592
  let v594 : BitVec 32 := Scalar.subi v591 v593
  let c2_i32_301 : BitVec 32 := 2#32
  let c0_i32_304 : BitVec 32 := 0#32
  let v595 : BitVec 1 := Scalar.cmpi .sgt c2_i32_301 c0_i32_304
  let v596 : BitVec 32 := Scalar.extui v595
  let c0_i32_305 : BitVec 32 := 0#32
  let v597 : BitVec 1 := Scalar.cmpi .slt c2_i32_301 c0_i32_305
  let v598 : BitVec 32 := Scalar.extui v597
  let v599 : BitVec 32 := Scalar.subi v596 v598
  let v600 : BitVec 1 := Scalar.cmpi .ne v594 v599
  let v601 : BitVec 32 := Scalar.remsi v588 c2_i32_301
  let c0_i32_306 : BitVec 32 := 0#32
  let v602 : BitVec 1 := Scalar.cmpi .ne v601 c0_i32_306
  let v603 : BitVec 1 := Scalar.andi v600 v602
  let v589 : BitVec 32 := Scalar.divsi v588 c2_i32_301
  let c1_i32_307 : BitVec 32 := 1#32
  let v604 : BitVec 32 := Scalar.subi v589 c1_i32_307
  let v605 : BitVec 32 := Scalar.select v603 v604 v589
  let c0_i32_318 : BitVec 32 := 0#32
  let c384_i32_310 : BitVec 32 := 384#32
  let v609 : BitVec 32 := Scalar.subi c384_i32_310 v587
  let c0_i32_312 : BitVec 32 := 0#32
  let v611 : BitVec 1 := Scalar.cmpi .sgt v609 c0_i32_312
  let v612 : BitVec 32 := Scalar.extui v611
  let c0_i32_313 : BitVec 32 := 0#32
  let v613 : BitVec 1 := Scalar.cmpi .slt v609 c0_i32_313
  let v614 : BitVec 32 := Scalar.extui v613
  let v615 : BitVec 32 := Scalar.subi v612 v614
  let c2_i32_311 : BitVec 32 := 2#32
  let c0_i32_314 : BitVec 32 := 0#32
  let v616 : BitVec 1 := Scalar.cmpi .sgt c2_i32_311 c0_i32_314
  let v617 : BitVec 32 := Scalar.extui v616
  let c0_i32_315 : BitVec 32 := 0#32
  let v618 : BitVec 1 := Scalar.cmpi .slt c2_i32_311 c0_i32_315
  let v619 : BitVec 32 := Scalar.extui v618
  let v620 : BitVec 32 := Scalar.subi v617 v619
  let v621 : BitVec 1 := Scalar.cmpi .ne v615 v620
  let v622 : BitVec 32 := Scalar.remsi v609 c2_i32_311
  let c0_i32_316 : BitVec 32 := 0#32
  let v623 : BitVec 1 := Scalar.cmpi .ne v622 c0_i32_316
  let v624 : BitVec 1 := Scalar.andi v621 v623
  let v610 : BitVec 32 := Scalar.divsi v609 c2_i32_311
  let c1_i32_317 : BitVec 32 := 1#32
  let v625 : BitVec 32 := Scalar.subi v610 c1_i32_317
  let v626 : BitVec 32 := Scalar.select v624 v625 v610
  let v627 : BitVec 32 := Scalar.maxsi c0_i32_318 v626
  let v628 : BitVec 32 := Scalar.minsi v605 v627
  let c0_i32_327 : BitVec 32 := 0#32
  let c768_i32_319 : BitVec 32 := 768#32
  let v629 : BitVec 32 := Scalar.subi c768_i32_319 v587
  let c0_i32_321 : BitVec 32 := 0#32
  let v631 : BitVec 1 := Scalar.cmpi .sgt v629 c0_i32_321
  let v632 : BitVec 32 := Scalar.extui v631
  let c0_i32_322 : BitVec 32 := 0#32
  let v633 : BitVec 1 := Scalar.cmpi .slt v629 c0_i32_322
  let v634 : BitVec 32 := Scalar.extui v633
  let v635 : BitVec 32 := Scalar.subi v632 v634
  let c2_i32_320 : BitVec 32 := 2#32
  let c0_i32_323 : BitVec 32 := 0#32
  let v636 : BitVec 1 := Scalar.cmpi .sgt c2_i32_320 c0_i32_323
  let v637 : BitVec 32 := Scalar.extui v636
  let c0_i32_324 : BitVec 32 := 0#32
  let v638 : BitVec 1 := Scalar.cmpi .slt c2_i32_320 c0_i32_324
  let v639 : BitVec 32 := Scalar.extui v638
  let v640 : BitVec 32 := Scalar.subi v637 v639
  let v641 : BitVec 1 := Scalar.cmpi .ne v635 v640
  let v642 : BitVec 32 := Scalar.remsi v629 c2_i32_320
  let c0_i32_325 : BitVec 32 := 0#32
  let v643 : BitVec 1 := Scalar.cmpi .ne v642 c0_i32_325
  let v644 : BitVec 1 := Scalar.andi v641 v643
  let v630 : BitVec 32 := Scalar.divsi v629 c2_i32_320
  let c1_i32_326 : BitVec 32 := 1#32
  let v645 : BitVec 32 := Scalar.subi v630 c1_i32_326
  let v646 : BitVec 32 := Scalar.select v644 v645 v630
  let v647 : BitVec 32 := Scalar.maxsi c0_i32_327 v646
  let v648 : BitVec 32 := Scalar.minsi v605 v647
  let v649 : BitVec 32 := Scalar.subi v648 v628
  let c1_i32_328 : BitVec 32 := 1#32
  let v651 : BitVec 32 := Scalar.divsi v649 c1_i32_328
  let v652 : BitVec 32 := Scalar.muli v651 c1_i32_328
  let v653 : BitVec 32 := Scalar.addi v628 v652
  let v650 : BitVec 32 := Scalar.addi v628 v649
  let c1_i32_330 : BitVec 32 := 1#32
  ⟨v653, v650, c1_i32_330⟩
def k0_off145 (v585 : BitVec 32) (v587 : BitVec 32) (k0_t56 : Fin (k0_t56_loop v585 v587).trips) : Fin 2 → Nat :=
  let c1_i32_300 : BitVec 32 := 1#32
  let v588 : BitVec 32 := Scalar.addi v585 c1_i32_300
  let c0_i32_302 : BitVec 32 := 0#32
  let v590 : BitVec 1 := Scalar.cmpi .sgt v588 c0_i32_302
  let v591 : BitVec 32 := Scalar.extui v590
  let c0_i32_303 : BitVec 32 := 0#32
  let v592 : BitVec 1 := Scalar.cmpi .slt v588 c0_i32_303
  let v593 : BitVec 32 := Scalar.extui v592
  let v594 : BitVec 32 := Scalar.subi v591 v593
  let c2_i32_301 : BitVec 32 := 2#32
  let c0_i32_304 : BitVec 32 := 0#32
  let v595 : BitVec 1 := Scalar.cmpi .sgt c2_i32_301 c0_i32_304
  let v596 : BitVec 32 := Scalar.extui v595
  let c0_i32_305 : BitVec 32 := 0#32
  let v597 : BitVec 1 := Scalar.cmpi .slt c2_i32_301 c0_i32_305
  let v598 : BitVec 32 := Scalar.extui v597
  let v599 : BitVec 32 := Scalar.subi v596 v598
  let v600 : BitVec 1 := Scalar.cmpi .ne v594 v599
  let v601 : BitVec 32 := Scalar.remsi v588 c2_i32_301
  let c0_i32_306 : BitVec 32 := 0#32
  let v602 : BitVec 1 := Scalar.cmpi .ne v601 c0_i32_306
  let v603 : BitVec 1 := Scalar.andi v600 v602
  let v589 : BitVec 32 := Scalar.divsi v588 c2_i32_301
  let c1_i32_307 : BitVec 32 := 1#32
  let v604 : BitVec 32 := Scalar.subi v589 c1_i32_307
  let v605 : BitVec 32 := Scalar.select v603 v604 v589
  let c0_i32_318 : BitVec 32 := 0#32
  let c384_i32_310 : BitVec 32 := 384#32
  let v609 : BitVec 32 := Scalar.subi c384_i32_310 v587
  let c0_i32_312 : BitVec 32 := 0#32
  let v611 : BitVec 1 := Scalar.cmpi .sgt v609 c0_i32_312
  let v612 : BitVec 32 := Scalar.extui v611
  let c0_i32_313 : BitVec 32 := 0#32
  let v613 : BitVec 1 := Scalar.cmpi .slt v609 c0_i32_313
  let v614 : BitVec 32 := Scalar.extui v613
  let v615 : BitVec 32 := Scalar.subi v612 v614
  let c2_i32_311 : BitVec 32 := 2#32
  let c0_i32_314 : BitVec 32 := 0#32
  let v616 : BitVec 1 := Scalar.cmpi .sgt c2_i32_311 c0_i32_314
  let v617 : BitVec 32 := Scalar.extui v616
  let c0_i32_315 : BitVec 32 := 0#32
  let v618 : BitVec 1 := Scalar.cmpi .slt c2_i32_311 c0_i32_315
  let v619 : BitVec 32 := Scalar.extui v618
  let v620 : BitVec 32 := Scalar.subi v617 v619
  let v621 : BitVec 1 := Scalar.cmpi .ne v615 v620
  let v622 : BitVec 32 := Scalar.remsi v609 c2_i32_311
  let c0_i32_316 : BitVec 32 := 0#32
  let v623 : BitVec 1 := Scalar.cmpi .ne v622 c0_i32_316
  let v624 : BitVec 1 := Scalar.andi v621 v623
  let v610 : BitVec 32 := Scalar.divsi v609 c2_i32_311
  let c1_i32_317 : BitVec 32 := 1#32
  let v625 : BitVec 32 := Scalar.subi v610 c1_i32_317
  let v626 : BitVec 32 := Scalar.select v624 v625 v610
  let v627 : BitVec 32 := Scalar.maxsi c0_i32_318 v626
  let v628 : BitVec 32 := Scalar.minsi v605 v627
  let c0_i32_327 : BitVec 32 := 0#32
  let c768_i32_319 : BitVec 32 := 768#32
  let v629 : BitVec 32 := Scalar.subi c768_i32_319 v587
  let c0_i32_321 : BitVec 32 := 0#32
  let v631 : BitVec 1 := Scalar.cmpi .sgt v629 c0_i32_321
  let v632 : BitVec 32 := Scalar.extui v631
  let c0_i32_322 : BitVec 32 := 0#32
  let v633 : BitVec 1 := Scalar.cmpi .slt v629 c0_i32_322
  let v634 : BitVec 32 := Scalar.extui v633
  let v635 : BitVec 32 := Scalar.subi v632 v634
  let c2_i32_320 : BitVec 32 := 2#32
  let c0_i32_323 : BitVec 32 := 0#32
  let v636 : BitVec 1 := Scalar.cmpi .sgt c2_i32_320 c0_i32_323
  let v637 : BitVec 32 := Scalar.extui v636
  let c0_i32_324 : BitVec 32 := 0#32
  let v638 : BitVec 1 := Scalar.cmpi .slt c2_i32_320 c0_i32_324
  let v639 : BitVec 32 := Scalar.extui v638
  let v640 : BitVec 32 := Scalar.subi v637 v639
  let v641 : BitVec 1 := Scalar.cmpi .ne v635 v640
  let v642 : BitVec 32 := Scalar.remsi v629 c2_i32_320
  let c0_i32_325 : BitVec 32 := 0#32
  let v643 : BitVec 1 := Scalar.cmpi .ne v642 c0_i32_325
  let v644 : BitVec 1 := Scalar.andi v641 v643
  let v630 : BitVec 32 := Scalar.divsi v629 c2_i32_320
  let c1_i32_326 : BitVec 32 := 1#32
  let v645 : BitVec 32 := Scalar.subi v630 c1_i32_326
  let v646 : BitVec 32 := Scalar.select v644 v645 v630
  let v647 : BitVec 32 := Scalar.maxsi c0_i32_327 v646
  let v648 : BitVec 32 := Scalar.minsi v605 v647
  let v649 : BitVec 32 := Scalar.subi v648 v628
  let c1_i32_328 : BitVec 32 := 1#32
  let v651 : BitVec 32 := Scalar.divsi v649 c1_i32_328
  let v652 : BitVec 32 := Scalar.muli v651 c1_i32_328
  let v653 : BitVec 32 := Scalar.addi v628 v652
  let c1_i32_330 : BitVec 32 := 1#32
  let arg23 : BitVec 32 := Scf.iv v653 c1_i32_330 k0_t56
  let c2_i32_612 : BitVec 32 := 2#32
  let v1306 : BitVec 32 := Scalar.muli arg23 c2_i32_612
  let v1307 : BitVec 32 := Scalar.addi v587 v1306
  let c384_i32_613 : BitVec 32 := 384#32
  let v1308 : BitVec 32 := Scalar.subi v1307 c384_i32_613
  let c0_i32_614 : BitVec 32 := 0#32
  ![v1308.toNat, 0]
def k0_off146 (v585 : BitVec 32) (v587 : BitVec 32) (k0_t56 : Fin (k0_t56_loop v585 v587).trips) : Fin 2 → Nat :=
  let c1_i32_611 : BitVec 32 := 1#32
  let v1304 : BitVec 32 := Scalar.shrsi v587 c1_i32_611
  let c1_i32_300 : BitVec 32 := 1#32
  let v588 : BitVec 32 := Scalar.addi v585 c1_i32_300
  let c0_i32_302 : BitVec 32 := 0#32
  let v590 : BitVec 1 := Scalar.cmpi .sgt v588 c0_i32_302
  let v591 : BitVec 32 := Scalar.extui v590
  let c0_i32_303 : BitVec 32 := 0#32
  let v592 : BitVec 1 := Scalar.cmpi .slt v588 c0_i32_303
  let v593 : BitVec 32 := Scalar.extui v592
  let v594 : BitVec 32 := Scalar.subi v591 v593
  let c2_i32_301 : BitVec 32 := 2#32
  let c0_i32_304 : BitVec 32 := 0#32
  let v595 : BitVec 1 := Scalar.cmpi .sgt c2_i32_301 c0_i32_304
  let v596 : BitVec 32 := Scalar.extui v595
  let c0_i32_305 : BitVec 32 := 0#32
  let v597 : BitVec 1 := Scalar.cmpi .slt c2_i32_301 c0_i32_305
  let v598 : BitVec 32 := Scalar.extui v597
  let v599 : BitVec 32 := Scalar.subi v596 v598
  let v600 : BitVec 1 := Scalar.cmpi .ne v594 v599
  let v601 : BitVec 32 := Scalar.remsi v588 c2_i32_301
  let c0_i32_306 : BitVec 32 := 0#32
  let v602 : BitVec 1 := Scalar.cmpi .ne v601 c0_i32_306
  let v603 : BitVec 1 := Scalar.andi v600 v602
  let v589 : BitVec 32 := Scalar.divsi v588 c2_i32_301
  let c1_i32_307 : BitVec 32 := 1#32
  let v604 : BitVec 32 := Scalar.subi v589 c1_i32_307
  let v605 : BitVec 32 := Scalar.select v603 v604 v589
  let c0_i32_318 : BitVec 32 := 0#32
  let c384_i32_310 : BitVec 32 := 384#32
  let v609 : BitVec 32 := Scalar.subi c384_i32_310 v587
  let c0_i32_312 : BitVec 32 := 0#32
  let v611 : BitVec 1 := Scalar.cmpi .sgt v609 c0_i32_312
  let v612 : BitVec 32 := Scalar.extui v611
  let c0_i32_313 : BitVec 32 := 0#32
  let v613 : BitVec 1 := Scalar.cmpi .slt v609 c0_i32_313
  let v614 : BitVec 32 := Scalar.extui v613
  let v615 : BitVec 32 := Scalar.subi v612 v614
  let c2_i32_311 : BitVec 32 := 2#32
  let c0_i32_314 : BitVec 32 := 0#32
  let v616 : BitVec 1 := Scalar.cmpi .sgt c2_i32_311 c0_i32_314
  let v617 : BitVec 32 := Scalar.extui v616
  let c0_i32_315 : BitVec 32 := 0#32
  let v618 : BitVec 1 := Scalar.cmpi .slt c2_i32_311 c0_i32_315
  let v619 : BitVec 32 := Scalar.extui v618
  let v620 : BitVec 32 := Scalar.subi v617 v619
  let v621 : BitVec 1 := Scalar.cmpi .ne v615 v620
  let v622 : BitVec 32 := Scalar.remsi v609 c2_i32_311
  let c0_i32_316 : BitVec 32 := 0#32
  let v623 : BitVec 1 := Scalar.cmpi .ne v622 c0_i32_316
  let v624 : BitVec 1 := Scalar.andi v621 v623
  let v610 : BitVec 32 := Scalar.divsi v609 c2_i32_311
  let c1_i32_317 : BitVec 32 := 1#32
  let v625 : BitVec 32 := Scalar.subi v610 c1_i32_317
  let v626 : BitVec 32 := Scalar.select v624 v625 v610
  let v627 : BitVec 32 := Scalar.maxsi c0_i32_318 v626
  let v628 : BitVec 32 := Scalar.minsi v605 v627
  let c0_i32_327 : BitVec 32 := 0#32
  let c768_i32_319 : BitVec 32 := 768#32
  let v629 : BitVec 32 := Scalar.subi c768_i32_319 v587
  let c0_i32_321 : BitVec 32 := 0#32
  let v631 : BitVec 1 := Scalar.cmpi .sgt v629 c0_i32_321
  let v632 : BitVec 32 := Scalar.extui v631
  let c0_i32_322 : BitVec 32 := 0#32
  let v633 : BitVec 1 := Scalar.cmpi .slt v629 c0_i32_322
  let v634 : BitVec 32 := Scalar.extui v633
  let v635 : BitVec 32 := Scalar.subi v632 v634
  let c2_i32_320 : BitVec 32 := 2#32
  let c0_i32_323 : BitVec 32 := 0#32
  let v636 : BitVec 1 := Scalar.cmpi .sgt c2_i32_320 c0_i32_323
  let v637 : BitVec 32 := Scalar.extui v636
  let c0_i32_324 : BitVec 32 := 0#32
  let v638 : BitVec 1 := Scalar.cmpi .slt c2_i32_320 c0_i32_324
  let v639 : BitVec 32 := Scalar.extui v638
  let v640 : BitVec 32 := Scalar.subi v637 v639
  let v641 : BitVec 1 := Scalar.cmpi .ne v635 v640
  let v642 : BitVec 32 := Scalar.remsi v629 c2_i32_320
  let c0_i32_325 : BitVec 32 := 0#32
  let v643 : BitVec 1 := Scalar.cmpi .ne v642 c0_i32_325
  let v644 : BitVec 1 := Scalar.andi v641 v643
  let v630 : BitVec 32 := Scalar.divsi v629 c2_i32_320
  let c1_i32_326 : BitVec 32 := 1#32
  let v645 : BitVec 32 := Scalar.subi v630 c1_i32_326
  let v646 : BitVec 32 := Scalar.select v644 v645 v630
  let v647 : BitVec 32 := Scalar.maxsi c0_i32_327 v646
  let v648 : BitVec 32 := Scalar.minsi v605 v647
  let v649 : BitVec 32 := Scalar.subi v648 v628
  let c1_i32_328 : BitVec 32 := 1#32
  let v651 : BitVec 32 := Scalar.divsi v649 c1_i32_328
  let v652 : BitVec 32 := Scalar.muli v651 c1_i32_328
  let v653 : BitVec 32 := Scalar.addi v628 v652
  let c1_i32_330 : BitVec 32 := 1#32
  let arg23 : BitVec 32 := Scf.iv v653 c1_i32_330 k0_t56
  let v1305 : BitVec 32 := Scalar.addi v1304 arg23
  let c0_i32_615 : BitVec 32 := 0#32
  ![v1305.toNat, 0]

def k0_chk31 (v585 : BitVec 32) (v587 : BitVec 32) : Prop :=
  ((k0_t55_loop v585 v587).OK) ∧
  (∀ k0_t55 : Fin (k0_t55_loop v585 v587).trips, ∀ a, (k0_off142 v585 v587 k0_t55) a + S2x128.size a ≤ S384x128.size a) ∧
  (∀ k0_t55 : Fin (k0_t55_loop v585 v587).trips, ∀ a, (k0_off143 v585 v587 k0_t55) a + S1x2.size a ≤ S584x2.size a) ∧
  ((k0_t56_loop v585 v587).OK) ∧
  (∀ k0_t56 : Fin (k0_t56_loop v585 v587).trips, ∀ a, (k0_off145 v585 v587 k0_t56) a + S2x128.size a ≤ S384x128.size a) ∧
  (∀ k0_t56 : Fin (k0_t56_loop v585 v587).trips, ∀ a, (k0_off146 v585 v587 k0_t56) a + S1x2.size a ≤ S584x2.size a)
theorem k0_t55_ok : ∀ (v585 : BitVec 32) (v587 : BitVec 32) (k0_hw31 : k0_chk31 v585 v587), (k0_t55_loop v585 v587).OK := fun v585 v587 k0_hw31 => k0_hw31.1
theorem k0_off142_inb : ∀ (v585 : BitVec 32) (v587 : BitVec 32) (k0_hw31 : k0_chk31 v585 v587) (k0_t55 : Fin (k0_t55_loop v585 v587).trips), ∀ a, (k0_off142 v585 v587 k0_t55) a + S2x128.size a ≤ S384x128.size a := fun v585 v587 k0_hw31 k0_t55 => k0_hw31.2.1 k0_t55
theorem k0_off143_inb : ∀ (v585 : BitVec 32) (v587 : BitVec 32) (k0_hw31 : k0_chk31 v585 v587) (k0_t55 : Fin (k0_t55_loop v585 v587).trips), ∀ a, (k0_off143 v585 v587 k0_t55) a + S1x2.size a ≤ S584x2.size a := fun v585 v587 k0_hw31 k0_t55 => k0_hw31.2.2.1 k0_t55
theorem k0_t56_ok : ∀ (v585 : BitVec 32) (v587 : BitVec 32) (k0_hw31 : k0_chk31 v585 v587), (k0_t56_loop v585 v587).OK := fun v585 v587 k0_hw31 => k0_hw31.2.2.2.1
theorem k0_off145_inb : ∀ (v585 : BitVec 32) (v587 : BitVec 32) (k0_hw31 : k0_chk31 v585 v587) (k0_t56 : Fin (k0_t56_loop v585 v587).trips), ∀ a, (k0_off145 v585 v587 k0_t56) a + S2x128.size a ≤ S384x128.size a := fun v585 v587 k0_hw31 k0_t56 => k0_hw31.2.2.2.2.1 k0_t56
theorem k0_off146_inb : ∀ (v585 : BitVec 32) (v587 : BitVec 32) (k0_hw31 : k0_chk31 v585 v587) (k0_t56 : Fin (k0_t56_loop v585 v587).trips), ∀ a, (k0_off146 v585 v587 k0_t56) a + S1x2.size a ≤ S584x2.size a := fun v585 v587 k0_hw31 k0_t56 => k0_hw31.2.2.2.2.2 k0_t56

def k0_off147 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_308 : BitVec 32 := 16#32
  let v606 : BitVec 32 := Scalar.muli arg21 c16_i32_308
  let c6_i32 : BitVec 32 := 6#32
  let v607 : BitVec 32 := Scalar.addi v606 c6_i32
  let c128_i32_309 : BitVec 32 := 128#32
  let v608 : BitVec 32 := Scalar.muli v607 c128_i32_309
  ![0, v608.toNat]
@[reducible] def k0_t57_loop (v657 : BitVec 32) (v659 : BitVec 32) : Scf.Loop 32 :=
  let c1_i32_331 : BitVec 32 := 1#32
  let v660 : BitVec 32 := Scalar.addi v657 c1_i32_331
  let c0_i32_333 : BitVec 32 := 0#32
  let v662 : BitVec 1 := Scalar.cmpi .sgt v660 c0_i32_333
  let v663 : BitVec 32 := Scalar.extui v662
  let c0_i32_334 : BitVec 32 := 0#32
  let v664 : BitVec 1 := Scalar.cmpi .slt v660 c0_i32_334
  let v665 : BitVec 32 := Scalar.extui v664
  let v666 : BitVec 32 := Scalar.subi v663 v665
  let c2_i32_332 : BitVec 32 := 2#32
  let c0_i32_335 : BitVec 32 := 0#32
  let v667 : BitVec 1 := Scalar.cmpi .sgt c2_i32_332 c0_i32_335
  let v668 : BitVec 32 := Scalar.extui v667
  let c0_i32_336 : BitVec 32 := 0#32
  let v669 : BitVec 1 := Scalar.cmpi .slt c2_i32_332 c0_i32_336
  let v670 : BitVec 32 := Scalar.extui v669
  let v671 : BitVec 32 := Scalar.subi v668 v670
  let v672 : BitVec 1 := Scalar.cmpi .ne v666 v671
  let v673 : BitVec 32 := Scalar.remsi v660 c2_i32_332
  let c0_i32_337 : BitVec 32 := 0#32
  let v674 : BitVec 1 := Scalar.cmpi .ne v673 c0_i32_337
  let v675 : BitVec 1 := Scalar.andi v672 v674
  let v661 : BitVec 32 := Scalar.divsi v660 c2_i32_332
  let c1_i32_338 : BitVec 32 := 1#32
  let v676 : BitVec 32 := Scalar.subi v661 c1_i32_338
  let v677 : BitVec 32 := Scalar.select v675 v676 v661
  let c0_i32_350 : BitVec 32 := 0#32
  let c384_i32_342 : BitVec 32 := 384#32
  let v681 : BitVec 32 := Scalar.subi c384_i32_342 v659
  let c0_i32_344 : BitVec 32 := 0#32
  let v683 : BitVec 1 := Scalar.cmpi .sgt v681 c0_i32_344
  let v684 : BitVec 32 := Scalar.extui v683
  let c0_i32_345 : BitVec 32 := 0#32
  let v685 : BitVec 1 := Scalar.cmpi .slt v681 c0_i32_345
  let v686 : BitVec 32 := Scalar.extui v685
  let v687 : BitVec 32 := Scalar.subi v684 v686
  let c2_i32_343 : BitVec 32 := 2#32
  let c0_i32_346 : BitVec 32 := 0#32
  let v688 : BitVec 1 := Scalar.cmpi .sgt c2_i32_343 c0_i32_346
  let v689 : BitVec 32 := Scalar.extui v688
  let c0_i32_347 : BitVec 32 := 0#32
  let v690 : BitVec 1 := Scalar.cmpi .slt c2_i32_343 c0_i32_347
  let v691 : BitVec 32 := Scalar.extui v690
  let v692 : BitVec 32 := Scalar.subi v689 v691
  let v693 : BitVec 1 := Scalar.cmpi .ne v687 v692
  let v694 : BitVec 32 := Scalar.remsi v681 c2_i32_343
  let c0_i32_348 : BitVec 32 := 0#32
  let v695 : BitVec 1 := Scalar.cmpi .ne v694 c0_i32_348
  let v696 : BitVec 1 := Scalar.andi v693 v695
  let v682 : BitVec 32 := Scalar.divsi v681 c2_i32_343
  let c1_i32_349 : BitVec 32 := 1#32
  let v697 : BitVec 32 := Scalar.subi v682 c1_i32_349
  let v698 : BitVec 32 := Scalar.select v696 v697 v682
  let v699 : BitVec 32 := Scalar.maxsi c0_i32_350 v698
  let v700 : BitVec 32 := Scalar.minsi v677 v699
  let c0_i32_359 : BitVec 32 := 0#32
  let c768_i32_351 : BitVec 32 := 768#32
  let v701 : BitVec 32 := Scalar.subi c768_i32_351 v659
  let c0_i32_353 : BitVec 32 := 0#32
  let v703 : BitVec 1 := Scalar.cmpi .sgt v701 c0_i32_353
  let v704 : BitVec 32 := Scalar.extui v703
  let c0_i32_354 : BitVec 32 := 0#32
  let v705 : BitVec 1 := Scalar.cmpi .slt v701 c0_i32_354
  let v706 : BitVec 32 := Scalar.extui v705
  let v707 : BitVec 32 := Scalar.subi v704 v706
  let c2_i32_352 : BitVec 32 := 2#32
  let c0_i32_355 : BitVec 32 := 0#32
  let v708 : BitVec 1 := Scalar.cmpi .sgt c2_i32_352 c0_i32_355
  let v709 : BitVec 32 := Scalar.extui v708
  let c0_i32_356 : BitVec 32 := 0#32
  let v710 : BitVec 1 := Scalar.cmpi .slt c2_i32_352 c0_i32_356
  let v711 : BitVec 32 := Scalar.extui v710
  let v712 : BitVec 32 := Scalar.subi v709 v711
  let v713 : BitVec 1 := Scalar.cmpi .ne v707 v712
  let v714 : BitVec 32 := Scalar.remsi v701 c2_i32_352
  let c0_i32_357 : BitVec 32 := 0#32
  let v715 : BitVec 1 := Scalar.cmpi .ne v714 c0_i32_357
  let v716 : BitVec 1 := Scalar.andi v713 v715
  let v702 : BitVec 32 := Scalar.divsi v701 c2_i32_352
  let c1_i32_358 : BitVec 32 := 1#32
  let v717 : BitVec 32 := Scalar.subi v702 c1_i32_358
  let v718 : BitVec 32 := Scalar.select v716 v717 v702
  let v719 : BitVec 32 := Scalar.maxsi c0_i32_359 v718
  let v720 : BitVec 32 := Scalar.minsi v677 v719
  let v721 : BitVec 32 := Scalar.subi v720 v700
  let c1_i32_360 : BitVec 32 := 1#32
  let v723 : BitVec 32 := Scalar.divsi v721 c1_i32_360
  let v724 : BitVec 32 := Scalar.muli v723 c1_i32_360
  let v725 : BitVec 32 := Scalar.addi v700 v724
  let c1_i32_361 : BitVec 32 := 1#32
  ⟨v700, v725, c1_i32_361⟩

def k0_off148 (v657 : BitVec 32) (v659 : BitVec 32) (k0_t57 : Fin (k0_t57_loop v657 v659).trips) : Fin 2 → Nat :=
  let c1_i32_331 : BitVec 32 := 1#32
  let v660 : BitVec 32 := Scalar.addi v657 c1_i32_331
  let c0_i32_333 : BitVec 32 := 0#32
  let v662 : BitVec 1 := Scalar.cmpi .sgt v660 c0_i32_333
  let v663 : BitVec 32 := Scalar.extui v662
  let c0_i32_334 : BitVec 32 := 0#32
  let v664 : BitVec 1 := Scalar.cmpi .slt v660 c0_i32_334
  let v665 : BitVec 32 := Scalar.extui v664
  let v666 : BitVec 32 := Scalar.subi v663 v665
  let c2_i32_332 : BitVec 32 := 2#32
  let c0_i32_335 : BitVec 32 := 0#32
  let v667 : BitVec 1 := Scalar.cmpi .sgt c2_i32_332 c0_i32_335
  let v668 : BitVec 32 := Scalar.extui v667
  let c0_i32_336 : BitVec 32 := 0#32
  let v669 : BitVec 1 := Scalar.cmpi .slt c2_i32_332 c0_i32_336
  let v670 : BitVec 32 := Scalar.extui v669
  let v671 : BitVec 32 := Scalar.subi v668 v670
  let v672 : BitVec 1 := Scalar.cmpi .ne v666 v671
  let v673 : BitVec 32 := Scalar.remsi v660 c2_i32_332
  let c0_i32_337 : BitVec 32 := 0#32
  let v674 : BitVec 1 := Scalar.cmpi .ne v673 c0_i32_337
  let v675 : BitVec 1 := Scalar.andi v672 v674
  let v661 : BitVec 32 := Scalar.divsi v660 c2_i32_332
  let c1_i32_338 : BitVec 32 := 1#32
  let v676 : BitVec 32 := Scalar.subi v661 c1_i32_338
  let v677 : BitVec 32 := Scalar.select v675 v676 v661
  let c0_i32_350 : BitVec 32 := 0#32
  let c384_i32_342 : BitVec 32 := 384#32
  let v681 : BitVec 32 := Scalar.subi c384_i32_342 v659
  let c0_i32_344 : BitVec 32 := 0#32
  let v683 : BitVec 1 := Scalar.cmpi .sgt v681 c0_i32_344
  let v684 : BitVec 32 := Scalar.extui v683
  let c0_i32_345 : BitVec 32 := 0#32
  let v685 : BitVec 1 := Scalar.cmpi .slt v681 c0_i32_345
  let v686 : BitVec 32 := Scalar.extui v685
  let v687 : BitVec 32 := Scalar.subi v684 v686
  let c2_i32_343 : BitVec 32 := 2#32
  let c0_i32_346 : BitVec 32 := 0#32
  let v688 : BitVec 1 := Scalar.cmpi .sgt c2_i32_343 c0_i32_346
  let v689 : BitVec 32 := Scalar.extui v688
  let c0_i32_347 : BitVec 32 := 0#32
  let v690 : BitVec 1 := Scalar.cmpi .slt c2_i32_343 c0_i32_347
  let v691 : BitVec 32 := Scalar.extui v690
  let v692 : BitVec 32 := Scalar.subi v689 v691
  let v693 : BitVec 1 := Scalar.cmpi .ne v687 v692
  let v694 : BitVec 32 := Scalar.remsi v681 c2_i32_343
  let c0_i32_348 : BitVec 32 := 0#32
  let v695 : BitVec 1 := Scalar.cmpi .ne v694 c0_i32_348
  let v696 : BitVec 1 := Scalar.andi v693 v695
  let v682 : BitVec 32 := Scalar.divsi v681 c2_i32_343
  let c1_i32_349 : BitVec 32 := 1#32
  let v697 : BitVec 32 := Scalar.subi v682 c1_i32_349
  let v698 : BitVec 32 := Scalar.select v696 v697 v682
  let v699 : BitVec 32 := Scalar.maxsi c0_i32_350 v698
  let v700 : BitVec 32 := Scalar.minsi v677 v699
  let c1_i32_361 : BitVec 32 := 1#32
  let arg23 : BitVec 32 := Scf.iv v700 c1_i32_361 k0_t57
  let c2_i32_612 : BitVec 32 := 2#32
  let v1306 : BitVec 32 := Scalar.muli arg23 c2_i32_612
  let v1307 : BitVec 32 := Scalar.addi v659 v1306
  let c384_i32_613 : BitVec 32 := 384#32
  let v1308 : BitVec 32 := Scalar.subi v1307 c384_i32_613
  let c0_i32_614 : BitVec 32 := 0#32
  ![v1308.toNat, 0]
def k0_off149 (v657 : BitVec 32) (v659 : BitVec 32) (k0_t57 : Fin (k0_t57_loop v657 v659).trips) : Fin 2 → Nat :=
  let c1_i32_611 : BitVec 32 := 1#32
  let v1304 : BitVec 32 := Scalar.shrsi v659 c1_i32_611
  let c1_i32_331 : BitVec 32 := 1#32
  let v660 : BitVec 32 := Scalar.addi v657 c1_i32_331
  let c0_i32_333 : BitVec 32 := 0#32
  let v662 : BitVec 1 := Scalar.cmpi .sgt v660 c0_i32_333
  let v663 : BitVec 32 := Scalar.extui v662
  let c0_i32_334 : BitVec 32 := 0#32
  let v664 : BitVec 1 := Scalar.cmpi .slt v660 c0_i32_334
  let v665 : BitVec 32 := Scalar.extui v664
  let v666 : BitVec 32 := Scalar.subi v663 v665
  let c2_i32_332 : BitVec 32 := 2#32
  let c0_i32_335 : BitVec 32 := 0#32
  let v667 : BitVec 1 := Scalar.cmpi .sgt c2_i32_332 c0_i32_335
  let v668 : BitVec 32 := Scalar.extui v667
  let c0_i32_336 : BitVec 32 := 0#32
  let v669 : BitVec 1 := Scalar.cmpi .slt c2_i32_332 c0_i32_336
  let v670 : BitVec 32 := Scalar.extui v669
  let v671 : BitVec 32 := Scalar.subi v668 v670
  let v672 : BitVec 1 := Scalar.cmpi .ne v666 v671
  let v673 : BitVec 32 := Scalar.remsi v660 c2_i32_332
  let c0_i32_337 : BitVec 32 := 0#32
  let v674 : BitVec 1 := Scalar.cmpi .ne v673 c0_i32_337
  let v675 : BitVec 1 := Scalar.andi v672 v674
  let v661 : BitVec 32 := Scalar.divsi v660 c2_i32_332
  let c1_i32_338 : BitVec 32 := 1#32
  let v676 : BitVec 32 := Scalar.subi v661 c1_i32_338
  let v677 : BitVec 32 := Scalar.select v675 v676 v661
  let c0_i32_350 : BitVec 32 := 0#32
  let c384_i32_342 : BitVec 32 := 384#32
  let v681 : BitVec 32 := Scalar.subi c384_i32_342 v659
  let c0_i32_344 : BitVec 32 := 0#32
  let v683 : BitVec 1 := Scalar.cmpi .sgt v681 c0_i32_344
  let v684 : BitVec 32 := Scalar.extui v683
  let c0_i32_345 : BitVec 32 := 0#32
  let v685 : BitVec 1 := Scalar.cmpi .slt v681 c0_i32_345
  let v686 : BitVec 32 := Scalar.extui v685
  let v687 : BitVec 32 := Scalar.subi v684 v686
  let c2_i32_343 : BitVec 32 := 2#32
  let c0_i32_346 : BitVec 32 := 0#32
  let v688 : BitVec 1 := Scalar.cmpi .sgt c2_i32_343 c0_i32_346
  let v689 : BitVec 32 := Scalar.extui v688
  let c0_i32_347 : BitVec 32 := 0#32
  let v690 : BitVec 1 := Scalar.cmpi .slt c2_i32_343 c0_i32_347
  let v691 : BitVec 32 := Scalar.extui v690
  let v692 : BitVec 32 := Scalar.subi v689 v691
  let v693 : BitVec 1 := Scalar.cmpi .ne v687 v692
  let v694 : BitVec 32 := Scalar.remsi v681 c2_i32_343
  let c0_i32_348 : BitVec 32 := 0#32
  let v695 : BitVec 1 := Scalar.cmpi .ne v694 c0_i32_348
  let v696 : BitVec 1 := Scalar.andi v693 v695
  let v682 : BitVec 32 := Scalar.divsi v681 c2_i32_343
  let c1_i32_349 : BitVec 32 := 1#32
  let v697 : BitVec 32 := Scalar.subi v682 c1_i32_349
  let v698 : BitVec 32 := Scalar.select v696 v697 v682
  let v699 : BitVec 32 := Scalar.maxsi c0_i32_350 v698
  let v700 : BitVec 32 := Scalar.minsi v677 v699
  let c1_i32_361 : BitVec 32 := 1#32
  let arg23 : BitVec 32 := Scf.iv v700 c1_i32_361 k0_t57
  let v1305 : BitVec 32 := Scalar.addi v1304 arg23
  let c0_i32_615 : BitVec 32 := 0#32
  ![v1305.toNat, 0]
def k0_off150 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_339 : BitVec 32 := 16#32
  let v678 : BitVec 32 := Scalar.muli arg21 c16_i32_339
  let c7_i32_340 : BitVec 32 := 7#32
  let v679 : BitVec 32 := Scalar.addi v678 c7_i32_340
  let c128_i32_341 : BitVec 32 := 128#32
  let v680 : BitVec 32 := Scalar.muli v679 c128_i32_341
  ![0, v680.toNat]
@[reducible] def k0_t58_loop (v657 : BitVec 32) (v659 : BitVec 32) : Scf.Loop 32 :=
  let c1_i32_331 : BitVec 32 := 1#32
  let v660 : BitVec 32 := Scalar.addi v657 c1_i32_331
  let c0_i32_333 : BitVec 32 := 0#32
  let v662 : BitVec 1 := Scalar.cmpi .sgt v660 c0_i32_333
  let v663 : BitVec 32 := Scalar.extui v662
  let c0_i32_334 : BitVec 32 := 0#32
  let v664 : BitVec 1 := Scalar.cmpi .slt v660 c0_i32_334
  let v665 : BitVec 32 := Scalar.extui v664
  let v666 : BitVec 32 := Scalar.subi v663 v665
  let c2_i32_332 : BitVec 32 := 2#32
  let c0_i32_335 : BitVec 32 := 0#32
  let v667 : BitVec 1 := Scalar.cmpi .sgt c2_i32_332 c0_i32_335
  let v668 : BitVec 32 := Scalar.extui v667
  let c0_i32_336 : BitVec 32 := 0#32
  let v669 : BitVec 1 := Scalar.cmpi .slt c2_i32_332 c0_i32_336
  let v670 : BitVec 32 := Scalar.extui v669
  let v671 : BitVec 32 := Scalar.subi v668 v670
  let v672 : BitVec 1 := Scalar.cmpi .ne v666 v671
  let v673 : BitVec 32 := Scalar.remsi v660 c2_i32_332
  let c0_i32_337 : BitVec 32 := 0#32
  let v674 : BitVec 1 := Scalar.cmpi .ne v673 c0_i32_337
  let v675 : BitVec 1 := Scalar.andi v672 v674
  let v661 : BitVec 32 := Scalar.divsi v660 c2_i32_332
  let c1_i32_338 : BitVec 32 := 1#32
  let v676 : BitVec 32 := Scalar.subi v661 c1_i32_338
  let v677 : BitVec 32 := Scalar.select v675 v676 v661
  let c0_i32_350 : BitVec 32 := 0#32
  let c384_i32_342 : BitVec 32 := 384#32
  let v681 : BitVec 32 := Scalar.subi c384_i32_342 v659
  let c0_i32_344 : BitVec 32 := 0#32
  let v683 : BitVec 1 := Scalar.cmpi .sgt v681 c0_i32_344
  let v684 : BitVec 32 := Scalar.extui v683
  let c0_i32_345 : BitVec 32 := 0#32
  let v685 : BitVec 1 := Scalar.cmpi .slt v681 c0_i32_345
  let v686 : BitVec 32 := Scalar.extui v685
  let v687 : BitVec 32 := Scalar.subi v684 v686
  let c2_i32_343 : BitVec 32 := 2#32
  let c0_i32_346 : BitVec 32 := 0#32
  let v688 : BitVec 1 := Scalar.cmpi .sgt c2_i32_343 c0_i32_346
  let v689 : BitVec 32 := Scalar.extui v688
  let c0_i32_347 : BitVec 32 := 0#32
  let v690 : BitVec 1 := Scalar.cmpi .slt c2_i32_343 c0_i32_347
  let v691 : BitVec 32 := Scalar.extui v690
  let v692 : BitVec 32 := Scalar.subi v689 v691
  let v693 : BitVec 1 := Scalar.cmpi .ne v687 v692
  let v694 : BitVec 32 := Scalar.remsi v681 c2_i32_343
  let c0_i32_348 : BitVec 32 := 0#32
  let v695 : BitVec 1 := Scalar.cmpi .ne v694 c0_i32_348
  let v696 : BitVec 1 := Scalar.andi v693 v695
  let v682 : BitVec 32 := Scalar.divsi v681 c2_i32_343
  let c1_i32_349 : BitVec 32 := 1#32
  let v697 : BitVec 32 := Scalar.subi v682 c1_i32_349
  let v698 : BitVec 32 := Scalar.select v696 v697 v682
  let v699 : BitVec 32 := Scalar.maxsi c0_i32_350 v698
  let v700 : BitVec 32 := Scalar.minsi v677 v699
  let c0_i32_359 : BitVec 32 := 0#32
  let c768_i32_351 : BitVec 32 := 768#32
  let v701 : BitVec 32 := Scalar.subi c768_i32_351 v659
  let c0_i32_353 : BitVec 32 := 0#32
  let v703 : BitVec 1 := Scalar.cmpi .sgt v701 c0_i32_353
  let v704 : BitVec 32 := Scalar.extui v703
  let c0_i32_354 : BitVec 32 := 0#32
  let v705 : BitVec 1 := Scalar.cmpi .slt v701 c0_i32_354
  let v706 : BitVec 32 := Scalar.extui v705
  let v707 : BitVec 32 := Scalar.subi v704 v706
  let c2_i32_352 : BitVec 32 := 2#32
  let c0_i32_355 : BitVec 32 := 0#32
  let v708 : BitVec 1 := Scalar.cmpi .sgt c2_i32_352 c0_i32_355
  let v709 : BitVec 32 := Scalar.extui v708
  let c0_i32_356 : BitVec 32 := 0#32
  let v710 : BitVec 1 := Scalar.cmpi .slt c2_i32_352 c0_i32_356
  let v711 : BitVec 32 := Scalar.extui v710
  let v712 : BitVec 32 := Scalar.subi v709 v711
  let v713 : BitVec 1 := Scalar.cmpi .ne v707 v712
  let v714 : BitVec 32 := Scalar.remsi v701 c2_i32_352
  let c0_i32_357 : BitVec 32 := 0#32
  let v715 : BitVec 1 := Scalar.cmpi .ne v714 c0_i32_357
  let v716 : BitVec 1 := Scalar.andi v713 v715
  let v702 : BitVec 32 := Scalar.divsi v701 c2_i32_352
  let c1_i32_358 : BitVec 32 := 1#32
  let v717 : BitVec 32 := Scalar.subi v702 c1_i32_358
  let v718 : BitVec 32 := Scalar.select v716 v717 v702
  let v719 : BitVec 32 := Scalar.maxsi c0_i32_359 v718
  let v720 : BitVec 32 := Scalar.minsi v677 v719
  let v721 : BitVec 32 := Scalar.subi v720 v700
  let c1_i32_360 : BitVec 32 := 1#32
  let v723 : BitVec 32 := Scalar.divsi v721 c1_i32_360
  let v724 : BitVec 32 := Scalar.muli v723 c1_i32_360
  let v725 : BitVec 32 := Scalar.addi v700 v724
  let v722 : BitVec 32 := Scalar.addi v700 v721
  let c1_i32_362 : BitVec 32 := 1#32
  ⟨v725, v722, c1_i32_362⟩
def k0_off151 (v657 : BitVec 32) (v659 : BitVec 32) (k0_t58 : Fin (k0_t58_loop v657 v659).trips) : Fin 2 → Nat :=
  let c1_i32_331 : BitVec 32 := 1#32
  let v660 : BitVec 32 := Scalar.addi v657 c1_i32_331
  let c0_i32_333 : BitVec 32 := 0#32
  let v662 : BitVec 1 := Scalar.cmpi .sgt v660 c0_i32_333
  let v663 : BitVec 32 := Scalar.extui v662
  let c0_i32_334 : BitVec 32 := 0#32
  let v664 : BitVec 1 := Scalar.cmpi .slt v660 c0_i32_334
  let v665 : BitVec 32 := Scalar.extui v664
  let v666 : BitVec 32 := Scalar.subi v663 v665
  let c2_i32_332 : BitVec 32 := 2#32
  let c0_i32_335 : BitVec 32 := 0#32
  let v667 : BitVec 1 := Scalar.cmpi .sgt c2_i32_332 c0_i32_335
  let v668 : BitVec 32 := Scalar.extui v667
  let c0_i32_336 : BitVec 32 := 0#32
  let v669 : BitVec 1 := Scalar.cmpi .slt c2_i32_332 c0_i32_336
  let v670 : BitVec 32 := Scalar.extui v669
  let v671 : BitVec 32 := Scalar.subi v668 v670
  let v672 : BitVec 1 := Scalar.cmpi .ne v666 v671
  let v673 : BitVec 32 := Scalar.remsi v660 c2_i32_332
  let c0_i32_337 : BitVec 32 := 0#32
  let v674 : BitVec 1 := Scalar.cmpi .ne v673 c0_i32_337
  let v675 : BitVec 1 := Scalar.andi v672 v674
  let v661 : BitVec 32 := Scalar.divsi v660 c2_i32_332
  let c1_i32_338 : BitVec 32 := 1#32
  let v676 : BitVec 32 := Scalar.subi v661 c1_i32_338
  let v677 : BitVec 32 := Scalar.select v675 v676 v661
  let c0_i32_350 : BitVec 32 := 0#32
  let c384_i32_342 : BitVec 32 := 384#32
  let v681 : BitVec 32 := Scalar.subi c384_i32_342 v659
  let c0_i32_344 : BitVec 32 := 0#32
  let v683 : BitVec 1 := Scalar.cmpi .sgt v681 c0_i32_344
  let v684 : BitVec 32 := Scalar.extui v683
  let c0_i32_345 : BitVec 32 := 0#32
  let v685 : BitVec 1 := Scalar.cmpi .slt v681 c0_i32_345
  let v686 : BitVec 32 := Scalar.extui v685
  let v687 : BitVec 32 := Scalar.subi v684 v686
  let c2_i32_343 : BitVec 32 := 2#32
  let c0_i32_346 : BitVec 32 := 0#32
  let v688 : BitVec 1 := Scalar.cmpi .sgt c2_i32_343 c0_i32_346
  let v689 : BitVec 32 := Scalar.extui v688
  let c0_i32_347 : BitVec 32 := 0#32
  let v690 : BitVec 1 := Scalar.cmpi .slt c2_i32_343 c0_i32_347
  let v691 : BitVec 32 := Scalar.extui v690
  let v692 : BitVec 32 := Scalar.subi v689 v691
  let v693 : BitVec 1 := Scalar.cmpi .ne v687 v692
  let v694 : BitVec 32 := Scalar.remsi v681 c2_i32_343
  let c0_i32_348 : BitVec 32 := 0#32
  let v695 : BitVec 1 := Scalar.cmpi .ne v694 c0_i32_348
  let v696 : BitVec 1 := Scalar.andi v693 v695
  let v682 : BitVec 32 := Scalar.divsi v681 c2_i32_343
  let c1_i32_349 : BitVec 32 := 1#32
  let v697 : BitVec 32 := Scalar.subi v682 c1_i32_349
  let v698 : BitVec 32 := Scalar.select v696 v697 v682
  let v699 : BitVec 32 := Scalar.maxsi c0_i32_350 v698
  let v700 : BitVec 32 := Scalar.minsi v677 v699
  let c0_i32_359 : BitVec 32 := 0#32
  let c768_i32_351 : BitVec 32 := 768#32
  let v701 : BitVec 32 := Scalar.subi c768_i32_351 v659
  let c0_i32_353 : BitVec 32 := 0#32
  let v703 : BitVec 1 := Scalar.cmpi .sgt v701 c0_i32_353
  let v704 : BitVec 32 := Scalar.extui v703
  let c0_i32_354 : BitVec 32 := 0#32
  let v705 : BitVec 1 := Scalar.cmpi .slt v701 c0_i32_354
  let v706 : BitVec 32 := Scalar.extui v705
  let v707 : BitVec 32 := Scalar.subi v704 v706
  let c2_i32_352 : BitVec 32 := 2#32
  let c0_i32_355 : BitVec 32 := 0#32
  let v708 : BitVec 1 := Scalar.cmpi .sgt c2_i32_352 c0_i32_355
  let v709 : BitVec 32 := Scalar.extui v708
  let c0_i32_356 : BitVec 32 := 0#32
  let v710 : BitVec 1 := Scalar.cmpi .slt c2_i32_352 c0_i32_356
  let v711 : BitVec 32 := Scalar.extui v710
  let v712 : BitVec 32 := Scalar.subi v709 v711
  let v713 : BitVec 1 := Scalar.cmpi .ne v707 v712
  let v714 : BitVec 32 := Scalar.remsi v701 c2_i32_352
  let c0_i32_357 : BitVec 32 := 0#32
  let v715 : BitVec 1 := Scalar.cmpi .ne v714 c0_i32_357
  let v716 : BitVec 1 := Scalar.andi v713 v715
  let v702 : BitVec 32 := Scalar.divsi v701 c2_i32_352
  let c1_i32_358 : BitVec 32 := 1#32
  let v717 : BitVec 32 := Scalar.subi v702 c1_i32_358
  let v718 : BitVec 32 := Scalar.select v716 v717 v702
  let v719 : BitVec 32 := Scalar.maxsi c0_i32_359 v718
  let v720 : BitVec 32 := Scalar.minsi v677 v719
  let v721 : BitVec 32 := Scalar.subi v720 v700
  let c1_i32_360 : BitVec 32 := 1#32
  let v723 : BitVec 32 := Scalar.divsi v721 c1_i32_360
  let v724 : BitVec 32 := Scalar.muli v723 c1_i32_360
  let v725 : BitVec 32 := Scalar.addi v700 v724
  let c1_i32_362 : BitVec 32 := 1#32
  let arg23 : BitVec 32 := Scf.iv v725 c1_i32_362 k0_t58
  let c2_i32_612 : BitVec 32 := 2#32
  let v1306 : BitVec 32 := Scalar.muli arg23 c2_i32_612
  let v1307 : BitVec 32 := Scalar.addi v659 v1306
  let c384_i32_613 : BitVec 32 := 384#32
  let v1308 : BitVec 32 := Scalar.subi v1307 c384_i32_613
  let c0_i32_614 : BitVec 32 := 0#32
  ![v1308.toNat, 0]
def k0_off152 (v657 : BitVec 32) (v659 : BitVec 32) (k0_t58 : Fin (k0_t58_loop v657 v659).trips) : Fin 2 → Nat :=
  let c1_i32_611 : BitVec 32 := 1#32
  let v1304 : BitVec 32 := Scalar.shrsi v659 c1_i32_611
  let c1_i32_331 : BitVec 32 := 1#32
  let v660 : BitVec 32 := Scalar.addi v657 c1_i32_331
  let c0_i32_333 : BitVec 32 := 0#32
  let v662 : BitVec 1 := Scalar.cmpi .sgt v660 c0_i32_333
  let v663 : BitVec 32 := Scalar.extui v662
  let c0_i32_334 : BitVec 32 := 0#32
  let v664 : BitVec 1 := Scalar.cmpi .slt v660 c0_i32_334
  let v665 : BitVec 32 := Scalar.extui v664
  let v666 : BitVec 32 := Scalar.subi v663 v665
  let c2_i32_332 : BitVec 32 := 2#32
  let c0_i32_335 : BitVec 32 := 0#32
  let v667 : BitVec 1 := Scalar.cmpi .sgt c2_i32_332 c0_i32_335
  let v668 : BitVec 32 := Scalar.extui v667
  let c0_i32_336 : BitVec 32 := 0#32
  let v669 : BitVec 1 := Scalar.cmpi .slt c2_i32_332 c0_i32_336
  let v670 : BitVec 32 := Scalar.extui v669
  let v671 : BitVec 32 := Scalar.subi v668 v670
  let v672 : BitVec 1 := Scalar.cmpi .ne v666 v671
  let v673 : BitVec 32 := Scalar.remsi v660 c2_i32_332
  let c0_i32_337 : BitVec 32 := 0#32
  let v674 : BitVec 1 := Scalar.cmpi .ne v673 c0_i32_337
  let v675 : BitVec 1 := Scalar.andi v672 v674
  let v661 : BitVec 32 := Scalar.divsi v660 c2_i32_332
  let c1_i32_338 : BitVec 32 := 1#32
  let v676 : BitVec 32 := Scalar.subi v661 c1_i32_338
  let v677 : BitVec 32 := Scalar.select v675 v676 v661
  let c0_i32_350 : BitVec 32 := 0#32
  let c384_i32_342 : BitVec 32 := 384#32
  let v681 : BitVec 32 := Scalar.subi c384_i32_342 v659
  let c0_i32_344 : BitVec 32 := 0#32
  let v683 : BitVec 1 := Scalar.cmpi .sgt v681 c0_i32_344
  let v684 : BitVec 32 := Scalar.extui v683
  let c0_i32_345 : BitVec 32 := 0#32
  let v685 : BitVec 1 := Scalar.cmpi .slt v681 c0_i32_345
  let v686 : BitVec 32 := Scalar.extui v685
  let v687 : BitVec 32 := Scalar.subi v684 v686
  let c2_i32_343 : BitVec 32 := 2#32
  let c0_i32_346 : BitVec 32 := 0#32
  let v688 : BitVec 1 := Scalar.cmpi .sgt c2_i32_343 c0_i32_346
  let v689 : BitVec 32 := Scalar.extui v688
  let c0_i32_347 : BitVec 32 := 0#32
  let v690 : BitVec 1 := Scalar.cmpi .slt c2_i32_343 c0_i32_347
  let v691 : BitVec 32 := Scalar.extui v690
  let v692 : BitVec 32 := Scalar.subi v689 v691
  let v693 : BitVec 1 := Scalar.cmpi .ne v687 v692
  let v694 : BitVec 32 := Scalar.remsi v681 c2_i32_343
  let c0_i32_348 : BitVec 32 := 0#32
  let v695 : BitVec 1 := Scalar.cmpi .ne v694 c0_i32_348
  let v696 : BitVec 1 := Scalar.andi v693 v695
  let v682 : BitVec 32 := Scalar.divsi v681 c2_i32_343
  let c1_i32_349 : BitVec 32 := 1#32
  let v697 : BitVec 32 := Scalar.subi v682 c1_i32_349
  let v698 : BitVec 32 := Scalar.select v696 v697 v682
  let v699 : BitVec 32 := Scalar.maxsi c0_i32_350 v698
  let v700 : BitVec 32 := Scalar.minsi v677 v699
  let c0_i32_359 : BitVec 32 := 0#32
  let c768_i32_351 : BitVec 32 := 768#32
  let v701 : BitVec 32 := Scalar.subi c768_i32_351 v659
  let c0_i32_353 : BitVec 32 := 0#32
  let v703 : BitVec 1 := Scalar.cmpi .sgt v701 c0_i32_353
  let v704 : BitVec 32 := Scalar.extui v703
  let c0_i32_354 : BitVec 32 := 0#32
  let v705 : BitVec 1 := Scalar.cmpi .slt v701 c0_i32_354
  let v706 : BitVec 32 := Scalar.extui v705
  let v707 : BitVec 32 := Scalar.subi v704 v706
  let c2_i32_352 : BitVec 32 := 2#32
  let c0_i32_355 : BitVec 32 := 0#32
  let v708 : BitVec 1 := Scalar.cmpi .sgt c2_i32_352 c0_i32_355
  let v709 : BitVec 32 := Scalar.extui v708
  let c0_i32_356 : BitVec 32 := 0#32
  let v710 : BitVec 1 := Scalar.cmpi .slt c2_i32_352 c0_i32_356
  let v711 : BitVec 32 := Scalar.extui v710
  let v712 : BitVec 32 := Scalar.subi v709 v711
  let v713 : BitVec 1 := Scalar.cmpi .ne v707 v712
  let v714 : BitVec 32 := Scalar.remsi v701 c2_i32_352
  let c0_i32_357 : BitVec 32 := 0#32
  let v715 : BitVec 1 := Scalar.cmpi .ne v714 c0_i32_357
  let v716 : BitVec 1 := Scalar.andi v713 v715
  let v702 : BitVec 32 := Scalar.divsi v701 c2_i32_352
  let c1_i32_358 : BitVec 32 := 1#32
  let v717 : BitVec 32 := Scalar.subi v702 c1_i32_358
  let v718 : BitVec 32 := Scalar.select v716 v717 v702
  let v719 : BitVec 32 := Scalar.maxsi c0_i32_359 v718
  let v720 : BitVec 32 := Scalar.minsi v677 v719
  let v721 : BitVec 32 := Scalar.subi v720 v700
  let c1_i32_360 : BitVec 32 := 1#32
  let v723 : BitVec 32 := Scalar.divsi v721 c1_i32_360
  let v724 : BitVec 32 := Scalar.muli v723 c1_i32_360
  let v725 : BitVec 32 := Scalar.addi v700 v724
  let c1_i32_362 : BitVec 32 := 1#32
  let arg23 : BitVec 32 := Scf.iv v725 c1_i32_362 k0_t58
  let v1305 : BitVec 32 := Scalar.addi v1304 arg23
  let c0_i32_615 : BitVec 32 := 0#32
  ![v1305.toNat, 0]

def k0_chk32 (v657 : BitVec 32) (v659 : BitVec 32) : Prop :=
  ((k0_t57_loop v657 v659).OK) ∧
  (∀ k0_t57 : Fin (k0_t57_loop v657 v659).trips, ∀ a, (k0_off148 v657 v659 k0_t57) a + S2x128.size a ≤ S384x128.size a) ∧
  (∀ k0_t57 : Fin (k0_t57_loop v657 v659).trips, ∀ a, (k0_off149 v657 v659 k0_t57) a + S1x2.size a ≤ S584x2.size a) ∧
  ((k0_t58_loop v657 v659).OK) ∧
  (∀ k0_t58 : Fin (k0_t58_loop v657 v659).trips, ∀ a, (k0_off151 v657 v659 k0_t58) a + S2x128.size a ≤ S384x128.size a) ∧
  (∀ k0_t58 : Fin (k0_t58_loop v657 v659).trips, ∀ a, (k0_off152 v657 v659 k0_t58) a + S1x2.size a ≤ S584x2.size a)
theorem k0_t57_ok : ∀ (v657 : BitVec 32) (v659 : BitVec 32) (k0_hw32 : k0_chk32 v657 v659), (k0_t57_loop v657 v659).OK := fun v657 v659 k0_hw32 => k0_hw32.1
theorem k0_off148_inb : ∀ (v657 : BitVec 32) (v659 : BitVec 32) (k0_hw32 : k0_chk32 v657 v659) (k0_t57 : Fin (k0_t57_loop v657 v659).trips), ∀ a, (k0_off148 v657 v659 k0_t57) a + S2x128.size a ≤ S384x128.size a := fun v657 v659 k0_hw32 k0_t57 => k0_hw32.2.1 k0_t57
theorem k0_off149_inb : ∀ (v657 : BitVec 32) (v659 : BitVec 32) (k0_hw32 : k0_chk32 v657 v659) (k0_t57 : Fin (k0_t57_loop v657 v659).trips), ∀ a, (k0_off149 v657 v659 k0_t57) a + S1x2.size a ≤ S584x2.size a := fun v657 v659 k0_hw32 k0_t57 => k0_hw32.2.2.1 k0_t57
theorem k0_t58_ok : ∀ (v657 : BitVec 32) (v659 : BitVec 32) (k0_hw32 : k0_chk32 v657 v659), (k0_t58_loop v657 v659).OK := fun v657 v659 k0_hw32 => k0_hw32.2.2.2.1
theorem k0_off151_inb : ∀ (v657 : BitVec 32) (v659 : BitVec 32) (k0_hw32 : k0_chk32 v657 v659) (k0_t58 : Fin (k0_t58_loop v657 v659).trips), ∀ a, (k0_off151 v657 v659 k0_t58) a + S2x128.size a ≤ S384x128.size a := fun v657 v659 k0_hw32 k0_t58 => k0_hw32.2.2.2.2.1 k0_t58
theorem k0_off152_inb : ∀ (v657 : BitVec 32) (v659 : BitVec 32) (k0_hw32 : k0_chk32 v657 v659) (k0_t58 : Fin (k0_t58_loop v657 v659).trips), ∀ a, (k0_off152 v657 v659 k0_t58) a + S1x2.size a ≤ S584x2.size a := fun v657 v659 k0_hw32 k0_t58 => k0_hw32.2.2.2.2.2 k0_t58

def k0_off153 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_339 : BitVec 32 := 16#32
  let v678 : BitVec 32 := Scalar.muli arg21 c16_i32_339
  let c7_i32_340 : BitVec 32 := 7#32
  let v679 : BitVec 32 := Scalar.addi v678 c7_i32_340
  let c128_i32_341 : BitVec 32 := 128#32
  let v680 : BitVec 32 := Scalar.muli v679 c128_i32_341
  ![0, v680.toNat]
@[reducible] def k0_t59_loop (v729 : BitVec 32) (v731 : BitVec 32) : Scf.Loop 32 :=
  let c1_i32_363 : BitVec 32 := 1#32
  let v732 : BitVec 32 := Scalar.addi v729 c1_i32_363
  let c0_i32_365 : BitVec 32 := 0#32
  let v734 : BitVec 1 := Scalar.cmpi .sgt v732 c0_i32_365
  let v735 : BitVec 32 := Scalar.extui v734
  let c0_i32_366 : BitVec 32 := 0#32
  let v736 : BitVec 1 := Scalar.cmpi .slt v732 c0_i32_366
  let v737 : BitVec 32 := Scalar.extui v736
  let v738 : BitVec 32 := Scalar.subi v735 v737
  let c2_i32_364 : BitVec 32 := 2#32
  let c0_i32_367 : BitVec 32 := 0#32
  let v739 : BitVec 1 := Scalar.cmpi .sgt c2_i32_364 c0_i32_367
  let v740 : BitVec 32 := Scalar.extui v739
  let c0_i32_368 : BitVec 32 := 0#32
  let v741 : BitVec 1 := Scalar.cmpi .slt c2_i32_364 c0_i32_368
  let v742 : BitVec 32 := Scalar.extui v741
  let v743 : BitVec 32 := Scalar.subi v740 v742
  let v744 : BitVec 1 := Scalar.cmpi .ne v738 v743
  let v745 : BitVec 32 := Scalar.remsi v732 c2_i32_364
  let c0_i32_369 : BitVec 32 := 0#32
  let v746 : BitVec 1 := Scalar.cmpi .ne v745 c0_i32_369
  let v747 : BitVec 1 := Scalar.andi v744 v746
  let v733 : BitVec 32 := Scalar.divsi v732 c2_i32_364
  let c1_i32_370 : BitVec 32 := 1#32
  let v748 : BitVec 32 := Scalar.subi v733 c1_i32_370
  let v749 : BitVec 32 := Scalar.select v747 v748 v733
  let c0_i32_381 : BitVec 32 := 0#32
  let c384_i32_373 : BitVec 32 := 384#32
  let v753 : BitVec 32 := Scalar.subi c384_i32_373 v731
  let c0_i32_375 : BitVec 32 := 0#32
  let v755 : BitVec 1 := Scalar.cmpi .sgt v753 c0_i32_375
  let v756 : BitVec 32 := Scalar.extui v755
  let c0_i32_376 : BitVec 32 := 0#32
  let v757 : BitVec 1 := Scalar.cmpi .slt v753 c0_i32_376
  let v758 : BitVec 32 := Scalar.extui v757
  let v759 : BitVec 32 := Scalar.subi v756 v758
  let c2_i32_374 : BitVec 32 := 2#32
  let c0_i32_377 : BitVec 32 := 0#32
  let v760 : BitVec 1 := Scalar.cmpi .sgt c2_i32_374 c0_i32_377
  let v761 : BitVec 32 := Scalar.extui v760
  let c0_i32_378 : BitVec 32 := 0#32
  let v762 : BitVec 1 := Scalar.cmpi .slt c2_i32_374 c0_i32_378
  let v763 : BitVec 32 := Scalar.extui v762
  let v764 : BitVec 32 := Scalar.subi v761 v763
  let v765 : BitVec 1 := Scalar.cmpi .ne v759 v764
  let v766 : BitVec 32 := Scalar.remsi v753 c2_i32_374
  let c0_i32_379 : BitVec 32 := 0#32
  let v767 : BitVec 1 := Scalar.cmpi .ne v766 c0_i32_379
  let v768 : BitVec 1 := Scalar.andi v765 v767
  let v754 : BitVec 32 := Scalar.divsi v753 c2_i32_374
  let c1_i32_380 : BitVec 32 := 1#32
  let v769 : BitVec 32 := Scalar.subi v754 c1_i32_380
  let v770 : BitVec 32 := Scalar.select v768 v769 v754
  let v771 : BitVec 32 := Scalar.maxsi c0_i32_381 v770
  let v772 : BitVec 32 := Scalar.minsi v749 v771
  let c0_i32_390 : BitVec 32 := 0#32
  let c768_i32_382 : BitVec 32 := 768#32
  let v773 : BitVec 32 := Scalar.subi c768_i32_382 v731
  let c0_i32_384 : BitVec 32 := 0#32
  let v775 : BitVec 1 := Scalar.cmpi .sgt v773 c0_i32_384
  let v776 : BitVec 32 := Scalar.extui v775
  let c0_i32_385 : BitVec 32 := 0#32
  let v777 : BitVec 1 := Scalar.cmpi .slt v773 c0_i32_385
  let v778 : BitVec 32 := Scalar.extui v777
  let v779 : BitVec 32 := Scalar.subi v776 v778
  let c2_i32_383 : BitVec 32 := 2#32
  let c0_i32_386 : BitVec 32 := 0#32
  let v780 : BitVec 1 := Scalar.cmpi .sgt c2_i32_383 c0_i32_386
  let v781 : BitVec 32 := Scalar.extui v780
  let c0_i32_387 : BitVec 32 := 0#32
  let v782 : BitVec 1 := Scalar.cmpi .slt c2_i32_383 c0_i32_387
  let v783 : BitVec 32 := Scalar.extui v782
  let v784 : BitVec 32 := Scalar.subi v781 v783
  let v785 : BitVec 1 := Scalar.cmpi .ne v779 v784
  let v786 : BitVec 32 := Scalar.remsi v773 c2_i32_383
  let c0_i32_388 : BitVec 32 := 0#32
  let v787 : BitVec 1 := Scalar.cmpi .ne v786 c0_i32_388
  let v788 : BitVec 1 := Scalar.andi v785 v787
  let v774 : BitVec 32 := Scalar.divsi v773 c2_i32_383
  let c1_i32_389 : BitVec 32 := 1#32
  let v789 : BitVec 32 := Scalar.subi v774 c1_i32_389
  let v790 : BitVec 32 := Scalar.select v788 v789 v774
  let v791 : BitVec 32 := Scalar.maxsi c0_i32_390 v790
  let v792 : BitVec 32 := Scalar.minsi v749 v791
  let v793 : BitVec 32 := Scalar.subi v792 v772
  let c1_i32_391 : BitVec 32 := 1#32
  let v795 : BitVec 32 := Scalar.divsi v793 c1_i32_391
  let v796 : BitVec 32 := Scalar.muli v795 c1_i32_391
  let v797 : BitVec 32 := Scalar.addi v772 v796
  let c1_i32_392 : BitVec 32 := 1#32
  ⟨v772, v797, c1_i32_392⟩

def k0_off154 (v729 : BitVec 32) (v731 : BitVec 32) (k0_t59 : Fin (k0_t59_loop v729 v731).trips) : Fin 2 → Nat :=
  let c1_i32_363 : BitVec 32 := 1#32
  let v732 : BitVec 32 := Scalar.addi v729 c1_i32_363
  let c0_i32_365 : BitVec 32 := 0#32
  let v734 : BitVec 1 := Scalar.cmpi .sgt v732 c0_i32_365
  let v735 : BitVec 32 := Scalar.extui v734
  let c0_i32_366 : BitVec 32 := 0#32
  let v736 : BitVec 1 := Scalar.cmpi .slt v732 c0_i32_366
  let v737 : BitVec 32 := Scalar.extui v736
  let v738 : BitVec 32 := Scalar.subi v735 v737
  let c2_i32_364 : BitVec 32 := 2#32
  let c0_i32_367 : BitVec 32 := 0#32
  let v739 : BitVec 1 := Scalar.cmpi .sgt c2_i32_364 c0_i32_367
  let v740 : BitVec 32 := Scalar.extui v739
  let c0_i32_368 : BitVec 32 := 0#32
  let v741 : BitVec 1 := Scalar.cmpi .slt c2_i32_364 c0_i32_368
  let v742 : BitVec 32 := Scalar.extui v741
  let v743 : BitVec 32 := Scalar.subi v740 v742
  let v744 : BitVec 1 := Scalar.cmpi .ne v738 v743
  let v745 : BitVec 32 := Scalar.remsi v732 c2_i32_364
  let c0_i32_369 : BitVec 32 := 0#32
  let v746 : BitVec 1 := Scalar.cmpi .ne v745 c0_i32_369
  let v747 : BitVec 1 := Scalar.andi v744 v746
  let v733 : BitVec 32 := Scalar.divsi v732 c2_i32_364
  let c1_i32_370 : BitVec 32 := 1#32
  let v748 : BitVec 32 := Scalar.subi v733 c1_i32_370
  let v749 : BitVec 32 := Scalar.select v747 v748 v733
  let c0_i32_381 : BitVec 32 := 0#32
  let c384_i32_373 : BitVec 32 := 384#32
  let v753 : BitVec 32 := Scalar.subi c384_i32_373 v731
  let c0_i32_375 : BitVec 32 := 0#32
  let v755 : BitVec 1 := Scalar.cmpi .sgt v753 c0_i32_375
  let v756 : BitVec 32 := Scalar.extui v755
  let c0_i32_376 : BitVec 32 := 0#32
  let v757 : BitVec 1 := Scalar.cmpi .slt v753 c0_i32_376
  let v758 : BitVec 32 := Scalar.extui v757
  let v759 : BitVec 32 := Scalar.subi v756 v758
  let c2_i32_374 : BitVec 32 := 2#32
  let c0_i32_377 : BitVec 32 := 0#32
  let v760 : BitVec 1 := Scalar.cmpi .sgt c2_i32_374 c0_i32_377
  let v761 : BitVec 32 := Scalar.extui v760
  let c0_i32_378 : BitVec 32 := 0#32
  let v762 : BitVec 1 := Scalar.cmpi .slt c2_i32_374 c0_i32_378
  let v763 : BitVec 32 := Scalar.extui v762
  let v764 : BitVec 32 := Scalar.subi v761 v763
  let v765 : BitVec 1 := Scalar.cmpi .ne v759 v764
  let v766 : BitVec 32 := Scalar.remsi v753 c2_i32_374
  let c0_i32_379 : BitVec 32 := 0#32
  let v767 : BitVec 1 := Scalar.cmpi .ne v766 c0_i32_379
  let v768 : BitVec 1 := Scalar.andi v765 v767
  let v754 : BitVec 32 := Scalar.divsi v753 c2_i32_374
  let c1_i32_380 : BitVec 32 := 1#32
  let v769 : BitVec 32 := Scalar.subi v754 c1_i32_380
  let v770 : BitVec 32 := Scalar.select v768 v769 v754
  let v771 : BitVec 32 := Scalar.maxsi c0_i32_381 v770
  let v772 : BitVec 32 := Scalar.minsi v749 v771
  let c1_i32_392 : BitVec 32 := 1#32
  let arg23 : BitVec 32 := Scf.iv v772 c1_i32_392 k0_t59
  let c2_i32_612 : BitVec 32 := 2#32
  let v1306 : BitVec 32 := Scalar.muli arg23 c2_i32_612
  let v1307 : BitVec 32 := Scalar.addi v731 v1306
  let c384_i32_613 : BitVec 32 := 384#32
  let v1308 : BitVec 32 := Scalar.subi v1307 c384_i32_613
  let c0_i32_614 : BitVec 32 := 0#32
  ![v1308.toNat, 0]
def k0_off155 (v729 : BitVec 32) (v731 : BitVec 32) (k0_t59 : Fin (k0_t59_loop v729 v731).trips) : Fin 2 → Nat :=
  let c1_i32_611 : BitVec 32 := 1#32
  let v1304 : BitVec 32 := Scalar.shrsi v731 c1_i32_611
  let c1_i32_363 : BitVec 32 := 1#32
  let v732 : BitVec 32 := Scalar.addi v729 c1_i32_363
  let c0_i32_365 : BitVec 32 := 0#32
  let v734 : BitVec 1 := Scalar.cmpi .sgt v732 c0_i32_365
  let v735 : BitVec 32 := Scalar.extui v734
  let c0_i32_366 : BitVec 32 := 0#32
  let v736 : BitVec 1 := Scalar.cmpi .slt v732 c0_i32_366
  let v737 : BitVec 32 := Scalar.extui v736
  let v738 : BitVec 32 := Scalar.subi v735 v737
  let c2_i32_364 : BitVec 32 := 2#32
  let c0_i32_367 : BitVec 32 := 0#32
  let v739 : BitVec 1 := Scalar.cmpi .sgt c2_i32_364 c0_i32_367
  let v740 : BitVec 32 := Scalar.extui v739
  let c0_i32_368 : BitVec 32 := 0#32
  let v741 : BitVec 1 := Scalar.cmpi .slt c2_i32_364 c0_i32_368
  let v742 : BitVec 32 := Scalar.extui v741
  let v743 : BitVec 32 := Scalar.subi v740 v742
  let v744 : BitVec 1 := Scalar.cmpi .ne v738 v743
  let v745 : BitVec 32 := Scalar.remsi v732 c2_i32_364
  let c0_i32_369 : BitVec 32 := 0#32
  let v746 : BitVec 1 := Scalar.cmpi .ne v745 c0_i32_369
  let v747 : BitVec 1 := Scalar.andi v744 v746
  let v733 : BitVec 32 := Scalar.divsi v732 c2_i32_364
  let c1_i32_370 : BitVec 32 := 1#32
  let v748 : BitVec 32 := Scalar.subi v733 c1_i32_370
  let v749 : BitVec 32 := Scalar.select v747 v748 v733
  let c0_i32_381 : BitVec 32 := 0#32
  let c384_i32_373 : BitVec 32 := 384#32
  let v753 : BitVec 32 := Scalar.subi c384_i32_373 v731
  let c0_i32_375 : BitVec 32 := 0#32
  let v755 : BitVec 1 := Scalar.cmpi .sgt v753 c0_i32_375
  let v756 : BitVec 32 := Scalar.extui v755
  let c0_i32_376 : BitVec 32 := 0#32
  let v757 : BitVec 1 := Scalar.cmpi .slt v753 c0_i32_376
  let v758 : BitVec 32 := Scalar.extui v757
  let v759 : BitVec 32 := Scalar.subi v756 v758
  let c2_i32_374 : BitVec 32 := 2#32
  let c0_i32_377 : BitVec 32 := 0#32
  let v760 : BitVec 1 := Scalar.cmpi .sgt c2_i32_374 c0_i32_377
  let v761 : BitVec 32 := Scalar.extui v760
  let c0_i32_378 : BitVec 32 := 0#32
  let v762 : BitVec 1 := Scalar.cmpi .slt c2_i32_374 c0_i32_378
  let v763 : BitVec 32 := Scalar.extui v762
  let v764 : BitVec 32 := Scalar.subi v761 v763
  let v765 : BitVec 1 := Scalar.cmpi .ne v759 v764
  let v766 : BitVec 32 := Scalar.remsi v753 c2_i32_374
  let c0_i32_379 : BitVec 32 := 0#32
  let v767 : BitVec 1 := Scalar.cmpi .ne v766 c0_i32_379
  let v768 : BitVec 1 := Scalar.andi v765 v767
  let v754 : BitVec 32 := Scalar.divsi v753 c2_i32_374
  let c1_i32_380 : BitVec 32 := 1#32
  let v769 : BitVec 32 := Scalar.subi v754 c1_i32_380
  let v770 : BitVec 32 := Scalar.select v768 v769 v754
  let v771 : BitVec 32 := Scalar.maxsi c0_i32_381 v770
  let v772 : BitVec 32 := Scalar.minsi v749 v771
  let c1_i32_392 : BitVec 32 := 1#32
  let arg23 : BitVec 32 := Scf.iv v772 c1_i32_392 k0_t59
  let v1305 : BitVec 32 := Scalar.addi v1304 arg23
  let c0_i32_615 : BitVec 32 := 0#32
  ![v1305.toNat, 0]
def k0_off156 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_371 : BitVec 32 := 16#32
  let v750 : BitVec 32 := Scalar.muli arg21 c16_i32_371
  let c8_i32 : BitVec 32 := 8#32
  let v751 : BitVec 32 := Scalar.addi v750 c8_i32
  let c128_i32_372 : BitVec 32 := 128#32
  let v752 : BitVec 32 := Scalar.muli v751 c128_i32_372
  ![0, v752.toNat]
@[reducible] def k0_t60_loop (v729 : BitVec 32) (v731 : BitVec 32) : Scf.Loop 32 :=
  let c1_i32_363 : BitVec 32 := 1#32
  let v732 : BitVec 32 := Scalar.addi v729 c1_i32_363
  let c0_i32_365 : BitVec 32 := 0#32
  let v734 : BitVec 1 := Scalar.cmpi .sgt v732 c0_i32_365
  let v735 : BitVec 32 := Scalar.extui v734
  let c0_i32_366 : BitVec 32 := 0#32
  let v736 : BitVec 1 := Scalar.cmpi .slt v732 c0_i32_366
  let v737 : BitVec 32 := Scalar.extui v736
  let v738 : BitVec 32 := Scalar.subi v735 v737
  let c2_i32_364 : BitVec 32 := 2#32
  let c0_i32_367 : BitVec 32 := 0#32
  let v739 : BitVec 1 := Scalar.cmpi .sgt c2_i32_364 c0_i32_367
  let v740 : BitVec 32 := Scalar.extui v739
  let c0_i32_368 : BitVec 32 := 0#32
  let v741 : BitVec 1 := Scalar.cmpi .slt c2_i32_364 c0_i32_368
  let v742 : BitVec 32 := Scalar.extui v741
  let v743 : BitVec 32 := Scalar.subi v740 v742
  let v744 : BitVec 1 := Scalar.cmpi .ne v738 v743
  let v745 : BitVec 32 := Scalar.remsi v732 c2_i32_364
  let c0_i32_369 : BitVec 32 := 0#32
  let v746 : BitVec 1 := Scalar.cmpi .ne v745 c0_i32_369
  let v747 : BitVec 1 := Scalar.andi v744 v746
  let v733 : BitVec 32 := Scalar.divsi v732 c2_i32_364
  let c1_i32_370 : BitVec 32 := 1#32
  let v748 : BitVec 32 := Scalar.subi v733 c1_i32_370
  let v749 : BitVec 32 := Scalar.select v747 v748 v733
  let c0_i32_381 : BitVec 32 := 0#32
  let c384_i32_373 : BitVec 32 := 384#32
  let v753 : BitVec 32 := Scalar.subi c384_i32_373 v731
  let c0_i32_375 : BitVec 32 := 0#32
  let v755 : BitVec 1 := Scalar.cmpi .sgt v753 c0_i32_375
  let v756 : BitVec 32 := Scalar.extui v755
  let c0_i32_376 : BitVec 32 := 0#32
  let v757 : BitVec 1 := Scalar.cmpi .slt v753 c0_i32_376
  let v758 : BitVec 32 := Scalar.extui v757
  let v759 : BitVec 32 := Scalar.subi v756 v758
  let c2_i32_374 : BitVec 32 := 2#32
  let c0_i32_377 : BitVec 32 := 0#32
  let v760 : BitVec 1 := Scalar.cmpi .sgt c2_i32_374 c0_i32_377
  let v761 : BitVec 32 := Scalar.extui v760
  let c0_i32_378 : BitVec 32 := 0#32
  let v762 : BitVec 1 := Scalar.cmpi .slt c2_i32_374 c0_i32_378
  let v763 : BitVec 32 := Scalar.extui v762
  let v764 : BitVec 32 := Scalar.subi v761 v763
  let v765 : BitVec 1 := Scalar.cmpi .ne v759 v764
  let v766 : BitVec 32 := Scalar.remsi v753 c2_i32_374
  let c0_i32_379 : BitVec 32 := 0#32
  let v767 : BitVec 1 := Scalar.cmpi .ne v766 c0_i32_379
  let v768 : BitVec 1 := Scalar.andi v765 v767
  let v754 : BitVec 32 := Scalar.divsi v753 c2_i32_374
  let c1_i32_380 : BitVec 32 := 1#32
  let v769 : BitVec 32 := Scalar.subi v754 c1_i32_380
  let v770 : BitVec 32 := Scalar.select v768 v769 v754
  let v771 : BitVec 32 := Scalar.maxsi c0_i32_381 v770
  let v772 : BitVec 32 := Scalar.minsi v749 v771
  let c0_i32_390 : BitVec 32 := 0#32
  let c768_i32_382 : BitVec 32 := 768#32
  let v773 : BitVec 32 := Scalar.subi c768_i32_382 v731
  let c0_i32_384 : BitVec 32 := 0#32
  let v775 : BitVec 1 := Scalar.cmpi .sgt v773 c0_i32_384
  let v776 : BitVec 32 := Scalar.extui v775
  let c0_i32_385 : BitVec 32 := 0#32
  let v777 : BitVec 1 := Scalar.cmpi .slt v773 c0_i32_385
  let v778 : BitVec 32 := Scalar.extui v777
  let v779 : BitVec 32 := Scalar.subi v776 v778
  let c2_i32_383 : BitVec 32 := 2#32
  let c0_i32_386 : BitVec 32 := 0#32
  let v780 : BitVec 1 := Scalar.cmpi .sgt c2_i32_383 c0_i32_386
  let v781 : BitVec 32 := Scalar.extui v780
  let c0_i32_387 : BitVec 32 := 0#32
  let v782 : BitVec 1 := Scalar.cmpi .slt c2_i32_383 c0_i32_387
  let v783 : BitVec 32 := Scalar.extui v782
  let v784 : BitVec 32 := Scalar.subi v781 v783
  let v785 : BitVec 1 := Scalar.cmpi .ne v779 v784
  let v786 : BitVec 32 := Scalar.remsi v773 c2_i32_383
  let c0_i32_388 : BitVec 32 := 0#32
  let v787 : BitVec 1 := Scalar.cmpi .ne v786 c0_i32_388
  let v788 : BitVec 1 := Scalar.andi v785 v787
  let v774 : BitVec 32 := Scalar.divsi v773 c2_i32_383
  let c1_i32_389 : BitVec 32 := 1#32
  let v789 : BitVec 32 := Scalar.subi v774 c1_i32_389
  let v790 : BitVec 32 := Scalar.select v788 v789 v774
  let v791 : BitVec 32 := Scalar.maxsi c0_i32_390 v790
  let v792 : BitVec 32 := Scalar.minsi v749 v791
  let v793 : BitVec 32 := Scalar.subi v792 v772
  let c1_i32_391 : BitVec 32 := 1#32
  let v795 : BitVec 32 := Scalar.divsi v793 c1_i32_391
  let v796 : BitVec 32 := Scalar.muli v795 c1_i32_391
  let v797 : BitVec 32 := Scalar.addi v772 v796
  let v794 : BitVec 32 := Scalar.addi v772 v793
  let c1_i32_393 : BitVec 32 := 1#32
  ⟨v797, v794, c1_i32_393⟩
def k0_off157 (v729 : BitVec 32) (v731 : BitVec 32) (k0_t60 : Fin (k0_t60_loop v729 v731).trips) : Fin 2 → Nat :=
  let c1_i32_363 : BitVec 32 := 1#32
  let v732 : BitVec 32 := Scalar.addi v729 c1_i32_363
  let c0_i32_365 : BitVec 32 := 0#32
  let v734 : BitVec 1 := Scalar.cmpi .sgt v732 c0_i32_365
  let v735 : BitVec 32 := Scalar.extui v734
  let c0_i32_366 : BitVec 32 := 0#32
  let v736 : BitVec 1 := Scalar.cmpi .slt v732 c0_i32_366
  let v737 : BitVec 32 := Scalar.extui v736
  let v738 : BitVec 32 := Scalar.subi v735 v737
  let c2_i32_364 : BitVec 32 := 2#32
  let c0_i32_367 : BitVec 32 := 0#32
  let v739 : BitVec 1 := Scalar.cmpi .sgt c2_i32_364 c0_i32_367
  let v740 : BitVec 32 := Scalar.extui v739
  let c0_i32_368 : BitVec 32 := 0#32
  let v741 : BitVec 1 := Scalar.cmpi .slt c2_i32_364 c0_i32_368
  let v742 : BitVec 32 := Scalar.extui v741
  let v743 : BitVec 32 := Scalar.subi v740 v742
  let v744 : BitVec 1 := Scalar.cmpi .ne v738 v743
  let v745 : BitVec 32 := Scalar.remsi v732 c2_i32_364
  let c0_i32_369 : BitVec 32 := 0#32
  let v746 : BitVec 1 := Scalar.cmpi .ne v745 c0_i32_369
  let v747 : BitVec 1 := Scalar.andi v744 v746
  let v733 : BitVec 32 := Scalar.divsi v732 c2_i32_364
  let c1_i32_370 : BitVec 32 := 1#32
  let v748 : BitVec 32 := Scalar.subi v733 c1_i32_370
  let v749 : BitVec 32 := Scalar.select v747 v748 v733
  let c0_i32_381 : BitVec 32 := 0#32
  let c384_i32_373 : BitVec 32 := 384#32
  let v753 : BitVec 32 := Scalar.subi c384_i32_373 v731
  let c0_i32_375 : BitVec 32 := 0#32
  let v755 : BitVec 1 := Scalar.cmpi .sgt v753 c0_i32_375
  let v756 : BitVec 32 := Scalar.extui v755
  let c0_i32_376 : BitVec 32 := 0#32
  let v757 : BitVec 1 := Scalar.cmpi .slt v753 c0_i32_376
  let v758 : BitVec 32 := Scalar.extui v757
  let v759 : BitVec 32 := Scalar.subi v756 v758
  let c2_i32_374 : BitVec 32 := 2#32
  let c0_i32_377 : BitVec 32 := 0#32
  let v760 : BitVec 1 := Scalar.cmpi .sgt c2_i32_374 c0_i32_377
  let v761 : BitVec 32 := Scalar.extui v760
  let c0_i32_378 : BitVec 32 := 0#32
  let v762 : BitVec 1 := Scalar.cmpi .slt c2_i32_374 c0_i32_378
  let v763 : BitVec 32 := Scalar.extui v762
  let v764 : BitVec 32 := Scalar.subi v761 v763
  let v765 : BitVec 1 := Scalar.cmpi .ne v759 v764
  let v766 : BitVec 32 := Scalar.remsi v753 c2_i32_374
  let c0_i32_379 : BitVec 32 := 0#32
  let v767 : BitVec 1 := Scalar.cmpi .ne v766 c0_i32_379
  let v768 : BitVec 1 := Scalar.andi v765 v767
  let v754 : BitVec 32 := Scalar.divsi v753 c2_i32_374
  let c1_i32_380 : BitVec 32 := 1#32
  let v769 : BitVec 32 := Scalar.subi v754 c1_i32_380
  let v770 : BitVec 32 := Scalar.select v768 v769 v754
  let v771 : BitVec 32 := Scalar.maxsi c0_i32_381 v770
  let v772 : BitVec 32 := Scalar.minsi v749 v771
  let c0_i32_390 : BitVec 32 := 0#32
  let c768_i32_382 : BitVec 32 := 768#32
  let v773 : BitVec 32 := Scalar.subi c768_i32_382 v731
  let c0_i32_384 : BitVec 32 := 0#32
  let v775 : BitVec 1 := Scalar.cmpi .sgt v773 c0_i32_384
  let v776 : BitVec 32 := Scalar.extui v775
  let c0_i32_385 : BitVec 32 := 0#32
  let v777 : BitVec 1 := Scalar.cmpi .slt v773 c0_i32_385
  let v778 : BitVec 32 := Scalar.extui v777
  let v779 : BitVec 32 := Scalar.subi v776 v778
  let c2_i32_383 : BitVec 32 := 2#32
  let c0_i32_386 : BitVec 32 := 0#32
  let v780 : BitVec 1 := Scalar.cmpi .sgt c2_i32_383 c0_i32_386
  let v781 : BitVec 32 := Scalar.extui v780
  let c0_i32_387 : BitVec 32 := 0#32
  let v782 : BitVec 1 := Scalar.cmpi .slt c2_i32_383 c0_i32_387
  let v783 : BitVec 32 := Scalar.extui v782
  let v784 : BitVec 32 := Scalar.subi v781 v783
  let v785 : BitVec 1 := Scalar.cmpi .ne v779 v784
  let v786 : BitVec 32 := Scalar.remsi v773 c2_i32_383
  let c0_i32_388 : BitVec 32 := 0#32
  let v787 : BitVec 1 := Scalar.cmpi .ne v786 c0_i32_388
  let v788 : BitVec 1 := Scalar.andi v785 v787
  let v774 : BitVec 32 := Scalar.divsi v773 c2_i32_383
  let c1_i32_389 : BitVec 32 := 1#32
  let v789 : BitVec 32 := Scalar.subi v774 c1_i32_389
  let v790 : BitVec 32 := Scalar.select v788 v789 v774
  let v791 : BitVec 32 := Scalar.maxsi c0_i32_390 v790
  let v792 : BitVec 32 := Scalar.minsi v749 v791
  let v793 : BitVec 32 := Scalar.subi v792 v772
  let c1_i32_391 : BitVec 32 := 1#32
  let v795 : BitVec 32 := Scalar.divsi v793 c1_i32_391
  let v796 : BitVec 32 := Scalar.muli v795 c1_i32_391
  let v797 : BitVec 32 := Scalar.addi v772 v796
  let c1_i32_393 : BitVec 32 := 1#32
  let arg23 : BitVec 32 := Scf.iv v797 c1_i32_393 k0_t60
  let c2_i32_612 : BitVec 32 := 2#32
  let v1306 : BitVec 32 := Scalar.muli arg23 c2_i32_612
  let v1307 : BitVec 32 := Scalar.addi v731 v1306
  let c384_i32_613 : BitVec 32 := 384#32
  let v1308 : BitVec 32 := Scalar.subi v1307 c384_i32_613
  let c0_i32_614 : BitVec 32 := 0#32
  ![v1308.toNat, 0]
def k0_off158 (v729 : BitVec 32) (v731 : BitVec 32) (k0_t60 : Fin (k0_t60_loop v729 v731).trips) : Fin 2 → Nat :=
  let c1_i32_611 : BitVec 32 := 1#32
  let v1304 : BitVec 32 := Scalar.shrsi v731 c1_i32_611
  let c1_i32_363 : BitVec 32 := 1#32
  let v732 : BitVec 32 := Scalar.addi v729 c1_i32_363
  let c0_i32_365 : BitVec 32 := 0#32
  let v734 : BitVec 1 := Scalar.cmpi .sgt v732 c0_i32_365
  let v735 : BitVec 32 := Scalar.extui v734
  let c0_i32_366 : BitVec 32 := 0#32
  let v736 : BitVec 1 := Scalar.cmpi .slt v732 c0_i32_366
  let v737 : BitVec 32 := Scalar.extui v736
  let v738 : BitVec 32 := Scalar.subi v735 v737
  let c2_i32_364 : BitVec 32 := 2#32
  let c0_i32_367 : BitVec 32 := 0#32
  let v739 : BitVec 1 := Scalar.cmpi .sgt c2_i32_364 c0_i32_367
  let v740 : BitVec 32 := Scalar.extui v739
  let c0_i32_368 : BitVec 32 := 0#32
  let v741 : BitVec 1 := Scalar.cmpi .slt c2_i32_364 c0_i32_368
  let v742 : BitVec 32 := Scalar.extui v741
  let v743 : BitVec 32 := Scalar.subi v740 v742
  let v744 : BitVec 1 := Scalar.cmpi .ne v738 v743
  let v745 : BitVec 32 := Scalar.remsi v732 c2_i32_364
  let c0_i32_369 : BitVec 32 := 0#32
  let v746 : BitVec 1 := Scalar.cmpi .ne v745 c0_i32_369
  let v747 : BitVec 1 := Scalar.andi v744 v746
  let v733 : BitVec 32 := Scalar.divsi v732 c2_i32_364
  let c1_i32_370 : BitVec 32 := 1#32
  let v748 : BitVec 32 := Scalar.subi v733 c1_i32_370
  let v749 : BitVec 32 := Scalar.select v747 v748 v733
  let c0_i32_381 : BitVec 32 := 0#32
  let c384_i32_373 : BitVec 32 := 384#32
  let v753 : BitVec 32 := Scalar.subi c384_i32_373 v731
  let c0_i32_375 : BitVec 32 := 0#32
  let v755 : BitVec 1 := Scalar.cmpi .sgt v753 c0_i32_375
  let v756 : BitVec 32 := Scalar.extui v755
  let c0_i32_376 : BitVec 32 := 0#32
  let v757 : BitVec 1 := Scalar.cmpi .slt v753 c0_i32_376
  let v758 : BitVec 32 := Scalar.extui v757
  let v759 : BitVec 32 := Scalar.subi v756 v758
  let c2_i32_374 : BitVec 32 := 2#32
  let c0_i32_377 : BitVec 32 := 0#32
  let v760 : BitVec 1 := Scalar.cmpi .sgt c2_i32_374 c0_i32_377
  let v761 : BitVec 32 := Scalar.extui v760
  let c0_i32_378 : BitVec 32 := 0#32
  let v762 : BitVec 1 := Scalar.cmpi .slt c2_i32_374 c0_i32_378
  let v763 : BitVec 32 := Scalar.extui v762
  let v764 : BitVec 32 := Scalar.subi v761 v763
  let v765 : BitVec 1 := Scalar.cmpi .ne v759 v764
  let v766 : BitVec 32 := Scalar.remsi v753 c2_i32_374
  let c0_i32_379 : BitVec 32 := 0#32
  let v767 : BitVec 1 := Scalar.cmpi .ne v766 c0_i32_379
  let v768 : BitVec 1 := Scalar.andi v765 v767
  let v754 : BitVec 32 := Scalar.divsi v753 c2_i32_374
  let c1_i32_380 : BitVec 32 := 1#32
  let v769 : BitVec 32 := Scalar.subi v754 c1_i32_380
  let v770 : BitVec 32 := Scalar.select v768 v769 v754
  let v771 : BitVec 32 := Scalar.maxsi c0_i32_381 v770
  let v772 : BitVec 32 := Scalar.minsi v749 v771
  let c0_i32_390 : BitVec 32 := 0#32
  let c768_i32_382 : BitVec 32 := 768#32
  let v773 : BitVec 32 := Scalar.subi c768_i32_382 v731
  let c0_i32_384 : BitVec 32 := 0#32
  let v775 : BitVec 1 := Scalar.cmpi .sgt v773 c0_i32_384
  let v776 : BitVec 32 := Scalar.extui v775
  let c0_i32_385 : BitVec 32 := 0#32
  let v777 : BitVec 1 := Scalar.cmpi .slt v773 c0_i32_385
  let v778 : BitVec 32 := Scalar.extui v777
  let v779 : BitVec 32 := Scalar.subi v776 v778
  let c2_i32_383 : BitVec 32 := 2#32
  let c0_i32_386 : BitVec 32 := 0#32
  let v780 : BitVec 1 := Scalar.cmpi .sgt c2_i32_383 c0_i32_386
  let v781 : BitVec 32 := Scalar.extui v780
  let c0_i32_387 : BitVec 32 := 0#32
  let v782 : BitVec 1 := Scalar.cmpi .slt c2_i32_383 c0_i32_387
  let v783 : BitVec 32 := Scalar.extui v782
  let v784 : BitVec 32 := Scalar.subi v781 v783
  let v785 : BitVec 1 := Scalar.cmpi .ne v779 v784
  let v786 : BitVec 32 := Scalar.remsi v773 c2_i32_383
  let c0_i32_388 : BitVec 32 := 0#32
  let v787 : BitVec 1 := Scalar.cmpi .ne v786 c0_i32_388
  let v788 : BitVec 1 := Scalar.andi v785 v787
  let v774 : BitVec 32 := Scalar.divsi v773 c2_i32_383
  let c1_i32_389 : BitVec 32 := 1#32
  let v789 : BitVec 32 := Scalar.subi v774 c1_i32_389
  let v790 : BitVec 32 := Scalar.select v788 v789 v774
  let v791 : BitVec 32 := Scalar.maxsi c0_i32_390 v790
  let v792 : BitVec 32 := Scalar.minsi v749 v791
  let v793 : BitVec 32 := Scalar.subi v792 v772
  let c1_i32_391 : BitVec 32 := 1#32
  let v795 : BitVec 32 := Scalar.divsi v793 c1_i32_391
  let v796 : BitVec 32 := Scalar.muli v795 c1_i32_391
  let v797 : BitVec 32 := Scalar.addi v772 v796
  let c1_i32_393 : BitVec 32 := 1#32
  let arg23 : BitVec 32 := Scf.iv v797 c1_i32_393 k0_t60
  let v1305 : BitVec 32 := Scalar.addi v1304 arg23
  let c0_i32_615 : BitVec 32 := 0#32
  ![v1305.toNat, 0]

def k0_chk33 (v729 : BitVec 32) (v731 : BitVec 32) : Prop :=
  ((k0_t59_loop v729 v731).OK) ∧
  (∀ k0_t59 : Fin (k0_t59_loop v729 v731).trips, ∀ a, (k0_off154 v729 v731 k0_t59) a + S2x128.size a ≤ S384x128.size a) ∧
  (∀ k0_t59 : Fin (k0_t59_loop v729 v731).trips, ∀ a, (k0_off155 v729 v731 k0_t59) a + S1x2.size a ≤ S584x2.size a) ∧
  ((k0_t60_loop v729 v731).OK) ∧
  (∀ k0_t60 : Fin (k0_t60_loop v729 v731).trips, ∀ a, (k0_off157 v729 v731 k0_t60) a + S2x128.size a ≤ S384x128.size a) ∧
  (∀ k0_t60 : Fin (k0_t60_loop v729 v731).trips, ∀ a, (k0_off158 v729 v731 k0_t60) a + S1x2.size a ≤ S584x2.size a)
theorem k0_t59_ok : ∀ (v729 : BitVec 32) (v731 : BitVec 32) (k0_hw33 : k0_chk33 v729 v731), (k0_t59_loop v729 v731).OK := fun v729 v731 k0_hw33 => k0_hw33.1
theorem k0_off154_inb : ∀ (v729 : BitVec 32) (v731 : BitVec 32) (k0_hw33 : k0_chk33 v729 v731) (k0_t59 : Fin (k0_t59_loop v729 v731).trips), ∀ a, (k0_off154 v729 v731 k0_t59) a + S2x128.size a ≤ S384x128.size a := fun v729 v731 k0_hw33 k0_t59 => k0_hw33.2.1 k0_t59
theorem k0_off155_inb : ∀ (v729 : BitVec 32) (v731 : BitVec 32) (k0_hw33 : k0_chk33 v729 v731) (k0_t59 : Fin (k0_t59_loop v729 v731).trips), ∀ a, (k0_off155 v729 v731 k0_t59) a + S1x2.size a ≤ S584x2.size a := fun v729 v731 k0_hw33 k0_t59 => k0_hw33.2.2.1 k0_t59
theorem k0_t60_ok : ∀ (v729 : BitVec 32) (v731 : BitVec 32) (k0_hw33 : k0_chk33 v729 v731), (k0_t60_loop v729 v731).OK := fun v729 v731 k0_hw33 => k0_hw33.2.2.2.1
theorem k0_off157_inb : ∀ (v729 : BitVec 32) (v731 : BitVec 32) (k0_hw33 : k0_chk33 v729 v731) (k0_t60 : Fin (k0_t60_loop v729 v731).trips), ∀ a, (k0_off157 v729 v731 k0_t60) a + S2x128.size a ≤ S384x128.size a := fun v729 v731 k0_hw33 k0_t60 => k0_hw33.2.2.2.2.1 k0_t60
theorem k0_off158_inb : ∀ (v729 : BitVec 32) (v731 : BitVec 32) (k0_hw33 : k0_chk33 v729 v731) (k0_t60 : Fin (k0_t60_loop v729 v731).trips), ∀ a, (k0_off158 v729 v731 k0_t60) a + S1x2.size a ≤ S584x2.size a := fun v729 v731 k0_hw33 k0_t60 => k0_hw33.2.2.2.2.2 k0_t60

def k0_off159 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_371 : BitVec 32 := 16#32
  let v750 : BitVec 32 := Scalar.muli arg21 c16_i32_371
  let c8_i32 : BitVec 32 := 8#32
  let v751 : BitVec 32 := Scalar.addi v750 c8_i32
  let c128_i32_372 : BitVec 32 := 128#32
  let v752 : BitVec 32 := Scalar.muli v751 c128_i32_372
  ![0, v752.toNat]
@[reducible] def k0_t61_loop (v801 : BitVec 32) (v803 : BitVec 32) : Scf.Loop 32 :=
  let c1_i32_394 : BitVec 32 := 1#32
  let v804 : BitVec 32 := Scalar.addi v801 c1_i32_394
  let c0_i32_396 : BitVec 32 := 0#32
  let v806 : BitVec 1 := Scalar.cmpi .sgt v804 c0_i32_396
  let v807 : BitVec 32 := Scalar.extui v806
  let c0_i32_397 : BitVec 32 := 0#32
  let v808 : BitVec 1 := Scalar.cmpi .slt v804 c0_i32_397
  let v809 : BitVec 32 := Scalar.extui v808
  let v810 : BitVec 32 := Scalar.subi v807 v809
  let c2_i32_395 : BitVec 32 := 2#32
  let c0_i32_398 : BitVec 32 := 0#32
  let v811 : BitVec 1 := Scalar.cmpi .sgt c2_i32_395 c0_i32_398
  let v812 : BitVec 32 := Scalar.extui v811
  let c0_i32_399 : BitVec 32 := 0#32
  let v813 : BitVec 1 := Scalar.cmpi .slt c2_i32_395 c0_i32_399
  let v814 : BitVec 32 := Scalar.extui v813
  let v815 : BitVec 32 := Scalar.subi v812 v814
  let v816 : BitVec 1 := Scalar.cmpi .ne v810 v815
  let v817 : BitVec 32 := Scalar.remsi v804 c2_i32_395
  let c0_i32_400 : BitVec 32 := 0#32
  let v818 : BitVec 1 := Scalar.cmpi .ne v817 c0_i32_400
  let v819 : BitVec 1 := Scalar.andi v816 v818
  let v805 : BitVec 32 := Scalar.divsi v804 c2_i32_395
  let c1_i32_401 : BitVec 32 := 1#32
  let v820 : BitVec 32 := Scalar.subi v805 c1_i32_401
  let v821 : BitVec 32 := Scalar.select v819 v820 v805
  let c0_i32_412 : BitVec 32 := 0#32
  let c384_i32_404 : BitVec 32 := 384#32
  let v825 : BitVec 32 := Scalar.subi c384_i32_404 v803
  let c0_i32_406 : BitVec 32 := 0#32
  let v827 : BitVec 1 := Scalar.cmpi .sgt v825 c0_i32_406
  let v828 : BitVec 32 := Scalar.extui v827
  let c0_i32_407 : BitVec 32 := 0#32
  let v829 : BitVec 1 := Scalar.cmpi .slt v825 c0_i32_407
  let v830 : BitVec 32 := Scalar.extui v829
  let v831 : BitVec 32 := Scalar.subi v828 v830
  let c2_i32_405 : BitVec 32 := 2#32
  let c0_i32_408 : BitVec 32 := 0#32
  let v832 : BitVec 1 := Scalar.cmpi .sgt c2_i32_405 c0_i32_408
  let v833 : BitVec 32 := Scalar.extui v832
  let c0_i32_409 : BitVec 32 := 0#32
  let v834 : BitVec 1 := Scalar.cmpi .slt c2_i32_405 c0_i32_409
  let v835 : BitVec 32 := Scalar.extui v834
  let v836 : BitVec 32 := Scalar.subi v833 v835
  let v837 : BitVec 1 := Scalar.cmpi .ne v831 v836
  let v838 : BitVec 32 := Scalar.remsi v825 c2_i32_405
  let c0_i32_410 : BitVec 32 := 0#32
  let v839 : BitVec 1 := Scalar.cmpi .ne v838 c0_i32_410
  let v840 : BitVec 1 := Scalar.andi v837 v839
  let v826 : BitVec 32 := Scalar.divsi v825 c2_i32_405
  let c1_i32_411 : BitVec 32 := 1#32
  let v841 : BitVec 32 := Scalar.subi v826 c1_i32_411
  let v842 : BitVec 32 := Scalar.select v840 v841 v826
  let v843 : BitVec 32 := Scalar.maxsi c0_i32_412 v842
  let v844 : BitVec 32 := Scalar.minsi v821 v843
  let c0_i32_421 : BitVec 32 := 0#32
  let c768_i32_413 : BitVec 32 := 768#32
  let v845 : BitVec 32 := Scalar.subi c768_i32_413 v803
  let c0_i32_415 : BitVec 32 := 0#32
  let v847 : BitVec 1 := Scalar.cmpi .sgt v845 c0_i32_415
  let v848 : BitVec 32 := Scalar.extui v847
  let c0_i32_416 : BitVec 32 := 0#32
  let v849 : BitVec 1 := Scalar.cmpi .slt v845 c0_i32_416
  let v850 : BitVec 32 := Scalar.extui v849
  let v851 : BitVec 32 := Scalar.subi v848 v850
  let c2_i32_414 : BitVec 32 := 2#32
  let c0_i32_417 : BitVec 32 := 0#32
  let v852 : BitVec 1 := Scalar.cmpi .sgt c2_i32_414 c0_i32_417
  let v853 : BitVec 32 := Scalar.extui v852
  let c0_i32_418 : BitVec 32 := 0#32
  let v854 : BitVec 1 := Scalar.cmpi .slt c2_i32_414 c0_i32_418
  let v855 : BitVec 32 := Scalar.extui v854
  let v856 : BitVec 32 := Scalar.subi v853 v855
  let v857 : BitVec 1 := Scalar.cmpi .ne v851 v856
  let v858 : BitVec 32 := Scalar.remsi v845 c2_i32_414
  let c0_i32_419 : BitVec 32 := 0#32
  let v859 : BitVec 1 := Scalar.cmpi .ne v858 c0_i32_419
  let v860 : BitVec 1 := Scalar.andi v857 v859
  let v846 : BitVec 32 := Scalar.divsi v845 c2_i32_414
  let c1_i32_420 : BitVec 32 := 1#32
  let v861 : BitVec 32 := Scalar.subi v846 c1_i32_420
  let v862 : BitVec 32 := Scalar.select v860 v861 v846
  let v863 : BitVec 32 := Scalar.maxsi c0_i32_421 v862
  let v864 : BitVec 32 := Scalar.minsi v821 v863
  let v865 : BitVec 32 := Scalar.subi v864 v844
  let c1_i32_422 : BitVec 32 := 1#32
  let v867 : BitVec 32 := Scalar.divsi v865 c1_i32_422
  let v868 : BitVec 32 := Scalar.muli v867 c1_i32_422
  let v869 : BitVec 32 := Scalar.addi v844 v868
  let c1_i32_423 : BitVec 32 := 1#32
  ⟨v844, v869, c1_i32_423⟩

def k0_off160 (v801 : BitVec 32) (v803 : BitVec 32) (k0_t61 : Fin (k0_t61_loop v801 v803).trips) : Fin 2 → Nat :=
  let c1_i32_394 : BitVec 32 := 1#32
  let v804 : BitVec 32 := Scalar.addi v801 c1_i32_394
  let c0_i32_396 : BitVec 32 := 0#32
  let v806 : BitVec 1 := Scalar.cmpi .sgt v804 c0_i32_396
  let v807 : BitVec 32 := Scalar.extui v806
  let c0_i32_397 : BitVec 32 := 0#32
  let v808 : BitVec 1 := Scalar.cmpi .slt v804 c0_i32_397
  let v809 : BitVec 32 := Scalar.extui v808
  let v810 : BitVec 32 := Scalar.subi v807 v809
  let c2_i32_395 : BitVec 32 := 2#32
  let c0_i32_398 : BitVec 32 := 0#32
  let v811 : BitVec 1 := Scalar.cmpi .sgt c2_i32_395 c0_i32_398
  let v812 : BitVec 32 := Scalar.extui v811
  let c0_i32_399 : BitVec 32 := 0#32
  let v813 : BitVec 1 := Scalar.cmpi .slt c2_i32_395 c0_i32_399
  let v814 : BitVec 32 := Scalar.extui v813
  let v815 : BitVec 32 := Scalar.subi v812 v814
  let v816 : BitVec 1 := Scalar.cmpi .ne v810 v815
  let v817 : BitVec 32 := Scalar.remsi v804 c2_i32_395
  let c0_i32_400 : BitVec 32 := 0#32
  let v818 : BitVec 1 := Scalar.cmpi .ne v817 c0_i32_400
  let v819 : BitVec 1 := Scalar.andi v816 v818
  let v805 : BitVec 32 := Scalar.divsi v804 c2_i32_395
  let c1_i32_401 : BitVec 32 := 1#32
  let v820 : BitVec 32 := Scalar.subi v805 c1_i32_401
  let v821 : BitVec 32 := Scalar.select v819 v820 v805
  let c0_i32_412 : BitVec 32 := 0#32
  let c384_i32_404 : BitVec 32 := 384#32
  let v825 : BitVec 32 := Scalar.subi c384_i32_404 v803
  let c0_i32_406 : BitVec 32 := 0#32
  let v827 : BitVec 1 := Scalar.cmpi .sgt v825 c0_i32_406
  let v828 : BitVec 32 := Scalar.extui v827
  let c0_i32_407 : BitVec 32 := 0#32
  let v829 : BitVec 1 := Scalar.cmpi .slt v825 c0_i32_407
  let v830 : BitVec 32 := Scalar.extui v829
  let v831 : BitVec 32 := Scalar.subi v828 v830
  let c2_i32_405 : BitVec 32 := 2#32
  let c0_i32_408 : BitVec 32 := 0#32
  let v832 : BitVec 1 := Scalar.cmpi .sgt c2_i32_405 c0_i32_408
  let v833 : BitVec 32 := Scalar.extui v832
  let c0_i32_409 : BitVec 32 := 0#32
  let v834 : BitVec 1 := Scalar.cmpi .slt c2_i32_405 c0_i32_409
  let v835 : BitVec 32 := Scalar.extui v834
  let v836 : BitVec 32 := Scalar.subi v833 v835
  let v837 : BitVec 1 := Scalar.cmpi .ne v831 v836
  let v838 : BitVec 32 := Scalar.remsi v825 c2_i32_405
  let c0_i32_410 : BitVec 32 := 0#32
  let v839 : BitVec 1 := Scalar.cmpi .ne v838 c0_i32_410
  let v840 : BitVec 1 := Scalar.andi v837 v839
  let v826 : BitVec 32 := Scalar.divsi v825 c2_i32_405
  let c1_i32_411 : BitVec 32 := 1#32
  let v841 : BitVec 32 := Scalar.subi v826 c1_i32_411
  let v842 : BitVec 32 := Scalar.select v840 v841 v826
  let v843 : BitVec 32 := Scalar.maxsi c0_i32_412 v842
  let v844 : BitVec 32 := Scalar.minsi v821 v843
  let c1_i32_423 : BitVec 32 := 1#32
  let arg23 : BitVec 32 := Scf.iv v844 c1_i32_423 k0_t61
  let c2_i32_612 : BitVec 32 := 2#32
  let v1306 : BitVec 32 := Scalar.muli arg23 c2_i32_612
  let v1307 : BitVec 32 := Scalar.addi v803 v1306
  let c384_i32_613 : BitVec 32 := 384#32
  let v1308 : BitVec 32 := Scalar.subi v1307 c384_i32_613
  let c0_i32_614 : BitVec 32 := 0#32
  ![v1308.toNat, 0]
def k0_off161 (v801 : BitVec 32) (v803 : BitVec 32) (k0_t61 : Fin (k0_t61_loop v801 v803).trips) : Fin 2 → Nat :=
  let c1_i32_611 : BitVec 32 := 1#32
  let v1304 : BitVec 32 := Scalar.shrsi v803 c1_i32_611
  let c1_i32_394 : BitVec 32 := 1#32
  let v804 : BitVec 32 := Scalar.addi v801 c1_i32_394
  let c0_i32_396 : BitVec 32 := 0#32
  let v806 : BitVec 1 := Scalar.cmpi .sgt v804 c0_i32_396
  let v807 : BitVec 32 := Scalar.extui v806
  let c0_i32_397 : BitVec 32 := 0#32
  let v808 : BitVec 1 := Scalar.cmpi .slt v804 c0_i32_397
  let v809 : BitVec 32 := Scalar.extui v808
  let v810 : BitVec 32 := Scalar.subi v807 v809
  let c2_i32_395 : BitVec 32 := 2#32
  let c0_i32_398 : BitVec 32 := 0#32
  let v811 : BitVec 1 := Scalar.cmpi .sgt c2_i32_395 c0_i32_398
  let v812 : BitVec 32 := Scalar.extui v811
  let c0_i32_399 : BitVec 32 := 0#32
  let v813 : BitVec 1 := Scalar.cmpi .slt c2_i32_395 c0_i32_399
  let v814 : BitVec 32 := Scalar.extui v813
  let v815 : BitVec 32 := Scalar.subi v812 v814
  let v816 : BitVec 1 := Scalar.cmpi .ne v810 v815
  let v817 : BitVec 32 := Scalar.remsi v804 c2_i32_395
  let c0_i32_400 : BitVec 32 := 0#32
  let v818 : BitVec 1 := Scalar.cmpi .ne v817 c0_i32_400
  let v819 : BitVec 1 := Scalar.andi v816 v818
  let v805 : BitVec 32 := Scalar.divsi v804 c2_i32_395
  let c1_i32_401 : BitVec 32 := 1#32
  let v820 : BitVec 32 := Scalar.subi v805 c1_i32_401
  let v821 : BitVec 32 := Scalar.select v819 v820 v805
  let c0_i32_412 : BitVec 32 := 0#32
  let c384_i32_404 : BitVec 32 := 384#32
  let v825 : BitVec 32 := Scalar.subi c384_i32_404 v803
  let c0_i32_406 : BitVec 32 := 0#32
  let v827 : BitVec 1 := Scalar.cmpi .sgt v825 c0_i32_406
  let v828 : BitVec 32 := Scalar.extui v827
  let c0_i32_407 : BitVec 32 := 0#32
  let v829 : BitVec 1 := Scalar.cmpi .slt v825 c0_i32_407
  let v830 : BitVec 32 := Scalar.extui v829
  let v831 : BitVec 32 := Scalar.subi v828 v830
  let c2_i32_405 : BitVec 32 := 2#32
  let c0_i32_408 : BitVec 32 := 0#32
  let v832 : BitVec 1 := Scalar.cmpi .sgt c2_i32_405 c0_i32_408
  let v833 : BitVec 32 := Scalar.extui v832
  let c0_i32_409 : BitVec 32 := 0#32
  let v834 : BitVec 1 := Scalar.cmpi .slt c2_i32_405 c0_i32_409
  let v835 : BitVec 32 := Scalar.extui v834
  let v836 : BitVec 32 := Scalar.subi v833 v835
  let v837 : BitVec 1 := Scalar.cmpi .ne v831 v836
  let v838 : BitVec 32 := Scalar.remsi v825 c2_i32_405
  let c0_i32_410 : BitVec 32 := 0#32
  let v839 : BitVec 1 := Scalar.cmpi .ne v838 c0_i32_410
  let v840 : BitVec 1 := Scalar.andi v837 v839
  let v826 : BitVec 32 := Scalar.divsi v825 c2_i32_405
  let c1_i32_411 : BitVec 32 := 1#32
  let v841 : BitVec 32 := Scalar.subi v826 c1_i32_411
  let v842 : BitVec 32 := Scalar.select v840 v841 v826
  let v843 : BitVec 32 := Scalar.maxsi c0_i32_412 v842
  let v844 : BitVec 32 := Scalar.minsi v821 v843
  let c1_i32_423 : BitVec 32 := 1#32
  let arg23 : BitVec 32 := Scf.iv v844 c1_i32_423 k0_t61
  let v1305 : BitVec 32 := Scalar.addi v1304 arg23
  let c0_i32_615 : BitVec 32 := 0#32
  ![v1305.toNat, 0]
def k0_off162 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_402 : BitVec 32 := 16#32
  let v822 : BitVec 32 := Scalar.muli arg21 c16_i32_402
  let c9_i32 : BitVec 32 := 9#32
  let v823 : BitVec 32 := Scalar.addi v822 c9_i32
  let c128_i32_403 : BitVec 32 := 128#32
  let v824 : BitVec 32 := Scalar.muli v823 c128_i32_403
  ![0, v824.toNat]
@[reducible] def k0_t62_loop (v801 : BitVec 32) (v803 : BitVec 32) : Scf.Loop 32 :=
  let c1_i32_394 : BitVec 32 := 1#32
  let v804 : BitVec 32 := Scalar.addi v801 c1_i32_394
  let c0_i32_396 : BitVec 32 := 0#32
  let v806 : BitVec 1 := Scalar.cmpi .sgt v804 c0_i32_396
  let v807 : BitVec 32 := Scalar.extui v806
  let c0_i32_397 : BitVec 32 := 0#32
  let v808 : BitVec 1 := Scalar.cmpi .slt v804 c0_i32_397
  let v809 : BitVec 32 := Scalar.extui v808
  let v810 : BitVec 32 := Scalar.subi v807 v809
  let c2_i32_395 : BitVec 32 := 2#32
  let c0_i32_398 : BitVec 32 := 0#32
  let v811 : BitVec 1 := Scalar.cmpi .sgt c2_i32_395 c0_i32_398
  let v812 : BitVec 32 := Scalar.extui v811
  let c0_i32_399 : BitVec 32 := 0#32
  let v813 : BitVec 1 := Scalar.cmpi .slt c2_i32_395 c0_i32_399
  let v814 : BitVec 32 := Scalar.extui v813
  let v815 : BitVec 32 := Scalar.subi v812 v814
  let v816 : BitVec 1 := Scalar.cmpi .ne v810 v815
  let v817 : BitVec 32 := Scalar.remsi v804 c2_i32_395
  let c0_i32_400 : BitVec 32 := 0#32
  let v818 : BitVec 1 := Scalar.cmpi .ne v817 c0_i32_400
  let v819 : BitVec 1 := Scalar.andi v816 v818
  let v805 : BitVec 32 := Scalar.divsi v804 c2_i32_395
  let c1_i32_401 : BitVec 32 := 1#32
  let v820 : BitVec 32 := Scalar.subi v805 c1_i32_401
  let v821 : BitVec 32 := Scalar.select v819 v820 v805
  let c0_i32_412 : BitVec 32 := 0#32
  let c384_i32_404 : BitVec 32 := 384#32
  let v825 : BitVec 32 := Scalar.subi c384_i32_404 v803
  let c0_i32_406 : BitVec 32 := 0#32
  let v827 : BitVec 1 := Scalar.cmpi .sgt v825 c0_i32_406
  let v828 : BitVec 32 := Scalar.extui v827
  let c0_i32_407 : BitVec 32 := 0#32
  let v829 : BitVec 1 := Scalar.cmpi .slt v825 c0_i32_407
  let v830 : BitVec 32 := Scalar.extui v829
  let v831 : BitVec 32 := Scalar.subi v828 v830
  let c2_i32_405 : BitVec 32 := 2#32
  let c0_i32_408 : BitVec 32 := 0#32
  let v832 : BitVec 1 := Scalar.cmpi .sgt c2_i32_405 c0_i32_408
  let v833 : BitVec 32 := Scalar.extui v832
  let c0_i32_409 : BitVec 32 := 0#32
  let v834 : BitVec 1 := Scalar.cmpi .slt c2_i32_405 c0_i32_409
  let v835 : BitVec 32 := Scalar.extui v834
  let v836 : BitVec 32 := Scalar.subi v833 v835
  let v837 : BitVec 1 := Scalar.cmpi .ne v831 v836
  let v838 : BitVec 32 := Scalar.remsi v825 c2_i32_405
  let c0_i32_410 : BitVec 32 := 0#32
  let v839 : BitVec 1 := Scalar.cmpi .ne v838 c0_i32_410
  let v840 : BitVec 1 := Scalar.andi v837 v839
  let v826 : BitVec 32 := Scalar.divsi v825 c2_i32_405
  let c1_i32_411 : BitVec 32 := 1#32
  let v841 : BitVec 32 := Scalar.subi v826 c1_i32_411
  let v842 : BitVec 32 := Scalar.select v840 v841 v826
  let v843 : BitVec 32 := Scalar.maxsi c0_i32_412 v842
  let v844 : BitVec 32 := Scalar.minsi v821 v843
  let c0_i32_421 : BitVec 32 := 0#32
  let c768_i32_413 : BitVec 32 := 768#32
  let v845 : BitVec 32 := Scalar.subi c768_i32_413 v803
  let c0_i32_415 : BitVec 32 := 0#32
  let v847 : BitVec 1 := Scalar.cmpi .sgt v845 c0_i32_415
  let v848 : BitVec 32 := Scalar.extui v847
  let c0_i32_416 : BitVec 32 := 0#32
  let v849 : BitVec 1 := Scalar.cmpi .slt v845 c0_i32_416
  let v850 : BitVec 32 := Scalar.extui v849
  let v851 : BitVec 32 := Scalar.subi v848 v850
  let c2_i32_414 : BitVec 32 := 2#32
  let c0_i32_417 : BitVec 32 := 0#32
  let v852 : BitVec 1 := Scalar.cmpi .sgt c2_i32_414 c0_i32_417
  let v853 : BitVec 32 := Scalar.extui v852
  let c0_i32_418 : BitVec 32 := 0#32
  let v854 : BitVec 1 := Scalar.cmpi .slt c2_i32_414 c0_i32_418
  let v855 : BitVec 32 := Scalar.extui v854
  let v856 : BitVec 32 := Scalar.subi v853 v855
  let v857 : BitVec 1 := Scalar.cmpi .ne v851 v856
  let v858 : BitVec 32 := Scalar.remsi v845 c2_i32_414
  let c0_i32_419 : BitVec 32 := 0#32
  let v859 : BitVec 1 := Scalar.cmpi .ne v858 c0_i32_419
  let v860 : BitVec 1 := Scalar.andi v857 v859
  let v846 : BitVec 32 := Scalar.divsi v845 c2_i32_414
  let c1_i32_420 : BitVec 32 := 1#32
  let v861 : BitVec 32 := Scalar.subi v846 c1_i32_420
  let v862 : BitVec 32 := Scalar.select v860 v861 v846
  let v863 : BitVec 32 := Scalar.maxsi c0_i32_421 v862
  let v864 : BitVec 32 := Scalar.minsi v821 v863
  let v865 : BitVec 32 := Scalar.subi v864 v844
  let c1_i32_422 : BitVec 32 := 1#32
  let v867 : BitVec 32 := Scalar.divsi v865 c1_i32_422
  let v868 : BitVec 32 := Scalar.muli v867 c1_i32_422
  let v869 : BitVec 32 := Scalar.addi v844 v868
  let v866 : BitVec 32 := Scalar.addi v844 v865
  let c1_i32_424 : BitVec 32 := 1#32
  ⟨v869, v866, c1_i32_424⟩
def k0_off163 (v801 : BitVec 32) (v803 : BitVec 32) (k0_t62 : Fin (k0_t62_loop v801 v803).trips) : Fin 2 → Nat :=
  let c1_i32_394 : BitVec 32 := 1#32
  let v804 : BitVec 32 := Scalar.addi v801 c1_i32_394
  let c0_i32_396 : BitVec 32 := 0#32
  let v806 : BitVec 1 := Scalar.cmpi .sgt v804 c0_i32_396
  let v807 : BitVec 32 := Scalar.extui v806
  let c0_i32_397 : BitVec 32 := 0#32
  let v808 : BitVec 1 := Scalar.cmpi .slt v804 c0_i32_397
  let v809 : BitVec 32 := Scalar.extui v808
  let v810 : BitVec 32 := Scalar.subi v807 v809
  let c2_i32_395 : BitVec 32 := 2#32
  let c0_i32_398 : BitVec 32 := 0#32
  let v811 : BitVec 1 := Scalar.cmpi .sgt c2_i32_395 c0_i32_398
  let v812 : BitVec 32 := Scalar.extui v811
  let c0_i32_399 : BitVec 32 := 0#32
  let v813 : BitVec 1 := Scalar.cmpi .slt c2_i32_395 c0_i32_399
  let v814 : BitVec 32 := Scalar.extui v813
  let v815 : BitVec 32 := Scalar.subi v812 v814
  let v816 : BitVec 1 := Scalar.cmpi .ne v810 v815
  let v817 : BitVec 32 := Scalar.remsi v804 c2_i32_395
  let c0_i32_400 : BitVec 32 := 0#32
  let v818 : BitVec 1 := Scalar.cmpi .ne v817 c0_i32_400
  let v819 : BitVec 1 := Scalar.andi v816 v818
  let v805 : BitVec 32 := Scalar.divsi v804 c2_i32_395
  let c1_i32_401 : BitVec 32 := 1#32
  let v820 : BitVec 32 := Scalar.subi v805 c1_i32_401
  let v821 : BitVec 32 := Scalar.select v819 v820 v805
  let c0_i32_412 : BitVec 32 := 0#32
  let c384_i32_404 : BitVec 32 := 384#32
  let v825 : BitVec 32 := Scalar.subi c384_i32_404 v803
  let c0_i32_406 : BitVec 32 := 0#32
  let v827 : BitVec 1 := Scalar.cmpi .sgt v825 c0_i32_406
  let v828 : BitVec 32 := Scalar.extui v827
  let c0_i32_407 : BitVec 32 := 0#32
  let v829 : BitVec 1 := Scalar.cmpi .slt v825 c0_i32_407
  let v830 : BitVec 32 := Scalar.extui v829
  let v831 : BitVec 32 := Scalar.subi v828 v830
  let c2_i32_405 : BitVec 32 := 2#32
  let c0_i32_408 : BitVec 32 := 0#32
  let v832 : BitVec 1 := Scalar.cmpi .sgt c2_i32_405 c0_i32_408
  let v833 : BitVec 32 := Scalar.extui v832
  let c0_i32_409 : BitVec 32 := 0#32
  let v834 : BitVec 1 := Scalar.cmpi .slt c2_i32_405 c0_i32_409
  let v835 : BitVec 32 := Scalar.extui v834
  let v836 : BitVec 32 := Scalar.subi v833 v835
  let v837 : BitVec 1 := Scalar.cmpi .ne v831 v836
  let v838 : BitVec 32 := Scalar.remsi v825 c2_i32_405
  let c0_i32_410 : BitVec 32 := 0#32
  let v839 : BitVec 1 := Scalar.cmpi .ne v838 c0_i32_410
  let v840 : BitVec 1 := Scalar.andi v837 v839
  let v826 : BitVec 32 := Scalar.divsi v825 c2_i32_405
  let c1_i32_411 : BitVec 32 := 1#32
  let v841 : BitVec 32 := Scalar.subi v826 c1_i32_411
  let v842 : BitVec 32 := Scalar.select v840 v841 v826
  let v843 : BitVec 32 := Scalar.maxsi c0_i32_412 v842
  let v844 : BitVec 32 := Scalar.minsi v821 v843
  let c0_i32_421 : BitVec 32 := 0#32
  let c768_i32_413 : BitVec 32 := 768#32
  let v845 : BitVec 32 := Scalar.subi c768_i32_413 v803
  let c0_i32_415 : BitVec 32 := 0#32
  let v847 : BitVec 1 := Scalar.cmpi .sgt v845 c0_i32_415
  let v848 : BitVec 32 := Scalar.extui v847
  let c0_i32_416 : BitVec 32 := 0#32
  let v849 : BitVec 1 := Scalar.cmpi .slt v845 c0_i32_416
  let v850 : BitVec 32 := Scalar.extui v849
  let v851 : BitVec 32 := Scalar.subi v848 v850
  let c2_i32_414 : BitVec 32 := 2#32
  let c0_i32_417 : BitVec 32 := 0#32
  let v852 : BitVec 1 := Scalar.cmpi .sgt c2_i32_414 c0_i32_417
  let v853 : BitVec 32 := Scalar.extui v852
  let c0_i32_418 : BitVec 32 := 0#32
  let v854 : BitVec 1 := Scalar.cmpi .slt c2_i32_414 c0_i32_418
  let v855 : BitVec 32 := Scalar.extui v854
  let v856 : BitVec 32 := Scalar.subi v853 v855
  let v857 : BitVec 1 := Scalar.cmpi .ne v851 v856
  let v858 : BitVec 32 := Scalar.remsi v845 c2_i32_414
  let c0_i32_419 : BitVec 32 := 0#32
  let v859 : BitVec 1 := Scalar.cmpi .ne v858 c0_i32_419
  let v860 : BitVec 1 := Scalar.andi v857 v859
  let v846 : BitVec 32 := Scalar.divsi v845 c2_i32_414
  let c1_i32_420 : BitVec 32 := 1#32
  let v861 : BitVec 32 := Scalar.subi v846 c1_i32_420
  let v862 : BitVec 32 := Scalar.select v860 v861 v846
  let v863 : BitVec 32 := Scalar.maxsi c0_i32_421 v862
  let v864 : BitVec 32 := Scalar.minsi v821 v863
  let v865 : BitVec 32 := Scalar.subi v864 v844
  let c1_i32_422 : BitVec 32 := 1#32
  let v867 : BitVec 32 := Scalar.divsi v865 c1_i32_422
  let v868 : BitVec 32 := Scalar.muli v867 c1_i32_422
  let v869 : BitVec 32 := Scalar.addi v844 v868
  let c1_i32_424 : BitVec 32 := 1#32
  let arg23 : BitVec 32 := Scf.iv v869 c1_i32_424 k0_t62
  let c2_i32_612 : BitVec 32 := 2#32
  let v1306 : BitVec 32 := Scalar.muli arg23 c2_i32_612
  let v1307 : BitVec 32 := Scalar.addi v803 v1306
  let c384_i32_613 : BitVec 32 := 384#32
  let v1308 : BitVec 32 := Scalar.subi v1307 c384_i32_613
  let c0_i32_614 : BitVec 32 := 0#32
  ![v1308.toNat, 0]
def k0_off164 (v801 : BitVec 32) (v803 : BitVec 32) (k0_t62 : Fin (k0_t62_loop v801 v803).trips) : Fin 2 → Nat :=
  let c1_i32_611 : BitVec 32 := 1#32
  let v1304 : BitVec 32 := Scalar.shrsi v803 c1_i32_611
  let c1_i32_394 : BitVec 32 := 1#32
  let v804 : BitVec 32 := Scalar.addi v801 c1_i32_394
  let c0_i32_396 : BitVec 32 := 0#32
  let v806 : BitVec 1 := Scalar.cmpi .sgt v804 c0_i32_396
  let v807 : BitVec 32 := Scalar.extui v806
  let c0_i32_397 : BitVec 32 := 0#32
  let v808 : BitVec 1 := Scalar.cmpi .slt v804 c0_i32_397
  let v809 : BitVec 32 := Scalar.extui v808
  let v810 : BitVec 32 := Scalar.subi v807 v809
  let c2_i32_395 : BitVec 32 := 2#32
  let c0_i32_398 : BitVec 32 := 0#32
  let v811 : BitVec 1 := Scalar.cmpi .sgt c2_i32_395 c0_i32_398
  let v812 : BitVec 32 := Scalar.extui v811
  let c0_i32_399 : BitVec 32 := 0#32
  let v813 : BitVec 1 := Scalar.cmpi .slt c2_i32_395 c0_i32_399
  let v814 : BitVec 32 := Scalar.extui v813
  let v815 : BitVec 32 := Scalar.subi v812 v814
  let v816 : BitVec 1 := Scalar.cmpi .ne v810 v815
  let v817 : BitVec 32 := Scalar.remsi v804 c2_i32_395
  let c0_i32_400 : BitVec 32 := 0#32
  let v818 : BitVec 1 := Scalar.cmpi .ne v817 c0_i32_400
  let v819 : BitVec 1 := Scalar.andi v816 v818
  let v805 : BitVec 32 := Scalar.divsi v804 c2_i32_395
  let c1_i32_401 : BitVec 32 := 1#32
  let v820 : BitVec 32 := Scalar.subi v805 c1_i32_401
  let v821 : BitVec 32 := Scalar.select v819 v820 v805
  let c0_i32_412 : BitVec 32 := 0#32
  let c384_i32_404 : BitVec 32 := 384#32
  let v825 : BitVec 32 := Scalar.subi c384_i32_404 v803
  let c0_i32_406 : BitVec 32 := 0#32
  let v827 : BitVec 1 := Scalar.cmpi .sgt v825 c0_i32_406
  let v828 : BitVec 32 := Scalar.extui v827
  let c0_i32_407 : BitVec 32 := 0#32
  let v829 : BitVec 1 := Scalar.cmpi .slt v825 c0_i32_407
  let v830 : BitVec 32 := Scalar.extui v829
  let v831 : BitVec 32 := Scalar.subi v828 v830
  let c2_i32_405 : BitVec 32 := 2#32
  let c0_i32_408 : BitVec 32 := 0#32
  let v832 : BitVec 1 := Scalar.cmpi .sgt c2_i32_405 c0_i32_408
  let v833 : BitVec 32 := Scalar.extui v832
  let c0_i32_409 : BitVec 32 := 0#32
  let v834 : BitVec 1 := Scalar.cmpi .slt c2_i32_405 c0_i32_409
  let v835 : BitVec 32 := Scalar.extui v834
  let v836 : BitVec 32 := Scalar.subi v833 v835
  let v837 : BitVec 1 := Scalar.cmpi .ne v831 v836
  let v838 : BitVec 32 := Scalar.remsi v825 c2_i32_405
  let c0_i32_410 : BitVec 32 := 0#32
  let v839 : BitVec 1 := Scalar.cmpi .ne v838 c0_i32_410
  let v840 : BitVec 1 := Scalar.andi v837 v839
  let v826 : BitVec 32 := Scalar.divsi v825 c2_i32_405
  let c1_i32_411 : BitVec 32 := 1#32
  let v841 : BitVec 32 := Scalar.subi v826 c1_i32_411
  let v842 : BitVec 32 := Scalar.select v840 v841 v826
  let v843 : BitVec 32 := Scalar.maxsi c0_i32_412 v842
  let v844 : BitVec 32 := Scalar.minsi v821 v843
  let c0_i32_421 : BitVec 32 := 0#32
  let c768_i32_413 : BitVec 32 := 768#32
  let v845 : BitVec 32 := Scalar.subi c768_i32_413 v803
  let c0_i32_415 : BitVec 32 := 0#32
  let v847 : BitVec 1 := Scalar.cmpi .sgt v845 c0_i32_415
  let v848 : BitVec 32 := Scalar.extui v847
  let c0_i32_416 : BitVec 32 := 0#32
  let v849 : BitVec 1 := Scalar.cmpi .slt v845 c0_i32_416
  let v850 : BitVec 32 := Scalar.extui v849
  let v851 : BitVec 32 := Scalar.subi v848 v850
  let c2_i32_414 : BitVec 32 := 2#32
  let c0_i32_417 : BitVec 32 := 0#32
  let v852 : BitVec 1 := Scalar.cmpi .sgt c2_i32_414 c0_i32_417
  let v853 : BitVec 32 := Scalar.extui v852
  let c0_i32_418 : BitVec 32 := 0#32
  let v854 : BitVec 1 := Scalar.cmpi .slt c2_i32_414 c0_i32_418
  let v855 : BitVec 32 := Scalar.extui v854
  let v856 : BitVec 32 := Scalar.subi v853 v855
  let v857 : BitVec 1 := Scalar.cmpi .ne v851 v856
  let v858 : BitVec 32 := Scalar.remsi v845 c2_i32_414
  let c0_i32_419 : BitVec 32 := 0#32
  let v859 : BitVec 1 := Scalar.cmpi .ne v858 c0_i32_419
  let v860 : BitVec 1 := Scalar.andi v857 v859
  let v846 : BitVec 32 := Scalar.divsi v845 c2_i32_414
  let c1_i32_420 : BitVec 32 := 1#32
  let v861 : BitVec 32 := Scalar.subi v846 c1_i32_420
  let v862 : BitVec 32 := Scalar.select v860 v861 v846
  let v863 : BitVec 32 := Scalar.maxsi c0_i32_421 v862
  let v864 : BitVec 32 := Scalar.minsi v821 v863
  let v865 : BitVec 32 := Scalar.subi v864 v844
  let c1_i32_422 : BitVec 32 := 1#32
  let v867 : BitVec 32 := Scalar.divsi v865 c1_i32_422
  let v868 : BitVec 32 := Scalar.muli v867 c1_i32_422
  let v869 : BitVec 32 := Scalar.addi v844 v868
  let c1_i32_424 : BitVec 32 := 1#32
  let arg23 : BitVec 32 := Scf.iv v869 c1_i32_424 k0_t62
  let v1305 : BitVec 32 := Scalar.addi v1304 arg23
  let c0_i32_615 : BitVec 32 := 0#32
  ![v1305.toNat, 0]

def k0_chk34 (v801 : BitVec 32) (v803 : BitVec 32) : Prop :=
  ((k0_t61_loop v801 v803).OK) ∧
  (∀ k0_t61 : Fin (k0_t61_loop v801 v803).trips, ∀ a, (k0_off160 v801 v803 k0_t61) a + S2x128.size a ≤ S384x128.size a) ∧
  (∀ k0_t61 : Fin (k0_t61_loop v801 v803).trips, ∀ a, (k0_off161 v801 v803 k0_t61) a + S1x2.size a ≤ S584x2.size a) ∧
  ((k0_t62_loop v801 v803).OK) ∧
  (∀ k0_t62 : Fin (k0_t62_loop v801 v803).trips, ∀ a, (k0_off163 v801 v803 k0_t62) a + S2x128.size a ≤ S384x128.size a) ∧
  (∀ k0_t62 : Fin (k0_t62_loop v801 v803).trips, ∀ a, (k0_off164 v801 v803 k0_t62) a + S1x2.size a ≤ S584x2.size a)
theorem k0_t61_ok : ∀ (v801 : BitVec 32) (v803 : BitVec 32) (k0_hw34 : k0_chk34 v801 v803), (k0_t61_loop v801 v803).OK := fun v801 v803 k0_hw34 => k0_hw34.1
theorem k0_off160_inb : ∀ (v801 : BitVec 32) (v803 : BitVec 32) (k0_hw34 : k0_chk34 v801 v803) (k0_t61 : Fin (k0_t61_loop v801 v803).trips), ∀ a, (k0_off160 v801 v803 k0_t61) a + S2x128.size a ≤ S384x128.size a := fun v801 v803 k0_hw34 k0_t61 => k0_hw34.2.1 k0_t61
theorem k0_off161_inb : ∀ (v801 : BitVec 32) (v803 : BitVec 32) (k0_hw34 : k0_chk34 v801 v803) (k0_t61 : Fin (k0_t61_loop v801 v803).trips), ∀ a, (k0_off161 v801 v803 k0_t61) a + S1x2.size a ≤ S584x2.size a := fun v801 v803 k0_hw34 k0_t61 => k0_hw34.2.2.1 k0_t61
theorem k0_t62_ok : ∀ (v801 : BitVec 32) (v803 : BitVec 32) (k0_hw34 : k0_chk34 v801 v803), (k0_t62_loop v801 v803).OK := fun v801 v803 k0_hw34 => k0_hw34.2.2.2.1
theorem k0_off163_inb : ∀ (v801 : BitVec 32) (v803 : BitVec 32) (k0_hw34 : k0_chk34 v801 v803) (k0_t62 : Fin (k0_t62_loop v801 v803).trips), ∀ a, (k0_off163 v801 v803 k0_t62) a + S2x128.size a ≤ S384x128.size a := fun v801 v803 k0_hw34 k0_t62 => k0_hw34.2.2.2.2.1 k0_t62
theorem k0_off164_inb : ∀ (v801 : BitVec 32) (v803 : BitVec 32) (k0_hw34 : k0_chk34 v801 v803) (k0_t62 : Fin (k0_t62_loop v801 v803).trips), ∀ a, (k0_off164 v801 v803 k0_t62) a + S1x2.size a ≤ S584x2.size a := fun v801 v803 k0_hw34 k0_t62 => k0_hw34.2.2.2.2.2 k0_t62

def k0_off165 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_402 : BitVec 32 := 16#32
  let v822 : BitVec 32 := Scalar.muli arg21 c16_i32_402
  let c9_i32 : BitVec 32 := 9#32
  let v823 : BitVec 32 := Scalar.addi v822 c9_i32
  let c128_i32_403 : BitVec 32 := 128#32
  let v824 : BitVec 32 := Scalar.muli v823 c128_i32_403
  ![0, v824.toNat]
@[reducible] def k0_t63_loop (v873 : BitVec 32) (v875 : BitVec 32) : Scf.Loop 32 :=
  let c1_i32_425 : BitVec 32 := 1#32
  let v876 : BitVec 32 := Scalar.addi v873 c1_i32_425
  let c0_i32_427 : BitVec 32 := 0#32
  let v878 : BitVec 1 := Scalar.cmpi .sgt v876 c0_i32_427
  let v879 : BitVec 32 := Scalar.extui v878
  let c0_i32_428 : BitVec 32 := 0#32
  let v880 : BitVec 1 := Scalar.cmpi .slt v876 c0_i32_428
  let v881 : BitVec 32 := Scalar.extui v880
  let v882 : BitVec 32 := Scalar.subi v879 v881
  let c2_i32_426 : BitVec 32 := 2#32
  let c0_i32_429 : BitVec 32 := 0#32
  let v883 : BitVec 1 := Scalar.cmpi .sgt c2_i32_426 c0_i32_429
  let v884 : BitVec 32 := Scalar.extui v883
  let c0_i32_430 : BitVec 32 := 0#32
  let v885 : BitVec 1 := Scalar.cmpi .slt c2_i32_426 c0_i32_430
  let v886 : BitVec 32 := Scalar.extui v885
  let v887 : BitVec 32 := Scalar.subi v884 v886
  let v888 : BitVec 1 := Scalar.cmpi .ne v882 v887
  let v889 : BitVec 32 := Scalar.remsi v876 c2_i32_426
  let c0_i32_431 : BitVec 32 := 0#32
  let v890 : BitVec 1 := Scalar.cmpi .ne v889 c0_i32_431
  let v891 : BitVec 1 := Scalar.andi v888 v890
  let v877 : BitVec 32 := Scalar.divsi v876 c2_i32_426
  let c1_i32_432 : BitVec 32 := 1#32
  let v892 : BitVec 32 := Scalar.subi v877 c1_i32_432
  let v893 : BitVec 32 := Scalar.select v891 v892 v877
  let c0_i32_443 : BitVec 32 := 0#32
  let c384_i32_435 : BitVec 32 := 384#32
  let v897 : BitVec 32 := Scalar.subi c384_i32_435 v875
  let c0_i32_437 : BitVec 32 := 0#32
  let v899 : BitVec 1 := Scalar.cmpi .sgt v897 c0_i32_437
  let v900 : BitVec 32 := Scalar.extui v899
  let c0_i32_438 : BitVec 32 := 0#32
  let v901 : BitVec 1 := Scalar.cmpi .slt v897 c0_i32_438
  let v902 : BitVec 32 := Scalar.extui v901
  let v903 : BitVec 32 := Scalar.subi v900 v902
  let c2_i32_436 : BitVec 32 := 2#32
  let c0_i32_439 : BitVec 32 := 0#32
  let v904 : BitVec 1 := Scalar.cmpi .sgt c2_i32_436 c0_i32_439
  let v905 : BitVec 32 := Scalar.extui v904
  let c0_i32_440 : BitVec 32 := 0#32
  let v906 : BitVec 1 := Scalar.cmpi .slt c2_i32_436 c0_i32_440
  let v907 : BitVec 32 := Scalar.extui v906
  let v908 : BitVec 32 := Scalar.subi v905 v907
  let v909 : BitVec 1 := Scalar.cmpi .ne v903 v908
  let v910 : BitVec 32 := Scalar.remsi v897 c2_i32_436
  let c0_i32_441 : BitVec 32 := 0#32
  let v911 : BitVec 1 := Scalar.cmpi .ne v910 c0_i32_441
  let v912 : BitVec 1 := Scalar.andi v909 v911
  let v898 : BitVec 32 := Scalar.divsi v897 c2_i32_436
  let c1_i32_442 : BitVec 32 := 1#32
  let v913 : BitVec 32 := Scalar.subi v898 c1_i32_442
  let v914 : BitVec 32 := Scalar.select v912 v913 v898
  let v915 : BitVec 32 := Scalar.maxsi c0_i32_443 v914
  let v916 : BitVec 32 := Scalar.minsi v893 v915
  let c0_i32_452 : BitVec 32 := 0#32
  let c768_i32_444 : BitVec 32 := 768#32
  let v917 : BitVec 32 := Scalar.subi c768_i32_444 v875
  let c0_i32_446 : BitVec 32 := 0#32
  let v919 : BitVec 1 := Scalar.cmpi .sgt v917 c0_i32_446
  let v920 : BitVec 32 := Scalar.extui v919
  let c0_i32_447 : BitVec 32 := 0#32
  let v921 : BitVec 1 := Scalar.cmpi .slt v917 c0_i32_447
  let v922 : BitVec 32 := Scalar.extui v921
  let v923 : BitVec 32 := Scalar.subi v920 v922
  let c2_i32_445 : BitVec 32 := 2#32
  let c0_i32_448 : BitVec 32 := 0#32
  let v924 : BitVec 1 := Scalar.cmpi .sgt c2_i32_445 c0_i32_448
  let v925 : BitVec 32 := Scalar.extui v924
  let c0_i32_449 : BitVec 32 := 0#32
  let v926 : BitVec 1 := Scalar.cmpi .slt c2_i32_445 c0_i32_449
  let v927 : BitVec 32 := Scalar.extui v926
  let v928 : BitVec 32 := Scalar.subi v925 v927
  let v929 : BitVec 1 := Scalar.cmpi .ne v923 v928
  let v930 : BitVec 32 := Scalar.remsi v917 c2_i32_445
  let c0_i32_450 : BitVec 32 := 0#32
  let v931 : BitVec 1 := Scalar.cmpi .ne v930 c0_i32_450
  let v932 : BitVec 1 := Scalar.andi v929 v931
  let v918 : BitVec 32 := Scalar.divsi v917 c2_i32_445
  let c1_i32_451 : BitVec 32 := 1#32
  let v933 : BitVec 32 := Scalar.subi v918 c1_i32_451
  let v934 : BitVec 32 := Scalar.select v932 v933 v918
  let v935 : BitVec 32 := Scalar.maxsi c0_i32_452 v934
  let v936 : BitVec 32 := Scalar.minsi v893 v935
  let v937 : BitVec 32 := Scalar.subi v936 v916
  let c1_i32_453 : BitVec 32 := 1#32
  let v939 : BitVec 32 := Scalar.divsi v937 c1_i32_453
  let v940 : BitVec 32 := Scalar.muli v939 c1_i32_453
  let v941 : BitVec 32 := Scalar.addi v916 v940
  let c1_i32_454 : BitVec 32 := 1#32
  ⟨v916, v941, c1_i32_454⟩

def k0_off166 (v873 : BitVec 32) (v875 : BitVec 32) (k0_t63 : Fin (k0_t63_loop v873 v875).trips) : Fin 2 → Nat :=
  let c1_i32_425 : BitVec 32 := 1#32
  let v876 : BitVec 32 := Scalar.addi v873 c1_i32_425
  let c0_i32_427 : BitVec 32 := 0#32
  let v878 : BitVec 1 := Scalar.cmpi .sgt v876 c0_i32_427
  let v879 : BitVec 32 := Scalar.extui v878
  let c0_i32_428 : BitVec 32 := 0#32
  let v880 : BitVec 1 := Scalar.cmpi .slt v876 c0_i32_428
  let v881 : BitVec 32 := Scalar.extui v880
  let v882 : BitVec 32 := Scalar.subi v879 v881
  let c2_i32_426 : BitVec 32 := 2#32
  let c0_i32_429 : BitVec 32 := 0#32
  let v883 : BitVec 1 := Scalar.cmpi .sgt c2_i32_426 c0_i32_429
  let v884 : BitVec 32 := Scalar.extui v883
  let c0_i32_430 : BitVec 32 := 0#32
  let v885 : BitVec 1 := Scalar.cmpi .slt c2_i32_426 c0_i32_430
  let v886 : BitVec 32 := Scalar.extui v885
  let v887 : BitVec 32 := Scalar.subi v884 v886
  let v888 : BitVec 1 := Scalar.cmpi .ne v882 v887
  let v889 : BitVec 32 := Scalar.remsi v876 c2_i32_426
  let c0_i32_431 : BitVec 32 := 0#32
  let v890 : BitVec 1 := Scalar.cmpi .ne v889 c0_i32_431
  let v891 : BitVec 1 := Scalar.andi v888 v890
  let v877 : BitVec 32 := Scalar.divsi v876 c2_i32_426
  let c1_i32_432 : BitVec 32 := 1#32
  let v892 : BitVec 32 := Scalar.subi v877 c1_i32_432
  let v893 : BitVec 32 := Scalar.select v891 v892 v877
  let c0_i32_443 : BitVec 32 := 0#32
  let c384_i32_435 : BitVec 32 := 384#32
  let v897 : BitVec 32 := Scalar.subi c384_i32_435 v875
  let c0_i32_437 : BitVec 32 := 0#32
  let v899 : BitVec 1 := Scalar.cmpi .sgt v897 c0_i32_437
  let v900 : BitVec 32 := Scalar.extui v899
  let c0_i32_438 : BitVec 32 := 0#32
  let v901 : BitVec 1 := Scalar.cmpi .slt v897 c0_i32_438
  let v902 : BitVec 32 := Scalar.extui v901
  let v903 : BitVec 32 := Scalar.subi v900 v902
  let c2_i32_436 : BitVec 32 := 2#32
  let c0_i32_439 : BitVec 32 := 0#32
  let v904 : BitVec 1 := Scalar.cmpi .sgt c2_i32_436 c0_i32_439
  let v905 : BitVec 32 := Scalar.extui v904
  let c0_i32_440 : BitVec 32 := 0#32
  let v906 : BitVec 1 := Scalar.cmpi .slt c2_i32_436 c0_i32_440
  let v907 : BitVec 32 := Scalar.extui v906
  let v908 : BitVec 32 := Scalar.subi v905 v907
  let v909 : BitVec 1 := Scalar.cmpi .ne v903 v908
  let v910 : BitVec 32 := Scalar.remsi v897 c2_i32_436
  let c0_i32_441 : BitVec 32 := 0#32
  let v911 : BitVec 1 := Scalar.cmpi .ne v910 c0_i32_441
  let v912 : BitVec 1 := Scalar.andi v909 v911
  let v898 : BitVec 32 := Scalar.divsi v897 c2_i32_436
  let c1_i32_442 : BitVec 32 := 1#32
  let v913 : BitVec 32 := Scalar.subi v898 c1_i32_442
  let v914 : BitVec 32 := Scalar.select v912 v913 v898
  let v915 : BitVec 32 := Scalar.maxsi c0_i32_443 v914
  let v916 : BitVec 32 := Scalar.minsi v893 v915
  let c1_i32_454 : BitVec 32 := 1#32
  let arg23 : BitVec 32 := Scf.iv v916 c1_i32_454 k0_t63
  let c2_i32_612 : BitVec 32 := 2#32
  let v1306 : BitVec 32 := Scalar.muli arg23 c2_i32_612
  let v1307 : BitVec 32 := Scalar.addi v875 v1306
  let c384_i32_613 : BitVec 32 := 384#32
  let v1308 : BitVec 32 := Scalar.subi v1307 c384_i32_613
  let c0_i32_614 : BitVec 32 := 0#32
  ![v1308.toNat, 0]
def k0_off167 (v873 : BitVec 32) (v875 : BitVec 32) (k0_t63 : Fin (k0_t63_loop v873 v875).trips) : Fin 2 → Nat :=
  let c1_i32_611 : BitVec 32 := 1#32
  let v1304 : BitVec 32 := Scalar.shrsi v875 c1_i32_611
  let c1_i32_425 : BitVec 32 := 1#32
  let v876 : BitVec 32 := Scalar.addi v873 c1_i32_425
  let c0_i32_427 : BitVec 32 := 0#32
  let v878 : BitVec 1 := Scalar.cmpi .sgt v876 c0_i32_427
  let v879 : BitVec 32 := Scalar.extui v878
  let c0_i32_428 : BitVec 32 := 0#32
  let v880 : BitVec 1 := Scalar.cmpi .slt v876 c0_i32_428
  let v881 : BitVec 32 := Scalar.extui v880
  let v882 : BitVec 32 := Scalar.subi v879 v881
  let c2_i32_426 : BitVec 32 := 2#32
  let c0_i32_429 : BitVec 32 := 0#32
  let v883 : BitVec 1 := Scalar.cmpi .sgt c2_i32_426 c0_i32_429
  let v884 : BitVec 32 := Scalar.extui v883
  let c0_i32_430 : BitVec 32 := 0#32
  let v885 : BitVec 1 := Scalar.cmpi .slt c2_i32_426 c0_i32_430
  let v886 : BitVec 32 := Scalar.extui v885
  let v887 : BitVec 32 := Scalar.subi v884 v886
  let v888 : BitVec 1 := Scalar.cmpi .ne v882 v887
  let v889 : BitVec 32 := Scalar.remsi v876 c2_i32_426
  let c0_i32_431 : BitVec 32 := 0#32
  let v890 : BitVec 1 := Scalar.cmpi .ne v889 c0_i32_431
  let v891 : BitVec 1 := Scalar.andi v888 v890
  let v877 : BitVec 32 := Scalar.divsi v876 c2_i32_426
  let c1_i32_432 : BitVec 32 := 1#32
  let v892 : BitVec 32 := Scalar.subi v877 c1_i32_432
  let v893 : BitVec 32 := Scalar.select v891 v892 v877
  let c0_i32_443 : BitVec 32 := 0#32
  let c384_i32_435 : BitVec 32 := 384#32
  let v897 : BitVec 32 := Scalar.subi c384_i32_435 v875
  let c0_i32_437 : BitVec 32 := 0#32
  let v899 : BitVec 1 := Scalar.cmpi .sgt v897 c0_i32_437
  let v900 : BitVec 32 := Scalar.extui v899
  let c0_i32_438 : BitVec 32 := 0#32
  let v901 : BitVec 1 := Scalar.cmpi .slt v897 c0_i32_438
  let v902 : BitVec 32 := Scalar.extui v901
  let v903 : BitVec 32 := Scalar.subi v900 v902
  let c2_i32_436 : BitVec 32 := 2#32
  let c0_i32_439 : BitVec 32 := 0#32
  let v904 : BitVec 1 := Scalar.cmpi .sgt c2_i32_436 c0_i32_439
  let v905 : BitVec 32 := Scalar.extui v904
  let c0_i32_440 : BitVec 32 := 0#32
  let v906 : BitVec 1 := Scalar.cmpi .slt c2_i32_436 c0_i32_440
  let v907 : BitVec 32 := Scalar.extui v906
  let v908 : BitVec 32 := Scalar.subi v905 v907
  let v909 : BitVec 1 := Scalar.cmpi .ne v903 v908
  let v910 : BitVec 32 := Scalar.remsi v897 c2_i32_436
  let c0_i32_441 : BitVec 32 := 0#32
  let v911 : BitVec 1 := Scalar.cmpi .ne v910 c0_i32_441
  let v912 : BitVec 1 := Scalar.andi v909 v911
  let v898 : BitVec 32 := Scalar.divsi v897 c2_i32_436
  let c1_i32_442 : BitVec 32 := 1#32
  let v913 : BitVec 32 := Scalar.subi v898 c1_i32_442
  let v914 : BitVec 32 := Scalar.select v912 v913 v898
  let v915 : BitVec 32 := Scalar.maxsi c0_i32_443 v914
  let v916 : BitVec 32 := Scalar.minsi v893 v915
  let c1_i32_454 : BitVec 32 := 1#32
  let arg23 : BitVec 32 := Scf.iv v916 c1_i32_454 k0_t63
  let v1305 : BitVec 32 := Scalar.addi v1304 arg23
  let c0_i32_615 : BitVec 32 := 0#32
  ![v1305.toNat, 0]
def k0_off168 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_433 : BitVec 32 := 16#32
  let v894 : BitVec 32 := Scalar.muli arg21 c16_i32_433
  let c10_i32 : BitVec 32 := 10#32
  let v895 : BitVec 32 := Scalar.addi v894 c10_i32
  let c128_i32_434 : BitVec 32 := 128#32
  let v896 : BitVec 32 := Scalar.muli v895 c128_i32_434
  ![0, v896.toNat]
@[reducible] def k0_t64_loop (v873 : BitVec 32) (v875 : BitVec 32) : Scf.Loop 32 :=
  let c1_i32_425 : BitVec 32 := 1#32
  let v876 : BitVec 32 := Scalar.addi v873 c1_i32_425
  let c0_i32_427 : BitVec 32 := 0#32
  let v878 : BitVec 1 := Scalar.cmpi .sgt v876 c0_i32_427
  let v879 : BitVec 32 := Scalar.extui v878
  let c0_i32_428 : BitVec 32 := 0#32
  let v880 : BitVec 1 := Scalar.cmpi .slt v876 c0_i32_428
  let v881 : BitVec 32 := Scalar.extui v880
  let v882 : BitVec 32 := Scalar.subi v879 v881
  let c2_i32_426 : BitVec 32 := 2#32
  let c0_i32_429 : BitVec 32 := 0#32
  let v883 : BitVec 1 := Scalar.cmpi .sgt c2_i32_426 c0_i32_429
  let v884 : BitVec 32 := Scalar.extui v883
  let c0_i32_430 : BitVec 32 := 0#32
  let v885 : BitVec 1 := Scalar.cmpi .slt c2_i32_426 c0_i32_430
  let v886 : BitVec 32 := Scalar.extui v885
  let v887 : BitVec 32 := Scalar.subi v884 v886
  let v888 : BitVec 1 := Scalar.cmpi .ne v882 v887
  let v889 : BitVec 32 := Scalar.remsi v876 c2_i32_426
  let c0_i32_431 : BitVec 32 := 0#32
  let v890 : BitVec 1 := Scalar.cmpi .ne v889 c0_i32_431
  let v891 : BitVec 1 := Scalar.andi v888 v890
  let v877 : BitVec 32 := Scalar.divsi v876 c2_i32_426
  let c1_i32_432 : BitVec 32 := 1#32
  let v892 : BitVec 32 := Scalar.subi v877 c1_i32_432
  let v893 : BitVec 32 := Scalar.select v891 v892 v877
  let c0_i32_443 : BitVec 32 := 0#32
  let c384_i32_435 : BitVec 32 := 384#32
  let v897 : BitVec 32 := Scalar.subi c384_i32_435 v875
  let c0_i32_437 : BitVec 32 := 0#32
  let v899 : BitVec 1 := Scalar.cmpi .sgt v897 c0_i32_437
  let v900 : BitVec 32 := Scalar.extui v899
  let c0_i32_438 : BitVec 32 := 0#32
  let v901 : BitVec 1 := Scalar.cmpi .slt v897 c0_i32_438
  let v902 : BitVec 32 := Scalar.extui v901
  let v903 : BitVec 32 := Scalar.subi v900 v902
  let c2_i32_436 : BitVec 32 := 2#32
  let c0_i32_439 : BitVec 32 := 0#32
  let v904 : BitVec 1 := Scalar.cmpi .sgt c2_i32_436 c0_i32_439
  let v905 : BitVec 32 := Scalar.extui v904
  let c0_i32_440 : BitVec 32 := 0#32
  let v906 : BitVec 1 := Scalar.cmpi .slt c2_i32_436 c0_i32_440
  let v907 : BitVec 32 := Scalar.extui v906
  let v908 : BitVec 32 := Scalar.subi v905 v907
  let v909 : BitVec 1 := Scalar.cmpi .ne v903 v908
  let v910 : BitVec 32 := Scalar.remsi v897 c2_i32_436
  let c0_i32_441 : BitVec 32 := 0#32
  let v911 : BitVec 1 := Scalar.cmpi .ne v910 c0_i32_441
  let v912 : BitVec 1 := Scalar.andi v909 v911
  let v898 : BitVec 32 := Scalar.divsi v897 c2_i32_436
  let c1_i32_442 : BitVec 32 := 1#32
  let v913 : BitVec 32 := Scalar.subi v898 c1_i32_442
  let v914 : BitVec 32 := Scalar.select v912 v913 v898
  let v915 : BitVec 32 := Scalar.maxsi c0_i32_443 v914
  let v916 : BitVec 32 := Scalar.minsi v893 v915
  let c0_i32_452 : BitVec 32 := 0#32
  let c768_i32_444 : BitVec 32 := 768#32
  let v917 : BitVec 32 := Scalar.subi c768_i32_444 v875
  let c0_i32_446 : BitVec 32 := 0#32
  let v919 : BitVec 1 := Scalar.cmpi .sgt v917 c0_i32_446
  let v920 : BitVec 32 := Scalar.extui v919
  let c0_i32_447 : BitVec 32 := 0#32
  let v921 : BitVec 1 := Scalar.cmpi .slt v917 c0_i32_447
  let v922 : BitVec 32 := Scalar.extui v921
  let v923 : BitVec 32 := Scalar.subi v920 v922
  let c2_i32_445 : BitVec 32 := 2#32
  let c0_i32_448 : BitVec 32 := 0#32
  let v924 : BitVec 1 := Scalar.cmpi .sgt c2_i32_445 c0_i32_448
  let v925 : BitVec 32 := Scalar.extui v924
  let c0_i32_449 : BitVec 32 := 0#32
  let v926 : BitVec 1 := Scalar.cmpi .slt c2_i32_445 c0_i32_449
  let v927 : BitVec 32 := Scalar.extui v926
  let v928 : BitVec 32 := Scalar.subi v925 v927
  let v929 : BitVec 1 := Scalar.cmpi .ne v923 v928
  let v930 : BitVec 32 := Scalar.remsi v917 c2_i32_445
  let c0_i32_450 : BitVec 32 := 0#32
  let v931 : BitVec 1 := Scalar.cmpi .ne v930 c0_i32_450
  let v932 : BitVec 1 := Scalar.andi v929 v931
  let v918 : BitVec 32 := Scalar.divsi v917 c2_i32_445
  let c1_i32_451 : BitVec 32 := 1#32
  let v933 : BitVec 32 := Scalar.subi v918 c1_i32_451
  let v934 : BitVec 32 := Scalar.select v932 v933 v918
  let v935 : BitVec 32 := Scalar.maxsi c0_i32_452 v934
  let v936 : BitVec 32 := Scalar.minsi v893 v935
  let v937 : BitVec 32 := Scalar.subi v936 v916
  let c1_i32_453 : BitVec 32 := 1#32
  let v939 : BitVec 32 := Scalar.divsi v937 c1_i32_453
  let v940 : BitVec 32 := Scalar.muli v939 c1_i32_453
  let v941 : BitVec 32 := Scalar.addi v916 v940
  let v938 : BitVec 32 := Scalar.addi v916 v937
  let c1_i32_455 : BitVec 32 := 1#32
  ⟨v941, v938, c1_i32_455⟩
def k0_off169 (v873 : BitVec 32) (v875 : BitVec 32) (k0_t64 : Fin (k0_t64_loop v873 v875).trips) : Fin 2 → Nat :=
  let c1_i32_425 : BitVec 32 := 1#32
  let v876 : BitVec 32 := Scalar.addi v873 c1_i32_425
  let c0_i32_427 : BitVec 32 := 0#32
  let v878 : BitVec 1 := Scalar.cmpi .sgt v876 c0_i32_427
  let v879 : BitVec 32 := Scalar.extui v878
  let c0_i32_428 : BitVec 32 := 0#32
  let v880 : BitVec 1 := Scalar.cmpi .slt v876 c0_i32_428
  let v881 : BitVec 32 := Scalar.extui v880
  let v882 : BitVec 32 := Scalar.subi v879 v881
  let c2_i32_426 : BitVec 32 := 2#32
  let c0_i32_429 : BitVec 32 := 0#32
  let v883 : BitVec 1 := Scalar.cmpi .sgt c2_i32_426 c0_i32_429
  let v884 : BitVec 32 := Scalar.extui v883
  let c0_i32_430 : BitVec 32 := 0#32
  let v885 : BitVec 1 := Scalar.cmpi .slt c2_i32_426 c0_i32_430
  let v886 : BitVec 32 := Scalar.extui v885
  let v887 : BitVec 32 := Scalar.subi v884 v886
  let v888 : BitVec 1 := Scalar.cmpi .ne v882 v887
  let v889 : BitVec 32 := Scalar.remsi v876 c2_i32_426
  let c0_i32_431 : BitVec 32 := 0#32
  let v890 : BitVec 1 := Scalar.cmpi .ne v889 c0_i32_431
  let v891 : BitVec 1 := Scalar.andi v888 v890
  let v877 : BitVec 32 := Scalar.divsi v876 c2_i32_426
  let c1_i32_432 : BitVec 32 := 1#32
  let v892 : BitVec 32 := Scalar.subi v877 c1_i32_432
  let v893 : BitVec 32 := Scalar.select v891 v892 v877
  let c0_i32_443 : BitVec 32 := 0#32
  let c384_i32_435 : BitVec 32 := 384#32
  let v897 : BitVec 32 := Scalar.subi c384_i32_435 v875
  let c0_i32_437 : BitVec 32 := 0#32
  let v899 : BitVec 1 := Scalar.cmpi .sgt v897 c0_i32_437
  let v900 : BitVec 32 := Scalar.extui v899
  let c0_i32_438 : BitVec 32 := 0#32
  let v901 : BitVec 1 := Scalar.cmpi .slt v897 c0_i32_438
  let v902 : BitVec 32 := Scalar.extui v901
  let v903 : BitVec 32 := Scalar.subi v900 v902
  let c2_i32_436 : BitVec 32 := 2#32
  let c0_i32_439 : BitVec 32 := 0#32
  let v904 : BitVec 1 := Scalar.cmpi .sgt c2_i32_436 c0_i32_439
  let v905 : BitVec 32 := Scalar.extui v904
  let c0_i32_440 : BitVec 32 := 0#32
  let v906 : BitVec 1 := Scalar.cmpi .slt c2_i32_436 c0_i32_440
  let v907 : BitVec 32 := Scalar.extui v906
  let v908 : BitVec 32 := Scalar.subi v905 v907
  let v909 : BitVec 1 := Scalar.cmpi .ne v903 v908
  let v910 : BitVec 32 := Scalar.remsi v897 c2_i32_436
  let c0_i32_441 : BitVec 32 := 0#32
  let v911 : BitVec 1 := Scalar.cmpi .ne v910 c0_i32_441
  let v912 : BitVec 1 := Scalar.andi v909 v911
  let v898 : BitVec 32 := Scalar.divsi v897 c2_i32_436
  let c1_i32_442 : BitVec 32 := 1#32
  let v913 : BitVec 32 := Scalar.subi v898 c1_i32_442
  let v914 : BitVec 32 := Scalar.select v912 v913 v898
  let v915 : BitVec 32 := Scalar.maxsi c0_i32_443 v914
  let v916 : BitVec 32 := Scalar.minsi v893 v915
  let c0_i32_452 : BitVec 32 := 0#32
  let c768_i32_444 : BitVec 32 := 768#32
  let v917 : BitVec 32 := Scalar.subi c768_i32_444 v875
  let c0_i32_446 : BitVec 32 := 0#32
  let v919 : BitVec 1 := Scalar.cmpi .sgt v917 c0_i32_446
  let v920 : BitVec 32 := Scalar.extui v919
  let c0_i32_447 : BitVec 32 := 0#32
  let v921 : BitVec 1 := Scalar.cmpi .slt v917 c0_i32_447
  let v922 : BitVec 32 := Scalar.extui v921
  let v923 : BitVec 32 := Scalar.subi v920 v922
  let c2_i32_445 : BitVec 32 := 2#32
  let c0_i32_448 : BitVec 32 := 0#32
  let v924 : BitVec 1 := Scalar.cmpi .sgt c2_i32_445 c0_i32_448
  let v925 : BitVec 32 := Scalar.extui v924
  let c0_i32_449 : BitVec 32 := 0#32
  let v926 : BitVec 1 := Scalar.cmpi .slt c2_i32_445 c0_i32_449
  let v927 : BitVec 32 := Scalar.extui v926
  let v928 : BitVec 32 := Scalar.subi v925 v927
  let v929 : BitVec 1 := Scalar.cmpi .ne v923 v928
  let v930 : BitVec 32 := Scalar.remsi v917 c2_i32_445
  let c0_i32_450 : BitVec 32 := 0#32
  let v931 : BitVec 1 := Scalar.cmpi .ne v930 c0_i32_450
  let v932 : BitVec 1 := Scalar.andi v929 v931
  let v918 : BitVec 32 := Scalar.divsi v917 c2_i32_445
  let c1_i32_451 : BitVec 32 := 1#32
  let v933 : BitVec 32 := Scalar.subi v918 c1_i32_451
  let v934 : BitVec 32 := Scalar.select v932 v933 v918
  let v935 : BitVec 32 := Scalar.maxsi c0_i32_452 v934
  let v936 : BitVec 32 := Scalar.minsi v893 v935
  let v937 : BitVec 32 := Scalar.subi v936 v916
  let c1_i32_453 : BitVec 32 := 1#32
  let v939 : BitVec 32 := Scalar.divsi v937 c1_i32_453
  let v940 : BitVec 32 := Scalar.muli v939 c1_i32_453
  let v941 : BitVec 32 := Scalar.addi v916 v940
  let c1_i32_455 : BitVec 32 := 1#32
  let arg23 : BitVec 32 := Scf.iv v941 c1_i32_455 k0_t64
  let c2_i32_612 : BitVec 32 := 2#32
  let v1306 : BitVec 32 := Scalar.muli arg23 c2_i32_612
  let v1307 : BitVec 32 := Scalar.addi v875 v1306
  let c384_i32_613 : BitVec 32 := 384#32
  let v1308 : BitVec 32 := Scalar.subi v1307 c384_i32_613
  let c0_i32_614 : BitVec 32 := 0#32
  ![v1308.toNat, 0]
def k0_off170 (v873 : BitVec 32) (v875 : BitVec 32) (k0_t64 : Fin (k0_t64_loop v873 v875).trips) : Fin 2 → Nat :=
  let c1_i32_611 : BitVec 32 := 1#32
  let v1304 : BitVec 32 := Scalar.shrsi v875 c1_i32_611
  let c1_i32_425 : BitVec 32 := 1#32
  let v876 : BitVec 32 := Scalar.addi v873 c1_i32_425
  let c0_i32_427 : BitVec 32 := 0#32
  let v878 : BitVec 1 := Scalar.cmpi .sgt v876 c0_i32_427
  let v879 : BitVec 32 := Scalar.extui v878
  let c0_i32_428 : BitVec 32 := 0#32
  let v880 : BitVec 1 := Scalar.cmpi .slt v876 c0_i32_428
  let v881 : BitVec 32 := Scalar.extui v880
  let v882 : BitVec 32 := Scalar.subi v879 v881
  let c2_i32_426 : BitVec 32 := 2#32
  let c0_i32_429 : BitVec 32 := 0#32
  let v883 : BitVec 1 := Scalar.cmpi .sgt c2_i32_426 c0_i32_429
  let v884 : BitVec 32 := Scalar.extui v883
  let c0_i32_430 : BitVec 32 := 0#32
  let v885 : BitVec 1 := Scalar.cmpi .slt c2_i32_426 c0_i32_430
  let v886 : BitVec 32 := Scalar.extui v885
  let v887 : BitVec 32 := Scalar.subi v884 v886
  let v888 : BitVec 1 := Scalar.cmpi .ne v882 v887
  let v889 : BitVec 32 := Scalar.remsi v876 c2_i32_426
  let c0_i32_431 : BitVec 32 := 0#32
  let v890 : BitVec 1 := Scalar.cmpi .ne v889 c0_i32_431
  let v891 : BitVec 1 := Scalar.andi v888 v890
  let v877 : BitVec 32 := Scalar.divsi v876 c2_i32_426
  let c1_i32_432 : BitVec 32 := 1#32
  let v892 : BitVec 32 := Scalar.subi v877 c1_i32_432
  let v893 : BitVec 32 := Scalar.select v891 v892 v877
  let c0_i32_443 : BitVec 32 := 0#32
  let c384_i32_435 : BitVec 32 := 384#32
  let v897 : BitVec 32 := Scalar.subi c384_i32_435 v875
  let c0_i32_437 : BitVec 32 := 0#32
  let v899 : BitVec 1 := Scalar.cmpi .sgt v897 c0_i32_437
  let v900 : BitVec 32 := Scalar.extui v899
  let c0_i32_438 : BitVec 32 := 0#32
  let v901 : BitVec 1 := Scalar.cmpi .slt v897 c0_i32_438
  let v902 : BitVec 32 := Scalar.extui v901
  let v903 : BitVec 32 := Scalar.subi v900 v902
  let c2_i32_436 : BitVec 32 := 2#32
  let c0_i32_439 : BitVec 32 := 0#32
  let v904 : BitVec 1 := Scalar.cmpi .sgt c2_i32_436 c0_i32_439
  let v905 : BitVec 32 := Scalar.extui v904
  let c0_i32_440 : BitVec 32 := 0#32
  let v906 : BitVec 1 := Scalar.cmpi .slt c2_i32_436 c0_i32_440
  let v907 : BitVec 32 := Scalar.extui v906
  let v908 : BitVec 32 := Scalar.subi v905 v907
  let v909 : BitVec 1 := Scalar.cmpi .ne v903 v908
  let v910 : BitVec 32 := Scalar.remsi v897 c2_i32_436
  let c0_i32_441 : BitVec 32 := 0#32
  let v911 : BitVec 1 := Scalar.cmpi .ne v910 c0_i32_441
  let v912 : BitVec 1 := Scalar.andi v909 v911
  let v898 : BitVec 32 := Scalar.divsi v897 c2_i32_436
  let c1_i32_442 : BitVec 32 := 1#32
  let v913 : BitVec 32 := Scalar.subi v898 c1_i32_442
  let v914 : BitVec 32 := Scalar.select v912 v913 v898
  let v915 : BitVec 32 := Scalar.maxsi c0_i32_443 v914
  let v916 : BitVec 32 := Scalar.minsi v893 v915
  let c0_i32_452 : BitVec 32 := 0#32
  let c768_i32_444 : BitVec 32 := 768#32
  let v917 : BitVec 32 := Scalar.subi c768_i32_444 v875
  let c0_i32_446 : BitVec 32 := 0#32
  let v919 : BitVec 1 := Scalar.cmpi .sgt v917 c0_i32_446
  let v920 : BitVec 32 := Scalar.extui v919
  let c0_i32_447 : BitVec 32 := 0#32
  let v921 : BitVec 1 := Scalar.cmpi .slt v917 c0_i32_447
  let v922 : BitVec 32 := Scalar.extui v921
  let v923 : BitVec 32 := Scalar.subi v920 v922
  let c2_i32_445 : BitVec 32 := 2#32
  let c0_i32_448 : BitVec 32 := 0#32
  let v924 : BitVec 1 := Scalar.cmpi .sgt c2_i32_445 c0_i32_448
  let v925 : BitVec 32 := Scalar.extui v924
  let c0_i32_449 : BitVec 32 := 0#32
  let v926 : BitVec 1 := Scalar.cmpi .slt c2_i32_445 c0_i32_449
  let v927 : BitVec 32 := Scalar.extui v926
  let v928 : BitVec 32 := Scalar.subi v925 v927
  let v929 : BitVec 1 := Scalar.cmpi .ne v923 v928
  let v930 : BitVec 32 := Scalar.remsi v917 c2_i32_445
  let c0_i32_450 : BitVec 32 := 0#32
  let v931 : BitVec 1 := Scalar.cmpi .ne v930 c0_i32_450
  let v932 : BitVec 1 := Scalar.andi v929 v931
  let v918 : BitVec 32 := Scalar.divsi v917 c2_i32_445
  let c1_i32_451 : BitVec 32 := 1#32
  let v933 : BitVec 32 := Scalar.subi v918 c1_i32_451
  let v934 : BitVec 32 := Scalar.select v932 v933 v918
  let v935 : BitVec 32 := Scalar.maxsi c0_i32_452 v934
  let v936 : BitVec 32 := Scalar.minsi v893 v935
  let v937 : BitVec 32 := Scalar.subi v936 v916
  let c1_i32_453 : BitVec 32 := 1#32
  let v939 : BitVec 32 := Scalar.divsi v937 c1_i32_453
  let v940 : BitVec 32 := Scalar.muli v939 c1_i32_453
  let v941 : BitVec 32 := Scalar.addi v916 v940
  let c1_i32_455 : BitVec 32 := 1#32
  let arg23 : BitVec 32 := Scf.iv v941 c1_i32_455 k0_t64
  let v1305 : BitVec 32 := Scalar.addi v1304 arg23
  let c0_i32_615 : BitVec 32 := 0#32
  ![v1305.toNat, 0]

def k0_chk35 (v873 : BitVec 32) (v875 : BitVec 32) : Prop :=
  ((k0_t63_loop v873 v875).OK) ∧
  (∀ k0_t63 : Fin (k0_t63_loop v873 v875).trips, ∀ a, (k0_off166 v873 v875 k0_t63) a + S2x128.size a ≤ S384x128.size a) ∧
  (∀ k0_t63 : Fin (k0_t63_loop v873 v875).trips, ∀ a, (k0_off167 v873 v875 k0_t63) a + S1x2.size a ≤ S584x2.size a) ∧
  ((k0_t64_loop v873 v875).OK) ∧
  (∀ k0_t64 : Fin (k0_t64_loop v873 v875).trips, ∀ a, (k0_off169 v873 v875 k0_t64) a + S2x128.size a ≤ S384x128.size a) ∧
  (∀ k0_t64 : Fin (k0_t64_loop v873 v875).trips, ∀ a, (k0_off170 v873 v875 k0_t64) a + S1x2.size a ≤ S584x2.size a)
theorem k0_t63_ok : ∀ (v873 : BitVec 32) (v875 : BitVec 32) (k0_hw35 : k0_chk35 v873 v875), (k0_t63_loop v873 v875).OK := fun v873 v875 k0_hw35 => k0_hw35.1
theorem k0_off166_inb : ∀ (v873 : BitVec 32) (v875 : BitVec 32) (k0_hw35 : k0_chk35 v873 v875) (k0_t63 : Fin (k0_t63_loop v873 v875).trips), ∀ a, (k0_off166 v873 v875 k0_t63) a + S2x128.size a ≤ S384x128.size a := fun v873 v875 k0_hw35 k0_t63 => k0_hw35.2.1 k0_t63
theorem k0_off167_inb : ∀ (v873 : BitVec 32) (v875 : BitVec 32) (k0_hw35 : k0_chk35 v873 v875) (k0_t63 : Fin (k0_t63_loop v873 v875).trips), ∀ a, (k0_off167 v873 v875 k0_t63) a + S1x2.size a ≤ S584x2.size a := fun v873 v875 k0_hw35 k0_t63 => k0_hw35.2.2.1 k0_t63
theorem k0_t64_ok : ∀ (v873 : BitVec 32) (v875 : BitVec 32) (k0_hw35 : k0_chk35 v873 v875), (k0_t64_loop v873 v875).OK := fun v873 v875 k0_hw35 => k0_hw35.2.2.2.1
theorem k0_off169_inb : ∀ (v873 : BitVec 32) (v875 : BitVec 32) (k0_hw35 : k0_chk35 v873 v875) (k0_t64 : Fin (k0_t64_loop v873 v875).trips), ∀ a, (k0_off169 v873 v875 k0_t64) a + S2x128.size a ≤ S384x128.size a := fun v873 v875 k0_hw35 k0_t64 => k0_hw35.2.2.2.2.1 k0_t64
theorem k0_off170_inb : ∀ (v873 : BitVec 32) (v875 : BitVec 32) (k0_hw35 : k0_chk35 v873 v875) (k0_t64 : Fin (k0_t64_loop v873 v875).trips), ∀ a, (k0_off170 v873 v875 k0_t64) a + S1x2.size a ≤ S584x2.size a := fun v873 v875 k0_hw35 k0_t64 => k0_hw35.2.2.2.2.2 k0_t64

def k0_off171 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_433 : BitVec 32 := 16#32
  let v894 : BitVec 32 := Scalar.muli arg21 c16_i32_433
  let c10_i32 : BitVec 32 := 10#32
  let v895 : BitVec 32 := Scalar.addi v894 c10_i32
  let c128_i32_434 : BitVec 32 := 128#32
  let v896 : BitVec 32 := Scalar.muli v895 c128_i32_434
  ![0, v896.toNat]
@[reducible] def k0_t65_loop (v945 : BitVec 32) (v947 : BitVec 32) : Scf.Loop 32 :=
  let c1_i32_456 : BitVec 32 := 1#32
  let v948 : BitVec 32 := Scalar.addi v945 c1_i32_456
  let c0_i32_458 : BitVec 32 := 0#32
  let v950 : BitVec 1 := Scalar.cmpi .sgt v948 c0_i32_458
  let v951 : BitVec 32 := Scalar.extui v950
  let c0_i32_459 : BitVec 32 := 0#32
  let v952 : BitVec 1 := Scalar.cmpi .slt v948 c0_i32_459
  let v953 : BitVec 32 := Scalar.extui v952
  let v954 : BitVec 32 := Scalar.subi v951 v953
  let c2_i32_457 : BitVec 32 := 2#32
  let c0_i32_460 : BitVec 32 := 0#32
  let v955 : BitVec 1 := Scalar.cmpi .sgt c2_i32_457 c0_i32_460
  let v956 : BitVec 32 := Scalar.extui v955
  let c0_i32_461 : BitVec 32 := 0#32
  let v957 : BitVec 1 := Scalar.cmpi .slt c2_i32_457 c0_i32_461
  let v958 : BitVec 32 := Scalar.extui v957
  let v959 : BitVec 32 := Scalar.subi v956 v958
  let v960 : BitVec 1 := Scalar.cmpi .ne v954 v959
  let v961 : BitVec 32 := Scalar.remsi v948 c2_i32_457
  let c0_i32_462 : BitVec 32 := 0#32
  let v962 : BitVec 1 := Scalar.cmpi .ne v961 c0_i32_462
  let v963 : BitVec 1 := Scalar.andi v960 v962
  let v949 : BitVec 32 := Scalar.divsi v948 c2_i32_457
  let c1_i32_463 : BitVec 32 := 1#32
  let v964 : BitVec 32 := Scalar.subi v949 c1_i32_463
  let v965 : BitVec 32 := Scalar.select v963 v964 v949
  let c0_i32_474 : BitVec 32 := 0#32
  let c384_i32_466 : BitVec 32 := 384#32
  let v969 : BitVec 32 := Scalar.subi c384_i32_466 v947
  let c0_i32_468 : BitVec 32 := 0#32
  let v971 : BitVec 1 := Scalar.cmpi .sgt v969 c0_i32_468
  let v972 : BitVec 32 := Scalar.extui v971
  let c0_i32_469 : BitVec 32 := 0#32
  let v973 : BitVec 1 := Scalar.cmpi .slt v969 c0_i32_469
  let v974 : BitVec 32 := Scalar.extui v973
  let v975 : BitVec 32 := Scalar.subi v972 v974
  let c2_i32_467 : BitVec 32 := 2#32
  let c0_i32_470 : BitVec 32 := 0#32
  let v976 : BitVec 1 := Scalar.cmpi .sgt c2_i32_467 c0_i32_470
  let v977 : BitVec 32 := Scalar.extui v976
  let c0_i32_471 : BitVec 32 := 0#32
  let v978 : BitVec 1 := Scalar.cmpi .slt c2_i32_467 c0_i32_471
  let v979 : BitVec 32 := Scalar.extui v978
  let v980 : BitVec 32 := Scalar.subi v977 v979
  let v981 : BitVec 1 := Scalar.cmpi .ne v975 v980
  let v982 : BitVec 32 := Scalar.remsi v969 c2_i32_467
  let c0_i32_472 : BitVec 32 := 0#32
  let v983 : BitVec 1 := Scalar.cmpi .ne v982 c0_i32_472
  let v984 : BitVec 1 := Scalar.andi v981 v983
  let v970 : BitVec 32 := Scalar.divsi v969 c2_i32_467
  let c1_i32_473 : BitVec 32 := 1#32
  let v985 : BitVec 32 := Scalar.subi v970 c1_i32_473
  let v986 : BitVec 32 := Scalar.select v984 v985 v970
  let v987 : BitVec 32 := Scalar.maxsi c0_i32_474 v986
  let v988 : BitVec 32 := Scalar.minsi v965 v987
  let c0_i32_483 : BitVec 32 := 0#32
  let c768_i32_475 : BitVec 32 := 768#32
  let v989 : BitVec 32 := Scalar.subi c768_i32_475 v947
  let c0_i32_477 : BitVec 32 := 0#32
  let v991 : BitVec 1 := Scalar.cmpi .sgt v989 c0_i32_477
  let v992 : BitVec 32 := Scalar.extui v991
  let c0_i32_478 : BitVec 32 := 0#32
  let v993 : BitVec 1 := Scalar.cmpi .slt v989 c0_i32_478
  let v994 : BitVec 32 := Scalar.extui v993
  let v995 : BitVec 32 := Scalar.subi v992 v994
  let c2_i32_476 : BitVec 32 := 2#32
  let c0_i32_479 : BitVec 32 := 0#32
  let v996 : BitVec 1 := Scalar.cmpi .sgt c2_i32_476 c0_i32_479
  let v997 : BitVec 32 := Scalar.extui v996
  let c0_i32_480 : BitVec 32 := 0#32
  let v998 : BitVec 1 := Scalar.cmpi .slt c2_i32_476 c0_i32_480
  let v999 : BitVec 32 := Scalar.extui v998
  let v1000 : BitVec 32 := Scalar.subi v997 v999
  let v1001 : BitVec 1 := Scalar.cmpi .ne v995 v1000
  let v1002 : BitVec 32 := Scalar.remsi v989 c2_i32_476
  let c0_i32_481 : BitVec 32 := 0#32
  let v1003 : BitVec 1 := Scalar.cmpi .ne v1002 c0_i32_481
  let v1004 : BitVec 1 := Scalar.andi v1001 v1003
  let v990 : BitVec 32 := Scalar.divsi v989 c2_i32_476
  let c1_i32_482 : BitVec 32 := 1#32
  let v1005 : BitVec 32 := Scalar.subi v990 c1_i32_482
  let v1006 : BitVec 32 := Scalar.select v1004 v1005 v990
  let v1007 : BitVec 32 := Scalar.maxsi c0_i32_483 v1006
  let v1008 : BitVec 32 := Scalar.minsi v965 v1007
  let v1009 : BitVec 32 := Scalar.subi v1008 v988
  let c1_i32_484 : BitVec 32 := 1#32
  let v1011 : BitVec 32 := Scalar.divsi v1009 c1_i32_484
  let v1012 : BitVec 32 := Scalar.muli v1011 c1_i32_484
  let v1013 : BitVec 32 := Scalar.addi v988 v1012
  let c1_i32_485 : BitVec 32 := 1#32
  ⟨v988, v1013, c1_i32_485⟩

def k0_off172 (v945 : BitVec 32) (v947 : BitVec 32) (k0_t65 : Fin (k0_t65_loop v945 v947).trips) : Fin 2 → Nat :=
  let c1_i32_456 : BitVec 32 := 1#32
  let v948 : BitVec 32 := Scalar.addi v945 c1_i32_456
  let c0_i32_458 : BitVec 32 := 0#32
  let v950 : BitVec 1 := Scalar.cmpi .sgt v948 c0_i32_458
  let v951 : BitVec 32 := Scalar.extui v950
  let c0_i32_459 : BitVec 32 := 0#32
  let v952 : BitVec 1 := Scalar.cmpi .slt v948 c0_i32_459
  let v953 : BitVec 32 := Scalar.extui v952
  let v954 : BitVec 32 := Scalar.subi v951 v953
  let c2_i32_457 : BitVec 32 := 2#32
  let c0_i32_460 : BitVec 32 := 0#32
  let v955 : BitVec 1 := Scalar.cmpi .sgt c2_i32_457 c0_i32_460
  let v956 : BitVec 32 := Scalar.extui v955
  let c0_i32_461 : BitVec 32 := 0#32
  let v957 : BitVec 1 := Scalar.cmpi .slt c2_i32_457 c0_i32_461
  let v958 : BitVec 32 := Scalar.extui v957
  let v959 : BitVec 32 := Scalar.subi v956 v958
  let v960 : BitVec 1 := Scalar.cmpi .ne v954 v959
  let v961 : BitVec 32 := Scalar.remsi v948 c2_i32_457
  let c0_i32_462 : BitVec 32 := 0#32
  let v962 : BitVec 1 := Scalar.cmpi .ne v961 c0_i32_462
  let v963 : BitVec 1 := Scalar.andi v960 v962
  let v949 : BitVec 32 := Scalar.divsi v948 c2_i32_457
  let c1_i32_463 : BitVec 32 := 1#32
  let v964 : BitVec 32 := Scalar.subi v949 c1_i32_463
  let v965 : BitVec 32 := Scalar.select v963 v964 v949
  let c0_i32_474 : BitVec 32 := 0#32
  let c384_i32_466 : BitVec 32 := 384#32
  let v969 : BitVec 32 := Scalar.subi c384_i32_466 v947
  let c0_i32_468 : BitVec 32 := 0#32
  let v971 : BitVec 1 := Scalar.cmpi .sgt v969 c0_i32_468
  let v972 : BitVec 32 := Scalar.extui v971
  let c0_i32_469 : BitVec 32 := 0#32
  let v973 : BitVec 1 := Scalar.cmpi .slt v969 c0_i32_469
  let v974 : BitVec 32 := Scalar.extui v973
  let v975 : BitVec 32 := Scalar.subi v972 v974
  let c2_i32_467 : BitVec 32 := 2#32
  let c0_i32_470 : BitVec 32 := 0#32
  let v976 : BitVec 1 := Scalar.cmpi .sgt c2_i32_467 c0_i32_470
  let v977 : BitVec 32 := Scalar.extui v976
  let c0_i32_471 : BitVec 32 := 0#32
  let v978 : BitVec 1 := Scalar.cmpi .slt c2_i32_467 c0_i32_471
  let v979 : BitVec 32 := Scalar.extui v978
  let v980 : BitVec 32 := Scalar.subi v977 v979
  let v981 : BitVec 1 := Scalar.cmpi .ne v975 v980
  let v982 : BitVec 32 := Scalar.remsi v969 c2_i32_467
  let c0_i32_472 : BitVec 32 := 0#32
  let v983 : BitVec 1 := Scalar.cmpi .ne v982 c0_i32_472
  let v984 : BitVec 1 := Scalar.andi v981 v983
  let v970 : BitVec 32 := Scalar.divsi v969 c2_i32_467
  let c1_i32_473 : BitVec 32 := 1#32
  let v985 : BitVec 32 := Scalar.subi v970 c1_i32_473
  let v986 : BitVec 32 := Scalar.select v984 v985 v970
  let v987 : BitVec 32 := Scalar.maxsi c0_i32_474 v986
  let v988 : BitVec 32 := Scalar.minsi v965 v987
  let c1_i32_485 : BitVec 32 := 1#32
  let arg23 : BitVec 32 := Scf.iv v988 c1_i32_485 k0_t65
  let c2_i32_612 : BitVec 32 := 2#32
  let v1306 : BitVec 32 := Scalar.muli arg23 c2_i32_612
  let v1307 : BitVec 32 := Scalar.addi v947 v1306
  let c384_i32_613 : BitVec 32 := 384#32
  let v1308 : BitVec 32 := Scalar.subi v1307 c384_i32_613
  let c0_i32_614 : BitVec 32 := 0#32
  ![v1308.toNat, 0]
def k0_off173 (v945 : BitVec 32) (v947 : BitVec 32) (k0_t65 : Fin (k0_t65_loop v945 v947).trips) : Fin 2 → Nat :=
  let c1_i32_611 : BitVec 32 := 1#32
  let v1304 : BitVec 32 := Scalar.shrsi v947 c1_i32_611
  let c1_i32_456 : BitVec 32 := 1#32
  let v948 : BitVec 32 := Scalar.addi v945 c1_i32_456
  let c0_i32_458 : BitVec 32 := 0#32
  let v950 : BitVec 1 := Scalar.cmpi .sgt v948 c0_i32_458
  let v951 : BitVec 32 := Scalar.extui v950
  let c0_i32_459 : BitVec 32 := 0#32
  let v952 : BitVec 1 := Scalar.cmpi .slt v948 c0_i32_459
  let v953 : BitVec 32 := Scalar.extui v952
  let v954 : BitVec 32 := Scalar.subi v951 v953
  let c2_i32_457 : BitVec 32 := 2#32
  let c0_i32_460 : BitVec 32 := 0#32
  let v955 : BitVec 1 := Scalar.cmpi .sgt c2_i32_457 c0_i32_460
  let v956 : BitVec 32 := Scalar.extui v955
  let c0_i32_461 : BitVec 32 := 0#32
  let v957 : BitVec 1 := Scalar.cmpi .slt c2_i32_457 c0_i32_461
  let v958 : BitVec 32 := Scalar.extui v957
  let v959 : BitVec 32 := Scalar.subi v956 v958
  let v960 : BitVec 1 := Scalar.cmpi .ne v954 v959
  let v961 : BitVec 32 := Scalar.remsi v948 c2_i32_457
  let c0_i32_462 : BitVec 32 := 0#32
  let v962 : BitVec 1 := Scalar.cmpi .ne v961 c0_i32_462
  let v963 : BitVec 1 := Scalar.andi v960 v962
  let v949 : BitVec 32 := Scalar.divsi v948 c2_i32_457
  let c1_i32_463 : BitVec 32 := 1#32
  let v964 : BitVec 32 := Scalar.subi v949 c1_i32_463
  let v965 : BitVec 32 := Scalar.select v963 v964 v949
  let c0_i32_474 : BitVec 32 := 0#32
  let c384_i32_466 : BitVec 32 := 384#32
  let v969 : BitVec 32 := Scalar.subi c384_i32_466 v947
  let c0_i32_468 : BitVec 32 := 0#32
  let v971 : BitVec 1 := Scalar.cmpi .sgt v969 c0_i32_468
  let v972 : BitVec 32 := Scalar.extui v971
  let c0_i32_469 : BitVec 32 := 0#32
  let v973 : BitVec 1 := Scalar.cmpi .slt v969 c0_i32_469
  let v974 : BitVec 32 := Scalar.extui v973
  let v975 : BitVec 32 := Scalar.subi v972 v974
  let c2_i32_467 : BitVec 32 := 2#32
  let c0_i32_470 : BitVec 32 := 0#32
  let v976 : BitVec 1 := Scalar.cmpi .sgt c2_i32_467 c0_i32_470
  let v977 : BitVec 32 := Scalar.extui v976
  let c0_i32_471 : BitVec 32 := 0#32
  let v978 : BitVec 1 := Scalar.cmpi .slt c2_i32_467 c0_i32_471
  let v979 : BitVec 32 := Scalar.extui v978
  let v980 : BitVec 32 := Scalar.subi v977 v979
  let v981 : BitVec 1 := Scalar.cmpi .ne v975 v980
  let v982 : BitVec 32 := Scalar.remsi v969 c2_i32_467
  let c0_i32_472 : BitVec 32 := 0#32
  let v983 : BitVec 1 := Scalar.cmpi .ne v982 c0_i32_472
  let v984 : BitVec 1 := Scalar.andi v981 v983
  let v970 : BitVec 32 := Scalar.divsi v969 c2_i32_467
  let c1_i32_473 : BitVec 32 := 1#32
  let v985 : BitVec 32 := Scalar.subi v970 c1_i32_473
  let v986 : BitVec 32 := Scalar.select v984 v985 v970
  let v987 : BitVec 32 := Scalar.maxsi c0_i32_474 v986
  let v988 : BitVec 32 := Scalar.minsi v965 v987
  let c1_i32_485 : BitVec 32 := 1#32
  let arg23 : BitVec 32 := Scf.iv v988 c1_i32_485 k0_t65
  let v1305 : BitVec 32 := Scalar.addi v1304 arg23
  let c0_i32_615 : BitVec 32 := 0#32
  ![v1305.toNat, 0]
def k0_off174 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_464 : BitVec 32 := 16#32
  let v966 : BitVec 32 := Scalar.muli arg21 c16_i32_464
  let c11_i32 : BitVec 32 := 11#32
  let v967 : BitVec 32 := Scalar.addi v966 c11_i32
  let c128_i32_465 : BitVec 32 := 128#32
  let v968 : BitVec 32 := Scalar.muli v967 c128_i32_465
  ![0, v968.toNat]
@[reducible] def k0_t66_loop (v945 : BitVec 32) (v947 : BitVec 32) : Scf.Loop 32 :=
  let c1_i32_456 : BitVec 32 := 1#32
  let v948 : BitVec 32 := Scalar.addi v945 c1_i32_456
  let c0_i32_458 : BitVec 32 := 0#32
  let v950 : BitVec 1 := Scalar.cmpi .sgt v948 c0_i32_458
  let v951 : BitVec 32 := Scalar.extui v950
  let c0_i32_459 : BitVec 32 := 0#32
  let v952 : BitVec 1 := Scalar.cmpi .slt v948 c0_i32_459
  let v953 : BitVec 32 := Scalar.extui v952
  let v954 : BitVec 32 := Scalar.subi v951 v953
  let c2_i32_457 : BitVec 32 := 2#32
  let c0_i32_460 : BitVec 32 := 0#32
  let v955 : BitVec 1 := Scalar.cmpi .sgt c2_i32_457 c0_i32_460
  let v956 : BitVec 32 := Scalar.extui v955
  let c0_i32_461 : BitVec 32 := 0#32
  let v957 : BitVec 1 := Scalar.cmpi .slt c2_i32_457 c0_i32_461
  let v958 : BitVec 32 := Scalar.extui v957
  let v959 : BitVec 32 := Scalar.subi v956 v958
  let v960 : BitVec 1 := Scalar.cmpi .ne v954 v959
  let v961 : BitVec 32 := Scalar.remsi v948 c2_i32_457
  let c0_i32_462 : BitVec 32 := 0#32
  let v962 : BitVec 1 := Scalar.cmpi .ne v961 c0_i32_462
  let v963 : BitVec 1 := Scalar.andi v960 v962
  let v949 : BitVec 32 := Scalar.divsi v948 c2_i32_457
  let c1_i32_463 : BitVec 32 := 1#32
  let v964 : BitVec 32 := Scalar.subi v949 c1_i32_463
  let v965 : BitVec 32 := Scalar.select v963 v964 v949
  let c0_i32_474 : BitVec 32 := 0#32
  let c384_i32_466 : BitVec 32 := 384#32
  let v969 : BitVec 32 := Scalar.subi c384_i32_466 v947
  let c0_i32_468 : BitVec 32 := 0#32
  let v971 : BitVec 1 := Scalar.cmpi .sgt v969 c0_i32_468
  let v972 : BitVec 32 := Scalar.extui v971
  let c0_i32_469 : BitVec 32 := 0#32
  let v973 : BitVec 1 := Scalar.cmpi .slt v969 c0_i32_469
  let v974 : BitVec 32 := Scalar.extui v973
  let v975 : BitVec 32 := Scalar.subi v972 v974
  let c2_i32_467 : BitVec 32 := 2#32
  let c0_i32_470 : BitVec 32 := 0#32
  let v976 : BitVec 1 := Scalar.cmpi .sgt c2_i32_467 c0_i32_470
  let v977 : BitVec 32 := Scalar.extui v976
  let c0_i32_471 : BitVec 32 := 0#32
  let v978 : BitVec 1 := Scalar.cmpi .slt c2_i32_467 c0_i32_471
  let v979 : BitVec 32 := Scalar.extui v978
  let v980 : BitVec 32 := Scalar.subi v977 v979
  let v981 : BitVec 1 := Scalar.cmpi .ne v975 v980
  let v982 : BitVec 32 := Scalar.remsi v969 c2_i32_467
  let c0_i32_472 : BitVec 32 := 0#32
  let v983 : BitVec 1 := Scalar.cmpi .ne v982 c0_i32_472
  let v984 : BitVec 1 := Scalar.andi v981 v983
  let v970 : BitVec 32 := Scalar.divsi v969 c2_i32_467
  let c1_i32_473 : BitVec 32 := 1#32
  let v985 : BitVec 32 := Scalar.subi v970 c1_i32_473
  let v986 : BitVec 32 := Scalar.select v984 v985 v970
  let v987 : BitVec 32 := Scalar.maxsi c0_i32_474 v986
  let v988 : BitVec 32 := Scalar.minsi v965 v987
  let c0_i32_483 : BitVec 32 := 0#32
  let c768_i32_475 : BitVec 32 := 768#32
  let v989 : BitVec 32 := Scalar.subi c768_i32_475 v947
  let c0_i32_477 : BitVec 32 := 0#32
  let v991 : BitVec 1 := Scalar.cmpi .sgt v989 c0_i32_477
  let v992 : BitVec 32 := Scalar.extui v991
  let c0_i32_478 : BitVec 32 := 0#32
  let v993 : BitVec 1 := Scalar.cmpi .slt v989 c0_i32_478
  let v994 : BitVec 32 := Scalar.extui v993
  let v995 : BitVec 32 := Scalar.subi v992 v994
  let c2_i32_476 : BitVec 32 := 2#32
  let c0_i32_479 : BitVec 32 := 0#32
  let v996 : BitVec 1 := Scalar.cmpi .sgt c2_i32_476 c0_i32_479
  let v997 : BitVec 32 := Scalar.extui v996
  let c0_i32_480 : BitVec 32 := 0#32
  let v998 : BitVec 1 := Scalar.cmpi .slt c2_i32_476 c0_i32_480
  let v999 : BitVec 32 := Scalar.extui v998
  let v1000 : BitVec 32 := Scalar.subi v997 v999
  let v1001 : BitVec 1 := Scalar.cmpi .ne v995 v1000
  let v1002 : BitVec 32 := Scalar.remsi v989 c2_i32_476
  let c0_i32_481 : BitVec 32 := 0#32
  let v1003 : BitVec 1 := Scalar.cmpi .ne v1002 c0_i32_481
  let v1004 : BitVec 1 := Scalar.andi v1001 v1003
  let v990 : BitVec 32 := Scalar.divsi v989 c2_i32_476
  let c1_i32_482 : BitVec 32 := 1#32
  let v1005 : BitVec 32 := Scalar.subi v990 c1_i32_482
  let v1006 : BitVec 32 := Scalar.select v1004 v1005 v990
  let v1007 : BitVec 32 := Scalar.maxsi c0_i32_483 v1006
  let v1008 : BitVec 32 := Scalar.minsi v965 v1007
  let v1009 : BitVec 32 := Scalar.subi v1008 v988
  let c1_i32_484 : BitVec 32 := 1#32
  let v1011 : BitVec 32 := Scalar.divsi v1009 c1_i32_484
  let v1012 : BitVec 32 := Scalar.muli v1011 c1_i32_484
  let v1013 : BitVec 32 := Scalar.addi v988 v1012
  let v1010 : BitVec 32 := Scalar.addi v988 v1009
  let c1_i32_486 : BitVec 32 := 1#32
  ⟨v1013, v1010, c1_i32_486⟩
def k0_off175 (v945 : BitVec 32) (v947 : BitVec 32) (k0_t66 : Fin (k0_t66_loop v945 v947).trips) : Fin 2 → Nat :=
  let c1_i32_456 : BitVec 32 := 1#32
  let v948 : BitVec 32 := Scalar.addi v945 c1_i32_456
  let c0_i32_458 : BitVec 32 := 0#32
  let v950 : BitVec 1 := Scalar.cmpi .sgt v948 c0_i32_458
  let v951 : BitVec 32 := Scalar.extui v950
  let c0_i32_459 : BitVec 32 := 0#32
  let v952 : BitVec 1 := Scalar.cmpi .slt v948 c0_i32_459
  let v953 : BitVec 32 := Scalar.extui v952
  let v954 : BitVec 32 := Scalar.subi v951 v953
  let c2_i32_457 : BitVec 32 := 2#32
  let c0_i32_460 : BitVec 32 := 0#32
  let v955 : BitVec 1 := Scalar.cmpi .sgt c2_i32_457 c0_i32_460
  let v956 : BitVec 32 := Scalar.extui v955
  let c0_i32_461 : BitVec 32 := 0#32
  let v957 : BitVec 1 := Scalar.cmpi .slt c2_i32_457 c0_i32_461
  let v958 : BitVec 32 := Scalar.extui v957
  let v959 : BitVec 32 := Scalar.subi v956 v958
  let v960 : BitVec 1 := Scalar.cmpi .ne v954 v959
  let v961 : BitVec 32 := Scalar.remsi v948 c2_i32_457
  let c0_i32_462 : BitVec 32 := 0#32
  let v962 : BitVec 1 := Scalar.cmpi .ne v961 c0_i32_462
  let v963 : BitVec 1 := Scalar.andi v960 v962
  let v949 : BitVec 32 := Scalar.divsi v948 c2_i32_457
  let c1_i32_463 : BitVec 32 := 1#32
  let v964 : BitVec 32 := Scalar.subi v949 c1_i32_463
  let v965 : BitVec 32 := Scalar.select v963 v964 v949
  let c0_i32_474 : BitVec 32 := 0#32
  let c384_i32_466 : BitVec 32 := 384#32
  let v969 : BitVec 32 := Scalar.subi c384_i32_466 v947
  let c0_i32_468 : BitVec 32 := 0#32
  let v971 : BitVec 1 := Scalar.cmpi .sgt v969 c0_i32_468
  let v972 : BitVec 32 := Scalar.extui v971
  let c0_i32_469 : BitVec 32 := 0#32
  let v973 : BitVec 1 := Scalar.cmpi .slt v969 c0_i32_469
  let v974 : BitVec 32 := Scalar.extui v973
  let v975 : BitVec 32 := Scalar.subi v972 v974
  let c2_i32_467 : BitVec 32 := 2#32
  let c0_i32_470 : BitVec 32 := 0#32
  let v976 : BitVec 1 := Scalar.cmpi .sgt c2_i32_467 c0_i32_470
  let v977 : BitVec 32 := Scalar.extui v976
  let c0_i32_471 : BitVec 32 := 0#32
  let v978 : BitVec 1 := Scalar.cmpi .slt c2_i32_467 c0_i32_471
  let v979 : BitVec 32 := Scalar.extui v978
  let v980 : BitVec 32 := Scalar.subi v977 v979
  let v981 : BitVec 1 := Scalar.cmpi .ne v975 v980
  let v982 : BitVec 32 := Scalar.remsi v969 c2_i32_467
  let c0_i32_472 : BitVec 32 := 0#32
  let v983 : BitVec 1 := Scalar.cmpi .ne v982 c0_i32_472
  let v984 : BitVec 1 := Scalar.andi v981 v983
  let v970 : BitVec 32 := Scalar.divsi v969 c2_i32_467
  let c1_i32_473 : BitVec 32 := 1#32
  let v985 : BitVec 32 := Scalar.subi v970 c1_i32_473
  let v986 : BitVec 32 := Scalar.select v984 v985 v970
  let v987 : BitVec 32 := Scalar.maxsi c0_i32_474 v986
  let v988 : BitVec 32 := Scalar.minsi v965 v987
  let c0_i32_483 : BitVec 32 := 0#32
  let c768_i32_475 : BitVec 32 := 768#32
  let v989 : BitVec 32 := Scalar.subi c768_i32_475 v947
  let c0_i32_477 : BitVec 32 := 0#32
  let v991 : BitVec 1 := Scalar.cmpi .sgt v989 c0_i32_477
  let v992 : BitVec 32 := Scalar.extui v991
  let c0_i32_478 : BitVec 32 := 0#32
  let v993 : BitVec 1 := Scalar.cmpi .slt v989 c0_i32_478
  let v994 : BitVec 32 := Scalar.extui v993
  let v995 : BitVec 32 := Scalar.subi v992 v994
  let c2_i32_476 : BitVec 32 := 2#32
  let c0_i32_479 : BitVec 32 := 0#32
  let v996 : BitVec 1 := Scalar.cmpi .sgt c2_i32_476 c0_i32_479
  let v997 : BitVec 32 := Scalar.extui v996
  let c0_i32_480 : BitVec 32 := 0#32
  let v998 : BitVec 1 := Scalar.cmpi .slt c2_i32_476 c0_i32_480
  let v999 : BitVec 32 := Scalar.extui v998
  let v1000 : BitVec 32 := Scalar.subi v997 v999
  let v1001 : BitVec 1 := Scalar.cmpi .ne v995 v1000
  let v1002 : BitVec 32 := Scalar.remsi v989 c2_i32_476
  let c0_i32_481 : BitVec 32 := 0#32
  let v1003 : BitVec 1 := Scalar.cmpi .ne v1002 c0_i32_481
  let v1004 : BitVec 1 := Scalar.andi v1001 v1003
  let v990 : BitVec 32 := Scalar.divsi v989 c2_i32_476
  let c1_i32_482 : BitVec 32 := 1#32
  let v1005 : BitVec 32 := Scalar.subi v990 c1_i32_482
  let v1006 : BitVec 32 := Scalar.select v1004 v1005 v990
  let v1007 : BitVec 32 := Scalar.maxsi c0_i32_483 v1006
  let v1008 : BitVec 32 := Scalar.minsi v965 v1007
  let v1009 : BitVec 32 := Scalar.subi v1008 v988
  let c1_i32_484 : BitVec 32 := 1#32
  let v1011 : BitVec 32 := Scalar.divsi v1009 c1_i32_484
  let v1012 : BitVec 32 := Scalar.muli v1011 c1_i32_484
  let v1013 : BitVec 32 := Scalar.addi v988 v1012
  let c1_i32_486 : BitVec 32 := 1#32
  let arg23 : BitVec 32 := Scf.iv v1013 c1_i32_486 k0_t66
  let c2_i32_612 : BitVec 32 := 2#32
  let v1306 : BitVec 32 := Scalar.muli arg23 c2_i32_612
  let v1307 : BitVec 32 := Scalar.addi v947 v1306
  let c384_i32_613 : BitVec 32 := 384#32
  let v1308 : BitVec 32 := Scalar.subi v1307 c384_i32_613
  let c0_i32_614 : BitVec 32 := 0#32
  ![v1308.toNat, 0]
def k0_off176 (v945 : BitVec 32) (v947 : BitVec 32) (k0_t66 : Fin (k0_t66_loop v945 v947).trips) : Fin 2 → Nat :=
  let c1_i32_611 : BitVec 32 := 1#32
  let v1304 : BitVec 32 := Scalar.shrsi v947 c1_i32_611
  let c1_i32_456 : BitVec 32 := 1#32
  let v948 : BitVec 32 := Scalar.addi v945 c1_i32_456
  let c0_i32_458 : BitVec 32 := 0#32
  let v950 : BitVec 1 := Scalar.cmpi .sgt v948 c0_i32_458
  let v951 : BitVec 32 := Scalar.extui v950
  let c0_i32_459 : BitVec 32 := 0#32
  let v952 : BitVec 1 := Scalar.cmpi .slt v948 c0_i32_459
  let v953 : BitVec 32 := Scalar.extui v952
  let v954 : BitVec 32 := Scalar.subi v951 v953
  let c2_i32_457 : BitVec 32 := 2#32
  let c0_i32_460 : BitVec 32 := 0#32
  let v955 : BitVec 1 := Scalar.cmpi .sgt c2_i32_457 c0_i32_460
  let v956 : BitVec 32 := Scalar.extui v955
  let c0_i32_461 : BitVec 32 := 0#32
  let v957 : BitVec 1 := Scalar.cmpi .slt c2_i32_457 c0_i32_461
  let v958 : BitVec 32 := Scalar.extui v957
  let v959 : BitVec 32 := Scalar.subi v956 v958
  let v960 : BitVec 1 := Scalar.cmpi .ne v954 v959
  let v961 : BitVec 32 := Scalar.remsi v948 c2_i32_457
  let c0_i32_462 : BitVec 32 := 0#32
  let v962 : BitVec 1 := Scalar.cmpi .ne v961 c0_i32_462
  let v963 : BitVec 1 := Scalar.andi v960 v962
  let v949 : BitVec 32 := Scalar.divsi v948 c2_i32_457
  let c1_i32_463 : BitVec 32 := 1#32
  let v964 : BitVec 32 := Scalar.subi v949 c1_i32_463
  let v965 : BitVec 32 := Scalar.select v963 v964 v949
  let c0_i32_474 : BitVec 32 := 0#32
  let c384_i32_466 : BitVec 32 := 384#32
  let v969 : BitVec 32 := Scalar.subi c384_i32_466 v947
  let c0_i32_468 : BitVec 32 := 0#32
  let v971 : BitVec 1 := Scalar.cmpi .sgt v969 c0_i32_468
  let v972 : BitVec 32 := Scalar.extui v971
  let c0_i32_469 : BitVec 32 := 0#32
  let v973 : BitVec 1 := Scalar.cmpi .slt v969 c0_i32_469
  let v974 : BitVec 32 := Scalar.extui v973
  let v975 : BitVec 32 := Scalar.subi v972 v974
  let c2_i32_467 : BitVec 32 := 2#32
  let c0_i32_470 : BitVec 32 := 0#32
  let v976 : BitVec 1 := Scalar.cmpi .sgt c2_i32_467 c0_i32_470
  let v977 : BitVec 32 := Scalar.extui v976
  let c0_i32_471 : BitVec 32 := 0#32
  let v978 : BitVec 1 := Scalar.cmpi .slt c2_i32_467 c0_i32_471
  let v979 : BitVec 32 := Scalar.extui v978
  let v980 : BitVec 32 := Scalar.subi v977 v979
  let v981 : BitVec 1 := Scalar.cmpi .ne v975 v980
  let v982 : BitVec 32 := Scalar.remsi v969 c2_i32_467
  let c0_i32_472 : BitVec 32 := 0#32
  let v983 : BitVec 1 := Scalar.cmpi .ne v982 c0_i32_472
  let v984 : BitVec 1 := Scalar.andi v981 v983
  let v970 : BitVec 32 := Scalar.divsi v969 c2_i32_467
  let c1_i32_473 : BitVec 32 := 1#32
  let v985 : BitVec 32 := Scalar.subi v970 c1_i32_473
  let v986 : BitVec 32 := Scalar.select v984 v985 v970
  let v987 : BitVec 32 := Scalar.maxsi c0_i32_474 v986
  let v988 : BitVec 32 := Scalar.minsi v965 v987
  let c0_i32_483 : BitVec 32 := 0#32
  let c768_i32_475 : BitVec 32 := 768#32
  let v989 : BitVec 32 := Scalar.subi c768_i32_475 v947
  let c0_i32_477 : BitVec 32 := 0#32
  let v991 : BitVec 1 := Scalar.cmpi .sgt v989 c0_i32_477
  let v992 : BitVec 32 := Scalar.extui v991
  let c0_i32_478 : BitVec 32 := 0#32
  let v993 : BitVec 1 := Scalar.cmpi .slt v989 c0_i32_478
  let v994 : BitVec 32 := Scalar.extui v993
  let v995 : BitVec 32 := Scalar.subi v992 v994
  let c2_i32_476 : BitVec 32 := 2#32
  let c0_i32_479 : BitVec 32 := 0#32
  let v996 : BitVec 1 := Scalar.cmpi .sgt c2_i32_476 c0_i32_479
  let v997 : BitVec 32 := Scalar.extui v996
  let c0_i32_480 : BitVec 32 := 0#32
  let v998 : BitVec 1 := Scalar.cmpi .slt c2_i32_476 c0_i32_480
  let v999 : BitVec 32 := Scalar.extui v998
  let v1000 : BitVec 32 := Scalar.subi v997 v999
  let v1001 : BitVec 1 := Scalar.cmpi .ne v995 v1000
  let v1002 : BitVec 32 := Scalar.remsi v989 c2_i32_476
  let c0_i32_481 : BitVec 32 := 0#32
  let v1003 : BitVec 1 := Scalar.cmpi .ne v1002 c0_i32_481
  let v1004 : BitVec 1 := Scalar.andi v1001 v1003
  let v990 : BitVec 32 := Scalar.divsi v989 c2_i32_476
  let c1_i32_482 : BitVec 32 := 1#32
  let v1005 : BitVec 32 := Scalar.subi v990 c1_i32_482
  let v1006 : BitVec 32 := Scalar.select v1004 v1005 v990
  let v1007 : BitVec 32 := Scalar.maxsi c0_i32_483 v1006
  let v1008 : BitVec 32 := Scalar.minsi v965 v1007
  let v1009 : BitVec 32 := Scalar.subi v1008 v988
  let c1_i32_484 : BitVec 32 := 1#32
  let v1011 : BitVec 32 := Scalar.divsi v1009 c1_i32_484
  let v1012 : BitVec 32 := Scalar.muli v1011 c1_i32_484
  let v1013 : BitVec 32 := Scalar.addi v988 v1012
  let c1_i32_486 : BitVec 32 := 1#32
  let arg23 : BitVec 32 := Scf.iv v1013 c1_i32_486 k0_t66
  let v1305 : BitVec 32 := Scalar.addi v1304 arg23
  let c0_i32_615 : BitVec 32 := 0#32
  ![v1305.toNat, 0]

def k0_chk36 (v945 : BitVec 32) (v947 : BitVec 32) : Prop :=
  ((k0_t65_loop v945 v947).OK) ∧
  (∀ k0_t65 : Fin (k0_t65_loop v945 v947).trips, ∀ a, (k0_off172 v945 v947 k0_t65) a + S2x128.size a ≤ S384x128.size a) ∧
  (∀ k0_t65 : Fin (k0_t65_loop v945 v947).trips, ∀ a, (k0_off173 v945 v947 k0_t65) a + S1x2.size a ≤ S584x2.size a) ∧
  ((k0_t66_loop v945 v947).OK) ∧
  (∀ k0_t66 : Fin (k0_t66_loop v945 v947).trips, ∀ a, (k0_off175 v945 v947 k0_t66) a + S2x128.size a ≤ S384x128.size a) ∧
  (∀ k0_t66 : Fin (k0_t66_loop v945 v947).trips, ∀ a, (k0_off176 v945 v947 k0_t66) a + S1x2.size a ≤ S584x2.size a)
theorem k0_t65_ok : ∀ (v945 : BitVec 32) (v947 : BitVec 32) (k0_hw36 : k0_chk36 v945 v947), (k0_t65_loop v945 v947).OK := fun v945 v947 k0_hw36 => k0_hw36.1
theorem k0_off172_inb : ∀ (v945 : BitVec 32) (v947 : BitVec 32) (k0_hw36 : k0_chk36 v945 v947) (k0_t65 : Fin (k0_t65_loop v945 v947).trips), ∀ a, (k0_off172 v945 v947 k0_t65) a + S2x128.size a ≤ S384x128.size a := fun v945 v947 k0_hw36 k0_t65 => k0_hw36.2.1 k0_t65
theorem k0_off173_inb : ∀ (v945 : BitVec 32) (v947 : BitVec 32) (k0_hw36 : k0_chk36 v945 v947) (k0_t65 : Fin (k0_t65_loop v945 v947).trips), ∀ a, (k0_off173 v945 v947 k0_t65) a + S1x2.size a ≤ S584x2.size a := fun v945 v947 k0_hw36 k0_t65 => k0_hw36.2.2.1 k0_t65
theorem k0_t66_ok : ∀ (v945 : BitVec 32) (v947 : BitVec 32) (k0_hw36 : k0_chk36 v945 v947), (k0_t66_loop v945 v947).OK := fun v945 v947 k0_hw36 => k0_hw36.2.2.2.1
theorem k0_off175_inb : ∀ (v945 : BitVec 32) (v947 : BitVec 32) (k0_hw36 : k0_chk36 v945 v947) (k0_t66 : Fin (k0_t66_loop v945 v947).trips), ∀ a, (k0_off175 v945 v947 k0_t66) a + S2x128.size a ≤ S384x128.size a := fun v945 v947 k0_hw36 k0_t66 => k0_hw36.2.2.2.2.1 k0_t66
theorem k0_off176_inb : ∀ (v945 : BitVec 32) (v947 : BitVec 32) (k0_hw36 : k0_chk36 v945 v947) (k0_t66 : Fin (k0_t66_loop v945 v947).trips), ∀ a, (k0_off176 v945 v947 k0_t66) a + S1x2.size a ≤ S584x2.size a := fun v945 v947 k0_hw36 k0_t66 => k0_hw36.2.2.2.2.2 k0_t66

def k0_off177 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_464 : BitVec 32 := 16#32
  let v966 : BitVec 32 := Scalar.muli arg21 c16_i32_464
  let c11_i32 : BitVec 32 := 11#32
  let v967 : BitVec 32 := Scalar.addi v966 c11_i32
  let c128_i32_465 : BitVec 32 := 128#32
  let v968 : BitVec 32 := Scalar.muli v967 c128_i32_465
  ![0, v968.toNat]
@[reducible] def k0_t67_loop (v1017 : BitVec 32) (v1019 : BitVec 32) : Scf.Loop 32 :=
  let c1_i32_487 : BitVec 32 := 1#32
  let v1020 : BitVec 32 := Scalar.addi v1017 c1_i32_487
  let c0_i32_489 : BitVec 32 := 0#32
  let v1022 : BitVec 1 := Scalar.cmpi .sgt v1020 c0_i32_489
  let v1023 : BitVec 32 := Scalar.extui v1022
  let c0_i32_490 : BitVec 32 := 0#32
  let v1024 : BitVec 1 := Scalar.cmpi .slt v1020 c0_i32_490
  let v1025 : BitVec 32 := Scalar.extui v1024
  let v1026 : BitVec 32 := Scalar.subi v1023 v1025
  let c2_i32_488 : BitVec 32 := 2#32
  let c0_i32_491 : BitVec 32 := 0#32
  let v1027 : BitVec 1 := Scalar.cmpi .sgt c2_i32_488 c0_i32_491
  let v1028 : BitVec 32 := Scalar.extui v1027
  let c0_i32_492 : BitVec 32 := 0#32
  let v1029 : BitVec 1 := Scalar.cmpi .slt c2_i32_488 c0_i32_492
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_488
  let c0_i32_493 : BitVec 32 := 0#32
  let v1034 : BitVec 1 := Scalar.cmpi .ne v1033 c0_i32_493
  let v1035 : BitVec 1 := Scalar.andi v1032 v1034
  let v1021 : BitVec 32 := Scalar.divsi v1020 c2_i32_488
  let c1_i32_494 : BitVec 32 := 1#32
  let v1036 : BitVec 32 := Scalar.subi v1021 c1_i32_494
  let v1037 : BitVec 32 := Scalar.select v1035 v1036 v1021
  let c0_i32_505 : BitVec 32 := 0#32
  let c384_i32_497 : BitVec 32 := 384#32
  let v1041 : BitVec 32 := Scalar.subi c384_i32_497 v1019
  let c0_i32_499 : BitVec 32 := 0#32
  let v1043 : BitVec 1 := Scalar.cmpi .sgt v1041 c0_i32_499
  let v1044 : BitVec 32 := Scalar.extui v1043
  let c0_i32_500 : BitVec 32 := 0#32
  let v1045 : BitVec 1 := Scalar.cmpi .slt v1041 c0_i32_500
  let v1046 : BitVec 32 := Scalar.extui v1045
  let v1047 : BitVec 32 := Scalar.subi v1044 v1046
  let c2_i32_498 : BitVec 32 := 2#32
  let c0_i32_501 : BitVec 32 := 0#32
  let v1048 : BitVec 1 := Scalar.cmpi .sgt c2_i32_498 c0_i32_501
  let v1049 : BitVec 32 := Scalar.extui v1048
  let c0_i32_502 : BitVec 32 := 0#32
  let v1050 : BitVec 1 := Scalar.cmpi .slt c2_i32_498 c0_i32_502
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_498
  let c0_i32_503 : BitVec 32 := 0#32
  let v1055 : BitVec 1 := Scalar.cmpi .ne v1054 c0_i32_503
  let v1056 : BitVec 1 := Scalar.andi v1053 v1055
  let v1042 : BitVec 32 := Scalar.divsi v1041 c2_i32_498
  let c1_i32_504 : BitVec 32 := 1#32
  let v1057 : BitVec 32 := Scalar.subi v1042 c1_i32_504
  let v1058 : BitVec 32 := Scalar.select v1056 v1057 v1042
  let v1059 : BitVec 32 := Scalar.maxsi c0_i32_505 v1058
  let v1060 : BitVec 32 := Scalar.minsi v1037 v1059
  let c0_i32_514 : BitVec 32 := 0#32
  let c768_i32_506 : BitVec 32 := 768#32
  let v1061 : BitVec 32 := Scalar.subi c768_i32_506 v1019
  let c0_i32_508 : BitVec 32 := 0#32
  let v1063 : BitVec 1 := Scalar.cmpi .sgt v1061 c0_i32_508
  let v1064 : BitVec 32 := Scalar.extui v1063
  let c0_i32_509 : BitVec 32 := 0#32
  let v1065 : BitVec 1 := Scalar.cmpi .slt v1061 c0_i32_509
  let v1066 : BitVec 32 := Scalar.extui v1065
  let v1067 : BitVec 32 := Scalar.subi v1064 v1066
  let c2_i32_507 : BitVec 32 := 2#32
  let c0_i32_510 : BitVec 32 := 0#32
  let v1068 : BitVec 1 := Scalar.cmpi .sgt c2_i32_507 c0_i32_510
  let v1069 : BitVec 32 := Scalar.extui v1068
  let c0_i32_511 : BitVec 32 := 0#32
  let v1070 : BitVec 1 := Scalar.cmpi .slt c2_i32_507 c0_i32_511
  let v1071 : BitVec 32 := Scalar.extui v1070
  let v1072 : BitVec 32 := Scalar.subi v1069 v1071
  let v1073 : BitVec 1 := Scalar.cmpi .ne v1067 v1072
  let v1074 : BitVec 32 := Scalar.remsi v1061 c2_i32_507
  let c0_i32_512 : BitVec 32 := 0#32
  let v1075 : BitVec 1 := Scalar.cmpi .ne v1074 c0_i32_512
  let v1076 : BitVec 1 := Scalar.andi v1073 v1075
  let v1062 : BitVec 32 := Scalar.divsi v1061 c2_i32_507
  let c1_i32_513 : BitVec 32 := 1#32
  let v1077 : BitVec 32 := Scalar.subi v1062 c1_i32_513
  let v1078 : BitVec 32 := Scalar.select v1076 v1077 v1062
  let v1079 : BitVec 32 := Scalar.maxsi c0_i32_514 v1078
  let v1080 : BitVec 32 := Scalar.minsi v1037 v1079
  let v1081 : BitVec 32 := Scalar.subi v1080 v1060
  let c1_i32_515 : BitVec 32 := 1#32
  let v1083 : BitVec 32 := Scalar.divsi v1081 c1_i32_515
  let v1084 : BitVec 32 := Scalar.muli v1083 c1_i32_515
  let v1085 : BitVec 32 := Scalar.addi v1060 v1084
  let c1_i32_516 : BitVec 32 := 1#32
  ⟨v1060, v1085, c1_i32_516⟩

def k0_off178 (v1017 : BitVec 32) (v1019 : BitVec 32) (k0_t67 : Fin (k0_t67_loop v1017 v1019).trips) : Fin 2 → Nat :=
  let c1_i32_487 : BitVec 32 := 1#32
  let v1020 : BitVec 32 := Scalar.addi v1017 c1_i32_487
  let c0_i32_489 : BitVec 32 := 0#32
  let v1022 : BitVec 1 := Scalar.cmpi .sgt v1020 c0_i32_489
  let v1023 : BitVec 32 := Scalar.extui v1022
  let c0_i32_490 : BitVec 32 := 0#32
  let v1024 : BitVec 1 := Scalar.cmpi .slt v1020 c0_i32_490
  let v1025 : BitVec 32 := Scalar.extui v1024
  let v1026 : BitVec 32 := Scalar.subi v1023 v1025
  let c2_i32_488 : BitVec 32 := 2#32
  let c0_i32_491 : BitVec 32 := 0#32
  let v1027 : BitVec 1 := Scalar.cmpi .sgt c2_i32_488 c0_i32_491
  let v1028 : BitVec 32 := Scalar.extui v1027
  let c0_i32_492 : BitVec 32 := 0#32
  let v1029 : BitVec 1 := Scalar.cmpi .slt c2_i32_488 c0_i32_492
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_488
  let c0_i32_493 : BitVec 32 := 0#32
  let v1034 : BitVec 1 := Scalar.cmpi .ne v1033 c0_i32_493
  let v1035 : BitVec 1 := Scalar.andi v1032 v1034
  let v1021 : BitVec 32 := Scalar.divsi v1020 c2_i32_488
  let c1_i32_494 : BitVec 32 := 1#32
  let v1036 : BitVec 32 := Scalar.subi v1021 c1_i32_494
  let v1037 : BitVec 32 := Scalar.select v1035 v1036 v1021
  let c0_i32_505 : BitVec 32 := 0#32
  let c384_i32_497 : BitVec 32 := 384#32
  let v1041 : BitVec 32 := Scalar.subi c384_i32_497 v1019
  let c0_i32_499 : BitVec 32 := 0#32
  let v1043 : BitVec 1 := Scalar.cmpi .sgt v1041 c0_i32_499
  let v1044 : BitVec 32 := Scalar.extui v1043
  let c0_i32_500 : BitVec 32 := 0#32
  let v1045 : BitVec 1 := Scalar.cmpi .slt v1041 c0_i32_500
  let v1046 : BitVec 32 := Scalar.extui v1045
  let v1047 : BitVec 32 := Scalar.subi v1044 v1046
  let c2_i32_498 : BitVec 32 := 2#32
  let c0_i32_501 : BitVec 32 := 0#32
  let v1048 : BitVec 1 := Scalar.cmpi .sgt c2_i32_498 c0_i32_501
  let v1049 : BitVec 32 := Scalar.extui v1048
  let c0_i32_502 : BitVec 32 := 0#32
  let v1050 : BitVec 1 := Scalar.cmpi .slt c2_i32_498 c0_i32_502
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_498
  let c0_i32_503 : BitVec 32 := 0#32
  let v1055 : BitVec 1 := Scalar.cmpi .ne v1054 c0_i32_503
  let v1056 : BitVec 1 := Scalar.andi v1053 v1055
  let v1042 : BitVec 32 := Scalar.divsi v1041 c2_i32_498
  let c1_i32_504 : BitVec 32 := 1#32
  let v1057 : BitVec 32 := Scalar.subi v1042 c1_i32_504
  let v1058 : BitVec 32 := Scalar.select v1056 v1057 v1042
  let v1059 : BitVec 32 := Scalar.maxsi c0_i32_505 v1058
  let v1060 : BitVec 32 := Scalar.minsi v1037 v1059
  let c1_i32_516 : BitVec 32 := 1#32
  let arg23 : BitVec 32 := Scf.iv v1060 c1_i32_516 k0_t67
  let c2_i32_612 : BitVec 32 := 2#32
  let v1306 : BitVec 32 := Scalar.muli arg23 c2_i32_612
  let v1307 : BitVec 32 := Scalar.addi v1019 v1306
  let c384_i32_613 : BitVec 32 := 384#32
  let v1308 : BitVec 32 := Scalar.subi v1307 c384_i32_613
  let c0_i32_614 : BitVec 32 := 0#32
  ![v1308.toNat, 0]
def k0_off179 (v1017 : BitVec 32) (v1019 : BitVec 32) (k0_t67 : Fin (k0_t67_loop v1017 v1019).trips) : Fin 2 → Nat :=
  let c1_i32_611 : BitVec 32 := 1#32
  let v1304 : BitVec 32 := Scalar.shrsi v1019 c1_i32_611
  let c1_i32_487 : BitVec 32 := 1#32
  let v1020 : BitVec 32 := Scalar.addi v1017 c1_i32_487
  let c0_i32_489 : BitVec 32 := 0#32
  let v1022 : BitVec 1 := Scalar.cmpi .sgt v1020 c0_i32_489
  let v1023 : BitVec 32 := Scalar.extui v1022
  let c0_i32_490 : BitVec 32 := 0#32
  let v1024 : BitVec 1 := Scalar.cmpi .slt v1020 c0_i32_490
  let v1025 : BitVec 32 := Scalar.extui v1024
  let v1026 : BitVec 32 := Scalar.subi v1023 v1025
  let c2_i32_488 : BitVec 32 := 2#32
  let c0_i32_491 : BitVec 32 := 0#32
  let v1027 : BitVec 1 := Scalar.cmpi .sgt c2_i32_488 c0_i32_491
  let v1028 : BitVec 32 := Scalar.extui v1027
  let c0_i32_492 : BitVec 32 := 0#32
  let v1029 : BitVec 1 := Scalar.cmpi .slt c2_i32_488 c0_i32_492
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_488
  let c0_i32_493 : BitVec 32 := 0#32
  let v1034 : BitVec 1 := Scalar.cmpi .ne v1033 c0_i32_493
  let v1035 : BitVec 1 := Scalar.andi v1032 v1034
  let v1021 : BitVec 32 := Scalar.divsi v1020 c2_i32_488
  let c1_i32_494 : BitVec 32 := 1#32
  let v1036 : BitVec 32 := Scalar.subi v1021 c1_i32_494
  let v1037 : BitVec 32 := Scalar.select v1035 v1036 v1021
  let c0_i32_505 : BitVec 32 := 0#32
  let c384_i32_497 : BitVec 32 := 384#32
  let v1041 : BitVec 32 := Scalar.subi c384_i32_497 v1019
  let c0_i32_499 : BitVec 32 := 0#32
  let v1043 : BitVec 1 := Scalar.cmpi .sgt v1041 c0_i32_499
  let v1044 : BitVec 32 := Scalar.extui v1043
  let c0_i32_500 : BitVec 32 := 0#32
  let v1045 : BitVec 1 := Scalar.cmpi .slt v1041 c0_i32_500
  let v1046 : BitVec 32 := Scalar.extui v1045
  let v1047 : BitVec 32 := Scalar.subi v1044 v1046
  let c2_i32_498 : BitVec 32 := 2#32
  let c0_i32_501 : BitVec 32 := 0#32
  let v1048 : BitVec 1 := Scalar.cmpi .sgt c2_i32_498 c0_i32_501
  let v1049 : BitVec 32 := Scalar.extui v1048
  let c0_i32_502 : BitVec 32 := 0#32
  let v1050 : BitVec 1 := Scalar.cmpi .slt c2_i32_498 c0_i32_502
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_498
  let c0_i32_503 : BitVec 32 := 0#32
  let v1055 : BitVec 1 := Scalar.cmpi .ne v1054 c0_i32_503
  let v1056 : BitVec 1 := Scalar.andi v1053 v1055
  let v1042 : BitVec 32 := Scalar.divsi v1041 c2_i32_498
  let c1_i32_504 : BitVec 32 := 1#32
  let v1057 : BitVec 32 := Scalar.subi v1042 c1_i32_504
  let v1058 : BitVec 32 := Scalar.select v1056 v1057 v1042
  let v1059 : BitVec 32 := Scalar.maxsi c0_i32_505 v1058
  let v1060 : BitVec 32 := Scalar.minsi v1037 v1059
  let c1_i32_516 : BitVec 32 := 1#32
  let arg23 : BitVec 32 := Scf.iv v1060 c1_i32_516 k0_t67
  let v1305 : BitVec 32 := Scalar.addi v1304 arg23
  let c0_i32_615 : BitVec 32 := 0#32
  ![v1305.toNat, 0]
def k0_off180 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_495 : BitVec 32 := 16#32
  let v1038 : BitVec 32 := Scalar.muli arg21 c16_i32_495
  let c12_i32 : BitVec 32 := 12#32
  let v1039 : BitVec 32 := Scalar.addi v1038 c12_i32
  let c128_i32_496 : BitVec 32 := 128#32
  let v1040 : BitVec 32 := Scalar.muli v1039 c128_i32_496
  ![0, v1040.toNat]
@[reducible] def k0_t68_loop (v1017 : BitVec 32) (v1019 : BitVec 32) : Scf.Loop 32 :=
  let c1_i32_487 : BitVec 32 := 1#32
  let v1020 : BitVec 32 := Scalar.addi v1017 c1_i32_487
  let c0_i32_489 : BitVec 32 := 0#32
  let v1022 : BitVec 1 := Scalar.cmpi .sgt v1020 c0_i32_489
  let v1023 : BitVec 32 := Scalar.extui v1022
  let c0_i32_490 : BitVec 32 := 0#32
  let v1024 : BitVec 1 := Scalar.cmpi .slt v1020 c0_i32_490
  let v1025 : BitVec 32 := Scalar.extui v1024
  let v1026 : BitVec 32 := Scalar.subi v1023 v1025
  let c2_i32_488 : BitVec 32 := 2#32
  let c0_i32_491 : BitVec 32 := 0#32
  let v1027 : BitVec 1 := Scalar.cmpi .sgt c2_i32_488 c0_i32_491
  let v1028 : BitVec 32 := Scalar.extui v1027
  let c0_i32_492 : BitVec 32 := 0#32
  let v1029 : BitVec 1 := Scalar.cmpi .slt c2_i32_488 c0_i32_492
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_488
  let c0_i32_493 : BitVec 32 := 0#32
  let v1034 : BitVec 1 := Scalar.cmpi .ne v1033 c0_i32_493
  let v1035 : BitVec 1 := Scalar.andi v1032 v1034
  let v1021 : BitVec 32 := Scalar.divsi v1020 c2_i32_488
  let c1_i32_494 : BitVec 32 := 1#32
  let v1036 : BitVec 32 := Scalar.subi v1021 c1_i32_494
  let v1037 : BitVec 32 := Scalar.select v1035 v1036 v1021
  let c0_i32_505 : BitVec 32 := 0#32
  let c384_i32_497 : BitVec 32 := 384#32
  let v1041 : BitVec 32 := Scalar.subi c384_i32_497 v1019
  let c0_i32_499 : BitVec 32 := 0#32
  let v1043 : BitVec 1 := Scalar.cmpi .sgt v1041 c0_i32_499
  let v1044 : BitVec 32 := Scalar.extui v1043
  let c0_i32_500 : BitVec 32 := 0#32
  let v1045 : BitVec 1 := Scalar.cmpi .slt v1041 c0_i32_500
  let v1046 : BitVec 32 := Scalar.extui v1045
  let v1047 : BitVec 32 := Scalar.subi v1044 v1046
  let c2_i32_498 : BitVec 32 := 2#32
  let c0_i32_501 : BitVec 32 := 0#32
  let v1048 : BitVec 1 := Scalar.cmpi .sgt c2_i32_498 c0_i32_501
  let v1049 : BitVec 32 := Scalar.extui v1048
  let c0_i32_502 : BitVec 32 := 0#32
  let v1050 : BitVec 1 := Scalar.cmpi .slt c2_i32_498 c0_i32_502
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_498
  let c0_i32_503 : BitVec 32 := 0#32
  let v1055 : BitVec 1 := Scalar.cmpi .ne v1054 c0_i32_503
  let v1056 : BitVec 1 := Scalar.andi v1053 v1055
  let v1042 : BitVec 32 := Scalar.divsi v1041 c2_i32_498
  let c1_i32_504 : BitVec 32 := 1#32
  let v1057 : BitVec 32 := Scalar.subi v1042 c1_i32_504
  let v1058 : BitVec 32 := Scalar.select v1056 v1057 v1042
  let v1059 : BitVec 32 := Scalar.maxsi c0_i32_505 v1058
  let v1060 : BitVec 32 := Scalar.minsi v1037 v1059
  let c0_i32_514 : BitVec 32 := 0#32
  let c768_i32_506 : BitVec 32 := 768#32
  let v1061 : BitVec 32 := Scalar.subi c768_i32_506 v1019
  let c0_i32_508 : BitVec 32 := 0#32
  let v1063 : BitVec 1 := Scalar.cmpi .sgt v1061 c0_i32_508
  let v1064 : BitVec 32 := Scalar.extui v1063
  let c0_i32_509 : BitVec 32 := 0#32
  let v1065 : BitVec 1 := Scalar.cmpi .slt v1061 c0_i32_509
  let v1066 : BitVec 32 := Scalar.extui v1065
  let v1067 : BitVec 32 := Scalar.subi v1064 v1066
  let c2_i32_507 : BitVec 32 := 2#32
  let c0_i32_510 : BitVec 32 := 0#32
  let v1068 : BitVec 1 := Scalar.cmpi .sgt c2_i32_507 c0_i32_510
  let v1069 : BitVec 32 := Scalar.extui v1068
  let c0_i32_511 : BitVec 32 := 0#32
  let v1070 : BitVec 1 := Scalar.cmpi .slt c2_i32_507 c0_i32_511
  let v1071 : BitVec 32 := Scalar.extui v1070
  let v1072 : BitVec 32 := Scalar.subi v1069 v1071
  let v1073 : BitVec 1 := Scalar.cmpi .ne v1067 v1072
  let v1074 : BitVec 32 := Scalar.remsi v1061 c2_i32_507
  let c0_i32_512 : BitVec 32 := 0#32
  let v1075 : BitVec 1 := Scalar.cmpi .ne v1074 c0_i32_512
  let v1076 : BitVec 1 := Scalar.andi v1073 v1075
  let v1062 : BitVec 32 := Scalar.divsi v1061 c2_i32_507
  let c1_i32_513 : BitVec 32 := 1#32
  let v1077 : BitVec 32 := Scalar.subi v1062 c1_i32_513
  let v1078 : BitVec 32 := Scalar.select v1076 v1077 v1062
  let v1079 : BitVec 32 := Scalar.maxsi c0_i32_514 v1078
  let v1080 : BitVec 32 := Scalar.minsi v1037 v1079
  let v1081 : BitVec 32 := Scalar.subi v1080 v1060
  let c1_i32_515 : BitVec 32 := 1#32
  let v1083 : BitVec 32 := Scalar.divsi v1081 c1_i32_515
  let v1084 : BitVec 32 := Scalar.muli v1083 c1_i32_515
  let v1085 : BitVec 32 := Scalar.addi v1060 v1084
  let v1082 : BitVec 32 := Scalar.addi v1060 v1081
  let c1_i32_517 : BitVec 32 := 1#32
  ⟨v1085, v1082, c1_i32_517⟩
def k0_off181 (v1017 : BitVec 32) (v1019 : BitVec 32) (k0_t68 : Fin (k0_t68_loop v1017 v1019).trips) : Fin 2 → Nat :=
  let c1_i32_487 : BitVec 32 := 1#32
  let v1020 : BitVec 32 := Scalar.addi v1017 c1_i32_487
  let c0_i32_489 : BitVec 32 := 0#32
  let v1022 : BitVec 1 := Scalar.cmpi .sgt v1020 c0_i32_489
  let v1023 : BitVec 32 := Scalar.extui v1022
  let c0_i32_490 : BitVec 32 := 0#32
  let v1024 : BitVec 1 := Scalar.cmpi .slt v1020 c0_i32_490
  let v1025 : BitVec 32 := Scalar.extui v1024
  let v1026 : BitVec 32 := Scalar.subi v1023 v1025
  let c2_i32_488 : BitVec 32 := 2#32
  let c0_i32_491 : BitVec 32 := 0#32
  let v1027 : BitVec 1 := Scalar.cmpi .sgt c2_i32_488 c0_i32_491
  let v1028 : BitVec 32 := Scalar.extui v1027
  let c0_i32_492 : BitVec 32 := 0#32
  let v1029 : BitVec 1 := Scalar.cmpi .slt c2_i32_488 c0_i32_492
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_488
  let c0_i32_493 : BitVec 32 := 0#32
  let v1034 : BitVec 1 := Scalar.cmpi .ne v1033 c0_i32_493
  let v1035 : BitVec 1 := Scalar.andi v1032 v1034
  let v1021 : BitVec 32 := Scalar.divsi v1020 c2_i32_488
  let c1_i32_494 : BitVec 32 := 1#32
  let v1036 : BitVec 32 := Scalar.subi v1021 c1_i32_494
  let v1037 : BitVec 32 := Scalar.select v1035 v1036 v1021
  let c0_i32_505 : BitVec 32 := 0#32
  let c384_i32_497 : BitVec 32 := 384#32
  let v1041 : BitVec 32 := Scalar.subi c384_i32_497 v1019
  let c0_i32_499 : BitVec 32 := 0#32
  let v1043 : BitVec 1 := Scalar.cmpi .sgt v1041 c0_i32_499
  let v1044 : BitVec 32 := Scalar.extui v1043
  let c0_i32_500 : BitVec 32 := 0#32
  let v1045 : BitVec 1 := Scalar.cmpi .slt v1041 c0_i32_500
  let v1046 : BitVec 32 := Scalar.extui v1045
  let v1047 : BitVec 32 := Scalar.subi v1044 v1046
  let c2_i32_498 : BitVec 32 := 2#32
  let c0_i32_501 : BitVec 32 := 0#32
  let v1048 : BitVec 1 := Scalar.cmpi .sgt c2_i32_498 c0_i32_501
  let v1049 : BitVec 32 := Scalar.extui v1048
  let c0_i32_502 : BitVec 32 := 0#32
  let v1050 : BitVec 1 := Scalar.cmpi .slt c2_i32_498 c0_i32_502
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_498
  let c0_i32_503 : BitVec 32 := 0#32
  let v1055 : BitVec 1 := Scalar.cmpi .ne v1054 c0_i32_503
  let v1056 : BitVec 1 := Scalar.andi v1053 v1055
  let v1042 : BitVec 32 := Scalar.divsi v1041 c2_i32_498
  let c1_i32_504 : BitVec 32 := 1#32
  let v1057 : BitVec 32 := Scalar.subi v1042 c1_i32_504
  let v1058 : BitVec 32 := Scalar.select v1056 v1057 v1042
  let v1059 : BitVec 32 := Scalar.maxsi c0_i32_505 v1058
  let v1060 : BitVec 32 := Scalar.minsi v1037 v1059
  let c0_i32_514 : BitVec 32 := 0#32
  let c768_i32_506 : BitVec 32 := 768#32
  let v1061 : BitVec 32 := Scalar.subi c768_i32_506 v1019
  let c0_i32_508 : BitVec 32 := 0#32
  let v1063 : BitVec 1 := Scalar.cmpi .sgt v1061 c0_i32_508
  let v1064 : BitVec 32 := Scalar.extui v1063
  let c0_i32_509 : BitVec 32 := 0#32
  let v1065 : BitVec 1 := Scalar.cmpi .slt v1061 c0_i32_509
  let v1066 : BitVec 32 := Scalar.extui v1065
  let v1067 : BitVec 32 := Scalar.subi v1064 v1066
  let c2_i32_507 : BitVec 32 := 2#32
  let c0_i32_510 : BitVec 32 := 0#32
  let v1068 : BitVec 1 := Scalar.cmpi .sgt c2_i32_507 c0_i32_510
  let v1069 : BitVec 32 := Scalar.extui v1068
  let c0_i32_511 : BitVec 32 := 0#32
  let v1070 : BitVec 1 := Scalar.cmpi .slt c2_i32_507 c0_i32_511
  let v1071 : BitVec 32 := Scalar.extui v1070
  let v1072 : BitVec 32 := Scalar.subi v1069 v1071
  let v1073 : BitVec 1 := Scalar.cmpi .ne v1067 v1072
  let v1074 : BitVec 32 := Scalar.remsi v1061 c2_i32_507
  let c0_i32_512 : BitVec 32 := 0#32
  let v1075 : BitVec 1 := Scalar.cmpi .ne v1074 c0_i32_512
  let v1076 : BitVec 1 := Scalar.andi v1073 v1075
  let v1062 : BitVec 32 := Scalar.divsi v1061 c2_i32_507
  let c1_i32_513 : BitVec 32 := 1#32
  let v1077 : BitVec 32 := Scalar.subi v1062 c1_i32_513
  let v1078 : BitVec 32 := Scalar.select v1076 v1077 v1062
  let v1079 : BitVec 32 := Scalar.maxsi c0_i32_514 v1078
  let v1080 : BitVec 32 := Scalar.minsi v1037 v1079
  let v1081 : BitVec 32 := Scalar.subi v1080 v1060
  let c1_i32_515 : BitVec 32 := 1#32
  let v1083 : BitVec 32 := Scalar.divsi v1081 c1_i32_515
  let v1084 : BitVec 32 := Scalar.muli v1083 c1_i32_515
  let v1085 : BitVec 32 := Scalar.addi v1060 v1084
  let c1_i32_517 : BitVec 32 := 1#32
  let arg23 : BitVec 32 := Scf.iv v1085 c1_i32_517 k0_t68
  let c2_i32_612 : BitVec 32 := 2#32
  let v1306 : BitVec 32 := Scalar.muli arg23 c2_i32_612
  let v1307 : BitVec 32 := Scalar.addi v1019 v1306
  let c384_i32_613 : BitVec 32 := 384#32
  let v1308 : BitVec 32 := Scalar.subi v1307 c384_i32_613
  let c0_i32_614 : BitVec 32 := 0#32
  ![v1308.toNat, 0]
def k0_off182 (v1017 : BitVec 32) (v1019 : BitVec 32) (k0_t68 : Fin (k0_t68_loop v1017 v1019).trips) : Fin 2 → Nat :=
  let c1_i32_611 : BitVec 32 := 1#32
  let v1304 : BitVec 32 := Scalar.shrsi v1019 c1_i32_611
  let c1_i32_487 : BitVec 32 := 1#32
  let v1020 : BitVec 32 := Scalar.addi v1017 c1_i32_487
  let c0_i32_489 : BitVec 32 := 0#32
  let v1022 : BitVec 1 := Scalar.cmpi .sgt v1020 c0_i32_489
  let v1023 : BitVec 32 := Scalar.extui v1022
  let c0_i32_490 : BitVec 32 := 0#32
  let v1024 : BitVec 1 := Scalar.cmpi .slt v1020 c0_i32_490
  let v1025 : BitVec 32 := Scalar.extui v1024
  let v1026 : BitVec 32 := Scalar.subi v1023 v1025
  let c2_i32_488 : BitVec 32 := 2#32
  let c0_i32_491 : BitVec 32 := 0#32
  let v1027 : BitVec 1 := Scalar.cmpi .sgt c2_i32_488 c0_i32_491
  let v1028 : BitVec 32 := Scalar.extui v1027
  let c0_i32_492 : BitVec 32 := 0#32
  let v1029 : BitVec 1 := Scalar.cmpi .slt c2_i32_488 c0_i32_492
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_488
  let c0_i32_493 : BitVec 32 := 0#32
  let v1034 : BitVec 1 := Scalar.cmpi .ne v1033 c0_i32_493
  let v1035 : BitVec 1 := Scalar.andi v1032 v1034
  let v1021 : BitVec 32 := Scalar.divsi v1020 c2_i32_488
  let c1_i32_494 : BitVec 32 := 1#32
  let v1036 : BitVec 32 := Scalar.subi v1021 c1_i32_494
  let v1037 : BitVec 32 := Scalar.select v1035 v1036 v1021
  let c0_i32_505 : BitVec 32 := 0#32
  let c384_i32_497 : BitVec 32 := 384#32
  let v1041 : BitVec 32 := Scalar.subi c384_i32_497 v1019
  let c0_i32_499 : BitVec 32 := 0#32
  let v1043 : BitVec 1 := Scalar.cmpi .sgt v1041 c0_i32_499
  let v1044 : BitVec 32 := Scalar.extui v1043
  let c0_i32_500 : BitVec 32 := 0#32
  let v1045 : BitVec 1 := Scalar.cmpi .slt v1041 c0_i32_500
  let v1046 : BitVec 32 := Scalar.extui v1045
  let v1047 : BitVec 32 := Scalar.subi v1044 v1046
  let c2_i32_498 : BitVec 32 := 2#32
  let c0_i32_501 : BitVec 32 := 0#32
  let v1048 : BitVec 1 := Scalar.cmpi .sgt c2_i32_498 c0_i32_501
  let v1049 : BitVec 32 := Scalar.extui v1048
  let c0_i32_502 : BitVec 32 := 0#32
  let v1050 : BitVec 1 := Scalar.cmpi .slt c2_i32_498 c0_i32_502
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_498
  let c0_i32_503 : BitVec 32 := 0#32
  let v1055 : BitVec 1 := Scalar.cmpi .ne v1054 c0_i32_503
  let v1056 : BitVec 1 := Scalar.andi v1053 v1055
  let v1042 : BitVec 32 := Scalar.divsi v1041 c2_i32_498
  let c1_i32_504 : BitVec 32 := 1#32
  let v1057 : BitVec 32 := Scalar.subi v1042 c1_i32_504
  let v1058 : BitVec 32 := Scalar.select v1056 v1057 v1042
  let v1059 : BitVec 32 := Scalar.maxsi c0_i32_505 v1058
  let v1060 : BitVec 32 := Scalar.minsi v1037 v1059
  let c0_i32_514 : BitVec 32 := 0#32
  let c768_i32_506 : BitVec 32 := 768#32
  let v1061 : BitVec 32 := Scalar.subi c768_i32_506 v1019
  let c0_i32_508 : BitVec 32 := 0#32
  let v1063 : BitVec 1 := Scalar.cmpi .sgt v1061 c0_i32_508
  let v1064 : BitVec 32 := Scalar.extui v1063
  let c0_i32_509 : BitVec 32 := 0#32
  let v1065 : BitVec 1 := Scalar.cmpi .slt v1061 c0_i32_509
  let v1066 : BitVec 32 := Scalar.extui v1065
  let v1067 : BitVec 32 := Scalar.subi v1064 v1066
  let c2_i32_507 : BitVec 32 := 2#32
  let c0_i32_510 : BitVec 32 := 0#32
  let v1068 : BitVec 1 := Scalar.cmpi .sgt c2_i32_507 c0_i32_510
  let v1069 : BitVec 32 := Scalar.extui v1068
  let c0_i32_511 : BitVec 32 := 0#32
  let v1070 : BitVec 1 := Scalar.cmpi .slt c2_i32_507 c0_i32_511
  let v1071 : BitVec 32 := Scalar.extui v1070
  let v1072 : BitVec 32 := Scalar.subi v1069 v1071
  let v1073 : BitVec 1 := Scalar.cmpi .ne v1067 v1072
  let v1074 : BitVec 32 := Scalar.remsi v1061 c2_i32_507
  let c0_i32_512 : BitVec 32 := 0#32
  let v1075 : BitVec 1 := Scalar.cmpi .ne v1074 c0_i32_512
  let v1076 : BitVec 1 := Scalar.andi v1073 v1075
  let v1062 : BitVec 32 := Scalar.divsi v1061 c2_i32_507
  let c1_i32_513 : BitVec 32 := 1#32
  let v1077 : BitVec 32 := Scalar.subi v1062 c1_i32_513
  let v1078 : BitVec 32 := Scalar.select v1076 v1077 v1062
  let v1079 : BitVec 32 := Scalar.maxsi c0_i32_514 v1078
  let v1080 : BitVec 32 := Scalar.minsi v1037 v1079
  let v1081 : BitVec 32 := Scalar.subi v1080 v1060
  let c1_i32_515 : BitVec 32 := 1#32
  let v1083 : BitVec 32 := Scalar.divsi v1081 c1_i32_515
  let v1084 : BitVec 32 := Scalar.muli v1083 c1_i32_515
  let v1085 : BitVec 32 := Scalar.addi v1060 v1084
  let c1_i32_517 : BitVec 32 := 1#32
  let arg23 : BitVec 32 := Scf.iv v1085 c1_i32_517 k0_t68
  let v1305 : BitVec 32 := Scalar.addi v1304 arg23
  let c0_i32_615 : BitVec 32 := 0#32
  ![v1305.toNat, 0]

def k0_chk37 (v1017 : BitVec 32) (v1019 : BitVec 32) : Prop :=
  ((k0_t67_loop v1017 v1019).OK) ∧
  (∀ k0_t67 : Fin (k0_t67_loop v1017 v1019).trips, ∀ a, (k0_off178 v1017 v1019 k0_t67) a + S2x128.size a ≤ S384x128.size a) ∧
  (∀ k0_t67 : Fin (k0_t67_loop v1017 v1019).trips, ∀ a, (k0_off179 v1017 v1019 k0_t67) a + S1x2.size a ≤ S584x2.size a) ∧
  ((k0_t68_loop v1017 v1019).OK) ∧
  (∀ k0_t68 : Fin (k0_t68_loop v1017 v1019).trips, ∀ a, (k0_off181 v1017 v1019 k0_t68) a + S2x128.size a ≤ S384x128.size a) ∧
  (∀ k0_t68 : Fin (k0_t68_loop v1017 v1019).trips, ∀ a, (k0_off182 v1017 v1019 k0_t68) a + S1x2.size a ≤ S584x2.size a)
theorem k0_t67_ok : ∀ (v1017 : BitVec 32) (v1019 : BitVec 32) (k0_hw37 : k0_chk37 v1017 v1019), (k0_t67_loop v1017 v1019).OK := fun v1017 v1019 k0_hw37 => k0_hw37.1
theorem k0_off178_inb : ∀ (v1017 : BitVec 32) (v1019 : BitVec 32) (k0_hw37 : k0_chk37 v1017 v1019) (k0_t67 : Fin (k0_t67_loop v1017 v1019).trips), ∀ a, (k0_off178 v1017 v1019 k0_t67) a + S2x128.size a ≤ S384x128.size a := fun v1017 v1019 k0_hw37 k0_t67 => k0_hw37.2.1 k0_t67
theorem k0_off179_inb : ∀ (v1017 : BitVec 32) (v1019 : BitVec 32) (k0_hw37 : k0_chk37 v1017 v1019) (k0_t67 : Fin (k0_t67_loop v1017 v1019).trips), ∀ a, (k0_off179 v1017 v1019 k0_t67) a + S1x2.size a ≤ S584x2.size a := fun v1017 v1019 k0_hw37 k0_t67 => k0_hw37.2.2.1 k0_t67
theorem k0_t68_ok : ∀ (v1017 : BitVec 32) (v1019 : BitVec 32) (k0_hw37 : k0_chk37 v1017 v1019), (k0_t68_loop v1017 v1019).OK := fun v1017 v1019 k0_hw37 => k0_hw37.2.2.2.1
theorem k0_off181_inb : ∀ (v1017 : BitVec 32) (v1019 : BitVec 32) (k0_hw37 : k0_chk37 v1017 v1019) (k0_t68 : Fin (k0_t68_loop v1017 v1019).trips), ∀ a, (k0_off181 v1017 v1019 k0_t68) a + S2x128.size a ≤ S384x128.size a := fun v1017 v1019 k0_hw37 k0_t68 => k0_hw37.2.2.2.2.1 k0_t68
theorem k0_off182_inb : ∀ (v1017 : BitVec 32) (v1019 : BitVec 32) (k0_hw37 : k0_chk37 v1017 v1019) (k0_t68 : Fin (k0_t68_loop v1017 v1019).trips), ∀ a, (k0_off182 v1017 v1019 k0_t68) a + S1x2.size a ≤ S584x2.size a := fun v1017 v1019 k0_hw37 k0_t68 => k0_hw37.2.2.2.2.2 k0_t68

def k0_off183 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_495 : BitVec 32 := 16#32
  let v1038 : BitVec 32 := Scalar.muli arg21 c16_i32_495
  let c12_i32 : BitVec 32 := 12#32
  let v1039 : BitVec 32 := Scalar.addi v1038 c12_i32
  let c128_i32_496 : BitVec 32 := 128#32
  let v1040 : BitVec 32 := Scalar.muli v1039 c128_i32_496
  ![0, v1040.toNat]
@[reducible] def k0_t69_loop (v1089 : BitVec 32) (v1091 : BitVec 32) : Scf.Loop 32 :=
  let c1_i32_518 : BitVec 32 := 1#32
  let v1092 : BitVec 32 := Scalar.addi v1089 c1_i32_518
  let c0_i32_520 : BitVec 32 := 0#32
  let v1094 : BitVec 1 := Scalar.cmpi .sgt v1092 c0_i32_520
  let v1095 : BitVec 32 := Scalar.extui v1094
  let c0_i32_521 : BitVec 32 := 0#32
  let v1096 : BitVec 1 := Scalar.cmpi .slt v1092 c0_i32_521
  let v1097 : BitVec 32 := Scalar.extui v1096
  let v1098 : BitVec 32 := Scalar.subi v1095 v1097
  let c2_i32_519 : BitVec 32 := 2#32
  let c0_i32_522 : BitVec 32 := 0#32
  let v1099 : BitVec 1 := Scalar.cmpi .sgt c2_i32_519 c0_i32_522
  let v1100 : BitVec 32 := Scalar.extui v1099
  let c0_i32_523 : BitVec 32 := 0#32
  let v1101 : BitVec 1 := Scalar.cmpi .slt c2_i32_519 c0_i32_523
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_519
  let c0_i32_524 : BitVec 32 := 0#32
  let v1106 : BitVec 1 := Scalar.cmpi .ne v1105 c0_i32_524
  let v1107 : BitVec 1 := Scalar.andi v1104 v1106
  let v1093 : BitVec 32 := Scalar.divsi v1092 c2_i32_519
  let c1_i32_525 : BitVec 32 := 1#32
  let v1108 : BitVec 32 := Scalar.subi v1093 c1_i32_525
  let v1109 : BitVec 32 := Scalar.select v1107 v1108 v1093
  let c0_i32_536 : BitVec 32 := 0#32
  let c384_i32_528 : BitVec 32 := 384#32
  let v1113 : BitVec 32 := Scalar.subi c384_i32_528 v1091
  let c0_i32_530 : BitVec 32 := 0#32
  let v1115 : BitVec 1 := Scalar.cmpi .sgt v1113 c0_i32_530
  let v1116 : BitVec 32 := Scalar.extui v1115
  let c0_i32_531 : BitVec 32 := 0#32
  let v1117 : BitVec 1 := Scalar.cmpi .slt v1113 c0_i32_531
  let v1118 : BitVec 32 := Scalar.extui v1117
  let v1119 : BitVec 32 := Scalar.subi v1116 v1118
  let c2_i32_529 : BitVec 32 := 2#32
  let c0_i32_532 : BitVec 32 := 0#32
  let v1120 : BitVec 1 := Scalar.cmpi .sgt c2_i32_529 c0_i32_532
  let v1121 : BitVec 32 := Scalar.extui v1120
  let c0_i32_533 : BitVec 32 := 0#32
  let v1122 : BitVec 1 := Scalar.cmpi .slt c2_i32_529 c0_i32_533
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_529
  let c0_i32_534 : BitVec 32 := 0#32
  let v1127 : BitVec 1 := Scalar.cmpi .ne v1126 c0_i32_534
  let v1128 : BitVec 1 := Scalar.andi v1125 v1127
  let v1114 : BitVec 32 := Scalar.divsi v1113 c2_i32_529
  let c1_i32_535 : BitVec 32 := 1#32
  let v1129 : BitVec 32 := Scalar.subi v1114 c1_i32_535
  let v1130 : BitVec 32 := Scalar.select v1128 v1129 v1114
  let v1131 : BitVec 32 := Scalar.maxsi c0_i32_536 v1130
  let v1132 : BitVec 32 := Scalar.minsi v1109 v1131
  let c0_i32_545 : BitVec 32 := 0#32
  let c768_i32_537 : BitVec 32 := 768#32
  let v1133 : BitVec 32 := Scalar.subi c768_i32_537 v1091
  let c0_i32_539 : BitVec 32 := 0#32
  let v1135 : BitVec 1 := Scalar.cmpi .sgt v1133 c0_i32_539
  let v1136 : BitVec 32 := Scalar.extui v1135
  let c0_i32_540 : BitVec 32 := 0#32
  let v1137 : BitVec 1 := Scalar.cmpi .slt v1133 c0_i32_540
  let v1138 : BitVec 32 := Scalar.extui v1137
  let v1139 : BitVec 32 := Scalar.subi v1136 v1138
  let c2_i32_538 : BitVec 32 := 2#32
  let c0_i32_541 : BitVec 32 := 0#32
  let v1140 : BitVec 1 := Scalar.cmpi .sgt c2_i32_538 c0_i32_541
  let v1141 : BitVec 32 := Scalar.extui v1140
  let c0_i32_542 : BitVec 32 := 0#32
  let v1142 : BitVec 1 := Scalar.cmpi .slt c2_i32_538 c0_i32_542
  let v1143 : BitVec 32 := Scalar.extui v1142
  let v1144 : BitVec 32 := Scalar.subi v1141 v1143
  let v1145 : BitVec 1 := Scalar.cmpi .ne v1139 v1144
  let v1146 : BitVec 32 := Scalar.remsi v1133 c2_i32_538
  let c0_i32_543 : BitVec 32 := 0#32
  let v1147 : BitVec 1 := Scalar.cmpi .ne v1146 c0_i32_543
  let v1148 : BitVec 1 := Scalar.andi v1145 v1147
  let v1134 : BitVec 32 := Scalar.divsi v1133 c2_i32_538
  let c1_i32_544 : BitVec 32 := 1#32
  let v1149 : BitVec 32 := Scalar.subi v1134 c1_i32_544
  let v1150 : BitVec 32 := Scalar.select v1148 v1149 v1134
  let v1151 : BitVec 32 := Scalar.maxsi c0_i32_545 v1150
  let v1152 : BitVec 32 := Scalar.minsi v1109 v1151
  let v1153 : BitVec 32 := Scalar.subi v1152 v1132
  let c1_i32_546 : BitVec 32 := 1#32
  let v1155 : BitVec 32 := Scalar.divsi v1153 c1_i32_546
  let v1156 : BitVec 32 := Scalar.muli v1155 c1_i32_546
  let v1157 : BitVec 32 := Scalar.addi v1132 v1156
  let c1_i32_547 : BitVec 32 := 1#32
  ⟨v1132, v1157, c1_i32_547⟩

def k0_off184 (v1089 : BitVec 32) (v1091 : BitVec 32) (k0_t69 : Fin (k0_t69_loop v1089 v1091).trips) : Fin 2 → Nat :=
  let c1_i32_518 : BitVec 32 := 1#32
  let v1092 : BitVec 32 := Scalar.addi v1089 c1_i32_518
  let c0_i32_520 : BitVec 32 := 0#32
  let v1094 : BitVec 1 := Scalar.cmpi .sgt v1092 c0_i32_520
  let v1095 : BitVec 32 := Scalar.extui v1094
  let c0_i32_521 : BitVec 32 := 0#32
  let v1096 : BitVec 1 := Scalar.cmpi .slt v1092 c0_i32_521
  let v1097 : BitVec 32 := Scalar.extui v1096
  let v1098 : BitVec 32 := Scalar.subi v1095 v1097
  let c2_i32_519 : BitVec 32 := 2#32
  let c0_i32_522 : BitVec 32 := 0#32
  let v1099 : BitVec 1 := Scalar.cmpi .sgt c2_i32_519 c0_i32_522
  let v1100 : BitVec 32 := Scalar.extui v1099
  let c0_i32_523 : BitVec 32 := 0#32
  let v1101 : BitVec 1 := Scalar.cmpi .slt c2_i32_519 c0_i32_523
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_519
  let c0_i32_524 : BitVec 32 := 0#32
  let v1106 : BitVec 1 := Scalar.cmpi .ne v1105 c0_i32_524
  let v1107 : BitVec 1 := Scalar.andi v1104 v1106
  let v1093 : BitVec 32 := Scalar.divsi v1092 c2_i32_519
  let c1_i32_525 : BitVec 32 := 1#32
  let v1108 : BitVec 32 := Scalar.subi v1093 c1_i32_525
  let v1109 : BitVec 32 := Scalar.select v1107 v1108 v1093
  let c0_i32_536 : BitVec 32 := 0#32
  let c384_i32_528 : BitVec 32 := 384#32
  let v1113 : BitVec 32 := Scalar.subi c384_i32_528 v1091
  let c0_i32_530 : BitVec 32 := 0#32
  let v1115 : BitVec 1 := Scalar.cmpi .sgt v1113 c0_i32_530
  let v1116 : BitVec 32 := Scalar.extui v1115
  let c0_i32_531 : BitVec 32 := 0#32
  let v1117 : BitVec 1 := Scalar.cmpi .slt v1113 c0_i32_531
  let v1118 : BitVec 32 := Scalar.extui v1117
  let v1119 : BitVec 32 := Scalar.subi v1116 v1118
  let c2_i32_529 : BitVec 32 := 2#32
  let c0_i32_532 : BitVec 32 := 0#32
  let v1120 : BitVec 1 := Scalar.cmpi .sgt c2_i32_529 c0_i32_532
  let v1121 : BitVec 32 := Scalar.extui v1120
  let c0_i32_533 : BitVec 32 := 0#32
  let v1122 : BitVec 1 := Scalar.cmpi .slt c2_i32_529 c0_i32_533
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_529
  let c0_i32_534 : BitVec 32 := 0#32
  let v1127 : BitVec 1 := Scalar.cmpi .ne v1126 c0_i32_534
  let v1128 : BitVec 1 := Scalar.andi v1125 v1127
  let v1114 : BitVec 32 := Scalar.divsi v1113 c2_i32_529
  let c1_i32_535 : BitVec 32 := 1#32
  let v1129 : BitVec 32 := Scalar.subi v1114 c1_i32_535
  let v1130 : BitVec 32 := Scalar.select v1128 v1129 v1114
  let v1131 : BitVec 32 := Scalar.maxsi c0_i32_536 v1130
  let v1132 : BitVec 32 := Scalar.minsi v1109 v1131
  let c1_i32_547 : BitVec 32 := 1#32
  let arg23 : BitVec 32 := Scf.iv v1132 c1_i32_547 k0_t69
  let c2_i32_612 : BitVec 32 := 2#32
  let v1306 : BitVec 32 := Scalar.muli arg23 c2_i32_612
  let v1307 : BitVec 32 := Scalar.addi v1091 v1306
  let c384_i32_613 : BitVec 32 := 384#32
  let v1308 : BitVec 32 := Scalar.subi v1307 c384_i32_613
  let c0_i32_614 : BitVec 32 := 0#32
  ![v1308.toNat, 0]
def k0_off185 (v1089 : BitVec 32) (v1091 : BitVec 32) (k0_t69 : Fin (k0_t69_loop v1089 v1091).trips) : Fin 2 → Nat :=
  let c1_i32_611 : BitVec 32 := 1#32
  let v1304 : BitVec 32 := Scalar.shrsi v1091 c1_i32_611
  let c1_i32_518 : BitVec 32 := 1#32
  let v1092 : BitVec 32 := Scalar.addi v1089 c1_i32_518
  let c0_i32_520 : BitVec 32 := 0#32
  let v1094 : BitVec 1 := Scalar.cmpi .sgt v1092 c0_i32_520
  let v1095 : BitVec 32 := Scalar.extui v1094
  let c0_i32_521 : BitVec 32 := 0#32
  let v1096 : BitVec 1 := Scalar.cmpi .slt v1092 c0_i32_521
  let v1097 : BitVec 32 := Scalar.extui v1096
  let v1098 : BitVec 32 := Scalar.subi v1095 v1097
  let c2_i32_519 : BitVec 32 := 2#32
  let c0_i32_522 : BitVec 32 := 0#32
  let v1099 : BitVec 1 := Scalar.cmpi .sgt c2_i32_519 c0_i32_522
  let v1100 : BitVec 32 := Scalar.extui v1099
  let c0_i32_523 : BitVec 32 := 0#32
  let v1101 : BitVec 1 := Scalar.cmpi .slt c2_i32_519 c0_i32_523
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_519
  let c0_i32_524 : BitVec 32 := 0#32
  let v1106 : BitVec 1 := Scalar.cmpi .ne v1105 c0_i32_524
  let v1107 : BitVec 1 := Scalar.andi v1104 v1106
  let v1093 : BitVec 32 := Scalar.divsi v1092 c2_i32_519
  let c1_i32_525 : BitVec 32 := 1#32
  let v1108 : BitVec 32 := Scalar.subi v1093 c1_i32_525
  let v1109 : BitVec 32 := Scalar.select v1107 v1108 v1093
  let c0_i32_536 : BitVec 32 := 0#32
  let c384_i32_528 : BitVec 32 := 384#32
  let v1113 : BitVec 32 := Scalar.subi c384_i32_528 v1091
  let c0_i32_530 : BitVec 32 := 0#32
  let v1115 : BitVec 1 := Scalar.cmpi .sgt v1113 c0_i32_530
  let v1116 : BitVec 32 := Scalar.extui v1115
  let c0_i32_531 : BitVec 32 := 0#32
  let v1117 : BitVec 1 := Scalar.cmpi .slt v1113 c0_i32_531
  let v1118 : BitVec 32 := Scalar.extui v1117
  let v1119 : BitVec 32 := Scalar.subi v1116 v1118
  let c2_i32_529 : BitVec 32 := 2#32
  let c0_i32_532 : BitVec 32 := 0#32
  let v1120 : BitVec 1 := Scalar.cmpi .sgt c2_i32_529 c0_i32_532
  let v1121 : BitVec 32 := Scalar.extui v1120
  let c0_i32_533 : BitVec 32 := 0#32
  let v1122 : BitVec 1 := Scalar.cmpi .slt c2_i32_529 c0_i32_533
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_529
  let c0_i32_534 : BitVec 32 := 0#32
  let v1127 : BitVec 1 := Scalar.cmpi .ne v1126 c0_i32_534
  let v1128 : BitVec 1 := Scalar.andi v1125 v1127
  let v1114 : BitVec 32 := Scalar.divsi v1113 c2_i32_529
  let c1_i32_535 : BitVec 32 := 1#32
  let v1129 : BitVec 32 := Scalar.subi v1114 c1_i32_535
  let v1130 : BitVec 32 := Scalar.select v1128 v1129 v1114
  let v1131 : BitVec 32 := Scalar.maxsi c0_i32_536 v1130
  let v1132 : BitVec 32 := Scalar.minsi v1109 v1131
  let c1_i32_547 : BitVec 32 := 1#32
  let arg23 : BitVec 32 := Scf.iv v1132 c1_i32_547 k0_t69
  let v1305 : BitVec 32 := Scalar.addi v1304 arg23
  let c0_i32_615 : BitVec 32 := 0#32
  ![v1305.toNat, 0]
def k0_off186 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_526 : BitVec 32 := 16#32
  let v1110 : BitVec 32 := Scalar.muli arg21 c16_i32_526
  let c13_i32 : BitVec 32 := 13#32
  let v1111 : BitVec 32 := Scalar.addi v1110 c13_i32
  let c128_i32_527 : BitVec 32 := 128#32
  let v1112 : BitVec 32 := Scalar.muli v1111 c128_i32_527
  ![0, v1112.toNat]
@[reducible] def k0_t70_loop (v1089 : BitVec 32) (v1091 : BitVec 32) : Scf.Loop 32 :=
  let c1_i32_518 : BitVec 32 := 1#32
  let v1092 : BitVec 32 := Scalar.addi v1089 c1_i32_518
  let c0_i32_520 : BitVec 32 := 0#32
  let v1094 : BitVec 1 := Scalar.cmpi .sgt v1092 c0_i32_520
  let v1095 : BitVec 32 := Scalar.extui v1094
  let c0_i32_521 : BitVec 32 := 0#32
  let v1096 : BitVec 1 := Scalar.cmpi .slt v1092 c0_i32_521
  let v1097 : BitVec 32 := Scalar.extui v1096
  let v1098 : BitVec 32 := Scalar.subi v1095 v1097
  let c2_i32_519 : BitVec 32 := 2#32
  let c0_i32_522 : BitVec 32 := 0#32
  let v1099 : BitVec 1 := Scalar.cmpi .sgt c2_i32_519 c0_i32_522
  let v1100 : BitVec 32 := Scalar.extui v1099
  let c0_i32_523 : BitVec 32 := 0#32
  let v1101 : BitVec 1 := Scalar.cmpi .slt c2_i32_519 c0_i32_523
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_519
  let c0_i32_524 : BitVec 32 := 0#32
  let v1106 : BitVec 1 := Scalar.cmpi .ne v1105 c0_i32_524
  let v1107 : BitVec 1 := Scalar.andi v1104 v1106
  let v1093 : BitVec 32 := Scalar.divsi v1092 c2_i32_519
  let c1_i32_525 : BitVec 32 := 1#32
  let v1108 : BitVec 32 := Scalar.subi v1093 c1_i32_525
  let v1109 : BitVec 32 := Scalar.select v1107 v1108 v1093
  let c0_i32_536 : BitVec 32 := 0#32
  let c384_i32_528 : BitVec 32 := 384#32
  let v1113 : BitVec 32 := Scalar.subi c384_i32_528 v1091
  let c0_i32_530 : BitVec 32 := 0#32
  let v1115 : BitVec 1 := Scalar.cmpi .sgt v1113 c0_i32_530
  let v1116 : BitVec 32 := Scalar.extui v1115
  let c0_i32_531 : BitVec 32 := 0#32
  let v1117 : BitVec 1 := Scalar.cmpi .slt v1113 c0_i32_531
  let v1118 : BitVec 32 := Scalar.extui v1117
  let v1119 : BitVec 32 := Scalar.subi v1116 v1118
  let c2_i32_529 : BitVec 32 := 2#32
  let c0_i32_532 : BitVec 32 := 0#32
  let v1120 : BitVec 1 := Scalar.cmpi .sgt c2_i32_529 c0_i32_532
  let v1121 : BitVec 32 := Scalar.extui v1120
  let c0_i32_533 : BitVec 32 := 0#32
  let v1122 : BitVec 1 := Scalar.cmpi .slt c2_i32_529 c0_i32_533
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_529
  let c0_i32_534 : BitVec 32 := 0#32
  let v1127 : BitVec 1 := Scalar.cmpi .ne v1126 c0_i32_534
  let v1128 : BitVec 1 := Scalar.andi v1125 v1127
  let v1114 : BitVec 32 := Scalar.divsi v1113 c2_i32_529
  let c1_i32_535 : BitVec 32 := 1#32
  let v1129 : BitVec 32 := Scalar.subi v1114 c1_i32_535
  let v1130 : BitVec 32 := Scalar.select v1128 v1129 v1114
  let v1131 : BitVec 32 := Scalar.maxsi c0_i32_536 v1130
  let v1132 : BitVec 32 := Scalar.minsi v1109 v1131
  let c0_i32_545 : BitVec 32 := 0#32
  let c768_i32_537 : BitVec 32 := 768#32
  let v1133 : BitVec 32 := Scalar.subi c768_i32_537 v1091
  let c0_i32_539 : BitVec 32 := 0#32
  let v1135 : BitVec 1 := Scalar.cmpi .sgt v1133 c0_i32_539
  let v1136 : BitVec 32 := Scalar.extui v1135
  let c0_i32_540 : BitVec 32 := 0#32
  let v1137 : BitVec 1 := Scalar.cmpi .slt v1133 c0_i32_540
  let v1138 : BitVec 32 := Scalar.extui v1137
  let v1139 : BitVec 32 := Scalar.subi v1136 v1138
  let c2_i32_538 : BitVec 32 := 2#32
  let c0_i32_541 : BitVec 32 := 0#32
  let v1140 : BitVec 1 := Scalar.cmpi .sgt c2_i32_538 c0_i32_541
  let v1141 : BitVec 32 := Scalar.extui v1140
  let c0_i32_542 : BitVec 32 := 0#32
  let v1142 : BitVec 1 := Scalar.cmpi .slt c2_i32_538 c0_i32_542
  let v1143 : BitVec 32 := Scalar.extui v1142
  let v1144 : BitVec 32 := Scalar.subi v1141 v1143
  let v1145 : BitVec 1 := Scalar.cmpi .ne v1139 v1144
  let v1146 : BitVec 32 := Scalar.remsi v1133 c2_i32_538
  let c0_i32_543 : BitVec 32 := 0#32
  let v1147 : BitVec 1 := Scalar.cmpi .ne v1146 c0_i32_543
  let v1148 : BitVec 1 := Scalar.andi v1145 v1147
  let v1134 : BitVec 32 := Scalar.divsi v1133 c2_i32_538
  let c1_i32_544 : BitVec 32 := 1#32
  let v1149 : BitVec 32 := Scalar.subi v1134 c1_i32_544
  let v1150 : BitVec 32 := Scalar.select v1148 v1149 v1134
  let v1151 : BitVec 32 := Scalar.maxsi c0_i32_545 v1150
  let v1152 : BitVec 32 := Scalar.minsi v1109 v1151
  let v1153 : BitVec 32 := Scalar.subi v1152 v1132
  let c1_i32_546 : BitVec 32 := 1#32
  let v1155 : BitVec 32 := Scalar.divsi v1153 c1_i32_546
  let v1156 : BitVec 32 := Scalar.muli v1155 c1_i32_546
  let v1157 : BitVec 32 := Scalar.addi v1132 v1156
  let v1154 : BitVec 32 := Scalar.addi v1132 v1153
  let c1_i32_548 : BitVec 32 := 1#32
  ⟨v1157, v1154, c1_i32_548⟩
def k0_off187 (v1089 : BitVec 32) (v1091 : BitVec 32) (k0_t70 : Fin (k0_t70_loop v1089 v1091).trips) : Fin 2 → Nat :=
  let c1_i32_518 : BitVec 32 := 1#32
  let v1092 : BitVec 32 := Scalar.addi v1089 c1_i32_518
  let c0_i32_520 : BitVec 32 := 0#32
  let v1094 : BitVec 1 := Scalar.cmpi .sgt v1092 c0_i32_520
  let v1095 : BitVec 32 := Scalar.extui v1094
  let c0_i32_521 : BitVec 32 := 0#32
  let v1096 : BitVec 1 := Scalar.cmpi .slt v1092 c0_i32_521
  let v1097 : BitVec 32 := Scalar.extui v1096
  let v1098 : BitVec 32 := Scalar.subi v1095 v1097
  let c2_i32_519 : BitVec 32 := 2#32
  let c0_i32_522 : BitVec 32 := 0#32
  let v1099 : BitVec 1 := Scalar.cmpi .sgt c2_i32_519 c0_i32_522
  let v1100 : BitVec 32 := Scalar.extui v1099
  let c0_i32_523 : BitVec 32 := 0#32
  let v1101 : BitVec 1 := Scalar.cmpi .slt c2_i32_519 c0_i32_523
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_519
  let c0_i32_524 : BitVec 32 := 0#32
  let v1106 : BitVec 1 := Scalar.cmpi .ne v1105 c0_i32_524
  let v1107 : BitVec 1 := Scalar.andi v1104 v1106
  let v1093 : BitVec 32 := Scalar.divsi v1092 c2_i32_519
  let c1_i32_525 : BitVec 32 := 1#32
  let v1108 : BitVec 32 := Scalar.subi v1093 c1_i32_525
  let v1109 : BitVec 32 := Scalar.select v1107 v1108 v1093
  let c0_i32_536 : BitVec 32 := 0#32
  let c384_i32_528 : BitVec 32 := 384#32
  let v1113 : BitVec 32 := Scalar.subi c384_i32_528 v1091
  let c0_i32_530 : BitVec 32 := 0#32
  let v1115 : BitVec 1 := Scalar.cmpi .sgt v1113 c0_i32_530
  let v1116 : BitVec 32 := Scalar.extui v1115
  let c0_i32_531 : BitVec 32 := 0#32
  let v1117 : BitVec 1 := Scalar.cmpi .slt v1113 c0_i32_531
  let v1118 : BitVec 32 := Scalar.extui v1117
  let v1119 : BitVec 32 := Scalar.subi v1116 v1118
  let c2_i32_529 : BitVec 32 := 2#32
  let c0_i32_532 : BitVec 32 := 0#32
  let v1120 : BitVec 1 := Scalar.cmpi .sgt c2_i32_529 c0_i32_532
  let v1121 : BitVec 32 := Scalar.extui v1120
  let c0_i32_533 : BitVec 32 := 0#32
  let v1122 : BitVec 1 := Scalar.cmpi .slt c2_i32_529 c0_i32_533
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_529
  let c0_i32_534 : BitVec 32 := 0#32
  let v1127 : BitVec 1 := Scalar.cmpi .ne v1126 c0_i32_534
  let v1128 : BitVec 1 := Scalar.andi v1125 v1127
  let v1114 : BitVec 32 := Scalar.divsi v1113 c2_i32_529
  let c1_i32_535 : BitVec 32 := 1#32
  let v1129 : BitVec 32 := Scalar.subi v1114 c1_i32_535
  let v1130 : BitVec 32 := Scalar.select v1128 v1129 v1114
  let v1131 : BitVec 32 := Scalar.maxsi c0_i32_536 v1130
  let v1132 : BitVec 32 := Scalar.minsi v1109 v1131
  let c0_i32_545 : BitVec 32 := 0#32
  let c768_i32_537 : BitVec 32 := 768#32
  let v1133 : BitVec 32 := Scalar.subi c768_i32_537 v1091
  let c0_i32_539 : BitVec 32 := 0#32
  let v1135 : BitVec 1 := Scalar.cmpi .sgt v1133 c0_i32_539
  let v1136 : BitVec 32 := Scalar.extui v1135
  let c0_i32_540 : BitVec 32 := 0#32
  let v1137 : BitVec 1 := Scalar.cmpi .slt v1133 c0_i32_540
  let v1138 : BitVec 32 := Scalar.extui v1137
  let v1139 : BitVec 32 := Scalar.subi v1136 v1138
  let c2_i32_538 : BitVec 32 := 2#32
  let c0_i32_541 : BitVec 32 := 0#32
  let v1140 : BitVec 1 := Scalar.cmpi .sgt c2_i32_538 c0_i32_541
  let v1141 : BitVec 32 := Scalar.extui v1140
  let c0_i32_542 : BitVec 32 := 0#32
  let v1142 : BitVec 1 := Scalar.cmpi .slt c2_i32_538 c0_i32_542
  let v1143 : BitVec 32 := Scalar.extui v1142
  let v1144 : BitVec 32 := Scalar.subi v1141 v1143
  let v1145 : BitVec 1 := Scalar.cmpi .ne v1139 v1144
  let v1146 : BitVec 32 := Scalar.remsi v1133 c2_i32_538
  let c0_i32_543 : BitVec 32 := 0#32
  let v1147 : BitVec 1 := Scalar.cmpi .ne v1146 c0_i32_543
  let v1148 : BitVec 1 := Scalar.andi v1145 v1147
  let v1134 : BitVec 32 := Scalar.divsi v1133 c2_i32_538
  let c1_i32_544 : BitVec 32 := 1#32
  let v1149 : BitVec 32 := Scalar.subi v1134 c1_i32_544
  let v1150 : BitVec 32 := Scalar.select v1148 v1149 v1134
  let v1151 : BitVec 32 := Scalar.maxsi c0_i32_545 v1150
  let v1152 : BitVec 32 := Scalar.minsi v1109 v1151
  let v1153 : BitVec 32 := Scalar.subi v1152 v1132
  let c1_i32_546 : BitVec 32 := 1#32
  let v1155 : BitVec 32 := Scalar.divsi v1153 c1_i32_546
  let v1156 : BitVec 32 := Scalar.muli v1155 c1_i32_546
  let v1157 : BitVec 32 := Scalar.addi v1132 v1156
  let c1_i32_548 : BitVec 32 := 1#32
  let arg23 : BitVec 32 := Scf.iv v1157 c1_i32_548 k0_t70
  let c2_i32_612 : BitVec 32 := 2#32
  let v1306 : BitVec 32 := Scalar.muli arg23 c2_i32_612
  let v1307 : BitVec 32 := Scalar.addi v1091 v1306
  let c384_i32_613 : BitVec 32 := 384#32
  let v1308 : BitVec 32 := Scalar.subi v1307 c384_i32_613
  let c0_i32_614 : BitVec 32 := 0#32
  ![v1308.toNat, 0]
def k0_off188 (v1089 : BitVec 32) (v1091 : BitVec 32) (k0_t70 : Fin (k0_t70_loop v1089 v1091).trips) : Fin 2 → Nat :=
  let c1_i32_611 : BitVec 32 := 1#32
  let v1304 : BitVec 32 := Scalar.shrsi v1091 c1_i32_611
  let c1_i32_518 : BitVec 32 := 1#32
  let v1092 : BitVec 32 := Scalar.addi v1089 c1_i32_518
  let c0_i32_520 : BitVec 32 := 0#32
  let v1094 : BitVec 1 := Scalar.cmpi .sgt v1092 c0_i32_520
  let v1095 : BitVec 32 := Scalar.extui v1094
  let c0_i32_521 : BitVec 32 := 0#32
  let v1096 : BitVec 1 := Scalar.cmpi .slt v1092 c0_i32_521
  let v1097 : BitVec 32 := Scalar.extui v1096
  let v1098 : BitVec 32 := Scalar.subi v1095 v1097
  let c2_i32_519 : BitVec 32 := 2#32
  let c0_i32_522 : BitVec 32 := 0#32
  let v1099 : BitVec 1 := Scalar.cmpi .sgt c2_i32_519 c0_i32_522
  let v1100 : BitVec 32 := Scalar.extui v1099
  let c0_i32_523 : BitVec 32 := 0#32
  let v1101 : BitVec 1 := Scalar.cmpi .slt c2_i32_519 c0_i32_523
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_519
  let c0_i32_524 : BitVec 32 := 0#32
  let v1106 : BitVec 1 := Scalar.cmpi .ne v1105 c0_i32_524
  let v1107 : BitVec 1 := Scalar.andi v1104 v1106
  let v1093 : BitVec 32 := Scalar.divsi v1092 c2_i32_519
  let c1_i32_525 : BitVec 32 := 1#32
  let v1108 : BitVec 32 := Scalar.subi v1093 c1_i32_525
  let v1109 : BitVec 32 := Scalar.select v1107 v1108 v1093
  let c0_i32_536 : BitVec 32 := 0#32
  let c384_i32_528 : BitVec 32 := 384#32
  let v1113 : BitVec 32 := Scalar.subi c384_i32_528 v1091
  let c0_i32_530 : BitVec 32 := 0#32
  let v1115 : BitVec 1 := Scalar.cmpi .sgt v1113 c0_i32_530
  let v1116 : BitVec 32 := Scalar.extui v1115
  let c0_i32_531 : BitVec 32 := 0#32
  let v1117 : BitVec 1 := Scalar.cmpi .slt v1113 c0_i32_531
  let v1118 : BitVec 32 := Scalar.extui v1117
  let v1119 : BitVec 32 := Scalar.subi v1116 v1118
  let c2_i32_529 : BitVec 32 := 2#32
  let c0_i32_532 : BitVec 32 := 0#32
  let v1120 : BitVec 1 := Scalar.cmpi .sgt c2_i32_529 c0_i32_532
  let v1121 : BitVec 32 := Scalar.extui v1120
  let c0_i32_533 : BitVec 32 := 0#32
  let v1122 : BitVec 1 := Scalar.cmpi .slt c2_i32_529 c0_i32_533
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_529
  let c0_i32_534 : BitVec 32 := 0#32
  let v1127 : BitVec 1 := Scalar.cmpi .ne v1126 c0_i32_534
  let v1128 : BitVec 1 := Scalar.andi v1125 v1127
  let v1114 : BitVec 32 := Scalar.divsi v1113 c2_i32_529
  let c1_i32_535 : BitVec 32 := 1#32
  let v1129 : BitVec 32 := Scalar.subi v1114 c1_i32_535
  let v1130 : BitVec 32 := Scalar.select v1128 v1129 v1114
  let v1131 : BitVec 32 := Scalar.maxsi c0_i32_536 v1130
  let v1132 : BitVec 32 := Scalar.minsi v1109 v1131
  let c0_i32_545 : BitVec 32 := 0#32
  let c768_i32_537 : BitVec 32 := 768#32
  let v1133 : BitVec 32 := Scalar.subi c768_i32_537 v1091
  let c0_i32_539 : BitVec 32 := 0#32
  let v1135 : BitVec 1 := Scalar.cmpi .sgt v1133 c0_i32_539
  let v1136 : BitVec 32 := Scalar.extui v1135
  let c0_i32_540 : BitVec 32 := 0#32
  let v1137 : BitVec 1 := Scalar.cmpi .slt v1133 c0_i32_540
  let v1138 : BitVec 32 := Scalar.extui v1137
  let v1139 : BitVec 32 := Scalar.subi v1136 v1138
  let c2_i32_538 : BitVec 32 := 2#32
  let c0_i32_541 : BitVec 32 := 0#32
  let v1140 : BitVec 1 := Scalar.cmpi .sgt c2_i32_538 c0_i32_541
  let v1141 : BitVec 32 := Scalar.extui v1140
  let c0_i32_542 : BitVec 32 := 0#32
  let v1142 : BitVec 1 := Scalar.cmpi .slt c2_i32_538 c0_i32_542
  let v1143 : BitVec 32 := Scalar.extui v1142
  let v1144 : BitVec 32 := Scalar.subi v1141 v1143
  let v1145 : BitVec 1 := Scalar.cmpi .ne v1139 v1144
  let v1146 : BitVec 32 := Scalar.remsi v1133 c2_i32_538
  let c0_i32_543 : BitVec 32 := 0#32
  let v1147 : BitVec 1 := Scalar.cmpi .ne v1146 c0_i32_543
  let v1148 : BitVec 1 := Scalar.andi v1145 v1147
  let v1134 : BitVec 32 := Scalar.divsi v1133 c2_i32_538
  let c1_i32_544 : BitVec 32 := 1#32
  let v1149 : BitVec 32 := Scalar.subi v1134 c1_i32_544
  let v1150 : BitVec 32 := Scalar.select v1148 v1149 v1134
  let v1151 : BitVec 32 := Scalar.maxsi c0_i32_545 v1150
  let v1152 : BitVec 32 := Scalar.minsi v1109 v1151
  let v1153 : BitVec 32 := Scalar.subi v1152 v1132
  let c1_i32_546 : BitVec 32 := 1#32
  let v1155 : BitVec 32 := Scalar.divsi v1153 c1_i32_546
  let v1156 : BitVec 32 := Scalar.muli v1155 c1_i32_546
  let v1157 : BitVec 32 := Scalar.addi v1132 v1156
  let c1_i32_548 : BitVec 32 := 1#32
  let arg23 : BitVec 32 := Scf.iv v1157 c1_i32_548 k0_t70
  let v1305 : BitVec 32 := Scalar.addi v1304 arg23
  let c0_i32_615 : BitVec 32 := 0#32
  ![v1305.toNat, 0]

def k0_chk38 (v1089 : BitVec 32) (v1091 : BitVec 32) : Prop :=
  ((k0_t69_loop v1089 v1091).OK) ∧
  (∀ k0_t69 : Fin (k0_t69_loop v1089 v1091).trips, ∀ a, (k0_off184 v1089 v1091 k0_t69) a + S2x128.size a ≤ S384x128.size a) ∧
  (∀ k0_t69 : Fin (k0_t69_loop v1089 v1091).trips, ∀ a, (k0_off185 v1089 v1091 k0_t69) a + S1x2.size a ≤ S584x2.size a) ∧
  ((k0_t70_loop v1089 v1091).OK) ∧
  (∀ k0_t70 : Fin (k0_t70_loop v1089 v1091).trips, ∀ a, (k0_off187 v1089 v1091 k0_t70) a + S2x128.size a ≤ S384x128.size a) ∧
  (∀ k0_t70 : Fin (k0_t70_loop v1089 v1091).trips, ∀ a, (k0_off188 v1089 v1091 k0_t70) a + S1x2.size a ≤ S584x2.size a)
theorem k0_t69_ok : ∀ (v1089 : BitVec 32) (v1091 : BitVec 32) (k0_hw38 : k0_chk38 v1089 v1091), (k0_t69_loop v1089 v1091).OK := fun v1089 v1091 k0_hw38 => k0_hw38.1
theorem k0_off184_inb : ∀ (v1089 : BitVec 32) (v1091 : BitVec 32) (k0_hw38 : k0_chk38 v1089 v1091) (k0_t69 : Fin (k0_t69_loop v1089 v1091).trips), ∀ a, (k0_off184 v1089 v1091 k0_t69) a + S2x128.size a ≤ S384x128.size a := fun v1089 v1091 k0_hw38 k0_t69 => k0_hw38.2.1 k0_t69
theorem k0_off185_inb : ∀ (v1089 : BitVec 32) (v1091 : BitVec 32) (k0_hw38 : k0_chk38 v1089 v1091) (k0_t69 : Fin (k0_t69_loop v1089 v1091).trips), ∀ a, (k0_off185 v1089 v1091 k0_t69) a + S1x2.size a ≤ S584x2.size a := fun v1089 v1091 k0_hw38 k0_t69 => k0_hw38.2.2.1 k0_t69
theorem k0_t70_ok : ∀ (v1089 : BitVec 32) (v1091 : BitVec 32) (k0_hw38 : k0_chk38 v1089 v1091), (k0_t70_loop v1089 v1091).OK := fun v1089 v1091 k0_hw38 => k0_hw38.2.2.2.1
theorem k0_off187_inb : ∀ (v1089 : BitVec 32) (v1091 : BitVec 32) (k0_hw38 : k0_chk38 v1089 v1091) (k0_t70 : Fin (k0_t70_loop v1089 v1091).trips), ∀ a, (k0_off187 v1089 v1091 k0_t70) a + S2x128.size a ≤ S384x128.size a := fun v1089 v1091 k0_hw38 k0_t70 => k0_hw38.2.2.2.2.1 k0_t70
theorem k0_off188_inb : ∀ (v1089 : BitVec 32) (v1091 : BitVec 32) (k0_hw38 : k0_chk38 v1089 v1091) (k0_t70 : Fin (k0_t70_loop v1089 v1091).trips), ∀ a, (k0_off188 v1089 v1091 k0_t70) a + S1x2.size a ≤ S584x2.size a := fun v1089 v1091 k0_hw38 k0_t70 => k0_hw38.2.2.2.2.2 k0_t70

def k0_off189 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_526 : BitVec 32 := 16#32
  let v1110 : BitVec 32 := Scalar.muli arg21 c16_i32_526
  let c13_i32 : BitVec 32 := 13#32
  let v1111 : BitVec 32 := Scalar.addi v1110 c13_i32
  let c128_i32_527 : BitVec 32 := 128#32
  let v1112 : BitVec 32 := Scalar.muli v1111 c128_i32_527
  ![0, v1112.toNat]
@[reducible] def k0_t71_loop (v1161 : BitVec 32) (v1163 : BitVec 32) : Scf.Loop 32 :=
  let c1_i32_549 : BitVec 32 := 1#32
  let v1164 : BitVec 32 := Scalar.addi v1161 c1_i32_549
  let c0_i32_551 : BitVec 32 := 0#32
  let v1166 : BitVec 1 := Scalar.cmpi .sgt v1164 c0_i32_551
  let v1167 : BitVec 32 := Scalar.extui v1166
  let c0_i32_552 : BitVec 32 := 0#32
  let v1168 : BitVec 1 := Scalar.cmpi .slt v1164 c0_i32_552
  let v1169 : BitVec 32 := Scalar.extui v1168
  let v1170 : BitVec 32 := Scalar.subi v1167 v1169
  let c2_i32_550 : BitVec 32 := 2#32
  let c0_i32_553 : BitVec 32 := 0#32
  let v1171 : BitVec 1 := Scalar.cmpi .sgt c2_i32_550 c0_i32_553
  let v1172 : BitVec 32 := Scalar.extui v1171
  let c0_i32_554 : BitVec 32 := 0#32
  let v1173 : BitVec 1 := Scalar.cmpi .slt c2_i32_550 c0_i32_554
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_550
  let c0_i32_555 : BitVec 32 := 0#32
  let v1178 : BitVec 1 := Scalar.cmpi .ne v1177 c0_i32_555
  let v1179 : BitVec 1 := Scalar.andi v1176 v1178
  let v1165 : BitVec 32 := Scalar.divsi v1164 c2_i32_550
  let c1_i32_556 : BitVec 32 := 1#32
  let v1180 : BitVec 32 := Scalar.subi v1165 c1_i32_556
  let v1181 : BitVec 32 := Scalar.select v1179 v1180 v1165
  let c0_i32_567 : BitVec 32 := 0#32
  let c384_i32_559 : BitVec 32 := 384#32
  let v1185 : BitVec 32 := Scalar.subi c384_i32_559 v1163
  let c0_i32_561 : BitVec 32 := 0#32
  let v1187 : BitVec 1 := Scalar.cmpi .sgt v1185 c0_i32_561
  let v1188 : BitVec 32 := Scalar.extui v1187
  let c0_i32_562 : BitVec 32 := 0#32
  let v1189 : BitVec 1 := Scalar.cmpi .slt v1185 c0_i32_562
  let v1190 : BitVec 32 := Scalar.extui v1189
  let v1191 : BitVec 32 := Scalar.subi v1188 v1190
  let c2_i32_560 : BitVec 32 := 2#32
  let c0_i32_563 : BitVec 32 := 0#32
  let v1192 : BitVec 1 := Scalar.cmpi .sgt c2_i32_560 c0_i32_563
  let v1193 : BitVec 32 := Scalar.extui v1192
  let c0_i32_564 : BitVec 32 := 0#32
  let v1194 : BitVec 1 := Scalar.cmpi .slt c2_i32_560 c0_i32_564
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_560
  let c0_i32_565 : BitVec 32 := 0#32
  let v1199 : BitVec 1 := Scalar.cmpi .ne v1198 c0_i32_565
  let v1200 : BitVec 1 := Scalar.andi v1197 v1199
  let v1186 : BitVec 32 := Scalar.divsi v1185 c2_i32_560
  let c1_i32_566 : BitVec 32 := 1#32
  let v1201 : BitVec 32 := Scalar.subi v1186 c1_i32_566
  let v1202 : BitVec 32 := Scalar.select v1200 v1201 v1186
  let v1203 : BitVec 32 := Scalar.maxsi c0_i32_567 v1202
  let v1204 : BitVec 32 := Scalar.minsi v1181 v1203
  let c0_i32_576 : BitVec 32 := 0#32
  let c768_i32_568 : BitVec 32 := 768#32
  let v1205 : BitVec 32 := Scalar.subi c768_i32_568 v1163
  let c0_i32_570 : BitVec 32 := 0#32
  let v1207 : BitVec 1 := Scalar.cmpi .sgt v1205 c0_i32_570
  let v1208 : BitVec 32 := Scalar.extui v1207
  let c0_i32_571 : BitVec 32 := 0#32
  let v1209 : BitVec 1 := Scalar.cmpi .slt v1205 c0_i32_571
  let v1210 : BitVec 32 := Scalar.extui v1209
  let v1211 : BitVec 32 := Scalar.subi v1208 v1210
  let c2_i32_569 : BitVec 32 := 2#32
  let c0_i32_572 : BitVec 32 := 0#32
  let v1212 : BitVec 1 := Scalar.cmpi .sgt c2_i32_569 c0_i32_572
  let v1213 : BitVec 32 := Scalar.extui v1212
  let c0_i32_573 : BitVec 32 := 0#32
  let v1214 : BitVec 1 := Scalar.cmpi .slt c2_i32_569 c0_i32_573
  let v1215 : BitVec 32 := Scalar.extui v1214
  let v1216 : BitVec 32 := Scalar.subi v1213 v1215
  let v1217 : BitVec 1 := Scalar.cmpi .ne v1211 v1216
  let v1218 : BitVec 32 := Scalar.remsi v1205 c2_i32_569
  let c0_i32_574 : BitVec 32 := 0#32
  let v1219 : BitVec 1 := Scalar.cmpi .ne v1218 c0_i32_574
  let v1220 : BitVec 1 := Scalar.andi v1217 v1219
  let v1206 : BitVec 32 := Scalar.divsi v1205 c2_i32_569
  let c1_i32_575 : BitVec 32 := 1#32
  let v1221 : BitVec 32 := Scalar.subi v1206 c1_i32_575
  let v1222 : BitVec 32 := Scalar.select v1220 v1221 v1206
  let v1223 : BitVec 32 := Scalar.maxsi c0_i32_576 v1222
  let v1224 : BitVec 32 := Scalar.minsi v1181 v1223
  let v1225 : BitVec 32 := Scalar.subi v1224 v1204
  let c1_i32_577 : BitVec 32 := 1#32
  let v1227 : BitVec 32 := Scalar.divsi v1225 c1_i32_577
  let v1228 : BitVec 32 := Scalar.muli v1227 c1_i32_577
  let v1229 : BitVec 32 := Scalar.addi v1204 v1228
  let c1_i32_578 : BitVec 32 := 1#32
  ⟨v1204, v1229, c1_i32_578⟩

def k0_off190 (v1161 : BitVec 32) (v1163 : BitVec 32) (k0_t71 : Fin (k0_t71_loop v1161 v1163).trips) : Fin 2 → Nat :=
  let c1_i32_549 : BitVec 32 := 1#32
  let v1164 : BitVec 32 := Scalar.addi v1161 c1_i32_549
  let c0_i32_551 : BitVec 32 := 0#32
  let v1166 : BitVec 1 := Scalar.cmpi .sgt v1164 c0_i32_551
  let v1167 : BitVec 32 := Scalar.extui v1166
  let c0_i32_552 : BitVec 32 := 0#32
  let v1168 : BitVec 1 := Scalar.cmpi .slt v1164 c0_i32_552
  let v1169 : BitVec 32 := Scalar.extui v1168
  let v1170 : BitVec 32 := Scalar.subi v1167 v1169
  let c2_i32_550 : BitVec 32 := 2#32
  let c0_i32_553 : BitVec 32 := 0#32
  let v1171 : BitVec 1 := Scalar.cmpi .sgt c2_i32_550 c0_i32_553
  let v1172 : BitVec 32 := Scalar.extui v1171
  let c0_i32_554 : BitVec 32 := 0#32
  let v1173 : BitVec 1 := Scalar.cmpi .slt c2_i32_550 c0_i32_554
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_550
  let c0_i32_555 : BitVec 32 := 0#32
  let v1178 : BitVec 1 := Scalar.cmpi .ne v1177 c0_i32_555
  let v1179 : BitVec 1 := Scalar.andi v1176 v1178
  let v1165 : BitVec 32 := Scalar.divsi v1164 c2_i32_550
  let c1_i32_556 : BitVec 32 := 1#32
  let v1180 : BitVec 32 := Scalar.subi v1165 c1_i32_556
  let v1181 : BitVec 32 := Scalar.select v1179 v1180 v1165
  let c0_i32_567 : BitVec 32 := 0#32
  let c384_i32_559 : BitVec 32 := 384#32
  let v1185 : BitVec 32 := Scalar.subi c384_i32_559 v1163
  let c0_i32_561 : BitVec 32 := 0#32
  let v1187 : BitVec 1 := Scalar.cmpi .sgt v1185 c0_i32_561
  let v1188 : BitVec 32 := Scalar.extui v1187
  let c0_i32_562 : BitVec 32 := 0#32
  let v1189 : BitVec 1 := Scalar.cmpi .slt v1185 c0_i32_562
  let v1190 : BitVec 32 := Scalar.extui v1189
  let v1191 : BitVec 32 := Scalar.subi v1188 v1190
  let c2_i32_560 : BitVec 32 := 2#32
  let c0_i32_563 : BitVec 32 := 0#32
  let v1192 : BitVec 1 := Scalar.cmpi .sgt c2_i32_560 c0_i32_563
  let v1193 : BitVec 32 := Scalar.extui v1192
  let c0_i32_564 : BitVec 32 := 0#32
  let v1194 : BitVec 1 := Scalar.cmpi .slt c2_i32_560 c0_i32_564
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_560
  let c0_i32_565 : BitVec 32 := 0#32
  let v1199 : BitVec 1 := Scalar.cmpi .ne v1198 c0_i32_565
  let v1200 : BitVec 1 := Scalar.andi v1197 v1199
  let v1186 : BitVec 32 := Scalar.divsi v1185 c2_i32_560
  let c1_i32_566 : BitVec 32 := 1#32
  let v1201 : BitVec 32 := Scalar.subi v1186 c1_i32_566
  let v1202 : BitVec 32 := Scalar.select v1200 v1201 v1186
  let v1203 : BitVec 32 := Scalar.maxsi c0_i32_567 v1202
  let v1204 : BitVec 32 := Scalar.minsi v1181 v1203
  let c1_i32_578 : BitVec 32 := 1#32
  let arg23 : BitVec 32 := Scf.iv v1204 c1_i32_578 k0_t71
  let c2_i32_612 : BitVec 32 := 2#32
  let v1306 : BitVec 32 := Scalar.muli arg23 c2_i32_612
  let v1307 : BitVec 32 := Scalar.addi v1163 v1306
  let c384_i32_613 : BitVec 32 := 384#32
  let v1308 : BitVec 32 := Scalar.subi v1307 c384_i32_613
  let c0_i32_614 : BitVec 32 := 0#32
  ![v1308.toNat, 0]
def k0_off191 (v1161 : BitVec 32) (v1163 : BitVec 32) (k0_t71 : Fin (k0_t71_loop v1161 v1163).trips) : Fin 2 → Nat :=
  let c1_i32_611 : BitVec 32 := 1#32
  let v1304 : BitVec 32 := Scalar.shrsi v1163 c1_i32_611
  let c1_i32_549 : BitVec 32 := 1#32
  let v1164 : BitVec 32 := Scalar.addi v1161 c1_i32_549
  let c0_i32_551 : BitVec 32 := 0#32
  let v1166 : BitVec 1 := Scalar.cmpi .sgt v1164 c0_i32_551
  let v1167 : BitVec 32 := Scalar.extui v1166
  let c0_i32_552 : BitVec 32 := 0#32
  let v1168 : BitVec 1 := Scalar.cmpi .slt v1164 c0_i32_552
  let v1169 : BitVec 32 := Scalar.extui v1168
  let v1170 : BitVec 32 := Scalar.subi v1167 v1169
  let c2_i32_550 : BitVec 32 := 2#32
  let c0_i32_553 : BitVec 32 := 0#32
  let v1171 : BitVec 1 := Scalar.cmpi .sgt c2_i32_550 c0_i32_553
  let v1172 : BitVec 32 := Scalar.extui v1171
  let c0_i32_554 : BitVec 32 := 0#32
  let v1173 : BitVec 1 := Scalar.cmpi .slt c2_i32_550 c0_i32_554
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_550
  let c0_i32_555 : BitVec 32 := 0#32
  let v1178 : BitVec 1 := Scalar.cmpi .ne v1177 c0_i32_555
  let v1179 : BitVec 1 := Scalar.andi v1176 v1178
  let v1165 : BitVec 32 := Scalar.divsi v1164 c2_i32_550
  let c1_i32_556 : BitVec 32 := 1#32
  let v1180 : BitVec 32 := Scalar.subi v1165 c1_i32_556
  let v1181 : BitVec 32 := Scalar.select v1179 v1180 v1165
  let c0_i32_567 : BitVec 32 := 0#32
  let c384_i32_559 : BitVec 32 := 384#32
  let v1185 : BitVec 32 := Scalar.subi c384_i32_559 v1163
  let c0_i32_561 : BitVec 32 := 0#32
  let v1187 : BitVec 1 := Scalar.cmpi .sgt v1185 c0_i32_561
  let v1188 : BitVec 32 := Scalar.extui v1187
  let c0_i32_562 : BitVec 32 := 0#32
  let v1189 : BitVec 1 := Scalar.cmpi .slt v1185 c0_i32_562
  let v1190 : BitVec 32 := Scalar.extui v1189
  let v1191 : BitVec 32 := Scalar.subi v1188 v1190
  let c2_i32_560 : BitVec 32 := 2#32
  let c0_i32_563 : BitVec 32 := 0#32
  let v1192 : BitVec 1 := Scalar.cmpi .sgt c2_i32_560 c0_i32_563
  let v1193 : BitVec 32 := Scalar.extui v1192
  let c0_i32_564 : BitVec 32 := 0#32
  let v1194 : BitVec 1 := Scalar.cmpi .slt c2_i32_560 c0_i32_564
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_560
  let c0_i32_565 : BitVec 32 := 0#32
  let v1199 : BitVec 1 := Scalar.cmpi .ne v1198 c0_i32_565
  let v1200 : BitVec 1 := Scalar.andi v1197 v1199
  let v1186 : BitVec 32 := Scalar.divsi v1185 c2_i32_560
  let c1_i32_566 : BitVec 32 := 1#32
  let v1201 : BitVec 32 := Scalar.subi v1186 c1_i32_566
  let v1202 : BitVec 32 := Scalar.select v1200 v1201 v1186
  let v1203 : BitVec 32 := Scalar.maxsi c0_i32_567 v1202
  let v1204 : BitVec 32 := Scalar.minsi v1181 v1203
  let c1_i32_578 : BitVec 32 := 1#32
  let arg23 : BitVec 32 := Scf.iv v1204 c1_i32_578 k0_t71
  let v1305 : BitVec 32 := Scalar.addi v1304 arg23
  let c0_i32_615 : BitVec 32 := 0#32
  ![v1305.toNat, 0]
def k0_off192 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_557 : BitVec 32 := 16#32
  let v1182 : BitVec 32 := Scalar.muli arg21 c16_i32_557
  let c14_i32 : BitVec 32 := 14#32
  let v1183 : BitVec 32 := Scalar.addi v1182 c14_i32
  let c128_i32_558 : BitVec 32 := 128#32
  let v1184 : BitVec 32 := Scalar.muli v1183 c128_i32_558
  ![0, v1184.toNat]
@[reducible] def k0_t72_loop (v1161 : BitVec 32) (v1163 : BitVec 32) : Scf.Loop 32 :=
  let c1_i32_549 : BitVec 32 := 1#32
  let v1164 : BitVec 32 := Scalar.addi v1161 c1_i32_549
  let c0_i32_551 : BitVec 32 := 0#32
  let v1166 : BitVec 1 := Scalar.cmpi .sgt v1164 c0_i32_551
  let v1167 : BitVec 32 := Scalar.extui v1166
  let c0_i32_552 : BitVec 32 := 0#32
  let v1168 : BitVec 1 := Scalar.cmpi .slt v1164 c0_i32_552
  let v1169 : BitVec 32 := Scalar.extui v1168
  let v1170 : BitVec 32 := Scalar.subi v1167 v1169
  let c2_i32_550 : BitVec 32 := 2#32
  let c0_i32_553 : BitVec 32 := 0#32
  let v1171 : BitVec 1 := Scalar.cmpi .sgt c2_i32_550 c0_i32_553
  let v1172 : BitVec 32 := Scalar.extui v1171
  let c0_i32_554 : BitVec 32 := 0#32
  let v1173 : BitVec 1 := Scalar.cmpi .slt c2_i32_550 c0_i32_554
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_550
  let c0_i32_555 : BitVec 32 := 0#32
  let v1178 : BitVec 1 := Scalar.cmpi .ne v1177 c0_i32_555
  let v1179 : BitVec 1 := Scalar.andi v1176 v1178
  let v1165 : BitVec 32 := Scalar.divsi v1164 c2_i32_550
  let c1_i32_556 : BitVec 32 := 1#32
  let v1180 : BitVec 32 := Scalar.subi v1165 c1_i32_556
  let v1181 : BitVec 32 := Scalar.select v1179 v1180 v1165
  let c0_i32_567 : BitVec 32 := 0#32
  let c384_i32_559 : BitVec 32 := 384#32
  let v1185 : BitVec 32 := Scalar.subi c384_i32_559 v1163
  let c0_i32_561 : BitVec 32 := 0#32
  let v1187 : BitVec 1 := Scalar.cmpi .sgt v1185 c0_i32_561
  let v1188 : BitVec 32 := Scalar.extui v1187
  let c0_i32_562 : BitVec 32 := 0#32
  let v1189 : BitVec 1 := Scalar.cmpi .slt v1185 c0_i32_562
  let v1190 : BitVec 32 := Scalar.extui v1189
  let v1191 : BitVec 32 := Scalar.subi v1188 v1190
  let c2_i32_560 : BitVec 32 := 2#32
  let c0_i32_563 : BitVec 32 := 0#32
  let v1192 : BitVec 1 := Scalar.cmpi .sgt c2_i32_560 c0_i32_563
  let v1193 : BitVec 32 := Scalar.extui v1192
  let c0_i32_564 : BitVec 32 := 0#32
  let v1194 : BitVec 1 := Scalar.cmpi .slt c2_i32_560 c0_i32_564
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_560
  let c0_i32_565 : BitVec 32 := 0#32
  let v1199 : BitVec 1 := Scalar.cmpi .ne v1198 c0_i32_565
  let v1200 : BitVec 1 := Scalar.andi v1197 v1199
  let v1186 : BitVec 32 := Scalar.divsi v1185 c2_i32_560
  let c1_i32_566 : BitVec 32 := 1#32
  let v1201 : BitVec 32 := Scalar.subi v1186 c1_i32_566
  let v1202 : BitVec 32 := Scalar.select v1200 v1201 v1186
  let v1203 : BitVec 32 := Scalar.maxsi c0_i32_567 v1202
  let v1204 : BitVec 32 := Scalar.minsi v1181 v1203
  let c0_i32_576 : BitVec 32 := 0#32
  let c768_i32_568 : BitVec 32 := 768#32
  let v1205 : BitVec 32 := Scalar.subi c768_i32_568 v1163
  let c0_i32_570 : BitVec 32 := 0#32
  let v1207 : BitVec 1 := Scalar.cmpi .sgt v1205 c0_i32_570
  let v1208 : BitVec 32 := Scalar.extui v1207
  let c0_i32_571 : BitVec 32 := 0#32
  let v1209 : BitVec 1 := Scalar.cmpi .slt v1205 c0_i32_571
  let v1210 : BitVec 32 := Scalar.extui v1209
  let v1211 : BitVec 32 := Scalar.subi v1208 v1210
  let c2_i32_569 : BitVec 32 := 2#32
  let c0_i32_572 : BitVec 32 := 0#32
  let v1212 : BitVec 1 := Scalar.cmpi .sgt c2_i32_569 c0_i32_572
  let v1213 : BitVec 32 := Scalar.extui v1212
  let c0_i32_573 : BitVec 32 := 0#32
  let v1214 : BitVec 1 := Scalar.cmpi .slt c2_i32_569 c0_i32_573
  let v1215 : BitVec 32 := Scalar.extui v1214
  let v1216 : BitVec 32 := Scalar.subi v1213 v1215
  let v1217 : BitVec 1 := Scalar.cmpi .ne v1211 v1216
  let v1218 : BitVec 32 := Scalar.remsi v1205 c2_i32_569
  let c0_i32_574 : BitVec 32 := 0#32
  let v1219 : BitVec 1 := Scalar.cmpi .ne v1218 c0_i32_574
  let v1220 : BitVec 1 := Scalar.andi v1217 v1219
  let v1206 : BitVec 32 := Scalar.divsi v1205 c2_i32_569
  let c1_i32_575 : BitVec 32 := 1#32
  let v1221 : BitVec 32 := Scalar.subi v1206 c1_i32_575
  let v1222 : BitVec 32 := Scalar.select v1220 v1221 v1206
  let v1223 : BitVec 32 := Scalar.maxsi c0_i32_576 v1222
  let v1224 : BitVec 32 := Scalar.minsi v1181 v1223
  let v1225 : BitVec 32 := Scalar.subi v1224 v1204
  let c1_i32_577 : BitVec 32 := 1#32
  let v1227 : BitVec 32 := Scalar.divsi v1225 c1_i32_577
  let v1228 : BitVec 32 := Scalar.muli v1227 c1_i32_577
  let v1229 : BitVec 32 := Scalar.addi v1204 v1228
  let v1226 : BitVec 32 := Scalar.addi v1204 v1225
  let c1_i32_579 : BitVec 32 := 1#32
  ⟨v1229, v1226, c1_i32_579⟩
def k0_off193 (v1161 : BitVec 32) (v1163 : BitVec 32) (k0_t72 : Fin (k0_t72_loop v1161 v1163).trips) : Fin 2 → Nat :=
  let c1_i32_549 : BitVec 32 := 1#32
  let v1164 : BitVec 32 := Scalar.addi v1161 c1_i32_549
  let c0_i32_551 : BitVec 32 := 0#32
  let v1166 : BitVec 1 := Scalar.cmpi .sgt v1164 c0_i32_551
  let v1167 : BitVec 32 := Scalar.extui v1166
  let c0_i32_552 : BitVec 32 := 0#32
  let v1168 : BitVec 1 := Scalar.cmpi .slt v1164 c0_i32_552
  let v1169 : BitVec 32 := Scalar.extui v1168
  let v1170 : BitVec 32 := Scalar.subi v1167 v1169
  let c2_i32_550 : BitVec 32 := 2#32
  let c0_i32_553 : BitVec 32 := 0#32
  let v1171 : BitVec 1 := Scalar.cmpi .sgt c2_i32_550 c0_i32_553
  let v1172 : BitVec 32 := Scalar.extui v1171
  let c0_i32_554 : BitVec 32 := 0#32
  let v1173 : BitVec 1 := Scalar.cmpi .slt c2_i32_550 c0_i32_554
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_550
  let c0_i32_555 : BitVec 32 := 0#32
  let v1178 : BitVec 1 := Scalar.cmpi .ne v1177 c0_i32_555
  let v1179 : BitVec 1 := Scalar.andi v1176 v1178
  let v1165 : BitVec 32 := Scalar.divsi v1164 c2_i32_550
  let c1_i32_556 : BitVec 32 := 1#32
  let v1180 : BitVec 32 := Scalar.subi v1165 c1_i32_556
  let v1181 : BitVec 32 := Scalar.select v1179 v1180 v1165
  let c0_i32_567 : BitVec 32 := 0#32
  let c384_i32_559 : BitVec 32 := 384#32
  let v1185 : BitVec 32 := Scalar.subi c384_i32_559 v1163
  let c0_i32_561 : BitVec 32 := 0#32
  let v1187 : BitVec 1 := Scalar.cmpi .sgt v1185 c0_i32_561
  let v1188 : BitVec 32 := Scalar.extui v1187
  let c0_i32_562 : BitVec 32 := 0#32
  let v1189 : BitVec 1 := Scalar.cmpi .slt v1185 c0_i32_562
  let v1190 : BitVec 32 := Scalar.extui v1189
  let v1191 : BitVec 32 := Scalar.subi v1188 v1190
  let c2_i32_560 : BitVec 32 := 2#32
  let c0_i32_563 : BitVec 32 := 0#32
  let v1192 : BitVec 1 := Scalar.cmpi .sgt c2_i32_560 c0_i32_563
  let v1193 : BitVec 32 := Scalar.extui v1192
  let c0_i32_564 : BitVec 32 := 0#32
  let v1194 : BitVec 1 := Scalar.cmpi .slt c2_i32_560 c0_i32_564
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_560
  let c0_i32_565 : BitVec 32 := 0#32
  let v1199 : BitVec 1 := Scalar.cmpi .ne v1198 c0_i32_565
  let v1200 : BitVec 1 := Scalar.andi v1197 v1199
  let v1186 : BitVec 32 := Scalar.divsi v1185 c2_i32_560
  let c1_i32_566 : BitVec 32 := 1#32
  let v1201 : BitVec 32 := Scalar.subi v1186 c1_i32_566
  let v1202 : BitVec 32 := Scalar.select v1200 v1201 v1186
  let v1203 : BitVec 32 := Scalar.maxsi c0_i32_567 v1202
  let v1204 : BitVec 32 := Scalar.minsi v1181 v1203
  let c0_i32_576 : BitVec 32 := 0#32
  let c768_i32_568 : BitVec 32 := 768#32
  let v1205 : BitVec 32 := Scalar.subi c768_i32_568 v1163
  let c0_i32_570 : BitVec 32 := 0#32
  let v1207 : BitVec 1 := Scalar.cmpi .sgt v1205 c0_i32_570
  let v1208 : BitVec 32 := Scalar.extui v1207
  let c0_i32_571 : BitVec 32 := 0#32
  let v1209 : BitVec 1 := Scalar.cmpi .slt v1205 c0_i32_571
  let v1210 : BitVec 32 := Scalar.extui v1209
  let v1211 : BitVec 32 := Scalar.subi v1208 v1210
  let c2_i32_569 : BitVec 32 := 2#32
  let c0_i32_572 : BitVec 32 := 0#32
  let v1212 : BitVec 1 := Scalar.cmpi .sgt c2_i32_569 c0_i32_572
  let v1213 : BitVec 32 := Scalar.extui v1212
  let c0_i32_573 : BitVec 32 := 0#32
  let v1214 : BitVec 1 := Scalar.cmpi .slt c2_i32_569 c0_i32_573
  let v1215 : BitVec 32 := Scalar.extui v1214
  let v1216 : BitVec 32 := Scalar.subi v1213 v1215
  let v1217 : BitVec 1 := Scalar.cmpi .ne v1211 v1216
  let v1218 : BitVec 32 := Scalar.remsi v1205 c2_i32_569
  let c0_i32_574 : BitVec 32 := 0#32
  let v1219 : BitVec 1 := Scalar.cmpi .ne v1218 c0_i32_574
  let v1220 : BitVec 1 := Scalar.andi v1217 v1219
  let v1206 : BitVec 32 := Scalar.divsi v1205 c2_i32_569
  let c1_i32_575 : BitVec 32 := 1#32
  let v1221 : BitVec 32 := Scalar.subi v1206 c1_i32_575
  let v1222 : BitVec 32 := Scalar.select v1220 v1221 v1206
  let v1223 : BitVec 32 := Scalar.maxsi c0_i32_576 v1222
  let v1224 : BitVec 32 := Scalar.minsi v1181 v1223
  let v1225 : BitVec 32 := Scalar.subi v1224 v1204
  let c1_i32_577 : BitVec 32 := 1#32
  let v1227 : BitVec 32 := Scalar.divsi v1225 c1_i32_577
  let v1228 : BitVec 32 := Scalar.muli v1227 c1_i32_577
  let v1229 : BitVec 32 := Scalar.addi v1204 v1228
  let c1_i32_579 : BitVec 32 := 1#32
  let arg23 : BitVec 32 := Scf.iv v1229 c1_i32_579 k0_t72
  let c2_i32_612 : BitVec 32 := 2#32
  let v1306 : BitVec 32 := Scalar.muli arg23 c2_i32_612
  let v1307 : BitVec 32 := Scalar.addi v1163 v1306
  let c384_i32_613 : BitVec 32 := 384#32
  let v1308 : BitVec 32 := Scalar.subi v1307 c384_i32_613
  let c0_i32_614 : BitVec 32 := 0#32
  ![v1308.toNat, 0]
def k0_off194 (v1161 : BitVec 32) (v1163 : BitVec 32) (k0_t72 : Fin (k0_t72_loop v1161 v1163).trips) : Fin 2 → Nat :=
  let c1_i32_611 : BitVec 32 := 1#32
  let v1304 : BitVec 32 := Scalar.shrsi v1163 c1_i32_611
  let c1_i32_549 : BitVec 32 := 1#32
  let v1164 : BitVec 32 := Scalar.addi v1161 c1_i32_549
  let c0_i32_551 : BitVec 32 := 0#32
  let v1166 : BitVec 1 := Scalar.cmpi .sgt v1164 c0_i32_551
  let v1167 : BitVec 32 := Scalar.extui v1166
  let c0_i32_552 : BitVec 32 := 0#32
  let v1168 : BitVec 1 := Scalar.cmpi .slt v1164 c0_i32_552
  let v1169 : BitVec 32 := Scalar.extui v1168
  let v1170 : BitVec 32 := Scalar.subi v1167 v1169
  let c2_i32_550 : BitVec 32 := 2#32
  let c0_i32_553 : BitVec 32 := 0#32
  let v1171 : BitVec 1 := Scalar.cmpi .sgt c2_i32_550 c0_i32_553
  let v1172 : BitVec 32 := Scalar.extui v1171
  let c0_i32_554 : BitVec 32 := 0#32
  let v1173 : BitVec 1 := Scalar.cmpi .slt c2_i32_550 c0_i32_554
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_550
  let c0_i32_555 : BitVec 32 := 0#32
  let v1178 : BitVec 1 := Scalar.cmpi .ne v1177 c0_i32_555
  let v1179 : BitVec 1 := Scalar.andi v1176 v1178
  let v1165 : BitVec 32 := Scalar.divsi v1164 c2_i32_550
  let c1_i32_556 : BitVec 32 := 1#32
  let v1180 : BitVec 32 := Scalar.subi v1165 c1_i32_556
  let v1181 : BitVec 32 := Scalar.select v1179 v1180 v1165
  let c0_i32_567 : BitVec 32 := 0#32
  let c384_i32_559 : BitVec 32 := 384#32
  let v1185 : BitVec 32 := Scalar.subi c384_i32_559 v1163
  let c0_i32_561 : BitVec 32 := 0#32
  let v1187 : BitVec 1 := Scalar.cmpi .sgt v1185 c0_i32_561
  let v1188 : BitVec 32 := Scalar.extui v1187
  let c0_i32_562 : BitVec 32 := 0#32
  let v1189 : BitVec 1 := Scalar.cmpi .slt v1185 c0_i32_562
  let v1190 : BitVec 32 := Scalar.extui v1189
  let v1191 : BitVec 32 := Scalar.subi v1188 v1190
  let c2_i32_560 : BitVec 32 := 2#32
  let c0_i32_563 : BitVec 32 := 0#32
  let v1192 : BitVec 1 := Scalar.cmpi .sgt c2_i32_560 c0_i32_563
  let v1193 : BitVec 32 := Scalar.extui v1192
  let c0_i32_564 : BitVec 32 := 0#32
  let v1194 : BitVec 1 := Scalar.cmpi .slt c2_i32_560 c0_i32_564
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_560
  let c0_i32_565 : BitVec 32 := 0#32
  let v1199 : BitVec 1 := Scalar.cmpi .ne v1198 c0_i32_565
  let v1200 : BitVec 1 := Scalar.andi v1197 v1199
  let v1186 : BitVec 32 := Scalar.divsi v1185 c2_i32_560
  let c1_i32_566 : BitVec 32 := 1#32
  let v1201 : BitVec 32 := Scalar.subi v1186 c1_i32_566
  let v1202 : BitVec 32 := Scalar.select v1200 v1201 v1186
  let v1203 : BitVec 32 := Scalar.maxsi c0_i32_567 v1202
  let v1204 : BitVec 32 := Scalar.minsi v1181 v1203
  let c0_i32_576 : BitVec 32 := 0#32
  let c768_i32_568 : BitVec 32 := 768#32
  let v1205 : BitVec 32 := Scalar.subi c768_i32_568 v1163
  let c0_i32_570 : BitVec 32 := 0#32
  let v1207 : BitVec 1 := Scalar.cmpi .sgt v1205 c0_i32_570
  let v1208 : BitVec 32 := Scalar.extui v1207
  let c0_i32_571 : BitVec 32 := 0#32
  let v1209 : BitVec 1 := Scalar.cmpi .slt v1205 c0_i32_571
  let v1210 : BitVec 32 := Scalar.extui v1209
  let v1211 : BitVec 32 := Scalar.subi v1208 v1210
  let c2_i32_569 : BitVec 32 := 2#32
  let c0_i32_572 : BitVec 32 := 0#32
  let v1212 : BitVec 1 := Scalar.cmpi .sgt c2_i32_569 c0_i32_572
  let v1213 : BitVec 32 := Scalar.extui v1212
  let c0_i32_573 : BitVec 32 := 0#32
  let v1214 : BitVec 1 := Scalar.cmpi .slt c2_i32_569 c0_i32_573
  let v1215 : BitVec 32 := Scalar.extui v1214
  let v1216 : BitVec 32 := Scalar.subi v1213 v1215
  let v1217 : BitVec 1 := Scalar.cmpi .ne v1211 v1216
  let v1218 : BitVec 32 := Scalar.remsi v1205 c2_i32_569
  let c0_i32_574 : BitVec 32 := 0#32
  let v1219 : BitVec 1 := Scalar.cmpi .ne v1218 c0_i32_574
  let v1220 : BitVec 1 := Scalar.andi v1217 v1219
  let v1206 : BitVec 32 := Scalar.divsi v1205 c2_i32_569
  let c1_i32_575 : BitVec 32 := 1#32
  let v1221 : BitVec 32 := Scalar.subi v1206 c1_i32_575
  let v1222 : BitVec 32 := Scalar.select v1220 v1221 v1206
  let v1223 : BitVec 32 := Scalar.maxsi c0_i32_576 v1222
  let v1224 : BitVec 32 := Scalar.minsi v1181 v1223
  let v1225 : BitVec 32 := Scalar.subi v1224 v1204
  let c1_i32_577 : BitVec 32 := 1#32
  let v1227 : BitVec 32 := Scalar.divsi v1225 c1_i32_577
  let v1228 : BitVec 32 := Scalar.muli v1227 c1_i32_577
  let v1229 : BitVec 32 := Scalar.addi v1204 v1228
  let c1_i32_579 : BitVec 32 := 1#32
  let arg23 : BitVec 32 := Scf.iv v1229 c1_i32_579 k0_t72
  let v1305 : BitVec 32 := Scalar.addi v1304 arg23
  let c0_i32_615 : BitVec 32 := 0#32
  ![v1305.toNat, 0]

def k0_chk39 (v1161 : BitVec 32) (v1163 : BitVec 32) : Prop :=
  ((k0_t71_loop v1161 v1163).OK) ∧
  (∀ k0_t71 : Fin (k0_t71_loop v1161 v1163).trips, ∀ a, (k0_off190 v1161 v1163 k0_t71) a + S2x128.size a ≤ S384x128.size a) ∧
  (∀ k0_t71 : Fin (k0_t71_loop v1161 v1163).trips, ∀ a, (k0_off191 v1161 v1163 k0_t71) a + S1x2.size a ≤ S584x2.size a) ∧
  ((k0_t72_loop v1161 v1163).OK) ∧
  (∀ k0_t72 : Fin (k0_t72_loop v1161 v1163).trips, ∀ a, (k0_off193 v1161 v1163 k0_t72) a + S2x128.size a ≤ S384x128.size a) ∧
  (∀ k0_t72 : Fin (k0_t72_loop v1161 v1163).trips, ∀ a, (k0_off194 v1161 v1163 k0_t72) a + S1x2.size a ≤ S584x2.size a)
theorem k0_t71_ok : ∀ (v1161 : BitVec 32) (v1163 : BitVec 32) (k0_hw39 : k0_chk39 v1161 v1163), (k0_t71_loop v1161 v1163).OK := fun v1161 v1163 k0_hw39 => k0_hw39.1
theorem k0_off190_inb : ∀ (v1161 : BitVec 32) (v1163 : BitVec 32) (k0_hw39 : k0_chk39 v1161 v1163) (k0_t71 : Fin (k0_t71_loop v1161 v1163).trips), ∀ a, (k0_off190 v1161 v1163 k0_t71) a + S2x128.size a ≤ S384x128.size a := fun v1161 v1163 k0_hw39 k0_t71 => k0_hw39.2.1 k0_t71
theorem k0_off191_inb : ∀ (v1161 : BitVec 32) (v1163 : BitVec 32) (k0_hw39 : k0_chk39 v1161 v1163) (k0_t71 : Fin (k0_t71_loop v1161 v1163).trips), ∀ a, (k0_off191 v1161 v1163 k0_t71) a + S1x2.size a ≤ S584x2.size a := fun v1161 v1163 k0_hw39 k0_t71 => k0_hw39.2.2.1 k0_t71
theorem k0_t72_ok : ∀ (v1161 : BitVec 32) (v1163 : BitVec 32) (k0_hw39 : k0_chk39 v1161 v1163), (k0_t72_loop v1161 v1163).OK := fun v1161 v1163 k0_hw39 => k0_hw39.2.2.2.1
theorem k0_off193_inb : ∀ (v1161 : BitVec 32) (v1163 : BitVec 32) (k0_hw39 : k0_chk39 v1161 v1163) (k0_t72 : Fin (k0_t72_loop v1161 v1163).trips), ∀ a, (k0_off193 v1161 v1163 k0_t72) a + S2x128.size a ≤ S384x128.size a := fun v1161 v1163 k0_hw39 k0_t72 => k0_hw39.2.2.2.2.1 k0_t72
theorem k0_off194_inb : ∀ (v1161 : BitVec 32) (v1163 : BitVec 32) (k0_hw39 : k0_chk39 v1161 v1163) (k0_t72 : Fin (k0_t72_loop v1161 v1163).trips), ∀ a, (k0_off194 v1161 v1163 k0_t72) a + S1x2.size a ≤ S584x2.size a := fun v1161 v1163 k0_hw39 k0_t72 => k0_hw39.2.2.2.2.2 k0_t72

def k0_off195 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_557 : BitVec 32 := 16#32
  let v1182 : BitVec 32 := Scalar.muli arg21 c16_i32_557
  let c14_i32 : BitVec 32 := 14#32
  let v1183 : BitVec 32 := Scalar.addi v1182 c14_i32
  let c128_i32_558 : BitVec 32 := 128#32
  let v1184 : BitVec 32 := Scalar.muli v1183 c128_i32_558
  ![0, v1184.toNat]
@[reducible] def k0_t73_loop (v1233 : BitVec 32) (v1235 : BitVec 32) : Scf.Loop 32 :=
  let c1_i32_580 : BitVec 32 := 1#32
  let v1236 : BitVec 32 := Scalar.addi v1233 c1_i32_580
  let c0_i32_582 : BitVec 32 := 0#32
  let v1238 : BitVec 1 := Scalar.cmpi .sgt v1236 c0_i32_582
  let v1239 : BitVec 32 := Scalar.extui v1238
  let c0_i32_583 : BitVec 32 := 0#32
  let v1240 : BitVec 1 := Scalar.cmpi .slt v1236 c0_i32_583
  let v1241 : BitVec 32 := Scalar.extui v1240
  let v1242 : BitVec 32 := Scalar.subi v1239 v1241
  let c2_i32_581 : BitVec 32 := 2#32
  let c0_i32_584 : BitVec 32 := 0#32
  let v1243 : BitVec 1 := Scalar.cmpi .sgt c2_i32_581 c0_i32_584
  let v1244 : BitVec 32 := Scalar.extui v1243
  let c0_i32_585 : BitVec 32 := 0#32
  let v1245 : BitVec 1 := Scalar.cmpi .slt c2_i32_581 c0_i32_585
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_581
  let c0_i32_586 : BitVec 32 := 0#32
  let v1250 : BitVec 1 := Scalar.cmpi .ne v1249 c0_i32_586
  let v1251 : BitVec 1 := Scalar.andi v1248 v1250
  let v1237 : BitVec 32 := Scalar.divsi v1236 c2_i32_581
  let c1_i32_587 : BitVec 32 := 1#32
  let v1252 : BitVec 32 := Scalar.subi v1237 c1_i32_587
  let v1253 : BitVec 32 := Scalar.select v1251 v1252 v1237
  let c0_i32_598 : BitVec 32 := 0#32
  let c384_i32_590 : BitVec 32 := 384#32
  let v1257 : BitVec 32 := Scalar.subi c384_i32_590 v1235
  let c0_i32_592 : BitVec 32 := 0#32
  let v1259 : BitVec 1 := Scalar.cmpi .sgt v1257 c0_i32_592
  let v1260 : BitVec 32 := Scalar.extui v1259
  let c0_i32_593 : BitVec 32 := 0#32
  let v1261 : BitVec 1 := Scalar.cmpi .slt v1257 c0_i32_593
  let v1262 : BitVec 32 := Scalar.extui v1261
  let v1263 : BitVec 32 := Scalar.subi v1260 v1262
  let c2_i32_591 : BitVec 32 := 2#32
  let c0_i32_594 : BitVec 32 := 0#32
  let v1264 : BitVec 1 := Scalar.cmpi .sgt c2_i32_591 c0_i32_594
  let v1265 : BitVec 32 := Scalar.extui v1264
  let c0_i32_595 : BitVec 32 := 0#32
  let v1266 : BitVec 1 := Scalar.cmpi .slt c2_i32_591 c0_i32_595
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_591
  let c0_i32_596 : BitVec 32 := 0#32
  let v1271 : BitVec 1 := Scalar.cmpi .ne v1270 c0_i32_596
  let v1272 : BitVec 1 := Scalar.andi v1269 v1271
  let v1258 : BitVec 32 := Scalar.divsi v1257 c2_i32_591
  let c1_i32_597 : BitVec 32 := 1#32
  let v1273 : BitVec 32 := Scalar.subi v1258 c1_i32_597
  let v1274 : BitVec 32 := Scalar.select v1272 v1273 v1258
  let v1275 : BitVec 32 := Scalar.maxsi c0_i32_598 v1274
  let v1276 : BitVec 32 := Scalar.minsi v1253 v1275
  let c0_i32_607 : BitVec 32 := 0#32
  let c768_i32_599 : BitVec 32 := 768#32
  let v1277 : BitVec 32 := Scalar.subi c768_i32_599 v1235
  let c0_i32_601 : BitVec 32 := 0#32
  let v1279 : BitVec 1 := Scalar.cmpi .sgt v1277 c0_i32_601
  let v1280 : BitVec 32 := Scalar.extui v1279
  let c0_i32_602 : BitVec 32 := 0#32
  let v1281 : BitVec 1 := Scalar.cmpi .slt v1277 c0_i32_602
  let v1282 : BitVec 32 := Scalar.extui v1281
  let v1283 : BitVec 32 := Scalar.subi v1280 v1282
  let c2_i32_600 : BitVec 32 := 2#32
  let c0_i32_603 : BitVec 32 := 0#32
  let v1284 : BitVec 1 := Scalar.cmpi .sgt c2_i32_600 c0_i32_603
  let v1285 : BitVec 32 := Scalar.extui v1284
  let c0_i32_604 : BitVec 32 := 0#32
  let v1286 : BitVec 1 := Scalar.cmpi .slt c2_i32_600 c0_i32_604
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_600
  let c0_i32_605 : BitVec 32 := 0#32
  let v1291 : BitVec 1 := Scalar.cmpi .ne v1290 c0_i32_605
  let v1292 : BitVec 1 := Scalar.andi v1289 v1291
  let v1278 : BitVec 32 := Scalar.divsi v1277 c2_i32_600
  let c1_i32_606 : BitVec 32 := 1#32
  let v1293 : BitVec 32 := Scalar.subi v1278 c1_i32_606
  let v1294 : BitVec 32 := Scalar.select v1292 v1293 v1278
  let v1295 : BitVec 32 := Scalar.maxsi c0_i32_607 v1294
  let v1296 : BitVec 32 := Scalar.minsi v1253 v1295
  let v1297 : BitVec 32 := Scalar.subi v1296 v1276
  let c1_i32_608 : BitVec 32 := 1#32
  let v1299 : BitVec 32 := Scalar.divsi v1297 c1_i32_608
  let v1300 : BitVec 32 := Scalar.muli v1299 c1_i32_608
  let v1301 : BitVec 32 := Scalar.addi v1276 v1300
  let c1_i32_609 : BitVec 32 := 1#32
  ⟨v1276, v1301, c1_i32_609⟩

def k0_off196 (v1233 : BitVec 32) (v1235 : BitVec 32) (k0_t73 : Fin (k0_t73_loop v1233 v1235).trips) : Fin 2 → Nat :=
  let c1_i32_580 : BitVec 32 := 1#32
  let v1236 : BitVec 32 := Scalar.addi v1233 c1_i32_580
  let c0_i32_582 : BitVec 32 := 0#32
  let v1238 : BitVec 1 := Scalar.cmpi .sgt v1236 c0_i32_582
  let v1239 : BitVec 32 := Scalar.extui v1238
  let c0_i32_583 : BitVec 32 := 0#32
  let v1240 : BitVec 1 := Scalar.cmpi .slt v1236 c0_i32_583
  let v1241 : BitVec 32 := Scalar.extui v1240
  let v1242 : BitVec 32 := Scalar.subi v1239 v1241
  let c2_i32_581 : BitVec 32 := 2#32
  let c0_i32_584 : BitVec 32 := 0#32
  let v1243 : BitVec 1 := Scalar.cmpi .sgt c2_i32_581 c0_i32_584
  let v1244 : BitVec 32 := Scalar.extui v1243
  let c0_i32_585 : BitVec 32 := 0#32
  let v1245 : BitVec 1 := Scalar.cmpi .slt c2_i32_581 c0_i32_585
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_581
  let c0_i32_586 : BitVec 32 := 0#32
  let v1250 : BitVec 1 := Scalar.cmpi .ne v1249 c0_i32_586
  let v1251 : BitVec 1 := Scalar.andi v1248 v1250
  let v1237 : BitVec 32 := Scalar.divsi v1236 c2_i32_581
  let c1_i32_587 : BitVec 32 := 1#32
  let v1252 : BitVec 32 := Scalar.subi v1237 c1_i32_587
  let v1253 : BitVec 32 := Scalar.select v1251 v1252 v1237
  let c0_i32_598 : BitVec 32 := 0#32
  let c384_i32_590 : BitVec 32 := 384#32
  let v1257 : BitVec 32 := Scalar.subi c384_i32_590 v1235
  let c0_i32_592 : BitVec 32 := 0#32
  let v1259 : BitVec 1 := Scalar.cmpi .sgt v1257 c0_i32_592
  let v1260 : BitVec 32 := Scalar.extui v1259
  let c0_i32_593 : BitVec 32 := 0#32
  let v1261 : BitVec 1 := Scalar.cmpi .slt v1257 c0_i32_593
  let v1262 : BitVec 32 := Scalar.extui v1261
  let v1263 : BitVec 32 := Scalar.subi v1260 v1262
  let c2_i32_591 : BitVec 32 := 2#32
  let c0_i32_594 : BitVec 32 := 0#32
  let v1264 : BitVec 1 := Scalar.cmpi .sgt c2_i32_591 c0_i32_594
  let v1265 : BitVec 32 := Scalar.extui v1264
  let c0_i32_595 : BitVec 32 := 0#32
  let v1266 : BitVec 1 := Scalar.cmpi .slt c2_i32_591 c0_i32_595
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_591
  let c0_i32_596 : BitVec 32 := 0#32
  let v1271 : BitVec 1 := Scalar.cmpi .ne v1270 c0_i32_596
  let v1272 : BitVec 1 := Scalar.andi v1269 v1271
  let v1258 : BitVec 32 := Scalar.divsi v1257 c2_i32_591
  let c1_i32_597 : BitVec 32 := 1#32
  let v1273 : BitVec 32 := Scalar.subi v1258 c1_i32_597
  let v1274 : BitVec 32 := Scalar.select v1272 v1273 v1258
  let v1275 : BitVec 32 := Scalar.maxsi c0_i32_598 v1274
  let v1276 : BitVec 32 := Scalar.minsi v1253 v1275
  let c1_i32_609 : BitVec 32 := 1#32
  let arg23 : BitVec 32 := Scf.iv v1276 c1_i32_609 k0_t73
  let c2_i32_612 : BitVec 32 := 2#32
  let v1306 : BitVec 32 := Scalar.muli arg23 c2_i32_612
  let v1307 : BitVec 32 := Scalar.addi v1235 v1306
  let c384_i32_613 : BitVec 32 := 384#32
  let v1308 : BitVec 32 := Scalar.subi v1307 c384_i32_613
  let c0_i32_614 : BitVec 32 := 0#32
  ![v1308.toNat, 0]
def k0_off197 (v1233 : BitVec 32) (v1235 : BitVec 32) (k0_t73 : Fin (k0_t73_loop v1233 v1235).trips) : Fin 2 → Nat :=
  let c1_i32_611 : BitVec 32 := 1#32
  let v1304 : BitVec 32 := Scalar.shrsi v1235 c1_i32_611
  let c1_i32_580 : BitVec 32 := 1#32
  let v1236 : BitVec 32 := Scalar.addi v1233 c1_i32_580
  let c0_i32_582 : BitVec 32 := 0#32
  let v1238 : BitVec 1 := Scalar.cmpi .sgt v1236 c0_i32_582
  let v1239 : BitVec 32 := Scalar.extui v1238
  let c0_i32_583 : BitVec 32 := 0#32
  let v1240 : BitVec 1 := Scalar.cmpi .slt v1236 c0_i32_583
  let v1241 : BitVec 32 := Scalar.extui v1240
  let v1242 : BitVec 32 := Scalar.subi v1239 v1241
  let c2_i32_581 : BitVec 32 := 2#32
  let c0_i32_584 : BitVec 32 := 0#32
  let v1243 : BitVec 1 := Scalar.cmpi .sgt c2_i32_581 c0_i32_584
  let v1244 : BitVec 32 := Scalar.extui v1243
  let c0_i32_585 : BitVec 32 := 0#32
  let v1245 : BitVec 1 := Scalar.cmpi .slt c2_i32_581 c0_i32_585
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_581
  let c0_i32_586 : BitVec 32 := 0#32
  let v1250 : BitVec 1 := Scalar.cmpi .ne v1249 c0_i32_586
  let v1251 : BitVec 1 := Scalar.andi v1248 v1250
  let v1237 : BitVec 32 := Scalar.divsi v1236 c2_i32_581
  let c1_i32_587 : BitVec 32 := 1#32
  let v1252 : BitVec 32 := Scalar.subi v1237 c1_i32_587
  let v1253 : BitVec 32 := Scalar.select v1251 v1252 v1237
  let c0_i32_598 : BitVec 32 := 0#32
  let c384_i32_590 : BitVec 32 := 384#32
  let v1257 : BitVec 32 := Scalar.subi c384_i32_590 v1235
  let c0_i32_592 : BitVec 32 := 0#32
  let v1259 : BitVec 1 := Scalar.cmpi .sgt v1257 c0_i32_592
  let v1260 : BitVec 32 := Scalar.extui v1259
  let c0_i32_593 : BitVec 32 := 0#32
  let v1261 : BitVec 1 := Scalar.cmpi .slt v1257 c0_i32_593
  let v1262 : BitVec 32 := Scalar.extui v1261
  let v1263 : BitVec 32 := Scalar.subi v1260 v1262
  let c2_i32_591 : BitVec 32 := 2#32
  let c0_i32_594 : BitVec 32 := 0#32
  let v1264 : BitVec 1 := Scalar.cmpi .sgt c2_i32_591 c0_i32_594
  let v1265 : BitVec 32 := Scalar.extui v1264
  let c0_i32_595 : BitVec 32 := 0#32
  let v1266 : BitVec 1 := Scalar.cmpi .slt c2_i32_591 c0_i32_595
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_591
  let c0_i32_596 : BitVec 32 := 0#32
  let v1271 : BitVec 1 := Scalar.cmpi .ne v1270 c0_i32_596
  let v1272 : BitVec 1 := Scalar.andi v1269 v1271
  let v1258 : BitVec 32 := Scalar.divsi v1257 c2_i32_591
  let c1_i32_597 : BitVec 32 := 1#32
  let v1273 : BitVec 32 := Scalar.subi v1258 c1_i32_597
  let v1274 : BitVec 32 := Scalar.select v1272 v1273 v1258
  let v1275 : BitVec 32 := Scalar.maxsi c0_i32_598 v1274
  let v1276 : BitVec 32 := Scalar.minsi v1253 v1275
  let c1_i32_609 : BitVec 32 := 1#32
  let arg23 : BitVec 32 := Scf.iv v1276 c1_i32_609 k0_t73
  let v1305 : BitVec 32 := Scalar.addi v1304 arg23
  let c0_i32_615 : BitVec 32 := 0#32
  ![v1305.toNat, 0]
def k0_off198 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_588 : BitVec 32 := 16#32
  let v1254 : BitVec 32 := Scalar.muli arg21 c16_i32_588
  let c15_i32 : BitVec 32 := 15#32
  let v1255 : BitVec 32 := Scalar.addi v1254 c15_i32
  let c128_i32_589 : BitVec 32 := 128#32
  let v1256 : BitVec 32 := Scalar.muli v1255 c128_i32_589
  ![0, v1256.toNat]
@[reducible] def k0_t74_loop (v1233 : BitVec 32) (v1235 : BitVec 32) : Scf.Loop 32 :=
  let c1_i32_580 : BitVec 32 := 1#32
  let v1236 : BitVec 32 := Scalar.addi v1233 c1_i32_580
  let c0_i32_582 : BitVec 32 := 0#32
  let v1238 : BitVec 1 := Scalar.cmpi .sgt v1236 c0_i32_582
  let v1239 : BitVec 32 := Scalar.extui v1238
  let c0_i32_583 : BitVec 32 := 0#32
  let v1240 : BitVec 1 := Scalar.cmpi .slt v1236 c0_i32_583
  let v1241 : BitVec 32 := Scalar.extui v1240
  let v1242 : BitVec 32 := Scalar.subi v1239 v1241
  let c2_i32_581 : BitVec 32 := 2#32
  let c0_i32_584 : BitVec 32 := 0#32
  let v1243 : BitVec 1 := Scalar.cmpi .sgt c2_i32_581 c0_i32_584
  let v1244 : BitVec 32 := Scalar.extui v1243
  let c0_i32_585 : BitVec 32 := 0#32
  let v1245 : BitVec 1 := Scalar.cmpi .slt c2_i32_581 c0_i32_585
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_581
  let c0_i32_586 : BitVec 32 := 0#32
  let v1250 : BitVec 1 := Scalar.cmpi .ne v1249 c0_i32_586
  let v1251 : BitVec 1 := Scalar.andi v1248 v1250
  let v1237 : BitVec 32 := Scalar.divsi v1236 c2_i32_581
  let c1_i32_587 : BitVec 32 := 1#32
  let v1252 : BitVec 32 := Scalar.subi v1237 c1_i32_587
  let v1253 : BitVec 32 := Scalar.select v1251 v1252 v1237
  let c0_i32_598 : BitVec 32 := 0#32
  let c384_i32_590 : BitVec 32 := 384#32
  let v1257 : BitVec 32 := Scalar.subi c384_i32_590 v1235
  let c0_i32_592 : BitVec 32 := 0#32
  let v1259 : BitVec 1 := Scalar.cmpi .sgt v1257 c0_i32_592
  let v1260 : BitVec 32 := Scalar.extui v1259
  let c0_i32_593 : BitVec 32 := 0#32
  let v1261 : BitVec 1 := Scalar.cmpi .slt v1257 c0_i32_593
  let v1262 : BitVec 32 := Scalar.extui v1261
  let v1263 : BitVec 32 := Scalar.subi v1260 v1262
  let c2_i32_591 : BitVec 32 := 2#32
  let c0_i32_594 : BitVec 32 := 0#32
  let v1264 : BitVec 1 := Scalar.cmpi .sgt c2_i32_591 c0_i32_594
  let v1265 : BitVec 32 := Scalar.extui v1264
  let c0_i32_595 : BitVec 32 := 0#32
  let v1266 : BitVec 1 := Scalar.cmpi .slt c2_i32_591 c0_i32_595
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_591
  let c0_i32_596 : BitVec 32 := 0#32
  let v1271 : BitVec 1 := Scalar.cmpi .ne v1270 c0_i32_596
  let v1272 : BitVec 1 := Scalar.andi v1269 v1271
  let v1258 : BitVec 32 := Scalar.divsi v1257 c2_i32_591
  let c1_i32_597 : BitVec 32 := 1#32
  let v1273 : BitVec 32 := Scalar.subi v1258 c1_i32_597
  let v1274 : BitVec 32 := Scalar.select v1272 v1273 v1258
  let v1275 : BitVec 32 := Scalar.maxsi c0_i32_598 v1274
  let v1276 : BitVec 32 := Scalar.minsi v1253 v1275
  let c0_i32_607 : BitVec 32 := 0#32
  let c768_i32_599 : BitVec 32 := 768#32
  let v1277 : BitVec 32 := Scalar.subi c768_i32_599 v1235
  let c0_i32_601 : BitVec 32 := 0#32
  let v1279 : BitVec 1 := Scalar.cmpi .sgt v1277 c0_i32_601
  let v1280 : BitVec 32 := Scalar.extui v1279
  let c0_i32_602 : BitVec 32 := 0#32
  let v1281 : BitVec 1 := Scalar.cmpi .slt v1277 c0_i32_602
  let v1282 : BitVec 32 := Scalar.extui v1281
  let v1283 : BitVec 32 := Scalar.subi v1280 v1282
  let c2_i32_600 : BitVec 32 := 2#32
  let c0_i32_603 : BitVec 32 := 0#32
  let v1284 : BitVec 1 := Scalar.cmpi .sgt c2_i32_600 c0_i32_603
  let v1285 : BitVec 32 := Scalar.extui v1284
  let c0_i32_604 : BitVec 32 := 0#32
  let v1286 : BitVec 1 := Scalar.cmpi .slt c2_i32_600 c0_i32_604
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_600
  let c0_i32_605 : BitVec 32 := 0#32
  let v1291 : BitVec 1 := Scalar.cmpi .ne v1290 c0_i32_605
  let v1292 : BitVec 1 := Scalar.andi v1289 v1291
  let v1278 : BitVec 32 := Scalar.divsi v1277 c2_i32_600
  let c1_i32_606 : BitVec 32 := 1#32
  let v1293 : BitVec 32 := Scalar.subi v1278 c1_i32_606
  let v1294 : BitVec 32 := Scalar.select v1292 v1293 v1278
  let v1295 : BitVec 32 := Scalar.maxsi c0_i32_607 v1294
  let v1296 : BitVec 32 := Scalar.minsi v1253 v1295
  let v1297 : BitVec 32 := Scalar.subi v1296 v1276
  let c1_i32_608 : BitVec 32 := 1#32
  let v1299 : BitVec 32 := Scalar.divsi v1297 c1_i32_608
  let v1300 : BitVec 32 := Scalar.muli v1299 c1_i32_608
  let v1301 : BitVec 32 := Scalar.addi v1276 v1300
  let v1298 : BitVec 32 := Scalar.addi v1276 v1297
  let c1_i32_610 : BitVec 32 := 1#32
  ⟨v1301, v1298, c1_i32_610⟩
def k0_off199 (v1233 : BitVec 32) (v1235 : BitVec 32) (k0_t74 : Fin (k0_t74_loop v1233 v1235).trips) : Fin 2 → Nat :=
  let c1_i32_580 : BitVec 32 := 1#32
  let v1236 : BitVec 32 := Scalar.addi v1233 c1_i32_580
  let c0_i32_582 : BitVec 32 := 0#32
  let v1238 : BitVec 1 := Scalar.cmpi .sgt v1236 c0_i32_582
  let v1239 : BitVec 32 := Scalar.extui v1238
  let c0_i32_583 : BitVec 32 := 0#32
  let v1240 : BitVec 1 := Scalar.cmpi .slt v1236 c0_i32_583
  let v1241 : BitVec 32 := Scalar.extui v1240
  let v1242 : BitVec 32 := Scalar.subi v1239 v1241
  let c2_i32_581 : BitVec 32 := 2#32
  let c0_i32_584 : BitVec 32 := 0#32
  let v1243 : BitVec 1 := Scalar.cmpi .sgt c2_i32_581 c0_i32_584
  let v1244 : BitVec 32 := Scalar.extui v1243
  let c0_i32_585 : BitVec 32 := 0#32
  let v1245 : BitVec 1 := Scalar.cmpi .slt c2_i32_581 c0_i32_585
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_581
  let c0_i32_586 : BitVec 32 := 0#32
  let v1250 : BitVec 1 := Scalar.cmpi .ne v1249 c0_i32_586
  let v1251 : BitVec 1 := Scalar.andi v1248 v1250
  let v1237 : BitVec 32 := Scalar.divsi v1236 c2_i32_581
  let c1_i32_587 : BitVec 32 := 1#32
  let v1252 : BitVec 32 := Scalar.subi v1237 c1_i32_587
  let v1253 : BitVec 32 := Scalar.select v1251 v1252 v1237
  let c0_i32_598 : BitVec 32 := 0#32
  let c384_i32_590 : BitVec 32 := 384#32
  let v1257 : BitVec 32 := Scalar.subi c384_i32_590 v1235
  let c0_i32_592 : BitVec 32 := 0#32
  let v1259 : BitVec 1 := Scalar.cmpi .sgt v1257 c0_i32_592
  let v1260 : BitVec 32 := Scalar.extui v1259
  let c0_i32_593 : BitVec 32 := 0#32
  let v1261 : BitVec 1 := Scalar.cmpi .slt v1257 c0_i32_593
  let v1262 : BitVec 32 := Scalar.extui v1261
  let v1263 : BitVec 32 := Scalar.subi v1260 v1262
  let c2_i32_591 : BitVec 32 := 2#32
  let c0_i32_594 : BitVec 32 := 0#32
  let v1264 : BitVec 1 := Scalar.cmpi .sgt c2_i32_591 c0_i32_594
  let v1265 : BitVec 32 := Scalar.extui v1264
  let c0_i32_595 : BitVec 32 := 0#32
  let v1266 : BitVec 1 := Scalar.cmpi .slt c2_i32_591 c0_i32_595
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_591
  let c0_i32_596 : BitVec 32 := 0#32
  let v1271 : BitVec 1 := Scalar.cmpi .ne v1270 c0_i32_596
  let v1272 : BitVec 1 := Scalar.andi v1269 v1271
  let v1258 : BitVec 32 := Scalar.divsi v1257 c2_i32_591
  let c1_i32_597 : BitVec 32 := 1#32
  let v1273 : BitVec 32 := Scalar.subi v1258 c1_i32_597
  let v1274 : BitVec 32 := Scalar.select v1272 v1273 v1258
  let v1275 : BitVec 32 := Scalar.maxsi c0_i32_598 v1274
  let v1276 : BitVec 32 := Scalar.minsi v1253 v1275
  let c0_i32_607 : BitVec 32 := 0#32
  let c768_i32_599 : BitVec 32 := 768#32
  let v1277 : BitVec 32 := Scalar.subi c768_i32_599 v1235
  let c0_i32_601 : BitVec 32 := 0#32
  let v1279 : BitVec 1 := Scalar.cmpi .sgt v1277 c0_i32_601
  let v1280 : BitVec 32 := Scalar.extui v1279
  let c0_i32_602 : BitVec 32 := 0#32
  let v1281 : BitVec 1 := Scalar.cmpi .slt v1277 c0_i32_602
  let v1282 : BitVec 32 := Scalar.extui v1281
  let v1283 : BitVec 32 := Scalar.subi v1280 v1282
  let c2_i32_600 : BitVec 32 := 2#32
  let c0_i32_603 : BitVec 32 := 0#32
  let v1284 : BitVec 1 := Scalar.cmpi .sgt c2_i32_600 c0_i32_603
  let v1285 : BitVec 32 := Scalar.extui v1284
  let c0_i32_604 : BitVec 32 := 0#32
  let v1286 : BitVec 1 := Scalar.cmpi .slt c2_i32_600 c0_i32_604
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_600
  let c0_i32_605 : BitVec 32 := 0#32
  let v1291 : BitVec 1 := Scalar.cmpi .ne v1290 c0_i32_605
  let v1292 : BitVec 1 := Scalar.andi v1289 v1291
  let v1278 : BitVec 32 := Scalar.divsi v1277 c2_i32_600
  let c1_i32_606 : BitVec 32 := 1#32
  let v1293 : BitVec 32 := Scalar.subi v1278 c1_i32_606
  let v1294 : BitVec 32 := Scalar.select v1292 v1293 v1278
  let v1295 : BitVec 32 := Scalar.maxsi c0_i32_607 v1294
  let v1296 : BitVec 32 := Scalar.minsi v1253 v1295
  let v1297 : BitVec 32 := Scalar.subi v1296 v1276
  let c1_i32_608 : BitVec 32 := 1#32
  let v1299 : BitVec 32 := Scalar.divsi v1297 c1_i32_608
  let v1300 : BitVec 32 := Scalar.muli v1299 c1_i32_608
  let v1301 : BitVec 32 := Scalar.addi v1276 v1300
  let c1_i32_610 : BitVec 32 := 1#32
  let arg23 : BitVec 32 := Scf.iv v1301 c1_i32_610 k0_t74
  let c2_i32_612 : BitVec 32 := 2#32
  let v1306 : BitVec 32 := Scalar.muli arg23 c2_i32_612
  let v1307 : BitVec 32 := Scalar.addi v1235 v1306
  let c384_i32_613 : BitVec 32 := 384#32
  let v1308 : BitVec 32 := Scalar.subi v1307 c384_i32_613
  let c0_i32_614 : BitVec 32 := 0#32
  ![v1308.toNat, 0]
def k0_off200 (v1233 : BitVec 32) (v1235 : BitVec 32) (k0_t74 : Fin (k0_t74_loop v1233 v1235).trips) : Fin 2 → Nat :=
  let c1_i32_611 : BitVec 32 := 1#32
  let v1304 : BitVec 32 := Scalar.shrsi v1235 c1_i32_611
  let c1_i32_580 : BitVec 32 := 1#32
  let v1236 : BitVec 32 := Scalar.addi v1233 c1_i32_580
  let c0_i32_582 : BitVec 32 := 0#32
  let v1238 : BitVec 1 := Scalar.cmpi .sgt v1236 c0_i32_582
  let v1239 : BitVec 32 := Scalar.extui v1238
  let c0_i32_583 : BitVec 32 := 0#32
  let v1240 : BitVec 1 := Scalar.cmpi .slt v1236 c0_i32_583
  let v1241 : BitVec 32 := Scalar.extui v1240
  let v1242 : BitVec 32 := Scalar.subi v1239 v1241
  let c2_i32_581 : BitVec 32 := 2#32
  let c0_i32_584 : BitVec 32 := 0#32
  let v1243 : BitVec 1 := Scalar.cmpi .sgt c2_i32_581 c0_i32_584
  let v1244 : BitVec 32 := Scalar.extui v1243
  let c0_i32_585 : BitVec 32 := 0#32
  let v1245 : BitVec 1 := Scalar.cmpi .slt c2_i32_581 c0_i32_585
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_581
  let c0_i32_586 : BitVec 32 := 0#32
  let v1250 : BitVec 1 := Scalar.cmpi .ne v1249 c0_i32_586
  let v1251 : BitVec 1 := Scalar.andi v1248 v1250
  let v1237 : BitVec 32 := Scalar.divsi v1236 c2_i32_581
  let c1_i32_587 : BitVec 32 := 1#32
  let v1252 : BitVec 32 := Scalar.subi v1237 c1_i32_587
  let v1253 : BitVec 32 := Scalar.select v1251 v1252 v1237
  let c0_i32_598 : BitVec 32 := 0#32
  let c384_i32_590 : BitVec 32 := 384#32
  let v1257 : BitVec 32 := Scalar.subi c384_i32_590 v1235
  let c0_i32_592 : BitVec 32 := 0#32
  let v1259 : BitVec 1 := Scalar.cmpi .sgt v1257 c0_i32_592
  let v1260 : BitVec 32 := Scalar.extui v1259
  let c0_i32_593 : BitVec 32 := 0#32
  let v1261 : BitVec 1 := Scalar.cmpi .slt v1257 c0_i32_593
  let v1262 : BitVec 32 := Scalar.extui v1261
  let v1263 : BitVec 32 := Scalar.subi v1260 v1262
  let c2_i32_591 : BitVec 32 := 2#32
  let c0_i32_594 : BitVec 32 := 0#32
  let v1264 : BitVec 1 := Scalar.cmpi .sgt c2_i32_591 c0_i32_594
  let v1265 : BitVec 32 := Scalar.extui v1264
  let c0_i32_595 : BitVec 32 := 0#32
  let v1266 : BitVec 1 := Scalar.cmpi .slt c2_i32_591 c0_i32_595
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_591
  let c0_i32_596 : BitVec 32 := 0#32
  let v1271 : BitVec 1 := Scalar.cmpi .ne v1270 c0_i32_596
  let v1272 : BitVec 1 := Scalar.andi v1269 v1271
  let v1258 : BitVec 32 := Scalar.divsi v1257 c2_i32_591
  let c1_i32_597 : BitVec 32 := 1#32
  let v1273 : BitVec 32 := Scalar.subi v1258 c1_i32_597
  let v1274 : BitVec 32 := Scalar.select v1272 v1273 v1258
  let v1275 : BitVec 32 := Scalar.maxsi c0_i32_598 v1274
  let v1276 : BitVec 32 := Scalar.minsi v1253 v1275
  let c0_i32_607 : BitVec 32 := 0#32
  let c768_i32_599 : BitVec 32 := 768#32
  let v1277 : BitVec 32 := Scalar.subi c768_i32_599 v1235
  let c0_i32_601 : BitVec 32 := 0#32
  let v1279 : BitVec 1 := Scalar.cmpi .sgt v1277 c0_i32_601
  let v1280 : BitVec 32 := Scalar.extui v1279
  let c0_i32_602 : BitVec 32 := 0#32
  let v1281 : BitVec 1 := Scalar.cmpi .slt v1277 c0_i32_602
  let v1282 : BitVec 32 := Scalar.extui v1281
  let v1283 : BitVec 32 := Scalar.subi v1280 v1282
  let c2_i32_600 : BitVec 32 := 2#32
  let c0_i32_603 : BitVec 32 := 0#32
  let v1284 : BitVec 1 := Scalar.cmpi .sgt c2_i32_600 c0_i32_603
  let v1285 : BitVec 32 := Scalar.extui v1284
  let c0_i32_604 : BitVec 32 := 0#32
  let v1286 : BitVec 1 := Scalar.cmpi .slt c2_i32_600 c0_i32_604
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_600
  let c0_i32_605 : BitVec 32 := 0#32
  let v1291 : BitVec 1 := Scalar.cmpi .ne v1290 c0_i32_605
  let v1292 : BitVec 1 := Scalar.andi v1289 v1291
  let v1278 : BitVec 32 := Scalar.divsi v1277 c2_i32_600
  let c1_i32_606 : BitVec 32 := 1#32
  let v1293 : BitVec 32 := Scalar.subi v1278 c1_i32_606
  let v1294 : BitVec 32 := Scalar.select v1292 v1293 v1278
  let v1295 : BitVec 32 := Scalar.maxsi c0_i32_607 v1294
  let v1296 : BitVec 32 := Scalar.minsi v1253 v1295
  let v1297 : BitVec 32 := Scalar.subi v1296 v1276
  let c1_i32_608 : BitVec 32 := 1#32
  let v1299 : BitVec 32 := Scalar.divsi v1297 c1_i32_608
  let v1300 : BitVec 32 := Scalar.muli v1299 c1_i32_608
  let v1301 : BitVec 32 := Scalar.addi v1276 v1300
  let c1_i32_610 : BitVec 32 := 1#32
  let arg23 : BitVec 32 := Scf.iv v1301 c1_i32_610 k0_t74
  let v1305 : BitVec 32 := Scalar.addi v1304 arg23
  let c0_i32_615 : BitVec 32 := 0#32
  ![v1305.toNat, 0]

def k0_chk40 (v1233 : BitVec 32) (v1235 : BitVec 32) : Prop :=
  ((k0_t73_loop v1233 v1235).OK) ∧
  (∀ k0_t73 : Fin (k0_t73_loop v1233 v1235).trips, ∀ a, (k0_off196 v1233 v1235 k0_t73) a + S2x128.size a ≤ S384x128.size a) ∧
  (∀ k0_t73 : Fin (k0_t73_loop v1233 v1235).trips, ∀ a, (k0_off197 v1233 v1235 k0_t73) a + S1x2.size a ≤ S584x2.size a) ∧
  ((k0_t74_loop v1233 v1235).OK) ∧
  (∀ k0_t74 : Fin (k0_t74_loop v1233 v1235).trips, ∀ a, (k0_off199 v1233 v1235 k0_t74) a + S2x128.size a ≤ S384x128.size a) ∧
  (∀ k0_t74 : Fin (k0_t74_loop v1233 v1235).trips, ∀ a, (k0_off200 v1233 v1235 k0_t74) a + S1x2.size a ≤ S584x2.size a)
theorem k0_t73_ok : ∀ (v1233 : BitVec 32) (v1235 : BitVec 32) (k0_hw40 : k0_chk40 v1233 v1235), (k0_t73_loop v1233 v1235).OK := fun v1233 v1235 k0_hw40 => k0_hw40.1
theorem k0_off196_inb : ∀ (v1233 : BitVec 32) (v1235 : BitVec 32) (k0_hw40 : k0_chk40 v1233 v1235) (k0_t73 : Fin (k0_t73_loop v1233 v1235).trips), ∀ a, (k0_off196 v1233 v1235 k0_t73) a + S2x128.size a ≤ S384x128.size a := fun v1233 v1235 k0_hw40 k0_t73 => k0_hw40.2.1 k0_t73
theorem k0_off197_inb : ∀ (v1233 : BitVec 32) (v1235 : BitVec 32) (k0_hw40 : k0_chk40 v1233 v1235) (k0_t73 : Fin (k0_t73_loop v1233 v1235).trips), ∀ a, (k0_off197 v1233 v1235 k0_t73) a + S1x2.size a ≤ S584x2.size a := fun v1233 v1235 k0_hw40 k0_t73 => k0_hw40.2.2.1 k0_t73
theorem k0_t74_ok : ∀ (v1233 : BitVec 32) (v1235 : BitVec 32) (k0_hw40 : k0_chk40 v1233 v1235), (k0_t74_loop v1233 v1235).OK := fun v1233 v1235 k0_hw40 => k0_hw40.2.2.2.1
theorem k0_off199_inb : ∀ (v1233 : BitVec 32) (v1235 : BitVec 32) (k0_hw40 : k0_chk40 v1233 v1235) (k0_t74 : Fin (k0_t74_loop v1233 v1235).trips), ∀ a, (k0_off199 v1233 v1235 k0_t74) a + S2x128.size a ≤ S384x128.size a := fun v1233 v1235 k0_hw40 k0_t74 => k0_hw40.2.2.2.2.1 k0_t74
theorem k0_off200_inb : ∀ (v1233 : BitVec 32) (v1235 : BitVec 32) (k0_hw40 : k0_chk40 v1233 v1235) (k0_t74 : Fin (k0_t74_loop v1233 v1235).trips), ∀ a, (k0_off200 v1233 v1235 k0_t74) a + S1x2.size a ≤ S584x2.size a := fun v1233 v1235 k0_hw40 k0_t74 => k0_hw40.2.2.2.2.2 k0_t74

def k0_off201 (k0_t42 : Fin k0_t42_loop.trips) : Fin 2 → Nat :=
  let c0_i32_616 : BitVec 32 := 0#32
  let c0_i32_66 : BitVec 32 := 0#32
  let c1_i32_68 : BitVec 32 := 1#32
  let arg21 : BitVec 32 := Scf.iv c0_i32_66 c1_i32_68 k0_t42
  let c16_i32_588 : BitVec 32 := 16#32
  let v1254 : BitVec 32 := Scalar.muli arg21 c16_i32_588
  let c15_i32 : BitVec 32 := 15#32
  let v1255 : BitVec 32 := Scalar.addi v1254 c15_i32
  let c128_i32_589 : BitVec 32 := 128#32
  let v1256 : BitVec 32 := Scalar.muli v1255 c128_i32_589
  ![0, v1256.toNat]
@[reducible] def k0_t75_loop (v114 : BitVec 32) : Scf.Loop 32 :=
  let c0_i32_72 : BitVec 32 := 0#32
  let c3_i32_70 : BitVec 32 := 3#32
  let v115 : BitVec 32 := Scalar.shrsi v114 c3_i32_70
  let v116 : BitVec 32 := Scalar.subi v115 c0_i32_72
  let c1_i32_73 : BitVec 32 := 1#32
  let v118 : BitVec 32 := Scalar.divsi v116 c1_i32_73
  let v119 : BitVec 32 := Scalar.muli v118 c1_i32_73
  let v120 : BitVec 32 := Scalar.addi c0_i32_72 v119
  let c1_i32_74 : BitVec 32 := 1#32
  ⟨c0_i32_72, v120, c1_i32_74⟩

@[reducible] def k0_t76_loop (v114 : BitVec 32) : Scf.Loop 32 :=
  let c0_i32_72 : BitVec 32 := 0#32
  let c3_i32_70 : BitVec 32 := 3#32
  let v115 : BitVec 32 := Scalar.shrsi v114 c3_i32_70
  let v116 : BitVec 32 := Scalar.subi v115 c0_i32_72
  let c1_i32_73 : BitVec 32 := 1#32
  let v118 : BitVec 32 := Scalar.divsi v116 c1_i32_73
  let v119 : BitVec 32 := Scalar.muli v118 c1_i32_73
  let v120 : BitVec 32 := Scalar.addi c0_i32_72 v119
  let v117 : BitVec 32 := Scalar.addi c0_i32_72 v116
  let c1_i32_75 : BitVec 32 := 1#32
  ⟨v120, v117, c1_i32_75⟩
@[reducible] def k0_t77_loop (v114 : BitVec 32) : Scf.Loop 32 :=
  let c0_i32_78 : BitVec 32 := 0#32
  let c7_i32_76 : BitVec 32 := 7#32
  let v121 : BitVec 32 := Scalar.andi v114 c7_i32_76
  let v122 : BitVec 32 := Scalar.subi v121 c0_i32_78
  let c1_i32_79 : BitVec 32 := 1#32
  let v124 : BitVec 32 := Scalar.divsi v122 c1_i32_79
  let v125 : BitVec 32 := Scalar.muli v124 c1_i32_79
  let v126 : BitVec 32 := Scalar.addi c0_i32_78 v125
  let c1_i32_80 : BitVec 32 := 1#32
  ⟨c0_i32_78, v126, c1_i32_80⟩
@[reducible] def k0_t78_loop (v114 : BitVec 32) : Scf.Loop 32 :=
  let c0_i32_78 : BitVec 32 := 0#32
  let c7_i32_76 : BitVec 32 := 7#32
  let v121 : BitVec 32 := Scalar.andi v114 c7_i32_76
  let v122 : BitVec 32 := Scalar.subi v121 c0_i32_78
  let c1_i32_79 : BitVec 32 := 1#32
  let v124 : BitVec 32 := Scalar.divsi v122 c1_i32_79
  let v125 : BitVec 32 := Scalar.muli v124 c1_i32_79
  let v126 : BitVec 32 := Scalar.addi c0_i32_78 v125
  let v123 : BitVec 32 := Scalar.addi c0_i32_78 v122
  let c1_i32_81 : BitVec 32 := 1#32
  ⟨v126, v123, c1_i32_81⟩

def k0_chk41 (v114 : BitVec 32) : Prop :=
  ((k0_t75_loop v114).OK) ∧
  ((k0_t76_loop v114).OK) ∧
  ((k0_t77_loop v114).OK) ∧
  ((k0_t78_loop v114).OK)
theorem k0_t75_ok : ∀ (v114 : BitVec 32) (k0_hw41 : k0_chk41 v114), (k0_t75_loop v114).OK := fun v114 k0_hw41 => k0_hw41.1
theorem k0_t76_ok : ∀ (v114 : BitVec 32) (k0_hw41 : k0_chk41 v114), (k0_t76_loop v114).OK := fun v114 k0_hw41 => k0_hw41.2.1
theorem k0_t77_ok : ∀ (v114 : BitVec 32) (k0_hw41 : k0_chk41 v114), (k0_t77_loop v114).OK := fun v114 k0_hw41 => k0_hw41.2.2.1
theorem k0_t78_ok : ∀ (v114 : BitVec 32) (k0_hw41 : k0_chk41 v114), (k0_t78_loop v114).OK := fun v114 k0_hw41 => k0_hw41.2.2.2

@[reducible] def k0_t79_loop : Scf.Loop 32 :=
  let c0_i32_83 : BitVec 32 := 0#32
  let c24_i32_84 : BitVec 32 := 24#32
  let v127 : BitVec 32 := Scalar.addi c0_i32_83 c24_i32_84
  let c1_i32_85 : BitVec 32 := 1#32
  ⟨c0_i32_83, v127, c1_i32_85⟩
def k0_off202 (k0_t79 : Fin k0_t79_loop.trips) : Fin 1 → Nat :=
  let c384_i32 : BitVec 32 := 384#32
  let c0_i32_83 : BitVec 32 := 0#32
  let c1_i32_85 : BitVec 32 := 1#32
  let arg21 : BitVec 32 := Scf.iv c0_i32_83 c1_i32_85 k0_t79
  let c16_i32 : BitVec 32 := 16#32
  let v146 : BitVec 32 := Scalar.muli arg21 c16_i32
  let v147 : BitVec 32 := Scalar.addi c384_i32 v146
  let v148 : Index := Scalar.indexCast v147
  ![v148.toNat]

def k0_chk42 (v159 : IVec S16 32) (v162 : IVec S16 32) : Prop :=
  (∀ a x, ((![v162, v159] : Fin 2 → IVec S16 32) a x).toNat < S384x128.size a)
theorem k0_idx10_inb : ∀ (v159 : IVec S16 32) (v162 : IVec S16 32) (k0_hw42 : k0_chk42 v159 v162), ∀ a x, ((![v162, v159] : Fin 2 → IVec S16 32) a x).toNat < S384x128.size a := fun v159 v162 k0_hw42 => k0_hw42

def k0_chk43 (v157 : IVec S16 32) : Prop :=
  (∀ a x, ((![v157] : Fin 1 → IVec S16 32) a x).toNat < S1024.size a)
theorem k0_idx11_inb : ∀ (v157 : IVec S16 32) (k0_hw43 : k0_chk43 v157), ∀ a x, ((![v157] : Fin 1 → IVec S16 32) a x).toNat < S1024.size a := fun v157 k0_hw43 => k0_hw43
@[reducible] def k0_t80_loop : Scf.Loop 32 :=
  let c0_i32_88 : BitVec 32 := 0#32
  let c4_i32_89 : BitVec 32 := 4#32
  let v128 : BitVec 32 := Scalar.addi c0_i32_88 c4_i32_89
  let c1_i32_90 : BitVec 32 := 1#32
  ⟨c0_i32_88, v128, c1_i32_90⟩
def k0_off203 (k0_t80 : Fin k0_t80_loop.trips) : Fin 1 → Nat :=
  let c0_i32_88 : BitVec 32 := 0#32
  let c1_i32_90 : BitVec 32 := 1#32
  let arg21 : BitVec 32 := Scf.iv c0_i32_88 c1_i32_90 k0_t80
  let c16_i32 : BitVec 32 := 16#32
  let v146 : BitVec 32 := Scalar.muli arg21 c16_i32
  let v147 : Index := Scalar.indexCast v146
  ![v147.toNat]
@[reducible] def k0_t81_loop (v153 : BitVec 32) (v155 : BitVec 32) : Scf.Loop 32 :=
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_129 : BitVec 32 := 0#32
  let c768_i32 : BitVec 32 := 768#32
  let v177 : BitVec 32 := Scalar.subi c768_i32 v155
  let c0_i32_123 : BitVec 32 := 0#32
  let v179 : BitVec 1 := Scalar.cmpi .sgt v177 c0_i32_123
  let v180 : BitVec 32 := Scalar.extui v179
  let c0_i32_124 : BitVec 32 := 0#32
  let v181 : BitVec 1 := Scalar.cmpi .slt v177 c0_i32_124
  let v182 : BitVec 32 := Scalar.extui v181
  let v183 : BitVec 32 := Scalar.subi v180 v182
  let c2_i32_122 : BitVec 32 := 2#32
  let c0_i32_125 : BitVec 32 := 0#32
  let v184 : BitVec 1 := Scalar.cmpi .sgt c2_i32_122 c0_i32_125
  let v185 : BitVec 32 := Scalar.extui v184
  let c0_i32_126 : BitVec 32 := 0#32
  let v186 : BitVec 1 := Scalar.cmpi .slt c2_i32_122 c0_i32_126
  let v187 : BitVec 32 := Scalar.extui v186
  let v188 : BitVec 32 := Scalar.subi v185 v187
  let v189 : BitVec 1 := Scalar.cmpi .ne v183 v188
  let v190 : BitVec 32 := Scalar.remsi v177 c2_i32_122
  let c0_i32_127 : BitVec 32 := 0#32
  let v191 : BitVec 1 := Scalar.cmpi .ne v190 c0_i32_127
  let v192 : BitVec 1 := Scalar.andi v189 v191
  let v178 : BitVec 32 := Scalar.divsi v177 c2_i32_122
  let c1_i32_128 : BitVec 32 := 1#32
  let v193 : BitVec 32 := Scalar.subi v178 c1_i32_128
  let v194 : BitVec 32 := Scalar.select v192 v193 v178
  let v195 : BitVec 32 := Scalar.maxsi c0_i32_129 v194
  let v196 : BitVec 32 := Scalar.minsi v173 v195
  let c0_i32_137 : BitVec 32 := 0#32
  let c1152_i32 : BitVec 32 := 1152#32
  let v197 : BitVec 32 := Scalar.subi c1152_i32 v155
  let c0_i32_131 : BitVec 32 := 0#32
  let v199 : BitVec 1 := Scalar.cmpi .sgt v197 c0_i32_131
  let v200 : BitVec 32 := Scalar.extui v199
  let c0_i32_132 : BitVec 32 := 0#32
  let v201 : BitVec 1 := Scalar.cmpi .slt v197 c0_i32_132
  let v202 : BitVec 32 := Scalar.extui v201
  let v203 : BitVec 32 := Scalar.subi v200 v202
  let c2_i32_130 : BitVec 32 := 2#32
  let c0_i32_133 : BitVec 32 := 0#32
  let v204 : BitVec 1 := Scalar.cmpi .sgt c2_i32_130 c0_i32_133
  let v205 : BitVec 32 := Scalar.extui v204
  let c0_i32_134 : BitVec 32 := 0#32
  let v206 : BitVec 1 := Scalar.cmpi .slt c2_i32_130 c0_i32_134
  let v207 : BitVec 32 := Scalar.extui v206
  let v208 : BitVec 32 := Scalar.subi v205 v207
  let v209 : BitVec 1 := Scalar.cmpi .ne v203 v208
  let v210 : BitVec 32 := Scalar.remsi v197 c2_i32_130
  let c0_i32_135 : BitVec 32 := 0#32
  let v211 : BitVec 1 := Scalar.cmpi .ne v210 c0_i32_135
  let v212 : BitVec 1 := Scalar.andi v209 v211
  let v198 : BitVec 32 := Scalar.divsi v197 c2_i32_130
  let c1_i32_136 : BitVec 32 := 1#32
  let v213 : BitVec 32 := Scalar.subi v198 c1_i32_136
  let v214 : BitVec 32 := Scalar.select v212 v213 v198
  let v215 : BitVec 32 := Scalar.maxsi c0_i32_137 v214
  let v216 : BitVec 32 := Scalar.minsi v173 v215
  let v217 : BitVec 32 := Scalar.subi v216 v196
  let c1_i32_138 : BitVec 32 := 1#32
  let v219 : BitVec 32 := Scalar.divsi v217 c1_i32_138
  let v220 : BitVec 32 := Scalar.muli v219 c1_i32_138
  let v221 : BitVec 32 := Scalar.addi v196 v220
  let c1_i32_139 : BitVec 32 := 1#32
  ⟨v196, v221, c1_i32_139⟩

def k0_off204 (v153 : BitVec 32) (v155 : BitVec 32) (k0_t81 : Fin (k0_t81_loop v153 v155).trips) : Fin 2 → Nat :=
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_129 : BitVec 32 := 0#32
  let c768_i32 : BitVec 32 := 768#32
  let v177 : BitVec 32 := Scalar.subi c768_i32 v155
  let c0_i32_123 : BitVec 32 := 0#32
  let v179 : BitVec 1 := Scalar.cmpi .sgt v177 c0_i32_123
  let v180 : BitVec 32 := Scalar.extui v179
  let c0_i32_124 : BitVec 32 := 0#32
  let v181 : BitVec 1 := Scalar.cmpi .slt v177 c0_i32_124
  let v182 : BitVec 32 := Scalar.extui v181
  let v183 : BitVec 32 := Scalar.subi v180 v182
  let c2_i32_122 : BitVec 32 := 2#32
  let c0_i32_125 : BitVec 32 := 0#32
  let v184 : BitVec 1 := Scalar.cmpi .sgt c2_i32_122 c0_i32_125
  let v185 : BitVec 32 := Scalar.extui v184
  let c0_i32_126 : BitVec 32 := 0#32
  let v186 : BitVec 1 := Scalar.cmpi .slt c2_i32_122 c0_i32_126
  let v187 : BitVec 32 := Scalar.extui v186
  let v188 : BitVec 32 := Scalar.subi v185 v187
  let v189 : BitVec 1 := Scalar.cmpi .ne v183 v188
  let v190 : BitVec 32 := Scalar.remsi v177 c2_i32_122
  let c0_i32_127 : BitVec 32 := 0#32
  let v191 : BitVec 1 := Scalar.cmpi .ne v190 c0_i32_127
  let v192 : BitVec 1 := Scalar.andi v189 v191
  let v178 : BitVec 32 := Scalar.divsi v177 c2_i32_122
  let c1_i32_128 : BitVec 32 := 1#32
  let v193 : BitVec 32 := Scalar.subi v178 c1_i32_128
  let v194 : BitVec 32 := Scalar.select v192 v193 v178
  let v195 : BitVec 32 := Scalar.maxsi c0_i32_129 v194
  let v196 : BitVec 32 := Scalar.minsi v173 v195
  let c1_i32_139 : BitVec 32 := 1#32
  let arg23 : BitVec 32 := Scf.iv v196 c1_i32_139 k0_t81
  let c2_i32_612 : BitVec 32 := 2#32
  let v1306 : BitVec 32 := Scalar.muli arg23 c2_i32_612
  let v1307 : BitVec 32 := Scalar.addi v155 v1306
  let c768_i32_613 : BitVec 32 := 768#32
  let v1308 : BitVec 32 := Scalar.subi v1307 c768_i32_613
  let c0_i32_614 : BitVec 32 := 0#32
  ![v1308.toNat, 0]
def k0_off205 (v153 : BitVec 32) (v155 : BitVec 32) (k0_t81 : Fin (k0_t81_loop v153 v155).trips) : Fin 2 → Nat :=
  let c1_i32_611 : BitVec 32 := 1#32
  let v1304 : BitVec 32 := Scalar.shrsi v155 c1_i32_611
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_129 : BitVec 32 := 0#32
  let c768_i32 : BitVec 32 := 768#32
  let v177 : BitVec 32 := Scalar.subi c768_i32 v155
  let c0_i32_123 : BitVec 32 := 0#32
  let v179 : BitVec 1 := Scalar.cmpi .sgt v177 c0_i32_123
  let v180 : BitVec 32 := Scalar.extui v179
  let c0_i32_124 : BitVec 32 := 0#32
  let v181 : BitVec 1 := Scalar.cmpi .slt v177 c0_i32_124
  let v182 : BitVec 32 := Scalar.extui v181
  let v183 : BitVec 32 := Scalar.subi v180 v182
  let c2_i32_122 : BitVec 32 := 2#32
  let c0_i32_125 : BitVec 32 := 0#32
  let v184 : BitVec 1 := Scalar.cmpi .sgt c2_i32_122 c0_i32_125
  let v185 : BitVec 32 := Scalar.extui v184
  let c0_i32_126 : BitVec 32 := 0#32
  let v186 : BitVec 1 := Scalar.cmpi .slt c2_i32_122 c0_i32_126
  let v187 : BitVec 32 := Scalar.extui v186
  let v188 : BitVec 32 := Scalar.subi v185 v187
  let v189 : BitVec 1 := Scalar.cmpi .ne v183 v188
  let v190 : BitVec 32 := Scalar.remsi v177 c2_i32_122
  let c0_i32_127 : BitVec 32 := 0#32
  let v191 : BitVec 1 := Scalar.cmpi .ne v190 c0_i32_127
  let v192 : BitVec 1 := Scalar.andi v189 v191
  let v178 : BitVec 32 := Scalar.divsi v177 c2_i32_122
  let c1_i32_128 : BitVec 32 := 1#32
  let v193 : BitVec 32 := Scalar.subi v178 c1_i32_128
  let v194 : BitVec 32 := Scalar.select v192 v193 v178
  let v195 : BitVec 32 := Scalar.maxsi c0_i32_129 v194
  let v196 : BitVec 32 := Scalar.minsi v173 v195
  let c1_i32_139 : BitVec 32 := 1#32
  let arg23 : BitVec 32 := Scf.iv v196 c1_i32_139 k0_t81
  let v1305 : BitVec 32 := Scalar.addi v1304 arg23
  let c0_i32_615 : BitVec 32 := 0#32
  ![v1305.toNat, 0]
def k0_off206 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_120 : BitVec 32 := 16#32
  let v174 : BitVec 32 := Scalar.muli arg21 c16_i32_120
  let c0_i32_121 : BitVec 32 := 0#32
  let v175 : BitVec 32 := Scalar.addi v174 c0_i32_121
  let c128_i32 : BitVec 32 := 128#32
  let v176 : BitVec 32 := Scalar.muli v175 c128_i32
  ![0, v176.toNat]
@[reducible] def k0_t82_loop (v153 : BitVec 32) (v155 : BitVec 32) : Scf.Loop 32 :=
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_129 : BitVec 32 := 0#32
  let c768_i32 : BitVec 32 := 768#32
  let v177 : BitVec 32 := Scalar.subi c768_i32 v155
  let c0_i32_123 : BitVec 32 := 0#32
  let v179 : BitVec 1 := Scalar.cmpi .sgt v177 c0_i32_123
  let v180 : BitVec 32 := Scalar.extui v179
  let c0_i32_124 : BitVec 32 := 0#32
  let v181 : BitVec 1 := Scalar.cmpi .slt v177 c0_i32_124
  let v182 : BitVec 32 := Scalar.extui v181
  let v183 : BitVec 32 := Scalar.subi v180 v182
  let c2_i32_122 : BitVec 32 := 2#32
  let c0_i32_125 : BitVec 32 := 0#32
  let v184 : BitVec 1 := Scalar.cmpi .sgt c2_i32_122 c0_i32_125
  let v185 : BitVec 32 := Scalar.extui v184
  let c0_i32_126 : BitVec 32 := 0#32
  let v186 : BitVec 1 := Scalar.cmpi .slt c2_i32_122 c0_i32_126
  let v187 : BitVec 32 := Scalar.extui v186
  let v188 : BitVec 32 := Scalar.subi v185 v187
  let v189 : BitVec 1 := Scalar.cmpi .ne v183 v188
  let v190 : BitVec 32 := Scalar.remsi v177 c2_i32_122
  let c0_i32_127 : BitVec 32 := 0#32
  let v191 : BitVec 1 := Scalar.cmpi .ne v190 c0_i32_127
  let v192 : BitVec 1 := Scalar.andi v189 v191
  let v178 : BitVec 32 := Scalar.divsi v177 c2_i32_122
  let c1_i32_128 : BitVec 32 := 1#32
  let v193 : BitVec 32 := Scalar.subi v178 c1_i32_128
  let v194 : BitVec 32 := Scalar.select v192 v193 v178
  let v195 : BitVec 32 := Scalar.maxsi c0_i32_129 v194
  let v196 : BitVec 32 := Scalar.minsi v173 v195
  let c0_i32_137 : BitVec 32 := 0#32
  let c1152_i32 : BitVec 32 := 1152#32
  let v197 : BitVec 32 := Scalar.subi c1152_i32 v155
  let c0_i32_131 : BitVec 32 := 0#32
  let v199 : BitVec 1 := Scalar.cmpi .sgt v197 c0_i32_131
  let v200 : BitVec 32 := Scalar.extui v199
  let c0_i32_132 : BitVec 32 := 0#32
  let v201 : BitVec 1 := Scalar.cmpi .slt v197 c0_i32_132
  let v202 : BitVec 32 := Scalar.extui v201
  let v203 : BitVec 32 := Scalar.subi v200 v202
  let c2_i32_130 : BitVec 32 := 2#32
  let c0_i32_133 : BitVec 32 := 0#32
  let v204 : BitVec 1 := Scalar.cmpi .sgt c2_i32_130 c0_i32_133
  let v205 : BitVec 32 := Scalar.extui v204
  let c0_i32_134 : BitVec 32 := 0#32
  let v206 : BitVec 1 := Scalar.cmpi .slt c2_i32_130 c0_i32_134
  let v207 : BitVec 32 := Scalar.extui v206
  let v208 : BitVec 32 := Scalar.subi v205 v207
  let v209 : BitVec 1 := Scalar.cmpi .ne v203 v208
  let v210 : BitVec 32 := Scalar.remsi v197 c2_i32_130
  let c0_i32_135 : BitVec 32 := 0#32
  let v211 : BitVec 1 := Scalar.cmpi .ne v210 c0_i32_135
  let v212 : BitVec 1 := Scalar.andi v209 v211
  let v198 : BitVec 32 := Scalar.divsi v197 c2_i32_130
  let c1_i32_136 : BitVec 32 := 1#32
  let v213 : BitVec 32 := Scalar.subi v198 c1_i32_136
  let v214 : BitVec 32 := Scalar.select v212 v213 v198
  let v215 : BitVec 32 := Scalar.maxsi c0_i32_137 v214
  let v216 : BitVec 32 := Scalar.minsi v173 v215
  let v217 : BitVec 32 := Scalar.subi v216 v196
  let c1_i32_138 : BitVec 32 := 1#32
  let v219 : BitVec 32 := Scalar.divsi v217 c1_i32_138
  let v220 : BitVec 32 := Scalar.muli v219 c1_i32_138
  let v221 : BitVec 32 := Scalar.addi v196 v220
  let v218 : BitVec 32 := Scalar.addi v196 v217
  let c1_i32_140 : BitVec 32 := 1#32
  ⟨v221, v218, c1_i32_140⟩
def k0_off207 (v153 : BitVec 32) (v155 : BitVec 32) (k0_t82 : Fin (k0_t82_loop v153 v155).trips) : Fin 2 → Nat :=
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_129 : BitVec 32 := 0#32
  let c768_i32 : BitVec 32 := 768#32
  let v177 : BitVec 32 := Scalar.subi c768_i32 v155
  let c0_i32_123 : BitVec 32 := 0#32
  let v179 : BitVec 1 := Scalar.cmpi .sgt v177 c0_i32_123
  let v180 : BitVec 32 := Scalar.extui v179
  let c0_i32_124 : BitVec 32 := 0#32
  let v181 : BitVec 1 := Scalar.cmpi .slt v177 c0_i32_124
  let v182 : BitVec 32 := Scalar.extui v181
  let v183 : BitVec 32 := Scalar.subi v180 v182
  let c2_i32_122 : BitVec 32 := 2#32
  let c0_i32_125 : BitVec 32 := 0#32
  let v184 : BitVec 1 := Scalar.cmpi .sgt c2_i32_122 c0_i32_125
  let v185 : BitVec 32 := Scalar.extui v184
  let c0_i32_126 : BitVec 32 := 0#32
  let v186 : BitVec 1 := Scalar.cmpi .slt c2_i32_122 c0_i32_126
  let v187 : BitVec 32 := Scalar.extui v186
  let v188 : BitVec 32 := Scalar.subi v185 v187
  let v189 : BitVec 1 := Scalar.cmpi .ne v183 v188
  let v190 : BitVec 32 := Scalar.remsi v177 c2_i32_122
  let c0_i32_127 : BitVec 32 := 0#32
  let v191 : BitVec 1 := Scalar.cmpi .ne v190 c0_i32_127
  let v192 : BitVec 1 := Scalar.andi v189 v191
  let v178 : BitVec 32 := Scalar.divsi v177 c2_i32_122
  let c1_i32_128 : BitVec 32 := 1#32
  let v193 : BitVec 32 := Scalar.subi v178 c1_i32_128
  let v194 : BitVec 32 := Scalar.select v192 v193 v178
  let v195 : BitVec 32 := Scalar.maxsi c0_i32_129 v194
  let v196 : BitVec 32 := Scalar.minsi v173 v195
  let c0_i32_137 : BitVec 32 := 0#32
  let c1152_i32 : BitVec 32 := 1152#32
  let v197 : BitVec 32 := Scalar.subi c1152_i32 v155
  let c0_i32_131 : BitVec 32 := 0#32
  let v199 : BitVec 1 := Scalar.cmpi .sgt v197 c0_i32_131
  let v200 : BitVec 32 := Scalar.extui v199
  let c0_i32_132 : BitVec 32 := 0#32
  let v201 : BitVec 1 := Scalar.cmpi .slt v197 c0_i32_132
  let v202 : BitVec 32 := Scalar.extui v201
  let v203 : BitVec 32 := Scalar.subi v200 v202
  let c2_i32_130 : BitVec 32 := 2#32
  let c0_i32_133 : BitVec 32 := 0#32
  let v204 : BitVec 1 := Scalar.cmpi .sgt c2_i32_130 c0_i32_133
  let v205 : BitVec 32 := Scalar.extui v204
  let c0_i32_134 : BitVec 32 := 0#32
  let v206 : BitVec 1 := Scalar.cmpi .slt c2_i32_130 c0_i32_134
  let v207 : BitVec 32 := Scalar.extui v206
  let v208 : BitVec 32 := Scalar.subi v205 v207
  let v209 : BitVec 1 := Scalar.cmpi .ne v203 v208
  let v210 : BitVec 32 := Scalar.remsi v197 c2_i32_130
  let c0_i32_135 : BitVec 32 := 0#32
  let v211 : BitVec 1 := Scalar.cmpi .ne v210 c0_i32_135
  let v212 : BitVec 1 := Scalar.andi v209 v211
  let v198 : BitVec 32 := Scalar.divsi v197 c2_i32_130
  let c1_i32_136 : BitVec 32 := 1#32
  let v213 : BitVec 32 := Scalar.subi v198 c1_i32_136
  let v214 : BitVec 32 := Scalar.select v212 v213 v198
  let v215 : BitVec 32 := Scalar.maxsi c0_i32_137 v214
  let v216 : BitVec 32 := Scalar.minsi v173 v215
  let v217 : BitVec 32 := Scalar.subi v216 v196
  let c1_i32_138 : BitVec 32 := 1#32
  let v219 : BitVec 32 := Scalar.divsi v217 c1_i32_138
  let v220 : BitVec 32 := Scalar.muli v219 c1_i32_138
  let v221 : BitVec 32 := Scalar.addi v196 v220
  let c1_i32_140 : BitVec 32 := 1#32
  let arg23 : BitVec 32 := Scf.iv v221 c1_i32_140 k0_t82
  let c2_i32_612 : BitVec 32 := 2#32
  let v1306 : BitVec 32 := Scalar.muli arg23 c2_i32_612
  let v1307 : BitVec 32 := Scalar.addi v155 v1306
  let c768_i32_613 : BitVec 32 := 768#32
  let v1308 : BitVec 32 := Scalar.subi v1307 c768_i32_613
  let c0_i32_614 : BitVec 32 := 0#32
  ![v1308.toNat, 0]
def k0_off208 (v153 : BitVec 32) (v155 : BitVec 32) (k0_t82 : Fin (k0_t82_loop v153 v155).trips) : Fin 2 → Nat :=
  let c1_i32_611 : BitVec 32 := 1#32
  let v1304 : BitVec 32 := Scalar.shrsi v155 c1_i32_611
  let c1_i32_112 : BitVec 32 := 1#32
  let v156 : BitVec 32 := Scalar.addi v153 c1_i32_112
  let c0_i32_114 : BitVec 32 := 0#32
  let v158 : BitVec 1 := Scalar.cmpi .sgt v156 c0_i32_114
  let v159 : BitVec 32 := Scalar.extui v158
  let c0_i32_115 : BitVec 32 := 0#32
  let v160 : BitVec 1 := Scalar.cmpi .slt v156 c0_i32_115
  let v161 : BitVec 32 := Scalar.extui v160
  let v162 : BitVec 32 := Scalar.subi v159 v161
  let c2_i32_113 : BitVec 32 := 2#32
  let c0_i32_116 : BitVec 32 := 0#32
  let v163 : BitVec 1 := Scalar.cmpi .sgt c2_i32_113 c0_i32_116
  let v164 : BitVec 32 := Scalar.extui v163
  let c0_i32_117 : BitVec 32 := 0#32
  let v165 : BitVec 1 := Scalar.cmpi .slt c2_i32_113 c0_i32_117
  let v166 : BitVec 32 := Scalar.extui v165
  let v167 : BitVec 32 := Scalar.subi v164 v166
  let v168 : BitVec 1 := Scalar.cmpi .ne v162 v167
  let v169 : BitVec 32 := Scalar.remsi v156 c2_i32_113
  let c0_i32_118 : BitVec 32 := 0#32
  let v170 : BitVec 1 := Scalar.cmpi .ne v169 c0_i32_118
  let v171 : BitVec 1 := Scalar.andi v168 v170
  let v157 : BitVec 32 := Scalar.divsi v156 c2_i32_113
  let c1_i32_119 : BitVec 32 := 1#32
  let v172 : BitVec 32 := Scalar.subi v157 c1_i32_119
  let v173 : BitVec 32 := Scalar.select v171 v172 v157
  let c0_i32_129 : BitVec 32 := 0#32
  let c768_i32 : BitVec 32 := 768#32
  let v177 : BitVec 32 := Scalar.subi c768_i32 v155
  let c0_i32_123 : BitVec 32 := 0#32
  let v179 : BitVec 1 := Scalar.cmpi .sgt v177 c0_i32_123
  let v180 : BitVec 32 := Scalar.extui v179
  let c0_i32_124 : BitVec 32 := 0#32
  let v181 : BitVec 1 := Scalar.cmpi .slt v177 c0_i32_124
  let v182 : BitVec 32 := Scalar.extui v181
  let v183 : BitVec 32 := Scalar.subi v180 v182
  let c2_i32_122 : BitVec 32 := 2#32
  let c0_i32_125 : BitVec 32 := 0#32
  let v184 : BitVec 1 := Scalar.cmpi .sgt c2_i32_122 c0_i32_125
  let v185 : BitVec 32 := Scalar.extui v184
  let c0_i32_126 : BitVec 32 := 0#32
  let v186 : BitVec 1 := Scalar.cmpi .slt c2_i32_122 c0_i32_126
  let v187 : BitVec 32 := Scalar.extui v186
  let v188 : BitVec 32 := Scalar.subi v185 v187
  let v189 : BitVec 1 := Scalar.cmpi .ne v183 v188
  let v190 : BitVec 32 := Scalar.remsi v177 c2_i32_122
  let c0_i32_127 : BitVec 32 := 0#32
  let v191 : BitVec 1 := Scalar.cmpi .ne v190 c0_i32_127
  let v192 : BitVec 1 := Scalar.andi v189 v191
  let v178 : BitVec 32 := Scalar.divsi v177 c2_i32_122
  let c1_i32_128 : BitVec 32 := 1#32
  let v193 : BitVec 32 := Scalar.subi v178 c1_i32_128
  let v194 : BitVec 32 := Scalar.select v192 v193 v178
  let v195 : BitVec 32 := Scalar.maxsi c0_i32_129 v194
  let v196 : BitVec 32 := Scalar.minsi v173 v195
  let c0_i32_137 : BitVec 32 := 0#32
  let c1152_i32 : BitVec 32 := 1152#32
  let v197 : BitVec 32 := Scalar.subi c1152_i32 v155
  let c0_i32_131 : BitVec 32 := 0#32
  let v199 : BitVec 1 := Scalar.cmpi .sgt v197 c0_i32_131
  let v200 : BitVec 32 := Scalar.extui v199
  let c0_i32_132 : BitVec 32 := 0#32
  let v201 : BitVec 1 := Scalar.cmpi .slt v197 c0_i32_132
  let v202 : BitVec 32 := Scalar.extui v201
  let v203 : BitVec 32 := Scalar.subi v200 v202
  let c2_i32_130 : BitVec 32 := 2#32
  let c0_i32_133 : BitVec 32 := 0#32
  let v204 : BitVec 1 := Scalar.cmpi .sgt c2_i32_130 c0_i32_133
  let v205 : BitVec 32 := Scalar.extui v204
  let c0_i32_134 : BitVec 32 := 0#32
  let v206 : BitVec 1 := Scalar.cmpi .slt c2_i32_130 c0_i32_134
  let v207 : BitVec 32 := Scalar.extui v206
  let v208 : BitVec 32 := Scalar.subi v205 v207
  let v209 : BitVec 1 := Scalar.cmpi .ne v203 v208
  let v210 : BitVec 32 := Scalar.remsi v197 c2_i32_130
  let c0_i32_135 : BitVec 32 := 0#32
  let v211 : BitVec 1 := Scalar.cmpi .ne v210 c0_i32_135
  let v212 : BitVec 1 := Scalar.andi v209 v211
  let v198 : BitVec 32 := Scalar.divsi v197 c2_i32_130
  let c1_i32_136 : BitVec 32 := 1#32
  let v213 : BitVec 32 := Scalar.subi v198 c1_i32_136
  let v214 : BitVec 32 := Scalar.select v212 v213 v198
  let v215 : BitVec 32 := Scalar.maxsi c0_i32_137 v214
  let v216 : BitVec 32 := Scalar.minsi v173 v215
  let v217 : BitVec 32 := Scalar.subi v216 v196
  let c1_i32_138 : BitVec 32 := 1#32
  let v219 : BitVec 32 := Scalar.divsi v217 c1_i32_138
  let v220 : BitVec 32 := Scalar.muli v219 c1_i32_138
  let v221 : BitVec 32 := Scalar.addi v196 v220
  let c1_i32_140 : BitVec 32 := 1#32
  let arg23 : BitVec 32 := Scf.iv v221 c1_i32_140 k0_t82
  let v1305 : BitVec 32 := Scalar.addi v1304 arg23
  let c0_i32_615 : BitVec 32 := 0#32
  ![v1305.toNat, 0]

def k0_chk44 (v153 : BitVec 32) (v155 : BitVec 32) : Prop :=
  ((k0_t81_loop v153 v155).OK) ∧
  (∀ k0_t81 : Fin (k0_t81_loop v153 v155).trips, ∀ a, (k0_off204 v153 v155 k0_t81) a + S2x128.size a ≤ S384x128.size a) ∧
  (∀ k0_t81 : Fin (k0_t81_loop v153 v155).trips, ∀ a, (k0_off205 v153 v155 k0_t81) a + S1x2.size a ≤ S584x2.size a) ∧
  ((k0_t82_loop v153 v155).OK) ∧
  (∀ k0_t82 : Fin (k0_t82_loop v153 v155).trips, ∀ a, (k0_off207 v153 v155 k0_t82) a + S2x128.size a ≤ S384x128.size a) ∧
  (∀ k0_t82 : Fin (k0_t82_loop v153 v155).trips, ∀ a, (k0_off208 v153 v155 k0_t82) a + S1x2.size a ≤ S584x2.size a)
theorem k0_t81_ok : ∀ (v153 : BitVec 32) (v155 : BitVec 32) (k0_hw44 : k0_chk44 v153 v155), (k0_t81_loop v153 v155).OK := fun v153 v155 k0_hw44 => k0_hw44.1
theorem k0_off204_inb : ∀ (v153 : BitVec 32) (v155 : BitVec 32) (k0_hw44 : k0_chk44 v153 v155) (k0_t81 : Fin (k0_t81_loop v153 v155).trips), ∀ a, (k0_off204 v153 v155 k0_t81) a + S2x128.size a ≤ S384x128.size a := fun v153 v155 k0_hw44 k0_t81 => k0_hw44.2.1 k0_t81
theorem k0_off205_inb : ∀ (v153 : BitVec 32) (v155 : BitVec 32) (k0_hw44 : k0_chk44 v153 v155) (k0_t81 : Fin (k0_t81_loop v153 v155).trips), ∀ a, (k0_off205 v153 v155 k0_t81) a + S1x2.size a ≤ S584x2.size a := fun v153 v155 k0_hw44 k0_t81 => k0_hw44.2.2.1 k0_t81
theorem k0_t82_ok : ∀ (v153 : BitVec 32) (v155 : BitVec 32) (k0_hw44 : k0_chk44 v153 v155), (k0_t82_loop v153 v155).OK := fun v153 v155 k0_hw44 => k0_hw44.2.2.2.1
theorem k0_off207_inb : ∀ (v153 : BitVec 32) (v155 : BitVec 32) (k0_hw44 : k0_chk44 v153 v155) (k0_t82 : Fin (k0_t82_loop v153 v155).trips), ∀ a, (k0_off207 v153 v155 k0_t82) a + S2x128.size a ≤ S384x128.size a := fun v153 v155 k0_hw44 k0_t82 => k0_hw44.2.2.2.2.1 k0_t82
theorem k0_off208_inb : ∀ (v153 : BitVec 32) (v155 : BitVec 32) (k0_hw44 : k0_chk44 v153 v155) (k0_t82 : Fin (k0_t82_loop v153 v155).trips), ∀ a, (k0_off208 v153 v155 k0_t82) a + S1x2.size a ≤ S584x2.size a := fun v153 v155 k0_hw44 k0_t82 => k0_hw44.2.2.2.2.2 k0_t82

def k0_off209 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_120 : BitVec 32 := 16#32
  let v174 : BitVec 32 := Scalar.muli arg21 c16_i32_120
  let c0_i32_121 : BitVec 32 := 0#32
  let v175 : BitVec 32 := Scalar.addi v174 c0_i32_121
  let c128_i32 : BitVec 32 := 128#32
  let v176 : BitVec 32 := Scalar.muli v175 c128_i32
  ![0, v176.toNat]
@[reducible] def k0_t83_loop (v225 : BitVec 32) (v227 : BitVec 32) : Scf.Loop 32 :=
  let c1_i32_141 : BitVec 32 := 1#32
  let v228 : BitVec 32 := Scalar.addi v225 c1_i32_141
  let c0_i32_143 : BitVec 32 := 0#32
  let v230 : BitVec 1 := Scalar.cmpi .sgt v228 c0_i32_143
  let v231 : BitVec 32 := Scalar.extui v230
  let c0_i32_144 : BitVec 32 := 0#32
  let v232 : BitVec 1 := Scalar.cmpi .slt v228 c0_i32_144
  let v233 : BitVec 32 := Scalar.extui v232
  let v234 : BitVec 32 := Scalar.subi v231 v233
  let c2_i32_142 : BitVec 32 := 2#32
  let c0_i32_145 : BitVec 32 := 0#32
  let v235 : BitVec 1 := Scalar.cmpi .sgt c2_i32_142 c0_i32_145
  let v236 : BitVec 32 := Scalar.extui v235
  let c0_i32_146 : BitVec 32 := 0#32
  let v237 : BitVec 1 := Scalar.cmpi .slt c2_i32_142 c0_i32_146
  let v238 : BitVec 32 := Scalar.extui v237
  let v239 : BitVec 32 := Scalar.subi v236 v238
  let v240 : BitVec 1 := Scalar.cmpi .ne v234 v239
  let v241 : BitVec 32 := Scalar.remsi v228 c2_i32_142
  let c0_i32_147 : BitVec 32 := 0#32
  let v242 : BitVec 1 := Scalar.cmpi .ne v241 c0_i32_147
  let v243 : BitVec 1 := Scalar.andi v240 v242
  let v229 : BitVec 32 := Scalar.divsi v228 c2_i32_142
  let c1_i32_148 : BitVec 32 := 1#32
  let v244 : BitVec 32 := Scalar.subi v229 c1_i32_148
  let v245 : BitVec 32 := Scalar.select v243 v244 v229
  let c0_i32_160 : BitVec 32 := 0#32
  let c768_i32_152 : BitVec 32 := 768#32
  let v249 : BitVec 32 := Scalar.subi c768_i32_152 v227
  let c0_i32_154 : BitVec 32 := 0#32
  let v251 : BitVec 1 := Scalar.cmpi .sgt v249 c0_i32_154
  let v252 : BitVec 32 := Scalar.extui v251
  let c0_i32_155 : BitVec 32 := 0#32
  let v253 : BitVec 1 := Scalar.cmpi .slt v249 c0_i32_155
  let v254 : BitVec 32 := Scalar.extui v253
  let v255 : BitVec 32 := Scalar.subi v252 v254
  let c2_i32_153 : BitVec 32 := 2#32
  let c0_i32_156 : BitVec 32 := 0#32
  let v256 : BitVec 1 := Scalar.cmpi .sgt c2_i32_153 c0_i32_156
  let v257 : BitVec 32 := Scalar.extui v256
  let c0_i32_157 : BitVec 32 := 0#32
  let v258 : BitVec 1 := Scalar.cmpi .slt c2_i32_153 c0_i32_157
  let v259 : BitVec 32 := Scalar.extui v258
  let v260 : BitVec 32 := Scalar.subi v257 v259
  let v261 : BitVec 1 := Scalar.cmpi .ne v255 v260
  let v262 : BitVec 32 := Scalar.remsi v249 c2_i32_153
  let c0_i32_158 : BitVec 32 := 0#32
  let v263 : BitVec 1 := Scalar.cmpi .ne v262 c0_i32_158
  let v264 : BitVec 1 := Scalar.andi v261 v263
  let v250 : BitVec 32 := Scalar.divsi v249 c2_i32_153
  let c1_i32_159 : BitVec 32 := 1#32
  let v265 : BitVec 32 := Scalar.subi v250 c1_i32_159
  let v266 : BitVec 32 := Scalar.select v264 v265 v250
  let v267 : BitVec 32 := Scalar.maxsi c0_i32_160 v266
  let v268 : BitVec 32 := Scalar.minsi v245 v267
  let c0_i32_169 : BitVec 32 := 0#32
  let c1152_i32_161 : BitVec 32 := 1152#32
  let v269 : BitVec 32 := Scalar.subi c1152_i32_161 v227
  let c0_i32_163 : BitVec 32 := 0#32
  let v271 : BitVec 1 := Scalar.cmpi .sgt v269 c0_i32_163
  let v272 : BitVec 32 := Scalar.extui v271
  let c0_i32_164 : BitVec 32 := 0#32
  let v273 : BitVec 1 := Scalar.cmpi .slt v269 c0_i32_164
  let v274 : BitVec 32 := Scalar.extui v273
  let v275 : BitVec 32 := Scalar.subi v272 v274
  let c2_i32_162 : BitVec 32 := 2#32
  let c0_i32_165 : BitVec 32 := 0#32
  let v276 : BitVec 1 := Scalar.cmpi .sgt c2_i32_162 c0_i32_165
  let v277 : BitVec 32 := Scalar.extui v276
  let c0_i32_166 : BitVec 32 := 0#32
  let v278 : BitVec 1 := Scalar.cmpi .slt c2_i32_162 c0_i32_166
  let v279 : BitVec 32 := Scalar.extui v278
  let v280 : BitVec 32 := Scalar.subi v277 v279
  let v281 : BitVec 1 := Scalar.cmpi .ne v275 v280
  let v282 : BitVec 32 := Scalar.remsi v269 c2_i32_162
  let c0_i32_167 : BitVec 32 := 0#32
  let v283 : BitVec 1 := Scalar.cmpi .ne v282 c0_i32_167
  let v284 : BitVec 1 := Scalar.andi v281 v283
  let v270 : BitVec 32 := Scalar.divsi v269 c2_i32_162
  let c1_i32_168 : BitVec 32 := 1#32
  let v285 : BitVec 32 := Scalar.subi v270 c1_i32_168
  let v286 : BitVec 32 := Scalar.select v284 v285 v270
  let v287 : BitVec 32 := Scalar.maxsi c0_i32_169 v286
  let v288 : BitVec 32 := Scalar.minsi v245 v287
  let v289 : BitVec 32 := Scalar.subi v288 v268
  let c1_i32_170 : BitVec 32 := 1#32
  let v291 : BitVec 32 := Scalar.divsi v289 c1_i32_170
  let v292 : BitVec 32 := Scalar.muli v291 c1_i32_170
  let v293 : BitVec 32 := Scalar.addi v268 v292
  let c1_i32_171 : BitVec 32 := 1#32
  ⟨v268, v293, c1_i32_171⟩

def k0_off210 (v225 : BitVec 32) (v227 : BitVec 32) (k0_t83 : Fin (k0_t83_loop v225 v227).trips) : Fin 2 → Nat :=
  let c1_i32_141 : BitVec 32 := 1#32
  let v228 : BitVec 32 := Scalar.addi v225 c1_i32_141
  let c0_i32_143 : BitVec 32 := 0#32
  let v230 : BitVec 1 := Scalar.cmpi .sgt v228 c0_i32_143
  let v231 : BitVec 32 := Scalar.extui v230
  let c0_i32_144 : BitVec 32 := 0#32
  let v232 : BitVec 1 := Scalar.cmpi .slt v228 c0_i32_144
  let v233 : BitVec 32 := Scalar.extui v232
  let v234 : BitVec 32 := Scalar.subi v231 v233
  let c2_i32_142 : BitVec 32 := 2#32
  let c0_i32_145 : BitVec 32 := 0#32
  let v235 : BitVec 1 := Scalar.cmpi .sgt c2_i32_142 c0_i32_145
  let v236 : BitVec 32 := Scalar.extui v235
  let c0_i32_146 : BitVec 32 := 0#32
  let v237 : BitVec 1 := Scalar.cmpi .slt c2_i32_142 c0_i32_146
  let v238 : BitVec 32 := Scalar.extui v237
  let v239 : BitVec 32 := Scalar.subi v236 v238
  let v240 : BitVec 1 := Scalar.cmpi .ne v234 v239
  let v241 : BitVec 32 := Scalar.remsi v228 c2_i32_142
  let c0_i32_147 : BitVec 32 := 0#32
  let v242 : BitVec 1 := Scalar.cmpi .ne v241 c0_i32_147
  let v243 : BitVec 1 := Scalar.andi v240 v242
  let v229 : BitVec 32 := Scalar.divsi v228 c2_i32_142
  let c1_i32_148 : BitVec 32 := 1#32
  let v244 : BitVec 32 := Scalar.subi v229 c1_i32_148
  let v245 : BitVec 32 := Scalar.select v243 v244 v229
  let c0_i32_160 : BitVec 32 := 0#32
  let c768_i32_152 : BitVec 32 := 768#32
  let v249 : BitVec 32 := Scalar.subi c768_i32_152 v227
  let c0_i32_154 : BitVec 32 := 0#32
  let v251 : BitVec 1 := Scalar.cmpi .sgt v249 c0_i32_154
  let v252 : BitVec 32 := Scalar.extui v251
  let c0_i32_155 : BitVec 32 := 0#32
  let v253 : BitVec 1 := Scalar.cmpi .slt v249 c0_i32_155
  let v254 : BitVec 32 := Scalar.extui v253
  let v255 : BitVec 32 := Scalar.subi v252 v254
  let c2_i32_153 : BitVec 32 := 2#32
  let c0_i32_156 : BitVec 32 := 0#32
  let v256 : BitVec 1 := Scalar.cmpi .sgt c2_i32_153 c0_i32_156
  let v257 : BitVec 32 := Scalar.extui v256
  let c0_i32_157 : BitVec 32 := 0#32
  let v258 : BitVec 1 := Scalar.cmpi .slt c2_i32_153 c0_i32_157
  let v259 : BitVec 32 := Scalar.extui v258
  let v260 : BitVec 32 := Scalar.subi v257 v259
  let v261 : BitVec 1 := Scalar.cmpi .ne v255 v260
  let v262 : BitVec 32 := Scalar.remsi v249 c2_i32_153
  let c0_i32_158 : BitVec 32 := 0#32
  let v263 : BitVec 1 := Scalar.cmpi .ne v262 c0_i32_158
  let v264 : BitVec 1 := Scalar.andi v261 v263
  let v250 : BitVec 32 := Scalar.divsi v249 c2_i32_153
  let c1_i32_159 : BitVec 32 := 1#32
  let v265 : BitVec 32 := Scalar.subi v250 c1_i32_159
  let v266 : BitVec 32 := Scalar.select v264 v265 v250
  let v267 : BitVec 32 := Scalar.maxsi c0_i32_160 v266
  let v268 : BitVec 32 := Scalar.minsi v245 v267
  let c1_i32_171 : BitVec 32 := 1#32
  let arg23 : BitVec 32 := Scf.iv v268 c1_i32_171 k0_t83
  let c2_i32_612 : BitVec 32 := 2#32
  let v1306 : BitVec 32 := Scalar.muli arg23 c2_i32_612
  let v1307 : BitVec 32 := Scalar.addi v227 v1306
  let c768_i32_613 : BitVec 32 := 768#32
  let v1308 : BitVec 32 := Scalar.subi v1307 c768_i32_613
  let c0_i32_614 : BitVec 32 := 0#32
  ![v1308.toNat, 0]
def k0_off211 (v225 : BitVec 32) (v227 : BitVec 32) (k0_t83 : Fin (k0_t83_loop v225 v227).trips) : Fin 2 → Nat :=
  let c1_i32_611 : BitVec 32 := 1#32
  let v1304 : BitVec 32 := Scalar.shrsi v227 c1_i32_611
  let c1_i32_141 : BitVec 32 := 1#32
  let v228 : BitVec 32 := Scalar.addi v225 c1_i32_141
  let c0_i32_143 : BitVec 32 := 0#32
  let v230 : BitVec 1 := Scalar.cmpi .sgt v228 c0_i32_143
  let v231 : BitVec 32 := Scalar.extui v230
  let c0_i32_144 : BitVec 32 := 0#32
  let v232 : BitVec 1 := Scalar.cmpi .slt v228 c0_i32_144
  let v233 : BitVec 32 := Scalar.extui v232
  let v234 : BitVec 32 := Scalar.subi v231 v233
  let c2_i32_142 : BitVec 32 := 2#32
  let c0_i32_145 : BitVec 32 := 0#32
  let v235 : BitVec 1 := Scalar.cmpi .sgt c2_i32_142 c0_i32_145
  let v236 : BitVec 32 := Scalar.extui v235
  let c0_i32_146 : BitVec 32 := 0#32
  let v237 : BitVec 1 := Scalar.cmpi .slt c2_i32_142 c0_i32_146
  let v238 : BitVec 32 := Scalar.extui v237
  let v239 : BitVec 32 := Scalar.subi v236 v238
  let v240 : BitVec 1 := Scalar.cmpi .ne v234 v239
  let v241 : BitVec 32 := Scalar.remsi v228 c2_i32_142
  let c0_i32_147 : BitVec 32 := 0#32
  let v242 : BitVec 1 := Scalar.cmpi .ne v241 c0_i32_147
  let v243 : BitVec 1 := Scalar.andi v240 v242
  let v229 : BitVec 32 := Scalar.divsi v228 c2_i32_142
  let c1_i32_148 : BitVec 32 := 1#32
  let v244 : BitVec 32 := Scalar.subi v229 c1_i32_148
  let v245 : BitVec 32 := Scalar.select v243 v244 v229
  let c0_i32_160 : BitVec 32 := 0#32
  let c768_i32_152 : BitVec 32 := 768#32
  let v249 : BitVec 32 := Scalar.subi c768_i32_152 v227
  let c0_i32_154 : BitVec 32 := 0#32
  let v251 : BitVec 1 := Scalar.cmpi .sgt v249 c0_i32_154
  let v252 : BitVec 32 := Scalar.extui v251
  let c0_i32_155 : BitVec 32 := 0#32
  let v253 : BitVec 1 := Scalar.cmpi .slt v249 c0_i32_155
  let v254 : BitVec 32 := Scalar.extui v253
  let v255 : BitVec 32 := Scalar.subi v252 v254
  let c2_i32_153 : BitVec 32 := 2#32
  let c0_i32_156 : BitVec 32 := 0#32
  let v256 : BitVec 1 := Scalar.cmpi .sgt c2_i32_153 c0_i32_156
  let v257 : BitVec 32 := Scalar.extui v256
  let c0_i32_157 : BitVec 32 := 0#32
  let v258 : BitVec 1 := Scalar.cmpi .slt c2_i32_153 c0_i32_157
  let v259 : BitVec 32 := Scalar.extui v258
  let v260 : BitVec 32 := Scalar.subi v257 v259
  let v261 : BitVec 1 := Scalar.cmpi .ne v255 v260
  let v262 : BitVec 32 := Scalar.remsi v249 c2_i32_153
  let c0_i32_158 : BitVec 32 := 0#32
  let v263 : BitVec 1 := Scalar.cmpi .ne v262 c0_i32_158
  let v264 : BitVec 1 := Scalar.andi v261 v263
  let v250 : BitVec 32 := Scalar.divsi v249 c2_i32_153
  let c1_i32_159 : BitVec 32 := 1#32
  let v265 : BitVec 32 := Scalar.subi v250 c1_i32_159
  let v266 : BitVec 32 := Scalar.select v264 v265 v250
  let v267 : BitVec 32 := Scalar.maxsi c0_i32_160 v266
  let v268 : BitVec 32 := Scalar.minsi v245 v267
  let c1_i32_171 : BitVec 32 := 1#32
  let arg23 : BitVec 32 := Scf.iv v268 c1_i32_171 k0_t83
  let v1305 : BitVec 32 := Scalar.addi v1304 arg23
  let c0_i32_615 : BitVec 32 := 0#32
  ![v1305.toNat, 0]
def k0_off212 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_149 : BitVec 32 := 16#32
  let v246 : BitVec 32 := Scalar.muli arg21 c16_i32_149
  let c1_i32_150 : BitVec 32 := 1#32
  let v247 : BitVec 32 := Scalar.addi v246 c1_i32_150
  let c128_i32_151 : BitVec 32 := 128#32
  let v248 : BitVec 32 := Scalar.muli v247 c128_i32_151
  ![0, v248.toNat]
@[reducible] def k0_t84_loop (v225 : BitVec 32) (v227 : BitVec 32) : Scf.Loop 32 :=
  let c1_i32_141 : BitVec 32 := 1#32
  let v228 : BitVec 32 := Scalar.addi v225 c1_i32_141
  let c0_i32_143 : BitVec 32 := 0#32
  let v230 : BitVec 1 := Scalar.cmpi .sgt v228 c0_i32_143
  let v231 : BitVec 32 := Scalar.extui v230
  let c0_i32_144 : BitVec 32 := 0#32
  let v232 : BitVec 1 := Scalar.cmpi .slt v228 c0_i32_144
  let v233 : BitVec 32 := Scalar.extui v232
  let v234 : BitVec 32 := Scalar.subi v231 v233
  let c2_i32_142 : BitVec 32 := 2#32
  let c0_i32_145 : BitVec 32 := 0#32
  let v235 : BitVec 1 := Scalar.cmpi .sgt c2_i32_142 c0_i32_145
  let v236 : BitVec 32 := Scalar.extui v235
  let c0_i32_146 : BitVec 32 := 0#32
  let v237 : BitVec 1 := Scalar.cmpi .slt c2_i32_142 c0_i32_146
  let v238 : BitVec 32 := Scalar.extui v237
  let v239 : BitVec 32 := Scalar.subi v236 v238
  let v240 : BitVec 1 := Scalar.cmpi .ne v234 v239
  let v241 : BitVec 32 := Scalar.remsi v228 c2_i32_142
  let c0_i32_147 : BitVec 32 := 0#32
  let v242 : BitVec 1 := Scalar.cmpi .ne v241 c0_i32_147
  let v243 : BitVec 1 := Scalar.andi v240 v242
  let v229 : BitVec 32 := Scalar.divsi v228 c2_i32_142
  let c1_i32_148 : BitVec 32 := 1#32
  let v244 : BitVec 32 := Scalar.subi v229 c1_i32_148
  let v245 : BitVec 32 := Scalar.select v243 v244 v229
  let c0_i32_160 : BitVec 32 := 0#32
  let c768_i32_152 : BitVec 32 := 768#32
  let v249 : BitVec 32 := Scalar.subi c768_i32_152 v227
  let c0_i32_154 : BitVec 32 := 0#32
  let v251 : BitVec 1 := Scalar.cmpi .sgt v249 c0_i32_154
  let v252 : BitVec 32 := Scalar.extui v251
  let c0_i32_155 : BitVec 32 := 0#32
  let v253 : BitVec 1 := Scalar.cmpi .slt v249 c0_i32_155
  let v254 : BitVec 32 := Scalar.extui v253
  let v255 : BitVec 32 := Scalar.subi v252 v254
  let c2_i32_153 : BitVec 32 := 2#32
  let c0_i32_156 : BitVec 32 := 0#32
  let v256 : BitVec 1 := Scalar.cmpi .sgt c2_i32_153 c0_i32_156
  let v257 : BitVec 32 := Scalar.extui v256
  let c0_i32_157 : BitVec 32 := 0#32
  let v258 : BitVec 1 := Scalar.cmpi .slt c2_i32_153 c0_i32_157
  let v259 : BitVec 32 := Scalar.extui v258
  let v260 : BitVec 32 := Scalar.subi v257 v259
  let v261 : BitVec 1 := Scalar.cmpi .ne v255 v260
  let v262 : BitVec 32 := Scalar.remsi v249 c2_i32_153
  let c0_i32_158 : BitVec 32 := 0#32
  let v263 : BitVec 1 := Scalar.cmpi .ne v262 c0_i32_158
  let v264 : BitVec 1 := Scalar.andi v261 v263
  let v250 : BitVec 32 := Scalar.divsi v249 c2_i32_153
  let c1_i32_159 : BitVec 32 := 1#32
  let v265 : BitVec 32 := Scalar.subi v250 c1_i32_159
  let v266 : BitVec 32 := Scalar.select v264 v265 v250
  let v267 : BitVec 32 := Scalar.maxsi c0_i32_160 v266
  let v268 : BitVec 32 := Scalar.minsi v245 v267
  let c0_i32_169 : BitVec 32 := 0#32
  let c1152_i32_161 : BitVec 32 := 1152#32
  let v269 : BitVec 32 := Scalar.subi c1152_i32_161 v227
  let c0_i32_163 : BitVec 32 := 0#32
  let v271 : BitVec 1 := Scalar.cmpi .sgt v269 c0_i32_163
  let v272 : BitVec 32 := Scalar.extui v271
  let c0_i32_164 : BitVec 32 := 0#32
  let v273 : BitVec 1 := Scalar.cmpi .slt v269 c0_i32_164
  let v274 : BitVec 32 := Scalar.extui v273
  let v275 : BitVec 32 := Scalar.subi v272 v274
  let c2_i32_162 : BitVec 32 := 2#32
  let c0_i32_165 : BitVec 32 := 0#32
  let v276 : BitVec 1 := Scalar.cmpi .sgt c2_i32_162 c0_i32_165
  let v277 : BitVec 32 := Scalar.extui v276
  let c0_i32_166 : BitVec 32 := 0#32
  let v278 : BitVec 1 := Scalar.cmpi .slt c2_i32_162 c0_i32_166
  let v279 : BitVec 32 := Scalar.extui v278
  let v280 : BitVec 32 := Scalar.subi v277 v279
  let v281 : BitVec 1 := Scalar.cmpi .ne v275 v280
  let v282 : BitVec 32 := Scalar.remsi v269 c2_i32_162
  let c0_i32_167 : BitVec 32 := 0#32
  let v283 : BitVec 1 := Scalar.cmpi .ne v282 c0_i32_167
  let v284 : BitVec 1 := Scalar.andi v281 v283
  let v270 : BitVec 32 := Scalar.divsi v269 c2_i32_162
  let c1_i32_168 : BitVec 32 := 1#32
  let v285 : BitVec 32 := Scalar.subi v270 c1_i32_168
  let v286 : BitVec 32 := Scalar.select v284 v285 v270
  let v287 : BitVec 32 := Scalar.maxsi c0_i32_169 v286
  let v288 : BitVec 32 := Scalar.minsi v245 v287
  let v289 : BitVec 32 := Scalar.subi v288 v268
  let c1_i32_170 : BitVec 32 := 1#32
  let v291 : BitVec 32 := Scalar.divsi v289 c1_i32_170
  let v292 : BitVec 32 := Scalar.muli v291 c1_i32_170
  let v293 : BitVec 32 := Scalar.addi v268 v292
  let v290 : BitVec 32 := Scalar.addi v268 v289
  let c1_i32_172 : BitVec 32 := 1#32
  ⟨v293, v290, c1_i32_172⟩
def k0_off213 (v225 : BitVec 32) (v227 : BitVec 32) (k0_t84 : Fin (k0_t84_loop v225 v227).trips) : Fin 2 → Nat :=
  let c1_i32_141 : BitVec 32 := 1#32
  let v228 : BitVec 32 := Scalar.addi v225 c1_i32_141
  let c0_i32_143 : BitVec 32 := 0#32
  let v230 : BitVec 1 := Scalar.cmpi .sgt v228 c0_i32_143
  let v231 : BitVec 32 := Scalar.extui v230
  let c0_i32_144 : BitVec 32 := 0#32
  let v232 : BitVec 1 := Scalar.cmpi .slt v228 c0_i32_144
  let v233 : BitVec 32 := Scalar.extui v232
  let v234 : BitVec 32 := Scalar.subi v231 v233
  let c2_i32_142 : BitVec 32 := 2#32
  let c0_i32_145 : BitVec 32 := 0#32
  let v235 : BitVec 1 := Scalar.cmpi .sgt c2_i32_142 c0_i32_145
  let v236 : BitVec 32 := Scalar.extui v235
  let c0_i32_146 : BitVec 32 := 0#32
  let v237 : BitVec 1 := Scalar.cmpi .slt c2_i32_142 c0_i32_146
  let v238 : BitVec 32 := Scalar.extui v237
  let v239 : BitVec 32 := Scalar.subi v236 v238
  let v240 : BitVec 1 := Scalar.cmpi .ne v234 v239
  let v241 : BitVec 32 := Scalar.remsi v228 c2_i32_142
  let c0_i32_147 : BitVec 32 := 0#32
  let v242 : BitVec 1 := Scalar.cmpi .ne v241 c0_i32_147
  let v243 : BitVec 1 := Scalar.andi v240 v242
  let v229 : BitVec 32 := Scalar.divsi v228 c2_i32_142
  let c1_i32_148 : BitVec 32 := 1#32
  let v244 : BitVec 32 := Scalar.subi v229 c1_i32_148
  let v245 : BitVec 32 := Scalar.select v243 v244 v229
  let c0_i32_160 : BitVec 32 := 0#32
  let c768_i32_152 : BitVec 32 := 768#32
  let v249 : BitVec 32 := Scalar.subi c768_i32_152 v227
  let c0_i32_154 : BitVec 32 := 0#32
  let v251 : BitVec 1 := Scalar.cmpi .sgt v249 c0_i32_154
  let v252 : BitVec 32 := Scalar.extui v251
  let c0_i32_155 : BitVec 32 := 0#32
  let v253 : BitVec 1 := Scalar.cmpi .slt v249 c0_i32_155
  let v254 : BitVec 32 := Scalar.extui v253
  let v255 : BitVec 32 := Scalar.subi v252 v254
  let c2_i32_153 : BitVec 32 := 2#32
  let c0_i32_156 : BitVec 32 := 0#32
  let v256 : BitVec 1 := Scalar.cmpi .sgt c2_i32_153 c0_i32_156
  let v257 : BitVec 32 := Scalar.extui v256
  let c0_i32_157 : BitVec 32 := 0#32
  let v258 : BitVec 1 := Scalar.cmpi .slt c2_i32_153 c0_i32_157
  let v259 : BitVec 32 := Scalar.extui v258
  let v260 : BitVec 32 := Scalar.subi v257 v259
  let v261 : BitVec 1 := Scalar.cmpi .ne v255 v260
  let v262 : BitVec 32 := Scalar.remsi v249 c2_i32_153
  let c0_i32_158 : BitVec 32 := 0#32
  let v263 : BitVec 1 := Scalar.cmpi .ne v262 c0_i32_158
  let v264 : BitVec 1 := Scalar.andi v261 v263
  let v250 : BitVec 32 := Scalar.divsi v249 c2_i32_153
  let c1_i32_159 : BitVec 32 := 1#32
  let v265 : BitVec 32 := Scalar.subi v250 c1_i32_159
  let v266 : BitVec 32 := Scalar.select v264 v265 v250
  let v267 : BitVec 32 := Scalar.maxsi c0_i32_160 v266
  let v268 : BitVec 32 := Scalar.minsi v245 v267
  let c0_i32_169 : BitVec 32 := 0#32
  let c1152_i32_161 : BitVec 32 := 1152#32
  let v269 : BitVec 32 := Scalar.subi c1152_i32_161 v227
  let c0_i32_163 : BitVec 32 := 0#32
  let v271 : BitVec 1 := Scalar.cmpi .sgt v269 c0_i32_163
  let v272 : BitVec 32 := Scalar.extui v271
  let c0_i32_164 : BitVec 32 := 0#32
  let v273 : BitVec 1 := Scalar.cmpi .slt v269 c0_i32_164
  let v274 : BitVec 32 := Scalar.extui v273
  let v275 : BitVec 32 := Scalar.subi v272 v274
  let c2_i32_162 : BitVec 32 := 2#32
  let c0_i32_165 : BitVec 32 := 0#32
  let v276 : BitVec 1 := Scalar.cmpi .sgt c2_i32_162 c0_i32_165
  let v277 : BitVec 32 := Scalar.extui v276
  let c0_i32_166 : BitVec 32 := 0#32
  let v278 : BitVec 1 := Scalar.cmpi .slt c2_i32_162 c0_i32_166
  let v279 : BitVec 32 := Scalar.extui v278
  let v280 : BitVec 32 := Scalar.subi v277 v279
  let v281 : BitVec 1 := Scalar.cmpi .ne v275 v280
  let v282 : BitVec 32 := Scalar.remsi v269 c2_i32_162
  let c0_i32_167 : BitVec 32 := 0#32
  let v283 : BitVec 1 := Scalar.cmpi .ne v282 c0_i32_167
  let v284 : BitVec 1 := Scalar.andi v281 v283
  let v270 : BitVec 32 := Scalar.divsi v269 c2_i32_162
  let c1_i32_168 : BitVec 32 := 1#32
  let v285 : BitVec 32 := Scalar.subi v270 c1_i32_168
  let v286 : BitVec 32 := Scalar.select v284 v285 v270
  let v287 : BitVec 32 := Scalar.maxsi c0_i32_169 v286
  let v288 : BitVec 32 := Scalar.minsi v245 v287
  let v289 : BitVec 32 := Scalar.subi v288 v268
  let c1_i32_170 : BitVec 32 := 1#32
  let v291 : BitVec 32 := Scalar.divsi v289 c1_i32_170
  let v292 : BitVec 32 := Scalar.muli v291 c1_i32_170
  let v293 : BitVec 32 := Scalar.addi v268 v292
  let c1_i32_172 : BitVec 32 := 1#32
  let arg23 : BitVec 32 := Scf.iv v293 c1_i32_172 k0_t84
  let c2_i32_612 : BitVec 32 := 2#32
  let v1306 : BitVec 32 := Scalar.muli arg23 c2_i32_612
  let v1307 : BitVec 32 := Scalar.addi v227 v1306
  let c768_i32_613 : BitVec 32 := 768#32
  let v1308 : BitVec 32 := Scalar.subi v1307 c768_i32_613
  let c0_i32_614 : BitVec 32 := 0#32
  ![v1308.toNat, 0]
def k0_off214 (v225 : BitVec 32) (v227 : BitVec 32) (k0_t84 : Fin (k0_t84_loop v225 v227).trips) : Fin 2 → Nat :=
  let c1_i32_611 : BitVec 32 := 1#32
  let v1304 : BitVec 32 := Scalar.shrsi v227 c1_i32_611
  let c1_i32_141 : BitVec 32 := 1#32
  let v228 : BitVec 32 := Scalar.addi v225 c1_i32_141
  let c0_i32_143 : BitVec 32 := 0#32
  let v230 : BitVec 1 := Scalar.cmpi .sgt v228 c0_i32_143
  let v231 : BitVec 32 := Scalar.extui v230
  let c0_i32_144 : BitVec 32 := 0#32
  let v232 : BitVec 1 := Scalar.cmpi .slt v228 c0_i32_144
  let v233 : BitVec 32 := Scalar.extui v232
  let v234 : BitVec 32 := Scalar.subi v231 v233
  let c2_i32_142 : BitVec 32 := 2#32
  let c0_i32_145 : BitVec 32 := 0#32
  let v235 : BitVec 1 := Scalar.cmpi .sgt c2_i32_142 c0_i32_145
  let v236 : BitVec 32 := Scalar.extui v235
  let c0_i32_146 : BitVec 32 := 0#32
  let v237 : BitVec 1 := Scalar.cmpi .slt c2_i32_142 c0_i32_146
  let v238 : BitVec 32 := Scalar.extui v237
  let v239 : BitVec 32 := Scalar.subi v236 v238
  let v240 : BitVec 1 := Scalar.cmpi .ne v234 v239
  let v241 : BitVec 32 := Scalar.remsi v228 c2_i32_142
  let c0_i32_147 : BitVec 32 := 0#32
  let v242 : BitVec 1 := Scalar.cmpi .ne v241 c0_i32_147
  let v243 : BitVec 1 := Scalar.andi v240 v242
  let v229 : BitVec 32 := Scalar.divsi v228 c2_i32_142
  let c1_i32_148 : BitVec 32 := 1#32
  let v244 : BitVec 32 := Scalar.subi v229 c1_i32_148
  let v245 : BitVec 32 := Scalar.select v243 v244 v229
  let c0_i32_160 : BitVec 32 := 0#32
  let c768_i32_152 : BitVec 32 := 768#32
  let v249 : BitVec 32 := Scalar.subi c768_i32_152 v227
  let c0_i32_154 : BitVec 32 := 0#32
  let v251 : BitVec 1 := Scalar.cmpi .sgt v249 c0_i32_154
  let v252 : BitVec 32 := Scalar.extui v251
  let c0_i32_155 : BitVec 32 := 0#32
  let v253 : BitVec 1 := Scalar.cmpi .slt v249 c0_i32_155
  let v254 : BitVec 32 := Scalar.extui v253
  let v255 : BitVec 32 := Scalar.subi v252 v254
  let c2_i32_153 : BitVec 32 := 2#32
  let c0_i32_156 : BitVec 32 := 0#32
  let v256 : BitVec 1 := Scalar.cmpi .sgt c2_i32_153 c0_i32_156
  let v257 : BitVec 32 := Scalar.extui v256
  let c0_i32_157 : BitVec 32 := 0#32
  let v258 : BitVec 1 := Scalar.cmpi .slt c2_i32_153 c0_i32_157
  let v259 : BitVec 32 := Scalar.extui v258
  let v260 : BitVec 32 := Scalar.subi v257 v259
  let v261 : BitVec 1 := Scalar.cmpi .ne v255 v260
  let v262 : BitVec 32 := Scalar.remsi v249 c2_i32_153
  let c0_i32_158 : BitVec 32 := 0#32
  let v263 : BitVec 1 := Scalar.cmpi .ne v262 c0_i32_158
  let v264 : BitVec 1 := Scalar.andi v261 v263
  let v250 : BitVec 32 := Scalar.divsi v249 c2_i32_153
  let c1_i32_159 : BitVec 32 := 1#32
  let v265 : BitVec 32 := Scalar.subi v250 c1_i32_159
  let v266 : BitVec 32 := Scalar.select v264 v265 v250
  let v267 : BitVec 32 := Scalar.maxsi c0_i32_160 v266
  let v268 : BitVec 32 := Scalar.minsi v245 v267
  let c0_i32_169 : BitVec 32 := 0#32
  let c1152_i32_161 : BitVec 32 := 1152#32
  let v269 : BitVec 32 := Scalar.subi c1152_i32_161 v227
  let c0_i32_163 : BitVec 32 := 0#32
  let v271 : BitVec 1 := Scalar.cmpi .sgt v269 c0_i32_163
  let v272 : BitVec 32 := Scalar.extui v271
  let c0_i32_164 : BitVec 32 := 0#32
  let v273 : BitVec 1 := Scalar.cmpi .slt v269 c0_i32_164
  let v274 : BitVec 32 := Scalar.extui v273
  let v275 : BitVec 32 := Scalar.subi v272 v274
  let c2_i32_162 : BitVec 32 := 2#32
  let c0_i32_165 : BitVec 32 := 0#32
  let v276 : BitVec 1 := Scalar.cmpi .sgt c2_i32_162 c0_i32_165
  let v277 : BitVec 32 := Scalar.extui v276
  let c0_i32_166 : BitVec 32 := 0#32
  let v278 : BitVec 1 := Scalar.cmpi .slt c2_i32_162 c0_i32_166
  let v279 : BitVec 32 := Scalar.extui v278
  let v280 : BitVec 32 := Scalar.subi v277 v279
  let v281 : BitVec 1 := Scalar.cmpi .ne v275 v280
  let v282 : BitVec 32 := Scalar.remsi v269 c2_i32_162
  let c0_i32_167 : BitVec 32 := 0#32
  let v283 : BitVec 1 := Scalar.cmpi .ne v282 c0_i32_167
  let v284 : BitVec 1 := Scalar.andi v281 v283
  let v270 : BitVec 32 := Scalar.divsi v269 c2_i32_162
  let c1_i32_168 : BitVec 32 := 1#32
  let v285 : BitVec 32 := Scalar.subi v270 c1_i32_168
  let v286 : BitVec 32 := Scalar.select v284 v285 v270
  let v287 : BitVec 32 := Scalar.maxsi c0_i32_169 v286
  let v288 : BitVec 32 := Scalar.minsi v245 v287
  let v289 : BitVec 32 := Scalar.subi v288 v268
  let c1_i32_170 : BitVec 32 := 1#32
  let v291 : BitVec 32 := Scalar.divsi v289 c1_i32_170
  let v292 : BitVec 32 := Scalar.muli v291 c1_i32_170
  let v293 : BitVec 32 := Scalar.addi v268 v292
  let c1_i32_172 : BitVec 32 := 1#32
  let arg23 : BitVec 32 := Scf.iv v293 c1_i32_172 k0_t84
  let v1305 : BitVec 32 := Scalar.addi v1304 arg23
  let c0_i32_615 : BitVec 32 := 0#32
  ![v1305.toNat, 0]

def k0_chk45 (v225 : BitVec 32) (v227 : BitVec 32) : Prop :=
  ((k0_t83_loop v225 v227).OK) ∧
  (∀ k0_t83 : Fin (k0_t83_loop v225 v227).trips, ∀ a, (k0_off210 v225 v227 k0_t83) a + S2x128.size a ≤ S384x128.size a) ∧
  (∀ k0_t83 : Fin (k0_t83_loop v225 v227).trips, ∀ a, (k0_off211 v225 v227 k0_t83) a + S1x2.size a ≤ S584x2.size a) ∧
  ((k0_t84_loop v225 v227).OK) ∧
  (∀ k0_t84 : Fin (k0_t84_loop v225 v227).trips, ∀ a, (k0_off213 v225 v227 k0_t84) a + S2x128.size a ≤ S384x128.size a) ∧
  (∀ k0_t84 : Fin (k0_t84_loop v225 v227).trips, ∀ a, (k0_off214 v225 v227 k0_t84) a + S1x2.size a ≤ S584x2.size a)
theorem k0_t83_ok : ∀ (v225 : BitVec 32) (v227 : BitVec 32) (k0_hw45 : k0_chk45 v225 v227), (k0_t83_loop v225 v227).OK := fun v225 v227 k0_hw45 => k0_hw45.1
theorem k0_off210_inb : ∀ (v225 : BitVec 32) (v227 : BitVec 32) (k0_hw45 : k0_chk45 v225 v227) (k0_t83 : Fin (k0_t83_loop v225 v227).trips), ∀ a, (k0_off210 v225 v227 k0_t83) a + S2x128.size a ≤ S384x128.size a := fun v225 v227 k0_hw45 k0_t83 => k0_hw45.2.1 k0_t83
theorem k0_off211_inb : ∀ (v225 : BitVec 32) (v227 : BitVec 32) (k0_hw45 : k0_chk45 v225 v227) (k0_t83 : Fin (k0_t83_loop v225 v227).trips), ∀ a, (k0_off211 v225 v227 k0_t83) a + S1x2.size a ≤ S584x2.size a := fun v225 v227 k0_hw45 k0_t83 => k0_hw45.2.2.1 k0_t83
theorem k0_t84_ok : ∀ (v225 : BitVec 32) (v227 : BitVec 32) (k0_hw45 : k0_chk45 v225 v227), (k0_t84_loop v225 v227).OK := fun v225 v227 k0_hw45 => k0_hw45.2.2.2.1
theorem k0_off213_inb : ∀ (v225 : BitVec 32) (v227 : BitVec 32) (k0_hw45 : k0_chk45 v225 v227) (k0_t84 : Fin (k0_t84_loop v225 v227).trips), ∀ a, (k0_off213 v225 v227 k0_t84) a + S2x128.size a ≤ S384x128.size a := fun v225 v227 k0_hw45 k0_t84 => k0_hw45.2.2.2.2.1 k0_t84
theorem k0_off214_inb : ∀ (v225 : BitVec 32) (v227 : BitVec 32) (k0_hw45 : k0_chk45 v225 v227) (k0_t84 : Fin (k0_t84_loop v225 v227).trips), ∀ a, (k0_off214 v225 v227 k0_t84) a + S1x2.size a ≤ S584x2.size a := fun v225 v227 k0_hw45 k0_t84 => k0_hw45.2.2.2.2.2 k0_t84

def k0_off215 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_149 : BitVec 32 := 16#32
  let v246 : BitVec 32 := Scalar.muli arg21 c16_i32_149
  let c1_i32_150 : BitVec 32 := 1#32
  let v247 : BitVec 32 := Scalar.addi v246 c1_i32_150
  let c128_i32_151 : BitVec 32 := 128#32
  let v248 : BitVec 32 := Scalar.muli v247 c128_i32_151
  ![0, v248.toNat]
@[reducible] def k0_t85_loop (v297 : BitVec 32) (v299 : BitVec 32) : Scf.Loop 32 :=
  let c1_i32_173 : BitVec 32 := 1#32
  let v300 : BitVec 32 := Scalar.addi v297 c1_i32_173
  let c0_i32_175 : BitVec 32 := 0#32
  let v302 : BitVec 1 := Scalar.cmpi .sgt v300 c0_i32_175
  let v303 : BitVec 32 := Scalar.extui v302
  let c0_i32_176 : BitVec 32 := 0#32
  let v304 : BitVec 1 := Scalar.cmpi .slt v300 c0_i32_176
  let v305 : BitVec 32 := Scalar.extui v304
  let v306 : BitVec 32 := Scalar.subi v303 v305
  let c2_i32_174 : BitVec 32 := 2#32
  let c0_i32_177 : BitVec 32 := 0#32
  let v307 : BitVec 1 := Scalar.cmpi .sgt c2_i32_174 c0_i32_177
  let v308 : BitVec 32 := Scalar.extui v307
  let c0_i32_178 : BitVec 32 := 0#32
  let v309 : BitVec 1 := Scalar.cmpi .slt c2_i32_174 c0_i32_178
  let v310 : BitVec 32 := Scalar.extui v309
  let v311 : BitVec 32 := Scalar.subi v308 v310
  let v312 : BitVec 1 := Scalar.cmpi .ne v306 v311
  let v313 : BitVec 32 := Scalar.remsi v300 c2_i32_174
  let c0_i32_179 : BitVec 32 := 0#32
  let v314 : BitVec 1 := Scalar.cmpi .ne v313 c0_i32_179
  let v315 : BitVec 1 := Scalar.andi v312 v314
  let v301 : BitVec 32 := Scalar.divsi v300 c2_i32_174
  let c1_i32_180 : BitVec 32 := 1#32
  let v316 : BitVec 32 := Scalar.subi v301 c1_i32_180
  let v317 : BitVec 32 := Scalar.select v315 v316 v301
  let c0_i32_192 : BitVec 32 := 0#32
  let c768_i32_184 : BitVec 32 := 768#32
  let v321 : BitVec 32 := Scalar.subi c768_i32_184 v299
  let c0_i32_186 : BitVec 32 := 0#32
  let v323 : BitVec 1 := Scalar.cmpi .sgt v321 c0_i32_186
  let v324 : BitVec 32 := Scalar.extui v323
  let c0_i32_187 : BitVec 32 := 0#32
  let v325 : BitVec 1 := Scalar.cmpi .slt v321 c0_i32_187
  let v326 : BitVec 32 := Scalar.extui v325
  let v327 : BitVec 32 := Scalar.subi v324 v326
  let c2_i32_185 : BitVec 32 := 2#32
  let c0_i32_188 : BitVec 32 := 0#32
  let v328 : BitVec 1 := Scalar.cmpi .sgt c2_i32_185 c0_i32_188
  let v329 : BitVec 32 := Scalar.extui v328
  let c0_i32_189 : BitVec 32 := 0#32
  let v330 : BitVec 1 := Scalar.cmpi .slt c2_i32_185 c0_i32_189
  let v331 : BitVec 32 := Scalar.extui v330
  let v332 : BitVec 32 := Scalar.subi v329 v331
  let v333 : BitVec 1 := Scalar.cmpi .ne v327 v332
  let v334 : BitVec 32 := Scalar.remsi v321 c2_i32_185
  let c0_i32_190 : BitVec 32 := 0#32
  let v335 : BitVec 1 := Scalar.cmpi .ne v334 c0_i32_190
  let v336 : BitVec 1 := Scalar.andi v333 v335
  let v322 : BitVec 32 := Scalar.divsi v321 c2_i32_185
  let c1_i32_191 : BitVec 32 := 1#32
  let v337 : BitVec 32 := Scalar.subi v322 c1_i32_191
  let v338 : BitVec 32 := Scalar.select v336 v337 v322
  let v339 : BitVec 32 := Scalar.maxsi c0_i32_192 v338
  let v340 : BitVec 32 := Scalar.minsi v317 v339
  let c0_i32_201 : BitVec 32 := 0#32
  let c1152_i32_193 : BitVec 32 := 1152#32
  let v341 : BitVec 32 := Scalar.subi c1152_i32_193 v299
  let c0_i32_195 : BitVec 32 := 0#32
  let v343 : BitVec 1 := Scalar.cmpi .sgt v341 c0_i32_195
  let v344 : BitVec 32 := Scalar.extui v343
  let c0_i32_196 : BitVec 32 := 0#32
  let v345 : BitVec 1 := Scalar.cmpi .slt v341 c0_i32_196
  let v346 : BitVec 32 := Scalar.extui v345
  let v347 : BitVec 32 := Scalar.subi v344 v346
  let c2_i32_194 : BitVec 32 := 2#32
  let c0_i32_197 : BitVec 32 := 0#32
  let v348 : BitVec 1 := Scalar.cmpi .sgt c2_i32_194 c0_i32_197
  let v349 : BitVec 32 := Scalar.extui v348
  let c0_i32_198 : BitVec 32 := 0#32
  let v350 : BitVec 1 := Scalar.cmpi .slt c2_i32_194 c0_i32_198
  let v351 : BitVec 32 := Scalar.extui v350
  let v352 : BitVec 32 := Scalar.subi v349 v351
  let v353 : BitVec 1 := Scalar.cmpi .ne v347 v352
  let v354 : BitVec 32 := Scalar.remsi v341 c2_i32_194
  let c0_i32_199 : BitVec 32 := 0#32
  let v355 : BitVec 1 := Scalar.cmpi .ne v354 c0_i32_199
  let v356 : BitVec 1 := Scalar.andi v353 v355
  let v342 : BitVec 32 := Scalar.divsi v341 c2_i32_194
  let c1_i32_200 : BitVec 32 := 1#32
  let v357 : BitVec 32 := Scalar.subi v342 c1_i32_200
  let v358 : BitVec 32 := Scalar.select v356 v357 v342
  let v359 : BitVec 32 := Scalar.maxsi c0_i32_201 v358
  let v360 : BitVec 32 := Scalar.minsi v317 v359
  let v361 : BitVec 32 := Scalar.subi v360 v340
  let c1_i32_202 : BitVec 32 := 1#32
  let v363 : BitVec 32 := Scalar.divsi v361 c1_i32_202
  let v364 : BitVec 32 := Scalar.muli v363 c1_i32_202
  let v365 : BitVec 32 := Scalar.addi v340 v364
  let c1_i32_203 : BitVec 32 := 1#32
  ⟨v340, v365, c1_i32_203⟩

def k0_off216 (v297 : BitVec 32) (v299 : BitVec 32) (k0_t85 : Fin (k0_t85_loop v297 v299).trips) : Fin 2 → Nat :=
  let c1_i32_173 : BitVec 32 := 1#32
  let v300 : BitVec 32 := Scalar.addi v297 c1_i32_173
  let c0_i32_175 : BitVec 32 := 0#32
  let v302 : BitVec 1 := Scalar.cmpi .sgt v300 c0_i32_175
  let v303 : BitVec 32 := Scalar.extui v302
  let c0_i32_176 : BitVec 32 := 0#32
  let v304 : BitVec 1 := Scalar.cmpi .slt v300 c0_i32_176
  let v305 : BitVec 32 := Scalar.extui v304
  let v306 : BitVec 32 := Scalar.subi v303 v305
  let c2_i32_174 : BitVec 32 := 2#32
  let c0_i32_177 : BitVec 32 := 0#32
  let v307 : BitVec 1 := Scalar.cmpi .sgt c2_i32_174 c0_i32_177
  let v308 : BitVec 32 := Scalar.extui v307
  let c0_i32_178 : BitVec 32 := 0#32
  let v309 : BitVec 1 := Scalar.cmpi .slt c2_i32_174 c0_i32_178
  let v310 : BitVec 32 := Scalar.extui v309
  let v311 : BitVec 32 := Scalar.subi v308 v310
  let v312 : BitVec 1 := Scalar.cmpi .ne v306 v311
  let v313 : BitVec 32 := Scalar.remsi v300 c2_i32_174
  let c0_i32_179 : BitVec 32 := 0#32
  let v314 : BitVec 1 := Scalar.cmpi .ne v313 c0_i32_179
  let v315 : BitVec 1 := Scalar.andi v312 v314
  let v301 : BitVec 32 := Scalar.divsi v300 c2_i32_174
  let c1_i32_180 : BitVec 32 := 1#32
  let v316 : BitVec 32 := Scalar.subi v301 c1_i32_180
  let v317 : BitVec 32 := Scalar.select v315 v316 v301
  let c0_i32_192 : BitVec 32 := 0#32
  let c768_i32_184 : BitVec 32 := 768#32
  let v321 : BitVec 32 := Scalar.subi c768_i32_184 v299
  let c0_i32_186 : BitVec 32 := 0#32
  let v323 : BitVec 1 := Scalar.cmpi .sgt v321 c0_i32_186
  let v324 : BitVec 32 := Scalar.extui v323
  let c0_i32_187 : BitVec 32 := 0#32
  let v325 : BitVec 1 := Scalar.cmpi .slt v321 c0_i32_187
  let v326 : BitVec 32 := Scalar.extui v325
  let v327 : BitVec 32 := Scalar.subi v324 v326
  let c2_i32_185 : BitVec 32 := 2#32
  let c0_i32_188 : BitVec 32 := 0#32
  let v328 : BitVec 1 := Scalar.cmpi .sgt c2_i32_185 c0_i32_188
  let v329 : BitVec 32 := Scalar.extui v328
  let c0_i32_189 : BitVec 32 := 0#32
  let v330 : BitVec 1 := Scalar.cmpi .slt c2_i32_185 c0_i32_189
  let v331 : BitVec 32 := Scalar.extui v330
  let v332 : BitVec 32 := Scalar.subi v329 v331
  let v333 : BitVec 1 := Scalar.cmpi .ne v327 v332
  let v334 : BitVec 32 := Scalar.remsi v321 c2_i32_185
  let c0_i32_190 : BitVec 32 := 0#32
  let v335 : BitVec 1 := Scalar.cmpi .ne v334 c0_i32_190
  let v336 : BitVec 1 := Scalar.andi v333 v335
  let v322 : BitVec 32 := Scalar.divsi v321 c2_i32_185
  let c1_i32_191 : BitVec 32 := 1#32
  let v337 : BitVec 32 := Scalar.subi v322 c1_i32_191
  let v338 : BitVec 32 := Scalar.select v336 v337 v322
  let v339 : BitVec 32 := Scalar.maxsi c0_i32_192 v338
  let v340 : BitVec 32 := Scalar.minsi v317 v339
  let c1_i32_203 : BitVec 32 := 1#32
  let arg23 : BitVec 32 := Scf.iv v340 c1_i32_203 k0_t85
  let c2_i32_612 : BitVec 32 := 2#32
  let v1306 : BitVec 32 := Scalar.muli arg23 c2_i32_612
  let v1307 : BitVec 32 := Scalar.addi v299 v1306
  let c768_i32_613 : BitVec 32 := 768#32
  let v1308 : BitVec 32 := Scalar.subi v1307 c768_i32_613
  let c0_i32_614 : BitVec 32 := 0#32
  ![v1308.toNat, 0]
def k0_off217 (v297 : BitVec 32) (v299 : BitVec 32) (k0_t85 : Fin (k0_t85_loop v297 v299).trips) : Fin 2 → Nat :=
  let c1_i32_611 : BitVec 32 := 1#32
  let v1304 : BitVec 32 := Scalar.shrsi v299 c1_i32_611
  let c1_i32_173 : BitVec 32 := 1#32
  let v300 : BitVec 32 := Scalar.addi v297 c1_i32_173
  let c0_i32_175 : BitVec 32 := 0#32
  let v302 : BitVec 1 := Scalar.cmpi .sgt v300 c0_i32_175
  let v303 : BitVec 32 := Scalar.extui v302
  let c0_i32_176 : BitVec 32 := 0#32
  let v304 : BitVec 1 := Scalar.cmpi .slt v300 c0_i32_176
  let v305 : BitVec 32 := Scalar.extui v304
  let v306 : BitVec 32 := Scalar.subi v303 v305
  let c2_i32_174 : BitVec 32 := 2#32
  let c0_i32_177 : BitVec 32 := 0#32
  let v307 : BitVec 1 := Scalar.cmpi .sgt c2_i32_174 c0_i32_177
  let v308 : BitVec 32 := Scalar.extui v307
  let c0_i32_178 : BitVec 32 := 0#32
  let v309 : BitVec 1 := Scalar.cmpi .slt c2_i32_174 c0_i32_178
  let v310 : BitVec 32 := Scalar.extui v309
  let v311 : BitVec 32 := Scalar.subi v308 v310
  let v312 : BitVec 1 := Scalar.cmpi .ne v306 v311
  let v313 : BitVec 32 := Scalar.remsi v300 c2_i32_174
  let c0_i32_179 : BitVec 32 := 0#32
  let v314 : BitVec 1 := Scalar.cmpi .ne v313 c0_i32_179
  let v315 : BitVec 1 := Scalar.andi v312 v314
  let v301 : BitVec 32 := Scalar.divsi v300 c2_i32_174
  let c1_i32_180 : BitVec 32 := 1#32
  let v316 : BitVec 32 := Scalar.subi v301 c1_i32_180
  let v317 : BitVec 32 := Scalar.select v315 v316 v301
  let c0_i32_192 : BitVec 32 := 0#32
  let c768_i32_184 : BitVec 32 := 768#32
  let v321 : BitVec 32 := Scalar.subi c768_i32_184 v299
  let c0_i32_186 : BitVec 32 := 0#32
  let v323 : BitVec 1 := Scalar.cmpi .sgt v321 c0_i32_186
  let v324 : BitVec 32 := Scalar.extui v323
  let c0_i32_187 : BitVec 32 := 0#32
  let v325 : BitVec 1 := Scalar.cmpi .slt v321 c0_i32_187
  let v326 : BitVec 32 := Scalar.extui v325
  let v327 : BitVec 32 := Scalar.subi v324 v326
  let c2_i32_185 : BitVec 32 := 2#32
  let c0_i32_188 : BitVec 32 := 0#32
  let v328 : BitVec 1 := Scalar.cmpi .sgt c2_i32_185 c0_i32_188
  let v329 : BitVec 32 := Scalar.extui v328
  let c0_i32_189 : BitVec 32 := 0#32
  let v330 : BitVec 1 := Scalar.cmpi .slt c2_i32_185 c0_i32_189
  let v331 : BitVec 32 := Scalar.extui v330
  let v332 : BitVec 32 := Scalar.subi v329 v331
  let v333 : BitVec 1 := Scalar.cmpi .ne v327 v332
  let v334 : BitVec 32 := Scalar.remsi v321 c2_i32_185
  let c0_i32_190 : BitVec 32 := 0#32
  let v335 : BitVec 1 := Scalar.cmpi .ne v334 c0_i32_190
  let v336 : BitVec 1 := Scalar.andi v333 v335
  let v322 : BitVec 32 := Scalar.divsi v321 c2_i32_185
  let c1_i32_191 : BitVec 32 := 1#32
  let v337 : BitVec 32 := Scalar.subi v322 c1_i32_191
  let v338 : BitVec 32 := Scalar.select v336 v337 v322
  let v339 : BitVec 32 := Scalar.maxsi c0_i32_192 v338
  let v340 : BitVec 32 := Scalar.minsi v317 v339
  let c1_i32_203 : BitVec 32 := 1#32
  let arg23 : BitVec 32 := Scf.iv v340 c1_i32_203 k0_t85
  let v1305 : BitVec 32 := Scalar.addi v1304 arg23
  let c0_i32_615 : BitVec 32 := 0#32
  ![v1305.toNat, 0]
def k0_off218 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_181 : BitVec 32 := 16#32
  let v318 : BitVec 32 := Scalar.muli arg21 c16_i32_181
  let c2_i32_182 : BitVec 32 := 2#32
  let v319 : BitVec 32 := Scalar.addi v318 c2_i32_182
  let c128_i32_183 : BitVec 32 := 128#32
  let v320 : BitVec 32 := Scalar.muli v319 c128_i32_183
  ![0, v320.toNat]
@[reducible] def k0_t86_loop (v297 : BitVec 32) (v299 : BitVec 32) : Scf.Loop 32 :=
  let c1_i32_173 : BitVec 32 := 1#32
  let v300 : BitVec 32 := Scalar.addi v297 c1_i32_173
  let c0_i32_175 : BitVec 32 := 0#32
  let v302 : BitVec 1 := Scalar.cmpi .sgt v300 c0_i32_175
  let v303 : BitVec 32 := Scalar.extui v302
  let c0_i32_176 : BitVec 32 := 0#32
  let v304 : BitVec 1 := Scalar.cmpi .slt v300 c0_i32_176
  let v305 : BitVec 32 := Scalar.extui v304
  let v306 : BitVec 32 := Scalar.subi v303 v305
  let c2_i32_174 : BitVec 32 := 2#32
  let c0_i32_177 : BitVec 32 := 0#32
  let v307 : BitVec 1 := Scalar.cmpi .sgt c2_i32_174 c0_i32_177
  let v308 : BitVec 32 := Scalar.extui v307
  let c0_i32_178 : BitVec 32 := 0#32
  let v309 : BitVec 1 := Scalar.cmpi .slt c2_i32_174 c0_i32_178
  let v310 : BitVec 32 := Scalar.extui v309
  let v311 : BitVec 32 := Scalar.subi v308 v310
  let v312 : BitVec 1 := Scalar.cmpi .ne v306 v311
  let v313 : BitVec 32 := Scalar.remsi v300 c2_i32_174
  let c0_i32_179 : BitVec 32 := 0#32
  let v314 : BitVec 1 := Scalar.cmpi .ne v313 c0_i32_179
  let v315 : BitVec 1 := Scalar.andi v312 v314
  let v301 : BitVec 32 := Scalar.divsi v300 c2_i32_174
  let c1_i32_180 : BitVec 32 := 1#32
  let v316 : BitVec 32 := Scalar.subi v301 c1_i32_180
  let v317 : BitVec 32 := Scalar.select v315 v316 v301
  let c0_i32_192 : BitVec 32 := 0#32
  let c768_i32_184 : BitVec 32 := 768#32
  let v321 : BitVec 32 := Scalar.subi c768_i32_184 v299
  let c0_i32_186 : BitVec 32 := 0#32
  let v323 : BitVec 1 := Scalar.cmpi .sgt v321 c0_i32_186
  let v324 : BitVec 32 := Scalar.extui v323
  let c0_i32_187 : BitVec 32 := 0#32
  let v325 : BitVec 1 := Scalar.cmpi .slt v321 c0_i32_187
  let v326 : BitVec 32 := Scalar.extui v325
  let v327 : BitVec 32 := Scalar.subi v324 v326
  let c2_i32_185 : BitVec 32 := 2#32
  let c0_i32_188 : BitVec 32 := 0#32
  let v328 : BitVec 1 := Scalar.cmpi .sgt c2_i32_185 c0_i32_188
  let v329 : BitVec 32 := Scalar.extui v328
  let c0_i32_189 : BitVec 32 := 0#32
  let v330 : BitVec 1 := Scalar.cmpi .slt c2_i32_185 c0_i32_189
  let v331 : BitVec 32 := Scalar.extui v330
  let v332 : BitVec 32 := Scalar.subi v329 v331
  let v333 : BitVec 1 := Scalar.cmpi .ne v327 v332
  let v334 : BitVec 32 := Scalar.remsi v321 c2_i32_185
  let c0_i32_190 : BitVec 32 := 0#32
  let v335 : BitVec 1 := Scalar.cmpi .ne v334 c0_i32_190
  let v336 : BitVec 1 := Scalar.andi v333 v335
  let v322 : BitVec 32 := Scalar.divsi v321 c2_i32_185
  let c1_i32_191 : BitVec 32 := 1#32
  let v337 : BitVec 32 := Scalar.subi v322 c1_i32_191
  let v338 : BitVec 32 := Scalar.select v336 v337 v322
  let v339 : BitVec 32 := Scalar.maxsi c0_i32_192 v338
  let v340 : BitVec 32 := Scalar.minsi v317 v339
  let c0_i32_201 : BitVec 32 := 0#32
  let c1152_i32_193 : BitVec 32 := 1152#32
  let v341 : BitVec 32 := Scalar.subi c1152_i32_193 v299
  let c0_i32_195 : BitVec 32 := 0#32
  let v343 : BitVec 1 := Scalar.cmpi .sgt v341 c0_i32_195
  let v344 : BitVec 32 := Scalar.extui v343
  let c0_i32_196 : BitVec 32 := 0#32
  let v345 : BitVec 1 := Scalar.cmpi .slt v341 c0_i32_196
  let v346 : BitVec 32 := Scalar.extui v345
  let v347 : BitVec 32 := Scalar.subi v344 v346
  let c2_i32_194 : BitVec 32 := 2#32
  let c0_i32_197 : BitVec 32 := 0#32
  let v348 : BitVec 1 := Scalar.cmpi .sgt c2_i32_194 c0_i32_197
  let v349 : BitVec 32 := Scalar.extui v348
  let c0_i32_198 : BitVec 32 := 0#32
  let v350 : BitVec 1 := Scalar.cmpi .slt c2_i32_194 c0_i32_198
  let v351 : BitVec 32 := Scalar.extui v350
  let v352 : BitVec 32 := Scalar.subi v349 v351
  let v353 : BitVec 1 := Scalar.cmpi .ne v347 v352
  let v354 : BitVec 32 := Scalar.remsi v341 c2_i32_194
  let c0_i32_199 : BitVec 32 := 0#32
  let v355 : BitVec 1 := Scalar.cmpi .ne v354 c0_i32_199
  let v356 : BitVec 1 := Scalar.andi v353 v355
  let v342 : BitVec 32 := Scalar.divsi v341 c2_i32_194
  let c1_i32_200 : BitVec 32 := 1#32
  let v357 : BitVec 32 := Scalar.subi v342 c1_i32_200
  let v358 : BitVec 32 := Scalar.select v356 v357 v342
  let v359 : BitVec 32 := Scalar.maxsi c0_i32_201 v358
  let v360 : BitVec 32 := Scalar.minsi v317 v359
  let v361 : BitVec 32 := Scalar.subi v360 v340
  let c1_i32_202 : BitVec 32 := 1#32
  let v363 : BitVec 32 := Scalar.divsi v361 c1_i32_202
  let v364 : BitVec 32 := Scalar.muli v363 c1_i32_202
  let v365 : BitVec 32 := Scalar.addi v340 v364
  let v362 : BitVec 32 := Scalar.addi v340 v361
  let c1_i32_204 : BitVec 32 := 1#32
  ⟨v365, v362, c1_i32_204⟩
def k0_off219 (v297 : BitVec 32) (v299 : BitVec 32) (k0_t86 : Fin (k0_t86_loop v297 v299).trips) : Fin 2 → Nat :=
  let c1_i32_173 : BitVec 32 := 1#32
  let v300 : BitVec 32 := Scalar.addi v297 c1_i32_173
  let c0_i32_175 : BitVec 32 := 0#32
  let v302 : BitVec 1 := Scalar.cmpi .sgt v300 c0_i32_175
  let v303 : BitVec 32 := Scalar.extui v302
  let c0_i32_176 : BitVec 32 := 0#32
  let v304 : BitVec 1 := Scalar.cmpi .slt v300 c0_i32_176
  let v305 : BitVec 32 := Scalar.extui v304
  let v306 : BitVec 32 := Scalar.subi v303 v305
  let c2_i32_174 : BitVec 32 := 2#32
  let c0_i32_177 : BitVec 32 := 0#32
  let v307 : BitVec 1 := Scalar.cmpi .sgt c2_i32_174 c0_i32_177
  let v308 : BitVec 32 := Scalar.extui v307
  let c0_i32_178 : BitVec 32 := 0#32
  let v309 : BitVec 1 := Scalar.cmpi .slt c2_i32_174 c0_i32_178
  let v310 : BitVec 32 := Scalar.extui v309
  let v311 : BitVec 32 := Scalar.subi v308 v310
  let v312 : BitVec 1 := Scalar.cmpi .ne v306 v311
  let v313 : BitVec 32 := Scalar.remsi v300 c2_i32_174
  let c0_i32_179 : BitVec 32 := 0#32
  let v314 : BitVec 1 := Scalar.cmpi .ne v313 c0_i32_179
  let v315 : BitVec 1 := Scalar.andi v312 v314
  let v301 : BitVec 32 := Scalar.divsi v300 c2_i32_174
  let c1_i32_180 : BitVec 32 := 1#32
  let v316 : BitVec 32 := Scalar.subi v301 c1_i32_180
  let v317 : BitVec 32 := Scalar.select v315 v316 v301
  let c0_i32_192 : BitVec 32 := 0#32
  let c768_i32_184 : BitVec 32 := 768#32
  let v321 : BitVec 32 := Scalar.subi c768_i32_184 v299
  let c0_i32_186 : BitVec 32 := 0#32
  let v323 : BitVec 1 := Scalar.cmpi .sgt v321 c0_i32_186
  let v324 : BitVec 32 := Scalar.extui v323
  let c0_i32_187 : BitVec 32 := 0#32
  let v325 : BitVec 1 := Scalar.cmpi .slt v321 c0_i32_187
  let v326 : BitVec 32 := Scalar.extui v325
  let v327 : BitVec 32 := Scalar.subi v324 v326
  let c2_i32_185 : BitVec 32 := 2#32
  let c0_i32_188 : BitVec 32 := 0#32
  let v328 : BitVec 1 := Scalar.cmpi .sgt c2_i32_185 c0_i32_188
  let v329 : BitVec 32 := Scalar.extui v328
  let c0_i32_189 : BitVec 32 := 0#32
  let v330 : BitVec 1 := Scalar.cmpi .slt c2_i32_185 c0_i32_189
  let v331 : BitVec 32 := Scalar.extui v330
  let v332 : BitVec 32 := Scalar.subi v329 v331
  let v333 : BitVec 1 := Scalar.cmpi .ne v327 v332
  let v334 : BitVec 32 := Scalar.remsi v321 c2_i32_185
  let c0_i32_190 : BitVec 32 := 0#32
  let v335 : BitVec 1 := Scalar.cmpi .ne v334 c0_i32_190
  let v336 : BitVec 1 := Scalar.andi v333 v335
  let v322 : BitVec 32 := Scalar.divsi v321 c2_i32_185
  let c1_i32_191 : BitVec 32 := 1#32
  let v337 : BitVec 32 := Scalar.subi v322 c1_i32_191
  let v338 : BitVec 32 := Scalar.select v336 v337 v322
  let v339 : BitVec 32 := Scalar.maxsi c0_i32_192 v338
  let v340 : BitVec 32 := Scalar.minsi v317 v339
  let c0_i32_201 : BitVec 32 := 0#32
  let c1152_i32_193 : BitVec 32 := 1152#32
  let v341 : BitVec 32 := Scalar.subi c1152_i32_193 v299
  let c0_i32_195 : BitVec 32 := 0#32
  let v343 : BitVec 1 := Scalar.cmpi .sgt v341 c0_i32_195
  let v344 : BitVec 32 := Scalar.extui v343
  let c0_i32_196 : BitVec 32 := 0#32
  let v345 : BitVec 1 := Scalar.cmpi .slt v341 c0_i32_196
  let v346 : BitVec 32 := Scalar.extui v345
  let v347 : BitVec 32 := Scalar.subi v344 v346
  let c2_i32_194 : BitVec 32 := 2#32
  let c0_i32_197 : BitVec 32 := 0#32
  let v348 : BitVec 1 := Scalar.cmpi .sgt c2_i32_194 c0_i32_197
  let v349 : BitVec 32 := Scalar.extui v348
  let c0_i32_198 : BitVec 32 := 0#32
  let v350 : BitVec 1 := Scalar.cmpi .slt c2_i32_194 c0_i32_198
  let v351 : BitVec 32 := Scalar.extui v350
  let v352 : BitVec 32 := Scalar.subi v349 v351
  let v353 : BitVec 1 := Scalar.cmpi .ne v347 v352
  let v354 : BitVec 32 := Scalar.remsi v341 c2_i32_194
  let c0_i32_199 : BitVec 32 := 0#32
  let v355 : BitVec 1 := Scalar.cmpi .ne v354 c0_i32_199
  let v356 : BitVec 1 := Scalar.andi v353 v355
  let v342 : BitVec 32 := Scalar.divsi v341 c2_i32_194
  let c1_i32_200 : BitVec 32 := 1#32
  let v357 : BitVec 32 := Scalar.subi v342 c1_i32_200
  let v358 : BitVec 32 := Scalar.select v356 v357 v342
  let v359 : BitVec 32 := Scalar.maxsi c0_i32_201 v358
  let v360 : BitVec 32 := Scalar.minsi v317 v359
  let v361 : BitVec 32 := Scalar.subi v360 v340
  let c1_i32_202 : BitVec 32 := 1#32
  let v363 : BitVec 32 := Scalar.divsi v361 c1_i32_202
  let v364 : BitVec 32 := Scalar.muli v363 c1_i32_202
  let v365 : BitVec 32 := Scalar.addi v340 v364
  let c1_i32_204 : BitVec 32 := 1#32
  let arg23 : BitVec 32 := Scf.iv v365 c1_i32_204 k0_t86
  let c2_i32_612 : BitVec 32 := 2#32
  let v1306 : BitVec 32 := Scalar.muli arg23 c2_i32_612
  let v1307 : BitVec 32 := Scalar.addi v299 v1306
  let c768_i32_613 : BitVec 32 := 768#32
  let v1308 : BitVec 32 := Scalar.subi v1307 c768_i32_613
  let c0_i32_614 : BitVec 32 := 0#32
  ![v1308.toNat, 0]
def k0_off220 (v297 : BitVec 32) (v299 : BitVec 32) (k0_t86 : Fin (k0_t86_loop v297 v299).trips) : Fin 2 → Nat :=
  let c1_i32_611 : BitVec 32 := 1#32
  let v1304 : BitVec 32 := Scalar.shrsi v299 c1_i32_611
  let c1_i32_173 : BitVec 32 := 1#32
  let v300 : BitVec 32 := Scalar.addi v297 c1_i32_173
  let c0_i32_175 : BitVec 32 := 0#32
  let v302 : BitVec 1 := Scalar.cmpi .sgt v300 c0_i32_175
  let v303 : BitVec 32 := Scalar.extui v302
  let c0_i32_176 : BitVec 32 := 0#32
  let v304 : BitVec 1 := Scalar.cmpi .slt v300 c0_i32_176
  let v305 : BitVec 32 := Scalar.extui v304
  let v306 : BitVec 32 := Scalar.subi v303 v305
  let c2_i32_174 : BitVec 32 := 2#32
  let c0_i32_177 : BitVec 32 := 0#32
  let v307 : BitVec 1 := Scalar.cmpi .sgt c2_i32_174 c0_i32_177
  let v308 : BitVec 32 := Scalar.extui v307
  let c0_i32_178 : BitVec 32 := 0#32
  let v309 : BitVec 1 := Scalar.cmpi .slt c2_i32_174 c0_i32_178
  let v310 : BitVec 32 := Scalar.extui v309
  let v311 : BitVec 32 := Scalar.subi v308 v310
  let v312 : BitVec 1 := Scalar.cmpi .ne v306 v311
  let v313 : BitVec 32 := Scalar.remsi v300 c2_i32_174
  let c0_i32_179 : BitVec 32 := 0#32
  let v314 : BitVec 1 := Scalar.cmpi .ne v313 c0_i32_179
  let v315 : BitVec 1 := Scalar.andi v312 v314
  let v301 : BitVec 32 := Scalar.divsi v300 c2_i32_174
  let c1_i32_180 : BitVec 32 := 1#32
  let v316 : BitVec 32 := Scalar.subi v301 c1_i32_180
  let v317 : BitVec 32 := Scalar.select v315 v316 v301
  let c0_i32_192 : BitVec 32 := 0#32
  let c768_i32_184 : BitVec 32 := 768#32
  let v321 : BitVec 32 := Scalar.subi c768_i32_184 v299
  let c0_i32_186 : BitVec 32 := 0#32
  let v323 : BitVec 1 := Scalar.cmpi .sgt v321 c0_i32_186
  let v324 : BitVec 32 := Scalar.extui v323
  let c0_i32_187 : BitVec 32 := 0#32
  let v325 : BitVec 1 := Scalar.cmpi .slt v321 c0_i32_187
  let v326 : BitVec 32 := Scalar.extui v325
  let v327 : BitVec 32 := Scalar.subi v324 v326
  let c2_i32_185 : BitVec 32 := 2#32
  let c0_i32_188 : BitVec 32 := 0#32
  let v328 : BitVec 1 := Scalar.cmpi .sgt c2_i32_185 c0_i32_188
  let v329 : BitVec 32 := Scalar.extui v328
  let c0_i32_189 : BitVec 32 := 0#32
  let v330 : BitVec 1 := Scalar.cmpi .slt c2_i32_185 c0_i32_189
  let v331 : BitVec 32 := Scalar.extui v330
  let v332 : BitVec 32 := Scalar.subi v329 v331
  let v333 : BitVec 1 := Scalar.cmpi .ne v327 v332
  let v334 : BitVec 32 := Scalar.remsi v321 c2_i32_185
  let c0_i32_190 : BitVec 32 := 0#32
  let v335 : BitVec 1 := Scalar.cmpi .ne v334 c0_i32_190
  let v336 : BitVec 1 := Scalar.andi v333 v335
  let v322 : BitVec 32 := Scalar.divsi v321 c2_i32_185
  let c1_i32_191 : BitVec 32 := 1#32
  let v337 : BitVec 32 := Scalar.subi v322 c1_i32_191
  let v338 : BitVec 32 := Scalar.select v336 v337 v322
  let v339 : BitVec 32 := Scalar.maxsi c0_i32_192 v338
  let v340 : BitVec 32 := Scalar.minsi v317 v339
  let c0_i32_201 : BitVec 32 := 0#32
  let c1152_i32_193 : BitVec 32 := 1152#32
  let v341 : BitVec 32 := Scalar.subi c1152_i32_193 v299
  let c0_i32_195 : BitVec 32 := 0#32
  let v343 : BitVec 1 := Scalar.cmpi .sgt v341 c0_i32_195
  let v344 : BitVec 32 := Scalar.extui v343
  let c0_i32_196 : BitVec 32 := 0#32
  let v345 : BitVec 1 := Scalar.cmpi .slt v341 c0_i32_196
  let v346 : BitVec 32 := Scalar.extui v345
  let v347 : BitVec 32 := Scalar.subi v344 v346
  let c2_i32_194 : BitVec 32 := 2#32
  let c0_i32_197 : BitVec 32 := 0#32
  let v348 : BitVec 1 := Scalar.cmpi .sgt c2_i32_194 c0_i32_197
  let v349 : BitVec 32 := Scalar.extui v348
  let c0_i32_198 : BitVec 32 := 0#32
  let v350 : BitVec 1 := Scalar.cmpi .slt c2_i32_194 c0_i32_198
  let v351 : BitVec 32 := Scalar.extui v350
  let v352 : BitVec 32 := Scalar.subi v349 v351
  let v353 : BitVec 1 := Scalar.cmpi .ne v347 v352
  let v354 : BitVec 32 := Scalar.remsi v341 c2_i32_194
  let c0_i32_199 : BitVec 32 := 0#32
  let v355 : BitVec 1 := Scalar.cmpi .ne v354 c0_i32_199
  let v356 : BitVec 1 := Scalar.andi v353 v355
  let v342 : BitVec 32 := Scalar.divsi v341 c2_i32_194
  let c1_i32_200 : BitVec 32 := 1#32
  let v357 : BitVec 32 := Scalar.subi v342 c1_i32_200
  let v358 : BitVec 32 := Scalar.select v356 v357 v342
  let v359 : BitVec 32 := Scalar.maxsi c0_i32_201 v358
  let v360 : BitVec 32 := Scalar.minsi v317 v359
  let v361 : BitVec 32 := Scalar.subi v360 v340
  let c1_i32_202 : BitVec 32 := 1#32
  let v363 : BitVec 32 := Scalar.divsi v361 c1_i32_202
  let v364 : BitVec 32 := Scalar.muli v363 c1_i32_202
  let v365 : BitVec 32 := Scalar.addi v340 v364
  let c1_i32_204 : BitVec 32 := 1#32
  let arg23 : BitVec 32 := Scf.iv v365 c1_i32_204 k0_t86
  let v1305 : BitVec 32 := Scalar.addi v1304 arg23
  let c0_i32_615 : BitVec 32 := 0#32
  ![v1305.toNat, 0]

def k0_chk46 (v297 : BitVec 32) (v299 : BitVec 32) : Prop :=
  ((k0_t85_loop v297 v299).OK) ∧
  (∀ k0_t85 : Fin (k0_t85_loop v297 v299).trips, ∀ a, (k0_off216 v297 v299 k0_t85) a + S2x128.size a ≤ S384x128.size a) ∧
  (∀ k0_t85 : Fin (k0_t85_loop v297 v299).trips, ∀ a, (k0_off217 v297 v299 k0_t85) a + S1x2.size a ≤ S584x2.size a) ∧
  ((k0_t86_loop v297 v299).OK) ∧
  (∀ k0_t86 : Fin (k0_t86_loop v297 v299).trips, ∀ a, (k0_off219 v297 v299 k0_t86) a + S2x128.size a ≤ S384x128.size a) ∧
  (∀ k0_t86 : Fin (k0_t86_loop v297 v299).trips, ∀ a, (k0_off220 v297 v299 k0_t86) a + S1x2.size a ≤ S584x2.size a)
theorem k0_t85_ok : ∀ (v297 : BitVec 32) (v299 : BitVec 32) (k0_hw46 : k0_chk46 v297 v299), (k0_t85_loop v297 v299).OK := fun v297 v299 k0_hw46 => k0_hw46.1
theorem k0_off216_inb : ∀ (v297 : BitVec 32) (v299 : BitVec 32) (k0_hw46 : k0_chk46 v297 v299) (k0_t85 : Fin (k0_t85_loop v297 v299).trips), ∀ a, (k0_off216 v297 v299 k0_t85) a + S2x128.size a ≤ S384x128.size a := fun v297 v299 k0_hw46 k0_t85 => k0_hw46.2.1 k0_t85
theorem k0_off217_inb : ∀ (v297 : BitVec 32) (v299 : BitVec 32) (k0_hw46 : k0_chk46 v297 v299) (k0_t85 : Fin (k0_t85_loop v297 v299).trips), ∀ a, (k0_off217 v297 v299 k0_t85) a + S1x2.size a ≤ S584x2.size a := fun v297 v299 k0_hw46 k0_t85 => k0_hw46.2.2.1 k0_t85
theorem k0_t86_ok : ∀ (v297 : BitVec 32) (v299 : BitVec 32) (k0_hw46 : k0_chk46 v297 v299), (k0_t86_loop v297 v299).OK := fun v297 v299 k0_hw46 => k0_hw46.2.2.2.1
theorem k0_off219_inb : ∀ (v297 : BitVec 32) (v299 : BitVec 32) (k0_hw46 : k0_chk46 v297 v299) (k0_t86 : Fin (k0_t86_loop v297 v299).trips), ∀ a, (k0_off219 v297 v299 k0_t86) a + S2x128.size a ≤ S384x128.size a := fun v297 v299 k0_hw46 k0_t86 => k0_hw46.2.2.2.2.1 k0_t86
theorem k0_off220_inb : ∀ (v297 : BitVec 32) (v299 : BitVec 32) (k0_hw46 : k0_chk46 v297 v299) (k0_t86 : Fin (k0_t86_loop v297 v299).trips), ∀ a, (k0_off220 v297 v299 k0_t86) a + S1x2.size a ≤ S584x2.size a := fun v297 v299 k0_hw46 k0_t86 => k0_hw46.2.2.2.2.2 k0_t86

def k0_off221 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_181 : BitVec 32 := 16#32
  let v318 : BitVec 32 := Scalar.muli arg21 c16_i32_181
  let c2_i32_182 : BitVec 32 := 2#32
  let v319 : BitVec 32 := Scalar.addi v318 c2_i32_182
  let c128_i32_183 : BitVec 32 := 128#32
  let v320 : BitVec 32 := Scalar.muli v319 c128_i32_183
  ![0, v320.toNat]
@[reducible] def k0_t87_loop (v369 : BitVec 32) (v371 : BitVec 32) : Scf.Loop 32 :=
  let c1_i32_205 : BitVec 32 := 1#32
  let v372 : BitVec 32 := Scalar.addi v369 c1_i32_205
  let c0_i32_207 : BitVec 32 := 0#32
  let v374 : BitVec 1 := Scalar.cmpi .sgt v372 c0_i32_207
  let v375 : BitVec 32 := Scalar.extui v374
  let c0_i32_208 : BitVec 32 := 0#32
  let v376 : BitVec 1 := Scalar.cmpi .slt v372 c0_i32_208
  let v377 : BitVec 32 := Scalar.extui v376
  let v378 : BitVec 32 := Scalar.subi v375 v377
  let c2_i32_206 : BitVec 32 := 2#32
  let c0_i32_209 : BitVec 32 := 0#32
  let v379 : BitVec 1 := Scalar.cmpi .sgt c2_i32_206 c0_i32_209
  let v380 : BitVec 32 := Scalar.extui v379
  let c0_i32_210 : BitVec 32 := 0#32
  let v381 : BitVec 1 := Scalar.cmpi .slt c2_i32_206 c0_i32_210
  let v382 : BitVec 32 := Scalar.extui v381
  let v383 : BitVec 32 := Scalar.subi v380 v382
  let v384 : BitVec 1 := Scalar.cmpi .ne v378 v383
  let v385 : BitVec 32 := Scalar.remsi v372 c2_i32_206
  let c0_i32_211 : BitVec 32 := 0#32
  let v386 : BitVec 1 := Scalar.cmpi .ne v385 c0_i32_211
  let v387 : BitVec 1 := Scalar.andi v384 v386
  let v373 : BitVec 32 := Scalar.divsi v372 c2_i32_206
  let c1_i32_212 : BitVec 32 := 1#32
  let v388 : BitVec 32 := Scalar.subi v373 c1_i32_212
  let v389 : BitVec 32 := Scalar.select v387 v388 v373
  let c0_i32_224 : BitVec 32 := 0#32
  let c768_i32_216 : BitVec 32 := 768#32
  let v393 : BitVec 32 := Scalar.subi c768_i32_216 v371
  let c0_i32_218 : BitVec 32 := 0#32
  let v395 : BitVec 1 := Scalar.cmpi .sgt v393 c0_i32_218
  let v396 : BitVec 32 := Scalar.extui v395
  let c0_i32_219 : BitVec 32 := 0#32
  let v397 : BitVec 1 := Scalar.cmpi .slt v393 c0_i32_219
  let v398 : BitVec 32 := Scalar.extui v397
  let v399 : BitVec 32 := Scalar.subi v396 v398
  let c2_i32_217 : BitVec 32 := 2#32
  let c0_i32_220 : BitVec 32 := 0#32
  let v400 : BitVec 1 := Scalar.cmpi .sgt c2_i32_217 c0_i32_220
  let v401 : BitVec 32 := Scalar.extui v400
  let c0_i32_221 : BitVec 32 := 0#32
  let v402 : BitVec 1 := Scalar.cmpi .slt c2_i32_217 c0_i32_221
  let v403 : BitVec 32 := Scalar.extui v402
  let v404 : BitVec 32 := Scalar.subi v401 v403
  let v405 : BitVec 1 := Scalar.cmpi .ne v399 v404
  let v406 : BitVec 32 := Scalar.remsi v393 c2_i32_217
  let c0_i32_222 : BitVec 32 := 0#32
  let v407 : BitVec 1 := Scalar.cmpi .ne v406 c0_i32_222
  let v408 : BitVec 1 := Scalar.andi v405 v407
  let v394 : BitVec 32 := Scalar.divsi v393 c2_i32_217
  let c1_i32_223 : BitVec 32 := 1#32
  let v409 : BitVec 32 := Scalar.subi v394 c1_i32_223
  let v410 : BitVec 32 := Scalar.select v408 v409 v394
  let v411 : BitVec 32 := Scalar.maxsi c0_i32_224 v410
  let v412 : BitVec 32 := Scalar.minsi v389 v411
  let c0_i32_233 : BitVec 32 := 0#32
  let c1152_i32_225 : BitVec 32 := 1152#32
  let v413 : BitVec 32 := Scalar.subi c1152_i32_225 v371
  let c0_i32_227 : BitVec 32 := 0#32
  let v415 : BitVec 1 := Scalar.cmpi .sgt v413 c0_i32_227
  let v416 : BitVec 32 := Scalar.extui v415
  let c0_i32_228 : BitVec 32 := 0#32
  let v417 : BitVec 1 := Scalar.cmpi .slt v413 c0_i32_228
  let v418 : BitVec 32 := Scalar.extui v417
  let v419 : BitVec 32 := Scalar.subi v416 v418
  let c2_i32_226 : BitVec 32 := 2#32
  let c0_i32_229 : BitVec 32 := 0#32
  let v420 : BitVec 1 := Scalar.cmpi .sgt c2_i32_226 c0_i32_229
  let v421 : BitVec 32 := Scalar.extui v420
  let c0_i32_230 : BitVec 32 := 0#32
  let v422 : BitVec 1 := Scalar.cmpi .slt c2_i32_226 c0_i32_230
  let v423 : BitVec 32 := Scalar.extui v422
  let v424 : BitVec 32 := Scalar.subi v421 v423
  let v425 : BitVec 1 := Scalar.cmpi .ne v419 v424
  let v426 : BitVec 32 := Scalar.remsi v413 c2_i32_226
  let c0_i32_231 : BitVec 32 := 0#32
  let v427 : BitVec 1 := Scalar.cmpi .ne v426 c0_i32_231
  let v428 : BitVec 1 := Scalar.andi v425 v427
  let v414 : BitVec 32 := Scalar.divsi v413 c2_i32_226
  let c1_i32_232 : BitVec 32 := 1#32
  let v429 : BitVec 32 := Scalar.subi v414 c1_i32_232
  let v430 : BitVec 32 := Scalar.select v428 v429 v414
  let v431 : BitVec 32 := Scalar.maxsi c0_i32_233 v430
  let v432 : BitVec 32 := Scalar.minsi v389 v431
  let v433 : BitVec 32 := Scalar.subi v432 v412
  let c1_i32_234 : BitVec 32 := 1#32
  let v435 : BitVec 32 := Scalar.divsi v433 c1_i32_234
  let v436 : BitVec 32 := Scalar.muli v435 c1_i32_234
  let v437 : BitVec 32 := Scalar.addi v412 v436
  let c1_i32_235 : BitVec 32 := 1#32
  ⟨v412, v437, c1_i32_235⟩

def k0_off222 (v369 : BitVec 32) (v371 : BitVec 32) (k0_t87 : Fin (k0_t87_loop v369 v371).trips) : Fin 2 → Nat :=
  let c1_i32_205 : BitVec 32 := 1#32
  let v372 : BitVec 32 := Scalar.addi v369 c1_i32_205
  let c0_i32_207 : BitVec 32 := 0#32
  let v374 : BitVec 1 := Scalar.cmpi .sgt v372 c0_i32_207
  let v375 : BitVec 32 := Scalar.extui v374
  let c0_i32_208 : BitVec 32 := 0#32
  let v376 : BitVec 1 := Scalar.cmpi .slt v372 c0_i32_208
  let v377 : BitVec 32 := Scalar.extui v376
  let v378 : BitVec 32 := Scalar.subi v375 v377
  let c2_i32_206 : BitVec 32 := 2#32
  let c0_i32_209 : BitVec 32 := 0#32
  let v379 : BitVec 1 := Scalar.cmpi .sgt c2_i32_206 c0_i32_209
  let v380 : BitVec 32 := Scalar.extui v379
  let c0_i32_210 : BitVec 32 := 0#32
  let v381 : BitVec 1 := Scalar.cmpi .slt c2_i32_206 c0_i32_210
  let v382 : BitVec 32 := Scalar.extui v381
  let v383 : BitVec 32 := Scalar.subi v380 v382
  let v384 : BitVec 1 := Scalar.cmpi .ne v378 v383
  let v385 : BitVec 32 := Scalar.remsi v372 c2_i32_206
  let c0_i32_211 : BitVec 32 := 0#32
  let v386 : BitVec 1 := Scalar.cmpi .ne v385 c0_i32_211
  let v387 : BitVec 1 := Scalar.andi v384 v386
  let v373 : BitVec 32 := Scalar.divsi v372 c2_i32_206
  let c1_i32_212 : BitVec 32 := 1#32
  let v388 : BitVec 32 := Scalar.subi v373 c1_i32_212
  let v389 : BitVec 32 := Scalar.select v387 v388 v373
  let c0_i32_224 : BitVec 32 := 0#32
  let c768_i32_216 : BitVec 32 := 768#32
  let v393 : BitVec 32 := Scalar.subi c768_i32_216 v371
  let c0_i32_218 : BitVec 32 := 0#32
  let v395 : BitVec 1 := Scalar.cmpi .sgt v393 c0_i32_218
  let v396 : BitVec 32 := Scalar.extui v395
  let c0_i32_219 : BitVec 32 := 0#32
  let v397 : BitVec 1 := Scalar.cmpi .slt v393 c0_i32_219
  let v398 : BitVec 32 := Scalar.extui v397
  let v399 : BitVec 32 := Scalar.subi v396 v398
  let c2_i32_217 : BitVec 32 := 2#32
  let c0_i32_220 : BitVec 32 := 0#32
  let v400 : BitVec 1 := Scalar.cmpi .sgt c2_i32_217 c0_i32_220
  let v401 : BitVec 32 := Scalar.extui v400
  let c0_i32_221 : BitVec 32 := 0#32
  let v402 : BitVec 1 := Scalar.cmpi .slt c2_i32_217 c0_i32_221
  let v403 : BitVec 32 := Scalar.extui v402
  let v404 : BitVec 32 := Scalar.subi v401 v403
  let v405 : BitVec 1 := Scalar.cmpi .ne v399 v404
  let v406 : BitVec 32 := Scalar.remsi v393 c2_i32_217
  let c0_i32_222 : BitVec 32 := 0#32
  let v407 : BitVec 1 := Scalar.cmpi .ne v406 c0_i32_222
  let v408 : BitVec 1 := Scalar.andi v405 v407
  let v394 : BitVec 32 := Scalar.divsi v393 c2_i32_217
  let c1_i32_223 : BitVec 32 := 1#32
  let v409 : BitVec 32 := Scalar.subi v394 c1_i32_223
  let v410 : BitVec 32 := Scalar.select v408 v409 v394
  let v411 : BitVec 32 := Scalar.maxsi c0_i32_224 v410
  let v412 : BitVec 32 := Scalar.minsi v389 v411
  let c1_i32_235 : BitVec 32 := 1#32
  let arg23 : BitVec 32 := Scf.iv v412 c1_i32_235 k0_t87
  let c2_i32_612 : BitVec 32 := 2#32
  let v1306 : BitVec 32 := Scalar.muli arg23 c2_i32_612
  let v1307 : BitVec 32 := Scalar.addi v371 v1306
  let c768_i32_613 : BitVec 32 := 768#32
  let v1308 : BitVec 32 := Scalar.subi v1307 c768_i32_613
  let c0_i32_614 : BitVec 32 := 0#32
  ![v1308.toNat, 0]
def k0_off223 (v369 : BitVec 32) (v371 : BitVec 32) (k0_t87 : Fin (k0_t87_loop v369 v371).trips) : Fin 2 → Nat :=
  let c1_i32_611 : BitVec 32 := 1#32
  let v1304 : BitVec 32 := Scalar.shrsi v371 c1_i32_611
  let c1_i32_205 : BitVec 32 := 1#32
  let v372 : BitVec 32 := Scalar.addi v369 c1_i32_205
  let c0_i32_207 : BitVec 32 := 0#32
  let v374 : BitVec 1 := Scalar.cmpi .sgt v372 c0_i32_207
  let v375 : BitVec 32 := Scalar.extui v374
  let c0_i32_208 : BitVec 32 := 0#32
  let v376 : BitVec 1 := Scalar.cmpi .slt v372 c0_i32_208
  let v377 : BitVec 32 := Scalar.extui v376
  let v378 : BitVec 32 := Scalar.subi v375 v377
  let c2_i32_206 : BitVec 32 := 2#32
  let c0_i32_209 : BitVec 32 := 0#32
  let v379 : BitVec 1 := Scalar.cmpi .sgt c2_i32_206 c0_i32_209
  let v380 : BitVec 32 := Scalar.extui v379
  let c0_i32_210 : BitVec 32 := 0#32
  let v381 : BitVec 1 := Scalar.cmpi .slt c2_i32_206 c0_i32_210
  let v382 : BitVec 32 := Scalar.extui v381
  let v383 : BitVec 32 := Scalar.subi v380 v382
  let v384 : BitVec 1 := Scalar.cmpi .ne v378 v383
  let v385 : BitVec 32 := Scalar.remsi v372 c2_i32_206
  let c0_i32_211 : BitVec 32 := 0#32
  let v386 : BitVec 1 := Scalar.cmpi .ne v385 c0_i32_211
  let v387 : BitVec 1 := Scalar.andi v384 v386
  let v373 : BitVec 32 := Scalar.divsi v372 c2_i32_206
  let c1_i32_212 : BitVec 32 := 1#32
  let v388 : BitVec 32 := Scalar.subi v373 c1_i32_212
  let v389 : BitVec 32 := Scalar.select v387 v388 v373
  let c0_i32_224 : BitVec 32 := 0#32
  let c768_i32_216 : BitVec 32 := 768#32
  let v393 : BitVec 32 := Scalar.subi c768_i32_216 v371
  let c0_i32_218 : BitVec 32 := 0#32
  let v395 : BitVec 1 := Scalar.cmpi .sgt v393 c0_i32_218
  let v396 : BitVec 32 := Scalar.extui v395
  let c0_i32_219 : BitVec 32 := 0#32
  let v397 : BitVec 1 := Scalar.cmpi .slt v393 c0_i32_219
  let v398 : BitVec 32 := Scalar.extui v397
  let v399 : BitVec 32 := Scalar.subi v396 v398
  let c2_i32_217 : BitVec 32 := 2#32
  let c0_i32_220 : BitVec 32 := 0#32
  let v400 : BitVec 1 := Scalar.cmpi .sgt c2_i32_217 c0_i32_220
  let v401 : BitVec 32 := Scalar.extui v400
  let c0_i32_221 : BitVec 32 := 0#32
  let v402 : BitVec 1 := Scalar.cmpi .slt c2_i32_217 c0_i32_221
  let v403 : BitVec 32 := Scalar.extui v402
  let v404 : BitVec 32 := Scalar.subi v401 v403
  let v405 : BitVec 1 := Scalar.cmpi .ne v399 v404
  let v406 : BitVec 32 := Scalar.remsi v393 c2_i32_217
  let c0_i32_222 : BitVec 32 := 0#32
  let v407 : BitVec 1 := Scalar.cmpi .ne v406 c0_i32_222
  let v408 : BitVec 1 := Scalar.andi v405 v407
  let v394 : BitVec 32 := Scalar.divsi v393 c2_i32_217
  let c1_i32_223 : BitVec 32 := 1#32
  let v409 : BitVec 32 := Scalar.subi v394 c1_i32_223
  let v410 : BitVec 32 := Scalar.select v408 v409 v394
  let v411 : BitVec 32 := Scalar.maxsi c0_i32_224 v410
  let v412 : BitVec 32 := Scalar.minsi v389 v411
  let c1_i32_235 : BitVec 32 := 1#32
  let arg23 : BitVec 32 := Scf.iv v412 c1_i32_235 k0_t87
  let v1305 : BitVec 32 := Scalar.addi v1304 arg23
  let c0_i32_615 : BitVec 32 := 0#32
  ![v1305.toNat, 0]
def k0_off224 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_213 : BitVec 32 := 16#32
  let v390 : BitVec 32 := Scalar.muli arg21 c16_i32_213
  let c3_i32_214 : BitVec 32 := 3#32
  let v391 : BitVec 32 := Scalar.addi v390 c3_i32_214
  let c128_i32_215 : BitVec 32 := 128#32
  let v392 : BitVec 32 := Scalar.muli v391 c128_i32_215
  ![0, v392.toNat]
@[reducible] def k0_t88_loop (v369 : BitVec 32) (v371 : BitVec 32) : Scf.Loop 32 :=
  let c1_i32_205 : BitVec 32 := 1#32
  let v372 : BitVec 32 := Scalar.addi v369 c1_i32_205
  let c0_i32_207 : BitVec 32 := 0#32
  let v374 : BitVec 1 := Scalar.cmpi .sgt v372 c0_i32_207
  let v375 : BitVec 32 := Scalar.extui v374
  let c0_i32_208 : BitVec 32 := 0#32
  let v376 : BitVec 1 := Scalar.cmpi .slt v372 c0_i32_208
  let v377 : BitVec 32 := Scalar.extui v376
  let v378 : BitVec 32 := Scalar.subi v375 v377
  let c2_i32_206 : BitVec 32 := 2#32
  let c0_i32_209 : BitVec 32 := 0#32
  let v379 : BitVec 1 := Scalar.cmpi .sgt c2_i32_206 c0_i32_209
  let v380 : BitVec 32 := Scalar.extui v379
  let c0_i32_210 : BitVec 32 := 0#32
  let v381 : BitVec 1 := Scalar.cmpi .slt c2_i32_206 c0_i32_210
  let v382 : BitVec 32 := Scalar.extui v381
  let v383 : BitVec 32 := Scalar.subi v380 v382
  let v384 : BitVec 1 := Scalar.cmpi .ne v378 v383
  let v385 : BitVec 32 := Scalar.remsi v372 c2_i32_206
  let c0_i32_211 : BitVec 32 := 0#32
  let v386 : BitVec 1 := Scalar.cmpi .ne v385 c0_i32_211
  let v387 : BitVec 1 := Scalar.andi v384 v386
  let v373 : BitVec 32 := Scalar.divsi v372 c2_i32_206
  let c1_i32_212 : BitVec 32 := 1#32
  let v388 : BitVec 32 := Scalar.subi v373 c1_i32_212
  let v389 : BitVec 32 := Scalar.select v387 v388 v373
  let c0_i32_224 : BitVec 32 := 0#32
  let c768_i32_216 : BitVec 32 := 768#32
  let v393 : BitVec 32 := Scalar.subi c768_i32_216 v371
  let c0_i32_218 : BitVec 32 := 0#32
  let v395 : BitVec 1 := Scalar.cmpi .sgt v393 c0_i32_218
  let v396 : BitVec 32 := Scalar.extui v395
  let c0_i32_219 : BitVec 32 := 0#32
  let v397 : BitVec 1 := Scalar.cmpi .slt v393 c0_i32_219
  let v398 : BitVec 32 := Scalar.extui v397
  let v399 : BitVec 32 := Scalar.subi v396 v398
  let c2_i32_217 : BitVec 32 := 2#32
  let c0_i32_220 : BitVec 32 := 0#32
  let v400 : BitVec 1 := Scalar.cmpi .sgt c2_i32_217 c0_i32_220
  let v401 : BitVec 32 := Scalar.extui v400
  let c0_i32_221 : BitVec 32 := 0#32
  let v402 : BitVec 1 := Scalar.cmpi .slt c2_i32_217 c0_i32_221
  let v403 : BitVec 32 := Scalar.extui v402
  let v404 : BitVec 32 := Scalar.subi v401 v403
  let v405 : BitVec 1 := Scalar.cmpi .ne v399 v404
  let v406 : BitVec 32 := Scalar.remsi v393 c2_i32_217
  let c0_i32_222 : BitVec 32 := 0#32
  let v407 : BitVec 1 := Scalar.cmpi .ne v406 c0_i32_222
  let v408 : BitVec 1 := Scalar.andi v405 v407
  let v394 : BitVec 32 := Scalar.divsi v393 c2_i32_217
  let c1_i32_223 : BitVec 32 := 1#32
  let v409 : BitVec 32 := Scalar.subi v394 c1_i32_223
  let v410 : BitVec 32 := Scalar.select v408 v409 v394
  let v411 : BitVec 32 := Scalar.maxsi c0_i32_224 v410
  let v412 : BitVec 32 := Scalar.minsi v389 v411
  let c0_i32_233 : BitVec 32 := 0#32
  let c1152_i32_225 : BitVec 32 := 1152#32
  let v413 : BitVec 32 := Scalar.subi c1152_i32_225 v371
  let c0_i32_227 : BitVec 32 := 0#32
  let v415 : BitVec 1 := Scalar.cmpi .sgt v413 c0_i32_227
  let v416 : BitVec 32 := Scalar.extui v415
  let c0_i32_228 : BitVec 32 := 0#32
  let v417 : BitVec 1 := Scalar.cmpi .slt v413 c0_i32_228
  let v418 : BitVec 32 := Scalar.extui v417
  let v419 : BitVec 32 := Scalar.subi v416 v418
  let c2_i32_226 : BitVec 32 := 2#32
  let c0_i32_229 : BitVec 32 := 0#32
  let v420 : BitVec 1 := Scalar.cmpi .sgt c2_i32_226 c0_i32_229
  let v421 : BitVec 32 := Scalar.extui v420
  let c0_i32_230 : BitVec 32 := 0#32
  let v422 : BitVec 1 := Scalar.cmpi .slt c2_i32_226 c0_i32_230
  let v423 : BitVec 32 := Scalar.extui v422
  let v424 : BitVec 32 := Scalar.subi v421 v423
  let v425 : BitVec 1 := Scalar.cmpi .ne v419 v424
  let v426 : BitVec 32 := Scalar.remsi v413 c2_i32_226
  let c0_i32_231 : BitVec 32 := 0#32
  let v427 : BitVec 1 := Scalar.cmpi .ne v426 c0_i32_231
  let v428 : BitVec 1 := Scalar.andi v425 v427
  let v414 : BitVec 32 := Scalar.divsi v413 c2_i32_226
  let c1_i32_232 : BitVec 32 := 1#32
  let v429 : BitVec 32 := Scalar.subi v414 c1_i32_232
  let v430 : BitVec 32 := Scalar.select v428 v429 v414
  let v431 : BitVec 32 := Scalar.maxsi c0_i32_233 v430
  let v432 : BitVec 32 := Scalar.minsi v389 v431
  let v433 : BitVec 32 := Scalar.subi v432 v412
  let c1_i32_234 : BitVec 32 := 1#32
  let v435 : BitVec 32 := Scalar.divsi v433 c1_i32_234
  let v436 : BitVec 32 := Scalar.muli v435 c1_i32_234
  let v437 : BitVec 32 := Scalar.addi v412 v436
  let v434 : BitVec 32 := Scalar.addi v412 v433
  let c1_i32_236 : BitVec 32 := 1#32
  ⟨v437, v434, c1_i32_236⟩
def k0_off225 (v369 : BitVec 32) (v371 : BitVec 32) (k0_t88 : Fin (k0_t88_loop v369 v371).trips) : Fin 2 → Nat :=
  let c1_i32_205 : BitVec 32 := 1#32
  let v372 : BitVec 32 := Scalar.addi v369 c1_i32_205
  let c0_i32_207 : BitVec 32 := 0#32
  let v374 : BitVec 1 := Scalar.cmpi .sgt v372 c0_i32_207
  let v375 : BitVec 32 := Scalar.extui v374
  let c0_i32_208 : BitVec 32 := 0#32
  let v376 : BitVec 1 := Scalar.cmpi .slt v372 c0_i32_208
  let v377 : BitVec 32 := Scalar.extui v376
  let v378 : BitVec 32 := Scalar.subi v375 v377
  let c2_i32_206 : BitVec 32 := 2#32
  let c0_i32_209 : BitVec 32 := 0#32
  let v379 : BitVec 1 := Scalar.cmpi .sgt c2_i32_206 c0_i32_209
  let v380 : BitVec 32 := Scalar.extui v379
  let c0_i32_210 : BitVec 32 := 0#32
  let v381 : BitVec 1 := Scalar.cmpi .slt c2_i32_206 c0_i32_210
  let v382 : BitVec 32 := Scalar.extui v381
  let v383 : BitVec 32 := Scalar.subi v380 v382
  let v384 : BitVec 1 := Scalar.cmpi .ne v378 v383
  let v385 : BitVec 32 := Scalar.remsi v372 c2_i32_206
  let c0_i32_211 : BitVec 32 := 0#32
  let v386 : BitVec 1 := Scalar.cmpi .ne v385 c0_i32_211
  let v387 : BitVec 1 := Scalar.andi v384 v386
  let v373 : BitVec 32 := Scalar.divsi v372 c2_i32_206
  let c1_i32_212 : BitVec 32 := 1#32
  let v388 : BitVec 32 := Scalar.subi v373 c1_i32_212
  let v389 : BitVec 32 := Scalar.select v387 v388 v373
  let c0_i32_224 : BitVec 32 := 0#32
  let c768_i32_216 : BitVec 32 := 768#32
  let v393 : BitVec 32 := Scalar.subi c768_i32_216 v371
  let c0_i32_218 : BitVec 32 := 0#32
  let v395 : BitVec 1 := Scalar.cmpi .sgt v393 c0_i32_218
  let v396 : BitVec 32 := Scalar.extui v395
  let c0_i32_219 : BitVec 32 := 0#32
  let v397 : BitVec 1 := Scalar.cmpi .slt v393 c0_i32_219
  let v398 : BitVec 32 := Scalar.extui v397
  let v399 : BitVec 32 := Scalar.subi v396 v398
  let c2_i32_217 : BitVec 32 := 2#32
  let c0_i32_220 : BitVec 32 := 0#32
  let v400 : BitVec 1 := Scalar.cmpi .sgt c2_i32_217 c0_i32_220
  let v401 : BitVec 32 := Scalar.extui v400
  let c0_i32_221 : BitVec 32 := 0#32
  let v402 : BitVec 1 := Scalar.cmpi .slt c2_i32_217 c0_i32_221
  let v403 : BitVec 32 := Scalar.extui v402
  let v404 : BitVec 32 := Scalar.subi v401 v403
  let v405 : BitVec 1 := Scalar.cmpi .ne v399 v404
  let v406 : BitVec 32 := Scalar.remsi v393 c2_i32_217
  let c0_i32_222 : BitVec 32 := 0#32
  let v407 : BitVec 1 := Scalar.cmpi .ne v406 c0_i32_222
  let v408 : BitVec 1 := Scalar.andi v405 v407
  let v394 : BitVec 32 := Scalar.divsi v393 c2_i32_217
  let c1_i32_223 : BitVec 32 := 1#32
  let v409 : BitVec 32 := Scalar.subi v394 c1_i32_223
  let v410 : BitVec 32 := Scalar.select v408 v409 v394
  let v411 : BitVec 32 := Scalar.maxsi c0_i32_224 v410
  let v412 : BitVec 32 := Scalar.minsi v389 v411
  let c0_i32_233 : BitVec 32 := 0#32
  let c1152_i32_225 : BitVec 32 := 1152#32
  let v413 : BitVec 32 := Scalar.subi c1152_i32_225 v371
  let c0_i32_227 : BitVec 32 := 0#32
  let v415 : BitVec 1 := Scalar.cmpi .sgt v413 c0_i32_227
  let v416 : BitVec 32 := Scalar.extui v415
  let c0_i32_228 : BitVec 32 := 0#32
  let v417 : BitVec 1 := Scalar.cmpi .slt v413 c0_i32_228
  let v418 : BitVec 32 := Scalar.extui v417
  let v419 : BitVec 32 := Scalar.subi v416 v418
  let c2_i32_226 : BitVec 32 := 2#32
  let c0_i32_229 : BitVec 32 := 0#32
  let v420 : BitVec 1 := Scalar.cmpi .sgt c2_i32_226 c0_i32_229
  let v421 : BitVec 32 := Scalar.extui v420
  let c0_i32_230 : BitVec 32 := 0#32
  let v422 : BitVec 1 := Scalar.cmpi .slt c2_i32_226 c0_i32_230
  let v423 : BitVec 32 := Scalar.extui v422
  let v424 : BitVec 32 := Scalar.subi v421 v423
  let v425 : BitVec 1 := Scalar.cmpi .ne v419 v424
  let v426 : BitVec 32 := Scalar.remsi v413 c2_i32_226
  let c0_i32_231 : BitVec 32 := 0#32
  let v427 : BitVec 1 := Scalar.cmpi .ne v426 c0_i32_231
  let v428 : BitVec 1 := Scalar.andi v425 v427
  let v414 : BitVec 32 := Scalar.divsi v413 c2_i32_226
  let c1_i32_232 : BitVec 32 := 1#32
  let v429 : BitVec 32 := Scalar.subi v414 c1_i32_232
  let v430 : BitVec 32 := Scalar.select v428 v429 v414
  let v431 : BitVec 32 := Scalar.maxsi c0_i32_233 v430
  let v432 : BitVec 32 := Scalar.minsi v389 v431
  let v433 : BitVec 32 := Scalar.subi v432 v412
  let c1_i32_234 : BitVec 32 := 1#32
  let v435 : BitVec 32 := Scalar.divsi v433 c1_i32_234
  let v436 : BitVec 32 := Scalar.muli v435 c1_i32_234
  let v437 : BitVec 32 := Scalar.addi v412 v436
  let c1_i32_236 : BitVec 32 := 1#32
  let arg23 : BitVec 32 := Scf.iv v437 c1_i32_236 k0_t88
  let c2_i32_612 : BitVec 32 := 2#32
  let v1306 : BitVec 32 := Scalar.muli arg23 c2_i32_612
  let v1307 : BitVec 32 := Scalar.addi v371 v1306
  let c768_i32_613 : BitVec 32 := 768#32
  let v1308 : BitVec 32 := Scalar.subi v1307 c768_i32_613
  let c0_i32_614 : BitVec 32 := 0#32
  ![v1308.toNat, 0]
def k0_off226 (v369 : BitVec 32) (v371 : BitVec 32) (k0_t88 : Fin (k0_t88_loop v369 v371).trips) : Fin 2 → Nat :=
  let c1_i32_611 : BitVec 32 := 1#32
  let v1304 : BitVec 32 := Scalar.shrsi v371 c1_i32_611
  let c1_i32_205 : BitVec 32 := 1#32
  let v372 : BitVec 32 := Scalar.addi v369 c1_i32_205
  let c0_i32_207 : BitVec 32 := 0#32
  let v374 : BitVec 1 := Scalar.cmpi .sgt v372 c0_i32_207
  let v375 : BitVec 32 := Scalar.extui v374
  let c0_i32_208 : BitVec 32 := 0#32
  let v376 : BitVec 1 := Scalar.cmpi .slt v372 c0_i32_208
  let v377 : BitVec 32 := Scalar.extui v376
  let v378 : BitVec 32 := Scalar.subi v375 v377
  let c2_i32_206 : BitVec 32 := 2#32
  let c0_i32_209 : BitVec 32 := 0#32
  let v379 : BitVec 1 := Scalar.cmpi .sgt c2_i32_206 c0_i32_209
  let v380 : BitVec 32 := Scalar.extui v379
  let c0_i32_210 : BitVec 32 := 0#32
  let v381 : BitVec 1 := Scalar.cmpi .slt c2_i32_206 c0_i32_210
  let v382 : BitVec 32 := Scalar.extui v381
  let v383 : BitVec 32 := Scalar.subi v380 v382
  let v384 : BitVec 1 := Scalar.cmpi .ne v378 v383
  let v385 : BitVec 32 := Scalar.remsi v372 c2_i32_206
  let c0_i32_211 : BitVec 32 := 0#32
  let v386 : BitVec 1 := Scalar.cmpi .ne v385 c0_i32_211
  let v387 : BitVec 1 := Scalar.andi v384 v386
  let v373 : BitVec 32 := Scalar.divsi v372 c2_i32_206
  let c1_i32_212 : BitVec 32 := 1#32
  let v388 : BitVec 32 := Scalar.subi v373 c1_i32_212
  let v389 : BitVec 32 := Scalar.select v387 v388 v373
  let c0_i32_224 : BitVec 32 := 0#32
  let c768_i32_216 : BitVec 32 := 768#32
  let v393 : BitVec 32 := Scalar.subi c768_i32_216 v371
  let c0_i32_218 : BitVec 32 := 0#32
  let v395 : BitVec 1 := Scalar.cmpi .sgt v393 c0_i32_218
  let v396 : BitVec 32 := Scalar.extui v395
  let c0_i32_219 : BitVec 32 := 0#32
  let v397 : BitVec 1 := Scalar.cmpi .slt v393 c0_i32_219
  let v398 : BitVec 32 := Scalar.extui v397
  let v399 : BitVec 32 := Scalar.subi v396 v398
  let c2_i32_217 : BitVec 32 := 2#32
  let c0_i32_220 : BitVec 32 := 0#32
  let v400 : BitVec 1 := Scalar.cmpi .sgt c2_i32_217 c0_i32_220
  let v401 : BitVec 32 := Scalar.extui v400
  let c0_i32_221 : BitVec 32 := 0#32
  let v402 : BitVec 1 := Scalar.cmpi .slt c2_i32_217 c0_i32_221
  let v403 : BitVec 32 := Scalar.extui v402
  let v404 : BitVec 32 := Scalar.subi v401 v403
  let v405 : BitVec 1 := Scalar.cmpi .ne v399 v404
  let v406 : BitVec 32 := Scalar.remsi v393 c2_i32_217
  let c0_i32_222 : BitVec 32 := 0#32
  let v407 : BitVec 1 := Scalar.cmpi .ne v406 c0_i32_222
  let v408 : BitVec 1 := Scalar.andi v405 v407
  let v394 : BitVec 32 := Scalar.divsi v393 c2_i32_217
  let c1_i32_223 : BitVec 32 := 1#32
  let v409 : BitVec 32 := Scalar.subi v394 c1_i32_223
  let v410 : BitVec 32 := Scalar.select v408 v409 v394
  let v411 : BitVec 32 := Scalar.maxsi c0_i32_224 v410
  let v412 : BitVec 32 := Scalar.minsi v389 v411
  let c0_i32_233 : BitVec 32 := 0#32
  let c1152_i32_225 : BitVec 32 := 1152#32
  let v413 : BitVec 32 := Scalar.subi c1152_i32_225 v371
  let c0_i32_227 : BitVec 32 := 0#32
  let v415 : BitVec 1 := Scalar.cmpi .sgt v413 c0_i32_227
  let v416 : BitVec 32 := Scalar.extui v415
  let c0_i32_228 : BitVec 32 := 0#32
  let v417 : BitVec 1 := Scalar.cmpi .slt v413 c0_i32_228
  let v418 : BitVec 32 := Scalar.extui v417
  let v419 : BitVec 32 := Scalar.subi v416 v418
  let c2_i32_226 : BitVec 32 := 2#32
  let c0_i32_229 : BitVec 32 := 0#32
  let v420 : BitVec 1 := Scalar.cmpi .sgt c2_i32_226 c0_i32_229
  let v421 : BitVec 32 := Scalar.extui v420
  let c0_i32_230 : BitVec 32 := 0#32
  let v422 : BitVec 1 := Scalar.cmpi .slt c2_i32_226 c0_i32_230
  let v423 : BitVec 32 := Scalar.extui v422
  let v424 : BitVec 32 := Scalar.subi v421 v423
  let v425 : BitVec 1 := Scalar.cmpi .ne v419 v424
  let v426 : BitVec 32 := Scalar.remsi v413 c2_i32_226
  let c0_i32_231 : BitVec 32 := 0#32
  let v427 : BitVec 1 := Scalar.cmpi .ne v426 c0_i32_231
  let v428 : BitVec 1 := Scalar.andi v425 v427
  let v414 : BitVec 32 := Scalar.divsi v413 c2_i32_226
  let c1_i32_232 : BitVec 32 := 1#32
  let v429 : BitVec 32 := Scalar.subi v414 c1_i32_232
  let v430 : BitVec 32 := Scalar.select v428 v429 v414
  let v431 : BitVec 32 := Scalar.maxsi c0_i32_233 v430
  let v432 : BitVec 32 := Scalar.minsi v389 v431
  let v433 : BitVec 32 := Scalar.subi v432 v412
  let c1_i32_234 : BitVec 32 := 1#32
  let v435 : BitVec 32 := Scalar.divsi v433 c1_i32_234
  let v436 : BitVec 32 := Scalar.muli v435 c1_i32_234
  let v437 : BitVec 32 := Scalar.addi v412 v436
  let c1_i32_236 : BitVec 32 := 1#32
  let arg23 : BitVec 32 := Scf.iv v437 c1_i32_236 k0_t88
  let v1305 : BitVec 32 := Scalar.addi v1304 arg23
  let c0_i32_615 : BitVec 32 := 0#32
  ![v1305.toNat, 0]

def k0_chk47 (v369 : BitVec 32) (v371 : BitVec 32) : Prop :=
  ((k0_t87_loop v369 v371).OK) ∧
  (∀ k0_t87 : Fin (k0_t87_loop v369 v371).trips, ∀ a, (k0_off222 v369 v371 k0_t87) a + S2x128.size a ≤ S384x128.size a) ∧
  (∀ k0_t87 : Fin (k0_t87_loop v369 v371).trips, ∀ a, (k0_off223 v369 v371 k0_t87) a + S1x2.size a ≤ S584x2.size a) ∧
  ((k0_t88_loop v369 v371).OK) ∧
  (∀ k0_t88 : Fin (k0_t88_loop v369 v371).trips, ∀ a, (k0_off225 v369 v371 k0_t88) a + S2x128.size a ≤ S384x128.size a) ∧
  (∀ k0_t88 : Fin (k0_t88_loop v369 v371).trips, ∀ a, (k0_off226 v369 v371 k0_t88) a + S1x2.size a ≤ S584x2.size a)
theorem k0_t87_ok : ∀ (v369 : BitVec 32) (v371 : BitVec 32) (k0_hw47 : k0_chk47 v369 v371), (k0_t87_loop v369 v371).OK := fun v369 v371 k0_hw47 => k0_hw47.1
theorem k0_off222_inb : ∀ (v369 : BitVec 32) (v371 : BitVec 32) (k0_hw47 : k0_chk47 v369 v371) (k0_t87 : Fin (k0_t87_loop v369 v371).trips), ∀ a, (k0_off222 v369 v371 k0_t87) a + S2x128.size a ≤ S384x128.size a := fun v369 v371 k0_hw47 k0_t87 => k0_hw47.2.1 k0_t87
theorem k0_off223_inb : ∀ (v369 : BitVec 32) (v371 : BitVec 32) (k0_hw47 : k0_chk47 v369 v371) (k0_t87 : Fin (k0_t87_loop v369 v371).trips), ∀ a, (k0_off223 v369 v371 k0_t87) a + S1x2.size a ≤ S584x2.size a := fun v369 v371 k0_hw47 k0_t87 => k0_hw47.2.2.1 k0_t87
theorem k0_t88_ok : ∀ (v369 : BitVec 32) (v371 : BitVec 32) (k0_hw47 : k0_chk47 v369 v371), (k0_t88_loop v369 v371).OK := fun v369 v371 k0_hw47 => k0_hw47.2.2.2.1
theorem k0_off225_inb : ∀ (v369 : BitVec 32) (v371 : BitVec 32) (k0_hw47 : k0_chk47 v369 v371) (k0_t88 : Fin (k0_t88_loop v369 v371).trips), ∀ a, (k0_off225 v369 v371 k0_t88) a + S2x128.size a ≤ S384x128.size a := fun v369 v371 k0_hw47 k0_t88 => k0_hw47.2.2.2.2.1 k0_t88
theorem k0_off226_inb : ∀ (v369 : BitVec 32) (v371 : BitVec 32) (k0_hw47 : k0_chk47 v369 v371) (k0_t88 : Fin (k0_t88_loop v369 v371).trips), ∀ a, (k0_off226 v369 v371 k0_t88) a + S1x2.size a ≤ S584x2.size a := fun v369 v371 k0_hw47 k0_t88 => k0_hw47.2.2.2.2.2 k0_t88

def k0_off227 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_213 : BitVec 32 := 16#32
  let v390 : BitVec 32 := Scalar.muli arg21 c16_i32_213
  let c3_i32_214 : BitVec 32 := 3#32
  let v391 : BitVec 32 := Scalar.addi v390 c3_i32_214
  let c128_i32_215 : BitVec 32 := 128#32
  let v392 : BitVec 32 := Scalar.muli v391 c128_i32_215
  ![0, v392.toNat]
@[reducible] def k0_t89_loop (v441 : BitVec 32) (v443 : BitVec 32) : Scf.Loop 32 :=
  let c1_i32_237 : BitVec 32 := 1#32
  let v444 : BitVec 32 := Scalar.addi v441 c1_i32_237
  let c0_i32_239 : BitVec 32 := 0#32
  let v446 : BitVec 1 := Scalar.cmpi .sgt v444 c0_i32_239
  let v447 : BitVec 32 := Scalar.extui v446
  let c0_i32_240 : BitVec 32 := 0#32
  let v448 : BitVec 1 := Scalar.cmpi .slt v444 c0_i32_240
  let v449 : BitVec 32 := Scalar.extui v448
  let v450 : BitVec 32 := Scalar.subi v447 v449
  let c2_i32_238 : BitVec 32 := 2#32
  let c0_i32_241 : BitVec 32 := 0#32
  let v451 : BitVec 1 := Scalar.cmpi .sgt c2_i32_238 c0_i32_241
  let v452 : BitVec 32 := Scalar.extui v451
  let c0_i32_242 : BitVec 32 := 0#32
  let v453 : BitVec 1 := Scalar.cmpi .slt c2_i32_238 c0_i32_242
  let v454 : BitVec 32 := Scalar.extui v453
  let v455 : BitVec 32 := Scalar.subi v452 v454
  let v456 : BitVec 1 := Scalar.cmpi .ne v450 v455
  let v457 : BitVec 32 := Scalar.remsi v444 c2_i32_238
  let c0_i32_243 : BitVec 32 := 0#32
  let v458 : BitVec 1 := Scalar.cmpi .ne v457 c0_i32_243
  let v459 : BitVec 1 := Scalar.andi v456 v458
  let v445 : BitVec 32 := Scalar.divsi v444 c2_i32_238
  let c1_i32_244 : BitVec 32 := 1#32
  let v460 : BitVec 32 := Scalar.subi v445 c1_i32_244
  let v461 : BitVec 32 := Scalar.select v459 v460 v445
  let c0_i32_256 : BitVec 32 := 0#32
  let c768_i32_248 : BitVec 32 := 768#32
  let v465 : BitVec 32 := Scalar.subi c768_i32_248 v443
  let c0_i32_250 : BitVec 32 := 0#32
  let v467 : BitVec 1 := Scalar.cmpi .sgt v465 c0_i32_250
  let v468 : BitVec 32 := Scalar.extui v467
  let c0_i32_251 : BitVec 32 := 0#32
  let v469 : BitVec 1 := Scalar.cmpi .slt v465 c0_i32_251
  let v470 : BitVec 32 := Scalar.extui v469
  let v471 : BitVec 32 := Scalar.subi v468 v470
  let c2_i32_249 : BitVec 32 := 2#32
  let c0_i32_252 : BitVec 32 := 0#32
  let v472 : BitVec 1 := Scalar.cmpi .sgt c2_i32_249 c0_i32_252
  let v473 : BitVec 32 := Scalar.extui v472
  let c0_i32_253 : BitVec 32 := 0#32
  let v474 : BitVec 1 := Scalar.cmpi .slt c2_i32_249 c0_i32_253
  let v475 : BitVec 32 := Scalar.extui v474
  let v476 : BitVec 32 := Scalar.subi v473 v475
  let v477 : BitVec 1 := Scalar.cmpi .ne v471 v476
  let v478 : BitVec 32 := Scalar.remsi v465 c2_i32_249
  let c0_i32_254 : BitVec 32 := 0#32
  let v479 : BitVec 1 := Scalar.cmpi .ne v478 c0_i32_254
  let v480 : BitVec 1 := Scalar.andi v477 v479
  let v466 : BitVec 32 := Scalar.divsi v465 c2_i32_249
  let c1_i32_255 : BitVec 32 := 1#32
  let v481 : BitVec 32 := Scalar.subi v466 c1_i32_255
  let v482 : BitVec 32 := Scalar.select v480 v481 v466
  let v483 : BitVec 32 := Scalar.maxsi c0_i32_256 v482
  let v484 : BitVec 32 := Scalar.minsi v461 v483
  let c0_i32_265 : BitVec 32 := 0#32
  let c1152_i32_257 : BitVec 32 := 1152#32
  let v485 : BitVec 32 := Scalar.subi c1152_i32_257 v443
  let c0_i32_259 : BitVec 32 := 0#32
  let v487 : BitVec 1 := Scalar.cmpi .sgt v485 c0_i32_259
  let v488 : BitVec 32 := Scalar.extui v487
  let c0_i32_260 : BitVec 32 := 0#32
  let v489 : BitVec 1 := Scalar.cmpi .slt v485 c0_i32_260
  let v490 : BitVec 32 := Scalar.extui v489
  let v491 : BitVec 32 := Scalar.subi v488 v490
  let c2_i32_258 : BitVec 32 := 2#32
  let c0_i32_261 : BitVec 32 := 0#32
  let v492 : BitVec 1 := Scalar.cmpi .sgt c2_i32_258 c0_i32_261
  let v493 : BitVec 32 := Scalar.extui v492
  let c0_i32_262 : BitVec 32 := 0#32
  let v494 : BitVec 1 := Scalar.cmpi .slt c2_i32_258 c0_i32_262
  let v495 : BitVec 32 := Scalar.extui v494
  let v496 : BitVec 32 := Scalar.subi v493 v495
  let v497 : BitVec 1 := Scalar.cmpi .ne v491 v496
  let v498 : BitVec 32 := Scalar.remsi v485 c2_i32_258
  let c0_i32_263 : BitVec 32 := 0#32
  let v499 : BitVec 1 := Scalar.cmpi .ne v498 c0_i32_263
  let v500 : BitVec 1 := Scalar.andi v497 v499
  let v486 : BitVec 32 := Scalar.divsi v485 c2_i32_258
  let c1_i32_264 : BitVec 32 := 1#32
  let v501 : BitVec 32 := Scalar.subi v486 c1_i32_264
  let v502 : BitVec 32 := Scalar.select v500 v501 v486
  let v503 : BitVec 32 := Scalar.maxsi c0_i32_265 v502
  let v504 : BitVec 32 := Scalar.minsi v461 v503
  let v505 : BitVec 32 := Scalar.subi v504 v484
  let c1_i32_266 : BitVec 32 := 1#32
  let v507 : BitVec 32 := Scalar.divsi v505 c1_i32_266
  let v508 : BitVec 32 := Scalar.muli v507 c1_i32_266
  let v509 : BitVec 32 := Scalar.addi v484 v508
  let c1_i32_267 : BitVec 32 := 1#32
  ⟨v484, v509, c1_i32_267⟩

def k0_off228 (v441 : BitVec 32) (v443 : BitVec 32) (k0_t89 : Fin (k0_t89_loop v441 v443).trips) : Fin 2 → Nat :=
  let c1_i32_237 : BitVec 32 := 1#32
  let v444 : BitVec 32 := Scalar.addi v441 c1_i32_237
  let c0_i32_239 : BitVec 32 := 0#32
  let v446 : BitVec 1 := Scalar.cmpi .sgt v444 c0_i32_239
  let v447 : BitVec 32 := Scalar.extui v446
  let c0_i32_240 : BitVec 32 := 0#32
  let v448 : BitVec 1 := Scalar.cmpi .slt v444 c0_i32_240
  let v449 : BitVec 32 := Scalar.extui v448
  let v450 : BitVec 32 := Scalar.subi v447 v449
  let c2_i32_238 : BitVec 32 := 2#32
  let c0_i32_241 : BitVec 32 := 0#32
  let v451 : BitVec 1 := Scalar.cmpi .sgt c2_i32_238 c0_i32_241
  let v452 : BitVec 32 := Scalar.extui v451
  let c0_i32_242 : BitVec 32 := 0#32
  let v453 : BitVec 1 := Scalar.cmpi .slt c2_i32_238 c0_i32_242
  let v454 : BitVec 32 := Scalar.extui v453
  let v455 : BitVec 32 := Scalar.subi v452 v454
  let v456 : BitVec 1 := Scalar.cmpi .ne v450 v455
  let v457 : BitVec 32 := Scalar.remsi v444 c2_i32_238
  let c0_i32_243 : BitVec 32 := 0#32
  let v458 : BitVec 1 := Scalar.cmpi .ne v457 c0_i32_243
  let v459 : BitVec 1 := Scalar.andi v456 v458
  let v445 : BitVec 32 := Scalar.divsi v444 c2_i32_238
  let c1_i32_244 : BitVec 32 := 1#32
  let v460 : BitVec 32 := Scalar.subi v445 c1_i32_244
  let v461 : BitVec 32 := Scalar.select v459 v460 v445
  let c0_i32_256 : BitVec 32 := 0#32
  let c768_i32_248 : BitVec 32 := 768#32
  let v465 : BitVec 32 := Scalar.subi c768_i32_248 v443
  let c0_i32_250 : BitVec 32 := 0#32
  let v467 : BitVec 1 := Scalar.cmpi .sgt v465 c0_i32_250
  let v468 : BitVec 32 := Scalar.extui v467
  let c0_i32_251 : BitVec 32 := 0#32
  let v469 : BitVec 1 := Scalar.cmpi .slt v465 c0_i32_251
  let v470 : BitVec 32 := Scalar.extui v469
  let v471 : BitVec 32 := Scalar.subi v468 v470
  let c2_i32_249 : BitVec 32 := 2#32
  let c0_i32_252 : BitVec 32 := 0#32
  let v472 : BitVec 1 := Scalar.cmpi .sgt c2_i32_249 c0_i32_252
  let v473 : BitVec 32 := Scalar.extui v472
  let c0_i32_253 : BitVec 32 := 0#32
  let v474 : BitVec 1 := Scalar.cmpi .slt c2_i32_249 c0_i32_253
  let v475 : BitVec 32 := Scalar.extui v474
  let v476 : BitVec 32 := Scalar.subi v473 v475
  let v477 : BitVec 1 := Scalar.cmpi .ne v471 v476
  let v478 : BitVec 32 := Scalar.remsi v465 c2_i32_249
  let c0_i32_254 : BitVec 32 := 0#32
  let v479 : BitVec 1 := Scalar.cmpi .ne v478 c0_i32_254
  let v480 : BitVec 1 := Scalar.andi v477 v479
  let v466 : BitVec 32 := Scalar.divsi v465 c2_i32_249
  let c1_i32_255 : BitVec 32 := 1#32
  let v481 : BitVec 32 := Scalar.subi v466 c1_i32_255
  let v482 : BitVec 32 := Scalar.select v480 v481 v466
  let v483 : BitVec 32 := Scalar.maxsi c0_i32_256 v482
  let v484 : BitVec 32 := Scalar.minsi v461 v483
  let c1_i32_267 : BitVec 32 := 1#32
  let arg23 : BitVec 32 := Scf.iv v484 c1_i32_267 k0_t89
  let c2_i32_612 : BitVec 32 := 2#32
  let v1306 : BitVec 32 := Scalar.muli arg23 c2_i32_612
  let v1307 : BitVec 32 := Scalar.addi v443 v1306
  let c768_i32_613 : BitVec 32 := 768#32
  let v1308 : BitVec 32 := Scalar.subi v1307 c768_i32_613
  let c0_i32_614 : BitVec 32 := 0#32
  ![v1308.toNat, 0]
def k0_off229 (v441 : BitVec 32) (v443 : BitVec 32) (k0_t89 : Fin (k0_t89_loop v441 v443).trips) : Fin 2 → Nat :=
  let c1_i32_611 : BitVec 32 := 1#32
  let v1304 : BitVec 32 := Scalar.shrsi v443 c1_i32_611
  let c1_i32_237 : BitVec 32 := 1#32
  let v444 : BitVec 32 := Scalar.addi v441 c1_i32_237
  let c0_i32_239 : BitVec 32 := 0#32
  let v446 : BitVec 1 := Scalar.cmpi .sgt v444 c0_i32_239
  let v447 : BitVec 32 := Scalar.extui v446
  let c0_i32_240 : BitVec 32 := 0#32
  let v448 : BitVec 1 := Scalar.cmpi .slt v444 c0_i32_240
  let v449 : BitVec 32 := Scalar.extui v448
  let v450 : BitVec 32 := Scalar.subi v447 v449
  let c2_i32_238 : BitVec 32 := 2#32
  let c0_i32_241 : BitVec 32 := 0#32
  let v451 : BitVec 1 := Scalar.cmpi .sgt c2_i32_238 c0_i32_241
  let v452 : BitVec 32 := Scalar.extui v451
  let c0_i32_242 : BitVec 32 := 0#32
  let v453 : BitVec 1 := Scalar.cmpi .slt c2_i32_238 c0_i32_242
  let v454 : BitVec 32 := Scalar.extui v453
  let v455 : BitVec 32 := Scalar.subi v452 v454
  let v456 : BitVec 1 := Scalar.cmpi .ne v450 v455
  let v457 : BitVec 32 := Scalar.remsi v444 c2_i32_238
  let c0_i32_243 : BitVec 32 := 0#32
  let v458 : BitVec 1 := Scalar.cmpi .ne v457 c0_i32_243
  let v459 : BitVec 1 := Scalar.andi v456 v458
  let v445 : BitVec 32 := Scalar.divsi v444 c2_i32_238
  let c1_i32_244 : BitVec 32 := 1#32
  let v460 : BitVec 32 := Scalar.subi v445 c1_i32_244
  let v461 : BitVec 32 := Scalar.select v459 v460 v445
  let c0_i32_256 : BitVec 32 := 0#32
  let c768_i32_248 : BitVec 32 := 768#32
  let v465 : BitVec 32 := Scalar.subi c768_i32_248 v443
  let c0_i32_250 : BitVec 32 := 0#32
  let v467 : BitVec 1 := Scalar.cmpi .sgt v465 c0_i32_250
  let v468 : BitVec 32 := Scalar.extui v467
  let c0_i32_251 : BitVec 32 := 0#32
  let v469 : BitVec 1 := Scalar.cmpi .slt v465 c0_i32_251
  let v470 : BitVec 32 := Scalar.extui v469
  let v471 : BitVec 32 := Scalar.subi v468 v470
  let c2_i32_249 : BitVec 32 := 2#32
  let c0_i32_252 : BitVec 32 := 0#32
  let v472 : BitVec 1 := Scalar.cmpi .sgt c2_i32_249 c0_i32_252
  let v473 : BitVec 32 := Scalar.extui v472
  let c0_i32_253 : BitVec 32 := 0#32
  let v474 : BitVec 1 := Scalar.cmpi .slt c2_i32_249 c0_i32_253
  let v475 : BitVec 32 := Scalar.extui v474
  let v476 : BitVec 32 := Scalar.subi v473 v475
  let v477 : BitVec 1 := Scalar.cmpi .ne v471 v476
  let v478 : BitVec 32 := Scalar.remsi v465 c2_i32_249
  let c0_i32_254 : BitVec 32 := 0#32
  let v479 : BitVec 1 := Scalar.cmpi .ne v478 c0_i32_254
  let v480 : BitVec 1 := Scalar.andi v477 v479
  let v466 : BitVec 32 := Scalar.divsi v465 c2_i32_249
  let c1_i32_255 : BitVec 32 := 1#32
  let v481 : BitVec 32 := Scalar.subi v466 c1_i32_255
  let v482 : BitVec 32 := Scalar.select v480 v481 v466
  let v483 : BitVec 32 := Scalar.maxsi c0_i32_256 v482
  let v484 : BitVec 32 := Scalar.minsi v461 v483
  let c1_i32_267 : BitVec 32 := 1#32
  let arg23 : BitVec 32 := Scf.iv v484 c1_i32_267 k0_t89
  let v1305 : BitVec 32 := Scalar.addi v1304 arg23
  let c0_i32_615 : BitVec 32 := 0#32
  ![v1305.toNat, 0]
def k0_off230 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_245 : BitVec 32 := 16#32
  let v462 : BitVec 32 := Scalar.muli arg21 c16_i32_245
  let c4_i32_246 : BitVec 32 := 4#32
  let v463 : BitVec 32 := Scalar.addi v462 c4_i32_246
  let c128_i32_247 : BitVec 32 := 128#32
  let v464 : BitVec 32 := Scalar.muli v463 c128_i32_247
  ![0, v464.toNat]
@[reducible] def k0_t90_loop (v441 : BitVec 32) (v443 : BitVec 32) : Scf.Loop 32 :=
  let c1_i32_237 : BitVec 32 := 1#32
  let v444 : BitVec 32 := Scalar.addi v441 c1_i32_237
  let c0_i32_239 : BitVec 32 := 0#32
  let v446 : BitVec 1 := Scalar.cmpi .sgt v444 c0_i32_239
  let v447 : BitVec 32 := Scalar.extui v446
  let c0_i32_240 : BitVec 32 := 0#32
  let v448 : BitVec 1 := Scalar.cmpi .slt v444 c0_i32_240
  let v449 : BitVec 32 := Scalar.extui v448
  let v450 : BitVec 32 := Scalar.subi v447 v449
  let c2_i32_238 : BitVec 32 := 2#32
  let c0_i32_241 : BitVec 32 := 0#32
  let v451 : BitVec 1 := Scalar.cmpi .sgt c2_i32_238 c0_i32_241
  let v452 : BitVec 32 := Scalar.extui v451
  let c0_i32_242 : BitVec 32 := 0#32
  let v453 : BitVec 1 := Scalar.cmpi .slt c2_i32_238 c0_i32_242
  let v454 : BitVec 32 := Scalar.extui v453
  let v455 : BitVec 32 := Scalar.subi v452 v454
  let v456 : BitVec 1 := Scalar.cmpi .ne v450 v455
  let v457 : BitVec 32 := Scalar.remsi v444 c2_i32_238
  let c0_i32_243 : BitVec 32 := 0#32
  let v458 : BitVec 1 := Scalar.cmpi .ne v457 c0_i32_243
  let v459 : BitVec 1 := Scalar.andi v456 v458
  let v445 : BitVec 32 := Scalar.divsi v444 c2_i32_238
  let c1_i32_244 : BitVec 32 := 1#32
  let v460 : BitVec 32 := Scalar.subi v445 c1_i32_244
  let v461 : BitVec 32 := Scalar.select v459 v460 v445
  let c0_i32_256 : BitVec 32 := 0#32
  let c768_i32_248 : BitVec 32 := 768#32
  let v465 : BitVec 32 := Scalar.subi c768_i32_248 v443
  let c0_i32_250 : BitVec 32 := 0#32
  let v467 : BitVec 1 := Scalar.cmpi .sgt v465 c0_i32_250
  let v468 : BitVec 32 := Scalar.extui v467
  let c0_i32_251 : BitVec 32 := 0#32
  let v469 : BitVec 1 := Scalar.cmpi .slt v465 c0_i32_251
  let v470 : BitVec 32 := Scalar.extui v469
  let v471 : BitVec 32 := Scalar.subi v468 v470
  let c2_i32_249 : BitVec 32 := 2#32
  let c0_i32_252 : BitVec 32 := 0#32
  let v472 : BitVec 1 := Scalar.cmpi .sgt c2_i32_249 c0_i32_252
  let v473 : BitVec 32 := Scalar.extui v472
  let c0_i32_253 : BitVec 32 := 0#32
  let v474 : BitVec 1 := Scalar.cmpi .slt c2_i32_249 c0_i32_253
  let v475 : BitVec 32 := Scalar.extui v474
  let v476 : BitVec 32 := Scalar.subi v473 v475
  let v477 : BitVec 1 := Scalar.cmpi .ne v471 v476
  let v478 : BitVec 32 := Scalar.remsi v465 c2_i32_249
  let c0_i32_254 : BitVec 32 := 0#32
  let v479 : BitVec 1 := Scalar.cmpi .ne v478 c0_i32_254
  let v480 : BitVec 1 := Scalar.andi v477 v479
  let v466 : BitVec 32 := Scalar.divsi v465 c2_i32_249
  let c1_i32_255 : BitVec 32 := 1#32
  let v481 : BitVec 32 := Scalar.subi v466 c1_i32_255
  let v482 : BitVec 32 := Scalar.select v480 v481 v466
  let v483 : BitVec 32 := Scalar.maxsi c0_i32_256 v482
  let v484 : BitVec 32 := Scalar.minsi v461 v483
  let c0_i32_265 : BitVec 32 := 0#32
  let c1152_i32_257 : BitVec 32 := 1152#32
  let v485 : BitVec 32 := Scalar.subi c1152_i32_257 v443
  let c0_i32_259 : BitVec 32 := 0#32
  let v487 : BitVec 1 := Scalar.cmpi .sgt v485 c0_i32_259
  let v488 : BitVec 32 := Scalar.extui v487
  let c0_i32_260 : BitVec 32 := 0#32
  let v489 : BitVec 1 := Scalar.cmpi .slt v485 c0_i32_260
  let v490 : BitVec 32 := Scalar.extui v489
  let v491 : BitVec 32 := Scalar.subi v488 v490
  let c2_i32_258 : BitVec 32 := 2#32
  let c0_i32_261 : BitVec 32 := 0#32
  let v492 : BitVec 1 := Scalar.cmpi .sgt c2_i32_258 c0_i32_261
  let v493 : BitVec 32 := Scalar.extui v492
  let c0_i32_262 : BitVec 32 := 0#32
  let v494 : BitVec 1 := Scalar.cmpi .slt c2_i32_258 c0_i32_262
  let v495 : BitVec 32 := Scalar.extui v494
  let v496 : BitVec 32 := Scalar.subi v493 v495
  let v497 : BitVec 1 := Scalar.cmpi .ne v491 v496
  let v498 : BitVec 32 := Scalar.remsi v485 c2_i32_258
  let c0_i32_263 : BitVec 32 := 0#32
  let v499 : BitVec 1 := Scalar.cmpi .ne v498 c0_i32_263
  let v500 : BitVec 1 := Scalar.andi v497 v499
  let v486 : BitVec 32 := Scalar.divsi v485 c2_i32_258
  let c1_i32_264 : BitVec 32 := 1#32
  let v501 : BitVec 32 := Scalar.subi v486 c1_i32_264
  let v502 : BitVec 32 := Scalar.select v500 v501 v486
  let v503 : BitVec 32 := Scalar.maxsi c0_i32_265 v502
  let v504 : BitVec 32 := Scalar.minsi v461 v503
  let v505 : BitVec 32 := Scalar.subi v504 v484
  let c1_i32_266 : BitVec 32 := 1#32
  let v507 : BitVec 32 := Scalar.divsi v505 c1_i32_266
  let v508 : BitVec 32 := Scalar.muli v507 c1_i32_266
  let v509 : BitVec 32 := Scalar.addi v484 v508
  let v506 : BitVec 32 := Scalar.addi v484 v505
  let c1_i32_268 : BitVec 32 := 1#32
  ⟨v509, v506, c1_i32_268⟩
def k0_off231 (v441 : BitVec 32) (v443 : BitVec 32) (k0_t90 : Fin (k0_t90_loop v441 v443).trips) : Fin 2 → Nat :=
  let c1_i32_237 : BitVec 32 := 1#32
  let v444 : BitVec 32 := Scalar.addi v441 c1_i32_237
  let c0_i32_239 : BitVec 32 := 0#32
  let v446 : BitVec 1 := Scalar.cmpi .sgt v444 c0_i32_239
  let v447 : BitVec 32 := Scalar.extui v446
  let c0_i32_240 : BitVec 32 := 0#32
  let v448 : BitVec 1 := Scalar.cmpi .slt v444 c0_i32_240
  let v449 : BitVec 32 := Scalar.extui v448
  let v450 : BitVec 32 := Scalar.subi v447 v449
  let c2_i32_238 : BitVec 32 := 2#32
  let c0_i32_241 : BitVec 32 := 0#32
  let v451 : BitVec 1 := Scalar.cmpi .sgt c2_i32_238 c0_i32_241
  let v452 : BitVec 32 := Scalar.extui v451
  let c0_i32_242 : BitVec 32 := 0#32
  let v453 : BitVec 1 := Scalar.cmpi .slt c2_i32_238 c0_i32_242
  let v454 : BitVec 32 := Scalar.extui v453
  let v455 : BitVec 32 := Scalar.subi v452 v454
  let v456 : BitVec 1 := Scalar.cmpi .ne v450 v455
  let v457 : BitVec 32 := Scalar.remsi v444 c2_i32_238
  let c0_i32_243 : BitVec 32 := 0#32
  let v458 : BitVec 1 := Scalar.cmpi .ne v457 c0_i32_243
  let v459 : BitVec 1 := Scalar.andi v456 v458
  let v445 : BitVec 32 := Scalar.divsi v444 c2_i32_238
  let c1_i32_244 : BitVec 32 := 1#32
  let v460 : BitVec 32 := Scalar.subi v445 c1_i32_244
  let v461 : BitVec 32 := Scalar.select v459 v460 v445
  let c0_i32_256 : BitVec 32 := 0#32
  let c768_i32_248 : BitVec 32 := 768#32
  let v465 : BitVec 32 := Scalar.subi c768_i32_248 v443
  let c0_i32_250 : BitVec 32 := 0#32
  let v467 : BitVec 1 := Scalar.cmpi .sgt v465 c0_i32_250
  let v468 : BitVec 32 := Scalar.extui v467
  let c0_i32_251 : BitVec 32 := 0#32
  let v469 : BitVec 1 := Scalar.cmpi .slt v465 c0_i32_251
  let v470 : BitVec 32 := Scalar.extui v469
  let v471 : BitVec 32 := Scalar.subi v468 v470
  let c2_i32_249 : BitVec 32 := 2#32
  let c0_i32_252 : BitVec 32 := 0#32
  let v472 : BitVec 1 := Scalar.cmpi .sgt c2_i32_249 c0_i32_252
  let v473 : BitVec 32 := Scalar.extui v472
  let c0_i32_253 : BitVec 32 := 0#32
  let v474 : BitVec 1 := Scalar.cmpi .slt c2_i32_249 c0_i32_253
  let v475 : BitVec 32 := Scalar.extui v474
  let v476 : BitVec 32 := Scalar.subi v473 v475
  let v477 : BitVec 1 := Scalar.cmpi .ne v471 v476
  let v478 : BitVec 32 := Scalar.remsi v465 c2_i32_249
  let c0_i32_254 : BitVec 32 := 0#32
  let v479 : BitVec 1 := Scalar.cmpi .ne v478 c0_i32_254
  let v480 : BitVec 1 := Scalar.andi v477 v479
  let v466 : BitVec 32 := Scalar.divsi v465 c2_i32_249
  let c1_i32_255 : BitVec 32 := 1#32
  let v481 : BitVec 32 := Scalar.subi v466 c1_i32_255
  let v482 : BitVec 32 := Scalar.select v480 v481 v466
  let v483 : BitVec 32 := Scalar.maxsi c0_i32_256 v482
  let v484 : BitVec 32 := Scalar.minsi v461 v483
  let c0_i32_265 : BitVec 32 := 0#32
  let c1152_i32_257 : BitVec 32 := 1152#32
  let v485 : BitVec 32 := Scalar.subi c1152_i32_257 v443
  let c0_i32_259 : BitVec 32 := 0#32
  let v487 : BitVec 1 := Scalar.cmpi .sgt v485 c0_i32_259
  let v488 : BitVec 32 := Scalar.extui v487
  let c0_i32_260 : BitVec 32 := 0#32
  let v489 : BitVec 1 := Scalar.cmpi .slt v485 c0_i32_260
  let v490 : BitVec 32 := Scalar.extui v489
  let v491 : BitVec 32 := Scalar.subi v488 v490
  let c2_i32_258 : BitVec 32 := 2#32
  let c0_i32_261 : BitVec 32 := 0#32
  let v492 : BitVec 1 := Scalar.cmpi .sgt c2_i32_258 c0_i32_261
  let v493 : BitVec 32 := Scalar.extui v492
  let c0_i32_262 : BitVec 32 := 0#32
  let v494 : BitVec 1 := Scalar.cmpi .slt c2_i32_258 c0_i32_262
  let v495 : BitVec 32 := Scalar.extui v494
  let v496 : BitVec 32 := Scalar.subi v493 v495
  let v497 : BitVec 1 := Scalar.cmpi .ne v491 v496
  let v498 : BitVec 32 := Scalar.remsi v485 c2_i32_258
  let c0_i32_263 : BitVec 32 := 0#32
  let v499 : BitVec 1 := Scalar.cmpi .ne v498 c0_i32_263
  let v500 : BitVec 1 := Scalar.andi v497 v499
  let v486 : BitVec 32 := Scalar.divsi v485 c2_i32_258
  let c1_i32_264 : BitVec 32 := 1#32
  let v501 : BitVec 32 := Scalar.subi v486 c1_i32_264
  let v502 : BitVec 32 := Scalar.select v500 v501 v486
  let v503 : BitVec 32 := Scalar.maxsi c0_i32_265 v502
  let v504 : BitVec 32 := Scalar.minsi v461 v503
  let v505 : BitVec 32 := Scalar.subi v504 v484
  let c1_i32_266 : BitVec 32 := 1#32
  let v507 : BitVec 32 := Scalar.divsi v505 c1_i32_266
  let v508 : BitVec 32 := Scalar.muli v507 c1_i32_266
  let v509 : BitVec 32 := Scalar.addi v484 v508
  let c1_i32_268 : BitVec 32 := 1#32
  let arg23 : BitVec 32 := Scf.iv v509 c1_i32_268 k0_t90
  let c2_i32_612 : BitVec 32 := 2#32
  let v1306 : BitVec 32 := Scalar.muli arg23 c2_i32_612
  let v1307 : BitVec 32 := Scalar.addi v443 v1306
  let c768_i32_613 : BitVec 32 := 768#32
  let v1308 : BitVec 32 := Scalar.subi v1307 c768_i32_613
  let c0_i32_614 : BitVec 32 := 0#32
  ![v1308.toNat, 0]
def k0_off232 (v441 : BitVec 32) (v443 : BitVec 32) (k0_t90 : Fin (k0_t90_loop v441 v443).trips) : Fin 2 → Nat :=
  let c1_i32_611 : BitVec 32 := 1#32
  let v1304 : BitVec 32 := Scalar.shrsi v443 c1_i32_611
  let c1_i32_237 : BitVec 32 := 1#32
  let v444 : BitVec 32 := Scalar.addi v441 c1_i32_237
  let c0_i32_239 : BitVec 32 := 0#32
  let v446 : BitVec 1 := Scalar.cmpi .sgt v444 c0_i32_239
  let v447 : BitVec 32 := Scalar.extui v446
  let c0_i32_240 : BitVec 32 := 0#32
  let v448 : BitVec 1 := Scalar.cmpi .slt v444 c0_i32_240
  let v449 : BitVec 32 := Scalar.extui v448
  let v450 : BitVec 32 := Scalar.subi v447 v449
  let c2_i32_238 : BitVec 32 := 2#32
  let c0_i32_241 : BitVec 32 := 0#32
  let v451 : BitVec 1 := Scalar.cmpi .sgt c2_i32_238 c0_i32_241
  let v452 : BitVec 32 := Scalar.extui v451
  let c0_i32_242 : BitVec 32 := 0#32
  let v453 : BitVec 1 := Scalar.cmpi .slt c2_i32_238 c0_i32_242
  let v454 : BitVec 32 := Scalar.extui v453
  let v455 : BitVec 32 := Scalar.subi v452 v454
  let v456 : BitVec 1 := Scalar.cmpi .ne v450 v455
  let v457 : BitVec 32 := Scalar.remsi v444 c2_i32_238
  let c0_i32_243 : BitVec 32 := 0#32
  let v458 : BitVec 1 := Scalar.cmpi .ne v457 c0_i32_243
  let v459 : BitVec 1 := Scalar.andi v456 v458
  let v445 : BitVec 32 := Scalar.divsi v444 c2_i32_238
  let c1_i32_244 : BitVec 32 := 1#32
  let v460 : BitVec 32 := Scalar.subi v445 c1_i32_244
  let v461 : BitVec 32 := Scalar.select v459 v460 v445
  let c0_i32_256 : BitVec 32 := 0#32
  let c768_i32_248 : BitVec 32 := 768#32
  let v465 : BitVec 32 := Scalar.subi c768_i32_248 v443
  let c0_i32_250 : BitVec 32 := 0#32
  let v467 : BitVec 1 := Scalar.cmpi .sgt v465 c0_i32_250
  let v468 : BitVec 32 := Scalar.extui v467
  let c0_i32_251 : BitVec 32 := 0#32
  let v469 : BitVec 1 := Scalar.cmpi .slt v465 c0_i32_251
  let v470 : BitVec 32 := Scalar.extui v469
  let v471 : BitVec 32 := Scalar.subi v468 v470
  let c2_i32_249 : BitVec 32 := 2#32
  let c0_i32_252 : BitVec 32 := 0#32
  let v472 : BitVec 1 := Scalar.cmpi .sgt c2_i32_249 c0_i32_252
  let v473 : BitVec 32 := Scalar.extui v472
  let c0_i32_253 : BitVec 32 := 0#32
  let v474 : BitVec 1 := Scalar.cmpi .slt c2_i32_249 c0_i32_253
  let v475 : BitVec 32 := Scalar.extui v474
  let v476 : BitVec 32 := Scalar.subi v473 v475
  let v477 : BitVec 1 := Scalar.cmpi .ne v471 v476
  let v478 : BitVec 32 := Scalar.remsi v465 c2_i32_249
  let c0_i32_254 : BitVec 32 := 0#32
  let v479 : BitVec 1 := Scalar.cmpi .ne v478 c0_i32_254
  let v480 : BitVec 1 := Scalar.andi v477 v479
  let v466 : BitVec 32 := Scalar.divsi v465 c2_i32_249
  let c1_i32_255 : BitVec 32 := 1#32
  let v481 : BitVec 32 := Scalar.subi v466 c1_i32_255
  let v482 : BitVec 32 := Scalar.select v480 v481 v466
  let v483 : BitVec 32 := Scalar.maxsi c0_i32_256 v482
  let v484 : BitVec 32 := Scalar.minsi v461 v483
  let c0_i32_265 : BitVec 32 := 0#32
  let c1152_i32_257 : BitVec 32 := 1152#32
  let v485 : BitVec 32 := Scalar.subi c1152_i32_257 v443
  let c0_i32_259 : BitVec 32 := 0#32
  let v487 : BitVec 1 := Scalar.cmpi .sgt v485 c0_i32_259
  let v488 : BitVec 32 := Scalar.extui v487
  let c0_i32_260 : BitVec 32 := 0#32
  let v489 : BitVec 1 := Scalar.cmpi .slt v485 c0_i32_260
  let v490 : BitVec 32 := Scalar.extui v489
  let v491 : BitVec 32 := Scalar.subi v488 v490
  let c2_i32_258 : BitVec 32 := 2#32
  let c0_i32_261 : BitVec 32 := 0#32
  let v492 : BitVec 1 := Scalar.cmpi .sgt c2_i32_258 c0_i32_261
  let v493 : BitVec 32 := Scalar.extui v492
  let c0_i32_262 : BitVec 32 := 0#32
  let v494 : BitVec 1 := Scalar.cmpi .slt c2_i32_258 c0_i32_262
  let v495 : BitVec 32 := Scalar.extui v494
  let v496 : BitVec 32 := Scalar.subi v493 v495
  let v497 : BitVec 1 := Scalar.cmpi .ne v491 v496
  let v498 : BitVec 32 := Scalar.remsi v485 c2_i32_258
  let c0_i32_263 : BitVec 32 := 0#32
  let v499 : BitVec 1 := Scalar.cmpi .ne v498 c0_i32_263
  let v500 : BitVec 1 := Scalar.andi v497 v499
  let v486 : BitVec 32 := Scalar.divsi v485 c2_i32_258
  let c1_i32_264 : BitVec 32 := 1#32
  let v501 : BitVec 32 := Scalar.subi v486 c1_i32_264
  let v502 : BitVec 32 := Scalar.select v500 v501 v486
  let v503 : BitVec 32 := Scalar.maxsi c0_i32_265 v502
  let v504 : BitVec 32 := Scalar.minsi v461 v503
  let v505 : BitVec 32 := Scalar.subi v504 v484
  let c1_i32_266 : BitVec 32 := 1#32
  let v507 : BitVec 32 := Scalar.divsi v505 c1_i32_266
  let v508 : BitVec 32 := Scalar.muli v507 c1_i32_266
  let v509 : BitVec 32 := Scalar.addi v484 v508
  let c1_i32_268 : BitVec 32 := 1#32
  let arg23 : BitVec 32 := Scf.iv v509 c1_i32_268 k0_t90
  let v1305 : BitVec 32 := Scalar.addi v1304 arg23
  let c0_i32_615 : BitVec 32 := 0#32
  ![v1305.toNat, 0]

def k0_chk48 (v441 : BitVec 32) (v443 : BitVec 32) : Prop :=
  ((k0_t89_loop v441 v443).OK) ∧
  (∀ k0_t89 : Fin (k0_t89_loop v441 v443).trips, ∀ a, (k0_off228 v441 v443 k0_t89) a + S2x128.size a ≤ S384x128.size a) ∧
  (∀ k0_t89 : Fin (k0_t89_loop v441 v443).trips, ∀ a, (k0_off229 v441 v443 k0_t89) a + S1x2.size a ≤ S584x2.size a) ∧
  ((k0_t90_loop v441 v443).OK) ∧
  (∀ k0_t90 : Fin (k0_t90_loop v441 v443).trips, ∀ a, (k0_off231 v441 v443 k0_t90) a + S2x128.size a ≤ S384x128.size a) ∧
  (∀ k0_t90 : Fin (k0_t90_loop v441 v443).trips, ∀ a, (k0_off232 v441 v443 k0_t90) a + S1x2.size a ≤ S584x2.size a)
theorem k0_t89_ok : ∀ (v441 : BitVec 32) (v443 : BitVec 32) (k0_hw48 : k0_chk48 v441 v443), (k0_t89_loop v441 v443).OK := fun v441 v443 k0_hw48 => k0_hw48.1
theorem k0_off228_inb : ∀ (v441 : BitVec 32) (v443 : BitVec 32) (k0_hw48 : k0_chk48 v441 v443) (k0_t89 : Fin (k0_t89_loop v441 v443).trips), ∀ a, (k0_off228 v441 v443 k0_t89) a + S2x128.size a ≤ S384x128.size a := fun v441 v443 k0_hw48 k0_t89 => k0_hw48.2.1 k0_t89
theorem k0_off229_inb : ∀ (v441 : BitVec 32) (v443 : BitVec 32) (k0_hw48 : k0_chk48 v441 v443) (k0_t89 : Fin (k0_t89_loop v441 v443).trips), ∀ a, (k0_off229 v441 v443 k0_t89) a + S1x2.size a ≤ S584x2.size a := fun v441 v443 k0_hw48 k0_t89 => k0_hw48.2.2.1 k0_t89
theorem k0_t90_ok : ∀ (v441 : BitVec 32) (v443 : BitVec 32) (k0_hw48 : k0_chk48 v441 v443), (k0_t90_loop v441 v443).OK := fun v441 v443 k0_hw48 => k0_hw48.2.2.2.1
theorem k0_off231_inb : ∀ (v441 : BitVec 32) (v443 : BitVec 32) (k0_hw48 : k0_chk48 v441 v443) (k0_t90 : Fin (k0_t90_loop v441 v443).trips), ∀ a, (k0_off231 v441 v443 k0_t90) a + S2x128.size a ≤ S384x128.size a := fun v441 v443 k0_hw48 k0_t90 => k0_hw48.2.2.2.2.1 k0_t90
theorem k0_off232_inb : ∀ (v441 : BitVec 32) (v443 : BitVec 32) (k0_hw48 : k0_chk48 v441 v443) (k0_t90 : Fin (k0_t90_loop v441 v443).trips), ∀ a, (k0_off232 v441 v443 k0_t90) a + S1x2.size a ≤ S584x2.size a := fun v441 v443 k0_hw48 k0_t90 => k0_hw48.2.2.2.2.2 k0_t90

def k0_off233 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_245 : BitVec 32 := 16#32
  let v462 : BitVec 32 := Scalar.muli arg21 c16_i32_245
  let c4_i32_246 : BitVec 32 := 4#32
  let v463 : BitVec 32 := Scalar.addi v462 c4_i32_246
  let c128_i32_247 : BitVec 32 := 128#32
  let v464 : BitVec 32 := Scalar.muli v463 c128_i32_247
  ![0, v464.toNat]
@[reducible] def k0_t91_loop (v513 : BitVec 32) (v515 : BitVec 32) : Scf.Loop 32 :=
  let c1_i32_269 : BitVec 32 := 1#32
  let v516 : BitVec 32 := Scalar.addi v513 c1_i32_269
  let c0_i32_271 : BitVec 32 := 0#32
  let v518 : BitVec 1 := Scalar.cmpi .sgt v516 c0_i32_271
  let v519 : BitVec 32 := Scalar.extui v518
  let c0_i32_272 : BitVec 32 := 0#32
  let v520 : BitVec 1 := Scalar.cmpi .slt v516 c0_i32_272
  let v521 : BitVec 32 := Scalar.extui v520
  let v522 : BitVec 32 := Scalar.subi v519 v521
  let c2_i32_270 : BitVec 32 := 2#32
  let c0_i32_273 : BitVec 32 := 0#32
  let v523 : BitVec 1 := Scalar.cmpi .sgt c2_i32_270 c0_i32_273
  let v524 : BitVec 32 := Scalar.extui v523
  let c0_i32_274 : BitVec 32 := 0#32
  let v525 : BitVec 1 := Scalar.cmpi .slt c2_i32_270 c0_i32_274
  let v526 : BitVec 32 := Scalar.extui v525
  let v527 : BitVec 32 := Scalar.subi v524 v526
  let v528 : BitVec 1 := Scalar.cmpi .ne v522 v527
  let v529 : BitVec 32 := Scalar.remsi v516 c2_i32_270
  let c0_i32_275 : BitVec 32 := 0#32
  let v530 : BitVec 1 := Scalar.cmpi .ne v529 c0_i32_275
  let v531 : BitVec 1 := Scalar.andi v528 v530
  let v517 : BitVec 32 := Scalar.divsi v516 c2_i32_270
  let c1_i32_276 : BitVec 32 := 1#32
  let v532 : BitVec 32 := Scalar.subi v517 c1_i32_276
  let v533 : BitVec 32 := Scalar.select v531 v532 v517
  let c0_i32_287 : BitVec 32 := 0#32
  let c768_i32_279 : BitVec 32 := 768#32
  let v537 : BitVec 32 := Scalar.subi c768_i32_279 v515
  let c0_i32_281 : BitVec 32 := 0#32
  let v539 : BitVec 1 := Scalar.cmpi .sgt v537 c0_i32_281
  let v540 : BitVec 32 := Scalar.extui v539
  let c0_i32_282 : BitVec 32 := 0#32
  let v541 : BitVec 1 := Scalar.cmpi .slt v537 c0_i32_282
  let v542 : BitVec 32 := Scalar.extui v541
  let v543 : BitVec 32 := Scalar.subi v540 v542
  let c2_i32_280 : BitVec 32 := 2#32
  let c0_i32_283 : BitVec 32 := 0#32
  let v544 : BitVec 1 := Scalar.cmpi .sgt c2_i32_280 c0_i32_283
  let v545 : BitVec 32 := Scalar.extui v544
  let c0_i32_284 : BitVec 32 := 0#32
  let v546 : BitVec 1 := Scalar.cmpi .slt c2_i32_280 c0_i32_284
  let v547 : BitVec 32 := Scalar.extui v546
  let v548 : BitVec 32 := Scalar.subi v545 v547
  let v549 : BitVec 1 := Scalar.cmpi .ne v543 v548
  let v550 : BitVec 32 := Scalar.remsi v537 c2_i32_280
  let c0_i32_285 : BitVec 32 := 0#32
  let v551 : BitVec 1 := Scalar.cmpi .ne v550 c0_i32_285
  let v552 : BitVec 1 := Scalar.andi v549 v551
  let v538 : BitVec 32 := Scalar.divsi v537 c2_i32_280
  let c1_i32_286 : BitVec 32 := 1#32
  let v553 : BitVec 32 := Scalar.subi v538 c1_i32_286
  let v554 : BitVec 32 := Scalar.select v552 v553 v538
  let v555 : BitVec 32 := Scalar.maxsi c0_i32_287 v554
  let v556 : BitVec 32 := Scalar.minsi v533 v555
  let c0_i32_296 : BitVec 32 := 0#32
  let c1152_i32_288 : BitVec 32 := 1152#32
  let v557 : BitVec 32 := Scalar.subi c1152_i32_288 v515
  let c0_i32_290 : BitVec 32 := 0#32
  let v559 : BitVec 1 := Scalar.cmpi .sgt v557 c0_i32_290
  let v560 : BitVec 32 := Scalar.extui v559
  let c0_i32_291 : BitVec 32 := 0#32
  let v561 : BitVec 1 := Scalar.cmpi .slt v557 c0_i32_291
  let v562 : BitVec 32 := Scalar.extui v561
  let v563 : BitVec 32 := Scalar.subi v560 v562
  let c2_i32_289 : BitVec 32 := 2#32
  let c0_i32_292 : BitVec 32 := 0#32
  let v564 : BitVec 1 := Scalar.cmpi .sgt c2_i32_289 c0_i32_292
  let v565 : BitVec 32 := Scalar.extui v564
  let c0_i32_293 : BitVec 32 := 0#32
  let v566 : BitVec 1 := Scalar.cmpi .slt c2_i32_289 c0_i32_293
  let v567 : BitVec 32 := Scalar.extui v566
  let v568 : BitVec 32 := Scalar.subi v565 v567
  let v569 : BitVec 1 := Scalar.cmpi .ne v563 v568
  let v570 : BitVec 32 := Scalar.remsi v557 c2_i32_289
  let c0_i32_294 : BitVec 32 := 0#32
  let v571 : BitVec 1 := Scalar.cmpi .ne v570 c0_i32_294
  let v572 : BitVec 1 := Scalar.andi v569 v571
  let v558 : BitVec 32 := Scalar.divsi v557 c2_i32_289
  let c1_i32_295 : BitVec 32 := 1#32
  let v573 : BitVec 32 := Scalar.subi v558 c1_i32_295
  let v574 : BitVec 32 := Scalar.select v572 v573 v558
  let v575 : BitVec 32 := Scalar.maxsi c0_i32_296 v574
  let v576 : BitVec 32 := Scalar.minsi v533 v575
  let v577 : BitVec 32 := Scalar.subi v576 v556
  let c1_i32_297 : BitVec 32 := 1#32
  let v579 : BitVec 32 := Scalar.divsi v577 c1_i32_297
  let v580 : BitVec 32 := Scalar.muli v579 c1_i32_297
  let v581 : BitVec 32 := Scalar.addi v556 v580
  let c1_i32_298 : BitVec 32 := 1#32
  ⟨v556, v581, c1_i32_298⟩

def k0_off234 (v513 : BitVec 32) (v515 : BitVec 32) (k0_t91 : Fin (k0_t91_loop v513 v515).trips) : Fin 2 → Nat :=
  let c1_i32_269 : BitVec 32 := 1#32
  let v516 : BitVec 32 := Scalar.addi v513 c1_i32_269
  let c0_i32_271 : BitVec 32 := 0#32
  let v518 : BitVec 1 := Scalar.cmpi .sgt v516 c0_i32_271
  let v519 : BitVec 32 := Scalar.extui v518
  let c0_i32_272 : BitVec 32 := 0#32
  let v520 : BitVec 1 := Scalar.cmpi .slt v516 c0_i32_272
  let v521 : BitVec 32 := Scalar.extui v520
  let v522 : BitVec 32 := Scalar.subi v519 v521
  let c2_i32_270 : BitVec 32 := 2#32
  let c0_i32_273 : BitVec 32 := 0#32
  let v523 : BitVec 1 := Scalar.cmpi .sgt c2_i32_270 c0_i32_273
  let v524 : BitVec 32 := Scalar.extui v523
  let c0_i32_274 : BitVec 32 := 0#32
  let v525 : BitVec 1 := Scalar.cmpi .slt c2_i32_270 c0_i32_274
  let v526 : BitVec 32 := Scalar.extui v525
  let v527 : BitVec 32 := Scalar.subi v524 v526
  let v528 : BitVec 1 := Scalar.cmpi .ne v522 v527
  let v529 : BitVec 32 := Scalar.remsi v516 c2_i32_270
  let c0_i32_275 : BitVec 32 := 0#32
  let v530 : BitVec 1 := Scalar.cmpi .ne v529 c0_i32_275
  let v531 : BitVec 1 := Scalar.andi v528 v530
  let v517 : BitVec 32 := Scalar.divsi v516 c2_i32_270
  let c1_i32_276 : BitVec 32 := 1#32
  let v532 : BitVec 32 := Scalar.subi v517 c1_i32_276
  let v533 : BitVec 32 := Scalar.select v531 v532 v517
  let c0_i32_287 : BitVec 32 := 0#32
  let c768_i32_279 : BitVec 32 := 768#32
  let v537 : BitVec 32 := Scalar.subi c768_i32_279 v515
  let c0_i32_281 : BitVec 32 := 0#32
  let v539 : BitVec 1 := Scalar.cmpi .sgt v537 c0_i32_281
  let v540 : BitVec 32 := Scalar.extui v539
  let c0_i32_282 : BitVec 32 := 0#32
  let v541 : BitVec 1 := Scalar.cmpi .slt v537 c0_i32_282
  let v542 : BitVec 32 := Scalar.extui v541
  let v543 : BitVec 32 := Scalar.subi v540 v542
  let c2_i32_280 : BitVec 32 := 2#32
  let c0_i32_283 : BitVec 32 := 0#32
  let v544 : BitVec 1 := Scalar.cmpi .sgt c2_i32_280 c0_i32_283
  let v545 : BitVec 32 := Scalar.extui v544
  let c0_i32_284 : BitVec 32 := 0#32
  let v546 : BitVec 1 := Scalar.cmpi .slt c2_i32_280 c0_i32_284
  let v547 : BitVec 32 := Scalar.extui v546
  let v548 : BitVec 32 := Scalar.subi v545 v547
  let v549 : BitVec 1 := Scalar.cmpi .ne v543 v548
  let v550 : BitVec 32 := Scalar.remsi v537 c2_i32_280
  let c0_i32_285 : BitVec 32 := 0#32
  let v551 : BitVec 1 := Scalar.cmpi .ne v550 c0_i32_285
  let v552 : BitVec 1 := Scalar.andi v549 v551
  let v538 : BitVec 32 := Scalar.divsi v537 c2_i32_280
  let c1_i32_286 : BitVec 32 := 1#32
  let v553 : BitVec 32 := Scalar.subi v538 c1_i32_286
  let v554 : BitVec 32 := Scalar.select v552 v553 v538
  let v555 : BitVec 32 := Scalar.maxsi c0_i32_287 v554
  let v556 : BitVec 32 := Scalar.minsi v533 v555
  let c1_i32_298 : BitVec 32 := 1#32
  let arg23 : BitVec 32 := Scf.iv v556 c1_i32_298 k0_t91
  let c2_i32_612 : BitVec 32 := 2#32
  let v1306 : BitVec 32 := Scalar.muli arg23 c2_i32_612
  let v1307 : BitVec 32 := Scalar.addi v515 v1306
  let c768_i32_613 : BitVec 32 := 768#32
  let v1308 : BitVec 32 := Scalar.subi v1307 c768_i32_613
  let c0_i32_614 : BitVec 32 := 0#32
  ![v1308.toNat, 0]
def k0_off235 (v513 : BitVec 32) (v515 : BitVec 32) (k0_t91 : Fin (k0_t91_loop v513 v515).trips) : Fin 2 → Nat :=
  let c1_i32_611 : BitVec 32 := 1#32
  let v1304 : BitVec 32 := Scalar.shrsi v515 c1_i32_611
  let c1_i32_269 : BitVec 32 := 1#32
  let v516 : BitVec 32 := Scalar.addi v513 c1_i32_269
  let c0_i32_271 : BitVec 32 := 0#32
  let v518 : BitVec 1 := Scalar.cmpi .sgt v516 c0_i32_271
  let v519 : BitVec 32 := Scalar.extui v518
  let c0_i32_272 : BitVec 32 := 0#32
  let v520 : BitVec 1 := Scalar.cmpi .slt v516 c0_i32_272
  let v521 : BitVec 32 := Scalar.extui v520
  let v522 : BitVec 32 := Scalar.subi v519 v521
  let c2_i32_270 : BitVec 32 := 2#32
  let c0_i32_273 : BitVec 32 := 0#32
  let v523 : BitVec 1 := Scalar.cmpi .sgt c2_i32_270 c0_i32_273
  let v524 : BitVec 32 := Scalar.extui v523
  let c0_i32_274 : BitVec 32 := 0#32
  let v525 : BitVec 1 := Scalar.cmpi .slt c2_i32_270 c0_i32_274
  let v526 : BitVec 32 := Scalar.extui v525
  let v527 : BitVec 32 := Scalar.subi v524 v526
  let v528 : BitVec 1 := Scalar.cmpi .ne v522 v527
  let v529 : BitVec 32 := Scalar.remsi v516 c2_i32_270
  let c0_i32_275 : BitVec 32 := 0#32
  let v530 : BitVec 1 := Scalar.cmpi .ne v529 c0_i32_275
  let v531 : BitVec 1 := Scalar.andi v528 v530
  let v517 : BitVec 32 := Scalar.divsi v516 c2_i32_270
  let c1_i32_276 : BitVec 32 := 1#32
  let v532 : BitVec 32 := Scalar.subi v517 c1_i32_276
  let v533 : BitVec 32 := Scalar.select v531 v532 v517
  let c0_i32_287 : BitVec 32 := 0#32
  let c768_i32_279 : BitVec 32 := 768#32
  let v537 : BitVec 32 := Scalar.subi c768_i32_279 v515
  let c0_i32_281 : BitVec 32 := 0#32
  let v539 : BitVec 1 := Scalar.cmpi .sgt v537 c0_i32_281
  let v540 : BitVec 32 := Scalar.extui v539
  let c0_i32_282 : BitVec 32 := 0#32
  let v541 : BitVec 1 := Scalar.cmpi .slt v537 c0_i32_282
  let v542 : BitVec 32 := Scalar.extui v541
  let v543 : BitVec 32 := Scalar.subi v540 v542
  let c2_i32_280 : BitVec 32 := 2#32
  let c0_i32_283 : BitVec 32 := 0#32
  let v544 : BitVec 1 := Scalar.cmpi .sgt c2_i32_280 c0_i32_283
  let v545 : BitVec 32 := Scalar.extui v544
  let c0_i32_284 : BitVec 32 := 0#32
  let v546 : BitVec 1 := Scalar.cmpi .slt c2_i32_280 c0_i32_284
  let v547 : BitVec 32 := Scalar.extui v546
  let v548 : BitVec 32 := Scalar.subi v545 v547
  let v549 : BitVec 1 := Scalar.cmpi .ne v543 v548
  let v550 : BitVec 32 := Scalar.remsi v537 c2_i32_280
  let c0_i32_285 : BitVec 32 := 0#32
  let v551 : BitVec 1 := Scalar.cmpi .ne v550 c0_i32_285
  let v552 : BitVec 1 := Scalar.andi v549 v551
  let v538 : BitVec 32 := Scalar.divsi v537 c2_i32_280
  let c1_i32_286 : BitVec 32 := 1#32
  let v553 : BitVec 32 := Scalar.subi v538 c1_i32_286
  let v554 : BitVec 32 := Scalar.select v552 v553 v538
  let v555 : BitVec 32 := Scalar.maxsi c0_i32_287 v554
  let v556 : BitVec 32 := Scalar.minsi v533 v555
  let c1_i32_298 : BitVec 32 := 1#32
  let arg23 : BitVec 32 := Scf.iv v556 c1_i32_298 k0_t91
  let v1305 : BitVec 32 := Scalar.addi v1304 arg23
  let c0_i32_615 : BitVec 32 := 0#32
  ![v1305.toNat, 0]
def k0_off236 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_277 : BitVec 32 := 16#32
  let v534 : BitVec 32 := Scalar.muli arg21 c16_i32_277
  let c5_i32 : BitVec 32 := 5#32
  let v535 : BitVec 32 := Scalar.addi v534 c5_i32
  let c128_i32_278 : BitVec 32 := 128#32
  let v536 : BitVec 32 := Scalar.muli v535 c128_i32_278
  ![0, v536.toNat]
@[reducible] def k0_t92_loop (v513 : BitVec 32) (v515 : BitVec 32) : Scf.Loop 32 :=
  let c1_i32_269 : BitVec 32 := 1#32
  let v516 : BitVec 32 := Scalar.addi v513 c1_i32_269
  let c0_i32_271 : BitVec 32 := 0#32
  let v518 : BitVec 1 := Scalar.cmpi .sgt v516 c0_i32_271
  let v519 : BitVec 32 := Scalar.extui v518
  let c0_i32_272 : BitVec 32 := 0#32
  let v520 : BitVec 1 := Scalar.cmpi .slt v516 c0_i32_272
  let v521 : BitVec 32 := Scalar.extui v520
  let v522 : BitVec 32 := Scalar.subi v519 v521
  let c2_i32_270 : BitVec 32 := 2#32
  let c0_i32_273 : BitVec 32 := 0#32
  let v523 : BitVec 1 := Scalar.cmpi .sgt c2_i32_270 c0_i32_273
  let v524 : BitVec 32 := Scalar.extui v523
  let c0_i32_274 : BitVec 32 := 0#32
  let v525 : BitVec 1 := Scalar.cmpi .slt c2_i32_270 c0_i32_274
  let v526 : BitVec 32 := Scalar.extui v525
  let v527 : BitVec 32 := Scalar.subi v524 v526
  let v528 : BitVec 1 := Scalar.cmpi .ne v522 v527
  let v529 : BitVec 32 := Scalar.remsi v516 c2_i32_270
  let c0_i32_275 : BitVec 32 := 0#32
  let v530 : BitVec 1 := Scalar.cmpi .ne v529 c0_i32_275
  let v531 : BitVec 1 := Scalar.andi v528 v530
  let v517 : BitVec 32 := Scalar.divsi v516 c2_i32_270
  let c1_i32_276 : BitVec 32 := 1#32
  let v532 : BitVec 32 := Scalar.subi v517 c1_i32_276
  let v533 : BitVec 32 := Scalar.select v531 v532 v517
  let c0_i32_287 : BitVec 32 := 0#32
  let c768_i32_279 : BitVec 32 := 768#32
  let v537 : BitVec 32 := Scalar.subi c768_i32_279 v515
  let c0_i32_281 : BitVec 32 := 0#32
  let v539 : BitVec 1 := Scalar.cmpi .sgt v537 c0_i32_281
  let v540 : BitVec 32 := Scalar.extui v539
  let c0_i32_282 : BitVec 32 := 0#32
  let v541 : BitVec 1 := Scalar.cmpi .slt v537 c0_i32_282
  let v542 : BitVec 32 := Scalar.extui v541
  let v543 : BitVec 32 := Scalar.subi v540 v542
  let c2_i32_280 : BitVec 32 := 2#32
  let c0_i32_283 : BitVec 32 := 0#32
  let v544 : BitVec 1 := Scalar.cmpi .sgt c2_i32_280 c0_i32_283
  let v545 : BitVec 32 := Scalar.extui v544
  let c0_i32_284 : BitVec 32 := 0#32
  let v546 : BitVec 1 := Scalar.cmpi .slt c2_i32_280 c0_i32_284
  let v547 : BitVec 32 := Scalar.extui v546
  let v548 : BitVec 32 := Scalar.subi v545 v547
  let v549 : BitVec 1 := Scalar.cmpi .ne v543 v548
  let v550 : BitVec 32 := Scalar.remsi v537 c2_i32_280
  let c0_i32_285 : BitVec 32 := 0#32
  let v551 : BitVec 1 := Scalar.cmpi .ne v550 c0_i32_285
  let v552 : BitVec 1 := Scalar.andi v549 v551
  let v538 : BitVec 32 := Scalar.divsi v537 c2_i32_280
  let c1_i32_286 : BitVec 32 := 1#32
  let v553 : BitVec 32 := Scalar.subi v538 c1_i32_286
  let v554 : BitVec 32 := Scalar.select v552 v553 v538
  let v555 : BitVec 32 := Scalar.maxsi c0_i32_287 v554
  let v556 : BitVec 32 := Scalar.minsi v533 v555
  let c0_i32_296 : BitVec 32 := 0#32
  let c1152_i32_288 : BitVec 32 := 1152#32
  let v557 : BitVec 32 := Scalar.subi c1152_i32_288 v515
  let c0_i32_290 : BitVec 32 := 0#32
  let v559 : BitVec 1 := Scalar.cmpi .sgt v557 c0_i32_290
  let v560 : BitVec 32 := Scalar.extui v559
  let c0_i32_291 : BitVec 32 := 0#32
  let v561 : BitVec 1 := Scalar.cmpi .slt v557 c0_i32_291
  let v562 : BitVec 32 := Scalar.extui v561
  let v563 : BitVec 32 := Scalar.subi v560 v562
  let c2_i32_289 : BitVec 32 := 2#32
  let c0_i32_292 : BitVec 32 := 0#32
  let v564 : BitVec 1 := Scalar.cmpi .sgt c2_i32_289 c0_i32_292
  let v565 : BitVec 32 := Scalar.extui v564
  let c0_i32_293 : BitVec 32 := 0#32
  let v566 : BitVec 1 := Scalar.cmpi .slt c2_i32_289 c0_i32_293
  let v567 : BitVec 32 := Scalar.extui v566
  let v568 : BitVec 32 := Scalar.subi v565 v567
  let v569 : BitVec 1 := Scalar.cmpi .ne v563 v568
  let v570 : BitVec 32 := Scalar.remsi v557 c2_i32_289
  let c0_i32_294 : BitVec 32 := 0#32
  let v571 : BitVec 1 := Scalar.cmpi .ne v570 c0_i32_294
  let v572 : BitVec 1 := Scalar.andi v569 v571
  let v558 : BitVec 32 := Scalar.divsi v557 c2_i32_289
  let c1_i32_295 : BitVec 32 := 1#32
  let v573 : BitVec 32 := Scalar.subi v558 c1_i32_295
  let v574 : BitVec 32 := Scalar.select v572 v573 v558
  let v575 : BitVec 32 := Scalar.maxsi c0_i32_296 v574
  let v576 : BitVec 32 := Scalar.minsi v533 v575
  let v577 : BitVec 32 := Scalar.subi v576 v556
  let c1_i32_297 : BitVec 32 := 1#32
  let v579 : BitVec 32 := Scalar.divsi v577 c1_i32_297
  let v580 : BitVec 32 := Scalar.muli v579 c1_i32_297
  let v581 : BitVec 32 := Scalar.addi v556 v580
  let v578 : BitVec 32 := Scalar.addi v556 v577
  let c1_i32_299 : BitVec 32 := 1#32
  ⟨v581, v578, c1_i32_299⟩
def k0_off237 (v513 : BitVec 32) (v515 : BitVec 32) (k0_t92 : Fin (k0_t92_loop v513 v515).trips) : Fin 2 → Nat :=
  let c1_i32_269 : BitVec 32 := 1#32
  let v516 : BitVec 32 := Scalar.addi v513 c1_i32_269
  let c0_i32_271 : BitVec 32 := 0#32
  let v518 : BitVec 1 := Scalar.cmpi .sgt v516 c0_i32_271
  let v519 : BitVec 32 := Scalar.extui v518
  let c0_i32_272 : BitVec 32 := 0#32
  let v520 : BitVec 1 := Scalar.cmpi .slt v516 c0_i32_272
  let v521 : BitVec 32 := Scalar.extui v520
  let v522 : BitVec 32 := Scalar.subi v519 v521
  let c2_i32_270 : BitVec 32 := 2#32
  let c0_i32_273 : BitVec 32 := 0#32
  let v523 : BitVec 1 := Scalar.cmpi .sgt c2_i32_270 c0_i32_273
  let v524 : BitVec 32 := Scalar.extui v523
  let c0_i32_274 : BitVec 32 := 0#32
  let v525 : BitVec 1 := Scalar.cmpi .slt c2_i32_270 c0_i32_274
  let v526 : BitVec 32 := Scalar.extui v525
  let v527 : BitVec 32 := Scalar.subi v524 v526
  let v528 : BitVec 1 := Scalar.cmpi .ne v522 v527
  let v529 : BitVec 32 := Scalar.remsi v516 c2_i32_270
  let c0_i32_275 : BitVec 32 := 0#32
  let v530 : BitVec 1 := Scalar.cmpi .ne v529 c0_i32_275
  let v531 : BitVec 1 := Scalar.andi v528 v530
  let v517 : BitVec 32 := Scalar.divsi v516 c2_i32_270
  let c1_i32_276 : BitVec 32 := 1#32
  let v532 : BitVec 32 := Scalar.subi v517 c1_i32_276
  let v533 : BitVec 32 := Scalar.select v531 v532 v517
  let c0_i32_287 : BitVec 32 := 0#32
  let c768_i32_279 : BitVec 32 := 768#32
  let v537 : BitVec 32 := Scalar.subi c768_i32_279 v515
  let c0_i32_281 : BitVec 32 := 0#32
  let v539 : BitVec 1 := Scalar.cmpi .sgt v537 c0_i32_281
  let v540 : BitVec 32 := Scalar.extui v539
  let c0_i32_282 : BitVec 32 := 0#32
  let v541 : BitVec 1 := Scalar.cmpi .slt v537 c0_i32_282
  let v542 : BitVec 32 := Scalar.extui v541
  let v543 : BitVec 32 := Scalar.subi v540 v542
  let c2_i32_280 : BitVec 32 := 2#32
  let c0_i32_283 : BitVec 32 := 0#32
  let v544 : BitVec 1 := Scalar.cmpi .sgt c2_i32_280 c0_i32_283
  let v545 : BitVec 32 := Scalar.extui v544
  let c0_i32_284 : BitVec 32 := 0#32
  let v546 : BitVec 1 := Scalar.cmpi .slt c2_i32_280 c0_i32_284
  let v547 : BitVec 32 := Scalar.extui v546
  let v548 : BitVec 32 := Scalar.subi v545 v547
  let v549 : BitVec 1 := Scalar.cmpi .ne v543 v548
  let v550 : BitVec 32 := Scalar.remsi v537 c2_i32_280
  let c0_i32_285 : BitVec 32 := 0#32
  let v551 : BitVec 1 := Scalar.cmpi .ne v550 c0_i32_285
  let v552 : BitVec 1 := Scalar.andi v549 v551
  let v538 : BitVec 32 := Scalar.divsi v537 c2_i32_280
  let c1_i32_286 : BitVec 32 := 1#32
  let v553 : BitVec 32 := Scalar.subi v538 c1_i32_286
  let v554 : BitVec 32 := Scalar.select v552 v553 v538
  let v555 : BitVec 32 := Scalar.maxsi c0_i32_287 v554
  let v556 : BitVec 32 := Scalar.minsi v533 v555
  let c0_i32_296 : BitVec 32 := 0#32
  let c1152_i32_288 : BitVec 32 := 1152#32
  let v557 : BitVec 32 := Scalar.subi c1152_i32_288 v515
  let c0_i32_290 : BitVec 32 := 0#32
  let v559 : BitVec 1 := Scalar.cmpi .sgt v557 c0_i32_290
  let v560 : BitVec 32 := Scalar.extui v559
  let c0_i32_291 : BitVec 32 := 0#32
  let v561 : BitVec 1 := Scalar.cmpi .slt v557 c0_i32_291
  let v562 : BitVec 32 := Scalar.extui v561
  let v563 : BitVec 32 := Scalar.subi v560 v562
  let c2_i32_289 : BitVec 32 := 2#32
  let c0_i32_292 : BitVec 32 := 0#32
  let v564 : BitVec 1 := Scalar.cmpi .sgt c2_i32_289 c0_i32_292
  let v565 : BitVec 32 := Scalar.extui v564
  let c0_i32_293 : BitVec 32 := 0#32
  let v566 : BitVec 1 := Scalar.cmpi .slt c2_i32_289 c0_i32_293
  let v567 : BitVec 32 := Scalar.extui v566
  let v568 : BitVec 32 := Scalar.subi v565 v567
  let v569 : BitVec 1 := Scalar.cmpi .ne v563 v568
  let v570 : BitVec 32 := Scalar.remsi v557 c2_i32_289
  let c0_i32_294 : BitVec 32 := 0#32
  let v571 : BitVec 1 := Scalar.cmpi .ne v570 c0_i32_294
  let v572 : BitVec 1 := Scalar.andi v569 v571
  let v558 : BitVec 32 := Scalar.divsi v557 c2_i32_289
  let c1_i32_295 : BitVec 32 := 1#32
  let v573 : BitVec 32 := Scalar.subi v558 c1_i32_295
  let v574 : BitVec 32 := Scalar.select v572 v573 v558
  let v575 : BitVec 32 := Scalar.maxsi c0_i32_296 v574
  let v576 : BitVec 32 := Scalar.minsi v533 v575
  let v577 : BitVec 32 := Scalar.subi v576 v556
  let c1_i32_297 : BitVec 32 := 1#32
  let v579 : BitVec 32 := Scalar.divsi v577 c1_i32_297
  let v580 : BitVec 32 := Scalar.muli v579 c1_i32_297
  let v581 : BitVec 32 := Scalar.addi v556 v580
  let c1_i32_299 : BitVec 32 := 1#32
  let arg23 : BitVec 32 := Scf.iv v581 c1_i32_299 k0_t92
  let c2_i32_612 : BitVec 32 := 2#32
  let v1306 : BitVec 32 := Scalar.muli arg23 c2_i32_612
  let v1307 : BitVec 32 := Scalar.addi v515 v1306
  let c768_i32_613 : BitVec 32 := 768#32
  let v1308 : BitVec 32 := Scalar.subi v1307 c768_i32_613
  let c0_i32_614 : BitVec 32 := 0#32
  ![v1308.toNat, 0]
def k0_off238 (v513 : BitVec 32) (v515 : BitVec 32) (k0_t92 : Fin (k0_t92_loop v513 v515).trips) : Fin 2 → Nat :=
  let c1_i32_611 : BitVec 32 := 1#32
  let v1304 : BitVec 32 := Scalar.shrsi v515 c1_i32_611
  let c1_i32_269 : BitVec 32 := 1#32
  let v516 : BitVec 32 := Scalar.addi v513 c1_i32_269
  let c0_i32_271 : BitVec 32 := 0#32
  let v518 : BitVec 1 := Scalar.cmpi .sgt v516 c0_i32_271
  let v519 : BitVec 32 := Scalar.extui v518
  let c0_i32_272 : BitVec 32 := 0#32
  let v520 : BitVec 1 := Scalar.cmpi .slt v516 c0_i32_272
  let v521 : BitVec 32 := Scalar.extui v520
  let v522 : BitVec 32 := Scalar.subi v519 v521
  let c2_i32_270 : BitVec 32 := 2#32
  let c0_i32_273 : BitVec 32 := 0#32
  let v523 : BitVec 1 := Scalar.cmpi .sgt c2_i32_270 c0_i32_273
  let v524 : BitVec 32 := Scalar.extui v523
  let c0_i32_274 : BitVec 32 := 0#32
  let v525 : BitVec 1 := Scalar.cmpi .slt c2_i32_270 c0_i32_274
  let v526 : BitVec 32 := Scalar.extui v525
  let v527 : BitVec 32 := Scalar.subi v524 v526
  let v528 : BitVec 1 := Scalar.cmpi .ne v522 v527
  let v529 : BitVec 32 := Scalar.remsi v516 c2_i32_270
  let c0_i32_275 : BitVec 32 := 0#32
  let v530 : BitVec 1 := Scalar.cmpi .ne v529 c0_i32_275
  let v531 : BitVec 1 := Scalar.andi v528 v530
  let v517 : BitVec 32 := Scalar.divsi v516 c2_i32_270
  let c1_i32_276 : BitVec 32 := 1#32
  let v532 : BitVec 32 := Scalar.subi v517 c1_i32_276
  let v533 : BitVec 32 := Scalar.select v531 v532 v517
  let c0_i32_287 : BitVec 32 := 0#32
  let c768_i32_279 : BitVec 32 := 768#32
  let v537 : BitVec 32 := Scalar.subi c768_i32_279 v515
  let c0_i32_281 : BitVec 32 := 0#32
  let v539 : BitVec 1 := Scalar.cmpi .sgt v537 c0_i32_281
  let v540 : BitVec 32 := Scalar.extui v539
  let c0_i32_282 : BitVec 32 := 0#32
  let v541 : BitVec 1 := Scalar.cmpi .slt v537 c0_i32_282
  let v542 : BitVec 32 := Scalar.extui v541
  let v543 : BitVec 32 := Scalar.subi v540 v542
  let c2_i32_280 : BitVec 32 := 2#32
  let c0_i32_283 : BitVec 32 := 0#32
  let v544 : BitVec 1 := Scalar.cmpi .sgt c2_i32_280 c0_i32_283
  let v545 : BitVec 32 := Scalar.extui v544
  let c0_i32_284 : BitVec 32 := 0#32
  let v546 : BitVec 1 := Scalar.cmpi .slt c2_i32_280 c0_i32_284
  let v547 : BitVec 32 := Scalar.extui v546
  let v548 : BitVec 32 := Scalar.subi v545 v547
  let v549 : BitVec 1 := Scalar.cmpi .ne v543 v548
  let v550 : BitVec 32 := Scalar.remsi v537 c2_i32_280
  let c0_i32_285 : BitVec 32 := 0#32
  let v551 : BitVec 1 := Scalar.cmpi .ne v550 c0_i32_285
  let v552 : BitVec 1 := Scalar.andi v549 v551
  let v538 : BitVec 32 := Scalar.divsi v537 c2_i32_280
  let c1_i32_286 : BitVec 32 := 1#32
  let v553 : BitVec 32 := Scalar.subi v538 c1_i32_286
  let v554 : BitVec 32 := Scalar.select v552 v553 v538
  let v555 : BitVec 32 := Scalar.maxsi c0_i32_287 v554
  let v556 : BitVec 32 := Scalar.minsi v533 v555
  let c0_i32_296 : BitVec 32 := 0#32
  let c1152_i32_288 : BitVec 32 := 1152#32
  let v557 : BitVec 32 := Scalar.subi c1152_i32_288 v515
  let c0_i32_290 : BitVec 32 := 0#32
  let v559 : BitVec 1 := Scalar.cmpi .sgt v557 c0_i32_290
  let v560 : BitVec 32 := Scalar.extui v559
  let c0_i32_291 : BitVec 32 := 0#32
  let v561 : BitVec 1 := Scalar.cmpi .slt v557 c0_i32_291
  let v562 : BitVec 32 := Scalar.extui v561
  let v563 : BitVec 32 := Scalar.subi v560 v562
  let c2_i32_289 : BitVec 32 := 2#32
  let c0_i32_292 : BitVec 32 := 0#32
  let v564 : BitVec 1 := Scalar.cmpi .sgt c2_i32_289 c0_i32_292
  let v565 : BitVec 32 := Scalar.extui v564
  let c0_i32_293 : BitVec 32 := 0#32
  let v566 : BitVec 1 := Scalar.cmpi .slt c2_i32_289 c0_i32_293
  let v567 : BitVec 32 := Scalar.extui v566
  let v568 : BitVec 32 := Scalar.subi v565 v567
  let v569 : BitVec 1 := Scalar.cmpi .ne v563 v568
  let v570 : BitVec 32 := Scalar.remsi v557 c2_i32_289
  let c0_i32_294 : BitVec 32 := 0#32
  let v571 : BitVec 1 := Scalar.cmpi .ne v570 c0_i32_294
  let v572 : BitVec 1 := Scalar.andi v569 v571
  let v558 : BitVec 32 := Scalar.divsi v557 c2_i32_289
  let c1_i32_295 : BitVec 32 := 1#32
  let v573 : BitVec 32 := Scalar.subi v558 c1_i32_295
  let v574 : BitVec 32 := Scalar.select v572 v573 v558
  let v575 : BitVec 32 := Scalar.maxsi c0_i32_296 v574
  let v576 : BitVec 32 := Scalar.minsi v533 v575
  let v577 : BitVec 32 := Scalar.subi v576 v556
  let c1_i32_297 : BitVec 32 := 1#32
  let v579 : BitVec 32 := Scalar.divsi v577 c1_i32_297
  let v580 : BitVec 32 := Scalar.muli v579 c1_i32_297
  let v581 : BitVec 32 := Scalar.addi v556 v580
  let c1_i32_299 : BitVec 32 := 1#32
  let arg23 : BitVec 32 := Scf.iv v581 c1_i32_299 k0_t92
  let v1305 : BitVec 32 := Scalar.addi v1304 arg23
  let c0_i32_615 : BitVec 32 := 0#32
  ![v1305.toNat, 0]

def k0_chk49 (v513 : BitVec 32) (v515 : BitVec 32) : Prop :=
  ((k0_t91_loop v513 v515).OK) ∧
  (∀ k0_t91 : Fin (k0_t91_loop v513 v515).trips, ∀ a, (k0_off234 v513 v515 k0_t91) a + S2x128.size a ≤ S384x128.size a) ∧
  (∀ k0_t91 : Fin (k0_t91_loop v513 v515).trips, ∀ a, (k0_off235 v513 v515 k0_t91) a + S1x2.size a ≤ S584x2.size a) ∧
  ((k0_t92_loop v513 v515).OK) ∧
  (∀ k0_t92 : Fin (k0_t92_loop v513 v515).trips, ∀ a, (k0_off237 v513 v515 k0_t92) a + S2x128.size a ≤ S384x128.size a) ∧
  (∀ k0_t92 : Fin (k0_t92_loop v513 v515).trips, ∀ a, (k0_off238 v513 v515 k0_t92) a + S1x2.size a ≤ S584x2.size a)
theorem k0_t91_ok : ∀ (v513 : BitVec 32) (v515 : BitVec 32) (k0_hw49 : k0_chk49 v513 v515), (k0_t91_loop v513 v515).OK := fun v513 v515 k0_hw49 => k0_hw49.1
theorem k0_off234_inb : ∀ (v513 : BitVec 32) (v515 : BitVec 32) (k0_hw49 : k0_chk49 v513 v515) (k0_t91 : Fin (k0_t91_loop v513 v515).trips), ∀ a, (k0_off234 v513 v515 k0_t91) a + S2x128.size a ≤ S384x128.size a := fun v513 v515 k0_hw49 k0_t91 => k0_hw49.2.1 k0_t91
theorem k0_off235_inb : ∀ (v513 : BitVec 32) (v515 : BitVec 32) (k0_hw49 : k0_chk49 v513 v515) (k0_t91 : Fin (k0_t91_loop v513 v515).trips), ∀ a, (k0_off235 v513 v515 k0_t91) a + S1x2.size a ≤ S584x2.size a := fun v513 v515 k0_hw49 k0_t91 => k0_hw49.2.2.1 k0_t91
theorem k0_t92_ok : ∀ (v513 : BitVec 32) (v515 : BitVec 32) (k0_hw49 : k0_chk49 v513 v515), (k0_t92_loop v513 v515).OK := fun v513 v515 k0_hw49 => k0_hw49.2.2.2.1
theorem k0_off237_inb : ∀ (v513 : BitVec 32) (v515 : BitVec 32) (k0_hw49 : k0_chk49 v513 v515) (k0_t92 : Fin (k0_t92_loop v513 v515).trips), ∀ a, (k0_off237 v513 v515 k0_t92) a + S2x128.size a ≤ S384x128.size a := fun v513 v515 k0_hw49 k0_t92 => k0_hw49.2.2.2.2.1 k0_t92
theorem k0_off238_inb : ∀ (v513 : BitVec 32) (v515 : BitVec 32) (k0_hw49 : k0_chk49 v513 v515) (k0_t92 : Fin (k0_t92_loop v513 v515).trips), ∀ a, (k0_off238 v513 v515 k0_t92) a + S1x2.size a ≤ S584x2.size a := fun v513 v515 k0_hw49 k0_t92 => k0_hw49.2.2.2.2.2 k0_t92

def k0_off239 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_277 : BitVec 32 := 16#32
  let v534 : BitVec 32 := Scalar.muli arg21 c16_i32_277
  let c5_i32 : BitVec 32 := 5#32
  let v535 : BitVec 32 := Scalar.addi v534 c5_i32
  let c128_i32_278 : BitVec 32 := 128#32
  let v536 : BitVec 32 := Scalar.muli v535 c128_i32_278
  ![0, v536.toNat]
@[reducible] def k0_t93_loop (v585 : BitVec 32) (v587 : BitVec 32) : Scf.Loop 32 :=
  let c1_i32_300 : BitVec 32 := 1#32
  let v588 : BitVec 32 := Scalar.addi v585 c1_i32_300
  let c0_i32_302 : BitVec 32 := 0#32
  let v590 : BitVec 1 := Scalar.cmpi .sgt v588 c0_i32_302
  let v591 : BitVec 32 := Scalar.extui v590
  let c0_i32_303 : BitVec 32 := 0#32
  let v592 : BitVec 1 := Scalar.cmpi .slt v588 c0_i32_303
  let v593 : BitVec 32 := Scalar.extui v592
  let v594 : BitVec 32 := Scalar.subi v591 v593
  let c2_i32_301 : BitVec 32 := 2#32
  let c0_i32_304 : BitVec 32 := 0#32
  let v595 : BitVec 1 := Scalar.cmpi .sgt c2_i32_301 c0_i32_304
  let v596 : BitVec 32 := Scalar.extui v595
  let c0_i32_305 : BitVec 32 := 0#32
  let v597 : BitVec 1 := Scalar.cmpi .slt c2_i32_301 c0_i32_305
  let v598 : BitVec 32 := Scalar.extui v597
  let v599 : BitVec 32 := Scalar.subi v596 v598
  let v600 : BitVec 1 := Scalar.cmpi .ne v594 v599
  let v601 : BitVec 32 := Scalar.remsi v588 c2_i32_301
  let c0_i32_306 : BitVec 32 := 0#32
  let v602 : BitVec 1 := Scalar.cmpi .ne v601 c0_i32_306
  let v603 : BitVec 1 := Scalar.andi v600 v602
  let v589 : BitVec 32 := Scalar.divsi v588 c2_i32_301
  let c1_i32_307 : BitVec 32 := 1#32
  let v604 : BitVec 32 := Scalar.subi v589 c1_i32_307
  let v605 : BitVec 32 := Scalar.select v603 v604 v589
  let c0_i32_318 : BitVec 32 := 0#32
  let c768_i32_310 : BitVec 32 := 768#32
  let v609 : BitVec 32 := Scalar.subi c768_i32_310 v587
  let c0_i32_312 : BitVec 32 := 0#32
  let v611 : BitVec 1 := Scalar.cmpi .sgt v609 c0_i32_312
  let v612 : BitVec 32 := Scalar.extui v611
  let c0_i32_313 : BitVec 32 := 0#32
  let v613 : BitVec 1 := Scalar.cmpi .slt v609 c0_i32_313
  let v614 : BitVec 32 := Scalar.extui v613
  let v615 : BitVec 32 := Scalar.subi v612 v614
  let c2_i32_311 : BitVec 32 := 2#32
  let c0_i32_314 : BitVec 32 := 0#32
  let v616 : BitVec 1 := Scalar.cmpi .sgt c2_i32_311 c0_i32_314
  let v617 : BitVec 32 := Scalar.extui v616
  let c0_i32_315 : BitVec 32 := 0#32
  let v618 : BitVec 1 := Scalar.cmpi .slt c2_i32_311 c0_i32_315
  let v619 : BitVec 32 := Scalar.extui v618
  let v620 : BitVec 32 := Scalar.subi v617 v619
  let v621 : BitVec 1 := Scalar.cmpi .ne v615 v620
  let v622 : BitVec 32 := Scalar.remsi v609 c2_i32_311
  let c0_i32_316 : BitVec 32 := 0#32
  let v623 : BitVec 1 := Scalar.cmpi .ne v622 c0_i32_316
  let v624 : BitVec 1 := Scalar.andi v621 v623
  let v610 : BitVec 32 := Scalar.divsi v609 c2_i32_311
  let c1_i32_317 : BitVec 32 := 1#32
  let v625 : BitVec 32 := Scalar.subi v610 c1_i32_317
  let v626 : BitVec 32 := Scalar.select v624 v625 v610
  let v627 : BitVec 32 := Scalar.maxsi c0_i32_318 v626
  let v628 : BitVec 32 := Scalar.minsi v605 v627
  let c0_i32_327 : BitVec 32 := 0#32
  let c1152_i32_319 : BitVec 32 := 1152#32
  let v629 : BitVec 32 := Scalar.subi c1152_i32_319 v587
  let c0_i32_321 : BitVec 32 := 0#32
  let v631 : BitVec 1 := Scalar.cmpi .sgt v629 c0_i32_321
  let v632 : BitVec 32 := Scalar.extui v631
  let c0_i32_322 : BitVec 32 := 0#32
  let v633 : BitVec 1 := Scalar.cmpi .slt v629 c0_i32_322
  let v634 : BitVec 32 := Scalar.extui v633
  let v635 : BitVec 32 := Scalar.subi v632 v634
  let c2_i32_320 : BitVec 32 := 2#32
  let c0_i32_323 : BitVec 32 := 0#32
  let v636 : BitVec 1 := Scalar.cmpi .sgt c2_i32_320 c0_i32_323
  let v637 : BitVec 32 := Scalar.extui v636
  let c0_i32_324 : BitVec 32 := 0#32
  let v638 : BitVec 1 := Scalar.cmpi .slt c2_i32_320 c0_i32_324
  let v639 : BitVec 32 := Scalar.extui v638
  let v640 : BitVec 32 := Scalar.subi v637 v639
  let v641 : BitVec 1 := Scalar.cmpi .ne v635 v640
  let v642 : BitVec 32 := Scalar.remsi v629 c2_i32_320
  let c0_i32_325 : BitVec 32 := 0#32
  let v643 : BitVec 1 := Scalar.cmpi .ne v642 c0_i32_325
  let v644 : BitVec 1 := Scalar.andi v641 v643
  let v630 : BitVec 32 := Scalar.divsi v629 c2_i32_320
  let c1_i32_326 : BitVec 32 := 1#32
  let v645 : BitVec 32 := Scalar.subi v630 c1_i32_326
  let v646 : BitVec 32 := Scalar.select v644 v645 v630
  let v647 : BitVec 32 := Scalar.maxsi c0_i32_327 v646
  let v648 : BitVec 32 := Scalar.minsi v605 v647
  let v649 : BitVec 32 := Scalar.subi v648 v628
  let c1_i32_328 : BitVec 32 := 1#32
  let v651 : BitVec 32 := Scalar.divsi v649 c1_i32_328
  let v652 : BitVec 32 := Scalar.muli v651 c1_i32_328
  let v653 : BitVec 32 := Scalar.addi v628 v652
  let c1_i32_329 : BitVec 32 := 1#32
  ⟨v628, v653, c1_i32_329⟩

def k0_off240 (v585 : BitVec 32) (v587 : BitVec 32) (k0_t93 : Fin (k0_t93_loop v585 v587).trips) : Fin 2 → Nat :=
  let c1_i32_300 : BitVec 32 := 1#32
  let v588 : BitVec 32 := Scalar.addi v585 c1_i32_300
  let c0_i32_302 : BitVec 32 := 0#32
  let v590 : BitVec 1 := Scalar.cmpi .sgt v588 c0_i32_302
  let v591 : BitVec 32 := Scalar.extui v590
  let c0_i32_303 : BitVec 32 := 0#32
  let v592 : BitVec 1 := Scalar.cmpi .slt v588 c0_i32_303
  let v593 : BitVec 32 := Scalar.extui v592
  let v594 : BitVec 32 := Scalar.subi v591 v593
  let c2_i32_301 : BitVec 32 := 2#32
  let c0_i32_304 : BitVec 32 := 0#32
  let v595 : BitVec 1 := Scalar.cmpi .sgt c2_i32_301 c0_i32_304
  let v596 : BitVec 32 := Scalar.extui v595
  let c0_i32_305 : BitVec 32 := 0#32
  let v597 : BitVec 1 := Scalar.cmpi .slt c2_i32_301 c0_i32_305
  let v598 : BitVec 32 := Scalar.extui v597
  let v599 : BitVec 32 := Scalar.subi v596 v598
  let v600 : BitVec 1 := Scalar.cmpi .ne v594 v599
  let v601 : BitVec 32 := Scalar.remsi v588 c2_i32_301
  let c0_i32_306 : BitVec 32 := 0#32
  let v602 : BitVec 1 := Scalar.cmpi .ne v601 c0_i32_306
  let v603 : BitVec 1 := Scalar.andi v600 v602
  let v589 : BitVec 32 := Scalar.divsi v588 c2_i32_301
  let c1_i32_307 : BitVec 32 := 1#32
  let v604 : BitVec 32 := Scalar.subi v589 c1_i32_307
  let v605 : BitVec 32 := Scalar.select v603 v604 v589
  let c0_i32_318 : BitVec 32 := 0#32
  let c768_i32_310 : BitVec 32 := 768#32
  let v609 : BitVec 32 := Scalar.subi c768_i32_310 v587
  let c0_i32_312 : BitVec 32 := 0#32
  let v611 : BitVec 1 := Scalar.cmpi .sgt v609 c0_i32_312
  let v612 : BitVec 32 := Scalar.extui v611
  let c0_i32_313 : BitVec 32 := 0#32
  let v613 : BitVec 1 := Scalar.cmpi .slt v609 c0_i32_313
  let v614 : BitVec 32 := Scalar.extui v613
  let v615 : BitVec 32 := Scalar.subi v612 v614
  let c2_i32_311 : BitVec 32 := 2#32
  let c0_i32_314 : BitVec 32 := 0#32
  let v616 : BitVec 1 := Scalar.cmpi .sgt c2_i32_311 c0_i32_314
  let v617 : BitVec 32 := Scalar.extui v616
  let c0_i32_315 : BitVec 32 := 0#32
  let v618 : BitVec 1 := Scalar.cmpi .slt c2_i32_311 c0_i32_315
  let v619 : BitVec 32 := Scalar.extui v618
  let v620 : BitVec 32 := Scalar.subi v617 v619
  let v621 : BitVec 1 := Scalar.cmpi .ne v615 v620
  let v622 : BitVec 32 := Scalar.remsi v609 c2_i32_311
  let c0_i32_316 : BitVec 32 := 0#32
  let v623 : BitVec 1 := Scalar.cmpi .ne v622 c0_i32_316
  let v624 : BitVec 1 := Scalar.andi v621 v623
  let v610 : BitVec 32 := Scalar.divsi v609 c2_i32_311
  let c1_i32_317 : BitVec 32 := 1#32
  let v625 : BitVec 32 := Scalar.subi v610 c1_i32_317
  let v626 : BitVec 32 := Scalar.select v624 v625 v610
  let v627 : BitVec 32 := Scalar.maxsi c0_i32_318 v626
  let v628 : BitVec 32 := Scalar.minsi v605 v627
  let c1_i32_329 : BitVec 32 := 1#32
  let arg23 : BitVec 32 := Scf.iv v628 c1_i32_329 k0_t93
  let c2_i32_612 : BitVec 32 := 2#32
  let v1306 : BitVec 32 := Scalar.muli arg23 c2_i32_612
  let v1307 : BitVec 32 := Scalar.addi v587 v1306
  let c768_i32_613 : BitVec 32 := 768#32
  let v1308 : BitVec 32 := Scalar.subi v1307 c768_i32_613
  let c0_i32_614 : BitVec 32 := 0#32
  ![v1308.toNat, 0]
def k0_off241 (v585 : BitVec 32) (v587 : BitVec 32) (k0_t93 : Fin (k0_t93_loop v585 v587).trips) : Fin 2 → Nat :=
  let c1_i32_611 : BitVec 32 := 1#32
  let v1304 : BitVec 32 := Scalar.shrsi v587 c1_i32_611
  let c1_i32_300 : BitVec 32 := 1#32
  let v588 : BitVec 32 := Scalar.addi v585 c1_i32_300
  let c0_i32_302 : BitVec 32 := 0#32
  let v590 : BitVec 1 := Scalar.cmpi .sgt v588 c0_i32_302
  let v591 : BitVec 32 := Scalar.extui v590
  let c0_i32_303 : BitVec 32 := 0#32
  let v592 : BitVec 1 := Scalar.cmpi .slt v588 c0_i32_303
  let v593 : BitVec 32 := Scalar.extui v592
  let v594 : BitVec 32 := Scalar.subi v591 v593
  let c2_i32_301 : BitVec 32 := 2#32
  let c0_i32_304 : BitVec 32 := 0#32
  let v595 : BitVec 1 := Scalar.cmpi .sgt c2_i32_301 c0_i32_304
  let v596 : BitVec 32 := Scalar.extui v595
  let c0_i32_305 : BitVec 32 := 0#32
  let v597 : BitVec 1 := Scalar.cmpi .slt c2_i32_301 c0_i32_305
  let v598 : BitVec 32 := Scalar.extui v597
  let v599 : BitVec 32 := Scalar.subi v596 v598
  let v600 : BitVec 1 := Scalar.cmpi .ne v594 v599
  let v601 : BitVec 32 := Scalar.remsi v588 c2_i32_301
  let c0_i32_306 : BitVec 32 := 0#32
  let v602 : BitVec 1 := Scalar.cmpi .ne v601 c0_i32_306
  let v603 : BitVec 1 := Scalar.andi v600 v602
  let v589 : BitVec 32 := Scalar.divsi v588 c2_i32_301
  let c1_i32_307 : BitVec 32 := 1#32
  let v604 : BitVec 32 := Scalar.subi v589 c1_i32_307
  let v605 : BitVec 32 := Scalar.select v603 v604 v589
  let c0_i32_318 : BitVec 32 := 0#32
  let c768_i32_310 : BitVec 32 := 768#32
  let v609 : BitVec 32 := Scalar.subi c768_i32_310 v587
  let c0_i32_312 : BitVec 32 := 0#32
  let v611 : BitVec 1 := Scalar.cmpi .sgt v609 c0_i32_312
  let v612 : BitVec 32 := Scalar.extui v611
  let c0_i32_313 : BitVec 32 := 0#32
  let v613 : BitVec 1 := Scalar.cmpi .slt v609 c0_i32_313
  let v614 : BitVec 32 := Scalar.extui v613
  let v615 : BitVec 32 := Scalar.subi v612 v614
  let c2_i32_311 : BitVec 32 := 2#32
  let c0_i32_314 : BitVec 32 := 0#32
  let v616 : BitVec 1 := Scalar.cmpi .sgt c2_i32_311 c0_i32_314
  let v617 : BitVec 32 := Scalar.extui v616
  let c0_i32_315 : BitVec 32 := 0#32
  let v618 : BitVec 1 := Scalar.cmpi .slt c2_i32_311 c0_i32_315
  let v619 : BitVec 32 := Scalar.extui v618
  let v620 : BitVec 32 := Scalar.subi v617 v619
  let v621 : BitVec 1 := Scalar.cmpi .ne v615 v620
  let v622 : BitVec 32 := Scalar.remsi v609 c2_i32_311
  let c0_i32_316 : BitVec 32 := 0#32
  let v623 : BitVec 1 := Scalar.cmpi .ne v622 c0_i32_316
  let v624 : BitVec 1 := Scalar.andi v621 v623
  let v610 : BitVec 32 := Scalar.divsi v609 c2_i32_311
  let c1_i32_317 : BitVec 32 := 1#32
  let v625 : BitVec 32 := Scalar.subi v610 c1_i32_317
  let v626 : BitVec 32 := Scalar.select v624 v625 v610
  let v627 : BitVec 32 := Scalar.maxsi c0_i32_318 v626
  let v628 : BitVec 32 := Scalar.minsi v605 v627
  let c1_i32_329 : BitVec 32 := 1#32
  let arg23 : BitVec 32 := Scf.iv v628 c1_i32_329 k0_t93
  let v1305 : BitVec 32 := Scalar.addi v1304 arg23
  let c0_i32_615 : BitVec 32 := 0#32
  ![v1305.toNat, 0]
def k0_off242 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_308 : BitVec 32 := 16#32
  let v606 : BitVec 32 := Scalar.muli arg21 c16_i32_308
  let c6_i32 : BitVec 32 := 6#32
  let v607 : BitVec 32 := Scalar.addi v606 c6_i32
  let c128_i32_309 : BitVec 32 := 128#32
  let v608 : BitVec 32 := Scalar.muli v607 c128_i32_309
  ![0, v608.toNat]
@[reducible] def k0_t94_loop (v585 : BitVec 32) (v587 : BitVec 32) : Scf.Loop 32 :=
  let c1_i32_300 : BitVec 32 := 1#32
  let v588 : BitVec 32 := Scalar.addi v585 c1_i32_300
  let c0_i32_302 : BitVec 32 := 0#32
  let v590 : BitVec 1 := Scalar.cmpi .sgt v588 c0_i32_302
  let v591 : BitVec 32 := Scalar.extui v590
  let c0_i32_303 : BitVec 32 := 0#32
  let v592 : BitVec 1 := Scalar.cmpi .slt v588 c0_i32_303
  let v593 : BitVec 32 := Scalar.extui v592
  let v594 : BitVec 32 := Scalar.subi v591 v593
  let c2_i32_301 : BitVec 32 := 2#32
  let c0_i32_304 : BitVec 32 := 0#32
  let v595 : BitVec 1 := Scalar.cmpi .sgt c2_i32_301 c0_i32_304
  let v596 : BitVec 32 := Scalar.extui v595
  let c0_i32_305 : BitVec 32 := 0#32
  let v597 : BitVec 1 := Scalar.cmpi .slt c2_i32_301 c0_i32_305
  let v598 : BitVec 32 := Scalar.extui v597
  let v599 : BitVec 32 := Scalar.subi v596 v598
  let v600 : BitVec 1 := Scalar.cmpi .ne v594 v599
  let v601 : BitVec 32 := Scalar.remsi v588 c2_i32_301
  let c0_i32_306 : BitVec 32 := 0#32
  let v602 : BitVec 1 := Scalar.cmpi .ne v601 c0_i32_306
  let v603 : BitVec 1 := Scalar.andi v600 v602
  let v589 : BitVec 32 := Scalar.divsi v588 c2_i32_301
  let c1_i32_307 : BitVec 32 := 1#32
  let v604 : BitVec 32 := Scalar.subi v589 c1_i32_307
  let v605 : BitVec 32 := Scalar.select v603 v604 v589
  let c0_i32_318 : BitVec 32 := 0#32
  let c768_i32_310 : BitVec 32 := 768#32
  let v609 : BitVec 32 := Scalar.subi c768_i32_310 v587
  let c0_i32_312 : BitVec 32 := 0#32
  let v611 : BitVec 1 := Scalar.cmpi .sgt v609 c0_i32_312
  let v612 : BitVec 32 := Scalar.extui v611
  let c0_i32_313 : BitVec 32 := 0#32
  let v613 : BitVec 1 := Scalar.cmpi .slt v609 c0_i32_313
  let v614 : BitVec 32 := Scalar.extui v613
  let v615 : BitVec 32 := Scalar.subi v612 v614
  let c2_i32_311 : BitVec 32 := 2#32
  let c0_i32_314 : BitVec 32 := 0#32
  let v616 : BitVec 1 := Scalar.cmpi .sgt c2_i32_311 c0_i32_314
  let v617 : BitVec 32 := Scalar.extui v616
  let c0_i32_315 : BitVec 32 := 0#32
  let v618 : BitVec 1 := Scalar.cmpi .slt c2_i32_311 c0_i32_315
  let v619 : BitVec 32 := Scalar.extui v618
  let v620 : BitVec 32 := Scalar.subi v617 v619
  let v621 : BitVec 1 := Scalar.cmpi .ne v615 v620
  let v622 : BitVec 32 := Scalar.remsi v609 c2_i32_311
  let c0_i32_316 : BitVec 32 := 0#32
  let v623 : BitVec 1 := Scalar.cmpi .ne v622 c0_i32_316
  let v624 : BitVec 1 := Scalar.andi v621 v623
  let v610 : BitVec 32 := Scalar.divsi v609 c2_i32_311
  let c1_i32_317 : BitVec 32 := 1#32
  let v625 : BitVec 32 := Scalar.subi v610 c1_i32_317
  let v626 : BitVec 32 := Scalar.select v624 v625 v610
  let v627 : BitVec 32 := Scalar.maxsi c0_i32_318 v626
  let v628 : BitVec 32 := Scalar.minsi v605 v627
  let c0_i32_327 : BitVec 32 := 0#32
  let c1152_i32_319 : BitVec 32 := 1152#32
  let v629 : BitVec 32 := Scalar.subi c1152_i32_319 v587
  let c0_i32_321 : BitVec 32 := 0#32
  let v631 : BitVec 1 := Scalar.cmpi .sgt v629 c0_i32_321
  let v632 : BitVec 32 := Scalar.extui v631
  let c0_i32_322 : BitVec 32 := 0#32
  let v633 : BitVec 1 := Scalar.cmpi .slt v629 c0_i32_322
  let v634 : BitVec 32 := Scalar.extui v633
  let v635 : BitVec 32 := Scalar.subi v632 v634
  let c2_i32_320 : BitVec 32 := 2#32
  let c0_i32_323 : BitVec 32 := 0#32
  let v636 : BitVec 1 := Scalar.cmpi .sgt c2_i32_320 c0_i32_323
  let v637 : BitVec 32 := Scalar.extui v636
  let c0_i32_324 : BitVec 32 := 0#32
  let v638 : BitVec 1 := Scalar.cmpi .slt c2_i32_320 c0_i32_324
  let v639 : BitVec 32 := Scalar.extui v638
  let v640 : BitVec 32 := Scalar.subi v637 v639
  let v641 : BitVec 1 := Scalar.cmpi .ne v635 v640
  let v642 : BitVec 32 := Scalar.remsi v629 c2_i32_320
  let c0_i32_325 : BitVec 32 := 0#32
  let v643 : BitVec 1 := Scalar.cmpi .ne v642 c0_i32_325
  let v644 : BitVec 1 := Scalar.andi v641 v643
  let v630 : BitVec 32 := Scalar.divsi v629 c2_i32_320
  let c1_i32_326 : BitVec 32 := 1#32
  let v645 : BitVec 32 := Scalar.subi v630 c1_i32_326
  let v646 : BitVec 32 := Scalar.select v644 v645 v630
  let v647 : BitVec 32 := Scalar.maxsi c0_i32_327 v646
  let v648 : BitVec 32 := Scalar.minsi v605 v647
  let v649 : BitVec 32 := Scalar.subi v648 v628
  let c1_i32_328 : BitVec 32 := 1#32
  let v651 : BitVec 32 := Scalar.divsi v649 c1_i32_328
  let v652 : BitVec 32 := Scalar.muli v651 c1_i32_328
  let v653 : BitVec 32 := Scalar.addi v628 v652
  let v650 : BitVec 32 := Scalar.addi v628 v649
  let c1_i32_330 : BitVec 32 := 1#32
  ⟨v653, v650, c1_i32_330⟩
def k0_off243 (v585 : BitVec 32) (v587 : BitVec 32) (k0_t94 : Fin (k0_t94_loop v585 v587).trips) : Fin 2 → Nat :=
  let c1_i32_300 : BitVec 32 := 1#32
  let v588 : BitVec 32 := Scalar.addi v585 c1_i32_300
  let c0_i32_302 : BitVec 32 := 0#32
  let v590 : BitVec 1 := Scalar.cmpi .sgt v588 c0_i32_302
  let v591 : BitVec 32 := Scalar.extui v590
  let c0_i32_303 : BitVec 32 := 0#32
  let v592 : BitVec 1 := Scalar.cmpi .slt v588 c0_i32_303
  let v593 : BitVec 32 := Scalar.extui v592
  let v594 : BitVec 32 := Scalar.subi v591 v593
  let c2_i32_301 : BitVec 32 := 2#32
  let c0_i32_304 : BitVec 32 := 0#32
  let v595 : BitVec 1 := Scalar.cmpi .sgt c2_i32_301 c0_i32_304
  let v596 : BitVec 32 := Scalar.extui v595
  let c0_i32_305 : BitVec 32 := 0#32
  let v597 : BitVec 1 := Scalar.cmpi .slt c2_i32_301 c0_i32_305
  let v598 : BitVec 32 := Scalar.extui v597
  let v599 : BitVec 32 := Scalar.subi v596 v598
  let v600 : BitVec 1 := Scalar.cmpi .ne v594 v599
  let v601 : BitVec 32 := Scalar.remsi v588 c2_i32_301
  let c0_i32_306 : BitVec 32 := 0#32
  let v602 : BitVec 1 := Scalar.cmpi .ne v601 c0_i32_306
  let v603 : BitVec 1 := Scalar.andi v600 v602
  let v589 : BitVec 32 := Scalar.divsi v588 c2_i32_301
  let c1_i32_307 : BitVec 32 := 1#32
  let v604 : BitVec 32 := Scalar.subi v589 c1_i32_307
  let v605 : BitVec 32 := Scalar.select v603 v604 v589
  let c0_i32_318 : BitVec 32 := 0#32
  let c768_i32_310 : BitVec 32 := 768#32
  let v609 : BitVec 32 := Scalar.subi c768_i32_310 v587
  let c0_i32_312 : BitVec 32 := 0#32
  let v611 : BitVec 1 := Scalar.cmpi .sgt v609 c0_i32_312
  let v612 : BitVec 32 := Scalar.extui v611
  let c0_i32_313 : BitVec 32 := 0#32
  let v613 : BitVec 1 := Scalar.cmpi .slt v609 c0_i32_313
  let v614 : BitVec 32 := Scalar.extui v613
  let v615 : BitVec 32 := Scalar.subi v612 v614
  let c2_i32_311 : BitVec 32 := 2#32
  let c0_i32_314 : BitVec 32 := 0#32
  let v616 : BitVec 1 := Scalar.cmpi .sgt c2_i32_311 c0_i32_314
  let v617 : BitVec 32 := Scalar.extui v616
  let c0_i32_315 : BitVec 32 := 0#32
  let v618 : BitVec 1 := Scalar.cmpi .slt c2_i32_311 c0_i32_315
  let v619 : BitVec 32 := Scalar.extui v618
  let v620 : BitVec 32 := Scalar.subi v617 v619
  let v621 : BitVec 1 := Scalar.cmpi .ne v615 v620
  let v622 : BitVec 32 := Scalar.remsi v609 c2_i32_311
  let c0_i32_316 : BitVec 32 := 0#32
  let v623 : BitVec 1 := Scalar.cmpi .ne v622 c0_i32_316
  let v624 : BitVec 1 := Scalar.andi v621 v623
  let v610 : BitVec 32 := Scalar.divsi v609 c2_i32_311
  let c1_i32_317 : BitVec 32 := 1#32
  let v625 : BitVec 32 := Scalar.subi v610 c1_i32_317
  let v626 : BitVec 32 := Scalar.select v624 v625 v610
  let v627 : BitVec 32 := Scalar.maxsi c0_i32_318 v626
  let v628 : BitVec 32 := Scalar.minsi v605 v627
  let c0_i32_327 : BitVec 32 := 0#32
  let c1152_i32_319 : BitVec 32 := 1152#32
  let v629 : BitVec 32 := Scalar.subi c1152_i32_319 v587
  let c0_i32_321 : BitVec 32 := 0#32
  let v631 : BitVec 1 := Scalar.cmpi .sgt v629 c0_i32_321
  let v632 : BitVec 32 := Scalar.extui v631
  let c0_i32_322 : BitVec 32 := 0#32
  let v633 : BitVec 1 := Scalar.cmpi .slt v629 c0_i32_322
  let v634 : BitVec 32 := Scalar.extui v633
  let v635 : BitVec 32 := Scalar.subi v632 v634
  let c2_i32_320 : BitVec 32 := 2#32
  let c0_i32_323 : BitVec 32 := 0#32
  let v636 : BitVec 1 := Scalar.cmpi .sgt c2_i32_320 c0_i32_323
  let v637 : BitVec 32 := Scalar.extui v636
  let c0_i32_324 : BitVec 32 := 0#32
  let v638 : BitVec 1 := Scalar.cmpi .slt c2_i32_320 c0_i32_324
  let v639 : BitVec 32 := Scalar.extui v638
  let v640 : BitVec 32 := Scalar.subi v637 v639
  let v641 : BitVec 1 := Scalar.cmpi .ne v635 v640
  let v642 : BitVec 32 := Scalar.remsi v629 c2_i32_320
  let c0_i32_325 : BitVec 32 := 0#32
  let v643 : BitVec 1 := Scalar.cmpi .ne v642 c0_i32_325
  let v644 : BitVec 1 := Scalar.andi v641 v643
  let v630 : BitVec 32 := Scalar.divsi v629 c2_i32_320
  let c1_i32_326 : BitVec 32 := 1#32
  let v645 : BitVec 32 := Scalar.subi v630 c1_i32_326
  let v646 : BitVec 32 := Scalar.select v644 v645 v630
  let v647 : BitVec 32 := Scalar.maxsi c0_i32_327 v646
  let v648 : BitVec 32 := Scalar.minsi v605 v647
  let v649 : BitVec 32 := Scalar.subi v648 v628
  let c1_i32_328 : BitVec 32 := 1#32
  let v651 : BitVec 32 := Scalar.divsi v649 c1_i32_328
  let v652 : BitVec 32 := Scalar.muli v651 c1_i32_328
  let v653 : BitVec 32 := Scalar.addi v628 v652
  let c1_i32_330 : BitVec 32 := 1#32
  let arg23 : BitVec 32 := Scf.iv v653 c1_i32_330 k0_t94
  let c2_i32_612 : BitVec 32 := 2#32
  let v1306 : BitVec 32 := Scalar.muli arg23 c2_i32_612
  let v1307 : BitVec 32 := Scalar.addi v587 v1306
  let c768_i32_613 : BitVec 32 := 768#32
  let v1308 : BitVec 32 := Scalar.subi v1307 c768_i32_613
  let c0_i32_614 : BitVec 32 := 0#32
  ![v1308.toNat, 0]
def k0_off244 (v585 : BitVec 32) (v587 : BitVec 32) (k0_t94 : Fin (k0_t94_loop v585 v587).trips) : Fin 2 → Nat :=
  let c1_i32_611 : BitVec 32 := 1#32
  let v1304 : BitVec 32 := Scalar.shrsi v587 c1_i32_611
  let c1_i32_300 : BitVec 32 := 1#32
  let v588 : BitVec 32 := Scalar.addi v585 c1_i32_300
  let c0_i32_302 : BitVec 32 := 0#32
  let v590 : BitVec 1 := Scalar.cmpi .sgt v588 c0_i32_302
  let v591 : BitVec 32 := Scalar.extui v590
  let c0_i32_303 : BitVec 32 := 0#32
  let v592 : BitVec 1 := Scalar.cmpi .slt v588 c0_i32_303
  let v593 : BitVec 32 := Scalar.extui v592
  let v594 : BitVec 32 := Scalar.subi v591 v593
  let c2_i32_301 : BitVec 32 := 2#32
  let c0_i32_304 : BitVec 32 := 0#32
  let v595 : BitVec 1 := Scalar.cmpi .sgt c2_i32_301 c0_i32_304
  let v596 : BitVec 32 := Scalar.extui v595
  let c0_i32_305 : BitVec 32 := 0#32
  let v597 : BitVec 1 := Scalar.cmpi .slt c2_i32_301 c0_i32_305
  let v598 : BitVec 32 := Scalar.extui v597
  let v599 : BitVec 32 := Scalar.subi v596 v598
  let v600 : BitVec 1 := Scalar.cmpi .ne v594 v599
  let v601 : BitVec 32 := Scalar.remsi v588 c2_i32_301
  let c0_i32_306 : BitVec 32 := 0#32
  let v602 : BitVec 1 := Scalar.cmpi .ne v601 c0_i32_306
  let v603 : BitVec 1 := Scalar.andi v600 v602
  let v589 : BitVec 32 := Scalar.divsi v588 c2_i32_301
  let c1_i32_307 : BitVec 32 := 1#32
  let v604 : BitVec 32 := Scalar.subi v589 c1_i32_307
  let v605 : BitVec 32 := Scalar.select v603 v604 v589
  let c0_i32_318 : BitVec 32 := 0#32
  let c768_i32_310 : BitVec 32 := 768#32
  let v609 : BitVec 32 := Scalar.subi c768_i32_310 v587
  let c0_i32_312 : BitVec 32 := 0#32
  let v611 : BitVec 1 := Scalar.cmpi .sgt v609 c0_i32_312
  let v612 : BitVec 32 := Scalar.extui v611
  let c0_i32_313 : BitVec 32 := 0#32
  let v613 : BitVec 1 := Scalar.cmpi .slt v609 c0_i32_313
  let v614 : BitVec 32 := Scalar.extui v613
  let v615 : BitVec 32 := Scalar.subi v612 v614
  let c2_i32_311 : BitVec 32 := 2#32
  let c0_i32_314 : BitVec 32 := 0#32
  let v616 : BitVec 1 := Scalar.cmpi .sgt c2_i32_311 c0_i32_314
  let v617 : BitVec 32 := Scalar.extui v616
  let c0_i32_315 : BitVec 32 := 0#32
  let v618 : BitVec 1 := Scalar.cmpi .slt c2_i32_311 c0_i32_315
  let v619 : BitVec 32 := Scalar.extui v618
  let v620 : BitVec 32 := Scalar.subi v617 v619
  let v621 : BitVec 1 := Scalar.cmpi .ne v615 v620
  let v622 : BitVec 32 := Scalar.remsi v609 c2_i32_311
  let c0_i32_316 : BitVec 32 := 0#32
  let v623 : BitVec 1 := Scalar.cmpi .ne v622 c0_i32_316
  let v624 : BitVec 1 := Scalar.andi v621 v623
  let v610 : BitVec 32 := Scalar.divsi v609 c2_i32_311
  let c1_i32_317 : BitVec 32 := 1#32
  let v625 : BitVec 32 := Scalar.subi v610 c1_i32_317
  let v626 : BitVec 32 := Scalar.select v624 v625 v610
  let v627 : BitVec 32 := Scalar.maxsi c0_i32_318 v626
  let v628 : BitVec 32 := Scalar.minsi v605 v627
  let c0_i32_327 : BitVec 32 := 0#32
  let c1152_i32_319 : BitVec 32 := 1152#32
  let v629 : BitVec 32 := Scalar.subi c1152_i32_319 v587
  let c0_i32_321 : BitVec 32 := 0#32
  let v631 : BitVec 1 := Scalar.cmpi .sgt v629 c0_i32_321
  let v632 : BitVec 32 := Scalar.extui v631
  let c0_i32_322 : BitVec 32 := 0#32
  let v633 : BitVec 1 := Scalar.cmpi .slt v629 c0_i32_322
  let v634 : BitVec 32 := Scalar.extui v633
  let v635 : BitVec 32 := Scalar.subi v632 v634
  let c2_i32_320 : BitVec 32 := 2#32
  let c0_i32_323 : BitVec 32 := 0#32
  let v636 : BitVec 1 := Scalar.cmpi .sgt c2_i32_320 c0_i32_323
  let v637 : BitVec 32 := Scalar.extui v636
  let c0_i32_324 : BitVec 32 := 0#32
  let v638 : BitVec 1 := Scalar.cmpi .slt c2_i32_320 c0_i32_324
  let v639 : BitVec 32 := Scalar.extui v638
  let v640 : BitVec 32 := Scalar.subi v637 v639
  let v641 : BitVec 1 := Scalar.cmpi .ne v635 v640
  let v642 : BitVec 32 := Scalar.remsi v629 c2_i32_320
  let c0_i32_325 : BitVec 32 := 0#32
  let v643 : BitVec 1 := Scalar.cmpi .ne v642 c0_i32_325
  let v644 : BitVec 1 := Scalar.andi v641 v643
  let v630 : BitVec 32 := Scalar.divsi v629 c2_i32_320
  let c1_i32_326 : BitVec 32 := 1#32
  let v645 : BitVec 32 := Scalar.subi v630 c1_i32_326
  let v646 : BitVec 32 := Scalar.select v644 v645 v630
  let v647 : BitVec 32 := Scalar.maxsi c0_i32_327 v646
  let v648 : BitVec 32 := Scalar.minsi v605 v647
  let v649 : BitVec 32 := Scalar.subi v648 v628
  let c1_i32_328 : BitVec 32 := 1#32
  let v651 : BitVec 32 := Scalar.divsi v649 c1_i32_328
  let v652 : BitVec 32 := Scalar.muli v651 c1_i32_328
  let v653 : BitVec 32 := Scalar.addi v628 v652
  let c1_i32_330 : BitVec 32 := 1#32
  let arg23 : BitVec 32 := Scf.iv v653 c1_i32_330 k0_t94
  let v1305 : BitVec 32 := Scalar.addi v1304 arg23
  let c0_i32_615 : BitVec 32 := 0#32
  ![v1305.toNat, 0]

def k0_chk50 (v585 : BitVec 32) (v587 : BitVec 32) : Prop :=
  ((k0_t93_loop v585 v587).OK) ∧
  (∀ k0_t93 : Fin (k0_t93_loop v585 v587).trips, ∀ a, (k0_off240 v585 v587 k0_t93) a + S2x128.size a ≤ S384x128.size a) ∧
  (∀ k0_t93 : Fin (k0_t93_loop v585 v587).trips, ∀ a, (k0_off241 v585 v587 k0_t93) a + S1x2.size a ≤ S584x2.size a) ∧
  ((k0_t94_loop v585 v587).OK) ∧
  (∀ k0_t94 : Fin (k0_t94_loop v585 v587).trips, ∀ a, (k0_off243 v585 v587 k0_t94) a + S2x128.size a ≤ S384x128.size a) ∧
  (∀ k0_t94 : Fin (k0_t94_loop v585 v587).trips, ∀ a, (k0_off244 v585 v587 k0_t94) a + S1x2.size a ≤ S584x2.size a)
theorem k0_t93_ok : ∀ (v585 : BitVec 32) (v587 : BitVec 32) (k0_hw50 : k0_chk50 v585 v587), (k0_t93_loop v585 v587).OK := fun v585 v587 k0_hw50 => k0_hw50.1
theorem k0_off240_inb : ∀ (v585 : BitVec 32) (v587 : BitVec 32) (k0_hw50 : k0_chk50 v585 v587) (k0_t93 : Fin (k0_t93_loop v585 v587).trips), ∀ a, (k0_off240 v585 v587 k0_t93) a + S2x128.size a ≤ S384x128.size a := fun v585 v587 k0_hw50 k0_t93 => k0_hw50.2.1 k0_t93
theorem k0_off241_inb : ∀ (v585 : BitVec 32) (v587 : BitVec 32) (k0_hw50 : k0_chk50 v585 v587) (k0_t93 : Fin (k0_t93_loop v585 v587).trips), ∀ a, (k0_off241 v585 v587 k0_t93) a + S1x2.size a ≤ S584x2.size a := fun v585 v587 k0_hw50 k0_t93 => k0_hw50.2.2.1 k0_t93
theorem k0_t94_ok : ∀ (v585 : BitVec 32) (v587 : BitVec 32) (k0_hw50 : k0_chk50 v585 v587), (k0_t94_loop v585 v587).OK := fun v585 v587 k0_hw50 => k0_hw50.2.2.2.1
theorem k0_off243_inb : ∀ (v585 : BitVec 32) (v587 : BitVec 32) (k0_hw50 : k0_chk50 v585 v587) (k0_t94 : Fin (k0_t94_loop v585 v587).trips), ∀ a, (k0_off243 v585 v587 k0_t94) a + S2x128.size a ≤ S384x128.size a := fun v585 v587 k0_hw50 k0_t94 => k0_hw50.2.2.2.2.1 k0_t94
theorem k0_off244_inb : ∀ (v585 : BitVec 32) (v587 : BitVec 32) (k0_hw50 : k0_chk50 v585 v587) (k0_t94 : Fin (k0_t94_loop v585 v587).trips), ∀ a, (k0_off244 v585 v587 k0_t94) a + S1x2.size a ≤ S584x2.size a := fun v585 v587 k0_hw50 k0_t94 => k0_hw50.2.2.2.2.2 k0_t94

def k0_off245 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_308 : BitVec 32 := 16#32
  let v606 : BitVec 32 := Scalar.muli arg21 c16_i32_308
  let c6_i32 : BitVec 32 := 6#32
  let v607 : BitVec 32 := Scalar.addi v606 c6_i32
  let c128_i32_309 : BitVec 32 := 128#32
  let v608 : BitVec 32 := Scalar.muli v607 c128_i32_309
  ![0, v608.toNat]
@[reducible] def k0_t95_loop (v657 : BitVec 32) (v659 : BitVec 32) : Scf.Loop 32 :=
  let c1_i32_331 : BitVec 32 := 1#32
  let v660 : BitVec 32 := Scalar.addi v657 c1_i32_331
  let c0_i32_333 : BitVec 32 := 0#32
  let v662 : BitVec 1 := Scalar.cmpi .sgt v660 c0_i32_333
  let v663 : BitVec 32 := Scalar.extui v662
  let c0_i32_334 : BitVec 32 := 0#32
  let v664 : BitVec 1 := Scalar.cmpi .slt v660 c0_i32_334
  let v665 : BitVec 32 := Scalar.extui v664
  let v666 : BitVec 32 := Scalar.subi v663 v665
  let c2_i32_332 : BitVec 32 := 2#32
  let c0_i32_335 : BitVec 32 := 0#32
  let v667 : BitVec 1 := Scalar.cmpi .sgt c2_i32_332 c0_i32_335
  let v668 : BitVec 32 := Scalar.extui v667
  let c0_i32_336 : BitVec 32 := 0#32
  let v669 : BitVec 1 := Scalar.cmpi .slt c2_i32_332 c0_i32_336
  let v670 : BitVec 32 := Scalar.extui v669
  let v671 : BitVec 32 := Scalar.subi v668 v670
  let v672 : BitVec 1 := Scalar.cmpi .ne v666 v671
  let v673 : BitVec 32 := Scalar.remsi v660 c2_i32_332
  let c0_i32_337 : BitVec 32 := 0#32
  let v674 : BitVec 1 := Scalar.cmpi .ne v673 c0_i32_337
  let v675 : BitVec 1 := Scalar.andi v672 v674
  let v661 : BitVec 32 := Scalar.divsi v660 c2_i32_332
  let c1_i32_338 : BitVec 32 := 1#32
  let v676 : BitVec 32 := Scalar.subi v661 c1_i32_338
  let v677 : BitVec 32 := Scalar.select v675 v676 v661
  let c0_i32_350 : BitVec 32 := 0#32
  let c768_i32_342 : BitVec 32 := 768#32
  let v681 : BitVec 32 := Scalar.subi c768_i32_342 v659
  let c0_i32_344 : BitVec 32 := 0#32
  let v683 : BitVec 1 := Scalar.cmpi .sgt v681 c0_i32_344
  let v684 : BitVec 32 := Scalar.extui v683
  let c0_i32_345 : BitVec 32 := 0#32
  let v685 : BitVec 1 := Scalar.cmpi .slt v681 c0_i32_345
  let v686 : BitVec 32 := Scalar.extui v685
  let v687 : BitVec 32 := Scalar.subi v684 v686
  let c2_i32_343 : BitVec 32 := 2#32
  let c0_i32_346 : BitVec 32 := 0#32
  let v688 : BitVec 1 := Scalar.cmpi .sgt c2_i32_343 c0_i32_346
  let v689 : BitVec 32 := Scalar.extui v688
  let c0_i32_347 : BitVec 32 := 0#32
  let v690 : BitVec 1 := Scalar.cmpi .slt c2_i32_343 c0_i32_347
  let v691 : BitVec 32 := Scalar.extui v690
  let v692 : BitVec 32 := Scalar.subi v689 v691
  let v693 : BitVec 1 := Scalar.cmpi .ne v687 v692
  let v694 : BitVec 32 := Scalar.remsi v681 c2_i32_343
  let c0_i32_348 : BitVec 32 := 0#32
  let v695 : BitVec 1 := Scalar.cmpi .ne v694 c0_i32_348
  let v696 : BitVec 1 := Scalar.andi v693 v695
  let v682 : BitVec 32 := Scalar.divsi v681 c2_i32_343
  let c1_i32_349 : BitVec 32 := 1#32
  let v697 : BitVec 32 := Scalar.subi v682 c1_i32_349
  let v698 : BitVec 32 := Scalar.select v696 v697 v682
  let v699 : BitVec 32 := Scalar.maxsi c0_i32_350 v698
  let v700 : BitVec 32 := Scalar.minsi v677 v699
  let c0_i32_359 : BitVec 32 := 0#32
  let c1152_i32_351 : BitVec 32 := 1152#32
  let v701 : BitVec 32 := Scalar.subi c1152_i32_351 v659
  let c0_i32_353 : BitVec 32 := 0#32
  let v703 : BitVec 1 := Scalar.cmpi .sgt v701 c0_i32_353
  let v704 : BitVec 32 := Scalar.extui v703
  let c0_i32_354 : BitVec 32 := 0#32
  let v705 : BitVec 1 := Scalar.cmpi .slt v701 c0_i32_354
  let v706 : BitVec 32 := Scalar.extui v705
  let v707 : BitVec 32 := Scalar.subi v704 v706
  let c2_i32_352 : BitVec 32 := 2#32
  let c0_i32_355 : BitVec 32 := 0#32
  let v708 : BitVec 1 := Scalar.cmpi .sgt c2_i32_352 c0_i32_355
  let v709 : BitVec 32 := Scalar.extui v708
  let c0_i32_356 : BitVec 32 := 0#32
  let v710 : BitVec 1 := Scalar.cmpi .slt c2_i32_352 c0_i32_356
  let v711 : BitVec 32 := Scalar.extui v710
  let v712 : BitVec 32 := Scalar.subi v709 v711
  let v713 : BitVec 1 := Scalar.cmpi .ne v707 v712
  let v714 : BitVec 32 := Scalar.remsi v701 c2_i32_352
  let c0_i32_357 : BitVec 32 := 0#32
  let v715 : BitVec 1 := Scalar.cmpi .ne v714 c0_i32_357
  let v716 : BitVec 1 := Scalar.andi v713 v715
  let v702 : BitVec 32 := Scalar.divsi v701 c2_i32_352
  let c1_i32_358 : BitVec 32 := 1#32
  let v717 : BitVec 32 := Scalar.subi v702 c1_i32_358
  let v718 : BitVec 32 := Scalar.select v716 v717 v702
  let v719 : BitVec 32 := Scalar.maxsi c0_i32_359 v718
  let v720 : BitVec 32 := Scalar.minsi v677 v719
  let v721 : BitVec 32 := Scalar.subi v720 v700
  let c1_i32_360 : BitVec 32 := 1#32
  let v723 : BitVec 32 := Scalar.divsi v721 c1_i32_360
  let v724 : BitVec 32 := Scalar.muli v723 c1_i32_360
  let v725 : BitVec 32 := Scalar.addi v700 v724
  let c1_i32_361 : BitVec 32 := 1#32
  ⟨v700, v725, c1_i32_361⟩

def k0_off246 (v657 : BitVec 32) (v659 : BitVec 32) (k0_t95 : Fin (k0_t95_loop v657 v659).trips) : Fin 2 → Nat :=
  let c1_i32_331 : BitVec 32 := 1#32
  let v660 : BitVec 32 := Scalar.addi v657 c1_i32_331
  let c0_i32_333 : BitVec 32 := 0#32
  let v662 : BitVec 1 := Scalar.cmpi .sgt v660 c0_i32_333
  let v663 : BitVec 32 := Scalar.extui v662
  let c0_i32_334 : BitVec 32 := 0#32
  let v664 : BitVec 1 := Scalar.cmpi .slt v660 c0_i32_334
  let v665 : BitVec 32 := Scalar.extui v664
  let v666 : BitVec 32 := Scalar.subi v663 v665
  let c2_i32_332 : BitVec 32 := 2#32
  let c0_i32_335 : BitVec 32 := 0#32
  let v667 : BitVec 1 := Scalar.cmpi .sgt c2_i32_332 c0_i32_335
  let v668 : BitVec 32 := Scalar.extui v667
  let c0_i32_336 : BitVec 32 := 0#32
  let v669 : BitVec 1 := Scalar.cmpi .slt c2_i32_332 c0_i32_336
  let v670 : BitVec 32 := Scalar.extui v669
  let v671 : BitVec 32 := Scalar.subi v668 v670
  let v672 : BitVec 1 := Scalar.cmpi .ne v666 v671
  let v673 : BitVec 32 := Scalar.remsi v660 c2_i32_332
  let c0_i32_337 : BitVec 32 := 0#32
  let v674 : BitVec 1 := Scalar.cmpi .ne v673 c0_i32_337
  let v675 : BitVec 1 := Scalar.andi v672 v674
  let v661 : BitVec 32 := Scalar.divsi v660 c2_i32_332
  let c1_i32_338 : BitVec 32 := 1#32
  let v676 : BitVec 32 := Scalar.subi v661 c1_i32_338
  let v677 : BitVec 32 := Scalar.select v675 v676 v661
  let c0_i32_350 : BitVec 32 := 0#32
  let c768_i32_342 : BitVec 32 := 768#32
  let v681 : BitVec 32 := Scalar.subi c768_i32_342 v659
  let c0_i32_344 : BitVec 32 := 0#32
  let v683 : BitVec 1 := Scalar.cmpi .sgt v681 c0_i32_344
  let v684 : BitVec 32 := Scalar.extui v683
  let c0_i32_345 : BitVec 32 := 0#32
  let v685 : BitVec 1 := Scalar.cmpi .slt v681 c0_i32_345
  let v686 : BitVec 32 := Scalar.extui v685
  let v687 : BitVec 32 := Scalar.subi v684 v686
  let c2_i32_343 : BitVec 32 := 2#32
  let c0_i32_346 : BitVec 32 := 0#32
  let v688 : BitVec 1 := Scalar.cmpi .sgt c2_i32_343 c0_i32_346
  let v689 : BitVec 32 := Scalar.extui v688
  let c0_i32_347 : BitVec 32 := 0#32
  let v690 : BitVec 1 := Scalar.cmpi .slt c2_i32_343 c0_i32_347
  let v691 : BitVec 32 := Scalar.extui v690
  let v692 : BitVec 32 := Scalar.subi v689 v691
  let v693 : BitVec 1 := Scalar.cmpi .ne v687 v692
  let v694 : BitVec 32 := Scalar.remsi v681 c2_i32_343
  let c0_i32_348 : BitVec 32 := 0#32
  let v695 : BitVec 1 := Scalar.cmpi .ne v694 c0_i32_348
  let v696 : BitVec 1 := Scalar.andi v693 v695
  let v682 : BitVec 32 := Scalar.divsi v681 c2_i32_343
  let c1_i32_349 : BitVec 32 := 1#32
  let v697 : BitVec 32 := Scalar.subi v682 c1_i32_349
  let v698 : BitVec 32 := Scalar.select v696 v697 v682
  let v699 : BitVec 32 := Scalar.maxsi c0_i32_350 v698
  let v700 : BitVec 32 := Scalar.minsi v677 v699
  let c1_i32_361 : BitVec 32 := 1#32
  let arg23 : BitVec 32 := Scf.iv v700 c1_i32_361 k0_t95
  let c2_i32_612 : BitVec 32 := 2#32
  let v1306 : BitVec 32 := Scalar.muli arg23 c2_i32_612
  let v1307 : BitVec 32 := Scalar.addi v659 v1306
  let c768_i32_613 : BitVec 32 := 768#32
  let v1308 : BitVec 32 := Scalar.subi v1307 c768_i32_613
  let c0_i32_614 : BitVec 32 := 0#32
  ![v1308.toNat, 0]
def k0_off247 (v657 : BitVec 32) (v659 : BitVec 32) (k0_t95 : Fin (k0_t95_loop v657 v659).trips) : Fin 2 → Nat :=
  let c1_i32_611 : BitVec 32 := 1#32
  let v1304 : BitVec 32 := Scalar.shrsi v659 c1_i32_611
  let c1_i32_331 : BitVec 32 := 1#32
  let v660 : BitVec 32 := Scalar.addi v657 c1_i32_331
  let c0_i32_333 : BitVec 32 := 0#32
  let v662 : BitVec 1 := Scalar.cmpi .sgt v660 c0_i32_333
  let v663 : BitVec 32 := Scalar.extui v662
  let c0_i32_334 : BitVec 32 := 0#32
  let v664 : BitVec 1 := Scalar.cmpi .slt v660 c0_i32_334
  let v665 : BitVec 32 := Scalar.extui v664
  let v666 : BitVec 32 := Scalar.subi v663 v665
  let c2_i32_332 : BitVec 32 := 2#32
  let c0_i32_335 : BitVec 32 := 0#32
  let v667 : BitVec 1 := Scalar.cmpi .sgt c2_i32_332 c0_i32_335
  let v668 : BitVec 32 := Scalar.extui v667
  let c0_i32_336 : BitVec 32 := 0#32
  let v669 : BitVec 1 := Scalar.cmpi .slt c2_i32_332 c0_i32_336
  let v670 : BitVec 32 := Scalar.extui v669
  let v671 : BitVec 32 := Scalar.subi v668 v670
  let v672 : BitVec 1 := Scalar.cmpi .ne v666 v671
  let v673 : BitVec 32 := Scalar.remsi v660 c2_i32_332
  let c0_i32_337 : BitVec 32 := 0#32
  let v674 : BitVec 1 := Scalar.cmpi .ne v673 c0_i32_337
  let v675 : BitVec 1 := Scalar.andi v672 v674
  let v661 : BitVec 32 := Scalar.divsi v660 c2_i32_332
  let c1_i32_338 : BitVec 32 := 1#32
  let v676 : BitVec 32 := Scalar.subi v661 c1_i32_338
  let v677 : BitVec 32 := Scalar.select v675 v676 v661
  let c0_i32_350 : BitVec 32 := 0#32
  let c768_i32_342 : BitVec 32 := 768#32
  let v681 : BitVec 32 := Scalar.subi c768_i32_342 v659
  let c0_i32_344 : BitVec 32 := 0#32
  let v683 : BitVec 1 := Scalar.cmpi .sgt v681 c0_i32_344
  let v684 : BitVec 32 := Scalar.extui v683
  let c0_i32_345 : BitVec 32 := 0#32
  let v685 : BitVec 1 := Scalar.cmpi .slt v681 c0_i32_345
  let v686 : BitVec 32 := Scalar.extui v685
  let v687 : BitVec 32 := Scalar.subi v684 v686
  let c2_i32_343 : BitVec 32 := 2#32
  let c0_i32_346 : BitVec 32 := 0#32
  let v688 : BitVec 1 := Scalar.cmpi .sgt c2_i32_343 c0_i32_346
  let v689 : BitVec 32 := Scalar.extui v688
  let c0_i32_347 : BitVec 32 := 0#32
  let v690 : BitVec 1 := Scalar.cmpi .slt c2_i32_343 c0_i32_347
  let v691 : BitVec 32 := Scalar.extui v690
  let v692 : BitVec 32 := Scalar.subi v689 v691
  let v693 : BitVec 1 := Scalar.cmpi .ne v687 v692
  let v694 : BitVec 32 := Scalar.remsi v681 c2_i32_343
  let c0_i32_348 : BitVec 32 := 0#32
  let v695 : BitVec 1 := Scalar.cmpi .ne v694 c0_i32_348
  let v696 : BitVec 1 := Scalar.andi v693 v695
  let v682 : BitVec 32 := Scalar.divsi v681 c2_i32_343
  let c1_i32_349 : BitVec 32 := 1#32
  let v697 : BitVec 32 := Scalar.subi v682 c1_i32_349
  let v698 : BitVec 32 := Scalar.select v696 v697 v682
  let v699 : BitVec 32 := Scalar.maxsi c0_i32_350 v698
  let v700 : BitVec 32 := Scalar.minsi v677 v699
  let c1_i32_361 : BitVec 32 := 1#32
  let arg23 : BitVec 32 := Scf.iv v700 c1_i32_361 k0_t95
  let v1305 : BitVec 32 := Scalar.addi v1304 arg23
  let c0_i32_615 : BitVec 32 := 0#32
  ![v1305.toNat, 0]
def k0_off248 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_339 : BitVec 32 := 16#32
  let v678 : BitVec 32 := Scalar.muli arg21 c16_i32_339
  let c7_i32_340 : BitVec 32 := 7#32
  let v679 : BitVec 32 := Scalar.addi v678 c7_i32_340
  let c128_i32_341 : BitVec 32 := 128#32
  let v680 : BitVec 32 := Scalar.muli v679 c128_i32_341
  ![0, v680.toNat]
@[reducible] def k0_t96_loop (v657 : BitVec 32) (v659 : BitVec 32) : Scf.Loop 32 :=
  let c1_i32_331 : BitVec 32 := 1#32
  let v660 : BitVec 32 := Scalar.addi v657 c1_i32_331
  let c0_i32_333 : BitVec 32 := 0#32
  let v662 : BitVec 1 := Scalar.cmpi .sgt v660 c0_i32_333
  let v663 : BitVec 32 := Scalar.extui v662
  let c0_i32_334 : BitVec 32 := 0#32
  let v664 : BitVec 1 := Scalar.cmpi .slt v660 c0_i32_334
  let v665 : BitVec 32 := Scalar.extui v664
  let v666 : BitVec 32 := Scalar.subi v663 v665
  let c2_i32_332 : BitVec 32 := 2#32
  let c0_i32_335 : BitVec 32 := 0#32
  let v667 : BitVec 1 := Scalar.cmpi .sgt c2_i32_332 c0_i32_335
  let v668 : BitVec 32 := Scalar.extui v667
  let c0_i32_336 : BitVec 32 := 0#32
  let v669 : BitVec 1 := Scalar.cmpi .slt c2_i32_332 c0_i32_336
  let v670 : BitVec 32 := Scalar.extui v669
  let v671 : BitVec 32 := Scalar.subi v668 v670
  let v672 : BitVec 1 := Scalar.cmpi .ne v666 v671
  let v673 : BitVec 32 := Scalar.remsi v660 c2_i32_332
  let c0_i32_337 : BitVec 32 := 0#32
  let v674 : BitVec 1 := Scalar.cmpi .ne v673 c0_i32_337
  let v675 : BitVec 1 := Scalar.andi v672 v674
  let v661 : BitVec 32 := Scalar.divsi v660 c2_i32_332
  let c1_i32_338 : BitVec 32 := 1#32
  let v676 : BitVec 32 := Scalar.subi v661 c1_i32_338
  let v677 : BitVec 32 := Scalar.select v675 v676 v661
  let c0_i32_350 : BitVec 32 := 0#32
  let c768_i32_342 : BitVec 32 := 768#32
  let v681 : BitVec 32 := Scalar.subi c768_i32_342 v659
  let c0_i32_344 : BitVec 32 := 0#32
  let v683 : BitVec 1 := Scalar.cmpi .sgt v681 c0_i32_344
  let v684 : BitVec 32 := Scalar.extui v683
  let c0_i32_345 : BitVec 32 := 0#32
  let v685 : BitVec 1 := Scalar.cmpi .slt v681 c0_i32_345
  let v686 : BitVec 32 := Scalar.extui v685
  let v687 : BitVec 32 := Scalar.subi v684 v686
  let c2_i32_343 : BitVec 32 := 2#32
  let c0_i32_346 : BitVec 32 := 0#32
  let v688 : BitVec 1 := Scalar.cmpi .sgt c2_i32_343 c0_i32_346
  let v689 : BitVec 32 := Scalar.extui v688
  let c0_i32_347 : BitVec 32 := 0#32
  let v690 : BitVec 1 := Scalar.cmpi .slt c2_i32_343 c0_i32_347
  let v691 : BitVec 32 := Scalar.extui v690
  let v692 : BitVec 32 := Scalar.subi v689 v691
  let v693 : BitVec 1 := Scalar.cmpi .ne v687 v692
  let v694 : BitVec 32 := Scalar.remsi v681 c2_i32_343
  let c0_i32_348 : BitVec 32 := 0#32
  let v695 : BitVec 1 := Scalar.cmpi .ne v694 c0_i32_348
  let v696 : BitVec 1 := Scalar.andi v693 v695
  let v682 : BitVec 32 := Scalar.divsi v681 c2_i32_343
  let c1_i32_349 : BitVec 32 := 1#32
  let v697 : BitVec 32 := Scalar.subi v682 c1_i32_349
  let v698 : BitVec 32 := Scalar.select v696 v697 v682
  let v699 : BitVec 32 := Scalar.maxsi c0_i32_350 v698
  let v700 : BitVec 32 := Scalar.minsi v677 v699
  let c0_i32_359 : BitVec 32 := 0#32
  let c1152_i32_351 : BitVec 32 := 1152#32
  let v701 : BitVec 32 := Scalar.subi c1152_i32_351 v659
  let c0_i32_353 : BitVec 32 := 0#32
  let v703 : BitVec 1 := Scalar.cmpi .sgt v701 c0_i32_353
  let v704 : BitVec 32 := Scalar.extui v703
  let c0_i32_354 : BitVec 32 := 0#32
  let v705 : BitVec 1 := Scalar.cmpi .slt v701 c0_i32_354
  let v706 : BitVec 32 := Scalar.extui v705
  let v707 : BitVec 32 := Scalar.subi v704 v706
  let c2_i32_352 : BitVec 32 := 2#32
  let c0_i32_355 : BitVec 32 := 0#32
  let v708 : BitVec 1 := Scalar.cmpi .sgt c2_i32_352 c0_i32_355
  let v709 : BitVec 32 := Scalar.extui v708
  let c0_i32_356 : BitVec 32 := 0#32
  let v710 : BitVec 1 := Scalar.cmpi .slt c2_i32_352 c0_i32_356
  let v711 : BitVec 32 := Scalar.extui v710
  let v712 : BitVec 32 := Scalar.subi v709 v711
  let v713 : BitVec 1 := Scalar.cmpi .ne v707 v712
  let v714 : BitVec 32 := Scalar.remsi v701 c2_i32_352
  let c0_i32_357 : BitVec 32 := 0#32
  let v715 : BitVec 1 := Scalar.cmpi .ne v714 c0_i32_357
  let v716 : BitVec 1 := Scalar.andi v713 v715
  let v702 : BitVec 32 := Scalar.divsi v701 c2_i32_352
  let c1_i32_358 : BitVec 32 := 1#32
  let v717 : BitVec 32 := Scalar.subi v702 c1_i32_358
  let v718 : BitVec 32 := Scalar.select v716 v717 v702
  let v719 : BitVec 32 := Scalar.maxsi c0_i32_359 v718
  let v720 : BitVec 32 := Scalar.minsi v677 v719
  let v721 : BitVec 32 := Scalar.subi v720 v700
  let c1_i32_360 : BitVec 32 := 1#32
  let v723 : BitVec 32 := Scalar.divsi v721 c1_i32_360
  let v724 : BitVec 32 := Scalar.muli v723 c1_i32_360
  let v725 : BitVec 32 := Scalar.addi v700 v724
  let v722 : BitVec 32 := Scalar.addi v700 v721
  let c1_i32_362 : BitVec 32 := 1#32
  ⟨v725, v722, c1_i32_362⟩
def k0_off249 (v657 : BitVec 32) (v659 : BitVec 32) (k0_t96 : Fin (k0_t96_loop v657 v659).trips) : Fin 2 → Nat :=
  let c1_i32_331 : BitVec 32 := 1#32
  let v660 : BitVec 32 := Scalar.addi v657 c1_i32_331
  let c0_i32_333 : BitVec 32 := 0#32
  let v662 : BitVec 1 := Scalar.cmpi .sgt v660 c0_i32_333
  let v663 : BitVec 32 := Scalar.extui v662
  let c0_i32_334 : BitVec 32 := 0#32
  let v664 : BitVec 1 := Scalar.cmpi .slt v660 c0_i32_334
  let v665 : BitVec 32 := Scalar.extui v664
  let v666 : BitVec 32 := Scalar.subi v663 v665
  let c2_i32_332 : BitVec 32 := 2#32
  let c0_i32_335 : BitVec 32 := 0#32
  let v667 : BitVec 1 := Scalar.cmpi .sgt c2_i32_332 c0_i32_335
  let v668 : BitVec 32 := Scalar.extui v667
  let c0_i32_336 : BitVec 32 := 0#32
  let v669 : BitVec 1 := Scalar.cmpi .slt c2_i32_332 c0_i32_336
  let v670 : BitVec 32 := Scalar.extui v669
  let v671 : BitVec 32 := Scalar.subi v668 v670
  let v672 : BitVec 1 := Scalar.cmpi .ne v666 v671
  let v673 : BitVec 32 := Scalar.remsi v660 c2_i32_332
  let c0_i32_337 : BitVec 32 := 0#32
  let v674 : BitVec 1 := Scalar.cmpi .ne v673 c0_i32_337
  let v675 : BitVec 1 := Scalar.andi v672 v674
  let v661 : BitVec 32 := Scalar.divsi v660 c2_i32_332
  let c1_i32_338 : BitVec 32 := 1#32
  let v676 : BitVec 32 := Scalar.subi v661 c1_i32_338
  let v677 : BitVec 32 := Scalar.select v675 v676 v661
  let c0_i32_350 : BitVec 32 := 0#32
  let c768_i32_342 : BitVec 32 := 768#32
  let v681 : BitVec 32 := Scalar.subi c768_i32_342 v659
  let c0_i32_344 : BitVec 32 := 0#32
  let v683 : BitVec 1 := Scalar.cmpi .sgt v681 c0_i32_344
  let v684 : BitVec 32 := Scalar.extui v683
  let c0_i32_345 : BitVec 32 := 0#32
  let v685 : BitVec 1 := Scalar.cmpi .slt v681 c0_i32_345
  let v686 : BitVec 32 := Scalar.extui v685
  let v687 : BitVec 32 := Scalar.subi v684 v686
  let c2_i32_343 : BitVec 32 := 2#32
  let c0_i32_346 : BitVec 32 := 0#32
  let v688 : BitVec 1 := Scalar.cmpi .sgt c2_i32_343 c0_i32_346
  let v689 : BitVec 32 := Scalar.extui v688
  let c0_i32_347 : BitVec 32 := 0#32
  let v690 : BitVec 1 := Scalar.cmpi .slt c2_i32_343 c0_i32_347
  let v691 : BitVec 32 := Scalar.extui v690
  let v692 : BitVec 32 := Scalar.subi v689 v691
  let v693 : BitVec 1 := Scalar.cmpi .ne v687 v692
  let v694 : BitVec 32 := Scalar.remsi v681 c2_i32_343
  let c0_i32_348 : BitVec 32 := 0#32
  let v695 : BitVec 1 := Scalar.cmpi .ne v694 c0_i32_348
  let v696 : BitVec 1 := Scalar.andi v693 v695
  let v682 : BitVec 32 := Scalar.divsi v681 c2_i32_343
  let c1_i32_349 : BitVec 32 := 1#32
  let v697 : BitVec 32 := Scalar.subi v682 c1_i32_349
  let v698 : BitVec 32 := Scalar.select v696 v697 v682
  let v699 : BitVec 32 := Scalar.maxsi c0_i32_350 v698
  let v700 : BitVec 32 := Scalar.minsi v677 v699
  let c0_i32_359 : BitVec 32 := 0#32
  let c1152_i32_351 : BitVec 32 := 1152#32
  let v701 : BitVec 32 := Scalar.subi c1152_i32_351 v659
  let c0_i32_353 : BitVec 32 := 0#32
  let v703 : BitVec 1 := Scalar.cmpi .sgt v701 c0_i32_353
  let v704 : BitVec 32 := Scalar.extui v703
  let c0_i32_354 : BitVec 32 := 0#32
  let v705 : BitVec 1 := Scalar.cmpi .slt v701 c0_i32_354
  let v706 : BitVec 32 := Scalar.extui v705
  let v707 : BitVec 32 := Scalar.subi v704 v706
  let c2_i32_352 : BitVec 32 := 2#32
  let c0_i32_355 : BitVec 32 := 0#32
  let v708 : BitVec 1 := Scalar.cmpi .sgt c2_i32_352 c0_i32_355
  let v709 : BitVec 32 := Scalar.extui v708
  let c0_i32_356 : BitVec 32 := 0#32
  let v710 : BitVec 1 := Scalar.cmpi .slt c2_i32_352 c0_i32_356
  let v711 : BitVec 32 := Scalar.extui v710
  let v712 : BitVec 32 := Scalar.subi v709 v711
  let v713 : BitVec 1 := Scalar.cmpi .ne v707 v712
  let v714 : BitVec 32 := Scalar.remsi v701 c2_i32_352
  let c0_i32_357 : BitVec 32 := 0#32
  let v715 : BitVec 1 := Scalar.cmpi .ne v714 c0_i32_357
  let v716 : BitVec 1 := Scalar.andi v713 v715
  let v702 : BitVec 32 := Scalar.divsi v701 c2_i32_352
  let c1_i32_358 : BitVec 32 := 1#32
  let v717 : BitVec 32 := Scalar.subi v702 c1_i32_358
  let v718 : BitVec 32 := Scalar.select v716 v717 v702
  let v719 : BitVec 32 := Scalar.maxsi c0_i32_359 v718
  let v720 : BitVec 32 := Scalar.minsi v677 v719
  let v721 : BitVec 32 := Scalar.subi v720 v700
  let c1_i32_360 : BitVec 32 := 1#32
  let v723 : BitVec 32 := Scalar.divsi v721 c1_i32_360
  let v724 : BitVec 32 := Scalar.muli v723 c1_i32_360
  let v725 : BitVec 32 := Scalar.addi v700 v724
  let c1_i32_362 : BitVec 32 := 1#32
  let arg23 : BitVec 32 := Scf.iv v725 c1_i32_362 k0_t96
  let c2_i32_612 : BitVec 32 := 2#32
  let v1306 : BitVec 32 := Scalar.muli arg23 c2_i32_612
  let v1307 : BitVec 32 := Scalar.addi v659 v1306
  let c768_i32_613 : BitVec 32 := 768#32
  let v1308 : BitVec 32 := Scalar.subi v1307 c768_i32_613
  let c0_i32_614 : BitVec 32 := 0#32
  ![v1308.toNat, 0]
def k0_off250 (v657 : BitVec 32) (v659 : BitVec 32) (k0_t96 : Fin (k0_t96_loop v657 v659).trips) : Fin 2 → Nat :=
  let c1_i32_611 : BitVec 32 := 1#32
  let v1304 : BitVec 32 := Scalar.shrsi v659 c1_i32_611
  let c1_i32_331 : BitVec 32 := 1#32
  let v660 : BitVec 32 := Scalar.addi v657 c1_i32_331
  let c0_i32_333 : BitVec 32 := 0#32
  let v662 : BitVec 1 := Scalar.cmpi .sgt v660 c0_i32_333
  let v663 : BitVec 32 := Scalar.extui v662
  let c0_i32_334 : BitVec 32 := 0#32
  let v664 : BitVec 1 := Scalar.cmpi .slt v660 c0_i32_334
  let v665 : BitVec 32 := Scalar.extui v664
  let v666 : BitVec 32 := Scalar.subi v663 v665
  let c2_i32_332 : BitVec 32 := 2#32
  let c0_i32_335 : BitVec 32 := 0#32
  let v667 : BitVec 1 := Scalar.cmpi .sgt c2_i32_332 c0_i32_335
  let v668 : BitVec 32 := Scalar.extui v667
  let c0_i32_336 : BitVec 32 := 0#32
  let v669 : BitVec 1 := Scalar.cmpi .slt c2_i32_332 c0_i32_336
  let v670 : BitVec 32 := Scalar.extui v669
  let v671 : BitVec 32 := Scalar.subi v668 v670
  let v672 : BitVec 1 := Scalar.cmpi .ne v666 v671
  let v673 : BitVec 32 := Scalar.remsi v660 c2_i32_332
  let c0_i32_337 : BitVec 32 := 0#32
  let v674 : BitVec 1 := Scalar.cmpi .ne v673 c0_i32_337
  let v675 : BitVec 1 := Scalar.andi v672 v674
  let v661 : BitVec 32 := Scalar.divsi v660 c2_i32_332
  let c1_i32_338 : BitVec 32 := 1#32
  let v676 : BitVec 32 := Scalar.subi v661 c1_i32_338
  let v677 : BitVec 32 := Scalar.select v675 v676 v661
  let c0_i32_350 : BitVec 32 := 0#32
  let c768_i32_342 : BitVec 32 := 768#32
  let v681 : BitVec 32 := Scalar.subi c768_i32_342 v659
  let c0_i32_344 : BitVec 32 := 0#32
  let v683 : BitVec 1 := Scalar.cmpi .sgt v681 c0_i32_344
  let v684 : BitVec 32 := Scalar.extui v683
  let c0_i32_345 : BitVec 32 := 0#32
  let v685 : BitVec 1 := Scalar.cmpi .slt v681 c0_i32_345
  let v686 : BitVec 32 := Scalar.extui v685
  let v687 : BitVec 32 := Scalar.subi v684 v686
  let c2_i32_343 : BitVec 32 := 2#32
  let c0_i32_346 : BitVec 32 := 0#32
  let v688 : BitVec 1 := Scalar.cmpi .sgt c2_i32_343 c0_i32_346
  let v689 : BitVec 32 := Scalar.extui v688
  let c0_i32_347 : BitVec 32 := 0#32
  let v690 : BitVec 1 := Scalar.cmpi .slt c2_i32_343 c0_i32_347
  let v691 : BitVec 32 := Scalar.extui v690
  let v692 : BitVec 32 := Scalar.subi v689 v691
  let v693 : BitVec 1 := Scalar.cmpi .ne v687 v692
  let v694 : BitVec 32 := Scalar.remsi v681 c2_i32_343
  let c0_i32_348 : BitVec 32 := 0#32
  let v695 : BitVec 1 := Scalar.cmpi .ne v694 c0_i32_348
  let v696 : BitVec 1 := Scalar.andi v693 v695
  let v682 : BitVec 32 := Scalar.divsi v681 c2_i32_343
  let c1_i32_349 : BitVec 32 := 1#32
  let v697 : BitVec 32 := Scalar.subi v682 c1_i32_349
  let v698 : BitVec 32 := Scalar.select v696 v697 v682
  let v699 : BitVec 32 := Scalar.maxsi c0_i32_350 v698
  let v700 : BitVec 32 := Scalar.minsi v677 v699
  let c0_i32_359 : BitVec 32 := 0#32
  let c1152_i32_351 : BitVec 32 := 1152#32
  let v701 : BitVec 32 := Scalar.subi c1152_i32_351 v659
  let c0_i32_353 : BitVec 32 := 0#32
  let v703 : BitVec 1 := Scalar.cmpi .sgt v701 c0_i32_353
  let v704 : BitVec 32 := Scalar.extui v703
  let c0_i32_354 : BitVec 32 := 0#32
  let v705 : BitVec 1 := Scalar.cmpi .slt v701 c0_i32_354
  let v706 : BitVec 32 := Scalar.extui v705
  let v707 : BitVec 32 := Scalar.subi v704 v706
  let c2_i32_352 : BitVec 32 := 2#32
  let c0_i32_355 : BitVec 32 := 0#32
  let v708 : BitVec 1 := Scalar.cmpi .sgt c2_i32_352 c0_i32_355
  let v709 : BitVec 32 := Scalar.extui v708
  let c0_i32_356 : BitVec 32 := 0#32
  let v710 : BitVec 1 := Scalar.cmpi .slt c2_i32_352 c0_i32_356
  let v711 : BitVec 32 := Scalar.extui v710
  let v712 : BitVec 32 := Scalar.subi v709 v711
  let v713 : BitVec 1 := Scalar.cmpi .ne v707 v712
  let v714 : BitVec 32 := Scalar.remsi v701 c2_i32_352
  let c0_i32_357 : BitVec 32 := 0#32
  let v715 : BitVec 1 := Scalar.cmpi .ne v714 c0_i32_357
  let v716 : BitVec 1 := Scalar.andi v713 v715
  let v702 : BitVec 32 := Scalar.divsi v701 c2_i32_352
  let c1_i32_358 : BitVec 32 := 1#32
  let v717 : BitVec 32 := Scalar.subi v702 c1_i32_358
  let v718 : BitVec 32 := Scalar.select v716 v717 v702
  let v719 : BitVec 32 := Scalar.maxsi c0_i32_359 v718
  let v720 : BitVec 32 := Scalar.minsi v677 v719
  let v721 : BitVec 32 := Scalar.subi v720 v700
  let c1_i32_360 : BitVec 32 := 1#32
  let v723 : BitVec 32 := Scalar.divsi v721 c1_i32_360
  let v724 : BitVec 32 := Scalar.muli v723 c1_i32_360
  let v725 : BitVec 32 := Scalar.addi v700 v724
  let c1_i32_362 : BitVec 32 := 1#32
  let arg23 : BitVec 32 := Scf.iv v725 c1_i32_362 k0_t96
  let v1305 : BitVec 32 := Scalar.addi v1304 arg23
  let c0_i32_615 : BitVec 32 := 0#32
  ![v1305.toNat, 0]

def k0_chk51 (v657 : BitVec 32) (v659 : BitVec 32) : Prop :=
  ((k0_t95_loop v657 v659).OK) ∧
  (∀ k0_t95 : Fin (k0_t95_loop v657 v659).trips, ∀ a, (k0_off246 v657 v659 k0_t95) a + S2x128.size a ≤ S384x128.size a) ∧
  (∀ k0_t95 : Fin (k0_t95_loop v657 v659).trips, ∀ a, (k0_off247 v657 v659 k0_t95) a + S1x2.size a ≤ S584x2.size a) ∧
  ((k0_t96_loop v657 v659).OK) ∧
  (∀ k0_t96 : Fin (k0_t96_loop v657 v659).trips, ∀ a, (k0_off249 v657 v659 k0_t96) a + S2x128.size a ≤ S384x128.size a) ∧
  (∀ k0_t96 : Fin (k0_t96_loop v657 v659).trips, ∀ a, (k0_off250 v657 v659 k0_t96) a + S1x2.size a ≤ S584x2.size a)
theorem k0_t95_ok : ∀ (v657 : BitVec 32) (v659 : BitVec 32) (k0_hw51 : k0_chk51 v657 v659), (k0_t95_loop v657 v659).OK := fun v657 v659 k0_hw51 => k0_hw51.1
theorem k0_off246_inb : ∀ (v657 : BitVec 32) (v659 : BitVec 32) (k0_hw51 : k0_chk51 v657 v659) (k0_t95 : Fin (k0_t95_loop v657 v659).trips), ∀ a, (k0_off246 v657 v659 k0_t95) a + S2x128.size a ≤ S384x128.size a := fun v657 v659 k0_hw51 k0_t95 => k0_hw51.2.1 k0_t95
theorem k0_off247_inb : ∀ (v657 : BitVec 32) (v659 : BitVec 32) (k0_hw51 : k0_chk51 v657 v659) (k0_t95 : Fin (k0_t95_loop v657 v659).trips), ∀ a, (k0_off247 v657 v659 k0_t95) a + S1x2.size a ≤ S584x2.size a := fun v657 v659 k0_hw51 k0_t95 => k0_hw51.2.2.1 k0_t95
theorem k0_t96_ok : ∀ (v657 : BitVec 32) (v659 : BitVec 32) (k0_hw51 : k0_chk51 v657 v659), (k0_t96_loop v657 v659).OK := fun v657 v659 k0_hw51 => k0_hw51.2.2.2.1
theorem k0_off249_inb : ∀ (v657 : BitVec 32) (v659 : BitVec 32) (k0_hw51 : k0_chk51 v657 v659) (k0_t96 : Fin (k0_t96_loop v657 v659).trips), ∀ a, (k0_off249 v657 v659 k0_t96) a + S2x128.size a ≤ S384x128.size a := fun v657 v659 k0_hw51 k0_t96 => k0_hw51.2.2.2.2.1 k0_t96
theorem k0_off250_inb : ∀ (v657 : BitVec 32) (v659 : BitVec 32) (k0_hw51 : k0_chk51 v657 v659) (k0_t96 : Fin (k0_t96_loop v657 v659).trips), ∀ a, (k0_off250 v657 v659 k0_t96) a + S1x2.size a ≤ S584x2.size a := fun v657 v659 k0_hw51 k0_t96 => k0_hw51.2.2.2.2.2 k0_t96

def k0_off251 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_339 : BitVec 32 := 16#32
  let v678 : BitVec 32 := Scalar.muli arg21 c16_i32_339
  let c7_i32_340 : BitVec 32 := 7#32
  let v679 : BitVec 32 := Scalar.addi v678 c7_i32_340
  let c128_i32_341 : BitVec 32 := 128#32
  let v680 : BitVec 32 := Scalar.muli v679 c128_i32_341
  ![0, v680.toNat]
@[reducible] def k0_t97_loop (v729 : BitVec 32) (v731 : BitVec 32) : Scf.Loop 32 :=
  let c1_i32_363 : BitVec 32 := 1#32
  let v732 : BitVec 32 := Scalar.addi v729 c1_i32_363
  let c0_i32_365 : BitVec 32 := 0#32
  let v734 : BitVec 1 := Scalar.cmpi .sgt v732 c0_i32_365
  let v735 : BitVec 32 := Scalar.extui v734
  let c0_i32_366 : BitVec 32 := 0#32
  let v736 : BitVec 1 := Scalar.cmpi .slt v732 c0_i32_366
  let v737 : BitVec 32 := Scalar.extui v736
  let v738 : BitVec 32 := Scalar.subi v735 v737
  let c2_i32_364 : BitVec 32 := 2#32
  let c0_i32_367 : BitVec 32 := 0#32
  let v739 : BitVec 1 := Scalar.cmpi .sgt c2_i32_364 c0_i32_367
  let v740 : BitVec 32 := Scalar.extui v739
  let c0_i32_368 : BitVec 32 := 0#32
  let v741 : BitVec 1 := Scalar.cmpi .slt c2_i32_364 c0_i32_368
  let v742 : BitVec 32 := Scalar.extui v741
  let v743 : BitVec 32 := Scalar.subi v740 v742
  let v744 : BitVec 1 := Scalar.cmpi .ne v738 v743
  let v745 : BitVec 32 := Scalar.remsi v732 c2_i32_364
  let c0_i32_369 : BitVec 32 := 0#32
  let v746 : BitVec 1 := Scalar.cmpi .ne v745 c0_i32_369
  let v747 : BitVec 1 := Scalar.andi v744 v746
  let v733 : BitVec 32 := Scalar.divsi v732 c2_i32_364
  let c1_i32_370 : BitVec 32 := 1#32
  let v748 : BitVec 32 := Scalar.subi v733 c1_i32_370
  let v749 : BitVec 32 := Scalar.select v747 v748 v733
  let c0_i32_381 : BitVec 32 := 0#32
  let c768_i32_373 : BitVec 32 := 768#32
  let v753 : BitVec 32 := Scalar.subi c768_i32_373 v731
  let c0_i32_375 : BitVec 32 := 0#32
  let v755 : BitVec 1 := Scalar.cmpi .sgt v753 c0_i32_375
  let v756 : BitVec 32 := Scalar.extui v755
  let c0_i32_376 : BitVec 32 := 0#32
  let v757 : BitVec 1 := Scalar.cmpi .slt v753 c0_i32_376
  let v758 : BitVec 32 := Scalar.extui v757
  let v759 : BitVec 32 := Scalar.subi v756 v758
  let c2_i32_374 : BitVec 32 := 2#32
  let c0_i32_377 : BitVec 32 := 0#32
  let v760 : BitVec 1 := Scalar.cmpi .sgt c2_i32_374 c0_i32_377
  let v761 : BitVec 32 := Scalar.extui v760
  let c0_i32_378 : BitVec 32 := 0#32
  let v762 : BitVec 1 := Scalar.cmpi .slt c2_i32_374 c0_i32_378
  let v763 : BitVec 32 := Scalar.extui v762
  let v764 : BitVec 32 := Scalar.subi v761 v763
  let v765 : BitVec 1 := Scalar.cmpi .ne v759 v764
  let v766 : BitVec 32 := Scalar.remsi v753 c2_i32_374
  let c0_i32_379 : BitVec 32 := 0#32
  let v767 : BitVec 1 := Scalar.cmpi .ne v766 c0_i32_379
  let v768 : BitVec 1 := Scalar.andi v765 v767
  let v754 : BitVec 32 := Scalar.divsi v753 c2_i32_374
  let c1_i32_380 : BitVec 32 := 1#32
  let v769 : BitVec 32 := Scalar.subi v754 c1_i32_380
  let v770 : BitVec 32 := Scalar.select v768 v769 v754
  let v771 : BitVec 32 := Scalar.maxsi c0_i32_381 v770
  let v772 : BitVec 32 := Scalar.minsi v749 v771
  let c0_i32_390 : BitVec 32 := 0#32
  let c1152_i32_382 : BitVec 32 := 1152#32
  let v773 : BitVec 32 := Scalar.subi c1152_i32_382 v731
  let c0_i32_384 : BitVec 32 := 0#32
  let v775 : BitVec 1 := Scalar.cmpi .sgt v773 c0_i32_384
  let v776 : BitVec 32 := Scalar.extui v775
  let c0_i32_385 : BitVec 32 := 0#32
  let v777 : BitVec 1 := Scalar.cmpi .slt v773 c0_i32_385
  let v778 : BitVec 32 := Scalar.extui v777
  let v779 : BitVec 32 := Scalar.subi v776 v778
  let c2_i32_383 : BitVec 32 := 2#32
  let c0_i32_386 : BitVec 32 := 0#32
  let v780 : BitVec 1 := Scalar.cmpi .sgt c2_i32_383 c0_i32_386
  let v781 : BitVec 32 := Scalar.extui v780
  let c0_i32_387 : BitVec 32 := 0#32
  let v782 : BitVec 1 := Scalar.cmpi .slt c2_i32_383 c0_i32_387
  let v783 : BitVec 32 := Scalar.extui v782
  let v784 : BitVec 32 := Scalar.subi v781 v783
  let v785 : BitVec 1 := Scalar.cmpi .ne v779 v784
  let v786 : BitVec 32 := Scalar.remsi v773 c2_i32_383
  let c0_i32_388 : BitVec 32 := 0#32
  let v787 : BitVec 1 := Scalar.cmpi .ne v786 c0_i32_388
  let v788 : BitVec 1 := Scalar.andi v785 v787
  let v774 : BitVec 32 := Scalar.divsi v773 c2_i32_383
  let c1_i32_389 : BitVec 32 := 1#32
  let v789 : BitVec 32 := Scalar.subi v774 c1_i32_389
  let v790 : BitVec 32 := Scalar.select v788 v789 v774
  let v791 : BitVec 32 := Scalar.maxsi c0_i32_390 v790
  let v792 : BitVec 32 := Scalar.minsi v749 v791
  let v793 : BitVec 32 := Scalar.subi v792 v772
  let c1_i32_391 : BitVec 32 := 1#32
  let v795 : BitVec 32 := Scalar.divsi v793 c1_i32_391
  let v796 : BitVec 32 := Scalar.muli v795 c1_i32_391
  let v797 : BitVec 32 := Scalar.addi v772 v796
  let c1_i32_392 : BitVec 32 := 1#32
  ⟨v772, v797, c1_i32_392⟩

def k0_off252 (v729 : BitVec 32) (v731 : BitVec 32) (k0_t97 : Fin (k0_t97_loop v729 v731).trips) : Fin 2 → Nat :=
  let c1_i32_363 : BitVec 32 := 1#32
  let v732 : BitVec 32 := Scalar.addi v729 c1_i32_363
  let c0_i32_365 : BitVec 32 := 0#32
  let v734 : BitVec 1 := Scalar.cmpi .sgt v732 c0_i32_365
  let v735 : BitVec 32 := Scalar.extui v734
  let c0_i32_366 : BitVec 32 := 0#32
  let v736 : BitVec 1 := Scalar.cmpi .slt v732 c0_i32_366
  let v737 : BitVec 32 := Scalar.extui v736
  let v738 : BitVec 32 := Scalar.subi v735 v737
  let c2_i32_364 : BitVec 32 := 2#32
  let c0_i32_367 : BitVec 32 := 0#32
  let v739 : BitVec 1 := Scalar.cmpi .sgt c2_i32_364 c0_i32_367
  let v740 : BitVec 32 := Scalar.extui v739
  let c0_i32_368 : BitVec 32 := 0#32
  let v741 : BitVec 1 := Scalar.cmpi .slt c2_i32_364 c0_i32_368
  let v742 : BitVec 32 := Scalar.extui v741
  let v743 : BitVec 32 := Scalar.subi v740 v742
  let v744 : BitVec 1 := Scalar.cmpi .ne v738 v743
  let v745 : BitVec 32 := Scalar.remsi v732 c2_i32_364
  let c0_i32_369 : BitVec 32 := 0#32
  let v746 : BitVec 1 := Scalar.cmpi .ne v745 c0_i32_369
  let v747 : BitVec 1 := Scalar.andi v744 v746
  let v733 : BitVec 32 := Scalar.divsi v732 c2_i32_364
  let c1_i32_370 : BitVec 32 := 1#32
  let v748 : BitVec 32 := Scalar.subi v733 c1_i32_370
  let v749 : BitVec 32 := Scalar.select v747 v748 v733
  let c0_i32_381 : BitVec 32 := 0#32
  let c768_i32_373 : BitVec 32 := 768#32
  let v753 : BitVec 32 := Scalar.subi c768_i32_373 v731
  let c0_i32_375 : BitVec 32 := 0#32
  let v755 : BitVec 1 := Scalar.cmpi .sgt v753 c0_i32_375
  let v756 : BitVec 32 := Scalar.extui v755
  let c0_i32_376 : BitVec 32 := 0#32
  let v757 : BitVec 1 := Scalar.cmpi .slt v753 c0_i32_376
  let v758 : BitVec 32 := Scalar.extui v757
  let v759 : BitVec 32 := Scalar.subi v756 v758
  let c2_i32_374 : BitVec 32 := 2#32
  let c0_i32_377 : BitVec 32 := 0#32
  let v760 : BitVec 1 := Scalar.cmpi .sgt c2_i32_374 c0_i32_377
  let v761 : BitVec 32 := Scalar.extui v760
  let c0_i32_378 : BitVec 32 := 0#32
  let v762 : BitVec 1 := Scalar.cmpi .slt c2_i32_374 c0_i32_378
  let v763 : BitVec 32 := Scalar.extui v762
  let v764 : BitVec 32 := Scalar.subi v761 v763
  let v765 : BitVec 1 := Scalar.cmpi .ne v759 v764
  let v766 : BitVec 32 := Scalar.remsi v753 c2_i32_374
  let c0_i32_379 : BitVec 32 := 0#32
  let v767 : BitVec 1 := Scalar.cmpi .ne v766 c0_i32_379
  let v768 : BitVec 1 := Scalar.andi v765 v767
  let v754 : BitVec 32 := Scalar.divsi v753 c2_i32_374
  let c1_i32_380 : BitVec 32 := 1#32
  let v769 : BitVec 32 := Scalar.subi v754 c1_i32_380
  let v770 : BitVec 32 := Scalar.select v768 v769 v754
  let v771 : BitVec 32 := Scalar.maxsi c0_i32_381 v770
  let v772 : BitVec 32 := Scalar.minsi v749 v771
  let c1_i32_392 : BitVec 32 := 1#32
  let arg23 : BitVec 32 := Scf.iv v772 c1_i32_392 k0_t97
  let c2_i32_612 : BitVec 32 := 2#32
  let v1306 : BitVec 32 := Scalar.muli arg23 c2_i32_612
  let v1307 : BitVec 32 := Scalar.addi v731 v1306
  let c768_i32_613 : BitVec 32 := 768#32
  let v1308 : BitVec 32 := Scalar.subi v1307 c768_i32_613
  let c0_i32_614 : BitVec 32 := 0#32
  ![v1308.toNat, 0]
def k0_off253 (v729 : BitVec 32) (v731 : BitVec 32) (k0_t97 : Fin (k0_t97_loop v729 v731).trips) : Fin 2 → Nat :=
  let c1_i32_611 : BitVec 32 := 1#32
  let v1304 : BitVec 32 := Scalar.shrsi v731 c1_i32_611
  let c1_i32_363 : BitVec 32 := 1#32
  let v732 : BitVec 32 := Scalar.addi v729 c1_i32_363
  let c0_i32_365 : BitVec 32 := 0#32
  let v734 : BitVec 1 := Scalar.cmpi .sgt v732 c0_i32_365
  let v735 : BitVec 32 := Scalar.extui v734
  let c0_i32_366 : BitVec 32 := 0#32
  let v736 : BitVec 1 := Scalar.cmpi .slt v732 c0_i32_366
  let v737 : BitVec 32 := Scalar.extui v736
  let v738 : BitVec 32 := Scalar.subi v735 v737
  let c2_i32_364 : BitVec 32 := 2#32
  let c0_i32_367 : BitVec 32 := 0#32
  let v739 : BitVec 1 := Scalar.cmpi .sgt c2_i32_364 c0_i32_367
  let v740 : BitVec 32 := Scalar.extui v739
  let c0_i32_368 : BitVec 32 := 0#32
  let v741 : BitVec 1 := Scalar.cmpi .slt c2_i32_364 c0_i32_368
  let v742 : BitVec 32 := Scalar.extui v741
  let v743 : BitVec 32 := Scalar.subi v740 v742
  let v744 : BitVec 1 := Scalar.cmpi .ne v738 v743
  let v745 : BitVec 32 := Scalar.remsi v732 c2_i32_364
  let c0_i32_369 : BitVec 32 := 0#32
  let v746 : BitVec 1 := Scalar.cmpi .ne v745 c0_i32_369
  let v747 : BitVec 1 := Scalar.andi v744 v746
  let v733 : BitVec 32 := Scalar.divsi v732 c2_i32_364
  let c1_i32_370 : BitVec 32 := 1#32
  let v748 : BitVec 32 := Scalar.subi v733 c1_i32_370
  let v749 : BitVec 32 := Scalar.select v747 v748 v733
  let c0_i32_381 : BitVec 32 := 0#32
  let c768_i32_373 : BitVec 32 := 768#32
  let v753 : BitVec 32 := Scalar.subi c768_i32_373 v731
  let c0_i32_375 : BitVec 32 := 0#32
  let v755 : BitVec 1 := Scalar.cmpi .sgt v753 c0_i32_375
  let v756 : BitVec 32 := Scalar.extui v755
  let c0_i32_376 : BitVec 32 := 0#32
  let v757 : BitVec 1 := Scalar.cmpi .slt v753 c0_i32_376
  let v758 : BitVec 32 := Scalar.extui v757
  let v759 : BitVec 32 := Scalar.subi v756 v758
  let c2_i32_374 : BitVec 32 := 2#32
  let c0_i32_377 : BitVec 32 := 0#32
  let v760 : BitVec 1 := Scalar.cmpi .sgt c2_i32_374 c0_i32_377
  let v761 : BitVec 32 := Scalar.extui v760
  let c0_i32_378 : BitVec 32 := 0#32
  let v762 : BitVec 1 := Scalar.cmpi .slt c2_i32_374 c0_i32_378
  let v763 : BitVec 32 := Scalar.extui v762
  let v764 : BitVec 32 := Scalar.subi v761 v763
  let v765 : BitVec 1 := Scalar.cmpi .ne v759 v764
  let v766 : BitVec 32 := Scalar.remsi v753 c2_i32_374
  let c0_i32_379 : BitVec 32 := 0#32
  let v767 : BitVec 1 := Scalar.cmpi .ne v766 c0_i32_379
  let v768 : BitVec 1 := Scalar.andi v765 v767
  let v754 : BitVec 32 := Scalar.divsi v753 c2_i32_374
  let c1_i32_380 : BitVec 32 := 1#32
  let v769 : BitVec 32 := Scalar.subi v754 c1_i32_380
  let v770 : BitVec 32 := Scalar.select v768 v769 v754
  let v771 : BitVec 32 := Scalar.maxsi c0_i32_381 v770
  let v772 : BitVec 32 := Scalar.minsi v749 v771
  let c1_i32_392 : BitVec 32 := 1#32
  let arg23 : BitVec 32 := Scf.iv v772 c1_i32_392 k0_t97
  let v1305 : BitVec 32 := Scalar.addi v1304 arg23
  let c0_i32_615 : BitVec 32 := 0#32
  ![v1305.toNat, 0]
def k0_off254 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_371 : BitVec 32 := 16#32
  let v750 : BitVec 32 := Scalar.muli arg21 c16_i32_371
  let c8_i32 : BitVec 32 := 8#32
  let v751 : BitVec 32 := Scalar.addi v750 c8_i32
  let c128_i32_372 : BitVec 32 := 128#32
  let v752 : BitVec 32 := Scalar.muli v751 c128_i32_372
  ![0, v752.toNat]
@[reducible] def k0_t98_loop (v729 : BitVec 32) (v731 : BitVec 32) : Scf.Loop 32 :=
  let c1_i32_363 : BitVec 32 := 1#32
  let v732 : BitVec 32 := Scalar.addi v729 c1_i32_363
  let c0_i32_365 : BitVec 32 := 0#32
  let v734 : BitVec 1 := Scalar.cmpi .sgt v732 c0_i32_365
  let v735 : BitVec 32 := Scalar.extui v734
  let c0_i32_366 : BitVec 32 := 0#32
  let v736 : BitVec 1 := Scalar.cmpi .slt v732 c0_i32_366
  let v737 : BitVec 32 := Scalar.extui v736
  let v738 : BitVec 32 := Scalar.subi v735 v737
  let c2_i32_364 : BitVec 32 := 2#32
  let c0_i32_367 : BitVec 32 := 0#32
  let v739 : BitVec 1 := Scalar.cmpi .sgt c2_i32_364 c0_i32_367
  let v740 : BitVec 32 := Scalar.extui v739
  let c0_i32_368 : BitVec 32 := 0#32
  let v741 : BitVec 1 := Scalar.cmpi .slt c2_i32_364 c0_i32_368
  let v742 : BitVec 32 := Scalar.extui v741
  let v743 : BitVec 32 := Scalar.subi v740 v742
  let v744 : BitVec 1 := Scalar.cmpi .ne v738 v743
  let v745 : BitVec 32 := Scalar.remsi v732 c2_i32_364
  let c0_i32_369 : BitVec 32 := 0#32
  let v746 : BitVec 1 := Scalar.cmpi .ne v745 c0_i32_369
  let v747 : BitVec 1 := Scalar.andi v744 v746
  let v733 : BitVec 32 := Scalar.divsi v732 c2_i32_364
  let c1_i32_370 : BitVec 32 := 1#32
  let v748 : BitVec 32 := Scalar.subi v733 c1_i32_370
  let v749 : BitVec 32 := Scalar.select v747 v748 v733
  let c0_i32_381 : BitVec 32 := 0#32
  let c768_i32_373 : BitVec 32 := 768#32
  let v753 : BitVec 32 := Scalar.subi c768_i32_373 v731
  let c0_i32_375 : BitVec 32 := 0#32
  let v755 : BitVec 1 := Scalar.cmpi .sgt v753 c0_i32_375
  let v756 : BitVec 32 := Scalar.extui v755
  let c0_i32_376 : BitVec 32 := 0#32
  let v757 : BitVec 1 := Scalar.cmpi .slt v753 c0_i32_376
  let v758 : BitVec 32 := Scalar.extui v757
  let v759 : BitVec 32 := Scalar.subi v756 v758
  let c2_i32_374 : BitVec 32 := 2#32
  let c0_i32_377 : BitVec 32 := 0#32
  let v760 : BitVec 1 := Scalar.cmpi .sgt c2_i32_374 c0_i32_377
  let v761 : BitVec 32 := Scalar.extui v760
  let c0_i32_378 : BitVec 32 := 0#32
  let v762 : BitVec 1 := Scalar.cmpi .slt c2_i32_374 c0_i32_378
  let v763 : BitVec 32 := Scalar.extui v762
  let v764 : BitVec 32 := Scalar.subi v761 v763
  let v765 : BitVec 1 := Scalar.cmpi .ne v759 v764
  let v766 : BitVec 32 := Scalar.remsi v753 c2_i32_374
  let c0_i32_379 : BitVec 32 := 0#32
  let v767 : BitVec 1 := Scalar.cmpi .ne v766 c0_i32_379
  let v768 : BitVec 1 := Scalar.andi v765 v767
  let v754 : BitVec 32 := Scalar.divsi v753 c2_i32_374
  let c1_i32_380 : BitVec 32 := 1#32
  let v769 : BitVec 32 := Scalar.subi v754 c1_i32_380
  let v770 : BitVec 32 := Scalar.select v768 v769 v754
  let v771 : BitVec 32 := Scalar.maxsi c0_i32_381 v770
  let v772 : BitVec 32 := Scalar.minsi v749 v771
  let c0_i32_390 : BitVec 32 := 0#32
  let c1152_i32_382 : BitVec 32 := 1152#32
  let v773 : BitVec 32 := Scalar.subi c1152_i32_382 v731
  let c0_i32_384 : BitVec 32 := 0#32
  let v775 : BitVec 1 := Scalar.cmpi .sgt v773 c0_i32_384
  let v776 : BitVec 32 := Scalar.extui v775
  let c0_i32_385 : BitVec 32 := 0#32
  let v777 : BitVec 1 := Scalar.cmpi .slt v773 c0_i32_385
  let v778 : BitVec 32 := Scalar.extui v777
  let v779 : BitVec 32 := Scalar.subi v776 v778
  let c2_i32_383 : BitVec 32 := 2#32
  let c0_i32_386 : BitVec 32 := 0#32
  let v780 : BitVec 1 := Scalar.cmpi .sgt c2_i32_383 c0_i32_386
  let v781 : BitVec 32 := Scalar.extui v780
  let c0_i32_387 : BitVec 32 := 0#32
  let v782 : BitVec 1 := Scalar.cmpi .slt c2_i32_383 c0_i32_387
  let v783 : BitVec 32 := Scalar.extui v782
  let v784 : BitVec 32 := Scalar.subi v781 v783
  let v785 : BitVec 1 := Scalar.cmpi .ne v779 v784
  let v786 : BitVec 32 := Scalar.remsi v773 c2_i32_383
  let c0_i32_388 : BitVec 32 := 0#32
  let v787 : BitVec 1 := Scalar.cmpi .ne v786 c0_i32_388
  let v788 : BitVec 1 := Scalar.andi v785 v787
  let v774 : BitVec 32 := Scalar.divsi v773 c2_i32_383
  let c1_i32_389 : BitVec 32 := 1#32
  let v789 : BitVec 32 := Scalar.subi v774 c1_i32_389
  let v790 : BitVec 32 := Scalar.select v788 v789 v774
  let v791 : BitVec 32 := Scalar.maxsi c0_i32_390 v790
  let v792 : BitVec 32 := Scalar.minsi v749 v791
  let v793 : BitVec 32 := Scalar.subi v792 v772
  let c1_i32_391 : BitVec 32 := 1#32
  let v795 : BitVec 32 := Scalar.divsi v793 c1_i32_391
  let v796 : BitVec 32 := Scalar.muli v795 c1_i32_391
  let v797 : BitVec 32 := Scalar.addi v772 v796
  let v794 : BitVec 32 := Scalar.addi v772 v793
  let c1_i32_393 : BitVec 32 := 1#32
  ⟨v797, v794, c1_i32_393⟩
def k0_off255 (v729 : BitVec 32) (v731 : BitVec 32) (k0_t98 : Fin (k0_t98_loop v729 v731).trips) : Fin 2 → Nat :=
  let c1_i32_363 : BitVec 32 := 1#32
  let v732 : BitVec 32 := Scalar.addi v729 c1_i32_363
  let c0_i32_365 : BitVec 32 := 0#32
  let v734 : BitVec 1 := Scalar.cmpi .sgt v732 c0_i32_365
  let v735 : BitVec 32 := Scalar.extui v734
  let c0_i32_366 : BitVec 32 := 0#32
  let v736 : BitVec 1 := Scalar.cmpi .slt v732 c0_i32_366
  let v737 : BitVec 32 := Scalar.extui v736
  let v738 : BitVec 32 := Scalar.subi v735 v737
  let c2_i32_364 : BitVec 32 := 2#32
  let c0_i32_367 : BitVec 32 := 0#32
  let v739 : BitVec 1 := Scalar.cmpi .sgt c2_i32_364 c0_i32_367
  let v740 : BitVec 32 := Scalar.extui v739
  let c0_i32_368 : BitVec 32 := 0#32
  let v741 : BitVec 1 := Scalar.cmpi .slt c2_i32_364 c0_i32_368
  let v742 : BitVec 32 := Scalar.extui v741
  let v743 : BitVec 32 := Scalar.subi v740 v742
  let v744 : BitVec 1 := Scalar.cmpi .ne v738 v743
  let v745 : BitVec 32 := Scalar.remsi v732 c2_i32_364
  let c0_i32_369 : BitVec 32 := 0#32
  let v746 : BitVec 1 := Scalar.cmpi .ne v745 c0_i32_369
  let v747 : BitVec 1 := Scalar.andi v744 v746
  let v733 : BitVec 32 := Scalar.divsi v732 c2_i32_364
  let c1_i32_370 : BitVec 32 := 1#32
  let v748 : BitVec 32 := Scalar.subi v733 c1_i32_370
  let v749 : BitVec 32 := Scalar.select v747 v748 v733
  let c0_i32_381 : BitVec 32 := 0#32
  let c768_i32_373 : BitVec 32 := 768#32
  let v753 : BitVec 32 := Scalar.subi c768_i32_373 v731
  let c0_i32_375 : BitVec 32 := 0#32
  let v755 : BitVec 1 := Scalar.cmpi .sgt v753 c0_i32_375
  let v756 : BitVec 32 := Scalar.extui v755
  let c0_i32_376 : BitVec 32 := 0#32
  let v757 : BitVec 1 := Scalar.cmpi .slt v753 c0_i32_376
  let v758 : BitVec 32 := Scalar.extui v757
  let v759 : BitVec 32 := Scalar.subi v756 v758
  let c2_i32_374 : BitVec 32 := 2#32
  let c0_i32_377 : BitVec 32 := 0#32
  let v760 : BitVec 1 := Scalar.cmpi .sgt c2_i32_374 c0_i32_377
  let v761 : BitVec 32 := Scalar.extui v760
  let c0_i32_378 : BitVec 32 := 0#32
  let v762 : BitVec 1 := Scalar.cmpi .slt c2_i32_374 c0_i32_378
  let v763 : BitVec 32 := Scalar.extui v762
  let v764 : BitVec 32 := Scalar.subi v761 v763
  let v765 : BitVec 1 := Scalar.cmpi .ne v759 v764
  let v766 : BitVec 32 := Scalar.remsi v753 c2_i32_374
  let c0_i32_379 : BitVec 32 := 0#32
  let v767 : BitVec 1 := Scalar.cmpi .ne v766 c0_i32_379
  let v768 : BitVec 1 := Scalar.andi v765 v767
  let v754 : BitVec 32 := Scalar.divsi v753 c2_i32_374
  let c1_i32_380 : BitVec 32 := 1#32
  let v769 : BitVec 32 := Scalar.subi v754 c1_i32_380
  let v770 : BitVec 32 := Scalar.select v768 v769 v754
  let v771 : BitVec 32 := Scalar.maxsi c0_i32_381 v770
  let v772 : BitVec 32 := Scalar.minsi v749 v771
  let c0_i32_390 : BitVec 32 := 0#32
  let c1152_i32_382 : BitVec 32 := 1152#32
  let v773 : BitVec 32 := Scalar.subi c1152_i32_382 v731
  let c0_i32_384 : BitVec 32 := 0#32
  let v775 : BitVec 1 := Scalar.cmpi .sgt v773 c0_i32_384
  let v776 : BitVec 32 := Scalar.extui v775
  let c0_i32_385 : BitVec 32 := 0#32
  let v777 : BitVec 1 := Scalar.cmpi .slt v773 c0_i32_385
  let v778 : BitVec 32 := Scalar.extui v777
  let v779 : BitVec 32 := Scalar.subi v776 v778
  let c2_i32_383 : BitVec 32 := 2#32
  let c0_i32_386 : BitVec 32 := 0#32
  let v780 : BitVec 1 := Scalar.cmpi .sgt c2_i32_383 c0_i32_386
  let v781 : BitVec 32 := Scalar.extui v780
  let c0_i32_387 : BitVec 32 := 0#32
  let v782 : BitVec 1 := Scalar.cmpi .slt c2_i32_383 c0_i32_387
  let v783 : BitVec 32 := Scalar.extui v782
  let v784 : BitVec 32 := Scalar.subi v781 v783
  let v785 : BitVec 1 := Scalar.cmpi .ne v779 v784
  let v786 : BitVec 32 := Scalar.remsi v773 c2_i32_383
  let c0_i32_388 : BitVec 32 := 0#32
  let v787 : BitVec 1 := Scalar.cmpi .ne v786 c0_i32_388
  let v788 : BitVec 1 := Scalar.andi v785 v787
  let v774 : BitVec 32 := Scalar.divsi v773 c2_i32_383
  let c1_i32_389 : BitVec 32 := 1#32
  let v789 : BitVec 32 := Scalar.subi v774 c1_i32_389
  let v790 : BitVec 32 := Scalar.select v788 v789 v774
  let v791 : BitVec 32 := Scalar.maxsi c0_i32_390 v790
  let v792 : BitVec 32 := Scalar.minsi v749 v791
  let v793 : BitVec 32 := Scalar.subi v792 v772
  let c1_i32_391 : BitVec 32 := 1#32
  let v795 : BitVec 32 := Scalar.divsi v793 c1_i32_391
  let v796 : BitVec 32 := Scalar.muli v795 c1_i32_391
  let v797 : BitVec 32 := Scalar.addi v772 v796
  let c1_i32_393 : BitVec 32 := 1#32
  let arg23 : BitVec 32 := Scf.iv v797 c1_i32_393 k0_t98
  let c2_i32_612 : BitVec 32 := 2#32
  let v1306 : BitVec 32 := Scalar.muli arg23 c2_i32_612
  let v1307 : BitVec 32 := Scalar.addi v731 v1306
  let c768_i32_613 : BitVec 32 := 768#32
  let v1308 : BitVec 32 := Scalar.subi v1307 c768_i32_613
  let c0_i32_614 : BitVec 32 := 0#32
  ![v1308.toNat, 0]
def k0_off256 (v729 : BitVec 32) (v731 : BitVec 32) (k0_t98 : Fin (k0_t98_loop v729 v731).trips) : Fin 2 → Nat :=
  let c1_i32_611 : BitVec 32 := 1#32
  let v1304 : BitVec 32 := Scalar.shrsi v731 c1_i32_611
  let c1_i32_363 : BitVec 32 := 1#32
  let v732 : BitVec 32 := Scalar.addi v729 c1_i32_363
  let c0_i32_365 : BitVec 32 := 0#32
  let v734 : BitVec 1 := Scalar.cmpi .sgt v732 c0_i32_365
  let v735 : BitVec 32 := Scalar.extui v734
  let c0_i32_366 : BitVec 32 := 0#32
  let v736 : BitVec 1 := Scalar.cmpi .slt v732 c0_i32_366
  let v737 : BitVec 32 := Scalar.extui v736
  let v738 : BitVec 32 := Scalar.subi v735 v737
  let c2_i32_364 : BitVec 32 := 2#32
  let c0_i32_367 : BitVec 32 := 0#32
  let v739 : BitVec 1 := Scalar.cmpi .sgt c2_i32_364 c0_i32_367
  let v740 : BitVec 32 := Scalar.extui v739
  let c0_i32_368 : BitVec 32 := 0#32
  let v741 : BitVec 1 := Scalar.cmpi .slt c2_i32_364 c0_i32_368
  let v742 : BitVec 32 := Scalar.extui v741
  let v743 : BitVec 32 := Scalar.subi v740 v742
  let v744 : BitVec 1 := Scalar.cmpi .ne v738 v743
  let v745 : BitVec 32 := Scalar.remsi v732 c2_i32_364
  let c0_i32_369 : BitVec 32 := 0#32
  let v746 : BitVec 1 := Scalar.cmpi .ne v745 c0_i32_369
  let v747 : BitVec 1 := Scalar.andi v744 v746
  let v733 : BitVec 32 := Scalar.divsi v732 c2_i32_364
  let c1_i32_370 : BitVec 32 := 1#32
  let v748 : BitVec 32 := Scalar.subi v733 c1_i32_370
  let v749 : BitVec 32 := Scalar.select v747 v748 v733
  let c0_i32_381 : BitVec 32 := 0#32
  let c768_i32_373 : BitVec 32 := 768#32
  let v753 : BitVec 32 := Scalar.subi c768_i32_373 v731
  let c0_i32_375 : BitVec 32 := 0#32
  let v755 : BitVec 1 := Scalar.cmpi .sgt v753 c0_i32_375
  let v756 : BitVec 32 := Scalar.extui v755
  let c0_i32_376 : BitVec 32 := 0#32
  let v757 : BitVec 1 := Scalar.cmpi .slt v753 c0_i32_376
  let v758 : BitVec 32 := Scalar.extui v757
  let v759 : BitVec 32 := Scalar.subi v756 v758
  let c2_i32_374 : BitVec 32 := 2#32
  let c0_i32_377 : BitVec 32 := 0#32
  let v760 : BitVec 1 := Scalar.cmpi .sgt c2_i32_374 c0_i32_377
  let v761 : BitVec 32 := Scalar.extui v760
  let c0_i32_378 : BitVec 32 := 0#32
  let v762 : BitVec 1 := Scalar.cmpi .slt c2_i32_374 c0_i32_378
  let v763 : BitVec 32 := Scalar.extui v762
  let v764 : BitVec 32 := Scalar.subi v761 v763
  let v765 : BitVec 1 := Scalar.cmpi .ne v759 v764
  let v766 : BitVec 32 := Scalar.remsi v753 c2_i32_374
  let c0_i32_379 : BitVec 32 := 0#32
  let v767 : BitVec 1 := Scalar.cmpi .ne v766 c0_i32_379
  let v768 : BitVec 1 := Scalar.andi v765 v767
  let v754 : BitVec 32 := Scalar.divsi v753 c2_i32_374
  let c1_i32_380 : BitVec 32 := 1#32
  let v769 : BitVec 32 := Scalar.subi v754 c1_i32_380
  let v770 : BitVec 32 := Scalar.select v768 v769 v754
  let v771 : BitVec 32 := Scalar.maxsi c0_i32_381 v770
  let v772 : BitVec 32 := Scalar.minsi v749 v771
  let c0_i32_390 : BitVec 32 := 0#32
  let c1152_i32_382 : BitVec 32 := 1152#32
  let v773 : BitVec 32 := Scalar.subi c1152_i32_382 v731
  let c0_i32_384 : BitVec 32 := 0#32
  let v775 : BitVec 1 := Scalar.cmpi .sgt v773 c0_i32_384
  let v776 : BitVec 32 := Scalar.extui v775
  let c0_i32_385 : BitVec 32 := 0#32
  let v777 : BitVec 1 := Scalar.cmpi .slt v773 c0_i32_385
  let v778 : BitVec 32 := Scalar.extui v777
  let v779 : BitVec 32 := Scalar.subi v776 v778
  let c2_i32_383 : BitVec 32 := 2#32
  let c0_i32_386 : BitVec 32 := 0#32
  let v780 : BitVec 1 := Scalar.cmpi .sgt c2_i32_383 c0_i32_386
  let v781 : BitVec 32 := Scalar.extui v780
  let c0_i32_387 : BitVec 32 := 0#32
  let v782 : BitVec 1 := Scalar.cmpi .slt c2_i32_383 c0_i32_387
  let v783 : BitVec 32 := Scalar.extui v782
  let v784 : BitVec 32 := Scalar.subi v781 v783
  let v785 : BitVec 1 := Scalar.cmpi .ne v779 v784
  let v786 : BitVec 32 := Scalar.remsi v773 c2_i32_383
  let c0_i32_388 : BitVec 32 := 0#32
  let v787 : BitVec 1 := Scalar.cmpi .ne v786 c0_i32_388
  let v788 : BitVec 1 := Scalar.andi v785 v787
  let v774 : BitVec 32 := Scalar.divsi v773 c2_i32_383
  let c1_i32_389 : BitVec 32 := 1#32
  let v789 : BitVec 32 := Scalar.subi v774 c1_i32_389
  let v790 : BitVec 32 := Scalar.select v788 v789 v774
  let v791 : BitVec 32 := Scalar.maxsi c0_i32_390 v790
  let v792 : BitVec 32 := Scalar.minsi v749 v791
  let v793 : BitVec 32 := Scalar.subi v792 v772
  let c1_i32_391 : BitVec 32 := 1#32
  let v795 : BitVec 32 := Scalar.divsi v793 c1_i32_391
  let v796 : BitVec 32 := Scalar.muli v795 c1_i32_391
  let v797 : BitVec 32 := Scalar.addi v772 v796
  let c1_i32_393 : BitVec 32 := 1#32
  let arg23 : BitVec 32 := Scf.iv v797 c1_i32_393 k0_t98
  let v1305 : BitVec 32 := Scalar.addi v1304 arg23
  let c0_i32_615 : BitVec 32 := 0#32
  ![v1305.toNat, 0]

def k0_chk52 (v729 : BitVec 32) (v731 : BitVec 32) : Prop :=
  ((k0_t97_loop v729 v731).OK) ∧
  (∀ k0_t97 : Fin (k0_t97_loop v729 v731).trips, ∀ a, (k0_off252 v729 v731 k0_t97) a + S2x128.size a ≤ S384x128.size a) ∧
  (∀ k0_t97 : Fin (k0_t97_loop v729 v731).trips, ∀ a, (k0_off253 v729 v731 k0_t97) a + S1x2.size a ≤ S584x2.size a) ∧
  ((k0_t98_loop v729 v731).OK) ∧
  (∀ k0_t98 : Fin (k0_t98_loop v729 v731).trips, ∀ a, (k0_off255 v729 v731 k0_t98) a + S2x128.size a ≤ S384x128.size a) ∧
  (∀ k0_t98 : Fin (k0_t98_loop v729 v731).trips, ∀ a, (k0_off256 v729 v731 k0_t98) a + S1x2.size a ≤ S584x2.size a)
theorem k0_t97_ok : ∀ (v729 : BitVec 32) (v731 : BitVec 32) (k0_hw52 : k0_chk52 v729 v731), (k0_t97_loop v729 v731).OK := fun v729 v731 k0_hw52 => k0_hw52.1
theorem k0_off252_inb : ∀ (v729 : BitVec 32) (v731 : BitVec 32) (k0_hw52 : k0_chk52 v729 v731) (k0_t97 : Fin (k0_t97_loop v729 v731).trips), ∀ a, (k0_off252 v729 v731 k0_t97) a + S2x128.size a ≤ S384x128.size a := fun v729 v731 k0_hw52 k0_t97 => k0_hw52.2.1 k0_t97
theorem k0_off253_inb : ∀ (v729 : BitVec 32) (v731 : BitVec 32) (k0_hw52 : k0_chk52 v729 v731) (k0_t97 : Fin (k0_t97_loop v729 v731).trips), ∀ a, (k0_off253 v729 v731 k0_t97) a + S1x2.size a ≤ S584x2.size a := fun v729 v731 k0_hw52 k0_t97 => k0_hw52.2.2.1 k0_t97
theorem k0_t98_ok : ∀ (v729 : BitVec 32) (v731 : BitVec 32) (k0_hw52 : k0_chk52 v729 v731), (k0_t98_loop v729 v731).OK := fun v729 v731 k0_hw52 => k0_hw52.2.2.2.1
theorem k0_off255_inb : ∀ (v729 : BitVec 32) (v731 : BitVec 32) (k0_hw52 : k0_chk52 v729 v731) (k0_t98 : Fin (k0_t98_loop v729 v731).trips), ∀ a, (k0_off255 v729 v731 k0_t98) a + S2x128.size a ≤ S384x128.size a := fun v729 v731 k0_hw52 k0_t98 => k0_hw52.2.2.2.2.1 k0_t98
theorem k0_off256_inb : ∀ (v729 : BitVec 32) (v731 : BitVec 32) (k0_hw52 : k0_chk52 v729 v731) (k0_t98 : Fin (k0_t98_loop v729 v731).trips), ∀ a, (k0_off256 v729 v731 k0_t98) a + S1x2.size a ≤ S584x2.size a := fun v729 v731 k0_hw52 k0_t98 => k0_hw52.2.2.2.2.2 k0_t98

def k0_off257 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_371 : BitVec 32 := 16#32
  let v750 : BitVec 32 := Scalar.muli arg21 c16_i32_371
  let c8_i32 : BitVec 32 := 8#32
  let v751 : BitVec 32 := Scalar.addi v750 c8_i32
  let c128_i32_372 : BitVec 32 := 128#32
  let v752 : BitVec 32 := Scalar.muli v751 c128_i32_372
  ![0, v752.toNat]
@[reducible] def k0_t99_loop (v801 : BitVec 32) (v803 : BitVec 32) : Scf.Loop 32 :=
  let c1_i32_394 : BitVec 32 := 1#32
  let v804 : BitVec 32 := Scalar.addi v801 c1_i32_394
  let c0_i32_396 : BitVec 32 := 0#32
  let v806 : BitVec 1 := Scalar.cmpi .sgt v804 c0_i32_396
  let v807 : BitVec 32 := Scalar.extui v806
  let c0_i32_397 : BitVec 32 := 0#32
  let v808 : BitVec 1 := Scalar.cmpi .slt v804 c0_i32_397
  let v809 : BitVec 32 := Scalar.extui v808
  let v810 : BitVec 32 := Scalar.subi v807 v809
  let c2_i32_395 : BitVec 32 := 2#32
  let c0_i32_398 : BitVec 32 := 0#32
  let v811 : BitVec 1 := Scalar.cmpi .sgt c2_i32_395 c0_i32_398
  let v812 : BitVec 32 := Scalar.extui v811
  let c0_i32_399 : BitVec 32 := 0#32
  let v813 : BitVec 1 := Scalar.cmpi .slt c2_i32_395 c0_i32_399
  let v814 : BitVec 32 := Scalar.extui v813
  let v815 : BitVec 32 := Scalar.subi v812 v814
  let v816 : BitVec 1 := Scalar.cmpi .ne v810 v815
  let v817 : BitVec 32 := Scalar.remsi v804 c2_i32_395
  let c0_i32_400 : BitVec 32 := 0#32
  let v818 : BitVec 1 := Scalar.cmpi .ne v817 c0_i32_400
  let v819 : BitVec 1 := Scalar.andi v816 v818
  let v805 : BitVec 32 := Scalar.divsi v804 c2_i32_395
  let c1_i32_401 : BitVec 32 := 1#32
  let v820 : BitVec 32 := Scalar.subi v805 c1_i32_401
  let v821 : BitVec 32 := Scalar.select v819 v820 v805
  let c0_i32_412 : BitVec 32 := 0#32
  let c768_i32_404 : BitVec 32 := 768#32
  let v825 : BitVec 32 := Scalar.subi c768_i32_404 v803
  let c0_i32_406 : BitVec 32 := 0#32
  let v827 : BitVec 1 := Scalar.cmpi .sgt v825 c0_i32_406
  let v828 : BitVec 32 := Scalar.extui v827
  let c0_i32_407 : BitVec 32 := 0#32
  let v829 : BitVec 1 := Scalar.cmpi .slt v825 c0_i32_407
  let v830 : BitVec 32 := Scalar.extui v829
  let v831 : BitVec 32 := Scalar.subi v828 v830
  let c2_i32_405 : BitVec 32 := 2#32
  let c0_i32_408 : BitVec 32 := 0#32
  let v832 : BitVec 1 := Scalar.cmpi .sgt c2_i32_405 c0_i32_408
  let v833 : BitVec 32 := Scalar.extui v832
  let c0_i32_409 : BitVec 32 := 0#32
  let v834 : BitVec 1 := Scalar.cmpi .slt c2_i32_405 c0_i32_409
  let v835 : BitVec 32 := Scalar.extui v834
  let v836 : BitVec 32 := Scalar.subi v833 v835
  let v837 : BitVec 1 := Scalar.cmpi .ne v831 v836
  let v838 : BitVec 32 := Scalar.remsi v825 c2_i32_405
  let c0_i32_410 : BitVec 32 := 0#32
  let v839 : BitVec 1 := Scalar.cmpi .ne v838 c0_i32_410
  let v840 : BitVec 1 := Scalar.andi v837 v839
  let v826 : BitVec 32 := Scalar.divsi v825 c2_i32_405
  let c1_i32_411 : BitVec 32 := 1#32
  let v841 : BitVec 32 := Scalar.subi v826 c1_i32_411
  let v842 : BitVec 32 := Scalar.select v840 v841 v826
  let v843 : BitVec 32 := Scalar.maxsi c0_i32_412 v842
  let v844 : BitVec 32 := Scalar.minsi v821 v843
  let c0_i32_421 : BitVec 32 := 0#32
  let c1152_i32_413 : BitVec 32 := 1152#32
  let v845 : BitVec 32 := Scalar.subi c1152_i32_413 v803
  let c0_i32_415 : BitVec 32 := 0#32
  let v847 : BitVec 1 := Scalar.cmpi .sgt v845 c0_i32_415
  let v848 : BitVec 32 := Scalar.extui v847
  let c0_i32_416 : BitVec 32 := 0#32
  let v849 : BitVec 1 := Scalar.cmpi .slt v845 c0_i32_416
  let v850 : BitVec 32 := Scalar.extui v849
  let v851 : BitVec 32 := Scalar.subi v848 v850
  let c2_i32_414 : BitVec 32 := 2#32
  let c0_i32_417 : BitVec 32 := 0#32
  let v852 : BitVec 1 := Scalar.cmpi .sgt c2_i32_414 c0_i32_417
  let v853 : BitVec 32 := Scalar.extui v852
  let c0_i32_418 : BitVec 32 := 0#32
  let v854 : BitVec 1 := Scalar.cmpi .slt c2_i32_414 c0_i32_418
  let v855 : BitVec 32 := Scalar.extui v854
  let v856 : BitVec 32 := Scalar.subi v853 v855
  let v857 : BitVec 1 := Scalar.cmpi .ne v851 v856
  let v858 : BitVec 32 := Scalar.remsi v845 c2_i32_414
  let c0_i32_419 : BitVec 32 := 0#32
  let v859 : BitVec 1 := Scalar.cmpi .ne v858 c0_i32_419
  let v860 : BitVec 1 := Scalar.andi v857 v859
  let v846 : BitVec 32 := Scalar.divsi v845 c2_i32_414
  let c1_i32_420 : BitVec 32 := 1#32
  let v861 : BitVec 32 := Scalar.subi v846 c1_i32_420
  let v862 : BitVec 32 := Scalar.select v860 v861 v846
  let v863 : BitVec 32 := Scalar.maxsi c0_i32_421 v862
  let v864 : BitVec 32 := Scalar.minsi v821 v863
  let v865 : BitVec 32 := Scalar.subi v864 v844
  let c1_i32_422 : BitVec 32 := 1#32
  let v867 : BitVec 32 := Scalar.divsi v865 c1_i32_422
  let v868 : BitVec 32 := Scalar.muli v867 c1_i32_422
  let v869 : BitVec 32 := Scalar.addi v844 v868
  let c1_i32_423 : BitVec 32 := 1#32
  ⟨v844, v869, c1_i32_423⟩

def k0_off258 (v801 : BitVec 32) (v803 : BitVec 32) (k0_t99 : Fin (k0_t99_loop v801 v803).trips) : Fin 2 → Nat :=
  let c1_i32_394 : BitVec 32 := 1#32
  let v804 : BitVec 32 := Scalar.addi v801 c1_i32_394
  let c0_i32_396 : BitVec 32 := 0#32
  let v806 : BitVec 1 := Scalar.cmpi .sgt v804 c0_i32_396
  let v807 : BitVec 32 := Scalar.extui v806
  let c0_i32_397 : BitVec 32 := 0#32
  let v808 : BitVec 1 := Scalar.cmpi .slt v804 c0_i32_397
  let v809 : BitVec 32 := Scalar.extui v808
  let v810 : BitVec 32 := Scalar.subi v807 v809
  let c2_i32_395 : BitVec 32 := 2#32
  let c0_i32_398 : BitVec 32 := 0#32
  let v811 : BitVec 1 := Scalar.cmpi .sgt c2_i32_395 c0_i32_398
  let v812 : BitVec 32 := Scalar.extui v811
  let c0_i32_399 : BitVec 32 := 0#32
  let v813 : BitVec 1 := Scalar.cmpi .slt c2_i32_395 c0_i32_399
  let v814 : BitVec 32 := Scalar.extui v813
  let v815 : BitVec 32 := Scalar.subi v812 v814
  let v816 : BitVec 1 := Scalar.cmpi .ne v810 v815
  let v817 : BitVec 32 := Scalar.remsi v804 c2_i32_395
  let c0_i32_400 : BitVec 32 := 0#32
  let v818 : BitVec 1 := Scalar.cmpi .ne v817 c0_i32_400
  let v819 : BitVec 1 := Scalar.andi v816 v818
  let v805 : BitVec 32 := Scalar.divsi v804 c2_i32_395
  let c1_i32_401 : BitVec 32 := 1#32
  let v820 : BitVec 32 := Scalar.subi v805 c1_i32_401
  let v821 : BitVec 32 := Scalar.select v819 v820 v805
  let c0_i32_412 : BitVec 32 := 0#32
  let c768_i32_404 : BitVec 32 := 768#32
  let v825 : BitVec 32 := Scalar.subi c768_i32_404 v803
  let c0_i32_406 : BitVec 32 := 0#32
  let v827 : BitVec 1 := Scalar.cmpi .sgt v825 c0_i32_406
  let v828 : BitVec 32 := Scalar.extui v827
  let c0_i32_407 : BitVec 32 := 0#32
  let v829 : BitVec 1 := Scalar.cmpi .slt v825 c0_i32_407
  let v830 : BitVec 32 := Scalar.extui v829
  let v831 : BitVec 32 := Scalar.subi v828 v830
  let c2_i32_405 : BitVec 32 := 2#32
  let c0_i32_408 : BitVec 32 := 0#32
  let v832 : BitVec 1 := Scalar.cmpi .sgt c2_i32_405 c0_i32_408
  let v833 : BitVec 32 := Scalar.extui v832
  let c0_i32_409 : BitVec 32 := 0#32
  let v834 : BitVec 1 := Scalar.cmpi .slt c2_i32_405 c0_i32_409
  let v835 : BitVec 32 := Scalar.extui v834
  let v836 : BitVec 32 := Scalar.subi v833 v835
  let v837 : BitVec 1 := Scalar.cmpi .ne v831 v836
  let v838 : BitVec 32 := Scalar.remsi v825 c2_i32_405
  let c0_i32_410 : BitVec 32 := 0#32
  let v839 : BitVec 1 := Scalar.cmpi .ne v838 c0_i32_410
  let v840 : BitVec 1 := Scalar.andi v837 v839
  let v826 : BitVec 32 := Scalar.divsi v825 c2_i32_405
  let c1_i32_411 : BitVec 32 := 1#32
  let v841 : BitVec 32 := Scalar.subi v826 c1_i32_411
  let v842 : BitVec 32 := Scalar.select v840 v841 v826
  let v843 : BitVec 32 := Scalar.maxsi c0_i32_412 v842
  let v844 : BitVec 32 := Scalar.minsi v821 v843
  let c1_i32_423 : BitVec 32 := 1#32
  let arg23 : BitVec 32 := Scf.iv v844 c1_i32_423 k0_t99
  let c2_i32_612 : BitVec 32 := 2#32
  let v1306 : BitVec 32 := Scalar.muli arg23 c2_i32_612
  let v1307 : BitVec 32 := Scalar.addi v803 v1306
  let c768_i32_613 : BitVec 32 := 768#32
  let v1308 : BitVec 32 := Scalar.subi v1307 c768_i32_613
  let c0_i32_614 : BitVec 32 := 0#32
  ![v1308.toNat, 0]
def k0_off259 (v801 : BitVec 32) (v803 : BitVec 32) (k0_t99 : Fin (k0_t99_loop v801 v803).trips) : Fin 2 → Nat :=
  let c1_i32_611 : BitVec 32 := 1#32
  let v1304 : BitVec 32 := Scalar.shrsi v803 c1_i32_611
  let c1_i32_394 : BitVec 32 := 1#32
  let v804 : BitVec 32 := Scalar.addi v801 c1_i32_394
  let c0_i32_396 : BitVec 32 := 0#32
  let v806 : BitVec 1 := Scalar.cmpi .sgt v804 c0_i32_396
  let v807 : BitVec 32 := Scalar.extui v806
  let c0_i32_397 : BitVec 32 := 0#32
  let v808 : BitVec 1 := Scalar.cmpi .slt v804 c0_i32_397
  let v809 : BitVec 32 := Scalar.extui v808
  let v810 : BitVec 32 := Scalar.subi v807 v809
  let c2_i32_395 : BitVec 32 := 2#32
  let c0_i32_398 : BitVec 32 := 0#32
  let v811 : BitVec 1 := Scalar.cmpi .sgt c2_i32_395 c0_i32_398
  let v812 : BitVec 32 := Scalar.extui v811
  let c0_i32_399 : BitVec 32 := 0#32
  let v813 : BitVec 1 := Scalar.cmpi .slt c2_i32_395 c0_i32_399
  let v814 : BitVec 32 := Scalar.extui v813
  let v815 : BitVec 32 := Scalar.subi v812 v814
  let v816 : BitVec 1 := Scalar.cmpi .ne v810 v815
  let v817 : BitVec 32 := Scalar.remsi v804 c2_i32_395
  let c0_i32_400 : BitVec 32 := 0#32
  let v818 : BitVec 1 := Scalar.cmpi .ne v817 c0_i32_400
  let v819 : BitVec 1 := Scalar.andi v816 v818
  let v805 : BitVec 32 := Scalar.divsi v804 c2_i32_395
  let c1_i32_401 : BitVec 32 := 1#32
  let v820 : BitVec 32 := Scalar.subi v805 c1_i32_401
  let v821 : BitVec 32 := Scalar.select v819 v820 v805
  let c0_i32_412 : BitVec 32 := 0#32
  let c768_i32_404 : BitVec 32 := 768#32
  let v825 : BitVec 32 := Scalar.subi c768_i32_404 v803
  let c0_i32_406 : BitVec 32 := 0#32
  let v827 : BitVec 1 := Scalar.cmpi .sgt v825 c0_i32_406
  let v828 : BitVec 32 := Scalar.extui v827
  let c0_i32_407 : BitVec 32 := 0#32
  let v829 : BitVec 1 := Scalar.cmpi .slt v825 c0_i32_407
  let v830 : BitVec 32 := Scalar.extui v829
  let v831 : BitVec 32 := Scalar.subi v828 v830
  let c2_i32_405 : BitVec 32 := 2#32
  let c0_i32_408 : BitVec 32 := 0#32
  let v832 : BitVec 1 := Scalar.cmpi .sgt c2_i32_405 c0_i32_408
  let v833 : BitVec 32 := Scalar.extui v832
  let c0_i32_409 : BitVec 32 := 0#32
  let v834 : BitVec 1 := Scalar.cmpi .slt c2_i32_405 c0_i32_409
  let v835 : BitVec 32 := Scalar.extui v834
  let v836 : BitVec 32 := Scalar.subi v833 v835
  let v837 : BitVec 1 := Scalar.cmpi .ne v831 v836
  let v838 : BitVec 32 := Scalar.remsi v825 c2_i32_405
  let c0_i32_410 : BitVec 32 := 0#32
  let v839 : BitVec 1 := Scalar.cmpi .ne v838 c0_i32_410
  let v840 : BitVec 1 := Scalar.andi v837 v839
  let v826 : BitVec 32 := Scalar.divsi v825 c2_i32_405
  let c1_i32_411 : BitVec 32 := 1#32
  let v841 : BitVec 32 := Scalar.subi v826 c1_i32_411
  let v842 : BitVec 32 := Scalar.select v840 v841 v826
  let v843 : BitVec 32 := Scalar.maxsi c0_i32_412 v842
  let v844 : BitVec 32 := Scalar.minsi v821 v843
  let c1_i32_423 : BitVec 32 := 1#32
  let arg23 : BitVec 32 := Scf.iv v844 c1_i32_423 k0_t99
  let v1305 : BitVec 32 := Scalar.addi v1304 arg23
  let c0_i32_615 : BitVec 32 := 0#32
  ![v1305.toNat, 0]
def k0_off260 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_402 : BitVec 32 := 16#32
  let v822 : BitVec 32 := Scalar.muli arg21 c16_i32_402
  let c9_i32 : BitVec 32 := 9#32
  let v823 : BitVec 32 := Scalar.addi v822 c9_i32
  let c128_i32_403 : BitVec 32 := 128#32
  let v824 : BitVec 32 := Scalar.muli v823 c128_i32_403
  ![0, v824.toNat]
@[reducible] def k0_t100_loop (v801 : BitVec 32) (v803 : BitVec 32) : Scf.Loop 32 :=
  let c1_i32_394 : BitVec 32 := 1#32
  let v804 : BitVec 32 := Scalar.addi v801 c1_i32_394
  let c0_i32_396 : BitVec 32 := 0#32
  let v806 : BitVec 1 := Scalar.cmpi .sgt v804 c0_i32_396
  let v807 : BitVec 32 := Scalar.extui v806
  let c0_i32_397 : BitVec 32 := 0#32
  let v808 : BitVec 1 := Scalar.cmpi .slt v804 c0_i32_397
  let v809 : BitVec 32 := Scalar.extui v808
  let v810 : BitVec 32 := Scalar.subi v807 v809
  let c2_i32_395 : BitVec 32 := 2#32
  let c0_i32_398 : BitVec 32 := 0#32
  let v811 : BitVec 1 := Scalar.cmpi .sgt c2_i32_395 c0_i32_398
  let v812 : BitVec 32 := Scalar.extui v811
  let c0_i32_399 : BitVec 32 := 0#32
  let v813 : BitVec 1 := Scalar.cmpi .slt c2_i32_395 c0_i32_399
  let v814 : BitVec 32 := Scalar.extui v813
  let v815 : BitVec 32 := Scalar.subi v812 v814
  let v816 : BitVec 1 := Scalar.cmpi .ne v810 v815
  let v817 : BitVec 32 := Scalar.remsi v804 c2_i32_395
  let c0_i32_400 : BitVec 32 := 0#32
  let v818 : BitVec 1 := Scalar.cmpi .ne v817 c0_i32_400
  let v819 : BitVec 1 := Scalar.andi v816 v818
  let v805 : BitVec 32 := Scalar.divsi v804 c2_i32_395
  let c1_i32_401 : BitVec 32 := 1#32
  let v820 : BitVec 32 := Scalar.subi v805 c1_i32_401
  let v821 : BitVec 32 := Scalar.select v819 v820 v805
  let c0_i32_412 : BitVec 32 := 0#32
  let c768_i32_404 : BitVec 32 := 768#32
  let v825 : BitVec 32 := Scalar.subi c768_i32_404 v803
  let c0_i32_406 : BitVec 32 := 0#32
  let v827 : BitVec 1 := Scalar.cmpi .sgt v825 c0_i32_406
  let v828 : BitVec 32 := Scalar.extui v827
  let c0_i32_407 : BitVec 32 := 0#32
  let v829 : BitVec 1 := Scalar.cmpi .slt v825 c0_i32_407
  let v830 : BitVec 32 := Scalar.extui v829
  let v831 : BitVec 32 := Scalar.subi v828 v830
  let c2_i32_405 : BitVec 32 := 2#32
  let c0_i32_408 : BitVec 32 := 0#32
  let v832 : BitVec 1 := Scalar.cmpi .sgt c2_i32_405 c0_i32_408
  let v833 : BitVec 32 := Scalar.extui v832
  let c0_i32_409 : BitVec 32 := 0#32
  let v834 : BitVec 1 := Scalar.cmpi .slt c2_i32_405 c0_i32_409
  let v835 : BitVec 32 := Scalar.extui v834
  let v836 : BitVec 32 := Scalar.subi v833 v835
  let v837 : BitVec 1 := Scalar.cmpi .ne v831 v836
  let v838 : BitVec 32 := Scalar.remsi v825 c2_i32_405
  let c0_i32_410 : BitVec 32 := 0#32
  let v839 : BitVec 1 := Scalar.cmpi .ne v838 c0_i32_410
  let v840 : BitVec 1 := Scalar.andi v837 v839
  let v826 : BitVec 32 := Scalar.divsi v825 c2_i32_405
  let c1_i32_411 : BitVec 32 := 1#32
  let v841 : BitVec 32 := Scalar.subi v826 c1_i32_411
  let v842 : BitVec 32 := Scalar.select v840 v841 v826
  let v843 : BitVec 32 := Scalar.maxsi c0_i32_412 v842
  let v844 : BitVec 32 := Scalar.minsi v821 v843
  let c0_i32_421 : BitVec 32 := 0#32
  let c1152_i32_413 : BitVec 32 := 1152#32
  let v845 : BitVec 32 := Scalar.subi c1152_i32_413 v803
  let c0_i32_415 : BitVec 32 := 0#32
  let v847 : BitVec 1 := Scalar.cmpi .sgt v845 c0_i32_415
  let v848 : BitVec 32 := Scalar.extui v847
  let c0_i32_416 : BitVec 32 := 0#32
  let v849 : BitVec 1 := Scalar.cmpi .slt v845 c0_i32_416
  let v850 : BitVec 32 := Scalar.extui v849
  let v851 : BitVec 32 := Scalar.subi v848 v850
  let c2_i32_414 : BitVec 32 := 2#32
  let c0_i32_417 : BitVec 32 := 0#32
  let v852 : BitVec 1 := Scalar.cmpi .sgt c2_i32_414 c0_i32_417
  let v853 : BitVec 32 := Scalar.extui v852
  let c0_i32_418 : BitVec 32 := 0#32
  let v854 : BitVec 1 := Scalar.cmpi .slt c2_i32_414 c0_i32_418
  let v855 : BitVec 32 := Scalar.extui v854
  let v856 : BitVec 32 := Scalar.subi v853 v855
  let v857 : BitVec 1 := Scalar.cmpi .ne v851 v856
  let v858 : BitVec 32 := Scalar.remsi v845 c2_i32_414
  let c0_i32_419 : BitVec 32 := 0#32
  let v859 : BitVec 1 := Scalar.cmpi .ne v858 c0_i32_419
  let v860 : BitVec 1 := Scalar.andi v857 v859
  let v846 : BitVec 32 := Scalar.divsi v845 c2_i32_414
  let c1_i32_420 : BitVec 32 := 1#32
  let v861 : BitVec 32 := Scalar.subi v846 c1_i32_420
  let v862 : BitVec 32 := Scalar.select v860 v861 v846
  let v863 : BitVec 32 := Scalar.maxsi c0_i32_421 v862
  let v864 : BitVec 32 := Scalar.minsi v821 v863
  let v865 : BitVec 32 := Scalar.subi v864 v844
  let c1_i32_422 : BitVec 32 := 1#32
  let v867 : BitVec 32 := Scalar.divsi v865 c1_i32_422
  let v868 : BitVec 32 := Scalar.muli v867 c1_i32_422
  let v869 : BitVec 32 := Scalar.addi v844 v868
  let v866 : BitVec 32 := Scalar.addi v844 v865
  let c1_i32_424 : BitVec 32 := 1#32
  ⟨v869, v866, c1_i32_424⟩
def k0_off261 (v801 : BitVec 32) (v803 : BitVec 32) (k0_t100 : Fin (k0_t100_loop v801 v803).trips) : Fin 2 → Nat :=
  let c1_i32_394 : BitVec 32 := 1#32
  let v804 : BitVec 32 := Scalar.addi v801 c1_i32_394
  let c0_i32_396 : BitVec 32 := 0#32
  let v806 : BitVec 1 := Scalar.cmpi .sgt v804 c0_i32_396
  let v807 : BitVec 32 := Scalar.extui v806
  let c0_i32_397 : BitVec 32 := 0#32
  let v808 : BitVec 1 := Scalar.cmpi .slt v804 c0_i32_397
  let v809 : BitVec 32 := Scalar.extui v808
  let v810 : BitVec 32 := Scalar.subi v807 v809
  let c2_i32_395 : BitVec 32 := 2#32
  let c0_i32_398 : BitVec 32 := 0#32
  let v811 : BitVec 1 := Scalar.cmpi .sgt c2_i32_395 c0_i32_398
  let v812 : BitVec 32 := Scalar.extui v811
  let c0_i32_399 : BitVec 32 := 0#32
  let v813 : BitVec 1 := Scalar.cmpi .slt c2_i32_395 c0_i32_399
  let v814 : BitVec 32 := Scalar.extui v813
  let v815 : BitVec 32 := Scalar.subi v812 v814
  let v816 : BitVec 1 := Scalar.cmpi .ne v810 v815
  let v817 : BitVec 32 := Scalar.remsi v804 c2_i32_395
  let c0_i32_400 : BitVec 32 := 0#32
  let v818 : BitVec 1 := Scalar.cmpi .ne v817 c0_i32_400
  let v819 : BitVec 1 := Scalar.andi v816 v818
  let v805 : BitVec 32 := Scalar.divsi v804 c2_i32_395
  let c1_i32_401 : BitVec 32 := 1#32
  let v820 : BitVec 32 := Scalar.subi v805 c1_i32_401
  let v821 : BitVec 32 := Scalar.select v819 v820 v805
  let c0_i32_412 : BitVec 32 := 0#32
  let c768_i32_404 : BitVec 32 := 768#32
  let v825 : BitVec 32 := Scalar.subi c768_i32_404 v803
  let c0_i32_406 : BitVec 32 := 0#32
  let v827 : BitVec 1 := Scalar.cmpi .sgt v825 c0_i32_406
  let v828 : BitVec 32 := Scalar.extui v827
  let c0_i32_407 : BitVec 32 := 0#32
  let v829 : BitVec 1 := Scalar.cmpi .slt v825 c0_i32_407
  let v830 : BitVec 32 := Scalar.extui v829
  let v831 : BitVec 32 := Scalar.subi v828 v830
  let c2_i32_405 : BitVec 32 := 2#32
  let c0_i32_408 : BitVec 32 := 0#32
  let v832 : BitVec 1 := Scalar.cmpi .sgt c2_i32_405 c0_i32_408
  let v833 : BitVec 32 := Scalar.extui v832
  let c0_i32_409 : BitVec 32 := 0#32
  let v834 : BitVec 1 := Scalar.cmpi .slt c2_i32_405 c0_i32_409
  let v835 : BitVec 32 := Scalar.extui v834
  let v836 : BitVec 32 := Scalar.subi v833 v835
  let v837 : BitVec 1 := Scalar.cmpi .ne v831 v836
  let v838 : BitVec 32 := Scalar.remsi v825 c2_i32_405
  let c0_i32_410 : BitVec 32 := 0#32
  let v839 : BitVec 1 := Scalar.cmpi .ne v838 c0_i32_410
  let v840 : BitVec 1 := Scalar.andi v837 v839
  let v826 : BitVec 32 := Scalar.divsi v825 c2_i32_405
  let c1_i32_411 : BitVec 32 := 1#32
  let v841 : BitVec 32 := Scalar.subi v826 c1_i32_411
  let v842 : BitVec 32 := Scalar.select v840 v841 v826
  let v843 : BitVec 32 := Scalar.maxsi c0_i32_412 v842
  let v844 : BitVec 32 := Scalar.minsi v821 v843
  let c0_i32_421 : BitVec 32 := 0#32
  let c1152_i32_413 : BitVec 32 := 1152#32
  let v845 : BitVec 32 := Scalar.subi c1152_i32_413 v803
  let c0_i32_415 : BitVec 32 := 0#32
  let v847 : BitVec 1 := Scalar.cmpi .sgt v845 c0_i32_415
  let v848 : BitVec 32 := Scalar.extui v847
  let c0_i32_416 : BitVec 32 := 0#32
  let v849 : BitVec 1 := Scalar.cmpi .slt v845 c0_i32_416
  let v850 : BitVec 32 := Scalar.extui v849
  let v851 : BitVec 32 := Scalar.subi v848 v850
  let c2_i32_414 : BitVec 32 := 2#32
  let c0_i32_417 : BitVec 32 := 0#32
  let v852 : BitVec 1 := Scalar.cmpi .sgt c2_i32_414 c0_i32_417
  let v853 : BitVec 32 := Scalar.extui v852
  let c0_i32_418 : BitVec 32 := 0#32
  let v854 : BitVec 1 := Scalar.cmpi .slt c2_i32_414 c0_i32_418
  let v855 : BitVec 32 := Scalar.extui v854
  let v856 : BitVec 32 := Scalar.subi v853 v855
  let v857 : BitVec 1 := Scalar.cmpi .ne v851 v856
  let v858 : BitVec 32 := Scalar.remsi v845 c2_i32_414
  let c0_i32_419 : BitVec 32 := 0#32
  let v859 : BitVec 1 := Scalar.cmpi .ne v858 c0_i32_419
  let v860 : BitVec 1 := Scalar.andi v857 v859
  let v846 : BitVec 32 := Scalar.divsi v845 c2_i32_414
  let c1_i32_420 : BitVec 32 := 1#32
  let v861 : BitVec 32 := Scalar.subi v846 c1_i32_420
  let v862 : BitVec 32 := Scalar.select v860 v861 v846
  let v863 : BitVec 32 := Scalar.maxsi c0_i32_421 v862
  let v864 : BitVec 32 := Scalar.minsi v821 v863
  let v865 : BitVec 32 := Scalar.subi v864 v844
  let c1_i32_422 : BitVec 32 := 1#32
  let v867 : BitVec 32 := Scalar.divsi v865 c1_i32_422
  let v868 : BitVec 32 := Scalar.muli v867 c1_i32_422
  let v869 : BitVec 32 := Scalar.addi v844 v868
  let c1_i32_424 : BitVec 32 := 1#32
  let arg23 : BitVec 32 := Scf.iv v869 c1_i32_424 k0_t100
  let c2_i32_612 : BitVec 32 := 2#32
  let v1306 : BitVec 32 := Scalar.muli arg23 c2_i32_612
  let v1307 : BitVec 32 := Scalar.addi v803 v1306
  let c768_i32_613 : BitVec 32 := 768#32
  let v1308 : BitVec 32 := Scalar.subi v1307 c768_i32_613
  let c0_i32_614 : BitVec 32 := 0#32
  ![v1308.toNat, 0]
def k0_off262 (v801 : BitVec 32) (v803 : BitVec 32) (k0_t100 : Fin (k0_t100_loop v801 v803).trips) : Fin 2 → Nat :=
  let c1_i32_611 : BitVec 32 := 1#32
  let v1304 : BitVec 32 := Scalar.shrsi v803 c1_i32_611
  let c1_i32_394 : BitVec 32 := 1#32
  let v804 : BitVec 32 := Scalar.addi v801 c1_i32_394
  let c0_i32_396 : BitVec 32 := 0#32
  let v806 : BitVec 1 := Scalar.cmpi .sgt v804 c0_i32_396
  let v807 : BitVec 32 := Scalar.extui v806
  let c0_i32_397 : BitVec 32 := 0#32
  let v808 : BitVec 1 := Scalar.cmpi .slt v804 c0_i32_397
  let v809 : BitVec 32 := Scalar.extui v808
  let v810 : BitVec 32 := Scalar.subi v807 v809
  let c2_i32_395 : BitVec 32 := 2#32
  let c0_i32_398 : BitVec 32 := 0#32
  let v811 : BitVec 1 := Scalar.cmpi .sgt c2_i32_395 c0_i32_398
  let v812 : BitVec 32 := Scalar.extui v811
  let c0_i32_399 : BitVec 32 := 0#32
  let v813 : BitVec 1 := Scalar.cmpi .slt c2_i32_395 c0_i32_399
  let v814 : BitVec 32 := Scalar.extui v813
  let v815 : BitVec 32 := Scalar.subi v812 v814
  let v816 : BitVec 1 := Scalar.cmpi .ne v810 v815
  let v817 : BitVec 32 := Scalar.remsi v804 c2_i32_395
  let c0_i32_400 : BitVec 32 := 0#32
  let v818 : BitVec 1 := Scalar.cmpi .ne v817 c0_i32_400
  let v819 : BitVec 1 := Scalar.andi v816 v818
  let v805 : BitVec 32 := Scalar.divsi v804 c2_i32_395
  let c1_i32_401 : BitVec 32 := 1#32
  let v820 : BitVec 32 := Scalar.subi v805 c1_i32_401
  let v821 : BitVec 32 := Scalar.select v819 v820 v805
  let c0_i32_412 : BitVec 32 := 0#32
  let c768_i32_404 : BitVec 32 := 768#32
  let v825 : BitVec 32 := Scalar.subi c768_i32_404 v803
  let c0_i32_406 : BitVec 32 := 0#32
  let v827 : BitVec 1 := Scalar.cmpi .sgt v825 c0_i32_406
  let v828 : BitVec 32 := Scalar.extui v827
  let c0_i32_407 : BitVec 32 := 0#32
  let v829 : BitVec 1 := Scalar.cmpi .slt v825 c0_i32_407
  let v830 : BitVec 32 := Scalar.extui v829
  let v831 : BitVec 32 := Scalar.subi v828 v830
  let c2_i32_405 : BitVec 32 := 2#32
  let c0_i32_408 : BitVec 32 := 0#32
  let v832 : BitVec 1 := Scalar.cmpi .sgt c2_i32_405 c0_i32_408
  let v833 : BitVec 32 := Scalar.extui v832
  let c0_i32_409 : BitVec 32 := 0#32
  let v834 : BitVec 1 := Scalar.cmpi .slt c2_i32_405 c0_i32_409
  let v835 : BitVec 32 := Scalar.extui v834
  let v836 : BitVec 32 := Scalar.subi v833 v835
  let v837 : BitVec 1 := Scalar.cmpi .ne v831 v836
  let v838 : BitVec 32 := Scalar.remsi v825 c2_i32_405
  let c0_i32_410 : BitVec 32 := 0#32
  let v839 : BitVec 1 := Scalar.cmpi .ne v838 c0_i32_410
  let v840 : BitVec 1 := Scalar.andi v837 v839
  let v826 : BitVec 32 := Scalar.divsi v825 c2_i32_405
  let c1_i32_411 : BitVec 32 := 1#32
  let v841 : BitVec 32 := Scalar.subi v826 c1_i32_411
  let v842 : BitVec 32 := Scalar.select v840 v841 v826
  let v843 : BitVec 32 := Scalar.maxsi c0_i32_412 v842
  let v844 : BitVec 32 := Scalar.minsi v821 v843
  let c0_i32_421 : BitVec 32 := 0#32
  let c1152_i32_413 : BitVec 32 := 1152#32
  let v845 : BitVec 32 := Scalar.subi c1152_i32_413 v803
  let c0_i32_415 : BitVec 32 := 0#32
  let v847 : BitVec 1 := Scalar.cmpi .sgt v845 c0_i32_415
  let v848 : BitVec 32 := Scalar.extui v847
  let c0_i32_416 : BitVec 32 := 0#32
  let v849 : BitVec 1 := Scalar.cmpi .slt v845 c0_i32_416
  let v850 : BitVec 32 := Scalar.extui v849
  let v851 : BitVec 32 := Scalar.subi v848 v850
  let c2_i32_414 : BitVec 32 := 2#32
  let c0_i32_417 : BitVec 32 := 0#32
  let v852 : BitVec 1 := Scalar.cmpi .sgt c2_i32_414 c0_i32_417
  let v853 : BitVec 32 := Scalar.extui v852
  let c0_i32_418 : BitVec 32 := 0#32
  let v854 : BitVec 1 := Scalar.cmpi .slt c2_i32_414 c0_i32_418
  let v855 : BitVec 32 := Scalar.extui v854
  let v856 : BitVec 32 := Scalar.subi v853 v855
  let v857 : BitVec 1 := Scalar.cmpi .ne v851 v856
  let v858 : BitVec 32 := Scalar.remsi v845 c2_i32_414
  let c0_i32_419 : BitVec 32 := 0#32
  let v859 : BitVec 1 := Scalar.cmpi .ne v858 c0_i32_419
  let v860 : BitVec 1 := Scalar.andi v857 v859
  let v846 : BitVec 32 := Scalar.divsi v845 c2_i32_414
  let c1_i32_420 : BitVec 32 := 1#32
  let v861 : BitVec 32 := Scalar.subi v846 c1_i32_420
  let v862 : BitVec 32 := Scalar.select v860 v861 v846
  let v863 : BitVec 32 := Scalar.maxsi c0_i32_421 v862
  let v864 : BitVec 32 := Scalar.minsi v821 v863
  let v865 : BitVec 32 := Scalar.subi v864 v844
  let c1_i32_422 : BitVec 32 := 1#32
  let v867 : BitVec 32 := Scalar.divsi v865 c1_i32_422
  let v868 : BitVec 32 := Scalar.muli v867 c1_i32_422
  let v869 : BitVec 32 := Scalar.addi v844 v868
  let c1_i32_424 : BitVec 32 := 1#32
  let arg23 : BitVec 32 := Scf.iv v869 c1_i32_424 k0_t100
  let v1305 : BitVec 32 := Scalar.addi v1304 arg23
  let c0_i32_615 : BitVec 32 := 0#32
  ![v1305.toNat, 0]

def k0_chk53 (v801 : BitVec 32) (v803 : BitVec 32) : Prop :=
  ((k0_t99_loop v801 v803).OK) ∧
  (∀ k0_t99 : Fin (k0_t99_loop v801 v803).trips, ∀ a, (k0_off258 v801 v803 k0_t99) a + S2x128.size a ≤ S384x128.size a) ∧
  (∀ k0_t99 : Fin (k0_t99_loop v801 v803).trips, ∀ a, (k0_off259 v801 v803 k0_t99) a + S1x2.size a ≤ S584x2.size a) ∧
  ((k0_t100_loop v801 v803).OK) ∧
  (∀ k0_t100 : Fin (k0_t100_loop v801 v803).trips, ∀ a, (k0_off261 v801 v803 k0_t100) a + S2x128.size a ≤ S384x128.size a) ∧
  (∀ k0_t100 : Fin (k0_t100_loop v801 v803).trips, ∀ a, (k0_off262 v801 v803 k0_t100) a + S1x2.size a ≤ S584x2.size a)
theorem k0_t99_ok : ∀ (v801 : BitVec 32) (v803 : BitVec 32) (k0_hw53 : k0_chk53 v801 v803), (k0_t99_loop v801 v803).OK := fun v801 v803 k0_hw53 => k0_hw53.1
theorem k0_off258_inb : ∀ (v801 : BitVec 32) (v803 : BitVec 32) (k0_hw53 : k0_chk53 v801 v803) (k0_t99 : Fin (k0_t99_loop v801 v803).trips), ∀ a, (k0_off258 v801 v803 k0_t99) a + S2x128.size a ≤ S384x128.size a := fun v801 v803 k0_hw53 k0_t99 => k0_hw53.2.1 k0_t99
theorem k0_off259_inb : ∀ (v801 : BitVec 32) (v803 : BitVec 32) (k0_hw53 : k0_chk53 v801 v803) (k0_t99 : Fin (k0_t99_loop v801 v803).trips), ∀ a, (k0_off259 v801 v803 k0_t99) a + S1x2.size a ≤ S584x2.size a := fun v801 v803 k0_hw53 k0_t99 => k0_hw53.2.2.1 k0_t99
theorem k0_t100_ok : ∀ (v801 : BitVec 32) (v803 : BitVec 32) (k0_hw53 : k0_chk53 v801 v803), (k0_t100_loop v801 v803).OK := fun v801 v803 k0_hw53 => k0_hw53.2.2.2.1
theorem k0_off261_inb : ∀ (v801 : BitVec 32) (v803 : BitVec 32) (k0_hw53 : k0_chk53 v801 v803) (k0_t100 : Fin (k0_t100_loop v801 v803).trips), ∀ a, (k0_off261 v801 v803 k0_t100) a + S2x128.size a ≤ S384x128.size a := fun v801 v803 k0_hw53 k0_t100 => k0_hw53.2.2.2.2.1 k0_t100
theorem k0_off262_inb : ∀ (v801 : BitVec 32) (v803 : BitVec 32) (k0_hw53 : k0_chk53 v801 v803) (k0_t100 : Fin (k0_t100_loop v801 v803).trips), ∀ a, (k0_off262 v801 v803 k0_t100) a + S1x2.size a ≤ S584x2.size a := fun v801 v803 k0_hw53 k0_t100 => k0_hw53.2.2.2.2.2 k0_t100

def k0_off263 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_402 : BitVec 32 := 16#32
  let v822 : BitVec 32 := Scalar.muli arg21 c16_i32_402
  let c9_i32 : BitVec 32 := 9#32
  let v823 : BitVec 32 := Scalar.addi v822 c9_i32
  let c128_i32_403 : BitVec 32 := 128#32
  let v824 : BitVec 32 := Scalar.muli v823 c128_i32_403
  ![0, v824.toNat]
@[reducible] def k0_t101_loop (v873 : BitVec 32) (v875 : BitVec 32) : Scf.Loop 32 :=
  let c1_i32_425 : BitVec 32 := 1#32
  let v876 : BitVec 32 := Scalar.addi v873 c1_i32_425
  let c0_i32_427 : BitVec 32 := 0#32
  let v878 : BitVec 1 := Scalar.cmpi .sgt v876 c0_i32_427
  let v879 : BitVec 32 := Scalar.extui v878
  let c0_i32_428 : BitVec 32 := 0#32
  let v880 : BitVec 1 := Scalar.cmpi .slt v876 c0_i32_428
  let v881 : BitVec 32 := Scalar.extui v880
  let v882 : BitVec 32 := Scalar.subi v879 v881
  let c2_i32_426 : BitVec 32 := 2#32
  let c0_i32_429 : BitVec 32 := 0#32
  let v883 : BitVec 1 := Scalar.cmpi .sgt c2_i32_426 c0_i32_429
  let v884 : BitVec 32 := Scalar.extui v883
  let c0_i32_430 : BitVec 32 := 0#32
  let v885 : BitVec 1 := Scalar.cmpi .slt c2_i32_426 c0_i32_430
  let v886 : BitVec 32 := Scalar.extui v885
  let v887 : BitVec 32 := Scalar.subi v884 v886
  let v888 : BitVec 1 := Scalar.cmpi .ne v882 v887
  let v889 : BitVec 32 := Scalar.remsi v876 c2_i32_426
  let c0_i32_431 : BitVec 32 := 0#32
  let v890 : BitVec 1 := Scalar.cmpi .ne v889 c0_i32_431
  let v891 : BitVec 1 := Scalar.andi v888 v890
  let v877 : BitVec 32 := Scalar.divsi v876 c2_i32_426
  let c1_i32_432 : BitVec 32 := 1#32
  let v892 : BitVec 32 := Scalar.subi v877 c1_i32_432
  let v893 : BitVec 32 := Scalar.select v891 v892 v877
  let c0_i32_443 : BitVec 32 := 0#32
  let c768_i32_435 : BitVec 32 := 768#32
  let v897 : BitVec 32 := Scalar.subi c768_i32_435 v875
  let c0_i32_437 : BitVec 32 := 0#32
  let v899 : BitVec 1 := Scalar.cmpi .sgt v897 c0_i32_437
  let v900 : BitVec 32 := Scalar.extui v899
  let c0_i32_438 : BitVec 32 := 0#32
  let v901 : BitVec 1 := Scalar.cmpi .slt v897 c0_i32_438
  let v902 : BitVec 32 := Scalar.extui v901
  let v903 : BitVec 32 := Scalar.subi v900 v902
  let c2_i32_436 : BitVec 32 := 2#32
  let c0_i32_439 : BitVec 32 := 0#32
  let v904 : BitVec 1 := Scalar.cmpi .sgt c2_i32_436 c0_i32_439
  let v905 : BitVec 32 := Scalar.extui v904
  let c0_i32_440 : BitVec 32 := 0#32
  let v906 : BitVec 1 := Scalar.cmpi .slt c2_i32_436 c0_i32_440
  let v907 : BitVec 32 := Scalar.extui v906
  let v908 : BitVec 32 := Scalar.subi v905 v907
  let v909 : BitVec 1 := Scalar.cmpi .ne v903 v908
  let v910 : BitVec 32 := Scalar.remsi v897 c2_i32_436
  let c0_i32_441 : BitVec 32 := 0#32
  let v911 : BitVec 1 := Scalar.cmpi .ne v910 c0_i32_441
  let v912 : BitVec 1 := Scalar.andi v909 v911
  let v898 : BitVec 32 := Scalar.divsi v897 c2_i32_436
  let c1_i32_442 : BitVec 32 := 1#32
  let v913 : BitVec 32 := Scalar.subi v898 c1_i32_442
  let v914 : BitVec 32 := Scalar.select v912 v913 v898
  let v915 : BitVec 32 := Scalar.maxsi c0_i32_443 v914
  let v916 : BitVec 32 := Scalar.minsi v893 v915
  let c0_i32_452 : BitVec 32 := 0#32
  let c1152_i32_444 : BitVec 32 := 1152#32
  let v917 : BitVec 32 := Scalar.subi c1152_i32_444 v875
  let c0_i32_446 : BitVec 32 := 0#32
  let v919 : BitVec 1 := Scalar.cmpi .sgt v917 c0_i32_446
  let v920 : BitVec 32 := Scalar.extui v919
  let c0_i32_447 : BitVec 32 := 0#32
  let v921 : BitVec 1 := Scalar.cmpi .slt v917 c0_i32_447
  let v922 : BitVec 32 := Scalar.extui v921
  let v923 : BitVec 32 := Scalar.subi v920 v922
  let c2_i32_445 : BitVec 32 := 2#32
  let c0_i32_448 : BitVec 32 := 0#32
  let v924 : BitVec 1 := Scalar.cmpi .sgt c2_i32_445 c0_i32_448
  let v925 : BitVec 32 := Scalar.extui v924
  let c0_i32_449 : BitVec 32 := 0#32
  let v926 : BitVec 1 := Scalar.cmpi .slt c2_i32_445 c0_i32_449
  let v927 : BitVec 32 := Scalar.extui v926
  let v928 : BitVec 32 := Scalar.subi v925 v927
  let v929 : BitVec 1 := Scalar.cmpi .ne v923 v928
  let v930 : BitVec 32 := Scalar.remsi v917 c2_i32_445
  let c0_i32_450 : BitVec 32 := 0#32
  let v931 : BitVec 1 := Scalar.cmpi .ne v930 c0_i32_450
  let v932 : BitVec 1 := Scalar.andi v929 v931
  let v918 : BitVec 32 := Scalar.divsi v917 c2_i32_445
  let c1_i32_451 : BitVec 32 := 1#32
  let v933 : BitVec 32 := Scalar.subi v918 c1_i32_451
  let v934 : BitVec 32 := Scalar.select v932 v933 v918
  let v935 : BitVec 32 := Scalar.maxsi c0_i32_452 v934
  let v936 : BitVec 32 := Scalar.minsi v893 v935
  let v937 : BitVec 32 := Scalar.subi v936 v916
  let c1_i32_453 : BitVec 32 := 1#32
  let v939 : BitVec 32 := Scalar.divsi v937 c1_i32_453
  let v940 : BitVec 32 := Scalar.muli v939 c1_i32_453
  let v941 : BitVec 32 := Scalar.addi v916 v940
  let c1_i32_454 : BitVec 32 := 1#32
  ⟨v916, v941, c1_i32_454⟩

def k0_off264 (v873 : BitVec 32) (v875 : BitVec 32) (k0_t101 : Fin (k0_t101_loop v873 v875).trips) : Fin 2 → Nat :=
  let c1_i32_425 : BitVec 32 := 1#32
  let v876 : BitVec 32 := Scalar.addi v873 c1_i32_425
  let c0_i32_427 : BitVec 32 := 0#32
  let v878 : BitVec 1 := Scalar.cmpi .sgt v876 c0_i32_427
  let v879 : BitVec 32 := Scalar.extui v878
  let c0_i32_428 : BitVec 32 := 0#32
  let v880 : BitVec 1 := Scalar.cmpi .slt v876 c0_i32_428
  let v881 : BitVec 32 := Scalar.extui v880
  let v882 : BitVec 32 := Scalar.subi v879 v881
  let c2_i32_426 : BitVec 32 := 2#32
  let c0_i32_429 : BitVec 32 := 0#32
  let v883 : BitVec 1 := Scalar.cmpi .sgt c2_i32_426 c0_i32_429
  let v884 : BitVec 32 := Scalar.extui v883
  let c0_i32_430 : BitVec 32 := 0#32
  let v885 : BitVec 1 := Scalar.cmpi .slt c2_i32_426 c0_i32_430
  let v886 : BitVec 32 := Scalar.extui v885
  let v887 : BitVec 32 := Scalar.subi v884 v886
  let v888 : BitVec 1 := Scalar.cmpi .ne v882 v887
  let v889 : BitVec 32 := Scalar.remsi v876 c2_i32_426
  let c0_i32_431 : BitVec 32 := 0#32
  let v890 : BitVec 1 := Scalar.cmpi .ne v889 c0_i32_431
  let v891 : BitVec 1 := Scalar.andi v888 v890
  let v877 : BitVec 32 := Scalar.divsi v876 c2_i32_426
  let c1_i32_432 : BitVec 32 := 1#32
  let v892 : BitVec 32 := Scalar.subi v877 c1_i32_432
  let v893 : BitVec 32 := Scalar.select v891 v892 v877
  let c0_i32_443 : BitVec 32 := 0#32
  let c768_i32_435 : BitVec 32 := 768#32
  let v897 : BitVec 32 := Scalar.subi c768_i32_435 v875
  let c0_i32_437 : BitVec 32 := 0#32
  let v899 : BitVec 1 := Scalar.cmpi .sgt v897 c0_i32_437
  let v900 : BitVec 32 := Scalar.extui v899
  let c0_i32_438 : BitVec 32 := 0#32
  let v901 : BitVec 1 := Scalar.cmpi .slt v897 c0_i32_438
  let v902 : BitVec 32 := Scalar.extui v901
  let v903 : BitVec 32 := Scalar.subi v900 v902
  let c2_i32_436 : BitVec 32 := 2#32
  let c0_i32_439 : BitVec 32 := 0#32
  let v904 : BitVec 1 := Scalar.cmpi .sgt c2_i32_436 c0_i32_439
  let v905 : BitVec 32 := Scalar.extui v904
  let c0_i32_440 : BitVec 32 := 0#32
  let v906 : BitVec 1 := Scalar.cmpi .slt c2_i32_436 c0_i32_440
  let v907 : BitVec 32 := Scalar.extui v906
  let v908 : BitVec 32 := Scalar.subi v905 v907
  let v909 : BitVec 1 := Scalar.cmpi .ne v903 v908
  let v910 : BitVec 32 := Scalar.remsi v897 c2_i32_436
  let c0_i32_441 : BitVec 32 := 0#32
  let v911 : BitVec 1 := Scalar.cmpi .ne v910 c0_i32_441
  let v912 : BitVec 1 := Scalar.andi v909 v911
  let v898 : BitVec 32 := Scalar.divsi v897 c2_i32_436
  let c1_i32_442 : BitVec 32 := 1#32
  let v913 : BitVec 32 := Scalar.subi v898 c1_i32_442
  let v914 : BitVec 32 := Scalar.select v912 v913 v898
  let v915 : BitVec 32 := Scalar.maxsi c0_i32_443 v914
  let v916 : BitVec 32 := Scalar.minsi v893 v915
  let c1_i32_454 : BitVec 32 := 1#32
  let arg23 : BitVec 32 := Scf.iv v916 c1_i32_454 k0_t101
  let c2_i32_612 : BitVec 32 := 2#32
  let v1306 : BitVec 32 := Scalar.muli arg23 c2_i32_612
  let v1307 : BitVec 32 := Scalar.addi v875 v1306
  let c768_i32_613 : BitVec 32 := 768#32
  let v1308 : BitVec 32 := Scalar.subi v1307 c768_i32_613
  let c0_i32_614 : BitVec 32 := 0#32
  ![v1308.toNat, 0]
def k0_off265 (v873 : BitVec 32) (v875 : BitVec 32) (k0_t101 : Fin (k0_t101_loop v873 v875).trips) : Fin 2 → Nat :=
  let c1_i32_611 : BitVec 32 := 1#32
  let v1304 : BitVec 32 := Scalar.shrsi v875 c1_i32_611
  let c1_i32_425 : BitVec 32 := 1#32
  let v876 : BitVec 32 := Scalar.addi v873 c1_i32_425
  let c0_i32_427 : BitVec 32 := 0#32
  let v878 : BitVec 1 := Scalar.cmpi .sgt v876 c0_i32_427
  let v879 : BitVec 32 := Scalar.extui v878
  let c0_i32_428 : BitVec 32 := 0#32
  let v880 : BitVec 1 := Scalar.cmpi .slt v876 c0_i32_428
  let v881 : BitVec 32 := Scalar.extui v880
  let v882 : BitVec 32 := Scalar.subi v879 v881
  let c2_i32_426 : BitVec 32 := 2#32
  let c0_i32_429 : BitVec 32 := 0#32
  let v883 : BitVec 1 := Scalar.cmpi .sgt c2_i32_426 c0_i32_429
  let v884 : BitVec 32 := Scalar.extui v883
  let c0_i32_430 : BitVec 32 := 0#32
  let v885 : BitVec 1 := Scalar.cmpi .slt c2_i32_426 c0_i32_430
  let v886 : BitVec 32 := Scalar.extui v885
  let v887 : BitVec 32 := Scalar.subi v884 v886
  let v888 : BitVec 1 := Scalar.cmpi .ne v882 v887
  let v889 : BitVec 32 := Scalar.remsi v876 c2_i32_426
  let c0_i32_431 : BitVec 32 := 0#32
  let v890 : BitVec 1 := Scalar.cmpi .ne v889 c0_i32_431
  let v891 : BitVec 1 := Scalar.andi v888 v890
  let v877 : BitVec 32 := Scalar.divsi v876 c2_i32_426
  let c1_i32_432 : BitVec 32 := 1#32
  let v892 : BitVec 32 := Scalar.subi v877 c1_i32_432
  let v893 : BitVec 32 := Scalar.select v891 v892 v877
  let c0_i32_443 : BitVec 32 := 0#32
  let c768_i32_435 : BitVec 32 := 768#32
  let v897 : BitVec 32 := Scalar.subi c768_i32_435 v875
  let c0_i32_437 : BitVec 32 := 0#32
  let v899 : BitVec 1 := Scalar.cmpi .sgt v897 c0_i32_437
  let v900 : BitVec 32 := Scalar.extui v899
  let c0_i32_438 : BitVec 32 := 0#32
  let v901 : BitVec 1 := Scalar.cmpi .slt v897 c0_i32_438
  let v902 : BitVec 32 := Scalar.extui v901
  let v903 : BitVec 32 := Scalar.subi v900 v902
  let c2_i32_436 : BitVec 32 := 2#32
  let c0_i32_439 : BitVec 32 := 0#32
  let v904 : BitVec 1 := Scalar.cmpi .sgt c2_i32_436 c0_i32_439
  let v905 : BitVec 32 := Scalar.extui v904
  let c0_i32_440 : BitVec 32 := 0#32
  let v906 : BitVec 1 := Scalar.cmpi .slt c2_i32_436 c0_i32_440
  let v907 : BitVec 32 := Scalar.extui v906
  let v908 : BitVec 32 := Scalar.subi v905 v907
  let v909 : BitVec 1 := Scalar.cmpi .ne v903 v908
  let v910 : BitVec 32 := Scalar.remsi v897 c2_i32_436
  let c0_i32_441 : BitVec 32 := 0#32
  let v911 : BitVec 1 := Scalar.cmpi .ne v910 c0_i32_441
  let v912 : BitVec 1 := Scalar.andi v909 v911
  let v898 : BitVec 32 := Scalar.divsi v897 c2_i32_436
  let c1_i32_442 : BitVec 32 := 1#32
  let v913 : BitVec 32 := Scalar.subi v898 c1_i32_442
  let v914 : BitVec 32 := Scalar.select v912 v913 v898
  let v915 : BitVec 32 := Scalar.maxsi c0_i32_443 v914
  let v916 : BitVec 32 := Scalar.minsi v893 v915
  let c1_i32_454 : BitVec 32 := 1#32
  let arg23 : BitVec 32 := Scf.iv v916 c1_i32_454 k0_t101
  let v1305 : BitVec 32 := Scalar.addi v1304 arg23
  let c0_i32_615 : BitVec 32 := 0#32
  ![v1305.toNat, 0]
def k0_off266 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_433 : BitVec 32 := 16#32
  let v894 : BitVec 32 := Scalar.muli arg21 c16_i32_433
  let c10_i32 : BitVec 32 := 10#32
  let v895 : BitVec 32 := Scalar.addi v894 c10_i32
  let c128_i32_434 : BitVec 32 := 128#32
  let v896 : BitVec 32 := Scalar.muli v895 c128_i32_434
  ![0, v896.toNat]
@[reducible] def k0_t102_loop (v873 : BitVec 32) (v875 : BitVec 32) : Scf.Loop 32 :=
  let c1_i32_425 : BitVec 32 := 1#32
  let v876 : BitVec 32 := Scalar.addi v873 c1_i32_425
  let c0_i32_427 : BitVec 32 := 0#32
  let v878 : BitVec 1 := Scalar.cmpi .sgt v876 c0_i32_427
  let v879 : BitVec 32 := Scalar.extui v878
  let c0_i32_428 : BitVec 32 := 0#32
  let v880 : BitVec 1 := Scalar.cmpi .slt v876 c0_i32_428
  let v881 : BitVec 32 := Scalar.extui v880
  let v882 : BitVec 32 := Scalar.subi v879 v881
  let c2_i32_426 : BitVec 32 := 2#32
  let c0_i32_429 : BitVec 32 := 0#32
  let v883 : BitVec 1 := Scalar.cmpi .sgt c2_i32_426 c0_i32_429
  let v884 : BitVec 32 := Scalar.extui v883
  let c0_i32_430 : BitVec 32 := 0#32
  let v885 : BitVec 1 := Scalar.cmpi .slt c2_i32_426 c0_i32_430
  let v886 : BitVec 32 := Scalar.extui v885
  let v887 : BitVec 32 := Scalar.subi v884 v886
  let v888 : BitVec 1 := Scalar.cmpi .ne v882 v887
  let v889 : BitVec 32 := Scalar.remsi v876 c2_i32_426
  let c0_i32_431 : BitVec 32 := 0#32
  let v890 : BitVec 1 := Scalar.cmpi .ne v889 c0_i32_431
  let v891 : BitVec 1 := Scalar.andi v888 v890
  let v877 : BitVec 32 := Scalar.divsi v876 c2_i32_426
  let c1_i32_432 : BitVec 32 := 1#32
  let v892 : BitVec 32 := Scalar.subi v877 c1_i32_432
  let v893 : BitVec 32 := Scalar.select v891 v892 v877
  let c0_i32_443 : BitVec 32 := 0#32
  let c768_i32_435 : BitVec 32 := 768#32
  let v897 : BitVec 32 := Scalar.subi c768_i32_435 v875
  let c0_i32_437 : BitVec 32 := 0#32
  let v899 : BitVec 1 := Scalar.cmpi .sgt v897 c0_i32_437
  let v900 : BitVec 32 := Scalar.extui v899
  let c0_i32_438 : BitVec 32 := 0#32
  let v901 : BitVec 1 := Scalar.cmpi .slt v897 c0_i32_438
  let v902 : BitVec 32 := Scalar.extui v901
  let v903 : BitVec 32 := Scalar.subi v900 v902
  let c2_i32_436 : BitVec 32 := 2#32
  let c0_i32_439 : BitVec 32 := 0#32
  let v904 : BitVec 1 := Scalar.cmpi .sgt c2_i32_436 c0_i32_439
  let v905 : BitVec 32 := Scalar.extui v904
  let c0_i32_440 : BitVec 32 := 0#32
  let v906 : BitVec 1 := Scalar.cmpi .slt c2_i32_436 c0_i32_440
  let v907 : BitVec 32 := Scalar.extui v906
  let v908 : BitVec 32 := Scalar.subi v905 v907
  let v909 : BitVec 1 := Scalar.cmpi .ne v903 v908
  let v910 : BitVec 32 := Scalar.remsi v897 c2_i32_436
  let c0_i32_441 : BitVec 32 := 0#32
  let v911 : BitVec 1 := Scalar.cmpi .ne v910 c0_i32_441
  let v912 : BitVec 1 := Scalar.andi v909 v911
  let v898 : BitVec 32 := Scalar.divsi v897 c2_i32_436
  let c1_i32_442 : BitVec 32 := 1#32
  let v913 : BitVec 32 := Scalar.subi v898 c1_i32_442
  let v914 : BitVec 32 := Scalar.select v912 v913 v898
  let v915 : BitVec 32 := Scalar.maxsi c0_i32_443 v914
  let v916 : BitVec 32 := Scalar.minsi v893 v915
  let c0_i32_452 : BitVec 32 := 0#32
  let c1152_i32_444 : BitVec 32 := 1152#32
  let v917 : BitVec 32 := Scalar.subi c1152_i32_444 v875
  let c0_i32_446 : BitVec 32 := 0#32
  let v919 : BitVec 1 := Scalar.cmpi .sgt v917 c0_i32_446
  let v920 : BitVec 32 := Scalar.extui v919
  let c0_i32_447 : BitVec 32 := 0#32
  let v921 : BitVec 1 := Scalar.cmpi .slt v917 c0_i32_447
  let v922 : BitVec 32 := Scalar.extui v921
  let v923 : BitVec 32 := Scalar.subi v920 v922
  let c2_i32_445 : BitVec 32 := 2#32
  let c0_i32_448 : BitVec 32 := 0#32
  let v924 : BitVec 1 := Scalar.cmpi .sgt c2_i32_445 c0_i32_448
  let v925 : BitVec 32 := Scalar.extui v924
  let c0_i32_449 : BitVec 32 := 0#32
  let v926 : BitVec 1 := Scalar.cmpi .slt c2_i32_445 c0_i32_449
  let v927 : BitVec 32 := Scalar.extui v926
  let v928 : BitVec 32 := Scalar.subi v925 v927
  let v929 : BitVec 1 := Scalar.cmpi .ne v923 v928
  let v930 : BitVec 32 := Scalar.remsi v917 c2_i32_445
  let c0_i32_450 : BitVec 32 := 0#32
  let v931 : BitVec 1 := Scalar.cmpi .ne v930 c0_i32_450
  let v932 : BitVec 1 := Scalar.andi v929 v931
  let v918 : BitVec 32 := Scalar.divsi v917 c2_i32_445
  let c1_i32_451 : BitVec 32 := 1#32
  let v933 : BitVec 32 := Scalar.subi v918 c1_i32_451
  let v934 : BitVec 32 := Scalar.select v932 v933 v918
  let v935 : BitVec 32 := Scalar.maxsi c0_i32_452 v934
  let v936 : BitVec 32 := Scalar.minsi v893 v935
  let v937 : BitVec 32 := Scalar.subi v936 v916
  let c1_i32_453 : BitVec 32 := 1#32
  let v939 : BitVec 32 := Scalar.divsi v937 c1_i32_453
  let v940 : BitVec 32 := Scalar.muli v939 c1_i32_453
  let v941 : BitVec 32 := Scalar.addi v916 v940
  let v938 : BitVec 32 := Scalar.addi v916 v937
  let c1_i32_455 : BitVec 32 := 1#32
  ⟨v941, v938, c1_i32_455⟩
def k0_off267 (v873 : BitVec 32) (v875 : BitVec 32) (k0_t102 : Fin (k0_t102_loop v873 v875).trips) : Fin 2 → Nat :=
  let c1_i32_425 : BitVec 32 := 1#32
  let v876 : BitVec 32 := Scalar.addi v873 c1_i32_425
  let c0_i32_427 : BitVec 32 := 0#32
  let v878 : BitVec 1 := Scalar.cmpi .sgt v876 c0_i32_427
  let v879 : BitVec 32 := Scalar.extui v878
  let c0_i32_428 : BitVec 32 := 0#32
  let v880 : BitVec 1 := Scalar.cmpi .slt v876 c0_i32_428
  let v881 : BitVec 32 := Scalar.extui v880
  let v882 : BitVec 32 := Scalar.subi v879 v881
  let c2_i32_426 : BitVec 32 := 2#32
  let c0_i32_429 : BitVec 32 := 0#32
  let v883 : BitVec 1 := Scalar.cmpi .sgt c2_i32_426 c0_i32_429
  let v884 : BitVec 32 := Scalar.extui v883
  let c0_i32_430 : BitVec 32 := 0#32
  let v885 : BitVec 1 := Scalar.cmpi .slt c2_i32_426 c0_i32_430
  let v886 : BitVec 32 := Scalar.extui v885
  let v887 : BitVec 32 := Scalar.subi v884 v886
  let v888 : BitVec 1 := Scalar.cmpi .ne v882 v887
  let v889 : BitVec 32 := Scalar.remsi v876 c2_i32_426
  let c0_i32_431 : BitVec 32 := 0#32
  let v890 : BitVec 1 := Scalar.cmpi .ne v889 c0_i32_431
  let v891 : BitVec 1 := Scalar.andi v888 v890
  let v877 : BitVec 32 := Scalar.divsi v876 c2_i32_426
  let c1_i32_432 : BitVec 32 := 1#32
  let v892 : BitVec 32 := Scalar.subi v877 c1_i32_432
  let v893 : BitVec 32 := Scalar.select v891 v892 v877
  let c0_i32_443 : BitVec 32 := 0#32
  let c768_i32_435 : BitVec 32 := 768#32
  let v897 : BitVec 32 := Scalar.subi c768_i32_435 v875
  let c0_i32_437 : BitVec 32 := 0#32
  let v899 : BitVec 1 := Scalar.cmpi .sgt v897 c0_i32_437
  let v900 : BitVec 32 := Scalar.extui v899
  let c0_i32_438 : BitVec 32 := 0#32
  let v901 : BitVec 1 := Scalar.cmpi .slt v897 c0_i32_438
  let v902 : BitVec 32 := Scalar.extui v901
  let v903 : BitVec 32 := Scalar.subi v900 v902
  let c2_i32_436 : BitVec 32 := 2#32
  let c0_i32_439 : BitVec 32 := 0#32
  let v904 : BitVec 1 := Scalar.cmpi .sgt c2_i32_436 c0_i32_439
  let v905 : BitVec 32 := Scalar.extui v904
  let c0_i32_440 : BitVec 32 := 0#32
  let v906 : BitVec 1 := Scalar.cmpi .slt c2_i32_436 c0_i32_440
  let v907 : BitVec 32 := Scalar.extui v906
  let v908 : BitVec 32 := Scalar.subi v905 v907
  let v909 : BitVec 1 := Scalar.cmpi .ne v903 v908
  let v910 : BitVec 32 := Scalar.remsi v897 c2_i32_436
  let c0_i32_441 : BitVec 32 := 0#32
  let v911 : BitVec 1 := Scalar.cmpi .ne v910 c0_i32_441
  let v912 : BitVec 1 := Scalar.andi v909 v911
  let v898 : BitVec 32 := Scalar.divsi v897 c2_i32_436
  let c1_i32_442 : BitVec 32 := 1#32
  let v913 : BitVec 32 := Scalar.subi v898 c1_i32_442
  let v914 : BitVec 32 := Scalar.select v912 v913 v898
  let v915 : BitVec 32 := Scalar.maxsi c0_i32_443 v914
  let v916 : BitVec 32 := Scalar.minsi v893 v915
  let c0_i32_452 : BitVec 32 := 0#32
  let c1152_i32_444 : BitVec 32 := 1152#32
  let v917 : BitVec 32 := Scalar.subi c1152_i32_444 v875
  let c0_i32_446 : BitVec 32 := 0#32
  let v919 : BitVec 1 := Scalar.cmpi .sgt v917 c0_i32_446
  let v920 : BitVec 32 := Scalar.extui v919
  let c0_i32_447 : BitVec 32 := 0#32
  let v921 : BitVec 1 := Scalar.cmpi .slt v917 c0_i32_447
  let v922 : BitVec 32 := Scalar.extui v921
  let v923 : BitVec 32 := Scalar.subi v920 v922
  let c2_i32_445 : BitVec 32 := 2#32
  let c0_i32_448 : BitVec 32 := 0#32
  let v924 : BitVec 1 := Scalar.cmpi .sgt c2_i32_445 c0_i32_448
  let v925 : BitVec 32 := Scalar.extui v924
  let c0_i32_449 : BitVec 32 := 0#32
  let v926 : BitVec 1 := Scalar.cmpi .slt c2_i32_445 c0_i32_449
  let v927 : BitVec 32 := Scalar.extui v926
  let v928 : BitVec 32 := Scalar.subi v925 v927
  let v929 : BitVec 1 := Scalar.cmpi .ne v923 v928
  let v930 : BitVec 32 := Scalar.remsi v917 c2_i32_445
  let c0_i32_450 : BitVec 32 := 0#32
  let v931 : BitVec 1 := Scalar.cmpi .ne v930 c0_i32_450
  let v932 : BitVec 1 := Scalar.andi v929 v931
  let v918 : BitVec 32 := Scalar.divsi v917 c2_i32_445
  let c1_i32_451 : BitVec 32 := 1#32
  let v933 : BitVec 32 := Scalar.subi v918 c1_i32_451
  let v934 : BitVec 32 := Scalar.select v932 v933 v918
  let v935 : BitVec 32 := Scalar.maxsi c0_i32_452 v934
  let v936 : BitVec 32 := Scalar.minsi v893 v935
  let v937 : BitVec 32 := Scalar.subi v936 v916
  let c1_i32_453 : BitVec 32 := 1#32
  let v939 : BitVec 32 := Scalar.divsi v937 c1_i32_453
  let v940 : BitVec 32 := Scalar.muli v939 c1_i32_453
  let v941 : BitVec 32 := Scalar.addi v916 v940
  let c1_i32_455 : BitVec 32 := 1#32
  let arg23 : BitVec 32 := Scf.iv v941 c1_i32_455 k0_t102
  let c2_i32_612 : BitVec 32 := 2#32
  let v1306 : BitVec 32 := Scalar.muli arg23 c2_i32_612
  let v1307 : BitVec 32 := Scalar.addi v875 v1306
  let c768_i32_613 : BitVec 32 := 768#32
  let v1308 : BitVec 32 := Scalar.subi v1307 c768_i32_613
  let c0_i32_614 : BitVec 32 := 0#32
  ![v1308.toNat, 0]
def k0_off268 (v873 : BitVec 32) (v875 : BitVec 32) (k0_t102 : Fin (k0_t102_loop v873 v875).trips) : Fin 2 → Nat :=
  let c1_i32_611 : BitVec 32 := 1#32
  let v1304 : BitVec 32 := Scalar.shrsi v875 c1_i32_611
  let c1_i32_425 : BitVec 32 := 1#32
  let v876 : BitVec 32 := Scalar.addi v873 c1_i32_425
  let c0_i32_427 : BitVec 32 := 0#32
  let v878 : BitVec 1 := Scalar.cmpi .sgt v876 c0_i32_427
  let v879 : BitVec 32 := Scalar.extui v878
  let c0_i32_428 : BitVec 32 := 0#32
  let v880 : BitVec 1 := Scalar.cmpi .slt v876 c0_i32_428
  let v881 : BitVec 32 := Scalar.extui v880
  let v882 : BitVec 32 := Scalar.subi v879 v881
  let c2_i32_426 : BitVec 32 := 2#32
  let c0_i32_429 : BitVec 32 := 0#32
  let v883 : BitVec 1 := Scalar.cmpi .sgt c2_i32_426 c0_i32_429
  let v884 : BitVec 32 := Scalar.extui v883
  let c0_i32_430 : BitVec 32 := 0#32
  let v885 : BitVec 1 := Scalar.cmpi .slt c2_i32_426 c0_i32_430
  let v886 : BitVec 32 := Scalar.extui v885
  let v887 : BitVec 32 := Scalar.subi v884 v886
  let v888 : BitVec 1 := Scalar.cmpi .ne v882 v887
  let v889 : BitVec 32 := Scalar.remsi v876 c2_i32_426
  let c0_i32_431 : BitVec 32 := 0#32
  let v890 : BitVec 1 := Scalar.cmpi .ne v889 c0_i32_431
  let v891 : BitVec 1 := Scalar.andi v888 v890
  let v877 : BitVec 32 := Scalar.divsi v876 c2_i32_426
  let c1_i32_432 : BitVec 32 := 1#32
  let v892 : BitVec 32 := Scalar.subi v877 c1_i32_432
  let v893 : BitVec 32 := Scalar.select v891 v892 v877
  let c0_i32_443 : BitVec 32 := 0#32
  let c768_i32_435 : BitVec 32 := 768#32
  let v897 : BitVec 32 := Scalar.subi c768_i32_435 v875
  let c0_i32_437 : BitVec 32 := 0#32
  let v899 : BitVec 1 := Scalar.cmpi .sgt v897 c0_i32_437
  let v900 : BitVec 32 := Scalar.extui v899
  let c0_i32_438 : BitVec 32 := 0#32
  let v901 : BitVec 1 := Scalar.cmpi .slt v897 c0_i32_438
  let v902 : BitVec 32 := Scalar.extui v901
  let v903 : BitVec 32 := Scalar.subi v900 v902
  let c2_i32_436 : BitVec 32 := 2#32
  let c0_i32_439 : BitVec 32 := 0#32
  let v904 : BitVec 1 := Scalar.cmpi .sgt c2_i32_436 c0_i32_439
  let v905 : BitVec 32 := Scalar.extui v904
  let c0_i32_440 : BitVec 32 := 0#32
  let v906 : BitVec 1 := Scalar.cmpi .slt c2_i32_436 c0_i32_440
  let v907 : BitVec 32 := Scalar.extui v906
  let v908 : BitVec 32 := Scalar.subi v905 v907
  let v909 : BitVec 1 := Scalar.cmpi .ne v903 v908
  let v910 : BitVec 32 := Scalar.remsi v897 c2_i32_436
  let c0_i32_441 : BitVec 32 := 0#32
  let v911 : BitVec 1 := Scalar.cmpi .ne v910 c0_i32_441
  let v912 : BitVec 1 := Scalar.andi v909 v911
  let v898 : BitVec 32 := Scalar.divsi v897 c2_i32_436
  let c1_i32_442 : BitVec 32 := 1#32
  let v913 : BitVec 32 := Scalar.subi v898 c1_i32_442
  let v914 : BitVec 32 := Scalar.select v912 v913 v898
  let v915 : BitVec 32 := Scalar.maxsi c0_i32_443 v914
  let v916 : BitVec 32 := Scalar.minsi v893 v915
  let c0_i32_452 : BitVec 32 := 0#32
  let c1152_i32_444 : BitVec 32 := 1152#32
  let v917 : BitVec 32 := Scalar.subi c1152_i32_444 v875
  let c0_i32_446 : BitVec 32 := 0#32
  let v919 : BitVec 1 := Scalar.cmpi .sgt v917 c0_i32_446
  let v920 : BitVec 32 := Scalar.extui v919
  let c0_i32_447 : BitVec 32 := 0#32
  let v921 : BitVec 1 := Scalar.cmpi .slt v917 c0_i32_447
  let v922 : BitVec 32 := Scalar.extui v921
  let v923 : BitVec 32 := Scalar.subi v920 v922
  let c2_i32_445 : BitVec 32 := 2#32
  let c0_i32_448 : BitVec 32 := 0#32
  let v924 : BitVec 1 := Scalar.cmpi .sgt c2_i32_445 c0_i32_448
  let v925 : BitVec 32 := Scalar.extui v924
  let c0_i32_449 : BitVec 32 := 0#32
  let v926 : BitVec 1 := Scalar.cmpi .slt c2_i32_445 c0_i32_449
  let v927 : BitVec 32 := Scalar.extui v926
  let v928 : BitVec 32 := Scalar.subi v925 v927
  let v929 : BitVec 1 := Scalar.cmpi .ne v923 v928
  let v930 : BitVec 32 := Scalar.remsi v917 c2_i32_445
  let c0_i32_450 : BitVec 32 := 0#32
  let v931 : BitVec 1 := Scalar.cmpi .ne v930 c0_i32_450
  let v932 : BitVec 1 := Scalar.andi v929 v931
  let v918 : BitVec 32 := Scalar.divsi v917 c2_i32_445
  let c1_i32_451 : BitVec 32 := 1#32
  let v933 : BitVec 32 := Scalar.subi v918 c1_i32_451
  let v934 : BitVec 32 := Scalar.select v932 v933 v918
  let v935 : BitVec 32 := Scalar.maxsi c0_i32_452 v934
  let v936 : BitVec 32 := Scalar.minsi v893 v935
  let v937 : BitVec 32 := Scalar.subi v936 v916
  let c1_i32_453 : BitVec 32 := 1#32
  let v939 : BitVec 32 := Scalar.divsi v937 c1_i32_453
  let v940 : BitVec 32 := Scalar.muli v939 c1_i32_453
  let v941 : BitVec 32 := Scalar.addi v916 v940
  let c1_i32_455 : BitVec 32 := 1#32
  let arg23 : BitVec 32 := Scf.iv v941 c1_i32_455 k0_t102
  let v1305 : BitVec 32 := Scalar.addi v1304 arg23
  let c0_i32_615 : BitVec 32 := 0#32
  ![v1305.toNat, 0]

def k0_chk54 (v873 : BitVec 32) (v875 : BitVec 32) : Prop :=
  ((k0_t101_loop v873 v875).OK) ∧
  (∀ k0_t101 : Fin (k0_t101_loop v873 v875).trips, ∀ a, (k0_off264 v873 v875 k0_t101) a + S2x128.size a ≤ S384x128.size a) ∧
  (∀ k0_t101 : Fin (k0_t101_loop v873 v875).trips, ∀ a, (k0_off265 v873 v875 k0_t101) a + S1x2.size a ≤ S584x2.size a) ∧
  ((k0_t102_loop v873 v875).OK) ∧
  (∀ k0_t102 : Fin (k0_t102_loop v873 v875).trips, ∀ a, (k0_off267 v873 v875 k0_t102) a + S2x128.size a ≤ S384x128.size a) ∧
  (∀ k0_t102 : Fin (k0_t102_loop v873 v875).trips, ∀ a, (k0_off268 v873 v875 k0_t102) a + S1x2.size a ≤ S584x2.size a)
theorem k0_t101_ok : ∀ (v873 : BitVec 32) (v875 : BitVec 32) (k0_hw54 : k0_chk54 v873 v875), (k0_t101_loop v873 v875).OK := fun v873 v875 k0_hw54 => k0_hw54.1
theorem k0_off264_inb : ∀ (v873 : BitVec 32) (v875 : BitVec 32) (k0_hw54 : k0_chk54 v873 v875) (k0_t101 : Fin (k0_t101_loop v873 v875).trips), ∀ a, (k0_off264 v873 v875 k0_t101) a + S2x128.size a ≤ S384x128.size a := fun v873 v875 k0_hw54 k0_t101 => k0_hw54.2.1 k0_t101
theorem k0_off265_inb : ∀ (v873 : BitVec 32) (v875 : BitVec 32) (k0_hw54 : k0_chk54 v873 v875) (k0_t101 : Fin (k0_t101_loop v873 v875).trips), ∀ a, (k0_off265 v873 v875 k0_t101) a + S1x2.size a ≤ S584x2.size a := fun v873 v875 k0_hw54 k0_t101 => k0_hw54.2.2.1 k0_t101
theorem k0_t102_ok : ∀ (v873 : BitVec 32) (v875 : BitVec 32) (k0_hw54 : k0_chk54 v873 v875), (k0_t102_loop v873 v875).OK := fun v873 v875 k0_hw54 => k0_hw54.2.2.2.1
theorem k0_off267_inb : ∀ (v873 : BitVec 32) (v875 : BitVec 32) (k0_hw54 : k0_chk54 v873 v875) (k0_t102 : Fin (k0_t102_loop v873 v875).trips), ∀ a, (k0_off267 v873 v875 k0_t102) a + S2x128.size a ≤ S384x128.size a := fun v873 v875 k0_hw54 k0_t102 => k0_hw54.2.2.2.2.1 k0_t102
theorem k0_off268_inb : ∀ (v873 : BitVec 32) (v875 : BitVec 32) (k0_hw54 : k0_chk54 v873 v875) (k0_t102 : Fin (k0_t102_loop v873 v875).trips), ∀ a, (k0_off268 v873 v875 k0_t102) a + S1x2.size a ≤ S584x2.size a := fun v873 v875 k0_hw54 k0_t102 => k0_hw54.2.2.2.2.2 k0_t102

def k0_off269 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_433 : BitVec 32 := 16#32
  let v894 : BitVec 32 := Scalar.muli arg21 c16_i32_433
  let c10_i32 : BitVec 32 := 10#32
  let v895 : BitVec 32 := Scalar.addi v894 c10_i32
  let c128_i32_434 : BitVec 32 := 128#32
  let v896 : BitVec 32 := Scalar.muli v895 c128_i32_434
  ![0, v896.toNat]
@[reducible] def k0_t103_loop (v945 : BitVec 32) (v947 : BitVec 32) : Scf.Loop 32 :=
  let c1_i32_456 : BitVec 32 := 1#32
  let v948 : BitVec 32 := Scalar.addi v945 c1_i32_456
  let c0_i32_458 : BitVec 32 := 0#32
  let v950 : BitVec 1 := Scalar.cmpi .sgt v948 c0_i32_458
  let v951 : BitVec 32 := Scalar.extui v950
  let c0_i32_459 : BitVec 32 := 0#32
  let v952 : BitVec 1 := Scalar.cmpi .slt v948 c0_i32_459
  let v953 : BitVec 32 := Scalar.extui v952
  let v954 : BitVec 32 := Scalar.subi v951 v953
  let c2_i32_457 : BitVec 32 := 2#32
  let c0_i32_460 : BitVec 32 := 0#32
  let v955 : BitVec 1 := Scalar.cmpi .sgt c2_i32_457 c0_i32_460
  let v956 : BitVec 32 := Scalar.extui v955
  let c0_i32_461 : BitVec 32 := 0#32
  let v957 : BitVec 1 := Scalar.cmpi .slt c2_i32_457 c0_i32_461
  let v958 : BitVec 32 := Scalar.extui v957
  let v959 : BitVec 32 := Scalar.subi v956 v958
  let v960 : BitVec 1 := Scalar.cmpi .ne v954 v959
  let v961 : BitVec 32 := Scalar.remsi v948 c2_i32_457
  let c0_i32_462 : BitVec 32 := 0#32
  let v962 : BitVec 1 := Scalar.cmpi .ne v961 c0_i32_462
  let v963 : BitVec 1 := Scalar.andi v960 v962
  let v949 : BitVec 32 := Scalar.divsi v948 c2_i32_457
  let c1_i32_463 : BitVec 32 := 1#32
  let v964 : BitVec 32 := Scalar.subi v949 c1_i32_463
  let v965 : BitVec 32 := Scalar.select v963 v964 v949
  let c0_i32_474 : BitVec 32 := 0#32
  let c768_i32_466 : BitVec 32 := 768#32
  let v969 : BitVec 32 := Scalar.subi c768_i32_466 v947
  let c0_i32_468 : BitVec 32 := 0#32
  let v971 : BitVec 1 := Scalar.cmpi .sgt v969 c0_i32_468
  let v972 : BitVec 32 := Scalar.extui v971
  let c0_i32_469 : BitVec 32 := 0#32
  let v973 : BitVec 1 := Scalar.cmpi .slt v969 c0_i32_469
  let v974 : BitVec 32 := Scalar.extui v973
  let v975 : BitVec 32 := Scalar.subi v972 v974
  let c2_i32_467 : BitVec 32 := 2#32
  let c0_i32_470 : BitVec 32 := 0#32
  let v976 : BitVec 1 := Scalar.cmpi .sgt c2_i32_467 c0_i32_470
  let v977 : BitVec 32 := Scalar.extui v976
  let c0_i32_471 : BitVec 32 := 0#32
  let v978 : BitVec 1 := Scalar.cmpi .slt c2_i32_467 c0_i32_471
  let v979 : BitVec 32 := Scalar.extui v978
  let v980 : BitVec 32 := Scalar.subi v977 v979
  let v981 : BitVec 1 := Scalar.cmpi .ne v975 v980
  let v982 : BitVec 32 := Scalar.remsi v969 c2_i32_467
  let c0_i32_472 : BitVec 32 := 0#32
  let v983 : BitVec 1 := Scalar.cmpi .ne v982 c0_i32_472
  let v984 : BitVec 1 := Scalar.andi v981 v983
  let v970 : BitVec 32 := Scalar.divsi v969 c2_i32_467
  let c1_i32_473 : BitVec 32 := 1#32
  let v985 : BitVec 32 := Scalar.subi v970 c1_i32_473
  let v986 : BitVec 32 := Scalar.select v984 v985 v970
  let v987 : BitVec 32 := Scalar.maxsi c0_i32_474 v986
  let v988 : BitVec 32 := Scalar.minsi v965 v987
  let c0_i32_483 : BitVec 32 := 0#32
  let c1152_i32_475 : BitVec 32 := 1152#32
  let v989 : BitVec 32 := Scalar.subi c1152_i32_475 v947
  let c0_i32_477 : BitVec 32 := 0#32
  let v991 : BitVec 1 := Scalar.cmpi .sgt v989 c0_i32_477
  let v992 : BitVec 32 := Scalar.extui v991
  let c0_i32_478 : BitVec 32 := 0#32
  let v993 : BitVec 1 := Scalar.cmpi .slt v989 c0_i32_478
  let v994 : BitVec 32 := Scalar.extui v993
  let v995 : BitVec 32 := Scalar.subi v992 v994
  let c2_i32_476 : BitVec 32 := 2#32
  let c0_i32_479 : BitVec 32 := 0#32
  let v996 : BitVec 1 := Scalar.cmpi .sgt c2_i32_476 c0_i32_479
  let v997 : BitVec 32 := Scalar.extui v996
  let c0_i32_480 : BitVec 32 := 0#32
  let v998 : BitVec 1 := Scalar.cmpi .slt c2_i32_476 c0_i32_480
  let v999 : BitVec 32 := Scalar.extui v998
  let v1000 : BitVec 32 := Scalar.subi v997 v999
  let v1001 : BitVec 1 := Scalar.cmpi .ne v995 v1000
  let v1002 : BitVec 32 := Scalar.remsi v989 c2_i32_476
  let c0_i32_481 : BitVec 32 := 0#32
  let v1003 : BitVec 1 := Scalar.cmpi .ne v1002 c0_i32_481
  let v1004 : BitVec 1 := Scalar.andi v1001 v1003
  let v990 : BitVec 32 := Scalar.divsi v989 c2_i32_476
  let c1_i32_482 : BitVec 32 := 1#32
  let v1005 : BitVec 32 := Scalar.subi v990 c1_i32_482
  let v1006 : BitVec 32 := Scalar.select v1004 v1005 v990
  let v1007 : BitVec 32 := Scalar.maxsi c0_i32_483 v1006
  let v1008 : BitVec 32 := Scalar.minsi v965 v1007
  let v1009 : BitVec 32 := Scalar.subi v1008 v988
  let c1_i32_484 : BitVec 32 := 1#32
  let v1011 : BitVec 32 := Scalar.divsi v1009 c1_i32_484
  let v1012 : BitVec 32 := Scalar.muli v1011 c1_i32_484
  let v1013 : BitVec 32 := Scalar.addi v988 v1012
  let c1_i32_485 : BitVec 32 := 1#32
  ⟨v988, v1013, c1_i32_485⟩

def k0_off270 (v945 : BitVec 32) (v947 : BitVec 32) (k0_t103 : Fin (k0_t103_loop v945 v947).trips) : Fin 2 → Nat :=
  let c1_i32_456 : BitVec 32 := 1#32
  let v948 : BitVec 32 := Scalar.addi v945 c1_i32_456
  let c0_i32_458 : BitVec 32 := 0#32
  let v950 : BitVec 1 := Scalar.cmpi .sgt v948 c0_i32_458
  let v951 : BitVec 32 := Scalar.extui v950
  let c0_i32_459 : BitVec 32 := 0#32
  let v952 : BitVec 1 := Scalar.cmpi .slt v948 c0_i32_459
  let v953 : BitVec 32 := Scalar.extui v952
  let v954 : BitVec 32 := Scalar.subi v951 v953
  let c2_i32_457 : BitVec 32 := 2#32
  let c0_i32_460 : BitVec 32 := 0#32
  let v955 : BitVec 1 := Scalar.cmpi .sgt c2_i32_457 c0_i32_460
  let v956 : BitVec 32 := Scalar.extui v955
  let c0_i32_461 : BitVec 32 := 0#32
  let v957 : BitVec 1 := Scalar.cmpi .slt c2_i32_457 c0_i32_461
  let v958 : BitVec 32 := Scalar.extui v957
  let v959 : BitVec 32 := Scalar.subi v956 v958
  let v960 : BitVec 1 := Scalar.cmpi .ne v954 v959
  let v961 : BitVec 32 := Scalar.remsi v948 c2_i32_457
  let c0_i32_462 : BitVec 32 := 0#32
  let v962 : BitVec 1 := Scalar.cmpi .ne v961 c0_i32_462
  let v963 : BitVec 1 := Scalar.andi v960 v962
  let v949 : BitVec 32 := Scalar.divsi v948 c2_i32_457
  let c1_i32_463 : BitVec 32 := 1#32
  let v964 : BitVec 32 := Scalar.subi v949 c1_i32_463
  let v965 : BitVec 32 := Scalar.select v963 v964 v949
  let c0_i32_474 : BitVec 32 := 0#32
  let c768_i32_466 : BitVec 32 := 768#32
  let v969 : BitVec 32 := Scalar.subi c768_i32_466 v947
  let c0_i32_468 : BitVec 32 := 0#32
  let v971 : BitVec 1 := Scalar.cmpi .sgt v969 c0_i32_468
  let v972 : BitVec 32 := Scalar.extui v971
  let c0_i32_469 : BitVec 32 := 0#32
  let v973 : BitVec 1 := Scalar.cmpi .slt v969 c0_i32_469
  let v974 : BitVec 32 := Scalar.extui v973
  let v975 : BitVec 32 := Scalar.subi v972 v974
  let c2_i32_467 : BitVec 32 := 2#32
  let c0_i32_470 : BitVec 32 := 0#32
  let v976 : BitVec 1 := Scalar.cmpi .sgt c2_i32_467 c0_i32_470
  let v977 : BitVec 32 := Scalar.extui v976
  let c0_i32_471 : BitVec 32 := 0#32
  let v978 : BitVec 1 := Scalar.cmpi .slt c2_i32_467 c0_i32_471
  let v979 : BitVec 32 := Scalar.extui v978
  let v980 : BitVec 32 := Scalar.subi v977 v979
  let v981 : BitVec 1 := Scalar.cmpi .ne v975 v980
  let v982 : BitVec 32 := Scalar.remsi v969 c2_i32_467
  let c0_i32_472 : BitVec 32 := 0#32
  let v983 : BitVec 1 := Scalar.cmpi .ne v982 c0_i32_472
  let v984 : BitVec 1 := Scalar.andi v981 v983
  let v970 : BitVec 32 := Scalar.divsi v969 c2_i32_467
  let c1_i32_473 : BitVec 32 := 1#32
  let v985 : BitVec 32 := Scalar.subi v970 c1_i32_473
  let v986 : BitVec 32 := Scalar.select v984 v985 v970
  let v987 : BitVec 32 := Scalar.maxsi c0_i32_474 v986
  let v988 : BitVec 32 := Scalar.minsi v965 v987
  let c1_i32_485 : BitVec 32 := 1#32
  let arg23 : BitVec 32 := Scf.iv v988 c1_i32_485 k0_t103
  let c2_i32_612 : BitVec 32 := 2#32
  let v1306 : BitVec 32 := Scalar.muli arg23 c2_i32_612
  let v1307 : BitVec 32 := Scalar.addi v947 v1306
  let c768_i32_613 : BitVec 32 := 768#32
  let v1308 : BitVec 32 := Scalar.subi v1307 c768_i32_613
  let c0_i32_614 : BitVec 32 := 0#32
  ![v1308.toNat, 0]
def k0_off271 (v945 : BitVec 32) (v947 : BitVec 32) (k0_t103 : Fin (k0_t103_loop v945 v947).trips) : Fin 2 → Nat :=
  let c1_i32_611 : BitVec 32 := 1#32
  let v1304 : BitVec 32 := Scalar.shrsi v947 c1_i32_611
  let c1_i32_456 : BitVec 32 := 1#32
  let v948 : BitVec 32 := Scalar.addi v945 c1_i32_456
  let c0_i32_458 : BitVec 32 := 0#32
  let v950 : BitVec 1 := Scalar.cmpi .sgt v948 c0_i32_458
  let v951 : BitVec 32 := Scalar.extui v950
  let c0_i32_459 : BitVec 32 := 0#32
  let v952 : BitVec 1 := Scalar.cmpi .slt v948 c0_i32_459
  let v953 : BitVec 32 := Scalar.extui v952
  let v954 : BitVec 32 := Scalar.subi v951 v953
  let c2_i32_457 : BitVec 32 := 2#32
  let c0_i32_460 : BitVec 32 := 0#32
  let v955 : BitVec 1 := Scalar.cmpi .sgt c2_i32_457 c0_i32_460
  let v956 : BitVec 32 := Scalar.extui v955
  let c0_i32_461 : BitVec 32 := 0#32
  let v957 : BitVec 1 := Scalar.cmpi .slt c2_i32_457 c0_i32_461
  let v958 : BitVec 32 := Scalar.extui v957
  let v959 : BitVec 32 := Scalar.subi v956 v958
  let v960 : BitVec 1 := Scalar.cmpi .ne v954 v959
  let v961 : BitVec 32 := Scalar.remsi v948 c2_i32_457
  let c0_i32_462 : BitVec 32 := 0#32
  let v962 : BitVec 1 := Scalar.cmpi .ne v961 c0_i32_462
  let v963 : BitVec 1 := Scalar.andi v960 v962
  let v949 : BitVec 32 := Scalar.divsi v948 c2_i32_457
  let c1_i32_463 : BitVec 32 := 1#32
  let v964 : BitVec 32 := Scalar.subi v949 c1_i32_463
  let v965 : BitVec 32 := Scalar.select v963 v964 v949
  let c0_i32_474 : BitVec 32 := 0#32
  let c768_i32_466 : BitVec 32 := 768#32
  let v969 : BitVec 32 := Scalar.subi c768_i32_466 v947
  let c0_i32_468 : BitVec 32 := 0#32
  let v971 : BitVec 1 := Scalar.cmpi .sgt v969 c0_i32_468
  let v972 : BitVec 32 := Scalar.extui v971
  let c0_i32_469 : BitVec 32 := 0#32
  let v973 : BitVec 1 := Scalar.cmpi .slt v969 c0_i32_469
  let v974 : BitVec 32 := Scalar.extui v973
  let v975 : BitVec 32 := Scalar.subi v972 v974
  let c2_i32_467 : BitVec 32 := 2#32
  let c0_i32_470 : BitVec 32 := 0#32
  let v976 : BitVec 1 := Scalar.cmpi .sgt c2_i32_467 c0_i32_470
  let v977 : BitVec 32 := Scalar.extui v976
  let c0_i32_471 : BitVec 32 := 0#32
  let v978 : BitVec 1 := Scalar.cmpi .slt c2_i32_467 c0_i32_471
  let v979 : BitVec 32 := Scalar.extui v978
  let v980 : BitVec 32 := Scalar.subi v977 v979
  let v981 : BitVec 1 := Scalar.cmpi .ne v975 v980
  let v982 : BitVec 32 := Scalar.remsi v969 c2_i32_467
  let c0_i32_472 : BitVec 32 := 0#32
  let v983 : BitVec 1 := Scalar.cmpi .ne v982 c0_i32_472
  let v984 : BitVec 1 := Scalar.andi v981 v983
  let v970 : BitVec 32 := Scalar.divsi v969 c2_i32_467
  let c1_i32_473 : BitVec 32 := 1#32
  let v985 : BitVec 32 := Scalar.subi v970 c1_i32_473
  let v986 : BitVec 32 := Scalar.select v984 v985 v970
  let v987 : BitVec 32 := Scalar.maxsi c0_i32_474 v986
  let v988 : BitVec 32 := Scalar.minsi v965 v987
  let c1_i32_485 : BitVec 32 := 1#32
  let arg23 : BitVec 32 := Scf.iv v988 c1_i32_485 k0_t103
  let v1305 : BitVec 32 := Scalar.addi v1304 arg23
  let c0_i32_615 : BitVec 32 := 0#32
  ![v1305.toNat, 0]
def k0_off272 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_464 : BitVec 32 := 16#32
  let v966 : BitVec 32 := Scalar.muli arg21 c16_i32_464
  let c11_i32 : BitVec 32 := 11#32
  let v967 : BitVec 32 := Scalar.addi v966 c11_i32
  let c128_i32_465 : BitVec 32 := 128#32
  let v968 : BitVec 32 := Scalar.muli v967 c128_i32_465
  ![0, v968.toNat]
@[reducible] def k0_t104_loop (v945 : BitVec 32) (v947 : BitVec 32) : Scf.Loop 32 :=
  let c1_i32_456 : BitVec 32 := 1#32
  let v948 : BitVec 32 := Scalar.addi v945 c1_i32_456
  let c0_i32_458 : BitVec 32 := 0#32
  let v950 : BitVec 1 := Scalar.cmpi .sgt v948 c0_i32_458
  let v951 : BitVec 32 := Scalar.extui v950
  let c0_i32_459 : BitVec 32 := 0#32
  let v952 : BitVec 1 := Scalar.cmpi .slt v948 c0_i32_459
  let v953 : BitVec 32 := Scalar.extui v952
  let v954 : BitVec 32 := Scalar.subi v951 v953
  let c2_i32_457 : BitVec 32 := 2#32
  let c0_i32_460 : BitVec 32 := 0#32
  let v955 : BitVec 1 := Scalar.cmpi .sgt c2_i32_457 c0_i32_460
  let v956 : BitVec 32 := Scalar.extui v955
  let c0_i32_461 : BitVec 32 := 0#32
  let v957 : BitVec 1 := Scalar.cmpi .slt c2_i32_457 c0_i32_461
  let v958 : BitVec 32 := Scalar.extui v957
  let v959 : BitVec 32 := Scalar.subi v956 v958
  let v960 : BitVec 1 := Scalar.cmpi .ne v954 v959
  let v961 : BitVec 32 := Scalar.remsi v948 c2_i32_457
  let c0_i32_462 : BitVec 32 := 0#32
  let v962 : BitVec 1 := Scalar.cmpi .ne v961 c0_i32_462
  let v963 : BitVec 1 := Scalar.andi v960 v962
  let v949 : BitVec 32 := Scalar.divsi v948 c2_i32_457
  let c1_i32_463 : BitVec 32 := 1#32
  let v964 : BitVec 32 := Scalar.subi v949 c1_i32_463
  let v965 : BitVec 32 := Scalar.select v963 v964 v949
  let c0_i32_474 : BitVec 32 := 0#32
  let c768_i32_466 : BitVec 32 := 768#32
  let v969 : BitVec 32 := Scalar.subi c768_i32_466 v947
  let c0_i32_468 : BitVec 32 := 0#32
  let v971 : BitVec 1 := Scalar.cmpi .sgt v969 c0_i32_468
  let v972 : BitVec 32 := Scalar.extui v971
  let c0_i32_469 : BitVec 32 := 0#32
  let v973 : BitVec 1 := Scalar.cmpi .slt v969 c0_i32_469
  let v974 : BitVec 32 := Scalar.extui v973
  let v975 : BitVec 32 := Scalar.subi v972 v974
  let c2_i32_467 : BitVec 32 := 2#32
  let c0_i32_470 : BitVec 32 := 0#32
  let v976 : BitVec 1 := Scalar.cmpi .sgt c2_i32_467 c0_i32_470
  let v977 : BitVec 32 := Scalar.extui v976
  let c0_i32_471 : BitVec 32 := 0#32
  let v978 : BitVec 1 := Scalar.cmpi .slt c2_i32_467 c0_i32_471
  let v979 : BitVec 32 := Scalar.extui v978
  let v980 : BitVec 32 := Scalar.subi v977 v979
  let v981 : BitVec 1 := Scalar.cmpi .ne v975 v980
  let v982 : BitVec 32 := Scalar.remsi v969 c2_i32_467
  let c0_i32_472 : BitVec 32 := 0#32
  let v983 : BitVec 1 := Scalar.cmpi .ne v982 c0_i32_472
  let v984 : BitVec 1 := Scalar.andi v981 v983
  let v970 : BitVec 32 := Scalar.divsi v969 c2_i32_467
  let c1_i32_473 : BitVec 32 := 1#32
  let v985 : BitVec 32 := Scalar.subi v970 c1_i32_473
  let v986 : BitVec 32 := Scalar.select v984 v985 v970
  let v987 : BitVec 32 := Scalar.maxsi c0_i32_474 v986
  let v988 : BitVec 32 := Scalar.minsi v965 v987
  let c0_i32_483 : BitVec 32 := 0#32
  let c1152_i32_475 : BitVec 32 := 1152#32
  let v989 : BitVec 32 := Scalar.subi c1152_i32_475 v947
  let c0_i32_477 : BitVec 32 := 0#32
  let v991 : BitVec 1 := Scalar.cmpi .sgt v989 c0_i32_477
  let v992 : BitVec 32 := Scalar.extui v991
  let c0_i32_478 : BitVec 32 := 0#32
  let v993 : BitVec 1 := Scalar.cmpi .slt v989 c0_i32_478
  let v994 : BitVec 32 := Scalar.extui v993
  let v995 : BitVec 32 := Scalar.subi v992 v994
  let c2_i32_476 : BitVec 32 := 2#32
  let c0_i32_479 : BitVec 32 := 0#32
  let v996 : BitVec 1 := Scalar.cmpi .sgt c2_i32_476 c0_i32_479
  let v997 : BitVec 32 := Scalar.extui v996
  let c0_i32_480 : BitVec 32 := 0#32
  let v998 : BitVec 1 := Scalar.cmpi .slt c2_i32_476 c0_i32_480
  let v999 : BitVec 32 := Scalar.extui v998
  let v1000 : BitVec 32 := Scalar.subi v997 v999
  let v1001 : BitVec 1 := Scalar.cmpi .ne v995 v1000
  let v1002 : BitVec 32 := Scalar.remsi v989 c2_i32_476
  let c0_i32_481 : BitVec 32 := 0#32
  let v1003 : BitVec 1 := Scalar.cmpi .ne v1002 c0_i32_481
  let v1004 : BitVec 1 := Scalar.andi v1001 v1003
  let v990 : BitVec 32 := Scalar.divsi v989 c2_i32_476
  let c1_i32_482 : BitVec 32 := 1#32
  let v1005 : BitVec 32 := Scalar.subi v990 c1_i32_482
  let v1006 : BitVec 32 := Scalar.select v1004 v1005 v990
  let v1007 : BitVec 32 := Scalar.maxsi c0_i32_483 v1006
  let v1008 : BitVec 32 := Scalar.minsi v965 v1007
  let v1009 : BitVec 32 := Scalar.subi v1008 v988
  let c1_i32_484 : BitVec 32 := 1#32
  let v1011 : BitVec 32 := Scalar.divsi v1009 c1_i32_484
  let v1012 : BitVec 32 := Scalar.muli v1011 c1_i32_484
  let v1013 : BitVec 32 := Scalar.addi v988 v1012
  let v1010 : BitVec 32 := Scalar.addi v988 v1009
  let c1_i32_486 : BitVec 32 := 1#32
  ⟨v1013, v1010, c1_i32_486⟩
def k0_off273 (v945 : BitVec 32) (v947 : BitVec 32) (k0_t104 : Fin (k0_t104_loop v945 v947).trips) : Fin 2 → Nat :=
  let c1_i32_456 : BitVec 32 := 1#32
  let v948 : BitVec 32 := Scalar.addi v945 c1_i32_456
  let c0_i32_458 : BitVec 32 := 0#32
  let v950 : BitVec 1 := Scalar.cmpi .sgt v948 c0_i32_458
  let v951 : BitVec 32 := Scalar.extui v950
  let c0_i32_459 : BitVec 32 := 0#32
  let v952 : BitVec 1 := Scalar.cmpi .slt v948 c0_i32_459
  let v953 : BitVec 32 := Scalar.extui v952
  let v954 : BitVec 32 := Scalar.subi v951 v953
  let c2_i32_457 : BitVec 32 := 2#32
  let c0_i32_460 : BitVec 32 := 0#32
  let v955 : BitVec 1 := Scalar.cmpi .sgt c2_i32_457 c0_i32_460
  let v956 : BitVec 32 := Scalar.extui v955
  let c0_i32_461 : BitVec 32 := 0#32
  let v957 : BitVec 1 := Scalar.cmpi .slt c2_i32_457 c0_i32_461
  let v958 : BitVec 32 := Scalar.extui v957
  let v959 : BitVec 32 := Scalar.subi v956 v958
  let v960 : BitVec 1 := Scalar.cmpi .ne v954 v959
  let v961 : BitVec 32 := Scalar.remsi v948 c2_i32_457
  let c0_i32_462 : BitVec 32 := 0#32
  let v962 : BitVec 1 := Scalar.cmpi .ne v961 c0_i32_462
  let v963 : BitVec 1 := Scalar.andi v960 v962
  let v949 : BitVec 32 := Scalar.divsi v948 c2_i32_457
  let c1_i32_463 : BitVec 32 := 1#32
  let v964 : BitVec 32 := Scalar.subi v949 c1_i32_463
  let v965 : BitVec 32 := Scalar.select v963 v964 v949
  let c0_i32_474 : BitVec 32 := 0#32
  let c768_i32_466 : BitVec 32 := 768#32
  let v969 : BitVec 32 := Scalar.subi c768_i32_466 v947
  let c0_i32_468 : BitVec 32 := 0#32
  let v971 : BitVec 1 := Scalar.cmpi .sgt v969 c0_i32_468
  let v972 : BitVec 32 := Scalar.extui v971
  let c0_i32_469 : BitVec 32 := 0#32
  let v973 : BitVec 1 := Scalar.cmpi .slt v969 c0_i32_469
  let v974 : BitVec 32 := Scalar.extui v973
  let v975 : BitVec 32 := Scalar.subi v972 v974
  let c2_i32_467 : BitVec 32 := 2#32
  let c0_i32_470 : BitVec 32 := 0#32
  let v976 : BitVec 1 := Scalar.cmpi .sgt c2_i32_467 c0_i32_470
  let v977 : BitVec 32 := Scalar.extui v976
  let c0_i32_471 : BitVec 32 := 0#32
  let v978 : BitVec 1 := Scalar.cmpi .slt c2_i32_467 c0_i32_471
  let v979 : BitVec 32 := Scalar.extui v978
  let v980 : BitVec 32 := Scalar.subi v977 v979
  let v981 : BitVec 1 := Scalar.cmpi .ne v975 v980
  let v982 : BitVec 32 := Scalar.remsi v969 c2_i32_467
  let c0_i32_472 : BitVec 32 := 0#32
  let v983 : BitVec 1 := Scalar.cmpi .ne v982 c0_i32_472
  let v984 : BitVec 1 := Scalar.andi v981 v983
  let v970 : BitVec 32 := Scalar.divsi v969 c2_i32_467
  let c1_i32_473 : BitVec 32 := 1#32
  let v985 : BitVec 32 := Scalar.subi v970 c1_i32_473
  let v986 : BitVec 32 := Scalar.select v984 v985 v970
  let v987 : BitVec 32 := Scalar.maxsi c0_i32_474 v986
  let v988 : BitVec 32 := Scalar.minsi v965 v987
  let c0_i32_483 : BitVec 32 := 0#32
  let c1152_i32_475 : BitVec 32 := 1152#32
  let v989 : BitVec 32 := Scalar.subi c1152_i32_475 v947
  let c0_i32_477 : BitVec 32 := 0#32
  let v991 : BitVec 1 := Scalar.cmpi .sgt v989 c0_i32_477
  let v992 : BitVec 32 := Scalar.extui v991
  let c0_i32_478 : BitVec 32 := 0#32
  let v993 : BitVec 1 := Scalar.cmpi .slt v989 c0_i32_478
  let v994 : BitVec 32 := Scalar.extui v993
  let v995 : BitVec 32 := Scalar.subi v992 v994
  let c2_i32_476 : BitVec 32 := 2#32
  let c0_i32_479 : BitVec 32 := 0#32
  let v996 : BitVec 1 := Scalar.cmpi .sgt c2_i32_476 c0_i32_479
  let v997 : BitVec 32 := Scalar.extui v996
  let c0_i32_480 : BitVec 32 := 0#32
  let v998 : BitVec 1 := Scalar.cmpi .slt c2_i32_476 c0_i32_480
  let v999 : BitVec 32 := Scalar.extui v998
  let v1000 : BitVec 32 := Scalar.subi v997 v999
  let v1001 : BitVec 1 := Scalar.cmpi .ne v995 v1000
  let v1002 : BitVec 32 := Scalar.remsi v989 c2_i32_476
  let c0_i32_481 : BitVec 32 := 0#32
  let v1003 : BitVec 1 := Scalar.cmpi .ne v1002 c0_i32_481
  let v1004 : BitVec 1 := Scalar.andi v1001 v1003
  let v990 : BitVec 32 := Scalar.divsi v989 c2_i32_476
  let c1_i32_482 : BitVec 32 := 1#32
  let v1005 : BitVec 32 := Scalar.subi v990 c1_i32_482
  let v1006 : BitVec 32 := Scalar.select v1004 v1005 v990
  let v1007 : BitVec 32 := Scalar.maxsi c0_i32_483 v1006
  let v1008 : BitVec 32 := Scalar.minsi v965 v1007
  let v1009 : BitVec 32 := Scalar.subi v1008 v988
  let c1_i32_484 : BitVec 32 := 1#32
  let v1011 : BitVec 32 := Scalar.divsi v1009 c1_i32_484
  let v1012 : BitVec 32 := Scalar.muli v1011 c1_i32_484
  let v1013 : BitVec 32 := Scalar.addi v988 v1012
  let c1_i32_486 : BitVec 32 := 1#32
  let arg23 : BitVec 32 := Scf.iv v1013 c1_i32_486 k0_t104
  let c2_i32_612 : BitVec 32 := 2#32
  let v1306 : BitVec 32 := Scalar.muli arg23 c2_i32_612
  let v1307 : BitVec 32 := Scalar.addi v947 v1306
  let c768_i32_613 : BitVec 32 := 768#32
  let v1308 : BitVec 32 := Scalar.subi v1307 c768_i32_613
  let c0_i32_614 : BitVec 32 := 0#32
  ![v1308.toNat, 0]
def k0_off274 (v945 : BitVec 32) (v947 : BitVec 32) (k0_t104 : Fin (k0_t104_loop v945 v947).trips) : Fin 2 → Nat :=
  let c1_i32_611 : BitVec 32 := 1#32
  let v1304 : BitVec 32 := Scalar.shrsi v947 c1_i32_611
  let c1_i32_456 : BitVec 32 := 1#32
  let v948 : BitVec 32 := Scalar.addi v945 c1_i32_456
  let c0_i32_458 : BitVec 32 := 0#32
  let v950 : BitVec 1 := Scalar.cmpi .sgt v948 c0_i32_458
  let v951 : BitVec 32 := Scalar.extui v950
  let c0_i32_459 : BitVec 32 := 0#32
  let v952 : BitVec 1 := Scalar.cmpi .slt v948 c0_i32_459
  let v953 : BitVec 32 := Scalar.extui v952
  let v954 : BitVec 32 := Scalar.subi v951 v953
  let c2_i32_457 : BitVec 32 := 2#32
  let c0_i32_460 : BitVec 32 := 0#32
  let v955 : BitVec 1 := Scalar.cmpi .sgt c2_i32_457 c0_i32_460
  let v956 : BitVec 32 := Scalar.extui v955
  let c0_i32_461 : BitVec 32 := 0#32
  let v957 : BitVec 1 := Scalar.cmpi .slt c2_i32_457 c0_i32_461
  let v958 : BitVec 32 := Scalar.extui v957
  let v959 : BitVec 32 := Scalar.subi v956 v958
  let v960 : BitVec 1 := Scalar.cmpi .ne v954 v959
  let v961 : BitVec 32 := Scalar.remsi v948 c2_i32_457
  let c0_i32_462 : BitVec 32 := 0#32
  let v962 : BitVec 1 := Scalar.cmpi .ne v961 c0_i32_462
  let v963 : BitVec 1 := Scalar.andi v960 v962
  let v949 : BitVec 32 := Scalar.divsi v948 c2_i32_457
  let c1_i32_463 : BitVec 32 := 1#32
  let v964 : BitVec 32 := Scalar.subi v949 c1_i32_463
  let v965 : BitVec 32 := Scalar.select v963 v964 v949
  let c0_i32_474 : BitVec 32 := 0#32
  let c768_i32_466 : BitVec 32 := 768#32
  let v969 : BitVec 32 := Scalar.subi c768_i32_466 v947
  let c0_i32_468 : BitVec 32 := 0#32
  let v971 : BitVec 1 := Scalar.cmpi .sgt v969 c0_i32_468
  let v972 : BitVec 32 := Scalar.extui v971
  let c0_i32_469 : BitVec 32 := 0#32
  let v973 : BitVec 1 := Scalar.cmpi .slt v969 c0_i32_469
  let v974 : BitVec 32 := Scalar.extui v973
  let v975 : BitVec 32 := Scalar.subi v972 v974
  let c2_i32_467 : BitVec 32 := 2#32
  let c0_i32_470 : BitVec 32 := 0#32
  let v976 : BitVec 1 := Scalar.cmpi .sgt c2_i32_467 c0_i32_470
  let v977 : BitVec 32 := Scalar.extui v976
  let c0_i32_471 : BitVec 32 := 0#32
  let v978 : BitVec 1 := Scalar.cmpi .slt c2_i32_467 c0_i32_471
  let v979 : BitVec 32 := Scalar.extui v978
  let v980 : BitVec 32 := Scalar.subi v977 v979
  let v981 : BitVec 1 := Scalar.cmpi .ne v975 v980
  let v982 : BitVec 32 := Scalar.remsi v969 c2_i32_467
  let c0_i32_472 : BitVec 32 := 0#32
  let v983 : BitVec 1 := Scalar.cmpi .ne v982 c0_i32_472
  let v984 : BitVec 1 := Scalar.andi v981 v983
  let v970 : BitVec 32 := Scalar.divsi v969 c2_i32_467
  let c1_i32_473 : BitVec 32 := 1#32
  let v985 : BitVec 32 := Scalar.subi v970 c1_i32_473
  let v986 : BitVec 32 := Scalar.select v984 v985 v970
  let v987 : BitVec 32 := Scalar.maxsi c0_i32_474 v986
  let v988 : BitVec 32 := Scalar.minsi v965 v987
  let c0_i32_483 : BitVec 32 := 0#32
  let c1152_i32_475 : BitVec 32 := 1152#32
  let v989 : BitVec 32 := Scalar.subi c1152_i32_475 v947
  let c0_i32_477 : BitVec 32 := 0#32
  let v991 : BitVec 1 := Scalar.cmpi .sgt v989 c0_i32_477
  let v992 : BitVec 32 := Scalar.extui v991
  let c0_i32_478 : BitVec 32 := 0#32
  let v993 : BitVec 1 := Scalar.cmpi .slt v989 c0_i32_478
  let v994 : BitVec 32 := Scalar.extui v993
  let v995 : BitVec 32 := Scalar.subi v992 v994
  let c2_i32_476 : BitVec 32 := 2#32
  let c0_i32_479 : BitVec 32 := 0#32
  let v996 : BitVec 1 := Scalar.cmpi .sgt c2_i32_476 c0_i32_479
  let v997 : BitVec 32 := Scalar.extui v996
  let c0_i32_480 : BitVec 32 := 0#32
  let v998 : BitVec 1 := Scalar.cmpi .slt c2_i32_476 c0_i32_480
  let v999 : BitVec 32 := Scalar.extui v998
  let v1000 : BitVec 32 := Scalar.subi v997 v999
  let v1001 : BitVec 1 := Scalar.cmpi .ne v995 v1000
  let v1002 : BitVec 32 := Scalar.remsi v989 c2_i32_476
  let c0_i32_481 : BitVec 32 := 0#32
  let v1003 : BitVec 1 := Scalar.cmpi .ne v1002 c0_i32_481
  let v1004 : BitVec 1 := Scalar.andi v1001 v1003
  let v990 : BitVec 32 := Scalar.divsi v989 c2_i32_476
  let c1_i32_482 : BitVec 32 := 1#32
  let v1005 : BitVec 32 := Scalar.subi v990 c1_i32_482
  let v1006 : BitVec 32 := Scalar.select v1004 v1005 v990
  let v1007 : BitVec 32 := Scalar.maxsi c0_i32_483 v1006
  let v1008 : BitVec 32 := Scalar.minsi v965 v1007
  let v1009 : BitVec 32 := Scalar.subi v1008 v988
  let c1_i32_484 : BitVec 32 := 1#32
  let v1011 : BitVec 32 := Scalar.divsi v1009 c1_i32_484
  let v1012 : BitVec 32 := Scalar.muli v1011 c1_i32_484
  let v1013 : BitVec 32 := Scalar.addi v988 v1012
  let c1_i32_486 : BitVec 32 := 1#32
  let arg23 : BitVec 32 := Scf.iv v1013 c1_i32_486 k0_t104
  let v1305 : BitVec 32 := Scalar.addi v1304 arg23
  let c0_i32_615 : BitVec 32 := 0#32
  ![v1305.toNat, 0]

def k0_chk55 (v945 : BitVec 32) (v947 : BitVec 32) : Prop :=
  ((k0_t103_loop v945 v947).OK) ∧
  (∀ k0_t103 : Fin (k0_t103_loop v945 v947).trips, ∀ a, (k0_off270 v945 v947 k0_t103) a + S2x128.size a ≤ S384x128.size a) ∧
  (∀ k0_t103 : Fin (k0_t103_loop v945 v947).trips, ∀ a, (k0_off271 v945 v947 k0_t103) a + S1x2.size a ≤ S584x2.size a) ∧
  ((k0_t104_loop v945 v947).OK) ∧
  (∀ k0_t104 : Fin (k0_t104_loop v945 v947).trips, ∀ a, (k0_off273 v945 v947 k0_t104) a + S2x128.size a ≤ S384x128.size a) ∧
  (∀ k0_t104 : Fin (k0_t104_loop v945 v947).trips, ∀ a, (k0_off274 v945 v947 k0_t104) a + S1x2.size a ≤ S584x2.size a)
theorem k0_t103_ok : ∀ (v945 : BitVec 32) (v947 : BitVec 32) (k0_hw55 : k0_chk55 v945 v947), (k0_t103_loop v945 v947).OK := fun v945 v947 k0_hw55 => k0_hw55.1
theorem k0_off270_inb : ∀ (v945 : BitVec 32) (v947 : BitVec 32) (k0_hw55 : k0_chk55 v945 v947) (k0_t103 : Fin (k0_t103_loop v945 v947).trips), ∀ a, (k0_off270 v945 v947 k0_t103) a + S2x128.size a ≤ S384x128.size a := fun v945 v947 k0_hw55 k0_t103 => k0_hw55.2.1 k0_t103
theorem k0_off271_inb : ∀ (v945 : BitVec 32) (v947 : BitVec 32) (k0_hw55 : k0_chk55 v945 v947) (k0_t103 : Fin (k0_t103_loop v945 v947).trips), ∀ a, (k0_off271 v945 v947 k0_t103) a + S1x2.size a ≤ S584x2.size a := fun v945 v947 k0_hw55 k0_t103 => k0_hw55.2.2.1 k0_t103
theorem k0_t104_ok : ∀ (v945 : BitVec 32) (v947 : BitVec 32) (k0_hw55 : k0_chk55 v945 v947), (k0_t104_loop v945 v947).OK := fun v945 v947 k0_hw55 => k0_hw55.2.2.2.1
theorem k0_off273_inb : ∀ (v945 : BitVec 32) (v947 : BitVec 32) (k0_hw55 : k0_chk55 v945 v947) (k0_t104 : Fin (k0_t104_loop v945 v947).trips), ∀ a, (k0_off273 v945 v947 k0_t104) a + S2x128.size a ≤ S384x128.size a := fun v945 v947 k0_hw55 k0_t104 => k0_hw55.2.2.2.2.1 k0_t104
theorem k0_off274_inb : ∀ (v945 : BitVec 32) (v947 : BitVec 32) (k0_hw55 : k0_chk55 v945 v947) (k0_t104 : Fin (k0_t104_loop v945 v947).trips), ∀ a, (k0_off274 v945 v947 k0_t104) a + S1x2.size a ≤ S584x2.size a := fun v945 v947 k0_hw55 k0_t104 => k0_hw55.2.2.2.2.2 k0_t104

def k0_off275 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_464 : BitVec 32 := 16#32
  let v966 : BitVec 32 := Scalar.muli arg21 c16_i32_464
  let c11_i32 : BitVec 32 := 11#32
  let v967 : BitVec 32 := Scalar.addi v966 c11_i32
  let c128_i32_465 : BitVec 32 := 128#32
  let v968 : BitVec 32 := Scalar.muli v967 c128_i32_465
  ![0, v968.toNat]
@[reducible] def k0_t105_loop (v1017 : BitVec 32) (v1019 : BitVec 32) : Scf.Loop 32 :=
  let c1_i32_487 : BitVec 32 := 1#32
  let v1020 : BitVec 32 := Scalar.addi v1017 c1_i32_487
  let c0_i32_489 : BitVec 32 := 0#32
  let v1022 : BitVec 1 := Scalar.cmpi .sgt v1020 c0_i32_489
  let v1023 : BitVec 32 := Scalar.extui v1022
  let c0_i32_490 : BitVec 32 := 0#32
  let v1024 : BitVec 1 := Scalar.cmpi .slt v1020 c0_i32_490
  let v1025 : BitVec 32 := Scalar.extui v1024
  let v1026 : BitVec 32 := Scalar.subi v1023 v1025
  let c2_i32_488 : BitVec 32 := 2#32
  let c0_i32_491 : BitVec 32 := 0#32
  let v1027 : BitVec 1 := Scalar.cmpi .sgt c2_i32_488 c0_i32_491
  let v1028 : BitVec 32 := Scalar.extui v1027
  let c0_i32_492 : BitVec 32 := 0#32
  let v1029 : BitVec 1 := Scalar.cmpi .slt c2_i32_488 c0_i32_492
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_488
  let c0_i32_493 : BitVec 32 := 0#32
  let v1034 : BitVec 1 := Scalar.cmpi .ne v1033 c0_i32_493
  let v1035 : BitVec 1 := Scalar.andi v1032 v1034
  let v1021 : BitVec 32 := Scalar.divsi v1020 c2_i32_488
  let c1_i32_494 : BitVec 32 := 1#32
  let v1036 : BitVec 32 := Scalar.subi v1021 c1_i32_494
  let v1037 : BitVec 32 := Scalar.select v1035 v1036 v1021
  let c0_i32_505 : BitVec 32 := 0#32
  let c768_i32_497 : BitVec 32 := 768#32
  let v1041 : BitVec 32 := Scalar.subi c768_i32_497 v1019
  let c0_i32_499 : BitVec 32 := 0#32
  let v1043 : BitVec 1 := Scalar.cmpi .sgt v1041 c0_i32_499
  let v1044 : BitVec 32 := Scalar.extui v1043
  let c0_i32_500 : BitVec 32 := 0#32
  let v1045 : BitVec 1 := Scalar.cmpi .slt v1041 c0_i32_500
  let v1046 : BitVec 32 := Scalar.extui v1045
  let v1047 : BitVec 32 := Scalar.subi v1044 v1046
  let c2_i32_498 : BitVec 32 := 2#32
  let c0_i32_501 : BitVec 32 := 0#32
  let v1048 : BitVec 1 := Scalar.cmpi .sgt c2_i32_498 c0_i32_501
  let v1049 : BitVec 32 := Scalar.extui v1048
  let c0_i32_502 : BitVec 32 := 0#32
  let v1050 : BitVec 1 := Scalar.cmpi .slt c2_i32_498 c0_i32_502
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_498
  let c0_i32_503 : BitVec 32 := 0#32
  let v1055 : BitVec 1 := Scalar.cmpi .ne v1054 c0_i32_503
  let v1056 : BitVec 1 := Scalar.andi v1053 v1055
  let v1042 : BitVec 32 := Scalar.divsi v1041 c2_i32_498
  let c1_i32_504 : BitVec 32 := 1#32
  let v1057 : BitVec 32 := Scalar.subi v1042 c1_i32_504
  let v1058 : BitVec 32 := Scalar.select v1056 v1057 v1042
  let v1059 : BitVec 32 := Scalar.maxsi c0_i32_505 v1058
  let v1060 : BitVec 32 := Scalar.minsi v1037 v1059
  let c0_i32_514 : BitVec 32 := 0#32
  let c1152_i32_506 : BitVec 32 := 1152#32
  let v1061 : BitVec 32 := Scalar.subi c1152_i32_506 v1019
  let c0_i32_508 : BitVec 32 := 0#32
  let v1063 : BitVec 1 := Scalar.cmpi .sgt v1061 c0_i32_508
  let v1064 : BitVec 32 := Scalar.extui v1063
  let c0_i32_509 : BitVec 32 := 0#32
  let v1065 : BitVec 1 := Scalar.cmpi .slt v1061 c0_i32_509
  let v1066 : BitVec 32 := Scalar.extui v1065
  let v1067 : BitVec 32 := Scalar.subi v1064 v1066
  let c2_i32_507 : BitVec 32 := 2#32
  let c0_i32_510 : BitVec 32 := 0#32
  let v1068 : BitVec 1 := Scalar.cmpi .sgt c2_i32_507 c0_i32_510
  let v1069 : BitVec 32 := Scalar.extui v1068
  let c0_i32_511 : BitVec 32 := 0#32
  let v1070 : BitVec 1 := Scalar.cmpi .slt c2_i32_507 c0_i32_511
  let v1071 : BitVec 32 := Scalar.extui v1070
  let v1072 : BitVec 32 := Scalar.subi v1069 v1071
  let v1073 : BitVec 1 := Scalar.cmpi .ne v1067 v1072
  let v1074 : BitVec 32 := Scalar.remsi v1061 c2_i32_507
  let c0_i32_512 : BitVec 32 := 0#32
  let v1075 : BitVec 1 := Scalar.cmpi .ne v1074 c0_i32_512
  let v1076 : BitVec 1 := Scalar.andi v1073 v1075
  let v1062 : BitVec 32 := Scalar.divsi v1061 c2_i32_507
  let c1_i32_513 : BitVec 32 := 1#32
  let v1077 : BitVec 32 := Scalar.subi v1062 c1_i32_513
  let v1078 : BitVec 32 := Scalar.select v1076 v1077 v1062
  let v1079 : BitVec 32 := Scalar.maxsi c0_i32_514 v1078
  let v1080 : BitVec 32 := Scalar.minsi v1037 v1079
  let v1081 : BitVec 32 := Scalar.subi v1080 v1060
  let c1_i32_515 : BitVec 32 := 1#32
  let v1083 : BitVec 32 := Scalar.divsi v1081 c1_i32_515
  let v1084 : BitVec 32 := Scalar.muli v1083 c1_i32_515
  let v1085 : BitVec 32 := Scalar.addi v1060 v1084
  let c1_i32_516 : BitVec 32 := 1#32
  ⟨v1060, v1085, c1_i32_516⟩

def k0_off276 (v1017 : BitVec 32) (v1019 : BitVec 32) (k0_t105 : Fin (k0_t105_loop v1017 v1019).trips) : Fin 2 → Nat :=
  let c1_i32_487 : BitVec 32 := 1#32
  let v1020 : BitVec 32 := Scalar.addi v1017 c1_i32_487
  let c0_i32_489 : BitVec 32 := 0#32
  let v1022 : BitVec 1 := Scalar.cmpi .sgt v1020 c0_i32_489
  let v1023 : BitVec 32 := Scalar.extui v1022
  let c0_i32_490 : BitVec 32 := 0#32
  let v1024 : BitVec 1 := Scalar.cmpi .slt v1020 c0_i32_490
  let v1025 : BitVec 32 := Scalar.extui v1024
  let v1026 : BitVec 32 := Scalar.subi v1023 v1025
  let c2_i32_488 : BitVec 32 := 2#32
  let c0_i32_491 : BitVec 32 := 0#32
  let v1027 : BitVec 1 := Scalar.cmpi .sgt c2_i32_488 c0_i32_491
  let v1028 : BitVec 32 := Scalar.extui v1027
  let c0_i32_492 : BitVec 32 := 0#32
  let v1029 : BitVec 1 := Scalar.cmpi .slt c2_i32_488 c0_i32_492
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_488
  let c0_i32_493 : BitVec 32 := 0#32
  let v1034 : BitVec 1 := Scalar.cmpi .ne v1033 c0_i32_493
  let v1035 : BitVec 1 := Scalar.andi v1032 v1034
  let v1021 : BitVec 32 := Scalar.divsi v1020 c2_i32_488
  let c1_i32_494 : BitVec 32 := 1#32
  let v1036 : BitVec 32 := Scalar.subi v1021 c1_i32_494
  let v1037 : BitVec 32 := Scalar.select v1035 v1036 v1021
  let c0_i32_505 : BitVec 32 := 0#32
  let c768_i32_497 : BitVec 32 := 768#32
  let v1041 : BitVec 32 := Scalar.subi c768_i32_497 v1019
  let c0_i32_499 : BitVec 32 := 0#32
  let v1043 : BitVec 1 := Scalar.cmpi .sgt v1041 c0_i32_499
  let v1044 : BitVec 32 := Scalar.extui v1043
  let c0_i32_500 : BitVec 32 := 0#32
  let v1045 : BitVec 1 := Scalar.cmpi .slt v1041 c0_i32_500
  let v1046 : BitVec 32 := Scalar.extui v1045
  let v1047 : BitVec 32 := Scalar.subi v1044 v1046
  let c2_i32_498 : BitVec 32 := 2#32
  let c0_i32_501 : BitVec 32 := 0#32
  let v1048 : BitVec 1 := Scalar.cmpi .sgt c2_i32_498 c0_i32_501
  let v1049 : BitVec 32 := Scalar.extui v1048
  let c0_i32_502 : BitVec 32 := 0#32
  let v1050 : BitVec 1 := Scalar.cmpi .slt c2_i32_498 c0_i32_502
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_498
  let c0_i32_503 : BitVec 32 := 0#32
  let v1055 : BitVec 1 := Scalar.cmpi .ne v1054 c0_i32_503
  let v1056 : BitVec 1 := Scalar.andi v1053 v1055
  let v1042 : BitVec 32 := Scalar.divsi v1041 c2_i32_498
  let c1_i32_504 : BitVec 32 := 1#32
  let v1057 : BitVec 32 := Scalar.subi v1042 c1_i32_504
  let v1058 : BitVec 32 := Scalar.select v1056 v1057 v1042
  let v1059 : BitVec 32 := Scalar.maxsi c0_i32_505 v1058
  let v1060 : BitVec 32 := Scalar.minsi v1037 v1059
  let c1_i32_516 : BitVec 32 := 1#32
  let arg23 : BitVec 32 := Scf.iv v1060 c1_i32_516 k0_t105
  let c2_i32_612 : BitVec 32 := 2#32
  let v1306 : BitVec 32 := Scalar.muli arg23 c2_i32_612
  let v1307 : BitVec 32 := Scalar.addi v1019 v1306
  let c768_i32_613 : BitVec 32 := 768#32
  let v1308 : BitVec 32 := Scalar.subi v1307 c768_i32_613
  let c0_i32_614 : BitVec 32 := 0#32
  ![v1308.toNat, 0]
def k0_off277 (v1017 : BitVec 32) (v1019 : BitVec 32) (k0_t105 : Fin (k0_t105_loop v1017 v1019).trips) : Fin 2 → Nat :=
  let c1_i32_611 : BitVec 32 := 1#32
  let v1304 : BitVec 32 := Scalar.shrsi v1019 c1_i32_611
  let c1_i32_487 : BitVec 32 := 1#32
  let v1020 : BitVec 32 := Scalar.addi v1017 c1_i32_487
  let c0_i32_489 : BitVec 32 := 0#32
  let v1022 : BitVec 1 := Scalar.cmpi .sgt v1020 c0_i32_489
  let v1023 : BitVec 32 := Scalar.extui v1022
  let c0_i32_490 : BitVec 32 := 0#32
  let v1024 : BitVec 1 := Scalar.cmpi .slt v1020 c0_i32_490
  let v1025 : BitVec 32 := Scalar.extui v1024
  let v1026 : BitVec 32 := Scalar.subi v1023 v1025
  let c2_i32_488 : BitVec 32 := 2#32
  let c0_i32_491 : BitVec 32 := 0#32
  let v1027 : BitVec 1 := Scalar.cmpi .sgt c2_i32_488 c0_i32_491
  let v1028 : BitVec 32 := Scalar.extui v1027
  let c0_i32_492 : BitVec 32 := 0#32
  let v1029 : BitVec 1 := Scalar.cmpi .slt c2_i32_488 c0_i32_492
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_488
  let c0_i32_493 : BitVec 32 := 0#32
  let v1034 : BitVec 1 := Scalar.cmpi .ne v1033 c0_i32_493
  let v1035 : BitVec 1 := Scalar.andi v1032 v1034
  let v1021 : BitVec 32 := Scalar.divsi v1020 c2_i32_488
  let c1_i32_494 : BitVec 32 := 1#32
  let v1036 : BitVec 32 := Scalar.subi v1021 c1_i32_494
  let v1037 : BitVec 32 := Scalar.select v1035 v1036 v1021
  let c0_i32_505 : BitVec 32 := 0#32
  let c768_i32_497 : BitVec 32 := 768#32
  let v1041 : BitVec 32 := Scalar.subi c768_i32_497 v1019
  let c0_i32_499 : BitVec 32 := 0#32
  let v1043 : BitVec 1 := Scalar.cmpi .sgt v1041 c0_i32_499
  let v1044 : BitVec 32 := Scalar.extui v1043
  let c0_i32_500 : BitVec 32 := 0#32
  let v1045 : BitVec 1 := Scalar.cmpi .slt v1041 c0_i32_500
  let v1046 : BitVec 32 := Scalar.extui v1045
  let v1047 : BitVec 32 := Scalar.subi v1044 v1046
  let c2_i32_498 : BitVec 32 := 2#32
  let c0_i32_501 : BitVec 32 := 0#32
  let v1048 : BitVec 1 := Scalar.cmpi .sgt c2_i32_498 c0_i32_501
  let v1049 : BitVec 32 := Scalar.extui v1048
  let c0_i32_502 : BitVec 32 := 0#32
  let v1050 : BitVec 1 := Scalar.cmpi .slt c2_i32_498 c0_i32_502
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_498
  let c0_i32_503 : BitVec 32 := 0#32
  let v1055 : BitVec 1 := Scalar.cmpi .ne v1054 c0_i32_503
  let v1056 : BitVec 1 := Scalar.andi v1053 v1055
  let v1042 : BitVec 32 := Scalar.divsi v1041 c2_i32_498
  let c1_i32_504 : BitVec 32 := 1#32
  let v1057 : BitVec 32 := Scalar.subi v1042 c1_i32_504
  let v1058 : BitVec 32 := Scalar.select v1056 v1057 v1042
  let v1059 : BitVec 32 := Scalar.maxsi c0_i32_505 v1058
  let v1060 : BitVec 32 := Scalar.minsi v1037 v1059
  let c1_i32_516 : BitVec 32 := 1#32
  let arg23 : BitVec 32 := Scf.iv v1060 c1_i32_516 k0_t105
  let v1305 : BitVec 32 := Scalar.addi v1304 arg23
  let c0_i32_615 : BitVec 32 := 0#32
  ![v1305.toNat, 0]
def k0_off278 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_495 : BitVec 32 := 16#32
  let v1038 : BitVec 32 := Scalar.muli arg21 c16_i32_495
  let c12_i32 : BitVec 32 := 12#32
  let v1039 : BitVec 32 := Scalar.addi v1038 c12_i32
  let c128_i32_496 : BitVec 32 := 128#32
  let v1040 : BitVec 32 := Scalar.muli v1039 c128_i32_496
  ![0, v1040.toNat]
@[reducible] def k0_t106_loop (v1017 : BitVec 32) (v1019 : BitVec 32) : Scf.Loop 32 :=
  let c1_i32_487 : BitVec 32 := 1#32
  let v1020 : BitVec 32 := Scalar.addi v1017 c1_i32_487
  let c0_i32_489 : BitVec 32 := 0#32
  let v1022 : BitVec 1 := Scalar.cmpi .sgt v1020 c0_i32_489
  let v1023 : BitVec 32 := Scalar.extui v1022
  let c0_i32_490 : BitVec 32 := 0#32
  let v1024 : BitVec 1 := Scalar.cmpi .slt v1020 c0_i32_490
  let v1025 : BitVec 32 := Scalar.extui v1024
  let v1026 : BitVec 32 := Scalar.subi v1023 v1025
  let c2_i32_488 : BitVec 32 := 2#32
  let c0_i32_491 : BitVec 32 := 0#32
  let v1027 : BitVec 1 := Scalar.cmpi .sgt c2_i32_488 c0_i32_491
  let v1028 : BitVec 32 := Scalar.extui v1027
  let c0_i32_492 : BitVec 32 := 0#32
  let v1029 : BitVec 1 := Scalar.cmpi .slt c2_i32_488 c0_i32_492
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_488
  let c0_i32_493 : BitVec 32 := 0#32
  let v1034 : BitVec 1 := Scalar.cmpi .ne v1033 c0_i32_493
  let v1035 : BitVec 1 := Scalar.andi v1032 v1034
  let v1021 : BitVec 32 := Scalar.divsi v1020 c2_i32_488
  let c1_i32_494 : BitVec 32 := 1#32
  let v1036 : BitVec 32 := Scalar.subi v1021 c1_i32_494
  let v1037 : BitVec 32 := Scalar.select v1035 v1036 v1021
  let c0_i32_505 : BitVec 32 := 0#32
  let c768_i32_497 : BitVec 32 := 768#32
  let v1041 : BitVec 32 := Scalar.subi c768_i32_497 v1019
  let c0_i32_499 : BitVec 32 := 0#32
  let v1043 : BitVec 1 := Scalar.cmpi .sgt v1041 c0_i32_499
  let v1044 : BitVec 32 := Scalar.extui v1043
  let c0_i32_500 : BitVec 32 := 0#32
  let v1045 : BitVec 1 := Scalar.cmpi .slt v1041 c0_i32_500
  let v1046 : BitVec 32 := Scalar.extui v1045
  let v1047 : BitVec 32 := Scalar.subi v1044 v1046
  let c2_i32_498 : BitVec 32 := 2#32
  let c0_i32_501 : BitVec 32 := 0#32
  let v1048 : BitVec 1 := Scalar.cmpi .sgt c2_i32_498 c0_i32_501
  let v1049 : BitVec 32 := Scalar.extui v1048
  let c0_i32_502 : BitVec 32 := 0#32
  let v1050 : BitVec 1 := Scalar.cmpi .slt c2_i32_498 c0_i32_502
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_498
  let c0_i32_503 : BitVec 32 := 0#32
  let v1055 : BitVec 1 := Scalar.cmpi .ne v1054 c0_i32_503
  let v1056 : BitVec 1 := Scalar.andi v1053 v1055
  let v1042 : BitVec 32 := Scalar.divsi v1041 c2_i32_498
  let c1_i32_504 : BitVec 32 := 1#32
  let v1057 : BitVec 32 := Scalar.subi v1042 c1_i32_504
  let v1058 : BitVec 32 := Scalar.select v1056 v1057 v1042
  let v1059 : BitVec 32 := Scalar.maxsi c0_i32_505 v1058
  let v1060 : BitVec 32 := Scalar.minsi v1037 v1059
  let c0_i32_514 : BitVec 32 := 0#32
  let c1152_i32_506 : BitVec 32 := 1152#32
  let v1061 : BitVec 32 := Scalar.subi c1152_i32_506 v1019
  let c0_i32_508 : BitVec 32 := 0#32
  let v1063 : BitVec 1 := Scalar.cmpi .sgt v1061 c0_i32_508
  let v1064 : BitVec 32 := Scalar.extui v1063
  let c0_i32_509 : BitVec 32 := 0#32
  let v1065 : BitVec 1 := Scalar.cmpi .slt v1061 c0_i32_509
  let v1066 : BitVec 32 := Scalar.extui v1065
  let v1067 : BitVec 32 := Scalar.subi v1064 v1066
  let c2_i32_507 : BitVec 32 := 2#32
  let c0_i32_510 : BitVec 32 := 0#32
  let v1068 : BitVec 1 := Scalar.cmpi .sgt c2_i32_507 c0_i32_510
  let v1069 : BitVec 32 := Scalar.extui v1068
  let c0_i32_511 : BitVec 32 := 0#32
  let v1070 : BitVec 1 := Scalar.cmpi .slt c2_i32_507 c0_i32_511
  let v1071 : BitVec 32 := Scalar.extui v1070
  let v1072 : BitVec 32 := Scalar.subi v1069 v1071
  let v1073 : BitVec 1 := Scalar.cmpi .ne v1067 v1072
  let v1074 : BitVec 32 := Scalar.remsi v1061 c2_i32_507
  let c0_i32_512 : BitVec 32 := 0#32
  let v1075 : BitVec 1 := Scalar.cmpi .ne v1074 c0_i32_512
  let v1076 : BitVec 1 := Scalar.andi v1073 v1075
  let v1062 : BitVec 32 := Scalar.divsi v1061 c2_i32_507
  let c1_i32_513 : BitVec 32 := 1#32
  let v1077 : BitVec 32 := Scalar.subi v1062 c1_i32_513
  let v1078 : BitVec 32 := Scalar.select v1076 v1077 v1062
  let v1079 : BitVec 32 := Scalar.maxsi c0_i32_514 v1078
  let v1080 : BitVec 32 := Scalar.minsi v1037 v1079
  let v1081 : BitVec 32 := Scalar.subi v1080 v1060
  let c1_i32_515 : BitVec 32 := 1#32
  let v1083 : BitVec 32 := Scalar.divsi v1081 c1_i32_515
  let v1084 : BitVec 32 := Scalar.muli v1083 c1_i32_515
  let v1085 : BitVec 32 := Scalar.addi v1060 v1084
  let v1082 : BitVec 32 := Scalar.addi v1060 v1081
  let c1_i32_517 : BitVec 32 := 1#32
  ⟨v1085, v1082, c1_i32_517⟩
def k0_off279 (v1017 : BitVec 32) (v1019 : BitVec 32) (k0_t106 : Fin (k0_t106_loop v1017 v1019).trips) : Fin 2 → Nat :=
  let c1_i32_487 : BitVec 32 := 1#32
  let v1020 : BitVec 32 := Scalar.addi v1017 c1_i32_487
  let c0_i32_489 : BitVec 32 := 0#32
  let v1022 : BitVec 1 := Scalar.cmpi .sgt v1020 c0_i32_489
  let v1023 : BitVec 32 := Scalar.extui v1022
  let c0_i32_490 : BitVec 32 := 0#32
  let v1024 : BitVec 1 := Scalar.cmpi .slt v1020 c0_i32_490
  let v1025 : BitVec 32 := Scalar.extui v1024
  let v1026 : BitVec 32 := Scalar.subi v1023 v1025
  let c2_i32_488 : BitVec 32 := 2#32
  let c0_i32_491 : BitVec 32 := 0#32
  let v1027 : BitVec 1 := Scalar.cmpi .sgt c2_i32_488 c0_i32_491
  let v1028 : BitVec 32 := Scalar.extui v1027
  let c0_i32_492 : BitVec 32 := 0#32
  let v1029 : BitVec 1 := Scalar.cmpi .slt c2_i32_488 c0_i32_492
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_488
  let c0_i32_493 : BitVec 32 := 0#32
  let v1034 : BitVec 1 := Scalar.cmpi .ne v1033 c0_i32_493
  let v1035 : BitVec 1 := Scalar.andi v1032 v1034
  let v1021 : BitVec 32 := Scalar.divsi v1020 c2_i32_488
  let c1_i32_494 : BitVec 32 := 1#32
  let v1036 : BitVec 32 := Scalar.subi v1021 c1_i32_494
  let v1037 : BitVec 32 := Scalar.select v1035 v1036 v1021
  let c0_i32_505 : BitVec 32 := 0#32
  let c768_i32_497 : BitVec 32 := 768#32
  let v1041 : BitVec 32 := Scalar.subi c768_i32_497 v1019
  let c0_i32_499 : BitVec 32 := 0#32
  let v1043 : BitVec 1 := Scalar.cmpi .sgt v1041 c0_i32_499
  let v1044 : BitVec 32 := Scalar.extui v1043
  let c0_i32_500 : BitVec 32 := 0#32
  let v1045 : BitVec 1 := Scalar.cmpi .slt v1041 c0_i32_500
  let v1046 : BitVec 32 := Scalar.extui v1045
  let v1047 : BitVec 32 := Scalar.subi v1044 v1046
  let c2_i32_498 : BitVec 32 := 2#32
  let c0_i32_501 : BitVec 32 := 0#32
  let v1048 : BitVec 1 := Scalar.cmpi .sgt c2_i32_498 c0_i32_501
  let v1049 : BitVec 32 := Scalar.extui v1048
  let c0_i32_502 : BitVec 32 := 0#32
  let v1050 : BitVec 1 := Scalar.cmpi .slt c2_i32_498 c0_i32_502
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_498
  let c0_i32_503 : BitVec 32 := 0#32
  let v1055 : BitVec 1 := Scalar.cmpi .ne v1054 c0_i32_503
  let v1056 : BitVec 1 := Scalar.andi v1053 v1055
  let v1042 : BitVec 32 := Scalar.divsi v1041 c2_i32_498
  let c1_i32_504 : BitVec 32 := 1#32
  let v1057 : BitVec 32 := Scalar.subi v1042 c1_i32_504
  let v1058 : BitVec 32 := Scalar.select v1056 v1057 v1042
  let v1059 : BitVec 32 := Scalar.maxsi c0_i32_505 v1058
  let v1060 : BitVec 32 := Scalar.minsi v1037 v1059
  let c0_i32_514 : BitVec 32 := 0#32
  let c1152_i32_506 : BitVec 32 := 1152#32
  let v1061 : BitVec 32 := Scalar.subi c1152_i32_506 v1019
  let c0_i32_508 : BitVec 32 := 0#32
  let v1063 : BitVec 1 := Scalar.cmpi .sgt v1061 c0_i32_508
  let v1064 : BitVec 32 := Scalar.extui v1063
  let c0_i32_509 : BitVec 32 := 0#32
  let v1065 : BitVec 1 := Scalar.cmpi .slt v1061 c0_i32_509
  let v1066 : BitVec 32 := Scalar.extui v1065
  let v1067 : BitVec 32 := Scalar.subi v1064 v1066
  let c2_i32_507 : BitVec 32 := 2#32
  let c0_i32_510 : BitVec 32 := 0#32
  let v1068 : BitVec 1 := Scalar.cmpi .sgt c2_i32_507 c0_i32_510
  let v1069 : BitVec 32 := Scalar.extui v1068
  let c0_i32_511 : BitVec 32 := 0#32
  let v1070 : BitVec 1 := Scalar.cmpi .slt c2_i32_507 c0_i32_511
  let v1071 : BitVec 32 := Scalar.extui v1070
  let v1072 : BitVec 32 := Scalar.subi v1069 v1071
  let v1073 : BitVec 1 := Scalar.cmpi .ne v1067 v1072
  let v1074 : BitVec 32 := Scalar.remsi v1061 c2_i32_507
  let c0_i32_512 : BitVec 32 := 0#32
  let v1075 : BitVec 1 := Scalar.cmpi .ne v1074 c0_i32_512
  let v1076 : BitVec 1 := Scalar.andi v1073 v1075
  let v1062 : BitVec 32 := Scalar.divsi v1061 c2_i32_507
  let c1_i32_513 : BitVec 32 := 1#32
  let v1077 : BitVec 32 := Scalar.subi v1062 c1_i32_513
  let v1078 : BitVec 32 := Scalar.select v1076 v1077 v1062
  let v1079 : BitVec 32 := Scalar.maxsi c0_i32_514 v1078
  let v1080 : BitVec 32 := Scalar.minsi v1037 v1079
  let v1081 : BitVec 32 := Scalar.subi v1080 v1060
  let c1_i32_515 : BitVec 32 := 1#32
  let v1083 : BitVec 32 := Scalar.divsi v1081 c1_i32_515
  let v1084 : BitVec 32 := Scalar.muli v1083 c1_i32_515
  let v1085 : BitVec 32 := Scalar.addi v1060 v1084
  let c1_i32_517 : BitVec 32 := 1#32
  let arg23 : BitVec 32 := Scf.iv v1085 c1_i32_517 k0_t106
  let c2_i32_612 : BitVec 32 := 2#32
  let v1306 : BitVec 32 := Scalar.muli arg23 c2_i32_612
  let v1307 : BitVec 32 := Scalar.addi v1019 v1306
  let c768_i32_613 : BitVec 32 := 768#32
  let v1308 : BitVec 32 := Scalar.subi v1307 c768_i32_613
  let c0_i32_614 : BitVec 32 := 0#32
  ![v1308.toNat, 0]
def k0_off280 (v1017 : BitVec 32) (v1019 : BitVec 32) (k0_t106 : Fin (k0_t106_loop v1017 v1019).trips) : Fin 2 → Nat :=
  let c1_i32_611 : BitVec 32 := 1#32
  let v1304 : BitVec 32 := Scalar.shrsi v1019 c1_i32_611
  let c1_i32_487 : BitVec 32 := 1#32
  let v1020 : BitVec 32 := Scalar.addi v1017 c1_i32_487
  let c0_i32_489 : BitVec 32 := 0#32
  let v1022 : BitVec 1 := Scalar.cmpi .sgt v1020 c0_i32_489
  let v1023 : BitVec 32 := Scalar.extui v1022
  let c0_i32_490 : BitVec 32 := 0#32
  let v1024 : BitVec 1 := Scalar.cmpi .slt v1020 c0_i32_490
  let v1025 : BitVec 32 := Scalar.extui v1024
  let v1026 : BitVec 32 := Scalar.subi v1023 v1025
  let c2_i32_488 : BitVec 32 := 2#32
  let c0_i32_491 : BitVec 32 := 0#32
  let v1027 : BitVec 1 := Scalar.cmpi .sgt c2_i32_488 c0_i32_491
  let v1028 : BitVec 32 := Scalar.extui v1027
  let c0_i32_492 : BitVec 32 := 0#32
  let v1029 : BitVec 1 := Scalar.cmpi .slt c2_i32_488 c0_i32_492
  let v1030 : BitVec 32 := Scalar.extui v1029
  let v1031 : BitVec 32 := Scalar.subi v1028 v1030
  let v1032 : BitVec 1 := Scalar.cmpi .ne v1026 v1031
  let v1033 : BitVec 32 := Scalar.remsi v1020 c2_i32_488
  let c0_i32_493 : BitVec 32 := 0#32
  let v1034 : BitVec 1 := Scalar.cmpi .ne v1033 c0_i32_493
  let v1035 : BitVec 1 := Scalar.andi v1032 v1034
  let v1021 : BitVec 32 := Scalar.divsi v1020 c2_i32_488
  let c1_i32_494 : BitVec 32 := 1#32
  let v1036 : BitVec 32 := Scalar.subi v1021 c1_i32_494
  let v1037 : BitVec 32 := Scalar.select v1035 v1036 v1021
  let c0_i32_505 : BitVec 32 := 0#32
  let c768_i32_497 : BitVec 32 := 768#32
  let v1041 : BitVec 32 := Scalar.subi c768_i32_497 v1019
  let c0_i32_499 : BitVec 32 := 0#32
  let v1043 : BitVec 1 := Scalar.cmpi .sgt v1041 c0_i32_499
  let v1044 : BitVec 32 := Scalar.extui v1043
  let c0_i32_500 : BitVec 32 := 0#32
  let v1045 : BitVec 1 := Scalar.cmpi .slt v1041 c0_i32_500
  let v1046 : BitVec 32 := Scalar.extui v1045
  let v1047 : BitVec 32 := Scalar.subi v1044 v1046
  let c2_i32_498 : BitVec 32 := 2#32
  let c0_i32_501 : BitVec 32 := 0#32
  let v1048 : BitVec 1 := Scalar.cmpi .sgt c2_i32_498 c0_i32_501
  let v1049 : BitVec 32 := Scalar.extui v1048
  let c0_i32_502 : BitVec 32 := 0#32
  let v1050 : BitVec 1 := Scalar.cmpi .slt c2_i32_498 c0_i32_502
  let v1051 : BitVec 32 := Scalar.extui v1050
  let v1052 : BitVec 32 := Scalar.subi v1049 v1051
  let v1053 : BitVec 1 := Scalar.cmpi .ne v1047 v1052
  let v1054 : BitVec 32 := Scalar.remsi v1041 c2_i32_498
  let c0_i32_503 : BitVec 32 := 0#32
  let v1055 : BitVec 1 := Scalar.cmpi .ne v1054 c0_i32_503
  let v1056 : BitVec 1 := Scalar.andi v1053 v1055
  let v1042 : BitVec 32 := Scalar.divsi v1041 c2_i32_498
  let c1_i32_504 : BitVec 32 := 1#32
  let v1057 : BitVec 32 := Scalar.subi v1042 c1_i32_504
  let v1058 : BitVec 32 := Scalar.select v1056 v1057 v1042
  let v1059 : BitVec 32 := Scalar.maxsi c0_i32_505 v1058
  let v1060 : BitVec 32 := Scalar.minsi v1037 v1059
  let c0_i32_514 : BitVec 32 := 0#32
  let c1152_i32_506 : BitVec 32 := 1152#32
  let v1061 : BitVec 32 := Scalar.subi c1152_i32_506 v1019
  let c0_i32_508 : BitVec 32 := 0#32
  let v1063 : BitVec 1 := Scalar.cmpi .sgt v1061 c0_i32_508
  let v1064 : BitVec 32 := Scalar.extui v1063
  let c0_i32_509 : BitVec 32 := 0#32
  let v1065 : BitVec 1 := Scalar.cmpi .slt v1061 c0_i32_509
  let v1066 : BitVec 32 := Scalar.extui v1065
  let v1067 : BitVec 32 := Scalar.subi v1064 v1066
  let c2_i32_507 : BitVec 32 := 2#32
  let c0_i32_510 : BitVec 32 := 0#32
  let v1068 : BitVec 1 := Scalar.cmpi .sgt c2_i32_507 c0_i32_510
  let v1069 : BitVec 32 := Scalar.extui v1068
  let c0_i32_511 : BitVec 32 := 0#32
  let v1070 : BitVec 1 := Scalar.cmpi .slt c2_i32_507 c0_i32_511
  let v1071 : BitVec 32 := Scalar.extui v1070
  let v1072 : BitVec 32 := Scalar.subi v1069 v1071
  let v1073 : BitVec 1 := Scalar.cmpi .ne v1067 v1072
  let v1074 : BitVec 32 := Scalar.remsi v1061 c2_i32_507
  let c0_i32_512 : BitVec 32 := 0#32
  let v1075 : BitVec 1 := Scalar.cmpi .ne v1074 c0_i32_512
  let v1076 : BitVec 1 := Scalar.andi v1073 v1075
  let v1062 : BitVec 32 := Scalar.divsi v1061 c2_i32_507
  let c1_i32_513 : BitVec 32 := 1#32
  let v1077 : BitVec 32 := Scalar.subi v1062 c1_i32_513
  let v1078 : BitVec 32 := Scalar.select v1076 v1077 v1062
  let v1079 : BitVec 32 := Scalar.maxsi c0_i32_514 v1078
  let v1080 : BitVec 32 := Scalar.minsi v1037 v1079
  let v1081 : BitVec 32 := Scalar.subi v1080 v1060
  let c1_i32_515 : BitVec 32 := 1#32
  let v1083 : BitVec 32 := Scalar.divsi v1081 c1_i32_515
  let v1084 : BitVec 32 := Scalar.muli v1083 c1_i32_515
  let v1085 : BitVec 32 := Scalar.addi v1060 v1084
  let c1_i32_517 : BitVec 32 := 1#32
  let arg23 : BitVec 32 := Scf.iv v1085 c1_i32_517 k0_t106
  let v1305 : BitVec 32 := Scalar.addi v1304 arg23
  let c0_i32_615 : BitVec 32 := 0#32
  ![v1305.toNat, 0]

def k0_chk56 (v1017 : BitVec 32) (v1019 : BitVec 32) : Prop :=
  ((k0_t105_loop v1017 v1019).OK) ∧
  (∀ k0_t105 : Fin (k0_t105_loop v1017 v1019).trips, ∀ a, (k0_off276 v1017 v1019 k0_t105) a + S2x128.size a ≤ S384x128.size a) ∧
  (∀ k0_t105 : Fin (k0_t105_loop v1017 v1019).trips, ∀ a, (k0_off277 v1017 v1019 k0_t105) a + S1x2.size a ≤ S584x2.size a) ∧
  ((k0_t106_loop v1017 v1019).OK) ∧
  (∀ k0_t106 : Fin (k0_t106_loop v1017 v1019).trips, ∀ a, (k0_off279 v1017 v1019 k0_t106) a + S2x128.size a ≤ S384x128.size a) ∧
  (∀ k0_t106 : Fin (k0_t106_loop v1017 v1019).trips, ∀ a, (k0_off280 v1017 v1019 k0_t106) a + S1x2.size a ≤ S584x2.size a)
theorem k0_t105_ok : ∀ (v1017 : BitVec 32) (v1019 : BitVec 32) (k0_hw56 : k0_chk56 v1017 v1019), (k0_t105_loop v1017 v1019).OK := fun v1017 v1019 k0_hw56 => k0_hw56.1
theorem k0_off276_inb : ∀ (v1017 : BitVec 32) (v1019 : BitVec 32) (k0_hw56 : k0_chk56 v1017 v1019) (k0_t105 : Fin (k0_t105_loop v1017 v1019).trips), ∀ a, (k0_off276 v1017 v1019 k0_t105) a + S2x128.size a ≤ S384x128.size a := fun v1017 v1019 k0_hw56 k0_t105 => k0_hw56.2.1 k0_t105
theorem k0_off277_inb : ∀ (v1017 : BitVec 32) (v1019 : BitVec 32) (k0_hw56 : k0_chk56 v1017 v1019) (k0_t105 : Fin (k0_t105_loop v1017 v1019).trips), ∀ a, (k0_off277 v1017 v1019 k0_t105) a + S1x2.size a ≤ S584x2.size a := fun v1017 v1019 k0_hw56 k0_t105 => k0_hw56.2.2.1 k0_t105
theorem k0_t106_ok : ∀ (v1017 : BitVec 32) (v1019 : BitVec 32) (k0_hw56 : k0_chk56 v1017 v1019), (k0_t106_loop v1017 v1019).OK := fun v1017 v1019 k0_hw56 => k0_hw56.2.2.2.1
theorem k0_off279_inb : ∀ (v1017 : BitVec 32) (v1019 : BitVec 32) (k0_hw56 : k0_chk56 v1017 v1019) (k0_t106 : Fin (k0_t106_loop v1017 v1019).trips), ∀ a, (k0_off279 v1017 v1019 k0_t106) a + S2x128.size a ≤ S384x128.size a := fun v1017 v1019 k0_hw56 k0_t106 => k0_hw56.2.2.2.2.1 k0_t106
theorem k0_off280_inb : ∀ (v1017 : BitVec 32) (v1019 : BitVec 32) (k0_hw56 : k0_chk56 v1017 v1019) (k0_t106 : Fin (k0_t106_loop v1017 v1019).trips), ∀ a, (k0_off280 v1017 v1019 k0_t106) a + S1x2.size a ≤ S584x2.size a := fun v1017 v1019 k0_hw56 k0_t106 => k0_hw56.2.2.2.2.2 k0_t106

def k0_off281 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_495 : BitVec 32 := 16#32
  let v1038 : BitVec 32 := Scalar.muli arg21 c16_i32_495
  let c12_i32 : BitVec 32 := 12#32
  let v1039 : BitVec 32 := Scalar.addi v1038 c12_i32
  let c128_i32_496 : BitVec 32 := 128#32
  let v1040 : BitVec 32 := Scalar.muli v1039 c128_i32_496
  ![0, v1040.toNat]
@[reducible] def k0_t107_loop (v1089 : BitVec 32) (v1091 : BitVec 32) : Scf.Loop 32 :=
  let c1_i32_518 : BitVec 32 := 1#32
  let v1092 : BitVec 32 := Scalar.addi v1089 c1_i32_518
  let c0_i32_520 : BitVec 32 := 0#32
  let v1094 : BitVec 1 := Scalar.cmpi .sgt v1092 c0_i32_520
  let v1095 : BitVec 32 := Scalar.extui v1094
  let c0_i32_521 : BitVec 32 := 0#32
  let v1096 : BitVec 1 := Scalar.cmpi .slt v1092 c0_i32_521
  let v1097 : BitVec 32 := Scalar.extui v1096
  let v1098 : BitVec 32 := Scalar.subi v1095 v1097
  let c2_i32_519 : BitVec 32 := 2#32
  let c0_i32_522 : BitVec 32 := 0#32
  let v1099 : BitVec 1 := Scalar.cmpi .sgt c2_i32_519 c0_i32_522
  let v1100 : BitVec 32 := Scalar.extui v1099
  let c0_i32_523 : BitVec 32 := 0#32
  let v1101 : BitVec 1 := Scalar.cmpi .slt c2_i32_519 c0_i32_523
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_519
  let c0_i32_524 : BitVec 32 := 0#32
  let v1106 : BitVec 1 := Scalar.cmpi .ne v1105 c0_i32_524
  let v1107 : BitVec 1 := Scalar.andi v1104 v1106
  let v1093 : BitVec 32 := Scalar.divsi v1092 c2_i32_519
  let c1_i32_525 : BitVec 32 := 1#32
  let v1108 : BitVec 32 := Scalar.subi v1093 c1_i32_525
  let v1109 : BitVec 32 := Scalar.select v1107 v1108 v1093
  let c0_i32_536 : BitVec 32 := 0#32
  let c768_i32_528 : BitVec 32 := 768#32
  let v1113 : BitVec 32 := Scalar.subi c768_i32_528 v1091
  let c0_i32_530 : BitVec 32 := 0#32
  let v1115 : BitVec 1 := Scalar.cmpi .sgt v1113 c0_i32_530
  let v1116 : BitVec 32 := Scalar.extui v1115
  let c0_i32_531 : BitVec 32 := 0#32
  let v1117 : BitVec 1 := Scalar.cmpi .slt v1113 c0_i32_531
  let v1118 : BitVec 32 := Scalar.extui v1117
  let v1119 : BitVec 32 := Scalar.subi v1116 v1118
  let c2_i32_529 : BitVec 32 := 2#32
  let c0_i32_532 : BitVec 32 := 0#32
  let v1120 : BitVec 1 := Scalar.cmpi .sgt c2_i32_529 c0_i32_532
  let v1121 : BitVec 32 := Scalar.extui v1120
  let c0_i32_533 : BitVec 32 := 0#32
  let v1122 : BitVec 1 := Scalar.cmpi .slt c2_i32_529 c0_i32_533
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_529
  let c0_i32_534 : BitVec 32 := 0#32
  let v1127 : BitVec 1 := Scalar.cmpi .ne v1126 c0_i32_534
  let v1128 : BitVec 1 := Scalar.andi v1125 v1127
  let v1114 : BitVec 32 := Scalar.divsi v1113 c2_i32_529
  let c1_i32_535 : BitVec 32 := 1#32
  let v1129 : BitVec 32 := Scalar.subi v1114 c1_i32_535
  let v1130 : BitVec 32 := Scalar.select v1128 v1129 v1114
  let v1131 : BitVec 32 := Scalar.maxsi c0_i32_536 v1130
  let v1132 : BitVec 32 := Scalar.minsi v1109 v1131
  let c0_i32_545 : BitVec 32 := 0#32
  let c1152_i32_537 : BitVec 32 := 1152#32
  let v1133 : BitVec 32 := Scalar.subi c1152_i32_537 v1091
  let c0_i32_539 : BitVec 32 := 0#32
  let v1135 : BitVec 1 := Scalar.cmpi .sgt v1133 c0_i32_539
  let v1136 : BitVec 32 := Scalar.extui v1135
  let c0_i32_540 : BitVec 32 := 0#32
  let v1137 : BitVec 1 := Scalar.cmpi .slt v1133 c0_i32_540
  let v1138 : BitVec 32 := Scalar.extui v1137
  let v1139 : BitVec 32 := Scalar.subi v1136 v1138
  let c2_i32_538 : BitVec 32 := 2#32
  let c0_i32_541 : BitVec 32 := 0#32
  let v1140 : BitVec 1 := Scalar.cmpi .sgt c2_i32_538 c0_i32_541
  let v1141 : BitVec 32 := Scalar.extui v1140
  let c0_i32_542 : BitVec 32 := 0#32
  let v1142 : BitVec 1 := Scalar.cmpi .slt c2_i32_538 c0_i32_542
  let v1143 : BitVec 32 := Scalar.extui v1142
  let v1144 : BitVec 32 := Scalar.subi v1141 v1143
  let v1145 : BitVec 1 := Scalar.cmpi .ne v1139 v1144
  let v1146 : BitVec 32 := Scalar.remsi v1133 c2_i32_538
  let c0_i32_543 : BitVec 32 := 0#32
  let v1147 : BitVec 1 := Scalar.cmpi .ne v1146 c0_i32_543
  let v1148 : BitVec 1 := Scalar.andi v1145 v1147
  let v1134 : BitVec 32 := Scalar.divsi v1133 c2_i32_538
  let c1_i32_544 : BitVec 32 := 1#32
  let v1149 : BitVec 32 := Scalar.subi v1134 c1_i32_544
  let v1150 : BitVec 32 := Scalar.select v1148 v1149 v1134
  let v1151 : BitVec 32 := Scalar.maxsi c0_i32_545 v1150
  let v1152 : BitVec 32 := Scalar.minsi v1109 v1151
  let v1153 : BitVec 32 := Scalar.subi v1152 v1132
  let c1_i32_546 : BitVec 32 := 1#32
  let v1155 : BitVec 32 := Scalar.divsi v1153 c1_i32_546
  let v1156 : BitVec 32 := Scalar.muli v1155 c1_i32_546
  let v1157 : BitVec 32 := Scalar.addi v1132 v1156
  let c1_i32_547 : BitVec 32 := 1#32
  ⟨v1132, v1157, c1_i32_547⟩

def k0_off282 (v1089 : BitVec 32) (v1091 : BitVec 32) (k0_t107 : Fin (k0_t107_loop v1089 v1091).trips) : Fin 2 → Nat :=
  let c1_i32_518 : BitVec 32 := 1#32
  let v1092 : BitVec 32 := Scalar.addi v1089 c1_i32_518
  let c0_i32_520 : BitVec 32 := 0#32
  let v1094 : BitVec 1 := Scalar.cmpi .sgt v1092 c0_i32_520
  let v1095 : BitVec 32 := Scalar.extui v1094
  let c0_i32_521 : BitVec 32 := 0#32
  let v1096 : BitVec 1 := Scalar.cmpi .slt v1092 c0_i32_521
  let v1097 : BitVec 32 := Scalar.extui v1096
  let v1098 : BitVec 32 := Scalar.subi v1095 v1097
  let c2_i32_519 : BitVec 32 := 2#32
  let c0_i32_522 : BitVec 32 := 0#32
  let v1099 : BitVec 1 := Scalar.cmpi .sgt c2_i32_519 c0_i32_522
  let v1100 : BitVec 32 := Scalar.extui v1099
  let c0_i32_523 : BitVec 32 := 0#32
  let v1101 : BitVec 1 := Scalar.cmpi .slt c2_i32_519 c0_i32_523
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_519
  let c0_i32_524 : BitVec 32 := 0#32
  let v1106 : BitVec 1 := Scalar.cmpi .ne v1105 c0_i32_524
  let v1107 : BitVec 1 := Scalar.andi v1104 v1106
  let v1093 : BitVec 32 := Scalar.divsi v1092 c2_i32_519
  let c1_i32_525 : BitVec 32 := 1#32
  let v1108 : BitVec 32 := Scalar.subi v1093 c1_i32_525
  let v1109 : BitVec 32 := Scalar.select v1107 v1108 v1093
  let c0_i32_536 : BitVec 32 := 0#32
  let c768_i32_528 : BitVec 32 := 768#32
  let v1113 : BitVec 32 := Scalar.subi c768_i32_528 v1091
  let c0_i32_530 : BitVec 32 := 0#32
  let v1115 : BitVec 1 := Scalar.cmpi .sgt v1113 c0_i32_530
  let v1116 : BitVec 32 := Scalar.extui v1115
  let c0_i32_531 : BitVec 32 := 0#32
  let v1117 : BitVec 1 := Scalar.cmpi .slt v1113 c0_i32_531
  let v1118 : BitVec 32 := Scalar.extui v1117
  let v1119 : BitVec 32 := Scalar.subi v1116 v1118
  let c2_i32_529 : BitVec 32 := 2#32
  let c0_i32_532 : BitVec 32 := 0#32
  let v1120 : BitVec 1 := Scalar.cmpi .sgt c2_i32_529 c0_i32_532
  let v1121 : BitVec 32 := Scalar.extui v1120
  let c0_i32_533 : BitVec 32 := 0#32
  let v1122 : BitVec 1 := Scalar.cmpi .slt c2_i32_529 c0_i32_533
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_529
  let c0_i32_534 : BitVec 32 := 0#32
  let v1127 : BitVec 1 := Scalar.cmpi .ne v1126 c0_i32_534
  let v1128 : BitVec 1 := Scalar.andi v1125 v1127
  let v1114 : BitVec 32 := Scalar.divsi v1113 c2_i32_529
  let c1_i32_535 : BitVec 32 := 1#32
  let v1129 : BitVec 32 := Scalar.subi v1114 c1_i32_535
  let v1130 : BitVec 32 := Scalar.select v1128 v1129 v1114
  let v1131 : BitVec 32 := Scalar.maxsi c0_i32_536 v1130
  let v1132 : BitVec 32 := Scalar.minsi v1109 v1131
  let c1_i32_547 : BitVec 32 := 1#32
  let arg23 : BitVec 32 := Scf.iv v1132 c1_i32_547 k0_t107
  let c2_i32_612 : BitVec 32 := 2#32
  let v1306 : BitVec 32 := Scalar.muli arg23 c2_i32_612
  let v1307 : BitVec 32 := Scalar.addi v1091 v1306
  let c768_i32_613 : BitVec 32 := 768#32
  let v1308 : BitVec 32 := Scalar.subi v1307 c768_i32_613
  let c0_i32_614 : BitVec 32 := 0#32
  ![v1308.toNat, 0]
def k0_off283 (v1089 : BitVec 32) (v1091 : BitVec 32) (k0_t107 : Fin (k0_t107_loop v1089 v1091).trips) : Fin 2 → Nat :=
  let c1_i32_611 : BitVec 32 := 1#32
  let v1304 : BitVec 32 := Scalar.shrsi v1091 c1_i32_611
  let c1_i32_518 : BitVec 32 := 1#32
  let v1092 : BitVec 32 := Scalar.addi v1089 c1_i32_518
  let c0_i32_520 : BitVec 32 := 0#32
  let v1094 : BitVec 1 := Scalar.cmpi .sgt v1092 c0_i32_520
  let v1095 : BitVec 32 := Scalar.extui v1094
  let c0_i32_521 : BitVec 32 := 0#32
  let v1096 : BitVec 1 := Scalar.cmpi .slt v1092 c0_i32_521
  let v1097 : BitVec 32 := Scalar.extui v1096
  let v1098 : BitVec 32 := Scalar.subi v1095 v1097
  let c2_i32_519 : BitVec 32 := 2#32
  let c0_i32_522 : BitVec 32 := 0#32
  let v1099 : BitVec 1 := Scalar.cmpi .sgt c2_i32_519 c0_i32_522
  let v1100 : BitVec 32 := Scalar.extui v1099
  let c0_i32_523 : BitVec 32 := 0#32
  let v1101 : BitVec 1 := Scalar.cmpi .slt c2_i32_519 c0_i32_523
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_519
  let c0_i32_524 : BitVec 32 := 0#32
  let v1106 : BitVec 1 := Scalar.cmpi .ne v1105 c0_i32_524
  let v1107 : BitVec 1 := Scalar.andi v1104 v1106
  let v1093 : BitVec 32 := Scalar.divsi v1092 c2_i32_519
  let c1_i32_525 : BitVec 32 := 1#32
  let v1108 : BitVec 32 := Scalar.subi v1093 c1_i32_525
  let v1109 : BitVec 32 := Scalar.select v1107 v1108 v1093
  let c0_i32_536 : BitVec 32 := 0#32
  let c768_i32_528 : BitVec 32 := 768#32
  let v1113 : BitVec 32 := Scalar.subi c768_i32_528 v1091
  let c0_i32_530 : BitVec 32 := 0#32
  let v1115 : BitVec 1 := Scalar.cmpi .sgt v1113 c0_i32_530
  let v1116 : BitVec 32 := Scalar.extui v1115
  let c0_i32_531 : BitVec 32 := 0#32
  let v1117 : BitVec 1 := Scalar.cmpi .slt v1113 c0_i32_531
  let v1118 : BitVec 32 := Scalar.extui v1117
  let v1119 : BitVec 32 := Scalar.subi v1116 v1118
  let c2_i32_529 : BitVec 32 := 2#32
  let c0_i32_532 : BitVec 32 := 0#32
  let v1120 : BitVec 1 := Scalar.cmpi .sgt c2_i32_529 c0_i32_532
  let v1121 : BitVec 32 := Scalar.extui v1120
  let c0_i32_533 : BitVec 32 := 0#32
  let v1122 : BitVec 1 := Scalar.cmpi .slt c2_i32_529 c0_i32_533
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_529
  let c0_i32_534 : BitVec 32 := 0#32
  let v1127 : BitVec 1 := Scalar.cmpi .ne v1126 c0_i32_534
  let v1128 : BitVec 1 := Scalar.andi v1125 v1127
  let v1114 : BitVec 32 := Scalar.divsi v1113 c2_i32_529
  let c1_i32_535 : BitVec 32 := 1#32
  let v1129 : BitVec 32 := Scalar.subi v1114 c1_i32_535
  let v1130 : BitVec 32 := Scalar.select v1128 v1129 v1114
  let v1131 : BitVec 32 := Scalar.maxsi c0_i32_536 v1130
  let v1132 : BitVec 32 := Scalar.minsi v1109 v1131
  let c1_i32_547 : BitVec 32 := 1#32
  let arg23 : BitVec 32 := Scf.iv v1132 c1_i32_547 k0_t107
  let v1305 : BitVec 32 := Scalar.addi v1304 arg23
  let c0_i32_615 : BitVec 32 := 0#32
  ![v1305.toNat, 0]
def k0_off284 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_526 : BitVec 32 := 16#32
  let v1110 : BitVec 32 := Scalar.muli arg21 c16_i32_526
  let c13_i32 : BitVec 32 := 13#32
  let v1111 : BitVec 32 := Scalar.addi v1110 c13_i32
  let c128_i32_527 : BitVec 32 := 128#32
  let v1112 : BitVec 32 := Scalar.muli v1111 c128_i32_527
  ![0, v1112.toNat]
@[reducible] def k0_t108_loop (v1089 : BitVec 32) (v1091 : BitVec 32) : Scf.Loop 32 :=
  let c1_i32_518 : BitVec 32 := 1#32
  let v1092 : BitVec 32 := Scalar.addi v1089 c1_i32_518
  let c0_i32_520 : BitVec 32 := 0#32
  let v1094 : BitVec 1 := Scalar.cmpi .sgt v1092 c0_i32_520
  let v1095 : BitVec 32 := Scalar.extui v1094
  let c0_i32_521 : BitVec 32 := 0#32
  let v1096 : BitVec 1 := Scalar.cmpi .slt v1092 c0_i32_521
  let v1097 : BitVec 32 := Scalar.extui v1096
  let v1098 : BitVec 32 := Scalar.subi v1095 v1097
  let c2_i32_519 : BitVec 32 := 2#32
  let c0_i32_522 : BitVec 32 := 0#32
  let v1099 : BitVec 1 := Scalar.cmpi .sgt c2_i32_519 c0_i32_522
  let v1100 : BitVec 32 := Scalar.extui v1099
  let c0_i32_523 : BitVec 32 := 0#32
  let v1101 : BitVec 1 := Scalar.cmpi .slt c2_i32_519 c0_i32_523
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_519
  let c0_i32_524 : BitVec 32 := 0#32
  let v1106 : BitVec 1 := Scalar.cmpi .ne v1105 c0_i32_524
  let v1107 : BitVec 1 := Scalar.andi v1104 v1106
  let v1093 : BitVec 32 := Scalar.divsi v1092 c2_i32_519
  let c1_i32_525 : BitVec 32 := 1#32
  let v1108 : BitVec 32 := Scalar.subi v1093 c1_i32_525
  let v1109 : BitVec 32 := Scalar.select v1107 v1108 v1093
  let c0_i32_536 : BitVec 32 := 0#32
  let c768_i32_528 : BitVec 32 := 768#32
  let v1113 : BitVec 32 := Scalar.subi c768_i32_528 v1091
  let c0_i32_530 : BitVec 32 := 0#32
  let v1115 : BitVec 1 := Scalar.cmpi .sgt v1113 c0_i32_530
  let v1116 : BitVec 32 := Scalar.extui v1115
  let c0_i32_531 : BitVec 32 := 0#32
  let v1117 : BitVec 1 := Scalar.cmpi .slt v1113 c0_i32_531
  let v1118 : BitVec 32 := Scalar.extui v1117
  let v1119 : BitVec 32 := Scalar.subi v1116 v1118
  let c2_i32_529 : BitVec 32 := 2#32
  let c0_i32_532 : BitVec 32 := 0#32
  let v1120 : BitVec 1 := Scalar.cmpi .sgt c2_i32_529 c0_i32_532
  let v1121 : BitVec 32 := Scalar.extui v1120
  let c0_i32_533 : BitVec 32 := 0#32
  let v1122 : BitVec 1 := Scalar.cmpi .slt c2_i32_529 c0_i32_533
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_529
  let c0_i32_534 : BitVec 32 := 0#32
  let v1127 : BitVec 1 := Scalar.cmpi .ne v1126 c0_i32_534
  let v1128 : BitVec 1 := Scalar.andi v1125 v1127
  let v1114 : BitVec 32 := Scalar.divsi v1113 c2_i32_529
  let c1_i32_535 : BitVec 32 := 1#32
  let v1129 : BitVec 32 := Scalar.subi v1114 c1_i32_535
  let v1130 : BitVec 32 := Scalar.select v1128 v1129 v1114
  let v1131 : BitVec 32 := Scalar.maxsi c0_i32_536 v1130
  let v1132 : BitVec 32 := Scalar.minsi v1109 v1131
  let c0_i32_545 : BitVec 32 := 0#32
  let c1152_i32_537 : BitVec 32 := 1152#32
  let v1133 : BitVec 32 := Scalar.subi c1152_i32_537 v1091
  let c0_i32_539 : BitVec 32 := 0#32
  let v1135 : BitVec 1 := Scalar.cmpi .sgt v1133 c0_i32_539
  let v1136 : BitVec 32 := Scalar.extui v1135
  let c0_i32_540 : BitVec 32 := 0#32
  let v1137 : BitVec 1 := Scalar.cmpi .slt v1133 c0_i32_540
  let v1138 : BitVec 32 := Scalar.extui v1137
  let v1139 : BitVec 32 := Scalar.subi v1136 v1138
  let c2_i32_538 : BitVec 32 := 2#32
  let c0_i32_541 : BitVec 32 := 0#32
  let v1140 : BitVec 1 := Scalar.cmpi .sgt c2_i32_538 c0_i32_541
  let v1141 : BitVec 32 := Scalar.extui v1140
  let c0_i32_542 : BitVec 32 := 0#32
  let v1142 : BitVec 1 := Scalar.cmpi .slt c2_i32_538 c0_i32_542
  let v1143 : BitVec 32 := Scalar.extui v1142
  let v1144 : BitVec 32 := Scalar.subi v1141 v1143
  let v1145 : BitVec 1 := Scalar.cmpi .ne v1139 v1144
  let v1146 : BitVec 32 := Scalar.remsi v1133 c2_i32_538
  let c0_i32_543 : BitVec 32 := 0#32
  let v1147 : BitVec 1 := Scalar.cmpi .ne v1146 c0_i32_543
  let v1148 : BitVec 1 := Scalar.andi v1145 v1147
  let v1134 : BitVec 32 := Scalar.divsi v1133 c2_i32_538
  let c1_i32_544 : BitVec 32 := 1#32
  let v1149 : BitVec 32 := Scalar.subi v1134 c1_i32_544
  let v1150 : BitVec 32 := Scalar.select v1148 v1149 v1134
  let v1151 : BitVec 32 := Scalar.maxsi c0_i32_545 v1150
  let v1152 : BitVec 32 := Scalar.minsi v1109 v1151
  let v1153 : BitVec 32 := Scalar.subi v1152 v1132
  let c1_i32_546 : BitVec 32 := 1#32
  let v1155 : BitVec 32 := Scalar.divsi v1153 c1_i32_546
  let v1156 : BitVec 32 := Scalar.muli v1155 c1_i32_546
  let v1157 : BitVec 32 := Scalar.addi v1132 v1156
  let v1154 : BitVec 32 := Scalar.addi v1132 v1153
  let c1_i32_548 : BitVec 32 := 1#32
  ⟨v1157, v1154, c1_i32_548⟩
def k0_off285 (v1089 : BitVec 32) (v1091 : BitVec 32) (k0_t108 : Fin (k0_t108_loop v1089 v1091).trips) : Fin 2 → Nat :=
  let c1_i32_518 : BitVec 32 := 1#32
  let v1092 : BitVec 32 := Scalar.addi v1089 c1_i32_518
  let c0_i32_520 : BitVec 32 := 0#32
  let v1094 : BitVec 1 := Scalar.cmpi .sgt v1092 c0_i32_520
  let v1095 : BitVec 32 := Scalar.extui v1094
  let c0_i32_521 : BitVec 32 := 0#32
  let v1096 : BitVec 1 := Scalar.cmpi .slt v1092 c0_i32_521
  let v1097 : BitVec 32 := Scalar.extui v1096
  let v1098 : BitVec 32 := Scalar.subi v1095 v1097
  let c2_i32_519 : BitVec 32 := 2#32
  let c0_i32_522 : BitVec 32 := 0#32
  let v1099 : BitVec 1 := Scalar.cmpi .sgt c2_i32_519 c0_i32_522
  let v1100 : BitVec 32 := Scalar.extui v1099
  let c0_i32_523 : BitVec 32 := 0#32
  let v1101 : BitVec 1 := Scalar.cmpi .slt c2_i32_519 c0_i32_523
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_519
  let c0_i32_524 : BitVec 32 := 0#32
  let v1106 : BitVec 1 := Scalar.cmpi .ne v1105 c0_i32_524
  let v1107 : BitVec 1 := Scalar.andi v1104 v1106
  let v1093 : BitVec 32 := Scalar.divsi v1092 c2_i32_519
  let c1_i32_525 : BitVec 32 := 1#32
  let v1108 : BitVec 32 := Scalar.subi v1093 c1_i32_525
  let v1109 : BitVec 32 := Scalar.select v1107 v1108 v1093
  let c0_i32_536 : BitVec 32 := 0#32
  let c768_i32_528 : BitVec 32 := 768#32
  let v1113 : BitVec 32 := Scalar.subi c768_i32_528 v1091
  let c0_i32_530 : BitVec 32 := 0#32
  let v1115 : BitVec 1 := Scalar.cmpi .sgt v1113 c0_i32_530
  let v1116 : BitVec 32 := Scalar.extui v1115
  let c0_i32_531 : BitVec 32 := 0#32
  let v1117 : BitVec 1 := Scalar.cmpi .slt v1113 c0_i32_531
  let v1118 : BitVec 32 := Scalar.extui v1117
  let v1119 : BitVec 32 := Scalar.subi v1116 v1118
  let c2_i32_529 : BitVec 32 := 2#32
  let c0_i32_532 : BitVec 32 := 0#32
  let v1120 : BitVec 1 := Scalar.cmpi .sgt c2_i32_529 c0_i32_532
  let v1121 : BitVec 32 := Scalar.extui v1120
  let c0_i32_533 : BitVec 32 := 0#32
  let v1122 : BitVec 1 := Scalar.cmpi .slt c2_i32_529 c0_i32_533
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_529
  let c0_i32_534 : BitVec 32 := 0#32
  let v1127 : BitVec 1 := Scalar.cmpi .ne v1126 c0_i32_534
  let v1128 : BitVec 1 := Scalar.andi v1125 v1127
  let v1114 : BitVec 32 := Scalar.divsi v1113 c2_i32_529
  let c1_i32_535 : BitVec 32 := 1#32
  let v1129 : BitVec 32 := Scalar.subi v1114 c1_i32_535
  let v1130 : BitVec 32 := Scalar.select v1128 v1129 v1114
  let v1131 : BitVec 32 := Scalar.maxsi c0_i32_536 v1130
  let v1132 : BitVec 32 := Scalar.minsi v1109 v1131
  let c0_i32_545 : BitVec 32 := 0#32
  let c1152_i32_537 : BitVec 32 := 1152#32
  let v1133 : BitVec 32 := Scalar.subi c1152_i32_537 v1091
  let c0_i32_539 : BitVec 32 := 0#32
  let v1135 : BitVec 1 := Scalar.cmpi .sgt v1133 c0_i32_539
  let v1136 : BitVec 32 := Scalar.extui v1135
  let c0_i32_540 : BitVec 32 := 0#32
  let v1137 : BitVec 1 := Scalar.cmpi .slt v1133 c0_i32_540
  let v1138 : BitVec 32 := Scalar.extui v1137
  let v1139 : BitVec 32 := Scalar.subi v1136 v1138
  let c2_i32_538 : BitVec 32 := 2#32
  let c0_i32_541 : BitVec 32 := 0#32
  let v1140 : BitVec 1 := Scalar.cmpi .sgt c2_i32_538 c0_i32_541
  let v1141 : BitVec 32 := Scalar.extui v1140
  let c0_i32_542 : BitVec 32 := 0#32
  let v1142 : BitVec 1 := Scalar.cmpi .slt c2_i32_538 c0_i32_542
  let v1143 : BitVec 32 := Scalar.extui v1142
  let v1144 : BitVec 32 := Scalar.subi v1141 v1143
  let v1145 : BitVec 1 := Scalar.cmpi .ne v1139 v1144
  let v1146 : BitVec 32 := Scalar.remsi v1133 c2_i32_538
  let c0_i32_543 : BitVec 32 := 0#32
  let v1147 : BitVec 1 := Scalar.cmpi .ne v1146 c0_i32_543
  let v1148 : BitVec 1 := Scalar.andi v1145 v1147
  let v1134 : BitVec 32 := Scalar.divsi v1133 c2_i32_538
  let c1_i32_544 : BitVec 32 := 1#32
  let v1149 : BitVec 32 := Scalar.subi v1134 c1_i32_544
  let v1150 : BitVec 32 := Scalar.select v1148 v1149 v1134
  let v1151 : BitVec 32 := Scalar.maxsi c0_i32_545 v1150
  let v1152 : BitVec 32 := Scalar.minsi v1109 v1151
  let v1153 : BitVec 32 := Scalar.subi v1152 v1132
  let c1_i32_546 : BitVec 32 := 1#32
  let v1155 : BitVec 32 := Scalar.divsi v1153 c1_i32_546
  let v1156 : BitVec 32 := Scalar.muli v1155 c1_i32_546
  let v1157 : BitVec 32 := Scalar.addi v1132 v1156
  let c1_i32_548 : BitVec 32 := 1#32
  let arg23 : BitVec 32 := Scf.iv v1157 c1_i32_548 k0_t108
  let c2_i32_612 : BitVec 32 := 2#32
  let v1306 : BitVec 32 := Scalar.muli arg23 c2_i32_612
  let v1307 : BitVec 32 := Scalar.addi v1091 v1306
  let c768_i32_613 : BitVec 32 := 768#32
  let v1308 : BitVec 32 := Scalar.subi v1307 c768_i32_613
  let c0_i32_614 : BitVec 32 := 0#32
  ![v1308.toNat, 0]
def k0_off286 (v1089 : BitVec 32) (v1091 : BitVec 32) (k0_t108 : Fin (k0_t108_loop v1089 v1091).trips) : Fin 2 → Nat :=
  let c1_i32_611 : BitVec 32 := 1#32
  let v1304 : BitVec 32 := Scalar.shrsi v1091 c1_i32_611
  let c1_i32_518 : BitVec 32 := 1#32
  let v1092 : BitVec 32 := Scalar.addi v1089 c1_i32_518
  let c0_i32_520 : BitVec 32 := 0#32
  let v1094 : BitVec 1 := Scalar.cmpi .sgt v1092 c0_i32_520
  let v1095 : BitVec 32 := Scalar.extui v1094
  let c0_i32_521 : BitVec 32 := 0#32
  let v1096 : BitVec 1 := Scalar.cmpi .slt v1092 c0_i32_521
  let v1097 : BitVec 32 := Scalar.extui v1096
  let v1098 : BitVec 32 := Scalar.subi v1095 v1097
  let c2_i32_519 : BitVec 32 := 2#32
  let c0_i32_522 : BitVec 32 := 0#32
  let v1099 : BitVec 1 := Scalar.cmpi .sgt c2_i32_519 c0_i32_522
  let v1100 : BitVec 32 := Scalar.extui v1099
  let c0_i32_523 : BitVec 32 := 0#32
  let v1101 : BitVec 1 := Scalar.cmpi .slt c2_i32_519 c0_i32_523
  let v1102 : BitVec 32 := Scalar.extui v1101
  let v1103 : BitVec 32 := Scalar.subi v1100 v1102
  let v1104 : BitVec 1 := Scalar.cmpi .ne v1098 v1103
  let v1105 : BitVec 32 := Scalar.remsi v1092 c2_i32_519
  let c0_i32_524 : BitVec 32 := 0#32
  let v1106 : BitVec 1 := Scalar.cmpi .ne v1105 c0_i32_524
  let v1107 : BitVec 1 := Scalar.andi v1104 v1106
  let v1093 : BitVec 32 := Scalar.divsi v1092 c2_i32_519
  let c1_i32_525 : BitVec 32 := 1#32
  let v1108 : BitVec 32 := Scalar.subi v1093 c1_i32_525
  let v1109 : BitVec 32 := Scalar.select v1107 v1108 v1093
  let c0_i32_536 : BitVec 32 := 0#32
  let c768_i32_528 : BitVec 32 := 768#32
  let v1113 : BitVec 32 := Scalar.subi c768_i32_528 v1091
  let c0_i32_530 : BitVec 32 := 0#32
  let v1115 : BitVec 1 := Scalar.cmpi .sgt v1113 c0_i32_530
  let v1116 : BitVec 32 := Scalar.extui v1115
  let c0_i32_531 : BitVec 32 := 0#32
  let v1117 : BitVec 1 := Scalar.cmpi .slt v1113 c0_i32_531
  let v1118 : BitVec 32 := Scalar.extui v1117
  let v1119 : BitVec 32 := Scalar.subi v1116 v1118
  let c2_i32_529 : BitVec 32 := 2#32
  let c0_i32_532 : BitVec 32 := 0#32
  let v1120 : BitVec 1 := Scalar.cmpi .sgt c2_i32_529 c0_i32_532
  let v1121 : BitVec 32 := Scalar.extui v1120
  let c0_i32_533 : BitVec 32 := 0#32
  let v1122 : BitVec 1 := Scalar.cmpi .slt c2_i32_529 c0_i32_533
  let v1123 : BitVec 32 := Scalar.extui v1122
  let v1124 : BitVec 32 := Scalar.subi v1121 v1123
  let v1125 : BitVec 1 := Scalar.cmpi .ne v1119 v1124
  let v1126 : BitVec 32 := Scalar.remsi v1113 c2_i32_529
  let c0_i32_534 : BitVec 32 := 0#32
  let v1127 : BitVec 1 := Scalar.cmpi .ne v1126 c0_i32_534
  let v1128 : BitVec 1 := Scalar.andi v1125 v1127
  let v1114 : BitVec 32 := Scalar.divsi v1113 c2_i32_529
  let c1_i32_535 : BitVec 32 := 1#32
  let v1129 : BitVec 32 := Scalar.subi v1114 c1_i32_535
  let v1130 : BitVec 32 := Scalar.select v1128 v1129 v1114
  let v1131 : BitVec 32 := Scalar.maxsi c0_i32_536 v1130
  let v1132 : BitVec 32 := Scalar.minsi v1109 v1131
  let c0_i32_545 : BitVec 32 := 0#32
  let c1152_i32_537 : BitVec 32 := 1152#32
  let v1133 : BitVec 32 := Scalar.subi c1152_i32_537 v1091
  let c0_i32_539 : BitVec 32 := 0#32
  let v1135 : BitVec 1 := Scalar.cmpi .sgt v1133 c0_i32_539
  let v1136 : BitVec 32 := Scalar.extui v1135
  let c0_i32_540 : BitVec 32 := 0#32
  let v1137 : BitVec 1 := Scalar.cmpi .slt v1133 c0_i32_540
  let v1138 : BitVec 32 := Scalar.extui v1137
  let v1139 : BitVec 32 := Scalar.subi v1136 v1138
  let c2_i32_538 : BitVec 32 := 2#32
  let c0_i32_541 : BitVec 32 := 0#32
  let v1140 : BitVec 1 := Scalar.cmpi .sgt c2_i32_538 c0_i32_541
  let v1141 : BitVec 32 := Scalar.extui v1140
  let c0_i32_542 : BitVec 32 := 0#32
  let v1142 : BitVec 1 := Scalar.cmpi .slt c2_i32_538 c0_i32_542
  let v1143 : BitVec 32 := Scalar.extui v1142
  let v1144 : BitVec 32 := Scalar.subi v1141 v1143
  let v1145 : BitVec 1 := Scalar.cmpi .ne v1139 v1144
  let v1146 : BitVec 32 := Scalar.remsi v1133 c2_i32_538
  let c0_i32_543 : BitVec 32 := 0#32
  let v1147 : BitVec 1 := Scalar.cmpi .ne v1146 c0_i32_543
  let v1148 : BitVec 1 := Scalar.andi v1145 v1147
  let v1134 : BitVec 32 := Scalar.divsi v1133 c2_i32_538
  let c1_i32_544 : BitVec 32 := 1#32
  let v1149 : BitVec 32 := Scalar.subi v1134 c1_i32_544
  let v1150 : BitVec 32 := Scalar.select v1148 v1149 v1134
  let v1151 : BitVec 32 := Scalar.maxsi c0_i32_545 v1150
  let v1152 : BitVec 32 := Scalar.minsi v1109 v1151
  let v1153 : BitVec 32 := Scalar.subi v1152 v1132
  let c1_i32_546 : BitVec 32 := 1#32
  let v1155 : BitVec 32 := Scalar.divsi v1153 c1_i32_546
  let v1156 : BitVec 32 := Scalar.muli v1155 c1_i32_546
  let v1157 : BitVec 32 := Scalar.addi v1132 v1156
  let c1_i32_548 : BitVec 32 := 1#32
  let arg23 : BitVec 32 := Scf.iv v1157 c1_i32_548 k0_t108
  let v1305 : BitVec 32 := Scalar.addi v1304 arg23
  let c0_i32_615 : BitVec 32 := 0#32
  ![v1305.toNat, 0]

def k0_chk57 (v1089 : BitVec 32) (v1091 : BitVec 32) : Prop :=
  ((k0_t107_loop v1089 v1091).OK) ∧
  (∀ k0_t107 : Fin (k0_t107_loop v1089 v1091).trips, ∀ a, (k0_off282 v1089 v1091 k0_t107) a + S2x128.size a ≤ S384x128.size a) ∧
  (∀ k0_t107 : Fin (k0_t107_loop v1089 v1091).trips, ∀ a, (k0_off283 v1089 v1091 k0_t107) a + S1x2.size a ≤ S584x2.size a) ∧
  ((k0_t108_loop v1089 v1091).OK) ∧
  (∀ k0_t108 : Fin (k0_t108_loop v1089 v1091).trips, ∀ a, (k0_off285 v1089 v1091 k0_t108) a + S2x128.size a ≤ S384x128.size a) ∧
  (∀ k0_t108 : Fin (k0_t108_loop v1089 v1091).trips, ∀ a, (k0_off286 v1089 v1091 k0_t108) a + S1x2.size a ≤ S584x2.size a)
theorem k0_t107_ok : ∀ (v1089 : BitVec 32) (v1091 : BitVec 32) (k0_hw57 : k0_chk57 v1089 v1091), (k0_t107_loop v1089 v1091).OK := fun v1089 v1091 k0_hw57 => k0_hw57.1
theorem k0_off282_inb : ∀ (v1089 : BitVec 32) (v1091 : BitVec 32) (k0_hw57 : k0_chk57 v1089 v1091) (k0_t107 : Fin (k0_t107_loop v1089 v1091).trips), ∀ a, (k0_off282 v1089 v1091 k0_t107) a + S2x128.size a ≤ S384x128.size a := fun v1089 v1091 k0_hw57 k0_t107 => k0_hw57.2.1 k0_t107
theorem k0_off283_inb : ∀ (v1089 : BitVec 32) (v1091 : BitVec 32) (k0_hw57 : k0_chk57 v1089 v1091) (k0_t107 : Fin (k0_t107_loop v1089 v1091).trips), ∀ a, (k0_off283 v1089 v1091 k0_t107) a + S1x2.size a ≤ S584x2.size a := fun v1089 v1091 k0_hw57 k0_t107 => k0_hw57.2.2.1 k0_t107
theorem k0_t108_ok : ∀ (v1089 : BitVec 32) (v1091 : BitVec 32) (k0_hw57 : k0_chk57 v1089 v1091), (k0_t108_loop v1089 v1091).OK := fun v1089 v1091 k0_hw57 => k0_hw57.2.2.2.1
theorem k0_off285_inb : ∀ (v1089 : BitVec 32) (v1091 : BitVec 32) (k0_hw57 : k0_chk57 v1089 v1091) (k0_t108 : Fin (k0_t108_loop v1089 v1091).trips), ∀ a, (k0_off285 v1089 v1091 k0_t108) a + S2x128.size a ≤ S384x128.size a := fun v1089 v1091 k0_hw57 k0_t108 => k0_hw57.2.2.2.2.1 k0_t108
theorem k0_off286_inb : ∀ (v1089 : BitVec 32) (v1091 : BitVec 32) (k0_hw57 : k0_chk57 v1089 v1091) (k0_t108 : Fin (k0_t108_loop v1089 v1091).trips), ∀ a, (k0_off286 v1089 v1091 k0_t108) a + S1x2.size a ≤ S584x2.size a := fun v1089 v1091 k0_hw57 k0_t108 => k0_hw57.2.2.2.2.2 k0_t108

def k0_off287 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_526 : BitVec 32 := 16#32
  let v1110 : BitVec 32 := Scalar.muli arg21 c16_i32_526
  let c13_i32 : BitVec 32 := 13#32
  let v1111 : BitVec 32 := Scalar.addi v1110 c13_i32
  let c128_i32_527 : BitVec 32 := 128#32
  let v1112 : BitVec 32 := Scalar.muli v1111 c128_i32_527
  ![0, v1112.toNat]
@[reducible] def k0_t109_loop (v1161 : BitVec 32) (v1163 : BitVec 32) : Scf.Loop 32 :=
  let c1_i32_549 : BitVec 32 := 1#32
  let v1164 : BitVec 32 := Scalar.addi v1161 c1_i32_549
  let c0_i32_551 : BitVec 32 := 0#32
  let v1166 : BitVec 1 := Scalar.cmpi .sgt v1164 c0_i32_551
  let v1167 : BitVec 32 := Scalar.extui v1166
  let c0_i32_552 : BitVec 32 := 0#32
  let v1168 : BitVec 1 := Scalar.cmpi .slt v1164 c0_i32_552
  let v1169 : BitVec 32 := Scalar.extui v1168
  let v1170 : BitVec 32 := Scalar.subi v1167 v1169
  let c2_i32_550 : BitVec 32 := 2#32
  let c0_i32_553 : BitVec 32 := 0#32
  let v1171 : BitVec 1 := Scalar.cmpi .sgt c2_i32_550 c0_i32_553
  let v1172 : BitVec 32 := Scalar.extui v1171
  let c0_i32_554 : BitVec 32 := 0#32
  let v1173 : BitVec 1 := Scalar.cmpi .slt c2_i32_550 c0_i32_554
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_550
  let c0_i32_555 : BitVec 32 := 0#32
  let v1178 : BitVec 1 := Scalar.cmpi .ne v1177 c0_i32_555
  let v1179 : BitVec 1 := Scalar.andi v1176 v1178
  let v1165 : BitVec 32 := Scalar.divsi v1164 c2_i32_550
  let c1_i32_556 : BitVec 32 := 1#32
  let v1180 : BitVec 32 := Scalar.subi v1165 c1_i32_556
  let v1181 : BitVec 32 := Scalar.select v1179 v1180 v1165
  let c0_i32_567 : BitVec 32 := 0#32
  let c768_i32_559 : BitVec 32 := 768#32
  let v1185 : BitVec 32 := Scalar.subi c768_i32_559 v1163
  let c0_i32_561 : BitVec 32 := 0#32
  let v1187 : BitVec 1 := Scalar.cmpi .sgt v1185 c0_i32_561
  let v1188 : BitVec 32 := Scalar.extui v1187
  let c0_i32_562 : BitVec 32 := 0#32
  let v1189 : BitVec 1 := Scalar.cmpi .slt v1185 c0_i32_562
  let v1190 : BitVec 32 := Scalar.extui v1189
  let v1191 : BitVec 32 := Scalar.subi v1188 v1190
  let c2_i32_560 : BitVec 32 := 2#32
  let c0_i32_563 : BitVec 32 := 0#32
  let v1192 : BitVec 1 := Scalar.cmpi .sgt c2_i32_560 c0_i32_563
  let v1193 : BitVec 32 := Scalar.extui v1192
  let c0_i32_564 : BitVec 32 := 0#32
  let v1194 : BitVec 1 := Scalar.cmpi .slt c2_i32_560 c0_i32_564
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_560
  let c0_i32_565 : BitVec 32 := 0#32
  let v1199 : BitVec 1 := Scalar.cmpi .ne v1198 c0_i32_565
  let v1200 : BitVec 1 := Scalar.andi v1197 v1199
  let v1186 : BitVec 32 := Scalar.divsi v1185 c2_i32_560
  let c1_i32_566 : BitVec 32 := 1#32
  let v1201 : BitVec 32 := Scalar.subi v1186 c1_i32_566
  let v1202 : BitVec 32 := Scalar.select v1200 v1201 v1186
  let v1203 : BitVec 32 := Scalar.maxsi c0_i32_567 v1202
  let v1204 : BitVec 32 := Scalar.minsi v1181 v1203
  let c0_i32_576 : BitVec 32 := 0#32
  let c1152_i32_568 : BitVec 32 := 1152#32
  let v1205 : BitVec 32 := Scalar.subi c1152_i32_568 v1163
  let c0_i32_570 : BitVec 32 := 0#32
  let v1207 : BitVec 1 := Scalar.cmpi .sgt v1205 c0_i32_570
  let v1208 : BitVec 32 := Scalar.extui v1207
  let c0_i32_571 : BitVec 32 := 0#32
  let v1209 : BitVec 1 := Scalar.cmpi .slt v1205 c0_i32_571
  let v1210 : BitVec 32 := Scalar.extui v1209
  let v1211 : BitVec 32 := Scalar.subi v1208 v1210
  let c2_i32_569 : BitVec 32 := 2#32
  let c0_i32_572 : BitVec 32 := 0#32
  let v1212 : BitVec 1 := Scalar.cmpi .sgt c2_i32_569 c0_i32_572
  let v1213 : BitVec 32 := Scalar.extui v1212
  let c0_i32_573 : BitVec 32 := 0#32
  let v1214 : BitVec 1 := Scalar.cmpi .slt c2_i32_569 c0_i32_573
  let v1215 : BitVec 32 := Scalar.extui v1214
  let v1216 : BitVec 32 := Scalar.subi v1213 v1215
  let v1217 : BitVec 1 := Scalar.cmpi .ne v1211 v1216
  let v1218 : BitVec 32 := Scalar.remsi v1205 c2_i32_569
  let c0_i32_574 : BitVec 32 := 0#32
  let v1219 : BitVec 1 := Scalar.cmpi .ne v1218 c0_i32_574
  let v1220 : BitVec 1 := Scalar.andi v1217 v1219
  let v1206 : BitVec 32 := Scalar.divsi v1205 c2_i32_569
  let c1_i32_575 : BitVec 32 := 1#32
  let v1221 : BitVec 32 := Scalar.subi v1206 c1_i32_575
  let v1222 : BitVec 32 := Scalar.select v1220 v1221 v1206
  let v1223 : BitVec 32 := Scalar.maxsi c0_i32_576 v1222
  let v1224 : BitVec 32 := Scalar.minsi v1181 v1223
  let v1225 : BitVec 32 := Scalar.subi v1224 v1204
  let c1_i32_577 : BitVec 32 := 1#32
  let v1227 : BitVec 32 := Scalar.divsi v1225 c1_i32_577
  let v1228 : BitVec 32 := Scalar.muli v1227 c1_i32_577
  let v1229 : BitVec 32 := Scalar.addi v1204 v1228
  let c1_i32_578 : BitVec 32 := 1#32
  ⟨v1204, v1229, c1_i32_578⟩

def k0_off288 (v1161 : BitVec 32) (v1163 : BitVec 32) (k0_t109 : Fin (k0_t109_loop v1161 v1163).trips) : Fin 2 → Nat :=
  let c1_i32_549 : BitVec 32 := 1#32
  let v1164 : BitVec 32 := Scalar.addi v1161 c1_i32_549
  let c0_i32_551 : BitVec 32 := 0#32
  let v1166 : BitVec 1 := Scalar.cmpi .sgt v1164 c0_i32_551
  let v1167 : BitVec 32 := Scalar.extui v1166
  let c0_i32_552 : BitVec 32 := 0#32
  let v1168 : BitVec 1 := Scalar.cmpi .slt v1164 c0_i32_552
  let v1169 : BitVec 32 := Scalar.extui v1168
  let v1170 : BitVec 32 := Scalar.subi v1167 v1169
  let c2_i32_550 : BitVec 32 := 2#32
  let c0_i32_553 : BitVec 32 := 0#32
  let v1171 : BitVec 1 := Scalar.cmpi .sgt c2_i32_550 c0_i32_553
  let v1172 : BitVec 32 := Scalar.extui v1171
  let c0_i32_554 : BitVec 32 := 0#32
  let v1173 : BitVec 1 := Scalar.cmpi .slt c2_i32_550 c0_i32_554
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_550
  let c0_i32_555 : BitVec 32 := 0#32
  let v1178 : BitVec 1 := Scalar.cmpi .ne v1177 c0_i32_555
  let v1179 : BitVec 1 := Scalar.andi v1176 v1178
  let v1165 : BitVec 32 := Scalar.divsi v1164 c2_i32_550
  let c1_i32_556 : BitVec 32 := 1#32
  let v1180 : BitVec 32 := Scalar.subi v1165 c1_i32_556
  let v1181 : BitVec 32 := Scalar.select v1179 v1180 v1165
  let c0_i32_567 : BitVec 32 := 0#32
  let c768_i32_559 : BitVec 32 := 768#32
  let v1185 : BitVec 32 := Scalar.subi c768_i32_559 v1163
  let c0_i32_561 : BitVec 32 := 0#32
  let v1187 : BitVec 1 := Scalar.cmpi .sgt v1185 c0_i32_561
  let v1188 : BitVec 32 := Scalar.extui v1187
  let c0_i32_562 : BitVec 32 := 0#32
  let v1189 : BitVec 1 := Scalar.cmpi .slt v1185 c0_i32_562
  let v1190 : BitVec 32 := Scalar.extui v1189
  let v1191 : BitVec 32 := Scalar.subi v1188 v1190
  let c2_i32_560 : BitVec 32 := 2#32
  let c0_i32_563 : BitVec 32 := 0#32
  let v1192 : BitVec 1 := Scalar.cmpi .sgt c2_i32_560 c0_i32_563
  let v1193 : BitVec 32 := Scalar.extui v1192
  let c0_i32_564 : BitVec 32 := 0#32
  let v1194 : BitVec 1 := Scalar.cmpi .slt c2_i32_560 c0_i32_564
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_560
  let c0_i32_565 : BitVec 32 := 0#32
  let v1199 : BitVec 1 := Scalar.cmpi .ne v1198 c0_i32_565
  let v1200 : BitVec 1 := Scalar.andi v1197 v1199
  let v1186 : BitVec 32 := Scalar.divsi v1185 c2_i32_560
  let c1_i32_566 : BitVec 32 := 1#32
  let v1201 : BitVec 32 := Scalar.subi v1186 c1_i32_566
  let v1202 : BitVec 32 := Scalar.select v1200 v1201 v1186
  let v1203 : BitVec 32 := Scalar.maxsi c0_i32_567 v1202
  let v1204 : BitVec 32 := Scalar.minsi v1181 v1203
  let c1_i32_578 : BitVec 32 := 1#32
  let arg23 : BitVec 32 := Scf.iv v1204 c1_i32_578 k0_t109
  let c2_i32_612 : BitVec 32 := 2#32
  let v1306 : BitVec 32 := Scalar.muli arg23 c2_i32_612
  let v1307 : BitVec 32 := Scalar.addi v1163 v1306
  let c768_i32_613 : BitVec 32 := 768#32
  let v1308 : BitVec 32 := Scalar.subi v1307 c768_i32_613
  let c0_i32_614 : BitVec 32 := 0#32
  ![v1308.toNat, 0]
def k0_off289 (v1161 : BitVec 32) (v1163 : BitVec 32) (k0_t109 : Fin (k0_t109_loop v1161 v1163).trips) : Fin 2 → Nat :=
  let c1_i32_611 : BitVec 32 := 1#32
  let v1304 : BitVec 32 := Scalar.shrsi v1163 c1_i32_611
  let c1_i32_549 : BitVec 32 := 1#32
  let v1164 : BitVec 32 := Scalar.addi v1161 c1_i32_549
  let c0_i32_551 : BitVec 32 := 0#32
  let v1166 : BitVec 1 := Scalar.cmpi .sgt v1164 c0_i32_551
  let v1167 : BitVec 32 := Scalar.extui v1166
  let c0_i32_552 : BitVec 32 := 0#32
  let v1168 : BitVec 1 := Scalar.cmpi .slt v1164 c0_i32_552
  let v1169 : BitVec 32 := Scalar.extui v1168
  let v1170 : BitVec 32 := Scalar.subi v1167 v1169
  let c2_i32_550 : BitVec 32 := 2#32
  let c0_i32_553 : BitVec 32 := 0#32
  let v1171 : BitVec 1 := Scalar.cmpi .sgt c2_i32_550 c0_i32_553
  let v1172 : BitVec 32 := Scalar.extui v1171
  let c0_i32_554 : BitVec 32 := 0#32
  let v1173 : BitVec 1 := Scalar.cmpi .slt c2_i32_550 c0_i32_554
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_550
  let c0_i32_555 : BitVec 32 := 0#32
  let v1178 : BitVec 1 := Scalar.cmpi .ne v1177 c0_i32_555
  let v1179 : BitVec 1 := Scalar.andi v1176 v1178
  let v1165 : BitVec 32 := Scalar.divsi v1164 c2_i32_550
  let c1_i32_556 : BitVec 32 := 1#32
  let v1180 : BitVec 32 := Scalar.subi v1165 c1_i32_556
  let v1181 : BitVec 32 := Scalar.select v1179 v1180 v1165
  let c0_i32_567 : BitVec 32 := 0#32
  let c768_i32_559 : BitVec 32 := 768#32
  let v1185 : BitVec 32 := Scalar.subi c768_i32_559 v1163
  let c0_i32_561 : BitVec 32 := 0#32
  let v1187 : BitVec 1 := Scalar.cmpi .sgt v1185 c0_i32_561
  let v1188 : BitVec 32 := Scalar.extui v1187
  let c0_i32_562 : BitVec 32 := 0#32
  let v1189 : BitVec 1 := Scalar.cmpi .slt v1185 c0_i32_562
  let v1190 : BitVec 32 := Scalar.extui v1189
  let v1191 : BitVec 32 := Scalar.subi v1188 v1190
  let c2_i32_560 : BitVec 32 := 2#32
  let c0_i32_563 : BitVec 32 := 0#32
  let v1192 : BitVec 1 := Scalar.cmpi .sgt c2_i32_560 c0_i32_563
  let v1193 : BitVec 32 := Scalar.extui v1192
  let c0_i32_564 : BitVec 32 := 0#32
  let v1194 : BitVec 1 := Scalar.cmpi .slt c2_i32_560 c0_i32_564
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_560
  let c0_i32_565 : BitVec 32 := 0#32
  let v1199 : BitVec 1 := Scalar.cmpi .ne v1198 c0_i32_565
  let v1200 : BitVec 1 := Scalar.andi v1197 v1199
  let v1186 : BitVec 32 := Scalar.divsi v1185 c2_i32_560
  let c1_i32_566 : BitVec 32 := 1#32
  let v1201 : BitVec 32 := Scalar.subi v1186 c1_i32_566
  let v1202 : BitVec 32 := Scalar.select v1200 v1201 v1186
  let v1203 : BitVec 32 := Scalar.maxsi c0_i32_567 v1202
  let v1204 : BitVec 32 := Scalar.minsi v1181 v1203
  let c1_i32_578 : BitVec 32 := 1#32
  let arg23 : BitVec 32 := Scf.iv v1204 c1_i32_578 k0_t109
  let v1305 : BitVec 32 := Scalar.addi v1304 arg23
  let c0_i32_615 : BitVec 32 := 0#32
  ![v1305.toNat, 0]
def k0_off290 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_557 : BitVec 32 := 16#32
  let v1182 : BitVec 32 := Scalar.muli arg21 c16_i32_557
  let c14_i32 : BitVec 32 := 14#32
  let v1183 : BitVec 32 := Scalar.addi v1182 c14_i32
  let c128_i32_558 : BitVec 32 := 128#32
  let v1184 : BitVec 32 := Scalar.muli v1183 c128_i32_558
  ![0, v1184.toNat]
@[reducible] def k0_t110_loop (v1161 : BitVec 32) (v1163 : BitVec 32) : Scf.Loop 32 :=
  let c1_i32_549 : BitVec 32 := 1#32
  let v1164 : BitVec 32 := Scalar.addi v1161 c1_i32_549
  let c0_i32_551 : BitVec 32 := 0#32
  let v1166 : BitVec 1 := Scalar.cmpi .sgt v1164 c0_i32_551
  let v1167 : BitVec 32 := Scalar.extui v1166
  let c0_i32_552 : BitVec 32 := 0#32
  let v1168 : BitVec 1 := Scalar.cmpi .slt v1164 c0_i32_552
  let v1169 : BitVec 32 := Scalar.extui v1168
  let v1170 : BitVec 32 := Scalar.subi v1167 v1169
  let c2_i32_550 : BitVec 32 := 2#32
  let c0_i32_553 : BitVec 32 := 0#32
  let v1171 : BitVec 1 := Scalar.cmpi .sgt c2_i32_550 c0_i32_553
  let v1172 : BitVec 32 := Scalar.extui v1171
  let c0_i32_554 : BitVec 32 := 0#32
  let v1173 : BitVec 1 := Scalar.cmpi .slt c2_i32_550 c0_i32_554
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_550
  let c0_i32_555 : BitVec 32 := 0#32
  let v1178 : BitVec 1 := Scalar.cmpi .ne v1177 c0_i32_555
  let v1179 : BitVec 1 := Scalar.andi v1176 v1178
  let v1165 : BitVec 32 := Scalar.divsi v1164 c2_i32_550
  let c1_i32_556 : BitVec 32 := 1#32
  let v1180 : BitVec 32 := Scalar.subi v1165 c1_i32_556
  let v1181 : BitVec 32 := Scalar.select v1179 v1180 v1165
  let c0_i32_567 : BitVec 32 := 0#32
  let c768_i32_559 : BitVec 32 := 768#32
  let v1185 : BitVec 32 := Scalar.subi c768_i32_559 v1163
  let c0_i32_561 : BitVec 32 := 0#32
  let v1187 : BitVec 1 := Scalar.cmpi .sgt v1185 c0_i32_561
  let v1188 : BitVec 32 := Scalar.extui v1187
  let c0_i32_562 : BitVec 32 := 0#32
  let v1189 : BitVec 1 := Scalar.cmpi .slt v1185 c0_i32_562
  let v1190 : BitVec 32 := Scalar.extui v1189
  let v1191 : BitVec 32 := Scalar.subi v1188 v1190
  let c2_i32_560 : BitVec 32 := 2#32
  let c0_i32_563 : BitVec 32 := 0#32
  let v1192 : BitVec 1 := Scalar.cmpi .sgt c2_i32_560 c0_i32_563
  let v1193 : BitVec 32 := Scalar.extui v1192
  let c0_i32_564 : BitVec 32 := 0#32
  let v1194 : BitVec 1 := Scalar.cmpi .slt c2_i32_560 c0_i32_564
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_560
  let c0_i32_565 : BitVec 32 := 0#32
  let v1199 : BitVec 1 := Scalar.cmpi .ne v1198 c0_i32_565
  let v1200 : BitVec 1 := Scalar.andi v1197 v1199
  let v1186 : BitVec 32 := Scalar.divsi v1185 c2_i32_560
  let c1_i32_566 : BitVec 32 := 1#32
  let v1201 : BitVec 32 := Scalar.subi v1186 c1_i32_566
  let v1202 : BitVec 32 := Scalar.select v1200 v1201 v1186
  let v1203 : BitVec 32 := Scalar.maxsi c0_i32_567 v1202
  let v1204 : BitVec 32 := Scalar.minsi v1181 v1203
  let c0_i32_576 : BitVec 32 := 0#32
  let c1152_i32_568 : BitVec 32 := 1152#32
  let v1205 : BitVec 32 := Scalar.subi c1152_i32_568 v1163
  let c0_i32_570 : BitVec 32 := 0#32
  let v1207 : BitVec 1 := Scalar.cmpi .sgt v1205 c0_i32_570
  let v1208 : BitVec 32 := Scalar.extui v1207
  let c0_i32_571 : BitVec 32 := 0#32
  let v1209 : BitVec 1 := Scalar.cmpi .slt v1205 c0_i32_571
  let v1210 : BitVec 32 := Scalar.extui v1209
  let v1211 : BitVec 32 := Scalar.subi v1208 v1210
  let c2_i32_569 : BitVec 32 := 2#32
  let c0_i32_572 : BitVec 32 := 0#32
  let v1212 : BitVec 1 := Scalar.cmpi .sgt c2_i32_569 c0_i32_572
  let v1213 : BitVec 32 := Scalar.extui v1212
  let c0_i32_573 : BitVec 32 := 0#32
  let v1214 : BitVec 1 := Scalar.cmpi .slt c2_i32_569 c0_i32_573
  let v1215 : BitVec 32 := Scalar.extui v1214
  let v1216 : BitVec 32 := Scalar.subi v1213 v1215
  let v1217 : BitVec 1 := Scalar.cmpi .ne v1211 v1216
  let v1218 : BitVec 32 := Scalar.remsi v1205 c2_i32_569
  let c0_i32_574 : BitVec 32 := 0#32
  let v1219 : BitVec 1 := Scalar.cmpi .ne v1218 c0_i32_574
  let v1220 : BitVec 1 := Scalar.andi v1217 v1219
  let v1206 : BitVec 32 := Scalar.divsi v1205 c2_i32_569
  let c1_i32_575 : BitVec 32 := 1#32
  let v1221 : BitVec 32 := Scalar.subi v1206 c1_i32_575
  let v1222 : BitVec 32 := Scalar.select v1220 v1221 v1206
  let v1223 : BitVec 32 := Scalar.maxsi c0_i32_576 v1222
  let v1224 : BitVec 32 := Scalar.minsi v1181 v1223
  let v1225 : BitVec 32 := Scalar.subi v1224 v1204
  let c1_i32_577 : BitVec 32 := 1#32
  let v1227 : BitVec 32 := Scalar.divsi v1225 c1_i32_577
  let v1228 : BitVec 32 := Scalar.muli v1227 c1_i32_577
  let v1229 : BitVec 32 := Scalar.addi v1204 v1228
  let v1226 : BitVec 32 := Scalar.addi v1204 v1225
  let c1_i32_579 : BitVec 32 := 1#32
  ⟨v1229, v1226, c1_i32_579⟩
def k0_off291 (v1161 : BitVec 32) (v1163 : BitVec 32) (k0_t110 : Fin (k0_t110_loop v1161 v1163).trips) : Fin 2 → Nat :=
  let c1_i32_549 : BitVec 32 := 1#32
  let v1164 : BitVec 32 := Scalar.addi v1161 c1_i32_549
  let c0_i32_551 : BitVec 32 := 0#32
  let v1166 : BitVec 1 := Scalar.cmpi .sgt v1164 c0_i32_551
  let v1167 : BitVec 32 := Scalar.extui v1166
  let c0_i32_552 : BitVec 32 := 0#32
  let v1168 : BitVec 1 := Scalar.cmpi .slt v1164 c0_i32_552
  let v1169 : BitVec 32 := Scalar.extui v1168
  let v1170 : BitVec 32 := Scalar.subi v1167 v1169
  let c2_i32_550 : BitVec 32 := 2#32
  let c0_i32_553 : BitVec 32 := 0#32
  let v1171 : BitVec 1 := Scalar.cmpi .sgt c2_i32_550 c0_i32_553
  let v1172 : BitVec 32 := Scalar.extui v1171
  let c0_i32_554 : BitVec 32 := 0#32
  let v1173 : BitVec 1 := Scalar.cmpi .slt c2_i32_550 c0_i32_554
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_550
  let c0_i32_555 : BitVec 32 := 0#32
  let v1178 : BitVec 1 := Scalar.cmpi .ne v1177 c0_i32_555
  let v1179 : BitVec 1 := Scalar.andi v1176 v1178
  let v1165 : BitVec 32 := Scalar.divsi v1164 c2_i32_550
  let c1_i32_556 : BitVec 32 := 1#32
  let v1180 : BitVec 32 := Scalar.subi v1165 c1_i32_556
  let v1181 : BitVec 32 := Scalar.select v1179 v1180 v1165
  let c0_i32_567 : BitVec 32 := 0#32
  let c768_i32_559 : BitVec 32 := 768#32
  let v1185 : BitVec 32 := Scalar.subi c768_i32_559 v1163
  let c0_i32_561 : BitVec 32 := 0#32
  let v1187 : BitVec 1 := Scalar.cmpi .sgt v1185 c0_i32_561
  let v1188 : BitVec 32 := Scalar.extui v1187
  let c0_i32_562 : BitVec 32 := 0#32
  let v1189 : BitVec 1 := Scalar.cmpi .slt v1185 c0_i32_562
  let v1190 : BitVec 32 := Scalar.extui v1189
  let v1191 : BitVec 32 := Scalar.subi v1188 v1190
  let c2_i32_560 : BitVec 32 := 2#32
  let c0_i32_563 : BitVec 32 := 0#32
  let v1192 : BitVec 1 := Scalar.cmpi .sgt c2_i32_560 c0_i32_563
  let v1193 : BitVec 32 := Scalar.extui v1192
  let c0_i32_564 : BitVec 32 := 0#32
  let v1194 : BitVec 1 := Scalar.cmpi .slt c2_i32_560 c0_i32_564
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_560
  let c0_i32_565 : BitVec 32 := 0#32
  let v1199 : BitVec 1 := Scalar.cmpi .ne v1198 c0_i32_565
  let v1200 : BitVec 1 := Scalar.andi v1197 v1199
  let v1186 : BitVec 32 := Scalar.divsi v1185 c2_i32_560
  let c1_i32_566 : BitVec 32 := 1#32
  let v1201 : BitVec 32 := Scalar.subi v1186 c1_i32_566
  let v1202 : BitVec 32 := Scalar.select v1200 v1201 v1186
  let v1203 : BitVec 32 := Scalar.maxsi c0_i32_567 v1202
  let v1204 : BitVec 32 := Scalar.minsi v1181 v1203
  let c0_i32_576 : BitVec 32 := 0#32
  let c1152_i32_568 : BitVec 32 := 1152#32
  let v1205 : BitVec 32 := Scalar.subi c1152_i32_568 v1163
  let c0_i32_570 : BitVec 32 := 0#32
  let v1207 : BitVec 1 := Scalar.cmpi .sgt v1205 c0_i32_570
  let v1208 : BitVec 32 := Scalar.extui v1207
  let c0_i32_571 : BitVec 32 := 0#32
  let v1209 : BitVec 1 := Scalar.cmpi .slt v1205 c0_i32_571
  let v1210 : BitVec 32 := Scalar.extui v1209
  let v1211 : BitVec 32 := Scalar.subi v1208 v1210
  let c2_i32_569 : BitVec 32 := 2#32
  let c0_i32_572 : BitVec 32 := 0#32
  let v1212 : BitVec 1 := Scalar.cmpi .sgt c2_i32_569 c0_i32_572
  let v1213 : BitVec 32 := Scalar.extui v1212
  let c0_i32_573 : BitVec 32 := 0#32
  let v1214 : BitVec 1 := Scalar.cmpi .slt c2_i32_569 c0_i32_573
  let v1215 : BitVec 32 := Scalar.extui v1214
  let v1216 : BitVec 32 := Scalar.subi v1213 v1215
  let v1217 : BitVec 1 := Scalar.cmpi .ne v1211 v1216
  let v1218 : BitVec 32 := Scalar.remsi v1205 c2_i32_569
  let c0_i32_574 : BitVec 32 := 0#32
  let v1219 : BitVec 1 := Scalar.cmpi .ne v1218 c0_i32_574
  let v1220 : BitVec 1 := Scalar.andi v1217 v1219
  let v1206 : BitVec 32 := Scalar.divsi v1205 c2_i32_569
  let c1_i32_575 : BitVec 32 := 1#32
  let v1221 : BitVec 32 := Scalar.subi v1206 c1_i32_575
  let v1222 : BitVec 32 := Scalar.select v1220 v1221 v1206
  let v1223 : BitVec 32 := Scalar.maxsi c0_i32_576 v1222
  let v1224 : BitVec 32 := Scalar.minsi v1181 v1223
  let v1225 : BitVec 32 := Scalar.subi v1224 v1204
  let c1_i32_577 : BitVec 32 := 1#32
  let v1227 : BitVec 32 := Scalar.divsi v1225 c1_i32_577
  let v1228 : BitVec 32 := Scalar.muli v1227 c1_i32_577
  let v1229 : BitVec 32 := Scalar.addi v1204 v1228
  let c1_i32_579 : BitVec 32 := 1#32
  let arg23 : BitVec 32 := Scf.iv v1229 c1_i32_579 k0_t110
  let c2_i32_612 : BitVec 32 := 2#32
  let v1306 : BitVec 32 := Scalar.muli arg23 c2_i32_612
  let v1307 : BitVec 32 := Scalar.addi v1163 v1306
  let c768_i32_613 : BitVec 32 := 768#32
  let v1308 : BitVec 32 := Scalar.subi v1307 c768_i32_613
  let c0_i32_614 : BitVec 32 := 0#32
  ![v1308.toNat, 0]
def k0_off292 (v1161 : BitVec 32) (v1163 : BitVec 32) (k0_t110 : Fin (k0_t110_loop v1161 v1163).trips) : Fin 2 → Nat :=
  let c1_i32_611 : BitVec 32 := 1#32
  let v1304 : BitVec 32 := Scalar.shrsi v1163 c1_i32_611
  let c1_i32_549 : BitVec 32 := 1#32
  let v1164 : BitVec 32 := Scalar.addi v1161 c1_i32_549
  let c0_i32_551 : BitVec 32 := 0#32
  let v1166 : BitVec 1 := Scalar.cmpi .sgt v1164 c0_i32_551
  let v1167 : BitVec 32 := Scalar.extui v1166
  let c0_i32_552 : BitVec 32 := 0#32
  let v1168 : BitVec 1 := Scalar.cmpi .slt v1164 c0_i32_552
  let v1169 : BitVec 32 := Scalar.extui v1168
  let v1170 : BitVec 32 := Scalar.subi v1167 v1169
  let c2_i32_550 : BitVec 32 := 2#32
  let c0_i32_553 : BitVec 32 := 0#32
  let v1171 : BitVec 1 := Scalar.cmpi .sgt c2_i32_550 c0_i32_553
  let v1172 : BitVec 32 := Scalar.extui v1171
  let c0_i32_554 : BitVec 32 := 0#32
  let v1173 : BitVec 1 := Scalar.cmpi .slt c2_i32_550 c0_i32_554
  let v1174 : BitVec 32 := Scalar.extui v1173
  let v1175 : BitVec 32 := Scalar.subi v1172 v1174
  let v1176 : BitVec 1 := Scalar.cmpi .ne v1170 v1175
  let v1177 : BitVec 32 := Scalar.remsi v1164 c2_i32_550
  let c0_i32_555 : BitVec 32 := 0#32
  let v1178 : BitVec 1 := Scalar.cmpi .ne v1177 c0_i32_555
  let v1179 : BitVec 1 := Scalar.andi v1176 v1178
  let v1165 : BitVec 32 := Scalar.divsi v1164 c2_i32_550
  let c1_i32_556 : BitVec 32 := 1#32
  let v1180 : BitVec 32 := Scalar.subi v1165 c1_i32_556
  let v1181 : BitVec 32 := Scalar.select v1179 v1180 v1165
  let c0_i32_567 : BitVec 32 := 0#32
  let c768_i32_559 : BitVec 32 := 768#32
  let v1185 : BitVec 32 := Scalar.subi c768_i32_559 v1163
  let c0_i32_561 : BitVec 32 := 0#32
  let v1187 : BitVec 1 := Scalar.cmpi .sgt v1185 c0_i32_561
  let v1188 : BitVec 32 := Scalar.extui v1187
  let c0_i32_562 : BitVec 32 := 0#32
  let v1189 : BitVec 1 := Scalar.cmpi .slt v1185 c0_i32_562
  let v1190 : BitVec 32 := Scalar.extui v1189
  let v1191 : BitVec 32 := Scalar.subi v1188 v1190
  let c2_i32_560 : BitVec 32 := 2#32
  let c0_i32_563 : BitVec 32 := 0#32
  let v1192 : BitVec 1 := Scalar.cmpi .sgt c2_i32_560 c0_i32_563
  let v1193 : BitVec 32 := Scalar.extui v1192
  let c0_i32_564 : BitVec 32 := 0#32
  let v1194 : BitVec 1 := Scalar.cmpi .slt c2_i32_560 c0_i32_564
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_560
  let c0_i32_565 : BitVec 32 := 0#32
  let v1199 : BitVec 1 := Scalar.cmpi .ne v1198 c0_i32_565
  let v1200 : BitVec 1 := Scalar.andi v1197 v1199
  let v1186 : BitVec 32 := Scalar.divsi v1185 c2_i32_560
  let c1_i32_566 : BitVec 32 := 1#32
  let v1201 : BitVec 32 := Scalar.subi v1186 c1_i32_566
  let v1202 : BitVec 32 := Scalar.select v1200 v1201 v1186
  let v1203 : BitVec 32 := Scalar.maxsi c0_i32_567 v1202
  let v1204 : BitVec 32 := Scalar.minsi v1181 v1203
  let c0_i32_576 : BitVec 32 := 0#32
  let c1152_i32_568 : BitVec 32 := 1152#32
  let v1205 : BitVec 32 := Scalar.subi c1152_i32_568 v1163
  let c0_i32_570 : BitVec 32 := 0#32
  let v1207 : BitVec 1 := Scalar.cmpi .sgt v1205 c0_i32_570
  let v1208 : BitVec 32 := Scalar.extui v1207
  let c0_i32_571 : BitVec 32 := 0#32
  let v1209 : BitVec 1 := Scalar.cmpi .slt v1205 c0_i32_571
  let v1210 : BitVec 32 := Scalar.extui v1209
  let v1211 : BitVec 32 := Scalar.subi v1208 v1210
  let c2_i32_569 : BitVec 32 := 2#32
  let c0_i32_572 : BitVec 32 := 0#32
  let v1212 : BitVec 1 := Scalar.cmpi .sgt c2_i32_569 c0_i32_572
  let v1213 : BitVec 32 := Scalar.extui v1212
  let c0_i32_573 : BitVec 32 := 0#32
  let v1214 : BitVec 1 := Scalar.cmpi .slt c2_i32_569 c0_i32_573
  let v1215 : BitVec 32 := Scalar.extui v1214
  let v1216 : BitVec 32 := Scalar.subi v1213 v1215
  let v1217 : BitVec 1 := Scalar.cmpi .ne v1211 v1216
  let v1218 : BitVec 32 := Scalar.remsi v1205 c2_i32_569
  let c0_i32_574 : BitVec 32 := 0#32
  let v1219 : BitVec 1 := Scalar.cmpi .ne v1218 c0_i32_574
  let v1220 : BitVec 1 := Scalar.andi v1217 v1219
  let v1206 : BitVec 32 := Scalar.divsi v1205 c2_i32_569
  let c1_i32_575 : BitVec 32 := 1#32
  let v1221 : BitVec 32 := Scalar.subi v1206 c1_i32_575
  let v1222 : BitVec 32 := Scalar.select v1220 v1221 v1206
  let v1223 : BitVec 32 := Scalar.maxsi c0_i32_576 v1222
  let v1224 : BitVec 32 := Scalar.minsi v1181 v1223
  let v1225 : BitVec 32 := Scalar.subi v1224 v1204
  let c1_i32_577 : BitVec 32 := 1#32
  let v1227 : BitVec 32 := Scalar.divsi v1225 c1_i32_577
  let v1228 : BitVec 32 := Scalar.muli v1227 c1_i32_577
  let v1229 : BitVec 32 := Scalar.addi v1204 v1228
  let c1_i32_579 : BitVec 32 := 1#32
  let arg23 : BitVec 32 := Scf.iv v1229 c1_i32_579 k0_t110
  let v1305 : BitVec 32 := Scalar.addi v1304 arg23
  let c0_i32_615 : BitVec 32 := 0#32
  ![v1305.toNat, 0]

def k0_chk58 (v1161 : BitVec 32) (v1163 : BitVec 32) : Prop :=
  ((k0_t109_loop v1161 v1163).OK) ∧
  (∀ k0_t109 : Fin (k0_t109_loop v1161 v1163).trips, ∀ a, (k0_off288 v1161 v1163 k0_t109) a + S2x128.size a ≤ S384x128.size a) ∧
  (∀ k0_t109 : Fin (k0_t109_loop v1161 v1163).trips, ∀ a, (k0_off289 v1161 v1163 k0_t109) a + S1x2.size a ≤ S584x2.size a) ∧
  ((k0_t110_loop v1161 v1163).OK) ∧
  (∀ k0_t110 : Fin (k0_t110_loop v1161 v1163).trips, ∀ a, (k0_off291 v1161 v1163 k0_t110) a + S2x128.size a ≤ S384x128.size a) ∧
  (∀ k0_t110 : Fin (k0_t110_loop v1161 v1163).trips, ∀ a, (k0_off292 v1161 v1163 k0_t110) a + S1x2.size a ≤ S584x2.size a)
theorem k0_t109_ok : ∀ (v1161 : BitVec 32) (v1163 : BitVec 32) (k0_hw58 : k0_chk58 v1161 v1163), (k0_t109_loop v1161 v1163).OK := fun v1161 v1163 k0_hw58 => k0_hw58.1
theorem k0_off288_inb : ∀ (v1161 : BitVec 32) (v1163 : BitVec 32) (k0_hw58 : k0_chk58 v1161 v1163) (k0_t109 : Fin (k0_t109_loop v1161 v1163).trips), ∀ a, (k0_off288 v1161 v1163 k0_t109) a + S2x128.size a ≤ S384x128.size a := fun v1161 v1163 k0_hw58 k0_t109 => k0_hw58.2.1 k0_t109
theorem k0_off289_inb : ∀ (v1161 : BitVec 32) (v1163 : BitVec 32) (k0_hw58 : k0_chk58 v1161 v1163) (k0_t109 : Fin (k0_t109_loop v1161 v1163).trips), ∀ a, (k0_off289 v1161 v1163 k0_t109) a + S1x2.size a ≤ S584x2.size a := fun v1161 v1163 k0_hw58 k0_t109 => k0_hw58.2.2.1 k0_t109
theorem k0_t110_ok : ∀ (v1161 : BitVec 32) (v1163 : BitVec 32) (k0_hw58 : k0_chk58 v1161 v1163), (k0_t110_loop v1161 v1163).OK := fun v1161 v1163 k0_hw58 => k0_hw58.2.2.2.1
theorem k0_off291_inb : ∀ (v1161 : BitVec 32) (v1163 : BitVec 32) (k0_hw58 : k0_chk58 v1161 v1163) (k0_t110 : Fin (k0_t110_loop v1161 v1163).trips), ∀ a, (k0_off291 v1161 v1163 k0_t110) a + S2x128.size a ≤ S384x128.size a := fun v1161 v1163 k0_hw58 k0_t110 => k0_hw58.2.2.2.2.1 k0_t110
theorem k0_off292_inb : ∀ (v1161 : BitVec 32) (v1163 : BitVec 32) (k0_hw58 : k0_chk58 v1161 v1163) (k0_t110 : Fin (k0_t110_loop v1161 v1163).trips), ∀ a, (k0_off292 v1161 v1163 k0_t110) a + S1x2.size a ≤ S584x2.size a := fun v1161 v1163 k0_hw58 k0_t110 => k0_hw58.2.2.2.2.2 k0_t110

def k0_off293 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_557 : BitVec 32 := 16#32
  let v1182 : BitVec 32 := Scalar.muli arg21 c16_i32_557
  let c14_i32 : BitVec 32 := 14#32
  let v1183 : BitVec 32 := Scalar.addi v1182 c14_i32
  let c128_i32_558 : BitVec 32 := 128#32
  let v1184 : BitVec 32 := Scalar.muli v1183 c128_i32_558
  ![0, v1184.toNat]
@[reducible] def k0_t111_loop (v1233 : BitVec 32) (v1235 : BitVec 32) : Scf.Loop 32 :=
  let c1_i32_580 : BitVec 32 := 1#32
  let v1236 : BitVec 32 := Scalar.addi v1233 c1_i32_580
  let c0_i32_582 : BitVec 32 := 0#32
  let v1238 : BitVec 1 := Scalar.cmpi .sgt v1236 c0_i32_582
  let v1239 : BitVec 32 := Scalar.extui v1238
  let c0_i32_583 : BitVec 32 := 0#32
  let v1240 : BitVec 1 := Scalar.cmpi .slt v1236 c0_i32_583
  let v1241 : BitVec 32 := Scalar.extui v1240
  let v1242 : BitVec 32 := Scalar.subi v1239 v1241
  let c2_i32_581 : BitVec 32 := 2#32
  let c0_i32_584 : BitVec 32 := 0#32
  let v1243 : BitVec 1 := Scalar.cmpi .sgt c2_i32_581 c0_i32_584
  let v1244 : BitVec 32 := Scalar.extui v1243
  let c0_i32_585 : BitVec 32 := 0#32
  let v1245 : BitVec 1 := Scalar.cmpi .slt c2_i32_581 c0_i32_585
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_581
  let c0_i32_586 : BitVec 32 := 0#32
  let v1250 : BitVec 1 := Scalar.cmpi .ne v1249 c0_i32_586
  let v1251 : BitVec 1 := Scalar.andi v1248 v1250
  let v1237 : BitVec 32 := Scalar.divsi v1236 c2_i32_581
  let c1_i32_587 : BitVec 32 := 1#32
  let v1252 : BitVec 32 := Scalar.subi v1237 c1_i32_587
  let v1253 : BitVec 32 := Scalar.select v1251 v1252 v1237
  let c0_i32_598 : BitVec 32 := 0#32
  let c768_i32_590 : BitVec 32 := 768#32
  let v1257 : BitVec 32 := Scalar.subi c768_i32_590 v1235
  let c0_i32_592 : BitVec 32 := 0#32
  let v1259 : BitVec 1 := Scalar.cmpi .sgt v1257 c0_i32_592
  let v1260 : BitVec 32 := Scalar.extui v1259
  let c0_i32_593 : BitVec 32 := 0#32
  let v1261 : BitVec 1 := Scalar.cmpi .slt v1257 c0_i32_593
  let v1262 : BitVec 32 := Scalar.extui v1261
  let v1263 : BitVec 32 := Scalar.subi v1260 v1262
  let c2_i32_591 : BitVec 32 := 2#32
  let c0_i32_594 : BitVec 32 := 0#32
  let v1264 : BitVec 1 := Scalar.cmpi .sgt c2_i32_591 c0_i32_594
  let v1265 : BitVec 32 := Scalar.extui v1264
  let c0_i32_595 : BitVec 32 := 0#32
  let v1266 : BitVec 1 := Scalar.cmpi .slt c2_i32_591 c0_i32_595
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_591
  let c0_i32_596 : BitVec 32 := 0#32
  let v1271 : BitVec 1 := Scalar.cmpi .ne v1270 c0_i32_596
  let v1272 : BitVec 1 := Scalar.andi v1269 v1271
  let v1258 : BitVec 32 := Scalar.divsi v1257 c2_i32_591
  let c1_i32_597 : BitVec 32 := 1#32
  let v1273 : BitVec 32 := Scalar.subi v1258 c1_i32_597
  let v1274 : BitVec 32 := Scalar.select v1272 v1273 v1258
  let v1275 : BitVec 32 := Scalar.maxsi c0_i32_598 v1274
  let v1276 : BitVec 32 := Scalar.minsi v1253 v1275
  let c0_i32_607 : BitVec 32 := 0#32
  let c1152_i32_599 : BitVec 32 := 1152#32
  let v1277 : BitVec 32 := Scalar.subi c1152_i32_599 v1235
  let c0_i32_601 : BitVec 32 := 0#32
  let v1279 : BitVec 1 := Scalar.cmpi .sgt v1277 c0_i32_601
  let v1280 : BitVec 32 := Scalar.extui v1279
  let c0_i32_602 : BitVec 32 := 0#32
  let v1281 : BitVec 1 := Scalar.cmpi .slt v1277 c0_i32_602
  let v1282 : BitVec 32 := Scalar.extui v1281
  let v1283 : BitVec 32 := Scalar.subi v1280 v1282
  let c2_i32_600 : BitVec 32 := 2#32
  let c0_i32_603 : BitVec 32 := 0#32
  let v1284 : BitVec 1 := Scalar.cmpi .sgt c2_i32_600 c0_i32_603
  let v1285 : BitVec 32 := Scalar.extui v1284
  let c0_i32_604 : BitVec 32 := 0#32
  let v1286 : BitVec 1 := Scalar.cmpi .slt c2_i32_600 c0_i32_604
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_600
  let c0_i32_605 : BitVec 32 := 0#32
  let v1291 : BitVec 1 := Scalar.cmpi .ne v1290 c0_i32_605
  let v1292 : BitVec 1 := Scalar.andi v1289 v1291
  let v1278 : BitVec 32 := Scalar.divsi v1277 c2_i32_600
  let c1_i32_606 : BitVec 32 := 1#32
  let v1293 : BitVec 32 := Scalar.subi v1278 c1_i32_606
  let v1294 : BitVec 32 := Scalar.select v1292 v1293 v1278
  let v1295 : BitVec 32 := Scalar.maxsi c0_i32_607 v1294
  let v1296 : BitVec 32 := Scalar.minsi v1253 v1295
  let v1297 : BitVec 32 := Scalar.subi v1296 v1276
  let c1_i32_608 : BitVec 32 := 1#32
  let v1299 : BitVec 32 := Scalar.divsi v1297 c1_i32_608
  let v1300 : BitVec 32 := Scalar.muli v1299 c1_i32_608
  let v1301 : BitVec 32 := Scalar.addi v1276 v1300
  let c1_i32_609 : BitVec 32 := 1#32
  ⟨v1276, v1301, c1_i32_609⟩

def k0_off294 (v1233 : BitVec 32) (v1235 : BitVec 32) (k0_t111 : Fin (k0_t111_loop v1233 v1235).trips) : Fin 2 → Nat :=
  let c1_i32_580 : BitVec 32 := 1#32
  let v1236 : BitVec 32 := Scalar.addi v1233 c1_i32_580
  let c0_i32_582 : BitVec 32 := 0#32
  let v1238 : BitVec 1 := Scalar.cmpi .sgt v1236 c0_i32_582
  let v1239 : BitVec 32 := Scalar.extui v1238
  let c0_i32_583 : BitVec 32 := 0#32
  let v1240 : BitVec 1 := Scalar.cmpi .slt v1236 c0_i32_583
  let v1241 : BitVec 32 := Scalar.extui v1240
  let v1242 : BitVec 32 := Scalar.subi v1239 v1241
  let c2_i32_581 : BitVec 32 := 2#32
  let c0_i32_584 : BitVec 32 := 0#32
  let v1243 : BitVec 1 := Scalar.cmpi .sgt c2_i32_581 c0_i32_584
  let v1244 : BitVec 32 := Scalar.extui v1243
  let c0_i32_585 : BitVec 32 := 0#32
  let v1245 : BitVec 1 := Scalar.cmpi .slt c2_i32_581 c0_i32_585
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_581
  let c0_i32_586 : BitVec 32 := 0#32
  let v1250 : BitVec 1 := Scalar.cmpi .ne v1249 c0_i32_586
  let v1251 : BitVec 1 := Scalar.andi v1248 v1250
  let v1237 : BitVec 32 := Scalar.divsi v1236 c2_i32_581
  let c1_i32_587 : BitVec 32 := 1#32
  let v1252 : BitVec 32 := Scalar.subi v1237 c1_i32_587
  let v1253 : BitVec 32 := Scalar.select v1251 v1252 v1237
  let c0_i32_598 : BitVec 32 := 0#32
  let c768_i32_590 : BitVec 32 := 768#32
  let v1257 : BitVec 32 := Scalar.subi c768_i32_590 v1235
  let c0_i32_592 : BitVec 32 := 0#32
  let v1259 : BitVec 1 := Scalar.cmpi .sgt v1257 c0_i32_592
  let v1260 : BitVec 32 := Scalar.extui v1259
  let c0_i32_593 : BitVec 32 := 0#32
  let v1261 : BitVec 1 := Scalar.cmpi .slt v1257 c0_i32_593
  let v1262 : BitVec 32 := Scalar.extui v1261
  let v1263 : BitVec 32 := Scalar.subi v1260 v1262
  let c2_i32_591 : BitVec 32 := 2#32
  let c0_i32_594 : BitVec 32 := 0#32
  let v1264 : BitVec 1 := Scalar.cmpi .sgt c2_i32_591 c0_i32_594
  let v1265 : BitVec 32 := Scalar.extui v1264
  let c0_i32_595 : BitVec 32 := 0#32
  let v1266 : BitVec 1 := Scalar.cmpi .slt c2_i32_591 c0_i32_595
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_591
  let c0_i32_596 : BitVec 32 := 0#32
  let v1271 : BitVec 1 := Scalar.cmpi .ne v1270 c0_i32_596
  let v1272 : BitVec 1 := Scalar.andi v1269 v1271
  let v1258 : BitVec 32 := Scalar.divsi v1257 c2_i32_591
  let c1_i32_597 : BitVec 32 := 1#32
  let v1273 : BitVec 32 := Scalar.subi v1258 c1_i32_597
  let v1274 : BitVec 32 := Scalar.select v1272 v1273 v1258
  let v1275 : BitVec 32 := Scalar.maxsi c0_i32_598 v1274
  let v1276 : BitVec 32 := Scalar.minsi v1253 v1275
  let c1_i32_609 : BitVec 32 := 1#32
  let arg23 : BitVec 32 := Scf.iv v1276 c1_i32_609 k0_t111
  let c2_i32_612 : BitVec 32 := 2#32
  let v1306 : BitVec 32 := Scalar.muli arg23 c2_i32_612
  let v1307 : BitVec 32 := Scalar.addi v1235 v1306
  let c768_i32_613 : BitVec 32 := 768#32
  let v1308 : BitVec 32 := Scalar.subi v1307 c768_i32_613
  let c0_i32_614 : BitVec 32 := 0#32
  ![v1308.toNat, 0]
def k0_off295 (v1233 : BitVec 32) (v1235 : BitVec 32) (k0_t111 : Fin (k0_t111_loop v1233 v1235).trips) : Fin 2 → Nat :=
  let c1_i32_611 : BitVec 32 := 1#32
  let v1304 : BitVec 32 := Scalar.shrsi v1235 c1_i32_611
  let c1_i32_580 : BitVec 32 := 1#32
  let v1236 : BitVec 32 := Scalar.addi v1233 c1_i32_580
  let c0_i32_582 : BitVec 32 := 0#32
  let v1238 : BitVec 1 := Scalar.cmpi .sgt v1236 c0_i32_582
  let v1239 : BitVec 32 := Scalar.extui v1238
  let c0_i32_583 : BitVec 32 := 0#32
  let v1240 : BitVec 1 := Scalar.cmpi .slt v1236 c0_i32_583
  let v1241 : BitVec 32 := Scalar.extui v1240
  let v1242 : BitVec 32 := Scalar.subi v1239 v1241
  let c2_i32_581 : BitVec 32 := 2#32
  let c0_i32_584 : BitVec 32 := 0#32
  let v1243 : BitVec 1 := Scalar.cmpi .sgt c2_i32_581 c0_i32_584
  let v1244 : BitVec 32 := Scalar.extui v1243
  let c0_i32_585 : BitVec 32 := 0#32
  let v1245 : BitVec 1 := Scalar.cmpi .slt c2_i32_581 c0_i32_585
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_581
  let c0_i32_586 : BitVec 32 := 0#32
  let v1250 : BitVec 1 := Scalar.cmpi .ne v1249 c0_i32_586
  let v1251 : BitVec 1 := Scalar.andi v1248 v1250
  let v1237 : BitVec 32 := Scalar.divsi v1236 c2_i32_581
  let c1_i32_587 : BitVec 32 := 1#32
  let v1252 : BitVec 32 := Scalar.subi v1237 c1_i32_587
  let v1253 : BitVec 32 := Scalar.select v1251 v1252 v1237
  let c0_i32_598 : BitVec 32 := 0#32
  let c768_i32_590 : BitVec 32 := 768#32
  let v1257 : BitVec 32 := Scalar.subi c768_i32_590 v1235
  let c0_i32_592 : BitVec 32 := 0#32
  let v1259 : BitVec 1 := Scalar.cmpi .sgt v1257 c0_i32_592
  let v1260 : BitVec 32 := Scalar.extui v1259
  let c0_i32_593 : BitVec 32 := 0#32
  let v1261 : BitVec 1 := Scalar.cmpi .slt v1257 c0_i32_593
  let v1262 : BitVec 32 := Scalar.extui v1261
  let v1263 : BitVec 32 := Scalar.subi v1260 v1262
  let c2_i32_591 : BitVec 32 := 2#32
  let c0_i32_594 : BitVec 32 := 0#32
  let v1264 : BitVec 1 := Scalar.cmpi .sgt c2_i32_591 c0_i32_594
  let v1265 : BitVec 32 := Scalar.extui v1264
  let c0_i32_595 : BitVec 32 := 0#32
  let v1266 : BitVec 1 := Scalar.cmpi .slt c2_i32_591 c0_i32_595
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_591
  let c0_i32_596 : BitVec 32 := 0#32
  let v1271 : BitVec 1 := Scalar.cmpi .ne v1270 c0_i32_596
  let v1272 : BitVec 1 := Scalar.andi v1269 v1271
  let v1258 : BitVec 32 := Scalar.divsi v1257 c2_i32_591
  let c1_i32_597 : BitVec 32 := 1#32
  let v1273 : BitVec 32 := Scalar.subi v1258 c1_i32_597
  let v1274 : BitVec 32 := Scalar.select v1272 v1273 v1258
  let v1275 : BitVec 32 := Scalar.maxsi c0_i32_598 v1274
  let v1276 : BitVec 32 := Scalar.minsi v1253 v1275
  let c1_i32_609 : BitVec 32 := 1#32
  let arg23 : BitVec 32 := Scf.iv v1276 c1_i32_609 k0_t111
  let v1305 : BitVec 32 := Scalar.addi v1304 arg23
  let c0_i32_615 : BitVec 32 := 0#32
  ![v1305.toNat, 0]
def k0_off296 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_588 : BitVec 32 := 16#32
  let v1254 : BitVec 32 := Scalar.muli arg21 c16_i32_588
  let c15_i32 : BitVec 32 := 15#32
  let v1255 : BitVec 32 := Scalar.addi v1254 c15_i32
  let c128_i32_589 : BitVec 32 := 128#32
  let v1256 : BitVec 32 := Scalar.muli v1255 c128_i32_589
  ![0, v1256.toNat]
@[reducible] def k0_t112_loop (v1233 : BitVec 32) (v1235 : BitVec 32) : Scf.Loop 32 :=
  let c1_i32_580 : BitVec 32 := 1#32
  let v1236 : BitVec 32 := Scalar.addi v1233 c1_i32_580
  let c0_i32_582 : BitVec 32 := 0#32
  let v1238 : BitVec 1 := Scalar.cmpi .sgt v1236 c0_i32_582
  let v1239 : BitVec 32 := Scalar.extui v1238
  let c0_i32_583 : BitVec 32 := 0#32
  let v1240 : BitVec 1 := Scalar.cmpi .slt v1236 c0_i32_583
  let v1241 : BitVec 32 := Scalar.extui v1240
  let v1242 : BitVec 32 := Scalar.subi v1239 v1241
  let c2_i32_581 : BitVec 32 := 2#32
  let c0_i32_584 : BitVec 32 := 0#32
  let v1243 : BitVec 1 := Scalar.cmpi .sgt c2_i32_581 c0_i32_584
  let v1244 : BitVec 32 := Scalar.extui v1243
  let c0_i32_585 : BitVec 32 := 0#32
  let v1245 : BitVec 1 := Scalar.cmpi .slt c2_i32_581 c0_i32_585
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_581
  let c0_i32_586 : BitVec 32 := 0#32
  let v1250 : BitVec 1 := Scalar.cmpi .ne v1249 c0_i32_586
  let v1251 : BitVec 1 := Scalar.andi v1248 v1250
  let v1237 : BitVec 32 := Scalar.divsi v1236 c2_i32_581
  let c1_i32_587 : BitVec 32 := 1#32
  let v1252 : BitVec 32 := Scalar.subi v1237 c1_i32_587
  let v1253 : BitVec 32 := Scalar.select v1251 v1252 v1237
  let c0_i32_598 : BitVec 32 := 0#32
  let c768_i32_590 : BitVec 32 := 768#32
  let v1257 : BitVec 32 := Scalar.subi c768_i32_590 v1235
  let c0_i32_592 : BitVec 32 := 0#32
  let v1259 : BitVec 1 := Scalar.cmpi .sgt v1257 c0_i32_592
  let v1260 : BitVec 32 := Scalar.extui v1259
  let c0_i32_593 : BitVec 32 := 0#32
  let v1261 : BitVec 1 := Scalar.cmpi .slt v1257 c0_i32_593
  let v1262 : BitVec 32 := Scalar.extui v1261
  let v1263 : BitVec 32 := Scalar.subi v1260 v1262
  let c2_i32_591 : BitVec 32 := 2#32
  let c0_i32_594 : BitVec 32 := 0#32
  let v1264 : BitVec 1 := Scalar.cmpi .sgt c2_i32_591 c0_i32_594
  let v1265 : BitVec 32 := Scalar.extui v1264
  let c0_i32_595 : BitVec 32 := 0#32
  let v1266 : BitVec 1 := Scalar.cmpi .slt c2_i32_591 c0_i32_595
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_591
  let c0_i32_596 : BitVec 32 := 0#32
  let v1271 : BitVec 1 := Scalar.cmpi .ne v1270 c0_i32_596
  let v1272 : BitVec 1 := Scalar.andi v1269 v1271
  let v1258 : BitVec 32 := Scalar.divsi v1257 c2_i32_591
  let c1_i32_597 : BitVec 32 := 1#32
  let v1273 : BitVec 32 := Scalar.subi v1258 c1_i32_597
  let v1274 : BitVec 32 := Scalar.select v1272 v1273 v1258
  let v1275 : BitVec 32 := Scalar.maxsi c0_i32_598 v1274
  let v1276 : BitVec 32 := Scalar.minsi v1253 v1275
  let c0_i32_607 : BitVec 32 := 0#32
  let c1152_i32_599 : BitVec 32 := 1152#32
  let v1277 : BitVec 32 := Scalar.subi c1152_i32_599 v1235
  let c0_i32_601 : BitVec 32 := 0#32
  let v1279 : BitVec 1 := Scalar.cmpi .sgt v1277 c0_i32_601
  let v1280 : BitVec 32 := Scalar.extui v1279
  let c0_i32_602 : BitVec 32 := 0#32
  let v1281 : BitVec 1 := Scalar.cmpi .slt v1277 c0_i32_602
  let v1282 : BitVec 32 := Scalar.extui v1281
  let v1283 : BitVec 32 := Scalar.subi v1280 v1282
  let c2_i32_600 : BitVec 32 := 2#32
  let c0_i32_603 : BitVec 32 := 0#32
  let v1284 : BitVec 1 := Scalar.cmpi .sgt c2_i32_600 c0_i32_603
  let v1285 : BitVec 32 := Scalar.extui v1284
  let c0_i32_604 : BitVec 32 := 0#32
  let v1286 : BitVec 1 := Scalar.cmpi .slt c2_i32_600 c0_i32_604
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_600
  let c0_i32_605 : BitVec 32 := 0#32
  let v1291 : BitVec 1 := Scalar.cmpi .ne v1290 c0_i32_605
  let v1292 : BitVec 1 := Scalar.andi v1289 v1291
  let v1278 : BitVec 32 := Scalar.divsi v1277 c2_i32_600
  let c1_i32_606 : BitVec 32 := 1#32
  let v1293 : BitVec 32 := Scalar.subi v1278 c1_i32_606
  let v1294 : BitVec 32 := Scalar.select v1292 v1293 v1278
  let v1295 : BitVec 32 := Scalar.maxsi c0_i32_607 v1294
  let v1296 : BitVec 32 := Scalar.minsi v1253 v1295
  let v1297 : BitVec 32 := Scalar.subi v1296 v1276
  let c1_i32_608 : BitVec 32 := 1#32
  let v1299 : BitVec 32 := Scalar.divsi v1297 c1_i32_608
  let v1300 : BitVec 32 := Scalar.muli v1299 c1_i32_608
  let v1301 : BitVec 32 := Scalar.addi v1276 v1300
  let v1298 : BitVec 32 := Scalar.addi v1276 v1297
  let c1_i32_610 : BitVec 32 := 1#32
  ⟨v1301, v1298, c1_i32_610⟩
def k0_off297 (v1233 : BitVec 32) (v1235 : BitVec 32) (k0_t112 : Fin (k0_t112_loop v1233 v1235).trips) : Fin 2 → Nat :=
  let c1_i32_580 : BitVec 32 := 1#32
  let v1236 : BitVec 32 := Scalar.addi v1233 c1_i32_580
  let c0_i32_582 : BitVec 32 := 0#32
  let v1238 : BitVec 1 := Scalar.cmpi .sgt v1236 c0_i32_582
  let v1239 : BitVec 32 := Scalar.extui v1238
  let c0_i32_583 : BitVec 32 := 0#32
  let v1240 : BitVec 1 := Scalar.cmpi .slt v1236 c0_i32_583
  let v1241 : BitVec 32 := Scalar.extui v1240
  let v1242 : BitVec 32 := Scalar.subi v1239 v1241
  let c2_i32_581 : BitVec 32 := 2#32
  let c0_i32_584 : BitVec 32 := 0#32
  let v1243 : BitVec 1 := Scalar.cmpi .sgt c2_i32_581 c0_i32_584
  let v1244 : BitVec 32 := Scalar.extui v1243
  let c0_i32_585 : BitVec 32 := 0#32
  let v1245 : BitVec 1 := Scalar.cmpi .slt c2_i32_581 c0_i32_585
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_581
  let c0_i32_586 : BitVec 32 := 0#32
  let v1250 : BitVec 1 := Scalar.cmpi .ne v1249 c0_i32_586
  let v1251 : BitVec 1 := Scalar.andi v1248 v1250
  let v1237 : BitVec 32 := Scalar.divsi v1236 c2_i32_581
  let c1_i32_587 : BitVec 32 := 1#32
  let v1252 : BitVec 32 := Scalar.subi v1237 c1_i32_587
  let v1253 : BitVec 32 := Scalar.select v1251 v1252 v1237
  let c0_i32_598 : BitVec 32 := 0#32
  let c768_i32_590 : BitVec 32 := 768#32
  let v1257 : BitVec 32 := Scalar.subi c768_i32_590 v1235
  let c0_i32_592 : BitVec 32 := 0#32
  let v1259 : BitVec 1 := Scalar.cmpi .sgt v1257 c0_i32_592
  let v1260 : BitVec 32 := Scalar.extui v1259
  let c0_i32_593 : BitVec 32 := 0#32
  let v1261 : BitVec 1 := Scalar.cmpi .slt v1257 c0_i32_593
  let v1262 : BitVec 32 := Scalar.extui v1261
  let v1263 : BitVec 32 := Scalar.subi v1260 v1262
  let c2_i32_591 : BitVec 32 := 2#32
  let c0_i32_594 : BitVec 32 := 0#32
  let v1264 : BitVec 1 := Scalar.cmpi .sgt c2_i32_591 c0_i32_594
  let v1265 : BitVec 32 := Scalar.extui v1264
  let c0_i32_595 : BitVec 32 := 0#32
  let v1266 : BitVec 1 := Scalar.cmpi .slt c2_i32_591 c0_i32_595
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_591
  let c0_i32_596 : BitVec 32 := 0#32
  let v1271 : BitVec 1 := Scalar.cmpi .ne v1270 c0_i32_596
  let v1272 : BitVec 1 := Scalar.andi v1269 v1271
  let v1258 : BitVec 32 := Scalar.divsi v1257 c2_i32_591
  let c1_i32_597 : BitVec 32 := 1#32
  let v1273 : BitVec 32 := Scalar.subi v1258 c1_i32_597
  let v1274 : BitVec 32 := Scalar.select v1272 v1273 v1258
  let v1275 : BitVec 32 := Scalar.maxsi c0_i32_598 v1274
  let v1276 : BitVec 32 := Scalar.minsi v1253 v1275
  let c0_i32_607 : BitVec 32 := 0#32
  let c1152_i32_599 : BitVec 32 := 1152#32
  let v1277 : BitVec 32 := Scalar.subi c1152_i32_599 v1235
  let c0_i32_601 : BitVec 32 := 0#32
  let v1279 : BitVec 1 := Scalar.cmpi .sgt v1277 c0_i32_601
  let v1280 : BitVec 32 := Scalar.extui v1279
  let c0_i32_602 : BitVec 32 := 0#32
  let v1281 : BitVec 1 := Scalar.cmpi .slt v1277 c0_i32_602
  let v1282 : BitVec 32 := Scalar.extui v1281
  let v1283 : BitVec 32 := Scalar.subi v1280 v1282
  let c2_i32_600 : BitVec 32 := 2#32
  let c0_i32_603 : BitVec 32 := 0#32
  let v1284 : BitVec 1 := Scalar.cmpi .sgt c2_i32_600 c0_i32_603
  let v1285 : BitVec 32 := Scalar.extui v1284
  let c0_i32_604 : BitVec 32 := 0#32
  let v1286 : BitVec 1 := Scalar.cmpi .slt c2_i32_600 c0_i32_604
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_600
  let c0_i32_605 : BitVec 32 := 0#32
  let v1291 : BitVec 1 := Scalar.cmpi .ne v1290 c0_i32_605
  let v1292 : BitVec 1 := Scalar.andi v1289 v1291
  let v1278 : BitVec 32 := Scalar.divsi v1277 c2_i32_600
  let c1_i32_606 : BitVec 32 := 1#32
  let v1293 : BitVec 32 := Scalar.subi v1278 c1_i32_606
  let v1294 : BitVec 32 := Scalar.select v1292 v1293 v1278
  let v1295 : BitVec 32 := Scalar.maxsi c0_i32_607 v1294
  let v1296 : BitVec 32 := Scalar.minsi v1253 v1295
  let v1297 : BitVec 32 := Scalar.subi v1296 v1276
  let c1_i32_608 : BitVec 32 := 1#32
  let v1299 : BitVec 32 := Scalar.divsi v1297 c1_i32_608
  let v1300 : BitVec 32 := Scalar.muli v1299 c1_i32_608
  let v1301 : BitVec 32 := Scalar.addi v1276 v1300
  let c1_i32_610 : BitVec 32 := 1#32
  let arg23 : BitVec 32 := Scf.iv v1301 c1_i32_610 k0_t112
  let c2_i32_612 : BitVec 32 := 2#32
  let v1306 : BitVec 32 := Scalar.muli arg23 c2_i32_612
  let v1307 : BitVec 32 := Scalar.addi v1235 v1306
  let c768_i32_613 : BitVec 32 := 768#32
  let v1308 : BitVec 32 := Scalar.subi v1307 c768_i32_613
  let c0_i32_614 : BitVec 32 := 0#32
  ![v1308.toNat, 0]
def k0_off298 (v1233 : BitVec 32) (v1235 : BitVec 32) (k0_t112 : Fin (k0_t112_loop v1233 v1235).trips) : Fin 2 → Nat :=
  let c1_i32_611 : BitVec 32 := 1#32
  let v1304 : BitVec 32 := Scalar.shrsi v1235 c1_i32_611
  let c1_i32_580 : BitVec 32 := 1#32
  let v1236 : BitVec 32 := Scalar.addi v1233 c1_i32_580
  let c0_i32_582 : BitVec 32 := 0#32
  let v1238 : BitVec 1 := Scalar.cmpi .sgt v1236 c0_i32_582
  let v1239 : BitVec 32 := Scalar.extui v1238
  let c0_i32_583 : BitVec 32 := 0#32
  let v1240 : BitVec 1 := Scalar.cmpi .slt v1236 c0_i32_583
  let v1241 : BitVec 32 := Scalar.extui v1240
  let v1242 : BitVec 32 := Scalar.subi v1239 v1241
  let c2_i32_581 : BitVec 32 := 2#32
  let c0_i32_584 : BitVec 32 := 0#32
  let v1243 : BitVec 1 := Scalar.cmpi .sgt c2_i32_581 c0_i32_584
  let v1244 : BitVec 32 := Scalar.extui v1243
  let c0_i32_585 : BitVec 32 := 0#32
  let v1245 : BitVec 1 := Scalar.cmpi .slt c2_i32_581 c0_i32_585
  let v1246 : BitVec 32 := Scalar.extui v1245
  let v1247 : BitVec 32 := Scalar.subi v1244 v1246
  let v1248 : BitVec 1 := Scalar.cmpi .ne v1242 v1247
  let v1249 : BitVec 32 := Scalar.remsi v1236 c2_i32_581
  let c0_i32_586 : BitVec 32 := 0#32
  let v1250 : BitVec 1 := Scalar.cmpi .ne v1249 c0_i32_586
  let v1251 : BitVec 1 := Scalar.andi v1248 v1250
  let v1237 : BitVec 32 := Scalar.divsi v1236 c2_i32_581
  let c1_i32_587 : BitVec 32 := 1#32
  let v1252 : BitVec 32 := Scalar.subi v1237 c1_i32_587
  let v1253 : BitVec 32 := Scalar.select v1251 v1252 v1237
  let c0_i32_598 : BitVec 32 := 0#32
  let c768_i32_590 : BitVec 32 := 768#32
  let v1257 : BitVec 32 := Scalar.subi c768_i32_590 v1235
  let c0_i32_592 : BitVec 32 := 0#32
  let v1259 : BitVec 1 := Scalar.cmpi .sgt v1257 c0_i32_592
  let v1260 : BitVec 32 := Scalar.extui v1259
  let c0_i32_593 : BitVec 32 := 0#32
  let v1261 : BitVec 1 := Scalar.cmpi .slt v1257 c0_i32_593
  let v1262 : BitVec 32 := Scalar.extui v1261
  let v1263 : BitVec 32 := Scalar.subi v1260 v1262
  let c2_i32_591 : BitVec 32 := 2#32
  let c0_i32_594 : BitVec 32 := 0#32
  let v1264 : BitVec 1 := Scalar.cmpi .sgt c2_i32_591 c0_i32_594
  let v1265 : BitVec 32 := Scalar.extui v1264
  let c0_i32_595 : BitVec 32 := 0#32
  let v1266 : BitVec 1 := Scalar.cmpi .slt c2_i32_591 c0_i32_595
  let v1267 : BitVec 32 := Scalar.extui v1266
  let v1268 : BitVec 32 := Scalar.subi v1265 v1267
  let v1269 : BitVec 1 := Scalar.cmpi .ne v1263 v1268
  let v1270 : BitVec 32 := Scalar.remsi v1257 c2_i32_591
  let c0_i32_596 : BitVec 32 := 0#32
  let v1271 : BitVec 1 := Scalar.cmpi .ne v1270 c0_i32_596
  let v1272 : BitVec 1 := Scalar.andi v1269 v1271
  let v1258 : BitVec 32 := Scalar.divsi v1257 c2_i32_591
  let c1_i32_597 : BitVec 32 := 1#32
  let v1273 : BitVec 32 := Scalar.subi v1258 c1_i32_597
  let v1274 : BitVec 32 := Scalar.select v1272 v1273 v1258
  let v1275 : BitVec 32 := Scalar.maxsi c0_i32_598 v1274
  let v1276 : BitVec 32 := Scalar.minsi v1253 v1275
  let c0_i32_607 : BitVec 32 := 0#32
  let c1152_i32_599 : BitVec 32 := 1152#32
  let v1277 : BitVec 32 := Scalar.subi c1152_i32_599 v1235
  let c0_i32_601 : BitVec 32 := 0#32
  let v1279 : BitVec 1 := Scalar.cmpi .sgt v1277 c0_i32_601
  let v1280 : BitVec 32 := Scalar.extui v1279
  let c0_i32_602 : BitVec 32 := 0#32
  let v1281 : BitVec 1 := Scalar.cmpi .slt v1277 c0_i32_602
  let v1282 : BitVec 32 := Scalar.extui v1281
  let v1283 : BitVec 32 := Scalar.subi v1280 v1282
  let c2_i32_600 : BitVec 32 := 2#32
  let c0_i32_603 : BitVec 32 := 0#32
  let v1284 : BitVec 1 := Scalar.cmpi .sgt c2_i32_600 c0_i32_603
  let v1285 : BitVec 32 := Scalar.extui v1284
  let c0_i32_604 : BitVec 32 := 0#32
  let v1286 : BitVec 1 := Scalar.cmpi .slt c2_i32_600 c0_i32_604
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_600
  let c0_i32_605 : BitVec 32 := 0#32
  let v1291 : BitVec 1 := Scalar.cmpi .ne v1290 c0_i32_605
  let v1292 : BitVec 1 := Scalar.andi v1289 v1291
  let v1278 : BitVec 32 := Scalar.divsi v1277 c2_i32_600
  let c1_i32_606 : BitVec 32 := 1#32
  let v1293 : BitVec 32 := Scalar.subi v1278 c1_i32_606
  let v1294 : BitVec 32 := Scalar.select v1292 v1293 v1278
  let v1295 : BitVec 32 := Scalar.maxsi c0_i32_607 v1294
  let v1296 : BitVec 32 := Scalar.minsi v1253 v1295
  let v1297 : BitVec 32 := Scalar.subi v1296 v1276
  let c1_i32_608 : BitVec 32 := 1#32
  let v1299 : BitVec 32 := Scalar.divsi v1297 c1_i32_608
  let v1300 : BitVec 32 := Scalar.muli v1299 c1_i32_608
  let v1301 : BitVec 32 := Scalar.addi v1276 v1300
  let c1_i32_610 : BitVec 32 := 1#32
  let arg23 : BitVec 32 := Scf.iv v1301 c1_i32_610 k0_t112
  let v1305 : BitVec 32 := Scalar.addi v1304 arg23
  let c0_i32_615 : BitVec 32 := 0#32
  ![v1305.toNat, 0]

def k0_chk59 (v1233 : BitVec 32) (v1235 : BitVec 32) : Prop :=
  ((k0_t111_loop v1233 v1235).OK) ∧
  (∀ k0_t111 : Fin (k0_t111_loop v1233 v1235).trips, ∀ a, (k0_off294 v1233 v1235 k0_t111) a + S2x128.size a ≤ S384x128.size a) ∧
  (∀ k0_t111 : Fin (k0_t111_loop v1233 v1235).trips, ∀ a, (k0_off295 v1233 v1235 k0_t111) a + S1x2.size a ≤ S584x2.size a) ∧
  ((k0_t112_loop v1233 v1235).OK) ∧
  (∀ k0_t112 : Fin (k0_t112_loop v1233 v1235).trips, ∀ a, (k0_off297 v1233 v1235 k0_t112) a + S2x128.size a ≤ S384x128.size a) ∧
  (∀ k0_t112 : Fin (k0_t112_loop v1233 v1235).trips, ∀ a, (k0_off298 v1233 v1235 k0_t112) a + S1x2.size a ≤ S584x2.size a)
theorem k0_t111_ok : ∀ (v1233 : BitVec 32) (v1235 : BitVec 32) (k0_hw59 : k0_chk59 v1233 v1235), (k0_t111_loop v1233 v1235).OK := fun v1233 v1235 k0_hw59 => k0_hw59.1
theorem k0_off294_inb : ∀ (v1233 : BitVec 32) (v1235 : BitVec 32) (k0_hw59 : k0_chk59 v1233 v1235) (k0_t111 : Fin (k0_t111_loop v1233 v1235).trips), ∀ a, (k0_off294 v1233 v1235 k0_t111) a + S2x128.size a ≤ S384x128.size a := fun v1233 v1235 k0_hw59 k0_t111 => k0_hw59.2.1 k0_t111
theorem k0_off295_inb : ∀ (v1233 : BitVec 32) (v1235 : BitVec 32) (k0_hw59 : k0_chk59 v1233 v1235) (k0_t111 : Fin (k0_t111_loop v1233 v1235).trips), ∀ a, (k0_off295 v1233 v1235 k0_t111) a + S1x2.size a ≤ S584x2.size a := fun v1233 v1235 k0_hw59 k0_t111 => k0_hw59.2.2.1 k0_t111
theorem k0_t112_ok : ∀ (v1233 : BitVec 32) (v1235 : BitVec 32) (k0_hw59 : k0_chk59 v1233 v1235), (k0_t112_loop v1233 v1235).OK := fun v1233 v1235 k0_hw59 => k0_hw59.2.2.2.1
theorem k0_off297_inb : ∀ (v1233 : BitVec 32) (v1235 : BitVec 32) (k0_hw59 : k0_chk59 v1233 v1235) (k0_t112 : Fin (k0_t112_loop v1233 v1235).trips), ∀ a, (k0_off297 v1233 v1235 k0_t112) a + S2x128.size a ≤ S384x128.size a := fun v1233 v1235 k0_hw59 k0_t112 => k0_hw59.2.2.2.2.1 k0_t112
theorem k0_off298_inb : ∀ (v1233 : BitVec 32) (v1235 : BitVec 32) (k0_hw59 : k0_chk59 v1233 v1235) (k0_t112 : Fin (k0_t112_loop v1233 v1235).trips), ∀ a, (k0_off298 v1233 v1235 k0_t112) a + S1x2.size a ≤ S584x2.size a := fun v1233 v1235 k0_hw59 k0_t112 => k0_hw59.2.2.2.2.2 k0_t112

def k0_off299 (k0_t80 : Fin k0_t80_loop.trips) : Fin 2 → Nat :=
  let c0_i32_616 : BitVec 32 := 0#32
  let c0_i32_88 : BitVec 32 := 0#32
  let c1_i32_90 : BitVec 32 := 1#32
  let arg21 : BitVec 32 := Scf.iv c0_i32_88 c1_i32_90 k0_t80
  let c16_i32_588 : BitVec 32 := 16#32
  let v1254 : BitVec 32 := Scalar.muli arg21 c16_i32_588
  let c15_i32 : BitVec 32 := 15#32
  let v1255 : BitVec 32 := Scalar.addi v1254 c15_i32
  let c128_i32_589 : BitVec 32 := 128#32
  let v1256 : BitVec 32 := Scalar.muli v1255 c128_i32_589
  ![0, v1256.toNat]
@[reducible] def k0_t113_loop (v129 : BitVec 32) : Scf.Loop 32 :=
  let c0_i32_94 : BitVec 32 := 0#32
  let c3_i32_92 : BitVec 32 := 3#32
  let v130 : BitVec 32 := Scalar.shrsi v129 c3_i32_92
  let v131 : BitVec 32 := Scalar.subi v130 c0_i32_94
  let c1_i32_95 : BitVec 32 := 1#32
  let v133 : BitVec 32 := Scalar.divsi v131 c1_i32_95
  let v134 : BitVec 32 := Scalar.muli v133 c1_i32_95
  let v135 : BitVec 32 := Scalar.addi c0_i32_94 v134
  let c1_i32_96 : BitVec 32 := 1#32
  ⟨c0_i32_94, v135, c1_i32_96⟩

@[reducible] def k0_t114_loop (v129 : BitVec 32) : Scf.Loop 32 :=
  let c0_i32_94 : BitVec 32 := 0#32
  let c3_i32_92 : BitVec 32 := 3#32
  let v130 : BitVec 32 := Scalar.shrsi v129 c3_i32_92
  let v131 : BitVec 32 := Scalar.subi v130 c0_i32_94
  let c1_i32_95 : BitVec 32 := 1#32
  let v133 : BitVec 32 := Scalar.divsi v131 c1_i32_95
  let v134 : BitVec 32 := Scalar.muli v133 c1_i32_95
  let v135 : BitVec 32 := Scalar.addi c0_i32_94 v134
  let v132 : BitVec 32 := Scalar.addi c0_i32_94 v131
  let c1_i32_97 : BitVec 32 := 1#32
  ⟨v135, v132, c1_i32_97⟩
@[reducible] def k0_t115_loop (v129 : BitVec 32) : Scf.Loop 32 :=
  let c0_i32_100 : BitVec 32 := 0#32
  let c7_i32_98 : BitVec 32 := 7#32
  let v136 : BitVec 32 := Scalar.andi v129 c7_i32_98
  let v137 : BitVec 32 := Scalar.subi v136 c0_i32_100
  let c1_i32_101 : BitVec 32 := 1#32
  let v139 : BitVec 32 := Scalar.divsi v137 c1_i32_101
  let v140 : BitVec 32 := Scalar.muli v139 c1_i32_101
  let v141 : BitVec 32 := Scalar.addi c0_i32_100 v140
  let c1_i32_102 : BitVec 32 := 1#32
  ⟨c0_i32_100, v141, c1_i32_102⟩
@[reducible] def k0_t116_loop (v129 : BitVec 32) : Scf.Loop 32 :=
  let c0_i32_100 : BitVec 32 := 0#32
  let c7_i32_98 : BitVec 32 := 7#32
  let v136 : BitVec 32 := Scalar.andi v129 c7_i32_98
  let v137 : BitVec 32 := Scalar.subi v136 c0_i32_100
  let c1_i32_101 : BitVec 32 := 1#32
  let v139 : BitVec 32 := Scalar.divsi v137 c1_i32_101
  let v140 : BitVec 32 := Scalar.muli v139 c1_i32_101
  let v141 : BitVec 32 := Scalar.addi c0_i32_100 v140
  let v138 : BitVec 32 := Scalar.addi c0_i32_100 v137
  let c1_i32_103 : BitVec 32 := 1#32
  ⟨v141, v138, c1_i32_103⟩

def k0_chk60 (v129 : BitVec 32) : Prop :=
  ((k0_t113_loop v129).OK) ∧
  ((k0_t114_loop v129).OK) ∧
  ((k0_t115_loop v129).OK) ∧
  ((k0_t116_loop v129).OK)
theorem k0_t113_ok : ∀ (v129 : BitVec 32) (k0_hw60 : k0_chk60 v129), (k0_t113_loop v129).OK := fun v129 k0_hw60 => k0_hw60.1
theorem k0_t114_ok : ∀ (v129 : BitVec 32) (k0_hw60 : k0_chk60 v129), (k0_t114_loop v129).OK := fun v129 k0_hw60 => k0_hw60.2.1
theorem k0_t115_ok : ∀ (v129 : BitVec 32) (k0_hw60 : k0_chk60 v129), (k0_t115_loop v129).OK := fun v129 k0_hw60 => k0_hw60.2.2.1
theorem k0_t116_ok : ∀ (v129 : BitVec 32) (k0_hw60 : k0_chk60 v129), (k0_t116_loop v129).OK := fun v129 k0_hw60 => k0_hw60.2.2.2

@[reducible] def k0_t117_loop : Scf.Loop 32 :=
  let c0_i32_105 : BitVec 32 := 0#32
  let c24_i32_106 : BitVec 32 := 24#32
  let v142 : BitVec 32 := Scalar.addi c0_i32_105 c24_i32_106
  let c1_i32_107 : BitVec 32 := 1#32
  ⟨c0_i32_105, v142, c1_i32_107⟩
def k0_off300 (k0_t117 : Fin k0_t117_loop.trips) : Fin 1 → Nat :=
  let c768_i32 : BitVec 32 := 768#32
  let c0_i32_105 : BitVec 32 := 0#32
  let c1_i32_107 : BitVec 32 := 1#32
  let arg21 : BitVec 32 := Scf.iv c0_i32_105 c1_i32_107 k0_t117
  let c16_i32 : BitVec 32 := 16#32
  let v146 : BitVec 32 := Scalar.muli arg21 c16_i32
  let v147 : BitVec 32 := Scalar.addi c768_i32 v146
  let v148 : Index := Scalar.indexCast v147
  ![v148.toNat]

def k0_chk61 (v159 : IVec S16 32) (v162 : IVec S16 32) : Prop :=
  (∀ a x, ((![v162, v159] : Fin 2 → IVec S16 32) a x).toNat < S384x128.size a)
theorem k0_idx12_inb : ∀ (v159 : IVec S16 32) (v162 : IVec S16 32) (k0_hw61 : k0_chk61 v159 v162), ∀ a x, ((![v162, v159] : Fin 2 → IVec S16 32) a x).toNat < S384x128.size a := fun v159 v162 k0_hw61 => k0_hw61

def k0_chk62 (v157 : IVec S16 32) : Prop :=
  (∀ a x, ((![v157] : Fin 1 → IVec S16 32) a x).toNat < S1024.size a)
theorem k0_idx13_inb : ∀ (v157 : IVec S16 32) (k0_hw62 : k0_chk62 v157), ∀ a x, ((![v157] : Fin 1 → IVec S16 32) a x).toNat < S1024.size a := fun v157 k0_hw62 => k0_hw62
def k0_off301 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  ![v18.toNat, v29.toNat]
abbrev grid1 : Pipeline.Grid := .none

abbrev stage1_0 : Fin 1 → Memref sig .tc .vmem S16x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x2048 : Shape := ⟨2, ![16, 2048]⟩
abbrev S8192 : Shape := ⟨1, ![8192]⟩
abbrev S8192x8192 : Shape := ⟨2, ![8192, 8192]⟩
abbrev S16x1 : Shape := ⟨2, ![16, 1]⟩
abbrev S16 : Shape := ⟨1, ![16]⟩
abbrev S_ : Shape := ⟨0, ![]⟩
abbrev S16x2047 : Shape := ⟨2, ![16, 2047]⟩
abbrev S16x2047x1 : Shape := ⟨3, ![16, 2047, 1]⟩
abbrev S16x2047x2 : Shape := ⟨3, ![16, 2047, 2]⟩

abbrev nBuf : Space → Nat
  | .hbm => 49
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S8192, .f32⟩
  | .hbm, ⟨2, _⟩ => ⟨S8192x8192, .f32⟩
  | .hbm, ⟨3, _⟩ => ⟨S16x1, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S16, .f32⟩
  | .hbm, ⟨14, _⟩ => ⟨S16, .f32⟩
  | .hbm, ⟨15, _⟩ => ⟨S16x2047, .i32⟩
  | .hbm, ⟨16, _⟩ => ⟨S16x2047, .i32⟩
  | .hbm, ⟨17, _⟩ => ⟨S_, .i32⟩
  | .hbm, ⟨18, _⟩ => ⟨S16x2047, .i32⟩
  | .hbm, ⟨19, _⟩ => ⟨S16x2047, .i1⟩
  | .hbm, ⟨20, _⟩ => ⟨S_, .i32⟩
  | .hbm, ⟨21, _⟩ => ⟨S16x2047, .i32⟩
  | .hbm, ⟨22, _⟩ => ⟨S16x2047, .i32⟩
  | .hbm, ⟨23, _⟩ => ⟨S16x2047, .i32⟩
  | .hbm, ⟨24, _⟩ => ⟨S_, .i32⟩
  | .hbm, ⟨25, _⟩ => ⟨S16x2047, .i32⟩
  | .hbm, ⟨26, _⟩ => ⟨S16x2047, .i1⟩
  | .hbm, ⟨27, _⟩ => ⟨S_, .i32⟩
  | .hbm, ⟨28, _⟩ => ⟨S16x2047, .i32⟩
  | .hbm, ⟨29, _⟩ => ⟨S16x2047, .i32⟩
  | .hbm, ⟨30, _⟩ => ⟨S16x2047, .i32⟩
  | .hbm, ⟨31, _⟩ => ⟨S16x2047x1, .i32⟩
  | .hbm, ⟨32, _⟩ => ⟨S16x2047x1, .i32⟩
  | .hbm, ⟨33, _⟩ => ⟨S16x2047x2, .i32⟩
  | .hbm, ⟨34, _⟩ => ⟨S16x2047, .f32⟩
  | .hbm, ⟨35, _⟩ => ⟨S16x2047, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Lane.lean ====
/-
  The firing loops of the three windows, written once. The kernel unrolls, in each of its three windows, a loop over
  groups of sixteen state blocks into sixteen LANES, each of which computes the range of pairs of slots its block has
  in the window and issues one gather per pair. The printed lanes differ in their names and in constants only; here is
  their common text, over the window's two bounds, and for each window the equation of the printed group with it.
-/
module

public import proofs.«01_k».proof.Proof.Gen.KernelIdeal.Skeleton
public import Idealize.ShloMosaic.Lib.LoopRemainder

@[expose] public section

set_option synthInstance.maxSize 4096

noncomputable section

namespace Cert.Proof.Lane

open Idealize.ShloMosaic Idealize.SL.Sem Cert.KernelIdeal Cert.KernelIdeal.Gen

/-- Half of a word, rounded down, as the kernel computes it. -/
def half (a : BitVec 32) : BitVec 32 :=
  Scalar.select (Scalar.andi
      (Scalar.cmpi .ne (Scalar.subi (Scalar.extui (Scalar.cmpi .sgt a 0#32)) (Scalar.extui (Scalar.cmpi .slt a 0#32)))
        (Scalar.subi (Scalar.extui (Scalar.cmpi .sgt 2#32 0#32)) (Scalar.extui (Scalar.cmpi .slt 2#32 0#32))))
      (Scalar.cmpi .ne (Scalar.remsi a 2#32) 0#32))
    (Scalar.subi (Scalar.divsi a 2#32) 1#32) (Scalar.divsi a 2#32)

/-- The number of pairs `c` entries fill. -/
def pairs (c : BitVec 32) : BitVec 32 := half (Scalar.addi c 1#32)

/-- Of a block of `c` entries from slot `st` on, the pairs before window bound `w`. -/
def upto (w c st : BitVec 32) : BitVec 32 := Scalar.minsi (pairs c) (Scalar.maxsi 0#32 (half (Scalar.subi w st)))

/-- The number of pairs of the block in the window. -/
def inWin (w₀ w₁ c st : BitVec 32) : BitVec 32 := Scalar.subi (upto w₁ c st) (upto w₀ c st)

/-- The end of the firing loop. -/
def lastOf (w₀ w₁ c st : BitVec 32) : BitVec 32 :=
  Scalar.addi (upto w₀ c st) (Scalar.muli (Scalar.divsi (inWin w₀ w₁ c st) 1#32) 1#32)

/-- The firing loop's bounds, -/
abbrev loopA (w₀ w₁ c st : BitVec 32) : Scf.Loop 32 := ⟨upto w₀ c st, lastOf w₀ w₁ c st, 1#32⟩

/-- and those of its remainder, which never runs. -/
abbrev loopB (w₀ w₁ c st : BitVec 32) : Scf.Loop 32 := ⟨lastOf w₀ w₁ c st, Scalar.addi (upto w₀ c st) (inWin w₀ w₁ c st), 1#32⟩

/-- Where pair `iv` of the block goes in the window's buffer, -/
def offDst (w₀ st iv : BitVec 32) : Fin 2 → ℕ := ![(Scalar.subi (Scalar.addi st (Scalar.muli iv 2#32)) w₀).toNat, 0]

/-- where its row numbers are, -/
def offRows (st iv : BitVec 32) : Fin 2 → ℕ := ![(Scalar.addi (Scalar.shrsi st 1#32) iv).toNat, 0]

/-- and which columns of the table lane `l` of group `k` reads. -/
def offCol (l : BitVec 32) (k : ℕ) : Fin 2 → ℕ :=
  ![0, (Scalar.muli (Scalar.addi (Scalar.muli (Scf.iv 0#32 1#32 k) 16#32) l) 128#32).toNat]

/-- The facts a lane owes. -/
def Chk (w₀ w₁ c st : BitVec 32) : Prop :=
  (loopA w₀ w₁ c st).OK ∧
  (∀ t : Fin (loopA w₀ w₁ c st).trips, ∀ a, offDst w₀ st (Scf.iv (upto w₀ c st) 1#32 t) a + S2x128.size a ≤ S384x128.size a) ∧
  (∀ t : Fin (loopA w₀ w₁ c st).trips, ∀ a, offRows st (Scf.iv (upto w₀ c st) 1#32 t) a + S1x2.size a ≤ S584x2.size a) ∧
  (loopB w₀ w₁ c st).OK ∧
  (∀ t : Fin (loopB w₀ w₁ c st).trips, ∀ a, offDst w₀ st (Scf.iv (lastOf w₀ w₁ c st) 1#32 t) a + S2x128.size a ≤ S384x128.size a) ∧
  (∀ t : Fin (loopB w₀ w₁ c st).trips, ∀ a, offRows st (Scf.iv (lastOf w₀ w₁ c st) 1#32 t) a + S1x2.size a ≤ S584x2.size a)

variable {F : FTy → Type} [FloatOps F]

section
variable {cr : Fin τ.nSC} {su : Fin τ.nSub}
variable (arg3 : Memref sig .scVector .hbm S8192x8192 .f32) (arg8 : Memref sig .scVector .vmem S584x2 .i32)
  (arg13 : Memref sig .scVector .vmem S384x128 .f32) (arg19 : DmaSems sig S_)

/-- One trip: the gather of one pair. -/
def fire (od or oc : Fin 2 → ℕ) (hd : ∀ a, od a + S2x128.size a ≤ S384x128.size a) (hr : ∀ a, or a + S1x2.size a ≤ S584x2.size a)
    (hc : ∀ a, oc a + S8192x128.size a ≤ S8192x8192.size a) (tot : BitVec 32) :
    Prog (TpuEff nD τ sig (Elt F) Λ₀ (.scVector cr su)) (BitVec 32) := do
  let v1309 : Memref sig .scVector .vmem S2x128 .f32 := arg13.slice (Rect.unit (s := S384x128) od S2x128.size hd) (fun _ => rfl)
  let v1310 : Memref sig .scVector .vmem S1x2 .i32 := arg8.slice (Rect.unit (s := S584x2) or S1x2.size hr) (fun _ => rfl)
  let v1311 : Memref sig .scVector .vmem S2 .i32 := v1310.squeeze S2 squeezes_S1x2_S2
  let v1312 : Memref sig .scVector .hbm S8192x128 .f32 := arg3.slice (Rect.unit (s := S8192x8192) oc S8192x128.size hc) (fun _ => rfl)
  SparseCore.enqueueIndirectGather rfl v1312 v1309 gathers_S8192x128_S2x128 v1311 rfl arg19.sem (View.wordExact_bits rfl) rfl (Or.inl rfl)
  pure (Scalar.addi tot 1#32)

/-- A lane: the facts assumed, the loop, its remainder. -/
def lane (w₀ w₁ c st : BitVec 32) (oc : Fin 2 → ℕ) (hc : ∀ a, oc a + S8192x128.size a ≤ S8192x8192.size a)
    (P : Prop) (dec : Decidable P) (hP : P → Chk w₀ w₁ c st) (tot : BitVec 32) :
    Prog (TpuEff nD τ sig (Elt F) Λ₀ (.scVector cr su)) (BitVec 32) := do
  let h : PLift P ← Prog.lift (TpuEff.assume P dec)
  let v ← Scf.Loop.for (loopA w₀ w₁ c st) (hP h.down).1 tot (fun t tot =>
    fire arg3 arg8 arg13 arg19 (offDst w₀ st (Scf.iv (upto w₀ c st) 1#32 t)) (offRows st (Scf.iv (upto w₀ c st) 1#32 t)) oc
      ((hP h.down).2.1 t) ((hP h.down).2.2.1 t) hc tot)
  Scf.Loop.for (loopB w₀ w₁ c st) (hP h.down).2.2.2.1 v (fun t tot =>
    fire arg3 arg8 arg13 arg19 (offDst w₀ st (Scf.iv (lastOf w₀ w₁ c st) 1#32 t)) (offRows st (Scf.iv (lastOf w₀ w₁ c st) 1#32 t)) oc
      ((hP h.down).2.2.2.2.1 t) ((hP h.down).2.2.2.2.2 t) hc tot)

/-- A lane and what follows it. -/
theorem lane_bind {β : Type} (w₀ w₁ c st : BitVec 32) (oc : Fin 2 → ℕ) (hc : ∀ a, oc a + S8192x128.size a ≤ S8192x8192.size a)
    (P : Prop) (dec : Decidable P) (hP : P → Chk w₀ w₁ c st) (tot : BitVec 32)
    (K : BitVec 32 → Prog (TpuEff nD τ sig (Elt F) Λ₀ (.scVector cr su)) β) :
    lane arg3 arg8 arg13 arg19 w₀ w₁ c st oc hc P dec hP tot >>= K
      = (Prog.lift (TpuEff.assume P dec) : Prog _ (PLift P)) >>= fun h =>
        Scf.Loop.for (loopA w₀ w₁ c st) (hP h.down).1 tot (fun t tot =>
          fire arg3 arg8 arg13 arg19 (offDst w₀ st (Scf.iv (upto w₀ c st) 1#32 t)) (offRows st (Scf.iv (upto w₀ c st) 1#32 t)) oc
            ((hP h.down).2.1 t) ((hP h.down).2.2.1 t) hc tot) >>= fun v =>
        Scf.Loop.for (loopB w₀ w₁ c st) (hP h.down).2.2.2.1 v (fun t tot =>
          fire arg3 arg8 arg13 arg19 (offDst w₀ st (Scf.iv (lastOf w₀ w₁ c st) 1#32 t)) (offRows st (Scf.iv (lastOf w₀ w₁ c st) 1#32 t)) oc
            ((hP h.down).2.2.2.2.1 t) ((hP h.down).2.2.2.2.2 t) hc tot) >>= K := by
  simp only [lane, bind_assoc]

/-- Programs agree if they begin alike and go on alike. -/
theorem step.{v} {E : Type → Type v} {α β : Type} {x y : Prog E α} {f g : α → Prog E β} (h : x = y) (hf : ∀ v, f v = g v) : x >>= f = y >>= g := by
  rw [h, funext hf]
end

end Cert.Proof.Lane

end
-- ==== Proof.Words.lean ====
/-
  The words of a lane as numbers: how many of a block's pairs lie before a window's bound, the bounds of the firing
  loop, and where a trip's pair and its row numbers are. From these numbers every fact a lane owes follows.
-/
module

public import proofs.«01_k».proof.Proof.Lane
public import Idealize.ShloMosaic.Lib.WordArith

@[expose] public section

noncomputable section

namespace Cert.Proof.Lane

open Idealize.ShloMosaic Idealize.SL.Sem Cert.KernelIdeal Cert.KernelIdeal.Gen

theorem half_small : ∀ n : Fin 2401, half (BitVec.ofInt 32 ((n.val : ℤ) - 1200)) = BitVec.ofInt 32 (((n.val : ℤ) - 1200) / 2) := by
  decide +kernel

/-- Half of a small word. -/
theorem half_ofInt {a : ℤ} (h₁ : -1200 ≤ a) (h₂ : a ≤ 1200) : half (BitVec.ofInt 32 a) = BitVec.ofInt 32 (a / 2) := by
  have h := half_small ⟨(a + 1200).toNat, by omega⟩
  rwa [show (((⟨(a + 1200).toNat, by omega⟩ : Fin 2401).val : ℤ) - 1200) = a by simp; omega] at h

theorem toInt_ofInt_small {a : ℤ} (h₁ : -2000000000 ≤ a) (h₂ : a ≤ 2000000000) : (BitVec.ofInt 32 a).toInt = a := by
  rw [BitVec.toInt_ofInt, Int.bmod_def]; omega

theorem maxsi_ofInt {a b : ℤ} (h₁ : -2000000000 ≤ a) (h₂ : a ≤ 2000000000) (h₃ : -2000000000 ≤ b) (h₄ : b ≤ 2000000000) :
    Scalar.maxsi (BitVec.ofInt 32 a) (BitVec.ofInt 32 b) = BitVec.ofInt 32 (max a b) := by
  simp only [Scalar.maxsi, IntOp.maxsi, BitVec.slt, toInt_ofInt_small h₁ h₂, toInt_ofInt_small h₃ h₄, decide_eq_true_eq]
  split <;> rename_i h
  · rw [max_eq_left (by omega)]
  · rw [max_eq_right (by omega)]

theorem minsi_ofInt {a b : ℤ} (h₁ : -2000000000 ≤ a) (h₂ : a ≤ 2000000000) (h₃ : -2000000000 ≤ b) (h₄ : b ≤ 2000000000) :
    Scalar.minsi (BitVec.ofInt 32 a) (BitVec.ofInt 32 b) = BitVec.ofInt 32 (min a b) := by
  simp only [Scalar.minsi, IntOp.minsi, BitVec.slt, toInt_ofInt_small h₁ h₂, toInt_ofInt_small h₃ h₄, decide_eq_true_eq]
  split <;> rename_i h
  · rw [min_eq_left (by omega)]
  · rw [min_eq_right (by omega)]

theorem ofNat_ofInt (n : ℕ) : BitVec.ofNat 32 n = BitVec.ofInt 32 (n : ℤ) := (BitVec.ofInt_natCast 32 n).symm

theorem addi_ofInt (a b : ℤ) : Scalar.addi (BitVec.ofInt 32 a) (BitVec.ofInt 32 b) = BitVec.ofInt 32 (a + b) := (BitVec.ofInt_add _ _).symm

theorem subi_ofInt (a b : ℤ) : Scalar.subi (BitVec.ofInt 32 a) (BitVec.ofInt 32 b) = BitVec.ofInt 32 (a - b) := by
  show BitVec.ofInt 32 a - BitVec.ofInt 32 b = _
  rw [BitVec.sub_eq_add_neg, ← BitVec.ofInt_neg, ← BitVec.ofInt_add, sub_eq_add_neg]

theorem muli_ofInt (a b : ℤ) : Scalar.muli (BitVec.ofInt 32 a) (BitVec.ofInt 32 b) = BitVec.ofInt 32 (a * b) := (BitVec.ofInt_mul _ _).symm

/-- The pairs before a bound, as a number: the pairs there are, cut off at the bound. -/
def before (W C S : ℕ) : ℕ := min ((C + 1) / 2) ((W - S) / 2)

section
variable {W W' C S : ℕ} (hC : C ≤ 1024) (hS : S ≤ 1152) (hW : W ≤ 1152) (hW' : W' ≤ 1152)

include hC hS hW in
theorem upto_eq : upto (BitVec.ofNat 32 W) (BitVec.ofNat 32 C) (BitVec.ofNat 32 S) = BitVec.ofNat 32 (before W C S) := by
  have e : BitVec.ofInt 32 1 = 1#32 := rfl
  have e0 : BitVec.ofInt 32 0 = 0#32 := rfl
  simp only [upto, pairs, ofNat_ofInt, ← e, ← e0]
  rw [addi_ofInt, subi_ofInt, half_ofInt (by omega) (by omega), half_ofInt (by omega) (by omega), maxsi_ofInt (by omega) (by omega) (by omega) (by omega),
    minsi_ofInt (by omega) (by omega) (by omega) (by omega)]
  congr 1
  simp only [before]
  omega

theorem before_le : before W C S ≤ (C + 1) / 2 := min_le_left _ _

theorem before_mono (h : W ≤ W') : before W C S ≤ before W' C S := by simp only [before]; omega

/-- The trips of the firing loop: the pairs in the window. -/
def trips (W W' C S : ℕ) : ℕ := before W' C S - before W C S

include hC hS hW hW' in
theorem inWin_eq (h : W ≤ W') : inWin (BitVec.ofNat 32 W) (BitVec.ofNat 32 W') (BitVec.ofNat 32 C) (BitVec.ofNat 32 S) = BitVec.ofNat 32 (trips W W' C S) := by
  rw [inWin, upto_eq hC hS hW, upto_eq hC hS hW', ofNat_ofInt, ofNat_ofInt, subi_ofInt, ofNat_ofInt]
  congr 1
  have := before_mono (C := C) (S := S) h
  simp only [trips]
  omega

include hC hS hW hW' in
theorem lastOf_eq (h : W ≤ W') : lastOf (BitVec.ofNat 32 W) (BitVec.ofNat 32 W') (BitVec.ofNat 32 C) (BitVec.ofNat 32 S) = BitVec.ofNat 32 (before W' C S) := by
  rw [lastOf, Scalar.muli_divsi_one, inWin_eq hC hS hW hW' h, upto_eq hC hS hW, ofNat_ofInt, ofNat_ofInt, addi_ofInt, ofNat_ofInt]
  congr 1
  have := before_mono (C := C) (S := S) h
  simp only [trips]
  omega

theorem upto_le : before W C S ≤ 1200 ∨ 1024 < C := by simp only [before]; omega

theorem toInt_ofNat' {n : ℕ} (h : n ≤ 2000000000) : (BitVec.ofNat 32 n).toInt = n := by
  rw [ofNat_ofInt, toInt_ofInt_small (by omega) (by omega)]

theorem toNat_ofInt {n : ℤ} (h : 0 ≤ n) (h' : n ≤ 2000000000) : (BitVec.ofInt 32 n).toNat = n.toNat := by
  rw [BitVec.toNat_ofInt]; omega

include hC hS hW hW' in
theorem loopA_trips (h : W ≤ W') :
    (loopA (BitVec.ofNat 32 W) (BitVec.ofNat 32 W') (BitVec.ofNat 32 C) (BitVec.ofNat 32 S)).trips = trips W W' C S := by
  have h₁ := before_mono (C := C) (S := S) h
  have h₂ := before_le (W := W') (C := C) (S := S)
  have e : (1#32 : BitVec 32).toInt = 1 := by decide
  simp only [Scf.trips, upto_eq hC hS hW, lastOf_eq hC hS hW hW' h, trips, e]
  rw [toInt_ofNat' (by omega), toInt_ofNat' (by omega)]
  omega

include hC hS hW hW' in
theorem loopA_ok (h : W ≤ W') : (loopA (BitVec.ofNat 32 W) (BitVec.ofNat 32 W') (BitVec.ofNat 32 C) (BitVec.ofNat 32 S)).OK := by
  have h₁ := before_mono (C := C) (S := S) h
  have h₂ := before_le (W := W') (C := C) (S := S)
  have e : (1#32 : BitVec 32).toInt = 1 := by decide
  refine ⟨by show (0 : ℤ) < (1#32 : BitVec 32).toInt; decide, ?_⟩
  show BitVec.toInt _ + ((loopA _ _ _ _).trips : ℤ) * BitVec.toInt 1#32 < _
  rw [loopA_trips hC hS hW hW' h]
  show BitVec.toInt (upto _ _ _) + _ < _
  rw [upto_eq hC hS hW, toInt_ofNat' (by omega), e]
  simp only [trips]
  omega

theorem loopB_trips (w₀ w₁ c st : BitVec 32) : (loopB w₀ w₁ c st).trips = 0 := Scf.rem_trips _ _

include hC hS hW hW' in
theorem loopB_ok (h : W ≤ W') : (loopB (BitVec.ofNat 32 W) (BitVec.ofNat 32 W') (BitVec.ofNat 32 C) (BitVec.ofNat 32 S)).OK := by
  have h₂ := before_le (W := W') (C := C) (S := S)
  refine ⟨by show (0 : ℤ) < (1#32 : BitVec 32).toInt; decide, ?_⟩
  show BitVec.toInt _ + ((loopB _ _ _ _).trips : ℤ) * BitVec.toInt 1#32 < _
  rw [loopB_trips]
  show BitVec.toInt (lastOf _ _ _ _) + _ < _
  rw [lastOf_eq hC hS hW hW' h, toInt_ofNat' (by omega)]
  omega

include hC hS hW in
theorem iv_eq (t : ℕ) : Scf.iv (upto (BitVec.ofNat 32 W) (BitVec.ofNat 32 C) (BitVec.ofNat 32 S)) 1#32 t = BitVec.ofNat 32 (before W C S + t) := by
  rw [upto_eq hC hS hW, Scf.iv]
  simp [BitVec.ofNat_add]

end

theorem noTrip {n : ℕ} (h : n = 0) (t : Fin n) : False := by have := t.isLt; omega

theorem shrsi_one : ∀ S : Fin 1153, Scalar.shrsi (BitVec.ofNat 32 S.val) 1#32 = BitVec.ofNat 32 (S.val / 2) := by decide +kernel

section
variable {b p C : ℕ} (hC : C ≤ 1024) (hp : p ≤ 576) (hb : b + 192 ≤ 576)

/-- The pairs of the block in the window that starts at pair `b`. -/
theorem trips_pairs : trips (2 * b) (2 * (b + 192)) C (2 * p) = min 192 (p + (C + 1) / 2 - b) - min 192 (p - b) := by
  simp only [trips, before]; omega

include hC hp hb in
/-- Where the `t`-th of them goes, -/
theorem offDst_eq {t : ℕ} (ht : t < trips (2 * b) (2 * (b + 192)) C (2 * p)) :
    offDst (BitVec.ofNat 32 (2 * b)) (BitVec.ofNat 32 (2 * p)) (Scf.iv (upto (BitVec.ofNat 32 (2 * b)) (BitVec.ofNat 32 C) (BitVec.ofNat 32 (2 * p))) 1#32 t)
      = ![2 * (min 192 (p - b) + t), 0] := by
  rw [iv_eq hC (by omega) (by omega)]
  simp only [trips, before] at ht
  have e : BitVec.ofInt 32 2 = 2#32 := rfl
  simp only [offDst, ofNat_ofInt, ← e]
  rw [muli_ofInt, addi_ofInt, subi_ofInt, toNat_ofInt]
  · congr 1; simp only [before]; omega
  · simp only [before]; omega
  · simp only [before]; omega

include hC hp hb in
/-- and where its row numbers are. -/
theorem offRows_eq {t : ℕ} (ht : t < trips (2 * b) (2 * (b + 192)) C (2 * p)) :
    offRows (BitVec.ofNat 32 (2 * p)) (Scf.iv (upto (BitVec.ofNat 32 (2 * b)) (BitVec.ofNat 32 C) (BitVec.ofNat 32 (2 * p))) 1#32 t)
      = ![b + (min 192 (p - b) + t), 0] := by
  rw [iv_eq hC (by omega) (by omega)]
  simp only [trips, before] at ht
  have e := shrsi_one ⟨2 * p, by omega⟩
  simp only [] at e
  simp only [offRows, e]
  rw [ofNat_ofInt, ofNat_ofInt, addi_ofInt, toNat_ofInt]
  · congr 1; simp only [before]; omega
  · simp only [before]; omega
  · simp only [before]; omega

include hC hp hb in
/-- So a lane's facts hold. -/
theorem chk : Chk (BitVec.ofNat 32 (2 * b)) (BitVec.ofNat 32 (2 * (b + 192))) (BitVec.ofNat 32 C) (BitVec.ofNat 32 (2 * p)) := by
  have hS : 2 * p ≤ 1152 := by omega
  have hW : 2 * b ≤ 1152 := by omega
  have hW' : 2 * (b + 192) ≤ 1152 := by omega
  have hle : 2 * b ≤ 2 * (b + 192) := by omega
  have ht := loopA_trips hC hS hW hW' hle
  have hB := loopB_trips (BitVec.ofNat 32 (2 * b)) (BitVec.ofNat 32 (2 * (b + 192))) (BitVec.ofNat 32 C) (BitVec.ofNat 32 (2 * p))
  refine ⟨loopA_ok hC hS hW hW' hle, fun t a => ?_, fun t a => ?_, loopB_ok hC hS hW hW' hle, fun t => (noTrip hB t).elim,
    fun t => (noTrip hB t).elim⟩
  · have h := lt_of_lt_of_eq t.isLt ht
    rw [offDst_eq hC hp hb h]
    rw [trips_pairs] at h
    fin_cases a
    · show 2 * (min 192 (p - b) + t.val) + 2 ≤ 384; omega
    · show 0 + 128 ≤ 128; omega
  · have h := lt_of_lt_of_eq t.isLt ht
    rw [offRows_eq hC hp hb h]
    rw [trips_pairs] at h
    fin_cases a
    · show b + (min 192 (p - b) + t.val) + 1 ≤ 584; omega
    · show 0 + 2 ≤ 2; omega
end

theorem offCol_eq {l k : ℕ} (h : 16 * k + l < 64) : offCol (BitVec.ofNat 32 l) k = ![0, 128 * (16 * k + l)] := by
  have e16 : (16#32 : BitVec 32) = BitVec.ofNat 32 16 := rfl
  have e128 : (128#32 : BitVec 32) = BitVec.ofNat 32 128 := rfl
  have e0 : Scf.iv 0#32 1#32 k = BitVec.ofNat 32 k := by rw [Scf.iv]; simp
  simp only [offCol, e0]
  rw [e16, e128, ofNat_ofInt, ofNat_ofInt, ofNat_ofInt, ofNat_ofInt, muli_ofInt, addi_ofInt, muli_ofInt, toNat_ofInt (by omega) (by omega)]
  congr 1
  ext i
  fin_cases i
  simp
  omega

end Cert.Proof.Lane

end
-- ==== Proof.GatherBatch.lean ====
/-
  Many indirect gathers outstanding on ONE DMA semaphore. The library's rule for an indirect gather takes the
  semaphore's counter at zero, so it serves one gather at a time; a kernel that fires a data-dependent number of
  gathers and drains them afterwards needs the counted protocol of `Lib/Batch.lean`. Here a batch's members are the
  single ROWS of the gathers: a gather of `o` rows is `o` consecutive members.
-/
module

public import Idealize.ShloMosaic.Lib.Batch
public import Idealize.ShloMosaic.Lib.SparseCore.Stream

@[expose] public section

noncomputable section

namespace Cert.Proof.GatherBatch

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Member `k + j` of a batch of `n`. -/
def mem {n k o : ℕ} (h : k + o ≤ n) (j : Fin o) : Fin n := ⟨k + j.val, by omega⟩

omit [Preorder Lvl] in
/-- The members pending from `k` are the next `o` and those pending from `k + o`. -/
theorem bigSep_pending_add {n : ℕ} (Φ : Fin n → sProp 𝕄) (k o : ℕ) (h : k + o ≤ n) :
    bigSep (pending k) Φ = iprop(bigSep Finset.univ (fun j : Fin o => Φ (mem h j)) ∗ bigSep (pending (k + o)) Φ) := by
  let em : Fin o ↪ Fin n := ⟨mem h, fun x y hxy => by
    have := congrArg Fin.val hxy
    simp only [mem] at this
    exact Fin.ext (by omega)⟩
  have hset : pending (n := n) k = (Finset.univ.map em) ∪ pending (k + o) := by
    ext t
    simp only [pending, Finset.mem_filter, Finset.mem_univ, true_and, Finset.mem_union, Finset.mem_map]
    constructor
    · intro ht
      by_cases h' : k + o ≤ t.val
      · exact .inr h'
      · exact .inl ⟨⟨t.val - k, by omega⟩, Fin.ext (show k + (t.val - k) = t.val by omega)⟩
    · rintro (⟨j, rfl⟩ | h')
      · exact Nat.le_add_right _ _
      · omega
  have hdis : Disjoint (Finset.univ.map em) (pending (n := n) (k + o)) := by
    rw [Finset.disjoint_left]
    rintro t ht ht'
    obtain ⟨j, -, rfl⟩ := Finset.mem_map.mp ht
    have h1 := (Finset.mem_filter.mp ht').2
    have h2 : (em j).val = k + j.val := rfl
    have := j.isLt
    omega
  rw [hset, BI.bigSep_union hdis, BI.bigSep_map]
  rfl

/-- `enqueueIndirectGather` whose rows are the NEXT members of a batch on its semaphore. Per row `j`: the row of the
    destination outright, the entry of the offset list that names the row, a share of the source, and `put j`, anything
    that makes with them the batch's delivery (`hD`). The offsets must be in range at the words held (`hin`). -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {fs : Buf (Elt F) (src.view.loc c)} {fd : Buf (Elt F) (dst.view.loc c)} {fo : Buf (Elt F) (offs.view.loc c)}
    (qs : Fin (s.size hg.axis') → PosShare TreeShare) (put : Fin (s.size hg.axis') → sProp 𝕄)
    (ι : Ix) (N : ℕ) (hN : ∀ j, (dst.slice (s.rowRect hg.axis' j) (s.stride_rowRect hg.axis' j)).view.dmaCredit = N)
    (hin : ∀ x, (offs.view.read (Elt F) fo x).toNat < s₀.size hg.axis)
    {n : ℕ} {D : Fin n → sProp 𝕄} {k₀ : ℕ} (hk : k₀ + s.size hg.axis' ≤ n)
    (hD : ∀ j, iprop(put j
        ∗ (((dst.view.loc c ↦[(dst.view.slice (s.rowRect hg.axis' j)).set]{fullShare}
              ((dst.view.slice (s.rowRect hg.axis' j)).write (Elt F) fd
                (fun i => src.view.read (Elt F) fs (hg.rowIdx (rows (offs.view.read (Elt F) fo) hn hin j) i)) Finset.univ))
            ∗ (offs.view.loc c ↦[{offs.view.emb (si.rowMajor.symm (j.cast hn.symm))}]{fullShare} fo))
          ∗ (src.view.loc c ↦[src.view.set]{qs j} fs))) ⊢ D (mem hk j)) :
    iprop(Batch EC c (.dma sem) ι N D k₀ 0
        ∗ bigSep Finset.univ (fun j => iprop(((dst.view.loc c ↦[(dst.view.slice (s.rowRect hg.axis' j)).set]{fullShare} fd)
            ∗ (offs.view.loc c ↦[{offs.view.emb (si.rowMajor.symm (j.cast hn.symm))}]{fullShare} fo))
            ∗ (src.view.loc c ↦[src.view.set]{qs j} fs) ∗ put j)))
      ⊢ iprop((Batch EC c (.dma sem) ι N D (k₀ + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hNs : ∑ j, (rd j).dst.view.dmaCredit = s.size hg.axis' * N := by
    rw [Finset.sum_congr rfl fun j _ => hN j, Finset.sum_const, Finset.card_univ, Fintype.card_fin, smul_eq_mul]
  unfold Batch
  iintro ⟨⟨%γ, %γ₀, %κ, #Hinv, HI, H0, Hcred⟩, Hres⟩ Hk
  ihave HI' := (Entails.of_eq (bigSep_pending_add (fun t => count EC (γ t) 0) k₀ (s.size hg.axis') hk)) $$ HI
  icases HI' with ⟨Hγ, HI⟩
  iapply (wp_enqueueIndirectDma 𝒱 c bd Set.univ (qo := fullShare) (fo := fo) (rd := rd) ι (s.size hg.axis' * N) hA hrd hNs) $$ [Hres Hγ]
  · have hrow : ∀ j, iprop(inv κ (batchBody EC (c, SemLoc.dma sem) N D γ γ₀)
          ∗ ((((dst.view.loc c ↦[(dst.view.slice (s.rowRect hg.axis' j)).set]{fullShare} fd) ∗ S.heldEntry fullShare fo j)
          ∗ (src.view.loc c ↦[src.view.set]{qs j} fs) ∗ put j) ∗ count EC (γ (mem hk j)) 0))
        ⊢ iprop(S.heldEntry fullShare fo j ∗ (S.heldEntry fullShare fo j -∗ rowRes c (rd j))) := fun j => by
      iintro ⟨#Hinv, ⟨⟨Hr, He⟩, Hsq, Hput⟩, Hγj⟩
      isplitl [He]; · iexact He
      iintro He
      unfold rowRes
      iexists qs j, fs, iprop((dst.view.loc c ↦[(dst.view.slice (s.rowRect hg.axis' j)).set]{fullShare} ((dst.view.slice (s.rowRect hg.axis' j)).write (Elt F) fd (w j) Finset.univ)) ∗ S.heldEntry fullShare fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hNj : (rd j).dst.view.amount (.dma sem) = N := hN j
        rw [hNj]
        iapply (batch_creditUpdate_with EC (mem hk j) (put := put j) (hD j))
        isplitr; · iexact Hinv
        isplitl [Hγj] <;> iassumption
    unfold Stream.res
    ihave H3 := Transfers.bigSep_sep_in _ _ _ $$ [Hres Hγ]; · isplitl [Hres] <;> iassumption
    iapply (Transfers.bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [Nat.sub_zero, Nat.sub_zero, Nat.add_mul, ← tallyAt_add]
    icombine Hcred Hcred' as H
    iexact H

end Cert.Proof.GatherBatch

end
-- ==== Proof.Fire.lean ====
/-
  One gather of a window. Of the window's buffer the rows not yet asked for, of the row numbers all but those in use, and
  of the table one share per row are held; a gather takes two rows, the two row numbers of its pair and two shares into
  the batch, and the batch will give them back with the two rows filled.
-/
module

public import proofs.«01_k».proof.Proof.Words
public import proofs.«01_k».proof.Proof.GatherBatch

@[expose] public section

noncomputable section

namespace Cert.Proof.Fire

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch

variable {Ix : Type} [DecidableEq Ix] {F : FTy → Type} {Name : Type} [DecidableEq Name]
variable {U : Type} [URA U] {Lvl : Type} [Preorder Lvl]

local notation "𝕄" => MT nD τ sig Ix (Elt F) Name U Lvl

/-- Element `(r, c)` of the table, -/
def ixT (r c : ℕ) : S8192x8192.Idx := fun a => ⟨(![r, c] : Fin 2 → ℕ) a % S8192x8192.size a, Nat.mod_lt _ (by fin_cases a <;> decide)⟩
/-- and of the row numbers. -/
def ixR (r c : ℕ) : S584x2.Idx := fun a => ⟨(![r, c] : Fin 2 → ℕ) a % S584x2.size a, Nat.mod_lt _ (by fin_cases a <;> decide)⟩

variable (cr : Fin τ.nSC) (su : Fin τ.nSub) (d : Dev nD)
abbrev thr : Thread nD τ := (d, .scVector cr su)

variable (arg3 : Memref sig .scVector .hbm S8192x8192 .f32) (arg8 : Memref sig .scVector .vmem S584x2 .i32)
  (arg13 : Memref sig .scVector .vmem S384x128 .f32) (arg19 : DmaSems sig S_)

/-- The rows of the buffer from `k` on, -/
def rowsFrom (k : ℕ) : Finset S384x128.Idx := Finset.univ.filter fun y => k ≤ (y 0).val
/-- and row `x` of it; -/
def row (x : ℕ) : Finset S384x128.Idx := Finset.univ.filter fun y => (y 0).val = x
/-- the row numbers but those of pairs `b … b + k - 1`. -/
def numsBut (b k : ℕ) : Finset S584x2.Idx := Finset.univ.filter fun y => ¬(b ≤ (y 0).val ∧ (y 0).val < b + k)
/-- The row number of row `x`. -/
def num (b x : ℕ) : Finset S584x2.Idx := Finset.univ.filter fun y => (y 0).val = b + x / 2 ∧ (y 1).val = x % 2

section
variable (ft : Buf (Elt F) (arg3.view.loc (thr cr su d))) (fr : Buf (Elt F) (arg8.view.loc (thr cr su d))) (fd : Buf (Elt F) (arg13.view.loc (thr cr su d)))
variable (b n : ℕ) (laneOf : ℕ → ℕ) (qs : ℕ → PosShare TreeShare)

/-- What is in row `x`, column `l` of the buffer when all of the window has landed. -/
def filled (y : S384x128.Idx) : Elt F .f32 :=
  arg3.view.read (Elt F) ft (ixT (arg8.view.read (Elt F) fr (ixR (b + (y 0).val / 2) ((y 0).val % 2)) : BitVec 32).toNat (128 * laneOf (b + (y 0).val / 2) + (y 1).val))

/-- The buffer when all of the window has landed. -/
def final : Buf (Elt F) (arg13.view.loc (thr cr su d)) :=
  arg13.view.write (Elt F) fd (fun y => if (y 0).val < n then filled cr su d arg3 arg8 ft fr b laneOf y else arg13.view.read (Elt F) fd y) Finset.univ

/-- What row `x` of the batch gives back. -/
def Done (x : ℕ) : sProp 𝕄 :=
  iprop((arg13.view.loc (thr cr su d) ↦[arg13.view.setOn (row x)]{fullShare} final cr su d arg3 arg8 arg13 ft fr fd b n laneOf)
    ∗ (arg8.view.loc (thr cr su d) ↦[arg8.view.setOn (num b x)]{fullShare} fr)
    ∗ (arg3.view.loc (thr cr su d) ↦[arg3.view.set]{qs x} ft))

instance (x : ℕ) : Storable (upEmb : UEmb _ 𝕄) (Done (Ix := Ix) (Name := Name) (U := U) (Lvl := Lvl) cr su d arg3 arg8 arg13 ft fr fd b n laneOf qs x) := by
  unfold Done; infer_instance

/-- What is held with `k` pairs asked for. -/
def Held (k : ℕ) : sProp 𝕄 :=
  iprop((arg13.view.loc (thr cr su d) ↦[arg13.view.setOn (rowsFrom (2 * k))]{fullShare} fd)
    ∗ (arg8.view.loc (thr cr su d) ↦[arg8.view.setOn (numsBut b k)]{fullShare} fr)
    ∗ bigSep (Finset.range 384 \ Finset.range (2 * k)) (fun x => (arg3.view.loc (thr cr su d) ↦[arg3.view.set]{qs x} ft : sProp 𝕄)))

end

theorem rowsFrom_succ (k : ℕ) : rowsFrom (2 * k) = rowsFrom (2 * (k + 1)) ∪ (row (2 * k) ∪ row (2 * k + 1)) := by
  ext y; simp only [rowsFrom, row, Finset.mem_filter, Finset.mem_univ, true_and, Finset.mem_union]; omega
theorem rowsFrom_disj (k : ℕ) : Disjoint (rowsFrom (2 * (k + 1))) (row (2 * k) ∪ row (2 * k + 1)) := by
  rw [Finset.disjoint_left]; intro y; simp only [rowsFrom, row, Finset.mem_filter, Finset.mem_univ, true_and, Finset.mem_union]; omega
theorem row_disj {x x' : ℕ} (h : x ≠ x') : Disjoint (row x) (row x') := by
  rw [Finset.disjoint_left]; intro y; simp only [row, Finset.mem_filter, Finset.mem_univ, true_and]; omega
theorem num_disj (b : ℕ) {x x' : ℕ} (h : x ≠ x') : Disjoint (num b x) (num b x') := by
  rw [Finset.disjoint_left]; intro y; simp only [num, Finset.mem_filter, Finset.mem_univ, true_and]; omega
theorem numsBut_succ (b k : ℕ) : numsBut b k = numsBut b (k + 1) ∪ (num b (2 * k) ∪ num b (2 * k + 1)) := by
  ext y
  have h : (y 1).val < 2 := (y 1).isLt
  simp only [numsBut, num, Finset.mem_filter, Finset.mem_univ, true_and, Finset.mem_union]; omega
theorem numsBut_disj (b k : ℕ) : Disjoint (numsBut b (k + 1)) (num b (2 * k) ∪ num b (2 * k + 1)) := by
  rw [Finset.disjoint_left]; intro y; simp only [numsBut, num, Finset.mem_filter, Finset.mem_univ, true_and, Finset.mem_union]; omega

theorem setOn_union {sp : Space} {s : Shape} {e : EltTy} (v : View sig .scVector sp s e) (A B : Finset s.Idx) : v.setOn (A ∪ B) = v.setOn A ∪ v.setOn B := Finset.map_union _ _
theorem setOn_disj {sp : Space} {s : Shape} {e : EltTy} (v : View sig .scVector sp s e) {A B : Finset s.Idx} (h : Disjoint A B) : Disjoint (v.setOn A) (v.setOn B) :=
  (Finset.disjoint_map _).mpr h

/-- The row numbers' entry `j` in the pair `r`. -/
theorem squeeze_entry : ∀ j : Fin 2, ∀ a : Fin 2, ((Shape.reshapeEquiv squeezes_S1x2_S2.numel_eq (S2.rowMajor.symm (j.cast (by decide : 2 = S2.numel))) : S1x2.Idx) a).val = (![0, j.val] : Fin 2 → ℕ) a := by
  decide +kernel

section
variable {od or oc : Fin 2 → ℕ} (hd : ∀ a, od a + S2x128.size a ≤ S384x128.size a) (hr : ∀ a, or a + S1x2.size a ≤ S584x2.size a)
    (hc : ∀ a, oc a + S8192x128.size a ≤ S8192x8192.size a)

/-- The two rows, the pair's row numbers, and the columns, as the kernel addresses them. -/
abbrev dstM : Memref sig .scVector .vmem S2x128 .f32 := arg13.slice (Rect.unit (s := S384x128) od S2x128.size hd) (fun _ => rfl)
abbrev numM : Memref sig .scVector .vmem S2 .i32 := (arg8.slice (Rect.unit (s := S584x2) or S1x2.size hr) (fun _ => rfl)).squeeze S2 squeezes_S1x2_S2
abbrev srcM : Memref sig .scVector .hbm S8192x128 .f32 := arg3.slice (Rect.unit (s := S8192x8192) oc S8192x128.size hc) (fun _ => rfl)

theorem emb_unit {s : Shape} {off size : Fin s.rank → ℕ} (h : ∀ a, off a + size a ≤ s.size a) (z : (Rect.unit (s := s) off size h).shape.Idx) (a : Fin s.rank) :
    ((Rect.unit (s := s) off size h).emb z a).val = off a + (z a).val := by
  rw [Rect.emb_apply]; exact congrArg _ (Nat.one_mul _)

theorem row_set {k : ℕ} (e : od = ![2 * k, 0]) (j : Fin 2) :
    ((dstM arg13 hd).view.slice (S2x128.rowRect gathers_S8192x128_S2x128.axis' j)).set = arg13.view.setOn (row (2 * k + j.val)) := by
  subst e
  show ((arg13.view.slice (Rect.unit (s := S384x128) _ S2x128.size hd)).slice (S2x128.rowRect 0 j)).set = _
  rw [View.set_slice, ← Rect.map_emb_univ (S2x128.rowRect 0 j), View.emb_slice, ← Finset.map_map]
  refine congrArg (Finset.map arg13.view.emb) ?_
  ext y
  simp only [Finset.mem_map, row, Finset.mem_filter, Finset.mem_univ, true_and]
  constructor
  · rintro ⟨z, hz, rfl⟩
    obtain ⟨w, rfl⟩ := hz
    rw [emb_unit]
    have := Shape.rowRect_emb_axis (s := S2x128) 0 j w
    show 2 * k + ((S2x128.rowRect 0 j).emb w 0).val = _
    rw [this]
  · intro hy
    have h1 : (y 1).val < 128 := (y 1).isLt
    refine ⟨fun a => ⟨(![j.val, (y 1).val] : Fin 2 → ℕ) a, by fin_cases a; exacts [j.isLt, h1]⟩, ?_, ?_⟩
    · have e := Shape.rowRect_emb_rowProj (s := S2x128) 0 (fun a => ⟨(![j.val, (y 1).val] : Fin 2 → ℕ) a, by fin_cases a; exacts [j.isLt, h1]⟩)
      rw [← e]
      exact ⟨_, rfl⟩
    · funext a
      apply Fin.ext
      rw [emb_unit]
      fin_cases a
      · exact hy.symm
      · exact Nat.zero_add _

theorem num_eq {b k : ℕ} (hb : b + k < 584) (j : Fin 2) : num b (2 * k + j.val) = {ixR (b + k) j.val} := by
  have hj := j.isLt
  have e0 : (ixR (b + k) j.val 0).val = b + k := Nat.mod_eq_of_lt hb
  have e1 : (ixR (b + k) j.val 1).val = j.val := Nat.mod_eq_of_lt hj
  ext y
  have h1 : (y 1).val < 2 := (y 1).isLt
  simp only [num, Finset.mem_filter, Finset.mem_univ, true_and, Finset.mem_singleton]
  constructor
  · intro h
    funext a
    apply Fin.ext
    fin_cases a
    · show (y 0).val = (ixR (b + k) j.val 0).val; rw [e0]; omega
    · show (y 1).val = (ixR (b + k) j.val 1).val; rw [e1]; omega
  · rintro rfl
    rw [e0, e1]; omega

theorem entry_emb {b k : ℕ} (hb : b + k < 584) (e : or = ![b + k, 0]) (j : Fin 2) :
    (numM arg8 hr).view.emb (S2.rowMajor.symm (j.cast (by decide : 2 = S2.numel))) = arg8.view.emb (ixR (b + k) j.val) := by
  subst e
  show arg8.view.emb ((Rect.unit (s := S584x2) ![b + k, 0] S1x2.size hr).emb (Shape.reshapeEquiv squeezes_S1x2_S2.numel_eq (S2.rowMajor.symm (j.cast _)))) = _
  congr 1
  funext a
  apply Fin.ext
  have hs := squeeze_entry j a
  have hj := j.isLt
  rw [emb_unit, hs]
  fin_cases a
  · show b + k + 0 = (b + k) % 584; omega
  · show 0 + j.val = j.val % 2; omega

theorem entry_set {b k : ℕ} (hb : b + k < 584) (e : or = ![b + k, 0]) (j : Fin 2) :
    ({(numM arg8 hr).view.emb (S2.rowMajor.symm (j.cast (by decide : 2 = S2.numel)))} : Finset _) = arg8.view.setOn (num b (2 * k + j.val)) := by
  rw [entry_emb arg8 hr hb e j, num_eq hb j]
  exact (Finset.map_singleton _ _).symm

/-- What the batch is to give back when pair `k` has been asked for. -/
theorem payload_eq {b n k q : ℕ} {laneOf : ℕ → ℕ} (hb : b + k < 584) (hq : q < 64) (hn : 2 * (k + 1) ≤ n) (hl : laneOf (b + k) = q)
    (ed : od = ![2 * k, 0]) (er : or = ![b + k, 0]) (ec : oc = ![0, 128 * q])
    (ft : Buf (Elt F) (arg3.view.loc (thr cr su d))) (fr : Buf (Elt F) (arg8.view.loc (thr cr su d))) (fd : Buf (Elt F) (arg13.view.loc (thr cr su d)))
    (hin : ∀ x, ((numM arg8 hr).view.read (Elt F) fr x : BitVec 32).toNat < 8192) (j : Fin 2) :
    ∀ i ∈ arg13.view.setOn (row (2 * k + j.val)),
      ((dstM arg13 hd).view.slice (S2x128.rowRect gathers_S8192x128_S2x128.axis' j)).write (Elt F) fd
        (fun i => (srcM arg3 hc).view.read (Elt F) ft (gathers_S8192x128_S2x128.rowIdx (rows (si := S2) ((numM arg8 hr).view.read (Elt F) fr) rfl hin j) i)) Finset.univ i
      = final cr su d arg3 arg8 arg13 ft fr fd b n laneOf i := by
  intro i hi
  rw [← row_set arg13 hd ed j] at hi
  obtain ⟨z, -, rfl⟩ := Finset.mem_map.mp hi
  rw [View.write_emb_of_mem _ _ (Finset.mem_univ z)]
  have hz : ∀ y, ((dstM arg13 hd).view.slice (S2x128.rowRect gathers_S8192x128_S2x128.axis' j)).emb z = arg13.view.emb y → final cr su d arg3 arg8 arg13 ft fr fd b n laneOf (arg13.view.emb y)
      = cast (congrArg (Elt F) arg13.view.elt_eq.symm) (if (y 0).val < n then filled cr su d arg3 arg8 ft fr b laneOf y else arg13.view.read (Elt F) fd y) := fun y _ => by
    unfold final
    exact View.write_emb_of_mem _ _ (Finset.mem_univ y)
  have hy := hz ((Rect.unit (s := S384x128) od S2x128.size hd).emb ((S2x128.rowRect 0 j).emb z)) rfl
  refine Eq.trans ?_ hy.symm
  have hj : j.val < 2 := j.isLt
  have ed0 : od 0 = 2 * k := by rw [ed]; rfl
  have ed1 : od 1 = 0 := by rw [ed]; rfl
  have ec0 : oc 0 = 0 := by rw [ec]; rfl
  have ec1 : oc 1 = 128 * q := by rw [ec]; rfl
  have y0 : ((Rect.unit (s := S384x128) od S2x128.size hd).emb ((S2x128.rowRect 0 j).emb z) 0).val = 2 * k + j.val := by
    rw [emb_unit, ed0]
    exact congrArg (fun t : Fin 2 => 2 * k + t.val) (Shape.rowRect_emb_axis (s := S2x128) 0 j z)
  have y1 : ((Rect.unit (s := S384x128) od S2x128.size hd).emb ((S2x128.rowRect 0 j).emb z) 1).val = (z 1).val := by
    rw [emb_unit, ed1, Nat.zero_add]
    exact Shape.rowRect_emb_of_ne (s := S2x128) 0 j z (b := 1) (by decide)
  rw [if_pos (by rw [y0]; omega)]
  refine congrArg (cast _) ?_
  unfold filled
  have e1 : (2 * k + j.val) / 2 = k := by omega
  have e2 : (2 * k + j.val) % 2 = j.val := by omega
  rw [y0, y1, e1, e2, hl]
  show arg3.view.read (Elt F) ft ((Rect.unit (s := S8192x8192) oc S8192x128.size hc).emb _) = _
  congr 1
  have hw : ((numM arg8 hr).view.read (Elt F) fr (S2.rowMajor.symm (j.cast (by decide : 2 = S2.numel))) : BitVec 32) = arg8.view.read (Elt F) fr (ixR (b + k) j.val) := by
    rw [View.read_apply, View.read_apply, entry_emb arg8 hr hb er j]
  have hr0 : (rows (si := S2) ((numM arg8 hr).view.read (Elt F) fr) rfl hin j).val = (arg8.view.read (Elt F) fr (ixR (b + k) j.val) : BitVec 32).toNat := by
    rw [← hw]; rfl
  have hlt : (arg8.view.read (Elt F) fr (ixR (b + k) j.val) : BitVec 32).toNat < 8192 := by rw [← hw]; exact hin _
  have hz1 : (z 1).val < 128 := (z 1).isLt
  funext a
  apply Fin.ext
  rw [emb_unit]
  fin_cases a
  · have := Shape.Gathers.rowIdx_axis gathers_S8192x128_S2x128 (rows (si := S2) ((numM arg8 hr).view.read (Elt F) fr) rfl hin j) z
    refine (congrArg (fun t => oc 0 + t) ((congrArg Fin.val this).trans hr0)).trans ?_
    show oc 0 + (arg8.view.read (Elt F) fr (ixR (b + k) j.val) : BitVec 32).toNat = (arg8.view.read (Elt F) fr (ixR (b + k) j.val) : BitVec 32).toNat % 8192
    rw [ec0, Nat.mod_eq_of_lt hlt, Nat.zero_add]
  · have := Shape.Gathers.rowIdx_of_ne gathers_S8192x128_S2x128 (rows (si := S2) ((numM arg8 hr).view.read (Elt F) fr) rfl hin j) z 1 (by decide)
    refine (congrArg (fun t => oc 1 + t) this).trans ?_
    show oc 1 + (z 1).val = (128 * q + (z 1).val) % 8192
    rw [ec1]
    omega

theorem row_credit : (S2x128.rowShape gathers_S8192x128_S2x128.axis').numel * 32 = 4096 := by decide +kernel

/-- A gather of a window, of the pair after the `k` asked for. -/
theorem wp_fire [Infinite Name] (EC : UEmb Counters 𝕄) [EC.LandsIn (upEmb : UEmb _ 𝕄)] [FloatOps F] {defs : Defs nD τ sig (Elt F) Λ₀} (𝒱 : Variants) (bd : Option 𝒱.V)
    {α : Type} {Q : α → sProp 𝕄} {kk : BitVec 32 → Prog (TpuEff nD τ sig (Elt F) Λ₀ (.scVector cr su)) α} (ι : Ix) (tot : BitVec 32)
    {b n k q : ℕ} {laneOf : ℕ → ℕ} (hb : b + 192 ≤ 576) (hq : q < 64) (hn : 2 * (k + 1) ≤ n) (hn' : n ≤ 384) (hl : laneOf (b + k) = q)
    (ed : od = ![2 * k, 0]) (er : or = ![b + k, 0]) (ec : oc = ![0, 128 * q]) (qs : ℕ → PosShare TreeShare)
    (ft : Buf (Elt F) (arg3.view.loc (thr cr su d))) (fr : Buf (Elt F) (arg8.view.loc (thr cr su d))) (fd : Buf (Elt F) (arg13.view.loc (thr cr su d)))
    (hin : ∀ x, (arg8.view.read (Elt F) fr x : BitVec 32).toNat < 8192)
    (hcr : ∀ s' : Shape, sig.dmaCredit .scVector (Kind.scVector.table .vmem) arg13.view.buf s' .f32 = s'.numel * 32) :
    iprop(Batch EC (thr cr su d) (.dma arg19.sem) ι 4096 (fun x : Fin n => Done cr su d arg3 arg8 arg13 ft fr fd b n laneOf qs x.val) (2 * k) 0
        ∗ Held cr su d arg3 arg8 arg13 ft fr fd b qs k)
      ⊢ iprop((iprop(Batch EC (thr cr su d) (.dma arg19.sem) ι 4096 (fun x : Fin n => Done cr su d arg3 arg8 arg13 ft fr fd b n laneOf qs x.val) (2 * (k + 1)) 0
            ∗ Held cr su d arg3 arg8 arg13 ft fr fd b qs (k + 1)) -∗ wp frame (wpE defs 𝒱 (thr cr su d) bd) Set.univ (kk (Scalar.addi tot 1#32)) Q)
          -∗ wp frame (wpE defs 𝒱 (thr cr su d) bd) Set.univ (fire arg3 arg8 arg13 arg19 od or oc hd hr hc tot >>= kk) Q) := by
  have hins : ∀ x, ((numM arg8 hr).view.read (Elt F) fr x : BitVec 32).toNat < 8192 := fun x => hin _
  have hbk : b + k < 584 := by omega
  have eb : fire arg3 arg8 arg13 arg19 od or oc hd hr hc tot >>= kk
      = SparseCore.enqueueIndirectGather (F := F) (Λ := Λ₀) (p := .scVector cr su) rfl (srcM arg3 hc) (dstM arg13 hd) gathers_S8192x128_S2x128 (numM arg8 hr) rfl arg19.sem (View.wordExact_bits rfl) rfl (Or.inl rfl) >>= fun _ => kk (Scalar.addi tot 1#32) := by
    simp only [fire, bind_assoc, pure_bind]
  rw [eb]
  have h13 : (arg13.view.loc (thr cr su d) ↦[arg13.view.setOn (rowsFrom (2 * k))]{fullShare} fd : sProp 𝕄)
      ⊢ iprop((arg13.view.loc (thr cr su d) ↦[arg13.view.setOn (rowsFrom (2 * (k + 1)))]{fullShare} fd)
        ∗ (arg13.view.loc (thr cr su d) ↦[arg13.view.setOn (row (2 * k))]{fullShare} fd) ∗ (arg13.view.loc (thr cr su d) ↦[arg13.view.setOn (row (2 * k + 1))]{fullShare} fd)) := by
    rw [rowsFrom_succ, setOn_union, setOn_union]
    refine (pointsTo_union (by rw [← setOn_union]; exact setOn_disj _ (rowsFrom_disj k))).1.trans ?_
    exact sep_mono_right (pointsTo_union (setOn_disj _ (row_disj (by omega)))).1
  have h8 : (arg8.view.loc (thr cr su d) ↦[arg8.view.setOn (numsBut b k)]{fullShare} fr : sProp 𝕄)
      ⊢ iprop((arg8.view.loc (thr cr su d) ↦[arg8.view.setOn (numsBut b (k + 1))]{fullShare} fr)
        ∗ (arg8.view.loc (thr cr su d) ↦[arg8.view.setOn (num b (2 * k))]{fullShare} fr) ∗ (arg8.view.loc (thr cr su d) ↦[arg8.view.setOn (num b (2 * k + 1))]{fullShare} fr)) := by
    rw [numsBut_succ, setOn_union, setOn_union]
    refine (pointsTo_union (by rw [← setOn_union]; exact setOn_disj _ (numsBut_disj b k))).1.trans ?_
    exact sep_mono_right (pointsTo_union (setOn_disj _ (num_disj b (by omega)))).1
  have h3 : bigSep (Finset.range 384 \ Finset.range (2 * k)) (fun x => (arg3.view.loc (thr cr su d) ↦[arg3.view.set]{qs x} ft : sProp 𝕄))
      = iprop((arg3.view.loc (thr cr su d) ↦[arg3.view.set]{qs (2 * k)} ft) ∗ (arg3.view.loc (thr cr su d) ↦[arg3.view.set]{qs (2 * k + 1)} ft)
        ∗ bigSep (Finset.range 384 \ Finset.range (2 * (k + 1))) (fun x => (arg3.view.loc (thr cr su d) ↦[arg3.view.set]{qs x} ft : sProp 𝕄))) := by
    have e : Finset.range 384 \ Finset.range (2 * k) = insert (2 * k) (insert (2 * k + 1) (Finset.range 384 \ Finset.range (2 * (k + 1)))) := by
      ext x; simp only [Finset.mem_sdiff, Finset.mem_range, Finset.mem_insert]; omega
    rw [e, BI.bigSep_insert (by simp), BI.bigSep_insert (by simp; omega)]
    rfl
  have hsub : (srcM arg3 hc).view.set ⊆ arg3.view.set := View.set_slice_subset _ _
  have hsrc : ∀ x : ℕ, (arg3.view.loc (thr cr su d) ↦[arg3.view.set]{qs x} ft : sProp 𝕄)
      ⊣⊢ iprop(((srcM arg3 hc).view.loc (thr cr su d) ↦[(srcM arg3 hc).view.set]{qs x} ft) ∗ (arg3.view.loc (thr cr su d) ↦[arg3.view.set \ (srcM arg3 hc).view.set]{qs x} ft)) :=
    fun x => pointsTo_split_subset hsub
  have hrow : ∀ j : Fin 2, (arg13.view.loc (thr cr su d) ↦[arg13.view.setOn (row (2 * k + j.val))]{fullShare} fd : sProp 𝕄)
      = ((dstM arg13 hd).view.loc (thr cr su d) ↦[((dstM arg13 hd).view.slice (S2x128.rowRect gathers_S8192x128_S2x128.axis' j)).set]{fullShare} fd) := fun j => by
    rw [row_set arg13 hd ed j]
  have hent : ∀ j : Fin 2, (arg8.view.loc (thr cr su d) ↦[arg8.view.setOn (num b (2 * k + j.val))]{fullShare} fr : sProp 𝕄)
      = ((numM arg8 hr).view.loc (thr cr su d) ↦[{(numM arg8 hr).view.emb (S2.rowMajor.symm (j.cast (by decide : 2 = S2.numel)))}]{fullShare} fr) := fun j => by
    rw [entry_set arg8 hr hbk er j]
  have two : ∀ Φ : Fin 2 → sProp 𝕄, iprop(Φ 0 ∗ Φ 1) ⊢ bigSep Finset.univ Φ := fun Φ => Entails.of_eq (BI.bigSep_fin_two Φ).symm
  iintro ⟨HB, HH⟩ Hk
  unfold Held
  icases HH with ⟨H13, H8, H3⟩
  ihave H13 := h13 $$ H13
  icases H13 with ⟨H13, Hr0, Hr1⟩
  ihave H8 := h8 $$ H8
  icases H8 with ⟨H8, He0, He1⟩
  ihave H3 := (Entails.of_eq h3) $$ H3
  icases H3 with ⟨Hs0, Hs1, H3⟩
  ihave Hs0 := (hsrc (2 * k)).1 $$ Hs0
  icases Hs0 with ⟨Hs0, Hp0⟩
  ihave Hs1 := (hsrc (2 * k + 1)).1 $$ Hs1
  icases Hs1 with ⟨Hs1, Hp1⟩
  ihave Hr0 := (Entails.of_eq (hrow 0)) $$ Hr0
  ihave Hr1 := (Entails.of_eq (hrow 1)) $$ Hr1
  ihave He0 := (Entails.of_eq (hent 0)) $$ He0
  ihave He1 := (Entails.of_eq (hent 1)) $$ He1
  iapply (wp_gatherBatch EC 𝒱 (thr cr su d) bd (src := srcM arg3 hc) (dst := dstM arg13 hd) (hg := gathers_S8192x128_S2x128) (offs := numM arg8 hr) (fs := ft) (fd := fd) (fo := fr)
    (fun j : Fin 2 => qs (2 * k + j.val)) (fun j : Fin 2 => iprop(arg3.view.loc (thr cr su d) ↦[arg3.view.set \ (srcM arg3 hc).view.set]{qs (2 * k + j.val)} ft)) ι 4096
    (fun j => (hcr _).trans row_credit) hins (D := fun x : Fin n => Done cr su d arg3 arg8 arg13 ft fr fd b n laneOf qs x.val) (k₀ := 2 * k) hn ?_) $$ [HB Hr0 Hr1 He0 He1 Hs0 Hs1 Hp0 Hp1]
  · intro j
    unfold Done
    have hp := payload_eq cr su d arg3 arg8 arg13 hd hr hc hbk hq hn hl ed er ec ft fr fd hins j
    show _ ⊢ iprop((arg13.view.loc (thr cr su d) ↦[arg13.view.setOn (row (2 * k + j.val))]{fullShare} _)
      ∗ (arg8.view.loc (thr cr su d) ↦[arg8.view.setOn (num b (2 * k + j.val))]{fullShare} fr) ∗ (arg3.view.loc (thr cr su d) ↦[arg3.view.set]{qs (2 * k + j.val)} ft))
    have hpt := pointsTo_congr (Ix := Ix) (Name := Name) (U := U) (Lvl := Lvl) (ℓ := arg13.view.loc (thr cr su d)) (q := fullShare) hp
    refine Entails.trans ?_ (sep_mono_left (Entails.of_eq hpt))
    rw [hent j]
    iintro ⟨Hp, ⟨Hr, He⟩, Hs⟩
    isplitl [Hr]
    · iapply (Entails.of_eq (by rw [row_set arg13 hd ed j]; rfl)) $$ Hr
    isplitl [He]
    · iexact He
    iapply (hsrc _).2
    isplitl [Hs]
    · iexact Hs
    · iexact Hp
  · isplitl [HB]
    · iexact HB
    · iapply (two _)
      isplitl [Hr0 He0 Hs0 Hp0]
      · isplitl [Hr0 He0]
        · isplitl [Hr0]
          · iexact Hr0
          · iexact He0
        isplitl [Hs0]
        · iexact Hs0
        · iexact Hp0
      · isplitl [Hr1 He1]
        · isplitl [Hr1]
          · iexact Hr1
          · iexact He1
        isplitl [Hs1]
        · iexact Hs1
        · iexact Hp1
  · iintro HB
    iapply Hk
    isplitl [HB]
    · iexact HB
    isplitl [H13]
    · iexact H13
    isplitl [H8]
    · iexact H8
    · iexact H3

end

end Cert.Proof.Fire

end
-- ==== Proof.Steps.lean ====
/-
  The tile's steps on its own buffers, said in terms of arrays indexed by numbers: a buffer is held together with the
  array it reads as, and a load, a store, a gather and a scatter say what array comes out.
-/
module

public import proofs.«01_k».proof.Proof.Fire
public import Idealize.ShloMosaic.Lib.WritesUnit

@[expose] public section

noncomputable section

namespace Cert.Proof.Steps

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Fire

/-! ## Scatters of an array -/

/-- The first `n` lanes of a scatter: those with `mk` write `w` at `ix`, in order. -/
def scat {I α : Type} [DecidableEq I] (n : ℕ) (f : I → α) (ix : ℕ → I) (w : ℕ → α) (mk : ℕ → Bool) : I → α :=
  (List.range n).foldl (fun g k => if mk k then fun j => if j = ix k then w k else g j else g) f

section
variable {I α : Type} [DecidableEq I] (f : I → α) (ix : ℕ → I) (w : ℕ → α) (mk : ℕ → Bool)

theorem scat_succ (n : ℕ) : scat (n + 1) f ix w mk = if mk n then fun j => if j = ix n then w n else scat n f ix w mk j else scat n f ix w mk := by
  rw [scat, List.range_succ, List.foldl_append]; rfl

/-- Elsewhere the array stays. -/
theorem scat_off {j : I} : ∀ n, (∀ k < n, mk k = true → ix k ≠ j) → scat n f ix w mk j = f j
  | 0, _ => rfl
  | n + 1, h => by
    rw [scat_succ]
    have ih := scat_off n fun k hk => h k (by omega)
    split
    · next hm => exact (if_neg fun e : j = ix n => h n (by omega) hm e.symm).trans ih
    · exact ih

/-- The last lane to write an element decides it. -/
theorem scat_at {j : I} {k : ℕ} : ∀ n, k < n → mk k = true → ix k = j → (∀ k', k < k' → k' < n → mk k' = true → ix k' ≠ j) → scat n f ix w mk j = w k
  | 0, hk, _, _, _ => absurd hk (by omega)
  | n + 1, hk, hm, he, h => by
    rw [scat_succ]
    by_cases hkn : k = n
    · subst hkn; rw [if_pos hm]; exact if_pos he.symm
    · have ih := scat_at n (by omega) hm he fun k' h₁ h₂ => h k' h₁ (by omega)
      split
      · next hm' => exact (if_neg fun e : j = ix n => h n (by omega) (by omega) hm' e.symm).trans ih
      · exact ih
end

variable {Ix : Type} [DecidableEq Ix] {F : FTy → Type} {Name : Type} [DecidableEq Name]
variable {U : Type} [URA U] {Lvl : Type} [Preorder Lvl]

local notation "𝕄" => MT nD τ sig Ix (Elt F) Name U Lvl

section
variable (cr : Fin τ.nSC) (su : Fin τ.nSub) (d : Dev nD) {e : EltTy}

/-- The tile's buffer `m` holds the array `f`. -/
def Is {s : Shape} (m : Memref sig .scVector .vmem s e) (f : s.Idx → Elt F e) : sProp 𝕄 :=
  iprop(∃ g : Buf (Elt F) (m.view.loc (thr cr su d)), ⌜m.view.read (Elt F) g = f⌝ ∗ (m.view.loc (thr cr su d) ↦[m.view.set]{fullShare} g))

/-- The array of one index, -/
def ar {dd : Fin 1 → ℕ} {α : Type} (f : ℕ → α) : (⟨1, dd⟩ : Shape).Idx → α := fun x => f (x 0).val
/-- and of two. -/
def ar2 {dd : Fin 2 → ℕ} {α : Type} (f : ℕ × ℕ → α) : (⟨2, dd⟩ : Shape).Idx → α := fun x => f ((x 0).val, (x 1).val)
end

section
variable [FloatOps F] {defs : Defs nD τ sig (Elt F) Λ₀} (𝒱 : Variants) (bd : Option 𝒱.V)
variable (cr : Fin τ.nSC) (su : Fin τ.nSub) (d : Dev nD) {e : EltTy} {β : Type} {Q : β → sProp (MT nD τ sig Ix (Elt F) Name U Lvl)}

/-- A load of a unit-stride rectangle. -/
theorem wp_isLoad {dd : Fin 1 → ℕ} {m : Memref sig .scVector .vmem ⟨1, dd⟩ e} {f : ℕ → Elt F e} {off size : Fin 1 → ℕ} {inb : ∀ a, off a + size a ≤ dd a}
    {hl : m.view.LoadsAt (Rect.unit (s := ⟨1, dd⟩) off size inb).toLoadRect} (n : ℕ) (hn : off 0 = n)
    {k : ((Rect.unit (s := ⟨1, dd⟩) off size inb).toLoadRect.shape.Idx → Elt F e) → Prog (TpuEff nD τ sig (Elt F) Λ₀ (.scVector cr su)) β} :
    Is cr su d m (ar f)
      ⊢ iprop((Is cr su d m (ar f) -∗ wp frame (wpE defs 𝒱 (thr cr su d) bd) Set.univ (k (ar (dd := size) fun j => f (n + j))) Q)
        -∗ wp frame (wpE defs 𝒱 (thr cr su d) bd) Set.univ (.op (.load m (Rect.unit (s := ⟨1, dd⟩) off size inb).toLoadRect hl) k) Q) := by
  unfold Is
  iintro ⟨%g, %hg, H⟩ Hk
  iapply (show _ ⊢ _ from wp_load 𝒱 (thr cr su d) bd Set.univ (m := m) (r := (Rect.unit (s := ⟨1, dd⟩) off size inb).toLoadRect) (hl := hl) (k := k) (Q := Q) (f := g) (q := fullShare) (m.view.setOn_subset_set _)) $$ H
  iintro H
  have e : m.view.readAt (Elt F) (Rect.unit (s := ⟨1, dd⟩) off size inb).toLoadRect g = ar (dd := size) fun j => f (n + j) := by
    funext y
    rw [View.readAt_apply, hg]
    show f _ = f _
    congr 1
    show off 0 + 1 * (y 0).val = n + (y 0).val
    omega
  rw [e]
  iapply Hk
  iexists g
  isplitr
  · ipureintro; exact hg
  · iexact H

/-- A store of a unit-stride rectangle. -/
theorem wp_isStore {dd : Fin 1 → ℕ} {m : Memref sig .scVector .vmem ⟨1, dd⟩ e} {f : ℕ → Elt F e} {off size : Fin 1 → ℕ} {inb : ∀ a, off a + size a ≤ dd a}
    {w : (Rect.unit (s := ⟨1, dd⟩) off size inb).shape.Idx → Elt F e}
    {hx : (m.access (Rect.unit (s := ⟨1, dd⟩) off size inb)).Stores Finset.univ} {hm : Finset.univ = Finset.univ ∨ ∀ a, (Rect.unit (s := ⟨1, dd⟩) off size inb).stride a = 1}
    (n c : ℕ) (hn : off 0 = n) (hc : size 0 = c) (w' : ℕ → Elt F e) (hw : ∀ y, w y = w' (y 0).val)
    {k : PUnit → Prog (TpuEff nD τ sig (Elt F) Λ₀ (.scVector cr su)) β} :
    Is cr su d m (ar f)
      ⊢ iprop((Is cr su d m (ar fun j => if n ≤ j ∧ j < n + c then w' (j - n) else f j) -∗ wp frame (wpE defs 𝒱 (thr cr su d) bd) Set.univ (k ⟨⟩) Q)
        -∗ wp frame (wpE defs 𝒱 (thr cr su d) bd) Set.univ (.op (.store m (Rect.unit (s := ⟨1, dd⟩) off size inb) w Finset.univ hx hm) k) Q) := by
  unfold Is
  iintro ⟨%g, %hg, H⟩ Hk
  iapply (show _ ⊢ _ from wp_store 𝒱 (thr cr su d) bd Set.univ (m := m) (r := Rect.unit (s := ⟨1, dd⟩) off size inb) (hx := hx) (hm := hm) (k := k) (Q := Q) (f := g) (S := m.view.set)
    ((View.setOn_subset_set _ _).trans (View.set_slice_subset _ _))) $$ H
  iintro H
  iapply Hk
  iexists _
  isplitr [H]
  swap
  · iexact H
  · ipureintro
    funext y
    rw [show (m.access (Rect.unit (s := ⟨1, dd⟩) off size inb)).write (Elt F) g w Finset.univ
      = m.view.writes (Elt F) g [(⟨Rect.unit (s := ⟨1, dd⟩) off size inb, w⟩ : View.Piece (Elt F) ⟨1, dd⟩ e)] from rfl,
      View.read_writes_cons_unit m.view g inb w [] y rfl]
    have hiff : (∀ a, off a ≤ (y a).val ∧ (y a).val < off a + size a) ↔ (n ≤ (y 0).val ∧ (y 0).val < n + c) :=
      ⟨fun h => by have := h 0; rw [hn, hc] at this; exact this, fun h a => by rw [Fin.eq_zero a, hn, hc]; exact h⟩
    show _ = if _ then _ else _
    by_cases h : ∀ a, off a ≤ (y a).val ∧ (y a).val < off a + size a
    · rw [dif_pos h, if_pos (hiff.mp h), hw, Rect.unitLocal_val, hn]
    · rw [dif_neg h, if_neg (fun h' => h (hiff.mpr h')), View.writes_nil, hg]; rfl

/-- A gather. -/
theorem wp_isLoadIdx {s t : Shape} {m : Memref sig .scVector .vmem s e} {f : s.Idx → Elt F e} {idxs : Fin s.rank → IVec t 32}
    {h : ∀ a x, (idxs a x).toNat < s.size a} {hl : m.view.Loads}
    {k : Vec F t e → Prog (TpuEff nD τ sig (Elt F) Λ₀ (.scVector cr su)) β} :
    Is cr su d m f
      ⊢ iprop((Is cr su d m f -∗ wp frame (wpE defs 𝒱 (thr cr su d) bd) Set.univ (k (loadIdx f idxs h)) Q)
        -∗ wp frame (wpE defs 𝒱 (thr cr su d) bd) Set.univ (SparseCore.vectorLoadIdx m idxs h hl >>= k) Q) := by
  unfold Is
  iintro ⟨%g, %hg, H⟩ Hk
  iapply (show _ ⊢ _ from wp_vectorLoadIdx 𝒱 (thr cr su d) bd Set.univ (base := m) (idxs := idxs) (h := h) (hl := hl) (k := k) (Q := Q) (f := g) (q := fullShare) (S := m.view.set) (View.set_slice_subset _ _)) $$ H
  iintro H
  have e : (m.access (.whole s)).read (Elt F) g = f := by
    rw [← hg]
    funext y
    show m.view.read (Elt F) g ((Rect.whole s).emb y) = _
    rw [Rect.emb_whole_apply]
  rw [e]
  iapply Hk
  iexists g
  isplitr
  · ipureintro; exact hg
  · iexact H

/-- A scatter. -/
theorem wp_isStoreIdx {s : Shape} {dd : Fin 1 → ℕ} {m : Memref sig .scVector .vmem s e} {f : s.Idx → Elt F e} {idxs : Fin s.rank → IVec ⟨1, dd⟩ 32}
    {v : Vec F ⟨1, dd⟩ e} {mask : IVec ⟨1, dd⟩ 1} {add : Bool}
    {h : ∀ a x, (idxs a x).toNat < s.size a} {hs : (m.access (.whole s)).Stores Finset.univ}
    {k : PUnit → Prog (TpuEff nD τ sig (Elt F) Λ₀ (.scVector cr su)) β} :
    Is cr su d m f
      ⊢ iprop((Is cr su d m (storeIdx f idxs v mask add h) -∗ wp frame (wpE defs 𝒱 (thr cr su d) bd) Set.univ (k ⟨⟩) Q)
        -∗ wp frame (wpE defs 𝒱 (thr cr su d) bd) Set.univ (SparseCore.vectorStoreIdx m idxs v mask add h hs >>= k) Q) := by
  have es : (m.access (.whole s)).set = m.view.set := by rw [View.set_slice, Rect.set_whole]; rfl
  have er : ∀ g, (m.access (.whole s)).read (Elt F) g = m.view.read (Elt F) g := fun g => by
    funext y
    show m.view.read (Elt F) g ((Rect.whole s).emb y) = _
    rw [Rect.emb_whole_apply]
  unfold Is
  iintro ⟨%g, %hg, H⟩ Hk
  iapply (show (m.view.loc (thr cr su d) ↦[m.view.set]{fullShare} g : sProp 𝕄) ⊢ iprop(((m.view.loc (thr cr su d) ↦[m.view.set]{fullShare} _) -∗ _) -∗ _) from
    es ▸ wp_vectorStoreIdx 𝒱 (thr cr su d) bd Set.univ (base := m) (idxs := idxs) (h := h) (v := v) (mask := mask) (add := add) (hs := hs) (k := k) (Q := Q) (f := g)) $$ H
  iintro H
  iapply Hk
  iexists _
  isplitr [H]
  swap
  · iexact H
  · ipureintro
    rw [← er, View.read_write_univ, er, hg]
end

/-! ## The scatter of an array of numbers -/

section
variable [FloatOps F] {e : EltTy}

theorem storeIdx_ar {ds dd : Fin 1 → ℕ} (f : ℕ → Elt F e) (idxs : Fin 1 → IVec ⟨1, dd⟩ 32) (v : Vec F ⟨1, dd⟩ e) (mask : IVec ⟨1, dd⟩ 1)
    (h : ∀ a x, (idxs a x).toNat < ds a) (c : ℕ) (hc : dd 0 = c) (ix : ℕ → ℕ) (hix : ∀ x, (idxs 0 x).toNat = ix (x 0).val) (w : ℕ → Elt F e) (hv : ∀ x, v x = w (x 0).val)
    (mk : ℕ → Bool) (hmk : ∀ x, mask x = 1 ↔ mk (x 0).val = true) :
    storeIdx (s := ⟨1, ds⟩) (ar f) idxs v mask false h = ar (scat c f ix w mk) := by
  subst hc
  have key : ∀ (l : List (Fin (dd 0))) (g : ℕ → Elt F e),
      l.foldl (fun (g : (⟨1, ds⟩ : Shape).Idx → Elt F e) k => if mask (Shape.ofLane k) = 1 then
          fun j => if (∀ a, (j a).val = (idxAt (s := ⟨1, ds⟩) idxs h (Shape.ofLane k) a).val) then v (Shape.ofLane k) else g j else g) (ar g)
        = ar ((l.map Fin.val).foldl (fun g k => if mk k then fun j => if j = ix k then w k else g j else g) g) := by
    intro l
    induction l with
    | nil => intro g; rfl
    | cons k l ih =>
      intro g
      rw [List.foldl_cons, List.map_cons, List.foldl_cons, ← ih]
      congr 1
      have hlane : ((Shape.ofLane k : (⟨1, dd⟩ : Shape).Idx) 0).val = k.val := rfl
      by_cases hm : mask (Shape.ofLane k) = 1
      · have hm' := (hmk _).mp hm
        rw [hlane] at hm'
        rw [if_pos hm, if_pos hm']
        funext j
        have e1 : (∀ a, (j a).val = (idxAt (s := ⟨1, ds⟩) idxs h (Shape.ofLane k) a).val) ↔ (j 0).val = ix k.val := by
          rw [← hlane, ← hix]
          exact ⟨fun h => h 0, fun h a => by rw [Fin.eq_zero a]; exact h⟩
        by_cases hj : (j 0).val = ix k.val
        · rw [if_pos (e1.mpr hj), hv]; exact (if_pos hj).symm
        · rw [if_neg (fun h => hj (e1.mp h))]; exact (if_neg hj).symm
      · rw [if_neg hm, if_neg (fun h => hm ((hmk _).mpr (by rw [hlane]; exact h)))]
  unfold storeIdx
  simp only [Bool.false_eq_true, if_false]
  refine (key (List.finRange (dd 0)) f).trans ?_
  rw [scat, List.map_coe_finRange_eq_range]

theorem storeIdx_ar2 {ds : Fin 2 → ℕ} {dd : Fin 1 → ℕ} (f : ℕ × ℕ → Elt F e) (idxs : Fin 2 → IVec ⟨1, dd⟩ 32) (v : Vec F ⟨1, dd⟩ e) (mask : IVec ⟨1, dd⟩ 1)
    (h : ∀ a x, (idxs a x).toNat < ds a) (c : ℕ) (hc : dd 0 = c) (ix : ℕ → ℕ × ℕ) (hix : ∀ x, ((idxs 0 x).toNat, (idxs 1 x).toNat) = ix (x 0).val) (w : ℕ → Elt F e) (hv : ∀ x, v x = w (x 0).val)
    (mk : ℕ → Bool) (hmk : ∀ x, mask x = 1 ↔ mk (x 0).val = true) :
    storeIdx (s := ⟨2, ds⟩) (ar2 f) idxs v mask false h = ar2 (scat c f ix w mk) := by
  subst hc
  have key : ∀ (l : List (Fin (dd 0))) (g : ℕ × ℕ → Elt F e),
      l.foldl (fun (g : (⟨2, ds⟩ : Shape).Idx → Elt F e) k => if mask (Shape.ofLane k) = 1 then
          fun j => if (∀ a, (j a).val = (idxAt (s := ⟨2, ds⟩) idxs h (Shape.ofLane k) a).val) then v (Shape.ofLane k) else g j else g) (ar2 g)
        = ar2 ((l.map Fin.val).foldl (fun g k => if mk k then fun j => if j = ix k then w k else g j else g) g) := by
    intro l
    induction l with
    | nil => intro g; rfl
    | cons k l ih =>
      intro g
      rw [List.foldl_cons, List.map_cons, List.foldl_cons, ← ih]
      congr 1
      have hlane : ((Shape.ofLane k : (⟨1, dd⟩ : Shape).Idx) 0).val = k.val := rfl
      by_cases hm : mask (Shape.ofLane k) = 1
      · have hm' := (hmk _).mp hm
        rw [hlane] at hm'
        rw [if_pos hm, if_pos hm']
        funext j
        have e1 : (∀ a, (j a).val = (idxAt (s := ⟨2, ds⟩) idxs h (Shape.ofLane k) a).val) ↔ ((j 0).val, (j 1).val) = ix k.val := by
          rw [← hlane, ← hix, Prod.mk.injEq]
          exact ⟨fun h => ⟨h 0, h 1⟩, fun h a => by fin_cases a; exacts [h.1, h.2]⟩
        by_cases hj : ((j 0).val, (j 1).val) = ix k.val
        · rw [if_pos (e1.mpr hj), hv]; exact (if_pos hj).symm
        · rw [if_neg (fun h => hj (e1.mp h))]; exact (if_neg hj).symm
      · rw [if_neg hm, if_neg (fun h => hm ((hmk _).mpr (by rw [hlane]; exact h)))]
  unfold storeIdx
  simp only [Bool.false_eq_true, if_false]
  refine (key (List.finRange (dd 0)) f).trans ?_
  rw [scat, List.map_coe_finRange_eq_range]
end

end Cert.Proof.Steps

end
-- ==== Proof.Window.lean ====
/-
  A lane of a window and a group of sixteen of them: with the pairs of the blocks before lane `q` asked for, lane `q` asks
  for those of block `q` that lie in the window.
-/
module

public import proofs.«01_k».proof.Proof.Fire

@[expose] public section

noncomputable section

namespace Cert.Proof.Fire

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch

/-- The blocks of a sorted list: block `q` has `cn q` entries, its first pair is pair `P q`. -/
structure Blocks (P cn : ℕ → ℕ) : Prop where
  step : ∀ q < 64, P (q + 1) = P q + (cn q + 1) / 2
  le : ∀ q < 64, cn q ≤ 1024
  top : P 64 ≤ 576

namespace Blocks
variable {P cn : ℕ → ℕ} (h : Blocks P cn)
include h
theorem mono_aux (q : ℕ) : ∀ r, q + r ≤ 64 → P q ≤ P (q + r)
  | 0, _ => le_refl _
  | r + 1, hr => by
    have := mono_aux q r (by omega)
    have := h.step (q + r) (by omega)
    rw [← Nat.add_assoc]; omega
theorem mono {q r : ℕ} (hqr : q ≤ r) (hr : r ≤ 64) : P q ≤ P r := by
  obtain ⟨t, rfl⟩ := Nat.exists_eq_add_of_le hqr
  exact h.mono_aux q t hr
theorem le_top {q : ℕ} (hq : q ≤ 64) : P q ≤ 576 := le_trans (h.mono hq (le_refl _)) h.top
end Blocks

/-- The block a pair is in. -/
def laneOf (P : ℕ → ℕ) (x : ℕ) : ℕ := ((Finset.range 64).filter fun q => P (q + 1) ≤ x).card

theorem laneOf_eq {P cn : ℕ → ℕ} (h : Blocks P cn) {q x : ℕ} (hq : q < 64) (h₁ : P q ≤ x) (h₂ : x < P (q + 1)) : laneOf P x = q := by
  have e : (Finset.range 64).filter (fun q => P (q + 1) ≤ x) = Finset.range q := by
    ext r
    simp only [Finset.mem_filter, Finset.mem_range]
    constructor
    · rintro ⟨hr, hx⟩
      by_contra hlt
      have := h.mono (q := q + 1) (r := r + 1) (by omega) (by omega)
      omega
    · intro hr
      have := h.mono (q := r + 1) (r := q) (by omega) (by omega)
      exact ⟨by omega, by omega⟩
  rw [laneOf, e, Finset.card_range]

/-- The pairs asked for in the window from pair `b` on before block `q`. -/
def Kof (P : ℕ → ℕ) (b q : ℕ) : ℕ := min 192 (P q - b)

theorem Kof_mono {P cn : ℕ → ℕ} (h : Blocks P cn) (b : ℕ) {q r : ℕ} (hqr : q ≤ r) (hr : r ≤ 64) : Kof P b q ≤ Kof P b r := by
  have := h.mono hqr hr
  simp only [Kof]; omega

variable {Ix : Type} [DecidableEq Ix] {F : FTy → Type} {Name : Type} [DecidableEq Name]
variable {U : Type} [URA U] {Lvl : Type} [Preorder Lvl]

local notation "𝕄" => MT nD τ sig Ix (Elt F) Name U Lvl

section
variable (EC : UEmb Counters (MT nD τ sig Ix (Elt F) Name U Lvl)) (cr : Fin τ.nSC) (su : Fin τ.nSub) (d : Dev nD)
variable (arg3 : Memref sig .scVector .hbm S8192x8192 .f32) (arg8 : Memref sig .scVector .vmem S584x2 .i32)
  (arg13 : Memref sig .scVector .vmem S384x128 .f32) (arg19 : DmaSems sig S_)
variable (ι : Ix) (ft : Buf (Elt F) (arg3.view.loc (thr cr su d))) (fr : Buf (Elt F) (arg8.view.loc (thr cr su d))) (fd : Buf (Elt F) (arg13.view.loc (thr cr su d)))
variable (P : ℕ → ℕ) (b : ℕ) (qs : ℕ → PosShare TreeShare)

/-- The window with `k` pairs asked for. -/
def Win (k : ℕ) : sProp 𝕄 :=
  iprop(Batch EC (thr cr su d) (.dma arg19.sem) ι 4096 (fun x : Fin (2 * Kof P b 64) => Done cr su d arg3 arg8 arg13 ft fr fd b (2 * Kof P b 64) (laneOf P) qs x.val) (2 * k) 0
    ∗ Held cr su d arg3 arg8 arg13 ft fr fd b qs k)
end

section
variable [Infinite Name] (EC : UEmb Counters (MT nD τ sig Ix (Elt F) Name U Lvl)) [EC.LandsIn (upEmb : UEmb _ (MT nD τ sig Ix (Elt F) Name U Lvl))] [FloatOps F] {defs : Defs nD τ sig (Elt F) Λ₀} (𝒱 : Variants) (bd : Option 𝒱.V)
variable (cr : Fin τ.nSC) (su : Fin τ.nSub) (d : Dev nD)
variable (arg3 : Memref sig .scVector .hbm S8192x8192 .f32) (arg8 : Memref sig .scVector .vmem S584x2 .i32)
  (arg13 : Memref sig .scVector .vmem S384x128 .f32) (arg19 : DmaSems sig S_)
variable (ι : Ix) (ft : Buf (Elt F) (arg3.view.loc (thr cr su d))) (fr : Buf (Elt F) (arg8.view.loc (thr cr su d))) (fd : Buf (Elt F) (arg13.view.loc (thr cr su d)))
variable {P cn : ℕ → ℕ} (hB : Blocks P cn) {b : ℕ} (hb : b + 192 ≤ 576) (qs : ℕ → PosShare TreeShare)
  (hin : ∀ x, (arg8.view.read (Elt F) fr x : BitVec 32).toNat < 8192)
  (hcr : ∀ s' : Shape, sig.dmaCredit .scVector (Kind.scVector.table .vmem) arg13.view.buf s' .f32 = s'.numel * 32)
  {α : Type} {Q : α → sProp (MT nD τ sig Ix (Elt F) Name U Lvl)} {kk : BitVec 32 → Prog (TpuEff nD τ sig (Elt F) Λ₀ (.scVector cr su)) α}

theorem addi_ofNat_one (k : ℕ) : Scalar.addi (BitVec.ofNat 32 k) 1#32 = BitVec.ofNat 32 (k + 1) := by
  rw [BitVec.ofNat_add]; rfl

include hB hb hin hcr in
/-- A lane. -/
theorem wp_lane {q : ℕ} (hq : q < 64) {w₀ w₁ c st : BitVec 32} (hw₀ : w₀ = BitVec.ofNat 32 (2 * b)) (hw₁ : w₁ = BitVec.ofNat 32 (2 * (b + 192)))
    (hc : c = BitVec.ofNat 32 (cn q)) (hst : st = BitVec.ofNat 32 (2 * P q)) {oc : Fin 2 → ℕ} (hoc : ∀ a, oc a + S8192x128.size a ≤ S8192x8192.size a)
    (ec : oc = ![0, 128 * q]) {Pr : Prop} {dec : Decidable Pr} {hP : Pr → Chk w₀ w₁ c st} (hP' : Chk w₀ w₁ c st → Pr)
    {tot : BitVec 32} (ht : tot = BitVec.ofNat 32 (Kof P b q)) :
    Win EC cr su d arg3 arg8 arg13 arg19 ι ft fr fd P b qs (Kof P b q)
      ⊢ iprop((∀ tot', iprop(⌜tot' = BitVec.ofNat 32 (Kof P b (q + 1))⌝ ∗ Win EC cr su d arg3 arg8 arg13 arg19 ι ft fr fd P b qs (Kof P b (q + 1))) -∗ wp frame (wpE defs 𝒱 (thr cr su d) bd) Set.univ (kk tot') Q)
          -∗ wp frame (wpE defs 𝒱 (thr cr su d) bd) Set.univ (lane arg3 arg8 arg13 arg19 w₀ w₁ c st oc hoc Pr dec hP tot >>= kk) Q) := by
  subst hw₀ hw₁ hc hst ht
  have hstep := hB.step q hq
  have hC := hB.le q hq
  have hp := hB.le_top (q := q) (by omega)
  have hmono := Kof_mono hB b (q := q + 1) (r := 64) (by omega) (le_refl _)
  have hchk := chk hC hp hb
  have htr : (loopA (BitVec.ofNat 32 (2 * b)) (BitVec.ofNat 32 (2 * (b + 192))) (BitVec.ofNat 32 (cn q)) (BitVec.ofNat 32 (2 * P q))).trips = Kof P b (q + 1) - Kof P b q := by
    rw [loopA_trips hC (by omega) (by omega) (by omega) (by omega), trips_pairs, ← hstep]; rfl
  have hle : Kof P b q ≤ Kof P b (q + 1) := Kof_mono hB b (by omega) (by omega)
  rw [lane_bind]
  iintro HW Hk
  iapply (show wp (M := 𝕄) frame (wpE defs 𝒱 (thr cr su d) bd) Set.univ _ Q ⊢ wp frame (wpE defs 𝒱 (thr cr su d) bd) Set.univ _ Q from wp_assume 𝒱 (thr cr su d) bd Set.univ (hP' hchk))
  let I : ℕ → BitVec 32 → sProp 𝕄 := fun t acc => iprop(⌜acc = BitVec.ofNat 32 (Kof P b q + t)⌝ ∗ Win EC cr su d arg3 arg8 arg13 arg19 ι ft fr fd P b qs (Kof P b q + t))
  iapply (Scf.wp_for_bind frame (wpE defs 𝒱 (thr cr su d) bd) Set.univ _ _ _ _ _ _ I ?_) $$ [HW]
  · intro t acc
    have htt := lt_of_lt_of_eq t.isLt htr
    have htt' : t.val < trips (2 * b) (2 * (b + 192)) (cn q) (2 * P q) := by rw [trips_pairs, ← hstep]; exact htt
    simp only [Kof] at htt hmono
    iintro ⟨%hacc, HW⟩
    subst hacc
    unfold Win
    have hmin : min 192 (P q - b) = P q - b := by omega
    iapply (show _ ⊢ _ from wp_fire (kk := pure) (Q := I (t.val + 1)) cr su d arg3 arg8 arg13 arg19 _ _ hoc EC (defs := defs) 𝒱 bd ι (BitVec.ofNat 32 (Kof P b q + t.val)) (n := 2 * Kof P b 64) (k := Kof P b q + t.val) (q := q) (laneOf := laneOf P)
      hb hq (by simp only [Kof]; omega) (by simp only [Kof]; omega) (laneOf_eq hB hq (by simp only [Kof]; omega) (by simp only [Kof]; omega))
      (offDst_eq hC hp hb htt') (offRows_eq hC hp hb htt') ec qs ft fr fd hin hcr) $$ [HW]
    · iexact HW
    iintro HW
    rw [wp_pure]
    imodintro
    isplitr
    · ipureintro
      exact (addi_ofNat_one _)
    · unfold Win; iexact HW
  · isplitr
    · ipureintro; rfl
    · iexact HW
  · iintro %acc ⟨%hacc, HW⟩
    rw [show Scf.trips (loopA (BitVec.ofNat 32 (2 * b)) (BitVec.ofNat 32 (2 * (b + 192))) (BitVec.ofNat 32 (cn q)) (BitVec.ofNat 32 (2 * P q))).lb _ _ = Kof P b (q + 1) - Kof P b q from htr, Nat.add_sub_cancel' hle] at hacc
    ihave HW := (show _ ⊢ Win EC cr su d arg3 arg8 arg13 arg19 ι ft fr fd P b qs (Kof P b (q + 1)) from Entails.of_eq (by rw [show Scf.trips (loopA (BitVec.ofNat 32 (2 * b)) (BitVec.ofNat 32 (2 * (b + 192))) (BitVec.ofNat 32 (cn q)) (BitVec.ofNat 32 (2 * P q))).lb _ _ = Kof P b (q + 1) - Kof P b q from htr, Nat.add_sub_cancel' hle])) $$ HW
    have hz := loopB_trips (BitVec.ofNat 32 (2 * b)) (BitVec.ofNat 32 (2 * (b + 192))) (BitVec.ofNat 32 (cn q)) (BitVec.ofNat 32 (2 * P q))
    iapply (Entails.of_eq (congrArg (fun p => wp frame (wpE defs 𝒱 (thr cr su d) bd) Set.univ (p >>= kk) Q) (show Scf.Loop.for _ _ acc _ = Prog.ret acc from Scf.for_eq_ret _ _ _ _ acc _ hz).symm))
    iapply (show wp frame (wpE defs 𝒱 (thr cr su d) bd) Set.univ (kk acc) Q ⊢ _ from .rfl)
    iapply Hk
    isplitr
    · ipureintro; exact hacc
    · iexact HW

include hB hb hin hcr in
/-- The same of a lane with nothing after it. -/
theorem wp_lane_last {R : BitVec 32 → sProp 𝕄} {q : ℕ} (hq : q < 64) {w₀ w₁ c st : BitVec 32} (hw₀ : w₀ = BitVec.ofNat 32 (2 * b)) (hw₁ : w₁ = BitVec.ofNat 32 (2 * (b + 192)))
    (hc : c = BitVec.ofNat 32 (cn q)) (hst : st = BitVec.ofNat 32 (2 * P q)) {oc : Fin 2 → ℕ} (hoc : ∀ a, oc a + S8192x128.size a ≤ S8192x8192.size a)
    (ec : oc = ![0, 128 * q]) {Pr : Prop} {dec : Decidable Pr} {hP : Pr → Chk w₀ w₁ c st} (hP' : Chk w₀ w₁ c st → Pr)
    {tot : BitVec 32} (ht : tot = BitVec.ofNat 32 (Kof P b q)) :
    Win EC cr su d arg3 arg8 arg13 arg19 ι ft fr fd P b qs (Kof P b q)
      ⊢ iprop((∀ tot', iprop(⌜tot' = BitVec.ofNat 32 (Kof P b (q + 1))⌝ ∗ Win EC cr su d arg3 arg8 arg13 arg19 ι ft fr fd P b qs (Kof P b (q + 1))) -∗ R tot')
          -∗ wp frame (wpE defs 𝒱 (thr cr su d) bd) Set.univ (lane arg3 arg8 arg13 arg19 w₀ w₁ c st oc hoc Pr dec hP tot) R) := by
  have h := wp_lane EC (defs := defs) 𝒱 bd cr su d arg3 arg8 arg13 arg19 ι ft fr fd (kk := pure) (Q := R) hB hb qs hin hcr hq hw₀ hw₁ hc hst hoc ec (dec := dec) (hP := hP) hP' ht
  rw [bind_pure] at h
  iintro HW Hk
  iapply h $$ HW
  iintro %tot' H
  rw [wp_pure]
  imodintro
  iapply Hk $$ H

end

end Cert.Proof.Fire

end
-- ==== Proof.Sort.lean ====
/-
  The counting sort of a tile's 1024 positions by the 128-column block they read, over the naturals.
-/
module

public import proofs.«01_k».proof.Proof.Window
public import Mathlib.Order.Interval.Finset.Nat
public import Mathlib.Algebra.BigOperators.Group.Finset.Basic
public import Mathlib.Data.Nat.Count

@[expose] public section

namespace Cert.Proof.Sort

variable (g : ℕ → ℕ)

/-- How many of the first `J` positions are in block `q`, -/
def cnt (J q : ℕ) : ℕ := Nat.count (fun j => g j = q) J
/-- of all 1024. -/
def cn (q : ℕ) : ℕ := cnt g 1024 q
/-- The pairs of slots before block `q`. -/
def pre : ℕ → ℕ
  | 0 => 0
  | q + 1 => pre q + (cn g q + 1) / 2
/-- The slot of position `j`. -/
def slot (j : ℕ) : ℕ := 2 * pre g (g j) + cnt g j (g j)

theorem cnt_zero (q : ℕ) : cnt g 0 q = 0 := Nat.count_zero _

theorem cnt_succ (J q : ℕ) : cnt g (J + 1) q = cnt g J q + if g J = q then 1 else 0 := Nat.count_succ _ _

theorem cnt_add (J n q : ℕ) : cnt g (J + n) q = cnt g J q + Nat.count (fun l => g (J + l) = q) n := Nat.count_add _ _ _

theorem cnt_le (J q : ℕ) : cnt g J q ≤ J := Nat.count_le _

theorem cnt_mono {J J' : ℕ} (h : J ≤ J') (q : ℕ) : cnt g J q ≤ cnt g J' q := Nat.count_monotone _ h

theorem cnt_lt {j J : ℕ} (h : j < J) : cnt g j (g j) < cnt g J (g j) := Nat.count_strict_mono (p := fun i => g i = g j) rfl h

theorem pre_mono {q r : ℕ} (h : q ≤ r) : pre g q ≤ pre g r := by
  induction r, h using Nat.le_induction with
  | base => exact le_refl _
  | succ r _ ih => exact ih.trans (Nat.le_add_right _ _)

theorem sum_cnt (J : ℕ) : ∑ q ∈ Finset.range 64, cnt g J q ≤ J := by
  induction J with
  | zero => simp [cnt_zero]
  | succ J ih =>
    simp only [cnt_succ, Finset.sum_add_distrib]
    have : (∑ q ∈ Finset.range 64, if g J = q then 1 else 0) ≤ 1 := by
      rw [Finset.sum_ite_eq]; split <;> omega
    omega

theorem two_pre (q : ℕ) : 2 * pre g q ≤ (∑ r ∈ Finset.range q, cn g r) + q := by
  induction q with
  | zero => simp [pre]
  | succ q ih => rw [Finset.sum_range_succ]; simp only [pre]; omega

theorem pre_top : pre g 64 ≤ 544 := by
  have h₁ := two_pre g 64
  have h₂ : ∑ q ∈ Finset.range 64, cn g q ≤ 1024 := sum_cnt g 1024
  omega

theorem blocks : Cert.Proof.Fire.Blocks (pre g) (cn g) where
  step _ _ := rfl
  le q _ := cnt_le g 1024 q
  top := (pre_top g).trans (by omega)

theorem slot_lt {j : ℕ} (h : j < 1024) : slot g j < 2 * pre g (g j + 1) := by
  have h₁ := cnt_lt g h
  have h₂ : cnt g 1024 (g j) = cn g (g j) := rfl
  simp only [slot, pre]; omega

theorem slot_ge (j : ℕ) : 2 * pre g (g j) ≤ slot g j := Nat.le_add_right _ _

theorem slot_top {j : ℕ} (h : j < 1024) (hg : g j < 64) : slot g j < 2 * pre g 64 := by
  have h₁ := slot_lt g h
  have h₂ := pre_mono g (q := g j + 1) (r := 64) hg
  omega

theorem slot_bound {j : ℕ} (h : j < 1024) (hg : g j < 64) : slot g j < 1088 := by
  have h₁ := slot_top g h hg
  have h₂ := pre_top g
  omega

theorem slot_inj {j j' : ℕ} (h : j < 1024) (h' : j' < 1024) (e : slot g j = slot g j') : j = j' := by
  have hge := slot_ge g j
  have hge' := slot_ge g j'
  have hlt := slot_lt g h
  have hlt' := slot_lt g h'
  rcases Nat.lt_trichotomy (g j) (g j') with hg | hg | hg
  · have := pre_mono g (q := g j + 1) (r := g j') hg
    omega
  · unfold slot at e
    rw [hg] at e
    rcases Nat.lt_trichotomy j j' with hj | hj | hj
    · have h₁ := cnt_lt g hj
      rw [hg] at h₁; omega
    · exact hj
    · have h₁ := cnt_lt g hj
      omega
  · have := pre_mono g (q := g j' + 1) (r := g j) hg
    omega

theorem lane_slot {j : ℕ} (h : j < 1024) (hg : g j < 64) : Cert.Proof.Fire.laneOf (pre g) (slot g j / 2) = g j := by
  have h₁ := slot_ge g j
  have h₂ := slot_lt g h
  exact Cert.Proof.Fire.laneOf_eq (blocks g) hg (by omega) (by omega)

end Cert.Proof.Sort
-- ==== Proof.Vec.lean ====
/-
  The vectors of sixteen words that a tile computes, as functions of the lane: clips, shifts and masks, the running
  sums, and the running counts of equal lanes.
-/
module

public import proofs.«01_k».proof.Proof.Words
public import proofs.«01_k».proof.Proof.Steps
public import proofs.«01_k».proof.Proof.Sort

@[expose] public section

noncomputable section

namespace Cert.Proof.Vec

open Idealize.ShloMosaic Idealize.SL.Sem Cert.KernelIdeal Cert.KernelIdeal.Gen Cert.Proof.Lane Cert.Proof.Steps

/-- Sixteen words that are naturals. -/
def V (x : ℕ → ℕ) : IVec S16 32 := ar fun l => BitVec.ofNat 32 (x l)

theorem V_congr {x y : ℕ → ℕ} (h : ∀ l < 16, x l = y l) : V x = V y := by
  funext i; exact congrArg (BitVec.ofNat 32) (h _ (i 0).isLt)

/-! ## One word -/

theorem add_n (a b : ℕ) : IntOp.addi (BitVec.ofNat 32 a) (BitVec.ofNat 32 b) = BitVec.ofNat 32 (a + b) := (BitVec.ofNat_add a b).symm

theorem sub_n {a b : ℕ} (h : b ≤ a) : IntOp.subi (BitVec.ofNat 32 a) (BitVec.ofNat 32 b) = BitVec.ofNat 32 (a - b) := by
  have e : BitVec.ofNat 32 a = BitVec.ofNat 32 (a - b) + BitVec.ofNat 32 b := by rw [← BitVec.ofNat_add, Nat.sub_add_cancel h]
  show BitVec.ofNat 32 a - _ = _
  rw [e, BitVec.add_sub_cancel]

theorem shr_n (u : ArithUnit) {m k : ℕ} (hm : m < 2147483648) (hk : k < 32) : IntOp.shrsi u (BitVec.ofNat 32 m) (BitVec.ofNat 32 k) = BitVec.ofNat 32 (m / 2 ^ k) := by
  have hkk : (BitVec.ofNat 32 k).toNat = k := by rw [BitVec.toNat_ofNat]; omega
  unfold IntOp.shrsi
  rw [if_pos (by rw [hkk]; exact hk)]
  have hms : (BitVec.ofNat 32 m).msb = false := by
    rw [BitVec.msb_eq_decide, BitVec.toNat_ofNat]; simp; omega
  unfold BitVec.sshiftRight'
  rw [BitVec.sshiftRight_eq_of_msb_false hms, hkk]
  apply BitVec.eq_of_toNat_eq
  rw [BitVec.toNat_ushiftRight, BitVec.toNat_ofNat, BitVec.toNat_ofNat, Nat.shiftRight_eq_div_pow, Nat.mod_eq_of_lt (by omega : m < 2 ^ 32),
    Nat.mod_eq_of_lt]
  exact lt_of_le_of_lt (Nat.div_le_self _ _) (by omega)

theorem shl_n (u : ArithUnit) (m : ℕ) {k : ℕ} (hk : k < 32) : IntOp.shli u (BitVec.ofNat 32 m) (BitVec.ofNat 32 k) = BitVec.ofNat 32 (m * 2 ^ k) := by
  have hkk : (BitVec.ofNat 32 k).toNat = k := by rw [BitVec.toNat_ofNat]; omega
  unfold IntOp.shli
  rw [if_pos (by rw [hkk]; exact hk), BitVec.shiftLeft_eq', hkk]
  apply BitVec.eq_of_toNat_eq
  rw [BitVec.toNat_shiftLeft, BitVec.toNat_ofNat, BitVec.toNat_ofNat, Nat.shiftLeft_eq, Nat.mod_mul_mod]

theorem and_n {m : ℕ} (k : ℕ) (hm : m < 4294967296) (hk : k < 32) : IntOp.andi (BitVec.ofNat 32 m) (BitVec.ofNat 32 (2 ^ k - 1)) = BitVec.ofNat 32 (m % 2 ^ k) := by
  have h2 : 2 ^ k < 2 ^ 32 := Nat.pow_lt_pow_right (by decide) hk
  apply BitVec.eq_of_toNat_eq
  show (BitVec.ofNat 32 m &&& BitVec.ofNat 32 (2 ^ k - 1)).toNat = _
  rw [BitVec.toNat_and, BitVec.toNat_ofNat, BitVec.toNat_ofNat, BitVec.toNat_ofNat, Nat.mod_eq_of_lt (by omega : m < 2 ^ 32), Nat.mod_eq_of_lt (by omega : 2 ^ k - 1 < 2 ^ 32),
    Nat.and_two_pow_sub_one_eq_mod, Nat.mod_eq_of_lt (a := m % 2 ^ k)]
  exact lt_of_le_of_lt (Nat.mod_le _ _) (by omega)

theorem or_n {m n : ℕ} (k : ℕ) (hn : n < 2 ^ k) (h : m * 2 ^ k + n < 4294967296) : IntOp.ori (BitVec.ofNat 32 (m * 2 ^ k)) (BitVec.ofNat 32 n) = BitVec.ofNat 32 (m * 2 ^ k + n) := by
  apply BitVec.eq_of_toNat_eq
  show (BitVec.ofNat 32 (m * 2 ^ k) ||| BitVec.ofNat 32 n).toNat = _
  rw [BitVec.toNat_or, BitVec.toNat_ofNat, BitVec.toNat_ofNat, BitVec.toNat_ofNat, Nat.mod_eq_of_lt (by omega : m * 2 ^ k < 2 ^ 32), Nat.mod_eq_of_lt (by omega : n < 2 ^ 32),
    Nat.mod_eq_of_lt (by omega : m * 2 ^ k + n < 2 ^ 32), ← Nat.shiftLeft_eq, Nat.shiftLeft_add_eq_or_of_lt hn]

/-- A word brought into `0 … c`. -/
def clipTo (c : ℕ) (w : BitVec 32) : BitVec 32 := IntOp.minsi (BitVec.ofNat 32 c) (IntOp.maxsi 0#32 w)

theorem clipTo_lt {c : ℕ} (hc : c < 2000000000) (w : BitVec 32) : (clipTo c w).toNat ≤ c := by
  have hcc : (BitVec.ofNat 32 c).toInt = c := toInt_ofNat' (by omega)
  have hcn : (BitVec.ofNat 32 c).toNat = c := by rw [BitVec.toNat_ofNat]; omega
  unfold clipTo IntOp.minsi
  split
  · rw [hcn]
  · next h =>
    unfold IntOp.maxsi at h ⊢
    simp only [BitVec.slt, hcc, decide_eq_true_eq] at h ⊢
    split at h
    · rw [if_pos (by assumption)]; simp
    · next h0 =>
      rw [if_neg (by assumption)]
      have h1 : 0 ≤ w.toInt := by have : (0#32).toInt = 0 := by decide
                                  omega
      have h2 := BitVec.toInt_eq_toNat_cond w
      have h3 := w.isLt
      split at h2 <;> omega

theorem clipTo_of {c n : ℕ} (hc : c < 2000000000) (hn : n ≤ c) : clipTo c (BitVec.ofNat 32 n) = BitVec.ofNat 32 n := by
  have hcc : (BitVec.ofNat 32 c).toInt = c := toInt_ofNat' (by omega)
  have hnn : (BitVec.ofNat 32 n).toInt = n := toInt_ofNat' (by omega)
  have h0 : (0#32).toInt = 0 := by decide
  unfold clipTo
  have e : IntOp.maxsi 0#32 (BitVec.ofNat 32 n) = BitVec.ofNat 32 n := by
    unfold IntOp.maxsi
    simp only [BitVec.slt, hnn, h0, decide_eq_true_eq]
    rw [if_neg (by omega)]
  rw [e]
  unfold IntOp.minsi
  simp only [BitVec.slt, hnn, hcc, decide_eq_true_eq]
  rw [if_neg (by omega)]

/-- A state's number, out of whatever word is there. -/
def clp (w : BitVec 32) : ℕ := (clipTo 8191 w).toNat

theorem clp_lt (w : BitVec 32) : clp w < 8192 := Nat.lt_succ_of_le (clipTo_lt (by decide) w)

theorem clp_of {w : BitVec 32} (h : w.toNat < 8192) : clp w = w.toNat := by
  have e : w = BitVec.ofNat 32 w.toNat := by simp
  unfold clp
  rw [e, clipTo_of (by decide) (by omega)]

theorem clp_eq (w : BitVec 32) : clipTo 8191 w = BitVec.ofNat 32 (clp w) := by unfold clp; simp

/-! ## Positions -/

/-- Lane `k`. -/
def ln (k : Fin 16) : S16.Idx := fun | 0 => k

theorem ln_eq (i : S16.Idx) : ln (i 0) = i := by funext a; match a with | 0 => rfl

theorem pos_ln : ∀ j : Fin 16, (S16.rowMajor (ln j)).val = j.val := by decide

theorem pos_eq (i : S16.Idx) : (S16.rowMajor i).val = (i 0).val := by
  have h := pos_ln (i 0)
  rwa [ln_eq] at h

/-! ## Running counts -/

/-- Lane `l` is the last with its value. -/
def lastb (x : ℕ → ℕ) (l : ℕ) : Bool := decide (∀ l' : Fin 16, l < l'.val → x l'.val ≠ x l)

/-- The lanes up to `l` with its value. -/
def occ (x : ℕ → ℕ) (l : ℕ) : ℕ := Nat.count (fun l' => x l' = x l) (l + 1)

theorem occ_pos (x : ℕ → ℕ) (l : ℕ) : 1 ≤ occ x l := by
  unfold occ; rw [Nat.count_succ]; simp

theorem V_inj {x : ℕ → ℕ} (hx : ∀ l < 16, x l < 4294967296) (i j : S16.Idx) : V x i = V x j ↔ x (i 0).val = x (j 0).val := by
  have hi := hx _ (i 0).isLt
  have hj := hx _ (j 0).isLt
  constructor
  · intro h
    have h' := congrArg BitVec.toNat h
    change (BitVec.ofNat 32 _).toNat = (BitVec.ofNat 32 _).toNat at h'
    rw [BitVec.toNat_ofNat, BitVec.toNat_ofNat] at h'
    omega
  · intro h; exact congrArg (BitVec.ofNat 32) h

theorem counts_eq {mask : IVec S16 1} (hm : ∀ i, mask i = 1) {x : ℕ → ℕ} (hx : ∀ l < 16, x l < 4294967296) :
    (scanCount mask (V x)).2 = V (occ x) := by
  funext i
  show (if mask i = 1 then BitVec.ofNat 32 _ else 1) = BitVec.ofNat 32 _
  rw [if_pos (hm i)]
  congr 1
  unfold occ
  rw [Nat.count_eq_card_filter_range]
  refine Finset.card_nbij' (fun j => (j 0).val) (fun l => if h : l < 16 then ln ⟨l, h⟩ else i) ?_ ?_ ?_ ?_
  · intro j hj
    have hj' := (Finset.mem_filter.mp hj).2
    have h1 : (S16.rowMajor j).val ≤ (S16.rowMajor i).val := hj'.1
    rw [pos_eq, pos_eq] at h1
    change (j 0).val ≤ (i 0).val at h1
    exact Finset.mem_filter.mpr ⟨Finset.mem_range.mpr (Nat.lt_succ_of_le h1), (V_inj hx j i).mp hj'.2.2⟩
  · intro l hl
    have hl' := Finset.mem_filter.mp hl
    have h1 := Finset.mem_range.mp hl'.1
    have hi : (i 0).val < 16 := (i 0).isLt
    have h16 : l < 16 := by omega
    simp only [h16, dif_pos]
    refine Finset.mem_coe.mpr (Finset.mem_filter.mpr ⟨Finset.mem_univ _, ?_, hm _, (V_inj hx _ i).mpr hl'.2⟩)
    show (S16.rowMajor _).val ≤ (S16.rowMajor i).val
    rw [pos_eq, pos_eq]; show l ≤ _; omega
  · intro j hj
    have hj0 : (j 0).val < 16 := (j 0).isLt
    simp only [hj0, dif_pos]
    exact ln_eq j
  · intro l hl
    have h1 := Finset.mem_range.mp (Finset.mem_filter.mp hl).1
    have hi : (i 0).val < 16 := (i 0).isLt
    have h16 : l < 16 := by omega
    simp only [h16, dif_pos]
    rfl

theorem last_eq {mask : IVec S16 1} (hm : ∀ i, mask i = 1) {x : ℕ → ℕ} (hx : ∀ l < 16, x l < 4294967296) (i : S16.Idx) :
    (scanCount mask (V x)).1 i = 1 ↔ lastb x (i 0).val = true := by
  rw [scanCount]
  have e : (mask i = 1 ∧ ∀ j, (S16.rowMajor i).val < (S16.rowMajor j).val → ¬(mask j = 1 ∧ V x j = V x i)) ↔ lastb x (i 0).val = true := by
    unfold lastb
    rw [decide_eq_true_iff]
    constructor
    · rintro ⟨-, h⟩ l' hlt he
      refine h (ln l') (by rw [pos_eq, pos_eq]; exact hlt) ⟨hm _, (V_inj hx _ i).mpr he⟩
    · intro h
      refine ⟨hm i, fun j hj hv => h (j 0) ?_ ((V_inj hx j i).mp hv.2)⟩
      rw [pos_eq, pos_eq] at hj; exact hj
  rw [← e]
  dsimp only
  by_cases h : mask i = 1 ∧ ∀ j, (S16.rowMajor i).val < (S16.rowMajor j).val → ¬(mask j = 1 ∧ V x j = V x i)
  · rw [if_pos h]; exact ⟨fun _ => h, fun _ => rfl⟩
  · rw [if_neg h]; simp only [h, iff_false]; decide

/-! ## Running sums -/

theorem foldl_add (x : ℕ → ℕ) (L : List (Fin 16)) : ∀ a, L.foldl (fun r k => IntOp.addi r (BitVec.ofNat 32 (x k.val))) (BitVec.ofNat 32 a) = BitVec.ofNat 32 (a + (L.map fun k => x k.val).sum) := by
  induction L with
  | nil => intro a; rfl
  | cons k L ih => intro a; rw [List.foldl_cons, add_n, ih, List.map_cons, List.sum_cons, Nat.add_assoc]

theorem below_eq : ∀ j : Fin 16, ((List.finRange 16).filter fun k => decide (0 < k.val ∧ k.val ≤ j.val)).map Fin.val = (List.range j.val).map (· + 1) := by decide

theorem sum_list (x : ℕ → ℕ) (n : ℕ) : ((List.range n).map x).sum = ∑ i ∈ Finset.range n, x i := by
  induction n with
  | zero => rfl
  | succ n ih => rw [List.range_succ, List.map_append, List.sum_append, ih, Finset.sum_range_succ]; simp

theorem scan_eq (x : ℕ → ℕ) : scan .sum (V x) = V fun l => ∑ i ∈ Finset.range (l + 1), x i := by
  funext i
  have h := foldl_add x ((List.finRange 16).filter fun k => decide (0 < k.val ∧ k.val ≤ (i 0).val)) (x 0)
  refine h.trans (congrArg (BitVec.ofNat 32) ?_)
  have e := below_eq (i 0)
  have e' : (((List.finRange 16).filter fun k => decide (0 < k.val ∧ k.val ≤ (i 0).val)).map fun k => x k.val) = (List.range (i 0).val).map fun l => x (l + 1) := by
    rw [show (fun k : Fin 16 => x k.val) = x ∘ Fin.val from rfl, ← List.map_map, e, List.map_map]; rfl
  rw [e', sum_list (fun l => x (l + 1)), Nat.add_comm]
  exact (Finset.sum_range_succ' x (i 0).val).symm

end Cert.Proof.Vec

end
-- ==== Proof.Pay.lean ====
/-
  What a tile's vector instructions compute, over the words it loads: the packed pairs of states, their blocks, the
  counters' steps, the running starts of the blocks, the slots, and the packed positions.
-/
module

public import proofs.«01_k».proof.Proof.Vec

@[expose] public section

noncomputable section

namespace Cert.Proof.Vec

open Idealize.ShloMosaic Idealize.SL.Sem Cert.KernelIdeal Cert.KernelIdeal.Gen Cert.Proof.Lane Cert.Proof.Steps Cert.Proof.Sort

variable {F : FTy → Type} [FloatOps F]

/-- The lane numbers. -/
def iot : IVec S16 32 := iota .scVector S16 32 [0] iota_S16_d0_w32_scVector

theorem iot_eq : iot = V fun l => l := by
  funext i
  show BitVec.ofNat 32 _ = BitVec.ofNat 32 _
  simp

theorem zeros_eq : k0_pay103 = V fun _ => 0 := rfl

/-- The smallest running count. -/
theorem one_eq : extractAt ![0] k0_pay104 inpos_S1_p0 = 1#32 := by
  have h := counts_eq (mask := fun _ => 1) (fun _ => rfl) (x := fun _ => 0) (fun _ _ => by omega)
  have h' := congrFun h (ln 0)
  refine Eq.trans ?_ (h'.trans ?_)
  · show (scanCount _ _).2 _ = (scanCount _ _).2 _
    rw [zeros_eq]
    congr 1
  · show BitVec.ofNat 32 (occ _ 0) = _
    unfold occ
    rfl

theorem iv16 (t : ℕ) : Scalar.muli (Scf.iv 0#32 1#32 t) 16#32 = BitVec.ofNat 32 (16 * t) := by
  show (0#32 + BitVec.ofNat 32 t * 1#32) * BitVec.ofNat 32 16 = _
  rw [BitVec.mul_one, BitVec.zero_add, ← BitVec.ofNat_mul, Nat.mul_comm]

theorem at16 (t : ℕ) : (addi (broadcast S16 (Scalar.muli (Scf.iv 0#32 1#32 t) 16#32)) (V fun l => l) : IVec S16 32) = V fun l => 16 * t + l := by
  funext i
  show IntOp.addi (Scalar.muli _ _) (BitVec.ofNat 32 _) = _
  rw [iv16, add_n]; rfl

theorem pay105_eq (t : Fin k0_t1_loop.trips) : k0_pay105 iot t = V fun l => 16 * t.val + l := by rw [iot_eq]; exact at16 t.val

theorem pay142_eq (t : Fin k0_t41_loop.trips) : k0_pay142 iot t = V fun l => 16 * t.val + l := by rw [iot_eq]; exact at16 t.val
theorem pay146_eq (t : Fin k0_t79_loop.trips) : k0_pay146 iot t = V fun l => 16 * t.val + l := by rw [iot_eq]; exact at16 t.val
theorem pay4_eq (t : Fin k0_t117_loop.trips) : k0_pay4 iot t = V fun l => 16 * t.val + l := by rw [iot_eq]; exact at16 t.val

theorem pay106_eq (t : Fin k0_t1_loop.trips) (ht : t.val < 73) : k0_pay106 iot t = V fun l => (16 * t.val + l) / 2 := by
  unfold k0_pay106; rw [pay105_eq]; funext i
  have hi : (i 0).val < 16 := (i 0).isLt
  exact shr_n .vector (m := 16 * t.val + (i 0).val) (k := 1) (by omega) (by omega)

theorem pay107_eq (t : Fin k0_t1_loop.trips) (ht : t.val < 73) : k0_pay107 iot t = V fun l => (16 * t.val + l) % 2 := by
  unfold k0_pay107; rw [pay105_eq]; funext i
  have hi : (i 0).val < 16 := (i 0).isLt
  exact and_n (m := 16 * t.val + (i 0).val) 1 (by omega) (by omega)

theorem pay108_eq : k0_pay108 k0_pay103 = ar fun _ => -1#32 := by funext i; rfl

/-! ## The pairs of states -/

theorem pay109_eq (a b : ℕ → BitVec 32) : k0_pay109 (F := F) (ar a) (ar b) = V fun l => clp (a l) * 8192 + clp (b l) := by
  funext i
  show IntOp.ori (IntOp.shli .vector (clipTo 8191 (a _)) 13#32) (clipTo 8191 (b _)) = _
  have h₁ := clp_lt (a (i 0).val)
  have h₂ := clp_lt (b (i 0).val)
  rw [clp_eq, clp_eq]
  refine (congrArg (fun z => IntOp.ori z _) (shl_n .vector _ (k := 13) (by omega))).trans ?_
  exact or_n 13 h₂ (by omega)

theorem pay110_eq (a b : ℕ → BitVec 32) : k0_pay110 (F := F) (ar a) (ar b) = V fun l => clp (b l) / 128 := by
  unfold k0_pay110; rw [pay109_eq]; funext i
  have h₁ := clp_lt (a (i 0).val)
  have h₂ := clp_lt (b (i 0).val)
  show IntOp.andi (IntOp.shrsi .vector (BitVec.ofNat 32 _) 7#32) 63#32 = _
  refine (congrArg (fun z => IntOp.andi z 63#32) (shr_n .vector (m := clp (a (i 0).val) * 8192 + clp (b (i 0).val)) (k := 7) (by omega) (by omega))).trans ?_
  refine (and_n 6 (by omega) (by omega)).trans (congrArg (BitVec.ofNat 32) ?_)
  show _ = clp (b (i 0).val) / 128
  omega

theorem pay130_eq (x : ℕ → ℕ) (hx : ∀ l < 16, x l < 8192 * 8192) : k0_pay130 (F := F) (V x) = V fun l => x l / 128 % 64 := by
  funext i
  have h := hx _ (i 0).isLt
  show IntOp.andi (IntOp.shrsi .vector (BitVec.ofNat 32 _) 7#32) 63#32 = _
  refine (congrArg (fun z => IntOp.andi z 63#32) (shr_n .vector (k := 7) (by omega) (by omega))).trans ?_
  exact and_n 6 (by omega) (by omega)

theorem pay113_eq {x c : ℕ → ℕ} (hx : ∀ l < 16, x l < 4294967296) : k0_pay113 (F := F) 1#32 (V x) (V c) = V fun l => c l + occ x l := by
  unfold k0_pay113
  rw [counts_eq (mask := k0_pay111) (fun _ => rfl) hx]
  funext i
  have h := occ_pos x (i 0).val
  show IntOp.addi (IntOp.addi (BitVec.ofNat 32 _) (IntOp.subi (BitVec.ofNat 32 _) (BitVec.ofNat 32 1))) (BitVec.ofNat 32 1) = _
  rw [sub_n h, add_n, add_n]
  refine congrArg (BitVec.ofNat 32) ?_
  show _ = c (i 0).val + occ x (i 0).val
  omega

theorem pay112_eq {x : ℕ → ℕ} (hx : ∀ l < 16, x l < 4294967296) (i : S16.Idx) : k0_pay112 (V x) i = 1 ↔ lastb x (i 0).val = true := last_eq (fun _ => rfl) hx i
theorem pay132_eq {x : ℕ → ℕ} (hx : ∀ l < 16, x l < 4294967296) (i : S16.Idx) : k0_pay132 (V x) i = 1 ↔ lastb x (i 0).val = true := last_eq (fun _ => rfl) hx i

theorem pay133_eq {x c : ℕ → ℕ} (hx : ∀ l < 16, x l < 4294967296) (hb : ∀ l < 16, c l + occ x l ≤ 1104) :
    k0_pay133 (F := F) 1#32 (V x) (V c) = V fun l => c l + occ x l - 1 := by
  unfold k0_pay133
  rw [counts_eq (mask := k0_pay131) (fun _ => rfl) hx]
  funext i
  have h := occ_pos x (i 0).val
  have hbi := hb _ (i 0).isLt
  show clipTo 1103 (IntOp.addi (BitVec.ofNat 32 _) (IntOp.subi (BitVec.ofNat 32 _) (BitVec.ofNat 32 1))) = _
  rw [sub_n h, add_n]
  refine Eq.trans ?_ (clipTo_of (c := 1103) (n := c (i 0).val + occ x (i 0).val - 1) (by omega) (by omega))
  congr 2
  omega

theorem pay134_eq {x : ℕ → ℕ} (hx : ∀ l < 16, x l < 2000) : k0_pay134 (V x) = V fun l => x l / 2 := by
  funext i
  have h := hx _ (i 0).isLt
  exact shr_n .vector (k := 1) (by omega) (by omega)

theorem pay135_eq {x : ℕ → ℕ} (hx : ∀ l < 16, x l < 2000) : k0_pay135 (V x) = V fun l => x l % 2 := by
  funext i
  have h := hx _ (i 0).isLt
  exact and_n 1 (by omega) (by omega)

theorem pay136_eq {x : ℕ → ℕ} (hx : ∀ l < 16, x l < 8192 * 8192) : k0_pay136 (F := F) (V x) = V fun l => x l / 8192 := by
  funext i
  have h := hx _ (i 0).isLt
  exact shr_n .vector (k := 13) (by omega) (by omega)

theorem pay137_eq (t : Fin k0_t3_loop.trips) (ht : t.val < 64) {x : ℕ → ℕ} (hx : ∀ l < 16, x l < 8192 * 8192) :
    k0_pay137 (F := F) iot t (V x) = V fun l => (16 * t.val + l) * 128 + x l % 128 := by
  have h16 := at16 t.val
  rw [← iot_eq] at h16
  unfold k0_pay137
  dsimp only
  rw [h16]
  funext i
  have h := hx _ (i 0).isLt
  have hi : (i 0).val < 16 := (i 0).isLt
  show IntOp.ori (IntOp.shli .vector (BitVec.ofNat 32 _) 7#32) (IntOp.andi (BitVec.ofNat 32 _) 127#32) = _
  refine (congrArg (fun z => IntOp.ori z _) (shl_n .vector _ (k := 7) (by omega))).trans ?_
  refine (congrArg (fun z => IntOp.ori _ z) (and_n 7 (by omega) (by omega))).trans ?_
  exact or_n (m := 16 * t.val + (i 0).val) 7 (by omega) (by omega)

theorem pay138_eq (x : ℕ → ℕ) : k0_pay138 (V x) = V fun l => x l + 1 := by funext i; exact add_n _ 1

/-! ## The starts of the blocks -/

variable (g : ℕ → ℕ)

/-- A count, rounded up to pairs. -/
def up (c : ℕ) : ℕ := c + c % 2

theorem up_sum (b n : ℕ) : 2 * pre g b + ∑ l ∈ Finset.range n, up (cn g (b + l)) = 2 * pre g (b + n) := by
  induction n with
  | zero => simp
  | succ n ih =>
    rw [Finset.sum_range_succ, ← Nat.add_assoc, ih]
    show _ = 2 * (pre g (b + n) + (cn g (b + n) + 1) / 2)
    unfold up; omega

theorem ups_eq (c : ℕ → ℕ) (hc : ∀ l < 16, c l < 4294967296) :
    (addi (V c) (andi (V c) (broadcast S16 1#32)) : IVec S16 32) = V fun l => up (c l) := by
  funext i
  have h := hc _ (i 0).isLt
  show IntOp.addi (BitVec.ofNat 32 _) (IntOp.andi (BitVec.ofNat 32 _) 1#32) = _
  refine (congrArg (fun z => IntOp.addi _ z) (and_n 1 h (by omega))).trans ?_
  exact add_n _ _

theorem ups_cn (b : ℕ) : (addi (V fun l => cn g (b + l)) (andi (V fun l => cn g (b + l)) (broadcast S16 1#32)) : IVec S16 32) = V fun l => up (cn g (b + l)) :=
  ups_eq _ fun l _ => lt_of_le_of_lt (cnt_le g 1024 _) (by omega)

/-- The running sum from block `b` on. -/
theorem sums_cn (b : ℕ) : scan .sum (V fun l => up (cn g (b + l))) = V fun l => 2 * pre g (b + l + 1) - 2 * pre g b := by
  rw [scan_eq]
  funext i
  refine congrArg (BitVec.ofNat 32) ?_
  have h := up_sum g b ((i 0).val + 1)
  have h' := pre_mono g (q := b) (r := b + (i 0).val + 1) (by omega)
  rw [show b + ((i 0).val + 1) = b + (i 0).val + 1 from rfl] at h
  show (∑ l ∈ Finset.range ((i 0).val + 1), up (cn g (b + l))) = 2 * pre g (b + (i 0).val + 1) - 2 * pre g b
  omega

theorem last15 (x : ℕ → ℕ) : extractAt ![0] (extractStridedSlice S1 ![15] (V x) slices_S16_o15_S1) inpos_S1_p0 = BitVec.ofNat 32 (x 15) := rfl

/-- A block of starts, from the running sums and the offset. -/
theorem starts_cn (b : ℕ) : (subi (addi (broadcast S16 (BitVec.ofNat 32 (2 * pre g b))) (V fun l => 2 * pre g (b + l + 1) - 2 * pre g b)) (V fun l => up (cn g (b + l))) : IVec S16 32)
    = V fun l => 2 * pre g (b + l) := by
  funext i
  have h' := pre_mono g (q := b) (r := b + (i 0).val + 1) (by omega)
  have h := up_sum g (b + (i 0).val) 1
  rw [Finset.sum_range_one] at h
  show IntOp.subi (IntOp.addi (BitVec.ofNat 32 (2 * pre g b)) (BitVec.ofNat 32 (2 * pre g (b + (i 0).val + 1) - 2 * pre g b))) (BitVec.ofNat 32 (up (cn g (b + (i 0).val)))) = BitVec.ofNat 32 (2 * pre g (b + (i 0).val))
  rw [Nat.add_zero] at h
  rw [add_n, sub_n (by omega)]
  congr 1
  omega

/-- The counts of blocks `b …`. -/
abbrev C (b : ℕ) : IVec S16 32 := V fun l => cn g (b + l)

theorem pay115_eq : k0_pay115 (F := F) (C g 0) = V fun l => 2 * pre g (0 + l + 1) - 2 * pre g 0 := (congrArg (scan .sum) (ups_cn g 0)).trans (sums_cn g 0)
theorem pay119_eq : k0_pay119 (F := F) (C g 16) = V fun l => 2 * pre g (16 + l + 1) - 2 * pre g 16 := (congrArg (scan .sum) (ups_cn g 16)).trans (sums_cn g 16)
theorem pay123_eq : k0_pay123 (F := F) (C g 32) = V fun l => 2 * pre g (32 + l + 1) - 2 * pre g 32 := (congrArg (scan .sum) (ups_cn g 32)).trans (sums_cn g 32)
theorem pay127_eq : k0_pay127 (F := F) (C g 48) = V fun l => 2 * pre g (48 + l + 1) - 2 * pre g 48 := (congrArg (scan .sum) (ups_cn g 48)).trans (sums_cn g 48)

theorem pay116_eq : k0_pay116 (F := F) (C g 0) = V fun l => 2 * pre g (0 + l) := by
  unfold k0_pay116 k0_pay114
  dsimp only
  rw [pay115_eq, ups_cn]
  exact starts_cn g 0

theorem v54_eq : Scalar.addi 0#32 (extractAt ![0] (k0_pay117 (k0_pay115 (F := F) (C g 0))) inpos_S1_p0) = BitVec.ofNat 32 (2 * pre g 16) := by
  rw [pay115_eq]
  show 0#32 + BitVec.ofNat 32 (2 * pre g 16 - 2 * 0) = _
  rw [BitVec.zero_add]; rfl

theorem pay120_eq : k0_pay120 (F := F) (k0_pay115 (F := F) (C g 0)) (C g 16) = V fun l => 2 * pre g (16 + l) := by
  unfold k0_pay120 k0_pay118
  dsimp only
  rw [v54_eq, pay119_eq, ups_cn]
  exact starts_cn g 16

theorem v68_eq : Scalar.addi (BitVec.ofNat 32 (2 * pre g 16)) (extractAt ![0] (k0_pay121 (F := F) (C g 16)) inpos_S1_p0) = BitVec.ofNat 32 (2 * pre g 32) := by
  unfold k0_pay121
  rw [pay119_eq]
  dsimp only
  rw [last15]
  refine (add_n _ _).trans (congrArg (BitVec.ofNat 32) ?_)
  have h := pre_mono g (q := 16) (r := 32) (by omega)
  show _ + (2 * pre g 32 - _) = _
  omega

theorem pay124_eq : k0_pay124 (F := F) (k0_pay115 (F := F) (C g 0)) (C g 16) (C g 32) = V fun l => 2 * pre g (32 + l) := by
  unfold k0_pay124 k0_pay122
  dsimp only
  rw [v54_eq, v68_eq, pay123_eq, ups_cn]
  exact starts_cn g 32

theorem v82_eq : Scalar.addi (BitVec.ofNat 32 (2 * pre g 32)) (extractAt ![0] (k0_pay125 (F := F) (C g 32)) inpos_S1_p0) = BitVec.ofNat 32 (2 * pre g 48) := by
  unfold k0_pay125
  rw [pay123_eq]
  dsimp only
  rw [last15]
  refine (add_n _ _).trans (congrArg (BitVec.ofNat 32) ?_)
  have h := pre_mono g (q := 32) (r := 48) (by omega)
  show _ + (2 * pre g 48 - _) = _
  omega

theorem pay129_eq : k0_pay129 (k0_pay126 (F := F) (C g 48)) (k0_pay128 (F := F) (k0_pay115 (F := F) (C g 0)) (C g 16) (C g 32) (C g 48)) = V fun l => 2 * pre g (48 + l) := by
  unfold k0_pay129 k0_pay128 k0_pay126
  dsimp only
  rw [v54_eq, v68_eq, v82_eq, pay127_eq, ups_cn]
  exact starts_cn g 48

/-! ## Taking the elements out -/

theorem sge_n {n : ℕ} (hn : n < 2000000000) : IntOp.cmpi .sge (BitVec.ofNat 32 n) 0#32 = 1 := by
  have h := toInt_ofNat' (n := n) (by omega)
  have h0 : (0#32).toInt = 0 := by decide
  show BitVec.ofBool ((0#32).sle _) = 1
  rw [BitVec.sle, h, h0, decide_eq_true (by omega)]
  rfl

theorem sge_m : ¬IntOp.cmpi .sge (-1#32) 0#32 = 1 := by decide

theorem and127_lt (w : BitVec 32) : (IntOp.andi w 127#32).toNat < 128 := by
  show (w &&& 127#32).toNat < 128
  rw [BitVec.toNat_and]
  exact lt_of_le_of_lt Nat.and_le_right (by decide)

end Cert.Proof.Vec

end
-- ==== Proof.Group0.lean ====
/-
  One window's group of sixteen lanes, and the equation of the printed loop body with it.
-/
module

public import proofs.«01_k».proof.Proof.Lane

@[expose] public section

set_option synthInstance.maxSize 4096

noncomputable section

namespace Cert.Proof.Lane

open Idealize.ShloMosaic Idealize.SL.Sem Cert.KernelIdeal Cert.KernelIdeal.Gen

variable {F : FTy → Type} [FloatOps F]

/-- Window 0's group, lane by lane. -/
def group0 (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (k : Fin k0_t4_loop.trips) (tot : BitVec 32) :
    Prog (TpuEff nD τ sig (Elt F) Λ₀ (.scVector ((i 0).castLE hcore0) ((i 1).castLE hsub0))) (BitVec 32) := do
  let v148 : Vec F S16 .i32 ← Prog.lift (.load arg10 (Rect.unit (s := S64) (k0_off7 k) S16.size (k0_off7_inb k)).toLoadRect (View.loadsAt_vmem h_S16))
  let v151 : Vec F S16 .i32 ← Prog.lift (.load arg11 (Rect.unit (s := S64) (k0_off7 k) S16.size (k0_off7_inb k)).toLoadRect (View.loadsAt_vmem h_S16))
  let tot ← lane arg3 arg8 arg13 arg19 0#32 384#32 (extractAt ![0] (k0_pay7 v148) inpos_S1_p0) (extractAt ![0] (k0_pay8 v151) inpos_S1_p0) (offCol 0#32 k) (k0_off10_inb k) _ (k0_chk6.dec _ _) (fun h => h) tot
  let tot ← lane arg3 arg8 arg13 arg19 0#32 384#32 (extractAt ![0] (k0_pay9 v148) inpos_S1_p0) (extractAt ![0] (k0_pay10 v151) inpos_S1_p0) (offCol 1#32 k) (k0_off16_inb k) _ (k0_chk7.dec _ _) (fun h => h) tot
  let tot ← lane arg3 arg8 arg13 arg19 0#32 384#32 (extractAt ![0] (k0_pay11 v148) inpos_S1_p0) (extractAt ![0] (k0_pay12 v151) inpos_S1_p0) (offCol 2#32 k) (k0_off22_inb k) _ (k0_chk8.dec _ _) (fun h => h) tot
  let tot ← lane arg3 arg8 arg13 arg19 0#32 384#32 (extractAt ![0] (k0_pay13 v148) inpos_S1_p0) (extractAt ![0] (k0_pay14 v151) inpos_S1_p0) (offCol 3#32 k) (k0_off28_inb k) _ (k0_chk9.dec _ _) (fun h => h) tot
  let tot ← lane arg3 arg8 arg13 arg19 0#32 384#32 (extractAt ![0] (k0_pay15 v148) inpos_S1_p0) (extractAt ![0] (k0_pay16 v151) inpos_S1_p0) (offCol 4#32 k) (k0_off34_inb k) _ (k0_chk10.dec _ _) (fun h => h) tot
  let tot ← lane arg3 arg8 arg13 arg19 0#32 384#32 (extractAt ![0] (k0_pay17 v148) inpos_S1_p0) (extractAt ![0] (k0_pay18 v151) inpos_S1_p0) (offCol 5#32 k) (k0_off40_inb k) _ (k0_chk11.dec _ _) (fun h => h) tot
  let tot ← lane arg3 arg8 arg13 arg19 0#32 384#32 (extractAt ![0] (k0_pay19 v148) inpos_S1_p0) (extractAt ![0] (k0_pay20 v151) inpos_S1_p0) (offCol 6#32 k) (k0_off46_inb k) _ (k0_chk12.dec _ _) (fun h => h) tot
  let tot ← lane arg3 arg8 arg13 arg19 0#32 384#32 (extractAt ![0] (k0_pay21 v148) inpos_S1_p0) (extractAt ![0] (k0_pay22 v151) inpos_S1_p0) (offCol 7#32 k) (k0_off52_inb k) _ (k0_chk13.dec _ _) (fun h => h) tot
  let tot ← lane arg3 arg8 arg13 arg19 0#32 384#32 (extractAt ![0] (k0_pay23 v148) inpos_S1_p0) (extractAt ![0] (k0_pay24 v151) inpos_S1_p0) (offCol 8#32 k) (k0_off58_inb k) _ (k0_chk14.dec _ _) (fun h => h) tot
  let tot ← lane arg3 arg8 arg13 arg19 0#32 384#32 (extractAt ![0] (k0_pay25 v148) inpos_S1_p0) (extractAt ![0] (k0_pay26 v151) inpos_S1_p0) (offCol 9#32 k) (k0_off64_inb k) _ (k0_chk15.dec _ _) (fun h => h) tot
  let tot ← lane arg3 arg8 arg13 arg19 0#32 384#32 (extractAt ![0] (k0_pay27 v148) inpos_S1_p0) (extractAt ![0] (k0_pay28 v151) inpos_S1_p0) (offCol 10#32 k) (k0_off70_inb k) _ (k0_chk16.dec _ _) (fun h => h) tot
  let tot ← lane arg3 arg8 arg13 arg19 0#32 384#32 (extractAt ![0] (k0_pay29 v148) inpos_S1_p0) (extractAt ![0] (k0_pay30 v151) inpos_S1_p0) (offCol 11#32 k) (k0_off76_inb k) _ (k0_chk17.dec _ _) (fun h => h) tot
  let tot ← lane arg3 arg8 arg13 arg19 0#32 384#32 (extractAt ![0] (k0_pay31 v148) inpos_S1_p0) (extractAt ![0] (k0_pay32 v151) inpos_S1_p0) (offCol 12#32 k) (k0_off82_inb k) _ (k0_chk18.dec _ _) (fun h => h) tot
  let tot ← lane arg3 arg8 arg13 arg19 0#32 384#32 (extractAt ![0] (k0_pay33 v148) inpos_S1_p0) (extractAt ![0] (k0_pay34 v151) inpos_S1_p0) (offCol 13#32 k) (k0_off88_inb k) _ (k0_chk19.dec _ _) (fun h => h) tot
  let tot ← lane arg3 arg8 arg13 arg19 0#32 384#32 (extractAt ![0] (k0_pay35 v148) inpos_S1_p0) (extractAt ![0] (k0_pay36 v151) inpos_S1_p0) (offCol 14#32 k) (k0_off94_inb k) _ (k0_chk20.dec _ _) (fun h => h) tot
  let tot ← lane arg3 arg8 arg13 arg19 0#32 384#32 (extractAt ![0] (k0_pay37 v148) inpos_S1_p0) (extractAt ![0] (k0_pay38 v151) inpos_S1_p0) (offCol 15#32 k) (k0_off100_inb k) _ (k0_chk21.dec _ _) (fun h => h) tot
  pure tot

set_option maxHeartbeats 4000000 in
set_option maxRecDepth 65536 in
theorem group0_eq (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (v30 : IVec S16 32) (v34 : BitVec 32) (v82 : BitVec 32) (v86 : IVec S16 32) (v88 : IVec S16 32) (v90 : IVec S16 32) :
    k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 v34 v82 v86 v88 v90 = group0 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 := by
  funext k tot
  unfold k0_t4_body group0
  rw [k0_part1_eq_skeleton]; unfold k0_part1_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part2_eq_skeleton]; unfold k0_part2_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part3_eq_skeleton]; unfold k0_part3_skel; simp only [bind_assoc, pure_bind]
  rw [k0_part4_eq_skeleton]; unfold k0_part4_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part5_eq_skeleton]; unfold k0_part5_skel; simp only [bind_assoc, pure_bind]
  rw [k0_part6_eq_skeleton]; unfold k0_part6_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part7_eq_skeleton]; unfold k0_part7_skel; simp only [bind_assoc, pure_bind]
  rw [k0_part8_eq_skeleton]; unfold k0_part8_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part9_eq_skeleton]; unfold k0_part9_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part10_eq_skeleton]; unfold k0_part10_skel; simp only [bind_assoc, pure_bind]
  rw [k0_part11_eq_skeleton]; unfold k0_part11_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part12_eq_skeleton]; unfold k0_part12_skel; simp only [bind_assoc, pure_bind]
  rw [k0_part13_eq_skeleton]; unfold k0_part13_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part14_eq_skeleton]; unfold k0_part14_skel; simp only [bind_assoc, pure_bind]
  rw [k0_part15_eq_skeleton]; unfold k0_part15_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part16_eq_skeleton]; unfold k0_part16_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part17_eq_skeleton]; unfold k0_part17_skel; simp only [bind_assoc, pure_bind]
  rw [k0_part18_eq_skeleton]; unfold k0_part18_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part19_eq_skeleton]; unfold k0_part19_skel; simp only [bind_assoc, pure_bind]
  rw [k0_part20_eq_skeleton]; unfold k0_part20_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part21_eq_skeleton]; unfold k0_part21_skel; simp only [bind_assoc, pure_bind]
  rw [k0_part22_eq_skeleton]; unfold k0_part22_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part23_eq_skeleton]; unfold k0_part23_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part24_eq_skeleton]; unfold k0_part24_skel; simp only [bind_assoc, pure_bind]
  rw [k0_part25_eq_skeleton]; unfold k0_part25_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part26_eq_skeleton]; unfold k0_part26_skel; simp only [bind_assoc, pure_bind]
  rw [k0_part27_eq_skeleton]; unfold k0_part27_skel; simp only [bind_assoc, pure_bind]
  refine step rfl fun _ => ?_
  refine step rfl fun _ => ?_
  unfold lane; refine step rfl fun _ => ?_
  rw [k0_part28_eq_skeleton]; unfold k0_part28_skel; simp only [bind_assoc, pure_bind]
  refine step rfl fun _ => ?_
  rfl

end Cert.Proof.Lane

end
-- ==== Proof.Group1.lean ====
/-
  One window's group of sixteen lanes, and the equation of the printed loop body with it.
-/
module

public import proofs.«01_k».proof.Proof.Lane

@[expose] public section

set_option synthInstance.maxSize 4096

noncomputable section

namespace Cert.Proof.Lane

open Idealize.ShloMosaic Idealize.SL.Sem Cert.KernelIdeal Cert.KernelIdeal.Gen

variable {F : FTy → Type} [FloatOps F]

/-- Window 1's group, lane by lane. -/
def group1 (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (k : Fin k0_t42_loop.trips) (tot : BitVec 32) :
    Prog (TpuEff nD τ sig (Elt F) Λ₀ (.scVector ((i 0).castLE hcore0) ((i 1).castLE hsub0))) (BitVec 32) := do
  let v148 : Vec F S16 .i32 ← Prog.lift (.load arg10 (Rect.unit (s := S64) (k0_off105 k) S16.size (k0_off105_inb k)).toLoadRect (View.loadsAt_vmem h_S16))
  let v151 : Vec F S16 .i32 ← Prog.lift (.load arg11 (Rect.unit (s := S64) (k0_off105 k) S16.size (k0_off105_inb k)).toLoadRect (View.loadsAt_vmem h_S16))
  let tot ← lane arg3 arg8 arg13 arg19 384#32 768#32 (extractAt ![0] (k0_pay39 v148) inpos_S1_p0) (extractAt ![0] (k0_pay40 v151) inpos_S1_p0) (offCol 0#32 k) (k0_off108_inb k) _ (k0_chk25.dec _ _) (fun h => h) tot
  let tot ← lane arg3 arg8 arg13 arg19 384#32 768#32 (extractAt ![0] (k0_pay41 v148) inpos_S1_p0) (extractAt ![0] (k0_pay42 v151) inpos_S1_p0) (offCol 1#32 k) (k0_off114_inb k) _ (k0_chk26.dec _ _) (fun h => h) tot
  let tot ← lane arg3 arg8 arg13 arg19 384#32 768#32 (extractAt ![0] (k0_pay43 v148) inpos_S1_p0) (extractAt ![0] (k0_pay44 v151) inpos_S1_p0) (offCol 2#32 k) (k0_off120_inb k) _ (k0_chk27.dec _ _) (fun h => h) tot
  let tot ← lane arg3 arg8 arg13 arg19 384#32 768#32 (extractAt ![0] (k0_pay45 v148) inpos_S1_p0) (extractAt ![0] (k0_pay46 v151) inpos_S1_p0) (offCol 3#32 k) (k0_off126_inb k) _ (k0_chk28.dec _ _) (fun h => h) tot
  let tot ← lane arg3 arg8 arg13 arg19 384#32 768#32 (extractAt ![0] (k0_pay47 v148) inpos_S1_p0) (extractAt ![0] (k0_pay48 v151) inpos_S1_p0) (offCol 4#32 k) (k0_off132_inb k) _ (k0_chk29.dec _ _) (fun h => h) tot
  let tot ← lane arg3 arg8 arg13 arg19 384#32 768#32 (extractAt ![0] (k0_pay49 v148) inpos_S1_p0) (extractAt ![0] (k0_pay50 v151) inpos_S1_p0) (offCol 5#32 k) (k0_off138_inb k) _ (k0_chk30.dec _ _) (fun h => h) tot
  let tot ← lane arg3 arg8 arg13 arg19 384#32 768#32 (extractAt ![0] (k0_pay51 v148) inpos_S1_p0) (extractAt ![0] (k0_pay52 v151) inpos_S1_p0) (offCol 6#32 k) (k0_off144_inb k) _ (k0_chk31.dec _ _) (fun h => h) tot
  let tot ← lane arg3 arg8 arg13 arg19 384#32 768#32 (extractAt ![0] (k0_pay53 v148) inpos_S1_p0) (extractAt ![0] (k0_pay54 v151) inpos_S1_p0) (offCol 7#32 k) (k0_off150_inb k) _ (k0_chk32.dec _ _) (fun h => h) tot
  let tot ← lane arg3 arg8 arg13 arg19 384#32 768#32 (extractAt ![0] (k0_pay55 v148) inpos_S1_p0) (extractAt ![0] (k0_pay56 v151) inpos_S1_p0) (offCol 8#32 k) (k0_off156_inb k) _ (k0_chk33.dec _ _) (fun h => h) tot
  let tot ← lane arg3 arg8 arg13 arg19 384#32 768#32 (extractAt ![0] (k0_pay57 v148) inpos_S1_p0) (extractAt ![0] (k0_pay58 v151) inpos_S1_p0) (offCol 9#32 k) (k0_off162_inb k) _ (k0_chk34.dec _ _) (fun h => h) tot
  let tot ← lane arg3 arg8 arg13 arg19 384#32 768#32 (extractAt ![0] (k0_pay59 v148) inpos_S1_p0) (extractAt ![0] (k0_pay60 v151) inpos_S1_p0) (offCol 10#32 k) (k0_off168_inb k) _ (k0_chk35.dec _ _) (fun h => h) tot
  let tot ← lane arg3 arg8 arg13 arg19 384#32 768#32 (extractAt ![0] (k0_pay61 v148) inpos_S1_p0) (extractAt ![0] (k0_pay62 v151) inpos_S1_p0) (offCol 11#32 k) (k0_off174_inb k) _ (k0_chk36.dec _ _) (fun h => h) tot
  let tot ← lane arg3 arg8 arg13 arg19 384#32 768#32 (extractAt ![0] (k0_pay63 v148) inpos_S1_p0) (extractAt ![0] (k0_pay64 v151) inpos_S1_p0) (offCol 12#32 k) (k0_off180_inb k) _ (k0_chk37.dec _ _) (fun h => h) tot
  let tot ← lane arg3 arg8 arg13 arg19 384#32 768#32 (extractAt ![0] (k0_pay65 v148) inpos_S1_p0) (extractAt ![0] (k0_pay66 v151) inpos_S1_p0) (offCol 13#32 k) (k0_off186_inb k) _ (k0_chk38.dec _ _) (fun h => h) tot
  let tot ← lane arg3 arg8 arg13 arg19 384#32 768#32 (extractAt ![0] (k0_pay67 v148) inpos_S1_p0) (extractAt ![0] (k0_pay68 v151) inpos_S1_p0) (offCol 14#32 k) (k0_off192_inb k) _ (k0_chk39.dec _ _) (fun h => h) tot
  let tot ← lane arg3 arg8 arg13 arg19 384#32 768#32 (extractAt ![0] (k0_pay69 v148) inpos_S1_p0) (extractAt ![0] (k0_pay70 v151) inpos_S1_p0) (offCol 15#32 k) (k0_off198_inb k) _ (k0_chk40.dec _ _) (fun h => h) tot
  pure tot

set_option maxHeartbeats 4000000 in
set_option maxRecDepth 65536 in
theorem group1_eq (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (v30 : IVec S16 32) :
    k0_t42_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 = group1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 := by
  funext k tot
  unfold k0_t42_body group1
  rw [k0_part31_eq_skeleton]; unfold k0_part31_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part32_eq_skeleton]; unfold k0_part32_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part33_eq_skeleton]; unfold k0_part33_skel; simp only [bind_assoc, pure_bind]
  rw [k0_part34_eq_skeleton]; unfold k0_part34_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part35_eq_skeleton]; unfold k0_part35_skel; simp only [bind_assoc, pure_bind]
  rw [k0_part36_eq_skeleton]; unfold k0_part36_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part37_eq_skeleton]; unfold k0_part37_skel; simp only [bind_assoc, pure_bind]
  rw [k0_part38_eq_skeleton]; unfold k0_part38_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part39_eq_skeleton]; unfold k0_part39_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part40_eq_skeleton]; unfold k0_part40_skel; simp only [bind_assoc, pure_bind]
  rw [k0_part41_eq_skeleton]; unfold k0_part41_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part42_eq_skeleton]; unfold k0_part42_skel; simp only [bind_assoc, pure_bind]
  rw [k0_part43_eq_skeleton]; unfold k0_part43_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part44_eq_skeleton]; unfold k0_part44_skel; simp only [bind_assoc, pure_bind]
  rw [k0_part45_eq_skeleton]; unfold k0_part45_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part46_eq_skeleton]; unfold k0_part46_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part47_eq_skeleton]; unfold k0_part47_skel; simp only [bind_assoc, pure_bind]
  rw [k0_part48_eq_skeleton]; unfold k0_part48_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part49_eq_skeleton]; unfold k0_part49_skel; simp only [bind_assoc, pure_bind]
  rw [k0_part50_eq_skeleton]; unfold k0_part50_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part51_eq_skeleton]; unfold k0_part51_skel; simp only [bind_assoc, pure_bind]
  rw [k0_part52_eq_skeleton]; unfold k0_part52_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part53_eq_skeleton]; unfold k0_part53_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part54_eq_skeleton]; unfold k0_part54_skel; simp only [bind_assoc, pure_bind]
  rw [k0_part55_eq_skeleton]; unfold k0_part55_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part56_eq_skeleton]; unfold k0_part56_skel; simp only [bind_assoc, pure_bind]
  rw [k0_part57_eq_skeleton]; unfold k0_part57_skel; simp only [bind_assoc, pure_bind]
  refine step rfl fun _ => ?_
  refine step rfl fun _ => ?_
  unfold lane; refine step rfl fun _ => ?_
  rw [k0_part58_eq_skeleton]; unfold k0_part58_skel; simp only [bind_assoc, pure_bind]
  refine step rfl fun _ => ?_
  rfl

end Cert.Proof.Lane

end
-- ==== Proof.Group2.lean ====
/-
  One window's group of sixteen lanes, and the equation of the printed loop body with it.
-/
module

public import proofs.«01_k».proof.Proof.Lane

@[expose] public section

set_option synthInstance.maxSize 4096

noncomputable section

namespace Cert.Proof.Lane

open Idealize.ShloMosaic Idealize.SL.Sem Cert.KernelIdeal Cert.KernelIdeal.Gen

variable {F : FTy → Type} [FloatOps F]

/-- Window 2's group, lane by lane. -/
def group2 (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (k : Fin k0_t80_loop.trips) (tot : BitVec 32) :
    Prog (TpuEff nD τ sig (Elt F) Λ₀ (.scVector ((i 0).castLE hcore0) ((i 1).castLE hsub0))) (BitVec 32) := do
  let v148 : Vec F S16 .i32 ← Prog.lift (.load arg10 (Rect.unit (s := S64) (k0_off203 k) S16.size (k0_off203_inb k)).toLoadRect (View.loadsAt_vmem h_S16))
  let v151 : Vec F S16 .i32 ← Prog.lift (.load arg11 (Rect.unit (s := S64) (k0_off203 k) S16.size (k0_off203_inb k)).toLoadRect (View.loadsAt_vmem h_S16))
  let tot ← lane arg3 arg8 arg13 arg19 768#32 1152#32 (extractAt ![0] (k0_pay71 v148) inpos_S1_p0) (extractAt ![0] (k0_pay72 v151) inpos_S1_p0) (offCol 0#32 k) (k0_off206_inb k) _ (k0_chk44.dec _ _) (fun h => h) tot
  let tot ← lane arg3 arg8 arg13 arg19 768#32 1152#32 (extractAt ![0] (k0_pay73 v148) inpos_S1_p0) (extractAt ![0] (k0_pay74 v151) inpos_S1_p0) (offCol 1#32 k) (k0_off212_inb k) _ (k0_chk45.dec _ _) (fun h => h) tot
  let tot ← lane arg3 arg8 arg13 arg19 768#32 1152#32 (extractAt ![0] (k0_pay75 v148) inpos_S1_p0) (extractAt ![0] (k0_pay76 v151) inpos_S1_p0) (offCol 2#32 k) (k0_off218_inb k) _ (k0_chk46.dec _ _) (fun h => h) tot
  let tot ← lane arg3 arg8 arg13 arg19 768#32 1152#32 (extractAt ![0] (k0_pay77 v148) inpos_S1_p0) (extractAt ![0] (k0_pay78 v151) inpos_S1_p0) (offCol 3#32 k) (k0_off224_inb k) _ (k0_chk47.dec _ _) (fun h => h) tot
  let tot ← lane arg3 arg8 arg13 arg19 768#32 1152#32 (extractAt ![0] (k0_pay79 v148) inpos_S1_p0) (extractAt ![0] (k0_pay80 v151) inpos_S1_p0) (offCol 4#32 k) (k0_off230_inb k) _ (k0_chk48.dec _ _) (fun h => h) tot
  let tot ← lane arg3 arg8 arg13 arg19 768#32 1152#32 (extractAt ![0] (k0_pay81 v148) inpos_S1_p0) (extractAt ![0] (k0_pay82 v151) inpos_S1_p0) (offCol 5#32 k) (k0_off236_inb k) _ (k0_chk49.dec _ _) (fun h => h) tot
  let tot ← lane arg3 arg8 arg13 arg19 768#32 1152#32 (extractAt ![0] (k0_pay83 v148) inpos_S1_p0) (extractAt ![0] (k0_pay84 v151) inpos_S1_p0) (offCol 6#32 k) (k0_off242_inb k) _ (k0_chk50.dec _ _) (fun h => h) tot
  let tot ← lane arg3 arg8 arg13 arg19 768#32 1152#32 (extractAt ![0] (k0_pay85 v148) inpos_S1_p0) (extractAt ![0] (k0_pay86 v151) inpos_S1_p0) (offCol 7#32 k) (k0_off248_inb k) _ (k0_chk51.dec _ _) (fun h => h) tot
  let tot ← lane arg3 arg8 arg13 arg19 768#32 1152#32 (extractAt ![0] (k0_pay87 v148) inpos_S1_p0) (extractAt ![0] (k0_pay88 v151) inpos_S1_p0) (offCol 8#32 k) (k0_off254_inb k) _ (k0_chk52.dec _ _) (fun h => h) tot
  let tot ← lane arg3 arg8 arg13 arg19 768#32 1152#32 (extractAt ![0] (k0_pay89 v148) inpos_S1_p0) (extractAt ![0] (k0_pay90 v151) inpos_S1_p0) (offCol 9#32 k) (k0_off260_inb k) _ (k0_chk53.dec _ _) (fun h => h) tot
  let tot ← lane arg3 arg8 arg13 arg19 768#32 1152#32 (extractAt ![0] (k0_pay91 v148) inpos_S1_p0) (extractAt ![0] (k0_pay92 v151) inpos_S1_p0) (offCol 10#32 k) (k0_off266_inb k) _ (k0_chk54.dec _ _) (fun h => h) tot
  let tot ← lane arg3 arg8 arg13 arg19 768#32 1152#32 (extractAt ![0] (k0_pay93 v148) inpos_S1_p0) (extractAt ![0] (k0_pay94 v151) inpos_S1_p0) (offCol 11#32 k) (k0_off272_inb k) _ (k0_chk55.dec _ _) (fun h => h) tot
  let tot ← lane arg3 arg8 arg13 arg19 768#32 1152#32 (extractAt ![0] (k0_pay95 v148) inpos_S1_p0) (extractAt ![0] (k0_pay96 v151) inpos_S1_p0) (offCol 12#32 k) (k0_off278_inb k) _ (k0_chk56.dec _ _) (fun h => h) tot
  let tot ← lane arg3 arg8 arg13 arg19 768#32 1152#32 (extractAt ![0] (k0_pay97 v148) inpos_S1_p0) (extractAt ![0] (k0_pay98 v151) inpos_S1_p0) (offCol 13#32 k) (k0_off284_inb k) _ (k0_chk57.dec _ _) (fun h => h) tot
  let tot ← lane arg3 arg8 arg13 arg19 768#32 1152#32 (extractAt ![0] (k0_pay99 v148) inpos_S1_p0) (extractAt ![0] (k0_pay100 v151) inpos_S1_p0) (offCol 14#32 k) (k0_off290_inb k) _ (k0_chk58.dec _ _) (fun h => h) tot
  let tot ← lane arg3 arg8 arg13 arg19 768#32 1152#32 (extractAt ![0] (k0_pay101 v148) inpos_S1_p0) (extractAt ![0] (k0_pay102 v151) inpos_S1_p0) (offCol 15#32 k) (k0_off296_inb k) _ (k0_chk59.dec _ _) (fun h => h) tot
  pure tot

set_option maxHeartbeats 4000000 in
set_option maxRecDepth 65536 in
theorem group2_eq (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (v30 : IVec S16 32) :
    k0_t80_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 = group2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 := by
  funext k tot
  unfold k0_t80_body group2
  rw [k0_part61_eq_skeleton]; unfold k0_part61_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part62_eq_skeleton]; unfold k0_part62_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part63_eq_skeleton]; unfold k0_part63_skel; simp only [bind_assoc, pure_bind]
  rw [k0_part64_eq_skeleton]; unfold k0_part64_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part65_eq_skeleton]; unfold k0_part65_skel; simp only [bind_assoc, pure_bind]
  rw [k0_part66_eq_skeleton]; unfold k0_part66_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part67_eq_skeleton]; unfold k0_part67_skel; simp only [bind_assoc, pure_bind]
  rw [k0_part68_eq_skeleton]; unfold k0_part68_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part69_eq_skeleton]; unfold k0_part69_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part70_eq_skeleton]; unfold k0_part70_skel; simp only [bind_assoc, pure_bind]
  rw [k0_part71_eq_skeleton]; unfold k0_part71_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part72_eq_skeleton]; unfold k0_part72_skel; simp only [bind_assoc, pure_bind]
  rw [k0_part73_eq_skeleton]; unfold k0_part73_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part74_eq_skeleton]; unfold k0_part74_skel; simp only [bind_assoc, pure_bind]
  rw [k0_part75_eq_skeleton]; unfold k0_part75_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part76_eq_skeleton]; unfold k0_part76_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part77_eq_skeleton]; unfold k0_part77_skel; simp only [bind_assoc, pure_bind]
  rw [k0_part78_eq_skeleton]; unfold k0_part78_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part79_eq_skeleton]; unfold k0_part79_skel; simp only [bind_assoc, pure_bind]
  rw [k0_part80_eq_skeleton]; unfold k0_part80_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part81_eq_skeleton]; unfold k0_part81_skel; simp only [bind_assoc, pure_bind]
  rw [k0_part82_eq_skeleton]; unfold k0_part82_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part83_eq_skeleton]; unfold k0_part83_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part84_eq_skeleton]; unfold k0_part84_skel; simp only [bind_assoc, pure_bind]
  rw [k0_part85_eq_skeleton]; unfold k0_part85_skel; simp only [bind_assoc, pure_bind]
  refine step rfl fun _ => ?_
  refine step rfl fun _ => ?_
  refine Eq.trans ?_ (lane_bind _ _ _ _ _ _ _ _ _ _ _ _ _ _ _).symm; refine step rfl fun _ => ?_
  rw [k0_part86_eq_skeleton]; unfold k0_part86_skel; simp only [bind_assoc, pure_bind]
  rw [k0_part87_eq_skeleton]; unfold k0_part87_skel; simp only [bind_assoc, pure_bind]
  refine step rfl fun _ => ?_
  refine step rfl fun _ => ?_
  unfold lane; refine step rfl fun _ => ?_
  rw [k0_part88_eq_skeleton]; unfold k0_part88_skel; simp only [bind_assoc, pure_bind]
  refine step rfl fun _ => ?_
  rfl

end Cert.Proof.Lane

end
-- ==== Proof.Groups.lean ====
/-
  A group of sixteen lanes in each of the three windows.
-/
module

public import proofs.«01_k».proof.Proof.Window
public import proofs.«01_k».proof.Proof.Steps
public import proofs.«01_k».proof.Proof.Group0
public import proofs.«01_k».proof.Proof.Group1
public import proofs.«01_k».proof.Proof.Group2

@[expose] public section

set_option synthInstance.maxSize 4096

noncomputable section

namespace Cert.Proof.Fire

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps

variable {Ix : Type} [DecidableEq Ix] {F : FTy → Type} {Name : Type} [DecidableEq Name]
variable {U : Type} [URA U] {Lvl : Type} [Preorder Lvl]

local notation "𝕄" => MT nD τ sig Ix (Elt F) Name U Lvl

variable [Infinite Name] (EC : UEmb Counters (MT nD τ sig Ix (Elt F) Name U Lvl)) [EC.LandsIn (upEmb : UEmb _ (MT nD τ sig Ix (Elt F) Name U Lvl))] [FloatOps F] {defs : Defs nD τ sig (Elt F) Λ₀} (𝒱 : Variants) (bd : Option 𝒱.V)

section
variable (cr : Fin τ.nSC) (su : Fin τ.nSub) (d : Dev nD)
variable (arg3 : Memref sig .scVector .hbm S8192x8192 .f32) (arg8 : Memref sig .scVector .vmem S584x2 .i32)
  (arg13 : Memref sig .scVector .vmem S384x128 .f32) (arg19 : DmaSems sig S_) (arg10 arg11 : Memref sig .scVector .vmem S64 .i32)
variable (ι : Ix) (ft : Buf (Elt F) (arg3.view.loc (thr cr su d))) (fr : Buf (Elt F) (arg8.view.loc (thr cr su d))) (fd : Buf (Elt F) (arg13.view.loc (thr cr su d)))
variable (P cn : ℕ → ℕ) (b : ℕ) (qs : ℕ → PosShare TreeShare)

/-- What the groups of a window keep, `q` blocks done. -/
def Grp (q : ℕ) (tot : BitVec 32) : sProp 𝕄 :=
  iprop(⌜tot = BitVec.ofNat 32 (Kof P b q)⌝ ∗ Is cr su d arg10 (ar fun q => BitVec.ofNat 32 (cn q)) ∗ Is cr su d arg11 (ar fun q => BitVec.ofNat 32 (2 * P q))
    ∗ Win EC cr su d arg3 arg8 arg13 arg19 ι ft fr fd P b qs (Kof P b q))
end

theorem k0_iv {k : ℕ} (h : k < 4) : (Scalar.muli (Scf.iv 0#32 1#32 k) 16#32).toNat = 16 * k := by
  have : ∀ k : Fin 4, (Scalar.muli (Scf.iv 0#32 1#32 k.val) 16#32).toNat = 16 * k.val := by decide
  exact this ⟨k, h⟩

set_option maxHeartbeats 4000000 in
set_option maxRecDepth 65536 in
/-- A group of window 0. -/
theorem wp_group0 (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_)
    (d : Dev nD) (ι : Ix) (ft : Buf (Elt F) (arg3.view.loc (thr ((i 0).castLE hcore0) ((i 1).castLE hsub0) d))) (fr : Buf (Elt F) (arg8.view.loc (thr ((i 0).castLE hcore0) ((i 1).castLE hsub0) d))) (fd : Buf (Elt F) (arg13.view.loc (thr ((i 0).castLE hcore0) ((i 1).castLE hsub0) d)))
    {P cn : ℕ → ℕ} (hB : Blocks P cn) (qs : ℕ → PosShare TreeShare)
    (hin : ∀ x, (arg8.view.read (Elt F) fr x : BitVec 32).toNat < 8192)
    (hcr : ∀ s' : Shape, sig.dmaCredit .scVector (Kind.scVector.table .vmem) arg13.view.buf s' .f32 = s'.numel * 32)
    (k : Fin k0_t4_loop.trips) (tot : BitVec 32) :
    Grp EC ((i 0).castLE hcore0) ((i 1).castLE hsub0) d arg3 arg8 arg13 arg19 arg10 arg11 ι ft fr fd P cn 0 qs (16 * k.val) tot
      ⊢ wp frame (wpE defs 𝒱 (thr ((i 0).castLE hcore0) ((i 1).castLE hsub0) d) bd) Set.univ (group0 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 k tot)
          (Grp EC ((i 0).castLE hcore0) ((i 1).castLE hsub0) d arg3 arg8 arg13 arg19 arg10 arg11 ι ft fr fd P cn 0 qs (16 * (k.val + 1))) := by
  have hk : k.val < 4 := lt_of_lt_of_eq k.isLt (by decide)
  have ho : k0_off7 k 0 = 16 * k.val := k0_iv hk
  unfold group0
  unfold Grp
  simp only [Prog.bind_lift]
  iintro ⟨%ht, Hc, Hs, HW⟩
  iapply (wp_isLoad 𝒱 bd _ _ d (16 * k.val) ho) $$ Hc
  iintro Hc
  iapply (wp_isLoad 𝒱 bd _ _ d (16 * k.val) ho) $$ Hs
  iintro Hs
  iapply (wp_lane EC (defs := defs) 𝒱 bd _ _ d arg3 arg8 arg13 arg19 ι ft fr fd hB (b := 0) (by omega) qs hin hcr (q := 16 * k.val + 0) (by omega) rfl rfl rfl rfl _ (offCol_eq (by omega)) (fun h => h) ht) $$ HW
  iintro %tot0 ⟨%ht, HW⟩
  replace ht : tot0 = BitVec.ofNat 32 (Kof P 0 (16 * k.val + 1)) := ht
  iapply (wp_lane EC (defs := defs) 𝒱 bd _ _ d arg3 arg8 arg13 arg19 ι ft fr fd hB (b := 0) (by omega) qs hin hcr (q := 16 * k.val + 1) (by omega) rfl rfl rfl rfl _ (offCol_eq (by omega)) (fun h => h) ht) $$ HW
  iintro %tot1 ⟨%ht, HW⟩
  replace ht : tot1 = BitVec.ofNat 32 (Kof P 0 (16 * k.val + 2)) := ht
  iapply (wp_lane EC (defs := defs) 𝒱 bd _ _ d arg3 arg8 arg13 arg19 ι ft fr fd hB (b := 0) (by omega) qs hin hcr (q := 16 * k.val + 2) (by omega) rfl rfl rfl rfl _ (offCol_eq (by omega)) (fun h => h) ht) $$ HW
  iintro %tot2 ⟨%ht, HW⟩
  replace ht : tot2 = BitVec.ofNat 32 (Kof P 0 (16 * k.val + 3)) := ht
  iapply (wp_lane EC (defs := defs) 𝒱 bd _ _ d arg3 arg8 arg13 arg19 ι ft fr fd hB (b := 0) (by omega) qs hin hcr (q := 16 * k.val + 3) (by omega) rfl rfl rfl rfl _ (offCol_eq (by omega)) (fun h => h) ht) $$ HW
  iintro %tot3 ⟨%ht, HW⟩
  replace ht : tot3 = BitVec.ofNat 32 (Kof P 0 (16 * k.val + 4)) := ht
  iapply (wp_lane EC (defs := defs) 𝒱 bd _ _ d arg3 arg8 arg13 arg19 ι ft fr fd hB (b := 0) (by omega) qs hin hcr (q := 16 * k.val + 4) (by omega) rfl rfl rfl rfl _ (offCol_eq (by omega)) (fun h => h) ht) $$ HW
  iintro %tot4 ⟨%ht, HW⟩
  replace ht : tot4 = BitVec.ofNat 32 (Kof P 0 (16 * k.val + 5)) := ht
  iapply (wp_lane EC (defs := defs) 𝒱 bd _ _ d arg3 arg8 arg13 arg19 ι ft fr fd hB (b := 0) (by omega) qs hin hcr (q := 16 * k.val + 5) (by omega) rfl rfl rfl rfl _ (offCol_eq (by omega)) (fun h => h) ht) $$ HW
  iintro %tot5 ⟨%ht, HW⟩
  replace ht : tot5 = BitVec.ofNat 32 (Kof P 0 (16 * k.val + 6)) := ht
  iapply (wp_lane EC (defs := defs) 𝒱 bd _ _ d arg3 arg8 arg13 arg19 ι ft fr fd hB (b := 0) (by omega) qs hin hcr (q := 16 * k.val + 6) (by omega) rfl rfl rfl rfl _ (offCol_eq (by omega)) (fun h => h) ht) $$ HW
  iintro %tot6 ⟨%ht, HW⟩
  replace ht : tot6 = BitVec.ofNat 32 (Kof P 0 (16 * k.val + 7)) := ht
  iapply (wp_lane EC (defs := defs) 𝒱 bd _ _ d arg3 arg8 arg13 arg19 ι ft fr fd hB (b := 0) (by omega) qs hin hcr (q := 16 * k.val + 7) (by omega) rfl rfl rfl rfl _ (offCol_eq (by omega)) (fun h => h) ht) $$ HW
  iintro %tot7 ⟨%ht, HW⟩
  replace ht : tot7 = BitVec.ofNat 32 (Kof P 0 (16 * k.val + 8)) := ht
  iapply (wp_lane EC (defs := defs) 𝒱 bd _ _ d arg3 arg8 arg13 arg19 ι ft fr fd hB (b := 0) (by omega) qs hin hcr (q := 16 * k.val + 8) (by omega) rfl rfl rfl rfl _ (offCol_eq (by omega)) (fun h => h) ht) $$ HW
  iintro %tot8 ⟨%ht, HW⟩
  replace ht : tot8 = BitVec.ofNat 32 (Kof P 0 (16 * k.val + 9)) := ht
  iapply (wp_lane EC (defs := defs) 𝒱 bd _ _ d arg3 arg8 arg13 arg19 ι ft fr fd hB (b := 0) (by omega) qs hin hcr (q := 16 * k.val + 9) (by omega) rfl rfl rfl rfl _ (offCol_eq (by omega)) (fun h => h) ht) $$ HW
  iintro %tot9 ⟨%ht, HW⟩
  replace ht : tot9 = BitVec.ofNat 32 (Kof P 0 (16 * k.val + 10)) := ht
  iapply (wp_lane EC (defs := defs) 𝒱 bd _ _ d arg3 arg8 arg13 arg19 ι ft fr fd hB (b := 0) (by omega) qs hin hcr (q := 16 * k.val + 10) (by omega) rfl rfl rfl rfl _ (offCol_eq (by omega)) (fun h => h) ht) $$ HW
  iintro %tot10 ⟨%ht, HW⟩
  replace ht : tot10 = BitVec.ofNat 32 (Kof P 0 (16 * k.val + 11)) := ht
  iapply (wp_lane EC (defs := defs) 𝒱 bd _ _ d arg3 arg8 arg13 arg19 ι ft fr fd hB (b := 0) (by omega) qs hin hcr (q := 16 * k.val + 11) (by omega) rfl rfl rfl rfl _ (offCol_eq (by omega)) (fun h => h) ht) $$ HW
  iintro %tot11 ⟨%ht, HW⟩
  replace ht : tot11 = BitVec.ofNat 32 (Kof P 0 (16 * k.val + 12)) := ht
  iapply (wp_lane EC (defs := defs) 𝒱 bd _ _ d arg3 arg8 arg13 arg19 ι ft fr fd hB (b := 0) (by omega) qs hin hcr (q := 16 * k.val + 12) (by omega) rfl rfl rfl rfl _ (offCol_eq (by omega)) (fun h => h) ht) $$ HW
  iintro %tot12 ⟨%ht, HW⟩
  replace ht : tot12 = BitVec.ofNat 32 (Kof P 0 (16 * k.val + 13)) := ht
  iapply (wp_lane EC (defs := defs) 𝒱 bd _ _ d arg3 arg8 arg13 arg19 ι ft fr fd hB (b := 0) (by omega) qs hin hcr (q := 16 * k.val + 13) (by omega) rfl rfl rfl rfl _ (offCol_eq (by omega)) (fun h => h) ht) $$ HW
  iintro %tot13 ⟨%ht, HW⟩
  replace ht : tot13 = BitVec.ofNat 32 (Kof P 0 (16 * k.val + 14)) := ht
  iapply (wp_lane EC (defs := defs) 𝒱 bd _ _ d arg3 arg8 arg13 arg19 ι ft fr fd hB (b := 0) (by omega) qs hin hcr (q := 16 * k.val + 14) (by omega) rfl rfl rfl rfl _ (offCol_eq (by omega)) (fun h => h) ht) $$ HW
  iintro %tot14 ⟨%ht, HW⟩
  replace ht : tot14 = BitVec.ofNat 32 (Kof P 0 (16 * k.val + 15)) := ht
  iapply (wp_lane_last EC (defs := defs) 𝒱 bd _ _ d arg3 arg8 arg13 arg19 ι ft fr fd hB (b := 0) (by omega) qs hin hcr (q := 16 * k.val + 15) (by omega) rfl rfl rfl rfl _ (offCol_eq (by omega)) (fun h => h) ht) $$ HW
  iintro %tot15 ⟨%ht, HW⟩
  replace ht : tot15 = BitVec.ofNat 32 (Kof P 0 (16 * k.val + 16)) := ht
  isplitr
  · ipureintro; exact ht
  isplitl [Hc]; · iexact Hc
  isplitl [Hs]; · iexact Hs
  iexact HW

set_option maxHeartbeats 4000000 in
set_option maxRecDepth 65536 in
/-- A group of window 1. -/
theorem wp_group1 (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_)
    (d : Dev nD) (ι : Ix) (ft : Buf (Elt F) (arg3.view.loc (thr ((i 0).castLE hcore0) ((i 1).castLE hsub0) d))) (fr : Buf (Elt F) (arg8.view.loc (thr ((i 0).castLE hcore0) ((i 1).castLE hsub0) d))) (fd : Buf (Elt F) (arg13.view.loc (thr ((i 0).castLE hcore0) ((i 1).castLE hsub0) d)))
    {P cn : ℕ → ℕ} (hB : Blocks P cn) (qs : ℕ → PosShare TreeShare)
    (hin : ∀ x, (arg8.view.read (Elt F) fr x : BitVec 32).toNat < 8192)
    (hcr : ∀ s' : Shape, sig.dmaCredit .scVector (Kind.scVector.table .vmem) arg13.view.buf s' .f32 = s'.numel * 32)
    (k : Fin k0_t42_loop.trips) (tot : BitVec 32) :
    Grp EC ((i 0).castLE hcore0) ((i 1).castLE hsub0) d arg3 arg8 arg13 arg19 arg10 arg11 ι ft fr fd P cn 192 qs (16 * k.val) tot
      ⊢ wp frame (wpE defs 𝒱 (thr ((i 0).castLE hcore0) ((i 1).castLE hsub0) d) bd) Set.univ (group1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 k tot)
          (Grp EC ((i 0).castLE hcore0) ((i 1).castLE hsub0) d arg3 arg8 arg13 arg19 arg10 arg11 ι ft fr fd P cn 192 qs (16 * (k.val + 1))) := by
  have hk : k.val < 4 := lt_of_lt_of_eq k.isLt (by decide)
  have ho : k0_off105 k 0 = 16 * k.val := k0_iv hk
  unfold group1
  unfold Grp
  simp only [Prog.bind_lift]
  iintro ⟨%ht, Hc, Hs, HW⟩
  iapply (wp_isLoad 𝒱 bd _ _ d (16 * k.val) ho) $$ Hc
  iintro Hc
  iapply (wp_isLoad 𝒱 bd _ _ d (16 * k.val) ho) $$ Hs
  iintro Hs
  iapply (wp_lane EC (defs := defs) 𝒱 bd _ _ d arg3 arg8 arg13 arg19 ι ft fr fd hB (b := 192) (by omega) qs hin hcr (q := 16 * k.val + 0) (by omega) rfl rfl rfl rfl _ (offCol_eq (by omega)) (fun h => h) ht) $$ HW
  iintro %tot0 ⟨%ht, HW⟩
  replace ht : tot0 = BitVec.ofNat 32 (Kof P 192 (16 * k.val + 1)) := ht
  iapply (wp_lane EC (defs := defs) 𝒱 bd _ _ d arg3 arg8 arg13 arg19 ι ft fr fd hB (b := 192) (by omega) qs hin hcr (q := 16 * k.val + 1) (by omega) rfl rfl rfl rfl _ (offCol_eq (by omega)) (fun h => h) ht) $$ HW
  iintro %tot1 ⟨%ht, HW⟩
  replace ht : tot1 = BitVec.ofNat 32 (Kof P 192 (16 * k.val + 2)) := ht
  iapply (wp_lane EC (defs := defs) 𝒱 bd _ _ d arg3 arg8 arg13 arg19 ι ft fr fd hB (b := 192) (by omega) qs hin hcr (q := 16 * k.val + 2) (by omega) rfl rfl rfl rfl _ (offCol_eq (by omega)) (fun h => h) ht) $$ HW
  iintro %tot2 ⟨%ht, HW⟩
  replace ht : tot2 = BitVec.ofNat 32 (Kof P 192 (16 * k.val + 3)) := ht
  iapply (wp_lane EC (defs := defs) 𝒱 bd _ _ d arg3 arg8 arg13 arg19 ι ft fr fd hB (b := 192) (by omega) qs hin hcr (q := 16 * k.val + 3) (by omega) rfl rfl rfl rfl _ (offCol_eq (by omega)) (fun h => h) ht) $$ HW
  iintro %tot3 ⟨%ht, HW⟩
  replace ht : tot3 = BitVec.ofNat 32 (Kof P 192 (16 * k.val + 4)) := ht
  iapply (wp_lane EC (defs := defs) 𝒱 bd _ _ d arg3 arg8 arg13 arg19 ι ft fr fd hB (b := 192) (by omega) qs hin hcr (q := 16 * k.val + 4) (by omega) rfl rfl rfl rfl _ (offCol_eq (by omega)) (fun h => h) ht) $$ HW
  iintro %tot4 ⟨%ht, HW⟩
  replace ht : tot4 = BitVec.ofNat 32 (Kof P 192 (16 * k.val + 5)) := ht
  iapply (wp_lane EC (defs := defs) 𝒱 bd _ _ d arg3 arg8 arg13 arg19 ι ft fr fd hB (b := 192) (by omega) qs hin hcr (q := 16 * k.val + 5) (by omega) rfl rfl rfl rfl _ (offCol_eq (by omega)) (fun h => h) ht) $$ HW
  iintro %tot5 ⟨%ht, HW⟩
  replace ht : tot5 = BitVec.ofNat 32 (Kof P 192 (16 * k.val + 6)) := ht
  iapply (wp_lane EC (defs := defs) 𝒱 bd _ _ d arg3 arg8 arg13 arg19 ι ft fr fd hB (b := 192) (by omega) qs hin hcr (q := 16 * k.val + 6) (by omega) rfl rfl rfl rfl _ (offCol_eq (by omega)) (fun h => h) ht) $$ HW
  iintro %tot6 ⟨%ht, HW⟩
  replace ht : tot6 = BitVec.ofNat 32 (Kof P 192 (16 * k.val + 7)) := ht
  iapply (wp_lane EC (defs := defs) 𝒱 bd _ _ d arg3 arg8 arg13 arg19 ι ft fr fd hB (b := 192) (by omega) qs hin hcr (q := 16 * k.val + 7) (by omega) rfl rfl rfl rfl _ (offCol_eq (by omega)) (fun h => h) ht) $$ HW
  iintro %tot7 ⟨%ht, HW⟩
  replace ht : tot7 = BitVec.ofNat 32 (Kof P 192 (16 * k.val + 8)) := ht
  iapply (wp_lane EC (defs := defs) 𝒱 bd _ _ d arg3 arg8 arg13 arg19 ι ft fr fd hB (b := 192) (by omega) qs hin hcr (q := 16 * k.val + 8) (by omega) rfl rfl rfl rfl _ (offCol_eq (by omega)) (fun h => h) ht) $$ HW
  iintro %tot8 ⟨%ht, HW⟩
  replace ht : tot8 = BitVec.ofNat 32 (Kof P 192 (16 * k.val + 9)) := ht
  iapply (wp_lane EC (defs := defs) 𝒱 bd _ _ d arg3 arg8 arg13 arg19 ι ft fr fd hB (b := 192) (by omega) qs hin hcr (q := 16 * k.val + 9) (by omega) rfl rfl rfl rfl _ (offCol_eq (by omega)) (fun h => h) ht) $$ HW
  iintro %tot9 ⟨%ht, HW⟩
  replace ht : tot9 = BitVec.ofNat 32 (Kof P 192 (16 * k.val + 10)) := ht
  iapply (wp_lane EC (defs := defs) 𝒱 bd _ _ d arg3 arg8 arg13 arg19 ι ft fr fd hB (b := 192) (by omega) qs hin hcr (q := 16 * k.val + 10) (by omega) rfl rfl rfl rfl _ (offCol_eq (by omega)) (fun h => h) ht) $$ HW
  iintro %tot10 ⟨%ht, HW⟩
  replace ht : tot10 = BitVec.ofNat 32 (Kof P 192 (16 * k.val + 11)) := ht
  iapply (wp_lane EC (defs := defs) 𝒱 bd _ _ d arg3 arg8 arg13 arg19 ι ft fr fd hB (b := 192) (by omega) qs hin hcr (q := 16 * k.val + 11) (by omega) rfl rfl rfl rfl _ (offCol_eq (by omega)) (fun h => h) ht) $$ HW
  iintro %tot11 ⟨%ht, HW⟩
  replace ht : tot11 = BitVec.ofNat 32 (Kof P 192 (16 * k.val + 12)) := ht
  iapply (wp_lane EC (defs := defs) 𝒱 bd _ _ d arg3 arg8 arg13 arg19 ι ft fr fd hB (b := 192) (by omega) qs hin hcr (q := 16 * k.val + 12) (by omega) rfl rfl rfl rfl _ (offCol_eq (by omega)) (fun h => h) ht) $$ HW
  iintro %tot12 ⟨%ht, HW⟩
  replace ht : tot12 = BitVec.ofNat 32 (Kof P 192 (16 * k.val + 13)) := ht
  iapply (wp_lane EC (defs := defs) 𝒱 bd _ _ d arg3 arg8 arg13 arg19 ι ft fr fd hB (b := 192) (by omega) qs hin hcr (q := 16 * k.val + 13) (by omega) rfl rfl rfl rfl _ (offCol_eq (by omega)) (fun h => h) ht) $$ HW
  iintro %tot13 ⟨%ht, HW⟩
  replace ht : tot13 = BitVec.ofNat 32 (Kof P 192 (16 * k.val + 14)) := ht
  iapply (wp_lane EC (defs := defs) 𝒱 bd _ _ d arg3 arg8 arg13 arg19 ι ft fr fd hB (b := 192) (by omega) qs hin hcr (q := 16 * k.val + 14) (by omega) rfl rfl rfl rfl _ (offCol_eq (by omega)) (fun h => h) ht) $$ HW
  iintro %tot14 ⟨%ht, HW⟩
  replace ht : tot14 = BitVec.ofNat 32 (Kof P 192 (16 * k.val + 15)) := ht
  iapply (wp_lane_last EC (defs := defs) 𝒱 bd _ _ d arg3 arg8 arg13 arg19 ι ft fr fd hB (b := 192) (by omega) qs hin hcr (q := 16 * k.val + 15) (by omega) rfl rfl rfl rfl _ (offCol_eq (by omega)) (fun h => h) ht) $$ HW
  iintro %tot15 ⟨%ht, HW⟩
  replace ht : tot15 = BitVec.ofNat 32 (Kof P 192 (16 * k.val + 16)) := ht
  isplitr
  · ipureintro; exact ht
  isplitl [Hc]; · iexact Hc
  isplitl [Hs]; · iexact Hs
  iexact HW

set_option maxHeartbeats 4000000 in
set_option maxRecDepth 65536 in
/-- A group of window 2. -/
theorem wp_group2 (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_)
    (d : Dev nD) (ι : Ix) (ft : Buf (Elt F) (arg3.view.loc (thr ((i 0).castLE hcore0) ((i 1).castLE hsub0) d))) (fr : Buf (Elt F) (arg8.view.loc (thr ((i 0).castLE hcore0) ((i 1).castLE hsub0) d))) (fd : Buf (Elt F) (arg13.view.loc (thr ((i 0).castLE hcore0) ((i 1).castLE hsub0) d)))
    {P cn : ℕ → ℕ} (hB : Blocks P cn) (qs : ℕ → PosShare TreeShare)
    (hin : ∀ x, (arg8.view.read (Elt F) fr x : BitVec 32).toNat < 8192)
    (hcr : ∀ s' : Shape, sig.dmaCredit .scVector (Kind.scVector.table .vmem) arg13.view.buf s' .f32 = s'.numel * 32)
    (k : Fin k0_t80_loop.trips) (tot : BitVec 32) :
    Grp EC ((i 0).castLE hcore0) ((i 1).castLE hsub0) d arg3 arg8 arg13 arg19 arg10 arg11 ι ft fr fd P cn 384 qs (16 * k.val) tot
      ⊢ wp frame (wpE defs 𝒱 (thr ((i 0).castLE hcore0) ((i 1).castLE hsub0) d) bd) Set.univ (group2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 k tot)
          (Grp EC ((i 0).castLE hcore0) ((i 1).castLE hsub0) d arg3 arg8 arg13 arg19 arg10 arg11 ι ft fr fd P cn 384 qs (16 * (k.val + 1))) := by
  have hk : k.val < 4 := lt_of_lt_of_eq k.isLt (by decide)
  have ho : k0_off203 k 0 = 16 * k.val := k0_iv hk
  unfold group2
  unfold Grp
  simp only [Prog.bind_lift]
  iintro ⟨%ht, Hc, Hs, HW⟩
  iapply (wp_isLoad 𝒱 bd _ _ d (16 * k.val) ho) $$ Hc
  iintro Hc
  iapply (wp_isLoad 𝒱 bd _ _ d (16 * k.val) ho) $$ Hs
  iintro Hs
  iapply (wp_lane EC (defs := defs) 𝒱 bd _ _ d arg3 arg8 arg13 arg19 ι ft fr fd hB (b := 384) (by omega) qs hin hcr (q := 16 * k.val + 0) (by omega) rfl rfl rfl rfl _ (offCol_eq (by omega)) (fun h => h) ht) $$ HW
  iintro %tot0 ⟨%ht, HW⟩
  replace ht : tot0 = BitVec.ofNat 32 (Kof P 384 (16 * k.val + 1)) := ht
  iapply (wp_lane EC (defs := defs) 𝒱 bd _ _ d arg3 arg8 arg13 arg19 ι ft fr fd hB (b := 384) (by omega) qs hin hcr (q := 16 * k.val + 1) (by omega) rfl rfl rfl rfl _ (offCol_eq (by omega)) (fun h => h) ht) $$ HW
  iintro %tot1 ⟨%ht, HW⟩
  replace ht : tot1 = BitVec.ofNat 32 (Kof P 384 (16 * k.val + 2)) := ht
  iapply (wp_lane EC (defs := defs) 𝒱 bd _ _ d arg3 arg8 arg13 arg19 ι ft fr fd hB (b := 384) (by omega) qs hin hcr (q := 16 * k.val + 2) (by omega) rfl rfl rfl rfl _ (offCol_eq (by omega)) (fun h => h) ht) $$ HW
  iintro %tot2 ⟨%ht, HW⟩
  replace ht : tot2 = BitVec.ofNat 32 (Kof P 384 (16 * k.val + 3)) := ht
  iapply (wp_lane EC (defs := defs) 𝒱 bd _ _ d arg3 arg8 arg13 arg19 ι ft fr fd hB (b := 384) (by omega) qs hin hcr (q := 16 * k.val + 3) (by omega) rfl rfl rfl rfl _ (offCol_eq (by omega)) (fun h => h) ht) $$ HW
  iintro %tot3 ⟨%ht, HW⟩
  replace ht : tot3 = BitVec.ofNat 32 (Kof P 384 (16 * k.val + 4)) := ht
  iapply (wp_lane EC (defs := defs) 𝒱 bd _ _ d arg3 arg8 arg13 arg19 ι ft fr fd hB (b := 384) (by omega) qs hin hcr (q := 16 * k.val + 4) (by omega) rfl rfl rfl rfl _ (offCol_eq (by omega)) (fun h => h) ht) $$ HW
  iintro %tot4 ⟨%ht, HW⟩
  replace ht : tot4 = BitVec.ofNat 32 (Kof P 384 (16 * k.val + 5)) := ht
  iapply (wp_lane EC (defs := defs) 𝒱 bd _ _ d arg3 arg8 arg13 arg19 ι ft fr fd hB (b := 384) (by omega) qs hin hcr (q := 16 * k.val + 5) (by omega) rfl rfl rfl rfl _ (offCol_eq (by omega)) (fun h => h) ht) $$ HW
  iintro %tot5 ⟨%ht, HW⟩
  replace ht : tot5 = BitVec.ofNat 32 (Kof P 384 (16 * k.val + 6)) := ht
  iapply (wp_lane EC (defs := defs) 𝒱 bd _ _ d arg3 arg8 arg13 arg19 ι ft fr fd hB (b := 384) (by omega) qs hin hcr (q := 16 * k.val + 6) (by omega) rfl rfl rfl rfl _ (offCol_eq (by omega)) (fun h => h) ht) $$ HW
  iintro %tot6 ⟨%ht, HW⟩
  replace ht : tot6 = BitVec.ofNat 32 (Kof P 384 (16 * k.val + 7)) := ht
  iapply (wp_lane EC (defs := defs) 𝒱 bd _ _ d arg3 arg8 arg13 arg19 ι ft fr fd hB (b := 384) (by omega) qs hin hcr (q := 16 * k.val + 7) (by omega) rfl rfl rfl rfl _ (offCol_eq (by omega)) (fun h => h) ht) $$ HW
  iintro %tot7 ⟨%ht, HW⟩
  replace ht : tot7 = BitVec.ofNat 32 (Kof P 384 (16 * k.val + 8)) := ht
  iapply (wp_lane EC (defs := defs) 𝒱 bd _ _ d arg3 arg8 arg13 arg19 ι ft fr fd hB (b := 384) (by omega) qs hin hcr (q := 16 * k.val + 8) (by omega) rfl rfl rfl rfl _ (offCol_eq (by omega)) (fun h => h) ht) $$ HW
  iintro %tot8 ⟨%ht, HW⟩
  replace ht : tot8 = BitVec.ofNat 32 (Kof P 384 (16 * k.val + 9)) := ht
  iapply (wp_lane EC (defs := defs) 𝒱 bd _ _ d arg3 arg8 arg13 arg19 ι ft fr fd hB (b := 384) (by omega) qs hin hcr (q := 16 * k.val + 9) (by omega) rfl rfl rfl rfl _ (offCol_eq (by omega)) (fun h => h) ht) $$ HW
  iintro %tot9 ⟨%ht, HW⟩
  replace ht : tot9 = BitVec.ofNat 32 (Kof P 384 (16 * k.val + 10)) := ht
  iapply (wp_lane EC (defs := defs) 𝒱 bd _ _ d arg3 arg8 arg13 arg19 ι ft fr fd hB (b := 384) (by omega) qs hin hcr (q := 16 * k.val + 10) (by omega) rfl rfl rfl rfl _ (offCol_eq (by omega)) (fun h => h) ht) $$ HW
  iintro %tot10 ⟨%ht, HW⟩
  replace ht : tot10 = BitVec.ofNat 32 (Kof P 384 (16 * k.val + 11)) := ht
  iapply (wp_lane EC (defs := defs) 𝒱 bd _ _ d arg3 arg8 arg13 arg19 ι ft fr fd hB (b := 384) (by omega) qs hin hcr (q := 16 * k.val + 11) (by omega) rfl rfl rfl rfl _ (offCol_eq (by omega)) (fun h => h) ht) $$ HW
  iintro %tot11 ⟨%ht, HW⟩
  replace ht : tot11 = BitVec.ofNat 32 (Kof P 384 (16 * k.val + 12)) := ht
  iapply (wp_lane EC (defs := defs) 𝒱 bd _ _ d arg3 arg8 arg13 arg19 ι ft fr fd hB (b := 384) (by omega) qs hin hcr (q := 16 * k.val + 12) (by omega) rfl rfl rfl rfl _ (offCol_eq (by omega)) (fun h => h) ht) $$ HW
  iintro %tot12 ⟨%ht, HW⟩
  replace ht : tot12 = BitVec.ofNat 32 (Kof P 384 (16 * k.val + 13)) := ht
  iapply (wp_lane EC (defs := defs) 𝒱 bd _ _ d arg3 arg8 arg13 arg19 ι ft fr fd hB (b := 384) (by omega) qs hin hcr (q := 16 * k.val + 13) (by omega) rfl rfl rfl rfl _ (offCol_eq (by omega)) (fun h => h) ht) $$ HW
  iintro %tot13 ⟨%ht, HW⟩
  replace ht : tot13 = BitVec.ofNat 32 (Kof P 384 (16 * k.val + 14)) := ht
  iapply (wp_lane EC (defs := defs) 𝒱 bd _ _ d arg3 arg8 arg13 arg19 ι ft fr fd hB (b := 384) (by omega) qs hin hcr (q := 16 * k.val + 14) (by omega) rfl rfl rfl rfl _ (offCol_eq (by omega)) (fun h => h) ht) $$ HW
  iintro %tot14 ⟨%ht, HW⟩
  replace ht : tot14 = BitVec.ofNat 32 (Kof P 384 (16 * k.val + 15)) := ht
  iapply (wp_lane_last EC (defs := defs) 𝒱 bd _ _ d arg3 arg8 arg13 arg19 ι ft fr fd hB (b := 384) (by omega) qs hin hcr (q := 16 * k.val + 15) (by omega) rfl rfl rfl rfl _ (offCol_eq (by omega)) (fun h => h) ht) $$ HW
  iintro %tot15 ⟨%ht, HW⟩
  replace ht : tot15 = BitVec.ofNat 32 (Kof P 384 (16 * k.val + 16)) := ht
  isplitr
  · ipureintro; exact ht
  isplitl [Hc]; · iexact Hc
  isplitl [Hs]; · iexact Hs
  iexact HW

end Cert.Proof.Fire

end
-- ==== Proof.Build.lean ====
/-
  The sorting loops of a tile: the buffers are cleared, the row's pairs of states are packed and counted by block, and
  every pair is put at its slot.
-/
module

public import proofs.«01_k».proof.Proof.Pay
public import proofs.«01_k».proof.Proof.Groups

@[expose] public section

set_option synthInstance.maxSize 4096

noncomputable section

namespace Cert.Proof.Tile

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps Cert.Proof.Fire Cert.Proof.Vec Cert.Proof.Sort

variable {Ix : Type} [DecidableEq Ix] {F : FTy → Type} {Name : Type} [DecidableEq Name]
variable {U : Type} [URA U] {Lvl : Type} [Preorder Lvl]

local notation "𝕄" => MT nD τ sig Ix (Elt F) Name U Lvl

/-! ## Scatters -/

theorem ar_congr {n : ℕ} {α : Type} {f f' : ℕ → α} (h : ∀ j < n, f j = f' j) : (ar (dd := ![n]) f) = ar f' := by
  funext x; exact h _ (x 0).isLt

theorem scat_all {I α : Type} [DecidableEq I] (f : I → α) (ix : ℕ → I) (w : ℕ → α) (n : ℕ) (hinj : ∀ l < n, ∀ l' < n, ix l = ix l' → l = l') {l : ℕ} (hl : l < n) :
    scat n f ix w (fun _ => true) (ix l) = w l :=
  scat_at f ix w _ n hl rfl rfl fun k' h₁ h₂ _ e => by have := hinj _ h₂ _ hl e; omega

theorem count_eq_of_none {p : ℕ → Prop} [DecidablePred p] {a b : ℕ} (h : a ≤ b) (hp : ∀ l, a ≤ l → l < b → ¬p l) : Nat.count p b = Nat.count p a := by
  induction b, h using Nat.le_induction with
  | base => rfl
  | succ b hab ih =>
    rw [Nat.count_succ, if_neg (hp b hab (by omega)), ih fun l h₁ h₂ => hp l h₁ (by omega), Nat.add_zero]

/-- Counters stepped by the last lane of each value, by the running count, count the lanes. -/
theorem scat_count (base : ℕ → ℕ) (x : ℕ → ℕ) :
    scat 16 (fun q => BitVec.ofNat 32 (base q)) x (fun l => BitVec.ofNat 32 (base (x l) + occ x l)) (lastb x)
      = fun q => BitVec.ofNat 32 (base q + Nat.count (fun l => x l = q) 16) := by
  funext q
  by_cases h : ∃ l, l < 16 ∧ x l = q
  · obtain ⟨l₀, h₀, e₀⟩ := h
    set L := Nat.findGreatest (fun l => x l = q) 15 with hL
    have hq : x L = q := Nat.findGreatest_spec (P := fun l => x l = q) (by omega : l₀ ≤ 15) e₀
    have hL15 : L ≤ 15 := Nat.findGreatest_le 15
    have hno : ∀ l', L < l' → l' < 16 → x l' ≠ q := fun l' h₁ h₂ => Nat.findGreatest_is_greatest (P := fun l => x l = q) h₁ (by omega)
    have hlast : lastb x L = true := by
      unfold lastb; rw [decide_eq_true_iff]; intro l' h₁; rw [hq]; exact hno _ h₁ l'.isLt
    rw [scat_at _ x _ _ 16 (k := L) (by omega) hlast hq fun k' h₁ h₂ _ => hno k' h₁ h₂]
    rw [hq]
    congr 2
    unfold occ
    rw [hq]
    exact (count_eq_of_none (by omega) fun l h₁ h₂ => hno l (by omega) h₂).symm
  · have hno : ∀ l, l < 16 → x l ≠ q := fun l h₁ h₂ => h ⟨l, h₁, h₂⟩
    rw [scat_off _ x _ _ 16 fun k hk _ => hno k hk, count_eq_of_none (Nat.zero_le 16) (fun l _ h₂ => hno l h₂), Nat.count_zero, Nat.add_zero]

theorem loadIdx_V [FloatOps F] {n : ℕ} (f : ℕ → BitVec 32) (x : ℕ → ℕ) (hx : ∀ l < 16, x l < 4294967296)
    (h : ∀ a y, ((![V x] : Fin 1 → IVec S16 32) a y).toNat < (⟨1, ![n]⟩ : Shape).size a) :
    loadIdx (F := F) (e := .i32) (s := ⟨1, ![n]⟩) (ar f) ![V x] h = ar fun l => f (x l) := by
  funext y
  have hy := hx _ (y 0).isLt
  show f (BitVec.ofNat 32 (x (y 0).val)).toNat = _
  rw [BitVec.toNat_ofNat, Nat.mod_eq_of_lt (by omega)]; rfl

theorem V_toNat {x : ℕ → ℕ} (hx : ∀ l < 16, x l < 4294967296) (y : S16.Idx) : (V x y).toNat = x (y 0).val := by
  have hy := hx _ (y 0).isLt
  show (BitVec.ofNat 32 (x (y 0).val)).toNat = _
  rw [BitVec.toNat_ofNat, Nat.mod_eq_of_lt (by omega)]

theorem V_inb {x : ℕ → ℕ} {n : ℕ} (hn : n < 4294967296) (hx : ∀ l < 16, x l < n) : ∀ a y, ((![V x] : Fin 1 → IVec S16 32) a y).toNat < (⟨1, ![n]⟩ : Shape).size a := by
  intro a y
  match a with
  | 0 =>
    show (V x y).toNat < n
    rw [V_toNat fun l hl => by have := hx l hl; omega]
    exact hx _ (y 0).isLt

theorem V_inb2 {x x' : ℕ → ℕ} {n n' : ℕ} (hn : n < 4294967296) (hn' : n' < 4294967296) (hx : ∀ l < 16, x l < n) (hx' : ∀ l < 16, x' l < n') :
    ∀ a y, ((![V x, V x'] : Fin 2 → IVec S16 32) a y).toNat < (⟨2, ![n, n']⟩ : Shape).size a := by
  intro a y
  match a with
  | 0 =>
    show (V x y).toNat < n
    rw [V_toNat fun l hl => by have := hx l hl; omega]
    exact hx _ (y 0).isLt
  | 1 =>
    show (V x' y).toNat < n'
    rw [V_toNat fun l hl => by have := hx' l hl; omega]
    exact hx' _ (y 0).isLt

/-! ## A row's pairs -/

section
variable (rv : ℕ → BitVec 32) (B : ℕ)
/-- The state at position `j` of the tile's half, -/
def pv (j : ℕ) : ℕ := clp (rv (B + j))
/-- the next, -/
def nx (j : ℕ) : ℕ := clp (rv (B + j + 1))
/-- and the block of the next. -/
def gg (j : ℕ) : ℕ := nx rv B j / 128
/-- The packed pair. -/
def fb (j : ℕ) : ℕ := pv rv B j * 8192 + nx rv B j

theorem pv_lt (j : ℕ) : pv rv B j < 8192 := clp_lt _
theorem nx_lt (j : ℕ) : nx rv B j < 8192 := clp_lt _
theorem gg_lt (j : ℕ) : gg rv B j < 64 := by have := nx_lt rv B j; unfold gg; omega
theorem fb_lt (j : ℕ) : fb rv B j < 8192 * 8192 := by have := nx_lt rv B j; have := pv_lt rv B j; unfold fb; omega
theorem fb_gg (j : ℕ) : fb rv B j / 128 % 64 = gg rv B j := by have := nx_lt rv B j; unfold fb gg; omega
theorem fb_pv (j : ℕ) : fb rv B j / 8192 = pv rv B j := by have := nx_lt rv B j; unfold fb; omega
theorem fb_lane (j : ℕ) : fb rv B j % 128 = nx rv B j % 128 := by unfold fb; omega
end

section
variable (cr : Fin τ.nSC) (su : Fin τ.nSub) (d : Dev nD)

/-- Any contents are an array of numbers. -/
theorem is_ar {n : ℕ} {e : EltTy} {m : Memref sig .scVector .vmem ⟨1, ![n]⟩ e} (hn : 0 < n) (f : (⟨1, ![n]⟩ : Shape).Idx → Elt F e) :
    (Is cr su d m f : sProp 𝕄) ⊢ iprop(∃ f' : ℕ → Elt F e, Is cr su d m (ar f')) := by
  have e : f = ar fun j => f (fun | 0 => (⟨j % n, Nat.mod_lt _ hn⟩ : Fin n)) := by
    funext x
    show f x = f _
    congr 1
    funext a
    match a with
    | 0 => exact Fin.ext (Nat.mod_eq_of_lt (x 0).isLt).symm
  rw [e]
  iintro H
  iexists _
  iexact H

theorem is_ar2 {n n' : ℕ} {e : EltTy} {m : Memref sig .scVector .vmem ⟨2, ![n, n']⟩ e} (hn : 0 < n) (hn' : 0 < n') (f : (⟨2, ![n, n']⟩ : Shape).Idx → Elt F e) :
    (Is cr su d m f : sProp 𝕄) ⊢ iprop(∃ f' : ℕ × ℕ → Elt F e, Is cr su d m (ar2 f')) := by
  have e : f = ar2 fun p => f (fun | 0 => (⟨p.1 % n, Nat.mod_lt _ hn⟩ : Fin n) | 1 => (⟨p.2 % n', Nat.mod_lt _ hn'⟩ : Fin n')) := by
    funext x
    show f x = f _
    congr 1
    funext a
    match a with
    | 0 => exact Fin.ext (Nat.mod_eq_of_lt (x 0).isLt).symm
    | 1 => exact Fin.ext (Nat.mod_eq_of_lt (x 1).isLt).symm
  rw [e]
  iintro H
  iexists _
  iexact H

variable (arg6 : Memref sig .scVector .vmem S2064 .i32) (arg7 : Memref sig .scVector .vmem S1040 .i32) (arg8 : Memref sig .scVector .vmem S584x2 .i32) (arg9 : Memref sig .scVector .vmem S1168 .i32)
  (arg10 arg12 : Memref sig .scVector .vmem S64 .i32) (rv : ℕ → BitVec 32) (B : ℕ)

/-- The first `p` slots are clear. -/
def Clr (p : ℕ) : sProp 𝕄 :=
  iprop((∃ R : ℕ × ℕ → Elt F .i32, ⌜∀ r c, c < 2 → 2 * r + c < p → R (r, c) = 0#32⌝ ∗ Is cr su d arg8 (ar2 R))
    ∗ (∃ L : ℕ → Elt F .i32, ⌜∀ s < p, L s = -1#32⌝ ∗ Is cr su d arg9 (ar L)))

/-- The packed pairs of the first `p` positions. -/
def Fib (p : ℕ) : sProp 𝕄 :=
  iprop(∃ L : ℕ → Elt F .i32, ⌜∀ j < p, L j = BitVec.ofNat 32 (fb rv B j)⌝ ∗ Is cr su d arg7 (ar L))

/-- The first `p` positions are packed and counted. -/
def Cntd (p : ℕ) : sProp 𝕄 :=
  iprop(Is cr su d arg6 (ar rv : S2064.Idx → Elt F .i32) ∗ Fib cr su d arg7 rv B p ∗ Is cr su d arg10 (ar fun q => BitVec.ofNat 32 (cnt (gg rv B) p q)))

/-- The rows' numbers and the packed positions with the first `p` positions at their slots. -/
def Slots (p : ℕ) : sProp 𝕄 :=
  iprop((∃ R : ℕ × ℕ → Elt F .i32, ⌜(∀ j < p, R (slot (gg rv B) j / 2, slot (gg rv B) j % 2) = BitVec.ofNat 32 (pv rv B j)) ∧ (∀ r < 584, ∀ c < 2, (show BitVec 32 from R (r, c)).toNat < 8192)⌝ ∗ Is cr su d arg8 (ar2 R))
    ∗ (∃ L : ℕ → Elt F .i32, ⌜(∀ j < p, L (slot (gg rv B) j) = BitVec.ofNat 32 (j * 128 + nx rv B j % 128)) ∧ (∀ s < 1168, L s = -1#32 ∨ ∃ j < p, s = slot (gg rv B) j)⌝ ∗ Is cr su d arg9 (ar L)))

/-- The first `p` positions are at their slots. -/
def Put (p : ℕ) : sProp 𝕄 :=
  iprop(Fib cr su d arg7 rv B 1024 ∗ Is cr su d arg12 (ar fun q => BitVec.ofNat 32 (2 * pre (gg rv B) q + cnt (gg rv B) p q)) ∗ Slots cr su d arg8 arg9 rv B p)
end

variable [FloatOps F] {defs : Defs nD τ sig (Elt F) Λ₀} (𝒱 : Variants) (bd : Option 𝒱.V)

section
variable (cr : Fin τ.nSC) (su : Fin τ.nSub) (d : Dev nD) {β : Type} {Q : β → sProp (MT nD τ sig Ix (Elt F) Name U Lvl)}

/-- A store of sixteen numbers. -/
theorem wp_storeV {dd : Fin 1 → ℕ} {m : Memref sig .scVector .vmem ⟨1, dd⟩ .i32} {f : ℕ → Elt F .i32} {off : Fin 1 → ℕ} {inb : ∀ a, off a + S16.size a ≤ dd a}
    {hx : (m.access (Rect.unit (s := ⟨1, dd⟩) off S16.size inb)).Stores Finset.univ} {hm : Finset.univ = Finset.univ ∨ ∀ a, (Rect.unit (s := ⟨1, dd⟩) off S16.size inb).stride a = 1}
    (n : ℕ) (hn : off 0 = n) {x : ℕ → ℕ}
    {k : PUnit → Prog (TpuEff nD τ sig (Elt F) Λ₀ (.scVector cr su)) β} :
    Is cr su d m (ar f)
      ⊢ iprop((Is cr su d m (ar fun j => if n ≤ j ∧ j < n + 16 then BitVec.ofNat 32 (x (j - n)) else f j) -∗ wp frame (wpE defs 𝒱 (thr cr su d) bd) Set.univ (k ⟨⟩) Q)
        -∗ wp frame (wpE defs 𝒱 (thr cr su d) bd) Set.univ (.op (.store m (Rect.unit (s := ⟨1, dd⟩) off S16.size inb) (V x) Finset.univ hx hm) k) Q) :=
  wp_isStore (F := F) (defs := defs) (m := m) (f := f) (off := off) (size := S16.size) (inb := inb) (w := V x) (hx := hx) (hm := hm) (k := k) (Q := Q) 𝒱 bd cr su d n 16 hn rfl (fun l => BitVec.ofNat 32 (x l)) (fun _ => rfl)

/-- A scatter of sixteen lanes, -/
theorem wp_scat {n : ℕ} {m : Memref sig .scVector .vmem ⟨1, ![n]⟩ .i32} {f : ℕ → BitVec 32} {x : ℕ → ℕ} {v : Vec F S16 .i32} {mask : IVec S16 1}
    {h : ∀ a y, ((![V x] : Fin 1 → IVec S16 32) a y).toNat < (⟨1, ![n]⟩ : Shape).size a} {hs : (m.access (.whole ⟨1, ![n]⟩)).Stores Finset.univ}
    (hx : ∀ l < 16, x l < 4294967296) (w : ℕ → BitVec 32) (hv : ∀ y, v y = w (y 0).val) (mk : ℕ → Bool) (hmk : ∀ y, mask y = 1 ↔ mk (y 0).val = true)
    {k : PUnit → Prog (TpuEff nD τ sig (Elt F) Λ₀ (.scVector cr su)) β} :
    Is (F := F) (e := .i32) cr su d m (ar f)
      ⊢ iprop((Is (F := F) (e := .i32) cr su d m (ar (scat 16 f x w mk)) -∗ wp frame (wpE defs 𝒱 (thr cr su d) bd) Set.univ (k ⟨⟩) Q)
        -∗ wp frame (wpE defs 𝒱 (thr cr su d) bd) Set.univ (SparseCore.vectorStoreIdx (s := ⟨1, ![n]⟩) m ![V x] v mask false h hs >>= k) Q) := by
  have e : storeIdx (s := ⟨1, ![n]⟩) (e := .i32) (F := F) (ar f) ![V x] v mask false h = ar (scat 16 f x w mk) := storeIdx_ar (e := .i32) (F := F) f _ v mask h 16 rfl x (V_toNat hx) w hv mk hmk
  have h' := wp_isStoreIdx (F := F) (defs := defs) (m := m) (f := ar f) (idxs := ![V x]) (v := v) (mask := mask) (add := false) (h := h) (hs := hs) (k := k) (Q := Q) 𝒱 bd cr su d
  rw [e] at h'
  exact h'

/-- into two indices, -/
theorem wp_scat2 {n n' : ℕ} {m : Memref sig .scVector .vmem ⟨2, ![n, n']⟩ .i32} {f : ℕ × ℕ → BitVec 32} {x x' : ℕ → ℕ} {w : ℕ → ℕ}
    {h : ∀ a y, ((![V x, V x'] : Fin 2 → IVec S16 32) a y).toNat < (⟨2, ![n, n']⟩ : Shape).size a} {hs : (m.access (.whole ⟨2, ![n, n']⟩)).Stores Finset.univ}
    (hx : ∀ l < 16, x l < 4294967296) (hx' : ∀ l < 16, x' l < 4294967296)
    {k : PUnit → Prog (TpuEff nD τ sig (Elt F) Λ₀ (.scVector cr su)) β} :
    Is (F := F) (e := .i32) cr su d m (ar2 f)
      ⊢ iprop((Is (F := F) (e := .i32) cr su d m (ar2 (scat 16 f (fun l => (x l, x' l)) (fun l => BitVec.ofNat 32 (w l)) (fun _ => true))) -∗ wp frame (wpE defs 𝒱 (thr cr su d) bd) Set.univ (k ⟨⟩) Q)
        -∗ wp frame (wpE defs 𝒱 (thr cr su d) bd) Set.univ (SparseCore.vectorStoreIdx (s := ⟨2, ![n, n']⟩) m ![V x, V x'] (V w) (fun _ => 1#1) false h hs >>= k) Q) := by
  have e : storeIdx (s := ⟨2, ![n, n']⟩) (e := .i32) (F := F) (ar2 f) ![V x, V x'] (V w) (fun _ => 1#1) false h = ar2 (scat 16 f (fun l => (x l, x' l)) (fun l => BitVec.ofNat 32 (w l)) (fun _ => true)) :=
    storeIdx_ar2 (e := .i32) (F := F) f _ (V w) (fun _ => 1#1) h 16 rfl (fun l => (x l, x' l)) (fun y => Prod.ext (V_toNat hx y) (V_toNat hx' y)) _ (fun _ => rfl) (fun _ => true) (fun _ => by simp)
  have h' := wp_isStoreIdx (F := F) (defs := defs) (m := m) (f := ar2 f) (idxs := ![V x, V x']) (v := V w) (mask := fun _ => 1#1) (add := false) (h := h) (hs := hs) (k := k) (Q := Q) 𝒱 bd cr su d
  rw [e] at h'
  exact h'

/-- and a gather. -/
theorem wp_gath {n : ℕ} {m : Memref sig .scVector .vmem ⟨1, ![n]⟩ .i32} {f : ℕ → BitVec 32} {x : ℕ → ℕ}
    {h : ∀ a y, ((![V x] : Fin 1 → IVec S16 32) a y).toNat < (⟨1, ![n]⟩ : Shape).size a} {hl : m.view.Loads}
    (hx : ∀ l < 16, x l < 4294967296)
    {k : Vec F S16 .i32 → Prog (TpuEff nD τ sig (Elt F) Λ₀ (.scVector cr su)) β} :
    Is (F := F) (e := .i32) cr su d m (ar f)
      ⊢ iprop((Is (F := F) (e := .i32) cr su d m (ar f) -∗ wp frame (wpE defs 𝒱 (thr cr su d) bd) Set.univ (k (ar fun l => f (x l))) Q)
        -∗ wp frame (wpE defs 𝒱 (thr cr su d) bd) Set.univ (SparseCore.vectorLoadIdx (s := ⟨1, ![n]⟩) m ![V x] h hl >>= k) Q) := by
  have h' := wp_isLoadIdx (F := F) (defs := defs) (m := m) (f := ar f) (idxs := ![V x]) (h := h) (hl := hl) (k := k) (Q := Q) 𝒱 bd cr su d
  rw [loadIdx_V f x hx h] at h'
  exact h'

/-- A fact the machine checks. -/
theorem wp_asm {P : Prop} {D : Decidable P} (h : P) {k : PLift P → Prog (TpuEff nD τ sig (Elt F) Λ₀ (.scVector cr su)) β} :
    wp frame (wpE defs 𝒱 (thr cr su d) bd) Set.univ (k ⟨h⟩) Q ⊢ wp frame (wpE defs 𝒱 (thr cr su d) bd) Set.univ (.op (.assume P D) k) Q :=
  wp_assume 𝒱 (thr cr su d) bd Set.univ h

theorem wp_storeM {dd : Fin 1 → ℕ} {m : Memref sig .scVector .vmem ⟨1, dd⟩ .i32} {f : ℕ → Elt F .i32} {off : Fin 1 → ℕ} {inb : ∀ a, off a + S16.size a ≤ dd a}
    {hx : (m.access (Rect.unit (s := ⟨1, dd⟩) off S16.size inb)).Stores Finset.univ} {hm : Finset.univ = Finset.univ ∨ ∀ a, (Rect.unit (s := ⟨1, dd⟩) off S16.size inb).stride a = 1}
    (n : ℕ) (hn : off 0 = n)
    {k : PUnit → Prog (TpuEff nD τ sig (Elt F) Λ₀ (.scVector cr su)) β} :
    Is cr su d m (ar f)
      ⊢ iprop((Is cr su d m (ar fun j => if n ≤ j ∧ j < n + 16 then -1#32 else f j) -∗ wp frame (wpE defs 𝒱 (thr cr su d) bd) Set.univ (k ⟨⟩) Q)
        -∗ wp frame (wpE defs 𝒱 (thr cr su d) bd) Set.univ (.op (.store m (Rect.unit (s := ⟨1, dd⟩) off S16.size inb) (k0_pay108 k0_pay103) Finset.univ hx hm) k) Q) :=
  wp_isStore (F := F) (defs := defs) (m := m) (f := f) (off := off) (size := S16.size) (inb := inb) (w := k0_pay108 k0_pay103) (hx := hx) (hm := hm) (k := k) (Q := Q) 𝒱 bd cr su d n 16 hn rfl (fun _ => -1#32) (fun _ => rfl)
end

theorem off2_eq (t : Fin k0_t1_loop.trips) (ht : t.val < 73) : k0_off2 t 0 = 16 * t.val := by
  show (Scalar.muli (Scf.iv 0#32 1#32 t.val) 16#32).toNat = _
  rw [iv16, BitVec.toNat_ofNat]; omega
theorem off5_eq (t : Fin k0_t2_loop.trips) (ht : t.val < 64) : k0_off5 t 0 = 16 * t.val := by
  show (Scalar.muli (Scf.iv 0#32 1#32 t.val) 16#32).toNat = _
  rw [iv16, BitVec.toNat_ofNat]; omega
theorem off6_eq (t : Fin k0_t3_loop.trips) (ht : t.val < 64) : k0_off6 t 0 = 16 * t.val := by
  show (Scalar.muli (Scf.iv 0#32 1#32 t.val) 16#32).toNat = _
  rw [iv16, BitVec.toNat_ofNat]; omega
theorem off3_eq : ∀ (i : grid0.Coords) (t : Fin k0_t2_loop.trips), k0_off3 i t 0 = 1024 * (i 0).val + 16 * t.val := by decide +kernel
theorem off4_eq : ∀ (i : grid0.Coords) (t : Fin k0_t2_loop.trips), k0_off4 i t 0 = 1024 * (i 0).val + 16 * t.val + 1 := by decide +kernel

end Cert.Proof.Tile

end
-- ==== Proof.Extract.lean ====
/-
  The loops of a tile that take each position's entry out of the window's rows.
-/
module

public import proofs.«01_k».proof.Proof.Build

@[expose] public section

set_option synthInstance.maxSize 4096

noncomputable section

namespace Cert.Proof.Tile

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps Cert.Proof.Fire Cert.Proof.Vec Cert.Proof.Sort

variable {Ix : Type} [DecidableEq Ix] {F : FTy → Type} {Name : Type} [DecidableEq Name]
variable {U : Type} [URA U] {Lvl : Type} [Preorder Lvl]

local notation "𝕄" => MT nD τ sig Ix (Elt F) Name U Lvl

/-! ## One step's arithmetic -/

section
variable {α : Type} {g : ℕ → ℕ} (hg : ∀ j, g j < 64) {L : ℕ → BitVec 32} {a : ℕ → ℕ} (ha : ∀ j, a j < 128)
  (hL : ∀ j < 1024, L (slot g j) = BitVec.ofNat 32 (j * 128 + a j)) (hL' : ∀ s < 1168, L s = -1#32 ∨ ∃ j < 1024, s = slot g j)

/-- The position a slot's word names, -/
def posOf (w : BitVec 32) : ℕ := (clipTo 1023 (IntOp.shrsi .vector w 7#32)).toNat
/-- its lane in the row, -/
def colOf (w : BitVec 32) : ℕ := (IntOp.andi w 127#32).toNat
/-- and whether there is one. -/
def isPos (w : BitVec 32) : Bool := decide (IntOp.cmpi .sge w 0#32 = 1)

theorem posOf_lt (w : BitVec 32) : posOf w < 1024 := by
  have h := clipTo_lt (c := 1023) (by omega) (IntOp.shrsi .vector w 7#32)
  unfold posOf; omega
theorem posOf_at {j k : ℕ} (hj : j < 1024) (hk : k < 128) : posOf (BitVec.ofNat 32 (j * 128 + k)) = j := by
  unfold posOf
  have e : IntOp.shrsi .vector (BitVec.ofNat 32 (j * 128 + k)) (BitVec.ofNat 32 7) = BitVec.ofNat 32 ((j * 128 + k) / 2 ^ 7) := shr_n .vector (by omega) (by omega)
  rw [show (7#32 : BitVec 32) = BitVec.ofNat 32 7 from rfl, e, show (j * 128 + k) / 2 ^ 7 = j by omega, clipTo_of (by decide) (by omega), BitVec.toNat_ofNat]; omega
theorem colOf_at {j k : ℕ} (hj : j < 1024) (hk : k < 128) : colOf (BitVec.ofNat 32 (j * 128 + k)) = k := by
  unfold colOf
  have e := and_n (m := j * 128 + k) 7 (by omega) (by omega)
  rw [show (127#32 : BitVec 32) = BitVec.ofNat 32 (2 ^ 7 - 1) from rfl, e, BitVec.toNat_ofNat]; omega

include hg ha hL hL' in
theorem ext_step {f : ℕ × ℕ → α} {val Oa : ℕ → α} {b n : ℕ} (hn : n + 16 ≤ 384) (hb : b + 384 ≤ 1168)
    (hf : ∀ j < 1024, b ≤ slot g j → slot g j < b + 384 → f (slot g j - b, a j) = val j)
    (hO : ∀ j < 1024, slot g j < b + n → Oa j = val j) :
    ∀ j < 1024, slot g j < b + (n + 16) →
      scat 16 Oa (fun l => posOf (L (b + (n + l)))) (fun l => f (n + l, colOf (L (b + (n + l))))) (fun l => isPos (L (b + (n + l)))) j = val j := by
  intro j hj hs
  have other : ∀ l < 16, isPos (L (b + (n + l))) = true → posOf (L (b + (n + l))) = j → b + (n + l) = slot g j := fun l hl hm he => by
    rcases hL' (b + (n + l)) (by omega) with h | ⟨j', hj', e⟩
    · rw [h] at hm; exact absurd (of_decide_eq_true hm) sge_m
    · rw [e, hL j' hj', posOf_at hj' (ha j')] at he
      rw [e, he]
  by_cases h : slot g j < b + n
  · rw [scat_off _ _ _ _ 16 fun l hl hm he => by have := other l hl hm he; omega]
    exact hO j hj h
  · have es : b + (n + (slot g j - (b + n))) = slot g j := by omega
    rw [scat_at _ _ _ _ (k := slot g j - (b + n)) 16 (by omega)
      (by rw [es, hL j hj]; exact decide_eq_true (sge_n (by have := ha j; omega)))
      (by rw [es, hL j hj, posOf_at hj (ha j)])
      (fun k' h₁ h₂ hm he => by have := other k' h₂ hm he; omega)]
    rw [es, hL j hj, colOf_at hj (ha j), ← hf j hj (by omega) (by omega)]
    congr 2
    omega
end

section
variable [FloatOps F] {defs : Defs nD τ sig (Elt F) Λ₀} (𝒱 : Variants) (bd : Option 𝒱.V)
variable (cr : Fin τ.nSC) (su : Fin τ.nSub) (d : Dev nD) {β : Type} {Q : β → sProp (MT nD τ sig Ix (Elt F) Name U Lvl)} {e : EltTy}

/-- A scatter of any words. -/
theorem wp_scatF {n : ℕ} {m : Memref sig .scVector .vmem ⟨1, ![n]⟩ e} {f : ℕ → Elt F e} {x : IVec S16 32} {v : Vec F S16 e} {mask : IVec S16 1}
    {h : ∀ a y, ((![x] : Fin 1 → IVec S16 32) a y).toNat < (⟨1, ![n]⟩ : Shape).size a} {hs : (m.access (.whole ⟨1, ![n]⟩)).Stores Finset.univ}
    (ix : ℕ → ℕ) (hix : ∀ y, (x y).toNat = ix (y 0).val) (w : ℕ → Elt F e) (hv : ∀ y, v y = w (y 0).val) (mk : ℕ → Bool) (hmk : ∀ y, mask y = 1 ↔ mk (y 0).val = true)
    {k : PUnit → Prog (TpuEff nD τ sig (Elt F) Λ₀ (.scVector cr su)) β} :
    Is cr su d m (ar f)
      ⊢ iprop((Is cr su d m (ar (scat 16 f ix w mk)) -∗ wp frame (wpE defs 𝒱 (thr cr su d) bd) Set.univ (k ⟨⟩) Q)
        -∗ wp frame (wpE defs 𝒱 (thr cr su d) bd) Set.univ (SparseCore.vectorStoreIdx (s := ⟨1, ![n]⟩) m ![x] v mask false h hs >>= k) Q) := by
  have e : storeIdx (s := ⟨1, ![n]⟩) (e := e) (F := F) (ar f) ![x] v mask false h = ar (scat 16 f ix w mk) := storeIdx_ar (e := e) (F := F) f _ v mask h 16 rfl ix hix w hv mk hmk
  have h' := wp_isStoreIdx (F := F) (defs := defs) (m := m) (f := ar f) (idxs := ![x]) (v := v) (mask := mask) (add := false) (h := h) (hs := hs) (k := k) (Q := Q) 𝒱 bd cr su d
  rw [e] at h'
  exact h'

/-- A gather through two indices. -/
theorem wp_gath2 {n n' : ℕ} {m : Memref sig .scVector .vmem ⟨2, ![n, n']⟩ e} {f : ℕ × ℕ → Elt F e} {x x' : IVec S16 32}
    {h : ∀ a y, ((![x, x'] : Fin 2 → IVec S16 32) a y).toNat < (⟨2, ![n, n']⟩ : Shape).size a} {hl : m.view.Loads}
    {k : Vec F S16 e → Prog (TpuEff nD τ sig (Elt F) Λ₀ (.scVector cr su)) β} :
    Is cr su d m (ar2 f)
      ⊢ iprop((Is cr su d m (ar2 f) -∗ wp frame (wpE defs 𝒱 (thr cr su d) bd) Set.univ (k (fun y => f ((x y).toNat, (x' y).toNat))) Q)
        -∗ wp frame (wpE defs 𝒱 (thr cr su d) bd) Set.univ (SparseCore.vectorLoadIdx (s := ⟨2, ![n, n']⟩) m ![x, x'] h hl >>= k) Q) := by
  have e : loadIdx (F := F) (e := e) (s := ⟨2, ![n, n']⟩) (ar2 f) ![x, x'] h = fun y => f ((x y).toNat, (x' y).toNat) := rfl
  have h' := wp_isLoadIdx (F := F) (defs := defs) (m := m) (f := ar2 f) (idxs := ![x, x']) (h := h) (hl := hl) (k := k) (Q := Q) 𝒱 bd cr su d
  rw [e] at h'
  exact h'
end

/-- The entries of the slots below `p` are out. -/
def Ext (cr : Fin τ.nSC) (su : Fin τ.nSub) (d : Dev nD) (arg9 : Memref sig .scVector .vmem S1168 .i32) (arg13 : Memref sig .scVector .vmem S384x128 .f32) (arg16 : Memref sig .scVector .vmem S1024 .f32)
    (g : ℕ → ℕ) (L : ℕ → Elt F .i32) (f : ℕ × ℕ → Elt F .f32) (val : ℕ → Elt F .f32) (p : ℕ) : sProp 𝕄 :=
  iprop(Is cr su d arg9 (ar L) ∗ Is cr su d arg13 (ar2 f) ∗ ∃ Oa : ℕ → Elt F .f32, ⌜∀ j < 1024, slot g j < p → Oa j = val j⌝ ∗ Is cr su d arg16 (ar Oa))

variable [FloatOps F] {defs : Defs nD τ sig (Elt F) Λ₀} (𝒱 : Variants) (bd : Option 𝒱.V)

variable (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (d : Dev nD)

theorem off104_eq : ∀ t : Fin k0_t41_loop.trips, k0_off104 t 0 = 0 + 16 * t.val := by decide +kernel

set_option maxHeartbeats 1000000 in
theorem wp_ext41 {g : ℕ → ℕ} (hg : ∀ j, g j < 64) {L : ℕ → BitVec 32} {a : ℕ → ℕ} (ha : ∀ j, a j < 128)
    (hL : ∀ j < 1024, L (slot g j) = BitVec.ofNat 32 (j * 128 + a j)) (hL' : ∀ s < 1168, L s = -1#32 ∨ ∃ j < 1024, s = slot g j)
    {f : ℕ × ℕ → Elt F .f32} {val : ℕ → Elt F .f32}
    (hf : ∀ j < 1024, 0 ≤ slot g j → slot g j < 0 + 384 → f (slot g j - 0, a j) = val j) (v34 v82 : BitVec 32) (v86 v88 v90 : IVec S16 32) (t : Fin k0_t41_loop.trips) :
    (Ext ((i 0).castLE hcore0) ((i 1).castLE hsub0) d arg9 arg13 arg16 g L f val (0 + 16 * t.val) : sProp 𝕄)
      ⊢ wp frame (wpE defs 𝒱 (thr ((i 0).castLE hcore0) ((i 1).castLE hsub0) d) bd) Set.univ (k0_t41_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 iot v34 v82 v86 v88 v90 t ⟨⟩)
        (fun _ => Ext ((i 0).castLE hcore0) ((i 1).castLE hsub0) d arg9 arg13 arg16 g L f val (0 + 16 * (t.val + 1))) := by
  have ht : t.val < 24 := lt_of_lt_of_eq t.isLt (by decide)
  unfold k0_t41_body Ext
  simp only [Prog.bind_lift]
  iintro ⟨HL, HD, ⟨%Oa, %hO, HO⟩⟩
  iapply (wp_isLoad 𝒱 bd _ _ d (0 + 16 * t.val) (off104_eq t)) $$ HL
  iintro HL
  have hkA : k0_chk24 (k0_pay140 (F := F) (ar fun l => L (0 + 16 * t.val + l))) := fun a y => by
    match a with
    | 0 => exact posOf_lt _
  iapply (wp_asm 𝒱 bd _ _ d hkA)
  have hrow : ∀ y : S16.Idx, (k0_pay142 iot t y).toNat = 16 * t.val + (y 0).val := fun y => by
    rw [pay142_eq t]; exact V_toNat (x := fun l => 16 * t.val + l) (fun l hl => by show 16 * t.val + l < _; omega) y
  have hkB : k0_chk23 (k0_pay141 (F := F) (ar fun l => L (0 + 16 * t.val + l))) (k0_pay142 iot t) := fun a y => by
    match a with
    | 0 => exact lt_of_eq_of_lt (hrow y) (show 16 * t.val + (y 0).val < 384 from by have h16 : (y 0).val < 16 := (y 0).isLt; omega)
    | 1 => exact and127_lt _
  iapply (wp_asm 𝒱 bd _ _ d hkB)
  iapply (wp_gath2 𝒱 bd _ _ d) $$ HD
  iintro HD
  iapply (wp_scatF 𝒱 bd _ _ d (fun l => posOf (L (0 + (16 * t.val + l)))) (fun y => by rw [← Nat.add_assoc]; rfl)
    (fun l => f (16 * t.val + l, colOf (L (0 + (16 * t.val + l))))) (fun y => by rw [hrow y, ← Nat.add_assoc]; rfl)
    (fun l => isPos (L (0 + (16 * t.val + l)))) (fun y => by rw [← Nat.add_assoc]; exact (decide_eq_true_iff).symm)) $$ HO
  iintro HO
  rw [wp_pure]
  imodintro
  isplitl [HL]; · iexact HL
  isplitl [HD]; · iexact HD
  iexists _
  isplitr [HO]; swap
  · iexact HO
  · ipureintro
    exact ext_step (b := 0) (n := 16 * t.val) hg ha hL hL' (by omega) (by omega) hf hO

theorem off202_eq : ∀ t : Fin k0_t79_loop.trips, k0_off202 t 0 = 384 + 16 * t.val := by decide +kernel

set_option maxHeartbeats 1000000 in
theorem wp_ext79 {g : ℕ → ℕ} (hg : ∀ j, g j < 64) {L : ℕ → BitVec 32} {a : ℕ → ℕ} (ha : ∀ j, a j < 128)
    (hL : ∀ j < 1024, L (slot g j) = BitVec.ofNat 32 (j * 128 + a j)) (hL' : ∀ s < 1168, L s = -1#32 ∨ ∃ j < 1024, s = slot g j)
    {f : ℕ × ℕ → Elt F .f32} {val : ℕ → Elt F .f32}
    (hf : ∀ j < 1024, 384 ≤ slot g j → slot g j < 384 + 384 → f (slot g j - 384, a j) = val j) (t : Fin k0_t79_loop.trips) :
    (Ext ((i 0).castLE hcore0) ((i 1).castLE hsub0) d arg9 arg13 arg16 g L f val (384 + 16 * t.val) : sProp 𝕄)
      ⊢ wp frame (wpE defs 𝒱 (thr ((i 0).castLE hcore0) ((i 1).castLE hsub0) d) bd) Set.univ (k0_t79_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 iot t ⟨⟩)
        (fun _ => Ext ((i 0).castLE hcore0) ((i 1).castLE hsub0) d arg9 arg13 arg16 g L f val (384 + 16 * (t.val + 1))) := by
  have ht : t.val < 24 := lt_of_lt_of_eq t.isLt (by decide)
  unfold k0_t79_body Ext
  simp only [Prog.bind_lift]
  iintro ⟨HL, HD, ⟨%Oa, %hO, HO⟩⟩
  iapply (wp_isLoad 𝒱 bd _ _ d (384 + 16 * t.val) (off202_eq t)) $$ HL
  iintro HL
  have hkA : k0_chk43 (k0_pay144 (F := F) (ar fun l => L (384 + 16 * t.val + l))) := fun a y => by
    match a with
    | 0 => exact posOf_lt _
  iapply (wp_asm 𝒱 bd _ _ d hkA)
  have hrow : ∀ y : S16.Idx, (k0_pay146 iot t y).toNat = 16 * t.val + (y 0).val := fun y => by
    rw [pay146_eq t]; exact V_toNat (x := fun l => 16 * t.val + l) (fun l hl => by show 16 * t.val + l < _; omega) y
  have hkB : k0_chk42 (k0_pay145 (F := F) (ar fun l => L (384 + 16 * t.val + l))) (k0_pay146 iot t) := fun a y => by
    match a with
    | 0 => exact lt_of_eq_of_lt (hrow y) (show 16 * t.val + (y 0).val < 384 from by have h16 : (y 0).val < 16 := (y 0).isLt; omega)
    | 1 => exact and127_lt _
  iapply (wp_asm 𝒱 bd _ _ d hkB)
  iapply (wp_gath2 𝒱 bd _ _ d) $$ HD
  iintro HD
  iapply (wp_scatF 𝒱 bd _ _ d (fun l => posOf (L (384 + (16 * t.val + l)))) (fun y => by rw [← Nat.add_assoc]; rfl)
    (fun l => f (16 * t.val + l, colOf (L (384 + (16 * t.val + l))))) (fun y => by rw [hrow y, ← Nat.add_assoc]; rfl)
    (fun l => isPos (L (384 + (16 * t.val + l)))) (fun y => by rw [← Nat.add_assoc]; exact (decide_eq_true_iff).symm)) $$ HO
  iintro HO
  rw [wp_pure]
  imodintro
  isplitl [HL]; · iexact HL
  isplitl [HD]; · iexact HD
  iexists _
  isplitr [HO]; swap
  · iexact HO
  · ipureintro
    exact ext_step (b := 384) (n := 16 * t.val) hg ha hL hL' (by omega) (by omega) hf hO

theorem off300_eq : ∀ t : Fin k0_t117_loop.trips, k0_off300 t 0 = 768 + 16 * t.val := by decide +kernel

set_option maxHeartbeats 1000000 in
theorem wp_ext117 {g : ℕ → ℕ} (hg : ∀ j, g j < 64) {L : ℕ → BitVec 32} {a : ℕ → ℕ} (ha : ∀ j, a j < 128)
    (hL : ∀ j < 1024, L (slot g j) = BitVec.ofNat 32 (j * 128 + a j)) (hL' : ∀ s < 1168, L s = -1#32 ∨ ∃ j < 1024, s = slot g j)
    {f : ℕ × ℕ → Elt F .f32} {val : ℕ → Elt F .f32}
    (hf : ∀ j < 1024, 768 ≤ slot g j → slot g j < 768 + 384 → f (slot g j - 768, a j) = val j) (t : Fin k0_t117_loop.trips) :
    (Ext ((i 0).castLE hcore0) ((i 1).castLE hsub0) d arg9 arg13 arg16 g L f val (768 + 16 * t.val) : sProp 𝕄)
      ⊢ wp frame (wpE defs 𝒱 (thr ((i 0).castLE hcore0) ((i 1).castLE hsub0) d) bd) Set.univ (k0_t117_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 iot t ⟨⟩)
        (fun _ => Ext ((i 0).castLE hcore0) ((i 1).castLE hsub0) d arg9 arg13 arg16 g L f val (768 + 16 * (t.val + 1))) := by
  have ht : t.val < 24 := lt_of_lt_of_eq t.isLt (by decide)
  unfold k0_t117_body Ext
  simp only [Prog.bind_lift]
  iintro ⟨HL, HD, ⟨%Oa, %hO, HO⟩⟩
  iapply (wp_isLoad 𝒱 bd _ _ d (768 + 16 * t.val) (off300_eq t)) $$ HL
  iintro HL
  have hkA : k0_chk62 (k0_pay2 (F := F) (ar fun l => L (768 + 16 * t.val + l))) := fun a y => by
    match a with
    | 0 => exact posOf_lt _
  iapply (wp_asm 𝒱 bd _ _ d hkA)
  have hrow : ∀ y : S16.Idx, (k0_pay4 iot t y).toNat = 16 * t.val + (y 0).val := fun y => by
    rw [pay4_eq t]; exact V_toNat (x := fun l => 16 * t.val + l) (fun l hl => by show 16 * t.val + l < _; omega) y
  have hkB : k0_chk61 (k0_pay3 (F := F) (ar fun l => L (768 + 16 * t.val + l))) (k0_pay4 iot t) := fun a y => by
    match a with
    | 0 => exact lt_of_eq_of_lt (hrow y) (show 16 * t.val + (y 0).val < 384 from by have h16 : (y 0).val < 16 := (y 0).isLt; omega)
    | 1 => exact and127_lt _
  iapply (wp_asm 𝒱 bd _ _ d hkB)
  iapply (wp_gath2 𝒱 bd _ _ d) $$ HD
  iintro HD
  iapply (wp_scatF 𝒱 bd _ _ d (fun l => posOf (L (768 + (16 * t.val + l)))) (fun y => by rw [← Nat.add_assoc]; rfl)
    (fun l => f (16 * t.val + l, colOf (L (768 + (16 * t.val + l))))) (fun y => by rw [hrow y, ← Nat.add_assoc]; rfl)
    (fun l => isPos (L (768 + (16 * t.val + l)))) (fun y => by rw [← Nat.add_assoc]; exact (decide_eq_true_iff).symm)) $$ HO
  iintro HO
  rw [wp_pure]
  imodintro
  isplitl [HL]; · iexact HL
  isplitl [HD]; · iexact HD
  iexists _
  isplitr [HO]; swap
  · iexact HO
  · ipureintro
    exact ext_step (b := 768) (n := 16 * t.val) hg ha hL hL' (by omega) (by omega) hf hO

end Cert.Proof.Tile

end
-- ==== Proof.Drain.lean ====
/-
  The waits of a window: all the gathers it has started, eight at a time and then one at a time.
-/
module

public import proofs.«01_k».proof.Proof.Window

@[expose] public section

set_option synthInstance.maxSize 4096

noncomputable section

namespace Cert.Proof.Fire

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch

variable {Ix : Type} [DecidableEq Ix] {F : FTy → Type} {Name : Type} [DecidableEq Name]
variable {U : Type} [URA U] {Lvl : Type} [Preorder Lvl]

local notation "𝕄" => MT nD τ sig Ix (Elt F) Name U Lvl

/-- The wait for one gather of two rows. -/
def wait1 (cr : Fin τ.nSC) (su : Fin τ.nSub) (arg3 : Memref sig .scVector .hbm S8192x8192 .f32)
    (arg13 : Memref sig .scVector .vmem S384x128 .f32) (arg19 : DmaSems sig S_) :
    Prog (TpuEff nD τ sig (Elt F) Λ₀ (.scVector cr su)) PUnit :=
  SparseCore.waitIndirectGather arg19.sem
    (arg3.slice (Rect.unit (s := S8192x8192) ![0, 0] S8192x128.size inb_S8192x8192_S8192x128_0_0) (fun _ => rfl) : Memref sig .scVector .hbm S8192x128 .f32)
    (arg13.slice (Rect.unit (s := S384x128) ![0, 0] S2x128.size inb_S384x128_S2x128_0_0) (fun _ => rfl) : Memref sig .scVector .vmem S2x128 .f32)
    (View.wordExact_bits rfl) (View.wordExact_bits rfl)

/-- Eight of them. -/
def wait8 (cr : Fin τ.nSC) (su : Fin τ.nSub) (arg3 : Memref sig .scVector .hbm S8192x8192 .f32)
    (arg13 : Memref sig .scVector .vmem S384x128 .f32) (arg19 : DmaSems sig S_) :
    Prog (TpuEff nD τ sig (Elt F) Λ₀ (.scVector cr su)) Unit := do
  wait1 cr su arg3 arg13 arg19
  wait1 cr su arg3 arg13 arg19
  wait1 cr su arg3 arg13 arg19
  wait1 cr su arg3 arg13 arg19
  wait1 cr su arg3 arg13 arg19
  wait1 cr su arg3 arg13 arg19
  wait1 cr su arg3 arg13 arg19
  wait1 cr su arg3 arg13 arg19
  pure ⟨⟩

variable (EC : UEmb Counters (MT nD τ sig Ix (Elt F) Name U Lvl)) (cr : Fin τ.nSC) (su : Fin τ.nSub) (d : Dev nD)

/-- What a tile owes has grown only by waits of index `ι`. -/
def Grown (ι : Ix) (O : CellTallies nD τ sig Ix) (W : Waits sig Ix) : sProp 𝕄 :=
  iprop(∃ W', ⌜∀ p ∈ W', p ∈ W ∨ p.2 = ι⌝ ∗ owes (thr cr su d) O W')

/-- The batch with `u` of its gathers waited for. -/
def Drn (arg19 : DmaSems sig S_) (ι : Ix) {n : ℕ} (D : Fin n → sProp 𝕄) (j : ℕ) (O : CellTallies nD τ sig Ix) (W : Waits sig Ix) (u : ℕ) : sProp 𝕄 :=
  iprop(Batch EC (thr cr su d) (.dma arg19.sem) ι 4096 D j (8192 * u) ∗ Grown cr su d ι O W ∗ MayWaits (thr cr su d) ι O)

variable [Infinite Name] [EC.LandsIn (upEmb : UEmb _ (MT nD τ sig Ix (Elt F) Name U Lvl))] [FloatOps F] {defs : Defs nD τ sig (Elt F) Λ₀} (𝒱 : Variants) (bd : Option 𝒱.V)
variable (arg3 : Memref sig .scVector .hbm S8192x8192 .f32)
  (arg13 : Memref sig .scVector .vmem S384x128 .f32) (arg19 : DmaSems sig S_)
variable {ι : Ix} {n j : ℕ} {D : Fin n → sProp (MT nD τ sig Ix (Elt F) Name U Lvl)} {O : CellTallies nD τ sig Ix} {W : Waits sig Ix} {α : Type} {Q : α → sProp (MT nD τ sig Ix (Elt F) Name U Lvl)}

/-- One gather waited for. -/
theorem wp_wait1 (hcr : ∀ s' : Shape, sig.dmaCredit .scVector (Kind.scVector.table .vmem) arg13.view.buf s' .f32 = s'.numel * 32)
    {u : ℕ} (hu : 2 * (u + 1) ≤ j) {kk : PUnit → Prog (TpuEff nD τ sig (Elt F) Λ₀ (.scVector cr su)) α} :
    Drn EC cr su d arg19 ι D j O W u
      ⊢ iprop((Drn EC cr su d arg19 ι D j O W (u + 1) -∗ wp frame (wpE defs 𝒱 (thr cr su d) bd) Set.univ (kk ⟨⟩) Q)
          -∗ wp frame (wpE defs 𝒱 (thr cr su d) bd) Set.univ (wait1 cr su arg3 arg13 arg19 >>= kk) Q) := by
  unfold Drn Grown wait1
  simp only [SparseCore.waitIndirectGather, Prog.bind_lift]
  iintro ⟨HB, ⟨%W', %hW, HO⟩, #HM⟩ Hk
  iapply (wp_waitBatchMulO EC 𝒱 (thr cr su d) bd ι (N := 4096) 2 (by exact hcr _) (D := D) (j := j) (u := 8192 * u) (by omega)) $$ [HB HO]
  · isplitl [HB]; · iexact HB
    isplitl [HO]; · iexact HO
    iapply (MayWaits.elim _) $$ HM
  iintro ⟨HB, HO⟩
  iapply Hk
  isplitl [HB]; · iexact HB
  isplitl [HO]
  · iexists _
    isplitr [HO]; swap; · iexact HO
    ipureintro
    intro p hp
    rcases Finset.mem_insert.mp hp with h | h
    · exact .inr (by rw [h])
    · exact hW p h
  iexact HM

/-- Eight gathers waited for. -/
theorem wp_wait8 (hcr : ∀ s' : Shape, sig.dmaCredit .scVector (Kind.scVector.table .vmem) arg13.view.buf s' .f32 = s'.numel * 32)
    {u : ℕ} (hu : 2 * (u + 8) ≤ j) :
    Drn EC cr su d arg19 ι D j O W u
      ⊢ wp frame (wpE defs 𝒱 (thr cr su d) bd) Set.univ (wait8 cr su arg3 arg13 arg19) (fun _ => Drn EC cr su d arg19 ι D j O W (u + 8)) := by
  unfold wait8
  iintro H
  iapply (wp_wait1 EC cr su d 𝒱 bd arg3 arg13 arg19 hcr (by omega)) $$ H
  iintro H
  iapply (wp_wait1 EC cr su d 𝒱 bd arg3 arg13 arg19 hcr (by omega)) $$ H
  iintro H
  iapply (wp_wait1 EC cr su d 𝒱 bd arg3 arg13 arg19 hcr (by omega)) $$ H
  iintro H
  iapply (wp_wait1 EC cr su d 𝒱 bd arg3 arg13 arg19 hcr (by omega)) $$ H
  iintro H
  iapply (wp_wait1 EC cr su d 𝒱 bd arg3 arg13 arg19 hcr (by omega)) $$ H
  iintro H
  iapply (wp_wait1 EC cr su d 𝒱 bd arg3 arg13 arg19 hcr (by omega)) $$ H
  iintro H
  iapply (wp_wait1 EC cr su d 𝒱 bd arg3 arg13 arg19 hcr (by omega)) $$ H
  iintro H
  iapply (wp_wait1 EC cr su d 𝒱 bd arg3 arg13 arg19 hcr (by omega)) $$ H
  iintro H
  rw [wp_pure]
  imodintro
  iexact H

/-- The four loops that wait for a window's `N` gathers. -/
theorem wp_drains (hcr : ∀ s' : Shape, sig.dmaCredit .scVector (Kind.scVector.table .vmem) arg13.view.buf s' .f32 = s'.numel * 32)
    {N : ℕ} (hj : j = 2 * N) {L₁ L₂ L₃ L₄ : Scf.Loop 32} {ok₁ : L₁.OK} {ok₂ : L₂.OK} {ok₃ : L₃.OK} {ok₄ : L₄.OK}
    {b₁ : Fin L₁.trips → Unit → Prog (TpuEff nD τ sig (Elt F) Λ₀ (.scVector cr su)) Unit}
    {b₂ : Fin L₂.trips → Unit → Prog (TpuEff nD τ sig (Elt F) Λ₀ (.scVector cr su)) Unit}
    {b₃ : Fin L₃.trips → Unit → Prog (TpuEff nD τ sig (Elt F) Λ₀ (.scVector cr su)) Unit}
    {b₄ : Fin L₄.trips → Unit → Prog (TpuEff nD τ sig (Elt F) Λ₀ (.scVector cr su)) Unit}
    (h₁ : b₁ = fun _ _ => wait8 cr su arg3 arg13 arg19) (h₃ : b₃ = fun _ _ => wait1 cr su arg3 arg13 arg19)
    (t₁ : L₁.trips = N / 8) (t₂ : L₂.trips = 0) (t₃ : L₃.trips = N % 8) (t₄ : L₄.trips = 0)
    {kk : Unit → Prog (TpuEff nD τ sig (Elt F) Λ₀ (.scVector cr su)) α} :
    Drn EC cr su d arg19 ι D j O W 0
      ⊢ iprop((Drn EC cr su d arg19 ι D j O W N -∗ wp frame (wpE defs 𝒱 (thr cr su d) bd) Set.univ (kk ⟨⟩) Q)
          -∗ wp frame (wpE defs 𝒱 (thr cr su d) bd) Set.univ
            (Scf.Loop.for L₁ ok₁ ⟨⟩ b₁ >>= fun _ => Scf.Loop.for L₂ ok₂ ⟨⟩ b₂ >>= fun _ => Scf.Loop.for L₃ ok₃ ⟨⟩ b₃ >>= fun _ => Scf.Loop.for L₄ ok₄ ⟨⟩ b₄ >>= kk) Q) := by
  subst h₁ h₃ hj
  have e₂ : Scf.Loop.for L₂ ok₂ ⟨⟩ b₂ = Prog.ret ⟨⟩ := Scf.for_eq_ret _ _ _ _ _ _ t₂
  have e₄ : Scf.Loop.for L₄ ok₄ ⟨⟩ b₄ = Prog.ret ⟨⟩ := Scf.for_eq_ret _ _ _ _ _ _ t₄
  rw [e₂, e₄]
  iintro H Hk
  iapply (Scf.wp_for_bind frame (wpE defs 𝒱 (thr cr su d) bd) Set.univ _ _ _ _ _ _ (fun t _ => Drn EC cr su d arg19 ι D (2 * N) O W (8 * t)) ?_) $$ [H]
  · intro t acc
    have ht := lt_of_lt_of_eq t.isLt t₁
    exact wp_wait8 EC cr su d 𝒱 bd arg3 arg13 arg19 hcr (by omega)
  · iexact H
  iintro %a H
  iapply (show wp frame (wpE defs 𝒱 (thr cr su d) bd) Set.univ (Scf.Loop.for L₃ ok₃ ⟨⟩ (fun _ _ => wait1 cr su arg3 arg13 arg19) >>= fun _ => kk ⟨⟩) Q ⊢ _ from .rfl)
  iapply (Scf.wp_for_bind frame (wpE defs 𝒱 (thr cr su d) bd) Set.univ _ _ _ _ _ _ (fun t _ => Drn EC cr su d arg19 ι D (2 * N) O W (8 * L₁.trips + t)) ?_) $$ [H]
  · intro t acc
    have ht := lt_of_lt_of_eq t.isLt t₃
    have h := wp_wait1 (kk := pure) (Q := fun _ => Drn EC cr su d arg19 ι D (2 * N) O W (8 * L₁.trips + (t + 1))) EC cr su d (defs := defs) 𝒱 bd (ι := ι) (D := D) (O := O) (W := W) arg3 arg13 arg19 hcr (u := 8 * L₁.trips + t) (j := 2 * N) (by rw [t₁]; omega)
    rw [bind_pure] at h
    iintro H
    iapply h $$ H
    iintro H
    rw [wp_pure]
    imodintro
    iexact H
  · iexact H
  iintro %a H
  iapply Hk
  have hN : 8 * L₁.trips + L₃.trips = N := by rw [t₁, t₃]; omega
  iapply (Entails.of_eq (congrArg (Drn EC cr su d arg19 ι D (2 * N) O W) hN)) $$ H

end Cert.Proof.Fire

end
-- ==== Proof.Ends.lean ====
/-
  A window entered with the buffers whole, and left with the buffers whole again and its rows in place.
-/
module

public import proofs.«01_k».proof.Proof.Window
public import proofs.«01_k».proof.Proof.Drain
public import proofs.«01_k».proof.Proof.Steps

@[expose] public section

set_option synthInstance.maxSize 4096

noncomputable section

namespace Cert.Proof.Fire

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps

variable {Ix : Type} [DecidableEq Ix] {F : FTy → Type} {Name : Type} [DecidableEq Name]
variable {U : Type} [URA U] {Lvl : Type} [Preorder Lvl]

local notation "𝕄" => MT nD τ sig Ix (Elt F) Name U Lvl

variable (cr : Fin τ.nSC) (su : Fin τ.nSub) (d : Dev nD)
variable (arg3 : Memref sig .scVector .hbm S8192x8192 .f32) (arg8 : Memref sig .scVector .vmem S584x2 .i32)
  (arg13 : Memref sig .scVector .vmem S384x128 .f32) (arg19 : DmaSems sig S_)
variable (ft : Buf (Elt F) (arg3.view.loc (thr cr su d)))

/-- The share of the transition table that row `x` of a window reads through, of a tile's share. -/
def cut (q : PosShare TreeShare) (x : ℕ) : PosShare TreeShare := if h : x < 384 then pieceOf q 384 (by decide) ⟨x, h⟩ else q

/-- The transition table, in the shares a window's rows read it through. -/
def Table (qs : ℕ → PosShare TreeShare) : sProp 𝕄 :=
  bigSep (Finset.range 384) (fun x => (arg3.view.loc (thr cr su d) ↦[arg3.view.set]{qs x} ft : sProp 𝕄))

theorem bigSep_range (n : ℕ) (Φ : ℕ → sProp 𝕄) : bigSep (Finset.range n) Φ = bigSep Finset.univ fun x : Fin n => Φ x.val := by
  rw [← Nat.Iio_eq_range, ← Fin.map_valEmbedding_univ, BI.bigSep_map]; rfl

/-- A tile's share of the table, cut. -/
theorem table_cut (q : PosShare TreeShare) :
    (arg3.view.loc (thr cr su d) ↦[arg3.view.set]{q} ft : sProp 𝕄) = Table (Ix := Ix) (Name := Name) (U := U) (Lvl := Lvl) cr su d arg3 ft (cut q) := by
  unfold Table
  rw [bigSep_range, pointsTo_piecesOf _ _ (o := 384) (by decide) q]
  refine BI.bigSep_congr fun x _ => ?_
  simp only [cut, x.isLt, dif_pos]

/-- Two disjoint parts of a memref's buffer, and of three. -/
theorem two_parts {sp : Space} {s : Shape} {e : EltTy} (m : Memref sig .scVector sp s e) (f : Buf (Elt F) (m.view.loc (thr cr su d))) {A B : Finset s.Idx} (h : Disjoint A B) :
    iprop((m.view.loc (thr cr su d) ↦[m.view.setOn A]{fullShare} f) ∗ (m.view.loc (thr cr su d) ↦[m.view.setOn B]{fullShare} f))
      ⊢ (m.view.loc (thr cr su d) ↦[m.view.setOn (A ∪ B)]{fullShare} f : sProp 𝕄) := by
  have e : m.view.setOn (A ∪ B) = m.view.setOn A ∪ m.view.setOn B := Finset.map_union _ _
  rw [e]
  exact (pointsTo_union (setOn_disj m.view h)).2

section
variable (fr : Buf (Elt F) (arg8.view.loc (thr cr su d))) (fd : Buf (Elt F) (arg13.view.loc (thr cr su d)))
variable (b n : ℕ) (laneOf : ℕ → ℕ) (qs : ℕ → PosShare TreeShare)

theorem held_zero : Held (Ix := Ix) (Name := Name) (U := U) (Lvl := Lvl) cr su d arg3 arg8 arg13 ft fr fd b qs 0
    = iprop((arg13.view.loc (thr cr su d) ↦[arg13.view.set]{fullShare} fd) ∗ (arg8.view.loc (thr cr su d) ↦[arg8.view.set]{fullShare} fr) ∗ Table cr su d arg3 ft qs) := by
  unfold Held Table
  have e₁ : rowsFrom (2 * 0) = Finset.univ := by ext y; simp [rowsFrom]
  have e₂ : numsBut b 0 = Finset.univ := by ext y; simp only [numsBut, Finset.mem_filter, Finset.mem_univ, true_and, iff_true]; omega
  have e₃ : Finset.range 384 \ Finset.range (2 * 0) = Finset.range 384 := by simp
  rw [e₁, e₂, e₃]; rfl

/-- Two more rows of the buffer, -/
theorem rows_more (k : ℕ) (G : Buf (Elt F) (arg13.view.loc (thr cr su d))) : iprop((arg13.view.loc (thr cr su d) ↦[arg13.view.setOn (rowsFrom (2 * (k + 1)))]{fullShare} G)
      ∗ (arg13.view.loc (thr cr su d) ↦[arg13.view.setOn (row (2 * k))]{fullShare} G) ∗ (arg13.view.loc (thr cr su d) ↦[arg13.view.setOn (row (2 * k + 1))]{fullShare} G))
    ⊢ (arg13.view.loc (thr cr su d) ↦[arg13.view.setOn (rowsFrom (2 * k))]{fullShare} G : sProp 𝕄) := by
  rw [rowsFrom_succ k]
  have hne : 2 * k ≠ 2 * k + 1 := by omega
  have u₁ := two_parts (Ix := Ix) (Name := Name) (U := U) (Lvl := Lvl) cr su d arg13 G (row_disj hne)
  have u₂ := two_parts (Ix := Ix) (Name := Name) (U := U) (Lvl := Lvl) cr su d arg13 G (rowsFrom_disj k)
  exact (sep_mono_right u₁).trans u₂
/-- two more row numbers, -/
theorem nums_more (k : ℕ) : iprop((arg8.view.loc (thr cr su d) ↦[arg8.view.setOn (numsBut b (k + 1))]{fullShare} fr)
      ∗ (arg8.view.loc (thr cr su d) ↦[arg8.view.setOn (num b (2 * k))]{fullShare} fr) ∗ (arg8.view.loc (thr cr su d) ↦[arg8.view.setOn (num b (2 * k + 1))]{fullShare} fr))
    ⊢ (arg8.view.loc (thr cr su d) ↦[arg8.view.setOn (numsBut b k)]{fullShare} fr : sProp 𝕄) := by
  rw [numsBut_succ b k]
  have hne : 2 * k ≠ 2 * k + 1 := by omega
  have u₁ := two_parts (Ix := Ix) (Name := Name) (U := U) (Lvl := Lvl) cr su d arg8 fr (num_disj b hne)
  have u₂ := two_parts (Ix := Ix) (Name := Name) (U := U) (Lvl := Lvl) cr su d arg8 fr (numsBut_disj b k)
  exact (sep_mono_right u₁).trans u₂
/-- and two more shares of the table. -/
theorem shares_more {k : ℕ} (hk : 2 * (k + 1) ≤ 384) : bigSep (Finset.range 384 \ Finset.range (2 * k)) (fun x => (arg3.view.loc (thr cr su d) ↦[arg3.view.set]{qs x} ft : sProp 𝕄))
    = iprop((arg3.view.loc (thr cr su d) ↦[arg3.view.set]{qs (2 * k)} ft) ∗ (arg3.view.loc (thr cr su d) ↦[arg3.view.set]{qs (2 * k + 1)} ft)
      ∗ bigSep (Finset.range 384 \ Finset.range (2 * (k + 1))) (fun x => (arg3.view.loc (thr cr su d) ↦[arg3.view.set]{qs x} ft : sProp 𝕄))) := by
  have e : Finset.range 384 \ Finset.range (2 * k) = insert (2 * k) (insert (2 * k + 1) (Finset.range 384 \ Finset.range (2 * (k + 1)))) := by
    ext x; simp only [Finset.mem_sdiff, Finset.mem_range, Finset.mem_insert]; omega
  rw [e, BI.bigSep_insert (by simp), BI.bigSep_insert (by simp; omega)]
  rfl

/-- Two rows given back. -/
theorem held_back {k : ℕ} (hk : 2 * (k + 1) ≤ 384) :
    iprop(Done cr su d arg3 arg8 arg13 ft fr fd b n laneOf qs (2 * k) ∗ Done cr su d arg3 arg8 arg13 ft fr fd b n laneOf qs (2 * k + 1)
        ∗ Held cr su d arg3 arg8 arg13 ft fr (final cr su d arg3 arg8 arg13 ft fr fd b n laneOf) b qs (k + 1))
      ⊢ (Held cr su d arg3 arg8 arg13 ft fr (final cr su d arg3 arg8 arg13 ft fr fd b n laneOf) b qs k : sProp 𝕄) := by
  unfold Done Held
  rw [shares_more cr su d arg3 ft qs hk]
  iintro ⟨⟨Hr0, He0, Hs0⟩, ⟨Hr1, He1, Hs1⟩, H13, H8, H3⟩
  isplitl [Hr0 Hr1 H13]
  · iapply (rows_more cr su d arg13 k _)
    isplitl [H13]; · iexact H13
    isplitl [Hr0]; · iexact Hr0
    iexact Hr1
  isplitl [He0 He1 H8]
  · iapply (nums_more cr su d arg8 fr b k)
    isplitl [H8]; · iexact H8
    isplitl [He0]; · iexact He0
    iexact He1
  isplitl [Hs0]; · iexact Hs0
  isplitl [Hs1]; · iexact Hs1
  iexact H3

/-- All of them given back. -/
theorem held_all : ∀ {k : ℕ} (_ : 2 * k ≤ 384),
    iprop(bigSep (Finset.range (2 * k)) (fun x => Done cr su d arg3 arg8 arg13 ft fr fd b n laneOf qs x)
        ∗ Held cr su d arg3 arg8 arg13 ft fr (final cr su d arg3 arg8 arg13 ft fr fd b n laneOf) b qs k)
      ⊢ (Held cr su d arg3 arg8 arg13 ft fr (final cr su d arg3 arg8 arg13 ft fr fd b n laneOf) b qs 0 : sProp 𝕄)
  | 0, _ => sep_elim_right
  | k + 1, hk => by
    have e : bigSep (Finset.range (2 * (k + 1))) (fun x => (Done cr su d arg3 arg8 arg13 ft fr fd b n laneOf qs x : sProp 𝕄))
        = iprop(Done cr su d arg3 arg8 arg13 ft fr fd b n laneOf qs (2 * k + 1) ∗ Done cr su d arg3 arg8 arg13 ft fr fd b n laneOf qs (2 * k)
          ∗ bigSep (Finset.range (2 * k)) (fun x => Done cr su d arg3 arg8 arg13 ft fr fd b n laneOf qs x)) := by
      rw [show 2 * (k + 1) = 2 * k + 1 + 1 from rfl, Finset.range_add_one, Finset.range_add_one, BI.bigSep_insert (by simp), BI.bigSep_insert (by simp)]
      rfl
    rw [e]
    refine Entails.trans ?_ (held_all (k := k) (by omega))
    iintro ⟨⟨H1, H0, HD⟩, HH⟩
    isplitl [HD]; · iexact HD
    iapply (held_back cr su d arg3 arg8 arg13 ft fr fd b n laneOf qs hk)
    isplitl [H0]; · iexact H0
    isplitl [H1]; · iexact H1
    iexact HH

/-- The rows not asked for are what they were. -/
theorem held_final {k : ℕ} (h : n = 2 * k) :
    Held (Ix := Ix) (Name := Name) (U := U) (Lvl := Lvl) cr su d arg3 arg8 arg13 ft fr fd b qs k
      = Held cr su d arg3 arg8 arg13 ft fr (final cr su d arg3 arg8 arg13 ft fr fd b n laneOf) b qs k := by
  unfold Held
  have e : ∀ i ∈ arg13.view.setOn (rowsFrom (2 * k)), fd i = final cr su d arg3 arg8 arg13 ft fr fd b n laneOf i := by
    intro i hi
    obtain ⟨y, hy, rfl⟩ := Finset.mem_map.mp hi
    have hy : 2 * k ≤ (y 0).val := by simpa [rowsFrom] using hy
    unfold final
    rw [View.write_emb_of_mem _ _ (Finset.mem_univ y), if_neg (by omega), View.read_apply, cast_cast, cast_eq]
  rw [pointsTo_congr (Ix := Ix) (Name := Name) (U := U) (Lvl := Lvl) (ℓ := arg13.view.loc (thr cr su d)) (q := fullShare) e]
end

variable [Infinite Name] (EC : UEmb Counters (MT nD τ sig Ix (Elt F) Name U Lvl)) [EC.LandsIn (upEmb : UEmb _ (MT nD τ sig Ix (Elt F) Name U Lvl))]
variable (ι : Ix) (P : ℕ → ℕ) (b : ℕ) (qs : ℕ → PosShare TreeShare)

/-- A window entered. -/
theorem win_enter (fr : Buf (Elt F) (arg8.view.loc (thr cr su d))) (fd : Buf (Elt F) (arg13.view.loc (thr cr su d))) (hP : Kof P b 0 = 0) {E : Set Name} :
    iprop((arg13.view.loc (thr cr su d) ↦[arg13.view.set]{fullShare} fd) ∗ (arg8.view.loc (thr cr su d) ↦[arg8.view.set]{fullShare} fr)
        ∗ Table cr su d arg3 ft qs ∗ semVal (thr cr su d, .dma arg19.sem) 0)
      ⊢ (|={E}=> Win EC cr su d arg3 arg8 arg13 arg19 ι ft fr fd P b qs (Kof P b 0) : sProp 𝕄) := by
  iintro ⟨H13, H8, H3, Hv⟩
  imod (batch_alloc' EC (c := thr cr su d) ι 4096 (fun x : Fin (2 * Kof P b 64) => Done cr su d arg3 arg8 arg13 ft fr fd b (2 * Kof P b 64) (laneOf P) qs x.val)) $$ Hv with HB
  imodintro
  rw [hP]
  unfold Win
  isplitl [HB]; · iexact HB
  rw [held_zero]
  isplitl [H13]; · iexact H13
  isplitl [H8]; · iexact H8
  iexact H3

/-- What the rows of a window hold when it is left, of the numbers `R` and the table. -/
def Rows (R : S584x2.Idx → BitVec 32) (f : S384x128.Idx → Elt F .f32) : Prop :=
  ∀ y : S384x128.Idx, (y 0).val < 2 * Kof P b 64 → f y = arg3.view.read (Elt F) ft (ixT (R (ixR (b + (y 0).val / 2) ((y 0).val % 2))).toNat (128 * laneOf P (b + (y 0).val / 2) + (y 1).val))

/-- A window left: every row has landed. -/
theorem win_leave {O : CellTallies nD τ sig Ix} {W : Waits sig Ix} (fr : Buf (Elt F) (arg8.view.loc (thr cr su d))) (fd : Buf (Elt F) (arg13.view.loc (thr cr su d))) :
    iprop(Drn EC cr su d arg19 ι (fun x : Fin (2 * Kof P b 64) => Done cr su d arg3 arg8 arg13 ft fr fd b (2 * Kof P b 64) (laneOf P) qs x.val) (2 * Kof P b 64) O W (Kof P b 64)
        ∗ Held cr su d arg3 arg8 arg13 ft fr fd b qs (Kof P b 64))
      ⊢ (|={Set.univ}=> iprop(∃ f, ⌜Rows cr su d arg3 ft P b (arg8.view.read (Elt F) fr) f⌝ ∗ Is cr su d arg13 f ∗ Is cr su d arg8 (arg8.view.read (Elt F) fr)
          ∗ Table cr su d arg3 ft qs ∗ semVal (thr cr su d, .dma arg19.sem) 0 ∗ Grown cr su d ι O W ∗ MayWaits (thr cr su d) ι O) : sProp 𝕄) := by
  have hK : 2 * Kof P b 64 ≤ 384 := by unfold Kof; omega
  unfold Drn
  rw [show 8192 * Kof P b 64 = 4096 * (2 * Kof P b 64) by omega]
  iintro ⟨⟨HB, HO, HM⟩, HH⟩
  imod (batch_collect' EC (c := thr cr su d) (N := 4096) (by decide)) $$ HB with ⟨HD, Hv⟩
  imodintro
  ihave HH := (Entails.of_eq (held_final cr su d arg3 arg8 arg13 ft fr fd b (2 * Kof P b 64) (laneOf P) qs (k := Kof P b 64) rfl)) $$ HH
  ihave HD := (Entails.of_eq (bigSep_range (2 * Kof P b 64) (fun x => Done cr su d arg3 arg8 arg13 ft fr fd b (2 * Kof P b 64) (laneOf P) qs x)).symm) $$ HD
  ihave HH := (held_all cr su d arg3 arg8 arg13 ft fr fd b (2 * Kof P b 64) (laneOf P) qs hK) $$ [HD HH]
  · isplitl [HD]; · iexact HD
    iexact HH
  ihave HH := (Entails.of_eq (held_zero cr su d arg3 arg8 arg13 ft fr _ b qs)) $$ HH
  icases HH with ⟨H13, H8, H3⟩
  iexists (arg13.view.read (Elt F) (final cr su d arg3 arg8 arg13 ft fr fd b (2 * Kof P b 64) (laneOf P)))
  isplitr
  · ipureintro
    intro y hy
    unfold final
    rw [View.read_write_univ, if_pos hy]; rfl
  isplitl [H13]
  · unfold Is
    iexists _
    isplitr [H13]; swap; · iexact H13
    ipureintro; rfl
  isplitl [H8]
  · unfold Is
    iexists _
    isplitr [H8]; swap; · iexact H8
    ipureintro; rfl
  isplitl [H3]; · iexact H3
  isplitl [Hv]; · iexact Hv
  isplitl [HO]; · iexact HO
  iexact HM

end Cert.Proof.Fire

end
-- ==== Proof.Between.lean ====
/-
  A window of a tile: its gathers issued, waited for, and its entries taken out.
-/
module

public import proofs.«01_k».proof.Proof.Extract
public import proofs.«01_k».proof.Proof.Ends

@[expose] public section

set_option synthInstance.maxSize 4096

noncomputable section

namespace Cert.Proof.Tile

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps Cert.Proof.Fire Cert.Proof.Vec Cert.Proof.Sort

variable {Ix : Type} [DecidableEq Ix] {F : FTy → Type} {Name : Type} [DecidableEq Name]
variable {U : Type} [URA U] {Lvl : Type} [Preorder Lvl]

local notation "𝕄" => MT nD τ sig Ix (Elt F) Name U Lvl

/-! ## The loops' bounds -/

theorem chk22_of : ∀ n : Fin 193, k0_chk22 (BitVec.ofNat 32 n.val) := by decide +kernel
theorem trips37 : ∀ n : Fin 193, (k0_t37_loop (BitVec.ofNat 32 n.val)).trips = n.val / 8 := by decide +kernel
theorem trips38 : ∀ n : Fin 193, (k0_t38_loop (BitVec.ofNat 32 n.val)).trips = 0 := by decide +kernel
theorem trips39 : ∀ n : Fin 193, (k0_t39_loop (BitVec.ofNat 32 n.val)).trips = n.val % 8 := by decide +kernel
theorem trips40 : ∀ n : Fin 193, (k0_t40_loop (BitVec.ofNat 32 n.val)).trips = 0 := by decide +kernel

theorem chk41_of : ∀ n : Fin 193, k0_chk41 (BitVec.ofNat 32 n.val) := by decide +kernel
theorem trips75 : ∀ n : Fin 193, (k0_t75_loop (BitVec.ofNat 32 n.val)).trips = n.val / 8 := by decide +kernel
theorem trips76 : ∀ n : Fin 193, (k0_t76_loop (BitVec.ofNat 32 n.val)).trips = 0 := by decide +kernel
theorem trips77 : ∀ n : Fin 193, (k0_t77_loop (BitVec.ofNat 32 n.val)).trips = n.val % 8 := by decide +kernel
theorem trips78 : ∀ n : Fin 193, (k0_t78_loop (BitVec.ofNat 32 n.val)).trips = 0 := by decide +kernel

theorem chk60_of : ∀ n : Fin 193, k0_chk60 (BitVec.ofNat 32 n.val) := by decide +kernel
theorem trips113 : ∀ n : Fin 193, (k0_t113_loop (BitVec.ofNat 32 n.val)).trips = n.val / 8 := by decide +kernel
theorem trips114 : ∀ n : Fin 193, (k0_t114_loop (BitVec.ofNat 32 n.val)).trips = 0 := by decide +kernel
theorem trips115 : ∀ n : Fin 193, (k0_t115_loop (BitVec.ofNat 32 n.val)).trips = n.val % 8 := by decide +kernel
theorem trips116 : ∀ n : Fin 193, (k0_t116_loop (BitVec.ofNat 32 n.val)).trips = 0 := by decide +kernel

/-! ## What a window keeps -/

section
variable [Infinite Name] (EC : UEmb Counters (MT nD τ sig Ix (Elt F) Name U Lvl)) [EC.LandsIn (upEmb : UEmb _ (MT nD τ sig Ix (Elt F) Name U Lvl))]
variable (cr : Fin τ.nSC) (su : Fin τ.nSub) (d : Dev nD)
variable (arg3 : Memref sig .scVector .hbm S8192x8192 .f32) (arg8 : Memref sig .scVector .vmem S584x2 .i32)
  (arg13 : Memref sig .scVector .vmem S384x128 .f32) (arg19 : DmaSems sig S_) (arg10 arg11 : Memref sig .scVector .vmem S64 .i32)
variable (ι : Ix) (ft : Buf (Elt F) (arg3.view.loc (thr cr su d))) (qs : ℕ → PosShare TreeShare) (O : CellTallies nD τ sig Ix) (W : Waits sig Ix)
variable (g : ℕ → ℕ) (R : ℕ × ℕ → Elt F .i32) (b : ℕ)

/-- Between windows. -/
def Idle : sProp 𝕄 :=
  iprop(Is cr su d arg10 (ar fun q => BitVec.ofNat 32 (cn g q)) ∗ Is cr su d arg11 (ar fun q => BitVec.ofNat 32 (2 * pre g q)) ∗ Is cr su d arg8 (ar2 R)
    ∗ Table cr su d arg3 ft qs ∗ semVal (thr cr su d, .dma arg19.sem) 0 ∗ Grown cr su d ι O W ∗ MayWaits (thr cr su d) ι O)

/-- The gathers of a window. -/
def many : ℕ := Kof (pre g) b 64

/-- A window's gathers issued. -/
def Busy : sProp 𝕄 :=
  iprop(∃ (fr : Buf (Elt F) (arg8.view.loc (thr cr su d))) (fd : Buf (Elt F) (arg13.view.loc (thr cr su d))), ⌜arg8.view.read (Elt F) fr = ar2 R⌝
    ∗ Is cr su d arg10 (ar fun q => BitVec.ofNat 32 (cn g q)) ∗ Is cr su d arg11 (ar fun q => BitVec.ofNat 32 (2 * pre g q))
    ∗ Drn EC cr su d arg19 ι (fun x : Fin (2 * many g b) => Done cr su d arg3 arg8 arg13 ft fr fd b (2 * many g b) (laneOf (pre g)) qs x.val) (2 * many g b) O W 0
    ∗ Held cr su d arg3 arg8 arg13 ft fr fd b qs (many g b))

/-- An entry of a window's rows. -/
def at13 (r c : ℕ) : S384x128.Idx := fun | 0 => ⟨r % 384, Nat.mod_lt _ (by decide)⟩ | 1 => ⟨c % 128, Nat.mod_lt _ (by decide)⟩

theorem ar2_at13 (f : S384x128.Idx → Elt F .f32) : f = ar2 fun p => f (at13 p.1 p.2) := by
  funext y
  show f y = f _
  congr 1
  funext a
  match a with
  | 0 => exact Fin.ext (Nat.mod_eq_of_lt (y 0).isLt).symm
  | 1 => exact Fin.ext (Nat.mod_eq_of_lt (y 1).isLt).symm
end

theorem many_le (g : ℕ → ℕ) (b : ℕ) : many g b ≤ 192 := by unfold many Kof; omega

/-- The rows of a window hold the entries of its positions. -/
theorem rows_val (cr : Fin τ.nSC) (su : Fin τ.nSub) (d : Dev nD) (arg3 : Memref sig .scVector .hbm S8192x8192 .f32) (ft : Buf (Elt F) (arg3.view.loc (thr cr su d)))
    {b : ℕ} {rv : ℕ → BitVec 32} {B : ℕ} {R : ℕ × ℕ → BitVec 32} {f : S384x128.Idx → Elt F .f32}
    (hR : ∀ j < 1024, R (slot (gg rv B) j / 2, slot (gg rv B) j % 2) = BitVec.ofNat 32 (pv rv B j))
    (hf : Rows cr su d arg3 ft (pre (gg rv B)) b (ar2 R) f) :
    ∀ j < 1024, 2 * b ≤ slot (gg rv B) j → slot (gg rv B) j < 2 * b + 384 →
      f (at13 (slot (gg rv B) j - 2 * b) (nx rv B j % 128)) = arg3.view.read (Elt F) ft (ixT (pv rv B j) (nx rv B j)) := by
  intro j hj h₁ h₂
  have hg : ∀ j, gg rv B j < 64 := gg_lt rv B
  have htop := slot_top (gg rv B) hj (hg j)
  have hbd := slot_bound (gg rv B) hj (hg j)
  have e0 : ((at13 (slot (gg rv B) j - 2 * b) (nx rv B j % 128)) 0).val = slot (gg rv B) j - 2 * b := Nat.mod_eq_of_lt (by omega)
  have e1 : ((at13 (slot (gg rv B) j - 2 * b) (nx rv B j % 128)) 1).val = nx rv B j % 128 := Nat.mod_eq_of_lt (by omega)
  have h := hf (at13 (slot (gg rv B) j - 2 * b) (nx rv B j % 128)) (by rw [e0]; unfold Kof; omega)
  rw [h, e0, e1, show b + (slot (gg rv B) j - 2 * b) / 2 = slot (gg rv B) j / 2 by omega, show (slot (gg rv B) j - 2 * b) % 2 = slot (gg rv B) j % 2 by omega,
    lane_slot (gg rv B) hj (hg j)]
  have e2 : (ar2 R : S584x2.Idx → BitVec 32) (ixR (slot (gg rv B) j / 2) (slot (gg rv B) j % 2)) = BitVec.ofNat 32 (pv rv B j) := by
    rw [← hR j hj]
    show R (slot (gg rv B) j / 2 % 584, slot (gg rv B) j % 2 % 2) = _
    rw [Nat.mod_eq_of_lt (show slot (gg rv B) j / 2 < 584 by omega), Nat.mod_mod]
  rw [e2, BitVec.toNat_ofNat]
  have := pv_lt rv B j
  congr 2
  · omega
  · unfold gg; omega

variable [Infinite Name] (EC : UEmb Counters (MT nD τ sig Ix (Elt F) Name U Lvl)) [EC.LandsIn (upEmb : UEmb _ (MT nD τ sig Ix (Elt F) Name U Lvl))] [FloatOps F] {defs : Defs nD τ sig (Elt F) Λ₀} (𝒱 : Variants) (bd : Option 𝒱.V)

variable (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (d : Dev nD)
variable {ι : Ix} {ft : Buf (Elt F) (arg3.view.loc (thr ((i 0).castLE hcore0) ((i 1).castLE hsub0) d))} {qs : ℕ → PosShare TreeShare} {O : CellTallies nD τ sig Ix} {W : Waits sig Ix}
  (hcr : ∀ s' : Shape, sig.dmaCredit .scVector (Kind.scVector.table .vmem) arg13.view.buf s' .f32 = s'.numel * 32)
  {α : Type} {Q : α → sProp (MT nD τ sig Ix (Elt F) Name U Lvl)}

include hcr in
set_option maxHeartbeats 1000000 in
/-- The gathers of window 0 issued. -/
theorem wp_in0 (v30 : IVec S16 32) (v34 v82 : BitVec 32) (v86 v88 v90 : IVec S16 32) {g : ℕ → ℕ} {R : ℕ × ℕ → BitVec 32} (hR : ∀ r < 584, ∀ c < 2, (R (r, c)).toNat < 8192)
    {kk : BitVec 32 → Prog (TpuEff nD τ sig (Elt F) Λ₀ (.scVector ((i 0).castLE hcore0) ((i 1).castLE hsub0))) α} :
    iprop(Idle ((i 0).castLE hcore0) ((i 1).castLE hsub0) d arg3 arg8 arg19 arg10 arg11 ι ft qs O W g R ∗ ∃ f, Is ((i 0).castLE hcore0) ((i 1).castLE hsub0) d arg13 f)
      ⊢ iprop((Busy EC ((i 0).castLE hcore0) ((i 1).castLE hsub0) d arg3 arg8 arg13 arg19 arg10 arg11 ι ft qs O W g R 0 -∗ wp frame (wpE defs 𝒱 (thr ((i 0).castLE hcore0) ((i 1).castLE hsub0) d) bd) Set.univ (kk (BitVec.ofNat 32 (many g 0))) Q)
        -∗ wp frame (wpE defs 𝒱 (thr ((i 0).castLE hcore0) ((i 1).castLE hsub0) d) bd) Set.univ (Scf.Loop.for k0_t4_loop k0_t4_ok 0#32 (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 v34 v82 v86 v88 v90) >>= kk) Q) := by
  rw [group0_eq]
  have hP : Kof (pre g) 0 0 = 0 := by unfold Kof; rw [show pre g 0 = 0 from rfl]; omega
  unfold Idle
  iintro ⟨⟨H10, H11, H8, HT, Hv, HG, HM⟩, ⟨%f, H13⟩⟩ Hk
  unfold Is
  icases H8 with ⟨%fr, %hfr, H8⟩
  icases H13 with ⟨%fd, %hfd, H13⟩
  have hin : ∀ x, (arg8.view.read (Elt F) fr x : BitVec 32).toNat < 8192 := fun x => by
    rw [hfr]; exact hR _ (x 0).isLt _ (x 1).isLt
  imod (win_enter ((i 0).castLE hcore0) ((i 1).castLE hsub0) d arg3 arg8 arg13 arg19 ft EC ι (pre g) 0 qs fr fd hP) $$ [H13 H8 HT Hv] with HW
  · isplitl [H13]; · iexact H13
    isplitl [H8]; · iexact H8
    isplitl [HT]; · iexact HT
    iexact Hv
  iapply (Scf.wp_for_bind frame (wpE defs 𝒱 (thr ((i 0).castLE hcore0) ((i 1).castLE hsub0) d) bd) Set.univ _ _ _ _ _ _ (fun k tot => Grp EC ((i 0).castLE hcore0) ((i 1).castLE hsub0) d arg3 arg8 arg13 arg19 arg10 arg11 ι ft fr fd (pre g) (cn g) 0 qs (16 * k) tot) ?_) $$ [H10 H11 HW]
  · intro k tot
    exact wp_group0 EC 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d ι ft fr fd (blocks g) qs hin hcr k tot
  · unfold Grp
    isplitr
    · ipureintro; rw [hP]
    isplitl [H10]; · unfold Is; iexact H10
    isplitl [H11]; · unfold Is; iexact H11
    iexact HW
  iintro %tot HGr
  unfold Grp
  icases HGr with ⟨%ht, H10, H11, HW⟩
  have e64 : 16 * Scf.trips k0_t4_loop.lb k0_t4_loop.ub k0_t4_loop.st = 64 := by decide
  rw [e64] at ht
  subst ht
  iapply Hk
  unfold Busy Drn
  iexists fr
  iexists fd
  isplitr
  · ipureintro; exact hfr
  isplitl [H10]; · iexact H10
  isplitl [H11]; · iexact H11
  ihave HW := (Entails.of_eq (congrArg (fun n => Win EC ((i 0).castLE hcore0) ((i 1).castLE hsub0) d arg3 arg8 arg13 arg19 ι ft fr fd (pre g) 0 qs (Kof (pre g) 0 n)) e64)) $$ HW
  unfold Win
  icases HW with ⟨HB, HH⟩
  isplitl [HB HG HM]
  · isplitl [HB]; · iexact HB
    isplitl [HG]; · iexact HG
    iexact HM
  iexact HH

include hcr in
set_option maxHeartbeats 1000000 in
set_option maxRecDepth 65536 in
/-- The gathers of window 0 waited for, and its entries taken out. -/
theorem wp_out0 (v30 : IVec S16 32) (v34 v82 : BitVec 32) (v86 v88 v90 : IVec S16 32) (v105 : BitVec 32) {rv : ℕ → BitVec 32} {B : ℕ} {R : ℕ × ℕ → BitVec 32}
    (hR : ∀ j < 1024, R (slot (gg rv B) j / 2, slot (gg rv B) j % 2) = BitVec.ofNat 32 (pv rv B j)) {L : ℕ → BitVec 32}
    (hL : ∀ j < 1024, L (slot (gg rv B) j) = BitVec.ofNat 32 (j * 128 + nx rv B j % 128)) (hL' : ∀ s < 1168, L s = -1#32 ∨ ∃ j < 1024, s = slot (gg rv B) j)
    (hw : k0_chk22 (BitVec.ofNat 32 (many (gg rv B) 0)))
    {kk : Unit → Prog (TpuEff nD τ sig (Elt F) Λ₀ (.scVector ((i 0).castLE hcore0) ((i 1).castLE hsub0))) α} :
    iprop(Busy EC ((i 0).castLE hcore0) ((i 1).castLE hsub0) d arg3 arg8 arg13 arg19 arg10 arg11 ι ft qs O W (gg rv B) R 0 ∗ Is (F := F) (e := .i32) ((i 0).castLE hcore0) ((i 1).castLE hsub0) d arg9 (ar L)
        ∗ ∃ Oa : ℕ → Elt F .f32, ⌜∀ j < 1024, slot (gg rv B) j < 0 → Oa j = arg3.view.read (Elt F) ft (ixT (pv rv B j) (nx rv B j))⌝ ∗ Is ((i 0).castLE hcore0) ((i 1).castLE hsub0) d arg16 (ar Oa))
      ⊢ iprop((iprop(Idle ((i 0).castLE hcore0) ((i 1).castLE hsub0) d arg3 arg8 arg19 arg10 arg11 ι ft qs O W (gg rv B) R ∗ (∃ f, Is ((i 0).castLE hcore0) ((i 1).castLE hsub0) d arg13 f) ∗ Is (F := F) (e := .i32) ((i 0).castLE hcore0) ((i 1).castLE hsub0) d arg9 (ar L)
        ∗ ∃ Oa : ℕ → Elt F .f32, ⌜∀ j < 1024, slot (gg rv B) j < 384 → Oa j = arg3.view.read (Elt F) ft (ixT (pv rv B j) (nx rv B j))⌝ ∗ Is ((i 0).castLE hcore0) ((i 1).castLE hsub0) d arg16 (ar Oa)) -∗ wp frame (wpE defs 𝒱 (thr ((i 0).castLE hcore0) ((i 1).castLE hsub0) d) bd) Set.univ (kk ⟨⟩) Q)
        -∗ wp frame (wpE defs 𝒱 (thr ((i 0).castLE hcore0) ((i 1).castLE hsub0) d) bd) Set.univ
          (Scf.Loop.for (k0_t37_loop (BitVec.ofNat 32 (many (gg rv B) 0))) (k0_t37_ok (BitVec.ofNat 32 (many (gg rv B) 0)) hw) ⟨⟩ (k0_t37_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 v34 v82 v86 v88 v90 (BitVec.ofNat 32 (many (gg rv B) 0)) hw) >>= fun _ =>
           Scf.Loop.for (k0_t38_loop (BitVec.ofNat 32 (many (gg rv B) 0))) (k0_t38_ok (BitVec.ofNat 32 (many (gg rv B) 0)) hw) ⟨⟩ (k0_t38_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 v34 v82 v86 v88 v90 (BitVec.ofNat 32 (many (gg rv B) 0)) hw v105) >>= fun _ =>
           Scf.Loop.for (k0_t39_loop (BitVec.ofNat 32 (many (gg rv B) 0))) (k0_t39_ok (BitVec.ofNat 32 (many (gg rv B) 0)) hw) ⟨⟩ (k0_t39_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 v34 v82 v86 v88 v90 (BitVec.ofNat 32 (many (gg rv B) 0)) hw) >>= fun _ =>
           Scf.Loop.for (k0_t40_loop (BitVec.ofNat 32 (many (gg rv B) 0))) (k0_t40_ok (BitVec.ofNat 32 (many (gg rv B) 0)) hw) ⟨⟩ (k0_t40_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 v34 v82 v86 v88 v90 (BitVec.ofNat 32 (many (gg rv B) 0)) hw) >>= fun _ =>
           Scf.Loop.for k0_t41_loop k0_t41_ok ⟨⟩ (k0_t41_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 iot v34 v82 v86 v88 v90) >>= kk) Q) := by
  have hn : many (gg rv B) 0 < 193 := Nat.lt_succ_of_le (many_le _ _)
  have h₁ : k0_t37_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 v34 v82 v86 v88 v90 (BitVec.ofNat 32 (many (gg rv B) 0)) hw = fun _ _ => wait8 ((i 0).castLE hcore0) ((i 1).castLE hsub0) arg3 arg13 arg19 := rfl
  have h₃ : k0_t39_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 v34 v82 v86 v88 v90 (BitVec.ofNat 32 (many (gg rv B) 0)) hw = fun _ _ => wait1 ((i 0).castLE hcore0) ((i 1).castLE hsub0) arg3 arg13 arg19 := rfl
  unfold Busy
  iintro ⟨⟨%fr, %fd, %hfr, H10, H11, HD, HH⟩, H9, HO⟩ Hk
  iapply (wp_drains EC ((i 0).castLE hcore0) ((i 1).castLE hsub0) d 𝒱 bd arg3 arg13 arg19 hcr (N := many (gg rv B) 0) rfl h₁ h₃ (trips37 ⟨_, hn⟩) (trips38 ⟨_, hn⟩) (trips39 ⟨_, hn⟩) (trips40 ⟨_, hn⟩)) $$ HD
  iintro HD
  imod (win_leave ((i 0).castLE hcore0) ((i 1).castLE hsub0) d arg3 arg8 arg13 arg19 ft EC ι (pre (gg rv B)) 0 qs fr fd (O := O) (W := W)) $$ [HD HH] with ⟨%f, %hf, H13, H8, HT, Hv, HG, HM⟩
  · isplitl [HD]; · iexact HD
    iexact HH
  rw [hfr] at hf
  rw [hfr]
  have hv := rows_val ((i 0).castLE hcore0) ((i 1).castLE hsub0) d arg3 ft hR hf
  rw [ar2_at13 f]
  iapply (Scf.wp_for_bind frame (wpE defs 𝒱 (thr ((i 0).castLE hcore0) ((i 1).castLE hsub0) d) bd) Set.univ _ _ _ _ _ _
    (fun k _ => Ext ((i 0).castLE hcore0) ((i 1).castLE hsub0) d arg9 arg13 arg16 (gg rv B) L (fun p => f (at13 p.1 p.2)) (fun j => arg3.view.read (Elt F) ft (ixT (pv rv B j) (nx rv B j))) (0 + 16 * k)) ?_) $$ [H9 H13 HO]
  · intro k _
    exact wp_ext41 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d (gg_lt rv B) (a := fun j => nx rv B j % 128) (fun j => Nat.mod_lt _ (by decide)) hL hL' hv v34 v82 v86 v88 v90 k
  · unfold Ext
    isplitl [H9]; · iexact H9
    isplitl [H13]; · iexact H13
    iexact HO
  iintro %_ HE
  unfold Ext
  icases HE with ⟨H9, H13, HO⟩
  iapply Hk
  isplitr [H13 H9 HO]
  · unfold Idle
    isplitl [H10]; · iexact H10
    isplitl [H11]; · iexact H11
    isplitl [H8]; · iexact H8
    isplitl [HT]; · iexact HT
    isplitl [Hv]; · iexact Hv
    isplitl [HG]; · iexact HG
    iexact HM
  isplitl [H13]; · iexists _; iexact H13
  isplitl [H9]; · iexact H9
  have e : 0 + 16 * Scf.trips k0_t41_loop.lb k0_t41_loop.ub k0_t41_loop.st = 384 := by decide
  icases HO with ⟨%Oa, %hO, HO⟩
  iexists Oa
  isplitr
  · ipureintro; rw [← e]; exact hO
  iexact HO

include hcr in
set_option maxHeartbeats 1000000 in
/-- The gathers of window 1 issued. -/
theorem wp_in1 (v30 : IVec S16 32) {g : ℕ → ℕ} {R : ℕ × ℕ → BitVec 32} (hR : ∀ r < 584, ∀ c < 2, (R (r, c)).toNat < 8192)
    {kk : BitVec 32 → Prog (TpuEff nD τ sig (Elt F) Λ₀ (.scVector ((i 0).castLE hcore0) ((i 1).castLE hsub0))) α} :
    iprop(Idle ((i 0).castLE hcore0) ((i 1).castLE hsub0) d arg3 arg8 arg19 arg10 arg11 ι ft qs O W g R ∗ ∃ f, Is ((i 0).castLE hcore0) ((i 1).castLE hsub0) d arg13 f)
      ⊢ iprop((Busy EC ((i 0).castLE hcore0) ((i 1).castLE hsub0) d arg3 arg8 arg13 arg19 arg10 arg11 ι ft qs O W g R 192 -∗ wp frame (wpE defs 𝒱 (thr ((i 0).castLE hcore0) ((i 1).castLE hsub0) d) bd) Set.univ (kk (BitVec.ofNat 32 (many g 192))) Q)
        -∗ wp frame (wpE defs 𝒱 (thr ((i 0).castLE hcore0) ((i 1).castLE hsub0) d) bd) Set.univ (Scf.Loop.for k0_t42_loop k0_t42_ok 0#32 (k0_t42_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 ) >>= kk) Q) := by
  rw [group1_eq]
  have hP : Kof (pre g) 192 0 = 0 := by unfold Kof; rw [show pre g 0 = 0 from rfl]; omega
  unfold Idle
  iintro ⟨⟨H10, H11, H8, HT, Hv, HG, HM⟩, ⟨%f, H13⟩⟩ Hk
  unfold Is
  icases H8 with ⟨%fr, %hfr, H8⟩
  icases H13 with ⟨%fd, %hfd, H13⟩
  have hin : ∀ x, (arg8.view.read (Elt F) fr x : BitVec 32).toNat < 8192 := fun x => by
    rw [hfr]; exact hR _ (x 0).isLt _ (x 1).isLt
  imod (win_enter ((i 0).castLE hcore0) ((i 1).castLE hsub0) d arg3 arg8 arg13 arg19 ft EC ι (pre g) 192 qs fr fd hP) $$ [H13 H8 HT Hv] with HW
  · isplitl [H13]; · iexact H13
    isplitl [H8]; · iexact H8
    isplitl [HT]; · iexact HT
    iexact Hv
  iapply (Scf.wp_for_bind frame (wpE defs 𝒱 (thr ((i 0).castLE hcore0) ((i 1).castLE hsub0) d) bd) Set.univ _ _ _ _ _ _ (fun k tot => Grp EC ((i 0).castLE hcore0) ((i 1).castLE hsub0) d arg3 arg8 arg13 arg19 arg10 arg11 ι ft fr fd (pre g) (cn g) 192 qs (16 * k) tot) ?_) $$ [H10 H11 HW]
  · intro k tot
    exact wp_group1 EC 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d ι ft fr fd (blocks g) qs hin hcr k tot
  · unfold Grp
    isplitr
    · ipureintro; rw [hP]
    isplitl [H10]; · unfold Is; iexact H10
    isplitl [H11]; · unfold Is; iexact H11
    iexact HW
  iintro %tot HGr
  unfold Grp
  icases HGr with ⟨%ht, H10, H11, HW⟩
  have e64 : 16 * Scf.trips k0_t42_loop.lb k0_t42_loop.ub k0_t42_loop.st = 64 := by decide
  rw [e64] at ht
  subst ht
  iapply Hk
  unfold Busy Drn
  iexists fr
  iexists fd
  isplitr
  · ipureintro; exact hfr
  isplitl [H10]; · iexact H10
  isplitl [H11]; · iexact H11
  ihave HW := (Entails.of_eq (congrArg (fun n => Win EC ((i 0).castLE hcore0) ((i 1).castLE hsub0) d arg3 arg8 arg13 arg19 ι ft fr fd (pre g) 192 qs (Kof (pre g) 192 n)) e64)) $$ HW
  unfold Win
  icases HW with ⟨HB, HH⟩
  isplitl [HB HG HM]
  · isplitl [HB]; · iexact HB
    isplitl [HG]; · iexact HG
    iexact HM
  iexact HH

include hcr in
set_option maxHeartbeats 1000000 in
set_option maxRecDepth 65536 in
/-- The gathers of window 1 waited for, and its entries taken out. -/
theorem wp_out1 (v30 : IVec S16 32) (v105 : BitVec 32) {rv : ℕ → BitVec 32} {B : ℕ} {R : ℕ × ℕ → BitVec 32}
    (hR : ∀ j < 1024, R (slot (gg rv B) j / 2, slot (gg rv B) j % 2) = BitVec.ofNat 32 (pv rv B j)) {L : ℕ → BitVec 32}
    (hL : ∀ j < 1024, L (slot (gg rv B) j) = BitVec.ofNat 32 (j * 128 + nx rv B j % 128)) (hL' : ∀ s < 1168, L s = -1#32 ∨ ∃ j < 1024, s = slot (gg rv B) j)
    (hw : k0_chk41 (BitVec.ofNat 32 (many (gg rv B) 192)))
    {kk : Unit → Prog (TpuEff nD τ sig (Elt F) Λ₀ (.scVector ((i 0).castLE hcore0) ((i 1).castLE hsub0))) α} :
    iprop(Busy EC ((i 0).castLE hcore0) ((i 1).castLE hsub0) d arg3 arg8 arg13 arg19 arg10 arg11 ι ft qs O W (gg rv B) R 192 ∗ Is (F := F) (e := .i32) ((i 0).castLE hcore0) ((i 1).castLE hsub0) d arg9 (ar L)
        ∗ ∃ Oa : ℕ → Elt F .f32, ⌜∀ j < 1024, slot (gg rv B) j < 384 → Oa j = arg3.view.read (Elt F) ft (ixT (pv rv B j) (nx rv B j))⌝ ∗ Is ((i 0).castLE hcore0) ((i 1).castLE hsub0) d arg16 (ar Oa))
      ⊢ iprop((iprop(Idle ((i 0).castLE hcore0) ((i 1).castLE hsub0) d arg3 arg8 arg19 arg10 arg11 ι ft qs O W (gg rv B) R ∗ (∃ f, Is ((i 0).castLE hcore0) ((i 1).castLE hsub0) d arg13 f) ∗ Is (F := F) (e := .i32) ((i 0).castLE hcore0) ((i 1).castLE hsub0) d arg9 (ar L)
        ∗ ∃ Oa : ℕ → Elt F .f32, ⌜∀ j < 1024, slot (gg rv B) j < 768 → Oa j = arg3.view.read (Elt F) ft (ixT (pv rv B j) (nx rv B j))⌝ ∗ Is ((i 0).castLE hcore0) ((i 1).castLE hsub0) d arg16 (ar Oa)) -∗ wp frame (wpE defs 𝒱 (thr ((i 0).castLE hcore0) ((i 1).castLE hsub0) d) bd) Set.univ (kk ⟨⟩) Q)
        -∗ wp frame (wpE defs 𝒱 (thr ((i 0).castLE hcore0) ((i 1).castLE hsub0) d) bd) Set.univ
          (Scf.Loop.for (k0_t75_loop (BitVec.ofNat 32 (many (gg rv B) 192))) (k0_t75_ok (BitVec.ofNat 32 (many (gg rv B) 192)) hw) ⟨⟩ (k0_t75_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 (BitVec.ofNat 32 (many (gg rv B) 192)) hw) >>= fun _ =>
           Scf.Loop.for (k0_t76_loop (BitVec.ofNat 32 (many (gg rv B) 192))) (k0_t76_ok (BitVec.ofNat 32 (many (gg rv B) 192)) hw) ⟨⟩ (k0_t76_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 (BitVec.ofNat 32 (many (gg rv B) 192)) hw v105) >>= fun _ =>
           Scf.Loop.for (k0_t77_loop (BitVec.ofNat 32 (many (gg rv B) 192))) (k0_t77_ok (BitVec.ofNat 32 (many (gg rv B) 192)) hw) ⟨⟩ (k0_t77_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 (BitVec.ofNat 32 (many (gg rv B) 192)) hw) >>= fun _ =>
           Scf.Loop.for (k0_t78_loop (BitVec.ofNat 32 (many (gg rv B) 192))) (k0_t78_ok (BitVec.ofNat 32 (many (gg rv B) 192)) hw) ⟨⟩ (k0_t78_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 (BitVec.ofNat 32 (many (gg rv B) 192)) hw) >>= fun _ =>
           Scf.Loop.for k0_t79_loop k0_t79_ok ⟨⟩ (k0_t79_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 iot ) >>= kk) Q) := by
  have hn : many (gg rv B) 192 < 193 := Nat.lt_succ_of_le (many_le _ _)
  have h₁ : k0_t75_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 (BitVec.ofNat 32 (many (gg rv B) 192)) hw = fun _ _ => wait8 ((i 0).castLE hcore0) ((i 1).castLE hsub0) arg3 arg13 arg19 := rfl
  have h₃ : k0_t77_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 (BitVec.ofNat 32 (many (gg rv B) 192)) hw = fun _ _ => wait1 ((i 0).castLE hcore0) ((i 1).castLE hsub0) arg3 arg13 arg19 := rfl
  unfold Busy
  iintro ⟨⟨%fr, %fd, %hfr, H10, H11, HD, HH⟩, H9, HO⟩ Hk
  iapply (wp_drains EC ((i 0).castLE hcore0) ((i 1).castLE hsub0) d 𝒱 bd arg3 arg13 arg19 hcr (N := many (gg rv B) 192) rfl h₁ h₃ (trips75 ⟨_, hn⟩) (trips76 ⟨_, hn⟩) (trips77 ⟨_, hn⟩) (trips78 ⟨_, hn⟩)) $$ HD
  iintro HD
  imod (win_leave ((i 0).castLE hcore0) ((i 1).castLE hsub0) d arg3 arg8 arg13 arg19 ft EC ι (pre (gg rv B)) 192 qs fr fd (O := O) (W := W)) $$ [HD HH] with ⟨%f, %hf, H13, H8, HT, Hv, HG, HM⟩
  · isplitl [HD]; · iexact HD
    iexact HH
  rw [hfr] at hf
  rw [hfr]
  have hv := rows_val ((i 0).castLE hcore0) ((i 1).castLE hsub0) d arg3 ft hR hf
  rw [ar2_at13 f]
  iapply (Scf.wp_for_bind frame (wpE defs 𝒱 (thr ((i 0).castLE hcore0) ((i 1).castLE hsub0) d) bd) Set.univ _ _ _ _ _ _
    (fun k _ => Ext ((i 0).castLE hcore0) ((i 1).castLE hsub0) d arg9 arg13 arg16 (gg rv B) L (fun p => f (at13 p.1 p.2)) (fun j => arg3.view.read (Elt F) ft (ixT (pv rv B j) (nx rv B j))) (384 + 16 * k)) ?_) $$ [H9 H13 HO]
  · intro k _
    exact wp_ext79 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d (gg_lt rv B) (a := fun j => nx rv B j % 128) (fun j => Nat.mod_lt _ (by decide)) hL hL' hv  k
  · unfold Ext
    isplitl [H9]; · iexact H9
    isplitl [H13]; · iexact H13
    iexact HO
  iintro %_ HE
  unfold Ext
  icases HE with ⟨H9, H13, HO⟩
  iapply Hk
  isplitr [H13 H9 HO]
  · unfold Idle
    isplitl [H10]; · iexact H10
    isplitl [H11]; · iexact H11
    isplitl [H8]; · iexact H8
    isplitl [HT]; · iexact HT
    isplitl [Hv]; · iexact Hv
    isplitl [HG]; · iexact HG
    iexact HM
  isplitl [H13]; · iexists _; iexact H13
  isplitl [H9]; · iexact H9
  have e : 384 + 16 * Scf.trips k0_t79_loop.lb k0_t79_loop.ub k0_t79_loop.st = 768 := by decide
  icases HO with ⟨%Oa, %hO, HO⟩
  iexists Oa
  isplitr
  · ipureintro; rw [← e]; exact hO
  iexact HO

include hcr in
set_option maxHeartbeats 1000000 in
/-- The gathers of window 2 issued. -/
theorem wp_in2 (v30 : IVec S16 32) {g : ℕ → ℕ} {R : ℕ × ℕ → BitVec 32} (hR : ∀ r < 584, ∀ c < 2, (R (r, c)).toNat < 8192)
    {kk : BitVec 32 → Prog (TpuEff nD τ sig (Elt F) Λ₀ (.scVector ((i 0).castLE hcore0) ((i 1).castLE hsub0))) α} :
    iprop(Idle ((i 0).castLE hcore0) ((i 1).castLE hsub0) d arg3 arg8 arg19 arg10 arg11 ι ft qs O W g R ∗ ∃ f, Is ((i 0).castLE hcore0) ((i 1).castLE hsub0) d arg13 f)
      ⊢ iprop((Busy EC ((i 0).castLE hcore0) ((i 1).castLE hsub0) d arg3 arg8 arg13 arg19 arg10 arg11 ι ft qs O W g R 384 -∗ wp frame (wpE defs 𝒱 (thr ((i 0).castLE hcore0) ((i 1).castLE hsub0) d) bd) Set.univ (kk (BitVec.ofNat 32 (many g 384))) Q)
        -∗ wp frame (wpE defs 𝒱 (thr ((i 0).castLE hcore0) ((i 1).castLE hsub0) d) bd) Set.univ (Scf.Loop.for k0_t80_loop k0_t80_ok 0#32 (k0_t80_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v30 ) >>= kk) Q) := by
  rw [group2_eq]
  have hP : Kof (pre g) 384 0 = 0 := by unfold Kof; rw [show pre g 0 = 0 from rfl]; omega
  unfold Idle
  iintro ⟨⟨H10, H11, H8, HT, Hv, HG, HM⟩, ⟨%f, H13⟩⟩ Hk
  unfold Is
  icases H8 with ⟨%fr, %hfr, H8⟩
  icases H13 with ⟨%fd, %hfd, H13⟩
  have hin : ∀ x, (arg8.view.read (Elt F) fr x : BitVec 32).toNat < 8192 := fun x => by
    rw [hfr]; exact hR _ (x 0).isLt _ (x 1).isLt
  imod (win_enter ((i 0).castLE hcore0) ((i 1).castLE hsub0) d arg3 arg8 arg13 arg19 ft EC ι (pre g) 384 qs fr fd hP) $$ [H13 H8 HT Hv] with HW
  · isplitl [H13]; · iexact H13
    isplitl [H8]; · iexact H8
    isplitl [HT]; · iexact HT
    iexact Hv
  iapply (Scf.wp_for_bind frame (wpE defs 𝒱 (thr ((i 0).castLE hcore0) ((i 1).castLE hsub0) d) bd) Set.univ _ _ _ _ _ _ (fun k tot => Grp EC ((i 0).castLE hcore0) ((i 1).castLE hsub0) d arg3 arg8 arg13 arg19 arg10 arg11 ι ft fr fd (pre g) (cn g) 384 qs (16 * k) tot) ?_) $$ [H10 H11 HW]
  · intro k tot
    exact wp_group2 EC 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d ι ft fr fd (blocks g) qs hin hcr k tot
  · unfold Grp
    isplitr
    · ipureintro; rw [hP]
    isplitl [H10]; · unfold Is; iexact H10
    isplitl [H11]; · unfold Is; iexact H11
    iexact HW
  iintro %tot HGr
  unfold Grp
  icases HGr with ⟨%ht, H10, H11, HW⟩
  have e64 : 16 * Scf.trips k0_t80_loop.lb k0_t80_loop.ub k0_t80_loop.st = 64 := by decide
  rw [e64] at ht
  subst ht
  iapply Hk
  unfold Busy Drn
  iexists fr
  iexists fd
  isplitr
  · ipureintro; exact hfr
  isplitl [H10]; · iexact H10
  isplitl [H11]; · iexact H11
  ihave HW := (Entails.of_eq (congrArg (fun n => Win EC ((i 0).castLE hcore0) ((i 1).castLE hsub0) d arg3 arg8 arg13 arg19 ι ft fr fd (pre g) 384 qs (Kof (pre g) 384 n)) e64)) $$ HW
  unfold Win
  icases HW with ⟨HB, HH⟩
  isplitl [HB HG HM]
  · isplitl [HB]; · iexact HB
    isplitl [HG]; · iexact HG
    iexact HM
  iexact HH

include hcr in
set_option maxHeartbeats 1000000 in
set_option maxRecDepth 65536 in
/-- The gathers of window 2 waited for, and its entries taken out. -/
theorem wp_out2 (c0 : BitVec 32) (v105 : BitVec 32) {rv : ℕ → BitVec 32} {B : ℕ} {R : ℕ × ℕ → BitVec 32}
    (hR : ∀ j < 1024, R (slot (gg rv B) j / 2, slot (gg rv B) j % 2) = BitVec.ofNat 32 (pv rv B j)) {L : ℕ → BitVec 32}
    (hL : ∀ j < 1024, L (slot (gg rv B) j) = BitVec.ofNat 32 (j * 128 + nx rv B j % 128)) (hL' : ∀ s < 1168, L s = -1#32 ∨ ∃ j < 1024, s = slot (gg rv B) j)
    (hw : k0_chk60 (BitVec.ofNat 32 (many (gg rv B) 384)))
    {kk : Unit → Prog (TpuEff nD τ sig (Elt F) Λ₀ (.scVector ((i 0).castLE hcore0) ((i 1).castLE hsub0))) α} :
    iprop(Busy EC ((i 0).castLE hcore0) ((i 1).castLE hsub0) d arg3 arg8 arg13 arg19 arg10 arg11 ι ft qs O W (gg rv B) R 384 ∗ Is (F := F) (e := .i32) ((i 0).castLE hcore0) ((i 1).castLE hsub0) d arg9 (ar L)
        ∗ ∃ Oa : ℕ → Elt F .f32, ⌜∀ j < 1024, slot (gg rv B) j < 768 → Oa j = arg3.view.read (Elt F) ft (ixT (pv rv B j) (nx rv B j))⌝ ∗ Is ((i 0).castLE hcore0) ((i 1).castLE hsub0) d arg16 (ar Oa))
      ⊢ iprop((iprop(Idle ((i 0).castLE hcore0) ((i 1).castLE hsub0) d arg3 arg8 arg19 arg10 arg11 ι ft qs O W (gg rv B) R ∗ (∃ f, Is ((i 0).castLE hcore0) ((i 1).castLE hsub0) d arg13 f) ∗ Is (F := F) (e := .i32) ((i 0).castLE hcore0) ((i 1).castLE hsub0) d arg9 (ar L)
        ∗ ∃ Oa : ℕ → Elt F .f32, ⌜∀ j < 1024, slot (gg rv B) j < 1152 → Oa j = arg3.view.read (Elt F) ft (ixT (pv rv B j) (nx rv B j))⌝ ∗ Is ((i 0).castLE hcore0) ((i 1).castLE hsub0) d arg16 (ar Oa)) -∗ wp frame (wpE defs 𝒱 (thr ((i 0).castLE hcore0) ((i 1).castLE hsub0) d) bd) Set.univ (kk ⟨⟩) Q)
        -∗ wp frame (wpE defs 𝒱 (thr ((i 0).castLE hcore0) ((i 1).castLE hsub0) d) bd) Set.univ
          (Scf.Loop.for (k0_t113_loop (BitVec.ofNat 32 (many (gg rv B) 384))) (k0_t113_ok (BitVec.ofNat 32 (many (gg rv B) 384)) hw) ⟨⟩ (k0_t113_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 (BitVec.ofNat 32 (many (gg rv B) 384)) hw c0) >>= fun _ =>
           Scf.Loop.for (k0_t114_loop (BitVec.ofNat 32 (many (gg rv B) 384))) (k0_t114_ok (BitVec.ofNat 32 (many (gg rv B) 384)) hw) ⟨⟩ (k0_t114_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 (BitVec.ofNat 32 (many (gg rv B) 384)) hw v105) >>= fun _ =>
           Scf.Loop.for (k0_t115_loop (BitVec.ofNat 32 (many (gg rv B) 384))) (k0_t115_ok (BitVec.ofNat 32 (many (gg rv B) 384)) hw) ⟨⟩ (k0_t115_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 (BitVec.ofNat 32 (many (gg rv B) 384)) hw) >>= fun _ =>
           Scf.Loop.for (k0_t116_loop (BitVec.ofNat 32 (many (gg rv B) 384))) (k0_t116_ok (BitVec.ofNat 32 (many (gg rv B) 384)) hw) ⟨⟩ (k0_t116_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 (BitVec.ofNat 32 (many (gg rv B) 384)) hw) >>= fun _ =>
           Scf.Loop.for k0_t117_loop k0_t117_ok ⟨⟩ (k0_t117_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 iot ) >>= kk) Q) := by
  have hn : many (gg rv B) 384 < 193 := Nat.lt_succ_of_le (many_le _ _)
  have h₁ : k0_t113_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 (BitVec.ofNat 32 (many (gg rv B) 384)) hw c0 = fun _ _ => wait8 ((i 0).castLE hcore0) ((i 1).castLE hsub0) arg3 arg13 arg19 := rfl
  have h₃ : k0_t115_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 (BitVec.ofNat 32 (many (gg rv B) 384)) hw = fun _ _ => wait1 ((i 0).castLE hcore0) ((i 1).castLE hsub0) arg3 arg13 arg19 := rfl
  unfold Busy
  iintro ⟨⟨%fr, %fd, %hfr, H10, H11, HD, HH⟩, H9, HO⟩ Hk
  iapply (wp_drains EC ((i 0).castLE hcore0) ((i 1).castLE hsub0) d 𝒱 bd arg3 arg13 arg19 hcr (N := many (gg rv B) 384) rfl h₁ h₃ (trips113 ⟨_, hn⟩) (trips114 ⟨_, hn⟩) (trips115 ⟨_, hn⟩) (trips116 ⟨_, hn⟩)) $$ HD
  iintro HD
  imod (win_leave ((i 0).castLE hcore0) ((i 1).castLE hsub0) d arg3 arg8 arg13 arg19 ft EC ι (pre (gg rv B)) 384 qs fr fd (O := O) (W := W)) $$ [HD HH] with ⟨%f, %hf, H13, H8, HT, Hv, HG, HM⟩
  · isplitl [HD]; · iexact HD
    iexact HH
  rw [hfr] at hf
  rw [hfr]
  have hv := rows_val ((i 0).castLE hcore0) ((i 1).castLE hsub0) d arg3 ft hR hf
  rw [ar2_at13 f]
  iapply (Scf.wp_for_bind frame (wpE defs 𝒱 (thr ((i 0).castLE hcore0) ((i 1).castLE hsub0) d) bd) Set.univ _ _ _ _ _ _
    (fun k _ => Ext ((i 0).castLE hcore0) ((i 1).castLE hsub0) d arg9 arg13 arg16 (gg rv B) L (fun p => f (at13 p.1 p.2)) (fun j => arg3.view.read (Elt F) ft (ixT (pv rv B j) (nx rv B j))) (768 + 16 * k)) ?_) $$ [H9 H13 HO]
  · intro k _
    exact wp_ext117 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d (gg_lt rv B) (a := fun j => nx rv B j % 128) (fun j => Nat.mod_lt _ (by decide)) hL hL' hv  k
  · unfold Ext
    isplitl [H9]; · iexact H9
    isplitl [H13]; · iexact H13
    iexact HO
  iintro %_ HE
  unfold Ext
  icases HE with ⟨H9, H13, HO⟩
  iapply Hk
  isplitr [H13 H9 HO]
  · unfold Idle
    isplitl [H10]; · iexact H10
    isplitl [H11]; · iexact H11
    isplitl [H8]; · iexact H8
    isplitl [HT]; · iexact HT
    isplitl [Hv]; · iexact Hv
    isplitl [HG]; · iexact HG
    iexact HM
  isplitl [H13]; · iexists _; iexact H13
  isplitl [H9]; · iexact H9
  have e : 768 + 16 * Scf.trips k0_t117_loop.lb k0_t117_loop.ub k0_t117_loop.st = 1152 := by decide
  icases HO with ⟨%Oa, %hO, HO⟩
  iexists Oa
  isplitr
  · ipureintro; rw [← e]; exact hO
  iexact HO

end Cert.Proof.Tile

end
-- ==== Proof.Row.lean ====
/-
  A tile's row copied in and its entries copied out.
-/
module

public import proofs.«01_k».proof.Proof.Between

@[expose] public section

set_option synthInstance.maxSize 4096

noncomputable section

namespace Cert.Proof.Tile

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps Cert.Proof.Fire Cert.Proof.Vec Cert.Proof.Sort

variable {Ix : Type} [DecidableEq Ix] {F : FTy → Type} {Name : Type} [DecidableEq Name]
variable {U : Type} [URA U] {Lvl : Type} [Preorder Lvl]

local notation "𝕄" => MT nD τ sig Ix (Elt F) Name U Lvl

theorem off1_eq : ∀ i : grid0.Coords, k0_off1 i 0 = (i 1).val ∧ k0_off1 i 1 = 0 := by decide +kernel
theorem off301_eq : ∀ i : grid0.Coords, k0_off301 i 0 = (i 1).val ∧ k0_off301 i 1 = 1024 * (i 0).val := by decide +kernel

/-- An element of a row of the data and of the result. -/
def ixD (s t : ℕ) : S16x2048.Idx := fun | 0 => ⟨s % 16, Nat.mod_lt _ (by decide)⟩ | 1 => ⟨t % 2048, Nat.mod_lt _ (by decide)⟩

theorem ixD_eq (x : S16x2048.Idx) : ixD (x 0).val (x 1).val = x := by
  funext a
  match a with
  | 0 => exact Fin.ext (Nat.mod_eq_of_lt (x 0).isLt)
  | 1 => exact Fin.ext (Nat.mod_eq_of_lt (x 1).isLt)

theorem sq2048 (h : S1x2048.Squeezes S2048) (x : S2048.Idx) : ((Shape.reshapeEquiv h.numel_eq x : S1x2048.Idx) 1).val = (x 0).val := by
  have e := Shape.rowMajor_reshapeEquiv h.numel_eq x
  rw [Shape.rowMajor_val_two, Shape.rowMajor_val_one] at e
  have h0 : ((Shape.reshapeEquiv h.numel_eq x : S1x2048.Idx) 0).val = 0 := Nat.lt_one_iff.mp ((Shape.reshapeEquiv h.numel_eq x : S1x2048.Idx) 0).isLt
  rw [h0] at e
  omega

theorem sq1024 (h : S1x1024.Squeezes S1024) (x : S1024.Idx) : ((Shape.reshapeEquiv h.numel_eq x : S1x1024.Idx) 1).val = (x 0).val := by
  have e := Shape.rowMajor_reshapeEquiv h.numel_eq x
  rw [Shape.rowMajor_val_two, Shape.rowMajor_val_one] at e
  have h0 : ((Shape.reshapeEquiv h.numel_eq x : S1x1024.Idx) 0).val = 0 := Nat.lt_one_iff.mp ((Shape.reshapeEquiv h.numel_eq x : S1x1024.Idx) 0).isLt
  rw [h0] at e
  omega

/-- An array's elements by number. -/
def un {n : ℕ} {α : Type} (hn : 0 < n) (f : (⟨1, ![n]⟩ : Shape).Idx → α) (j : ℕ) : α := f (fun | 0 => (⟨j % n, Nat.mod_lt _ hn⟩ : Fin n))

theorem un_at {n : ℕ} {α : Type} (hn : 0 < n) (f : (⟨1, ![n]⟩ : Shape).Idx → α) (x : (⟨1, ![n]⟩ : Shape).Idx) : un hn f (x 0).val = f x := by
  unfold un
  congr 1
  funext a
  match a with
  | 0 => exact Fin.ext (Nat.mod_eq_of_lt (x 0).isLt)

theorem ar_un {n : ℕ} {α : Type} (hn : 0 < n) (f : (⟨1, ![n]⟩ : Shape).Idx → α) : f = ar (un hn f) := by
  funext x; exact (un_at hn f x).symm

/-- A tile's row of the data, -/
def rowOf (i : grid0.Coords) (arg2 : Memref sig .scVector .hbm S16x2048 .i32) : Memref sig .scVector .hbm S2048 .i32 :=
  Memref.squeeze (arg2.slice (Rect.unit (s := S16x2048) (k0_off1 i) S1x2048.size (k0_off1_inb i)) (fun _ => rfl) : Memref sig .scVector .hbm S1x2048 .i32) S2048 squeezes_S1x2048_S2048
/-- its half of a row of the result, -/
def halfOf (i : grid0.Coords) (arg5 : Memref sig .scVector .hbm S16x2048 .f32) : Memref sig .scVector .hbm S1024 .f32 :=
  Memref.squeeze (arg5.slice (Rect.unit (s := S16x2048) (k0_off301 i) S1x1024.size (k0_off301_inb i)) (fun _ => rfl) : Memref sig .scVector .hbm S1x1024 .f32) S1024 squeezes_S1x1024_S1024
/-- and where the row goes. -/
def intoOf (arg6 : Memref sig .scVector .vmem S2064 .i32) : Memref sig .scVector .vmem S2048 .i32 :=
  arg6.slice (Rect.unit (s := S2064) ![0] S2048.size inb_S2064_S2048_0) (fun _ => rfl)

theorem rowOf_emb (i : grid0.Coords) (x : S2048.Idx) :
    (Rect.unit (s := S16x2048) (k0_off1 i) S1x2048.size (k0_off1_inb i)).emb (Shape.reshapeEquiv squeezes_S1x2048_S2048.numel_eq x) = ixD (i 1).val (x 0).val := by
  have hi : (i 1).val < 16 := (i 1).isLt
  have hx : (x 0).val < 2048 := (x 0).isLt
  have h0 : ((Shape.reshapeEquiv squeezes_S1x2048_S2048.numel_eq x : S1x2048.Idx) 0).val = 0 := Nat.lt_one_iff.mp ((Shape.reshapeEquiv squeezes_S1x2048_S2048.numel_eq x : S1x2048.Idx) 0).isLt
  have h1 := sq2048 squeezes_S1x2048_S2048 x
  funext a
  match a with
  | 0 => exact Fin.ext (show k0_off1 i 0 + 1 * _ = (i 1).val % 16 by rw [h0, (off1_eq i).1]; omega)
  | 1 => exact Fin.ext (show k0_off1 i 1 + 1 * _ = (x 0).val % 2048 by rw [h1, (off1_eq i).2]; omega)

theorem halfOf_emb (i : grid0.Coords) (x : S1024.Idx) :
    (Rect.unit (s := S16x2048) (k0_off301 i) S1x1024.size (k0_off301_inb i)).emb (Shape.reshapeEquiv squeezes_S1x1024_S1024.numel_eq x) = ixD (i 1).val (1024 * (i 0).val + (x 0).val) := by
  have hi : (i 1).val < 16 := (i 1).isLt
  have hc : (i 0).val < 2 := (i 0).isLt
  have hx : (x 0).val < 1024 := (x 0).isLt
  have h0 : ((Shape.reshapeEquiv squeezes_S1x1024_S1024.numel_eq x : S1x1024.Idx) 0).val = 0 := Nat.lt_one_iff.mp ((Shape.reshapeEquiv squeezes_S1x1024_S1024.numel_eq x : S1x1024.Idx) 0).isLt
  have h1 := sq1024 squeezes_S1x1024_S1024 x
  funext a
  match a with
  | 0 => exact Fin.ext (show k0_off301 i 0 + 1 * _ = (i 1).val % 16 by rw [h0, (off301_eq i).1]; omega)
  | 1 => exact Fin.ext (show k0_off301 i 1 + 1 * _ = (1024 * (i 0).val + (x 0).val) % 2048 by rw [h1, (off301_eq i).2]; omega)

section
variable [Infinite Name] (EC : UEmb Counters (MT nD τ sig Ix (Elt F) Name U Lvl)) [EC.LandsIn (upEmb : UEmb _ (MT nD τ sig Ix (Elt F) Name U Lvl))] [FloatOps F] {defs : Defs nD τ sig (Elt F) Λ₀} (𝒱 : Variants) (bd : Option 𝒱.V)
variable (i : grid0.Coords) (d : Dev nD) {ι : Ix} {O : CellTallies nD τ sig Ix} {W : Waits sig Ix} {α : Type} {Q : α → sProp (MT nD τ sig Ix (Elt F) Name U Lvl)}

theorem grown_more {cr : Fin τ.nSC} {su : Fin τ.nSub} {sem : SemLoc sig} {W' : Waits sig Ix} (hW : ∀ p ∈ W', p ∈ W ∨ p.2 = ι) :
    (owes (thr cr su d) O (insert (sem, ι) W') : sProp 𝕄) ⊢ Grown cr su d ι O W := by
  unfold Grown
  iintro HO
  iexists _
  isplitr [HO]; swap; · iexact HO
  ipureintro
  intro p hp
  rcases Finset.mem_insert.mp hp with h | h
  · exact .inr (by rw [h])
  · exact hW p h

include EC in
set_option maxHeartbeats 1000000 in
/-- The row copied in. -/
theorem wp_rowIn (arg2 : Memref sig .scVector .hbm S16x2048 .i32) (arg6 : Memref sig .scVector .vmem S2064 .i32) (sems : DmaSems sig S_)
    (fa : Buf (Elt F) (arg2.view.loc (thr ((i 0).castLE hcore0) ((i 1).castLE hsub0) d))) (q : PosShare TreeShare)
    {hs : (rowOf i arg2).view.WordExact} {hd : (intoOf arg6).view.WordExact} {hsem}
    {hs' : (rowOf i arg2).view.WordExact} {hd' : (intoOf arg6).view.WordExact}
    {k : PUnit → Prog (TpuEff nD τ sig (Elt F) Λ₀ (.scVector ((i 0).castLE hcore0) ((i 1).castLE hsub0))) α} :
    iprop((∃ f, Is ((i 0).castLE hcore0) ((i 1).castLE hsub0) d arg6 f) ∗ (arg2.view.loc (thr ((i 0).castLE hcore0) ((i 1).castLE hsub0) d) ↦[arg2.view.set]{q} fa) ∗ semVal ((thr ((i 0).castLE hcore0) ((i 1).castLE hsub0) d), .dma sems.sem) 0 ∗ Grown ((i 0).castLE hcore0) ((i 1).castLE hsub0) d ι O W ∗ MayWaits (thr ((i 0).castLE hcore0) ((i 1).castLE hsub0) d) ι O)
      ⊢ iprop((∀ rv : ℕ → BitVec 32, iprop(⌜∀ t < 2048, rv t = arg2.view.read (Elt F) fa (ixD (i 1).val t)⌝ ∗ Is (F := F) (e := .i32) ((i 0).castLE hcore0) ((i 1).castLE hsub0) d arg6 (ar rv)
            ∗ (arg2.view.loc (thr ((i 0).castLE hcore0) ((i 1).castLE hsub0) d) ↦[arg2.view.set]{q} fa) ∗ semVal ((thr ((i 0).castLE hcore0) ((i 1).castLE hsub0) d), .dma sems.sem) 0 ∗ Grown ((i 0).castLE hcore0) ((i 1).castLE hsub0) d ι O W ∗ MayWaits (thr ((i 0).castLE hcore0) ((i 1).castLE hsub0) d) ι O) -∗ wp frame (wpE defs 𝒱 (thr ((i 0).castLE hcore0) ((i 1).castLE hsub0) d) bd) Set.univ (k ⟨⟩) Q)
        -∗ wp frame (wpE defs 𝒱 (thr ((i 0).castLE hcore0) ((i 1).castLE hsub0) d) bd) Set.univ (.op (.enqueueDma (rowOf i arg2) (.here (intoOf arg6)) (.dma sems.sem) hs hd hsem) fun _ =>
            .op (.waitDma2 sems.sem (rowOf i arg2) (intoOf arg6) hs' hd') k) Q) := by
  have hsub : (rowOf i arg2).view.set ⊆ arg2.view.set := by
    show ((arg2.view.slice _).reshape _ _).set ⊆ _
    rw [View.set_reshape]; exact View.set_slice_subset _ _
  have hsub' : (intoOf arg6).view.set ⊆ arg6.view.set := View.set_slice_subset _ _
  iintro ⟨⟨%f, H6⟩, H2, Hv, HG, #HM⟩ Hk
  unfold Is
  icases H6 with ⟨%g, %hg, H6⟩
  ihave H2 := (pointsTo_split_subset (q := q) (f := fa) hsub).1 $$ H2
  icases H2 with ⟨H2, H2'⟩
  iapply (wp_dmaLocal EC 𝒱 (thr ((i 0).castLE hcore0) ((i 1).castLE hsub0) d) bd ι ((intoOf arg6).view.amount (.dma sems.sem)) rfl (View.dmaCredit_pos _ (by decide)) hsub') $$ [H2 H6 Hv]
  · isplitl [H2]; · iexact H2
    isplitl [H6]; · iexact H6
    iexact Hv
  iintro Hfl
  unfold Grown
  icases HG with ⟨%W', %hW, HO⟩
  iapply (wp_waitLocalO EC 𝒱 (thr ((i 0).castLE hcore0) ((i 1).castLE hsub0) d) bd ι (N := (intoOf arg6).view.amount (.dma sems.sem)) rfl) $$ [Hfl HO]
  · isplitl [Hfl]; · iexact Hfl
    isplitl [HO]; · iexact HO
    iapply (MayWaits.elim _) $$ HM
  iintro ⟨⟨H6, H2⟩, Hv, HO⟩
  ihave H2 := (pointsTo_split_subset (q := q) (f := fa) hsub).2 $$ [H2 H2']
  · isplitl [H2]; · iexact H2
    iexact H2'
  ihave HG := (grown_more d hW) $$ HO
  unfold Grown
  iapply Hk $$ %(un (by decide) (arg6.view.read (Elt F) ((intoOf arg6).view.write (Elt F) g ((rowOf i arg2).view.read (Elt F) fa) Finset.univ) : S2064.Idx → BitVec 32))
  isplitr
  · ipureintro
    intro t ht
    have ex : ∀ x : S2048.Idx, un (n := 2064) (by decide) (arg6.view.read (Elt F) ((intoOf arg6).view.write (Elt F) g ((rowOf i arg2).view.read (Elt F) fa) Finset.univ) : S2064.Idx → BitVec 32) (x 0).val
        = arg2.view.read (Elt F) fa (ixD (i 1).val (x 0).val) := fun x => by
      have e1 : (((Rect.unit (s := S2064) ![0] S2048.size inb_S2064_S2048_0).emb x : S2064.Idx) 0).val = (x 0).val := (show 0 + 1 * (x 0).val = _ by omega)
      rw [← e1, un_at]
      refine (View.read_slice_write_emb (v := arg6.view) (Rect.unit (s := S2064) ![0] S2048.size inb_S2064_S2048_0) g _ (Finset.mem_univ x)).trans ?_
      rw [e1, ← rowOf_emb i x]; rfl
    exact ex (fun | 0 => ⟨t, ht⟩)
  isplitl [H6]
  · iexists _
    isplitr [H6]; swap; · iexact H6
    ipureintro
    exact ar_un _ _
  isplitl [H2]; · iexact H2
  isplitl [Hv]; · iexact Hv
  isplitl [HG]; · iexact HG
  iexact HM

include EC in
set_option maxHeartbeats 1000000 in
/-- The entries copied out. -/
theorem wp_halfOut (arg5 : Memref sig .scVector .hbm S16x2048 .f32) (arg16 : Memref sig .scVector .vmem S1024 .f32) (sems : DmaSems sig S_) (Oa : ℕ → Elt F .f32)
    (fo : Buf (Elt F) ((halfOf i arg5).view.loc (thr ((i 0).castLE hcore0) ((i 1).castLE hsub0) d)))
    {hs : arg16.view.WordExact} {hd : (halfOf i arg5).view.WordExact} {hsem}
    {hs' : arg16.view.WordExact} {hd' : (halfOf i arg5).view.WordExact}
    {k : PUnit → Prog (TpuEff nD τ sig (Elt F) Λ₀ (.scVector ((i 0).castLE hcore0) ((i 1).castLE hsub0))) α} :
    iprop(Is ((i 0).castLE hcore0) ((i 1).castLE hsub0) d arg16 (ar Oa) ∗ ((halfOf i arg5).view.loc (thr ((i 0).castLE hcore0) ((i 1).castLE hsub0) d) ↦[(halfOf i arg5).view.set]{fullShare} fo) ∗ semVal ((thr ((i 0).castLE hcore0) ((i 1).castLE hsub0) d), .dma sems.sem) 0 ∗ Grown ((i 0).castLE hcore0) ((i 1).castLE hsub0) d ι O W ∗ MayWaits (thr ((i 0).castLE hcore0) ((i 1).castLE hsub0) d) ι O)
      ⊢ iprop((iprop(Is ((i 0).castLE hcore0) ((i 1).castLE hsub0) d arg16 (ar Oa) ∗ (∃ g : Buf (Elt F) ((halfOf i arg5).view.loc (thr ((i 0).castLE hcore0) ((i 1).castLE hsub0) d)), ⌜∀ x : S1024.Idx, (halfOf i arg5).view.read (Elt F) g x = Oa (x 0).val⌝
            ∗ ((halfOf i arg5).view.loc (thr ((i 0).castLE hcore0) ((i 1).castLE hsub0) d) ↦[(halfOf i arg5).view.set]{fullShare} g))
            ∗ semVal ((thr ((i 0).castLE hcore0) ((i 1).castLE hsub0) d), .dma sems.sem) 0 ∗ Grown ((i 0).castLE hcore0) ((i 1).castLE hsub0) d ι O W ∗ MayWaits (thr ((i 0).castLE hcore0) ((i 1).castLE hsub0) d) ι O) -∗ wp frame (wpE defs 𝒱 (thr ((i 0).castLE hcore0) ((i 1).castLE hsub0) d) bd) Set.univ (k ⟨⟩) Q)
        -∗ wp frame (wpE defs 𝒱 (thr ((i 0).castLE hcore0) ((i 1).castLE hsub0) d) bd) Set.univ (.op (.enqueueDma arg16 (.here (halfOf i arg5)) (.dma sems.sem) hs hd hsem) fun _ =>
            .op (.waitDma2 sems.sem arg16 (halfOf i arg5) hs' hd') k) Q) := by
  iintro ⟨H16, H5, Hv, HG, #HM⟩ Hk
  unfold Is
  icases H16 with ⟨%g, %hg, H16⟩
  iapply (wp_dmaLocal EC 𝒱 (thr ((i 0).castLE hcore0) ((i 1).castLE hsub0) d) bd ι ((halfOf i arg5).view.amount (.dma sems.sem)) rfl (View.dmaCredit_pos _ (by decide)) (Finset.Subset.refl _)) $$ [H16 H5 Hv]
  · isplitl [H16]; · iexact H16
    isplitl [H5]; · iexact H5
    iexact Hv
  iintro Hfl
  unfold Grown
  icases HG with ⟨%W', %hW, HO⟩
  iapply (wp_waitLocalO EC 𝒱 (thr ((i 0).castLE hcore0) ((i 1).castLE hsub0) d) bd ι (N := (halfOf i arg5).view.amount (.dma sems.sem)) rfl) $$ [Hfl HO]
  · isplitl [Hfl]; · iexact Hfl
    isplitl [HO]; · iexact HO
    iapply (MayWaits.elim _) $$ HM
  iintro ⟨⟨H5, H16⟩, Hv, HO⟩
  ihave HG := (grown_more d hW) $$ HO
  unfold Grown
  iapply Hk
  isplitl [H16]
  · iexists g
    isplitr; · ipureintro; exact hg
    iexact H16
  isplitl [H5]
  · iexists _
    isplitr [H5]; swap; · iexact H5
    ipureintro
    intro x
    rw [View.read_write_univ, ReadAs.apply_same, hg]; rfl
  isplitl [Hv]; · iexact Hv
  isplitl [HG]; · iexact HG
  iexact HM
end

end Cert.Proof.Tile

end
-- ==== Proof.Patch.lean ====
/-
  The initial probability put in the last place of a row's second half.
-/
module

public import proofs.«01_k».proof.Proof.Row

@[expose] public section

set_option synthInstance.maxSize 4096

noncomputable section

namespace Cert.Proof.Tile

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps Cert.Proof.Fire Cert.Proof.Vec Cert.Proof.Sort

variable {Ix : Type} [DecidableEq Ix] {F : FTy → Type} {Name : Type} [DecidableEq Name]
variable {U : Type} [URA U] {Lvl : Type} [Preorder Lvl]

local notation "𝕄" => MT nD τ sig Ix (Elt F) Name U Lvl

/-- The whole of the initial probabilities, as the gather names it. -/
abbrev allOf (arg4 : Memref sig .scVector .hbm S8192 .f32) : Memref sig .scVector .hbm S8192 .f32 :=
  arg4.slice (Rect.unit (s := S8192) ![0] S8192.size inb_S8192_S8192_0) (fun _ => rfl)

/-- An element of the initial probabilities. -/
def ixP (n : ℕ) : S8192.Idx := fun | 0 => ⟨n % 8192, Nat.mod_lt _ (by decide)⟩

theorem ixP_eq (x : S8192.Idx) : ixP (x 0).val = x := by
  funext a
  match a with
  | 0 => exact Fin.ext (Nat.mod_eq_of_lt (x 0).isLt)

theorem pay5_eq (rv : ℕ → BitVec 32) : k0_pay5 (F := F) (ar fun j => rv (0 + j)) = ar fun _ => rv 0 := by
  funext y; rfl

theorem pay6_eq (a b : ℕ → Elt F .f32) (y : S16.Idx) : k0_pay6 (F := F) iot (ar a) (ar b) y = if (y 0).val = 15 then b (y 0).val else a (y 0).val := by
  have hy : (y 0).val < 16 := (y 0).isLt
  rw [iot_eq]
  show (if IntOp.cmpi .eq (BitVec.ofNat 32 (y 0).val) 15#32 = 1#1 then b (y 0).val else a (y 0).val) = _
  have : ∀ n < 16, (IntOp.cmpi .eq (BitVec.ofNat 32 n) 15#32 = 1#1 ↔ n = 15) := by decide
  by_cases h : (y 0).val = 15
  · rw [if_pos h, if_pos ((this _ hy).mpr h)]
  · rw [if_neg h, if_neg (fun h' => h ((this _ hy).mp h'))]

theorem gath_const {f4 : S8192.Idx → Elt F .f32} (r : Fin (S16.size gathers_S8192_S16.axis') → Fin (S8192.size gathers_S8192_S16.axis)) (n : ℕ) (hr : ∀ j, (r j).val = n) (x : S16.Idx) :
    gatherPayload gathers_S8192_S16 f4 r x = f4 (ixP n) := by
  unfold gatherPayload
  congr 1
  funext a
  match a with
  | 0 =>
    refine Fin.ext ?_
    refine (congrArg Fin.val (Shape.Gathers.idx_axis gathers_S8192_S16 r x)).trans ?_
    rw [hr]
    have h := (r (x gathers_S8192_S16.axis')).isLt
    rw [hr] at h
    exact (Nat.mod_eq_of_lt h).symm

section
variable [Infinite Name] (EC : UEmb Counters (MT nD τ sig Ix (Elt F) Name U Lvl)) [EC.LandsIn (upEmb : UEmb _ (MT nD τ sig Ix (Elt F) Name U Lvl))] [FloatOps F] {defs : Defs nD τ sig (Elt F) Λ₀} (𝒱 : Variants) (bd : Option 𝒱.V)
variable (i : grid0.Coords) (d : Dev nD) {ι : Ix} {O : CellTallies nD τ sig Ix} {W : Waits sig Ix} {α : Type} {Q : α → sProp (MT nD τ sig Ix (Elt F) Name U Lvl)}

theorem wp_storeG {cr : Fin τ.nSC} {su : Fin τ.nSub} {e : EltTy} {dd : Fin 1 → ℕ} {m : Memref sig .scVector .vmem ⟨1, dd⟩ e} {f : ℕ → Elt F e} {off : Fin 1 → ℕ} {inb : ∀ a, off a + S16.size a ≤ dd a}
    {w : S16.Idx → Elt F e}
    {hx : (m.access (Rect.unit (s := ⟨1, dd⟩) off S16.size inb)).Stores Finset.univ} {hm : Finset.univ = Finset.univ ∨ ∀ a, (Rect.unit (s := ⟨1, dd⟩) off S16.size inb).stride a = 1}
    (n : ℕ) (hn : off 0 = n) (w' : ℕ → Elt F e) (hw : ∀ y, w y = w' (y 0).val)
    {k : PUnit → Prog (TpuEff nD τ sig (Elt F) Λ₀ (.scVector cr su)) α} :
    Is cr su d m (ar f)
      ⊢ iprop((Is cr su d m (ar fun j => if n ≤ j ∧ j < n + 16 then w' (j - n) else f j) -∗ wp frame (wpE defs 𝒱 (thr cr su d) bd) Set.univ (k ⟨⟩) Q)
        -∗ wp frame (wpE defs 𝒱 (thr cr su d) bd) Set.univ (.op (.store m (Rect.unit (s := ⟨1, dd⟩) off S16.size inb) w Finset.univ hx hm) k) Q) :=
  wp_isStore (F := F) (defs := defs) (m := m) (f := f) (off := off) (size := S16.size) (inb := inb) (w := w) (hx := hx) (hm := hm) (k := k) (Q := Q) 𝒱 bd cr su d n 16 hn rfl w' hw

theorem wp_loadG {cr : Fin τ.nSC} {su : Fin τ.nSub} {e : EltTy} {dd : Fin 1 → ℕ} {m : Memref sig .scVector .vmem ⟨1, dd⟩ e} {f : ℕ → Elt F e} {off : Fin 1 → ℕ} {inb : ∀ a, off a + S16.size a ≤ dd a}
    {hl : m.view.LoadsAt (Rect.unit (s := ⟨1, dd⟩) off S16.size inb).toLoadRect} (n : ℕ) (hn : off 0 = n)
    {k : (S16.Idx → Elt F e) → Prog (TpuEff nD τ sig (Elt F) Λ₀ (.scVector cr su)) α} :
    Is cr su d m (ar f)
      ⊢ iprop((Is cr su d m (ar f) -∗ wp frame (wpE defs 𝒱 (thr cr su d) bd) Set.univ (k (ar (dd := S16.size) fun j => f (n + j))) Q)
        -∗ wp frame (wpE defs 𝒱 (thr cr su d) bd) Set.univ (.op (.load m (Rect.unit (s := ⟨1, dd⟩) off S16.size inb).toLoadRect hl) k) Q) :=
  wp_isLoad (F := F) (defs := defs) (m := m) (f := f) (off := off) (size := S16.size) (inb := inb) (hl := hl) (k := k) (Q := Q) 𝒱 bd cr su d n hn

include EC in
set_option maxHeartbeats 1000000 in
/-- The initial probability read and put in its place. -/
theorem wp_patch (arg4 : Memref sig .scVector .hbm S8192 .f32) (arg6 : Memref sig .scVector .vmem S2064 .i32) (arg16 : Memref sig .scVector .vmem S1024 .f32) (arg17 : Memref sig .scVector .vmem S16 .i32) (arg18 : Memref sig .scVector .vmem S16 .f32) (arg20 : DmaSems sig S_)
    (f4 : Buf (Elt F) (arg4.view.loc (thr ((i 0).castLE hcore0) ((i 1).castLE hsub0) d))) (q : PosShare TreeShare) {rv : ℕ → BitVec 32} {Oa : ℕ → Elt F .f32} (hrv : (rv 0).toNat < 8192)
    (hcr : ∀ h : S8192.Gathers 0 S16, ∑ j, (arg18.slice (S16.rowRect h.axis' j) (S16.stride_rowRect h.axis' j)).view.dmaCredit = arg18.view.dmaCredit)
    {hl6 hl17 hs17 hm17 hp hn hw he hsp hr hw' hw'' hl16 hl18 hl16' hs16 hm16}
    {k : PUnit → Prog (TpuEff nD τ sig (Elt F) Λ₀ (.scVector ((i 0).castLE hcore0) ((i 1).castLE hsub0))) α} :
    iprop(Is ((i 0).castLE hcore0) ((i 1).castLE hsub0) d arg6 (ar rv) ∗ (∃ f, Is ((i 0).castLE hcore0) ((i 1).castLE hsub0) d arg17 f) ∗ (∃ f, Is ((i 0).castLE hcore0) ((i 1).castLE hsub0) d arg18 f) ∗ Is ((i 0).castLE hcore0) ((i 1).castLE hsub0) d arg16 (ar Oa)
        ∗ (arg4.view.loc (thr ((i 0).castLE hcore0) ((i 1).castLE hsub0) d) ↦[arg4.view.set]{q} f4) ∗ semVal ((thr ((i 0).castLE hcore0) ((i 1).castLE hsub0) d), .dma arg20.sem) 0 ∗ Grown ((i 0).castLE hcore0) ((i 1).castLE hsub0) d ι O W ∗ MayWaits (thr ((i 0).castLE hcore0) ((i 1).castLE hsub0) d) ι O)
      ⊢ iprop((iprop(Is ((i 0).castLE hcore0) ((i 1).castLE hsub0) d arg6 (ar rv) ∗ (∃ f, Is ((i 0).castLE hcore0) ((i 1).castLE hsub0) d arg17 f) ∗ (∃ f, Is ((i 0).castLE hcore0) ((i 1).castLE hsub0) d arg18 f)
            ∗ Is ((i 0).castLE hcore0) ((i 1).castLE hsub0) d arg16 (ar fun j => if j = 1023 then arg4.view.read (Elt F) f4 (ixP (rv 0).toNat) else Oa j)
            ∗ (arg4.view.loc (thr ((i 0).castLE hcore0) ((i 1).castLE hsub0) d) ↦[arg4.view.set]{q} f4) ∗ semVal ((thr ((i 0).castLE hcore0) ((i 1).castLE hsub0) d), .dma arg20.sem) 0 ∗ Grown ((i 0).castLE hcore0) ((i 1).castLE hsub0) d ι O W ∗ MayWaits (thr ((i 0).castLE hcore0) ((i 1).castLE hsub0) d) ι O) -∗ wp frame (wpE defs 𝒱 (thr ((i 0).castLE hcore0) ((i 1).castLE hsub0) d) bd) Set.univ (k ⟨⟩) Q)
        -∗ wp frame (wpE defs 𝒱 (thr ((i 0).castLE hcore0) ((i 1).castLE hsub0) d) bd) Set.univ
          (.op (.load arg6 (Rect.unit (s := S2064) ![0] S16.size inb_S2064_S16_0).toLoadRect hl6) fun v146 =>
           .op (.load arg17 (Rect.unit (s := S16) ![0] S16.size inb_S16_S16_0).toLoadRect hl17) fun _ =>
           .op (.store arg17 (Rect.unit (s := S16) ![0] S16.size inb_S16_S16_0) (k0_pay5 v146) Finset.univ hs17 hm17) fun _ =>
           SparseCore.enqueueIndirectGather hp (allOf arg4) arg18 gathers_S8192_S16 arg17 hn arg20.sem hw he hsp hr >>= fun _ =>
           .op (.waitDma2 arg20.sem (allOf arg4) arg18 hw' hw'') fun _ =>
           .op (.load arg16 (Rect.unit (s := S1024) ![1008] S16.size inb_S1024_S16_1008).toLoadRect hl16) fun v153 =>
           .op (.load arg18 (Rect.unit (s := S16) ![0] S16.size inb_S16_S16_0).toLoadRect hl18) fun v156 =>
           .op (.load arg16 (Rect.unit (s := S1024) ![1008] S16.size inb_S1024_S16_1008).toLoadRect hl16') fun _ =>
           .op (.store arg16 (Rect.unit (s := S1024) ![1008] S16.size inb_S1024_S16_1008) (k0_pay6 iot v153 v156) Finset.univ hs16 hm16) k) Q) := by
  have hsub : (allOf arg4).view.set ⊆ arg4.view.set := View.set_slice_subset _ _
  iintro ⟨H6, ⟨%f17, H17⟩, ⟨%f18, H18⟩, H16, H4, Hv, HG, #HM⟩ Hk
  iapply (wp_loadG (F := F) (e := .i32) (m := arg6) 𝒱 bd d 0 rfl) $$ H6
  iintro H6
  rw [pay5_eq]
  ihave H17 := (is_ar ((i 0).castLE hcore0) ((i 1).castLE hsub0) d (by decide) f17) $$ H17
  icases H17 with ⟨%g17, H17⟩
  iapply (wp_loadG (F := F) (e := .i32) (m := arg17) 𝒱 bd d 0 rfl) $$ H17
  iintro H17
  iapply (wp_storeG (F := F) (e := .i32) (m := arg17) (w := ar fun _ => rv 0) 𝒱 bd d 0 rfl (fun _ => rv 0) (fun _ => rfl)) $$ H17
  iintro H17
  unfold Is
  icases H17 with ⟨%o, %ho, H17⟩
  icases H18 with ⟨%g18, %hg18, H18⟩
  have ho' : ∀ y, arg17.view.read (Elt F) o y = rv 0 := fun y => by
    rw [ho]
    exact if_pos ⟨Nat.zero_le _, (y 0).isLt⟩
  ihave H4 := (pointsTo_split_subset (q := q) (f := f4) hsub).1 $$ H4
  icases H4 with ⟨H4, H4'⟩
  iapply (SparseCore.wp_indirectGatherLocal EC 𝒱 (thr ((i 0).castLE hcore0) ((i 1).castLE hsub0) d) bd (hg := gathers_S8192_S16) ι arg18.view.dmaCredit (hcr _) (by decide)
    (fun y => by rw [ho']; exact hrv)) $$ [H4 H18 H17 Hv]
  · isplitl [H4]; · iexact H4
    isplitl [H18]; · iexact H18
    isplitl [H17]; · iexact H17
    iexact Hv
  iintro Hfl
  unfold Grown
  icases HG with ⟨%W', %hW, HO⟩
  iapply (wp_waitLocalO EC 𝒱 (thr ((i 0).castLE hcore0) ((i 1).castLE hsub0) d) bd ι (rfl : arg18.view.dmaCredit = _)) $$ [Hfl HO]
  · isplitl [Hfl]; · iexact Hfl
    isplitl [HO]; · iexact HO
    iapply (MayWaits.elim _) $$ HM
  iintro ⟨⟨H18, H4, H17⟩, Hv, HO⟩
  ihave HG := (grown_more d hW) $$ HO
  unfold Grown
  ihave H4 := (pointsTo_split_subset (q := q) (f := f4) hsub).2 $$ [H4 H4']
  · isplitl [H4]; · iexact H4
    iexact H4'
  ihave H18 := (show _ ⊢ Is ((i 0).castLE hcore0) ((i 1).castLE hsub0) d arg18 (ar fun _ => arg4.view.read (Elt F) f4 (ixP (rv 0).toNat)) from by
    unfold Is
    iintro H
    iexists _
    isplitr [H]; swap; · iexact H
    ipureintro
    funext x
    rw [View.read_write_univ, gath_const _ (rv 0).toNat (fun _ => congrArg BitVec.toNat (ho' _))]
    show arg4.view.read (Elt F) f4 _ = _
    congr 1
    funext a
    match a with
    | 0 => exact Fin.ext (by show 0 + 1 * _ = _; omega)) $$ H18
  ihave H16 := (show _ ⊢ Is ((i 0).castLE hcore0) ((i 1).castLE hsub0) d arg16 (ar Oa) from by unfold Is; exact .rfl) $$ H16
  iapply (wp_loadG (F := F) (e := .f32) (m := arg16) 𝒱 bd d 1008 rfl) $$ H16
  iintro H16
  iapply (wp_loadG (F := F) (e := .f32) (m := arg18) 𝒱 bd d 0 rfl) $$ H18
  iintro H18
  iapply (wp_loadG (F := F) (e := .f32) (m := arg16) 𝒱 bd d 1008 rfl) $$ H16
  iintro H16
  iapply (wp_storeG (F := F) (e := .f32) (m := arg16) 𝒱 bd d 1008 rfl (fun l => if l = 15 then arg4.view.read (Elt F) f4 (ixP (rv 0).toNat) else Oa (1008 + l)) (fun y => pay6_eq _ _ y)) $$ H16
  iintro H16
  unfold Is
  iapply Hk
  isplitl [H6]; · iexact H6
  isplitl [H17]
  · iexists _
    iexists _
    isplitr [H17]; swap; · iexact H17
    ipureintro; rfl
  isplitl [H18]
  · iexists _
    iexact H18
  isplitl [H16]
  · icases H16 with ⟨%g, %hg, H16⟩
    iexists g
    isplitr; swap; · iexact H16
    ipureintro
    rw [hg]
    refine ar_congr fun j hj => ?_
    by_cases h : 1008 ≤ j ∧ j < 1008 + 16
    · rw [if_pos h]
      by_cases h' : j = 1023
      · rw [if_pos (by omega), if_pos h']
      · rw [if_neg (by omega), if_neg h', show 1008 + (j - 1008) = j by omega]
    · rw [if_neg h, if_neg (by omega)]
  isplitl [H4]; · iexact H4
  isplitl [Hv]; · iexact Hv
  isplitl [HG]; · iexact HG
  iexact HM
end

end Cert.Proof.Tile
-- ==== Proof.Clear.lean ====
/-
  The clearing loop of a tile.
-/
module

public import proofs.«01_k».proof.Proof.Build

@[expose] public section

set_option synthInstance.maxSize 4096

noncomputable section

namespace Cert.Proof.Tile

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps Cert.Proof.Fire Cert.Proof.Vec Cert.Proof.Sort

variable {Ix : Type} [DecidableEq Ix] {F : FTy → Type} {Name : Type} [DecidableEq Name]
variable {U : Type} [URA U] {Lvl : Type} [Preorder Lvl]

local notation "𝕄" => MT nD τ sig Ix (Elt F) Name U Lvl

variable [FloatOps F] {defs : Defs nD τ sig (Elt F) Λ₀} (𝒱 : Variants) (bd : Option 𝒱.V)

variable (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (d : Dev nD)

set_option maxHeartbeats 1000000 in
theorem wp_clear (v29 v34 : BitVec 32) (t : Fin k0_t1_loop.trips) :
    (Clr ((i 0).castLE hcore0) ((i 1).castLE hsub0) d arg8 arg9 (16 * t.val) : sProp 𝕄)
      ⊢ wp frame (wpE defs 𝒱 (thr ((i 0).castLE hcore0) ((i 1).castLE hsub0) d) bd) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v29 iot k0_pay103 v34 t ⟨⟩) (fun _ => Clr ((i 0).castLE hcore0) ((i 1).castLE hsub0) d arg8 arg9 (16 * (t.val + 1))) := by
  have ht : t.val < 73 := lt_of_lt_of_eq t.isLt (by decide)
  have hx : ∀ l < 16, 16 * t.val + l < 1168 := fun l hl => by omega
  unfold k0_t1_body Clr
  simp only [Prog.bind_lift]
  rw [pay106_eq t ht, pay107_eq t ht]
  iintro ⟨⟨%R, %hR, HR⟩, ⟨%L, %hL, HL⟩⟩
  have hc : k0_chk1 (V fun l => (16 * t.val + l) / 2) (V fun l => (16 * t.val + l) % 2) := V_inb2 (by omega) (by omega) (fun l hl => by have := hx l hl; omega) (fun l hl => by omega)
  iapply (wp_asm 𝒱 bd _ _ d hc)
  rw [zeros_eq]
  iapply (wp_scat2 𝒱 bd _ _ d (fun l hl => by have := hx l hl; omega) (fun l hl => by omega)) $$ HR
  iintro HR
  iapply (wp_isLoad 𝒱 bd _ _ d (16 * t.val) (off2_eq t ht)) $$ HL
  iintro HL
  iapply (wp_storeM 𝒱 bd _ _ d (16 * t.val) (off2_eq t ht)) $$ HL
  iintro HL
  rw [wp_pure]
  imodintro
  isplitl [HR]
  · iexists _
    isplitr [HR]; swap
    · iexact HR
    · ipureintro
      intro r c hc hp
      by_cases hlt : 2 * r + c < 16 * t.val
      · rw [scat_off _ _ _ _ 16 fun l hl _ e => by rw [Prod.mk.injEq] at e; omega]; exact hR r c hc hlt
      · have e : (r, c) = (fun l => ((16 * t.val + l) / 2, (16 * t.val + l) % 2)) (2 * r + c - 16 * t.val) := by
          rw [Prod.mk.injEq]; constructor <;> omega
        rw [e]
        exact scat_all _ _ _ 16 (fun l _ l' _ h => by rw [Prod.mk.injEq] at h; omega) (by omega)
  · iexists _
    isplitr [HL]; swap
    · iexact HL
    · ipureintro
      intro s hs
      show (if _ then _ else _) = _
      split
      · rfl
      · exact hL s (by omega)

end Cert.Proof.Tile

end
-- ==== Proof.Pack.lean ====
/-
  The packing and counting loop of a tile.
-/
module

public import proofs.«01_k».proof.Proof.Build

@[expose] public section

set_option synthInstance.maxSize 4096

noncomputable section

namespace Cert.Proof.Tile

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps Cert.Proof.Fire Cert.Proof.Vec Cert.Proof.Sort

variable {Ix : Type} [DecidableEq Ix] {F : FTy → Type} {Name : Type} [DecidableEq Name]
variable {U : Type} [URA U] {Lvl : Type} [Preorder Lvl]

local notation "𝕄" => MT nD τ sig Ix (Elt F) Name U Lvl

variable [FloatOps F] {defs : Defs nD τ sig (Elt F) Λ₀} (𝒱 : Variants) (bd : Option 𝒱.V)

variable (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (d : Dev nD)

set_option maxHeartbeats 1000000 in
theorem wp_pack (rv : ℕ → BitVec 32) (v29 : BitVec 32) (t : Fin k0_t2_loop.trips) :
    (Cntd ((i 0).castLE hcore0) ((i 1).castLE hsub0) d arg6 arg7 arg10 rv (1024 * (i 0).val) (16 * t.val) : sProp 𝕄)
      ⊢ wp frame (wpE defs 𝒱 (thr ((i 0).castLE hcore0) ((i 1).castLE hsub0) d) bd) Set.univ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v29 iot k0_pay103 1#32 t ⟨⟩) (fun _ => Cntd ((i 0).castLE hcore0) ((i 1).castLE hsub0) d arg6 arg7 arg10 rv (1024 * (i 0).val) (16 * (t.val + 1))) := by
  have ht : t.val < 64 := lt_of_lt_of_eq t.isLt (by decide)
  have hg : ∀ l < 16, gg rv (1024 * (i 0).val) (16 * t.val + l) < 64 := fun l _ => gg_lt _ _ _
  unfold k0_t2_body Cntd Fib
  simp only [Prog.bind_lift]
  iintro ⟨Hr, ⟨%L, %hL, HL⟩, Hc⟩
  iapply (wp_isLoad 𝒱 bd _ _ d _ (off3_eq i t)) $$ Hr
  iintro Hr
  iapply (wp_isLoad 𝒱 bd _ _ d _ (off4_eq i t)) $$ Hr
  iintro Hr
  have e9 : k0_pay109 (F := F) (ar fun j => rv (1024 * (i 0).val + 16 * t.val + j)) (ar fun j => rv (1024 * (i 0).val + 16 * t.val + 1 + j)) = V fun l => fb rv (1024 * (i 0).val) (16 * t.val + l) := by
    rw [pay109_eq]
    refine V_congr fun l _ => ?_
    unfold fb pv nx
    rw [show 1024 * (i 0).val + 16 * t.val + l = 1024 * (i 0).val + (16 * t.val + l) by omega, show 1024 * (i 0).val + 16 * t.val + 1 + l = 1024 * (i 0).val + (16 * t.val + l) + 1 by omega]
  have e10 : k0_pay110 (F := F) (ar fun j => rv (1024 * (i 0).val + 16 * t.val + j)) (ar fun j => rv (1024 * (i 0).val + 16 * t.val + 1 + j)) = V fun l => gg rv (1024 * (i 0).val) (16 * t.val + l) := by
    rw [pay110_eq]
    refine V_congr fun l _ => ?_
    unfold gg nx
    rw [show 1024 * (i 0).val + 16 * t.val + 1 + l = 1024 * (i 0).val + (16 * t.val + l) + 1 by omega]
  rw [e9, e10]
  iapply (wp_isLoad 𝒱 bd _ _ d (16 * t.val) (off5_eq t ht)) $$ HL
  iintro HL
  iapply (wp_storeV 𝒱 bd _ _ d (16 * t.val) (off5_eq t ht)) $$ HL
  iintro HL
  have hk : k0_chk2 (V fun l => gg rv (1024 * (i 0).val) (16 * t.val + l)) := ⟨V_inb (by omega) hg, V_inb (by omega) hg⟩
  iapply (wp_asm 𝒱 bd _ _ d hk)
  have hg' : ∀ l < 16, gg rv (1024 * (i 0).val) (16 * t.val + l) < 4294967296 := fun l hl => by have := hg l hl; omega
  iapply (wp_gath 𝒱 bd _ _ d hg') $$ Hc
  iintro Hc
  have e13 := pay113_eq (F := F) (x := fun l => gg rv (1024 * (i 0).val) (16 * t.val + l)) (c := fun l => cnt (gg rv (1024 * (i 0).val)) (16 * t.val) (gg rv (1024 * (i 0).val) (16 * t.val + l))) hg'
  iapply (wp_scat 𝒱 bd _ _ d hg' (fun l => BitVec.ofNat 32 (cnt (gg rv (1024 * (i 0).val)) (16 * t.val) (gg rv (1024 * (i 0).val) (16 * t.val + l)) + occ (fun l => gg rv (1024 * (i 0).val) (16 * t.val + l)) l)) (fun y => congrFun e13 y)
    (lastb fun l => gg rv (1024 * (i 0).val) (16 * t.val + l)) (pay112_eq hg')) $$ Hc
  rw [scat_count (cnt (gg rv (1024 * (i 0).val)) (16 * t.val)) fun l => gg rv (1024 * (i 0).val) (16 * t.val + l)]
  iintro Hc
  rw [wp_pure]
  imodintro
  isplitl [Hr]
  · iexact Hr
  isplitl [HL]
  · iexists _
    isplitr [HL]; swap
    · iexact HL
    · ipureintro
      intro j hj
      dsimp only
      split
      · next h => congr 2; omega
      · exact hL j (by omega)
  · have e : (fun q => BitVec.ofNat 32 (cnt (gg rv (1024 * (i 0).val)) (16 * t.val) q + Nat.count (fun l => gg rv (1024 * (i 0).val) (16 * t.val + l) = q) 16))
        = fun q => BitVec.ofNat 32 (cnt (gg rv (1024 * (i 0).val)) (16 * (t.val + 1)) q) := by
      funext q; rw [show 16 * (t.val + 1) = 16 * t.val + 16 by omega, cnt_add]
    rw [e]
    iexact Hc

end Cert.Proof.Tile

end
-- ==== Proof.Put.lean ====
/-
  The loop of a tile that puts every position at its slot.
-/
module

public import proofs.«01_k».proof.Proof.Build

@[expose] public section

set_option synthInstance.maxSize 4096

noncomputable section

namespace Cert.Proof.Tile

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps Cert.Proof.Fire Cert.Proof.Vec Cert.Proof.Sort

variable {Ix : Type} [DecidableEq Ix] {F : FTy → Type} {Name : Type} [DecidableEq Name]
variable {U : Type} [URA U] {Lvl : Type} [Preorder Lvl]

local notation "𝕄" => MT nD τ sig Ix (Elt F) Name U Lvl

variable [FloatOps F] {defs : Defs nD τ sig (Elt F) Λ₀} (𝒱 : Variants) (bd : Option 𝒱.V)

variable (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (d : Dev nD)

set_option maxHeartbeats 1000000 in
theorem wp_put (rv : ℕ → BitVec 32) (B : ℕ) (v82 : BitVec 32) (v86 v88 v90 : IVec S16 32) (t : Fin k0_t3_loop.trips) :
    (Put ((i 0).castLE hcore0) ((i 1).castLE hsub0) d arg7 arg8 arg9 arg12 rv B (16 * t.val) : sProp 𝕄)
      ⊢ wp frame (wpE defs 𝒱 (thr ((i 0).castLE hcore0) ((i 1).castLE hsub0) d) bd) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 iot 1#32 v82 v86 v88 v90 t ⟨⟩) (fun _ => Put ((i 0).castLE hcore0) ((i 1).castLE hsub0) d arg7 arg8 arg9 arg12 rv B (16 * (t.val + 1))) := by
  have ht : t.val < 64 := lt_of_lt_of_eq t.isLt (by decide)
  set g := gg rv B with hgdef
  have hg : ∀ l < 16, g (16 * t.val + l) < 64 := fun l _ => gg_lt _ _ _
  have hg' : ∀ l < 16, g (16 * t.val + l) < 4294967296 := fun l hl => by have := hg l hl; omega
  have hs : ∀ l < 16, slot g (16 * t.val + l) < 1088 := fun l hl => slot_bound g (by omega) (hg l hl)
  have hso : ∀ l < 16, 2 * pre g (g (16 * t.val + l)) + cnt g (16 * t.val) (g (16 * t.val + l)) + occ (fun l => g (16 * t.val + l)) l = slot g (16 * t.val + l) + 1 := fun l hl => by
    unfold slot occ
    rw [cnt_add, Nat.count_succ, if_pos rfl]
    dsimp only
    omega
  have hfb : ∀ l < 16, fb rv B (16 * t.val + l) < 8192 * 8192 := fun l _ => fb_lt _ _ _
  have hinj : ∀ l < 16, ∀ l' < 16, slot g (16 * t.val + l) = slot g (16 * t.val + l') → l = l' := fun l hl l' hl' e => by
    have := slot_inj g (by omega) (by omega) e; omega
  have e30 : k0_pay130 (F := F) (V fun l => fb rv B (16 * t.val + l)) = V fun l => g (16 * t.val + l) := (pay130_eq _ hfb).trans (V_congr fun l _ => fb_gg rv B _)
  have e33 : k0_pay133 (F := F) 1#32 (V fun l => g (16 * t.val + l)) (V fun l => 2 * pre g (g (16 * t.val + l)) + cnt g (16 * t.val) (g (16 * t.val + l))) = V fun l => slot g (16 * t.val + l) := by
    rw [pay133_eq hg' fun l hl => by rw [hso l hl]; have := hs l hl; omega]
    exact V_congr fun l hl => by rw [hso l hl]; rfl
  have hs2 : ∀ l < 16, slot g (16 * t.val + l) < 2000 := fun l hl => by have := hs l hl; omega
  have hs3 : ∀ l < 16, slot g (16 * t.val + l) / 2 < 584 := fun l hl => by have := hs l hl; omega
  have e34 := pay134_eq hs2
  have e35 := pay135_eq hs2
  have e36 : k0_pay136 (F := F) (V fun l => fb rv B (16 * t.val + l)) = V fun l => pv rv B (16 * t.val + l) := (pay136_eq hfb).trans (V_congr fun l _ => fb_pv rv B _)
  have e37 : k0_pay137 (F := F) iot t (V fun l => fb rv B (16 * t.val + l)) = V fun l => (16 * t.val + l) * 128 + nx rv B (16 * t.val + l) % 128 :=
    (pay137_eq t ht hfb).trans (V_congr fun l _ => by rw [fb_lane])
  have e38 := pay138_eq fun l => slot g (16 * t.val + l)
  unfold k0_t3_body Put Fib Slots
  simp only [Prog.bind_lift]
  iintro ⟨⟨%L, %hL, HL⟩, Hc, ⟨%R, %hR, HR⟩, ⟨%W, %hW, HW⟩⟩
  iapply (wp_isLoad 𝒱 bd _ _ d (16 * t.val) (off6_eq t ht)) $$ HL
  have eL : (ar (dd := S16.size) fun j => L (16 * t.val + j)) = V fun l => fb rv B (16 * t.val + l) := ar_congr (n := 16) fun l hl => hL _ (by omega)
  rw [eL]
  iintro HL
  rw [e30]
  have hk3 : k0_chk3 (V fun l => g (16 * t.val + l)) := ⟨V_inb (by omega) hg, V_inb (by omega) hg⟩
  iapply (wp_asm 𝒱 bd _ _ d hk3)
  iapply (wp_gath 𝒱 bd _ _ d hg') $$ Hc
  iintro Hc
  have e33' : k0_pay133 (F := F) 1#32 (V fun l => g (16 * t.val + l)) (ar fun l => BitVec.ofNat 32 (2 * pre g (g (16 * t.val + l)) + cnt g (16 * t.val) (g (16 * t.val + l)))) = V fun l => slot g (16 * t.val + l) := e33
  rw [e33', e34, e35, e36, e37, e38]
  have hk5 : k0_chk5 (V fun l => slot g (16 * t.val + l)) := V_inb (n := 1168) (by omega) fun l hl => by have := hs l hl; omega
  iapply (wp_asm 𝒱 bd _ _ d hk5)
  have hk4 : k0_chk4 (V fun l => slot g (16 * t.val + l) / 2) (V fun l => slot g (16 * t.val + l) % 2) := V_inb2 (n := 584) (n' := 2) (by omega) (by omega) hs3 (fun l hl => by omega)
  iapply (wp_asm 𝒱 bd _ _ d hk4)
  iapply (wp_scat2 𝒱 bd _ _ d (fun l hl => by have := hs l hl; omega) (fun l hl => by omega)) $$ HR
  iintro HR
  iapply (wp_scat 𝒱 bd _ _ d (fun l hl => by have := hs l hl; omega) (fun l => BitVec.ofNat 32 ((16 * t.val + l) * 128 + nx rv B (16 * t.val + l) % 128)) (fun _ => rfl) (fun _ => true) (fun _ => by simp)) $$ HW
  iintro HW
  iapply (wp_scat 𝒱 bd _ _ d hg'
    (fun l => BitVec.ofNat 32 (2 * pre g (g (16 * t.val + l)) + cnt g (16 * t.val) (g (16 * t.val + l)) + occ (fun l => g (16 * t.val + l)) l)) (fun y => congrArg (BitVec.ofNat 32) (hso _ (y 0).isLt).symm)
    (lastb fun l => g (16 * t.val + l)) (pay132_eq hg')) $$ Hc
  rw [scat_count (fun q => 2 * pre g q + cnt g (16 * t.val) q) fun l => g (16 * t.val + l)]
  iintro Hc
  rw [wp_pure]
  imodintro
  isplitl [HL]
  · iexists L
    isplitr [HL]; swap
    · iexact HL
    · ipureintro; exact hL
  isplitl [Hc]
  · have e : (fun q => BitVec.ofNat 32 (2 * pre g q + cnt g (16 * t.val) q + Nat.count (fun l => g (16 * t.val + l) = q) 16))
        = fun q => BitVec.ofNat 32 (2 * pre g q + cnt g (16 * (t.val + 1)) q) := by
      funext q; rw [show 16 * (t.val + 1) = 16 * t.val + 16 by omega, cnt_add, Nat.add_assoc]
    rw [e]
    iexact Hc
  isplitl [HR]
  · iexists _
    isplitr [HR]; swap
    · iexact HR
    · ipureintro
      refine ⟨fun j hj => ?_, fun r hr c hc => ?_⟩
      · by_cases hlt : j < 16 * t.val
        · rw [scat_off _ _ _ _ 16 fun l hl _ e => by
            have e' : (slot g (16 * t.val + l) / 2, slot g (16 * t.val + l) % 2) = (slot g j / 2, slot g j % 2) := e
            rw [Prod.mk.injEq] at e'
            have := slot_inj g (j := 16 * t.val + l) (j' := j) (by omega) (by omega) (by omega)
            omega]
          exact hR.1 j hlt
        · have h := scat_all R (fun l => (slot g (16 * t.val + l) / 2, slot g (16 * t.val + l) % 2)) (fun l => BitVec.ofNat 32 (pv rv B (16 * t.val + l))) 16
            (fun l hl l' hl' e => by rw [Prod.mk.injEq] at e; exact hinj l hl l' hl' (by omega)) (l := j - 16 * t.val) (by omega)
          rw [show 16 * t.val + (j - 16 * t.val) = j by omega] at h
          exact h
      · by_cases hex : ∃ l, l < 16 ∧ (slot g (16 * t.val + l) / 2, slot g (16 * t.val + l) % 2) = (r, c)
        · obtain ⟨l, hl, e⟩ := hex
          have h := scat_all R (fun l => (slot g (16 * t.val + l) / 2, slot g (16 * t.val + l) % 2)) (fun l => BitVec.ofNat 32 (pv rv B (16 * t.val + l))) 16
            (fun l hl l' hl' e => by rw [Prod.mk.injEq] at e; exact hinj l hl l' hl' (by omega)) hl
          rw [← e]; refine lt_of_eq_of_lt (congrArg BitVec.toNat h) ?_
          have := pv_lt rv B (16 * t.val + l)
          show (BitVec.ofNat 32 _).toNat < _
          rw [BitVec.toNat_ofNat]; omega
        · rw [scat_off _ _ _ _ 16 fun l hl _ e => hex ⟨l, hl, e⟩]
          exact hR.2 r hr c hc
  · iexists _
    isplitr [HW]; swap
    · iexact HW
    · ipureintro
      have key : ∀ l < 16, scat 16 W (fun l => slot g (16 * t.val + l)) (fun l => BitVec.ofNat 32 ((16 * t.val + l) * 128 + nx rv B (16 * t.val + l) % 128)) (fun _ => true) (slot g (16 * t.val + l))
          = BitVec.ofNat 32 ((16 * t.val + l) * 128 + nx rv B (16 * t.val + l) % 128) := fun l hl =>
        scat_all W (fun l => slot g (16 * t.val + l)) (fun l => BitVec.ofNat 32 ((16 * t.val + l) * 128 + nx rv B (16 * t.val + l) % 128)) 16 hinj hl
      refine ⟨fun j hj => ?_, fun s hsl => ?_⟩
      · by_cases hlt : j < 16 * t.val
        · rw [scat_off _ _ _ _ 16 fun l hl _ e => by
            have := slot_inj g (j := 16 * t.val + l) (j' := j) (by omega) (by omega) e
            omega]
          exact hW.1 j hlt
        · have h := key (j - 16 * t.val) (by omega)
          rw [show 16 * t.val + (j - 16 * t.val) = j by omega] at h
          exact h
      · by_cases hex : ∃ l, l < 16 ∧ slot g (16 * t.val + l) = s
        · obtain ⟨l, hl, e⟩ := hex
          exact .inr ⟨16 * t.val + l, by omega, e.symm⟩
        · rw [scat_off _ _ _ _ 16 fun l hl _ e => hex ⟨l, hl, e⟩]
          rcases hW.2 s hsl with h | ⟨j, hj, e⟩
          · exact .inl h
          · exact .inr ⟨j, by omega, e⟩

end Cert.Proof.Tile

end
-- ==== Proof.Parts.lean ====
/-
  The first pieces of a tile's program: clearing, packing and counting, the blocks' starts.
-/
module

public import proofs.«01_k».proof.Proof.Patch
public import proofs.«01_k».proof.Proof.Clear
public import proofs.«01_k».proof.Proof.Pack
public import proofs.«01_k».proof.Proof.Put

@[expose] public section

set_option synthInstance.maxSize 4096

noncomputable section

namespace Cert.Proof.Tile

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps Cert.Proof.Fire Cert.Proof.Vec Cert.Proof.Sort

variable {Ix : Type} [DecidableEq Ix] {F : FTy → Type} {Name : Type} [DecidableEq Name]
variable {U : Type} [URA U] {Lvl : Type} [Preorder Lvl]

local notation "𝕄" => MT nD τ sig Ix (Elt F) Name U Lvl

/-- A tile's half of a row, as the program computes it. -/
def half (i : grid0.Coords) : BitVec 32 :=
  let v21 := Scalar.remsi (Scalar.addi (Scalar.muli (BitVec.ofNat 32 (i 1).val) 2#32) (BitVec.ofNat 32 (i 0).val)) (Scalar.select (Scalar.cmpi .eq 2#32 0#32) 1#32 2#32)
  Scalar.select (Scalar.andi (Scalar.xori (Scalar.cmpi .slt v21 0#32) (Scalar.cmpi .slt (Scalar.select (Scalar.cmpi .eq 2#32 0#32) 1#32 2#32) 0#32)) (Scalar.cmpi .ne v21 0#32))
    (Scalar.addi v21 (Scalar.select (Scalar.cmpi .eq 2#32 0#32) 1#32 2#32)) v21

theorem half_eq : ∀ i : grid0.Coords, half i = BitVec.ofNat 32 (i 0).val := by decide +kernel

section
variable (cr : Fin τ.nSC) (su : Fin τ.nSub) (d : Dev nD) (m : Memref sig .scVector .vmem S64 .i32)

/-- The first `p` of an array's elements are known. -/
def Upto (p : ℕ) (w : ℕ → BitVec 32) : sProp 𝕄 :=
  iprop(∃ f : ℕ → Elt F .i32, ⌜∀ j < p, f j = w j⌝ ∗ Is cr su d m (ar f))

theorem upto_zero (w : ℕ → BitVec 32) {f : S64.Idx → Elt F .i32} : (Is cr su d m f : sProp 𝕄) ⊢ Upto cr su d m 0 w := by
  unfold Upto
  iintro H
  ihave H := (is_ar cr su d (by decide) f) $$ H
  icases H with ⟨%f', H⟩
  iexists f'
  isplitr; · ipureintro; intro j hj; exact absurd hj (Nat.not_lt_zero _)
  iexact H

theorem upto_all (w : ℕ → BitVec 32) : Upto cr su d m 64 w ⊢ (Is (F := F) (e := .i32) cr su d m (ar w) : sProp 𝕄) := by
  unfold Upto
  iintro ⟨%f, %hf, H⟩
  ihave H := (Entails.of_eq (congrArg (fun x : S64.Idx → Elt F .i32 => (Is cr su d m x : sProp 𝕄)) (ar_congr hf))) $$ H
  iexact H
end

section
variable [FloatOps F] {defs : Defs nD τ sig (Elt F) Λ₀} (𝒱 : Variants) (bd : Option 𝒱.V) {cr : Fin τ.nSC} {su : Fin τ.nSub} (d : Dev nD) {α : Type} {Q : α → sProp (MT nD τ sig Ix (Elt F) Name U Lvl)} [Infinite Name]

/-- Sixteen more stored. -/
theorem wp_upto {m : Memref sig .scVector .vmem S64 .i32} {w : ℕ → BitVec 32} {v : S16.Idx → Elt F .i32} (p : ℕ) {off : Fin 1 → ℕ} {inb : ∀ a, off a + S16.size a ≤ S64.size a} (hn : off 0 = p)
    (hv : ∀ y : S16.Idx, v y = w (p + (y 0).val))
    {hl : m.view.LoadsAt (Rect.unit (s := S64) off S16.size inb).toLoadRect}
    {hx : (m.access (Rect.unit (s := S64) off S16.size inb)).Stores Finset.univ} {hm : Finset.univ = Finset.univ ∨ ∀ a, (Rect.unit (s := S64) off S16.size inb).stride a = 1}
    {k : PUnit → Prog (TpuEff nD τ sig (Elt F) Λ₀ (.scVector cr su)) α} :
    Upto cr su d m p w
      ⊢ iprop((Upto cr su d m (p + 16) w -∗ wp frame (wpE defs 𝒱 (thr cr su d) bd) Set.univ (k ⟨⟩) Q)
        -∗ wp frame (wpE defs 𝒱 (thr cr su d) bd) Set.univ (.op (.load m (Rect.unit (s := S64) off S16.size inb).toLoadRect hl) fun _ => .op (.store m (Rect.unit (s := S64) off S16.size inb) v Finset.univ hx hm) k) Q) := by
  unfold Upto
  iintro ⟨%f, %hf, H⟩ Hk
  iapply (wp_loadG (F := F) (e := .i32) (m := m) (f := f) (off := off) (inb := inb) (hl := hl) 𝒱 bd d p hn) $$ H
  iintro H
  iapply (wp_storeG (F := F) (e := .i32) (m := m) (f := f) (off := off) (inb := inb) (w := v) (hx := hx) (hm := hm) 𝒱 bd d p hn (fun l => w (p + l)) hv) $$ H
  iintro H
  iapply Hk
  iexists _
  isplitr [H]; swap; · iexact H
  ipureintro
  intro j hj
  by_cases h : p ≤ j
  · rw [if_pos ⟨h, hj⟩, show p + (j - p) = j by omega]
  · rw [if_neg (fun h' => h h'.1)]; exact hf j (by omega)
end

section
variable [Infinite Name] (EC : UEmb Counters (MT nD τ sig Ix (Elt F) Name U Lvl)) [EC.LandsIn (upEmb : UEmb _ (MT nD τ sig Ix (Elt F) Name U Lvl))] [FloatOps F] {defs : Defs nD τ sig (Elt F) Λ₀} (𝒱 : Variants) (bd : Option 𝒱.V)
variable {α : Type} {Q : α → sProp (MT nD τ sig Ix (Elt F) Name U Lvl)}
variable (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (d : Dev nD)
variable {ι : Ix} {O : CellTallies nD τ sig Ix} {W : Waits sig Ix}

theorem part91_eq : ∃ v29, k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 = pure ⟨BitVec.ofNat 32 (i 0).val, v29, iot, k0_pay103, 1#32⟩ := by
  refine ⟨Scalar.muli (half i) 1024#32, ?_⟩
  rw [k0_part91_eq_skeleton]
  unfold k0_part91_skel
  show pure (⟨half i, Scalar.muli (half i) 1024#32, iot, k0_pay103, extractAt ![0] k0_pay104 inpos_S1_p0⟩ : Σ' (_ : BitVec 32) (_ : BitVec 32) (_ : IVec S16 32) (_ : IVec S16 32), BitVec 32) = _
  rw [one_eq, half_eq]

include EC in
set_option maxHeartbeats 1000000 in
/-- The row in, the slots cleared, the pairs packed and counted, the first starts. -/
theorem wp_p92 (v29 : BitVec 32) (fa : Buf (Elt F) (arg2.view.loc (thr ((i 0).castLE hcore0) ((i 1).castLE hsub0) d))) (q : PosShare TreeShare)
    {kk : (Σ' (_ : IVec S16 32), IVec S16 32) → Prog (TpuEff nD τ sig (Elt F) Λ₀ (.scVector ((i 0).castLE hcore0) ((i 1).castLE hsub0))) α} :
    iprop((∃ f, Is ((i 0).castLE hcore0) ((i 1).castLE hsub0) d arg6 f) ∗ (∃ f, Is ((i 0).castLE hcore0) ((i 1).castLE hsub0) d arg7 f) ∗ (∃ f, Is ((i 0).castLE hcore0) ((i 1).castLE hsub0) d arg8 f) ∗ (∃ f, Is ((i 0).castLE hcore0) ((i 1).castLE hsub0) d arg9 f) ∗ (∃ f, Is ((i 0).castLE hcore0) ((i 1).castLE hsub0) d arg10 f) ∗ (∃ f, Is ((i 0).castLE hcore0) ((i 1).castLE hsub0) d arg11 f)
        ∗ (arg2.view.loc (thr ((i 0).castLE hcore0) ((i 1).castLE hsub0) d) ↦[arg2.view.set]{q} fa) ∗ semVal ((thr ((i 0).castLE hcore0) ((i 1).castLE hsub0) d), .dma v146_r0.sem) 0 ∗ Grown ((i 0).castLE hcore0) ((i 1).castLE hsub0) d ι O W ∗ MayWaits (thr ((i 0).castLE hcore0) ((i 1).castLE hsub0) d) ι O)
      ⊢ iprop((∀ rv : ℕ → BitVec 32, iprop(⌜∀ t < 2048, rv t = arg2.view.read (Elt F) fa (ixD (i 1).val t)⌝
            ∗ Cntd ((i 0).castLE hcore0) ((i 1).castLE hsub0) d arg6 arg7 arg10 rv (1024 * (i 0).val) 1024 ∗ Clr ((i 0).castLE hcore0) ((i 1).castLE hsub0) d arg8 arg9 1168
            ∗ Upto ((i 0).castLE hcore0) ((i 1).castLE hsub0) d arg11 16 (fun q => BitVec.ofNat 32 (2 * pre (gg rv (1024 * (i 0).val)) q))
            ∗ (arg2.view.loc (thr ((i 0).castLE hcore0) ((i 1).castLE hsub0) d) ↦[arg2.view.set]{q} fa) ∗ semVal ((thr ((i 0).castLE hcore0) ((i 1).castLE hsub0) d), .dma v146_r0.sem) 0 ∗ Grown ((i 0).castLE hcore0) ((i 1).castLE hsub0) d ι O W ∗ MayWaits (thr ((i 0).castLE hcore0) ((i 1).castLE hsub0) d) ι O)
            -∗ wp frame (wpE defs 𝒱 (thr ((i 0).castLE hcore0) ((i 1).castLE hsub0) d) bd) Set.univ (kk ⟨k0_pay115 (F := F) (C (gg rv (1024 * (i 0).val)) 0), k0_pay116 (F := F) (C (gg rv (1024 * (i 0).val)) 0)⟩) Q)
        -∗ wp frame (wpE defs 𝒱 (thr ((i 0).castLE hcore0) ((i 1).castLE hsub0) d) bd) Set.univ (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 v29 iot k0_pay103 1#32 >>= kk) Q) := by
  rw [k0_part92_eq_skeleton]
  unfold k0_part92_skel
  simp only [Prog.bind_lift, Prog.bind_assoc, Prog.bind_op, Prog.pure_eq_ret, Prog.bind_ret]
  iintro ⟨H6, ⟨%f7, H7⟩, ⟨%f8, H8⟩, ⟨%f9, H9⟩, ⟨%f10, H10⟩, ⟨%f11, H11⟩, H2, Hv, HG, HM⟩ Hk
  iapply (wp_rowIn EC 𝒱 bd i d arg2 arg6 v146_r0 fa q) $$ [H6 H2 Hv HG HM]
  · isplitl [H6]; · iexact H6
    isplitl [H2]; · iexact H2
    isplitl [Hv]; · iexact Hv
    isplitl [HG]; · iexact HG
    iexact HM
  iintro %rv ⟨%hrv, H6, H2, Hv, HG, HM⟩
  iapply (Scf.wp_for_bind frame (wpE defs 𝒱 (thr ((i 0).castLE hcore0) ((i 1).castLE hsub0) d) bd) Set.univ _ _ _ _ _ _ (fun k _ => Clr ((i 0).castLE hcore0) ((i 1).castLE hsub0) d arg8 arg9 (16 * k)) ?_) $$ [H8 H9]
  · intro k _
    exact wp_clear 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d v29 1#32 k
  · unfold Clr
    ihave H8 := (is_ar2 ((i 0).castLE hcore0) ((i 1).castLE hsub0) d (by decide) (by decide) f8) $$ H8
    ihave H9 := (is_ar ((i 0).castLE hcore0) ((i 1).castLE hsub0) d (by decide) f9) $$ H9
    icases H8 with ⟨%R, H8⟩
    icases H9 with ⟨%L, H9⟩
    isplitl [H8]
    · iexists R
      isplitr [H8]; swap; · iexact H8
      ipureintro; intro r c _ h; omega
    · iexists L
      isplitr [H9]; swap; · iexact H9
      ipureintro; intro s h; omega
  iintro %_ HC
  have e1 : 16 * Scf.trips k0_t1_loop.lb k0_t1_loop.ub k0_t1_loop.st = 1168 := by decide
  ihave HC := (Entails.of_eq (congrArg (fun n => (Clr ((i 0).castLE hcore0) ((i 1).castLE hsub0) d arg8 arg9 n : sProp 𝕄)) e1)) $$ HC
  ihave H10 := (upto_zero ((i 0).castLE hcore0) ((i 1).castLE hsub0) d arg10 (fun q => BitVec.ofNat 32 (cnt (gg rv (1024 * (i 0).val)) 0 q))) $$ H10
  iapply (wp_upto 𝒱 bd d 0 rfl (fun y => by rw [cnt_zero]; rfl)) $$ H10
  iintro H10
  iapply (wp_upto 𝒱 bd d 16 rfl (fun y => by rw [cnt_zero]; rfl)) $$ H10
  iintro H10
  iapply (wp_upto 𝒱 bd d 32 rfl (fun y => by rw [cnt_zero]; rfl)) $$ H10
  iintro H10
  iapply (wp_upto 𝒱 bd d 48 rfl (fun y => by rw [cnt_zero]; rfl)) $$ H10
  iintro H10
  ihave H10 := (upto_all ((i 0).castLE hcore0) ((i 1).castLE hsub0) d arg10 _) $$ H10
  ihave H7 := (is_ar ((i 0).castLE hcore0) ((i 1).castLE hsub0) d (by decide) f7) $$ H7
  icases H7 with ⟨%L7, H7⟩
  iapply (Scf.wp_for_bind frame (wpE defs 𝒱 (thr ((i 0).castLE hcore0) ((i 1).castLE hsub0) d) bd) Set.univ _ _ _ _ _ _ (fun k _ => Cntd ((i 0).castLE hcore0) ((i 1).castLE hsub0) d arg6 arg7 arg10 rv (1024 * (i 0).val) (16 * k)) ?_) $$ [H6 H7 H10]
  · intro k _
    exact wp_pack 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d rv v29 k
  · unfold Cntd Fib
    isplitl [H6]; · iexact H6
    isplitl [H7]
    · iexists L7
      isplitr [H7]; swap; · iexact H7
      ipureintro; intro j h; omega
    iexact H10
  iintro %_ HP
  have e2 : 16 * Scf.trips k0_t2_loop.lb k0_t2_loop.ub k0_t2_loop.st = 1024 := by decide
  ihave HP := (Entails.of_eq (congrArg (fun n => (Cntd ((i 0).castLE hcore0) ((i 1).castLE hsub0) d arg6 arg7 arg10 rv (1024 * (i 0).val) n : sProp 𝕄)) e2)) $$ HP
  unfold Cntd
  icases HP with ⟨H6, H7, H10⟩
  iapply (wp_loadG (F := F) (e := .i32) (m := arg10) 𝒱 bd d 0 rfl) $$ H10
  iintro H10
  have eC : (ar (dd := S16.size) fun j => BitVec.ofNat 32 (cnt (gg rv (1024 * (i 0).val)) 1024 (0 + j)) : S16.Idx → Elt F .i32) = C (gg rv (1024 * (i 0).val)) 0 := rfl
  rw [eC]
  ihave H11 := (upto_zero ((i 0).castLE hcore0) ((i 1).castLE hsub0) d arg11 (fun q => BitVec.ofNat 32 (2 * pre (gg rv (1024 * (i 0).val)) q))) $$ H11
  iapply (wp_upto 𝒱 bd d 0 rfl (fun y => congrFun (pay116_eq (F := F) (gg rv (1024 * (i 0).val))) y)) $$ H11
  iintro H11
  iapply Hk $$ %rv
  isplitr; · ipureintro; exact hrv
  isplitl [H6 H7 H10]
  · isplitl [H6]; · iexact H6
    isplitl [H7]; · iexact H7
    iexact H10
  isplitl [HC]; · iexact HC
  isplitl [H11]; · iexact H11
  isplitl [H2]; · iexact H2
  isplitl [Hv]; · iexact Hv
  isplitl [HG]; · iexact HG
  iexact HM

set_option maxHeartbeats 1000000 in
/-- The next starts. -/
theorem wp_p93 {g : ℕ → ℕ} {kk : (Σ' (_ : BitVec 32) (_ : IVec S16 32) (_ : IVec S16 32), IVec S16 32) → Prog (TpuEff nD τ sig (Elt F) Λ₀ (.scVector ((i 0).castLE hcore0) ((i 1).castLE hsub0))) α} :
    iprop(Is (F := F) (e := .i32) ((i 0).castLE hcore0) ((i 1).castLE hsub0) d arg10 (ar fun q => BitVec.ofNat 32 (cn g q)) ∗ Upto ((i 0).castLE hcore0) ((i 1).castLE hsub0) d arg11 16 (fun q => BitVec.ofNat 32 (2 * pre g q)) ∗ (∃ f, Is ((i 0).castLE hcore0) ((i 1).castLE hsub0) d arg12 f))
      ⊢ iprop((iprop(Is (F := F) (e := .i32) ((i 0).castLE hcore0) ((i 1).castLE hsub0) d arg10 (ar fun q => BitVec.ofNat 32 (cn g q)) ∗ Upto ((i 0).castLE hcore0) ((i 1).castLE hsub0) d arg11 48 (fun q => BitVec.ofNat 32 (2 * pre g q)) ∗ Upto ((i 0).castLE hcore0) ((i 1).castLE hsub0) d arg12 48 (fun q => BitVec.ofNat 32 (2 * pre g q)))
            -∗ wp frame (wpE defs 𝒱 (thr ((i 0).castLE hcore0) ((i 1).castLE hsub0) d) bd) Set.univ (kk ⟨BitVec.ofNat 32 (2 * pre g 48), k0_pay126 (F := F) (C g 48), k0_pay127 (F := F) (C g 48), k0_pay128 (F := F) (k0_pay115 (F := F) (C g 0)) (C g 16) (C g 32) (C g 48)⟩) Q)
        -∗ wp frame (wpE defs 𝒱 (thr ((i 0).castLE hcore0) ((i 1).castLE hsub0) d) bd) Set.univ (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 (k0_pay115 (F := F) (C g 0)) (k0_pay116 (F := F) (C g 0)) >>= kk) Q) := by
  rw [k0_part93_eq_skeleton]
  unfold k0_part93_skel
  simp only [Prog.bind_lift, Prog.bind_assoc, Prog.bind_op, Prog.pure_eq_ret, Prog.bind_ret]
  iintro ⟨H10, H11, ⟨%f12, H12⟩⟩ Hk
  ihave H12 := (upto_zero ((i 0).castLE hcore0) ((i 1).castLE hsub0) d arg12 (fun q => BitVec.ofNat 32 (2 * pre g q))) $$ H12
  iapply (wp_upto 𝒱 bd d 0 rfl (fun y => congrFun (pay116_eq (F := F) g) y)) $$ H12
  iintro H12
  iapply (wp_loadG (F := F) (e := .i32) (m := arg10) 𝒱 bd d 16 rfl) $$ H10
  iintro H10
  have e16 : (ar (dd := S16.size) fun j => BitVec.ofNat 32 (cn g (16 + j)) : S16.Idx → Elt F .i32) = C g 16 := rfl
  rw [e16]
  iapply (wp_upto 𝒱 bd d 16 rfl (fun y => congrFun (pay120_eq (F := F) g) y)) $$ H11
  iintro H11
  iapply (wp_upto 𝒱 bd d 16 rfl (fun y => congrFun (pay120_eq (F := F) g) y)) $$ H12
  iintro H12
  iapply (wp_loadG (F := F) (e := .i32) (m := arg10) 𝒱 bd d 32 rfl) $$ H10
  iintro H10
  have e32 : (ar (dd := S16.size) fun j => BitVec.ofNat 32 (cn g (32 + j)) : S16.Idx → Elt F .i32) = C g 32 := rfl
  rw [e32]
  iapply (wp_upto 𝒱 bd d 32 rfl (fun y => congrFun (pay124_eq (F := F) g) y)) $$ H11
  iintro H11
  iapply (wp_upto 𝒱 bd d 32 rfl (fun y => congrFun (pay124_eq (F := F) g) y)) $$ H12
  iintro H12
  iapply (wp_loadG (F := F) (e := .i32) (m := arg10) 𝒱 bd d 48 rfl) $$ H10
  iintro H10
  have e48 : (ar (dd := S16.size) fun j => BitVec.ofNat 32 (cn g (48 + j)) : S16.Idx → Elt F .i32) = C g 48 := rfl
  rw [e48, v54_eq, v68_eq, v82_eq]
  iapply Hk
  isplitl [H10]; · iexact H10
  isplitl [H11]; · iexact H11
  iexact H12
end

end Cert.Proof.Tile
-- ==== Proof.P94.lean ====
/-
  The last starts, the positions put at their slots, and the first window.
-/
module

public import proofs.«01_k».proof.Proof.Parts

@[expose] public section

set_option synthInstance.maxSize 4096

noncomputable section

namespace Cert.Proof.Tile

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps Cert.Proof.Fire Cert.Proof.Vec Cert.Proof.Sort

variable {Ix : Type} [DecidableEq Ix] {F : FTy → Type} {Name : Type} [DecidableEq Name]
variable {U : Type} [URA U] {Lvl : Type} [Preorder Lvl]

local notation "𝕄" => MT nD τ sig Ix (Elt F) Name U Lvl

section
variable [Infinite Name] (EC : UEmb Counters (MT nD τ sig Ix (Elt F) Name U Lvl)) [EC.LandsIn (upEmb : UEmb _ (MT nD τ sig Ix (Elt F) Name U Lvl))] [FloatOps F] {defs : Defs nD τ sig (Elt F) Λ₀} (𝒱 : Variants) (bd : Option 𝒱.V)
variable {α : Type} {Q : α → sProp (MT nD τ sig Ix (Elt F) Name U Lvl)}
variable (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (d : Dev nD)
variable {ι : Ix} {O : CellTallies nD τ sig Ix} {W : Waits sig Ix}
variable {ft : Buf (Elt F) (arg3.view.loc (thr ((i 0).castLE hcore0) ((i 1).castLE hsub0) d))} {qs : ℕ → PosShare TreeShare}
  (hcr : ∀ s' : Shape, sig.dmaCredit .scVector (Kind.scVector.table .vmem) arg13.view.buf s' .f32 = s'.numel * 32)

include EC hcr in
set_option maxHeartbeats 1000000 in
theorem wp_p94 {rv : ℕ → BitVec 32} {B : ℕ}
    {kk : PUnit → Prog (TpuEff nD τ sig (Elt F) Λ₀ (.scVector ((i 0).castLE hcore0) ((i 1).castLE hsub0))) α} :
    iprop(Is (F := F) (e := .i32) ((i 0).castLE hcore0) ((i 1).castLE hsub0) d arg10 (ar fun q => BitVec.ofNat 32 (cn (gg rv B) q)) ∗ Upto ((i 0).castLE hcore0) ((i 1).castLE hsub0) d arg11 48 (fun q => BitVec.ofNat 32 (2 * pre (gg rv B) q)) ∗ Upto ((i 0).castLE hcore0) ((i 1).castLE hsub0) d arg12 48 (fun q => BitVec.ofNat 32 (2 * pre (gg rv B) q))
        ∗ Fib ((i 0).castLE hcore0) ((i 1).castLE hsub0) d arg7 rv B 1024 ∗ Clr ((i 0).castLE hcore0) ((i 1).castLE hsub0) d arg8 arg9 1168 ∗ (∃ f, Is ((i 0).castLE hcore0) ((i 1).castLE hsub0) d arg13 f) ∗ (∃ f, Is ((i 0).castLE hcore0) ((i 1).castLE hsub0) d arg16 f)
        ∗ Table ((i 0).castLE hcore0) ((i 1).castLE hsub0) d arg3 ft qs ∗ semVal ((thr ((i 0).castLE hcore0) ((i 1).castLE hsub0) d), .dma arg19.sem) 0 ∗ Grown ((i 0).castLE hcore0) ((i 1).castLE hsub0) d ι O W ∗ MayWaits (thr ((i 0).castLE hcore0) ((i 1).castLE hsub0) d) ι O)
      ⊢ iprop((∀ (R : ℕ × ℕ → BitVec 32) (L : ℕ → BitVec 32), iprop(⌜(∀ r < 584, ∀ c < 2, (R (r, c)).toNat < 8192) ∧ (∀ j < 1024, R (slot (gg rv B) j / 2, slot (gg rv B) j % 2) = BitVec.ofNat 32 (pv rv B j)) ∧ (∀ j < 1024, L (slot (gg rv B) j) = BitVec.ofNat 32 (j * 128 + nx rv B j % 128)) ∧ (∀ s < 1168, L s = -1#32 ∨ ∃ j < 1024, s = slot (gg rv B) j)⌝
            ∗ Fib ((i 0).castLE hcore0) ((i 1).castLE hsub0) d arg7 rv B 1024 ∗ (∃ f, Is ((i 0).castLE hcore0) ((i 1).castLE hsub0) d arg12 f) ∗ Idle ((i 0).castLE hcore0) ((i 1).castLE hsub0) d arg3 arg8 arg19 arg10 arg11 ι ft qs O W (gg rv B) R ∗ (∃ f, Is ((i 0).castLE hcore0) ((i 1).castLE hsub0) d arg13 f) ∗ Is (F := F) (e := .i32) ((i 0).castLE hcore0) ((i 1).castLE hsub0) d arg9 (ar L) ∗ (∃ Oa : ℕ → Elt F .f32, ⌜∀ j < 1024, slot (gg rv B) j < 384 → Oa j = arg3.view.read (Elt F) ft (ixT (pv rv B j) (nx rv B j))⌝ ∗ Is ((i 0).castLE hcore0) ((i 1).castLE hsub0) d arg16 (ar Oa)))
            -∗ wp frame (wpE defs 𝒱 (thr ((i 0).castLE hcore0) ((i 1).castLE hsub0) d) bd) Set.univ (kk ⟨⟩) Q)
        -∗ wp frame (wpE defs 𝒱 (thr ((i 0).castLE hcore0) ((i 1).castLE hsub0) d) bd) Set.univ (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 iot 1#32 (BitVec.ofNat 32 (2 * pre (gg rv B) 48)) (k0_pay126 (F := F) (C (gg rv B) 48)) (k0_pay127 (F := F) (C (gg rv B) 48))
            (k0_pay128 (F := F) (k0_pay115 (F := F) (C (gg rv B) 0)) (C (gg rv B) 16) (C (gg rv B) 32) (C (gg rv B) 48)) >>= kk) Q) := by
  rw [k0_part94_eq_skeleton]
  unfold k0_part94_skel
  simp only [Prog.bind_lift, Prog.bind_assoc, Prog.bind_op, Prog.pure_eq_ret, Prog.bind_ret]
  iintro ⟨H10, H11, H12, H7, HC, H13, H16, HT, Hv, HG, HM⟩ Hk
  iapply (wp_upto 𝒱 bd d 48 rfl (fun y => congrFun (pay129_eq (F := F) (gg rv B)) y)) $$ H11
  iintro H11
  iapply (wp_upto 𝒱 bd d 48 rfl (fun y => congrFun (pay129_eq (F := F) (gg rv B)) y)) $$ H12
  iintro H12
  ihave H11 := (upto_all ((i 0).castLE hcore0) ((i 1).castLE hsub0) d arg11 _) $$ H11
  ihave H12 := (upto_all ((i 0).castLE hcore0) ((i 1).castLE hsub0) d arg12 _) $$ H12
  iapply (Scf.wp_for_bind frame (wpE defs 𝒱 (thr ((i 0).castLE hcore0) ((i 1).castLE hsub0) d) bd) Set.univ _ _ _ _ _ _ (fun k _ => Put ((i 0).castLE hcore0) ((i 1).castLE hsub0) d arg7 arg8 arg9 arg12 rv B (16 * k)) ?_) $$ [H7 H12 HC]
  · intro k _
    exact wp_put 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d rv B _ _ _ _ k
  · unfold Put Clr Slots
    isplitl [H7]; · iexact H7
    isplitl [H12]
    · ihave H12 := (Entails.of_eq (congrArg (fun x : S64.Idx → Elt F .i32 => (Is ((i 0).castLE hcore0) ((i 1).castLE hsub0) d arg12 x : sProp 𝕄)) (show ar (fun q => BitVec.ofNat 32 (2 * pre (gg rv B) q)) = ar fun q => BitVec.ofNat 32 (2 * pre (gg rv B) q + cnt (gg rv B) (16 * 0) q) from
        ar_congr fun q _ => by rw [show 16 * 0 = 0 from rfl, cnt_zero, Nat.add_zero]))) $$ H12
      iexact H12
    icases HC with ⟨⟨%R, %hR, HR⟩, ⟨%L, %hL, HL⟩⟩
    isplitl [HR]
    · iexists R
      isplitr [HR]; swap; · iexact HR
      ipureintro
      refine ⟨fun j hj => absurd hj (by omega), fun r hr c hc => ?_⟩
      rw [hR r c hc (by omega)]; decide
    · iexists L
      isplitr [HL]; swap; · iexact HL
      ipureintro
      exact ⟨fun j hj => absurd hj (by omega), fun s hs => .inl (hL s hs)⟩
  iintro %_ HP
  have e3 : 16 * Scf.trips k0_t3_loop.lb k0_t3_loop.ub k0_t3_loop.st = 1024 := by decide
  ihave HP := (Entails.of_eq (congrArg (fun n => (Put ((i 0).castLE hcore0) ((i 1).castLE hsub0) d arg7 arg8 arg9 arg12 rv B n : sProp 𝕄)) e3)) $$ HP
  unfold Put Slots
  icases HP with ⟨H7, H12, ⟨%R, %hR, HR⟩, ⟨%L, %hL, HL⟩⟩
  iapply (wp_in0 EC 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d hcr iot 1#32 (BitVec.ofNat 32 (2 * pre (gg rv B) 48)) (k0_pay126 (F := F) (C (gg rv B) 48)) (k0_pay127 (F := F) (C (gg rv B) 48))
            (k0_pay128 (F := F) (k0_pay115 (F := F) (C (gg rv B) 0)) (C (gg rv B) 16) (C (gg rv B) 32) (C (gg rv B) 48)) (g := gg rv B) (R := R) hR.2) $$ [H10 H11 HR HT Hv HG HM H13]
  · unfold Idle
    isplitr [H13]; swap; · iexact H13
    isplitl [H10]; · iexact H10
    isplitl [H11]; · iexact H11
    isplitl [HR]; · iexact HR
    isplitl [HT]; · iexact HT
    isplitl [Hv]; · iexact Hv
    isplitl [HG]; · iexact HG
    iexact HM
  iintro HB
  have hw : k0_chk22 (BitVec.ofNat 32 (many (gg rv B) 0)) := chk22_of ⟨many (gg rv B) 0, Nat.lt_succ_of_le (many_le _ _)⟩
  iapply (wp_asm 𝒱 bd ((i 0).castLE hcore0) ((i 1).castLE hsub0) d hw)
  icases H16 with ⟨%f16, H16⟩
  ihave H16 := (is_ar ((i 0).castLE hcore0) ((i 1).castLE hsub0) d (by decide) f16) $$ H16
  icases H16 with ⟨%Oa, H16⟩
  iapply (wp_out0 EC 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d hcr iot 1#32 (BitVec.ofNat 32 (2 * pre (gg rv B) 48)) (k0_pay126 (F := F) (C (gg rv B) 48)) (k0_pay127 (F := F) (C (gg rv B) 48))
            (k0_pay128 (F := F) (k0_pay115 (F := F) (C (gg rv B) 0)) (C (gg rv B) 16) (C (gg rv B) 32) (C (gg rv B) 48)) _ (rv := rv) (B := B) (R := R) hR.1 (L := L) hL.1 hL.2 hw) $$ [HB HL H16]
  · isplitl [HB]; · iexact HB
    isplitl [HL]; · iexact HL
    iexists Oa
    isplitr [H16]; swap; · iexact H16
    ipureintro
    intro j _ h; exact absurd h (Nat.not_lt_zero _)
  iintro ⟨HI, H13, HL, HO⟩
  iapply Hk $$ %R %L
  isplitr; · ipureintro; exact ⟨hR.2, hR.1, hL.1, hL.2⟩
  isplitl [H7]; · iexact H7
  isplitl [H12]; · iexists _; iexact H12
  isplitl [HI]; · iexact HI
  isplitl [H13]; · iexact H13
  isplitl [HL]; · iexact HL
  iexact HO
end

end Cert.Proof.Tile
-- ==== Proof.P95.lean ====
/-
  The second window, and the third one's gathers issued.
-/
module

public import proofs.«01_k».proof.Proof.Parts

@[expose] public section

set_option synthInstance.maxSize 4096

noncomputable section

namespace Cert.Proof.Tile

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps Cert.Proof.Fire Cert.Proof.Vec Cert.Proof.Sort

variable {Ix : Type} [DecidableEq Ix] {F : FTy → Type} {Name : Type} [DecidableEq Name]
variable {U : Type} [URA U] {Lvl : Type} [Preorder Lvl]

local notation "𝕄" => MT nD τ sig Ix (Elt F) Name U Lvl

section
variable [Infinite Name] (EC : UEmb Counters (MT nD τ sig Ix (Elt F) Name U Lvl)) [EC.LandsIn (upEmb : UEmb _ (MT nD τ sig Ix (Elt F) Name U Lvl))] [FloatOps F] {defs : Defs nD τ sig (Elt F) Λ₀} (𝒱 : Variants) (bd : Option 𝒱.V)
variable {α : Type} {Q : α → sProp (MT nD τ sig Ix (Elt F) Name U Lvl)}
variable (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (d : Dev nD)
variable {ι : Ix} {O : CellTallies nD τ sig Ix} {W : Waits sig Ix}
variable {ft : Buf (Elt F) (arg3.view.loc (thr ((i 0).castLE hcore0) ((i 1).castLE hsub0) d))} {qs : ℕ → PosShare TreeShare}
  (hcr : ∀ s' : Shape, sig.dmaCredit .scVector (Kind.scVector.table .vmem) arg13.view.buf s' .f32 = s'.numel * 32)

include EC hcr in
set_option maxHeartbeats 1000000 in
theorem wp_p95 {rv : ℕ → BitVec 32} {B : ℕ} {R : ℕ × ℕ → BitVec 32} {L : ℕ → BitVec 32} (h : (∀ r < 584, ∀ c < 2, (R (r, c)).toNat < 8192) ∧ (∀ j < 1024, R (slot (gg rv B) j / 2, slot (gg rv B) j % 2) = BitVec.ofNat 32 (pv rv B j)) ∧ (∀ j < 1024, L (slot (gg rv B) j) = BitVec.ofNat 32 (j * 128 + nx rv B j % 128)) ∧ (∀ s < 1168, L s = -1#32 ∨ ∃ j < 1024, s = slot (gg rv B) j))
    (hw₂ : k0_chk60 (BitVec.ofNat 32 (many (gg rv B) 384)))
    {kk : (Σ' (v129 : BitVec 32) (_ : k0_chk60 v129) (_ : BitVec 32), BitVec 32) → Prog (TpuEff nD τ sig (Elt F) Λ₀ (.scVector ((i 0).castLE hcore0) ((i 1).castLE hsub0))) α} :
    iprop(Idle ((i 0).castLE hcore0) ((i 1).castLE hsub0) d arg3 arg8 arg19 arg10 arg11 ι ft qs O W (gg rv B) R ∗ (∃ f, Is ((i 0).castLE hcore0) ((i 1).castLE hsub0) d arg13 f) ∗ Is (F := F) (e := .i32) ((i 0).castLE hcore0) ((i 1).castLE hsub0) d arg9 (ar L) ∗ (∃ Oa : ℕ → Elt F .f32, ⌜∀ j < 1024, slot (gg rv B) j < 384 → Oa j = arg3.view.read (Elt F) ft (ixT (pv rv B j) (nx rv B j))⌝ ∗ Is ((i 0).castLE hcore0) ((i 1).castLE hsub0) d arg16 (ar Oa)))
      ⊢ iprop((∀ v : BitVec 32, iprop(Busy EC ((i 0).castLE hcore0) ((i 1).castLE hsub0) d arg3 arg8 arg13 arg19 arg10 arg11 ι ft qs O W (gg rv B) R 384 ∗ Is (F := F) (e := .i32) ((i 0).castLE hcore0) ((i 1).castLE hsub0) d arg9 (ar L) ∗ (∃ Oa : ℕ → Elt F .f32, ⌜∀ j < 1024, slot (gg rv B) j < 768 → Oa j = arg3.view.read (Elt F) ft (ixT (pv rv B j) (nx rv B j))⌝ ∗ Is ((i 0).castLE hcore0) ((i 1).castLE hsub0) d arg16 (ar Oa)))
            -∗ wp frame (wpE defs 𝒱 (thr ((i 0).castLE hcore0) ((i 1).castLE hsub0) d) bd) Set.univ (kk ⟨BitVec.ofNat 32 (many (gg rv B) 384), hw₂, 0#32, v⟩) Q)
        -∗ wp frame (wpE defs 𝒱 (thr ((i 0).castLE hcore0) ((i 1).castLE hsub0) d) bd) Set.univ (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 iot >>= kk) Q) := by
  rw [k0_part95_eq_skeleton]
  unfold k0_part95_skel
  simp only [Prog.bind_lift, Prog.bind_assoc, Prog.bind_op, Prog.pure_eq_ret, Prog.bind_ret]
  iintro ⟨HI, H13, HL, HO⟩ Hk
  iapply (wp_in1 EC 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d hcr iot (g := gg rv B) (R := R) h.1) $$ [HI H13]
  · isplitl [HI]; · iexact HI
    iexact H13
  iintro HB
  have hw : k0_chk41 (BitVec.ofNat 32 (many (gg rv B) 192)) := chk41_of ⟨many (gg rv B) 192, Nat.lt_succ_of_le (many_le _ _)⟩
  iapply (wp_asm 𝒱 bd ((i 0).castLE hcore0) ((i 1).castLE hsub0) d hw)
  iapply (wp_out1 EC 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d hcr iot _ (rv := rv) (B := B) (R := R) h.2.1 (L := L) h.2.2.1 h.2.2.2 hw) $$ [HB HL HO]
  · isplitl [HB]; · iexact HB
    isplitl [HL]; · iexact HL
    iexact HO
  iintro ⟨HI, H13, HL, HO⟩
  iapply (wp_in2 EC 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d hcr iot (g := gg rv B) (R := R) h.1) $$ [HI H13]
  · isplitl [HI]; · iexact HI
    iexact H13
  iintro HB
  iapply (wp_asm 𝒱 bd ((i 0).castLE hcore0) ((i 1).castLE hsub0) d hw₂)
  iapply Hk
  isplitl [HB]; · iexact HB
  isplitl [HL]; · iexact HL
  iexact HO
end

end Cert.Proof.Tile
-- ==== Proof.Body.lean ====
/-
  A tile's program: what it leaves in its half of a row of the result.
-/
module

public import proofs.«01_k».proof.Proof.P94
public import proofs.«01_k».proof.Proof.P95

@[expose] public section

set_option synthInstance.maxSize 4096

noncomputable section

namespace Cert.Proof.Tile

open Idealize.ShloMosaic Idealize.ShloMosaic.Transfers Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Cert.KernelIdeal Cert.KernelIdeal.Gen Cert.Proof.Lane Cert.Proof.GatherBatch Cert.Proof.Steps Cert.Proof.Fire Cert.Proof.Vec Cert.Proof.Sort

variable {Ix : Type} [DecidableEq Ix] {F : FTy → Type} {Name : Type} [DecidableEq Name]
variable {U : Type} [URA U] {Lvl : Type} [Preorder Lvl]

local notation "𝕄" => MT nD τ sig Ix (Elt F) Name U Lvl

/-- Entry `t` of row `b`: the transition to the next state, and in the last place the first state's initial probability. -/
def entry {E : Type} (D : S16x2048.Idx → BitVec 32) (T : S8192x8192.Idx → E) (I : S8192.Idx → E) (b t : ℕ) : E :=
  if t = 2047 then I (ixP (D (ixD b 0)).toNat) else T (ixT (D (ixD b t)).toNat (D (ixD b (t + 1))).toNat)

theorem half_one : ∀ c : Fin 2, (Scalar.cmpi .ne (Scalar.extui (Scalar.cmpi .eq (BitVec.ofNat 32 c.val) 1#32) : BitVec 32) 0#32 = 1#1) ↔ c.val = 1 := by decide

theorem entry_of {E : Type} {D : S16x2048.Idx → BitVec 32} (T : S8192x8192.Idx → E) (I : S8192.Idx → E) {b c : ℕ} (hc : c < 2) {rv : ℕ → BitVec 32} (hD : ∀ x, (D x).toNat < 8192)
    (hrv : ∀ t < 2048, rv t = D (ixD b t)) {j : ℕ} (hj : j < 1024) (h : ¬(c = 1 ∧ j = 1023)) :
    T (ixT (pv rv (1024 * c) j) (nx rv (1024 * c) j)) = entry D T I b (1024 * c + j) := by
  unfold entry pv nx
  rw [if_neg (by omega), hrv _ (by omega), hrv _ (by omega), clp_of (hD _), clp_of (hD _)]

section
variable [Infinite Name] (EC : UEmb Counters (MT nD τ sig Ix (Elt F) Name U Lvl)) [EC.LandsIn (upEmb : UEmb _ (MT nD τ sig Ix (Elt F) Name U Lvl))] [FloatOps F] {defs : Defs nD τ sig (Elt F) Λ₀} (𝒱 : Variants) (bd : Option 𝒱.V)
variable {α : Type} {Q : α → sProp (MT nD τ sig Ix (Elt F) Name U Lvl)}
variable (i : grid0.Coords) (arg2 : Memref sig .scVector .hbm S16x2048 .i32) (harg2 : arg2.IsWhole) (arg3 : Memref sig .scVector .hbm S8192x8192 .f32) (harg3 : arg3.IsWhole) (arg4 : Memref sig .scVector .hbm S8192 .f32) (harg4 : arg4.IsWhole) (arg5 : Memref sig .scVector .hbm S16x2048 .f32) (harg5 : arg5.IsWhole) (arg6 : Memref sig .scVector .vmem S2064 .i32) (harg6 : arg6.IsWhole) (arg7 : Memref sig .scVector .vmem S1040 .i32) (harg7 : arg7.IsWhole) (arg8 : Memref sig .scVector .vmem S584x2 .i32) (harg8 : arg8.IsWhole) (arg9 : Memref sig .scVector .vmem S1168 .i32) (harg9 : arg9.IsWhole) (arg10 : Memref sig .scVector .vmem S64 .i32) (harg10 : arg10.IsWhole) (arg11 : Memref sig .scVector .vmem S64 .i32) (harg11 : arg11.IsWhole) (arg12 : Memref sig .scVector .vmem S64 .i32) (harg12 : arg12.IsWhole) (arg13 : Memref sig .scVector .vmem S384x128 .f32) (harg13 : arg13.IsWhole) (arg14 : Memref sig .scVector .vmem S256 .f32) (harg14 : arg14.IsWhole) (arg15 : Memref sig .scVector .vmem S2048 .f32) (harg15 : arg15.IsWhole) (arg16 : Memref sig .scVector .vmem S1024 .f32) (harg16 : arg16.IsWhole) (arg17 : Memref sig .scVector .vmem S16 .i32) (harg17 : arg17.IsWhole) (arg18 : Memref sig .scVector .vmem S16 .f32) (harg18 : arg18.IsWhole) (arg19 : DmaSems sig S_) (arg20 : DmaSems sig S_) (v146_r0 : DmaSems sig S_) (v146_r1 : DmaSems sig S_) (d : Dev nD)
variable {ι : Ix} {O : CellTallies nD τ sig Ix} {W : Waits sig Ix}
variable {ft : Buf (Elt F) (arg3.view.loc (thr ((i 0).castLE hcore0) ((i 1).castLE hsub0) d))} (fa : Buf (Elt F) (arg2.view.loc (thr ((i 0).castLE hcore0) ((i 1).castLE hsub0) d))) (f4 : Buf (Elt F) (arg4.view.loc (thr ((i 0).castLE hcore0) ((i 1).castLE hsub0) d))) (q : PosShare TreeShare)
  (hcr : ∀ s' : Shape, sig.dmaCredit .scVector (Kind.scVector.table .vmem) arg13.view.buf s' .f32 = s'.numel * 32)

include EC hcr in
set_option maxHeartbeats 1000000 in
theorem wp_body (hD : ∀ x, (arg2.view.read (Elt F) fa x : BitVec 32).toNat < 8192)
    (hcr18 : ∀ h : S8192.Gathers 0 S16, ∑ j, (arg18.slice (S16.rowRect h.axis' j) (S16.stride_rowRect h.axis' j)).view.dmaCredit = arg18.view.dmaCredit)
    (fo : Buf (Elt F) ((halfOf i arg5).view.loc (thr ((i 0).castLE hcore0) ((i 1).castLE hsub0) d))) {Q : PUnit → sProp (MT nD τ sig Ix (Elt F) Name U Lvl)} :
    iprop(((∃ f, Is ((i 0).castLE hcore0) ((i 1).castLE hsub0) d arg6 f) ∗ (∃ f, Is ((i 0).castLE hcore0) ((i 1).castLE hsub0) d arg7 f) ∗ (∃ f, Is ((i 0).castLE hcore0) ((i 1).castLE hsub0) d arg8 f) ∗ (∃ f, Is ((i 0).castLE hcore0) ((i 1).castLE hsub0) d arg9 f) ∗ (∃ f, Is ((i 0).castLE hcore0) ((i 1).castLE hsub0) d arg10 f) ∗ (∃ f, Is ((i 0).castLE hcore0) ((i 1).castLE hsub0) d arg11 f) ∗ (∃ f, Is ((i 0).castLE hcore0) ((i 1).castLE hsub0) d arg12 f) ∗ (∃ f, Is ((i 0).castLE hcore0) ((i 1).castLE hsub0) d arg13 f) ∗ (∃ f, Is ((i 0).castLE hcore0) ((i 1).castLE hsub0) d arg16 f) ∗ (∃ f, Is ((i 0).castLE hcore0) ((i 1).castLE hsub0) d arg17 f) ∗ (∃ f, Is ((i 0).castLE hcore0) ((i 1).castLE hsub0) d arg18 f))
        ∗ (arg2.view.loc (thr ((i 0).castLE hcore0) ((i 1).castLE hsub0) d) ↦[arg2.view.set]{q} fa) ∗ (arg3.view.loc (thr ((i 0).castLE hcore0) ((i 1).castLE hsub0) d) ↦[arg3.view.set]{q} ft) ∗ (arg4.view.loc (thr ((i 0).castLE hcore0) ((i 1).castLE hsub0) d) ↦[arg4.view.set]{q} f4) ∗ ((halfOf i arg5).view.loc (thr ((i 0).castLE hcore0) ((i 1).castLE hsub0) d) ↦[(halfOf i arg5).view.set]{fullShare} fo) ∗ (semVal ((thr ((i 0).castLE hcore0) ((i 1).castLE hsub0) d), .dma v146_r0.sem) 0 ∗ semVal ((thr ((i 0).castLE hcore0) ((i 1).castLE hsub0) d), .dma v146_r1.sem) 0 ∗ semVal ((thr ((i 0).castLE hcore0) ((i 1).castLE hsub0) d), .dma arg19.sem) 0 ∗ semVal ((thr ((i 0).castLE hcore0) ((i 1).castLE hsub0) d), .dma arg20.sem) 0) ∗ Grown ((i 0).castLE hcore0) ((i 1).castLE hsub0) d ι O W ∗ MayWaits (thr ((i 0).castLE hcore0) ((i 1).castLE hsub0) d) ι O)
      ⊢ iprop((iprop(((∃ f, Is ((i 0).castLE hcore0) ((i 1).castLE hsub0) d arg6 f) ∗ (∃ f, Is ((i 0).castLE hcore0) ((i 1).castLE hsub0) d arg7 f) ∗ (∃ f, Is ((i 0).castLE hcore0) ((i 1).castLE hsub0) d arg8 f) ∗ (∃ f, Is ((i 0).castLE hcore0) ((i 1).castLE hsub0) d arg9 f) ∗ (∃ f, Is ((i 0).castLE hcore0) ((i 1).castLE hsub0) d arg10 f) ∗ (∃ f, Is ((i 0).castLE hcore0) ((i 1).castLE hsub0) d arg11 f) ∗ (∃ f, Is ((i 0).castLE hcore0) ((i 1).castLE hsub0) d arg12 f) ∗ (∃ f, Is ((i 0).castLE hcore0) ((i 1).castLE hsub0) d arg13 f) ∗ (∃ f, Is ((i 0).castLE hcore0) ((i 1).castLE hsub0) d arg16 f) ∗ (∃ f, Is ((i 0).castLE hcore0) ((i 1).castLE hsub0) d arg17 f) ∗ (∃ f, Is ((i 0).castLE hcore0) ((i 1).castLE hsub0) d arg18 f))
        ∗ (arg2.view.loc (thr ((i 0).castLE hcore0) ((i 1).castLE hsub0) d) ↦[arg2.view.set]{q} fa) ∗ (arg3.view.loc (thr ((i 0).castLE hcore0) ((i 1).castLE hsub0) d) ↦[arg3.view.set]{q} ft) ∗ (arg4.view.loc (thr ((i 0).castLE hcore0) ((i 1).castLE hsub0) d) ↦[arg4.view.set]{q} f4) ∗ (∃ g, ⌜∀ x : S1024.Idx, (halfOf i arg5).view.read (Elt F) g x
              = entry (arg2.view.read (Elt F) fa) (arg3.view.read (Elt F) ft) (arg4.view.read (Elt F) f4) (i 1).val (1024 * (i 0).val + (x 0).val)⌝ ∗ (halfOf i arg5).view.loc (thr ((i 0).castLE hcore0) ((i 1).castLE hsub0) d) ↦[(halfOf i arg5).view.set]{fullShare} g) ∗ (semVal ((thr ((i 0).castLE hcore0) ((i 1).castLE hsub0) d), .dma v146_r0.sem) 0 ∗ semVal ((thr ((i 0).castLE hcore0) ((i 1).castLE hsub0) d), .dma v146_r1.sem) 0 ∗ semVal ((thr ((i 0).castLE hcore0) ((i 1).castLE hsub0) d), .dma arg19.sem) 0 ∗ semVal ((thr ((i 0).castLE hcore0) ((i 1).castLE hsub0) d), .dma arg20.sem) 0) ∗ Grown ((i 0).castLE hcore0) ((i 1).castLE hsub0) d ι O W ∗ MayWaits (thr ((i 0).castLE hcore0) ((i 1).castLE hsub0) d) ι O)
            -∗ Q ⟨⟩)
        -∗ wp frame (wpE defs 𝒱 (thr ((i 0).castLE hcore0) ((i 1).castLE hsub0) d) bd) Set.univ (cc0__sc_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1) Q) := by
  obtain ⟨v29, h91⟩ := part91_eq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1
  have hc2 : (i 0).val < 2 := (i 0).isLt
  rw [cc0__sc_body_eq_skeleton]
  unfold cc0__sc_body_skel
  rw [h91]
  simp only [Prog.pure_eq_ret, Prog.bind_ret]
  iintro ⟨⟨H6, H7, H8, H9, H10, H11, H12, H13, H16, H17, H18⟩, H2, H3, H4, H5, ⟨Hr0, Hr1, H19, H20⟩, HG, HM⟩ Hk
  iapply (wp_p92 EC 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d v29 fa q) $$ [H6 H7 H8 H9 H10 H11 H2 Hr0 HG HM]
  · isplitl [H6]; · iexact H6
    isplitl [H7]; · iexact H7
    isplitl [H8]; · iexact H8
    isplitl [H9]; · iexact H9
    isplitl [H10]; · iexact H10
    isplitl [H11]; · iexact H11
    isplitl [H2]; · iexact H2
    isplitl [Hr0]; · iexact Hr0
    isplitl [HG]; · iexact HG
    iexact HM
  iintro %rv ⟨%hrv, HP, HC, H11, H2, Hr0, HG, HM⟩
  unfold Cntd
  icases HP with ⟨H6, H7, H10⟩
  iapply (wp_p93 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d (g := (gg rv (1024 * (i 0).val)))) $$ [H10 H11 H12]
  · isplitl [H10]; · iexact H10
    isplitl [H11]; · iexact H11
    iexact H12
  iintro ⟨H10, H11, H12⟩
  ihave HT := (Entails.of_eq (table_cut (Ix := Ix) (Name := Name) (U := U) (Lvl := Lvl) ((i 0).castLE hcore0) ((i 1).castLE hsub0) d arg3 ft q)) $$ H3
  iapply (wp_p94 EC 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d hcr (rv := rv) (B := (1024 * (i 0).val))) $$ [H10 H11 H12 H7 HC H13 H16 HT H19 HG HM]
  · isplitl [H10]; · iexact H10
    isplitl [H11]; · iexact H11
    isplitl [H12]; · iexact H12
    isplitl [H7]; · iexact H7
    isplitl [HC]; · iexact HC
    isplitl [H13]; · iexact H13
    isplitl [H16]; · iexact H16
    isplitl [HT]; · iexact HT
    isplitl [H19]; · iexact H19
    isplitl [HG]; · iexact HG
    iexact HM
  iintro %R %L ⟨%hRL, H7, H12, HI, H13, H9, HO⟩
  have hw₂ : k0_chk60 (BitVec.ofNat 32 (many (gg rv (1024 * (i 0).val)) 384)) := chk60_of ⟨many _ 384, Nat.lt_succ_of_le (many_le _ _)⟩
  iapply (wp_p95 EC 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d hcr (rv := rv) (B := (1024 * (i 0).val)) hRL hw₂) $$ [HI H13 H9 HO]
  · isplitl [HI]; · iexact HI
    isplitl [H13]; · iexact H13
    isplitl [H9]; · iexact H9
    iexact HO
  iintro %v ⟨HB, H9, HO⟩
  iapply (wp_out2 EC 𝒱 bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 v146_r0 v146_r1 d hcr 0#32 _ (rv := rv) (B := (1024 * (i 0).val)) (R := R) hRL.2.1 (L := L) hRL.2.2.1 hRL.2.2.2 hw₂) $$ [HB H9 HO]
  · isplitl [HB]; · iexact HB
    isplitl [H9]; · iexact H9
    iexact HO
  iintro ⟨HI, H13, H9, ⟨%Oa, %hOa, H16⟩⟩
  unfold Idle
  icases HI with ⟨H10, H11, H8, HT, H19, HG, HM⟩
  ihave H3 := (Entails.of_eq (table_cut (Ix := Ix) (Name := Name) (U := U) (Lvl := Lvl) ((i 0).castLE hcore0) ((i 1).castLE hsub0) d arg3 ft q).symm) $$ HT
  have hOa' : ∀ j < 1024, ¬((i 0).val = 1 ∧ j = 1023) → Oa j = entry (arg2.view.read (Elt F) fa) (arg3.view.read (Elt F) ft) (arg4.view.read (Elt F) f4) (i 1).val (1024 * (i 0).val + j) := fun j hj h => by
    rw [hOa j hj (lt_trans (slot_bound _ hj (gg_lt _ _ _)) (by decide))]
    exact entry_of _ _ hc2 hD hrv hj h
  have hh := half_one (i 0)
  simp only [Prog.bind_lift]
  by_cases hc : (i 0).val = 1
  · rw [dif_pos (hh.mpr hc)]
    have h0 : rv 0 = arg2.view.read (Elt F) fa (ixD (i 1).val 0) := hrv 0 (by omega)
    iapply (wp_patch EC 𝒱 bd i d arg4 arg6 arg16 arg17 arg18 arg20 f4 q (rv := rv) (Oa := Oa) (by rw [h0]; exact hD _) hcr18) $$ [H6 H17 H18 H16 H4 H20 HG HM]
    · isplitl [H6]; · iexact H6
      isplitl [H17]; · iexact H17
      isplitl [H18]; · iexact H18
      isplitl [H16]; · iexact H16
      isplitl [H4]; · iexact H4
      isplitl [H20]; · iexact H20
      isplitl [HG]; · iexact HG
      iexact HM
    iintro ⟨H6, H17, H18, H16, H4, H20, HG, HM⟩
    iapply (wp_halfOut EC 𝒱 bd i d arg5 arg16 v146_r1 (fun j => if j = 1023 then arg4.view.read (Elt F) f4 (ixP (rv 0).toNat) else Oa j) fo) $$ [H16 H5 Hr1 HG HM]
    · isplitl [H16]; · iexact H16
      isplitl [H5]; · iexact H5
      isplitl [Hr1]; · iexact Hr1
      isplitl [HG]; · iexact HG
      iexact HM
    iintro ⟨H16, ⟨%g, %hg, H5⟩, Hr1, HG, HM⟩
    rw [← Prog.pure_eq_ret]
    rw [wp_pure]
    imodintro
    iapply Hk
    isplitl [H6 H7 H8 H9 H10 H11 H12 H13 H16 H17 H18]
    · isplitl [H6]; · iexists _; iexact H6
      isplitl [H7]
      · unfold Fib
        icases H7 with ⟨%L7, %_, H7⟩
        iexists _; iexact H7
      isplitl [H8]; · iexists _; iexact H8
      isplitl [H9]; · iexists _; iexact H9
      isplitl [H10]; · iexists _; iexact H10
      isplitl [H11]; · iexists _; iexact H11
      isplitl [H12]; · iexact H12
      isplitl [H13]; · iexact H13
      isplitl [H16]; · iexists _; iexact H16
      isplitl [H17]; · iexact H17
      iexact H18
    isplitl [H2]; · iexact H2
    isplitl [H3]; · iexact H3
    isplitl [H4]; · iexact H4
    isplitl [H5]
    · iexists g
      isplitr [H5]; swap; · iexact H5
      ipureintro
      intro x
      have hx : (x 0).val < 1024 := (x 0).isLt
      rw [hg]
      by_cases hj : (x 0).val = 1023
      · rw [if_pos hj, h0]
        unfold entry
        rw [if_pos (by omega)]
      · rw [if_neg hj]
        exact hOa' _ hx (fun h => hj h.2)
    isplitl [Hr0 Hr1 H19 H20]
    · isplitl [Hr0]; · iexact Hr0
      isplitl [Hr1]; · iexact Hr1
      isplitl [H19]; · iexact H19
      iexact H20
    isplitl [HG]; · iexact HG
    iexact HM
  · rw [dif_neg (fun h => hc (hh.mp h))]
    iapply (wp_halfOut EC 𝒱 bd i d arg5 arg16 v146_r1 (Oa) fo) $$ [H16 H5 Hr1 HG HM]
    · isplitl [H16]; · iexact H16
      isplitl [H5]; · iexact H5
      isplitl [Hr1]; · iexact Hr1
      isplitl [HG]; · iexact HG
      iexact HM
    iintro ⟨H16, ⟨%g, %hg, H5⟩, Hr1, HG, HM⟩
    rw [← Prog.pure_eq_ret]
    rw [wp_pure]
    imodintro
    iapply Hk
    isplitl [H6 H7 H8 H9 H10 H11 H12 H13 H16 H17 H18]
    · isplitl [H6]; · iexists _; iexact H6
      isplitl [H7]
      · unfold Fib
        icases H7 with ⟨%L7, %_, H7⟩
        iexists _; iexact H7
      isplitl [H8]; · iexists _; iexact H8
      isplitl [H9]; · iexists _; iexact H9
      isplitl [H10]; · iexists _; iexact H10
      isplitl [H11]; · iexists _; iexact H11
      isplitl [H12]; · iexact H12
      isplitl [H13]; · iexact H13
      isplitl [H16]; · iexists _; iexact H16
      isplitl [H17]; · iexact H17
      iexact H18
    isplitl [H2]; · iexact H2
    isplitl [H3]; · iexact H3
    isplitl [H4]; · iexact H4
    isplitl [H5]
    · iexists g
      isplitr [H5]; swap; · iexact H5
      ipureintro
      intro x
      have hx : (x 0).val < 1024 := (x 0).isLt
      rw [hg]
      exact hOa' _ hx (fun h => hc h.1)
    isplitl [Hr0 Hr1 H19 H20]
    · isplitl [Hr0]; · iexact Hr0
      isplitl [Hr1]; · iexact Hr1
      isplitl [H19]; · iexact H19
      iexact H20
    isplitl [HG]; · iexact HG
    iexact HM

end

end Cert.Proof.Tile
-- ==== Proof.Deal.lean ====
/-
  The SparseCore call: what the TensorCore hands each of the thirty-two tiles and what it gets back.
-/
module

public import proofs.«01_k».proof.Proof.Body
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Deal

open Cert.KernelIdeal Cert.KernelIdeal.Gen Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the call's handshakes, the reduction's staging, the tiles' transfers -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The copy the reduction's staging uses. -/
def EP : Emb UP (MT nD τ sig (HIx 1) (Elt F) ℕ UU ℕ) := (Emb.inl : Emb UP (UP × Counters)).trans embR
instance EP_lands : (EP (F := F)).LandsIn (upEmb : UEmb _ 𝕄) := by unfold EP; infer_instance
/-- The copy the tiles' transfers use. -/
abbrev EC : UEmb Counters (MT nD τ sig (HIx 1) (Elt F) ℕ UU ℕ) := countersEmb
instance EC_lands : (EC (F := F)).LandsIn (upEmb : UEmb _ 𝕄) := by unfold EC countersEmb; infer_instance

/-! ## The buffers at launch -/

variable (m : (ℓ : Loc nD τ sig) → Buf (Elt F) ℓ)

abbrev aLoc (d : Dev nD) : Loc nD τ sig := (SparseCore.T d).loc main_arg0
abbrev pLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v0

/-- What the call leaves: entry `t` of row `b`, everywhere. -/
def outV (d : Dev nD) : Buf (Elt F) (oLoc d) := fun j : S16x2048.Idx =>
  entry (E := Elt F .f32) (m (aLoc d)) (m (tLoc d)) (m (pLoc d)) (j 0).val (j 1).val

/-! ## Shares -/

/-- A share falls into any power of two of pieces. -/
theorem exists_shares : ∀ (n : ℕ) (q : PosShare TreeShare), ∃ s : Fin (2 ^ n) → PosShare TreeShare,
    ∀ (ℓ : Loc nD τ sig) (I : Finset (Idx ℓ)) (f : Buf (Elt F) ℓ), (ℓ ↦[I]{q} f : sProp 𝕄) = bigSep Finset.univ fun i => ℓ ↦[I]{s i} f := by
  intro n
  induction n with
  | zero => exact fun q => ⟨fun _ => q, fun ℓ I f => (bigSep_univ_of_subsingleton (0 : Fin 1) (Φ := fun _ : Fin (2 ^ 0) => (ℓ ↦[I]{q} f : sProp 𝕄))).symm⟩
  | succ n ih =>
    intro q
    obtain ⟨sl, hl⟩ := ih q.left
    obtain ⟨sr, hr⟩ := ih q.right
    have e : Fin (2 ^ n) ⊕ Fin (2 ^ n) ≃ Fin (2 ^ (n + 1)) := finSumFinEquiv.trans (finCongr (by omega))
    refine ⟨fun i => Sum.elim sl sr (e.symm i), fun ℓ I f => ?_⟩
    rw [bigSep_univ_equiv e, bigSep_univ_sum]
    simp only [Equiv.symm_apply_apply, Sum.elim_inl, Sum.elim_inr]
    rw [← hl ℓ I f, ← hr ℓ I f]
    exact BI.Entails.antisymm (pointsTo_share (PosShare.mem_left_op_right q)).1 (pointsTo_share (PosShare.mem_left_op_right q)).2

/-- Thirty-two pieces of the full share, one for each tile. -/
theorem exists_tile_shares : ∃ s : Fin 2 × Fin 16 → PosShare TreeShare,
    ∀ (ℓ : Loc nD τ sig) (I : Finset (Idx ℓ)) (f : Buf (Elt F) ℓ), (ℓ ↦[I]{fullShare} f : sProp 𝕄) = bigSep Finset.univ fun ci => ℓ ↦[I]{s ci} f := by
  obtain ⟨s, h⟩ := exists_shares (F := F) 5 fullShare
  have e : Fin 2 × Fin 16 ≃ Fin (2 ^ 5) := Fintype.equivOfCardEq (by simp)
  exact ⟨fun ci => s (e ci), fun ℓ I f => (h ℓ I f).trans (bigSep_univ_equiv e _)⟩

/-- Tile `ci`'s. -/
def sh (ci : Fin 2 × Fin 16) : PosShare TreeShare := Classical.choose (exists_tile_shares (F := F)) ci
theorem sh_spec (ℓ : Loc nD τ sig) (I : Finset (Idx ℓ)) (f : Buf (Elt F) ℓ) :
    (ℓ ↦[I]{fullShare} f : sProp 𝕄) = bigSep Finset.univ fun ci => ℓ ↦[I]{sh (F := F) ci} f :=
  Classical.choose_spec (exists_tile_shares (F := F)) ℓ I f

/-! ## The result's halves of rows -/

/-- The half row tile `ci` writes. -/
def hset (ci : Fin 2 × Fin 16) : Finset S16x2048.Idx := Finset.univ.filter fun j => (j 0).val = ci.2.val ∧ (j 1).val / 1024 = ci.1.val

theorem hset_disjoint : ∀ a ∈ (Finset.univ : Finset (Fin 2 × Fin 16)), ∀ b ∈ (Finset.univ : Finset (Fin 2 × Fin 16)), a ≠ b → Disjoint (hset a) (hset b) := by
  intro a _ b _ h
  rw [Finset.disjoint_left]
  intro j ha hb
  obtain ⟨a1, a2⟩ := (Finset.mem_filter.mp ha).2
  obtain ⟨b1, b2⟩ := (Finset.mem_filter.mp hb).2
  exact h (Prod.ext (Fin.ext (by omega)) (Fin.ext (by omega)))

theorem hset_cover : (Finset.univ : Finset (Fin 2 × Fin 16)).biUnion hset = Finset.univ := by
  ext j
  have h0 : (j 0).val < 16 := (j 0).isLt
  have h1 : (j 1).val < 2048 := (j 1).isLt
  simp only [Finset.mem_biUnion, Finset.mem_univ, true_and, iff_true]
  exact ⟨(⟨(j 1).val / 1024, by omega⟩, ⟨(j 0).val, h0⟩), Finset.mem_filter.mpr ⟨Finset.mem_univ _, rfl, rfl⟩⟩

theorem out_halves (d : Dev nD) (f : Buf (Elt F) (oLoc d)) :
    (oLoc d ↦{fullShare} f : sProp 𝕄) = bigSep Finset.univ fun ci => oLoc d ↦[hset ci]{fullShare} f := by
  rw [← pointsTo_biUnion Finset.univ (ℓ := oLoc d) hset hset_disjoint, hset_cover]; try rfl

/-! ## What a tile is handed and hands back -/

/-- Its pieces of the three arguments and its half row of the result, at contents `f`. -/
abbrev piece (d : Dev nD) (f : Buf (Elt F) (oLoc d)) (ci : Fin 2 × Fin 16) : sProp 𝕄 :=
  iprop((aLoc d ↦{sh (F := F) ci} m (aLoc d)) ∗ (tLoc d ↦{sh (F := F) ci} m (tLoc d)) ∗ (pLoc d ↦{sh (F := F) ci} m (pLoc d)) ∗ oLoc d ↦[hset ci]{fullShare} f)

theorem pieces (d : Dev nD) (f : Buf (Elt F) (oLoc d)) :
    (iprop((aLoc d ↦{fullShare} m (aLoc d)) ∗ (tLoc d ↦{fullShare} m (tLoc d)) ∗ (pLoc d ↦{fullShare} m (pLoc d)) ∗ oLoc d ↦{fullShare} f) : sProp 𝕄)
      = bigSep Finset.univ fun c : Fin 2 => bigSep Finset.univ fun i : Fin 16 => piece m d f (c, i) := by
  rw [← bigSep_univ_prod (fun ci => piece m d f ci), bigSep_sep', bigSep_sep', bigSep_sep', ← sh_spec, ← sh_spec, ← sh_spec, ← out_halves]

abbrev cu (c : Fin ((K (F := F)).nCore 0)) (i : Fin ((K (F := F)).nSub 0)) : Fin 2 × Fin 16 := (Fin.cast nCore_zero c, Fin.cast nSub_zero i)

/-- The call's payloads: out, the pieces over the result as launched; back, the pieces over the finished result. -/
def P : (K (F := F)).Pay (nD := nD) (Val := Elt F) (Name := ℕ) (U := UU) where
  st := fun q d c => match q with | 0 => bigSep Finset.univ fun i => piece m d (m (oLoc d)) (cu c i)
  dn := fun q d c => match q with | 0 => bigSep Finset.univ fun i => piece m d (outV m d) (cu c i)
  go := fun q d c i => match q with | 0 => piece m d (m (oLoc d)) (cu c i)
  td := fun q d c i => match q with | 0 => piece m d (outV m d) (cu c i)
  x := fun _ _ => iprop(emp)

instance P_storable : (P (F := F) m).IsStorable where
  st q d c := match q with
    | 0 => (inferInstance : BI.Storable (upEmb : UEmb _ 𝕄) (bigSep Finset.univ fun i => piece m d (m (oLoc d)) (cu c i)))
  dn q d c := match q with
    | 0 => (inferInstance : BI.Storable (upEmb : UEmb _ 𝕄) (bigSep Finset.univ fun i => piece m d (outV m d) (cu c i)))
  go q d c i := match q with
    | 0 => (inferInstance : BI.Storable (upEmb : UEmb _ 𝕄) (piece m d (m (oLoc d)) (cu c i)))
  td q d c i := match q with
    | 0 => (inferInstance : BI.Storable (upEmb : UEmb _ 𝕄) (piece m d (outV m d) (cu c i)))

theorem vecSplit [FloatOps F] : (K (F := F)).VecSplit' (P m) 0 := by
  intro d c
  show (bigSep Finset.univ fun i => piece m d (m (oLoc d)) (cu c i)) ⊢ |={Set.univ}=> iprop(
      (bigSep Finset.univ fun i => piece m d (m (oLoc d)) (cu c i))
      ∗ ((bigSep Finset.univ fun i => piece m d (outV m d) (cu c i)) -∗ bigSep Finset.univ fun i => piece m d (outV m d) (cu c i)))
  iintro H; imodintro
  isplitl [H]; · iexact H
  iintro H; iexact H

/-- What the proof asks of the launch memory: every state of `data` is below 8192. -/
def PreOK : Prop := ∀ (d : Dev nD) (j : S16x2048.Idx), ((m (aLoc d) j : BitVec 32)).toNat < 8192

end Cert.Proof.Deal

end
-- ==== Proof.Task.lean ====
/-
  Each tile's obligation: from its pieces it runs to the end and leaves its half row finished.
-/
module

public import proofs.«01_k».proof.Proof.Deal

@[expose] public section

noncomputable section

namespace Cert.Proof.Deal

open Cert.KernelIdeal Cert.KernelIdeal.Gen Cert.Proof.Tile Cert.Proof.Steps

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (d : Dev nD)

/-! ## The tile's own buffers and semaphores -/

/-- The scratch arrays the program uses. -/
def used : Finset (Ref sig .scVector) :=
  {cc0_scratch0, cc0_scratch1, cc0_scratch2, cc0_scratch3, cc0_scratch4, cc0_scratch5, cc0_scratch6, cc0_scratch7, cc0_scratch10, cc0_scratch11, cc0_scratch12}

/-- A scratch array held at something. -/
abbrev some' (c : Fin τ.nSC) (i : Fin τ.nSub) (b : Ref sig .scVector) : sProp 𝕄 := iprop(∃ f, (V d c i).loc b ↦{fullShare} f)

theorem used_sep (Φ : Ref sig .scVector → sProp 𝕄) :
    bigSep used Φ = iprop(Φ cc0_scratch0 ∗ Φ cc0_scratch1 ∗ Φ cc0_scratch2 ∗ Φ cc0_scratch3 ∗ Φ cc0_scratch4 ∗ Φ cc0_scratch5 ∗ Φ cc0_scratch6
      ∗ Φ cc0_scratch7 ∗ Φ cc0_scratch10 ∗ Φ cc0_scratch11 ∗ Φ cc0_scratch12) := by
  unfold used
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem ownBufs_cut (c : Fin τ.nSC) (i : Fin τ.nSub) :
    (ownBufs (V d c i) : sProp 𝕄)
      = iprop((some' d c i cc0_scratch0 ∗ some' d c i cc0_scratch1 ∗ some' d c i cc0_scratch2 ∗ some' d c i cc0_scratch3 ∗ some' d c i cc0_scratch4
          ∗ some' d c i cc0_scratch5 ∗ some' d c i cc0_scratch6 ∗ some' d c i cc0_scratch7 ∗ some' d c i cc0_scratch10 ∗ some' d c i cc0_scratch11 ∗ some' d c i cc0_scratch12)
          ∗ bigSep (ownRefs (τ := τ) (.scVector c i) \ used.map ⟨(Proc.scVector c i).devRef, Proc.devRef_injective _⟩)
              fun b => iprop(∃ f, ((d, b) : Loc nD τ sig) ↦{fullShare} f)) := by
  unfold SparseCore.Cfg.ownBufs
  rw [SparseCore.bigSep_sdiff_split' (t := used.map ⟨(Proc.scVector c i).devRef, Proc.devRef_injective _⟩) (by
    intro b hb
    obtain ⟨r, hr, rfl⟩ := Finset.mem_map.mp hb
    refine SparseCore.Cfg.mem_ownRefs_of_owner (p := Proc.scVector c i) (b := (Proc.scVector c i).devRef r) ?_
    unfold used at hr
    simp only [Finset.mem_insert, Finset.mem_singleton] at hr
    rcases hr with rfl | rfl | rfl | rfl | rfl | rfl | rfl | rfl | rfl | rfl | rfl <;> rfl), BI.bigSep_map]
  exact congrArg (fun X : sProp 𝕄 => iprop(X ∗ _)) (used_sep (fun b => some' d c i b))

/-- The semaphores the program uses. -/
def usedSems : Finset (SemLoc sig) := {.dma cc0_scoped0.sem, .dma cc0_scoped1.sem, .dma cc0_scratch13.sem, .dma cc0_scratch14.sem}

theorem ownSems_cut (c : Fin τ.nSC) (i : Fin τ.nSub) :
    (ownSems0 (V d c i) : sProp 𝕄)
      = iprop((semVal (V d c i, .dma cc0_scoped0.sem) 0 ∗ semVal (V d c i, .dma cc0_scoped1.sem) 0 ∗ semVal (V d c i, .dma cc0_scratch13.sem) 0 ∗ semVal (V d c i, .dma cc0_scratch14.sem) 0)
          ∗ bigSep (ownCells (V d c i) \ usedSems.map ⟨fun sm => ((V d c i, sm) : GSem nD τ sig), fun _ _ h => (Prod.ext_iff.mp h).2⟩) fun g => semVal g 0) := by
  unfold SparseCore.Cfg.ownSems0
  rw [SparseCore.bigSep_sdiff_split' (t := usedSems.map ⟨fun sm => ((V d c i, sm) : GSem nD τ sig), fun _ _ h => (Prod.ext_iff.mp h).2⟩) (by
    intro g hg
    obtain ⟨sm, hsm, rfl⟩ := Finset.mem_map.mp hg
    refine mem_ownCells.mpr ⟨rfl, ?_⟩
    unfold usedSems at hsm
    simp only [Finset.mem_insert, Finset.mem_singleton] at hsm
    show sm.isScoped .scVector = true
    rcases hsm with rfl | rfl | rfl | rfl <;> decide), BI.bigSep_map]
  congr 1
  unfold usedSems
  rw [SparseCore.bigSep_insert' (by decide), SparseCore.bigSep_insert' (by decide), SparseCore.bigSep_insert' (by decide), bigSep_singleton]
  rfl

/-- An array held whole, as the program's steps say it. -/
theorem is_of_some (c : Fin τ.nSC) (i : Fin τ.nSub) {s : Shape} {e : EltTy} (r : Memref sig .scVector .vmem s e) (h : r.view.set = Finset.univ) :
    (iprop(∃ g : Buf (Elt F) (r.view.loc (V d c i)), r.view.loc (V d c i) ↦{fullShare} g) : sProp 𝕄) = iprop(∃ f, Is c i d r f) := by
  unfold Is
  rw [h]
  refine BI.Entails.antisymm ?_ ?_
  · show (_ : sProp 𝕄) ⊢ _
    iintro ⟨%g, H⟩
    iexists _; iexists g
    isplitr; · ipureintro; rfl
    iexact H
  · show (_ : sProp 𝕄) ⊢ _
    iintro ⟨%f, %g, -, H⟩
    iexists g; iexact H

/-- An argument held whole, as the program's steps say it. -/
theorem whole_held (c : Fin τ.nSC) (i : Fin τ.nSub) (b : Ref sig .scVector) (q : PosShare TreeShare) (f : Buf (Elt F) ((V d c i).loc b)) :
    ((V d c i).loc b ↦{q} f : sProp 𝕄) = ((Memref.whole b).view.loc (V d c i) ↦[(Memref.whole b).view.set]{q} f) := by
  rw [View.set_whole]

abbrev oV : Memref sig .scVector .hbm S16x2048 .f32 := Memref.whole main_v0_scv

variable (L : grid0.Coords)

abbrev cV : Fin τ.nSC := (L 0).castLE hcore0
abbrev jV : Fin τ.nSub := (L 1).castLE hsub0
theorem bound_zero : grid0.bound 0 = 2 := rfl
theorem bound_one : grid0.bound 1 = 16 := rfl
abbrev ciL : Fin 2 × Fin 16 := (Fin.cast bound_zero (L 0), Fin.cast bound_one (L 1))

theorem halfOf_set : (halfOf L oV).view.set = hset (ciL L) := by
  have hc : (L 0).val < 2 := (L 0).isLt
  refine Finset.ext fun (j : S16x2048.Idx) => ?_
  have h1 : (j 1).val < 2048 := (j 1).isLt
  constructor
  · intro h
    obtain ⟨x, -, rfl⟩ := Finset.mem_map.mp h
    have hx : (x 0).val < 1024 := (x 0).isLt
    have e : (halfOf L oV).view.emb x = ixD (L 1).val (1024 * (L 0).val + (x 0).val) := halfOf_emb L x
    rw [e]
    refine Finset.mem_filter.mpr ⟨Finset.mem_univ _, ?_, ?_⟩
    · show (L 1).val % 16 = (L 1).val
      exact Nat.mod_eq_of_lt (L 1).isLt
    · show (1024 * (L 0).val + (x 0).val) % 2048 / 1024 = (L 0).val
      omega
  · intro h
    obtain ⟨h0, h2⟩ := (Finset.mem_filter.mp h).2
    have h2' : (j 1).val / 1024 = (L 0).val := h2
    have h0' : (j 0).val = (L 1).val := h0
    refine Finset.mem_map.mpr ⟨(fun a => match a with | ⟨0, _⟩ => ⟨(j 1).val - 1024 * (L 0).val, (show (j 1).val - 1024 * (L 0).val < 1024 by have h3 : (j 1).val / 1024 = (L 0).val := h2; omega)⟩ : S1024.Idx), Finset.mem_univ _, ?_⟩
    refine (halfOf_emb L _).trans ?_
    funext a
    match a with
    | ⟨0, _⟩ => exact Fin.ext (by show (L 1).val % 16 = (j 0).val; rw [h0']; exact Nat.mod_eq_of_lt (L 1).isLt)
    | ⟨1, _⟩ => exact Fin.ext (by show (1024 * (L 0).val + ((j 1).val - 1024 * (L 0).val)) % 2048 = (j 1).val; omega)

/-- A half row with the right entries is the finished result's. -/
theorem half_done [FloatOps F] {g : Buf (Elt F) (oLoc d)}
    (h : ∀ x : S1024.Idx, (halfOf L oV).view.read (Elt F) g x = entry (E := Elt F .f32) (m (aLoc d)) (m (tLoc d)) (m (pLoc d)) (L 1).val (1024 * (L 0).val + (x 0).val)) :
    ((halfOf L oV).view.loc (V d (cV L) (jV L)) ↦[(halfOf L oV).view.set]{fullShare} g : sProp 𝕄) = oLoc d ↦[hset (ciL L)]{fullShare} outV m d := by
  have hc : (L 0).val < 2 := (L 0).isLt
  rw [← halfOf_set L]
  refine pointsTo_congr fun j hj => ?_
  obtain ⟨x, -, rfl⟩ := Finset.mem_map.mp hj
  have hx : (x 0).val < 1024 := (x 0).isLt
  have e : (halfOf L oV).view.emb x = ixD (L 1).val (1024 * (L 0).val + (x 0).val) := halfOf_emb L x
  have h'' : g ((halfOf L oV).view.emb x) = _ := (cast_eq _ _).symm.trans (h x)
  rw [h'', e]
  unfold outV
  show _ = entry (E := Elt F .f32) _ _ _ ((L 1).val % 16) ((1024 * (L 0).val + (x 0).val) % 2048)
  rw [Nat.mod_eq_of_lt (show (L 1).val < 16 from (L 1).isLt), Nat.mod_eq_of_lt (by omega)]

/-- The program on the tile's arrays. -/
abbrev prog [FloatOps F] : Prog (TpuEff nD τ sig (Elt F) Λ₀ (.scVector (cV L) (jV L))) PUnit :=
  cc0__sc_body (F := F) L (Memref.whole main_arg0_scv) (Memref.isWhole_whole _) (Memref.whole main_arg2_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1

set_option maxHeartbeats 1000000 in
theorem tile_body [FloatOps F] (hpre : PreOK m) (O : CellTallies nD τ sig (HIx 1)) (W : Waits sig (HIx 1)) (hO : ∀ g, O g none = 0) :
    iprop(levAts (K (F := F)).L (K (F := F)).lev ∗ emp ∗ piece m d (m (oLoc d)) (ciL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (prog (F := F) L)
          fun _ => iprop(piece m d (outV m d) (ciL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems_cut, ownBufs_cut]
  iintro ⟨#Hlv, -, ⟨Ha, Ht, Hp, Ho⟩, ⟨⟨H6, H7, H8, H9, H10, H11, H12, H13, H16, H17, H18⟩, Hbufs⟩, ⟨Hsem, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  ihave H6' := (Entails.of_eq (is_of_some (F := F) d (cV L) (jV L) (Memref.whole cc0_scratch0) (View.set_whole _))) $$ H6
  ihave H7' := (Entails.of_eq (is_of_some (F := F) d (cV L) (jV L) (Memref.whole cc0_scratch1) (View.set_whole _))) $$ H7
  ihave H8' := (Entails.of_eq (is_of_some (F := F) d (cV L) (jV L) (Memref.whole cc0_scratch2) (View.set_whole _))) $$ H8
  ihave H9' := (Entails.of_eq (is_of_some (F := F) d (cV L) (jV L) (Memref.whole cc0_scratch3) (View.set_whole _))) $$ H9
  ihave H10' := (Entails.of_eq (is_of_some (F := F) d (cV L) (jV L) (Memref.whole cc0_scratch4) (View.set_whole _))) $$ H10
  ihave H11' := (Entails.of_eq (is_of_some (F := F) d (cV L) (jV L) (Memref.whole cc0_scratch5) (View.set_whole _))) $$ H11
  ihave H12' := (Entails.of_eq (is_of_some (F := F) d (cV L) (jV L) (Memref.whole cc0_scratch6) (View.set_whole _))) $$ H12
  ihave H13' := (Entails.of_eq (is_of_some (F := F) d (cV L) (jV L) (Memref.whole cc0_scratch7) (View.set_whole _))) $$ H13
  ihave H16' := (Entails.of_eq (is_of_some (F := F) d (cV L) (jV L) (Memref.whole cc0_scratch10) (View.set_whole _))) $$ H16
  ihave H17' := (Entails.of_eq (is_of_some (F := F) d (cV L) (jV L) (Memref.whole cc0_scratch11) (View.set_whole _))) $$ H17
  ihave H18' := (Entails.of_eq (is_of_some (F := F) d (cV L) (jV L) (Memref.whole cc0_scratch12) (View.set_whole _))) $$ H18
  ihave Ha' := (Entails.of_eq (whole_held (F := F) d (cV L) (jV L) main_arg0_scv (sh (F := F) (ciL L)) (m (aLoc d)))) $$ Ha
  ihave Ht' := (Entails.of_eq (whole_held (F := F) d (cV L) (jV L) main_arg2_scv (sh (F := F) (ciL L)) (m (tLoc d)))) $$ Ht
  ihave Hp' := (Entails.of_eq (whole_held (F := F) d (cV L) (jV L) main_arg1_scv (sh (F := F) (ciL L)) (m (pLoc d)))) $$ Hp
  ihave Ho' := (Entails.of_eq (show (oLoc d ↦[hset (ciL L)]{fullShare} m (oLoc d) : sProp 𝕄)
    = (halfOf L oV).view.loc (V d (cV L) (jV L)) ↦[(halfOf L oV).view.set]{fullShare} m (oLoc d) by rw [halfOf_set]; rfl)) $$ Ho
  iapply (wp_body (EC (F := F)) 𝒱₀ none L (Memref.whole main_arg0_scv) (Memref.isWhole_whole _) (Memref.whole main_arg2_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1 d (ι := (none : HIx 1)) (O := O) (W := W) (ft := m (tLoc d)) (m (aLoc d)) (m (pLoc d)) (sh (F := F) (ciL L)) (fun _ => rfl)
      (fun x => hpre d x) (by decide) (m (oLoc d))) $$ [H6' H7' H8' H9' H10' H11' H12' H13' H16' H17' H18' Ha' Ht' Hp' Ho' Hsem HO Hmw]
  · isplitl [H6' H7' H8' H9' H10' H11' H12' H13' H16' H17' H18']
    · isplitl [H6']; · iexact H6'
      isplitl [H7']; · iexact H7'
      isplitl [H8']; · iexact H8'
      isplitl [H9']; · iexact H9'
      isplitl [H10']; · iexact H10'
      isplitl [H11']; · iexact H11'
      isplitl [H12']; · iexact H12'
      isplitl [H13']; · iexact H13'
      isplitl [H16']; · iexact H16'
      isplitl [H17']; · iexact H17'
      iexact H18'
    isplitl [Ha']; · iexact Ha'
    isplitl [Ht']; · iexact Ht'
    isplitl [Hp']; · iexact Hp'
    isplitl [Ho']; · iexact Ho'
    isplitl [Hsem]; · iexact Hsem
    isplitl [HO]
    · unfold Cert.Proof.Fire.Grown
      iexists W
      isplitr; · ipureintro; exact fun p h => Or.inl h
      iexact HO
    iexact Hmw
  iintro ⟨⟨H6, H7, H8, H9, H10, H11, H12, H13, H16, H17, H18⟩, Ha, Ht, Hp, ⟨%g, %hg, Ho⟩, Hsem, HO⟩
  ihave Ho := (Entails.of_eq (half_done m d L hg)) $$ Ho
  ihave H6 := (Entails.of_eq (is_of_some (F := F) d (cV L) (jV L) (Memref.whole cc0_scratch0) (View.set_whole _)).symm) $$ H6
  ihave H7 := (Entails.of_eq (is_of_some (F := F) d (cV L) (jV L) (Memref.whole cc0_scratch1) (View.set_whole _)).symm) $$ H7
  ihave H8 := (Entails.of_eq (is_of_some (F := F) d (cV L) (jV L) (Memref.whole cc0_scratch2) (View.set_whole _)).symm) $$ H8
  ihave H9 := (Entails.of_eq (is_of_some (F := F) d (cV L) (jV L) (Memref.whole cc0_scratch3) (View.set_whole _)).symm) $$ H9
  ihave H10 := (Entails.of_eq (is_of_some (F := F) d (cV L) (jV L) (Memref.whole cc0_scratch4) (View.set_whole _)).symm) $$ H10
  ihave H11 := (Entails.of_eq (is_of_some (F := F) d (cV L) (jV L) (Memref.whole cc0_scratch5) (View.set_whole _)).symm) $$ H11
  ihave H12 := (Entails.of_eq (is_of_some (F := F) d (cV L) (jV L) (Memref.whole cc0_scratch6) (View.set_whole _)).symm) $$ H12
  ihave H13 := (Entails.of_eq (is_of_some (F := F) d (cV L) (jV L) (Memref.whole cc0_scratch7) (View.set_whole _)).symm) $$ H13
  ihave H16 := (Entails.of_eq (is_of_some (F := F) d (cV L) (jV L) (Memref.whole cc0_scratch10) (View.set_whole _)).symm) $$ H16
  ihave H17 := (Entails.of_eq (is_of_some (F := F) d (cV L) (jV L) (Memref.whole cc0_scratch11) (View.set_whole _)).symm) $$ H17
  ihave H18 := (Entails.of_eq (is_of_some (F := F) d (cV L) (jV L) (Memref.whole cc0_scratch12) (View.set_whole _)).symm) $$ H18
  ihave Ha := (Entails.of_eq (whole_held (F := F) d (cV L) (jV L) main_arg0_scv (sh (F := F) (ciL L)) (m (aLoc d))).symm) $$ Ha
  ihave Ht := (Entails.of_eq (whole_held (F := F) d (cV L) (jV L) main_arg2_scv (sh (F := F) (ciL L)) (m (tLoc d))).symm) $$ Ht
  ihave Hp := (Entails.of_eq (whole_held (F := F) d (cV L) (jV L) main_arg1_scv (sh (F := F) (ciL L)) (m (pLoc d))).symm) $$ Hp
  isplitl [Ha Ht Hp Ho]
  · isplitl [Ha]; · iexact Ha
    isplitl [Ht]; · iexact Ht
    isplitl [Hp]; · iexact Hp
    iexact Ho
  isplitl [H6 H7 H8 H9 H10 H11 H12 H13 H16 H17 H18 Hbufs]
  · isplitl [H6 H7 H8 H9 H10 H11 H12 H13 H16 H17 H18]
    · isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H16]; · iexact H16
      isplitl [H17]; · iexact H17
      iexact H18
    iexact Hbufs
  isplitl [Hsem Hsems]
  · isplitl [Hsem]; · iexact Hsem
    iexact Hsems
  unfold Cert.Proof.Fire.Grown
  icases HO with ⟨HO, -⟩
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__sc_body (F := F) (coordsV c s) (Memref.whole main_arg0_scv) (Memref.isWhole_whole _) (Memref.whole main_arg2_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [FloatOps F] (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hpre O W hO).trans (wp_mono frame _ _ fun _ => obl_post)

end Cert.Proof.Deal

end
-- ==== Proof.Reduce.lean ====
/-
  The reduction on the TensorCore: its body's run, its proof data, and its region over the thread's state.
-/
module

public import proofs.«01_k».proof.Proof.Task
public import proofs.«01_k».proof.Proof.Gen.KernelIdeal.Launch
public import Idealize.ShloMosaic.Lib.Pipeline.RegionsLoop

@[expose] public section

noncomputable section

namespace Cert.Proof.Deal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- What the memref's buffer holds on core `c`, and that buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the result's staging buffer, with the run that leaves it there. -/
noncomputable def reduceRun (c : Dev nD) (M0 : Memref sig .tc .vmem S16x2048 .f32) (h0 : M0.IsWhole) (M1 : Memref sig .tc .vmem S1x1 .f32) (h1 : M1.IsWhole)
    (f0 : Bf (F := F) c M0) :
    { W : Bf (F := F) c M1 // ∀ (f1 : Bf (F := F) c M1) (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) Variants.none c none) E (cc1__tc_reduce_body M0 h0 M1 h1) Q } := by
  refine ⟨?_, fun f1 E Q => ?run⟩
  case run =>
    iintro ⟨H0, H1, Hk⟩
    sl_exec!
    sl_step
    iapply Hk
    isplitl [H0]; · iexact H0
    iexact H1

variable (V : (c : Dev nD) → (b : Ref sig .tc) → Buf (Elt F) ((c : Thread nD τ).loc b))

/-- The entries as the fetch stages them. -/
abbrev stg (c : Dev nD) : (cfg1.win 0).block.Idx → Elt F (cfg1.win 0).elt :=
  ((cfg1.win 0).blk t1_0).view.read (Elt F) (V c main_v0)

/-- The run at the staged entries. -/
abbrev RR (c : Dev nD) := reduceRun (F := F) c (win1_0.stage 0) (hstage1_0 0) (win1_1.stage 0) (hstage1_1 0) (stg V c)

abbrev Φc (c : Dev nD) : sProp 𝕄 := Pipeline.scopedRest (Ix := HIx 1) (Name := ℕ) (U := UU) (Lvl := ℕ) (Val := Elt F) spec1 c

/-- What the thread's waits may have been. -/
def waited (c : Dev nD) : Set (SemLoc sig × HIx 1) := {p | (K (F := F)).lev ((SparseCore.T c : Thread nD τ), p.1) p.2 ≤ 8 * (SparseCore.Cfg.Blocks.fst (Q := 1) (N := 1) 1)}

/-- The proof data: the two arrays at entry, and what the body leaves in their staging buffers. -/
def dat (c : Dev nD) : Dat τ (Elt F) (HIx 1) ℕ UU ℕ cfg1 c where
  A w := V c (Pipeline.arrRef spec1 w)
  after w _ := match w with
    | ⟨0, _⟩ => stg V c
    | ⟨1, _⟩ => (RR V c).1
  Φ _ := Φc c
  q _ := fullShare
  owed _ := 0
  recorded _ := waited (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before_in (c : Dev nD) (d : (cfg1.win 0).block.Idx → Elt F (cfg1.win 0).elt) : (dat V c).before 0 t1_0 d = stg V c := by
  unfold Dat.before; rw [if_pos (by decide)]; rfl

theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = Φc c from rfl, show (dat V c).Φ t1_0.succ = Φc c from rfl,
    show (dat V c).owesAt none t1_0.succ = (dat V c).owesAt none t1_0.castSucc from rfl]
  iintro ⟨HΦ, Howes, ⟨%d0, %f0, %hf0, H0⟩, ⟨%d1, %f1, -, H1⟩⟩
  rw [before_in] at hf0
  subst hf0
  iapply ((RR V c).2 f1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

/-- The reduction's result, as its write-back leaves it. -/
def reduced (c : Dev nD) : Buf (Elt F) ((c : Thread nD τ).loc main_v1) := (dat V c).arrAt 1 cfg1.N

/-- The thread's state beside the buffers: nothing more owed, the waits recorded bounded. -/
abbrev owesD (c : Dev nD) : sProp 𝕄 :=
  iprop(∃ W, ⌜(K (F := F)).WBelow (SparseCore.T c) W (8 * (SparseCore.Cfg.Blocks.fst (Q := 1) (N := 1) 1))⌝ ∗ owes (SparseCore.T c : Thread nD τ) (0 : CellTallies nD τ sig (HIx 1)) W)

variable (Vp : (c : Dev nD) → (b : Ref sig .tc) → Buf (Elt F) ((c : Thread nD τ).loc b))

set_option backward.isDefEq.respectTransparency.types false in
/-- The region: from every buffer at `V`, to `V` with the reduction's result in its place. -/
def reg (hVp_out : ∀ c, Vp c main_v1 = reduced V c) (hVp_ne : ∀ c (b : Ref sig .tc), b ≠ main_v1 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesD c)
  post c := iprop(unscopedBufs c (Vp c) ∗ owesD c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v0 (by decide)).symm
        · exact (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.Proof.Deal

end
-- ==== Proof.Run.lean ====
/-
  The whole program's run: the call on the tiles, the reduction, the reshape; what the result then holds.
-/
module

public import proofs.«01_k».proof.Proof.Reduce

@[expose] public section

noncomputable section

namespace Cert.Proof.Deal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- What the launch deals each TensorCore for its reduction's staging. -/
abbrev G (d : Dev nD) : sProp 𝕄 :=
  iprop((bigSep Finset.univ fun p => Pipeline.cellsGhost (Pipeline.pin (pcfgs (F := F)) adm) (EP (F := F)) p d)
    ∗ bigSep Finset.univ fun p => Pipeline.toksInit (Pipeline.pin (pcfgs (F := F)) adm) (EP (F := F)) p d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H2 := (own_pair_emb (M' := 𝕄) embR (initOf (Pipeline.cells (Pipeline.pin (pcfgs (F := F)) adm) cellOf_inj) (Pipeline.launchToks (Pipeline.pin (pcfgs (F := F)) adm) cellOf_inj)) (1 : Counters)) $$ HR
  icases H2 with ⟨HP, -⟩
  ihave HP := (Entails.of_eq (show (BI.own (((Emb.inl : Emb UP (UP × Counters)).trans embR)
      (initOf (Pipeline.cells (Pipeline.pin (pcfgs (F := F)) adm) cellOf_inj) (Pipeline.launchToks (Pipeline.pin (pcfgs (F := F)) adm) cellOf_inj))) : sProp 𝕄)
    = BI.own (EP (F := F) (initOf (Pipeline.cells (Pipeline.pin (pcfgs (F := F)) adm) cellOf_inj) (Pipeline.launchToks (Pipeline.pin (pcfgs (F := F)) adm) cellOf_inj))) from rfl)) $$ HP
  imod (Pipeline.fund_ghost (Pipeline.pin (pcfgs (F := F)) adm) (EP (F := F)) cellOf_inj) $$ HP with ⟨Hc, Ht⟩
  imodintro
  isplitl [HH]; · iexact HH
  isplitl [Hc Ht]
  · rw [bigSep_sep']
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The buffers along the way -/

abbrev rLoc (d : Dev nD) : Loc nD τ sig := (SparseCore.T d).loc main_v2
abbrev sLoc (d : Dev nD) : Loc nD τ sig := (SparseCore.T d).loc main_v1

/-- Every buffer at launch, after the call on the tiles, after the reduction. -/
def W₀ (d : Dev nD) : Valuation τ sig (Elt F) := fun b => m (d, b)
def W₁ (d : Dev nD) : Valuation τ sig (Elt F) := Function.update (W₀ m d) (main_v0 : DevRef τ sig) (outV m d)
def red (d : Dev nD) : Buf (Elt F) (sLoc d) := reduced (fun c b => W₁ m c b) d
def W₂ (d : Dev nD) : Valuation τ sig (Elt F) := Function.update (W₁ m d) (main_v1 : DevRef τ sig) (red m d)
/-- The result. -/
def resV (d : Dev nD) : Buf (Elt F) (rLoc d) := fun i => shapeCast S_ (red m d) shapeCasts_S1x1_S_ i

theorem unscopedBufs_eq (d : Dev nD) (W : (b : Ref sig .tc) → Buf (Elt F) ((d.tc : Thread nD τ).loc b)) :
    (unscopedBufs d W : sProp 𝕄) = iprop((aLoc d ↦{fullShare} W main_arg0) ∗ (pLoc d ↦{fullShare} W main_arg1) ∗ (tLoc d ↦{fullShare} W main_arg2)
      ∗ (oLoc d ↦{fullShare} W main_v0) ∗ (sLoc d ↦{fullShare} W main_v1) ∗ rLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c)
    = iprop((aLoc d ↦{fullShare} m (aLoc d)) ∗ (tLoc d ↦{fullShare} m (tLoc d)) ∗ (pLoc d ↦{fullShare} m (pLoc d)) ∗ oLoc d ↦{fullShare} m (oLoc d)) :=
  (pieces m d (m (oLoc d))).symm
theorem dn0_eq (d : Dev nD) : (bigSep Finset.univ fun c : Fin ((K (F := F)).nCore 0) => (P m).dn 0 d c)
    = iprop((aLoc d ↦{fullShare} m (aLoc d)) ∗ (tLoc d ↦{fullShare} m (tLoc d)) ∗ (pLoc d ↦{fullShare} m (pLoc d)) ∗ oLoc d ↦{fullShare} outV m d) :=
  (pieces m d (outV m d)).symm

abbrev FIN (d : Dev nD) : sProp 𝕄 :=
  iprop((aLoc d ↦{fullShare} m (aLoc d)) ∗ (pLoc d ↦{fullShare} m (pLoc d)) ∗ (tLoc d ↦{fullShare} m (tLoc d)) ∗ rLoc d ↦{fullShare} resV m d)

abbrev reg₁ := reg (F := F) (fun c b => W₁ m c b) (fun c b => W₂ m c b)
  (fun c => Function.update_self _ _ _) (fun c b h => Function.update_of_ne (fun e => h (by revert e h; revert b; decide)) _ _)

theorem bufs₁ (d : Dev nD) : (unscopedBufs d (fun b => W₁ m d b) : sProp 𝕄)
    = iprop((aLoc d ↦{fullShare} m (aLoc d)) ∗ (pLoc d ↦{fullShare} m (pLoc d)) ∗ (tLoc d ↦{fullShare} m (tLoc d))
      ∗ (oLoc d ↦{fullShare} outV m d) ∗ (sLoc d ↦{fullShare} m (sLoc d)) ∗ rLoc d ↦{fullShare} m (rLoc d)) := by
  rw [unscopedBufs_eq]
  unfold W₁
  rw [Function.update_self, Function.update_of_ne (by decide), Function.update_of_ne (by decide), Function.update_of_ne (by decide), Function.update_of_ne (by decide), Function.update_of_ne (by decide)]
  rfl

theorem bufs₂ (d : Dev nD) : (unscopedBufs d (fun b => W₂ m d b) : sProp 𝕄)
    = iprop((aLoc d ↦{fullShare} m (aLoc d)) ∗ (pLoc d ↦{fullShare} m (pLoc d)) ∗ (tLoc d ↦{fullShare} m (tLoc d))
      ∗ (oLoc d ↦{fullShare} outV m d) ∗ (sLoc d ↦{fullShare} red m d) ∗ rLoc d ↦{fullShare} m (rLoc d)) := by
  rw [unscopedBufs_eq]
  unfold W₂
  rw [Function.update_self, Function.update_of_ne (by decide), Function.update_of_ne (by decide), Function.update_of_ne (by decide), Function.update_of_ne (by decide), Function.update_of_ne (by decide)]
  unfold W₁
  rw [Function.update_self, Function.update_of_ne (by decide), Function.update_of_ne (by decide), Function.update_of_ne (by decide), Function.update_of_ne (by decide)]
  rfl

set_option maxHeartbeats 1000000 in
/-- The reduction's region, run. -/
theorem region_run [∀ e, Nonempty (Elt F e)] (d : Dev nD) (Q : PUnit → sProp 𝕄) :
    iprop((iprop(boundary (SparseCore.T d) ∗ unscopedBufs d (fun b => W₂ m d b) ∗ owesD d) -∗ |={Set.univ}=> Q ⟨⟩)
        ∗ boundary (SparseCore.T d) ∗ (unscopedBufs d (fun b => W₁ m d b) ∗ owesD d) ∗ levAts (K (F := F)).L (K (F := F)).lev ∗ G (F := F) d)
      ⊢ wp frame (wpE (D (F := F)) 𝒱 (SparseCore.T d) none) Set.univ (Prog.op (.customCall (Pipeline.entry 0) ()) Prog.ret) Q := by
  have h := Pipeline.RegionSeg.wp (pcfgs (F := F)) adm (pdats (fun c b => W₁ m c b)) none cellOf_inj (EP (F := F)) defs₀ 𝒱₀ (K (F := F)).L (K (F := F)).lev (reg₁ m) d
    none (fun u hu => nomatch hu) Prog.ret Q
  refine BI.Entails.trans ?_ h
  show (_ : sProp 𝕄) ⊢ _
  iintro ⟨Hk, Hb, Hpre, Hlv, Hcg, Htk⟩
  isplitl [Hk]
  · iintro ⟨Hb, Hpost⟩
    ihave Hpost' := (Entails.of_eq (show ((reg₁ m).post d : sProp 𝕄) = iprop(unscopedBufs d (fun b => W₂ m d b) ∗ owesD d) from rfl)) $$ Hpost
    icases Hpost' with ⟨Hu, HO⟩
    rw [← Prog.pure_eq_ret, wp_pure]
    iapply Hk
    isplitl [Hb]; · iexact Hb
    isplitl [Hu]; · iexact Hu
    iexact HO
  isplitl [Hb]; · iexact Hb
  isplitl [Hpre]
  · ihave Hpre' := (Entails.of_eq (show (iprop(unscopedBufs d (fun b => W₁ m d b) ∗ owesD d) : sProp 𝕄) = (reg₁ m).pre d from rfl)) $$ Hpre
    iexact Hpre'
  isplitl [Hlv]; · iexact Hlv
  ihave Hcg' := (Entails.of_eq (bigSep_univ_of_subsingleton (0 : Fin 1))) $$ Hcg
  ihave Htk' := (Entails.of_eq (bigSep_univ_of_subsingleton (0 : Fin 1))) $$ Htk
  isplitl [Hcg']; · iexact Hcg'
  iexact Htk'

theorem inner_call : (Prog.lift (.customCall (SparseCore.inner (Pipeline.entry 0)) ()) : Prog (TpuEff nD τ sig (Elt F) (SparseCore.Sig (ΛP (F := F)) 1) .tc) _)
    = SparseCore.liftProg (Prog.op (.customCall (Pipeline.entry 0) ()) Prog.ret) := rfl

/-- The reduction's call, from the buffers after the call on the tiles. -/
theorem reduce_call [∀ e, Nonempty (Elt F e)] (d : Dev nD) (Q : PUnit → sProp 𝕄) :
    iprop((iprop(boundary (SparseCore.T d) ∗ unscopedBufs d (fun b => W₂ m d b) ∗ owesD d) -∗ |={Set.univ}=> Q ⟨⟩)
        ∗ boundary (SparseCore.T d) ∗ (unscopedBufs d (fun b => W₁ m d b) ∗ owesD d) ∗ levAts (K (F := F)).L (K (F := F)).lev ∗ G (F := F) d)
      ⊢ wp frame (wpE ((K (F := F)).defs (D (F := F))) 𝒱 (SparseCore.T d) none) Set.univ (Prog.lift (.customCall (SparseCore.inner (Pipeline.entry 0)) ())) Q := by
  rw [inner_call]
  exact BI.Entails.trans (region_run m d Q) ((K (F := F)).wp_liftProg (D (F := F)) 𝒱 (SparseCore.T d) Set.univ none (Prog.op (.customCall (Pipeline.entry 0) ()) Prog.ret) Q)

theorem tcSt_one (d : Dev nD) : ((K (F := F)).tcSt EH d 1 : sProp 𝕄) ⊢ iprop(owesD (F := F) d ∗ (owesD (F := F) d -∗ (K (F := F)).tcSt EH d 1)) := by
  unfold SparseCore.Cfg.tcSt
  rw [show (K (F := F)).Otc d 1 = 0 from (K (F := F)).Otc_end d le_rfl]
  iintro ⟨HO, Hrest⟩
  isplitl [HO]; · iexact HO
  iintro HO
  isplitl [HO]; · iexact HO
  iexact Hrest

/-- The reshape's two buffers. -/
abbrev op : HloOp τ sig (Elt F) := StableHlo.reshape main_v1 main_v2 (rfl : (.f32 : EltTy) = .f32) shapeCasts_S1x1_S_

theorem op_bufs (d : Dev nD) (W : Valuation τ sig (Elt F)) :
    (bigSep (op (F := F)).bufs (fun b => ((d, b) : Loc nD τ sig) ↦{fullShare} W b) : sProp 𝕄) = iprop((sLoc d ↦{fullShare} W main_v1) ∗ rLoc d ↦{fullShare} W main_v2) := by
  rw [show (op (F := F)).bufs = {(main_v1 : DevRef τ sig), (main_v2 : DevRef τ sig)} from rfl, SparseCore.bigSep_insert' (by decide), bigSep_singleton]
theorem W₂_s (d : Dev nD) : W₂ m d main_v1 = red m d := Function.update_self _ _ _
theorem W₂_r (d : Dev nD) : W₂ m d main_v2 = m (rLoc d) :=
  (Function.update_of_ne (by decide) _ _).trans (Function.update_of_ne (by decide) _ _)
theorem op_res (d : Dev nD) : (op (F := F)).result (W₂ m d) main_v2 = resV m d := by
  refine (StableHlo.reshape_result main_v1 main_v2 rfl shapeCasts_S1x1_S_ _ _ _).trans ?_
  rw [W₂_s]; rfl

set_option maxHeartbeats 1000000 in
/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hp, Ht, Ho, Hs, Hr⟩, Hts, -⟩, Hcg, Htk⟩
  iapply ((K (F := F)).wp_run (D (F := F)) 𝒱 (EH := EH) (P := P m) κ d 0) $$ [Hst Ha Hp Ht Ho Hs Hr Hb Hts Hcg Htk]
  isplitr; · iexact Hctx
  isplitl [Hst]; · iexact Hst
  isplitl [Ha Hp Ht Ho]
  · rw [st0_eq]
    isplitl [Ha]; · iexact Ha
    isplitl [Ht]; · iexact Ht
    isplitl [Hp]; · iexact Hp
    iexact Ho
  iintro ⟨Hst, Hdn⟩
  ihave Hdn' := (Entails.of_eq (dn0_eq m d)) $$ Hdn
  icases Hdn' with ⟨Ha, Ht, Hp, Ho⟩
  ihave #Hlv := (SparseCore.Cfg.ctx_levAts (K := K (F := F)) (EH := EH) (P := P m) κ) $$ Hctx
  ihave Hst' := (show ((K (F := F)).tcSt EH d ((0 : Fin 1).val + 1) : sProp 𝕄) ⊢ _ from tcSt_one d) $$ Hst
  icases Hst' with ⟨HO, Hst⟩
  iapply (reduce_call m d _)
  isplitr [Hb Ha Hp Ht Ho Hs Hr HO Hcg Htk]
  · iintro ⟨Hb, Hu, HO⟩
    ihave Hu' := (Entails.of_eq (bufs₂ m d)) $$ Hu
    icases Hu' with ⟨Ha, Hp, Ht, Ho, Hs, Hr⟩
    imodintro
    iapply (wp_hlo 𝒱 (SparseCore.T d) none Set.univ (q := fun _ => fullShare) (F := W₂ m d) (fun _ _ => rfl)) $$ [Hb Hs Hr]
    · isplitl [Hb]; · iexact Hb
      ihave H := (Entails.of_eq (op_bufs d (W₂ m d)).symm) $$ [Hs Hr]
      · rw [W₂_s, W₂_r]
        isplitl [Hs]; · iexact Hs
        iexact Hr
      iexact H
    iintro ⟨Hb, H⟩
    ihave H' := (Entails.of_eq (op_bufs d _)) $$ H
    icases H' with ⟨-, Hr⟩
    rw [op_res]
    rw [← Prog.pure_eq_ret, wp_pure]
    imodintro
    imodintro
    isplitl [Hst HO]
    · iapply Hst; iexact HO
    isplitl [Ha Hp Ht Hr]
    · isplitl [Ha]; · iexact Ha
      isplitl [Hp]; · iexact Hp
      isplitl [Ht]; · iexact Ht
      iexact Hr
    isplitl [Hb]; · iexact Hb
    iexact Hts
  isplitl [Hb]; · iexact Hb
  isplitl [Ha Hp Ht Ho Hs Hr HO]
  · rw [bufs₁]
    isplitr [HO]; swap; · iexact HO
    isplitl [Ha]; · iexact Ha
    isplitl [Hp]; · iexact Hp
    isplitl [Ht]; · iexact Ht
    isplitl [Ho]; · iexact Ho
    isplitl [Hs]; · iexact Hs
    iexact Hr
  isplitr; · iexact Hlv
  isplitl [Hcg]; · iexact Hcg
  iexact Htk

/-! ## The end -/

def fq (d : Dev nD) (s' : Phys nD τ sig (Elt F)) : Prop :=
  s'.mem.mem (aLoc d) = m (aLoc d) ∧ s'.mem.mem (pLoc d) = m (pLoc d) ∧ s'.mem.mem (tLoc d) = m (tLoc d) ∧ s'.mem.mem (rLoc d) = resV m d

theorem held_at (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨Ha, Hp, Ht, Hr⟩, HSI⟩
  ihave H := (held_at (aLoc d) _ s') $$ [Ha HSI]
  · isplitl [Ha] <;> iassumption
  icases H with ⟨%h1, HSI⟩
  ihave H := (held_at (pLoc d) _ s') $$ [Hp HSI]
  · isplitl [Hp] <;> iassumption
  icases H with ⟨%h2, HSI⟩
  ihave H := (held_at (tLoc d) _ s') $$ [Ht HSI]
  · isplitl [Ht] <;> iassumption
  icases H with ⟨%h3, HSI⟩
  ihave H := (held_at (rLoc d) _ s') $$ [Hr HSI]
  · isplitl [Hr] <;> iassumption
  icases H with ⟨%h4, HSI⟩
  ipureintro; exact ⟨h1, h2, h3, h4⟩

def QC : PUnit × MemSt nD τ sig (Elt F) → Prop := fun r =>
  (∀ d : Dev nD, r.2.mem (aLoc d) = m (aLoc d) ∧ r.2.mem (pLoc d) = m (pLoc d) ∧ r.2.mem (tLoc d) = m (tLoc d) ∧ r.2.mem (rLoc d) = resV m d) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Deal

end
-- ==== Proof.Frames.lean ====
/-
  The three frames: the kernel's by the run proved at any float type, the reference's by its host line.
-/
module

public import proofs.«01_k».proof.Defs
public import proofs.«01_k».proof.Proof.Gen.Kernel
public import proofs.«01_k».proof.Proof.Gen.ReferenceIdeal
public import proofs.«01_k».proof.Proof.Gen.Pre_in_range
public import proofs.«01_k».proof.Proof.Run
public import Idealize.ShloMosaic.Lib.ReduceAll
public import Idealize.ShloMosaic.Lib.Claim
public import Idealize.ShloMosaic.Lib.StableHlo.RunHlo

@[expose] public section

noncomputable section

namespace Cert.Proof.Deal

open Idealize.ShloMosaic Idealize.SL.Sem
open Idealize.ShloMosaic.TcCoe

/-- A word that is at least 0 and below 8192 as a signed number is below 8192. -/
theorem word_lt (v : BitVec 32) (e : IntOp.andi (IntOp.cmpi .sge v 0#32) (IntOp.cmpi .slt v 8192#32) = 1#1) : v.toNat < 8192 := by
  obtain ⟨h1, h2⟩ := IntOp.andi_eq_one.1 e
  simp only [IntOp.cmpi, WordArith.ofBool_eq_one_iff, BitVec.sle_eq_decide, BitVec.slt_eq_decide, decide_eq_true_eq,
    BitVec.toInt_eq_toNat_cond, BitVec.toNat_ofNat, Nat.reducePow, Nat.reduceMod] at h1 h2
  omega

/-- The precondition, read at one element of the token array. -/
theorem in_range_at {F : FTy → Type} [FloatOps F] (a : IVec Cert.Pre_in_range.S16x2048 32) (p : FVec F Cert.Pre_in_range.S8192 .f32)
    (t : FVec F Cert.Pre_in_range.S8192x8192 .f32) (h : Cert.Pre_in_range.fn (F := F) a p t = fun _ => 1#1)
    (j : Cert.Pre_in_range.S16x2048.Idx) : (a j).toNat < 8192 := by
  refine word_lt _ ?_
  haveI : Subsingleton Cert.Pre_in_range.S_.Idx := ⟨fun x y => funext fun k => k.elim0⟩
  exact Host.reduce_andi_all _ _ _ _ (fun k => k.elim0) (congrFun h _) j

section
variable {F : FTy → Type} [FloatOps F]
set_option maxHeartbeats 8000000 in
theorem cc0_eq : Cert.Kernel.cc0__sc_body (F := F) = Cert.KernelIdeal.cc0__sc_body (F := F) := rfl
theorem cc1_eq : Cert.Kernel.cc1__tc_reduce_body (F := F) = Cert.KernelIdeal.cc1__tc_reduce_body (F := F) := rfl

theorem defs₀_eq : Cert.Kernel.defs₀ (F := F) = Cert.KernelIdeal.defs₀ (F := F) := by
  funext c ℓ a
  match c, ℓ, a with
  | .scVector c s, 0, _ => rfl
  | .tc, 1, (t, s) => rfl
  | .scVector c s, 1, _ => rfl
  | .tc, 0, _ => rfl
  | .scScalar c, 0, _ => rfl
  | .scScalar c, 1, _ => rfl

theorem defs_eq : Cert.Kernel.defs (F := F) = Cert.KernelIdeal.defs (F := F) :=
  congrArg (fun D => Cert.KernelIdeal.sc.defs (Pipeline.defs Cert.KernelIdeal.pcfgs D)) defs₀_eq
end

theorem frame_kernel : Cert.quiescent_Kernel := by
  intro m ρ hpre
  have h := run_main (F := Bits) m ρ fun d j => in_range_at _ _ _ (hpre d) j
  rw [defs_eq]
  refine (θ_run Cert.KernelIdeal.defs _ _).mono ?_ h
  exact fun _ h => ⟨fun c => ⟨(h.1 c).1, (h.1 c).2.1, (h.1 c).2.2.1⟩, h.2⟩

theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ fun d j => in_range_at _ _ _ (hpre d) j)

theorem frame_ref : Cert.quiescent_ReferenceIdeal := by
  intro m g hpre
  hlo_run
  · exact fun c => ⟨trivial, trivial, trivial⟩
  · exact sem_eq_zero_of_no_sems (by decide) _

end Cert.Proof.Deal

end
-- ==== Proof.Reduced.lean ====
/-
  What the reduction leaves in its result: the body's one stored vector, at the entries as they stand in the array.
-/
module

public import proofs.«01_k».proof.Proof.Run
public import Idealize.ShloMosaic.Lib.Pipeline.ValueKit

@[expose] public section

noncomputable section

namespace Cert.Proof.Deal

open Cert.KernelIdeal Cert.KernelIdeal.Gen

open Idealize.ShloMosaic
open Idealize.ShloMosaic.TcCoe
open Idealize.ShloMosaic.Pipeline (Dat Cfg Window BodyObligation cellOf)

variable {F : FTy → Type} [FloatOps F]

variable (V : (c : Dev nD) → (b : Ref sig .tc) → Buf (Elt F) ((c : Thread nD τ).loc b))

theorem stg_eq (c : Dev nD) : stg V c = V c main_v0 := by
  funext j
  unfold stg
  blk_simp
  refine congrArg (V c main_v0) ?_
  show (win1_0.rect t1_0).emb j = j
  funext a
  apply Fin.ext
  rw [Window.rect_emb_val_of_index_zero]
  fin_cases a <;> rfl

theorem reduced_eq (c : Dev nD) : reduced V c = k1_pay1 (V c main_v0) := by
  unfold reduced
  refine (dat V c).arrAt_eq_of_after_last 1 t1_0 (by decide +kernel) _ fun j => ?_
  blk_simp
  show (RR V c).1 j = _
  rw [← stg_eq V c]
  dsimp only [RR, reduceRun]
  unfold reduceRun.sl.H1_1
  frame_out
  rw [View.read_whole]
  refine (View.read_writes_cons_unit_of_mem (Val := Elt F) (View.whole cc1_stg1_0) _ inb_S1x1_S1x1_0_0 (k1_pay1 (stg V c) : _ → Elt F .f32) [] j j rfl ?_)
  intro a
  fin_cases a <;> simp

end Cert.Proof.Deal

end
-- ==== Proof.RefVal.lean ====
/-
  The reference's value over the extended reals, read at an index.
-/
module

public import proofs.«01_k».proof.Proof.Gen.ReferenceIdeal
public import Idealize.ShloMosaic.Lib.Pointwise
public import Idealize.ShloMosaic.PureOps.Ideal.Laws
public import Idealize.ShloMosaic.Lib.IdealHost

@[expose] public section

noncomputable section

namespace Cert.Proof.Value

open Cert.ReferenceIdeal Cert.ReferenceIdeal.Facts Cert.ReferenceIdeal.Facts₀
open Idealize.ShloMosaic

variable [Cert.ReferenceIdeal.Facts]

/-- A negative index counts from the end: the index as the gather takes it. -/
def wrap (s : Shape) (h : S_.BroadcastsInDim s (![] : Fin 0 → Fin s.rank)) (a : IVec s 32) : IVec s 32 :=
  select (cmpi .slt a (broadcastInDim s ![] h (constantI S_ 32 0#32))) (addi a (broadcastInDim s ![] h (constantI S_ 32 8192#32))) a

/-- The first tokens' indices, and every transition's pair. -/
def firstIx (a : IVec S16x2048 32) : IVec S16x1 32 :=
  broadcastInDim S16x1 ![0] bcast_S16_S16x1_0
    (wrap S16 bcast_S_S16 (shapeCast S16 (extractStridedSlice S16x1 ![0, 0] a slices_S16x2048_S16x1_0_0) shapeCasts_S16x1_S16))

def pairIx (a : IVec S16x2048 32) : IVec S16x2047x2 32 :=
  concatenate S16x2047x2 2
    [⟨S16x2047x1, broadcastInDim S16x2047x1 ![0, 1] bcast_S16x2047_S16x2047x1_0_1
        (wrap S16x2047 bcast_S_S16x2047 (extractStridedSlice S16x2047 ![0, 0] a slices_S16x2048_S16x2047_0_0))⟩,
     ⟨S16x2047x1, broadcastInDim S16x2047x1 ![0, 1] bcast_S16x2047_S16x2047x1_0_1
        (wrap S16x2047 bcast_S_S16x2047 (extractStridedSlice S16x2047 ![0, 1] a slices_S16x2048_S16x2047_0_1))⟩]
    concatenates_S16x2047x1_S16x2047x1_S16x2047x2_d2

/-- The rows' log probabilities, as the reference sums them. -/
def rowLog (a : IVec S16x2048 32) (p : FVec Ideal S8192 .f32) (t : FVec Ideal S8192x8192 .f32) : FVec Ideal S16 .f32 :=
  addf (Host.log (Host.gather gather_S8192_S16x1_S16_n_0_n_n_0_1_1 p (firstIx a)))
    (Host.reduceAdd (Host.log (Host.gather gather_S8192x8192_S16x2047x2_S16x2047_n_01_n_n_01_2_11 t (pairIx a)))
      (constant S_ .f32 0x00000000#32) reducesTo_S16x2047_S16_d1 h_S_)

/-- The negated log-sum-exp of sixteen numbers, as the reference takes it. -/
def negLse (v : FVec Ideal S16 .f32) : FVec Ideal S_ .f32 :=
  Host.negf (addf (Host.reduce FloatOps.maximumf v (constant S_ .f32 0xFF800000#32) reducesTo_S16_S_d0 h_S_)
    (Host.log (Host.reduceAdd (Host.exp (subf v (broadcastInDim S16 ![] bcast_S_S16
        (Host.reduce FloatOps.maximumf v (constant S_ .f32 0xFF800000#32) reducesTo_S16_S_d0 h_S_))))
      (constant S_ .f32 0x00000000#32) reducesTo_S16_S_d0 h_S_)))

/-- The greatest of sixteen numbers, from the least. -/
def top (v : FVec Ideal S16 .f32) : EReal := Finset.fold max (Ideal.ofBits FTy.f32 0xFF800000#32) (fun k : Fin 16 => v (ix1 k)) Finset.univ

theorem negLse_at (v : FVec Ideal S16 .f32) (i : S_.Idx) :
    negLse v i = -(top v + Ideal.log (∑ k : Fin 16, Ideal.exp (v (ix1 k) - top v))) := by
  unfold negLse top
  pointwise

theorem wrap_eq (s : Shape) (h : S_.BroadcastsInDim s (![] : Fin 0 → Fin s.rank)) (a : IVec s 32) (ha : ∀ j, (a j).toNat < 8192) : wrap s h a = a := by
  funext j
  have := ha j
  unfold wrap
  show Scalar.select (IntOp.cmpi .slt (a j) 0#32) _ _ = _
  have e : IntOp.cmpi .slt (a j) 0#32 = 0#1 := by
    have : ¬ (a j).toInt < 0 := by rw [BitVec.toInt_eq_toNat_cond]; split <;> omega
    simp [IntOp.cmpi, BitVec.slt_eq_decide, this]
  rw [e]
  rfl

theorem firstIx_at (a : IVec S16x2048 32) (ha : ∀ j, (a j).toNat < 8192) (b : Fin 16) (k : Fin 1) : firstIx a (ix2 b k) = a (ix2 b (0 : Fin 2048)) := by
  unfold firstIx
  rw [wrap_eq _ _ _ (by intro j; pointwise; exact ha _)]
  pointwise

theorem pairIx_at (a : IVec S16x2048 32) (ha : ∀ j, (a j).toNat < 8192) (b : Fin 16) (k : Fin 2047) :
    pairIx a (ix3 b k (0 : Fin 2)) = a (ix2 b k.castSucc) ∧ pairIx a (ix3 b k (1 : Fin 2)) = a (ix2 b k.succ) := by
  unfold pairIx
  rw [wrap_eq _ _ _ (by intro j; pointwise; exact ha _), wrap_eq _ _ _ (by intro j; pointwise; exact ha _)]
  constructor
  · pointwise; rfl
  · pointwise; exact congrArg a (congrArg (ix2 b) (Fin.ext (Nat.add_comm _ _)))

/-- A word below 8192, clamped to the table, is itself. -/
theorem clamp_eq (v : BitVec 32) (h : v.toNat < 8192) : min v.toInt.toNat 8191 = v.toNat := by
  rw [BitVec.toInt_eq_toNat_cond]; split <;> omega

theorem gather2 (x : FVec Ideal S8192x8192 .f32) (idx : IVec S16x2047x2 32) (b : Fin 16) (k : Fin 2047) (r c : Fin 8192)
    (hr : min (idx (ix3 b k (0 : Fin 2))).toInt.toNat 8191 = r.val) (hc : min (idx (ix3 b k (1 : Fin 2))).toInt.toNat 8191 = c.val) :
    Host.gather gather_S8192x8192_S16x2047x2_S16x2047_n_01_n_n_01_2_11 x idx (ix2 b k) = x (ix2 r c) := by
  unfold Host.gather
  refine congrArg x ?_
  funext a
  apply Fin.ext
  match a with
  | ⟨0, _⟩ =>
    refine Eq.trans ?_ hr
    show min (idx (gather_S8192x8192_S16x2047x2_S16x2047_n_01_n_n_01_2_11.siIdx (ix2 b k) ⟨0, Nat.zero_lt_two⟩)).toInt.toNat 8191 = _
    refine congrArg (fun z => min (idx z).toInt.toNat 8191) ?_
    funext e
    match e with
    | ⟨0, _⟩ => rfl
    | ⟨1, _⟩ => rfl
    | ⟨2, _⟩ => rfl
  | ⟨1, _⟩ =>
    refine Eq.trans ?_ hc
    show min (idx (gather_S8192x8192_S16x2047x2_S16x2047_n_01_n_n_01_2_11.siIdx (ix2 b k) ⟨1, Nat.one_lt_two⟩)).toInt.toNat 8191 = _
    refine congrArg (fun z => min (idx z).toInt.toNat 8191) ?_
    funext e
    match e with
    | ⟨0, _⟩ => rfl
    | ⟨1, _⟩ => rfl
    | ⟨2, _⟩ => rfl

theorem gather1 (x : FVec Ideal S8192 .f32) (idx : IVec S16x1 32) (b : Fin 16) (r : Fin 8192)
    (hr : min (idx (ix2 b (0 : Fin 1))).toInt.toNat 8191 = r.val) :
    Host.gather gather_S8192_S16x1_S16_n_0_n_n_0_1_1 x idx (ix1 b) = x (ix1 r) := by
  unfold Host.gather
  refine congrArg x ?_
  funext a
  apply Fin.ext
  match a with
  | ⟨0, _⟩ =>
    refine Eq.trans ?_ hr
    show min (idx (gather_S8192_S16x1_S16_n_0_n_n_0_1_1.siIdx (ix1 b) ⟨0, Nat.one_pos⟩)).toInt.toNat 8191 = _
    refine congrArg (fun z => min (idx z).toInt.toNat 8191) ?_
    funext e
    match e with
    | ⟨0, _⟩ => rfl
    | ⟨1, _⟩ => rfl

theorem rowLog_at (a : IVec S16x2048 32) (ha : ∀ j, (a j).toNat < 8192) (p : FVec Ideal S8192 .f32) (t : FVec Ideal S8192x8192 .f32) (b : Fin 16) :
    rowLog a p t (ix1 b) = Ideal.log (p (ix1 (⟨(a (ix2 b (0 : Fin 2048))).toNat, ha _⟩ : Fin 8192)))
      + ∑ k : Fin 2047, Ideal.log (t (ix2 (⟨(a (ix2 b k.castSucc)).toNat, ha _⟩ : Fin 8192) (⟨(a (ix2 b k.succ)).toNat, ha _⟩ : Fin 8192))) := by
  unfold rowLog
  pointwise
  rw [gather1 p (firstIx a) b ⟨(a (ix2 b (0 : Fin 2048))).toNat, ha _⟩ (by rw [firstIx_at a ha]; exact clamp_eq _ (ha _))]
  refine congrArg _ (Finset.sum_congr rfl fun k _ => ?_)
  rw [gather2 t (pairIx a) b k ⟨(a (ix2 b k.castSucc)).toNat, ha _⟩ ⟨(a (ix2 b k.succ)).toNat, ha _⟩
    (by rw [(pairIx_at a ha b k).1]; exact clamp_eq _ (ha _)) (by rw [(pairIx_at a ha b k).2]; exact clamp_eq _ (ha _))]

end Cert.Proof.Value

end
-- ==== Proof.Payload.lean ====
/-
  The reduction's stored value over the extended reals: the negated log-sum-exp of the rows' sums of logs.
-/
module

public import proofs.«01_k».proof.Proof.Gen.KernelIdeal.Skeleton
public import Idealize.ShloMosaic.Lib.Pointwise
public import Idealize.ShloMosaic.PureOps.Ideal.Laws

@[expose] public section

noncomputable section

namespace Cert.Proof.Value

open Cert.KernelIdeal Cert.KernelIdeal.Gen
open Idealize.ShloMosaic

/-- A row's sum of logs. -/
def rowSum (v : FVec Ideal S16x2048 .f32) (b : Fin 16) : EReal := ∑ k : Fin 2048, Ideal.log (v (ix2 b k))

/-- The greatest row, from the least number. -/
def topRow (v : FVec Ideal S16x2048 .f32) : EReal := Finset.fold max (Ideal.ofBits FTy.f32 0xFF800000#32) (rowSum v) Finset.univ

theorem fold_pair (f : Fin 16 → EReal) (z : EReal) :
    Finset.fold max z (fun x : Fin 16 × Fin 1 => f x.1) Finset.univ = Finset.fold max z f Finset.univ := by
  rw [← Finset.univ_product_univ, Finset.univ_unique (α := Fin 1), Finset.product_singleton, Finset.fold_map]
  rfl

theorem pay_at (v : FVec Ideal S16x2048 .f32) (i : S1x1.Idx) :
    k1_pay1 (F := Ideal) v i = -(topRow v + Ideal.log (∑ b : Fin 16, Ideal.exp (rowSum v b - topRow v))) := by
  rw [show topRow v = Finset.fold max (Ideal.ofBits FTy.f32 0xFF800000#32) (fun x : Fin 16 × Fin 1 => rowSum v x.1) Finset.univ from (fold_pair _ _).symm]
  unfold k1_pay1 rowSum
  pointwise
  rw [zero_sub]
  simp only [Finset.univ_unique (α := Fin 1), Finset.sum_singleton]
  rfl

end Cert.Proof.Value

end
-- ==== Proof.Algebraic.lean ====
/-
  The kernel's result and the reference's are one number.
-/
module

public import proofs.«01_k».proof.Proof.Frames
public import proofs.«01_k».proof.Proof.Reduced
public import proofs.«01_k».proof.Proof.RefVal
public import proofs.«01_k».proof.Proof.Payload

@[expose] public section

noncomputable section

namespace Cert.Proof.Deal

open Idealize.ShloMosaic Idealize.SL.Sem
open Idealize.ShloMosaic.TcCoe
open Cert.Proof.Value Cert.Proof.Tile

variable (m : (ℓ : Loc Cert.KernelIdeal.nD Cert.KernelIdeal.τ Cert.KernelIdeal.sig) → Buf (Elt Ideal) ℓ)

theorem ixD_lit {b t : ℕ} (hb : b < 16) (ht : t < 2048) : ixD b t = ix2 (⟨b, hb⟩ : Fin 16) (⟨t, ht⟩ : Fin 2048) := by
  funext a
  match a with
  | ⟨0, _⟩ => exact Fin.ext (Nat.mod_eq_of_lt hb)
  | ⟨1, _⟩ => exact Fin.ext (Nat.mod_eq_of_lt ht)

theorem ixT_lit {r c : ℕ} (hr : r < 8192) (hc : c < 8192) : Fire.ixT r c = ix2 (⟨r, hr⟩ : Fin 8192) (⟨c, hc⟩ : Fin 8192) := by
  funext a
  match a with
  | ⟨0, _⟩ => exact Fin.ext (Nat.mod_eq_of_lt hr)
  | ⟨1, _⟩ => exact Fin.ext (Nat.mod_eq_of_lt hc)

theorem ixP_lit {n : ℕ} (hn : n < 8192) : ixP n = ix1 (⟨n, hn⟩ : Fin 8192) := by
  funext a
  match a with
  | ⟨0, _⟩ => exact Fin.ext (Nat.mod_eq_of_lt hn)

/-- A row of the kernel's entries sums, over the logs, to the reference's row. -/
theorem rowSum_eq (d : Dev Cert.KernelIdeal.nD) (ha : PreOK m) (b : Fin 16) :
    rowSum (outV m d) b = rowLog (m (aLoc d)) (m (pLoc d)) (m (tLoc d)) (ix1 b) := by
  rw [rowLog_at (m (aLoc d)) (ha d)]
  unfold rowSum
  rw [Fin.sum_univ_castSucc, add_comm]
  congr 1
  · refine congrArg Ideal.log ?_
    show entry _ _ _ b.val 2047 = _
    unfold entry
    rw [if_pos rfl, ixD_lit b.isLt (by decide), ixP_lit (ha d _)]
    rfl
  · refine Finset.sum_congr rfl fun k _ => congrArg Ideal.log ?_
    show entry _ _ _ b.val k.val = _
    unfold entry
    rw [if_neg (by omega), ixD_lit b.isLt (show k.val < 2048 by omega), ixD_lit b.isLt (show k.val + 1 < 2048 by omega), ixT_lit (ha d _) (ha d _)]
    rfl

theorem res_eq (d : Dev Cert.KernelIdeal.nD) (ha : PreOK m) :
    negLse (rowLog (m (aLoc d)) (m (pLoc d)) (m (tLoc d))) = resV m d := by
  funext i
  rw [negLse_at]
  unfold resV red
  rw [reduced_eq]
  refine Eq.trans ?_ (pay_at (outV m d) _).symm
  have hr : rowSum (outV m d) = fun b => rowLog (m (aLoc d)) (m (pLoc d)) (m (tLoc d)) (ix1 b) := funext fun b => rowSum_eq m d ha b
  unfold topRow
  rw [hr]
  rfl

theorem algebraic : Cert.algebraic_KernelIdeal_ReferenceIdeal := by
  intro m g m' g' hpre hagree
  have ha : PreOK (F := Ideal) m := fun d j => in_range_at _ _ _ (hpre d) j
  refine ⟨fun d => resV m d, (θ_run Cert.KernelIdeal.defs _ _).mono
    (fun _ h d => ⟨(h.1 d).2.2.2, (h.1 d).1, (h.1 d).2.1, (h.1 d).2.2.1⟩) (run_main (F := Ideal) m g ha), ?_⟩
  hlo_run
  exact res_eq m _ ha

end Cert.Proof.Deal

end
-- ==== Proof.lean ====
/-
  The certificate's claims together: the three frames, the idealized kernel's operations the printed kernel's own, and
  the kernel's result the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Deal.frame_kernel, Deal.frame_ideal, Deal.frame_ref, trivial, Deal.algebraic⟩

end Cert.Proof

end
